-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pivots_nonzero [hPre_pivots_nonzero : Cert.Pre_pivots_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_pivots_nonzero.fn (F := Ideal) (m ((c.tc : Thread Cert.KernelIdeal.nD Cert.KernelIdeal.τ).loc Cert.KernelIdeal.main_arg0))).1 = (fun _ => 1#1)
    ∧ (Cert.Pre_pivots_nonzero.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pivots_nonzero [hPre_pivots_nonzero : Cert.Pre_pivots_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pivots_nonzero.fn (F := Ideal) (m ((c.tc : Thread Cert.ReferenceIdeal.nD Cert.ReferenceIdeal.τ).loc Cert.ReferenceIdeal.main_arg0))).1 = (fun _ => 1#1)
    ∧ (Cert.Pre_pivots_nonzero.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_pivots_nonzero [hKernelIdeal : Cert.KernelIdeal.Facts] [hPre_pivots_nonzero : Cert.Pre_pivots_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pivots_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_pivots_nonzero [hReferenceIdeal : Cert.ReferenceIdeal.Facts] [hPre_pivots_nonzero : Cert.Pre_pivots_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pivots_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_pivots_nonzero [hKernelIdeal : Cert.KernelIdeal.Facts] [hReferenceIdeal : Cert.ReferenceIdeal.Facts] [hPre_pivots_nonzero : Cert.Pre_pivots_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pivots_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_pivots_nonzero : Cert.Pre_pivots_nonzero.Facts),
    quiescent_Kernel (hKernel := hKernel)
    ∧ quiescent_KernelIdeal (hKernelIdeal := hKernelIdeal)
    ∧ quiescent_KernelIdeal_pre_pivots_nonzero (hKernelIdeal := hKernelIdeal) (hPre_pivots_nonzero := hPre_pivots_nonzero)
    ∧ quiescent_ReferenceIdeal (hReferenceIdeal := hReferenceIdeal)
    ∧ quiescent_ReferenceIdeal_pre_pivots_nonzero (hReferenceIdeal := hReferenceIdeal) (hPre_pivots_nonzero := hPre_pivots_nonzero)
    ∧ preserves_Kernel_KernelIdeal
    ∧ algebraic_KernelIdeal_ReferenceIdeal_pre_pivots_nonzero (hKernelIdeal := hKernelIdeal) (hReferenceIdeal := hReferenceIdeal) (hPre_pivots_nonzero := hPre_pivots_nonzero)
-- ==== Pre_pivots_nonzero.lean ====
abbrev S9x256x256 : Shape := ⟨3, ![9, 256, 256]⟩
abbrev S1x256x256 : Shape := ⟨3, ![1, 256, 256]⟩
abbrev S5x256x256 : Shape := ⟨3, ![5, 256, 256]⟩
abbrev S5x1x256 : Shape := ⟨3, ![5, 1, 256]⟩
abbrev S5x256x1 : Shape := ⟨3, ![5, 256, 1]⟩
abbrev S5x1x1 : Shape := ⟨3, ![5, 1, 1]⟩
abbrev S_ : Shape := ⟨0, ![]⟩
abbrev S1x1x1 : Shape := ⟨3, ![1, 1, 1]⟩
abbrev S2x256x256 : Shape := ⟨3, ![2, 256, 256]⟩
abbrev S2x1x256 : Shape := ⟨3, ![2, 1, 256]⟩
abbrev S2x256x1 : Shape := ⟨3, ![2, 256, 1]⟩
abbrev S2x1x1 : Shape := ⟨3, ![2, 1, 1]⟩
abbrev S1x1x256 : Shape := ⟨3, ![1, 1, 256]⟩
abbrev S1x256x1 : Shape := ⟨3, ![1, 256, 1]⟩
abbrev S8x256x256 : Shape := ⟨3, ![8, 256, 256]⟩

class Facts : Prop where
  slices_S9x256x256_S1x256x256_0_0_0 : S9x256x256.Slices ![0, 0, 0] S1x256x256
  slices_S9x256x256_S1x256x256_1_0_0 : S9x256x256.Slices ![1, 0, 0] S1x256x256
  slices_S9x256x256_S1x256x256_2_0_0 : S9x256x256.Slices ![2, 0, 0] S1x256x256
  slices_S9x256x256_S1x256x256_3_0_0 : S9x256x256.Slices ![3, 0, 0] S1x256x256
  slices_S9x256x256_S1x256x256_4_0_0 : S9x256x256.Slices ![4, 0, 0] S1x256x256
  slices_S9x256x256_S1x256x256_5_0_0 : S9x256x256.Slices ![5, 0, 0] S1x256x256
  slices_S9x256x256_S1x256x256_6_0_0 : S9x256x256.Slices ![6, 0, 0] S1x256x256
  slices_S9x256x256_S1x256x256_7_0_0 : S9x256x256.Slices ![7, 0, 0] S1x256x256
  slices_S9x256x256_S1x256x256_8_0_0 : S9x256x256.Slices ![8, 0, 0] S1x256x256
  concatenates_S1x256x256_S1x256x256_S1x256x256_S1x256x256_S1x256x256_S5x256x256_d0 : Shape.Concatenates [S1x256x256, S1x256x256, S1x256x256, S1x256x256, S1x256x256] S5x256x256 0
  slices_S5x256x256_S5x1x256_0_0_0 : S5x256x256.Slices ![0, 0, 0] S5x1x256
  slices_S5x256x256_S5x256x1_0_0_0 : S5x256x256.Slices ![0, 0, 0] S5x256x1
  slices_S5x1x256_S5x1x1_0_0_0 : S5x1x256.Slices ![0, 0, 0] S5x1x1
  bcast_S5x1x1_S5x256x1_0_1_2 : S5x1x1.BroadcastsInDim S5x256x1 (![0, 1, 2] : Fin 3 → Fin S5x256x1.rank)
  bcast_S5x256x1_S5x256x256_0_1_2 : S5x256x1.BroadcastsInDim S5x256x256 (![0, 1, 2] : Fin 3 → Fin S5x256x256.rank)
  bcast_S_S5x256x256 : S_.BroadcastsInDim S5x256x256 (![] : Fin 0 → Fin S5x256x256.rank)
  bcast_S5x1x256_S5x256x256_0_1_2 : S5x1x256.BroadcastsInDim S5x256x256 (![0, 1, 2] : Fin 3 → Fin S5x256x256.rank)
  slices_S5x256x256_S5x1x256_0_1_0 : S5x256x256.Slices ![0, 1, 0] S5x1x256
  slices_S5x256x256_S5x256x1_0_0_1 : S5x256x256.Slices ![0, 0, 1] S5x256x1
  slices_S5x1x256_S5x1x1_0_0_1 : S5x1x256.Slices ![0, 0, 1] S5x1x1
  slices_S5x256x256_S5x1x256_0_2_0 : S5x256x256.Slices ![0, 2, 0] S5x1x256
  slices_S5x256x256_S5x256x1_0_0_2 : S5x256x256.Slices ![0, 0, 2] S5x256x1
  slices_S5x1x256_S5x1x1_0_0_2 : S5x1x256.Slices ![0, 0, 2] S5x1x1
  slices_S5x256x256_S5x1x256_0_3_0 : S5x256x256.Slices ![0, 3, 0] S5x1x256
  slices_S5x256x256_S5x256x1_0_0_3 : S5x256x256.Slices ![0, 0, 3] S5x256x1
  slices_S5x1x256_S5x1x1_0_0_3 : S5x1x256.Slices ![0, 0, 3] S5x1x1
  slices_S5x256x256_S5x1x256_0_4_0 : S5x256x256.Slices ![0, 4, 0] S5x1x256
  slices_S5x256x256_S5x256x1_0_0_4 : S5x256x256.Slices ![0, 0, 4] S5x256x1
  slices_S5x1x256_S5x1x1_0_0_4 : S5x1x256.Slices ![0, 0, 4] S5x1x1
  slices_S5x256x256_S5x1x256_0_5_0 : S5x256x256.Slices ![0, 5, 0] S5x1x256
  slices_S5x256x256_S5x256x1_0_0_5 : S5x256x256.Slices ![0, 0, 5] S5x256x1
  slices_S5x1x256_S5x1x1_0_0_5 : S5x1x256.Slices ![0, 0, 5] S5x1x1
  slices_S5x256x256_S5x1x256_0_6_0 : S5x256x256.Slices ![0, 6, 0] S5x1x256
  slices_S5x256x256_S5x256x1_0_0_6 : S5x256x256.Slices ![0, 0, 6] S5x256x1
  slices_S5x1x256_S5x1x1_0_0_6 : S5x1x256.Slices ![0, 0, 6] S5x1x1
  slices_S5x256x256_S5x1x256_0_7_0 : S5x256x256.Slices ![0, 7, 0] S5x1x256
  slices_S5x256x256_S5x256x1_0_0_7 : S5x256x256.Slices ![0, 0, 7] S5x256x1
  slices_S5x1x256_S5x1x1_0_0_7 : S5x1x256.Slices ![0, 0, 7] S5x1x1
  slices_S5x256x256_S5x1x256_0_8_0 : S5x256x256.Slices ![0, 8, 0] S5x1x256
  slices_S5x256x256_S5x256x1_0_0_8 : S5x256x256.Slices ![0, 0, 8] S5x256x1
  slices_S5x1x256_S5x1x1_0_0_8 : S5x1x256.Slices ![0, 0, 8] S5x1x1
  slices_S5x256x256_S5x1x256_0_9_0 : S5x256x256.Slices ![0, 9, 0] S5x1x256
  slices_S5x256x256_S5x256x1_0_0_9 : S5x256x256.Slices ![0, 0, 9] S5x256x1
  slices_S5x1x256_S5x1x1_0_0_9 : S5x1x256.Slices ![0, 0, 9] S5x1x1
  slices_S5x256x256_S5x1x256_0_10_0 : S5x256x256.Slices ![0, 10, 0] S5x1x256
  slices_S5x256x256_S5x256x1_0_0_10 : S5x256x256.Slices ![0, 0, 10] S5x256x1
  slices_S5x1x256_S5x1x1_0_0_10 : S5x1x256.Slices ![0, 0, 10] S5x1x1
  slices_S5x256x256_S5x1x256_0_11_0 : S5x256x256.Slices ![0, 11, 0] S5x1x256
  slices_S5x256x256_S5x256x1_0_0_11 : S5x256x256.Slices ![0, 0, 11] S5x256x1
  slices_S5x1x256_S5x1x1_0_0_11 : S5x1x256.Slices ![0, 0, 11] S5x1x1
  slices_S5x256x256_S5x1x256_0_12_0 : S5x256x256.Slices ![0, 12, 0] S5x1x256
  slices_S5x256x256_S5x256x1_0_0_12 : S5x256x256.Slices ![0, 0, 12] S5x256x1
  slices_S5x1x256_S5x1x1_0_0_12 : S5x1x256.Slices ![0, 0, 12] S5x1x1
  slices_S5x256x256_S5x1x256_0_13_0 : S5x256x256.Slices ![0, 13, 0] S5x1x256
  slices_S5x256x256_S5x256x1_0_0_13 : S5x256x256.Slices ![0, 0, 13] S5x256x1
  slices_S5x1x256_S5x1x1_0_0_13 : S5x1x256.Slices ![0, 0, 13] S5x1x1
  slices_S5x256x256_S5x1x256_0_14_0 : S5x256x256.Slices ![0, 14, 0] S5x1x256
  slices_S5x256x256_S5x256x1_0_0_14 : S5x256x256.Slices ![0, 0, 14] S5x256x1
  slices_S5x1x256_S5x1x1_0_0_14 : S5x1x256.Slices ![0, 0, 14] S5x1x1
  slices_S5x256x256_S5x1x256_0_15_0 : S5x256x256.Slices ![0, 15, 0] S5x1x256
  slices_S5x256x256_S5x256x1_0_0_15 : S5x256x256.Slices ![0, 0, 15] S5x256x1
  slices_S5x1x256_S5x1x1_0_0_15 : S5x1x256.Slices ![0, 0, 15] S5x1x1
  slices_S5x256x256_S5x1x256_0_16_0 : S5x256x256.Slices ![0, 16, 0] S5x1x256
  slices_S5x256x256_S5x256x1_0_0_16 : S5x256x256.Slices ![0, 0, 16] S5x256x1
  slices_S5x1x256_S5x1x1_0_0_16 : S5x1x256.Slices ![0, 0, 16] S5x1x1
  slices_S5x256x256_S5x1x256_0_17_0 : S5x256x256.Slices ![0, 17, 0] S5x1x256
  slices_S5x256x256_S5x256x1_0_0_17 : S5x256x256.Slices ![0, 0, 17] S5x256x1
  slices_S5x1x256_S5x1x1_0_0_17 : S5x1x256.Slices ![0, 0, 17] S5x1x1
  slices_S5x256x256_S5x1x256_0_18_0 : S5x256x256.Slices ![0, 18, 0] S5x1x256
  slices_S5x256x256_S5x256x1_0_0_18 : S5x256x256.Slices ![0, 0, 18] S5x256x1
  slices_S5x1x256_S5x1x1_0_0_18 : S5x1x256.Slices ![0, 0, 18] S5x1x1
  slices_S5x256x256_S5x1x256_0_19_0 : S5x256x256.Slices ![0, 19, 0] S5x1x256
  slices_S5x256x256_S5x256x1_0_0_19 : S5x256x256.Slices ![0, 0, 19] S5x256x1
  slices_S5x1x256_S5x1x1_0_0_19 : S5x1x256.Slices ![0, 0, 19] S5x1x1
  slices_S5x256x256_S5x1x256_0_20_0 : S5x256x256.Slices ![0, 20, 0] S5x1x256
  slices_S5x256x256_S5x256x1_0_0_20 : S5x256x256.Slices ![0, 0, 20] S5x256x1
  slices_S5x1x256_S5x1x1_0_0_20 : S5x1x256.Slices ![0, 0, 20] S5x1x1
  slices_S5x256x256_S5x1x256_0_21_0 : S5x256x256.Slices ![0, 21, 0] S5x1x256
  slices_S5x256x256_S5x256x1_0_0_21 : S5x256x256.Slices ![0, 0, 21] S5x256x1
  slices_S5x1x256_S5x1x1_0_0_21 : S5x1x256.Slices ![0, 0, 21] S5x1x1
  slices_S5x256x256_S5x1x256_0_22_0 : S5x256x256.Slices ![0, 22, 0] S5x1x256
  slices_S5x256x256_S5x256x1_0_0_22 : S5x256x256.Slices ![0, 0, 22] S5x256x1
  slices_S5x1x256_S5x1x1_0_0_22 : S5x1x256.Slices ![0, 0, 22] S5x1x1
  slices_S5x256x256_S5x1x256_0_23_0 : S5x256x256.Slices ![0, 23, 0] S5x1x256
  slices_S5x256x256_S5x256x1_0_0_23 : S5x256x256.Slices ![0, 0, 23] S5x256x1
  slices_S5x1x256_S5x1x1_0_0_23 : S5x1x256.Slices ![0, 0, 23] S5x1x1
  slices_S5x256x256_S5x1x256_0_24_0 : S5x256x256.Slices ![0, 24, 0] S5x1x256
  slices_S5x256x256_S5x256x1_0_0_24 : S5x256x256.Slices ![0, 0, 24] S5x256x1
  slices_S5x1x256_S5x1x1_0_0_24 : S5x1x256.Slices ![0, 0, 24] S5x1x1
  slices_S5x256x256_S5x1x256_0_25_0 : S5x256x256.Slices ![0, 25, 0] S5x1x256
  slices_S5x256x256_S5x256x1_0_0_25 : S5x256x256.Slices ![0, 0, 25] S5x256x1
  slices_S5x1x256_S5x1x1_0_0_25 : S5x1x256.Slices ![0, 0, 25] S5x1x1
  slices_S5x256x256_S5x1x256_0_26_0 : S5x256x256.Slices ![0, 26, 0] S5x1x256
  slices_S5x256x256_S5x256x1_0_0_26 : S5x256x256.Slices ![0, 0, 26] S5x256x1
  slices_S5x1x256_S5x1x1_0_0_26 : S5x1x256.Slices ![0, 0, 26] S5x1x1
  slices_S5x256x256_S5x1x256_0_27_0 : S5x256x256.Slices ![0, 27, 0] S5x1x256
  slices_S5x256x256_S5x256x1_0_0_27 : S5x256x256.Slices ![0, 0, 27] S5x256x1
  slices_S5x1x256_S5x1x1_0_0_27 : S5x1x256.Slices ![0, 0, 27] S5x1x1
  slices_S5x256x256_S5x1x256_0_28_0 : S5x256x256.Slices ![0, 28, 0] S5x1x256
  slices_S5x256x256_S5x256x1_0_0_28 : S5x256x256.Slices ![0, 0, 28] S5x256x1
  slices_S5x1x256_S5x1x1_0_0_28 : S5x1x256.Slices ![0, 0, 28] S5x1x1
  slices_S5x256x256_S5x1x256_0_29_0 : S5x256x256.Slices ![0, 29, 0] S5x1x256
  slices_S5x256x256_S5x256x1_0_0_29 : S5x256x256.Slices ![0, 0, 29] S5x256x1
  slices_S5x1x256_S5x1x1_0_0_29 : S5x1x256.Slices ![0, 0, 29] S5x1x1
  slices_S5x256x256_S5x1x256_0_30_0 : S5x256x256.Slices ![0, 30, 0] S5x1x256
  slices_S5x256x256_S5x256x1_0_0_30 : S5x256x256.Slices ![0, 0, 30] S5x256x1
  slices_S5x1x256_S5x1x1_0_0_30 : S5x1x256.Slices ![0, 0, 30] S5x1x1
  slices_S5x256x256_S5x1x256_0_31_0 : S5x256x256.Slices ![0, 31, 0] S5x1x256
  slices_S5x256x256_S5x256x1_0_0_31 : S5x256x256.Slices ![0, 0, 31] S5x256x1
  slices_S5x1x256_S5x1x1_0_0_31 : S5x1x256.Slices ![0, 0, 31] S5x1x1
  slices_S5x256x256_S5x1x256_0_32_0 : S5x256x256.Slices ![0, 32, 0] S5x1x256
  slices_S5x256x256_S5x256x1_0_0_32 : S5x256x256.Slices ![0, 0, 32] S5x256x1
  slices_S5x1x256_S5x1x1_0_0_32 : S5x1x256.Slices ![0, 0, 32] S5x1x1
  slices_S5x256x256_S5x1x256_0_33_0 : S5x256x256.Slices ![0, 33, 0] S5x1x256
  slices_S5x256x256_S5x256x1_0_0_33 : S5x256x256.Slices ![0, 0, 33] S5x256x1
  slices_S5x1x256_S5x1x1_0_0_33 : S5x1x256.Slices ![0, 0, 33] S5x1x1
  slices_S5x256x256_S5x1x256_0_34_0 : S5x256x256.Slices ![0, 34, 0] S5x1x256
  slices_S5x256x256_S5x256x1_0_0_34 : S5x256x256.Slices ![0, 0, 34] S5x256x1
  slices_S5x1x256_S5x1x1_0_0_34 : S5x1x256.Slices ![0, 0, 34] S5x1x1
  slices_S5x256x256_S5x1x256_0_35_0 : S5x256x256.Slices ![0, 35, 0] S5x1x256
  slices_S5x256x256_S5x256x1_0_0_35 : S5x256x256.Slices ![0, 0, 35] S5x256x1
  slices_S5x1x256_S5x1x1_0_0_35 : S5x1x256.Slices ![0, 0, 35] S5x1x1
  slices_S5x256x256_S5x1x256_0_36_0 : S5x256x256.Slices ![0, 36, 0] S5x1x256
  slices_S5x256x256_S5x256x1_0_0_36 : S5x256x256.Slices ![0, 0, 36] S5x256x1
  slices_S5x1x256_S5x1x1_0_0_36 : S5x1x256.Slices ![0, 0, 36] S5x1x1
  slices_S5x256x256_S5x1x256_0_37_0 : S5x256x256.Slices ![0, 37, 0] S5x1x256
  slices_S5x256x256_S5x256x1_0_0_37 : S5x256x256.Slices ![0, 0, 37] S5x256x1
  slices_S5x1x256_S5x1x1_0_0_37 : S5x1x256.Slices ![0, 0, 37] S5x1x1
  slices_S5x256x256_S5x1x256_0_38_0 : S5x256x256.Slices ![0, 38, 0] S5x1x256
  slices_S5x256x256_S5x256x1_0_0_38 : S5x256x256.Slices ![0, 0, 38] S5x256x1
  slices_S5x1x256_S5x1x1_0_0_38 : S5x1x256.Slices ![0, 0, 38] S5x1x1
  slices_S5x256x256_S5x1x256_0_39_0 : S5x256x256.Slices ![0, 39, 0] S5x1x256
  slices_S5x256x256_S5x256x1_0_0_39 : S5x256x256.Slices ![0, 0, 39] S5x256x1
  slices_S5x1x256_S5x1x1_0_0_39 : S5x1x256.Slices ![0, 0, 39] S5x1x1
  slices_S5x256x256_S5x1x256_0_40_0 : S5x256x256.Slices ![0, 40, 0] S5x1x256
  slices_S5x256x256_S5x256x1_0_0_40 : S5x256x256.Slices ![0, 0, 40] S5x256x1
  slices_S5x1x256_S5x1x1_0_0_40 : S5x1x256.Slices ![0, 0, 40] S5x1x1
  slices_S5x256x256_S5x1x256_0_41_0 : S5x256x256.Slices ![0, 41, 0] S5x1x256
  slices_S5x256x256_S5x256x1_0_0_41 : S5x256x256.Slices ![0, 0, 41] S5x256x1
  slices_S5x1x256_S5x1x1_0_0_41 : S5x1x256.Slices ![0, 0, 41] S5x1x1
  slices_S5x256x256_S5x1x256_0_42_0 : S5x256x256.Slices ![0, 42, 0] S5x1x256
  slices_S5x256x256_S5x256x1_0_0_42 : S5x256x256.Slices ![0, 0, 42] S5x256x1
  slices_S5x1x256_S5x1x1_0_0_42 : S5x1x256.Slices ![0, 0, 42] S5x1x1
  slices_S5x256x256_S5x1x256_0_43_0 : S5x256x256.Slices ![0, 43, 0] S5x1x256
  slices_S5x256x256_S5x256x1_0_0_43 : S5x256x256.Slices ![0, 0, 43] S5x256x1
  slices_S5x1x256_S5x1x1_0_0_43 : S5x1x256.Slices ![0, 0, 43] S5x1x1
  slices_S5x256x256_S5x1x256_0_44_0 : S5x256x256.Slices ![0, 44, 0] S5x1x256
  slices_S5x256x256_S5x256x1_0_0_44 : S5x256x256.Slices ![0, 0, 44] S5x256x1
  slices_S5x1x256_S5x1x1_0_0_44 : S5x1x256.Slices ![0, 0, 44] S5x1x1
  slices_S5x256x256_S5x1x256_0_45_0 : S5x256x256.Slices ![0, 45, 0] S5x1x256
  slices_S5x256x256_S5x256x1_0_0_45 : S5x256x256.Slices ![0, 0, 45] S5x256x1
  slices_S5x1x256_S5x1x1_0_0_45 : S5x1x256.Slices ![0, 0, 45] S5x1x1
  slices_S5x256x256_S5x1x256_0_46_0 : S5x256x256.Slices ![0, 46, 0] S5x1x256
  slices_S5x256x256_S5x256x1_0_0_46 : S5x256x256.Slices ![0, 0, 46] S5x256x1
  slices_S5x1x256_S5x1x1_0_0_46 : S5x1x256.Slices ![0, 0, 46] S5x1x1
  slices_S5x256x256_S5x1x256_0_47_0 : S5x256x256.Slices ![0, 47, 0] S5x1x256
  slices_S5x256x256_S5x256x1_0_0_47 : S5x256x256.Slices ![0, 0, 47] S5x256x1
  slices_S5x1x256_S5x1x1_0_0_47 : S5x1x256.Slices ![0, 0, 47] S5x1x1
  slices_S5x256x256_S5x1x256_0_48_0 : S5x256x256.Slices ![0, 48, 0] S5x1x256
  slices_S5x256x256_S5x256x1_0_0_48 : S5x256x256.Slices ![0, 0, 48] S5x256x1
  slices_S5x1x256_S5x1x1_0_0_48 : S5x1x256.Slices ![0, 0, 48] S5x1x1
  slices_S5x256x256_S5x1x256_0_49_0 : S5x256x256.Slices ![0, 49, 0] S5x1x256
  slices_S5x256x256_S5x256x1_0_0_49 : S5x256x256.Slices ![0, 0, 49] S5x256x1
  slices_S5x1x256_S5x1x1_0_0_49 : S5x1x256.Slices ![0, 0, 49] S5x1x1
  slices_S5x256x256_S5x1x256_0_50_0 : S5x256x256.Slices ![0, 50, 0] S5x1x256
  slices_S5x256x256_S5x256x1_0_0_50 : S5x256x256.Slices ![0, 0, 50] S5x256x1
  slices_S5x1x256_S5x1x1_0_0_50 : S5x1x256.Slices ![0, 0, 50] S5x1x1
  slices_S5x256x256_S5x1x256_0_51_0 : S5x256x256.Slices ![0, 51, 0] S5x1x256
  slices_S5x256x256_S5x256x1_0_0_51 : S5x256x256.Slices ![0, 0, 51] S5x256x1
  slices_S5x1x256_S5x1x1_0_0_51 : S5x1x256.Slices ![0, 0, 51] S5x1x1
  slices_S5x256x256_S5x1x256_0_52_0 : S5x256x256.Slices ![0, 52, 0] S5x1x256
  slices_S5x256x256_S5x256x1_0_0_52 : S5x256x256.Slices ![0, 0, 52] S5x256x1
  slices_S5x1x256_S5x1x1_0_0_52 : S5x1x256.Slices ![0, 0, 52] S5x1x1
  slices_S5x256x256_S5x1x256_0_53_0 : S5x256x256.Slices ![0, 53, 0] S5x1x256
  slices_S5x256x256_S5x256x1_0_0_53 : S5x256x256.Slices ![0, 0, 53] S5x256x1
  slices_S5x1x256_S5x1x1_0_0_53 : S5x1x256.Slices ![0, 0, 53] S5x1x1
  slices_S5x256x256_S5x1x256_0_54_0 : S5x256x256.Slices ![0, 54, 0] S5x1x256
  slices_S5x256x256_S5x256x1_0_0_54 : S5x256x256.Slices ![0, 0, 54] S5x256x1
  slices_S5x1x256_S5x1x1_0_0_54 : S5x1x256.Slices ![0, 0, 54] S5x1x1
  slices_S5x256x256_S5x1x256_0_55_0 : S5x256x256.Slices ![0, 55, 0] S5x1x256
  slices_S5x256x256_S5x256x1_0_0_55 : S5x256x256.Slices ![0, 0, 55] S5x256x1
  slices_S5x1x256_S5x1x1_0_0_55 : S5x1x256.Slices ![0, 0, 55] S5x1x1
  slices_S5x256x256_S5x1x256_0_56_0 : S5x256x256.Slices ![0, 56, 0] S5x1x256
  slices_S5x256x256_S5x256x1_0_0_56 : S5x256x256.Slices ![0, 0, 56] S5x256x1
  slices_S5x1x256_S5x1x1_0_0_56 : S5x1x256.Slices ![0, 0, 56] S5x1x1
  slices_S5x256x256_S5x1x256_0_57_0 : S5x256x256.Slices ![0, 57, 0] S5x1x256
  slices_S5x256x256_S5x256x1_0_0_57 : S5x256x256.Slices ![0, 0, 57] S5x256x1
  slices_S5x1x256_S5x1x1_0_0_57 : S5x1x256.Slices ![0, 0, 57] S5x1x1
  slices_S5x256x256_S5x1x256_0_58_0 : S5x256x256.Slices ![0, 58, 0] S5x1x256
  slices_S5x256x256_S5x256x1_0_0_58 : S5x256x256.Slices ![0, 0, 58] S5x256x1
  slices_S5x1x256_S5x1x1_0_0_58 : S5x1x256.Slices ![0, 0, 58] S5x1x1
  slices_S5x256x256_S5x1x256_0_59_0 : S5x256x256.Slices ![0, 59, 0] S5x1x256
  slices_S5x256x256_S5x256x1_0_0_59 : S5x256x256.Slices ![0, 0, 59] S5x256x1
  slices_S5x1x256_S5x1x1_0_0_59 : S5x1x256.Slices ![0, 0, 59] S5x1x1
  slices_S5x256x256_S5x1x256_0_60_0 : S5x256x256.Slices ![0, 60, 0] S5x1x256
  slices_S5x256x256_S5x256x1_0_0_60 : S5x256x256.Slices ![0, 0, 60] S5x256x1
  slices_S5x1x256_S5x1x1_0_0_60 : S5x1x256.Slices ![0, 0, 60] S5x1x1
  slices_S5x256x256_S5x1x256_0_61_0 : S5x256x256.Slices ![0, 61, 0] S5x1x256
  slices_S5x256x256_S5x256x1_0_0_61 : S5x256x256.Slices ![0, 0, 61] S5x256x1
  slices_S5x1x256_S5x1x1_0_0_61 : S5x1x256.Slices ![0, 0, 61] S5x1x1
  slices_S5x256x256_S5x1x256_0_62_0 : S5x256x256.Slices ![0, 62, 0] S5x1x256
  slices_S5x256x256_S5x256x1_0_0_62 : S5x256x256.Slices ![0, 0, 62] S5x256x1
  slices_S5x1x256_S5x1x1_0_0_62 : S5x1x256.Slices ![0, 0, 62] S5x1x1
  slices_S5x256x256_S5x1x256_0_63_0 : S5x256x256.Slices ![0, 63, 0] S5x1x256
  slices_S5x256x256_S5x256x1_0_0_63 : S5x256x256.Slices ![0, 0, 63] S5x256x1
  slices_S5x1x256_S5x1x1_0_0_63 : S5x1x256.Slices ![0, 0, 63] S5x1x1
  slices_S5x256x256_S5x1x256_0_64_0 : S5x256x256.Slices ![0, 64, 0] S5x1x256
  slices_S5x256x256_S5x256x1_0_0_64 : S5x256x256.Slices ![0, 0, 64] S5x256x1
  slices_S5x1x256_S5x1x1_0_0_64 : S5x1x256.Slices ![0, 0, 64] S5x1x1
  slices_S5x256x256_S5x1x256_0_65_0 : S5x256x256.Slices ![0, 65, 0] S5x1x256
  slices_S5x256x256_S5x256x1_0_0_65 : S5x256x256.Slices ![0, 0, 65] S5x256x1
  slices_S5x1x256_S5x1x1_0_0_65 : S5x1x256.Slices ![0, 0, 65] S5x1x1
  slices_S5x256x256_S5x1x256_0_66_0 : S5x256x256.Slices ![0, 66, 0] S5x1x256
  slices_S5x256x256_S5x256x1_0_0_66 : S5x256x256.Slices ![0, 0, 66] S5x256x1
  slices_S5x1x256_S5x1x1_0_0_66 : S5x1x256.Slices ![0, 0, 66] S5x1x1
  slices_S5x256x256_S5x1x256_0_67_0 : S5x256x256.Slices ![0, 67, 0] S5x1x256
  slices_S5x256x256_S5x256x1_0_0_67 : S5x256x256.Slices ![0, 0, 67] S5x256x1
  slices_S5x1x256_S5x1x1_0_0_67 : S5x1x256.Slices ![0, 0, 67] S5x1x1
  slices_S5x256x256_S5x1x256_0_68_0 : S5x256x256.Slices ![0, 68, 0] S5x1x256
  slices_S5x256x256_S5x256x1_0_0_68 : S5x256x256.Slices ![0, 0, 68] S5x256x1
  slices_S5x1x256_S5x1x1_0_0_68 : S5x1x256.Slices ![0, 0, 68] S5x1x1
  slices_S5x256x256_S5x1x256_0_69_0 : S5x256x256.Slices ![0, 69, 0] S5x1x256
  slices_S5x256x256_S5x256x1_0_0_69 : S5x256x256.Slices ![0, 0, 69] S5x256x1
  slices_S5x1x256_S5x1x1_0_0_69 : S5x1x256.Slices ![0, 0, 69] S5x1x1
  slices_S5x256x256_S5x1x256_0_70_0 : S5x256x256.Slices ![0, 70, 0] S5x1x256
  slices_S5x256x256_S5x256x1_0_0_70 : S5x256x256.Slices ![0, 0, 70] S5x256x1
  slices_S5x1x256_S5x1x1_0_0_70 : S5x1x256.Slices ![0, 0, 70] S5x1x1
  slices_S5x256x256_S5x1x256_0_71_0 : S5x256x256.Slices ![0, 71, 0] S5x1x256
  slices_S5x256x256_S5x256x1_0_0_71 : S5x256x256.Slices ![0, 0, 71] S5x256x1
  slices_S5x1x256_S5x1x1_0_0_71 : S5x1x256.Slices ![0, 0, 71] S5x1x1
  slices_S5x256x256_S5x1x256_0_72_0 : S5x256x256.Slices ![0, 72, 0] S5x1x256
  slices_S5x256x256_S5x256x1_0_0_72 : S5x256x256.Slices ![0, 0, 72] S5x256x1
  slices_S5x1x256_S5x1x1_0_0_72 : S5x1x256.Slices ![0, 0, 72] S5x1x1
  slices_S5x256x256_S5x1x256_0_73_0 : S5x256x256.Slices ![0, 73, 0] S5x1x256
  slices_S5x256x256_S5x256x1_0_0_73 : S5x256x256.Slices ![0, 0, 73] S5x256x1
  slices_S5x1x256_S5x1x1_0_0_73 : S5x1x256.Slices ![0, 0, 73] S5x1x1
  slices_S5x256x256_S5x1x256_0_74_0 : S5x256x256.Slices ![0, 74, 0] S5x1x256
  slices_S5x256x256_S5x256x1_0_0_74 : S5x256x256.Slices ![0, 0, 74] S5x256x1
  slices_S5x1x256_S5x1x1_0_0_74 : S5x1x256.Slices ![0, 0, 74] S5x1x1
  slices_S5x256x256_S5x1x256_0_75_0 : S5x256x256.Slices ![0, 75, 0] S5x1x256
  slices_S5x256x256_S5x256x1_0_0_75 : S5x256x256.Slices ![0, 0, 75] S5x256x1
  slices_S5x1x256_S5x1x1_0_0_75 : S5x1x256.Slices ![0, 0, 75] S5x1x1
  slices_S5x256x256_S5x1x256_0_76_0 : S5x256x256.Slices ![0, 76, 0] S5x1x256
  slices_S5x256x256_S5x256x1_0_0_76 : S5x256x256.Slices ![0, 0, 76] S5x256x1
  slices_S5x1x256_S5x1x1_0_0_76 : S5x1x256.Slices ![0, 0, 76] S5x1x1
  slices_S5x256x256_S5x1x256_0_77_0 : S5x256x256.Slices ![0, 77, 0] S5x1x256
  slices_S5x256x256_S5x256x1_0_0_77 : S5x256x256.Slices ![0, 0, 77] S5x256x1
  slices_S5x1x256_S5x1x1_0_0_77 : S5x1x256.Slices ![0, 0, 77] S5x1x1
  slices_S5x256x256_S5x1x256_0_78_0 : S5x256x256.Slices ![0, 78, 0] S5x1x256
  slices_S5x256x256_S5x256x1_0_0_78 : S5x256x256.Slices ![0, 0, 78] S5x256x1
  slices_S5x1x256_S5x1x1_0_0_78 : S5x1x256.Slices ![0, 0, 78] S5x1x1
  slices_S5x256x256_S5x1x256_0_79_0 : S5x256x256.Slices ![0, 79, 0] S5x1x256
  slices_S5x256x256_S5x256x1_0_0_79 : S5x256x256.Slices ![0, 0, 79] S5x256x1
  slices_S5x1x256_S5x1x1_0_0_79 : S5x1x256.Slices ![0, 0, 79] S5x1x1
  slices_S5x256x256_S5x1x256_0_80_0 : S5x256x256.Slices ![0, 80, 0] S5x1x256
  slices_S5x256x256_S5x256x1_0_0_80 : S5x256x256.Slices ![0, 0, 80] S5x256x1
  slices_S5x1x256_S5x1x1_0_0_80 : S5x1x256.Slices ![0, 0, 80] S5x1x1
  slices_S5x256x256_S5x1x256_0_81_0 : S5x256x256.Slices ![0, 81, 0] S5x1x256
  slices_S5x256x256_S5x256x1_0_0_81 : S5x256x256.Slices ![0, 0, 81] S5x256x1
  slices_S5x1x256_S5x1x1_0_0_81 : S5x1x256.Slices ![0, 0, 81] S5x1x1
  slices_S5x256x256_S5x1x256_0_82_0 : S5x256x256.Slices ![0, 82, 0] S5x1x256
  slices_S5x256x256_S5x256x1_0_0_82 : S5x256x256.Slices ![0, 0, 82] S5x256x1
  slices_S5x1x256_S5x1x1_0_0_82 : S5x1x256.Slices ![0, 0, 82] S5x1x1
  slices_S5x256x256_S5x1x256_0_83_0 : S5x256x256.Slices ![0, 83, 0] S5x1x256
  slices_S5x256x256_S5x256x1_0_0_83 : S5x256x256.Slices ![0, 0, 83] S5x256x1
  slices_S5x1x256_S5x1x1_0_0_83 : S5x1x256.Slices ![0, 0, 83] S5x1x1
  slices_S5x256x256_S5x1x256_0_84_0 : S5x256x256.Slices ![0, 84, 0] S5x1x256
  slices_S5x256x256_S5x256x1_0_0_84 : S5x256x256.Slices ![0, 0, 84] S5x256x1
  slices_S5x1x256_S5x1x1_0_0_84 : S5x1x256.Slices ![0, 0, 84] S5x1x1
  slices_S5x256x256_S5x1x256_0_85_0 : S5x256x256.Slices ![0, 85, 0] S5x1x256
  slices_S5x256x256_S5x256x1_0_0_85 : S5x256x256.Slices ![0, 0, 85] S5x256x1
  slices_S5x1x256_S5x1x1_0_0_85 : S5x1x256.Slices ![0, 0, 85] S5x1x1
  slices_S5x256x256_S5x1x256_0_86_0 : S5x256x256.Slices ![0, 86, 0] S5x1x256
  slices_S5x256x256_S5x256x1_0_0_86 : S5x256x256.Slices ![0, 0, 86] S5x256x1
  slices_S5x1x256_S5x1x1_0_0_86 : S5x1x256.Slices ![0, 0, 86] S5x1x1
  slices_S5x256x256_S5x1x256_0_87_0 : S5x256x256.Slices ![0, 87, 0] S5x1x256
  slices_S5x256x256_S5x256x1_0_0_87 : S5x256x256.Slices ![0, 0, 87] S5x256x1
  slices_S5x1x256_S5x1x1_0_0_87 : S5x1x256.Slices ![0, 0, 87] S5x1x1
  slices_S5x256x256_S5x1x256_0_88_0 : S5x256x256.Slices ![0, 88, 0] S5x1x256
  slices_S5x256x256_S5x256x1_0_0_88 : S5x256x256.Slices ![0, 0, 88] S5x256x1
  slices_S5x1x256_S5x1x1_0_0_88 : S5x1x256.Slices ![0, 0, 88] S5x1x1
  slices_S5x256x256_S5x1x256_0_89_0 : S5x256x256.Slices ![0, 89, 0] S5x1x256
  slices_S5x256x256_S5x256x1_0_0_89 : S5x256x256.Slices ![0, 0, 89] S5x256x1
  slices_S5x1x256_S5x1x1_0_0_89 : S5x1x256.Slices ![0, 0, 89] S5x1x1
  slices_S5x256x256_S5x1x256_0_90_0 : S5x256x256.Slices ![0, 90, 0] S5x1x256
  slices_S5x256x256_S5x256x1_0_0_90 : S5x256x256.Slices ![0, 0, 90] S5x256x1
  slices_S5x1x256_S5x1x1_0_0_90 : S5x1x256.Slices ![0, 0, 90] S5x1x1
  slices_S5x256x256_S5x1x256_0_91_0 : S5x256x256.Slices ![0, 91, 0] S5x1x256
  slices_S5x256x256_S5x256x1_0_0_91 : S5x256x256.Slices ![0, 0, 91] S5x256x1
  slices_S5x1x256_S5x1x1_0_0_91 : S5x1x256.Slices ![0, 0, 91] S5x1x1
  slices_S5x256x256_S5x1x256_0_92_0 : S5x256x256.Slices ![0, 92, 0] S5x1x256
  slices_S5x256x256_S5x256x1_0_0_92 : S5x256x256.Slices ![0, 0, 92] S5x256x1
  slices_S5x1x256_S5x1x1_0_0_92 : S5x1x256.Slices ![0, 0, 92] S5x1x1
  slices_S5x256x256_S5x1x256_0_93_0 : S5x256x256.Slices ![0, 93, 0] S5x1x256
  slices_S5x256x256_S5x256x1_0_0_93 : S5x256x256.Slices ![0, 0, 93] S5x256x1
  slices_S5x1x256_S5x1x1_0_0_93 : S5x1x256.Slices ![0, 0, 93] S5x1x1
  slices_S5x256x256_S5x1x256_0_94_0 : S5x256x256.Slices ![0, 94, 0] S5x1x256
  slices_S5x256x256_S5x256x1_0_0_94 : S5x256x256.Slices ![0, 0, 94] S5x256x1
  slices_S5x1x256_S5x1x1_0_0_94 : S5x1x256.Slices ![0, 0, 94] S5x1x1
  slices_S5x256x256_S5x1x256_0_95_0 : S5x256x256.Slices ![0, 95, 0] S5x1x256
  slices_S5x256x256_S5x256x1_0_0_95 : S5x256x256.Slices ![0, 0, 95] S5x256x1
  slices_S5x1x256_S5x1x1_0_0_95 : S5x1x256.Slices ![0, 0, 95] S5x1x1
  slices_S5x256x256_S5x1x256_0_96_0 : S5x256x256.Slices ![0, 96, 0] S5x1x256
  slices_S5x256x256_S5x256x1_0_0_96 : S5x256x256.Slices ![0, 0, 96] S5x256x1
  slices_S5x1x256_S5x1x1_0_0_96 : S5x1x256.Slices ![0, 0, 96] S5x1x1
  slices_S5x256x256_S5x1x256_0_97_0 : S5x256x256.Slices ![0, 97, 0] S5x1x256
  slices_S5x256x256_S5x256x1_0_0_97 : S5x256x256.Slices ![0, 0, 97] S5x256x1
  slices_S5x1x256_S5x1x1_0_0_97 : S5x1x256.Slices ![0, 0, 97] S5x1x1
  slices_S5x256x256_S5x1x256_0_98_0 : S5x256x256.Slices ![0, 98, 0] S5x1x256
  slices_S5x256x256_S5x256x1_0_0_98 : S5x256x256.Slices ![0, 0, 98] S5x256x1
  slices_S5x1x256_S5x1x1_0_0_98 : S5x1x256.Slices ![0, 0, 98] S5x1x1
  slices_S5x256x256_S5x1x256_0_99_0 : S5x256x256.Slices ![0, 99, 0] S5x1x256
  slices_S5x256x256_S5x256x1_0_0_99 : S5x256x256.Slices ![0, 0, 99] S5x256x1
  slices_S5x1x256_S5x1x1_0_0_99 : S5x1x256.Slices ![0, 0, 99] S5x1x1
  slices_S5x256x256_S5x1x256_0_100_0 : S5x256x256.Slices ![0, 100, 0] S5x1x256
  slices_S5x256x256_S5x256x1_0_0_100 : S5x256x256.Slices ![0, 0, 100] S5x256x1
  slices_S5x1x256_S5x1x1_0_0_100 : S5x1x256.Slices ![0, 0, 100] S5x1x1
  slices_S5x256x256_S5x1x256_0_101_0 : S5x256x256.Slices ![0, 101, 0] S5x1x256
  slices_S5x256x256_S5x256x1_0_0_101 : S5x256x256.Slices ![0, 0, 101] S5x256x1
  slices_S5x1x256_S5x1x1_0_0_101 : S5x1x256.Slices ![0, 0, 101] S5x1x1
  slices_S5x256x256_S5x1x256_0_102_0 : S5x256x256.Slices ![0, 102, 0] S5x1x256
  slices_S5x256x256_S5x256x1_0_0_102 : S5x256x256.Slices ![0, 0, 102] S5x256x1
  slices_S5x1x256_S5x1x1_0_0_102 : S5x1x256.Slices ![0, 0, 102] S5x1x1
  slices_S5x256x256_S5x1x256_0_103_0 : S5x256x256.Slices ![0, 103, 0] S5x1x256
  slices_S5x256x256_S5x256x1_0_0_103 : S5x256x256.Slices ![0, 0, 103] S5x256x1
  slices_S5x1x256_S5x1x1_0_0_103 : S5x1x256.Slices ![0, 0, 103] S5x1x1
  slices_S5x256x256_S5x1x256_0_104_0 : S5x256x256.Slices ![0, 104, 0] S5x1x256
  slices_S5x256x256_S5x256x1_0_0_104 : S5x256x256.Slices ![0, 0, 104] S5x256x1
  slices_S5x1x256_S5x1x1_0_0_104 : S5x1x256.Slices ![0, 0, 104] S5x1x1
  slices_S5x256x256_S5x1x256_0_105_0 : S5x256x256.Slices ![0, 105, 0] S5x1x256
  slices_S5x256x256_S5x256x1_0_0_105 : S5x256x256.Slices ![0, 0, 105] S5x256x1
  slices_S5x1x256_S5x1x1_0_0_105 : S5x1x256.Slices ![0, 0, 105] S5x1x1
  slices_S5x256x256_S5x1x256_0_106_0 : S5x256x256.Slices ![0, 106, 0] S5x1x256
  slices_S5x256x256_S5x256x1_0_0_106 : S5x256x256.Slices ![0, 0, 106] S5x256x1
  slices_S5x1x256_S5x1x1_0_0_106 : S5x1x256.Slices ![0, 0, 106] S5x1x1
  slices_S5x256x256_S5x1x256_0_107_0 : S5x256x256.Slices ![0, 107, 0] S5x1x256
  slices_S5x256x256_S5x256x1_0_0_107 : S5x256x256.Slices ![0, 0, 107] S5x256x1
  slices_S5x1x256_S5x1x1_0_0_107 : S5x1x256.Slices ![0, 0, 107] S5x1x1
  slices_S5x256x256_S5x1x256_0_108_0 : S5x256x256.Slices ![0, 108, 0] S5x1x256
  slices_S5x256x256_S5x256x1_0_0_108 : S5x256x256.Slices ![0, 0, 108] S5x256x1
  slices_S5x1x256_S5x1x1_0_0_108 : S5x1x256.Slices ![0, 0, 108] S5x1x1
  slices_S5x256x256_S5x1x256_0_109_0 : S5x256x256.Slices ![0, 109, 0] S5x1x256
  slices_S5x256x256_S5x256x1_0_0_109 : S5x256x256.Slices ![0, 0, 109] S5x256x1
  slices_S5x1x256_S5x1x1_0_0_109 : S5x1x256.Slices ![0, 0, 109] S5x1x1
  slices_S5x256x256_S5x1x256_0_110_0 : S5x256x256.Slices ![0, 110, 0] S5x1x256
  slices_S5x256x256_S5x256x1_0_0_110 : S5x256x256.Slices ![0, 0, 110] S5x256x1
  slices_S5x1x256_S5x1x1_0_0_110 : S5x1x256.Slices ![0, 0, 110] S5x1x1
  slices_S5x256x256_S5x1x256_0_111_0 : S5x256x256.Slices ![0, 111, 0] S5x1x256
  slices_S5x256x256_S5x256x1_0_0_111 : S5x256x256.Slices ![0, 0, 111] S5x256x1
  slices_S5x1x256_S5x1x1_0_0_111 : S5x1x256.Slices ![0, 0, 111] S5x1x1
  slices_S5x256x256_S5x1x256_0_112_0 : S5x256x256.Slices ![0, 112, 0] S5x1x256
  slices_S5x256x256_S5x256x1_0_0_112 : S5x256x256.Slices ![0, 0, 112] S5x256x1
  slices_S5x1x256_S5x1x1_0_0_112 : S5x1x256.Slices ![0, 0, 112] S5x1x1
  slices_S5x256x256_S5x1x256_0_113_0 : S5x256x256.Slices ![0, 113, 0] S5x1x256
  slices_S5x256x256_S5x256x1_0_0_113 : S5x256x256.Slices ![0, 0, 113] S5x256x1
  slices_S5x1x256_S5x1x1_0_0_113 : S5x1x256.Slices ![0, 0, 113] S5x1x1
  slices_S5x256x256_S5x1x256_0_114_0 : S5x256x256.Slices ![0, 114, 0] S5x1x256
  slices_S5x256x256_S5x256x1_0_0_114 : S5x256x256.Slices ![0, 0, 114] S5x256x1
  slices_S5x1x256_S5x1x1_0_0_114 : S5x1x256.Slices ![0, 0, 114] S5x1x1
  slices_S5x256x256_S5x1x256_0_115_0 : S5x256x256.Slices ![0, 115, 0] S5x1x256
  slices_S5x256x256_S5x256x1_0_0_115 : S5x256x256.Slices ![0, 0, 115] S5x256x1
  slices_S5x1x256_S5x1x1_0_0_115 : S5x1x256.Slices ![0, 0, 115] S5x1x1
  slices_S5x256x256_S5x1x256_0_116_0 : S5x256x256.Slices ![0, 116, 0] S5x1x256
  slices_S5x256x256_S5x256x1_0_0_116 : S5x256x256.Slices ![0, 0, 116] S5x256x1
  slices_S5x1x256_S5x1x1_0_0_116 : S5x1x256.Slices ![0, 0, 116] S5x1x1
  slices_S5x256x256_S5x1x256_0_117_0 : S5x256x256.Slices ![0, 117, 0] S5x1x256
  slices_S5x256x256_S5x256x1_0_0_117 : S5x256x256.Slices ![0, 0, 117] S5x256x1
  slices_S5x1x256_S5x1x1_0_0_117 : S5x1x256.Slices ![0, 0, 117] S5x1x1
  slices_S5x256x256_S5x1x256_0_118_0 : S5x256x256.Slices ![0, 118, 0] S5x1x256
  slices_S5x256x256_S5x256x1_0_0_118 : S5x256x256.Slices ![0, 0, 118] S5x256x1
  slices_S5x1x256_S5x1x1_0_0_118 : S5x1x256.Slices ![0, 0, 118] S5x1x1
  slices_S5x256x256_S5x1x256_0_119_0 : S5x256x256.Slices ![0, 119, 0] S5x1x256
  slices_S5x256x256_S5x256x1_0_0_119 : S5x256x256.Slices ![0, 0, 119] S5x256x1
  slices_S5x1x256_S5x1x1_0_0_119 : S5x1x256.Slices ![0, 0, 119] S5x1x1
  slices_S5x256x256_S5x1x256_0_120_0 : S5x256x256.Slices ![0, 120, 0] S5x1x256
  slices_S5x256x256_S5x256x1_0_0_120 : S5x256x256.Slices ![0, 0, 120] S5x256x1
  slices_S5x1x256_S5x1x1_0_0_120 : S5x1x256.Slices ![0, 0, 120] S5x1x1
  slices_S5x256x256_S5x1x256_0_121_0 : S5x256x256.Slices ![0, 121, 0] S5x1x256
  slices_S5x256x256_S5x256x1_0_0_121 : S5x256x256.Slices ![0, 0, 121] S5x256x1
  slices_S5x1x256_S5x1x1_0_0_121 : S5x1x256.Slices ![0, 0, 121] S5x1x1
  slices_S5x256x256_S5x1x256_0_122_0 : S5x256x256.Slices ![0, 122, 0] S5x1x256
  slices_S5x256x256_S5x256x1_0_0_122 : S5x256x256.Slices ![0, 0, 122] S5x256x1
  slices_S5x1x256_S5x1x1_0_0_122 : S5x1x256.Slices ![0, 0, 122] S5x1x1
  slices_S5x256x256_S5x1x256_0_123_0 : S5x256x256.Slices ![0, 123, 0] S5x1x256
  slices_S5x256x256_S5x256x1_0_0_123 : S5x256x256.Slices ![0, 0, 123] S5x256x1
  slices_S5x1x256_S5x1x1_0_0_123 : S5x1x256.Slices ![0, 0, 123] S5x1x1
  slices_S5x256x256_S5x1x256_0_124_0 : S5x256x256.Slices ![0, 124, 0] S5x1x256
  slices_S5x256x256_S5x256x1_0_0_124 : S5x256x256.Slices ![0, 0, 124] S5x256x1
  slices_S5x1x256_S5x1x1_0_0_124 : S5x1x256.Slices ![0, 0, 124] S5x1x1
  slices_S5x256x256_S5x1x256_0_125_0 : S5x256x256.Slices ![0, 125, 0] S5x1x256
  slices_S5x256x256_S5x256x1_0_0_125 : S5x256x256.Slices ![0, 0, 125] S5x256x1
  slices_S5x1x256_S5x1x1_0_0_125 : S5x1x256.Slices ![0, 0, 125] S5x1x1
  slices_S5x256x256_S5x1x256_0_126_0 : S5x256x256.Slices ![0, 126, 0] S5x1x256
  slices_S5x256x256_S5x256x1_0_0_126 : S5x256x256.Slices ![0, 0, 126] S5x256x1
  slices_S5x1x256_S5x1x1_0_0_126 : S5x1x256.Slices ![0, 0, 126] S5x1x1
  slices_S5x256x256_S5x1x256_0_127_0 : S5x256x256.Slices ![0, 127, 0] S5x1x256
  slices_S5x256x256_S5x256x1_0_0_127 : S5x256x256.Slices ![0, 0, 127] S5x256x1
  slices_S5x1x256_S5x1x1_0_0_127 : S5x1x256.Slices ![0, 0, 127] S5x1x1
  slices_S5x256x256_S5x1x256_0_128_0 : S5x256x256.Slices ![0, 128, 0] S5x1x256
  slices_S5x256x256_S5x256x1_0_0_128 : S5x256x256.Slices ![0, 0, 128] S5x256x1
  slices_S5x1x256_S5x1x1_0_0_128 : S5x1x256.Slices ![0, 0, 128] S5x1x1
  slices_S5x256x256_S5x1x256_0_129_0 : S5x256x256.Slices ![0, 129, 0] S5x1x256
  slices_S5x256x256_S5x256x1_0_0_129 : S5x256x256.Slices ![0, 0, 129] S5x256x1
  slices_S5x1x256_S5x1x1_0_0_129 : S5x1x256.Slices ![0, 0, 129] S5x1x1
  slices_S5x256x256_S5x1x256_0_130_0 : S5x256x256.Slices ![0, 130, 0] S5x1x256
  slices_S5x256x256_S5x256x1_0_0_130 : S5x256x256.Slices ![0, 0, 130] S5x256x1
  slices_S5x1x256_S5x1x1_0_0_130 : S5x1x256.Slices ![0, 0, 130] S5x1x1
  slices_S5x256x256_S5x1x256_0_131_0 : S5x256x256.Slices ![0, 131, 0] S5x1x256
  slices_S5x256x256_S5x256x1_0_0_131 : S5x256x256.Slices ![0, 0, 131] S5x256x1
  slices_S5x1x256_S5x1x1_0_0_131 : S5x1x256.Slices ![0, 0, 131] S5x1x1
  slices_S5x256x256_S5x1x256_0_132_0 : S5x256x256.Slices ![0, 132, 0] S5x1x256
  slices_S5x256x256_S5x256x1_0_0_132 : S5x256x256.Slices ![0, 0, 132] S5x256x1
  slices_S5x1x256_S5x1x1_0_0_132 : S5x1x256.Slices ![0, 0, 132] S5x1x1
  slices_S5x256x256_S5x1x256_0_133_0 : S5x256x256.Slices ![0, 133, 0] S5x1x256
  slices_S5x256x256_S5x256x1_0_0_133 : S5x256x256.Slices ![0, 0, 133] S5x256x1
  slices_S5x1x256_S5x1x1_0_0_133 : S5x1x256.Slices ![0, 0, 133] S5x1x1
  slices_S5x256x256_S5x1x256_0_134_0 : S5x256x256.Slices ![0, 134, 0] S5x1x256
  slices_S5x256x256_S5x256x1_0_0_134 : S5x256x256.Slices ![0, 0, 134] S5x256x1
  slices_S5x1x256_S5x1x1_0_0_134 : S5x1x256.Slices ![0, 0, 134] S5x1x1
  slices_S5x256x256_S5x1x256_0_135_0 : S5x256x256.Slices ![0, 135, 0] S5x1x256
  slices_S5x256x256_S5x256x1_0_0_135 : S5x256x256.Slices ![0, 0, 135] S5x256x1
  slices_S5x1x256_S5x1x1_0_0_135 : S5x1x256.Slices ![0, 0, 135] S5x1x1
  slices_S5x256x256_S5x1x256_0_136_0 : S5x256x256.Slices ![0, 136, 0] S5x1x256
  slices_S5x256x256_S5x256x1_0_0_136 : S5x256x256.Slices ![0, 0, 136] S5x256x1
  slices_S5x1x256_S5x1x1_0_0_136 : S5x1x256.Slices ![0, 0, 136] S5x1x1
  slices_S5x256x256_S5x1x256_0_137_0 : S5x256x256.Slices ![0, 137, 0] S5x1x256
  slices_S5x256x256_S5x256x1_0_0_137 : S5x256x256.Slices ![0, 0, 137] S5x256x1
  slices_S5x1x256_S5x1x1_0_0_137 : S5x1x256.Slices ![0, 0, 137] S5x1x1
  slices_S5x256x256_S5x1x256_0_138_0 : S5x256x256.Slices ![0, 138, 0] S5x1x256
  slices_S5x256x256_S5x256x1_0_0_138 : S5x256x256.Slices ![0, 0, 138] S5x256x1
  slices_S5x1x256_S5x1x1_0_0_138 : S5x1x256.Slices ![0, 0, 138] S5x1x1
  slices_S5x256x256_S5x1x256_0_139_0 : S5x256x256.Slices ![0, 139, 0] S5x1x256
  slices_S5x256x256_S5x256x1_0_0_139 : S5x256x256.Slices ![0, 0, 139] S5x256x1
  slices_S5x1x256_S5x1x1_0_0_139 : S5x1x256.Slices ![0, 0, 139] S5x1x1
  slices_S5x256x256_S5x1x256_0_140_0 : S5x256x256.Slices ![0, 140, 0] S5x1x256
  slices_S5x256x256_S5x256x1_0_0_140 : S5x256x256.Slices ![0, 0, 140] S5x256x1
  slices_S5x1x256_S5x1x1_0_0_140 : S5x1x256.Slices ![0, 0, 140] S5x1x1
  slices_S5x256x256_S5x1x256_0_141_0 : S5x256x256.Slices ![0, 141, 0] S5x1x256
  slices_S5x256x256_S5x256x1_0_0_141 : S5x256x256.Slices ![0, 0, 141] S5x256x1
  slices_S5x1x256_S5x1x1_0_0_141 : S5x1x256.Slices ![0, 0, 141] S5x1x1
  slices_S5x256x256_S5x1x256_0_142_0 : S5x256x256.Slices ![0, 142, 0] S5x1x256
  slices_S5x256x256_S5x256x1_0_0_142 : S5x256x256.Slices ![0, 0, 142] S5x256x1
  slices_S5x1x256_S5x1x1_0_0_142 : S5x1x256.Slices ![0, 0, 142] S5x1x1
  slices_S5x256x256_S5x1x256_0_143_0 : S5x256x256.Slices ![0, 143, 0] S5x1x256
  slices_S5x256x256_S5x256x1_0_0_143 : S5x256x256.Slices ![0, 0, 143] S5x256x1
  slices_S5x1x256_S5x1x1_0_0_143 : S5x1x256.Slices ![0, 0, 143] S5x1x1
  slices_S5x256x256_S5x1x256_0_144_0 : S5x256x256.Slices ![0, 144, 0] S5x1x256
  slices_S5x256x256_S5x256x1_0_0_144 : S5x256x256.Slices ![0, 0, 144] S5x256x1
  slices_S5x1x256_S5x1x1_0_0_144 : S5x1x256.Slices ![0, 0, 144] S5x1x1
  slices_S5x256x256_S5x1x256_0_145_0 : S5x256x256.Slices ![0, 145, 0] S5x1x256
  slices_S5x256x256_S5x256x1_0_0_145 : S5x256x256.Slices ![0, 0, 145] S5x256x1
  slices_S5x1x256_S5x1x1_0_0_145 : S5x1x256.Slices ![0, 0, 145] S5x1x1
  slices_S5x256x256_S5x1x256_0_146_0 : S5x256x256.Slices ![0, 146, 0] S5x1x256
  slices_S5x256x256_S5x256x1_0_0_146 : S5x256x256.Slices ![0, 0, 146] S5x256x1
  slices_S5x1x256_S5x1x1_0_0_146 : S5x1x256.Slices ![0, 0, 146] S5x1x1
  slices_S5x256x256_S5x1x256_0_147_0 : S5x256x256.Slices ![0, 147, 0] S5x1x256
  slices_S5x256x256_S5x256x1_0_0_147 : S5x256x256.Slices ![0, 0, 147] S5x256x1
  slices_S5x1x256_S5x1x1_0_0_147 : S5x1x256.Slices ![0, 0, 147] S5x1x1
  slices_S5x256x256_S5x1x256_0_148_0 : S5x256x256.Slices ![0, 148, 0] S5x1x256
  slices_S5x256x256_S5x256x1_0_0_148 : S5x256x256.Slices ![0, 0, 148] S5x256x1
  slices_S5x1x256_S5x1x1_0_0_148 : S5x1x256.Slices ![0, 0, 148] S5x1x1
  slices_S5x256x256_S5x1x256_0_149_0 : S5x256x256.Slices ![0, 149, 0] S5x1x256
  slices_S5x256x256_S5x256x1_0_0_149 : S5x256x256.Slices ![0, 0, 149] S5x256x1
  slices_S5x1x256_S5x1x1_0_0_149 : S5x1x256.Slices ![0, 0, 149] S5x1x1
  slices_S5x256x256_S5x1x256_0_150_0 : S5x256x256.Slices ![0, 150, 0] S5x1x256
  slices_S5x256x256_S5x256x1_0_0_150 : S5x256x256.Slices ![0, 0, 150] S5x256x1
  slices_S5x1x256_S5x1x1_0_0_150 : S5x1x256.Slices ![0, 0, 150] S5x1x1
  slices_S5x256x256_S5x1x256_0_151_0 : S5x256x256.Slices ![0, 151, 0] S5x1x256
  slices_S5x256x256_S5x256x1_0_0_151 : S5x256x256.Slices ![0, 0, 151] S5x256x1
  slices_S5x1x256_S5x1x1_0_0_151 : S5x1x256.Slices ![0, 0, 151] S5x1x1
  slices_S5x256x256_S5x1x256_0_152_0 : S5x256x256.Slices ![0, 152, 0] S5x1x256
  slices_S5x256x256_S5x256x1_0_0_152 : S5x256x256.Slices ![0, 0, 152] S5x256x1
  slices_S5x1x256_S5x1x1_0_0_152 : S5x1x256.Slices ![0, 0, 152] S5x1x1
  slices_S5x256x256_S5x1x256_0_153_0 : S5x256x256.Slices ![0, 153, 0] S5x1x256
  slices_S5x256x256_S5x256x1_0_0_153 : S5x256x256.Slices ![0, 0, 153] S5x256x1
  slices_S5x1x256_S5x1x1_0_0_153 : S5x1x256.Slices ![0, 0, 153] S5x1x1
  slices_S5x256x256_S5x1x256_0_154_0 : S5x256x256.Slices ![0, 154, 0] S5x1x256
  slices_S5x256x256_S5x256x1_0_0_154 : S5x256x256.Slices ![0, 0, 154] S5x256x1
  slices_S5x1x256_S5x1x1_0_0_154 : S5x1x256.Slices ![0, 0, 154] S5x1x1
  slices_S5x256x256_S5x1x256_0_155_0 : S5x256x256.Slices ![0, 155, 0] S5x1x256
  slices_S5x256x256_S5x256x1_0_0_155 : S5x256x256.Slices ![0, 0, 155] S5x256x1
  slices_S5x1x256_S5x1x1_0_0_155 : S5x1x256.Slices ![0, 0, 155] S5x1x1
  slices_S5x256x256_S5x1x256_0_156_0 : S5x256x256.Slices ![0, 156, 0] S5x1x256
  slices_S5x256x256_S5x256x1_0_0_156 : S5x256x256.Slices ![0, 0, 156] S5x256x1
  slices_S5x1x256_S5x1x1_0_0_156 : S5x1x256.Slices ![0, 0, 156] S5x1x1
  slices_S5x256x256_S5x1x256_0_157_0 : S5x256x256.Slices ![0, 157, 0] S5x1x256
  slices_S5x256x256_S5x256x1_0_0_157 : S5x256x256.Slices ![0, 0, 157] S5x256x1
  slices_S5x1x256_S5x1x1_0_0_157 : S5x1x256.Slices ![0, 0, 157] S5x1x1
  slices_S5x256x256_S5x1x256_0_158_0 : S5x256x256.Slices ![0, 158, 0] S5x1x256
  slices_S5x256x256_S5x256x1_0_0_158 : S5x256x256.Slices ![0, 0, 158] S5x256x1
  slices_S5x1x256_S5x1x1_0_0_158 : S5x1x256.Slices ![0, 0, 158] S5x1x1
  slices_S5x256x256_S5x1x256_0_159_0 : S5x256x256.Slices ![0, 159, 0] S5x1x256
  slices_S5x256x256_S5x256x1_0_0_159 : S5x256x256.Slices ![0, 0, 159] S5x256x1
  slices_S5x1x256_S5x1x1_0_0_159 : S5x1x256.Slices ![0, 0, 159] S5x1x1
  slices_S5x256x256_S5x1x256_0_160_0 : S5x256x256.Slices ![0, 160, 0] S5x1x256
  slices_S5x256x256_S5x256x1_0_0_160 : S5x256x256.Slices ![0, 0, 160] S5x256x1
  slices_S5x1x256_S5x1x1_0_0_160 : S5x1x256.Slices ![0, 0, 160] S5x1x1
  slices_S5x256x256_S5x1x256_0_161_0 : S5x256x256.Slices ![0, 161, 0] S5x1x256
  slices_S5x256x256_S5x256x1_0_0_161 : S5x256x256.Slices ![0, 0, 161] S5x256x1
  slices_S5x1x256_S5x1x1_0_0_161 : S5x1x256.Slices ![0, 0, 161] S5x1x1
  slices_S5x256x256_S5x1x256_0_162_0 : S5x256x256.Slices ![0, 162, 0] S5x1x256
  slices_S5x256x256_S5x256x1_0_0_162 : S5x256x256.Slices ![0, 0, 162] S5x256x1
  slices_S5x1x256_S5x1x1_0_0_162 : S5x1x256.Slices ![0, 0, 162] S5x1x1
  slices_S5x256x256_S5x1x256_0_163_0 : S5x256x256.Slices ![0, 163, 0] S5x1x256
  slices_S5x256x256_S5x256x1_0_0_163 : S5x256x256.Slices ![0, 0, 163] S5x256x1
  slices_S5x1x256_S5x1x1_0_0_163 : S5x1x256.Slices ![0, 0, 163] S5x1x1
  slices_S5x256x256_S5x1x256_0_164_0 : S5x256x256.Slices ![0, 164, 0] S5x1x256
  slices_S5x256x256_S5x256x1_0_0_164 : S5x256x256.Slices ![0, 0, 164] S5x256x1
  slices_S5x1x256_S5x1x1_0_0_164 : S5x1x256.Slices ![0, 0, 164] S5x1x1
  slices_S5x256x256_S5x1x256_0_165_0 : S5x256x256.Slices ![0, 165, 0] S5x1x256
  slices_S5x256x256_S5x256x1_0_0_165 : S5x256x256.Slices ![0, 0, 165] S5x256x1
  slices_S5x1x256_S5x1x1_0_0_165 : S5x1x256.Slices ![0, 0, 165] S5x1x1
  slices_S5x256x256_S5x1x256_0_166_0 : S5x256x256.Slices ![0, 166, 0] S5x1x256
  slices_S5x256x256_S5x256x1_0_0_166 : S5x256x256.Slices ![0, 0, 166] S5x256x1
  slices_S5x1x256_S5x1x1_0_0_166 : S5x1x256.Slices ![0, 0, 166] S5x1x1
  slices_S5x256x256_S5x1x256_0_167_0 : S5x256x256.Slices ![0, 167, 0] S5x1x256
  slices_S5x256x256_S5x256x1_0_0_167 : S5x256x256.Slices ![0, 0, 167] S5x256x1
  slices_S5x1x256_S5x1x1_0_0_167 : S5x1x256.Slices ![0, 0, 167] S5x1x1
  slices_S5x256x256_S5x1x256_0_168_0 : S5x256x256.Slices ![0, 168, 0] S5x1x256
  slices_S5x256x256_S5x256x1_0_0_168 : S5x256x256.Slices ![0, 0, 168] S5x256x1
  slices_S5x1x256_S5x1x1_0_0_168 : S5x1x256.Slices ![0, 0, 168] S5x1x1
  slices_S5x256x256_S5x1x256_0_169_0 : S5x256x256.Slices ![0, 169, 0] S5x1x256
  slices_S5x256x256_S5x256x1_0_0_169 : S5x256x256.Slices ![0, 0, 169] S5x256x1
  slices_S5x1x256_S5x1x1_0_0_169 : S5x1x256.Slices ![0, 0, 169] S5x1x1
  slices_S5x256x256_S5x1x256_0_170_0 : S5x256x256.Slices ![0, 170, 0] S5x1x256
  slices_S5x256x256_S5x256x1_0_0_170 : S5x256x256.Slices ![0, 0, 170] S5x256x1
  slices_S5x1x256_S5x1x1_0_0_170 : S5x1x256.Slices ![0, 0, 170] S5x1x1
  slices_S5x256x256_S5x1x256_0_171_0 : S5x256x256.Slices ![0, 171, 0] S5x1x256
  slices_S5x256x256_S5x256x1_0_0_171 : S5x256x256.Slices ![0, 0, 171] S5x256x1
  slices_S5x1x256_S5x1x1_0_0_171 : S5x1x256.Slices ![0, 0, 171] S5x1x1
  slices_S5x256x256_S5x1x256_0_172_0 : S5x256x256.Slices ![0, 172, 0] S5x1x256
  slices_S5x256x256_S5x256x1_0_0_172 : S5x256x256.Slices ![0, 0, 172] S5x256x1
  slices_S5x1x256_S5x1x1_0_0_172 : S5x1x256.Slices ![0, 0, 172] S5x1x1
  slices_S5x256x256_S5x1x256_0_173_0 : S5x256x256.Slices ![0, 173, 0] S5x1x256
  slices_S5x256x256_S5x256x1_0_0_173 : S5x256x256.Slices ![0, 0, 173] S5x256x1
  slices_S5x1x256_S5x1x1_0_0_173 : S5x1x256.Slices ![0, 0, 173] S5x1x1
  slices_S5x256x256_S5x1x256_0_174_0 : S5x256x256.Slices ![0, 174, 0] S5x1x256
  slices_S5x256x256_S5x256x1_0_0_174 : S5x256x256.Slices ![0, 0, 174] S5x256x1
  slices_S5x1x256_S5x1x1_0_0_174 : S5x1x256.Slices ![0, 0, 174] S5x1x1
  slices_S5x256x256_S5x1x256_0_175_0 : S5x256x256.Slices ![0, 175, 0] S5x1x256
  slices_S5x256x256_S5x256x1_0_0_175 : S5x256x256.Slices ![0, 0, 175] S5x256x1
  slices_S5x1x256_S5x1x1_0_0_175 : S5x1x256.Slices ![0, 0, 175] S5x1x1
  slices_S5x256x256_S5x1x256_0_176_0 : S5x256x256.Slices ![0, 176, 0] S5x1x256
  slices_S5x256x256_S5x256x1_0_0_176 : S5x256x256.Slices ![0, 0, 176] S5x256x1
  slices_S5x1x256_S5x1x1_0_0_176 : S5x1x256.Slices ![0, 0, 176] S5x1x1
  slices_S5x256x256_S5x1x256_0_177_0 : S5x256x256.Slices ![0, 177, 0] S5x1x256
  slices_S5x256x256_S5x256x1_0_0_177 : S5x256x256.Slices ![0, 0, 177] S5x256x1
  slices_S5x1x256_S5x1x1_0_0_177 : S5x1x256.Slices ![0, 0, 177] S5x1x1
  slices_S5x256x256_S5x1x256_0_178_0 : S5x256x256.Slices ![0, 178, 0] S5x1x256
  slices_S5x256x256_S5x256x1_0_0_178 : S5x256x256.Slices ![0, 0, 178] S5x256x1
  slices_S5x1x256_S5x1x1_0_0_178 : S5x1x256.Slices ![0, 0, 178] S5x1x1
  slices_S5x256x256_S5x1x256_0_179_0 : S5x256x256.Slices ![0, 179, 0] S5x1x256
  slices_S5x256x256_S5x256x1_0_0_179 : S5x256x256.Slices ![0, 0, 179] S5x256x1
  slices_S5x1x256_S5x1x1_0_0_179 : S5x1x256.Slices ![0, 0, 179] S5x1x1
  slices_S5x256x256_S5x1x256_0_180_0 : S5x256x256.Slices ![0, 180, 0] S5x1x256
  slices_S5x256x256_S5x256x1_0_0_180 : S5x256x256.Slices ![0, 0, 180] S5x256x1
  slices_S5x1x256_S5x1x1_0_0_180 : S5x1x256.Slices ![0, 0, 180] S5x1x1
  slices_S5x256x256_S5x1x256_0_181_0 : S5x256x256.Slices ![0, 181, 0] S5x1x256
  slices_S5x256x256_S5x256x1_0_0_181 : S5x256x256.Slices ![0, 0, 181] S5x256x1
  slices_S5x1x256_S5x1x1_0_0_181 : S5x1x256.Slices ![0, 0, 181] S5x1x1
  slices_S5x256x256_S5x1x256_0_182_0 : S5x256x256.Slices ![0, 182, 0] S5x1x256
  slices_S5x256x256_S5x256x1_0_0_182 : S5x256x256.Slices ![0, 0, 182] S5x256x1
  slices_S5x1x256_S5x1x1_0_0_182 : S5x1x256.Slices ![0, 0, 182] S5x1x1
  slices_S5x256x256_S5x1x256_0_183_0 : S5x256x256.Slices ![0, 183, 0] S5x1x256
  slices_S5x256x256_S5x256x1_0_0_183 : S5x256x256.Slices ![0, 0, 183] S5x256x1
  slices_S5x1x256_S5x1x1_0_0_183 : S5x1x256.Slices ![0, 0, 183] S5x1x1
  slices_S5x256x256_S5x1x256_0_184_0 : S5x256x256.Slices ![0, 184, 0] S5x1x256
  slices_S5x256x256_S5x256x1_0_0_184 : S5x256x256.Slices ![0, 0, 184] S5x256x1
  slices_S5x1x256_S5x1x1_0_0_184 : S5x1x256.Slices ![0, 0, 184] S5x1x1
  slices_S5x256x256_S5x1x256_0_185_0 : S5x256x256.Slices ![0, 185, 0] S5x1x256
  slices_S5x256x256_S5x256x1_0_0_185 : S5x256x256.Slices ![0, 0, 185] S5x256x1
  slices_S5x1x256_S5x1x1_0_0_185 : S5x1x256.Slices ![0, 0, 185] S5x1x1
  slices_S5x256x256_S5x1x256_0_186_0 : S5x256x256.Slices ![0, 186, 0] S5x1x256
  slices_S5x256x256_S5x256x1_0_0_186 : S5x256x256.Slices ![0, 0, 186] S5x256x1
  slices_S5x1x256_S5x1x1_0_0_186 : S5x1x256.Slices ![0, 0, 186] S5x1x1
  slices_S5x256x256_S5x1x256_0_187_0 : S5x256x256.Slices ![0, 187, 0] S5x1x256
  slices_S5x256x256_S5x256x1_0_0_187 : S5x256x256.Slices ![0, 0, 187] S5x256x1
  slices_S5x1x256_S5x1x1_0_0_187 : S5x1x256.Slices ![0, 0, 187] S5x1x1
  slices_S5x256x256_S5x1x256_0_188_0 : S5x256x256.Slices ![0, 188, 0] S5x1x256
  slices_S5x256x256_S5x256x1_0_0_188 : S5x256x256.Slices ![0, 0, 188] S5x256x1
  slices_S5x1x256_S5x1x1_0_0_188 : S5x1x256.Slices ![0, 0, 188] S5x1x1
  slices_S5x256x256_S5x1x256_0_189_0 : S5x256x256.Slices ![0, 189, 0] S5x1x256
  slices_S5x256x256_S5x256x1_0_0_189 : S5x256x256.Slices ![0, 0, 189] S5x256x1
  slices_S5x1x256_S5x1x1_0_0_189 : S5x1x256.Slices ![0, 0, 189] S5x1x1
  slices_S5x256x256_S5x1x256_0_190_0 : S5x256x256.Slices ![0, 190, 0] S5x1x256
  slices_S5x256x256_S5x256x1_0_0_190 : S5x256x256.Slices ![0, 0, 190] S5x256x1
  slices_S5x1x256_S5x1x1_0_0_190 : S5x1x256.Slices ![0, 0, 190] S5x1x1
  slices_S5x256x256_S5x1x256_0_191_0 : S5x256x256.Slices ![0, 191, 0] S5x1x256
  slices_S5x256x256_S5x256x1_0_0_191 : S5x256x256.Slices ![0, 0, 191] S5x256x1
  slices_S5x1x256_S5x1x1_0_0_191 : S5x1x256.Slices ![0, 0, 191] S5x1x1
  slices_S5x256x256_S5x1x256_0_192_0 : S5x256x256.Slices ![0, 192, 0] S5x1x256
  slices_S5x256x256_S5x256x1_0_0_192 : S5x256x256.Slices ![0, 0, 192] S5x256x1
  slices_S5x1x256_S5x1x1_0_0_192 : S5x1x256.Slices ![0, 0, 192] S5x1x1
  slices_S5x256x256_S5x1x256_0_193_0 : S5x256x256.Slices ![0, 193, 0] S5x1x256
  slices_S5x256x256_S5x256x1_0_0_193 : S5x256x256.Slices ![0, 0, 193] S5x256x1
  slices_S5x1x256_S5x1x1_0_0_193 : S5x1x256.Slices ![0, 0, 193] S5x1x1
  slices_S5x256x256_S5x1x256_0_194_0 : S5x256x256.Slices ![0, 194, 0] S5x1x256
  slices_S5x256x256_S5x256x1_0_0_194 : S5x256x256.Slices ![0, 0, 194] S5x256x1
  slices_S5x1x256_S5x1x1_0_0_194 : S5x1x256.Slices ![0, 0, 194] S5x1x1
  slices_S5x256x256_S5x1x256_0_195_0 : S5x256x256.Slices ![0, 195, 0] S5x1x256
  slices_S5x256x256_S5x256x1_0_0_195 : S5x256x256.Slices ![0, 0, 195] S5x256x1
  slices_S5x1x256_S5x1x1_0_0_195 : S5x1x256.Slices ![0, 0, 195] S5x1x1
  slices_S5x256x256_S5x1x256_0_196_0 : S5x256x256.Slices ![0, 196, 0] S5x1x256
  slices_S5x256x256_S5x256x1_0_0_196 : S5x256x256.Slices ![0, 0, 196] S5x256x1
  slices_S5x1x256_S5x1x1_0_0_196 : S5x1x256.Slices ![0, 0, 196] S5x1x1
  slices_S5x256x256_S5x1x256_0_197_0 : S5x256x256.Slices ![0, 197, 0] S5x1x256
  slices_S5x256x256_S5x256x1_0_0_197 : S5x256x256.Slices ![0, 0, 197] S5x256x1
  slices_S5x1x256_S5x1x1_0_0_197 : S5x1x256.Slices ![0, 0, 197] S5x1x1
  slices_S5x256x256_S5x1x256_0_198_0 : S5x256x256.Slices ![0, 198, 0] S5x1x256
  slices_S5x256x256_S5x256x1_0_0_198 : S5x256x256.Slices ![0, 0, 198] S5x256x1
  slices_S5x1x256_S5x1x1_0_0_198 : S5x1x256.Slices ![0, 0, 198] S5x1x1
  slices_S5x256x256_S5x1x256_0_199_0 : S5x256x256.Slices ![0, 199, 0] S5x1x256
  slices_S5x256x256_S5x256x1_0_0_199 : S5x256x256.Slices ![0, 0, 199] S5x256x1
  slices_S5x1x256_S5x1x1_0_0_199 : S5x1x256.Slices ![0, 0, 199] S5x1x1
  slices_S5x256x256_S5x1x256_0_200_0 : S5x256x256.Slices ![0, 200, 0] S5x1x256
  slices_S5x256x256_S5x256x1_0_0_200 : S5x256x256.Slices ![0, 0, 200] S5x256x1
  slices_S5x1x256_S5x1x1_0_0_200 : S5x1x256.Slices ![0, 0, 200] S5x1x1
  slices_S5x256x256_S5x1x256_0_201_0 : S5x256x256.Slices ![0, 201, 0] S5x1x256
  slices_S5x256x256_S5x256x1_0_0_201 : S5x256x256.Slices ![0, 0, 201] S5x256x1
  slices_S5x1x256_S5x1x1_0_0_201 : S5x1x256.Slices ![0, 0, 201] S5x1x1
  slices_S5x256x256_S5x1x256_0_202_0 : S5x256x256.Slices ![0, 202, 0] S5x1x256
  slices_S5x256x256_S5x256x1_0_0_202 : S5x256x256.Slices ![0, 0, 202] S5x256x1
  slices_S5x1x256_S5x1x1_0_0_202 : S5x1x256.Slices ![0, 0, 202] S5x1x1
  slices_S5x256x256_S5x1x256_0_203_0 : S5x256x256.Slices ![0, 203, 0] S5x1x256
  slices_S5x256x256_S5x256x1_0_0_203 : S5x256x256.Slices ![0, 0, 203] S5x256x1
  slices_S5x1x256_S5x1x1_0_0_203 : S5x1x256.Slices ![0, 0, 203] S5x1x1
  slices_S5x256x256_S5x1x256_0_204_0 : S5x256x256.Slices ![0, 204, 0] S5x1x256
  slices_S5x256x256_S5x256x1_0_0_204 : S5x256x256.Slices ![0, 0, 204] S5x256x1
  slices_S5x1x256_S5x1x1_0_0_204 : S5x1x256.Slices ![0, 0, 204] S5x1x1
  slices_S5x256x256_S5x1x256_0_205_0 : S5x256x256.Slices ![0, 205, 0] S5x1x256
  slices_S5x256x256_S5x256x1_0_0_205 : S5x256x256.Slices ![0, 0, 205] S5x256x1
  slices_S5x1x256_S5x1x1_0_0_205 : S5x1x256.Slices ![0, 0, 205] S5x1x1
  slices_S5x256x256_S5x1x256_0_206_0 : S5x256x256.Slices ![0, 206, 0] S5x1x256
  slices_S5x256x256_S5x256x1_0_0_206 : S5x256x256.Slices ![0, 0, 206] S5x256x1
  slices_S5x1x256_S5x1x1_0_0_206 : S5x1x256.Slices ![0, 0, 206] S5x1x1
  slices_S5x256x256_S5x1x256_0_207_0 : S5x256x256.Slices ![0, 207, 0] S5x1x256
  slices_S5x256x256_S5x256x1_0_0_207 : S5x256x256.Slices ![0, 0, 207] S5x256x1
  slices_S5x1x256_S5x1x1_0_0_207 : S5x1x256.Slices ![0, 0, 207] S5x1x1
  slices_S5x256x256_S5x1x256_0_208_0 : S5x256x256.Slices ![0, 208, 0] S5x1x256
  slices_S5x256x256_S5x256x1_0_0_208 : S5x256x256.Slices ![0, 0, 208] S5x256x1
  slices_S5x1x256_S5x1x1_0_0_208 : S5x1x256.Slices ![0, 0, 208] S5x1x1
  slices_S5x256x256_S5x1x256_0_209_0 : S5x256x256.Slices ![0, 209, 0] S5x1x256
  slices_S5x256x256_S5x256x1_0_0_209 : S5x256x256.Slices ![0, 0, 209] S5x256x1
  slices_S5x1x256_S5x1x1_0_0_209 : S5x1x256.Slices ![0, 0, 209] S5x1x1
  slices_S5x256x256_S5x1x256_0_210_0 : S5x256x256.Slices ![0, 210, 0] S5x1x256
  slices_S5x256x256_S5x256x1_0_0_210 : S5x256x256.Slices ![0, 0, 210] S5x256x1
  slices_S5x1x256_S5x1x1_0_0_210 : S5x1x256.Slices ![0, 0, 210] S5x1x1
  slices_S5x256x256_S5x1x256_0_211_0 : S5x256x256.Slices ![0, 211, 0] S5x1x256
  slices_S5x256x256_S5x256x1_0_0_211 : S5x256x256.Slices ![0, 0, 211] S5x256x1
  slices_S5x1x256_S5x1x1_0_0_211 : S5x1x256.Slices ![0, 0, 211] S5x1x1
  slices_S5x256x256_S5x1x256_0_212_0 : S5x256x256.Slices ![0, 212, 0] S5x1x256
  slices_S5x256x256_S5x256x1_0_0_212 : S5x256x256.Slices ![0, 0, 212] S5x256x1
  slices_S5x1x256_S5x1x1_0_0_212 : S5x1x256.Slices ![0, 0, 212] S5x1x1
  slices_S5x256x256_S5x1x256_0_213_0 : S5x256x256.Slices ![0, 213, 0] S5x1x256
  slices_S5x256x256_S5x256x1_0_0_213 : S5x256x256.Slices ![0, 0, 213] S5x256x1
  slices_S5x1x256_S5x1x1_0_0_213 : S5x1x256.Slices ![0, 0, 213] S5x1x1
  slices_S5x256x256_S5x1x256_0_214_0 : S5x256x256.Slices ![0, 214, 0] S5x1x256
  slices_S5x256x256_S5x256x1_0_0_214 : S5x256x256.Slices ![0, 0, 214] S5x256x1
  slices_S5x1x256_S5x1x1_0_0_214 : S5x1x256.Slices ![0, 0, 214] S5x1x1
  slices_S5x256x256_S5x1x256_0_215_0 : S5x256x256.Slices ![0, 215, 0] S5x1x256
  slices_S5x256x256_S5x256x1_0_0_215 : S5x256x256.Slices ![0, 0, 215] S5x256x1
  slices_S5x1x256_S5x1x1_0_0_215 : S5x1x256.Slices ![0, 0, 215] S5x1x1
  slices_S5x256x256_S5x1x256_0_216_0 : S5x256x256.Slices ![0, 216, 0] S5x1x256
  slices_S5x256x256_S5x256x1_0_0_216 : S5x256x256.Slices ![0, 0, 216] S5x256x1
  slices_S5x1x256_S5x1x1_0_0_216 : S5x1x256.Slices ![0, 0, 216] S5x1x1
  slices_S5x256x256_S5x1x256_0_217_0 : S5x256x256.Slices ![0, 217, 0] S5x1x256
  slices_S5x256x256_S5x256x1_0_0_217 : S5x256x256.Slices ![0, 0, 217] S5x256x1
  slices_S5x1x256_S5x1x1_0_0_217 : S5x1x256.Slices ![0, 0, 217] S5x1x1
  slices_S5x256x256_S5x1x256_0_218_0 : S5x256x256.Slices ![0, 218, 0] S5x1x256
  slices_S5x256x256_S5x256x1_0_0_218 : S5x256x256.Slices ![0, 0, 218] S5x256x1
  slices_S5x1x256_S5x1x1_0_0_218 : S5x1x256.Slices ![0, 0, 218] S5x1x1
  slices_S5x256x256_S5x1x256_0_219_0 : S5x256x256.Slices ![0, 219, 0] S5x1x256
  slices_S5x256x256_S5x256x1_0_0_219 : S5x256x256.Slices ![0, 0, 219] S5x256x1
  slices_S5x1x256_S5x1x1_0_0_219 : S5x1x256.Slices ![0, 0, 219] S5x1x1
  slices_S5x256x256_S5x1x256_0_220_0 : S5x256x256.Slices ![0, 220, 0] S5x1x256
  slices_S5x256x256_S5x256x1_0_0_220 : S5x256x256.Slices ![0, 0, 220] S5x256x1
  slices_S5x1x256_S5x1x1_0_0_220 : S5x1x256.Slices ![0, 0, 220] S5x1x1
  slices_S5x256x256_S5x1x256_0_221_0 : S5x256x256.Slices ![0, 221, 0] S5x1x256
  slices_S5x256x256_S5x256x1_0_0_221 : S5x256x256.Slices ![0, 0, 221] S5x256x1
  slices_S5x1x256_S5x1x1_0_0_221 : S5x1x256.Slices ![0, 0, 221] S5x1x1
  slices_S5x256x256_S5x1x256_0_222_0 : S5x256x256.Slices ![0, 222, 0] S5x1x256
  slices_S5x256x256_S5x256x1_0_0_222 : S5x256x256.Slices ![0, 0, 222] S5x256x1
  slices_S5x1x256_S5x1x1_0_0_222 : S5x1x256.Slices ![0, 0, 222] S5x1x1
  slices_S5x256x256_S5x1x256_0_223_0 : S5x256x256.Slices ![0, 223, 0] S5x1x256
  slices_S5x256x256_S5x256x1_0_0_223 : S5x256x256.Slices ![0, 0, 223] S5x256x1
  slices_S5x1x256_S5x1x1_0_0_223 : S5x1x256.Slices ![0, 0, 223] S5x1x1
  slices_S5x256x256_S5x1x256_0_224_0 : S5x256x256.Slices ![0, 224, 0] S5x1x256
  slices_S5x256x256_S5x256x1_0_0_224 : S5x256x256.Slices ![0, 0, 224] S5x256x1
  slices_S5x1x256_S5x1x1_0_0_224 : S5x1x256.Slices ![0, 0, 224] S5x1x1
  slices_S5x256x256_S5x1x256_0_225_0 : S5x256x256.Slices ![0, 225, 0] S5x1x256
  slices_S5x256x256_S5x256x1_0_0_225 : S5x256x256.Slices ![0, 0, 225] S5x256x1
  slices_S5x1x256_S5x1x1_0_0_225 : S5x1x256.Slices ![0, 0, 225] S5x1x1
  slices_S5x256x256_S5x1x256_0_226_0 : S5x256x256.Slices ![0, 226, 0] S5x1x256
  slices_S5x256x256_S5x256x1_0_0_226 : S5x256x256.Slices ![0, 0, 226] S5x256x1
  slices_S5x1x256_S5x1x1_0_0_226 : S5x1x256.Slices ![0, 0, 226] S5x1x1
  slices_S5x256x256_S5x1x256_0_227_0 : S5x256x256.Slices ![0, 227, 0] S5x1x256
  slices_S5x256x256_S5x256x1_0_0_227 : S5x256x256.Slices ![0, 0, 227] S5x256x1
  slices_S5x1x256_S5x1x1_0_0_227 : S5x1x256.Slices ![0, 0, 227] S5x1x1
  slices_S5x256x256_S5x1x256_0_228_0 : S5x256x256.Slices ![0, 228, 0] S5x1x256
  slices_S5x256x256_S5x256x1_0_0_228 : S5x256x256.Slices ![0, 0, 228] S5x256x1
  slices_S5x1x256_S5x1x1_0_0_228 : S5x1x256.Slices ![0, 0, 228] S5x1x1
  slices_S5x256x256_S5x1x256_0_229_0 : S5x256x256.Slices ![0, 229, 0] S5x1x256
  slices_S5x256x256_S5x256x1_0_0_229 : S5x256x256.Slices ![0, 0, 229] S5x256x1
  slices_S5x1x256_S5x1x1_0_0_229 : S5x1x256.Slices ![0, 0, 229] S5x1x1
  slices_S5x256x256_S5x1x256_0_230_0 : S5x256x256.Slices ![0, 230, 0] S5x1x256
  slices_S5x256x256_S5x256x1_0_0_230 : S5x256x256.Slices ![0, 0, 230] S5x256x1
  slices_S5x1x256_S5x1x1_0_0_230 : S5x1x256.Slices ![0, 0, 230] S5x1x1
  slices_S5x256x256_S5x1x256_0_231_0 : S5x256x256.Slices ![0, 231, 0] S5x1x256
  slices_S5x256x256_S5x256x1_0_0_231 : S5x256x256.Slices ![0, 0, 231] S5x256x1
  slices_S5x1x256_S5x1x1_0_0_231 : S5x1x256.Slices ![0, 0, 231] S5x1x1
  slices_S5x256x256_S5x1x256_0_232_0 : S5x256x256.Slices ![0, 232, 0] S5x1x256
  slices_S5x256x256_S5x256x1_0_0_232 : S5x256x256.Slices ![0, 0, 232] S5x256x1
  slices_S5x1x256_S5x1x1_0_0_232 : S5x1x256.Slices ![0, 0, 232] S5x1x1
  slices_S5x256x256_S5x1x256_0_233_0 : S5x256x256.Slices ![0, 233, 0] S5x1x256
  slices_S5x256x256_S5x256x1_0_0_233 : S5x256x256.Slices ![0, 0, 233] S5x256x1
  slices_S5x1x256_S5x1x1_0_0_233 : S5x1x256.Slices ![0, 0, 233] S5x1x1
  slices_S5x256x256_S5x1x256_0_234_0 : S5x256x256.Slices ![0, 234, 0] S5x1x256
  slices_S5x256x256_S5x256x1_0_0_234 : S5x256x256.Slices ![0, 0, 234] S5x256x1
  slices_S5x1x256_S5x1x1_0_0_234 : S5x1x256.Slices ![0, 0, 234] S5x1x1
  slices_S5x256x256_S5x1x256_0_235_0 : S5x256x256.Slices ![0, 235, 0] S5x1x256
  slices_S5x256x256_S5x256x1_0_0_235 : S5x256x256.Slices ![0, 0, 235] S5x256x1
  slices_S5x1x256_S5x1x1_0_0_235 : S5x1x256.Slices ![0, 0, 235] S5x1x1
  slices_S5x256x256_S5x1x256_0_236_0 : S5x256x256.Slices ![0, 236, 0] S5x1x256
  slices_S5x256x256_S5x256x1_0_0_236 : S5x256x256.Slices ![0, 0, 236] S5x256x1
  slices_S5x1x256_S5x1x1_0_0_236 : S5x1x256.Slices ![0, 0, 236] S5x1x1
  slices_S5x256x256_S5x1x256_0_237_0 : S5x256x256.Slices ![0, 237, 0] S5x1x256
  slices_S5x256x256_S5x256x1_0_0_237 : S5x256x256.Slices ![0, 0, 237] S5x256x1
  slices_S5x1x256_S5x1x1_0_0_237 : S5x1x256.Slices ![0, 0, 237] S5x1x1
  slices_S5x256x256_S5x1x256_0_238_0 : S5x256x256.Slices ![0, 238, 0] S5x1x256
  slices_S5x256x256_S5x256x1_0_0_238 : S5x256x256.Slices ![0, 0, 238] S5x256x1
  slices_S5x1x256_S5x1x1_0_0_238 : S5x1x256.Slices ![0, 0, 238] S5x1x1
  slices_S5x256x256_S5x1x256_0_239_0 : S5x256x256.Slices ![0, 239, 0] S5x1x256
  slices_S5x256x256_S5x256x1_0_0_239 : S5x256x256.Slices ![0, 0, 239] S5x256x1
  slices_S5x1x256_S5x1x1_0_0_239 : S5x1x256.Slices ![0, 0, 239] S5x1x1
  slices_S5x256x256_S5x1x256_0_240_0 : S5x256x256.Slices ![0, 240, 0] S5x1x256
  slices_S5x256x256_S5x256x1_0_0_240 : S5x256x256.Slices ![0, 0, 240] S5x256x1
  slices_S5x1x256_S5x1x1_0_0_240 : S5x1x256.Slices ![0, 0, 240] S5x1x1
  slices_S5x256x256_S5x1x256_0_241_0 : S5x256x256.Slices ![0, 241, 0] S5x1x256
  slices_S5x256x256_S5x256x1_0_0_241 : S5x256x256.Slices ![0, 0, 241] S5x256x1
  slices_S5x1x256_S5x1x1_0_0_241 : S5x1x256.Slices ![0, 0, 241] S5x1x1
  slices_S5x256x256_S5x1x256_0_242_0 : S5x256x256.Slices ![0, 242, 0] S5x1x256
  slices_S5x256x256_S5x256x1_0_0_242 : S5x256x256.Slices ![0, 0, 242] S5x256x1
  slices_S5x1x256_S5x1x1_0_0_242 : S5x1x256.Slices ![0, 0, 242] S5x1x1
  slices_S5x256x256_S5x1x256_0_243_0 : S5x256x256.Slices ![0, 243, 0] S5x1x256
  slices_S5x256x256_S5x256x1_0_0_243 : S5x256x256.Slices ![0, 0, 243] S5x256x1
  slices_S5x1x256_S5x1x1_0_0_243 : S5x1x256.Slices ![0, 0, 243] S5x1x1
  slices_S5x256x256_S5x1x256_0_244_0 : S5x256x256.Slices ![0, 244, 0] S5x1x256
  slices_S5x256x256_S5x256x1_0_0_244 : S5x256x256.Slices ![0, 0, 244] S5x256x1
  slices_S5x1x256_S5x1x1_0_0_244 : S5x1x256.Slices ![0, 0, 244] S5x1x1
  slices_S5x256x256_S5x1x256_0_245_0 : S5x256x256.Slices ![0, 245, 0] S5x1x256
  slices_S5x256x256_S5x256x1_0_0_245 : S5x256x256.Slices ![0, 0, 245] S5x256x1
  slices_S5x1x256_S5x1x1_0_0_245 : S5x1x256.Slices ![0, 0, 245] S5x1x1
  slices_S5x256x256_S5x1x256_0_246_0 : S5x256x256.Slices ![0, 246, 0] S5x1x256
  slices_S5x256x256_S5x256x1_0_0_246 : S5x256x256.Slices ![0, 0, 246] S5x256x1
  slices_S5x1x256_S5x1x1_0_0_246 : S5x1x256.Slices ![0, 0, 246] S5x1x1
  slices_S5x256x256_S5x1x256_0_247_0 : S5x256x256.Slices ![0, 247, 0] S5x1x256
  slices_S5x256x256_S5x256x1_0_0_247 : S5x256x256.Slices ![0, 0, 247] S5x256x1
  slices_S5x1x256_S5x1x1_0_0_247 : S5x1x256.Slices ![0, 0, 247] S5x1x1
  slices_S5x256x256_S5x1x256_0_248_0 : S5x256x256.Slices ![0, 248, 0] S5x1x256
  slices_S5x256x256_S5x256x1_0_0_248 : S5x256x256.Slices ![0, 0, 248] S5x256x1
  slices_S5x1x256_S5x1x1_0_0_248 : S5x1x256.Slices ![0, 0, 248] S5x1x1
  slices_S5x256x256_S5x1x256_0_249_0 : S5x256x256.Slices ![0, 249, 0] S5x1x256
  slices_S5x256x256_S5x256x1_0_0_249 : S5x256x256.Slices ![0, 0, 249] S5x256x1
  slices_S5x1x256_S5x1x1_0_0_249 : S5x1x256.Slices ![0, 0, 249] S5x1x1
  slices_S5x256x256_S5x1x256_0_250_0 : S5x256x256.Slices ![0, 250, 0] S5x1x256
  slices_S5x256x256_S5x256x1_0_0_250 : S5x256x256.Slices ![0, 0, 250] S5x256x1
  slices_S5x1x256_S5x1x1_0_0_250 : S5x1x256.Slices ![0, 0, 250] S5x1x1
  slices_S5x256x256_S5x1x256_0_251_0 : S5x256x256.Slices ![0, 251, 0] S5x1x256
  slices_S5x256x256_S5x256x1_0_0_251 : S5x256x256.Slices ![0, 0, 251] S5x256x1
  slices_S5x1x256_S5x1x1_0_0_251 : S5x1x256.Slices ![0, 0, 251] S5x1x1
  slices_S5x256x256_S5x1x256_0_252_0 : S5x256x256.Slices ![0, 252, 0] S5x1x256
  slices_S5x256x256_S5x256x1_0_0_252 : S5x256x256.Slices ![0, 0, 252] S5x256x1
  slices_S5x1x256_S5x1x1_0_0_252 : S5x1x256.Slices ![0, 0, 252] S5x1x1
  slices_S5x256x256_S5x1x256_0_253_0 : S5x256x256.Slices ![0, 253, 0] S5x1x256
  slices_S5x256x256_S5x256x1_0_0_253 : S5x256x256.Slices ![0, 0, 253] S5x256x1
  slices_S5x1x256_S5x1x1_0_0_253 : S5x1x256.Slices ![0, 0, 253] S5x1x1
  slices_S5x256x256_S5x1x256_0_254_0 : S5x256x256.Slices ![0, 254, 0] S5x1x256
  slices_S5x256x256_S5x256x1_0_0_254 : S5x256x256.Slices ![0, 0, 254] S5x256x1
  slices_S5x1x256_S5x1x1_0_0_254 : S5x1x256.Slices ![0, 0, 254] S5x1x1
  slices_S5x256x256_S5x1x256_0_255_0 : S5x256x256.Slices ![0, 255, 0] S5x1x256
  slices_S5x256x256_S5x256x1_0_0_255 : S5x256x256.Slices ![0, 0, 255] S5x256x1
  slices_S5x1x256_S5x1x1_0_0_255 : S5x1x256.Slices ![0, 0, 255] S5x1x1
  slices_S5x256x256_S1x1x1_1_1_1 : S5x256x256.Slices ![1, 1, 1] S1x1x1
  bcast_S_S1x256x256 : S_.BroadcastsInDim S1x256x256 (![] : Fin 0 → Fin S1x256x256.rank)
  bcast_S1x1x1_S1x256x256_0_1_2 : S1x1x1.BroadcastsInDim S1x256x256 (![0, 1, 2] : Fin 3 → Fin S1x256x256.rank)
  slices_S5x256x256_S1x1x1_2_2_2 : S5x256x256.Slices ![2, 2, 2] S1x1x1
  slices_S5x256x256_S1x1x1_2_2_3 : S5x256x256.Slices ![2, 2, 3] S1x1x1
  slices_S5x256x256_S1x1x1_2_3_2 : S5x256x256.Slices ![2, 3, 2] S1x1x1
  slices_S5x256x256_S1x1x1_2_3_3 : S5x256x256.Slices ![2, 3, 3] S1x1x1
  slices_S5x256x256_S1x1x1_3_1_1 : S5x256x256.Slices ![3, 1, 1] S1x1x1
  slices_S5x256x256_S1x1x1_4_3_3 : S5x256x256.Slices ![4, 3, 3] S1x1x1
  slices_S5x256x256_S1x1x1_4_3_4 : S5x256x256.Slices ![4, 3, 4] S1x1x1
  slices_S5x256x256_S1x1x1_4_4_3 : S5x256x256.Slices ![4, 4, 3] S1x1x1
  slices_S5x256x256_S1x1x1_4_4_4 : S5x256x256.Slices ![4, 4, 4] S1x1x1
  concatenates_S1x256x256_S1x256x256_S2x256x256_d0 : Shape.Concatenates [S1x256x256, S1x256x256] S2x256x256 0
  slices_S2x256x256_S2x1x256_0_0_0 : S2x256x256.Slices ![0, 0, 0] S2x1x256
  slices_S2x256x256_S2x256x1_0_0_0 : S2x256x256.Slices ![0, 0, 0] S2x256x1
  slices_S2x1x256_S2x1x1_0_0_0 : S2x1x256.Slices ![0, 0, 0] S2x1x1
  bcast_S2x1x1_S2x256x1_0_1_2 : S2x1x1.BroadcastsInDim S2x256x1 (![0, 1, 2] : Fin 3 → Fin S2x256x1.rank)
  bcast_S2x256x1_S2x256x256_0_1_2 : S2x256x1.BroadcastsInDim S2x256x256 (![0, 1, 2] : Fin 3 → Fin S2x256x256.rank)
  bcast_S_S2x256x256 : S_.BroadcastsInDim S2x256x256 (![] : Fin 0 → Fin S2x256x256.rank)
  bcast_S2x1x256_S2x256x256_0_1_2 : S2x1x256.BroadcastsInDim S2x256x256 (![0, 1, 2] : Fin 3 → Fin S2x256x256.rank)
  slices_S2x256x256_S2x1x256_0_1_0 : S2x256x256.Slices ![0, 1, 0] S2x1x256
  slices_S2x256x256_S2x256x1_0_0_1 : S2x256x256.Slices ![0, 0, 1] S2x256x1
  slices_S2x1x256_S2x1x1_0_0_1 : S2x1x256.Slices ![0, 0, 1] S2x1x1
  slices_S2x256x256_S2x1x256_0_2_0 : S2x256x256.Slices ![0, 2, 0] S2x1x256
  slices_S2x256x256_S2x256x1_0_0_2 : S2x256x256.Slices ![0, 0, 2] S2x256x1
  slices_S2x1x256_S2x1x1_0_0_2 : S2x1x256.Slices ![0, 0, 2] S2x1x1
  slices_S2x256x256_S2x1x256_0_3_0 : S2x256x256.Slices ![0, 3, 0] S2x1x256
  slices_S2x256x256_S2x256x1_0_0_3 : S2x256x256.Slices ![0, 0, 3] S2x256x1
  slices_S2x1x256_S2x1x1_0_0_3 : S2x1x256.Slices ![0, 0, 3] S2x1x1
  slices_S2x256x256_S2x1x256_0_4_0 : S2x256x256.Slices ![0, 4, 0] S2x1x256
  slices_S2x256x256_S2x256x1_0_0_4 : S2x256x256.Slices ![0, 0, 4] S2x256x1
  slices_S2x1x256_S2x1x1_0_0_4 : S2x1x256.Slices ![0, 0, 4] S2x1x1
  slices_S2x256x256_S2x1x256_0_5_0 : S2x256x256.Slices ![0, 5, 0] S2x1x256
  slices_S2x256x256_S2x256x1_0_0_5 : S2x256x256.Slices ![0, 0, 5] S2x256x1
  slices_S2x1x256_S2x1x1_0_0_5 : S2x1x256.Slices ![0, 0, 5] S2x1x1
  slices_S2x256x256_S2x1x256_0_6_0 : S2x256x256.Slices ![0, 6, 0] S2x1x256
  slices_S2x256x256_S2x256x1_0_0_6 : S2x256x256.Slices ![0, 0, 6] S2x256x1
  slices_S2x1x256_S2x1x1_0_0_6 : S2x1x256.Slices ![0, 0, 6] S2x1x1
  slices_S2x256x256_S2x1x256_0_7_0 : S2x256x256.Slices ![0, 7, 0] S2x1x256
  slices_S2x256x256_S2x256x1_0_0_7 : S2x256x256.Slices ![0, 0, 7] S2x256x1
  slices_S2x1x256_S2x1x1_0_0_7 : S2x1x256.Slices ![0, 0, 7] S2x1x1
  slices_S2x256x256_S2x1x256_0_8_0 : S2x256x256.Slices ![0, 8, 0] S2x1x256
  slices_S2x256x256_S2x256x1_0_0_8 : S2x256x256.Slices ![0, 0, 8] S2x256x1
  slices_S2x1x256_S2x1x1_0_0_8 : S2x1x256.Slices ![0, 0, 8] S2x1x1
  slices_S2x256x256_S2x1x256_0_9_0 : S2x256x256.Slices ![0, 9, 0] S2x1x256
  slices_S2x256x256_S2x256x1_0_0_9 : S2x256x256.Slices ![0, 0, 9] S2x256x1
  slices_S2x1x256_S2x1x1_0_0_9 : S2x1x256.Slices ![0, 0, 9] S2x1x1
  slices_S2x256x256_S2x1x256_0_10_0 : S2x256x256.Slices ![0, 10, 0] S2x1x256
  slices_S2x256x256_S2x256x1_0_0_10 : S2x256x256.Slices ![0, 0, 10] S2x256x1
  slices_S2x1x256_S2x1x1_0_0_10 : S2x1x256.Slices ![0, 0, 10] S2x1x1
  slices_S2x256x256_S2x1x256_0_11_0 : S2x256x256.Slices ![0, 11, 0] S2x1x256
  slices_S2x256x256_S2x256x1_0_0_11 : S2x256x256.Slices ![0, 0, 11] S2x256x1
  slices_S2x1x256_S2x1x1_0_0_11 : S2x1x256.Slices ![0, 0, 11] S2x1x1
  slices_S2x256x256_S2x1x256_0_12_0 : S2x256x256.Slices ![0, 12, 0] S2x1x256
  slices_S2x256x256_S2x256x1_0_0_12 : S2x256x256.Slices ![0, 0, 12] S2x256x1
  slices_S2x1x256_S2x1x1_0_0_12 : S2x1x256.Slices ![0, 0, 12] S2x1x1
  slices_S2x256x256_S2x1x256_0_13_0 : S2x256x256.Slices ![0, 13, 0] S2x1x256
  slices_S2x256x256_S2x256x1_0_0_13 : S2x256x256.Slices ![0, 0, 13] S2x256x1
  slices_S2x1x256_S2x1x1_0_0_13 : S2x1x256.Slices ![0, 0, 13] S2x1x1
  slices_S2x256x256_S2x1x256_0_14_0 : S2x256x256.Slices ![0, 14, 0] S2x1x256
  slices_S2x256x256_S2x256x1_0_0_14 : S2x256x256.Slices ![0, 0, 14] S2x256x1
  slices_S2x1x256_S2x1x1_0_0_14 : S2x1x256.Slices ![0, 0, 14] S2x1x1
  slices_S2x256x256_S2x1x256_0_15_0 : S2x256x256.Slices ![0, 15, 0] S2x1x256
  slices_S2x256x256_S2x256x1_0_0_15 : S2x256x256.Slices ![0, 0, 15] S2x256x1
  slices_S2x1x256_S2x1x1_0_0_15 : S2x1x256.Slices ![0, 0, 15] S2x1x1
  slices_S2x256x256_S2x1x256_0_16_0 : S2x256x256.Slices ![0, 16, 0] S2x1x256
  slices_S2x256x256_S2x256x1_0_0_16 : S2x256x256.Slices ![0, 0, 16] S2x256x1
  slices_S2x1x256_S2x1x1_0_0_16 : S2x1x256.Slices ![0, 0, 16] S2x1x1
  slices_S2x256x256_S2x1x256_0_17_0 : S2x256x256.Slices ![0, 17, 0] S2x1x256
  slices_S2x256x256_S2x256x1_0_0_17 : S2x256x256.Slices ![0, 0, 17] S2x256x1
  slices_S2x1x256_S2x1x1_0_0_17 : S2x1x256.Slices ![0, 0, 17] S2x1x1
  slices_S2x256x256_S2x1x256_0_18_0 : S2x256x256.Slices ![0, 18, 0] S2x1x256
  slices_S2x256x256_S2x256x1_0_0_18 : S2x256x256.Slices ![0, 0, 18] S2x256x1
  slices_S2x1x256_S2x1x1_0_0_18 : S2x1x256.Slices ![0, 0, 18] S2x1x1
  slices_S2x256x256_S2x1x256_0_19_0 : S2x256x256.Slices ![0, 19, 0] S2x1x256
  slices_S2x256x256_S2x256x1_0_0_19 : S2x256x256.Slices ![0, 0, 19] S2x256x1
  slices_S2x1x256_S2x1x1_0_0_19 : S2x1x256.Slices ![0, 0, 19] S2x1x1
  slices_S2x256x256_S2x1x256_0_20_0 : S2x256x256.Slices ![0, 20, 0] S2x1x256
  slices_S2x256x256_S2x256x1_0_0_20 : S2x256x256.Slices ![0, 0, 20] S2x256x1
  slices_S2x1x256_S2x1x1_0_0_20 : S2x1x256.Slices ![0, 0, 20] S2x1x1
  slices_S2x256x256_S2x1x256_0_21_0 : S2x256x256.Slices ![0, 21, 0] S2x1x256
  slices_S2x256x256_S2x256x1_0_0_21 : S2x256x256.Slices ![0, 0, 21] S2x256x1
  slices_S2x1x256_S2x1x1_0_0_21 : S2x1x256.Slices ![0, 0, 21] S2x1x1
  slices_S2x256x256_S2x1x256_0_22_0 : S2x256x256.Slices ![0, 22, 0] S2x1x256
  slices_S2x256x256_S2x256x1_0_0_22 : S2x256x256.Slices ![0, 0, 22] S2x256x1
  slices_S2x1x256_S2x1x1_0_0_22 : S2x1x256.Slices ![0, 0, 22] S2x1x1
  slices_S2x256x256_S2x1x256_0_23_0 : S2x256x256.Slices ![0, 23, 0] S2x1x256
  slices_S2x256x256_S2x256x1_0_0_23 : S2x256x256.Slices ![0, 0, 23] S2x256x1
  slices_S2x1x256_S2x1x1_0_0_23 : S2x1x256.Slices ![0, 0, 23] S2x1x1
  slices_S2x256x256_S2x1x256_0_24_0 : S2x256x256.Slices ![0, 24, 0] S2x1x256
  slices_S2x256x256_S2x256x1_0_0_24 : S2x256x256.Slices ![0, 0, 24] S2x256x1
  slices_S2x1x256_S2x1x1_0_0_24 : S2x1x256.Slices ![0, 0, 24] S2x1x1
  slices_S2x256x256_S2x1x256_0_25_0 : S2x256x256.Slices ![0, 25, 0] S2x1x256
  slices_S2x256x256_S2x256x1_0_0_25 : S2x256x256.Slices ![0, 0, 25] S2x256x1
  slices_S2x1x256_S2x1x1_0_0_25 : S2x1x256.Slices ![0, 0, 25] S2x1x1
  slices_S2x256x256_S2x1x256_0_26_0 : S2x256x256.Slices ![0, 26, 0] S2x1x256
  slices_S2x256x256_S2x256x1_0_0_26 : S2x256x256.Slices ![0, 0, 26] S2x256x1
  slices_S2x1x256_S2x1x1_0_0_26 : S2x1x256.Slices ![0, 0, 26] S2x1x1
  slices_S2x256x256_S2x1x256_0_27_0 : S2x256x256.Slices ![0, 27, 0] S2x1x256
  slices_S2x256x256_S2x256x1_0_0_27 : S2x256x256.Slices ![0, 0, 27] S2x256x1
  slices_S2x1x256_S2x1x1_0_0_27 : S2x1x256.Slices ![0, 0, 27] S2x1x1
  slices_S2x256x256_S2x1x256_0_28_0 : S2x256x256.Slices ![0, 28, 0] S2x1x256
  slices_S2x256x256_S2x256x1_0_0_28 : S2x256x256.Slices ![0, 0, 28] S2x256x1
  slices_S2x1x256_S2x1x1_0_0_28 : S2x1x256.Slices ![0, 0, 28] S2x1x1
  slices_S2x256x256_S2x1x256_0_29_0 : S2x256x256.Slices ![0, 29, 0] S2x1x256
  slices_S2x256x256_S2x256x1_0_0_29 : S2x256x256.Slices ![0, 0, 29] S2x256x1
  slices_S2x1x256_S2x1x1_0_0_29 : S2x1x256.Slices ![0, 0, 29] S2x1x1
  slices_S2x256x256_S2x1x256_0_30_0 : S2x256x256.Slices ![0, 30, 0] S2x1x256
  slices_S2x256x256_S2x256x1_0_0_30 : S2x256x256.Slices ![0, 0, 30] S2x256x1
  slices_S2x1x256_S2x1x1_0_0_30 : S2x1x256.Slices ![0, 0, 30] S2x1x1
  slices_S2x256x256_S2x1x256_0_31_0 : S2x256x256.Slices ![0, 31, 0] S2x1x256
  slices_S2x256x256_S2x256x1_0_0_31 : S2x256x256.Slices ![0, 0, 31] S2x256x1
  slices_S2x1x256_S2x1x1_0_0_31 : S2x1x256.Slices ![0, 0, 31] S2x1x1
  slices_S2x256x256_S2x1x256_0_32_0 : S2x256x256.Slices ![0, 32, 0] S2x1x256
  slices_S2x256x256_S2x256x1_0_0_32 : S2x256x256.Slices ![0, 0, 32] S2x256x1
  slices_S2x1x256_S2x1x1_0_0_32 : S2x1x256.Slices ![0, 0, 32] S2x1x1
  slices_S2x256x256_S2x1x256_0_33_0 : S2x256x256.Slices ![0, 33, 0] S2x1x256
  slices_S2x256x256_S2x256x1_0_0_33 : S2x256x256.Slices ![0, 0, 33] S2x256x1
  slices_S2x1x256_S2x1x1_0_0_33 : S2x1x256.Slices ![0, 0, 33] S2x1x1
  slices_S2x256x256_S2x1x256_0_34_0 : S2x256x256.Slices ![0, 34, 0] S2x1x256
  slices_S2x256x256_S2x256x1_0_0_34 : S2x256x256.Slices ![0, 0, 34] S2x256x1
  slices_S2x1x256_S2x1x1_0_0_34 : S2x1x256.Slices ![0, 0, 34] S2x1x1
  slices_S2x256x256_S2x1x256_0_35_0 : S2x256x256.Slices ![0, 35, 0] S2x1x256
  slices_S2x256x256_S2x256x1_0_0_35 : S2x256x256.Slices ![0, 0, 35] S2x256x1
  slices_S2x1x256_S2x1x1_0_0_35 : S2x1x256.Slices ![0, 0, 35] S2x1x1
  slices_S2x256x256_S2x1x256_0_36_0 : S2x256x256.Slices ![0, 36, 0] S2x1x256
  slices_S2x256x256_S2x256x1_0_0_36 : S2x256x256.Slices ![0, 0, 36] S2x256x1
  slices_S2x1x256_S2x1x1_0_0_36 : S2x1x256.Slices ![0, 0, 36] S2x1x1
  slices_S2x256x256_S2x1x256_0_37_0 : S2x256x256.Slices ![0, 37, 0] S2x1x256
  slices_S2x256x256_S2x256x1_0_0_37 : S2x256x256.Slices ![0, 0, 37] S2x256x1
  slices_S2x1x256_S2x1x1_0_0_37 : S2x1x256.Slices ![0, 0, 37] S2x1x1
  slices_S2x256x256_S2x1x256_0_38_0 : S2x256x256.Slices ![0, 38, 0] S2x1x256
  slices_S2x256x256_S2x256x1_0_0_38 : S2x256x256.Slices ![0, 0, 38] S2x256x1
  slices_S2x1x256_S2x1x1_0_0_38 : S2x1x256.Slices ![0, 0, 38] S2x1x1
  slices_S2x256x256_S2x1x256_0_39_0 : S2x256x256.Slices ![0, 39, 0] S2x1x256
  slices_S2x256x256_S2x256x1_0_0_39 : S2x256x256.Slices ![0, 0, 39] S2x256x1
  slices_S2x1x256_S2x1x1_0_0_39 : S2x1x256.Slices ![0, 0, 39] S2x1x1
  slices_S2x256x256_S2x1x256_0_40_0 : S2x256x256.Slices ![0, 40, 0] S2x1x256
  slices_S2x256x256_S2x256x1_0_0_40 : S2x256x256.Slices ![0, 0, 40] S2x256x1
  slices_S2x1x256_S2x1x1_0_0_40 : S2x1x256.Slices ![0, 0, 40] S2x1x1
  slices_S2x256x256_S2x1x256_0_41_0 : S2x256x256.Slices ![0, 41, 0] S2x1x256
  slices_S2x256x256_S2x256x1_0_0_41 : S2x256x256.Slices ![0, 0, 41] S2x256x1
  slices_S2x1x256_S2x1x1_0_0_41 : S2x1x256.Slices ![0, 0, 41] S2x1x1
  slices_S2x256x256_S2x1x256_0_42_0 : S2x256x256.Slices ![0, 42, 0] S2x1x256
  slices_S2x256x256_S2x256x1_0_0_42 : S2x256x256.Slices ![0, 0, 42] S2x256x1
  slices_S2x1x256_S2x1x1_0_0_42 : S2x1x256.Slices ![0, 0, 42] S2x1x1
  slices_S2x256x256_S2x1x256_0_43_0 : S2x256x256.Slices ![0, 43, 0] S2x1x256
  slices_S2x256x256_S2x256x1_0_0_43 : S2x256x256.Slices ![0, 0, 43] S2x256x1
  slices_S2x1x256_S2x1x1_0_0_43 : S2x1x256.Slices ![0, 0, 43] S2x1x1
  slices_S2x256x256_S2x1x256_0_44_0 : S2x256x256.Slices ![0, 44, 0] S2x1x256
  slices_S2x256x256_S2x256x1_0_0_44 : S2x256x256.Slices ![0, 0, 44] S2x256x1
  slices_S2x1x256_S2x1x1_0_0_44 : S2x1x256.Slices ![0, 0, 44] S2x1x1
  slices_S2x256x256_S2x1x256_0_45_0 : S2x256x256.Slices ![0, 45, 0] S2x1x256
  slices_S2x256x256_S2x256x1_0_0_45 : S2x256x256.Slices ![0, 0, 45] S2x256x1
  slices_S2x1x256_S2x1x1_0_0_45 : S2x1x256.Slices ![0, 0, 45] S2x1x1
  slices_S2x256x256_S2x1x256_0_46_0 : S2x256x256.Slices ![0, 46, 0] S2x1x256
  slices_S2x256x256_S2x256x1_0_0_46 : S2x256x256.Slices ![0, 0, 46] S2x256x1
  slices_S2x1x256_S2x1x1_0_0_46 : S2x1x256.Slices ![0, 0, 46] S2x1x1
  slices_S2x256x256_S2x1x256_0_47_0 : S2x256x256.Slices ![0, 47, 0] S2x1x256
  slices_S2x256x256_S2x256x1_0_0_47 : S2x256x256.Slices ![0, 0, 47] S2x256x1
  slices_S2x1x256_S2x1x1_0_0_47 : S2x1x256.Slices ![0, 0, 47] S2x1x1
  slices_S2x256x256_S2x1x256_0_48_0 : S2x256x256.Slices ![0, 48, 0] S2x1x256
  slices_S2x256x256_S2x256x1_0_0_48 : S2x256x256.Slices ![0, 0, 48] S2x256x1
  slices_S2x1x256_S2x1x1_0_0_48 : S2x1x256.Slices ![0, 0, 48] S2x1x1
  slices_S2x256x256_S2x1x256_0_49_0 : S2x256x256.Slices ![0, 49, 0] S2x1x256
  slices_S2x256x256_S2x256x1_0_0_49 : S2x256x256.Slices ![0, 0, 49] S2x256x1
  slices_S2x1x256_S2x1x1_0_0_49 : S2x1x256.Slices ![0, 0, 49] S2x1x1
  slices_S2x256x256_S2x1x256_0_50_0 : S2x256x256.Slices ![0, 50, 0] S2x1x256
  slices_S2x256x256_S2x256x1_0_0_50 : S2x256x256.Slices ![0, 0, 50] S2x256x1
  slices_S2x1x256_S2x1x1_0_0_50 : S2x1x256.Slices ![0, 0, 50] S2x1x1
  slices_S2x256x256_S2x1x256_0_51_0 : S2x256x256.Slices ![0, 51, 0] S2x1x256
  slices_S2x256x256_S2x256x1_0_0_51 : S2x256x256.Slices ![0, 0, 51] S2x256x1
  slices_S2x1x256_S2x1x1_0_0_51 : S2x1x256.Slices ![0, 0, 51] S2x1x1
  slices_S2x256x256_S2x1x256_0_52_0 : S2x256x256.Slices ![0, 52, 0] S2x1x256
  slices_S2x256x256_S2x256x1_0_0_52 : S2x256x256.Slices ![0, 0, 52] S2x256x1
  slices_S2x1x256_S2x1x1_0_0_52 : S2x1x256.Slices ![0, 0, 52] S2x1x1
  slices_S2x256x256_S2x1x256_0_53_0 : S2x256x256.Slices ![0, 53, 0] S2x1x256
  slices_S2x256x256_S2x256x1_0_0_53 : S2x256x256.Slices ![0, 0, 53] S2x256x1
  slices_S2x1x256_S2x1x1_0_0_53 : S2x1x256.Slices ![0, 0, 53] S2x1x1
  slices_S2x256x256_S2x1x256_0_54_0 : S2x256x256.Slices ![0, 54, 0] S2x1x256
  slices_S2x256x256_S2x256x1_0_0_54 : S2x256x256.Slices ![0, 0, 54] S2x256x1
  slices_S2x1x256_S2x1x1_0_0_54 : S2x1x256.Slices ![0, 0, 54] S2x1x1
  slices_S2x256x256_S2x1x256_0_55_0 : S2x256x256.Slices ![0, 55, 0] S2x1x256
  slices_S2x256x256_S2x256x1_0_0_55 : S2x256x256.Slices ![0, 0, 55] S2x256x1
  slices_S2x1x256_S2x1x1_0_0_55 : S2x1x256.Slices ![0, 0, 55] S2x1x1
  slices_S2x256x256_S2x1x256_0_56_0 : S2x256x256.Slices ![0, 56, 0] S2x1x256
  slices_S2x256x256_S2x256x1_0_0_56 : S2x256x256.Slices ![0, 0, 56] S2x256x1
  slices_S2x1x256_S2x1x1_0_0_56 : S2x1x256.Slices ![0, 0, 56] S2x1x1
  slices_S2x256x256_S2x1x256_0_57_0 : S2x256x256.Slices ![0, 57, 0] S2x1x256
  slices_S2x256x256_S2x256x1_0_0_57 : S2x256x256.Slices ![0, 0, 57] S2x256x1
  slices_S2x1x256_S2x1x1_0_0_57 : S2x1x256.Slices ![0, 0, 57] S2x1x1
  slices_S2x256x256_S2x1x256_0_58_0 : S2x256x256.Slices ![0, 58, 0] S2x1x256
  slices_S2x256x256_S2x256x1_0_0_58 : S2x256x256.Slices ![0, 0, 58] S2x256x1
  slices_S2x1x256_S2x1x1_0_0_58 : S2x1x256.Slices ![0, 0, 58] S2x1x1
  slices_S2x256x256_S2x1x256_0_59_0 : S2x256x256.Slices ![0, 59, 0] S2x1x256
  slices_S2x256x256_S2x256x1_0_0_59 : S2x256x256.Slices ![0, 0, 59] S2x256x1
  slices_S2x1x256_S2x1x1_0_0_59 : S2x1x256.Slices ![0, 0, 59] S2x1x1
  slices_S2x256x256_S2x1x256_0_60_0 : S2x256x256.Slices ![0, 60, 0] S2x1x256
  slices_S2x256x256_S2x256x1_0_0_60 : S2x256x256.Slices ![0, 0, 60] S2x256x1
  slices_S2x1x256_S2x1x1_0_0_60 : S2x1x256.Slices ![0, 0, 60] S2x1x1
  slices_S2x256x256_S2x1x256_0_61_0 : S2x256x256.Slices ![0, 61, 0] S2x1x256
  slices_S2x256x256_S2x256x1_0_0_61 : S2x256x256.Slices ![0, 0, 61] S2x256x1
  slices_S2x1x256_S2x1x1_0_0_61 : S2x1x256.Slices ![0, 0, 61] S2x1x1
  slices_S2x256x256_S2x1x256_0_62_0 : S2x256x256.Slices ![0, 62, 0] S2x1x256
  slices_S2x256x256_S2x256x1_0_0_62 : S2x256x256.Slices ![0, 0, 62] S2x256x1
  slices_S2x1x256_S2x1x1_0_0_62 : S2x1x256.Slices ![0, 0, 62] S2x1x1
  slices_S2x256x256_S2x1x256_0_63_0 : S2x256x256.Slices ![0, 63, 0] S2x1x256
  slices_S2x256x256_S2x256x1_0_0_63 : S2x256x256.Slices ![0, 0, 63] S2x256x1
  slices_S2x1x256_S2x1x1_0_0_63 : S2x1x256.Slices ![0, 0, 63] S2x1x1
  slices_S2x256x256_S2x1x256_0_64_0 : S2x256x256.Slices ![0, 64, 0] S2x1x256
  slices_S2x256x256_S2x256x1_0_0_64 : S2x256x256.Slices ![0, 0, 64] S2x256x1
  slices_S2x1x256_S2x1x1_0_0_64 : S2x1x256.Slices ![0, 0, 64] S2x1x1
  slices_S2x256x256_S2x1x256_0_65_0 : S2x256x256.Slices ![0, 65, 0] S2x1x256
  slices_S2x256x256_S2x256x1_0_0_65 : S2x256x256.Slices ![0, 0, 65] S2x256x1
  slices_S2x1x256_S2x1x1_0_0_65 : S2x1x256.Slices ![0, 0, 65] S2x1x1
  slices_S2x256x256_S2x1x256_0_66_0 : S2x256x256.Slices ![0, 66, 0] S2x1x256
  slices_S2x256x256_S2x256x1_0_0_66 : S2x256x256.Slices ![0, 0, 66] S2x256x1
  slices_S2x1x256_S2x1x1_0_0_66 : S2x1x256.Slices ![0, 0, 66] S2x1x1
  slices_S2x256x256_S2x1x256_0_67_0 : S2x256x256.Slices ![0, 67, 0] S2x1x256
  slices_S2x256x256_S2x256x1_0_0_67 : S2x256x256.Slices ![0, 0, 67] S2x256x1
  slices_S2x1x256_S2x1x1_0_0_67 : S2x1x256.Slices ![0, 0, 67] S2x1x1
  slices_S2x256x256_S2x1x256_0_68_0 : S2x256x256.Slices ![0, 68, 0] S2x1x256
  slices_S2x256x256_S2x256x1_0_0_68 : S2x256x256.Slices ![0, 0, 68] S2x256x1
  slices_S2x1x256_S2x1x1_0_0_68 : S2x1x256.Slices ![0, 0, 68] S2x1x1
  slices_S2x256x256_S2x1x256_0_69_0 : S2x256x256.Slices ![0, 69, 0] S2x1x256
  slices_S2x256x256_S2x256x1_0_0_69 : S2x256x256.Slices ![0, 0, 69] S2x256x1
  slices_S2x1x256_S2x1x1_0_0_69 : S2x1x256.Slices ![0, 0, 69] S2x1x1
  slices_S2x256x256_S2x1x256_0_70_0 : S2x256x256.Slices ![0, 70, 0] S2x1x256
  slices_S2x256x256_S2x256x1_0_0_70 : S2x256x256.Slices ![0, 0, 70] S2x256x1
  slices_S2x1x256_S2x1x1_0_0_70 : S2x1x256.Slices ![0, 0, 70] S2x1x1
  slices_S2x256x256_S2x1x256_0_71_0 : S2x256x256.Slices ![0, 71, 0] S2x1x256
  slices_S2x256x256_S2x256x1_0_0_71 : S2x256x256.Slices ![0, 0, 71] S2x256x1
  slices_S2x1x256_S2x1x1_0_0_71 : S2x1x256.Slices ![0, 0, 71] S2x1x1
  slices_S2x256x256_S2x1x256_0_72_0 : S2x256x256.Slices ![0, 72, 0] S2x1x256
  slices_S2x256x256_S2x256x1_0_0_72 : S2x256x256.Slices ![0, 0, 72] S2x256x1
  slices_S2x1x256_S2x1x1_0_0_72 : S2x1x256.Slices ![0, 0, 72] S2x1x1
  slices_S2x256x256_S2x1x256_0_73_0 : S2x256x256.Slices ![0, 73, 0] S2x1x256
  slices_S2x256x256_S2x256x1_0_0_73 : S2x256x256.Slices ![0, 0, 73] S2x256x1
  slices_S2x1x256_S2x1x1_0_0_73 : S2x1x256.Slices ![0, 0, 73] S2x1x1
  slices_S2x256x256_S2x1x256_0_74_0 : S2x256x256.Slices ![0, 74, 0] S2x1x256
  slices_S2x256x256_S2x256x1_0_0_74 : S2x256x256.Slices ![0, 0, 74] S2x256x1
  slices_S2x1x256_S2x1x1_0_0_74 : S2x1x256.Slices ![0, 0, 74] S2x1x1
  slices_S2x256x256_S2x1x256_0_75_0 : S2x256x256.Slices ![0, 75, 0] S2x1x256
  slices_S2x256x256_S2x256x1_0_0_75 : S2x256x256.Slices ![0, 0, 75] S2x256x1
  slices_S2x1x256_S2x1x1_0_0_75 : S2x1x256.Slices ![0, 0, 75] S2x1x1
  slices_S2x256x256_S2x1x256_0_76_0 : S2x256x256.Slices ![0, 76, 0] S2x1x256
  slices_S2x256x256_S2x256x1_0_0_76 : S2x256x256.Slices ![0, 0, 76] S2x256x1
  slices_S2x1x256_S2x1x1_0_0_76 : S2x1x256.Slices ![0, 0, 76] S2x1x1
  slices_S2x256x256_S2x1x256_0_77_0 : S2x256x256.Slices ![0, 77, 0] S2x1x256
  slices_S2x256x256_S2x256x1_0_0_77 : S2x256x256.Slices ![0, 0, 77] S2x256x1
  slices_S2x1x256_S2x1x1_0_0_77 : S2x1x256.Slices ![0, 0, 77] S2x1x1
  slices_S2x256x256_S2x1x256_0_78_0 : S2x256x256.Slices ![0, 78, 0] S2x1x256
  slices_S2x256x256_S2x256x1_0_0_78 : S2x256x256.Slices ![0, 0, 78] S2x256x1
  slices_S2x1x256_S2x1x1_0_0_78 : S2x1x256.Slices ![0, 0, 78] S2x1x1
  slices_S2x256x256_S2x1x256_0_79_0 : S2x256x256.Slices ![0, 79, 0] S2x1x256
  slices_S2x256x256_S2x256x1_0_0_79 : S2x256x256.Slices ![0, 0, 79] S2x256x1
  slices_S2x1x256_S2x1x1_0_0_79 : S2x1x256.Slices ![0, 0, 79] S2x1x1
  slices_S2x256x256_S2x1x256_0_80_0 : S2x256x256.Slices ![0, 80, 0] S2x1x256
  slices_S2x256x256_S2x256x1_0_0_80 : S2x256x256.Slices ![0, 0, 80] S2x256x1
  slices_S2x1x256_S2x1x1_0_0_80 : S2x1x256.Slices ![0, 0, 80] S2x1x1
  slices_S2x256x256_S2x1x256_0_81_0 : S2x256x256.Slices ![0, 81, 0] S2x1x256
  slices_S2x256x256_S2x256x1_0_0_81 : S2x256x256.Slices ![0, 0, 81] S2x256x1
  slices_S2x1x256_S2x1x1_0_0_81 : S2x1x256.Slices ![0, 0, 81] S2x1x1
  slices_S2x256x256_S2x1x256_0_82_0 : S2x256x256.Slices ![0, 82, 0] S2x1x256
  slices_S2x256x256_S2x256x1_0_0_82 : S2x256x256.Slices ![0, 0, 82] S2x256x1
  slices_S2x1x256_S2x1x1_0_0_82 : S2x1x256.Slices ![0, 0, 82] S2x1x1
  slices_S2x256x256_S2x1x256_0_83_0 : S2x256x256.Slices ![0, 83, 0] S2x1x256
  slices_S2x256x256_S2x256x1_0_0_83 : S2x256x256.Slices ![0, 0, 83] S2x256x1
  slices_S2x1x256_S2x1x1_0_0_83 : S2x1x256.Slices ![0, 0, 83] S2x1x1
  slices_S2x256x256_S2x1x256_0_84_0 : S2x256x256.Slices ![0, 84, 0] S2x1x256
  slices_S2x256x256_S2x256x1_0_0_84 : S2x256x256.Slices ![0, 0, 84] S2x256x1
  slices_S2x1x256_S2x1x1_0_0_84 : S2x1x256.Slices ![0, 0, 84] S2x1x1
  slices_S2x256x256_S2x1x256_0_85_0 : S2x256x256.Slices ![0, 85, 0] S2x1x256
  slices_S2x256x256_S2x256x1_0_0_85 : S2x256x256.Slices ![0, 0, 85] S2x256x1
  slices_S2x1x256_S2x1x1_0_0_85 : S2x1x256.Slices ![0, 0, 85] S2x1x1
  slices_S2x256x256_S2x1x256_0_86_0 : S2x256x256.Slices ![0, 86, 0] S2x1x256
  slices_S2x256x256_S2x256x1_0_0_86 : S2x256x256.Slices ![0, 0, 86] S2x256x1
  slices_S2x1x256_S2x1x1_0_0_86 : S2x1x256.Slices ![0, 0, 86] S2x1x1
  slices_S2x256x256_S2x1x256_0_87_0 : S2x256x256.Slices ![0, 87, 0] S2x1x256
  slices_S2x256x256_S2x256x1_0_0_87 : S2x256x256.Slices ![0, 0, 87] S2x256x1
  slices_S2x1x256_S2x1x1_0_0_87 : S2x1x256.Slices ![0, 0, 87] S2x1x1
  slices_S2x256x256_S2x1x256_0_88_0 : S2x256x256.Slices ![0, 88, 0] S2x1x256
  slices_S2x256x256_S2x256x1_0_0_88 : S2x256x256.Slices ![0, 0, 88] S2x256x1
  slices_S2x1x256_S2x1x1_0_0_88 : S2x1x256.Slices ![0, 0, 88] S2x1x1
  slices_S2x256x256_S2x1x256_0_89_0 : S2x256x256.Slices ![0, 89, 0] S2x1x256
  slices_S2x256x256_S2x256x1_0_0_89 : S2x256x256.Slices ![0, 0, 89] S2x256x1
  slices_S2x1x256_S2x1x1_0_0_89 : S2x1x256.Slices ![0, 0, 89] S2x1x1
  slices_S2x256x256_S2x1x256_0_90_0 : S2x256x256.Slices ![0, 90, 0] S2x1x256
  slices_S2x256x256_S2x256x1_0_0_90 : S2x256x256.Slices ![0, 0, 90] S2x256x1
  slices_S2x1x256_S2x1x1_0_0_90 : S2x1x256.Slices ![0, 0, 90] S2x1x1
  slices_S2x256x256_S2x1x256_0_91_0 : S2x256x256.Slices ![0, 91, 0] S2x1x256
  slices_S2x256x256_S2x256x1_0_0_91 : S2x256x256.Slices ![0, 0, 91] S2x256x1
  slices_S2x1x256_S2x1x1_0_0_91 : S2x1x256.Slices ![0, 0, 91] S2x1x1
  slices_S2x256x256_S2x1x256_0_92_0 : S2x256x256.Slices ![0, 92, 0] S2x1x256
  slices_S2x256x256_S2x256x1_0_0_92 : S2x256x256.Slices ![0, 0, 92] S2x256x1
  slices_S2x1x256_S2x1x1_0_0_92 : S2x1x256.Slices ![0, 0, 92] S2x1x1
  slices_S2x256x256_S2x1x256_0_93_0 : S2x256x256.Slices ![0, 93, 0] S2x1x256
  slices_S2x256x256_S2x256x1_0_0_93 : S2x256x256.Slices ![0, 0, 93] S2x256x1
  slices_S2x1x256_S2x1x1_0_0_93 : S2x1x256.Slices ![0, 0, 93] S2x1x1
  slices_S2x256x256_S2x1x256_0_94_0 : S2x256x256.Slices ![0, 94, 0] S2x1x256
  slices_S2x256x256_S2x256x1_0_0_94 : S2x256x256.Slices ![0, 0, 94] S2x256x1
  slices_S2x1x256_S2x1x1_0_0_94 : S2x1x256.Slices ![0, 0, 94] S2x1x1
  slices_S2x256x256_S2x1x256_0_95_0 : S2x256x256.Slices ![0, 95, 0] S2x1x256
  slices_S2x256x256_S2x256x1_0_0_95 : S2x256x256.Slices ![0, 0, 95] S2x256x1
  slices_S2x1x256_S2x1x1_0_0_95 : S2x1x256.Slices ![0, 0, 95] S2x1x1
  slices_S2x256x256_S2x1x256_0_96_0 : S2x256x256.Slices ![0, 96, 0] S2x1x256
  slices_S2x256x256_S2x256x1_0_0_96 : S2x256x256.Slices ![0, 0, 96] S2x256x1
  slices_S2x1x256_S2x1x1_0_0_96 : S2x1x256.Slices ![0, 0, 96] S2x1x1
  slices_S2x256x256_S2x1x256_0_97_0 : S2x256x256.Slices ![0, 97, 0] S2x1x256
  slices_S2x256x256_S2x256x1_0_0_97 : S2x256x256.Slices ![0, 0, 97] S2x256x1
  slices_S2x1x256_S2x1x1_0_0_97 : S2x1x256.Slices ![0, 0, 97] S2x1x1
  slices_S2x256x256_S2x1x256_0_98_0 : S2x256x256.Slices ![0, 98, 0] S2x1x256
  slices_S2x256x256_S2x256x1_0_0_98 : S2x256x256.Slices ![0, 0, 98] S2x256x1
  slices_S2x1x256_S2x1x1_0_0_98 : S2x1x256.Slices ![0, 0, 98] S2x1x1
  slices_S2x256x256_S2x1x256_0_99_0 : S2x256x256.Slices ![0, 99, 0] S2x1x256
  slices_S2x256x256_S2x256x1_0_0_99 : S2x256x256.Slices ![0, 0, 99] S2x256x1
  slices_S2x1x256_S2x1x1_0_0_99 : S2x1x256.Slices ![0, 0, 99] S2x1x1
  slices_S2x256x256_S2x1x256_0_100_0 : S2x256x256.Slices ![0, 100, 0] S2x1x256
  slices_S2x256x256_S2x256x1_0_0_100 : S2x256x256.Slices ![0, 0, 100] S2x256x1
  slices_S2x1x256_S2x1x1_0_0_100 : S2x1x256.Slices ![0, 0, 100] S2x1x1
  slices_S2x256x256_S2x1x256_0_101_0 : S2x256x256.Slices ![0, 101, 0] S2x1x256
  slices_S2x256x256_S2x256x1_0_0_101 : S2x256x256.Slices ![0, 0, 101] S2x256x1
  slices_S2x1x256_S2x1x1_0_0_101 : S2x1x256.Slices ![0, 0, 101] S2x1x1
  slices_S2x256x256_S2x1x256_0_102_0 : S2x256x256.Slices ![0, 102, 0] S2x1x256
  slices_S2x256x256_S2x256x1_0_0_102 : S2x256x256.Slices ![0, 0, 102] S2x256x1
  slices_S2x1x256_S2x1x1_0_0_102 : S2x1x256.Slices ![0, 0, 102] S2x1x1
  slices_S2x256x256_S2x1x256_0_103_0 : S2x256x256.Slices ![0, 103, 0] S2x1x256
  slices_S2x256x256_S2x256x1_0_0_103 : S2x256x256.Slices ![0, 0, 103] S2x256x1
  slices_S2x1x256_S2x1x1_0_0_103 : S2x1x256.Slices ![0, 0, 103] S2x1x1
  slices_S2x256x256_S2x1x256_0_104_0 : S2x256x256.Slices ![0, 104, 0] S2x1x256
  slices_S2x256x256_S2x256x1_0_0_104 : S2x256x256.Slices ![0, 0, 104] S2x256x1
  slices_S2x1x256_S2x1x1_0_0_104 : S2x1x256.Slices ![0, 0, 104] S2x1x1
  slices_S2x256x256_S2x1x256_0_105_0 : S2x256x256.Slices ![0, 105, 0] S2x1x256
  slices_S2x256x256_S2x256x1_0_0_105 : S2x256x256.Slices ![0, 0, 105] S2x256x1
  slices_S2x1x256_S2x1x1_0_0_105 : S2x1x256.Slices ![0, 0, 105] S2x1x1
  slices_S2x256x256_S2x1x256_0_106_0 : S2x256x256.Slices ![0, 106, 0] S2x1x256
  slices_S2x256x256_S2x256x1_0_0_106 : S2x256x256.Slices ![0, 0, 106] S2x256x1
  slices_S2x1x256_S2x1x1_0_0_106 : S2x1x256.Slices ![0, 0, 106] S2x1x1
  slices_S2x256x256_S2x1x256_0_107_0 : S2x256x256.Slices ![0, 107, 0] S2x1x256
  slices_S2x256x256_S2x256x1_0_0_107 : S2x256x256.Slices ![0, 0, 107] S2x256x1
  slices_S2x1x256_S2x1x1_0_0_107 : S2x1x256.Slices ![0, 0, 107] S2x1x1
  slices_S2x256x256_S2x1x256_0_108_0 : S2x256x256.Slices ![0, 108, 0] S2x1x256
  slices_S2x256x256_S2x256x1_0_0_108 : S2x256x256.Slices ![0, 0, 108] S2x256x1
  slices_S2x1x256_S2x1x1_0_0_108 : S2x1x256.Slices ![0, 0, 108] S2x1x1
  slices_S2x256x256_S2x1x256_0_109_0 : S2x256x256.Slices ![0, 109, 0] S2x1x256
  slices_S2x256x256_S2x256x1_0_0_109 : S2x256x256.Slices ![0, 0, 109] S2x256x1
  slices_S2x1x256_S2x1x1_0_0_109 : S2x1x256.Slices ![0, 0, 109] S2x1x1
  slices_S2x256x256_S2x1x256_0_110_0 : S2x256x256.Slices ![0, 110, 0] S2x1x256
  slices_S2x256x256_S2x256x1_0_0_110 : S2x256x256.Slices ![0, 0, 110] S2x256x1
  slices_S2x1x256_S2x1x1_0_0_110 : S2x1x256.Slices ![0, 0, 110] S2x1x1
  slices_S2x256x256_S2x1x256_0_111_0 : S2x256x256.Slices ![0, 111, 0] S2x1x256
  slices_S2x256x256_S2x256x1_0_0_111 : S2x256x256.Slices ![0, 0, 111] S2x256x1
  slices_S2x1x256_S2x1x1_0_0_111 : S2x1x256.Slices ![0, 0, 111] S2x1x1
  slices_S2x256x256_S2x1x256_0_112_0 : S2x256x256.Slices ![0, 112, 0] S2x1x256
  slices_S2x256x256_S2x256x1_0_0_112 : S2x256x256.Slices ![0, 0, 112] S2x256x1
  slices_S2x1x256_S2x1x1_0_0_112 : S2x1x256.Slices ![0, 0, 112] S2x1x1
  slices_S2x256x256_S2x1x256_0_113_0 : S2x256x256.Slices ![0, 113, 0] S2x1x256
  slices_S2x256x256_S2x256x1_0_0_113 : S2x256x256.Slices ![0, 0, 113] S2x256x1
  slices_S2x1x256_S2x1x1_0_0_113 : S2x1x256.Slices ![0, 0, 113] S2x1x1
  slices_S2x256x256_S2x1x256_0_114_0 : S2x256x256.Slices ![0, 114, 0] S2x1x256
  slices_S2x256x256_S2x256x1_0_0_114 : S2x256x256.Slices ![0, 0, 114] S2x256x1
  slices_S2x1x256_S2x1x1_0_0_114 : S2x1x256.Slices ![0, 0, 114] S2x1x1
  slices_S2x256x256_S2x1x256_0_115_0 : S2x256x256.Slices ![0, 115, 0] S2x1x256
  slices_S2x256x256_S2x256x1_0_0_115 : S2x256x256.Slices ![0, 0, 115] S2x256x1
  slices_S2x1x256_S2x1x1_0_0_115 : S2x1x256.Slices ![0, 0, 115] S2x1x1
  slices_S2x256x256_S2x1x256_0_116_0 : S2x256x256.Slices ![0, 116, 0] S2x1x256
  slices_S2x256x256_S2x256x1_0_0_116 : S2x256x256.Slices ![0, 0, 116] S2x256x1
  slices_S2x1x256_S2x1x1_0_0_116 : S2x1x256.Slices ![0, 0, 116] S2x1x1
  slices_S2x256x256_S2x1x256_0_117_0 : S2x256x256.Slices ![0, 117, 0] S2x1x256
  slices_S2x256x256_S2x256x1_0_0_117 : S2x256x256.Slices ![0, 0, 117] S2x256x1
  slices_S2x1x256_S2x1x1_0_0_117 : S2x1x256.Slices ![0, 0, 117] S2x1x1
  slices_S2x256x256_S2x1x256_0_118_0 : S2x256x256.Slices ![0, 118, 0] S2x1x256
  slices_S2x256x256_S2x256x1_0_0_118 : S2x256x256.Slices ![0, 0, 118] S2x256x1
  slices_S2x1x256_S2x1x1_0_0_118 : S2x1x256.Slices ![0, 0, 118] S2x1x1
  slices_S2x256x256_S2x1x256_0_119_0 : S2x256x256.Slices ![0, 119, 0] S2x1x256
  slices_S2x256x256_S2x256x1_0_0_119 : S2x256x256.Slices ![0, 0, 119] S2x256x1
  slices_S2x1x256_S2x1x1_0_0_119 : S2x1x256.Slices ![0, 0, 119] S2x1x1
  slices_S2x256x256_S2x1x256_0_120_0 : S2x256x256.Slices ![0, 120, 0] S2x1x256
  slices_S2x256x256_S2x256x1_0_0_120 : S2x256x256.Slices ![0, 0, 120] S2x256x1
  slices_S2x1x256_S2x1x1_0_0_120 : S2x1x256.Slices ![0, 0, 120] S2x1x1
  slices_S2x256x256_S2x1x256_0_121_0 : S2x256x256.Slices ![0, 121, 0] S2x1x256
  slices_S2x256x256_S2x256x1_0_0_121 : S2x256x256.Slices ![0, 0, 121] S2x256x1
  slices_S2x1x256_S2x1x1_0_0_121 : S2x1x256.Slices ![0, 0, 121] S2x1x1
  slices_S2x256x256_S2x1x256_0_122_0 : S2x256x256.Slices ![0, 122, 0] S2x1x256
  slices_S2x256x256_S2x256x1_0_0_122 : S2x256x256.Slices ![0, 0, 122] S2x256x1
  slices_S2x1x256_S2x1x1_0_0_122 : S2x1x256.Slices ![0, 0, 122] S2x1x1
  slices_S2x256x256_S2x1x256_0_123_0 : S2x256x256.Slices ![0, 123, 0] S2x1x256
  slices_S2x256x256_S2x256x1_0_0_123 : S2x256x256.Slices ![0, 0, 123] S2x256x1
  slices_S2x1x256_S2x1x1_0_0_123 : S2x1x256.Slices ![0, 0, 123] S2x1x1
  slices_S2x256x256_S2x1x256_0_124_0 : S2x256x256.Slices ![0, 124, 0] S2x1x256
  slices_S2x256x256_S2x256x1_0_0_124 : S2x256x256.Slices ![0, 0, 124] S2x256x1
  slices_S2x1x256_S2x1x1_0_0_124 : S2x1x256.Slices ![0, 0, 124] S2x1x1
  slices_S2x256x256_S2x1x256_0_125_0 : S2x256x256.Slices ![0, 125, 0] S2x1x256
  slices_S2x256x256_S2x256x1_0_0_125 : S2x256x256.Slices ![0, 0, 125] S2x256x1
  slices_S2x1x256_S2x1x1_0_0_125 : S2x1x256.Slices ![0, 0, 125] S2x1x1
  slices_S2x256x256_S2x1x256_0_126_0 : S2x256x256.Slices ![0, 126, 0] S2x1x256
  slices_S2x256x256_S2x256x1_0_0_126 : S2x256x256.Slices ![0, 0, 126] S2x256x1
  slices_S2x1x256_S2x1x1_0_0_126 : S2x1x256.Slices ![0, 0, 126] S2x1x1
  slices_S2x256x256_S2x1x256_0_127_0 : S2x256x256.Slices ![0, 127, 0] S2x1x256
  slices_S2x256x256_S2x256x1_0_0_127 : S2x256x256.Slices ![0, 0, 127] S2x256x1
  slices_S2x1x256_S2x1x1_0_0_127 : S2x1x256.Slices ![0, 0, 127] S2x1x1
  slices_S2x256x256_S2x1x256_0_128_0 : S2x256x256.Slices ![0, 128, 0] S2x1x256
  slices_S2x256x256_S2x256x1_0_0_128 : S2x256x256.Slices ![0, 0, 128] S2x256x1
  slices_S2x1x256_S2x1x1_0_0_128 : S2x1x256.Slices ![0, 0, 128] S2x1x1
  slices_S2x256x256_S2x1x256_0_129_0 : S2x256x256.Slices ![0, 129, 0] S2x1x256
  slices_S2x256x256_S2x256x1_0_0_129 : S2x256x256.Slices ![0, 0, 129] S2x256x1
  slices_S2x1x256_S2x1x1_0_0_129 : S2x1x256.Slices ![0, 0, 129] S2x1x1
  slices_S2x256x256_S2x1x256_0_130_0 : S2x256x256.Slices ![0, 130, 0] S2x1x256
  slices_S2x256x256_S2x256x1_0_0_130 : S2x256x256.Slices ![0, 0, 130] S2x256x1
  slices_S2x1x256_S2x1x1_0_0_130 : S2x1x256.Slices ![0, 0, 130] S2x1x1
  slices_S2x256x256_S2x1x256_0_131_0 : S2x256x256.Slices ![0, 131, 0] S2x1x256
  slices_S2x256x256_S2x256x1_0_0_131 : S2x256x256.Slices ![0, 0, 131] S2x256x1
  slices_S2x1x256_S2x1x1_0_0_131 : S2x1x256.Slices ![0, 0, 131] S2x1x1
  slices_S2x256x256_S2x1x256_0_132_0 : S2x256x256.Slices ![0, 132, 0] S2x1x256
  slices_S2x256x256_S2x256x1_0_0_132 : S2x256x256.Slices ![0, 0, 132] S2x256x1
  slices_S2x1x256_S2x1x1_0_0_132 : S2x1x256.Slices ![0, 0, 132] S2x1x1
  slices_S2x256x256_S2x1x256_0_133_0 : S2x256x256.Slices ![0, 133, 0] S2x1x256
  slices_S2x256x256_S2x256x1_0_0_133 : S2x256x256.Slices ![0, 0, 133] S2x256x1
  slices_S2x1x256_S2x1x1_0_0_133 : S2x1x256.Slices ![0, 0, 133] S2x1x1
  slices_S2x256x256_S2x1x256_0_134_0 : S2x256x256.Slices ![0, 134, 0] S2x1x256
  slices_S2x256x256_S2x256x1_0_0_134 : S2x256x256.Slices ![0, 0, 134] S2x256x1
  slices_S2x1x256_S2x1x1_0_0_134 : S2x1x256.Slices ![0, 0, 134] S2x1x1
  slices_S2x256x256_S2x1x256_0_135_0 : S2x256x256.Slices ![0, 135, 0] S2x1x256
  slices_S2x256x256_S2x256x1_0_0_135 : S2x256x256.Slices ![0, 0, 135] S2x256x1
  slices_S2x1x256_S2x1x1_0_0_135 : S2x1x256.Slices ![0, 0, 135] S2x1x1
  slices_S2x256x256_S2x1x256_0_136_0 : S2x256x256.Slices ![0, 136, 0] S2x1x256
  slices_S2x256x256_S2x256x1_0_0_136 : S2x256x256.Slices ![0, 0, 136] S2x256x1
  slices_S2x1x256_S2x1x1_0_0_136 : S2x1x256.Slices ![0, 0, 136] S2x1x1
  slices_S2x256x256_S2x1x256_0_137_0 : S2x256x256.Slices ![0, 137, 0] S2x1x256
  slices_S2x256x256_S2x256x1_0_0_137 : S2x256x256.Slices ![0, 0, 137] S2x256x1
  slices_S2x1x256_S2x1x1_0_0_137 : S2x1x256.Slices ![0, 0, 137] S2x1x1
  slices_S2x256x256_S2x1x256_0_138_0 : S2x256x256.Slices ![0, 138, 0] S2x1x256
  slices_S2x256x256_S2x256x1_0_0_138 : S2x256x256.Slices ![0, 0, 138] S2x256x1
  slices_S2x1x256_S2x1x1_0_0_138 : S2x1x256.Slices ![0, 0, 138] S2x1x1
  slices_S2x256x256_S2x1x256_0_139_0 : S2x256x256.Slices ![0, 139, 0] S2x1x256
  slices_S2x256x256_S2x256x1_0_0_139 : S2x256x256.Slices ![0, 0, 139] S2x256x1
  slices_S2x1x256_S2x1x1_0_0_139 : S2x1x256.Slices ![0, 0, 139] S2x1x1
  slices_S2x256x256_S2x1x256_0_140_0 : S2x256x256.Slices ![0, 140, 0] S2x1x256
  slices_S2x256x256_S2x256x1_0_0_140 : S2x256x256.Slices ![0, 0, 140] S2x256x1
  slices_S2x1x256_S2x1x1_0_0_140 : S2x1x256.Slices ![0, 0, 140] S2x1x1
  slices_S2x256x256_S2x1x256_0_141_0 : S2x256x256.Slices ![0, 141, 0] S2x1x256
  slices_S2x256x256_S2x256x1_0_0_141 : S2x256x256.Slices ![0, 0, 141] S2x256x1
  slices_S2x1x256_S2x1x1_0_0_141 : S2x1x256.Slices ![0, 0, 141] S2x1x1
  slices_S2x256x256_S2x1x256_0_142_0 : S2x256x256.Slices ![0, 142, 0] S2x1x256
  slices_S2x256x256_S2x256x1_0_0_142 : S2x256x256.Slices ![0, 0, 142] S2x256x1
  slices_S2x1x256_S2x1x1_0_0_142 : S2x1x256.Slices ![0, 0, 142] S2x1x1
  slices_S2x256x256_S2x1x256_0_143_0 : S2x256x256.Slices ![0, 143, 0] S2x1x256
  slices_S2x256x256_S2x256x1_0_0_143 : S2x256x256.Slices ![0, 0, 143] S2x256x1
  slices_S2x1x256_S2x1x1_0_0_143 : S2x1x256.Slices ![0, 0, 143] S2x1x1
  slices_S2x256x256_S2x1x256_0_144_0 : S2x256x256.Slices ![0, 144, 0] S2x1x256
  slices_S2x256x256_S2x256x1_0_0_144 : S2x256x256.Slices ![0, 0, 144] S2x256x1
  slices_S2x1x256_S2x1x1_0_0_144 : S2x1x256.Slices ![0, 0, 144] S2x1x1
  slices_S2x256x256_S2x1x256_0_145_0 : S2x256x256.Slices ![0, 145, 0] S2x1x256
  slices_S2x256x256_S2x256x1_0_0_145 : S2x256x256.Slices ![0, 0, 145] S2x256x1
  slices_S2x1x256_S2x1x1_0_0_145 : S2x1x256.Slices ![0, 0, 145] S2x1x1
  slices_S2x256x256_S2x1x256_0_146_0 : S2x256x256.Slices ![0, 146, 0] S2x1x256
  slices_S2x256x256_S2x256x1_0_0_146 : S2x256x256.Slices ![0, 0, 146] S2x256x1
  slices_S2x1x256_S2x1x1_0_0_146 : S2x1x256.Slices ![0, 0, 146] S2x1x1
  slices_S2x256x256_S2x1x256_0_147_0 : S2x256x256.Slices ![0, 147, 0] S2x1x256
  slices_S2x256x256_S2x256x1_0_0_147 : S2x256x256.Slices ![0, 0, 147] S2x256x1
  slices_S2x1x256_S2x1x1_0_0_147 : S2x1x256.Slices ![0, 0, 147] S2x1x1
  slices_S2x256x256_S2x1x256_0_148_0 : S2x256x256.Slices ![0, 148, 0] S2x1x256
  slices_S2x256x256_S2x256x1_0_0_148 : S2x256x256.Slices ![0, 0, 148] S2x256x1
  slices_S2x1x256_S2x1x1_0_0_148 : S2x1x256.Slices ![0, 0, 148] S2x1x1
  slices_S2x256x256_S2x1x256_0_149_0 : S2x256x256.Slices ![0, 149, 0] S2x1x256
  slices_S2x256x256_S2x256x1_0_0_149 : S2x256x256.Slices ![0, 0, 149] S2x256x1
  slices_S2x1x256_S2x1x1_0_0_149 : S2x1x256.Slices ![0, 0, 149] S2x1x1
  slices_S2x256x256_S2x1x256_0_150_0 : S2x256x256.Slices ![0, 150, 0] S2x1x256
  slices_S2x256x256_S2x256x1_0_0_150 : S2x256x256.Slices ![0, 0, 150] S2x256x1
  slices_S2x1x256_S2x1x1_0_0_150 : S2x1x256.Slices ![0, 0, 150] S2x1x1
  slices_S2x256x256_S2x1x256_0_151_0 : S2x256x256.Slices ![0, 151, 0] S2x1x256
  slices_S2x256x256_S2x256x1_0_0_151 : S2x256x256.Slices ![0, 0, 151] S2x256x1
  slices_S2x1x256_S2x1x1_0_0_151 : S2x1x256.Slices ![0, 0, 151] S2x1x1
  slices_S2x256x256_S2x1x256_0_152_0 : S2x256x256.Slices ![0, 152, 0] S2x1x256
  slices_S2x256x256_S2x256x1_0_0_152 : S2x256x256.Slices ![0, 0, 152] S2x256x1
  slices_S2x1x256_S2x1x1_0_0_152 : S2x1x256.Slices ![0, 0, 152] S2x1x1
  slices_S2x256x256_S2x1x256_0_153_0 : S2x256x256.Slices ![0, 153, 0] S2x1x256
  slices_S2x256x256_S2x256x1_0_0_153 : S2x256x256.Slices ![0, 0, 153] S2x256x1
  slices_S2x1x256_S2x1x1_0_0_153 : S2x1x256.Slices ![0, 0, 153] S2x1x1
  slices_S2x256x256_S2x1x256_0_154_0 : S2x256x256.Slices ![0, 154, 0] S2x1x256
  slices_S2x256x256_S2x256x1_0_0_154 : S2x256x256.Slices ![0, 0, 154] S2x256x1
  slices_S2x1x256_S2x1x1_0_0_154 : S2x1x256.Slices ![0, 0, 154] S2x1x1
  slices_S2x256x256_S2x1x256_0_155_0 : S2x256x256.Slices ![0, 155, 0] S2x1x256
  slices_S2x256x256_S2x256x1_0_0_155 : S2x256x256.Slices ![0, 0, 155] S2x256x1
  slices_S2x1x256_S2x1x1_0_0_155 : S2x1x256.Slices ![0, 0, 155] S2x1x1
  slices_S2x256x256_S2x1x256_0_156_0 : S2x256x256.Slices ![0, 156, 0] S2x1x256
  slices_S2x256x256_S2x256x1_0_0_156 : S2x256x256.Slices ![0, 0, 156] S2x256x1
  slices_S2x1x256_S2x1x1_0_0_156 : S2x1x256.Slices ![0, 0, 156] S2x1x1
  slices_S2x256x256_S2x1x256_0_157_0 : S2x256x256.Slices ![0, 157, 0] S2x1x256
  slices_S2x256x256_S2x256x1_0_0_157 : S2x256x256.Slices ![0, 0, 157] S2x256x1
  slices_S2x1x256_S2x1x1_0_0_157 : S2x1x256.Slices ![0, 0, 157] S2x1x1
  slices_S2x256x256_S2x1x256_0_158_0 : S2x256x256.Slices ![0, 158, 0] S2x1x256
  slices_S2x256x256_S2x256x1_0_0_158 : S2x256x256.Slices ![0, 0, 158] S2x256x1
  slices_S2x1x256_S2x1x1_0_0_158 : S2x1x256.Slices ![0, 0, 158] S2x1x1
  slices_S2x256x256_S2x1x256_0_159_0 : S2x256x256.Slices ![0, 159, 0] S2x1x256
  slices_S2x256x256_S2x256x1_0_0_159 : S2x256x256.Slices ![0, 0, 159] S2x256x1
  slices_S2x1x256_S2x1x1_0_0_159 : S2x1x256.Slices ![0, 0, 159] S2x1x1
  slices_S2x256x256_S2x1x256_0_160_0 : S2x256x256.Slices ![0, 160, 0] S2x1x256
  slices_S2x256x256_S2x256x1_0_0_160 : S2x256x256.Slices ![0, 0, 160] S2x256x1
  slices_S2x1x256_S2x1x1_0_0_160 : S2x1x256.Slices ![0, 0, 160] S2x1x1
  slices_S2x256x256_S2x1x256_0_161_0 : S2x256x256.Slices ![0, 161, 0] S2x1x256
  slices_S2x256x256_S2x256x1_0_0_161 : S2x256x256.Slices ![0, 0, 161] S2x256x1
  slices_S2x1x256_S2x1x1_0_0_161 : S2x1x256.Slices ![0, 0, 161] S2x1x1
  slices_S2x256x256_S2x1x256_0_162_0 : S2x256x256.Slices ![0, 162, 0] S2x1x256
  slices_S2x256x256_S2x256x1_0_0_162 : S2x256x256.Slices ![0, 0, 162] S2x256x1
  slices_S2x1x256_S2x1x1_0_0_162 : S2x1x256.Slices ![0, 0, 162] S2x1x1
  slices_S2x256x256_S2x1x256_0_163_0 : S2x256x256.Slices ![0, 163, 0] S2x1x256
  slices_S2x256x256_S2x256x1_0_0_163 : S2x256x256.Slices ![0, 0, 163] S2x256x1
  slices_S2x1x256_S2x1x1_0_0_163 : S2x1x256.Slices ![0, 0, 163] S2x1x1
  slices_S2x256x256_S2x1x256_0_164_0 : S2x256x256.Slices ![0, 164, 0] S2x1x256
  slices_S2x256x256_S2x256x1_0_0_164 : S2x256x256.Slices ![0, 0, 164] S2x256x1
  slices_S2x1x256_S2x1x1_0_0_164 : S2x1x256.Slices ![0, 0, 164] S2x1x1
  slices_S2x256x256_S2x1x256_0_165_0 : S2x256x256.Slices ![0, 165, 0] S2x1x256
  slices_S2x256x256_S2x256x1_0_0_165 : S2x256x256.Slices ![0, 0, 165] S2x256x1
  slices_S2x1x256_S2x1x1_0_0_165 : S2x1x256.Slices ![0, 0, 165] S2x1x1
  slices_S2x256x256_S2x1x256_0_166_0 : S2x256x256.Slices ![0, 166, 0] S2x1x256
  slices_S2x256x256_S2x256x1_0_0_166 : S2x256x256.Slices ![0, 0, 166] S2x256x1
  slices_S2x1x256_S2x1x1_0_0_166 : S2x1x256.Slices ![0, 0, 166] S2x1x1
  slices_S2x256x256_S2x1x256_0_167_0 : S2x256x256.Slices ![0, 167, 0] S2x1x256
  slices_S2x256x256_S2x256x1_0_0_167 : S2x256x256.Slices ![0, 0, 167] S2x256x1
  slices_S2x1x256_S2x1x1_0_0_167 : S2x1x256.Slices ![0, 0, 167] S2x1x1
  slices_S2x256x256_S2x1x256_0_168_0 : S2x256x256.Slices ![0, 168, 0] S2x1x256
  slices_S2x256x256_S2x256x1_0_0_168 : S2x256x256.Slices ![0, 0, 168] S2x256x1
  slices_S2x1x256_S2x1x1_0_0_168 : S2x1x256.Slices ![0, 0, 168] S2x1x1
  slices_S2x256x256_S2x1x256_0_169_0 : S2x256x256.Slices ![0, 169, 0] S2x1x256
  slices_S2x256x256_S2x256x1_0_0_169 : S2x256x256.Slices ![0, 0, 169] S2x256x1
  slices_S2x1x256_S2x1x1_0_0_169 : S2x1x256.Slices ![0, 0, 169] S2x1x1
  slices_S2x256x256_S2x1x256_0_170_0 : S2x256x256.Slices ![0, 170, 0] S2x1x256
  slices_S2x256x256_S2x256x1_0_0_170 : S2x256x256.Slices ![0, 0, 170] S2x256x1
  slices_S2x1x256_S2x1x1_0_0_170 : S2x1x256.Slices ![0, 0, 170] S2x1x1
  slices_S2x256x256_S2x1x256_0_171_0 : S2x256x256.Slices ![0, 171, 0] S2x1x256
  slices_S2x256x256_S2x256x1_0_0_171 : S2x256x256.Slices ![0, 0, 171] S2x256x1
  slices_S2x1x256_S2x1x1_0_0_171 : S2x1x256.Slices ![0, 0, 171] S2x1x1
  slices_S2x256x256_S2x1x256_0_172_0 : S2x256x256.Slices ![0, 172, 0] S2x1x256
  slices_S2x256x256_S2x256x1_0_0_172 : S2x256x256.Slices ![0, 0, 172] S2x256x1
  slices_S2x1x256_S2x1x1_0_0_172 : S2x1x256.Slices ![0, 0, 172] S2x1x1
  slices_S2x256x256_S2x1x256_0_173_0 : S2x256x256.Slices ![0, 173, 0] S2x1x256
  slices_S2x256x256_S2x256x1_0_0_173 : S2x256x256.Slices ![0, 0, 173] S2x256x1
  slices_S2x1x256_S2x1x1_0_0_173 : S2x1x256.Slices ![0, 0, 173] S2x1x1
  slices_S2x256x256_S2x1x256_0_174_0 : S2x256x256.Slices ![0, 174, 0] S2x1x256
  slices_S2x256x256_S2x256x1_0_0_174 : S2x256x256.Slices ![0, 0, 174] S2x256x1
  slices_S2x1x256_S2x1x1_0_0_174 : S2x1x256.Slices ![0, 0, 174] S2x1x1
  slices_S2x256x256_S2x1x256_0_175_0 : S2x256x256.Slices ![0, 175, 0] S2x1x256
  slices_S2x256x256_S2x256x1_0_0_175 : S2x256x256.Slices ![0, 0, 175] S2x256x1
  slices_S2x1x256_S2x1x1_0_0_175 : S2x1x256.Slices ![0, 0, 175] S2x1x1
  slices_S2x256x256_S2x1x256_0_176_0 : S2x256x256.Slices ![0, 176, 0] S2x1x256
  slices_S2x256x256_S2x256x1_0_0_176 : S2x256x256.Slices ![0, 0, 176] S2x256x1
  slices_S2x1x256_S2x1x1_0_0_176 : S2x1x256.Slices ![0, 0, 176] S2x1x1
  slices_S2x256x256_S2x1x256_0_177_0 : S2x256x256.Slices ![0, 177, 0] S2x1x256
  slices_S2x256x256_S2x256x1_0_0_177 : S2x256x256.Slices ![0, 0, 177] S2x256x1
  slices_S2x1x256_S2x1x1_0_0_177 : S2x1x256.Slices ![0, 0, 177] S2x1x1
  slices_S2x256x256_S2x1x256_0_178_0 : S2x256x256.Slices ![0, 178, 0] S2x1x256
  slices_S2x256x256_S2x256x1_0_0_178 : S2x256x256.Slices ![0, 0, 178] S2x256x1
  slices_S2x1x256_S2x1x1_0_0_178 : S2x1x256.Slices ![0, 0, 178] S2x1x1
  slices_S2x256x256_S2x1x256_0_179_0 : S2x256x256.Slices ![0, 179, 0] S2x1x256
  slices_S2x256x256_S2x256x1_0_0_179 : S2x256x256.Slices ![0, 0, 179] S2x256x1
  slices_S2x1x256_S2x1x1_0_0_179 : S2x1x256.Slices ![0, 0, 179] S2x1x1
  slices_S2x256x256_S2x1x256_0_180_0 : S2x256x256.Slices ![0, 180, 0] S2x1x256
  slices_S2x256x256_S2x256x1_0_0_180 : S2x256x256.Slices ![0, 0, 180] S2x256x1
  slices_S2x1x256_S2x1x1_0_0_180 : S2x1x256.Slices ![0, 0, 180] S2x1x1
  slices_S2x256x256_S2x1x256_0_181_0 : S2x256x256.Slices ![0, 181, 0] S2x1x256
  slices_S2x256x256_S2x256x1_0_0_181 : S2x256x256.Slices ![0, 0, 181] S2x256x1
  slices_S2x1x256_S2x1x1_0_0_181 : S2x1x256.Slices ![0, 0, 181] S2x1x1
  slices_S2x256x256_S2x1x256_0_182_0 : S2x256x256.Slices ![0, 182, 0] S2x1x256
  slices_S2x256x256_S2x256x1_0_0_182 : S2x256x256.Slices ![0, 0, 182] S2x256x1
  slices_S2x1x256_S2x1x1_0_0_182 : S2x1x256.Slices ![0, 0, 182] S2x1x1
  slices_S2x256x256_S2x1x256_0_183_0 : S2x256x256.Slices ![0, 183, 0] S2x1x256
  slices_S2x256x256_S2x256x1_0_0_183 : S2x256x256.Slices ![0, 0, 183] S2x256x1
  slices_S2x1x256_S2x1x1_0_0_183 : S2x1x256.Slices ![0, 0, 183] S2x1x1
  slices_S2x256x256_S2x1x256_0_184_0 : S2x256x256.Slices ![0, 184, 0] S2x1x256
  slices_S2x256x256_S2x256x1_0_0_184 : S2x256x256.Slices ![0, 0, 184] S2x256x1
  slices_S2x1x256_S2x1x1_0_0_184 : S2x1x256.Slices ![0, 0, 184] S2x1x1
  slices_S2x256x256_S2x1x256_0_185_0 : S2x256x256.Slices ![0, 185, 0] S2x1x256
  slices_S2x256x256_S2x256x1_0_0_185 : S2x256x256.Slices ![0, 0, 185] S2x256x1
  slices_S2x1x256_S2x1x1_0_0_185 : S2x1x256.Slices ![0, 0, 185] S2x1x1
  slices_S2x256x256_S2x1x256_0_186_0 : S2x256x256.Slices ![0, 186, 0] S2x1x256
  slices_S2x256x256_S2x256x1_0_0_186 : S2x256x256.Slices ![0, 0, 186] S2x256x1
  slices_S2x1x256_S2x1x1_0_0_186 : S2x1x256.Slices ![0, 0, 186] S2x1x1
  slices_S2x256x256_S2x1x256_0_187_0 : S2x256x256.Slices ![0, 187, 0] S2x1x256
  slices_S2x256x256_S2x256x1_0_0_187 : S2x256x256.Slices ![0, 0, 187] S2x256x1
  slices_S2x1x256_S2x1x1_0_0_187 : S2x1x256.Slices ![0, 0, 187] S2x1x1
  slices_S2x256x256_S2x1x256_0_188_0 : S2x256x256.Slices ![0, 188, 0] S2x1x256
  slices_S2x256x256_S2x256x1_0_0_188 : S2x256x256.Slices ![0, 0, 188] S2x256x1
  slices_S2x1x256_S2x1x1_0_0_188 : S2x1x256.Slices ![0, 0, 188] S2x1x1
  slices_S2x256x256_S2x1x256_0_189_0 : S2x256x256.Slices ![0, 189, 0] S2x1x256
  slices_S2x256x256_S2x256x1_0_0_189 : S2x256x256.Slices ![0, 0, 189] S2x256x1
  slices_S2x1x256_S2x1x1_0_0_189 : S2x1x256.Slices ![0, 0, 189] S2x1x1
  slices_S2x256x256_S2x1x256_0_190_0 : S2x256x256.Slices ![0, 190, 0] S2x1x256
  slices_S2x256x256_S2x256x1_0_0_190 : S2x256x256.Slices ![0, 0, 190] S2x256x1
  slices_S2x1x256_S2x1x1_0_0_190 : S2x1x256.Slices ![0, 0, 190] S2x1x1
  slices_S2x256x256_S2x1x256_0_191_0 : S2x256x256.Slices ![0, 191, 0] S2x1x256
  slices_S2x256x256_S2x256x1_0_0_191 : S2x256x256.Slices ![0, 0, 191] S2x256x1
  slices_S2x1x256_S2x1x1_0_0_191 : S2x1x256.Slices ![0, 0, 191] S2x1x1
  slices_S2x256x256_S2x1x256_0_192_0 : S2x256x256.Slices ![0, 192, 0] S2x1x256
  slices_S2x256x256_S2x256x1_0_0_192 : S2x256x256.Slices ![0, 0, 192] S2x256x1
  slices_S2x1x256_S2x1x1_0_0_192 : S2x1x256.Slices ![0, 0, 192] S2x1x1
  slices_S2x256x256_S2x1x256_0_193_0 : S2x256x256.Slices ![0, 193, 0] S2x1x256
  slices_S2x256x256_S2x256x1_0_0_193 : S2x256x256.Slices ![0, 0, 193] S2x256x1
  slices_S2x1x256_S2x1x1_0_0_193 : S2x1x256.Slices ![0, 0, 193] S2x1x1
  slices_S2x256x256_S2x1x256_0_194_0 : S2x256x256.Slices ![0, 194, 0] S2x1x256
  slices_S2x256x256_S2x256x1_0_0_194 : S2x256x256.Slices ![0, 0, 194] S2x256x1
  slices_S2x1x256_S2x1x1_0_0_194 : S2x1x256.Slices ![0, 0, 194] S2x1x1
  slices_S2x256x256_S2x1x256_0_195_0 : S2x256x256.Slices ![0, 195, 0] S2x1x256
  slices_S2x256x256_S2x256x1_0_0_195 : S2x256x256.Slices ![0, 0, 195] S2x256x1
  slices_S2x1x256_S2x1x1_0_0_195 : S2x1x256.Slices ![0, 0, 195] S2x1x1
  slices_S2x256x256_S2x1x256_0_196_0 : S2x256x256.Slices ![0, 196, 0] S2x1x256
  slices_S2x256x256_S2x256x1_0_0_196 : S2x256x256.Slices ![0, 0, 196] S2x256x1
  slices_S2x1x256_S2x1x1_0_0_196 : S2x1x256.Slices ![0, 0, 196] S2x1x1
  slices_S2x256x256_S2x1x256_0_197_0 : S2x256x256.Slices ![0, 197, 0] S2x1x256
  slices_S2x256x256_S2x256x1_0_0_197 : S2x256x256.Slices ![0, 0, 197] S2x256x1
  slices_S2x1x256_S2x1x1_0_0_197 : S2x1x256.Slices ![0, 0, 197] S2x1x1
  slices_S2x256x256_S2x1x256_0_198_0 : S2x256x256.Slices ![0, 198, 0] S2x1x256
  slices_S2x256x256_S2x256x1_0_0_198 : S2x256x256.Slices ![0, 0, 198] S2x256x1
  slices_S2x1x256_S2x1x1_0_0_198 : S2x1x256.Slices ![0, 0, 198] S2x1x1
  slices_S2x256x256_S2x1x256_0_199_0 : S2x256x256.Slices ![0, 199, 0] S2x1x256
  slices_S2x256x256_S2x256x1_0_0_199 : S2x256x256.Slices ![0, 0, 199] S2x256x1
  slices_S2x1x256_S2x1x1_0_0_199 : S2x1x256.Slices ![0, 0, 199] S2x1x1
  slices_S2x256x256_S2x1x256_0_200_0 : S2x256x256.Slices ![0, 200, 0] S2x1x256
  slices_S2x256x256_S2x256x1_0_0_200 : S2x256x256.Slices ![0, 0, 200] S2x256x1
  slices_S2x1x256_S2x1x1_0_0_200 : S2x1x256.Slices ![0, 0, 200] S2x1x1
  slices_S2x256x256_S2x1x256_0_201_0 : S2x256x256.Slices ![0, 201, 0] S2x1x256
  slices_S2x256x256_S2x256x1_0_0_201 : S2x256x256.Slices ![0, 0, 201] S2x256x1
  slices_S2x1x256_S2x1x1_0_0_201 : S2x1x256.Slices ![0, 0, 201] S2x1x1
  slices_S2x256x256_S2x1x256_0_202_0 : S2x256x256.Slices ![0, 202, 0] S2x1x256
  slices_S2x256x256_S2x256x1_0_0_202 : S2x256x256.Slices ![0, 0, 202] S2x256x1
  slices_S2x1x256_S2x1x1_0_0_202 : S2x1x256.Slices ![0, 0, 202] S2x1x1
  slices_S2x256x256_S2x1x256_0_203_0 : S2x256x256.Slices ![0, 203, 0] S2x1x256
  slices_S2x256x256_S2x256x1_0_0_203 : S2x256x256.Slices ![0, 0, 203] S2x256x1
  slices_S2x1x256_S2x1x1_0_0_203 : S2x1x256.Slices ![0, 0, 203] S2x1x1
  slices_S2x256x256_S2x1x256_0_204_0 : S2x256x256.Slices ![0, 204, 0] S2x1x256
  slices_S2x256x256_S2x256x1_0_0_204 : S2x256x256.Slices ![0, 0, 204] S2x256x1
  slices_S2x1x256_S2x1x1_0_0_204 : S2x1x256.Slices ![0, 0, 204] S2x1x1
  slices_S2x256x256_S2x1x256_0_205_0 : S2x256x256.Slices ![0, 205, 0] S2x1x256
  slices_S2x256x256_S2x256x1_0_0_205 : S2x256x256.Slices ![0, 0, 205] S2x256x1
  slices_S2x1x256_S2x1x1_0_0_205 : S2x1x256.Slices ![0, 0, 205] S2x1x1
  slices_S2x256x256_S2x1x256_0_206_0 : S2x256x256.Slices ![0, 206, 0] S2x1x256
  slices_S2x256x256_S2x256x1_0_0_206 : S2x256x256.Slices ![0, 0, 206] S2x256x1
  slices_S2x1x256_S2x1x1_0_0_206 : S2x1x256.Slices ![0, 0, 206] S2x1x1
  slices_S2x256x256_S2x1x256_0_207_0 : S2x256x256.Slices ![0, 207, 0] S2x1x256
  slices_S2x256x256_S2x256x1_0_0_207 : S2x256x256.Slices ![0, 0, 207] S2x256x1
  slices_S2x1x256_S2x1x1_0_0_207 : S2x1x256.Slices ![0, 0, 207] S2x1x1
  slices_S2x256x256_S2x1x256_0_208_0 : S2x256x256.Slices ![0, 208, 0] S2x1x256
  slices_S2x256x256_S2x256x1_0_0_208 : S2x256x256.Slices ![0, 0, 208] S2x256x1
  slices_S2x1x256_S2x1x1_0_0_208 : S2x1x256.Slices ![0, 0, 208] S2x1x1
  slices_S2x256x256_S2x1x256_0_209_0 : S2x256x256.Slices ![0, 209, 0] S2x1x256
  slices_S2x256x256_S2x256x1_0_0_209 : S2x256x256.Slices ![0, 0, 209] S2x256x1
  slices_S2x1x256_S2x1x1_0_0_209 : S2x1x256.Slices ![0, 0, 209] S2x1x1
  slices_S2x256x256_S2x1x256_0_210_0 : S2x256x256.Slices ![0, 210, 0] S2x1x256
  slices_S2x256x256_S2x256x1_0_0_210 : S2x256x256.Slices ![0, 0, 210] S2x256x1
  slices_S2x1x256_S2x1x1_0_0_210 : S2x1x256.Slices ![0, 0, 210] S2x1x1
  slices_S2x256x256_S2x1x256_0_211_0 : S2x256x256.Slices ![0, 211, 0] S2x1x256
  slices_S2x256x256_S2x256x1_0_0_211 : S2x256x256.Slices ![0, 0, 211] S2x256x1
  slices_S2x1x256_S2x1x1_0_0_211 : S2x1x256.Slices ![0, 0, 211] S2x1x1
  slices_S2x256x256_S2x1x256_0_212_0 : S2x256x256.Slices ![0, 212, 0] S2x1x256
  slices_S2x256x256_S2x256x1_0_0_212 : S2x256x256.Slices ![0, 0, 212] S2x256x1
  slices_S2x1x256_S2x1x1_0_0_212 : S2x1x256.Slices ![0, 0, 212] S2x1x1
  slices_S2x256x256_S2x1x256_0_213_0 : S2x256x256.Slices ![0, 213, 0] S2x1x256
  slices_S2x256x256_S2x256x1_0_0_213 : S2x256x256.Slices ![0, 0, 213] S2x256x1
  slices_S2x1x256_S2x1x1_0_0_213 : S2x1x256.Slices ![0, 0, 213] S2x1x1
  slices_S2x256x256_S2x1x256_0_214_0 : S2x256x256.Slices ![0, 214, 0] S2x1x256
  slices_S2x256x256_S2x256x1_0_0_214 : S2x256x256.Slices ![0, 0, 214] S2x256x1
  slices_S2x1x256_S2x1x1_0_0_214 : S2x1x256.Slices ![0, 0, 214] S2x1x1
  slices_S2x256x256_S2x1x256_0_215_0 : S2x256x256.Slices ![0, 215, 0] S2x1x256
  slices_S2x256x256_S2x256x1_0_0_215 : S2x256x256.Slices ![0, 0, 215] S2x256x1
  slices_S2x1x256_S2x1x1_0_0_215 : S2x1x256.Slices ![0, 0, 215] S2x1x1
  slices_S2x256x256_S2x1x256_0_216_0 : S2x256x256.Slices ![0, 216, 0] S2x1x256
  slices_S2x256x256_S2x256x1_0_0_216 : S2x256x256.Slices ![0, 0, 216] S2x256x1
  slices_S2x1x256_S2x1x1_0_0_216 : S2x1x256.Slices ![0, 0, 216] S2x1x1
  slices_S2x256x256_S2x1x256_0_217_0 : S2x256x256.Slices ![0, 217, 0] S2x1x256
  slices_S2x256x256_S2x256x1_0_0_217 : S2x256x256.Slices ![0, 0, 217] S2x256x1
  slices_S2x1x256_S2x1x1_0_0_217 : S2x1x256.Slices ![0, 0, 217] S2x1x1
  slices_S2x256x256_S2x1x256_0_218_0 : S2x256x256.Slices ![0, 218, 0] S2x1x256
  slices_S2x256x256_S2x256x1_0_0_218 : S2x256x256.Slices ![0, 0, 218] S2x256x1
  slices_S2x1x256_S2x1x1_0_0_218 : S2x1x256.Slices ![0, 0, 218] S2x1x1
  slices_S2x256x256_S2x1x256_0_219_0 : S2x256x256.Slices ![0, 219, 0] S2x1x256
  slices_S2x256x256_S2x256x1_0_0_219 : S2x256x256.Slices ![0, 0, 219] S2x256x1
  slices_S2x1x256_S2x1x1_0_0_219 : S2x1x256.Slices ![0, 0, 219] S2x1x1
  slices_S2x256x256_S2x1x256_0_220_0 : S2x256x256.Slices ![0, 220, 0] S2x1x256
  slices_S2x256x256_S2x256x1_0_0_220 : S2x256x256.Slices ![0, 0, 220] S2x256x1
  slices_S2x1x256_S2x1x1_0_0_220 : S2x1x256.Slices ![0, 0, 220] S2x1x1
  slices_S2x256x256_S2x1x256_0_221_0 : S2x256x256.Slices ![0, 221, 0] S2x1x256
  slices_S2x256x256_S2x256x1_0_0_221 : S2x256x256.Slices ![0, 0, 221] S2x256x1
  slices_S2x1x256_S2x1x1_0_0_221 : S2x1x256.Slices ![0, 0, 221] S2x1x1
  slices_S2x256x256_S2x1x256_0_222_0 : S2x256x256.Slices ![0, 222, 0] S2x1x256
  slices_S2x256x256_S2x256x1_0_0_222 : S2x256x256.Slices ![0, 0, 222] S2x256x1
  slices_S2x1x256_S2x1x1_0_0_222 : S2x1x256.Slices ![0, 0, 222] S2x1x1
  slices_S2x256x256_S2x1x256_0_223_0 : S2x256x256.Slices ![0, 223, 0] S2x1x256
  slices_S2x256x256_S2x256x1_0_0_223 : S2x256x256.Slices ![0, 0, 223] S2x256x1
  slices_S2x1x256_S2x1x1_0_0_223 : S2x1x256.Slices ![0, 0, 223] S2x1x1
  slices_S2x256x256_S2x1x256_0_224_0 : S2x256x256.Slices ![0, 224, 0] S2x1x256
  slices_S2x256x256_S2x256x1_0_0_224 : S2x256x256.Slices ![0, 0, 224] S2x256x1
  slices_S2x1x256_S2x1x1_0_0_224 : S2x1x256.Slices ![0, 0, 224] S2x1x1
  slices_S2x256x256_S2x1x256_0_225_0 : S2x256x256.Slices ![0, 225, 0] S2x1x256
  slices_S2x256x256_S2x256x1_0_0_225 : S2x256x256.Slices ![0, 0, 225] S2x256x1
  slices_S2x1x256_S2x1x1_0_0_225 : S2x1x256.Slices ![0, 0, 225] S2x1x1
  slices_S2x256x256_S2x1x256_0_226_0 : S2x256x256.Slices ![0, 226, 0] S2x1x256
  slices_S2x256x256_S2x256x1_0_0_226 : S2x256x256.Slices ![0, 0, 226] S2x256x1
  slices_S2x1x256_S2x1x1_0_0_226 : S2x1x256.Slices ![0, 0, 226] S2x1x1
  slices_S2x256x256_S2x1x256_0_227_0 : S2x256x256.Slices ![0, 227, 0] S2x1x256
  slices_S2x256x256_S2x256x1_0_0_227 : S2x256x256.Slices ![0, 0, 227] S2x256x1
  slices_S2x1x256_S2x1x1_0_0_227 : S2x1x256.Slices ![0, 0, 227] S2x1x1
  slices_S2x256x256_S2x1x256_0_228_0 : S2x256x256.Slices ![0, 228, 0] S2x1x256
  slices_S2x256x256_S2x256x1_0_0_228 : S2x256x256.Slices ![0, 0, 228] S2x256x1
  slices_S2x1x256_S2x1x1_0_0_228 : S2x1x256.Slices ![0, 0, 228] S2x1x1
  slices_S2x256x256_S2x1x256_0_229_0 : S2x256x256.Slices ![0, 229, 0] S2x1x256
  slices_S2x256x256_S2x256x1_0_0_229 : S2x256x256.Slices ![0, 0, 229] S2x256x1
  slices_S2x1x256_S2x1x1_0_0_229 : S2x1x256.Slices ![0, 0, 229] S2x1x1
  slices_S2x256x256_S2x1x256_0_230_0 : S2x256x256.Slices ![0, 230, 0] S2x1x256
  slices_S2x256x256_S2x256x1_0_0_230 : S2x256x256.Slices ![0, 0, 230] S2x256x1
  slices_S2x1x256_S2x1x1_0_0_230 : S2x1x256.Slices ![0, 0, 230] S2x1x1
  slices_S2x256x256_S2x1x256_0_231_0 : S2x256x256.Slices ![0, 231, 0] S2x1x256
  slices_S2x256x256_S2x256x1_0_0_231 : S2x256x256.Slices ![0, 0, 231] S2x256x1
  slices_S2x1x256_S2x1x1_0_0_231 : S2x1x256.Slices ![0, 0, 231] S2x1x1
  slices_S2x256x256_S2x1x256_0_232_0 : S2x256x256.Slices ![0, 232, 0] S2x1x256
  slices_S2x256x256_S2x256x1_0_0_232 : S2x256x256.Slices ![0, 0, 232] S2x256x1
  slices_S2x1x256_S2x1x1_0_0_232 : S2x1x256.Slices ![0, 0, 232] S2x1x1
  slices_S2x256x256_S2x1x256_0_233_0 : S2x256x256.Slices ![0, 233, 0] S2x1x256
  slices_S2x256x256_S2x256x1_0_0_233 : S2x256x256.Slices ![0, 0, 233] S2x256x1
  slices_S2x1x256_S2x1x1_0_0_233 : S2x1x256.Slices ![0, 0, 233] S2x1x1
  slices_S2x256x256_S2x1x256_0_234_0 : S2x256x256.Slices ![0, 234, 0] S2x1x256
  slices_S2x256x256_S2x256x1_0_0_234 : S2x256x256.Slices ![0, 0, 234] S2x256x1
  slices_S2x1x256_S2x1x1_0_0_234 : S2x1x256.Slices ![0, 0, 234] S2x1x1
  slices_S2x256x256_S2x1x256_0_235_0 : S2x256x256.Slices ![0, 235, 0] S2x1x256
  slices_S2x256x256_S2x256x1_0_0_235 : S2x256x256.Slices ![0, 0, 235] S2x256x1
  slices_S2x1x256_S2x1x1_0_0_235 : S2x1x256.Slices ![0, 0, 235] S2x1x1
  slices_S2x256x256_S2x1x256_0_236_0 : S2x256x256.Slices ![0, 236, 0] S2x1x256
  slices_S2x256x256_S2x256x1_0_0_236 : S2x256x256.Slices ![0, 0, 236] S2x256x1
  slices_S2x1x256_S2x1x1_0_0_236 : S2x1x256.Slices ![0, 0, 236] S2x1x1
  slices_S2x256x256_S2x1x256_0_237_0 : S2x256x256.Slices ![0, 237, 0] S2x1x256
  slices_S2x256x256_S2x256x1_0_0_237 : S2x256x256.Slices ![0, 0, 237] S2x256x1
  slices_S2x1x256_S2x1x1_0_0_237 : S2x1x256.Slices ![0, 0, 237] S2x1x1
  slices_S2x256x256_S2x1x256_0_238_0 : S2x256x256.Slices ![0, 238, 0] S2x1x256
  slices_S2x256x256_S2x256x1_0_0_238 : S2x256x256.Slices ![0, 0, 238] S2x256x1
  slices_S2x1x256_S2x1x1_0_0_238 : S2x1x256.Slices ![0, 0, 238] S2x1x1
  slices_S2x256x256_S2x1x256_0_239_0 : S2x256x256.Slices ![0, 239, 0] S2x1x256
  slices_S2x256x256_S2x256x1_0_0_239 : S2x256x256.Slices ![0, 0, 239] S2x256x1
  slices_S2x1x256_S2x1x1_0_0_239 : S2x1x256.Slices ![0, 0, 239] S2x1x1
  slices_S2x256x256_S2x1x256_0_240_0 : S2x256x256.Slices ![0, 240, 0] S2x1x256
  slices_S2x256x256_S2x256x1_0_0_240 : S2x256x256.Slices ![0, 0, 240] S2x256x1
  slices_S2x1x256_S2x1x1_0_0_240 : S2x1x256.Slices ![0, 0, 240] S2x1x1
  slices_S2x256x256_S2x1x256_0_241_0 : S2x256x256.Slices ![0, 241, 0] S2x1x256
  slices_S2x256x256_S2x256x1_0_0_241 : S2x256x256.Slices ![0, 0, 241] S2x256x1
  slices_S2x1x256_S2x1x1_0_0_241 : S2x1x256.Slices ![0, 0, 241] S2x1x1
  slices_S2x256x256_S2x1x256_0_242_0 : S2x256x256.Slices ![0, 242, 0] S2x1x256
  slices_S2x256x256_S2x256x1_0_0_242 : S2x256x256.Slices ![0, 0, 242] S2x256x1
  slices_S2x1x256_S2x1x1_0_0_242 : S2x1x256.Slices ![0, 0, 242] S2x1x1
  slices_S2x256x256_S2x1x256_0_243_0 : S2x256x256.Slices ![0, 243, 0] S2x1x256
  slices_S2x256x256_S2x256x1_0_0_243 : S2x256x256.Slices ![0, 0, 243] S2x256x1
  slices_S2x1x256_S2x1x1_0_0_243 : S2x1x256.Slices ![0, 0, 243] S2x1x1
  slices_S2x256x256_S2x1x256_0_244_0 : S2x256x256.Slices ![0, 244, 0] S2x1x256
  slices_S2x256x256_S2x256x1_0_0_244 : S2x256x256.Slices ![0, 0, 244] S2x256x1
  slices_S2x1x256_S2x1x1_0_0_244 : S2x1x256.Slices ![0, 0, 244] S2x1x1
  slices_S2x256x256_S2x1x256_0_245_0 : S2x256x256.Slices ![0, 245, 0] S2x1x256
  slices_S2x256x256_S2x256x1_0_0_245 : S2x256x256.Slices ![0, 0, 245] S2x256x1
  slices_S2x1x256_S2x1x1_0_0_245 : S2x1x256.Slices ![0, 0, 245] S2x1x1
  slices_S2x256x256_S2x1x256_0_246_0 : S2x256x256.Slices ![0, 246, 0] S2x1x256
  slices_S2x256x256_S2x256x1_0_0_246 : S2x256x256.Slices ![0, 0, 246] S2x256x1
  slices_S2x1x256_S2x1x1_0_0_246 : S2x1x256.Slices ![0, 0, 246] S2x1x1
  slices_S2x256x256_S2x1x256_0_247_0 : S2x256x256.Slices ![0, 247, 0] S2x1x256
  slices_S2x256x256_S2x256x1_0_0_247 : S2x256x256.Slices ![0, 0, 247] S2x256x1
  slices_S2x1x256_S2x1x1_0_0_247 : S2x1x256.Slices ![0, 0, 247] S2x1x1
  slices_S2x256x256_S2x1x256_0_248_0 : S2x256x256.Slices ![0, 248, 0] S2x1x256
  slices_S2x256x256_S2x256x1_0_0_248 : S2x256x256.Slices ![0, 0, 248] S2x256x1
  slices_S2x1x256_S2x1x1_0_0_248 : S2x1x256.Slices ![0, 0, 248] S2x1x1
  slices_S2x256x256_S2x1x256_0_249_0 : S2x256x256.Slices ![0, 249, 0] S2x1x256
  slices_S2x256x256_S2x256x1_0_0_249 : S2x256x256.Slices ![0, 0, 249] S2x256x1
  slices_S2x1x256_S2x1x1_0_0_249 : S2x1x256.Slices ![0, 0, 249] S2x1x1
  slices_S2x256x256_S2x1x256_0_250_0 : S2x256x256.Slices ![0, 250, 0] S2x1x256
  slices_S2x256x256_S2x256x1_0_0_250 : S2x256x256.Slices ![0, 0, 250] S2x256x1
  slices_S2x1x256_S2x1x1_0_0_250 : S2x1x256.Slices ![0, 0, 250] S2x1x1
  slices_S2x256x256_S2x1x256_0_251_0 : S2x256x256.Slices ![0, 251, 0] S2x1x256
  slices_S2x256x256_S2x256x1_0_0_251 : S2x256x256.Slices ![0, 0, 251] S2x256x1
  slices_S2x1x256_S2x1x1_0_0_251 : S2x1x256.Slices ![0, 0, 251] S2x1x1
  slices_S2x256x256_S2x1x256_0_252_0 : S2x256x256.Slices ![0, 252, 0] S2x1x256
  slices_S2x256x256_S2x256x1_0_0_252 : S2x256x256.Slices ![0, 0, 252] S2x256x1
  slices_S2x1x256_S2x1x1_0_0_252 : S2x1x256.Slices ![0, 0, 252] S2x1x1
  slices_S2x256x256_S2x1x256_0_253_0 : S2x256x256.Slices ![0, 253, 0] S2x1x256
  slices_S2x256x256_S2x256x1_0_0_253 : S2x256x256.Slices ![0, 0, 253] S2x256x1
  slices_S2x1x256_S2x1x1_0_0_253 : S2x1x256.Slices ![0, 0, 253] S2x1x1
  slices_S2x256x256_S2x1x256_0_254_0 : S2x256x256.Slices ![0, 254, 0] S2x1x256
  slices_S2x256x256_S2x256x1_0_0_254 : S2x256x256.Slices ![0, 0, 254] S2x256x1
  slices_S2x1x256_S2x1x1_0_0_254 : S2x1x256.Slices ![0, 0, 254] S2x1x1
  slices_S2x256x256_S2x1x256_0_255_0 : S2x256x256.Slices ![0, 255, 0] S2x1x256
  slices_S2x256x256_S2x256x1_0_0_255 : S2x256x256.Slices ![0, 0, 255] S2x256x1
  slices_S2x1x256_S2x1x1_0_0_255 : S2x1x256.Slices ![0, 0, 255] S2x1x1
  slices_S5x256x256_S1x1x1_0_1_1 : S5x256x256.Slices ![0, 1, 1] S1x1x1
  slices_S2x256x256_S1x1x1_0_1_1 : S2x256x256.Slices ![0, 1, 1] S1x1x1
  slices_S2x256x256_S1x1x1_1_1_1 : S2x256x256.Slices ![1, 1, 1] S1x1x1
  slices_S1x256x256_S1x1x256_0_0_0 : S1x256x256.Slices ![0, 0, 0] S1x1x256
  slices_S1x256x256_S1x256x1_0_0_0 : S1x256x256.Slices ![0, 0, 0] S1x256x1
  slices_S1x1x256_S1x1x1_0_0_0 : S1x1x256.Slices ![0, 0, 0] S1x1x1
  bcast_S1x1x1_S1x256x1_0_1_2 : S1x1x1.BroadcastsInDim S1x256x1 (![0, 1, 2] : Fin 3 → Fin S1x256x1.rank)
  bcast_S1x256x1_S1x256x256_0_1_2 : S1x256x1.BroadcastsInDim S1x256x256 (![0, 1, 2] : Fin 3 → Fin S1x256x256.rank)
  bcast_S1x1x256_S1x256x256_0_1_2 : S1x1x256.BroadcastsInDim S1x256x256 (![0, 1, 2] : Fin 3 → Fin S1x256x256.rank)
  slices_S1x256x256_S1x1x256_0_1_0 : S1x256x256.Slices ![0, 1, 0] S1x1x256
  slices_S1x256x256_S1x256x1_0_0_1 : S1x256x256.Slices ![0, 0, 1] S1x256x1
  slices_S1x1x256_S1x1x1_0_0_1 : S1x1x256.Slices ![0, 0, 1] S1x1x1
  slices_S1x256x256_S1x1x256_0_2_0 : S1x256x256.Slices ![0, 2, 0] S1x1x256
  slices_S1x256x256_S1x256x1_0_0_2 : S1x256x256.Slices ![0, 0, 2] S1x256x1
  slices_S1x1x256_S1x1x1_0_0_2 : S1x1x256.Slices ![0, 0, 2] S1x1x1
  slices_S1x256x256_S1x1x256_0_3_0 : S1x256x256.Slices ![0, 3, 0] S1x1x256
  slices_S1x256x256_S1x256x1_0_0_3 : S1x256x256.Slices ![0, 0, 3] S1x256x1
  slices_S1x1x256_S1x1x1_0_0_3 : S1x1x256.Slices ![0, 0, 3] S1x1x1
  slices_S1x256x256_S1x1x256_0_4_0 : S1x256x256.Slices ![0, 4, 0] S1x1x256
  slices_S1x256x256_S1x256x1_0_0_4 : S1x256x256.Slices ![0, 0, 4] S1x256x1
  slices_S1x1x256_S1x1x1_0_0_4 : S1x1x256.Slices ![0, 0, 4] S1x1x1
  slices_S1x256x256_S1x1x256_0_5_0 : S1x256x256.Slices ![0, 5, 0] S1x1x256
  slices_S1x256x256_S1x256x1_0_0_5 : S1x256x256.Slices ![0, 0, 5] S1x256x1
  slices_S1x1x256_S1x1x1_0_0_5 : S1x1x256.Slices ![0, 0, 5] S1x1x1
  slices_S1x256x256_S1x1x256_0_6_0 : S1x256x256.Slices ![0, 6, 0] S1x1x256
  slices_S1x256x256_S1x256x1_0_0_6 : S1x256x256.Slices ![0, 0, 6] S1x256x1
  slices_S1x1x256_S1x1x1_0_0_6 : S1x1x256.Slices ![0, 0, 6] S1x1x1
  slices_S1x256x256_S1x1x256_0_7_0 : S1x256x256.Slices ![0, 7, 0] S1x1x256
  slices_S1x256x256_S1x256x1_0_0_7 : S1x256x256.Slices ![0, 0, 7] S1x256x1
  slices_S1x1x256_S1x1x1_0_0_7 : S1x1x256.Slices ![0, 0, 7] S1x1x1
  slices_S1x256x256_S1x1x256_0_8_0 : S1x256x256.Slices ![0, 8, 0] S1x1x256
  slices_S1x256x256_S1x256x1_0_0_8 : S1x256x256.Slices ![0, 0, 8] S1x256x1
  slices_S1x1x256_S1x1x1_0_0_8 : S1x1x256.Slices ![0, 0, 8] S1x1x1
  slices_S1x256x256_S1x1x256_0_9_0 : S1x256x256.Slices ![0, 9, 0] S1x1x256
  slices_S1x256x256_S1x256x1_0_0_9 : S1x256x256.Slices ![0, 0, 9] S1x256x1
  slices_S1x1x256_S1x1x1_0_0_9 : S1x1x256.Slices ![0, 0, 9] S1x1x1
  slices_S1x256x256_S1x1x256_0_10_0 : S1x256x256.Slices ![0, 10, 0] S1x1x256
  slices_S1x256x256_S1x256x1_0_0_10 : S1x256x256.Slices ![0, 0, 10] S1x256x1
  slices_S1x1x256_S1x1x1_0_0_10 : S1x1x256.Slices ![0, 0, 10] S1x1x1
  slices_S1x256x256_S1x1x256_0_11_0 : S1x256x256.Slices ![0, 11, 0] S1x1x256
  slices_S1x256x256_S1x256x1_0_0_11 : S1x256x256.Slices ![0, 0, 11] S1x256x1
  slices_S1x1x256_S1x1x1_0_0_11 : S1x1x256.Slices ![0, 0, 11] S1x1x1
  slices_S1x256x256_S1x1x256_0_12_0 : S1x256x256.Slices ![0, 12, 0] S1x1x256
  slices_S1x256x256_S1x256x1_0_0_12 : S1x256x256.Slices ![0, 0, 12] S1x256x1
  slices_S1x1x256_S1x1x1_0_0_12 : S1x1x256.Slices ![0, 0, 12] S1x1x1
  slices_S1x256x256_S1x1x256_0_13_0 : S1x256x256.Slices ![0, 13, 0] S1x1x256
  slices_S1x256x256_S1x256x1_0_0_13 : S1x256x256.Slices ![0, 0, 13] S1x256x1
  slices_S1x1x256_S1x1x1_0_0_13 : S1x1x256.Slices ![0, 0, 13] S1x1x1
  slices_S1x256x256_S1x1x256_0_14_0 : S1x256x256.Slices ![0, 14, 0] S1x1x256
  slices_S1x256x256_S1x256x1_0_0_14 : S1x256x256.Slices ![0, 0, 14] S1x256x1
  slices_S1x1x256_S1x1x1_0_0_14 : S1x1x256.Slices ![0, 0, 14] S1x1x1
  slices_S1x256x256_S1x1x256_0_15_0 : S1x256x256.Slices ![0, 15, 0] S1x1x256
  slices_S1x256x256_S1x256x1_0_0_15 : S1x256x256.Slices ![0, 0, 15] S1x256x1
  slices_S1x1x256_S1x1x1_0_0_15 : S1x1x256.Slices ![0, 0, 15] S1x1x1
  slices_S1x256x256_S1x1x256_0_16_0 : S1x256x256.Slices ![0, 16, 0] S1x1x256
  slices_S1x256x256_S1x256x1_0_0_16 : S1x256x256.Slices ![0, 0, 16] S1x256x1
  slices_S1x1x256_S1x1x1_0_0_16 : S1x1x256.Slices ![0, 0, 16] S1x1x1
  slices_S1x256x256_S1x1x256_0_17_0 : S1x256x256.Slices ![0, 17, 0] S1x1x256
  slices_S1x256x256_S1x256x1_0_0_17 : S1x256x256.Slices ![0, 0, 17] S1x256x1
  slices_S1x1x256_S1x1x1_0_0_17 : S1x1x256.Slices ![0, 0, 17] S1x1x1
  slices_S1x256x256_S1x1x256_0_18_0 : S1x256x256.Slices ![0, 18, 0] S1x1x256
  slices_S1x256x256_S1x256x1_0_0_18 : S1x256x256.Slices ![0, 0, 18] S1x256x1
  slices_S1x1x256_S1x1x1_0_0_18 : S1x1x256.Slices ![0, 0, 18] S1x1x1
  slices_S1x256x256_S1x1x256_0_19_0 : S1x256x256.Slices ![0, 19, 0] S1x1x256
  slices_S1x256x256_S1x256x1_0_0_19 : S1x256x256.Slices ![0, 0, 19] S1x256x1
  slices_S1x1x256_S1x1x1_0_0_19 : S1x1x256.Slices ![0, 0, 19] S1x1x1
  slices_S1x256x256_S1x1x256_0_20_0 : S1x256x256.Slices ![0, 20, 0] S1x1x256
  slices_S1x256x256_S1x256x1_0_0_20 : S1x256x256.Slices ![0, 0, 20] S1x256x1
  slices_S1x1x256_S1x1x1_0_0_20 : S1x1x256.Slices ![0, 0, 20] S1x1x1
  slices_S1x256x256_S1x1x256_0_21_0 : S1x256x256.Slices ![0, 21, 0] S1x1x256
  slices_S1x256x256_S1x256x1_0_0_21 : S1x256x256.Slices ![0, 0, 21] S1x256x1
  slices_S1x1x256_S1x1x1_0_0_21 : S1x1x256.Slices ![0, 0, 21] S1x1x1
  slices_S1x256x256_S1x1x256_0_22_0 : S1x256x256.Slices ![0, 22, 0] S1x1x256
  slices_S1x256x256_S1x256x1_0_0_22 : S1x256x256.Slices ![0, 0, 22] S1x256x1
  slices_S1x1x256_S1x1x1_0_0_22 : S1x1x256.Slices ![0, 0, 22] S1x1x1
  slices_S1x256x256_S1x1x256_0_23_0 : S1x256x256.Slices ![0, 23, 0] S1x1x256
  slices_S1x256x256_S1x256x1_0_0_23 : S1x256x256.Slices ![0, 0, 23] S1x256x1
  slices_S1x1x256_S1x1x1_0_0_23 : S1x1x256.Slices ![0, 0, 23] S1x1x1
  slices_S1x256x256_S1x1x256_0_24_0 : S1x256x256.Slices ![0, 24, 0] S1x1x256
  slices_S1x256x256_S1x256x1_0_0_24 : S1x256x256.Slices ![0, 0, 24] S1x256x1
  slices_S1x1x256_S1x1x1_0_0_24 : S1x1x256.Slices ![0, 0, 24] S1x1x1
  slices_S1x256x256_S1x1x256_0_25_0 : S1x256x256.Slices ![0, 25, 0] S1x1x256
  slices_S1x256x256_S1x256x1_0_0_25 : S1x256x256.Slices ![0, 0, 25] S1x256x1
  slices_S1x1x256_S1x1x1_0_0_25 : S1x1x256.Slices ![0, 0, 25] S1x1x1
  slices_S1x256x256_S1x1x256_0_26_0 : S1x256x256.Slices ![0, 26, 0] S1x1x256
  slices_S1x256x256_S1x256x1_0_0_26 : S1x256x256.Slices ![0, 0, 26] S1x256x1
  slices_S1x1x256_S1x1x1_0_0_26 : S1x1x256.Slices ![0, 0, 26] S1x1x1
  slices_S1x256x256_S1x1x256_0_27_0 : S1x256x256.Slices ![0, 27, 0] S1x1x256
  slices_S1x256x256_S1x256x1_0_0_27 : S1x256x256.Slices ![0, 0, 27] S1x256x1
  slices_S1x1x256_S1x1x1_0_0_27 : S1x1x256.Slices ![0, 0, 27] S1x1x1
  slices_S1x256x256_S1x1x256_0_28_0 : S1x256x256.Slices ![0, 28, 0] S1x1x256
  slices_S1x256x256_S1x256x1_0_0_28 : S1x256x256.Slices ![0, 0, 28] S1x256x1
  slices_S1x1x256_S1x1x1_0_0_28 : S1x1x256.Slices ![0, 0, 28] S1x1x1
  slices_S1x256x256_S1x1x256_0_29_0 : S1x256x256.Slices ![0, 29, 0] S1x1x256
  slices_S1x256x256_S1x256x1_0_0_29 : S1x256x256.Slices ![0, 0, 29] S1x256x1
  slices_S1x1x256_S1x1x1_0_0_29 : S1x1x256.Slices ![0, 0, 29] S1x1x1
  slices_S1x256x256_S1x1x256_0_30_0 : S1x256x256.Slices ![0, 30, 0] S1x1x256
  slices_S1x256x256_S1x256x1_0_0_30 : S1x256x256.Slices ![0, 0, 30] S1x256x1
  slices_S1x1x256_S1x1x1_0_0_30 : S1x1x256.Slices ![0, 0, 30] S1x1x1
  slices_S1x256x256_S1x1x256_0_31_0 : S1x256x256.Slices ![0, 31, 0] S1x1x256
  slices_S1x256x256_S1x256x1_0_0_31 : S1x256x256.Slices ![0, 0, 31] S1x256x1
  slices_S1x1x256_S1x1x1_0_0_31 : S1x1x256.Slices ![0, 0, 31] S1x1x1
  slices_S1x256x256_S1x1x256_0_32_0 : S1x256x256.Slices ![0, 32, 0] S1x1x256
  slices_S1x256x256_S1x256x1_0_0_32 : S1x256x256.Slices ![0, 0, 32] S1x256x1
  slices_S1x1x256_S1x1x1_0_0_32 : S1x1x256.Slices ![0, 0, 32] S1x1x1
  slices_S1x256x256_S1x1x256_0_33_0 : S1x256x256.Slices ![0, 33, 0] S1x1x256
  slices_S1x256x256_S1x256x1_0_0_33 : S1x256x256.Slices ![0, 0, 33] S1x256x1
  slices_S1x1x256_S1x1x1_0_0_33 : S1x1x256.Slices ![0, 0, 33] S1x1x1
  slices_S1x256x256_S1x1x256_0_34_0 : S1x256x256.Slices ![0, 34, 0] S1x1x256
  slices_S1x256x256_S1x256x1_0_0_34 : S1x256x256.Slices ![0, 0, 34] S1x256x1
  slices_S1x1x256_S1x1x1_0_0_34 : S1x1x256.Slices ![0, 0, 34] S1x1x1
  slices_S1x256x256_S1x1x256_0_35_0 : S1x256x256.Slices ![0, 35, 0] S1x1x256
  slices_S1x256x256_S1x256x1_0_0_35 : S1x256x256.Slices ![0, 0, 35] S1x256x1
  slices_S1x1x256_S1x1x1_0_0_35 : S1x1x256.Slices ![0, 0, 35] S1x1x1
  slices_S1x256x256_S1x1x256_0_36_0 : S1x256x256.Slices ![0, 36, 0] S1x1x256
  slices_S1x256x256_S1x256x1_0_0_36 : S1x256x256.Slices ![0, 0, 36] S1x256x1
  slices_S1x1x256_S1x1x1_0_0_36 : S1x1x256.Slices ![0, 0, 36] S1x1x1
  slices_S1x256x256_S1x1x256_0_37_0 : S1x256x256.Slices ![0, 37, 0] S1x1x256
  slices_S1x256x256_S1x256x1_0_0_37 : S1x256x256.Slices ![0, 0, 37] S1x256x1
  slices_S1x1x256_S1x1x1_0_0_37 : S1x1x256.Slices ![0, 0, 37] S1x1x1
  slices_S1x256x256_S1x1x256_0_38_0 : S1x256x256.Slices ![0, 38, 0] S1x1x256
  slices_S1x256x256_S1x256x1_0_0_38 : S1x256x256.Slices ![0, 0, 38] S1x256x1
  slices_S1x1x256_S1x1x1_0_0_38 : S1x1x256.Slices ![0, 0, 38] S1x1x1
  slices_S1x256x256_S1x1x256_0_39_0 : S1x256x256.Slices ![0, 39, 0] S1x1x256
  slices_S1x256x256_S1x256x1_0_0_39 : S1x256x256.Slices ![0, 0, 39] S1x256x1
  slices_S1x1x256_S1x1x1_0_0_39 : S1x1x256.Slices ![0, 0, 39] S1x1x1
  slices_S1x256x256_S1x1x256_0_40_0 : S1x256x256.Slices ![0, 40, 0] S1x1x256
  slices_S1x256x256_S1x256x1_0_0_40 : S1x256x256.Slices ![0, 0, 40] S1x256x1
  slices_S1x1x256_S1x1x1_0_0_40 : S1x1x256.Slices ![0, 0, 40] S1x1x1
  slices_S1x256x256_S1x1x256_0_41_0 : S1x256x256.Slices ![0, 41, 0] S1x1x256
  slices_S1x256x256_S1x256x1_0_0_41 : S1x256x256.Slices ![0, 0, 41] S1x256x1
  slices_S1x1x256_S1x1x1_0_0_41 : S1x1x256.Slices ![0, 0, 41] S1x1x1
  slices_S1x256x256_S1x1x256_0_42_0 : S1x256x256.Slices ![0, 42, 0] S1x1x256
  slices_S1x256x256_S1x256x1_0_0_42 : S1x256x256.Slices ![0, 0, 42] S1x256x1
  slices_S1x1x256_S1x1x1_0_0_42 : S1x1x256.Slices ![0, 0, 42] S1x1x1
  slices_S1x256x256_S1x1x256_0_43_0 : S1x256x256.Slices ![0, 43, 0] S1x1x256
  slices_S1x256x256_S1x256x1_0_0_43 : S1x256x256.Slices ![0, 0, 43] S1x256x1
  slices_S1x1x256_S1x1x1_0_0_43 : S1x1x256.Slices ![0, 0, 43] S1x1x1
  slices_S1x256x256_S1x1x256_0_44_0 : S1x256x256.Slices ![0, 44, 0] S1x1x256
  slices_S1x256x256_S1x256x1_0_0_44 : S1x256x256.Slices ![0, 0, 44] S1x256x1
  slices_S1x1x256_S1x1x1_0_0_44 : S1x1x256.Slices ![0, 0, 44] S1x1x1
  slices_S1x256x256_S1x1x256_0_45_0 : S1x256x256.Slices ![0, 45, 0] S1x1x256
  slices_S1x256x256_S1x256x1_0_0_45 : S1x256x256.Slices ![0, 0, 45] S1x256x1
  slices_S1x1x256_S1x1x1_0_0_45 : S1x1x256.Slices ![0, 0, 45] S1x1x1
  slices_S1x256x256_S1x1x256_0_46_0 : S1x256x256.Slices ![0, 46, 0] S1x1x256
  slices_S1x256x256_S1x256x1_0_0_46 : S1x256x256.Slices ![0, 0, 46] S1x256x1
  slices_S1x1x256_S1x1x1_0_0_46 : S1x1x256.Slices ![0, 0, 46] S1x1x1
  slices_S1x256x256_S1x1x256_0_47_0 : S1x256x256.Slices ![0, 47, 0] S1x1x256
  slices_S1x256x256_S1x256x1_0_0_47 : S1x256x256.Slices ![0, 0, 47] S1x256x1
  slices_S1x1x256_S1x1x1_0_0_47 : S1x1x256.Slices ![0, 0, 47] S1x1x1
  slices_S1x256x256_S1x1x256_0_48_0 : S1x256x256.Slices ![0, 48, 0] S1x1x256
  slices_S1x256x256_S1x256x1_0_0_48 : S1x256x256.Slices ![0, 0, 48] S1x256x1
  slices_S1x1x256_S1x1x1_0_0_48 : S1x1x256.Slices ![0, 0, 48] S1x1x1
  slices_S1x256x256_S1x1x256_0_49_0 : S1x256x256.Slices ![0, 49, 0] S1x1x256
  slices_S1x256x256_S1x256x1_0_0_49 : S1x256x256.Slices ![0, 0, 49] S1x256x1
  slices_S1x1x256_S1x1x1_0_0_49 : S1x1x256.Slices ![0, 0, 49] S1x1x1
  slices_S1x256x256_S1x1x256_0_50_0 : S1x256x256.Slices ![0, 50, 0] S1x1x256
  slices_S1x256x256_S1x256x1_0_0_50 : S1x256x256.Slices ![0, 0, 50] S1x256x1
  slices_S1x1x256_S1x1x1_0_0_50 : S1x1x256.Slices ![0, 0, 50] S1x1x1
  slices_S1x256x256_S1x1x256_0_51_0 : S1x256x256.Slices ![0, 51, 0] S1x1x256
  slices_S1x256x256_S1x256x1_0_0_51 : S1x256x256.Slices ![0, 0, 51] S1x256x1
  slices_S1x1x256_S1x1x1_0_0_51 : S1x1x256.Slices ![0, 0, 51] S1x1x1
  slices_S1x256x256_S1x1x256_0_52_0 : S1x256x256.Slices ![0, 52, 0] S1x1x256
  slices_S1x256x256_S1x256x1_0_0_52 : S1x256x256.Slices ![0, 0, 52] S1x256x1
  slices_S1x1x256_S1x1x1_0_0_52 : S1x1x256.Slices ![0, 0, 52] S1x1x1
  slices_S1x256x256_S1x1x256_0_53_0 : S1x256x256.Slices ![0, 53, 0] S1x1x256
  slices_S1x256x256_S1x256x1_0_0_53 : S1x256x256.Slices ![0, 0, 53] S1x256x1
  slices_S1x1x256_S1x1x1_0_0_53 : S1x1x256.Slices ![0, 0, 53] S1x1x1
  slices_S1x256x256_S1x1x256_0_54_0 : S1x256x256.Slices ![0, 54, 0] S1x1x256
  slices_S1x256x256_S1x256x1_0_0_54 : S1x256x256.Slices ![0, 0, 54] S1x256x1
  slices_S1x1x256_S1x1x1_0_0_54 : S1x1x256.Slices ![0, 0, 54] S1x1x1
  slices_S1x256x256_S1x1x256_0_55_0 : S1x256x256.Slices ![0, 55, 0] S1x1x256
  slices_S1x256x256_S1x256x1_0_0_55 : S1x256x256.Slices ![0, 0, 55] S1x256x1
  slices_S1x1x256_S1x1x1_0_0_55 : S1x1x256.Slices ![0, 0, 55] S1x1x1
  slices_S1x256x256_S1x1x256_0_56_0 : S1x256x256.Slices ![0, 56, 0] S1x1x256
  slices_S1x256x256_S1x256x1_0_0_56 : S1x256x256.Slices ![0, 0, 56] S1x256x1
  slices_S1x1x256_S1x1x1_0_0_56 : S1x1x256.Slices ![0, 0, 56] S1x1x1
  slices_S1x256x256_S1x1x256_0_57_0 : S1x256x256.Slices ![0, 57, 0] S1x1x256
  slices_S1x256x256_S1x256x1_0_0_57 : S1x256x256.Slices ![0, 0, 57] S1x256x1
  slices_S1x1x256_S1x1x1_0_0_57 : S1x1x256.Slices ![0, 0, 57] S1x1x1
  slices_S1x256x256_S1x1x256_0_58_0 : S1x256x256.Slices ![0, 58, 0] S1x1x256
  slices_S1x256x256_S1x256x1_0_0_58 : S1x256x256.Slices ![0, 0, 58] S1x256x1
  slices_S1x1x256_S1x1x1_0_0_58 : S1x1x256.Slices ![0, 0, 58] S1x1x1
  slices_S1x256x256_S1x1x256_0_59_0 : S1x256x256.Slices ![0, 59, 0] S1x1x256
  slices_S1x256x256_S1x256x1_0_0_59 : S1x256x256.Slices ![0, 0, 59] S1x256x1
  slices_S1x1x256_S1x1x1_0_0_59 : S1x1x256.Slices ![0, 0, 59] S1x1x1
  slices_S1x256x256_S1x1x256_0_60_0 : S1x256x256.Slices ![0, 60, 0] S1x1x256
  slices_S1x256x256_S1x256x1_0_0_60 : S1x256x256.Slices ![0, 0, 60] S1x256x1
  slices_S1x1x256_S1x1x1_0_0_60 : S1x1x256.Slices ![0, 0, 60] S1x1x1
  slices_S1x256x256_S1x1x256_0_61_0 : S1x256x256.Slices ![0, 61, 0] S1x1x256
  slices_S1x256x256_S1x256x1_0_0_61 : S1x256x256.Slices ![0, 0, 61] S1x256x1
  slices_S1x1x256_S1x1x1_0_0_61 : S1x1x256.Slices ![0, 0, 61] S1x1x1
  slices_S1x256x256_S1x1x256_0_62_0 : S1x256x256.Slices ![0, 62, 0] S1x1x256
  slices_S1x256x256_S1x256x1_0_0_62 : S1x256x256.Slices ![0, 0, 62] S1x256x1
  slices_S1x1x256_S1x1x1_0_0_62 : S1x1x256.Slices ![0, 0, 62] S1x1x1
  slices_S1x256x256_S1x1x256_0_63_0 : S1x256x256.Slices ![0, 63, 0] S1x1x256
  slices_S1x256x256_S1x256x1_0_0_63 : S1x256x256.Slices ![0, 0, 63] S1x256x1
  slices_S1x1x256_S1x1x1_0_0_63 : S1x1x256.Slices ![0, 0, 63] S1x1x1
  slices_S1x256x256_S1x1x256_0_64_0 : S1x256x256.Slices ![0, 64, 0] S1x1x256
  slices_S1x256x256_S1x256x1_0_0_64 : S1x256x256.Slices ![0, 0, 64] S1x256x1
  slices_S1x1x256_S1x1x1_0_0_64 : S1x1x256.Slices ![0, 0, 64] S1x1x1
  slices_S1x256x256_S1x1x256_0_65_0 : S1x256x256.Slices ![0, 65, 0] S1x1x256
  slices_S1x256x256_S1x256x1_0_0_65 : S1x256x256.Slices ![0, 0, 65] S1x256x1
  slices_S1x1x256_S1x1x1_0_0_65 : S1x1x256.Slices ![0, 0, 65] S1x1x1
  slices_S1x256x256_S1x1x256_0_66_0 : S1x256x256.Slices ![0, 66, 0] S1x1x256
  slices_S1x256x256_S1x256x1_0_0_66 : S1x256x256.Slices ![0, 0, 66] S1x256x1
  slices_S1x1x256_S1x1x1_0_0_66 : S1x1x256.Slices ![0, 0, 66] S1x1x1
  slices_S1x256x256_S1x1x256_0_67_0 : S1x256x256.Slices ![0, 67, 0] S1x1x256
  slices_S1x256x256_S1x256x1_0_0_67 : S1x256x256.Slices ![0, 0, 67] S1x256x1
  slices_S1x1x256_S1x1x1_0_0_67 : S1x1x256.Slices ![0, 0, 67] S1x1x1
  slices_S1x256x256_S1x1x256_0_68_0 : S1x256x256.Slices ![0, 68, 0] S1x1x256
  slices_S1x256x256_S1x256x1_0_0_68 : S1x256x256.Slices ![0, 0, 68] S1x256x1
  slices_S1x1x256_S1x1x1_0_0_68 : S1x1x256.Slices ![0, 0, 68] S1x1x1
  slices_S1x256x256_S1x1x256_0_69_0 : S1x256x256.Slices ![0, 69, 0] S1x1x256
  slices_S1x256x256_S1x256x1_0_0_69 : S1x256x256.Slices ![0, 0, 69] S1x256x1
  slices_S1x1x256_S1x1x1_0_0_69 : S1x1x256.Slices ![0, 0, 69] S1x1x1
  slices_S1x256x256_S1x1x256_0_70_0 : S1x256x256.Slices ![0, 70, 0] S1x1x256
  slices_S1x256x256_S1x256x1_0_0_70 : S1x256x256.Slices ![0, 0, 70] S1x256x1
  slices_S1x1x256_S1x1x1_0_0_70 : S1x1x256.Slices ![0, 0, 70] S1x1x1
  slices_S1x256x256_S1x1x256_0_71_0 : S1x256x256.Slices ![0, 71, 0] S1x1x256
  slices_S1x256x256_S1x256x1_0_0_71 : S1x256x256.Slices ![0, 0, 71] S1x256x1
  slices_S1x1x256_S1x1x1_0_0_71 : S1x1x256.Slices ![0, 0, 71] S1x1x1
  slices_S1x256x256_S1x1x256_0_72_0 : S1x256x256.Slices ![0, 72, 0] S1x1x256
  slices_S1x256x256_S1x256x1_0_0_72 : S1x256x256.Slices ![0, 0, 72] S1x256x1
  slices_S1x1x256_S1x1x1_0_0_72 : S1x1x256.Slices ![0, 0, 72] S1x1x1
  slices_S1x256x256_S1x1x256_0_73_0 : S1x256x256.Slices ![0, 73, 0] S1x1x256
  slices_S1x256x256_S1x256x1_0_0_73 : S1x256x256.Slices ![0, 0, 73] S1x256x1
  slices_S1x1x256_S1x1x1_0_0_73 : S1x1x256.Slices ![0, 0, 73] S1x1x1
  slices_S1x256x256_S1x1x256_0_74_0 : S1x256x256.Slices ![0, 74, 0] S1x1x256
  slices_S1x256x256_S1x256x1_0_0_74 : S1x256x256.Slices ![0, 0, 74] S1x256x1
  slices_S1x1x256_S1x1x1_0_0_74 : S1x1x256.Slices ![0, 0, 74] S1x1x1
  slices_S1x256x256_S1x1x256_0_75_0 : S1x256x256.Slices ![0, 75, 0] S1x1x256
  slices_S1x256x256_S1x256x1_0_0_75 : S1x256x256.Slices ![0, 0, 75] S1x256x1
  slices_S1x1x256_S1x1x1_0_0_75 : S1x1x256.Slices ![0, 0, 75] S1x1x1
  slices_S1x256x256_S1x1x256_0_76_0 : S1x256x256.Slices ![0, 76, 0] S1x1x256
  slices_S1x256x256_S1x256x1_0_0_76 : S1x256x256.Slices ![0, 0, 76] S1x256x1
  slices_S1x1x256_S1x1x1_0_0_76 : S1x1x256.Slices ![0, 0, 76] S1x1x1
  slices_S1x256x256_S1x1x256_0_77_0 : S1x256x256.Slices ![0, 77, 0] S1x1x256
  slices_S1x256x256_S1x256x1_0_0_77 : S1x256x256.Slices ![0, 0, 77] S1x256x1
  slices_S1x1x256_S1x1x1_0_0_77 : S1x1x256.Slices ![0, 0, 77] S1x1x1
  slices_S1x256x256_S1x1x256_0_78_0 : S1x256x256.Slices ![0, 78, 0] S1x1x256
  slices_S1x256x256_S1x256x1_0_0_78 : S1x256x256.Slices ![0, 0, 78] S1x256x1
  slices_S1x1x256_S1x1x1_0_0_78 : S1x1x256.Slices ![0, 0, 78] S1x1x1
  slices_S1x256x256_S1x1x256_0_79_0 : S1x256x256.Slices ![0, 79, 0] S1x1x256
  slices_S1x256x256_S1x256x1_0_0_79 : S1x256x256.Slices ![0, 0, 79] S1x256x1
  slices_S1x1x256_S1x1x1_0_0_79 : S1x1x256.Slices ![0, 0, 79] S1x1x1
  slices_S1x256x256_S1x1x256_0_80_0 : S1x256x256.Slices ![0, 80, 0] S1x1x256
  slices_S1x256x256_S1x256x1_0_0_80 : S1x256x256.Slices ![0, 0, 80] S1x256x1
  slices_S1x1x256_S1x1x1_0_0_80 : S1x1x256.Slices ![0, 0, 80] S1x1x1
  slices_S1x256x256_S1x1x256_0_81_0 : S1x256x256.Slices ![0, 81, 0] S1x1x256
  slices_S1x256x256_S1x256x1_0_0_81 : S1x256x256.Slices ![0, 0, 81] S1x256x1
  slices_S1x1x256_S1x1x1_0_0_81 : S1x1x256.Slices ![0, 0, 81] S1x1x1
  slices_S1x256x256_S1x1x256_0_82_0 : S1x256x256.Slices ![0, 82, 0] S1x1x256
  slices_S1x256x256_S1x256x1_0_0_82 : S1x256x256.Slices ![0, 0, 82] S1x256x1
  slices_S1x1x256_S1x1x1_0_0_82 : S1x1x256.Slices ![0, 0, 82] S1x1x1
  slices_S1x256x256_S1x1x256_0_83_0 : S1x256x256.Slices ![0, 83, 0] S1x1x256
  slices_S1x256x256_S1x256x1_0_0_83 : S1x256x256.Slices ![0, 0, 83] S1x256x1
  slices_S1x1x256_S1x1x1_0_0_83 : S1x1x256.Slices ![0, 0, 83] S1x1x1
  slices_S1x256x256_S1x1x256_0_84_0 : S1x256x256.Slices ![0, 84, 0] S1x1x256
  slices_S1x256x256_S1x256x1_0_0_84 : S1x256x256.Slices ![0, 0, 84] S1x256x1
  slices_S1x1x256_S1x1x1_0_0_84 : S1x1x256.Slices ![0, 0, 84] S1x1x1
  slices_S1x256x256_S1x1x256_0_85_0 : S1x256x256.Slices ![0, 85, 0] S1x1x256
  slices_S1x256x256_S1x256x1_0_0_85 : S1x256x256.Slices ![0, 0, 85] S1x256x1
  slices_S1x1x256_S1x1x1_0_0_85 : S1x1x256.Slices ![0, 0, 85] S1x1x1
  slices_S1x256x256_S1x1x256_0_86_0 : S1x256x256.Slices ![0, 86, 0] S1x1x256
  slices_S1x256x256_S1x256x1_0_0_86 : S1x256x256.Slices ![0, 0, 86] S1x256x1
  slices_S1x1x256_S1x1x1_0_0_86 : S1x1x256.Slices ![0, 0, 86] S1x1x1
  slices_S1x256x256_S1x1x256_0_87_0 : S1x256x256.Slices ![0, 87, 0] S1x1x256
  slices_S1x256x256_S1x256x1_0_0_87 : S1x256x256.Slices ![0, 0, 87] S1x256x1
  slices_S1x1x256_S1x1x1_0_0_87 : S1x1x256.Slices ![0, 0, 87] S1x1x1
  slices_S1x256x256_S1x1x256_0_88_0 : S1x256x256.Slices ![0, 88, 0] S1x1x256
  slices_S1x256x256_S1x256x1_0_0_88 : S1x256x256.Slices ![0, 0, 88] S1x256x1
  slices_S1x1x256_S1x1x1_0_0_88 : S1x1x256.Slices ![0, 0, 88] S1x1x1
  slices_S1x256x256_S1x1x256_0_89_0 : S1x256x256.Slices ![0, 89, 0] S1x1x256
  slices_S1x256x256_S1x256x1_0_0_89 : S1x256x256.Slices ![0, 0, 89] S1x256x1
  slices_S1x1x256_S1x1x1_0_0_89 : S1x1x256.Slices ![0, 0, 89] S1x1x1
  slices_S1x256x256_S1x1x256_0_90_0 : S1x256x256.Slices ![0, 90, 0] S1x1x256
  slices_S1x256x256_S1x256x1_0_0_90 : S1x256x256.Slices ![0, 0, 90] S1x256x1
  slices_S1x1x256_S1x1x1_0_0_90 : S1x1x256.Slices ![0, 0, 90] S1x1x1
  slices_S1x256x256_S1x1x256_0_91_0 : S1x256x256.Slices ![0, 91, 0] S1x1x256
  slices_S1x256x256_S1x256x1_0_0_91 : S1x256x256.Slices ![0, 0, 91] S1x256x1
  slices_S1x1x256_S1x1x1_0_0_91 : S1x1x256.Slices ![0, 0, 91] S1x1x1
  slices_S1x256x256_S1x1x256_0_92_0 : S1x256x256.Slices ![0, 92, 0] S1x1x256
  slices_S1x256x256_S1x256x1_0_0_92 : S1x256x256.Slices ![0, 0, 92] S1x256x1
  slices_S1x1x256_S1x1x1_0_0_92 : S1x1x256.Slices ![0, 0, 92] S1x1x1
  slices_S1x256x256_S1x1x256_0_93_0 : S1x256x256.Slices ![0, 93, 0] S1x1x256
  slices_S1x256x256_S1x256x1_0_0_93 : S1x256x256.Slices ![0, 0, 93] S1x256x1
  slices_S1x1x256_S1x1x1_0_0_93 : S1x1x256.Slices ![0, 0, 93] S1x1x1
  slices_S1x256x256_S1x1x256_0_94_0 : S1x256x256.Slices ![0, 94, 0] S1x1x256
  slices_S1x256x256_S1x256x1_0_0_94 : S1x256x256.Slices ![0, 0, 94] S1x256x1
  slices_S1x1x256_S1x1x1_0_0_94 : S1x1x256.Slices ![0, 0, 94] S1x1x1
  slices_S1x256x256_S1x1x256_0_95_0 : S1x256x256.Slices ![0, 95, 0] S1x1x256
  slices_S1x256x256_S1x256x1_0_0_95 : S1x256x256.Slices ![0, 0, 95] S1x256x1
  slices_S1x1x256_S1x1x1_0_0_95 : S1x1x256.Slices ![0, 0, 95] S1x1x1
  slices_S1x256x256_S1x1x256_0_96_0 : S1x256x256.Slices ![0, 96, 0] S1x1x256
  slices_S1x256x256_S1x256x1_0_0_96 : S1x256x256.Slices ![0, 0, 96] S1x256x1
  slices_S1x1x256_S1x1x1_0_0_96 : S1x1x256.Slices ![0, 0, 96] S1x1x1
  slices_S1x256x256_S1x1x256_0_97_0 : S1x256x256.Slices ![0, 97, 0] S1x1x256
  slices_S1x256x256_S1x256x1_0_0_97 : S1x256x256.Slices ![0, 0, 97] S1x256x1
  slices_S1x1x256_S1x1x1_0_0_97 : S1x1x256.Slices ![0, 0, 97] S1x1x1
  slices_S1x256x256_S1x1x256_0_98_0 : S1x256x256.Slices ![0, 98, 0] S1x1x256
  slices_S1x256x256_S1x256x1_0_0_98 : S1x256x256.Slices ![0, 0, 98] S1x256x1
  slices_S1x1x256_S1x1x1_0_0_98 : S1x1x256.Slices ![0, 0, 98] S1x1x1
  slices_S1x256x256_S1x1x256_0_99_0 : S1x256x256.Slices ![0, 99, 0] S1x1x256
  slices_S1x256x256_S1x256x1_0_0_99 : S1x256x256.Slices ![0, 0, 99] S1x256x1
  slices_S1x1x256_S1x1x1_0_0_99 : S1x1x256.Slices ![0, 0, 99] S1x1x1
  slices_S1x256x256_S1x1x256_0_100_0 : S1x256x256.Slices ![0, 100, 0] S1x1x256
  slices_S1x256x256_S1x256x1_0_0_100 : S1x256x256.Slices ![0, 0, 100] S1x256x1
  slices_S1x1x256_S1x1x1_0_0_100 : S1x1x256.Slices ![0, 0, 100] S1x1x1
  slices_S1x256x256_S1x1x256_0_101_0 : S1x256x256.Slices ![0, 101, 0] S1x1x256
  slices_S1x256x256_S1x256x1_0_0_101 : S1x256x256.Slices ![0, 0, 101] S1x256x1
  slices_S1x1x256_S1x1x1_0_0_101 : S1x1x256.Slices ![0, 0, 101] S1x1x1
  slices_S1x256x256_S1x1x256_0_102_0 : S1x256x256.Slices ![0, 102, 0] S1x1x256
  slices_S1x256x256_S1x256x1_0_0_102 : S1x256x256.Slices ![0, 0, 102] S1x256x1
  slices_S1x1x256_S1x1x1_0_0_102 : S1x1x256.Slices ![0, 0, 102] S1x1x1
  slices_S1x256x256_S1x1x256_0_103_0 : S1x256x256.Slices ![0, 103, 0] S1x1x256
  slices_S1x256x256_S1x256x1_0_0_103 : S1x256x256.Slices ![0, 0, 103] S1x256x1
  slices_S1x1x256_S1x1x1_0_0_103 : S1x1x256.Slices ![0, 0, 103] S1x1x1
  slices_S1x256x256_S1x1x256_0_104_0 : S1x256x256.Slices ![0, 104, 0] S1x1x256
  slices_S1x256x256_S1x256x1_0_0_104 : S1x256x256.Slices ![0, 0, 104] S1x256x1
  slices_S1x1x256_S1x1x1_0_0_104 : S1x1x256.Slices ![0, 0, 104] S1x1x1
  slices_S1x256x256_S1x1x256_0_105_0 : S1x256x256.Slices ![0, 105, 0] S1x1x256
  slices_S1x256x256_S1x256x1_0_0_105 : S1x256x256.Slices ![0, 0, 105] S1x256x1
  slices_S1x1x256_S1x1x1_0_0_105 : S1x1x256.Slices ![0, 0, 105] S1x1x1
  slices_S1x256x256_S1x1x256_0_106_0 : S1x256x256.Slices ![0, 106, 0] S1x1x256
  slices_S1x256x256_S1x256x1_0_0_106 : S1x256x256.Slices ![0, 0, 106] S1x256x1
  slices_S1x1x256_S1x1x1_0_0_106 : S1x1x256.Slices ![0, 0, 106] S1x1x1
  slices_S1x256x256_S1x1x256_0_107_0 : S1x256x256.Slices ![0, 107, 0] S1x1x256
  slices_S1x256x256_S1x256x1_0_0_107 : S1x256x256.Slices ![0, 0, 107] S1x256x1
  slices_S1x1x256_S1x1x1_0_0_107 : S1x1x256.Slices ![0, 0, 107] S1x1x1
  slices_S1x256x256_S1x1x256_0_108_0 : S1x256x256.Slices ![0, 108, 0] S1x1x256
  slices_S1x256x256_S1x256x1_0_0_108 : S1x256x256.Slices ![0, 0, 108] S1x256x1
  slices_S1x1x256_S1x1x1_0_0_108 : S1x1x256.Slices ![0, 0, 108] S1x1x1
  slices_S1x256x256_S1x1x256_0_109_0 : S1x256x256.Slices ![0, 109, 0] S1x1x256
  slices_S1x256x256_S1x256x1_0_0_109 : S1x256x256.Slices ![0, 0, 109] S1x256x1
  slices_S1x1x256_S1x1x1_0_0_109 : S1x1x256.Slices ![0, 0, 109] S1x1x1
  slices_S1x256x256_S1x1x256_0_110_0 : S1x256x256.Slices ![0, 110, 0] S1x1x256
  slices_S1x256x256_S1x256x1_0_0_110 : S1x256x256.Slices ![0, 0, 110] S1x256x1
  slices_S1x1x256_S1x1x1_0_0_110 : S1x1x256.Slices ![0, 0, 110] S1x1x1
  slices_S1x256x256_S1x1x256_0_111_0 : S1x256x256.Slices ![0, 111, 0] S1x1x256
  slices_S1x256x256_S1x256x1_0_0_111 : S1x256x256.Slices ![0, 0, 111] S1x256x1
  slices_S1x1x256_S1x1x1_0_0_111 : S1x1x256.Slices ![0, 0, 111] S1x1x1
  slices_S1x256x256_S1x1x256_0_112_0 : S1x256x256.Slices ![0, 112, 0] S1x1x256
  slices_S1x256x256_S1x256x1_0_0_112 : S1x256x256.Slices ![0, 0, 112] S1x256x1
  slices_S1x1x256_S1x1x1_0_0_112 : S1x1x256.Slices ![0, 0, 112] S1x1x1
  slices_S1x256x256_S1x1x256_0_113_0 : S1x256x256.Slices ![0, 113, 0] S1x1x256
  slices_S1x256x256_S1x256x1_0_0_113 : S1x256x256.Slices ![0, 0, 113] S1x256x1
  slices_S1x1x256_S1x1x1_0_0_113 : S1x1x256.Slices ![0, 0, 113] S1x1x1
  slices_S1x256x256_S1x1x256_0_114_0 : S1x256x256.Slices ![0, 114, 0] S1x1x256
  slices_S1x256x256_S1x256x1_0_0_114 : S1x256x256.Slices ![0, 0, 114] S1x256x1
  slices_S1x1x256_S1x1x1_0_0_114 : S1x1x256.Slices ![0, 0, 114] S1x1x1
  slices_S1x256x256_S1x1x256_0_115_0 : S1x256x256.Slices ![0, 115, 0] S1x1x256
  slices_S1x256x256_S1x256x1_0_0_115 : S1x256x256.Slices ![0, 0, 115] S1x256x1
  slices_S1x1x256_S1x1x1_0_0_115 : S1x1x256.Slices ![0, 0, 115] S1x1x1
  slices_S1x256x256_S1x1x256_0_116_0 : S1x256x256.Slices ![0, 116, 0] S1x1x256
  slices_S1x256x256_S1x256x1_0_0_116 : S1x256x256.Slices ![0, 0, 116] S1x256x1
  slices_S1x1x256_S1x1x1_0_0_116 : S1x1x256.Slices ![0, 0, 116] S1x1x1
  slices_S1x256x256_S1x1x256_0_117_0 : S1x256x256.Slices ![0, 117, 0] S1x1x256
  slices_S1x256x256_S1x256x1_0_0_117 : S1x256x256.Slices ![0, 0, 117] S1x256x1
  slices_S1x1x256_S1x1x1_0_0_117 : S1x1x256.Slices ![0, 0, 117] S1x1x1
  slices_S1x256x256_S1x1x256_0_118_0 : S1x256x256.Slices ![0, 118, 0] S1x1x256
  slices_S1x256x256_S1x256x1_0_0_118 : S1x256x256.Slices ![0, 0, 118] S1x256x1
  slices_S1x1x256_S1x1x1_0_0_118 : S1x1x256.Slices ![0, 0, 118] S1x1x1
  slices_S1x256x256_S1x1x256_0_119_0 : S1x256x256.Slices ![0, 119, 0] S1x1x256
  slices_S1x256x256_S1x256x1_0_0_119 : S1x256x256.Slices ![0, 0, 119] S1x256x1
  slices_S1x1x256_S1x1x1_0_0_119 : S1x1x256.Slices ![0, 0, 119] S1x1x1
  slices_S1x256x256_S1x1x256_0_120_0 : S1x256x256.Slices ![0, 120, 0] S1x1x256
  slices_S1x256x256_S1x256x1_0_0_120 : S1x256x256.Slices ![0, 0, 120] S1x256x1
  slices_S1x1x256_S1x1x1_0_0_120 : S1x1x256.Slices ![0, 0, 120] S1x1x1
  slices_S1x256x256_S1x1x256_0_121_0 : S1x256x256.Slices ![0, 121, 0] S1x1x256
  slices_S1x256x256_S1x256x1_0_0_121 : S1x256x256.Slices ![0, 0, 121] S1x256x1
  slices_S1x1x256_S1x1x1_0_0_121 : S1x1x256.Slices ![0, 0, 121] S1x1x1
  slices_S1x256x256_S1x1x256_0_122_0 : S1x256x256.Slices ![0, 122, 0] S1x1x256
  slices_S1x256x256_S1x256x1_0_0_122 : S1x256x256.Slices ![0, 0, 122] S1x256x1
  slices_S1x1x256_S1x1x1_0_0_122 : S1x1x256.Slices ![0, 0, 122] S1x1x1
  slices_S1x256x256_S1x1x256_0_123_0 : S1x256x256.Slices ![0, 123, 0] S1x1x256
  slices_S1x256x256_S1x256x1_0_0_123 : S1x256x256.Slices ![0, 0, 123] S1x256x1
  slices_S1x1x256_S1x1x1_0_0_123 : S1x1x256.Slices ![0, 0, 123] S1x1x1
  slices_S1x256x256_S1x1x256_0_124_0 : S1x256x256.Slices ![0, 124, 0] S1x1x256
  slices_S1x256x256_S1x256x1_0_0_124 : S1x256x256.Slices ![0, 0, 124] S1x256x1
  slices_S1x1x256_S1x1x1_0_0_124 : S1x1x256.Slices ![0, 0, 124] S1x1x1
  slices_S1x256x256_S1x1x256_0_125_0 : S1x256x256.Slices ![0, 125, 0] S1x1x256
  slices_S1x256x256_S1x256x1_0_0_125 : S1x256x256.Slices ![0, 0, 125] S1x256x1
  slices_S1x1x256_S1x1x1_0_0_125 : S1x1x256.Slices ![0, 0, 125] S1x1x1
  slices_S1x256x256_S1x1x256_0_126_0 : S1x256x256.Slices ![0, 126, 0] S1x1x256
  slices_S1x256x256_S1x256x1_0_0_126 : S1x256x256.Slices ![0, 0, 126] S1x256x1
  slices_S1x1x256_S1x1x1_0_0_126 : S1x1x256.Slices ![0, 0, 126] S1x1x1
  slices_S1x256x256_S1x1x256_0_127_0 : S1x256x256.Slices ![0, 127, 0] S1x1x256
  slices_S1x256x256_S1x256x1_0_0_127 : S1x256x256.Slices ![0, 0, 127] S1x256x1
  slices_S1x1x256_S1x1x1_0_0_127 : S1x1x256.Slices ![0, 0, 127] S1x1x1
  slices_S1x256x256_S1x1x256_0_128_0 : S1x256x256.Slices ![0, 128, 0] S1x1x256
  slices_S1x256x256_S1x256x1_0_0_128 : S1x256x256.Slices ![0, 0, 128] S1x256x1
  slices_S1x1x256_S1x1x1_0_0_128 : S1x1x256.Slices ![0, 0, 128] S1x1x1
  slices_S1x256x256_S1x1x256_0_129_0 : S1x256x256.Slices ![0, 129, 0] S1x1x256
  slices_S1x256x256_S1x256x1_0_0_129 : S1x256x256.Slices ![0, 0, 129] S1x256x1
  slices_S1x1x256_S1x1x1_0_0_129 : S1x1x256.Slices ![0, 0, 129] S1x1x1
  slices_S1x256x256_S1x1x256_0_130_0 : S1x256x256.Slices ![0, 130, 0] S1x1x256
  slices_S1x256x256_S1x256x1_0_0_130 : S1x256x256.Slices ![0, 0, 130] S1x256x1
  slices_S1x1x256_S1x1x1_0_0_130 : S1x1x256.Slices ![0, 0, 130] S1x1x1
  slices_S1x256x256_S1x1x256_0_131_0 : S1x256x256.Slices ![0, 131, 0] S1x1x256
  slices_S1x256x256_S1x256x1_0_0_131 : S1x256x256.Slices ![0, 0, 131] S1x256x1
  slices_S1x1x256_S1x1x1_0_0_131 : S1x1x256.Slices ![0, 0, 131] S1x1x1
  slices_S1x256x256_S1x1x256_0_132_0 : S1x256x256.Slices ![0, 132, 0] S1x1x256
  slices_S1x256x256_S1x256x1_0_0_132 : S1x256x256.Slices ![0, 0, 132] S1x256x1
  slices_S1x1x256_S1x1x1_0_0_132 : S1x1x256.Slices ![0, 0, 132] S1x1x1
  slices_S1x256x256_S1x1x256_0_133_0 : S1x256x256.Slices ![0, 133, 0] S1x1x256
  slices_S1x256x256_S1x256x1_0_0_133 : S1x256x256.Slices ![0, 0, 133] S1x256x1
  slices_S1x1x256_S1x1x1_0_0_133 : S1x1x256.Slices ![0, 0, 133] S1x1x1
  slices_S1x256x256_S1x1x256_0_134_0 : S1x256x256.Slices ![0, 134, 0] S1x1x256
  slices_S1x256x256_S1x256x1_0_0_134 : S1x256x256.Slices ![0, 0, 134] S1x256x1
  slices_S1x1x256_S1x1x1_0_0_134 : S1x1x256.Slices ![0, 0, 134] S1x1x1
  slices_S1x256x256_S1x1x256_0_135_0 : S1x256x256.Slices ![0, 135, 0] S1x1x256
  slices_S1x256x256_S1x256x1_0_0_135 : S1x256x256.Slices ![0, 0, 135] S1x256x1
  slices_S1x1x256_S1x1x1_0_0_135 : S1x1x256.Slices ![0, 0, 135] S1x1x1
  slices_S1x256x256_S1x1x256_0_136_0 : S1x256x256.Slices ![0, 136, 0] S1x1x256
  slices_S1x256x256_S1x256x1_0_0_136 : S1x256x256.Slices ![0, 0, 136] S1x256x1
  slices_S1x1x256_S1x1x1_0_0_136 : S1x1x256.Slices ![0, 0, 136] S1x1x1
  slices_S1x256x256_S1x1x256_0_137_0 : S1x256x256.Slices ![0, 137, 0] S1x1x256
  slices_S1x256x256_S1x256x1_0_0_137 : S1x256x256.Slices ![0, 0, 137] S1x256x1
  slices_S1x1x256_S1x1x1_0_0_137 : S1x1x256.Slices ![0, 0, 137] S1x1x1
  slices_S1x256x256_S1x1x256_0_138_0 : S1x256x256.Slices ![0, 138, 0] S1x1x256
  slices_S1x256x256_S1x256x1_0_0_138 : S1x256x256.Slices ![0, 0, 138] S1x256x1
  slices_S1x1x256_S1x1x1_0_0_138 : S1x1x256.Slices ![0, 0, 138] S1x1x1
  slices_S1x256x256_S1x1x256_0_139_0 : S1x256x256.Slices ![0, 139, 0] S1x1x256
  slices_S1x256x256_S1x256x1_0_0_139 : S1x256x256.Slices ![0, 0, 139] S1x256x1
  slices_S1x1x256_S1x1x1_0_0_139 : S1x1x256.Slices ![0, 0, 139] S1x1x1
  slices_S1x256x256_S1x1x256_0_140_0 : S1x256x256.Slices ![0, 140, 0] S1x1x256
  slices_S1x256x256_S1x256x1_0_0_140 : S1x256x256.Slices ![0, 0, 140] S1x256x1
  slices_S1x1x256_S1x1x1_0_0_140 : S1x1x256.Slices ![0, 0, 140] S1x1x1
  slices_S1x256x256_S1x1x256_0_141_0 : S1x256x256.Slices ![0, 141, 0] S1x1x256
  slices_S1x256x256_S1x256x1_0_0_141 : S1x256x256.Slices ![0, 0, 141] S1x256x1
  slices_S1x1x256_S1x1x1_0_0_141 : S1x1x256.Slices ![0, 0, 141] S1x1x1
  slices_S1x256x256_S1x1x256_0_142_0 : S1x256x256.Slices ![0, 142, 0] S1x1x256
  slices_S1x256x256_S1x256x1_0_0_142 : S1x256x256.Slices ![0, 0, 142] S1x256x1
  slices_S1x1x256_S1x1x1_0_0_142 : S1x1x256.Slices ![0, 0, 142] S1x1x1
  slices_S1x256x256_S1x1x256_0_143_0 : S1x256x256.Slices ![0, 143, 0] S1x1x256
  slices_S1x256x256_S1x256x1_0_0_143 : S1x256x256.Slices ![0, 0, 143] S1x256x1
  slices_S1x1x256_S1x1x1_0_0_143 : S1x1x256.Slices ![0, 0, 143] S1x1x1
  slices_S1x256x256_S1x1x256_0_144_0 : S1x256x256.Slices ![0, 144, 0] S1x1x256
  slices_S1x256x256_S1x256x1_0_0_144 : S1x256x256.Slices ![0, 0, 144] S1x256x1
  slices_S1x1x256_S1x1x1_0_0_144 : S1x1x256.Slices ![0, 0, 144] S1x1x1
  slices_S1x256x256_S1x1x256_0_145_0 : S1x256x256.Slices ![0, 145, 0] S1x1x256
  slices_S1x256x256_S1x256x1_0_0_145 : S1x256x256.Slices ![0, 0, 145] S1x256x1
  slices_S1x1x256_S1x1x1_0_0_145 : S1x1x256.Slices ![0, 0, 145] S1x1x1
  slices_S1x256x256_S1x1x256_0_146_0 : S1x256x256.Slices ![0, 146, 0] S1x1x256
  slices_S1x256x256_S1x256x1_0_0_146 : S1x256x256.Slices ![0, 0, 146] S1x256x1
  slices_S1x1x256_S1x1x1_0_0_146 : S1x1x256.Slices ![0, 0, 146] S1x1x1
  slices_S1x256x256_S1x1x256_0_147_0 : S1x256x256.Slices ![0, 147, 0] S1x1x256
  slices_S1x256x256_S1x256x1_0_0_147 : S1x256x256.Slices ![0, 0, 147] S1x256x1
  slices_S1x1x256_S1x1x1_0_0_147 : S1x1x256.Slices ![0, 0, 147] S1x1x1
  slices_S1x256x256_S1x1x256_0_148_0 : S1x256x256.Slices ![0, 148, 0] S1x1x256
  slices_S1x256x256_S1x256x1_0_0_148 : S1x256x256.Slices ![0, 0, 148] S1x256x1
  slices_S1x1x256_S1x1x1_0_0_148 : S1x1x256.Slices ![0, 0, 148] S1x1x1
  slices_S1x256x256_S1x1x256_0_149_0 : S1x256x256.Slices ![0, 149, 0] S1x1x256
  slices_S1x256x256_S1x256x1_0_0_149 : S1x256x256.Slices ![0, 0, 149] S1x256x1
  slices_S1x1x256_S1x1x1_0_0_149 : S1x1x256.Slices ![0, 0, 149] S1x1x1
  slices_S1x256x256_S1x1x256_0_150_0 : S1x256x256.Slices ![0, 150, 0] S1x1x256
  slices_S1x256x256_S1x256x1_0_0_150 : S1x256x256.Slices ![0, 0, 150] S1x256x1
  slices_S1x1x256_S1x1x1_0_0_150 : S1x1x256.Slices ![0, 0, 150] S1x1x1
  slices_S1x256x256_S1x1x256_0_151_0 : S1x256x256.Slices ![0, 151, 0] S1x1x256
  slices_S1x256x256_S1x256x1_0_0_151 : S1x256x256.Slices ![0, 0, 151] S1x256x1
  slices_S1x1x256_S1x1x1_0_0_151 : S1x1x256.Slices ![0, 0, 151] S1x1x1
  slices_S1x256x256_S1x1x256_0_152_0 : S1x256x256.Slices ![0, 152, 0] S1x1x256
  slices_S1x256x256_S1x256x1_0_0_152 : S1x256x256.Slices ![0, 0, 152] S1x256x1
  slices_S1x1x256_S1x1x1_0_0_152 : S1x1x256.Slices ![0, 0, 152] S1x1x1
  slices_S1x256x256_S1x1x256_0_153_0 : S1x256x256.Slices ![0, 153, 0] S1x1x256
  slices_S1x256x256_S1x256x1_0_0_153 : S1x256x256.Slices ![0, 0, 153] S1x256x1
  slices_S1x1x256_S1x1x1_0_0_153 : S1x1x256.Slices ![0, 0, 153] S1x1x1
  slices_S1x256x256_S1x1x256_0_154_0 : S1x256x256.Slices ![0, 154, 0] S1x1x256
  slices_S1x256x256_S1x256x1_0_0_154 : S1x256x256.Slices ![0, 0, 154] S1x256x1
  slices_S1x1x256_S1x1x1_0_0_154 : S1x1x256.Slices ![0, 0, 154] S1x1x1
  slices_S1x256x256_S1x1x256_0_155_0 : S1x256x256.Slices ![0, 155, 0] S1x1x256
  slices_S1x256x256_S1x256x1_0_0_155 : S1x256x256.Slices ![0, 0, 155] S1x256x1
  slices_S1x1x256_S1x1x1_0_0_155 : S1x1x256.Slices ![0, 0, 155] S1x1x1
  slices_S1x256x256_S1x1x256_0_156_0 : S1x256x256.Slices ![0, 156, 0] S1x1x256
  slices_S1x256x256_S1x256x1_0_0_156 : S1x256x256.Slices ![0, 0, 156] S1x256x1
  slices_S1x1x256_S1x1x1_0_0_156 : S1x1x256.Slices ![0, 0, 156] S1x1x1
  slices_S1x256x256_S1x1x256_0_157_0 : S1x256x256.Slices ![0, 157, 0] S1x1x256
  slices_S1x256x256_S1x256x1_0_0_157 : S1x256x256.Slices ![0, 0, 157] S1x256x1
  slices_S1x1x256_S1x1x1_0_0_157 : S1x1x256.Slices ![0, 0, 157] S1x1x1
  slices_S1x256x256_S1x1x256_0_158_0 : S1x256x256.Slices ![0, 158, 0] S1x1x256
  slices_S1x256x256_S1x256x1_0_0_158 : S1x256x256.Slices ![0, 0, 158] S1x256x1
  slices_S1x1x256_S1x1x1_0_0_158 : S1x1x256.Slices ![0, 0, 158] S1x1x1
  slices_S1x256x256_S1x1x256_0_159_0 : S1x256x256.Slices ![0, 159, 0] S1x1x256
  slices_S1x256x256_S1x256x1_0_0_159 : S1x256x256.Slices ![0, 0, 159] S1x256x1
  slices_S1x1x256_S1x1x1_0_0_159 : S1x1x256.Slices ![0, 0, 159] S1x1x1
  slices_S1x256x256_S1x1x256_0_160_0 : S1x256x256.Slices ![0, 160, 0] S1x1x256
  slices_S1x256x256_S1x256x1_0_0_160 : S1x256x256.Slices ![0, 0, 160] S1x256x1
  slices_S1x1x256_S1x1x1_0_0_160 : S1x1x256.Slices ![0, 0, 160] S1x1x1
  slices_S1x256x256_S1x1x256_0_161_0 : S1x256x256.Slices ![0, 161, 0] S1x1x256
  slices_S1x256x256_S1x256x1_0_0_161 : S1x256x256.Slices ![0, 0, 161] S1x256x1
  slices_S1x1x256_S1x1x1_0_0_161 : S1x1x256.Slices ![0, 0, 161] S1x1x1
  slices_S1x256x256_S1x1x256_0_162_0 : S1x256x256.Slices ![0, 162, 0] S1x1x256
  slices_S1x256x256_S1x256x1_0_0_162 : S1x256x256.Slices ![0, 0, 162] S1x256x1
  slices_S1x1x256_S1x1x1_0_0_162 : S1x1x256.Slices ![0, 0, 162] S1x1x1
  slices_S1x256x256_S1x1x256_0_163_0 : S1x256x256.Slices ![0, 163, 0] S1x1x256
  slices_S1x256x256_S1x256x1_0_0_163 : S1x256x256.Slices ![0, 0, 163] S1x256x1
  slices_S1x1x256_S1x1x1_0_0_163 : S1x1x256.Slices ![0, 0, 163] S1x1x1
  slices_S1x256x256_S1x1x256_0_164_0 : S1x256x256.Slices ![0, 164, 0] S1x1x256
  slices_S1x256x256_S1x256x1_0_0_164 : S1x256x256.Slices ![0, 0, 164] S1x256x1
  slices_S1x1x256_S1x1x1_0_0_164 : S1x1x256.Slices ![0, 0, 164] S1x1x1
  slices_S1x256x256_S1x1x256_0_165_0 : S1x256x256.Slices ![0, 165, 0] S1x1x256
  slices_S1x256x256_S1x256x1_0_0_165 : S1x256x256.Slices ![0, 0, 165] S1x256x1
  slices_S1x1x256_S1x1x1_0_0_165 : S1x1x256.Slices ![0, 0, 165] S1x1x1
  slices_S1x256x256_S1x1x256_0_166_0 : S1x256x256.Slices ![0, 166, 0] S1x1x256
  slices_S1x256x256_S1x256x1_0_0_166 : S1x256x256.Slices ![0, 0, 166] S1x256x1
  slices_S1x1x256_S1x1x1_0_0_166 : S1x1x256.Slices ![0, 0, 166] S1x1x1
  slices_S1x256x256_S1x1x256_0_167_0 : S1x256x256.Slices ![0, 167, 0] S1x1x256
  slices_S1x256x256_S1x256x1_0_0_167 : S1x256x256.Slices ![0, 0, 167] S1x256x1
  slices_S1x1x256_S1x1x1_0_0_167 : S1x1x256.Slices ![0, 0, 167] S1x1x1
  slices_S1x256x256_S1x1x256_0_168_0 : S1x256x256.Slices ![0, 168, 0] S1x1x256
  slices_S1x256x256_S1x256x1_0_0_168 : S1x256x256.Slices ![0, 0, 168] S1x256x1
  slices_S1x1x256_S1x1x1_0_0_168 : S1x1x256.Slices ![0, 0, 168] S1x1x1
  slices_S1x256x256_S1x1x256_0_169_0 : S1x256x256.Slices ![0, 169, 0] S1x1x256
  slices_S1x256x256_S1x256x1_0_0_169 : S1x256x256.Slices ![0, 0, 169] S1x256x1
  slices_S1x1x256_S1x1x1_0_0_169 : S1x1x256.Slices ![0, 0, 169] S1x1x1
  slices_S1x256x256_S1x1x256_0_170_0 : S1x256x256.Slices ![0, 170, 0] S1x1x256
  slices_S1x256x256_S1x256x1_0_0_170 : S1x256x256.Slices ![0, 0, 170] S1x256x1
  slices_S1x1x256_S1x1x1_0_0_170 : S1x1x256.Slices ![0, 0, 170] S1x1x1
  slices_S1x256x256_S1x1x256_0_171_0 : S1x256x256.Slices ![0, 171, 0] S1x1x256
  slices_S1x256x256_S1x256x1_0_0_171 : S1x256x256.Slices ![0, 0, 171] S1x256x1
  slices_S1x1x256_S1x1x1_0_0_171 : S1x1x256.Slices ![0, 0, 171] S1x1x1
  slices_S1x256x256_S1x1x256_0_172_0 : S1x256x256.Slices ![0, 172, 0] S1x1x256
  slices_S1x256x256_S1x256x1_0_0_172 : S1x256x256.Slices ![0, 0, 172] S1x256x1
  slices_S1x1x256_S1x1x1_0_0_172 : S1x1x256.Slices ![0, 0, 172] S1x1x1
  slices_S1x256x256_S1x1x256_0_173_0 : S1x256x256.Slices ![0, 173, 0] S1x1x256
  slices_S1x256x256_S1x256x1_0_0_173 : S1x256x256.Slices ![0, 0, 173] S1x256x1
  slices_S1x1x256_S1x1x1_0_0_173 : S1x1x256.Slices ![0, 0, 173] S1x1x1
  slices_S1x256x256_S1x1x256_0_174_0 : S1x256x256.Slices ![0, 174, 0] S1x1x256
  slices_S1x256x256_S1x256x1_0_0_174 : S1x256x256.Slices ![0, 0, 174] S1x256x1
  slices_S1x1x256_S1x1x1_0_0_174 : S1x1x256.Slices ![0, 0, 174] S1x1x1
  slices_S1x256x256_S1x1x256_0_175_0 : S1x256x256.Slices ![0, 175, 0] S1x1x256
  slices_S1x256x256_S1x256x1_0_0_175 : S1x256x256.Slices ![0, 0, 175] S1x256x1
  slices_S1x1x256_S1x1x1_0_0_175 : S1x1x256.Slices ![0, 0, 175] S1x1x1
  slices_S1x256x256_S1x1x256_0_176_0 : S1x256x256.Slices ![0, 176, 0] S1x1x256
  slices_S1x256x256_S1x256x1_0_0_176 : S1x256x256.Slices ![0, 0, 176] S1x256x1
  slices_S1x1x256_S1x1x1_0_0_176 : S1x1x256.Slices ![0, 0, 176] S1x1x1
  slices_S1x256x256_S1x1x256_0_177_0 : S1x256x256.Slices ![0, 177, 0] S1x1x256
  slices_S1x256x256_S1x256x1_0_0_177 : S1x256x256.Slices ![0, 0, 177] S1x256x1
  slices_S1x1x256_S1x1x1_0_0_177 : S1x1x256.Slices ![0, 0, 177] S1x1x1
  slices_S1x256x256_S1x1x256_0_178_0 : S1x256x256.Slices ![0, 178, 0] S1x1x256
  slices_S1x256x256_S1x256x1_0_0_178 : S1x256x256.Slices ![0, 0, 178] S1x256x1
  slices_S1x1x256_S1x1x1_0_0_178 : S1x1x256.Slices ![0, 0, 178] S1x1x1
  slices_S1x256x256_S1x1x256_0_179_0 : S1x256x256.Slices ![0, 179, 0] S1x1x256
  slices_S1x256x256_S1x256x1_0_0_179 : S1x256x256.Slices ![0, 0, 179] S1x256x1
  slices_S1x1x256_S1x1x1_0_0_179 : S1x1x256.Slices ![0, 0, 179] S1x1x1
  slices_S1x256x256_S1x1x256_0_180_0 : S1x256x256.Slices ![0, 180, 0] S1x1x256
  slices_S1x256x256_S1x256x1_0_0_180 : S1x256x256.Slices ![0, 0, 180] S1x256x1
  slices_S1x1x256_S1x1x1_0_0_180 : S1x1x256.Slices ![0, 0, 180] S1x1x1
  slices_S1x256x256_S1x1x256_0_181_0 : S1x256x256.Slices ![0, 181, 0] S1x1x256
  slices_S1x256x256_S1x256x1_0_0_181 : S1x256x256.Slices ![0, 0, 181] S1x256x1
  slices_S1x1x256_S1x1x1_0_0_181 : S1x1x256.Slices ![0, 0, 181] S1x1x1
  slices_S1x256x256_S1x1x256_0_182_0 : S1x256x256.Slices ![0, 182, 0] S1x1x256
  slices_S1x256x256_S1x256x1_0_0_182 : S1x256x256.Slices ![0, 0, 182] S1x256x1
  slices_S1x1x256_S1x1x1_0_0_182 : S1x1x256.Slices ![0, 0, 182] S1x1x1
  slices_S1x256x256_S1x1x256_0_183_0 : S1x256x256.Slices ![0, 183, 0] S1x1x256
  slices_S1x256x256_S1x256x1_0_0_183 : S1x256x256.Slices ![0, 0, 183] S1x256x1
  slices_S1x1x256_S1x1x1_0_0_183 : S1x1x256.Slices ![0, 0, 183] S1x1x1
  slices_S1x256x256_S1x1x256_0_184_0 : S1x256x256.Slices ![0, 184, 0] S1x1x256
  slices_S1x256x256_S1x256x1_0_0_184 : S1x256x256.Slices ![0, 0, 184] S1x256x1
  slices_S1x1x256_S1x1x1_0_0_184 : S1x1x256.Slices ![0, 0, 184] S1x1x1
  slices_S1x256x256_S1x1x256_0_185_0 : S1x256x256.Slices ![0, 185, 0] S1x1x256
  slices_S1x256x256_S1x256x1_0_0_185 : S1x256x256.Slices ![0, 0, 185] S1x256x1
  slices_S1x1x256_S1x1x1_0_0_185 : S1x1x256.Slices ![0, 0, 185] S1x1x1
  slices_S1x256x256_S1x1x256_0_186_0 : S1x256x256.Slices ![0, 186, 0] S1x1x256
  slices_S1x256x256_S1x256x1_0_0_186 : S1x256x256.Slices ![0, 0, 186] S1x256x1
  slices_S1x1x256_S1x1x1_0_0_186 : S1x1x256.Slices ![0, 0, 186] S1x1x1
  slices_S1x256x256_S1x1x256_0_187_0 : S1x256x256.Slices ![0, 187, 0] S1x1x256
  slices_S1x256x256_S1x256x1_0_0_187 : S1x256x256.Slices ![0, 0, 187] S1x256x1
  slices_S1x1x256_S1x1x1_0_0_187 : S1x1x256.Slices ![0, 0, 187] S1x1x1
  slices_S1x256x256_S1x1x256_0_188_0 : S1x256x256.Slices ![0, 188, 0] S1x1x256
  slices_S1x256x256_S1x256x1_0_0_188 : S1x256x256.Slices ![0, 0, 188] S1x256x1
  slices_S1x1x256_S1x1x1_0_0_188 : S1x1x256.Slices ![0, 0, 188] S1x1x1
  slices_S1x256x256_S1x1x256_0_189_0 : S1x256x256.Slices ![0, 189, 0] S1x1x256
  slices_S1x256x256_S1x256x1_0_0_189 : S1x256x256.Slices ![0, 0, 189] S1x256x1
  slices_S1x1x256_S1x1x1_0_0_189 : S1x1x256.Slices ![0, 0, 189] S1x1x1
  slices_S1x256x256_S1x1x256_0_190_0 : S1x256x256.Slices ![0, 190, 0] S1x1x256
  slices_S1x256x256_S1x256x1_0_0_190 : S1x256x256.Slices ![0, 0, 190] S1x256x1
  slices_S1x1x256_S1x1x1_0_0_190 : S1x1x256.Slices ![0, 0, 190] S1x1x1
  slices_S1x256x256_S1x1x256_0_191_0 : S1x256x256.Slices ![0, 191, 0] S1x1x256
  slices_S1x256x256_S1x256x1_0_0_191 : S1x256x256.Slices ![0, 0, 191] S1x256x1
  slices_S1x1x256_S1x1x1_0_0_191 : S1x1x256.Slices ![0, 0, 191] S1x1x1
  slices_S1x256x256_S1x1x256_0_192_0 : S1x256x256.Slices ![0, 192, 0] S1x1x256
  slices_S1x256x256_S1x256x1_0_0_192 : S1x256x256.Slices ![0, 0, 192] S1x256x1
  slices_S1x1x256_S1x1x1_0_0_192 : S1x1x256.Slices ![0, 0, 192] S1x1x1
  slices_S1x256x256_S1x1x256_0_193_0 : S1x256x256.Slices ![0, 193, 0] S1x1x256
  slices_S1x256x256_S1x256x1_0_0_193 : S1x256x256.Slices ![0, 0, 193] S1x256x1
  slices_S1x1x256_S1x1x1_0_0_193 : S1x1x256.Slices ![0, 0, 193] S1x1x1
  slices_S1x256x256_S1x1x256_0_194_0 : S1x256x256.Slices ![0, 194, 0] S1x1x256
  slices_S1x256x256_S1x256x1_0_0_194 : S1x256x256.Slices ![0, 0, 194] S1x256x1
  slices_S1x1x256_S1x1x1_0_0_194 : S1x1x256.Slices ![0, 0, 194] S1x1x1
  slices_S1x256x256_S1x1x256_0_195_0 : S1x256x256.Slices ![0, 195, 0] S1x1x256
  slices_S1x256x256_S1x256x1_0_0_195 : S1x256x256.Slices ![0, 0, 195] S1x256x1
  slices_S1x1x256_S1x1x1_0_0_195 : S1x1x256.Slices ![0, 0, 195] S1x1x1
  slices_S1x256x256_S1x1x256_0_196_0 : S1x256x256.Slices ![0, 196, 0] S1x1x256
  slices_S1x256x256_S1x256x1_0_0_196 : S1x256x256.Slices ![0, 0, 196] S1x256x1
  slices_S1x1x256_S1x1x1_0_0_196 : S1x1x256.Slices ![0, 0, 196] S1x1x1
  slices_S1x256x256_S1x1x256_0_197_0 : S1x256x256.Slices ![0, 197, 0] S1x1x256
  slices_S1x256x256_S1x256x1_0_0_197 : S1x256x256.Slices ![0, 0, 197] S1x256x1
  slices_S1x1x256_S1x1x1_0_0_197 : S1x1x256.Slices ![0, 0, 197] S1x1x1
  slices_S1x256x256_S1x1x256_0_198_0 : S1x256x256.Slices ![0, 198, 0] S1x1x256
  slices_S1x256x256_S1x256x1_0_0_198 : S1x256x256.Slices ![0, 0, 198] S1x256x1
  slices_S1x1x256_S1x1x1_0_0_198 : S1x1x256.Slices ![0, 0, 198] S1x1x1
  slices_S1x256x256_S1x1x256_0_199_0 : S1x256x256.Slices ![0, 199, 0] S1x1x256
  slices_S1x256x256_S1x256x1_0_0_199 : S1x256x256.Slices ![0, 0, 199] S1x256x1
  slices_S1x1x256_S1x1x1_0_0_199 : S1x1x256.Slices ![0, 0, 199] S1x1x1
  slices_S1x256x256_S1x1x256_0_200_0 : S1x256x256.Slices ![0, 200, 0] S1x1x256
  slices_S1x256x256_S1x256x1_0_0_200 : S1x256x256.Slices ![0, 0, 200] S1x256x1
  slices_S1x1x256_S1x1x1_0_0_200 : S1x1x256.Slices ![0, 0, 200] S1x1x1
  slices_S1x256x256_S1x1x256_0_201_0 : S1x256x256.Slices ![0, 201, 0] S1x1x256
  slices_S1x256x256_S1x256x1_0_0_201 : S1x256x256.Slices ![0, 0, 201] S1x256x1
  slices_S1x1x256_S1x1x1_0_0_201 : S1x1x256.Slices ![0, 0, 201] S1x1x1
  slices_S1x256x256_S1x1x256_0_202_0 : S1x256x256.Slices ![0, 202, 0] S1x1x256
  slices_S1x256x256_S1x256x1_0_0_202 : S1x256x256.Slices ![0, 0, 202] S1x256x1
  slices_S1x1x256_S1x1x1_0_0_202 : S1x1x256.Slices ![0, 0, 202] S1x1x1
  slices_S1x256x256_S1x1x256_0_203_0 : S1x256x256.Slices ![0, 203, 0] S1x1x256
  slices_S1x256x256_S1x256x1_0_0_203 : S1x256x256.Slices ![0, 0, 203] S1x256x1
  slices_S1x1x256_S1x1x1_0_0_203 : S1x1x256.Slices ![0, 0, 203] S1x1x1
  slices_S1x256x256_S1x1x256_0_204_0 : S1x256x256.Slices ![0, 204, 0] S1x1x256
  slices_S1x256x256_S1x256x1_0_0_204 : S1x256x256.Slices ![0, 0, 204] S1x256x1
  slices_S1x1x256_S1x1x1_0_0_204 : S1x1x256.Slices ![0, 0, 204] S1x1x1
  slices_S1x256x256_S1x1x256_0_205_0 : S1x256x256.Slices ![0, 205, 0] S1x1x256
  slices_S1x256x256_S1x256x1_0_0_205 : S1x256x256.Slices ![0, 0, 205] S1x256x1
  slices_S1x1x256_S1x1x1_0_0_205 : S1x1x256.Slices ![0, 0, 205] S1x1x1
  slices_S1x256x256_S1x1x256_0_206_0 : S1x256x256.Slices ![0, 206, 0] S1x1x256
  slices_S1x256x256_S1x256x1_0_0_206 : S1x256x256.Slices ![0, 0, 206] S1x256x1
  slices_S1x1x256_S1x1x1_0_0_206 : S1x1x256.Slices ![0, 0, 206] S1x1x1
  slices_S1x256x256_S1x1x256_0_207_0 : S1x256x256.Slices ![0, 207, 0] S1x1x256
  slices_S1x256x256_S1x256x1_0_0_207 : S1x256x256.Slices ![0, 0, 207] S1x256x1
  slices_S1x1x256_S1x1x1_0_0_207 : S1x1x256.Slices ![0, 0, 207] S1x1x1
  slices_S1x256x256_S1x1x256_0_208_0 : S1x256x256.Slices ![0, 208, 0] S1x1x256
  slices_S1x256x256_S1x256x1_0_0_208 : S1x256x256.Slices ![0, 0, 208] S1x256x1
  slices_S1x1x256_S1x1x1_0_0_208 : S1x1x256.Slices ![0, 0, 208] S1x1x1
  slices_S1x256x256_S1x1x256_0_209_0 : S1x256x256.Slices ![0, 209, 0] S1x1x256
  slices_S1x256x256_S1x256x1_0_0_209 : S1x256x256.Slices ![0, 0, 209] S1x256x1
  slices_S1x1x256_S1x1x1_0_0_209 : S1x1x256.Slices ![0, 0, 209] S1x1x1
  slices_S1x256x256_S1x1x256_0_210_0 : S1x256x256.Slices ![0, 210, 0] S1x1x256
  slices_S1x256x256_S1x256x1_0_0_210 : S1x256x256.Slices ![0, 0, 210] S1x256x1
  slices_S1x1x256_S1x1x1_0_0_210 : S1x1x256.Slices ![0, 0, 210] S1x1x1
  slices_S1x256x256_S1x1x256_0_211_0 : S1x256x256.Slices ![0, 211, 0] S1x1x256
  slices_S1x256x256_S1x256x1_0_0_211 : S1x256x256.Slices ![0, 0, 211] S1x256x1
  slices_S1x1x256_S1x1x1_0_0_211 : S1x1x256.Slices ![0, 0, 211] S1x1x1
  slices_S1x256x256_S1x1x256_0_212_0 : S1x256x256.Slices ![0, 212, 0] S1x1x256
  slices_S1x256x256_S1x256x1_0_0_212 : S1x256x256.Slices ![0, 0, 212] S1x256x1
  slices_S1x1x256_S1x1x1_0_0_212 : S1x1x256.Slices ![0, 0, 212] S1x1x1
  slices_S1x256x256_S1x1x256_0_213_0 : S1x256x256.Slices ![0, 213, 0] S1x1x256
  slices_S1x256x256_S1x256x1_0_0_213 : S1x256x256.Slices ![0, 0, 213] S1x256x1
  slices_S1x1x256_S1x1x1_0_0_213 : S1x1x256.Slices ![0, 0, 213] S1x1x1
  slices_S1x256x256_S1x1x256_0_214_0 : S1x256x256.Slices ![0, 214, 0] S1x1x256
  slices_S1x256x256_S1x256x1_0_0_214 : S1x256x256.Slices ![0, 0, 214] S1x256x1
  slices_S1x1x256_S1x1x1_0_0_214 : S1x1x256.Slices ![0, 0, 214] S1x1x1
  slices_S1x256x256_S1x1x256_0_215_0 : S1x256x256.Slices ![0, 215, 0] S1x1x256
  slices_S1x256x256_S1x256x1_0_0_215 : S1x256x256.Slices ![0, 0, 215] S1x256x1
  slices_S1x1x256_S1x1x1_0_0_215 : S1x1x256.Slices ![0, 0, 215] S1x1x1
  slices_S1x256x256_S1x1x256_0_216_0 : S1x256x256.Slices ![0, 216, 0] S1x1x256
  slices_S1x256x256_S1x256x1_0_0_216 : S1x256x256.Slices ![0, 0, 216] S1x256x1
  slices_S1x1x256_S1x1x1_0_0_216 : S1x1x256.Slices ![0, 0, 216] S1x1x1
  slices_S1x256x256_S1x1x256_0_217_0 : S1x256x256.Slices ![0, 217, 0] S1x1x256
  slices_S1x256x256_S1x256x1_0_0_217 : S1x256x256.Slices ![0, 0, 217] S1x256x1
  slices_S1x1x256_S1x1x1_0_0_217 : S1x1x256.Slices ![0, 0, 217] S1x1x1
  slices_S1x256x256_S1x1x256_0_218_0 : S1x256x256.Slices ![0, 218, 0] S1x1x256
  slices_S1x256x256_S1x256x1_0_0_218 : S1x256x256.Slices ![0, 0, 218] S1x256x1
  slices_S1x1x256_S1x1x1_0_0_218 : S1x1x256.Slices ![0, 0, 218] S1x1x1
  slices_S1x256x256_S1x1x256_0_219_0 : S1x256x256.Slices ![0, 219, 0] S1x1x256
  slices_S1x256x256_S1x256x1_0_0_219 : S1x256x256.Slices ![0, 0, 219] S1x256x1
  slices_S1x1x256_S1x1x1_0_0_219 : S1x1x256.Slices ![0, 0, 219] S1x1x1
  slices_S1x256x256_S1x1x256_0_220_0 : S1x256x256.Slices ![0, 220, 0] S1x1x256
  slices_S1x256x256_S1x256x1_0_0_220 : S1x256x256.Slices ![0, 0, 220] S1x256x1
  slices_S1x1x256_S1x1x1_0_0_220 : S1x1x256.Slices ![0, 0, 220] S1x1x1
  slices_S1x256x256_S1x1x256_0_221_0 : S1x256x256.Slices ![0, 221, 0] S1x1x256
  slices_S1x256x256_S1x256x1_0_0_221 : S1x256x256.Slices ![0, 0, 221] S1x256x1
  slices_S1x1x256_S1x1x1_0_0_221 : S1x1x256.Slices ![0, 0, 221] S1x1x1
  slices_S1x256x256_S1x1x256_0_222_0 : S1x256x256.Slices ![0, 222, 0] S1x1x256
  slices_S1x256x256_S1x256x1_0_0_222 : S1x256x256.Slices ![0, 0, 222] S1x256x1
  slices_S1x1x256_S1x1x1_0_0_222 : S1x1x256.Slices ![0, 0, 222] S1x1x1
  slices_S1x256x256_S1x1x256_0_223_0 : S1x256x256.Slices ![0, 223, 0] S1x1x256
  slices_S1x256x256_S1x256x1_0_0_223 : S1x256x256.Slices ![0, 0, 223] S1x256x1
  slices_S1x1x256_S1x1x1_0_0_223 : S1x1x256.Slices ![0, 0, 223] S1x1x1
  slices_S1x256x256_S1x1x256_0_224_0 : S1x256x256.Slices ![0, 224, 0] S1x1x256
  slices_S1x256x256_S1x256x1_0_0_224 : S1x256x256.Slices ![0, 0, 224] S1x256x1
  slices_S1x1x256_S1x1x1_0_0_224 : S1x1x256.Slices ![0, 0, 224] S1x1x1
  slices_S1x256x256_S1x1x256_0_225_0 : S1x256x256.Slices ![0, 225, 0] S1x1x256
  slices_S1x256x256_S1x256x1_0_0_225 : S1x256x256.Slices ![0, 0, 225] S1x256x1
  slices_S1x1x256_S1x1x1_0_0_225 : S1x1x256.Slices ![0, 0, 225] S1x1x1
  slices_S1x256x256_S1x1x256_0_226_0 : S1x256x256.Slices ![0, 226, 0] S1x1x256
  slices_S1x256x256_S1x256x1_0_0_226 : S1x256x256.Slices ![0, 0, 226] S1x256x1
  slices_S1x1x256_S1x1x1_0_0_226 : S1x1x256.Slices ![0, 0, 226] S1x1x1
  slices_S1x256x256_S1x1x256_0_227_0 : S1x256x256.Slices ![0, 227, 0] S1x1x256
  slices_S1x256x256_S1x256x1_0_0_227 : S1x256x256.Slices ![0, 0, 227] S1x256x1
  slices_S1x1x256_S1x1x1_0_0_227 : S1x1x256.Slices ![0, 0, 227] S1x1x1
  slices_S1x256x256_S1x1x256_0_228_0 : S1x256x256.Slices ![0, 228, 0] S1x1x256
  slices_S1x256x256_S1x256x1_0_0_228 : S1x256x256.Slices ![0, 0, 228] S1x256x1
  slices_S1x1x256_S1x1x1_0_0_228 : S1x1x256.Slices ![0, 0, 228] S1x1x1
  slices_S1x256x256_S1x1x256_0_229_0 : S1x256x256.Slices ![0, 229, 0] S1x1x256
  slices_S1x256x256_S1x256x1_0_0_229 : S1x256x256.Slices ![0, 0, 229] S1x256x1
  slices_S1x1x256_S1x1x1_0_0_229 : S1x1x256.Slices ![0, 0, 229] S1x1x1
  slices_S1x256x256_S1x1x256_0_230_0 : S1x256x256.Slices ![0, 230, 0] S1x1x256
  slices_S1x256x256_S1x256x1_0_0_230 : S1x256x256.Slices ![0, 0, 230] S1x256x1
  slices_S1x1x256_S1x1x1_0_0_230 : S1x1x256.Slices ![0, 0, 230] S1x1x1
  slices_S1x256x256_S1x1x256_0_231_0 : S1x256x256.Slices ![0, 231, 0] S1x1x256
  slices_S1x256x256_S1x256x1_0_0_231 : S1x256x256.Slices ![0, 0, 231] S1x256x1
  slices_S1x1x256_S1x1x1_0_0_231 : S1x1x256.Slices ![0, 0, 231] S1x1x1
  slices_S1x256x256_S1x1x256_0_232_0 : S1x256x256.Slices ![0, 232, 0] S1x1x256
  slices_S1x256x256_S1x256x1_0_0_232 : S1x256x256.Slices ![0, 0, 232] S1x256x1
  slices_S1x1x256_S1x1x1_0_0_232 : S1x1x256.Slices ![0, 0, 232] S1x1x1
  slices_S1x256x256_S1x1x256_0_233_0 : S1x256x256.Slices ![0, 233, 0] S1x1x256
  slices_S1x256x256_S1x256x1_0_0_233 : S1x256x256.Slices ![0, 0, 233] S1x256x1
  slices_S1x1x256_S1x1x1_0_0_233 : S1x1x256.Slices ![0, 0, 233] S1x1x1
  slices_S1x256x256_S1x1x256_0_234_0 : S1x256x256.Slices ![0, 234, 0] S1x1x256
  slices_S1x256x256_S1x256x1_0_0_234 : S1x256x256.Slices ![0, 0, 234] S1x256x1
  slices_S1x1x256_S1x1x1_0_0_234 : S1x1x256.Slices ![0, 0, 234] S1x1x1
  slices_S1x256x256_S1x1x256_0_235_0 : S1x256x256.Slices ![0, 235, 0] S1x1x256
  slices_S1x256x256_S1x256x1_0_0_235 : S1x256x256.Slices ![0, 0, 235] S1x256x1
  slices_S1x1x256_S1x1x1_0_0_235 : S1x1x256.Slices ![0, 0, 235] S1x1x1
  slices_S1x256x256_S1x1x256_0_236_0 : S1x256x256.Slices ![0, 236, 0] S1x1x256
  slices_S1x256x256_S1x256x1_0_0_236 : S1x256x256.Slices ![0, 0, 236] S1x256x1
  slices_S1x1x256_S1x1x1_0_0_236 : S1x1x256.Slices ![0, 0, 236] S1x1x1
  slices_S1x256x256_S1x1x256_0_237_0 : S1x256x256.Slices ![0, 237, 0] S1x1x256
  slices_S1x256x256_S1x256x1_0_0_237 : S1x256x256.Slices ![0, 0, 237] S1x256x1
  slices_S1x1x256_S1x1x1_0_0_237 : S1x1x256.Slices ![0, 0, 237] S1x1x1
  slices_S1x256x256_S1x1x256_0_238_0 : S1x256x256.Slices ![0, 238, 0] S1x1x256
  slices_S1x256x256_S1x256x1_0_0_238 : S1x256x256.Slices ![0, 0, 238] S1x256x1
  slices_S1x1x256_S1x1x1_0_0_238 : S1x1x256.Slices ![0, 0, 238] S1x1x1
  slices_S1x256x256_S1x1x256_0_239_0 : S1x256x256.Slices ![0, 239, 0] S1x1x256
  slices_S1x256x256_S1x256x1_0_0_239 : S1x256x256.Slices ![0, 0, 239] S1x256x1
  slices_S1x1x256_S1x1x1_0_0_239 : S1x1x256.Slices ![0, 0, 239] S1x1x1
  slices_S1x256x256_S1x1x256_0_240_0 : S1x256x256.Slices ![0, 240, 0] S1x1x256
  slices_S1x256x256_S1x256x1_0_0_240 : S1x256x256.Slices ![0, 0, 240] S1x256x1
  slices_S1x1x256_S1x1x1_0_0_240 : S1x1x256.Slices ![0, 0, 240] S1x1x1
  slices_S1x256x256_S1x1x256_0_241_0 : S1x256x256.Slices ![0, 241, 0] S1x1x256
  slices_S1x256x256_S1x256x1_0_0_241 : S1x256x256.Slices ![0, 0, 241] S1x256x1
  slices_S1x1x256_S1x1x1_0_0_241 : S1x1x256.Slices ![0, 0, 241] S1x1x1
  slices_S1x256x256_S1x1x256_0_242_0 : S1x256x256.Slices ![0, 242, 0] S1x1x256
  slices_S1x256x256_S1x256x1_0_0_242 : S1x256x256.Slices ![0, 0, 242] S1x256x1
  slices_S1x1x256_S1x1x1_0_0_242 : S1x1x256.Slices ![0, 0, 242] S1x1x1
  slices_S1x256x256_S1x1x256_0_243_0 : S1x256x256.Slices ![0, 243, 0] S1x1x256
  slices_S1x256x256_S1x256x1_0_0_243 : S1x256x256.Slices ![0, 0, 243] S1x256x1
  slices_S1x1x256_S1x1x1_0_0_243 : S1x1x256.Slices ![0, 0, 243] S1x1x1
  slices_S1x256x256_S1x1x256_0_244_0 : S1x256x256.Slices ![0, 244, 0] S1x1x256
  slices_S1x256x256_S1x256x1_0_0_244 : S1x256x256.Slices ![0, 0, 244] S1x256x1
  slices_S1x1x256_S1x1x1_0_0_244 : S1x1x256.Slices ![0, 0, 244] S1x1x1
  slices_S1x256x256_S1x1x256_0_245_0 : S1x256x256.Slices ![0, 245, 0] S1x1x256
  slices_S1x256x256_S1x256x1_0_0_245 : S1x256x256.Slices ![0, 0, 245] S1x256x1
  slices_S1x1x256_S1x1x1_0_0_245 : S1x1x256.Slices ![0, 0, 245] S1x1x1
  slices_S1x256x256_S1x1x256_0_246_0 : S1x256x256.Slices ![0, 246, 0] S1x1x256
  slices_S1x256x256_S1x256x1_0_0_246 : S1x256x256.Slices ![0, 0, 246] S1x256x1
  slices_S1x1x256_S1x1x1_0_0_246 : S1x1x256.Slices ![0, 0, 246] S1x1x1
  slices_S1x256x256_S1x1x256_0_247_0 : S1x256x256.Slices ![0, 247, 0] S1x1x256
  slices_S1x256x256_S1x256x1_0_0_247 : S1x256x256.Slices ![0, 0, 247] S1x256x1
  slices_S1x1x256_S1x1x1_0_0_247 : S1x1x256.Slices ![0, 0, 247] S1x1x1
  slices_S1x256x256_S1x1x256_0_248_0 : S1x256x256.Slices ![0, 248, 0] S1x1x256
  slices_S1x256x256_S1x256x1_0_0_248 : S1x256x256.Slices ![0, 0, 248] S1x256x1
  slices_S1x1x256_S1x1x1_0_0_248 : S1x1x256.Slices ![0, 0, 248] S1x1x1
  slices_S1x256x256_S1x1x256_0_249_0 : S1x256x256.Slices ![0, 249, 0] S1x1x256
  slices_S1x256x256_S1x256x1_0_0_249 : S1x256x256.Slices ![0, 0, 249] S1x256x1
  slices_S1x1x256_S1x1x1_0_0_249 : S1x1x256.Slices ![0, 0, 249] S1x1x1
  slices_S1x256x256_S1x1x256_0_250_0 : S1x256x256.Slices ![0, 250, 0] S1x1x256
  slices_S1x256x256_S1x256x1_0_0_250 : S1x256x256.Slices ![0, 0, 250] S1x256x1
  slices_S1x1x256_S1x1x1_0_0_250 : S1x1x256.Slices ![0, 0, 250] S1x1x1
  slices_S1x256x256_S1x1x256_0_251_0 : S1x256x256.Slices ![0, 251, 0] S1x1x256
  slices_S1x256x256_S1x256x1_0_0_251 : S1x256x256.Slices ![0, 0, 251] S1x256x1
  slices_S1x1x256_S1x1x1_0_0_251 : S1x1x256.Slices ![0, 0, 251] S1x1x1
  slices_S1x256x256_S1x1x256_0_252_0 : S1x256x256.Slices ![0, 252, 0] S1x1x256
  slices_S1x256x256_S1x256x1_0_0_252 : S1x256x256.Slices ![0, 0, 252] S1x256x1
  slices_S1x1x256_S1x1x1_0_0_252 : S1x1x256.Slices ![0, 0, 252] S1x1x1
  slices_S1x256x256_S1x1x256_0_253_0 : S1x256x256.Slices ![0, 253, 0] S1x1x256
  slices_S1x256x256_S1x256x1_0_0_253 : S1x256x256.Slices ![0, 0, 253] S1x256x1
  slices_S1x1x256_S1x1x1_0_0_253 : S1x1x256.Slices ![0, 0, 253] S1x1x1
  slices_S1x256x256_S1x1x256_0_254_0 : S1x256x256.Slices ![0, 254, 0] S1x1x256
  slices_S1x256x256_S1x256x1_0_0_254 : S1x256x256.Slices ![0, 0, 254] S1x256x1
  slices_S1x1x256_S1x1x1_0_0_254 : S1x1x256.Slices ![0, 0, 254] S1x1x1
  slices_S1x256x256_S1x1x256_0_255_0 : S1x256x256.Slices ![0, 255, 0] S1x1x256
  slices_S1x256x256_S1x256x1_0_0_255 : S1x256x256.Slices ![0, 0, 255] S1x256x1
  slices_S1x1x256_S1x1x1_0_0_255 : S1x1x256.Slices ![0, 0, 255] S1x1x1
  concatenates_S5x256x256_S2x256x256_S1x256x256_S8x256x256_d0 : Shape.Concatenates [S5x256x256, S2x256x256, S1x256x256] S8x256x256 0
  bcast_S_S9x256x256 : S_.BroadcastsInDim S9x256x256 (![] : Fin 0 → Fin S9x256x256.rank)
  bcast_S_S8x256x256 : S_.BroadcastsInDim S8x256x256 (![] : Fin 0 → Fin S8x256x256.rank)

variable [Facts]

def fn_part712 {F : FTy → Type} [FloatOps F] (main_arg0 : FVec F S9x256x256 .f32) (main_v14752 : FVec F S8x256x256 .f32) (main_v14753 : IVec S8x256x256 32) (main_v14754 : IVec S8x256x256 32) (main_v14756 : IVec S9x256x256 1) : IVec S9x256x256 1 × IVec S8x256x256 1 :=
  let main_cst_2329 : FVec F S_ .f32 := constant S_ .f32 0xFF800000#32
  let main_v14757 : FVec F S9x256x256 .f32 := broadcastInDim S9x256x256 ![] bcast_S_S9x256x256 main_cst_2329
  let main_v14758 : IVec S9x256x256 1 := cmpf .ogt main_arg0 main_v14757
  let main_v14759 : IVec S9x256x256 1 := andi main_v14756 main_v14758
  let main_cst_2330 : FVec F S_ .f32 := constant S_ .f32 0x00000000#32
  let main_v14760 : FVec F S8x256x256 .f32 := broadcastInDim S8x256x256 ![] bcast_S_S8x256x256 main_cst_2330
  let main_v14761 : IVec S8x256x256 1 := cmpf .une main_v14752 main_v14760
  let main_v14762 : IVec S8x256x256 1 := cmpi .ne main_v14753 main_v14754
  let main_v14763 : IVec S8x256x256 1 := ori main_v14761 main_v14762
  (main_v14759, main_v14763)

def fn_part711 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14732 : FVec F S1x256x256 .f32) (main_v14733 : FVec F S1x1x256 .f32) (main_v14734 : FVec F S1x256x1 .f32) (main_v14736 : FVec F S1x256x1 .f32) : IVec S9x256x256 1 × IVec S8x256x256 1 :=
  let main_v14737 : FVec F S1x256x1 .f32 := Host.divf main_v14734 main_v14736
  let main_v14738 : FVec F S1x256x256 .f32 := broadcastInDim S1x256x256 ![0, 1, 2] bcast_S1x256x1_S1x256x256_0_1_2 main_v14737
  let main_c_2326 : IVec S_ 32 := constantI S_ 32 255#32
  let main_v14739 : IVec S1x256x256 32 := broadcastInDim S1x256x256 ![] bcast_S_S1x256x256 main_c_2326
  let main_v14740 : IVec S1x256x256 1 := cmpi .sgt main_v9886 main_v14739
  let main_c_2327 : IVec S_ 32 := constantI S_ 32 255#32
  let main_v14741 : IVec S1x256x256 32 := broadcastInDim S1x256x256 ![] bcast_S_S1x256x256 main_c_2327
  let main_v14742 : IVec S1x256x256 1 := cmpi .sgt main_v9887 main_v14741
  let main_v14743 : IVec S1x256x256 1 := andi main_v14740 main_v14742
  let main_v14744 : FVec F S1x256x256 .f32 := broadcastInDim S1x256x256 ![0, 1, 2] bcast_S1x1x256_S1x256x256_0_1_2 main_v14733
  let main_v14745 : FVec F S1x256x256 .f32 := mulf main_v14738 main_v14744
  let main_v14746 : FVec F S1x256x256 .f32 := subf main_v14732 main_v14745
  let main_v14747 : FVec F S1x256x256 .f32 := select main_v14743 main_v14746 main_v14732
  let main_c_2328 : IVec S_ 32 := constantI S_ 32 255#32
  let main_v14748 : IVec S1x256x256 32 := broadcastInDim S1x256x256 ![] bcast_S_S1x256x256 main_c_2328
  let main_v14749 : IVec S1x256x256 1 := cmpi .eq main_v9887 main_v14748
  let main_v14750 : IVec S1x256x256 1 := andi main_v14740 main_v14749
  let main_v14751 : FVec F S1x256x256 .f32 := select main_v14750 main_v14738 main_v14747
  let main_v14752 : FVec F S8x256x256 .f32 := concatenate S8x256x256 0 [⟨S5x256x256, main_v4875⟩, ⟨S2x256x256, main_v9852⟩, ⟨S1x256x256, main_v14751⟩] concatenates_S5x256x256_S2x256x256_S1x256x256_S8x256x256_d0
  let main_v14753 : IVec S8x256x256 32 := iotaInDim S8x256x256 32 1
  let main_v14754 : IVec S8x256x256 32 := iotaInDim S8x256x256 32 2
  let main_cst : FVec F S_ .f32 := constant S_ .f32 0x7F800000#32
  let main_v14755 : FVec F S9x256x256 .f32 := broadcastInDim S9x256x256 ![] bcast_S_S9x256x256 main_cst
  let main_v14756 : IVec S9x256x256 1 := cmpf .olt main_arg0 main_v14755
  fn_part712 (F := F) main_arg0 main_v14752 main_v14753 main_v14754 main_v14756

def fn_part710 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14713 : FVec F S1x256x256 .f32) (main_v14714 : FVec F S1x1x256 .f32) (main_v14715 : FVec F S1x256x1 .f32) : IVec S9x256x256 1 × IVec S8x256x256 1 :=
  let main_v14716 : FVec F S1x1x1 .f32 := (extractStridedSlice S1x1x1 ![0, 0, 254] · slices_S1x1x256_S1x1x1_0_0_254) main_v14714
  let main_v14717 : FVec F S1x256x1 .f32 := broadcastInDim S1x256x1 ![0, 1, 2] bcast_S1x1x1_S1x256x1_0_1_2 main_v14716
  let main_v14718 : FVec F S1x256x1 .f32 := Host.divf main_v14715 main_v14717
  let main_v14719 : FVec F S1x256x256 .f32 := broadcastInDim S1x256x256 ![0, 1, 2] bcast_S1x256x1_S1x256x256_0_1_2 main_v14718
  let main_c_2323 : IVec S_ 32 := constantI S_ 32 254#32
  let main_v14720 : IVec S1x256x256 32 := broadcastInDim S1x256x256 ![] bcast_S_S1x256x256 main_c_2323
  let main_v14721 : IVec S1x256x256 1 := cmpi .sgt main_v9886 main_v14720
  let main_c_2324 : IVec S_ 32 := constantI S_ 32 254#32
  let main_v14722 : IVec S1x256x256 32 := broadcastInDim S1x256x256 ![] bcast_S_S1x256x256 main_c_2324
  let main_v14723 : IVec S1x256x256 1 := cmpi .sgt main_v9887 main_v14722
  let main_v14724 : IVec S1x256x256 1 := andi main_v14721 main_v14723
  let main_v14725 : FVec F S1x256x256 .f32 := broadcastInDim S1x256x256 ![0, 1, 2] bcast_S1x1x256_S1x256x256_0_1_2 main_v14714
  let main_v14726 : FVec F S1x256x256 .f32 := mulf main_v14719 main_v14725
  let main_v14727 : FVec F S1x256x256 .f32 := subf main_v14713 main_v14726
  let main_v14728 : FVec F S1x256x256 .f32 := select main_v14724 main_v14727 main_v14713
  let main_c_2325 : IVec S_ 32 := constantI S_ 32 254#32
  let main_v14729 : IVec S1x256x256 32 := broadcastInDim S1x256x256 ![] bcast_S_S1x256x256 main_c_2325
  let main_v14730 : IVec S1x256x256 1 := cmpi .eq main_v9887 main_v14729
  let main_v14731 : IVec S1x256x256 1 := andi main_v14721 main_v14730
  let main_v14732 : FVec F S1x256x256 .f32 := select main_v14731 main_v14719 main_v14728
  let main_v14733 : FVec F S1x1x256 .f32 := (extractStridedSlice S1x1x256 ![0, 255, 0] · slices_S1x256x256_S1x1x256_0_255_0) main_v14732
  let main_v14734 : FVec F S1x256x1 .f32 := (extractStridedSlice S1x256x1 ![0, 0, 255] · slices_S1x256x256_S1x256x1_0_0_255) main_v14732
  let main_v14735 : FVec F S1x1x1 .f32 := (extractStridedSlice S1x1x1 ![0, 0, 255] · slices_S1x1x256_S1x1x1_0_0_255) main_v14733
  let main_v14736 : FVec F S1x256x1 .f32 := broadcastInDim S1x256x1 ![0, 1, 2] bcast_S1x1x1_S1x256x1_0_1_2 main_v14735
  fn_part711 (F := F) main_arg0 main_v4875 main_v9852 main_v9886 main_v9887 main_v14732 main_v14733 main_v14734 main_v14736

def fn_part709 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14694 : FVec F S1x256x256 .f32) : IVec S9x256x256 1 × IVec S8x256x256 1 :=
  let main_v14695 : FVec F S1x1x256 .f32 := (extractStridedSlice S1x1x256 ![0, 253, 0] · slices_S1x256x256_S1x1x256_0_253_0) main_v14694
  let main_v14696 : FVec F S1x256x1 .f32 := (extractStridedSlice S1x256x1 ![0, 0, 253] · slices_S1x256x256_S1x256x1_0_0_253) main_v14694
  let main_v14697 : FVec F S1x1x1 .f32 := (extractStridedSlice S1x1x1 ![0, 0, 253] · slices_S1x1x256_S1x1x1_0_0_253) main_v14695
  let main_v14698 : FVec F S1x256x1 .f32 := broadcastInDim S1x256x1 ![0, 1, 2] bcast_S1x1x1_S1x256x1_0_1_2 main_v14697
  let main_v14699 : FVec F S1x256x1 .f32 := Host.divf main_v14696 main_v14698
  let main_v14700 : FVec F S1x256x256 .f32 := broadcastInDim S1x256x256 ![0, 1, 2] bcast_S1x256x1_S1x256x256_0_1_2 main_v14699
  let main_c_2320 : IVec S_ 32 := constantI S_ 32 253#32
  let main_v14701 : IVec S1x256x256 32 := broadcastInDim S1x256x256 ![] bcast_S_S1x256x256 main_c_2320
  let main_v14702 : IVec S1x256x256 1 := cmpi .sgt main_v9886 main_v14701
  let main_c_2321 : IVec S_ 32 := constantI S_ 32 253#32
  let main_v14703 : IVec S1x256x256 32 := broadcastInDim S1x256x256 ![] bcast_S_S1x256x256 main_c_2321
  let main_v14704 : IVec S1x256x256 1 := cmpi .sgt main_v9887 main_v14703
  let main_v14705 : IVec S1x256x256 1 := andi main_v14702 main_v14704
  let main_v14706 : FVec F S1x256x256 .f32 := broadcastInDim S1x256x256 ![0, 1, 2] bcast_S1x1x256_S1x256x256_0_1_2 main_v14695
  let main_v14707 : FVec F S1x256x256 .f32 := mulf main_v14700 main_v14706
  let main_v14708 : FVec F S1x256x256 .f32 := subf main_v14694 main_v14707
  let main_v14709 : FVec F S1x256x256 .f32 := select main_v14705 main_v14708 main_v14694
  let main_c_2322 : IVec S_ 32 := constantI S_ 32 253#32
  let main_v14710 : IVec S1x256x256 32 := broadcastInDim S1x256x256 ![] bcast_S_S1x256x256 main_c_2322
  let main_v14711 : IVec S1x256x256 1 := cmpi .eq main_v9887 main_v14710
  let main_v14712 : IVec S1x256x256 1 := andi main_v14702 main_v14711
  let main_v14713 : FVec F S1x256x256 .f32 := select main_v14712 main_v14700 main_v14709
  let main_v14714 : FVec F S1x1x256 .f32 := (extractStridedSlice S1x1x256 ![0, 254, 0] · slices_S1x256x256_S1x1x256_0_254_0) main_v14713
  let main_v14715 : FVec F S1x256x1 .f32 := (extractStridedSlice S1x256x1 ![0, 0, 254] · slices_S1x256x256_S1x256x1_0_0_254) main_v14713
  fn_part710 (F := F) main_arg0 main_v4875 main_v9852 main_v9886 main_v9887 main_v14713 main_v14714 main_v14715

def fn_part708 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14662 : FVec F S1x256x256 .f32) (main_v14664 : IVec S1x256x256 1) (main_v14671 : FVec F S1x256x256 .f32) (main_v14673 : IVec S1x256x256 1) : IVec S9x256x256 1 × IVec S8x256x256 1 :=
  let main_v14674 : IVec S1x256x256 1 := andi main_v14664 main_v14673
  let main_v14675 : FVec F S1x256x256 .f32 := select main_v14674 main_v14662 main_v14671
  let main_v14676 : FVec F S1x1x256 .f32 := (extractStridedSlice S1x1x256 ![0, 252, 0] · slices_S1x256x256_S1x1x256_0_252_0) main_v14675
  let main_v14677 : FVec F S1x256x1 .f32 := (extractStridedSlice S1x256x1 ![0, 0, 252] · slices_S1x256x256_S1x256x1_0_0_252) main_v14675
  let main_v14678 : FVec F S1x1x1 .f32 := (extractStridedSlice S1x1x1 ![0, 0, 252] · slices_S1x1x256_S1x1x1_0_0_252) main_v14676
  let main_v14679 : FVec F S1x256x1 .f32 := broadcastInDim S1x256x1 ![0, 1, 2] bcast_S1x1x1_S1x256x1_0_1_2 main_v14678
  let main_v14680 : FVec F S1x256x1 .f32 := Host.divf main_v14677 main_v14679
  let main_v14681 : FVec F S1x256x256 .f32 := broadcastInDim S1x256x256 ![0, 1, 2] bcast_S1x256x1_S1x256x256_0_1_2 main_v14680
  let main_c_2317 : IVec S_ 32 := constantI S_ 32 252#32
  let main_v14682 : IVec S1x256x256 32 := broadcastInDim S1x256x256 ![] bcast_S_S1x256x256 main_c_2317
  let main_v14683 : IVec S1x256x256 1 := cmpi .sgt main_v9886 main_v14682
  let main_c_2318 : IVec S_ 32 := constantI S_ 32 252#32
  let main_v14684 : IVec S1x256x256 32 := broadcastInDim S1x256x256 ![] bcast_S_S1x256x256 main_c_2318
  let main_v14685 : IVec S1x256x256 1 := cmpi .sgt main_v9887 main_v14684
  let main_v14686 : IVec S1x256x256 1 := andi main_v14683 main_v14685
  let main_v14687 : FVec F S1x256x256 .f32 := broadcastInDim S1x256x256 ![0, 1, 2] bcast_S1x1x256_S1x256x256_0_1_2 main_v14676
  let main_v14688 : FVec F S1x256x256 .f32 := mulf main_v14681 main_v14687
  let main_v14689 : FVec F S1x256x256 .f32 := subf main_v14675 main_v14688
  let main_v14690 : FVec F S1x256x256 .f32 := select main_v14686 main_v14689 main_v14675
  let main_c_2319 : IVec S_ 32 := constantI S_ 32 252#32
  let main_v14691 : IVec S1x256x256 32 := broadcastInDim S1x256x256 ![] bcast_S_S1x256x256 main_c_2319
  let main_v14692 : IVec S1x256x256 1 := cmpi .eq main_v9887 main_v14691
  let main_v14693 : IVec S1x256x256 1 := andi main_v14683 main_v14692
  let main_v14694 : FVec F S1x256x256 .f32 := select main_v14693 main_v14681 main_v14690
  fn_part709 (F := F) main_arg0 main_v4875 main_v9852 main_v9886 main_v9887 main_v14694

def fn_part707 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14643 : FVec F S1x256x256 .f32) (main_v14645 : IVec S1x256x256 1) (main_v14652 : FVec F S1x256x256 .f32) (main_c_2313 : IVec S_ 32) : IVec S9x256x256 1 × IVec S8x256x256 1 :=
  let main_v14653 : IVec S1x256x256 32 := broadcastInDim S1x256x256 ![] bcast_S_S1x256x256 main_c_2313
  let main_v14654 : IVec S1x256x256 1 := cmpi .eq main_v9887 main_v14653
  let main_v14655 : IVec S1x256x256 1 := andi main_v14645 main_v14654
  let main_v14656 : FVec F S1x256x256 .f32 := select main_v14655 main_v14643 main_v14652
  let main_v14657 : FVec F S1x1x256 .f32 := (extractStridedSlice S1x1x256 ![0, 251, 0] · slices_S1x256x256_S1x1x256_0_251_0) main_v14656
  let main_v14658 : FVec F S1x256x1 .f32 := (extractStridedSlice S1x256x1 ![0, 0, 251] · slices_S1x256x256_S1x256x1_0_0_251) main_v14656
  let main_v14659 : FVec F S1x1x1 .f32 := (extractStridedSlice S1x1x1 ![0, 0, 251] · slices_S1x1x256_S1x1x1_0_0_251) main_v14657
  let main_v14660 : FVec F S1x256x1 .f32 := broadcastInDim S1x256x1 ![0, 1, 2] bcast_S1x1x1_S1x256x1_0_1_2 main_v14659
  let main_v14661 : FVec F S1x256x1 .f32 := Host.divf main_v14658 main_v14660
  let main_v14662 : FVec F S1x256x256 .f32 := broadcastInDim S1x256x256 ![0, 1, 2] bcast_S1x256x1_S1x256x256_0_1_2 main_v14661
  let main_c_2314 : IVec S_ 32 := constantI S_ 32 251#32
  let main_v14663 : IVec S1x256x256 32 := broadcastInDim S1x256x256 ![] bcast_S_S1x256x256 main_c_2314
  let main_v14664 : IVec S1x256x256 1 := cmpi .sgt main_v9886 main_v14663
  let main_c_2315 : IVec S_ 32 := constantI S_ 32 251#32
  let main_v14665 : IVec S1x256x256 32 := broadcastInDim S1x256x256 ![] bcast_S_S1x256x256 main_c_2315
  let main_v14666 : IVec S1x256x256 1 := cmpi .sgt main_v9887 main_v14665
  let main_v14667 : IVec S1x256x256 1 := andi main_v14664 main_v14666
  let main_v14668 : FVec F S1x256x256 .f32 := broadcastInDim S1x256x256 ![0, 1, 2] bcast_S1x1x256_S1x256x256_0_1_2 main_v14657
  let main_v14669 : FVec F S1x256x256 .f32 := mulf main_v14662 main_v14668
  let main_v14670 : FVec F S1x256x256 .f32 := subf main_v14656 main_v14669
  let main_v14671 : FVec F S1x256x256 .f32 := select main_v14667 main_v14670 main_v14656
  let main_c_2316 : IVec S_ 32 := constantI S_ 32 251#32
  let main_v14672 : IVec S1x256x256 32 := broadcastInDim S1x256x256 ![] bcast_S_S1x256x256 main_c_2316
  let main_v14673 : IVec S1x256x256 1 := cmpi .eq main_v9887 main_v14672
  fn_part708 (F := F) main_arg0 main_v4875 main_v9852 main_v9886 main_v9887 main_v14662 main_v14664 main_v14671 main_v14673

def fn_part706 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14618 : FVec F S1x256x256 .f32) (main_v14624 : FVec F S1x256x256 .f32) (main_v14626 : IVec S1x256x256 1) (main_v14629 : IVec S1x256x256 1) (main_v14632 : FVec F S1x256x256 .f32) : IVec S9x256x256 1 × IVec S8x256x256 1 :=
  let main_v14633 : FVec F S1x256x256 .f32 := select main_v14629 main_v14632 main_v14618
  let main_c_2310 : IVec S_ 32 := constantI S_ 32 249#32
  let main_v14634 : IVec S1x256x256 32 := broadcastInDim S1x256x256 ![] bcast_S_S1x256x256 main_c_2310
  let main_v14635 : IVec S1x256x256 1 := cmpi .eq main_v9887 main_v14634
  let main_v14636 : IVec S1x256x256 1 := andi main_v14626 main_v14635
  let main_v14637 : FVec F S1x256x256 .f32 := select main_v14636 main_v14624 main_v14633
  let main_v14638 : FVec F S1x1x256 .f32 := (extractStridedSlice S1x1x256 ![0, 250, 0] · slices_S1x256x256_S1x1x256_0_250_0) main_v14637
  let main_v14639 : FVec F S1x256x1 .f32 := (extractStridedSlice S1x256x1 ![0, 0, 250] · slices_S1x256x256_S1x256x1_0_0_250) main_v14637
  let main_v14640 : FVec F S1x1x1 .f32 := (extractStridedSlice S1x1x1 ![0, 0, 250] · slices_S1x1x256_S1x1x1_0_0_250) main_v14638
  let main_v14641 : FVec F S1x256x1 .f32 := broadcastInDim S1x256x1 ![0, 1, 2] bcast_S1x1x1_S1x256x1_0_1_2 main_v14640
  let main_v14642 : FVec F S1x256x1 .f32 := Host.divf main_v14639 main_v14641
  let main_v14643 : FVec F S1x256x256 .f32 := broadcastInDim S1x256x256 ![0, 1, 2] bcast_S1x256x1_S1x256x256_0_1_2 main_v14642
  let main_c_2311 : IVec S_ 32 := constantI S_ 32 250#32
  let main_v14644 : IVec S1x256x256 32 := broadcastInDim S1x256x256 ![] bcast_S_S1x256x256 main_c_2311
  let main_v14645 : IVec S1x256x256 1 := cmpi .sgt main_v9886 main_v14644
  let main_c_2312 : IVec S_ 32 := constantI S_ 32 250#32
  let main_v14646 : IVec S1x256x256 32 := broadcastInDim S1x256x256 ![] bcast_S_S1x256x256 main_c_2312
  let main_v14647 : IVec S1x256x256 1 := cmpi .sgt main_v9887 main_v14646
  let main_v14648 : IVec S1x256x256 1 := andi main_v14645 main_v14647
  let main_v14649 : FVec F S1x256x256 .f32 := broadcastInDim S1x256x256 ![0, 1, 2] bcast_S1x1x256_S1x256x256_0_1_2 main_v14638
  let main_v14650 : FVec F S1x256x256 .f32 := mulf main_v14643 main_v14649
  let main_v14651 : FVec F S1x256x256 .f32 := subf main_v14637 main_v14650
  let main_v14652 : FVec F S1x256x256 .f32 := select main_v14648 main_v14651 main_v14637
  let main_c_2313 : IVec S_ 32 := constantI S_ 32 250#32
  fn_part707 (F := F) main_arg0 main_v4875 main_v9852 main_v9886 main_v9887 main_v14643 main_v14645 main_v14652 main_c_2313

def fn_part705 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14599 : FVec F S1x256x256 .f32) (main_v14605 : FVec F S1x256x256 .f32) (main_v14607 : IVec S1x256x256 1) (main_v14610 : IVec S1x256x256 1) (main_v14611 : FVec F S1x256x256 .f32) : IVec S9x256x256 1 × IVec S8x256x256 1 :=
  let main_v14612 : FVec F S1x256x256 .f32 := mulf main_v14605 main_v14611
  let main_v14613 : FVec F S1x256x256 .f32 := subf main_v14599 main_v14612
  let main_v14614 : FVec F S1x256x256 .f32 := select main_v14610 main_v14613 main_v14599
  let main_c_2307 : IVec S_ 32 := constantI S_ 32 248#32
  let main_v14615 : IVec S1x256x256 32 := broadcastInDim S1x256x256 ![] bcast_S_S1x256x256 main_c_2307
  let main_v14616 : IVec S1x256x256 1 := cmpi .eq main_v9887 main_v14615
  let main_v14617 : IVec S1x256x256 1 := andi main_v14607 main_v14616
  let main_v14618 : FVec F S1x256x256 .f32 := select main_v14617 main_v14605 main_v14614
  let main_v14619 : FVec F S1x1x256 .f32 := (extractStridedSlice S1x1x256 ![0, 249, 0] · slices_S1x256x256_S1x1x256_0_249_0) main_v14618
  let main_v14620 : FVec F S1x256x1 .f32 := (extractStridedSlice S1x256x1 ![0, 0, 249] · slices_S1x256x256_S1x256x1_0_0_249) main_v14618
  let main_v14621 : FVec F S1x1x1 .f32 := (extractStridedSlice S1x1x1 ![0, 0, 249] · slices_S1x1x256_S1x1x1_0_0_249) main_v14619
  let main_v14622 : FVec F S1x256x1 .f32 := broadcastInDim S1x256x1 ![0, 1, 2] bcast_S1x1x1_S1x256x1_0_1_2 main_v14621
  let main_v14623 : FVec F S1x256x1 .f32 := Host.divf main_v14620 main_v14622
  let main_v14624 : FVec F S1x256x256 .f32 := broadcastInDim S1x256x256 ![0, 1, 2] bcast_S1x256x1_S1x256x256_0_1_2 main_v14623
  let main_c_2308 : IVec S_ 32 := constantI S_ 32 249#32
  let main_v14625 : IVec S1x256x256 32 := broadcastInDim S1x256x256 ![] bcast_S_S1x256x256 main_c_2308
  let main_v14626 : IVec S1x256x256 1 := cmpi .sgt main_v9886 main_v14625
  let main_c_2309 : IVec S_ 32 := constantI S_ 32 249#32
  let main_v14627 : IVec S1x256x256 32 := broadcastInDim S1x256x256 ![] bcast_S_S1x256x256 main_c_2309
  let main_v14628 : IVec S1x256x256 1 := cmpi .sgt main_v9887 main_v14627
  let main_v14629 : IVec S1x256x256 1 := andi main_v14626 main_v14628
  let main_v14630 : FVec F S1x256x256 .f32 := broadcastInDim S1x256x256 ![0, 1, 2] bcast_S1x1x256_S1x256x256_0_1_2 main_v14619
  let main_v14631 : FVec F S1x256x256 .f32 := mulf main_v14624 main_v14630
  let main_v14632 : FVec F S1x256x256 .f32 := subf main_v14618 main_v14631
  fn_part706 (F := F) main_arg0 main_v4875 main_v9852 main_v9886 main_v9887 main_v14618 main_v14624 main_v14626 main_v14629 main_v14632

def fn_part704 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14580 : FVec F S1x256x256 .f32) (main_v14581 : FVec F S1x1x256 .f32) (main_v14586 : FVec F S1x256x256 .f32) (main_v14588 : IVec S1x256x256 1) (main_v14590 : IVec S1x256x256 1) : IVec S9x256x256 1 × IVec S8x256x256 1 :=
  let main_v14591 : IVec S1x256x256 1 := andi main_v14588 main_v14590
  let main_v14592 : FVec F S1x256x256 .f32 := broadcastInDim S1x256x256 ![0, 1, 2] bcast_S1x1x256_S1x256x256_0_1_2 main_v14581
  let main_v14593 : FVec F S1x256x256 .f32 := mulf main_v14586 main_v14592
  let main_v14594 : FVec F S1x256x256 .f32 := subf main_v14580 main_v14593
  let main_v14595 : FVec F S1x256x256 .f32 := select main_v14591 main_v14594 main_v14580
  let main_c_2304 : IVec S_ 32 := constantI S_ 32 247#32
  let main_v14596 : IVec S1x256x256 32 := broadcastInDim S1x256x256 ![] bcast_S_S1x256x256 main_c_2304
  let main_v14597 : IVec S1x256x256 1 := cmpi .eq main_v9887 main_v14596
  let main_v14598 : IVec S1x256x256 1 := andi main_v14588 main_v14597
  let main_v14599 : FVec F S1x256x256 .f32 := select main_v14598 main_v14586 main_v14595
  let main_v14600 : FVec F S1x1x256 .f32 := (extractStridedSlice S1x1x256 ![0, 248, 0] · slices_S1x256x256_S1x1x256_0_248_0) main_v14599
  let main_v14601 : FVec F S1x256x1 .f32 := (extractStridedSlice S1x256x1 ![0, 0, 248] · slices_S1x256x256_S1x256x1_0_0_248) main_v14599
  let main_v14602 : FVec F S1x1x1 .f32 := (extractStridedSlice S1x1x1 ![0, 0, 248] · slices_S1x1x256_S1x1x1_0_0_248) main_v14600
  let main_v14603 : FVec F S1x256x1 .f32 := broadcastInDim S1x256x1 ![0, 1, 2] bcast_S1x1x1_S1x256x1_0_1_2 main_v14602
  let main_v14604 : FVec F S1x256x1 .f32 := Host.divf main_v14601 main_v14603
  let main_v14605 : FVec F S1x256x256 .f32 := broadcastInDim S1x256x256 ![0, 1, 2] bcast_S1x256x1_S1x256x256_0_1_2 main_v14604
  let main_c_2305 : IVec S_ 32 := constantI S_ 32 248#32
  let main_v14606 : IVec S1x256x256 32 := broadcastInDim S1x256x256 ![] bcast_S_S1x256x256 main_c_2305
  let main_v14607 : IVec S1x256x256 1 := cmpi .sgt main_v9886 main_v14606
  let main_c_2306 : IVec S_ 32 := constantI S_ 32 248#32
  let main_v14608 : IVec S1x256x256 32 := broadcastInDim S1x256x256 ![] bcast_S_S1x256x256 main_c_2306
  let main_v14609 : IVec S1x256x256 1 := cmpi .sgt main_v9887 main_v14608
  let main_v14610 : IVec S1x256x256 1 := andi main_v14607 main_v14609
  let main_v14611 : FVec F S1x256x256 .f32 := broadcastInDim S1x256x256 ![0, 1, 2] bcast_S1x1x256_S1x256x256_0_1_2 main_v14600
  fn_part705 (F := F) main_arg0 main_v4875 main_v9852 main_v9886 main_v9887 main_v14599 main_v14605 main_v14607 main_v14610 main_v14611

def fn_part703 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14561 : FVec F S1x256x256 .f32) (main_v14562 : FVec F S1x1x256 .f32) (main_v14567 : FVec F S1x256x256 .f32) (main_v14569 : IVec S1x256x256 1) (main_c_2300 : IVec S_ 32) : IVec S9x256x256 1 × IVec S8x256x256 1 :=
  let main_v14570 : IVec S1x256x256 32 := broadcastInDim S1x256x256 ![] bcast_S_S1x256x256 main_c_2300
  let main_v14571 : IVec S1x256x256 1 := cmpi .sgt main_v9887 main_v14570
  let main_v14572 : IVec S1x256x256 1 := andi main_v14569 main_v14571
  let main_v14573 : FVec F S1x256x256 .f32 := broadcastInDim S1x256x256 ![0, 1, 2] bcast_S1x1x256_S1x256x256_0_1_2 main_v14562
  let main_v14574 : FVec F S1x256x256 .f32 := mulf main_v14567 main_v14573
  let main_v14575 : FVec F S1x256x256 .f32 := subf main_v14561 main_v14574
  let main_v14576 : FVec F S1x256x256 .f32 := select main_v14572 main_v14575 main_v14561
  let main_c_2301 : IVec S_ 32 := constantI S_ 32 246#32
  let main_v14577 : IVec S1x256x256 32 := broadcastInDim S1x256x256 ![] bcast_S_S1x256x256 main_c_2301
  let main_v14578 : IVec S1x256x256 1 := cmpi .eq main_v9887 main_v14577
  let main_v14579 : IVec S1x256x256 1 := andi main_v14569 main_v14578
  let main_v14580 : FVec F S1x256x256 .f32 := select main_v14579 main_v14567 main_v14576
  let main_v14581 : FVec F S1x1x256 .f32 := (extractStridedSlice S1x1x256 ![0, 247, 0] · slices_S1x256x256_S1x1x256_0_247_0) main_v14580
  let main_v14582 : FVec F S1x256x1 .f32 := (extractStridedSlice S1x256x1 ![0, 0, 247] · slices_S1x256x256_S1x256x1_0_0_247) main_v14580
  let main_v14583 : FVec F S1x1x1 .f32 := (extractStridedSlice S1x1x1 ![0, 0, 247] · slices_S1x1x256_S1x1x1_0_0_247) main_v14581
  let main_v14584 : FVec F S1x256x1 .f32 := broadcastInDim S1x256x1 ![0, 1, 2] bcast_S1x1x1_S1x256x1_0_1_2 main_v14583
  let main_v14585 : FVec F S1x256x1 .f32 := Host.divf main_v14582 main_v14584
  let main_v14586 : FVec F S1x256x256 .f32 := broadcastInDim S1x256x256 ![0, 1, 2] bcast_S1x256x1_S1x256x256_0_1_2 main_v14585
  let main_c_2302 : IVec S_ 32 := constantI S_ 32 247#32
  let main_v14587 : IVec S1x256x256 32 := broadcastInDim S1x256x256 ![] bcast_S_S1x256x256 main_c_2302
  let main_v14588 : IVec S1x256x256 1 := cmpi .sgt main_v9886 main_v14587
  let main_c_2303 : IVec S_ 32 := constantI S_ 32 247#32
  let main_v14589 : IVec S1x256x256 32 := broadcastInDim S1x256x256 ![] bcast_S_S1x256x256 main_c_2303
  let main_v14590 : IVec S1x256x256 1 := cmpi .sgt main_v9887 main_v14589
  fn_part704 (F := F) main_arg0 main_v4875 main_v9852 main_v9886 main_v9887 main_v14580 main_v14581 main_v14586 main_v14588 main_v14590

def fn_part702 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14542 : FVec F S1x256x256 .f32) (main_v14543 : FVec F S1x1x256 .f32) (main_v14548 : FVec F S1x256x256 .f32) (main_v14549 : IVec S1x256x256 32) : IVec S9x256x256 1 × IVec S8x256x256 1 :=
  let main_v14550 : IVec S1x256x256 1 := cmpi .sgt main_v9886 main_v14549
  let main_c_2297 : IVec S_ 32 := constantI S_ 32 245#32
  let main_v14551 : IVec S1x256x256 32 := broadcastInDim S1x256x256 ![] bcast_S_S1x256x256 main_c_2297
  let main_v14552 : IVec S1x256x256 1 := cmpi .sgt main_v9887 main_v14551
  let main_v14553 : IVec S1x256x256 1 := andi main_v14550 main_v14552
  let main_v14554 : FVec F S1x256x256 .f32 := broadcastInDim S1x256x256 ![0, 1, 2] bcast_S1x1x256_S1x256x256_0_1_2 main_v14543
  let main_v14555 : FVec F S1x256x256 .f32 := mulf main_v14548 main_v14554
  let main_v14556 : FVec F S1x256x256 .f32 := subf main_v14542 main_v14555
  let main_v14557 : FVec F S1x256x256 .f32 := select main_v14553 main_v14556 main_v14542
  let main_c_2298 : IVec S_ 32 := constantI S_ 32 245#32
  let main_v14558 : IVec S1x256x256 32 := broadcastInDim S1x256x256 ![] bcast_S_S1x256x256 main_c_2298
  let main_v14559 : IVec S1x256x256 1 := cmpi .eq main_v9887 main_v14558
  let main_v14560 : IVec S1x256x256 1 := andi main_v14550 main_v14559
  let main_v14561 : FVec F S1x256x256 .f32 := select main_v14560 main_v14548 main_v14557
  let main_v14562 : FVec F S1x1x256 .f32 := (extractStridedSlice S1x1x256 ![0, 246, 0] · slices_S1x256x256_S1x1x256_0_246_0) main_v14561
  let main_v14563 : FVec F S1x256x1 .f32 := (extractStridedSlice S1x256x1 ![0, 0, 246] · slices_S1x256x256_S1x256x1_0_0_246) main_v14561
  let main_v14564 : FVec F S1x1x1 .f32 := (extractStridedSlice S1x1x1 ![0, 0, 246] · slices_S1x1x256_S1x1x1_0_0_246) main_v14562
  let main_v14565 : FVec F S1x256x1 .f32 := broadcastInDim S1x256x1 ![0, 1, 2] bcast_S1x1x1_S1x256x1_0_1_2 main_v14564
  let main_v14566 : FVec F S1x256x1 .f32 := Host.divf main_v14563 main_v14565
  let main_v14567 : FVec F S1x256x256 .f32 := broadcastInDim S1x256x256 ![0, 1, 2] bcast_S1x256x1_S1x256x256_0_1_2 main_v14566
  let main_c_2299 : IVec S_ 32 := constantI S_ 32 246#32
  let main_v14568 : IVec S1x256x256 32 := broadcastInDim S1x256x256 ![] bcast_S_S1x256x256 main_c_2299
  let main_v14569 : IVec S1x256x256 1 := cmpi .sgt main_v9886 main_v14568
  let main_c_2300 : IVec S_ 32 := constantI S_ 32 246#32
  fn_part703 (F := F) main_arg0 main_v4875 main_v9852 main_v9886 main_v9887 main_v14561 main_v14562 main_v14567 main_v14569 main_c_2300

def fn_part701 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14523 : FVec F S1x256x256 .f32) (main_v14524 : FVec F S1x1x256 .f32) (main_v14529 : FVec F S1x256x256 .f32) : IVec S9x256x256 1 × IVec S8x256x256 1 :=
  let main_c_2293 : IVec S_ 32 := constantI S_ 32 244#32
  let main_v14530 : IVec S1x256x256 32 := broadcastInDim S1x256x256 ![] bcast_S_S1x256x256 main_c_2293
  let main_v14531 : IVec S1x256x256 1 := cmpi .sgt main_v9886 main_v14530
  let main_c_2294 : IVec S_ 32 := constantI S_ 32 244#32
  let main_v14532 : IVec S1x256x256 32 := broadcastInDim S1x256x256 ![] bcast_S_S1x256x256 main_c_2294
  let main_v14533 : IVec S1x256x256 1 := cmpi .sgt main_v9887 main_v14532
  let main_v14534 : IVec S1x256x256 1 := andi main_v14531 main_v14533
  let main_v14535 : FVec F S1x256x256 .f32 := broadcastInDim S1x256x256 ![0, 1, 2] bcast_S1x1x256_S1x256x256_0_1_2 main_v14524
  let main_v14536 : FVec F S1x256x256 .f32 := mulf main_v14529 main_v14535
  let main_v14537 : FVec F S1x256x256 .f32 := subf main_v14523 main_v14536
  let main_v14538 : FVec F S1x256x256 .f32 := select main_v14534 main_v14537 main_v14523
  let main_c_2295 : IVec S_ 32 := constantI S_ 32 244#32
  let main_v14539 : IVec S1x256x256 32 := broadcastInDim S1x256x256 ![] bcast_S_S1x256x256 main_c_2295
  let main_v14540 : IVec S1x256x256 1 := cmpi .eq main_v9887 main_v14539
  let main_v14541 : IVec S1x256x256 1 := andi main_v14531 main_v14540
  let main_v14542 : FVec F S1x256x256 .f32 := select main_v14541 main_v14529 main_v14538
  let main_v14543 : FVec F S1x1x256 .f32 := (extractStridedSlice S1x1x256 ![0, 245, 0] · slices_S1x256x256_S1x1x256_0_245_0) main_v14542
  let main_v14544 : FVec F S1x256x1 .f32 := (extractStridedSlice S1x256x1 ![0, 0, 245] · slices_S1x256x256_S1x256x1_0_0_245) main_v14542
  let main_v14545 : FVec F S1x1x1 .f32 := (extractStridedSlice S1x1x1 ![0, 0, 245] · slices_S1x1x256_S1x1x1_0_0_245) main_v14543
  let main_v14546 : FVec F S1x256x1 .f32 := broadcastInDim S1x256x1 ![0, 1, 2] bcast_S1x1x1_S1x256x1_0_1_2 main_v14545
  let main_v14547 : FVec F S1x256x1 .f32 := Host.divf main_v14544 main_v14546
  let main_v14548 : FVec F S1x256x256 .f32 := broadcastInDim S1x256x256 ![0, 1, 2] bcast_S1x256x1_S1x256x256_0_1_2 main_v14547
  let main_c_2296 : IVec S_ 32 := constantI S_ 32 245#32
  let main_v14549 : IVec S1x256x256 32 := broadcastInDim S1x256x256 ![] bcast_S_S1x256x256 main_c_2296
  fn_part702 (F := F) main_arg0 main_v4875 main_v9852 main_v9886 main_v9887 main_v14542 main_v14543 main_v14548 main_v14549

def fn_part700 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14504 : FVec F S1x256x256 .f32) (main_v14505 : FVec F S1x1x256 .f32) (main_v14506 : FVec F S1x256x1 .f32) (main_v14508 : FVec F S1x256x1 .f32) : IVec S9x256x256 1 × IVec S8x256x256 1 :=
  let main_v14509 : FVec F S1x256x1 .f32 := Host.divf main_v14506 main_v14508
  let main_v14510 : FVec F S1x256x256 .f32 := broadcastInDim S1x256x256 ![0, 1, 2] bcast_S1x256x1_S1x256x256_0_1_2 main_v14509
  let main_c_2290 : IVec S_ 32 := constantI S_ 32 243#32
  let main_v14511 : IVec S1x256x256 32 := broadcastInDim S1x256x256 ![] bcast_S_S1x256x256 main_c_2290
  let main_v14512 : IVec S1x256x256 1 := cmpi .sgt main_v9886 main_v14511
  let main_c_2291 : IVec S_ 32 := constantI S_ 32 243#32
  let main_v14513 : IVec S1x256x256 32 := broadcastInDim S1x256x256 ![] bcast_S_S1x256x256 main_c_2291
  let main_v14514 : IVec S1x256x256 1 := cmpi .sgt main_v9887 main_v14513
  let main_v14515 : IVec S1x256x256 1 := andi main_v14512 main_v14514
  let main_v14516 : FVec F S1x256x256 .f32 := broadcastInDim S1x256x256 ![0, 1, 2] bcast_S1x1x256_S1x256x256_0_1_2 main_v14505
  let main_v14517 : FVec F S1x256x256 .f32 := mulf main_v14510 main_v14516
  let main_v14518 : FVec F S1x256x256 .f32 := subf main_v14504 main_v14517
  let main_v14519 : FVec F S1x256x256 .f32 := select main_v14515 main_v14518 main_v14504
  let main_c_2292 : IVec S_ 32 := constantI S_ 32 243#32
  let main_v14520 : IVec S1x256x256 32 := broadcastInDim S1x256x256 ![] bcast_S_S1x256x256 main_c_2292
  let main_v14521 : IVec S1x256x256 1 := cmpi .eq main_v9887 main_v14520
  let main_v14522 : IVec S1x256x256 1 := andi main_v14512 main_v14521
  let main_v14523 : FVec F S1x256x256 .f32 := select main_v14522 main_v14510 main_v14519
  let main_v14524 : FVec F S1x1x256 .f32 := (extractStridedSlice S1x1x256 ![0, 244, 0] · slices_S1x256x256_S1x1x256_0_244_0) main_v14523
  let main_v14525 : FVec F S1x256x1 .f32 := (extractStridedSlice S1x256x1 ![0, 0, 244] · slices_S1x256x256_S1x256x1_0_0_244) main_v14523
  let main_v14526 : FVec F S1x1x1 .f32 := (extractStridedSlice S1x1x1 ![0, 0, 244] · slices_S1x1x256_S1x1x1_0_0_244) main_v14524
  let main_v14527 : FVec F S1x256x1 .f32 := broadcastInDim S1x256x1 ![0, 1, 2] bcast_S1x1x1_S1x256x1_0_1_2 main_v14526
  let main_v14528 : FVec F S1x256x1 .f32 := Host.divf main_v14525 main_v14527
  let main_v14529 : FVec F S1x256x256 .f32 := broadcastInDim S1x256x256 ![0, 1, 2] bcast_S1x256x1_S1x256x256_0_1_2 main_v14528
  fn_part701 (F := F) main_arg0 main_v4875 main_v9852 main_v9886 main_v9887 main_v14523 main_v14524 main_v14529

def fn_part699 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14485 : FVec F S1x256x256 .f32) (main_v14486 : FVec F S1x1x256 .f32) (main_v14487 : FVec F S1x256x1 .f32) : IVec S9x256x256 1 × IVec S8x256x256 1 :=
  let main_v14488 : FVec F S1x1x1 .f32 := (extractStridedSlice S1x1x1 ![0, 0, 242] · slices_S1x1x256_S1x1x1_0_0_242) main_v14486
  let main_v14489 : FVec F S1x256x1 .f32 := broadcastInDim S1x256x1 ![0, 1, 2] bcast_S1x1x1_S1x256x1_0_1_2 main_v14488
  let main_v14490 : FVec F S1x256x1 .f32 := Host.divf main_v14487 main_v14489
  let main_v14491 : FVec F S1x256x256 .f32 := broadcastInDim S1x256x256 ![0, 1, 2] bcast_S1x256x1_S1x256x256_0_1_2 main_v14490
  let main_c_2287 : IVec S_ 32 := constantI S_ 32 242#32
  let main_v14492 : IVec S1x256x256 32 := broadcastInDim S1x256x256 ![] bcast_S_S1x256x256 main_c_2287
  let main_v14493 : IVec S1x256x256 1 := cmpi .sgt main_v9886 main_v14492
  let main_c_2288 : IVec S_ 32 := constantI S_ 32 242#32
  let main_v14494 : IVec S1x256x256 32 := broadcastInDim S1x256x256 ![] bcast_S_S1x256x256 main_c_2288
  let main_v14495 : IVec S1x256x256 1 := cmpi .sgt main_v9887 main_v14494
  let main_v14496 : IVec S1x256x256 1 := andi main_v14493 main_v14495
  let main_v14497 : FVec F S1x256x256 .f32 := broadcastInDim S1x256x256 ![0, 1, 2] bcast_S1x1x256_S1x256x256_0_1_2 main_v14486
  let main_v14498 : FVec F S1x256x256 .f32 := mulf main_v14491 main_v14497
  let main_v14499 : FVec F S1x256x256 .f32 := subf main_v14485 main_v14498
  let main_v14500 : FVec F S1x256x256 .f32 := select main_v14496 main_v14499 main_v14485
  let main_c_2289 : IVec S_ 32 := constantI S_ 32 242#32
  let main_v14501 : IVec S1x256x256 32 := broadcastInDim S1x256x256 ![] bcast_S_S1x256x256 main_c_2289
  let main_v14502 : IVec S1x256x256 1 := cmpi .eq main_v9887 main_v14501
  let main_v14503 : IVec S1x256x256 1 := andi main_v14493 main_v14502
  let main_v14504 : FVec F S1x256x256 .f32 := select main_v14503 main_v14491 main_v14500
  let main_v14505 : FVec F S1x1x256 .f32 := (extractStridedSlice S1x1x256 ![0, 243, 0] · slices_S1x256x256_S1x1x256_0_243_0) main_v14504
  let main_v14506 : FVec F S1x256x1 .f32 := (extractStridedSlice S1x256x1 ![0, 0, 243] · slices_S1x256x256_S1x256x1_0_0_243) main_v14504
  let main_v14507 : FVec F S1x1x1 .f32 := (extractStridedSlice S1x1x1 ![0, 0, 243] · slices_S1x1x256_S1x1x1_0_0_243) main_v14505
  let main_v14508 : FVec F S1x256x1 .f32 := broadcastInDim S1x256x1 ![0, 1, 2] bcast_S1x1x1_S1x256x1_0_1_2 main_v14507
  fn_part700 (F := F) main_arg0 main_v4875 main_v9852 main_v9886 main_v9887 main_v14504 main_v14505 main_v14506 main_v14508

def fn_part698 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14466 : FVec F S1x256x256 .f32) : IVec S9x256x256 1 × IVec S8x256x256 1 :=
  let main_v14467 : FVec F S1x1x256 .f32 := (extractStridedSlice S1x1x256 ![0, 241, 0] · slices_S1x256x256_S1x1x256_0_241_0) main_v14466
  let main_v14468 : FVec F S1x256x1 .f32 := (extractStridedSlice S1x256x1 ![0, 0, 241] · slices_S1x256x256_S1x256x1_0_0_241) main_v14466
  let main_v14469 : FVec F S1x1x1 .f32 := (extractStridedSlice S1x1x1 ![0, 0, 241] · slices_S1x1x256_S1x1x1_0_0_241) main_v14467
  let main_v14470 : FVec F S1x256x1 .f32 := broadcastInDim S1x256x1 ![0, 1, 2] bcast_S1x1x1_S1x256x1_0_1_2 main_v14469
  let main_v14471 : FVec F S1x256x1 .f32 := Host.divf main_v14468 main_v14470
  let main_v14472 : FVec F S1x256x256 .f32 := broadcastInDim S1x256x256 ![0, 1, 2] bcast_S1x256x1_S1x256x256_0_1_2 main_v14471
  let main_c_2284 : IVec S_ 32 := constantI S_ 32 241#32
  let main_v14473 : IVec S1x256x256 32 := broadcastInDim S1x256x256 ![] bcast_S_S1x256x256 main_c_2284
  let main_v14474 : IVec S1x256x256 1 := cmpi .sgt main_v9886 main_v14473
  let main_c_2285 : IVec S_ 32 := constantI S_ 32 241#32
  let main_v14475 : IVec S1x256x256 32 := broadcastInDim S1x256x256 ![] bcast_S_S1x256x256 main_c_2285
  let main_v14476 : IVec S1x256x256 1 := cmpi .sgt main_v9887 main_v14475
  let main_v14477 : IVec S1x256x256 1 := andi main_v14474 main_v14476
  let main_v14478 : FVec F S1x256x256 .f32 := broadcastInDim S1x256x256 ![0, 1, 2] bcast_S1x1x256_S1x256x256_0_1_2 main_v14467
  let main_v14479 : FVec F S1x256x256 .f32 := mulf main_v14472 main_v14478
  let main_v14480 : FVec F S1x256x256 .f32 := subf main_v14466 main_v14479
  let main_v14481 : FVec F S1x256x256 .f32 := select main_v14477 main_v14480 main_v14466
  let main_c_2286 : IVec S_ 32 := constantI S_ 32 241#32
  let main_v14482 : IVec S1x256x256 32 := broadcastInDim S1x256x256 ![] bcast_S_S1x256x256 main_c_2286
  let main_v14483 : IVec S1x256x256 1 := cmpi .eq main_v9887 main_v14482
  let main_v14484 : IVec S1x256x256 1 := andi main_v14474 main_v14483
  let main_v14485 : FVec F S1x256x256 .f32 := select main_v14484 main_v14472 main_v14481
  let main_v14486 : FVec F S1x1x256 .f32 := (extractStridedSlice S1x1x256 ![0, 242, 0] · slices_S1x256x256_S1x1x256_0_242_0) main_v14485
  let main_v14487 : FVec F S1x256x1 .f32 := (extractStridedSlice S1x256x1 ![0, 0, 242] · slices_S1x256x256_S1x256x1_0_0_242) main_v14485
  fn_part699 (F := F) main_arg0 main_v4875 main_v9852 main_v9886 main_v9887 main_v14485 main_v14486 main_v14487

def fn_part697 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14434 : FVec F S1x256x256 .f32) (main_v14436 : IVec S1x256x256 1) (main_v14443 : FVec F S1x256x256 .f32) (main_v14445 : IVec S1x256x256 1) : IVec S9x256x256 1 × IVec S8x256x256 1 :=
  let main_v14446 : IVec S1x256x256 1 := andi main_v14436 main_v14445
  let main_v14447 : FVec F S1x256x256 .f32 := select main_v14446 main_v14434 main_v14443
  let main_v14448 : FVec F S1x1x256 .f32 := (extractStridedSlice S1x1x256 ![0, 240, 0] · slices_S1x256x256_S1x1x256_0_240_0) main_v14447
  let main_v14449 : FVec F S1x256x1 .f32 := (extractStridedSlice S1x256x1 ![0, 0, 240] · slices_S1x256x256_S1x256x1_0_0_240) main_v14447
  let main_v14450 : FVec F S1x1x1 .f32 := (extractStridedSlice S1x1x1 ![0, 0, 240] · slices_S1x1x256_S1x1x1_0_0_240) main_v14448
  let main_v14451 : FVec F S1x256x1 .f32 := broadcastInDim S1x256x1 ![0, 1, 2] bcast_S1x1x1_S1x256x1_0_1_2 main_v14450
  let main_v14452 : FVec F S1x256x1 .f32 := Host.divf main_v14449 main_v14451
  let main_v14453 : FVec F S1x256x256 .f32 := broadcastInDim S1x256x256 ![0, 1, 2] bcast_S1x256x1_S1x256x256_0_1_2 main_v14452
  let main_c_2281 : IVec S_ 32 := constantI S_ 32 240#32
  let main_v14454 : IVec S1x256x256 32 := broadcastInDim S1x256x256 ![] bcast_S_S1x256x256 main_c_2281
  let main_v14455 : IVec S1x256x256 1 := cmpi .sgt main_v9886 main_v14454
  let main_c_2282 : IVec S_ 32 := constantI S_ 32 240#32
  let main_v14456 : IVec S1x256x256 32 := broadcastInDim S1x256x256 ![] bcast_S_S1x256x256 main_c_2282
  let main_v14457 : IVec S1x256x256 1 := cmpi .sgt main_v9887 main_v14456
  let main_v14458 : IVec S1x256x256 1 := andi main_v14455 main_v14457
  let main_v14459 : FVec F S1x256x256 .f32 := broadcastInDim S1x256x256 ![0, 1, 2] bcast_S1x1x256_S1x256x256_0_1_2 main_v14448
  let main_v14460 : FVec F S1x256x256 .f32 := mulf main_v14453 main_v14459
  let main_v14461 : FVec F S1x256x256 .f32 := subf main_v14447 main_v14460
  let main_v14462 : FVec F S1x256x256 .f32 := select main_v14458 main_v14461 main_v14447
  let main_c_2283 : IVec S_ 32 := constantI S_ 32 240#32
  let main_v14463 : IVec S1x256x256 32 := broadcastInDim S1x256x256 ![] bcast_S_S1x256x256 main_c_2283
  let main_v14464 : IVec S1x256x256 1 := cmpi .eq main_v9887 main_v14463
  let main_v14465 : IVec S1x256x256 1 := andi main_v14455 main_v14464
  let main_v14466 : FVec F S1x256x256 .f32 := select main_v14465 main_v14453 main_v14462
  fn_part698 (F := F) main_arg0 main_v4875 main_v9852 main_v9886 main_v9887 main_v14466

def fn_part696 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14415 : FVec F S1x256x256 .f32) (main_v14417 : IVec S1x256x256 1) (main_v14424 : FVec F S1x256x256 .f32) (main_c_2277 : IVec S_ 32) : IVec S9x256x256 1 × IVec S8x256x256 1 :=
  let main_v14425 : IVec S1x256x256 32 := broadcastInDim S1x256x256 ![] bcast_S_S1x256x256 main_c_2277
  let main_v14426 : IVec S1x256x256 1 := cmpi .eq main_v9887 main_v14425
  let main_v14427 : IVec S1x256x256 1 := andi main_v14417 main_v14426
  let main_v14428 : FVec F S1x256x256 .f32 := select main_v14427 main_v14415 main_v14424
  let main_v14429 : FVec F S1x1x256 .f32 := (extractStridedSlice S1x1x256 ![0, 239, 0] · slices_S1x256x256_S1x1x256_0_239_0) main_v14428
  let main_v14430 : FVec F S1x256x1 .f32 := (extractStridedSlice S1x256x1 ![0, 0, 239] · slices_S1x256x256_S1x256x1_0_0_239) main_v14428
  let main_v14431 : FVec F S1x1x1 .f32 := (extractStridedSlice S1x1x1 ![0, 0, 239] · slices_S1x1x256_S1x1x1_0_0_239) main_v14429
  let main_v14432 : FVec F S1x256x1 .f32 := broadcastInDim S1x256x1 ![0, 1, 2] bcast_S1x1x1_S1x256x1_0_1_2 main_v14431
  let main_v14433 : FVec F S1x256x1 .f32 := Host.divf main_v14430 main_v14432
  let main_v14434 : FVec F S1x256x256 .f32 := broadcastInDim S1x256x256 ![0, 1, 2] bcast_S1x256x1_S1x256x256_0_1_2 main_v14433
  let main_c_2278 : IVec S_ 32 := constantI S_ 32 239#32
  let main_v14435 : IVec S1x256x256 32 := broadcastInDim S1x256x256 ![] bcast_S_S1x256x256 main_c_2278
  let main_v14436 : IVec S1x256x256 1 := cmpi .sgt main_v9886 main_v14435
  let main_c_2279 : IVec S_ 32 := constantI S_ 32 239#32
  let main_v14437 : IVec S1x256x256 32 := broadcastInDim S1x256x256 ![] bcast_S_S1x256x256 main_c_2279
  let main_v14438 : IVec S1x256x256 1 := cmpi .sgt main_v9887 main_v14437
  let main_v14439 : IVec S1x256x256 1 := andi main_v14436 main_v14438
  let main_v14440 : FVec F S1x256x256 .f32 := broadcastInDim S1x256x256 ![0, 1, 2] bcast_S1x1x256_S1x256x256_0_1_2 main_v14429
  let main_v14441 : FVec F S1x256x256 .f32 := mulf main_v14434 main_v14440
  let main_v14442 : FVec F S1x256x256 .f32 := subf main_v14428 main_v14441
  let main_v14443 : FVec F S1x256x256 .f32 := select main_v14439 main_v14442 main_v14428
  let main_c_2280 : IVec S_ 32 := constantI S_ 32 239#32
  let main_v14444 : IVec S1x256x256 32 := broadcastInDim S1x256x256 ![] bcast_S_S1x256x256 main_c_2280
  let main_v14445 : IVec S1x256x256 1 := cmpi .eq main_v9887 main_v14444
  fn_part697 (F := F) main_arg0 main_v4875 main_v9852 main_v9886 main_v9887 main_v14434 main_v14436 main_v14443 main_v14445

def fn_part695 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14390 : FVec F S1x256x256 .f32) (main_v14396 : FVec F S1x256x256 .f32) (main_v14398 : IVec S1x256x256 1) (main_v14401 : IVec S1x256x256 1) (main_v14404 : FVec F S1x256x256 .f32) : IVec S9x256x256 1 × IVec S8x256x256 1 :=
  let main_v14405 : FVec F S1x256x256 .f32 := select main_v14401 main_v14404 main_v14390
  let main_c_2274 : IVec S_ 32 := constantI S_ 32 237#32
  let main_v14406 : IVec S1x256x256 32 := broadcastInDim S1x256x256 ![] bcast_S_S1x256x256 main_c_2274
  let main_v14407 : IVec S1x256x256 1 := cmpi .eq main_v9887 main_v14406
  let main_v14408 : IVec S1x256x256 1 := andi main_v14398 main_v14407
  let main_v14409 : FVec F S1x256x256 .f32 := select main_v14408 main_v14396 main_v14405
  let main_v14410 : FVec F S1x1x256 .f32 := (extractStridedSlice S1x1x256 ![0, 238, 0] · slices_S1x256x256_S1x1x256_0_238_0) main_v14409
  let main_v14411 : FVec F S1x256x1 .f32 := (extractStridedSlice S1x256x1 ![0, 0, 238] · slices_S1x256x256_S1x256x1_0_0_238) main_v14409
  let main_v14412 : FVec F S1x1x1 .f32 := (extractStridedSlice S1x1x1 ![0, 0, 238] · slices_S1x1x256_S1x1x1_0_0_238) main_v14410
  let main_v14413 : FVec F S1x256x1 .f32 := broadcastInDim S1x256x1 ![0, 1, 2] bcast_S1x1x1_S1x256x1_0_1_2 main_v14412
  let main_v14414 : FVec F S1x256x1 .f32 := Host.divf main_v14411 main_v14413
  let main_v14415 : FVec F S1x256x256 .f32 := broadcastInDim S1x256x256 ![0, 1, 2] bcast_S1x256x1_S1x256x256_0_1_2 main_v14414
  let main_c_2275 : IVec S_ 32 := constantI S_ 32 238#32
  let main_v14416 : IVec S1x256x256 32 := broadcastInDim S1x256x256 ![] bcast_S_S1x256x256 main_c_2275
  let main_v14417 : IVec S1x256x256 1 := cmpi .sgt main_v9886 main_v14416
  let main_c_2276 : IVec S_ 32 := constantI S_ 32 238#32
  let main_v14418 : IVec S1x256x256 32 := broadcastInDim S1x256x256 ![] bcast_S_S1x256x256 main_c_2276
  let main_v14419 : IVec S1x256x256 1 := cmpi .sgt main_v9887 main_v14418
  let main_v14420 : IVec S1x256x256 1 := andi main_v14417 main_v14419
  let main_v14421 : FVec F S1x256x256 .f32 := broadcastInDim S1x256x256 ![0, 1, 2] bcast_S1x1x256_S1x256x256_0_1_2 main_v14410
  let main_v14422 : FVec F S1x256x256 .f32 := mulf main_v14415 main_v14421
  let main_v14423 : FVec F S1x256x256 .f32 := subf main_v14409 main_v14422
  let main_v14424 : FVec F S1x256x256 .f32 := select main_v14420 main_v14423 main_v14409
  let main_c_2277 : IVec S_ 32 := constantI S_ 32 238#32
  fn_part696 (F := F) main_arg0 main_v4875 main_v9852 main_v9886 main_v9887 main_v14415 main_v14417 main_v14424 main_c_2277

def fn_part694 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14371 : FVec F S1x256x256 .f32) (main_v14377 : FVec F S1x256x256 .f32) (main_v14379 : IVec S1x256x256 1) (main_v14382 : IVec S1x256x256 1) (main_v14383 : FVec F S1x256x256 .f32) : IVec S9x256x256 1 × IVec S8x256x256 1 :=
  let main_v14384 : FVec F S1x256x256 .f32 := mulf main_v14377 main_v14383
  let main_v14385 : FVec F S1x256x256 .f32 := subf main_v14371 main_v14384
  let main_v14386 : FVec F S1x256x256 .f32 := select main_v14382 main_v14385 main_v14371
  let main_c_2271 : IVec S_ 32 := constantI S_ 32 236#32
  let main_v14387 : IVec S1x256x256 32 := broadcastInDim S1x256x256 ![] bcast_S_S1x256x256 main_c_2271
  let main_v14388 : IVec S1x256x256 1 := cmpi .eq main_v9887 main_v14387
  let main_v14389 : IVec S1x256x256 1 := andi main_v14379 main_v14388
  let main_v14390 : FVec F S1x256x256 .f32 := select main_v14389 main_v14377 main_v14386
  let main_v14391 : FVec F S1x1x256 .f32 := (extractStridedSlice S1x1x256 ![0, 237, 0] · slices_S1x256x256_S1x1x256_0_237_0) main_v14390
  let main_v14392 : FVec F S1x256x1 .f32 := (extractStridedSlice S1x256x1 ![0, 0, 237] · slices_S1x256x256_S1x256x1_0_0_237) main_v14390
  let main_v14393 : FVec F S1x1x1 .f32 := (extractStridedSlice S1x1x1 ![0, 0, 237] · slices_S1x1x256_S1x1x1_0_0_237) main_v14391
  let main_v14394 : FVec F S1x256x1 .f32 := broadcastInDim S1x256x1 ![0, 1, 2] bcast_S1x1x1_S1x256x1_0_1_2 main_v14393
  let main_v14395 : FVec F S1x256x1 .f32 := Host.divf main_v14392 main_v14394
  let main_v14396 : FVec F S1x256x256 .f32 := broadcastInDim S1x256x256 ![0, 1, 2] bcast_S1x256x1_S1x256x256_0_1_2 main_v14395
  let main_c_2272 : IVec S_ 32 := constantI S_ 32 237#32
  let main_v14397 : IVec S1x256x256 32 := broadcastInDim S1x256x256 ![] bcast_S_S1x256x256 main_c_2272
  let main_v14398 : IVec S1x256x256 1 := cmpi .sgt main_v9886 main_v14397
  let main_c_2273 : IVec S_ 32 := constantI S_ 32 237#32
  let main_v14399 : IVec S1x256x256 32 := broadcastInDim S1x256x256 ![] bcast_S_S1x256x256 main_c_2273
  let main_v14400 : IVec S1x256x256 1 := cmpi .sgt main_v9887 main_v14399
  let main_v14401 : IVec S1x256x256 1 := andi main_v14398 main_v14400
  let main_v14402 : FVec F S1x256x256 .f32 := broadcastInDim S1x256x256 ![0, 1, 2] bcast_S1x1x256_S1x256x256_0_1_2 main_v14391
  let main_v14403 : FVec F S1x256x256 .f32 := mulf main_v14396 main_v14402
  let main_v14404 : FVec F S1x256x256 .f32 := subf main_v14390 main_v14403
  fn_part695 (F := F) main_arg0 main_v4875 main_v9852 main_v9886 main_v9887 main_v14390 main_v14396 main_v14398 main_v14401 main_v14404

def fn_part693 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14352 : FVec F S1x256x256 .f32) (main_v14353 : FVec F S1x1x256 .f32) (main_v14358 : FVec F S1x256x256 .f32) (main_v14360 : IVec S1x256x256 1) (main_v14362 : IVec S1x256x256 1) : IVec S9x256x256 1 × IVec S8x256x256 1 :=
  let main_v14363 : IVec S1x256x256 1 := andi main_v14360 main_v14362
  let main_v14364 : FVec F S1x256x256 .f32 := broadcastInDim S1x256x256 ![0, 1, 2] bcast_S1x1x256_S1x256x256_0_1_2 main_v14353
  let main_v14365 : FVec F S1x256x256 .f32 := mulf main_v14358 main_v14364
  let main_v14366 : FVec F S1x256x256 .f32 := subf main_v14352 main_v14365
  let main_v14367 : FVec F S1x256x256 .f32 := select main_v14363 main_v14366 main_v14352
  let main_c_2268 : IVec S_ 32 := constantI S_ 32 235#32
  let main_v14368 : IVec S1x256x256 32 := broadcastInDim S1x256x256 ![] bcast_S_S1x256x256 main_c_2268
  let main_v14369 : IVec S1x256x256 1 := cmpi .eq main_v9887 main_v14368
  let main_v14370 : IVec S1x256x256 1 := andi main_v14360 main_v14369
  let main_v14371 : FVec F S1x256x256 .f32 := select main_v14370 main_v14358 main_v14367
  let main_v14372 : FVec F S1x1x256 .f32 := (extractStridedSlice S1x1x256 ![0, 236, 0] · slices_S1x256x256_S1x1x256_0_236_0) main_v14371
  let main_v14373 : FVec F S1x256x1 .f32 := (extractStridedSlice S1x256x1 ![0, 0, 236] · slices_S1x256x256_S1x256x1_0_0_236) main_v14371
  let main_v14374 : FVec F S1x1x1 .f32 := (extractStridedSlice S1x1x1 ![0, 0, 236] · slices_S1x1x256_S1x1x1_0_0_236) main_v14372
  let main_v14375 : FVec F S1x256x1 .f32 := broadcastInDim S1x256x1 ![0, 1, 2] bcast_S1x1x1_S1x256x1_0_1_2 main_v14374
  let main_v14376 : FVec F S1x256x1 .f32 := Host.divf main_v14373 main_v14375
  let main_v14377 : FVec F S1x256x256 .f32 := broadcastInDim S1x256x256 ![0, 1, 2] bcast_S1x256x1_S1x256x256_0_1_2 main_v14376
  let main_c_2269 : IVec S_ 32 := constantI S_ 32 236#32
  let main_v14378 : IVec S1x256x256 32 := broadcastInDim S1x256x256 ![] bcast_S_S1x256x256 main_c_2269
  let main_v14379 : IVec S1x256x256 1 := cmpi .sgt main_v9886 main_v14378
  let main_c_2270 : IVec S_ 32 := constantI S_ 32 236#32
  let main_v14380 : IVec S1x256x256 32 := broadcastInDim S1x256x256 ![] bcast_S_S1x256x256 main_c_2270
  let main_v14381 : IVec S1x256x256 1 := cmpi .sgt main_v9887 main_v14380
  let main_v14382 : IVec S1x256x256 1 := andi main_v14379 main_v14381
  let main_v14383 : FVec F S1x256x256 .f32 := broadcastInDim S1x256x256 ![0, 1, 2] bcast_S1x1x256_S1x256x256_0_1_2 main_v14372
  fn_part694 (F := F) main_arg0 main_v4875 main_v9852 main_v9886 main_v9887 main_v14371 main_v14377 main_v14379 main_v14382 main_v14383

def fn_part692 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14333 : FVec F S1x256x256 .f32) (main_v14334 : FVec F S1x1x256 .f32) (main_v14339 : FVec F S1x256x256 .f32) (main_v14341 : IVec S1x256x256 1) (main_c_2264 : IVec S_ 32) : IVec S9x256x256 1 × IVec S8x256x256 1 :=
  let main_v14342 : IVec S1x256x256 32 := broadcastInDim S1x256x256 ![] bcast_S_S1x256x256 main_c_2264
  let main_v14343 : IVec S1x256x256 1 := cmpi .sgt main_v9887 main_v14342
  let main_v14344 : IVec S1x256x256 1 := andi main_v14341 main_v14343
  let main_v14345 : FVec F S1x256x256 .f32 := broadcastInDim S1x256x256 ![0, 1, 2] bcast_S1x1x256_S1x256x256_0_1_2 main_v14334
  let main_v14346 : FVec F S1x256x256 .f32 := mulf main_v14339 main_v14345
  let main_v14347 : FVec F S1x256x256 .f32 := subf main_v14333 main_v14346
  let main_v14348 : FVec F S1x256x256 .f32 := select main_v14344 main_v14347 main_v14333
  let main_c_2265 : IVec S_ 32 := constantI S_ 32 234#32
  let main_v14349 : IVec S1x256x256 32 := broadcastInDim S1x256x256 ![] bcast_S_S1x256x256 main_c_2265
  let main_v14350 : IVec S1x256x256 1 := cmpi .eq main_v9887 main_v14349
  let main_v14351 : IVec S1x256x256 1 := andi main_v14341 main_v14350
  let main_v14352 : FVec F S1x256x256 .f32 := select main_v14351 main_v14339 main_v14348
  let main_v14353 : FVec F S1x1x256 .f32 := (extractStridedSlice S1x1x256 ![0, 235, 0] · slices_S1x256x256_S1x1x256_0_235_0) main_v14352
  let main_v14354 : FVec F S1x256x1 .f32 := (extractStridedSlice S1x256x1 ![0, 0, 235] · slices_S1x256x256_S1x256x1_0_0_235) main_v14352
  let main_v14355 : FVec F S1x1x1 .f32 := (extractStridedSlice S1x1x1 ![0, 0, 235] · slices_S1x1x256_S1x1x1_0_0_235) main_v14353
  let main_v14356 : FVec F S1x256x1 .f32 := broadcastInDim S1x256x1 ![0, 1, 2] bcast_S1x1x1_S1x256x1_0_1_2 main_v14355
  let main_v14357 : FVec F S1x256x1 .f32 := Host.divf main_v14354 main_v14356
  let main_v14358 : FVec F S1x256x256 .f32 := broadcastInDim S1x256x256 ![0, 1, 2] bcast_S1x256x1_S1x256x256_0_1_2 main_v14357
  let main_c_2266 : IVec S_ 32 := constantI S_ 32 235#32
  let main_v14359 : IVec S1x256x256 32 := broadcastInDim S1x256x256 ![] bcast_S_S1x256x256 main_c_2266
  let main_v14360 : IVec S1x256x256 1 := cmpi .sgt main_v9886 main_v14359
  let main_c_2267 : IVec S_ 32 := constantI S_ 32 235#32
  let main_v14361 : IVec S1x256x256 32 := broadcastInDim S1x256x256 ![] bcast_S_S1x256x256 main_c_2267
  let main_v14362 : IVec S1x256x256 1 := cmpi .sgt main_v9887 main_v14361
  fn_part693 (F := F) main_arg0 main_v4875 main_v9852 main_v9886 main_v9887 main_v14352 main_v14353 main_v14358 main_v14360 main_v14362

def fn_part691 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14314 : FVec F S1x256x256 .f32) (main_v14315 : FVec F S1x1x256 .f32) (main_v14320 : FVec F S1x256x256 .f32) (main_v14321 : IVec S1x256x256 32) : IVec S9x256x256 1 × IVec S8x256x256 1 :=
  let main_v14322 : IVec S1x256x256 1 := cmpi .sgt main_v9886 main_v14321
  let main_c_2261 : IVec S_ 32 := constantI S_ 32 233#32
  let main_v14323 : IVec S1x256x256 32 := broadcastInDim S1x256x256 ![] bcast_S_S1x256x256 main_c_2261
  let main_v14324 : IVec S1x256x256 1 := cmpi .sgt main_v9887 main_v14323
  let main_v14325 : IVec S1x256x256 1 := andi main_v14322 main_v14324
  let main_v14326 : FVec F S1x256x256 .f32 := broadcastInDim S1x256x256 ![0, 1, 2] bcast_S1x1x256_S1x256x256_0_1_2 main_v14315
  let main_v14327 : FVec F S1x256x256 .f32 := mulf main_v14320 main_v14326
  let main_v14328 : FVec F S1x256x256 .f32 := subf main_v14314 main_v14327
  let main_v14329 : FVec F S1x256x256 .f32 := select main_v14325 main_v14328 main_v14314
  let main_c_2262 : IVec S_ 32 := constantI S_ 32 233#32
  let main_v14330 : IVec S1x256x256 32 := broadcastInDim S1x256x256 ![] bcast_S_S1x256x256 main_c_2262
  let main_v14331 : IVec S1x256x256 1 := cmpi .eq main_v9887 main_v14330
  let main_v14332 : IVec S1x256x256 1 := andi main_v14322 main_v14331
  let main_v14333 : FVec F S1x256x256 .f32 := select main_v14332 main_v14320 main_v14329
  let main_v14334 : FVec F S1x1x256 .f32 := (extractStridedSlice S1x1x256 ![0, 234, 0] · slices_S1x256x256_S1x1x256_0_234_0) main_v14333
  let main_v14335 : FVec F S1x256x1 .f32 := (extractStridedSlice S1x256x1 ![0, 0, 234] · slices_S1x256x256_S1x256x1_0_0_234) main_v14333
  let main_v14336 : FVec F S1x1x1 .f32 := (extractStridedSlice S1x1x1 ![0, 0, 234] · slices_S1x1x256_S1x1x1_0_0_234) main_v14334
  let main_v14337 : FVec F S1x256x1 .f32 := broadcastInDim S1x256x1 ![0, 1, 2] bcast_S1x1x1_S1x256x1_0_1_2 main_v14336
  let main_v14338 : FVec F S1x256x1 .f32 := Host.divf main_v14335 main_v14337
  let main_v14339 : FVec F S1x256x256 .f32 := broadcastInDim S1x256x256 ![0, 1, 2] bcast_S1x256x1_S1x256x256_0_1_2 main_v14338
  let main_c_2263 : IVec S_ 32 := constantI S_ 32 234#32
  let main_v14340 : IVec S1x256x256 32 := broadcastInDim S1x256x256 ![] bcast_S_S1x256x256 main_c_2263
  let main_v14341 : IVec S1x256x256 1 := cmpi .sgt main_v9886 main_v14340
  let main_c_2264 : IVec S_ 32 := constantI S_ 32 234#32
  fn_part692 (F := F) main_arg0 main_v4875 main_v9852 main_v9886 main_v9887 main_v14333 main_v14334 main_v14339 main_v14341 main_c_2264

def fn_part690 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14295 : FVec F S1x256x256 .f32) (main_v14296 : FVec F S1x1x256 .f32) (main_v14301 : FVec F S1x256x256 .f32) : IVec S9x256x256 1 × IVec S8x256x256 1 :=
  let main_c_2257 : IVec S_ 32 := constantI S_ 32 232#32
  let main_v14302 : IVec S1x256x256 32 := broadcastInDim S1x256x256 ![] bcast_S_S1x256x256 main_c_2257
  let main_v14303 : IVec S1x256x256 1 := cmpi .sgt main_v9886 main_v14302
  let main_c_2258 : IVec S_ 32 := constantI S_ 32 232#32
  let main_v14304 : IVec S1x256x256 32 := broadcastInDim S1x256x256 ![] bcast_S_S1x256x256 main_c_2258
  let main_v14305 : IVec S1x256x256 1 := cmpi .sgt main_v9887 main_v14304
  let main_v14306 : IVec S1x256x256 1 := andi main_v14303 main_v14305
  let main_v14307 : FVec F S1x256x256 .f32 := broadcastInDim S1x256x256 ![0, 1, 2] bcast_S1x1x256_S1x256x256_0_1_2 main_v14296
  let main_v14308 : FVec F S1x256x256 .f32 := mulf main_v14301 main_v14307
  let main_v14309 : FVec F S1x256x256 .f32 := subf main_v14295 main_v14308
  let main_v14310 : FVec F S1x256x256 .f32 := select main_v14306 main_v14309 main_v14295
  let main_c_2259 : IVec S_ 32 := constantI S_ 32 232#32
  let main_v14311 : IVec S1x256x256 32 := broadcastInDim S1x256x256 ![] bcast_S_S1x256x256 main_c_2259
  let main_v14312 : IVec S1x256x256 1 := cmpi .eq main_v9887 main_v14311
  let main_v14313 : IVec S1x256x256 1 := andi main_v14303 main_v14312
  let main_v14314 : FVec F S1x256x256 .f32 := select main_v14313 main_v14301 main_v14310
  let main_v14315 : FVec F S1x1x256 .f32 := (extractStridedSlice S1x1x256 ![0, 233, 0] · slices_S1x256x256_S1x1x256_0_233_0) main_v14314
  let main_v14316 : FVec F S1x256x1 .f32 := (extractStridedSlice S1x256x1 ![0, 0, 233] · slices_S1x256x256_S1x256x1_0_0_233) main_v14314
  let main_v14317 : FVec F S1x1x1 .f32 := (extractStridedSlice S1x1x1 ![0, 0, 233] · slices_S1x1x256_S1x1x1_0_0_233) main_v14315
  let main_v14318 : FVec F S1x256x1 .f32 := broadcastInDim S1x256x1 ![0, 1, 2] bcast_S1x1x1_S1x256x1_0_1_2 main_v14317
  let main_v14319 : FVec F S1x256x1 .f32 := Host.divf main_v14316 main_v14318
  let main_v14320 : FVec F S1x256x256 .f32 := broadcastInDim S1x256x256 ![0, 1, 2] bcast_S1x256x1_S1x256x256_0_1_2 main_v14319
  let main_c_2260 : IVec S_ 32 := constantI S_ 32 233#32
  let main_v14321 : IVec S1x256x256 32 := broadcastInDim S1x256x256 ![] bcast_S_S1x256x256 main_c_2260
  fn_part691 (F := F) main_arg0 main_v4875 main_v9852 main_v9886 main_v9887 main_v14314 main_v14315 main_v14320 main_v14321

def fn_part689 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14276 : FVec F S1x256x256 .f32) (main_v14277 : FVec F S1x1x256 .f32) (main_v14278 : FVec F S1x256x1 .f32) (main_v14280 : FVec F S1x256x1 .f32) : IVec S9x256x256 1 × IVec S8x256x256 1 :=
  let main_v14281 : FVec F S1x256x1 .f32 := Host.divf main_v14278 main_v14280
  let main_v14282 : FVec F S1x256x256 .f32 := broadcastInDim S1x256x256 ![0, 1, 2] bcast_S1x256x1_S1x256x256_0_1_2 main_v14281
  let main_c_2254 : IVec S_ 32 := constantI S_ 32 231#32
  let main_v14283 : IVec S1x256x256 32 := broadcastInDim S1x256x256 ![] bcast_S_S1x256x256 main_c_2254
  let main_v14284 : IVec S1x256x256 1 := cmpi .sgt main_v9886 main_v14283
  let main_c_2255 : IVec S_ 32 := constantI S_ 32 231#32
  let main_v14285 : IVec S1x256x256 32 := broadcastInDim S1x256x256 ![] bcast_S_S1x256x256 main_c_2255
  let main_v14286 : IVec S1x256x256 1 := cmpi .sgt main_v9887 main_v14285
  let main_v14287 : IVec S1x256x256 1 := andi main_v14284 main_v14286
  let main_v14288 : FVec F S1x256x256 .f32 := broadcastInDim S1x256x256 ![0, 1, 2] bcast_S1x1x256_S1x256x256_0_1_2 main_v14277
  let main_v14289 : FVec F S1x256x256 .f32 := mulf main_v14282 main_v14288
  let main_v14290 : FVec F S1x256x256 .f32 := subf main_v14276 main_v14289
  let main_v14291 : FVec F S1x256x256 .f32 := select main_v14287 main_v14290 main_v14276
  let main_c_2256 : IVec S_ 32 := constantI S_ 32 231#32
  let main_v14292 : IVec S1x256x256 32 := broadcastInDim S1x256x256 ![] bcast_S_S1x256x256 main_c_2256
  let main_v14293 : IVec S1x256x256 1 := cmpi .eq main_v9887 main_v14292
  let main_v14294 : IVec S1x256x256 1 := andi main_v14284 main_v14293
  let main_v14295 : FVec F S1x256x256 .f32 := select main_v14294 main_v14282 main_v14291
  let main_v14296 : FVec F S1x1x256 .f32 := (extractStridedSlice S1x1x256 ![0, 232, 0] · slices_S1x256x256_S1x1x256_0_232_0) main_v14295
  let main_v14297 : FVec F S1x256x1 .f32 := (extractStridedSlice S1x256x1 ![0, 0, 232] · slices_S1x256x256_S1x256x1_0_0_232) main_v14295
  let main_v14298 : FVec F S1x1x1 .f32 := (extractStridedSlice S1x1x1 ![0, 0, 232] · slices_S1x1x256_S1x1x1_0_0_232) main_v14296
  let main_v14299 : FVec F S1x256x1 .f32 := broadcastInDim S1x256x1 ![0, 1, 2] bcast_S1x1x1_S1x256x1_0_1_2 main_v14298
  let main_v14300 : FVec F S1x256x1 .f32 := Host.divf main_v14297 main_v14299
  let main_v14301 : FVec F S1x256x256 .f32 := broadcastInDim S1x256x256 ![0, 1, 2] bcast_S1x256x1_S1x256x256_0_1_2 main_v14300
  fn_part690 (F := F) main_arg0 main_v4875 main_v9852 main_v9886 main_v9887 main_v14295 main_v14296 main_v14301

def fn_part688 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14257 : FVec F S1x256x256 .f32) (main_v14258 : FVec F S1x1x256 .f32) (main_v14259 : FVec F S1x256x1 .f32) : IVec S9x256x256 1 × IVec S8x256x256 1 :=
  let main_v14260 : FVec F S1x1x1 .f32 := (extractStridedSlice S1x1x1 ![0, 0, 230] · slices_S1x1x256_S1x1x1_0_0_230) main_v14258
  let main_v14261 : FVec F S1x256x1 .f32 := broadcastInDim S1x256x1 ![0, 1, 2] bcast_S1x1x1_S1x256x1_0_1_2 main_v14260
  let main_v14262 : FVec F S1x256x1 .f32 := Host.divf main_v14259 main_v14261
  let main_v14263 : FVec F S1x256x256 .f32 := broadcastInDim S1x256x256 ![0, 1, 2] bcast_S1x256x1_S1x256x256_0_1_2 main_v14262
  let main_c_2251 : IVec S_ 32 := constantI S_ 32 230#32
  let main_v14264 : IVec S1x256x256 32 := broadcastInDim S1x256x256 ![] bcast_S_S1x256x256 main_c_2251
  let main_v14265 : IVec S1x256x256 1 := cmpi .sgt main_v9886 main_v14264
  let main_c_2252 : IVec S_ 32 := constantI S_ 32 230#32
  let main_v14266 : IVec S1x256x256 32 := broadcastInDim S1x256x256 ![] bcast_S_S1x256x256 main_c_2252
  let main_v14267 : IVec S1x256x256 1 := cmpi .sgt main_v9887 main_v14266
  let main_v14268 : IVec S1x256x256 1 := andi main_v14265 main_v14267
  let main_v14269 : FVec F S1x256x256 .f32 := broadcastInDim S1x256x256 ![0, 1, 2] bcast_S1x1x256_S1x256x256_0_1_2 main_v14258
  let main_v14270 : FVec F S1x256x256 .f32 := mulf main_v14263 main_v14269
  let main_v14271 : FVec F S1x256x256 .f32 := subf main_v14257 main_v14270
  let main_v14272 : FVec F S1x256x256 .f32 := select main_v14268 main_v14271 main_v14257
  let main_c_2253 : IVec S_ 32 := constantI S_ 32 230#32
  let main_v14273 : IVec S1x256x256 32 := broadcastInDim S1x256x256 ![] bcast_S_S1x256x256 main_c_2253
  let main_v14274 : IVec S1x256x256 1 := cmpi .eq main_v9887 main_v14273
  let main_v14275 : IVec S1x256x256 1 := andi main_v14265 main_v14274
  let main_v14276 : FVec F S1x256x256 .f32 := select main_v14275 main_v14263 main_v14272
  let main_v14277 : FVec F S1x1x256 .f32 := (extractStridedSlice S1x1x256 ![0, 231, 0] · slices_S1x256x256_S1x1x256_0_231_0) main_v14276
  let main_v14278 : FVec F S1x256x1 .f32 := (extractStridedSlice S1x256x1 ![0, 0, 231] · slices_S1x256x256_S1x256x1_0_0_231) main_v14276
  let main_v14279 : FVec F S1x1x1 .f32 := (extractStridedSlice S1x1x1 ![0, 0, 231] · slices_S1x1x256_S1x1x1_0_0_231) main_v14277
  let main_v14280 : FVec F S1x256x1 .f32 := broadcastInDim S1x256x1 ![0, 1, 2] bcast_S1x1x1_S1x256x1_0_1_2 main_v14279
  fn_part689 (F := F) main_arg0 main_v4875 main_v9852 main_v9886 main_v9887 main_v14276 main_v14277 main_v14278 main_v14280

def fn_part687 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14238 : FVec F S1x256x256 .f32) : IVec S9x256x256 1 × IVec S8x256x256 1 :=
  let main_v14239 : FVec F S1x1x256 .f32 := (extractStridedSlice S1x1x256 ![0, 229, 0] · slices_S1x256x256_S1x1x256_0_229_0) main_v14238
  let main_v14240 : FVec F S1x256x1 .f32 := (extractStridedSlice S1x256x1 ![0, 0, 229] · slices_S1x256x256_S1x256x1_0_0_229) main_v14238
  let main_v14241 : FVec F S1x1x1 .f32 := (extractStridedSlice S1x1x1 ![0, 0, 229] · slices_S1x1x256_S1x1x1_0_0_229) main_v14239
  let main_v14242 : FVec F S1x256x1 .f32 := broadcastInDim S1x256x1 ![0, 1, 2] bcast_S1x1x1_S1x256x1_0_1_2 main_v14241
  let main_v14243 : FVec F S1x256x1 .f32 := Host.divf main_v14240 main_v14242
  let main_v14244 : FVec F S1x256x256 .f32 := broadcastInDim S1x256x256 ![0, 1, 2] bcast_S1x256x1_S1x256x256_0_1_2 main_v14243
  let main_c_2248 : IVec S_ 32 := constantI S_ 32 229#32
  let main_v14245 : IVec S1x256x256 32 := broadcastInDim S1x256x256 ![] bcast_S_S1x256x256 main_c_2248
  let main_v14246 : IVec S1x256x256 1 := cmpi .sgt main_v9886 main_v14245
  let main_c_2249 : IVec S_ 32 := constantI S_ 32 229#32
  let main_v14247 : IVec S1x256x256 32 := broadcastInDim S1x256x256 ![] bcast_S_S1x256x256 main_c_2249
  let main_v14248 : IVec S1x256x256 1 := cmpi .sgt main_v9887 main_v14247
  let main_v14249 : IVec S1x256x256 1 := andi main_v14246 main_v14248
  let main_v14250 : FVec F S1x256x256 .f32 := broadcastInDim S1x256x256 ![0, 1, 2] bcast_S1x1x256_S1x256x256_0_1_2 main_v14239
  let main_v14251 : FVec F S1x256x256 .f32 := mulf main_v14244 main_v14250
  let main_v14252 : FVec F S1x256x256 .f32 := subf main_v14238 main_v14251
  let main_v14253 : FVec F S1x256x256 .f32 := select main_v14249 main_v14252 main_v14238
  let main_c_2250 : IVec S_ 32 := constantI S_ 32 229#32
  let main_v14254 : IVec S1x256x256 32 := broadcastInDim S1x256x256 ![] bcast_S_S1x256x256 main_c_2250
  let main_v14255 : IVec S1x256x256 1 := cmpi .eq main_v9887 main_v14254
  let main_v14256 : IVec S1x256x256 1 := andi main_v14246 main_v14255
  let main_v14257 : FVec F S1x256x256 .f32 := select main_v14256 main_v14244 main_v14253
  let main_v14258 : FVec F S1x1x256 .f32 := (extractStridedSlice S1x1x256 ![0, 230, 0] · slices_S1x256x256_S1x1x256_0_230_0) main_v14257
  let main_v14259 : FVec F S1x256x1 .f32 := (extractStridedSlice S1x256x1 ![0, 0, 230] · slices_S1x256x256_S1x256x1_0_0_230) main_v14257
  fn_part688 (F := F) main_arg0 main_v4875 main_v9852 main_v9886 main_v9887 main_v14257 main_v14258 main_v14259

def fn_part686 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14206 : FVec F S1x256x256 .f32) (main_v14208 : IVec S1x256x256 1) (main_v14215 : FVec F S1x256x256 .f32) (main_v14217 : IVec S1x256x256 1) : IVec S9x256x256 1 × IVec S8x256x256 1 :=
  let main_v14218 : IVec S1x256x256 1 := andi main_v14208 main_v14217
  let main_v14219 : FVec F S1x256x256 .f32 := select main_v14218 main_v14206 main_v14215
  let main_v14220 : FVec F S1x1x256 .f32 := (extractStridedSlice S1x1x256 ![0, 228, 0] · slices_S1x256x256_S1x1x256_0_228_0) main_v14219
  let main_v14221 : FVec F S1x256x1 .f32 := (extractStridedSlice S1x256x1 ![0, 0, 228] · slices_S1x256x256_S1x256x1_0_0_228) main_v14219
  let main_v14222 : FVec F S1x1x1 .f32 := (extractStridedSlice S1x1x1 ![0, 0, 228] · slices_S1x1x256_S1x1x1_0_0_228) main_v14220
  let main_v14223 : FVec F S1x256x1 .f32 := broadcastInDim S1x256x1 ![0, 1, 2] bcast_S1x1x1_S1x256x1_0_1_2 main_v14222
  let main_v14224 : FVec F S1x256x1 .f32 := Host.divf main_v14221 main_v14223
  let main_v14225 : FVec F S1x256x256 .f32 := broadcastInDim S1x256x256 ![0, 1, 2] bcast_S1x256x1_S1x256x256_0_1_2 main_v14224
  let main_c_2245 : IVec S_ 32 := constantI S_ 32 228#32
  let main_v14226 : IVec S1x256x256 32 := broadcastInDim S1x256x256 ![] bcast_S_S1x256x256 main_c_2245
  let main_v14227 : IVec S1x256x256 1 := cmpi .sgt main_v9886 main_v14226
  let main_c_2246 : IVec S_ 32 := constantI S_ 32 228#32
  let main_v14228 : IVec S1x256x256 32 := broadcastInDim S1x256x256 ![] bcast_S_S1x256x256 main_c_2246
  let main_v14229 : IVec S1x256x256 1 := cmpi .sgt main_v9887 main_v14228
  let main_v14230 : IVec S1x256x256 1 := andi main_v14227 main_v14229
  let main_v14231 : FVec F S1x256x256 .f32 := broadcastInDim S1x256x256 ![0, 1, 2] bcast_S1x1x256_S1x256x256_0_1_2 main_v14220
  let main_v14232 : FVec F S1x256x256 .f32 := mulf main_v14225 main_v14231
  let main_v14233 : FVec F S1x256x256 .f32 := subf main_v14219 main_v14232
  let main_v14234 : FVec F S1x256x256 .f32 := select main_v14230 main_v14233 main_v14219
  let main_c_2247 : IVec S_ 32 := constantI S_ 32 228#32
  let main_v14235 : IVec S1x256x256 32 := broadcastInDim S1x256x256 ![] bcast_S_S1x256x256 main_c_2247
  let main_v14236 : IVec S1x256x256 1 := cmpi .eq main_v9887 main_v14235
  let main_v14237 : IVec S1x256x256 1 := andi main_v14227 main_v14236
  let main_v14238 : FVec F S1x256x256 .f32 := select main_v14237 main_v14225 main_v14234
  fn_part687 (F := F) main_arg0 main_v4875 main_v9852 main_v9886 main_v9887 main_v14238

def fn_part685 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14187 : FVec F S1x256x256 .f32) (main_v14189 : IVec S1x256x256 1) (main_v14196 : FVec F S1x256x256 .f32) (main_c_2241 : IVec S_ 32) : IVec S9x256x256 1 × IVec S8x256x256 1 :=
  let main_v14197 : IVec S1x256x256 32 := broadcastInDim S1x256x256 ![] bcast_S_S1x256x256 main_c_2241
  let main_v14198 : IVec S1x256x256 1 := cmpi .eq main_v9887 main_v14197
  let main_v14199 : IVec S1x256x256 1 := andi main_v14189 main_v14198
  let main_v14200 : FVec F S1x256x256 .f32 := select main_v14199 main_v14187 main_v14196
  let main_v14201 : FVec F S1x1x256 .f32 := (extractStridedSlice S1x1x256 ![0, 227, 0] · slices_S1x256x256_S1x1x256_0_227_0) main_v14200
  let main_v14202 : FVec F S1x256x1 .f32 := (extractStridedSlice S1x256x1 ![0, 0, 227] · slices_S1x256x256_S1x256x1_0_0_227) main_v14200
  let main_v14203 : FVec F S1x1x1 .f32 := (extractStridedSlice S1x1x1 ![0, 0, 227] · slices_S1x1x256_S1x1x1_0_0_227) main_v14201
  let main_v14204 : FVec F S1x256x1 .f32 := broadcastInDim S1x256x1 ![0, 1, 2] bcast_S1x1x1_S1x256x1_0_1_2 main_v14203
  let main_v14205 : FVec F S1x256x1 .f32 := Host.divf main_v14202 main_v14204
  let main_v14206 : FVec F S1x256x256 .f32 := broadcastInDim S1x256x256 ![0, 1, 2] bcast_S1x256x1_S1x256x256_0_1_2 main_v14205
  let main_c_2242 : IVec S_ 32 := constantI S_ 32 227#32
  let main_v14207 : IVec S1x256x256 32 := broadcastInDim S1x256x256 ![] bcast_S_S1x256x256 main_c_2242
  let main_v14208 : IVec S1x256x256 1 := cmpi .sgt main_v9886 main_v14207
  let main_c_2243 : IVec S_ 32 := constantI S_ 32 227#32
  let main_v14209 : IVec S1x256x256 32 := broadcastInDim S1x256x256 ![] bcast_S_S1x256x256 main_c_2243
  let main_v14210 : IVec S1x256x256 1 := cmpi .sgt main_v9887 main_v14209
  let main_v14211 : IVec S1x256x256 1 := andi main_v14208 main_v14210
  let main_v14212 : FVec F S1x256x256 .f32 := broadcastInDim S1x256x256 ![0, 1, 2] bcast_S1x1x256_S1x256x256_0_1_2 main_v14201
  let main_v14213 : FVec F S1x256x256 .f32 := mulf main_v14206 main_v14212
  let main_v14214 : FVec F S1x256x256 .f32 := subf main_v14200 main_v14213
  let main_v14215 : FVec F S1x256x256 .f32 := select main_v14211 main_v14214 main_v14200
  let main_c_2244 : IVec S_ 32 := constantI S_ 32 227#32
  let main_v14216 : IVec S1x256x256 32 := broadcastInDim S1x256x256 ![] bcast_S_S1x256x256 main_c_2244
  let main_v14217 : IVec S1x256x256 1 := cmpi .eq main_v9887 main_v14216
  fn_part686 (F := F) main_arg0 main_v4875 main_v9852 main_v9886 main_v9887 main_v14206 main_v14208 main_v14215 main_v14217

def fn_part684 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14162 : FVec F S1x256x256 .f32) (main_v14168 : FVec F S1x256x256 .f32) (main_v14170 : IVec S1x256x256 1) (main_v14173 : IVec S1x256x256 1) (main_v14176 : FVec F S1x256x256 .f32) : IVec S9x256x256 1 × IVec S8x256x256 1 :=
  let main_v14177 : FVec F S1x256x256 .f32 := select main_v14173 main_v14176 main_v14162
  let main_c_2238 : IVec S_ 32 := constantI S_ 32 225#32
  let main_v14178 : IVec S1x256x256 32 := broadcastInDim S1x256x256 ![] bcast_S_S1x256x256 main_c_2238
  let main_v14179 : IVec S1x256x256 1 := cmpi .eq main_v9887 main_v14178
  let main_v14180 : IVec S1x256x256 1 := andi main_v14170 main_v14179
  let main_v14181 : FVec F S1x256x256 .f32 := select main_v14180 main_v14168 main_v14177
  let main_v14182 : FVec F S1x1x256 .f32 := (extractStridedSlice S1x1x256 ![0, 226, 0] · slices_S1x256x256_S1x1x256_0_226_0) main_v14181
  let main_v14183 : FVec F S1x256x1 .f32 := (extractStridedSlice S1x256x1 ![0, 0, 226] · slices_S1x256x256_S1x256x1_0_0_226) main_v14181
  let main_v14184 : FVec F S1x1x1 .f32 := (extractStridedSlice S1x1x1 ![0, 0, 226] · slices_S1x1x256_S1x1x1_0_0_226) main_v14182
  let main_v14185 : FVec F S1x256x1 .f32 := broadcastInDim S1x256x1 ![0, 1, 2] bcast_S1x1x1_S1x256x1_0_1_2 main_v14184
  let main_v14186 : FVec F S1x256x1 .f32 := Host.divf main_v14183 main_v14185
  let main_v14187 : FVec F S1x256x256 .f32 := broadcastInDim S1x256x256 ![0, 1, 2] bcast_S1x256x1_S1x256x256_0_1_2 main_v14186
  let main_c_2239 : IVec S_ 32 := constantI S_ 32 226#32
  let main_v14188 : IVec S1x256x256 32 := broadcastInDim S1x256x256 ![] bcast_S_S1x256x256 main_c_2239
  let main_v14189 : IVec S1x256x256 1 := cmpi .sgt main_v9886 main_v14188
  let main_c_2240 : IVec S_ 32 := constantI S_ 32 226#32
  let main_v14190 : IVec S1x256x256 32 := broadcastInDim S1x256x256 ![] bcast_S_S1x256x256 main_c_2240
  let main_v14191 : IVec S1x256x256 1 := cmpi .sgt main_v9887 main_v14190
  let main_v14192 : IVec S1x256x256 1 := andi main_v14189 main_v14191
  let main_v14193 : FVec F S1x256x256 .f32 := broadcastInDim S1x256x256 ![0, 1, 2] bcast_S1x1x256_S1x256x256_0_1_2 main_v14182
  let main_v14194 : FVec F S1x256x256 .f32 := mulf main_v14187 main_v14193
  let main_v14195 : FVec F S1x256x256 .f32 := subf main_v14181 main_v14194
  let main_v14196 : FVec F S1x256x256 .f32 := select main_v14192 main_v14195 main_v14181
  let main_c_2241 : IVec S_ 32 := constantI S_ 32 226#32
  fn_part685 (F := F) main_arg0 main_v4875 main_v9852 main_v9886 main_v9887 main_v14187 main_v14189 main_v14196 main_c_2241

def fn_part683 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14143 : FVec F S1x256x256 .f32) (main_v14149 : FVec F S1x256x256 .f32) (main_v14151 : IVec S1x256x256 1) (main_v14154 : IVec S1x256x256 1) (main_v14155 : FVec F S1x256x256 .f32) : IVec S9x256x256 1 × IVec S8x256x256 1 :=
  let main_v14156 : FVec F S1x256x256 .f32 := mulf main_v14149 main_v14155
  let main_v14157 : FVec F S1x256x256 .f32 := subf main_v14143 main_v14156
  let main_v14158 : FVec F S1x256x256 .f32 := select main_v14154 main_v14157 main_v14143
  let main_c_2235 : IVec S_ 32 := constantI S_ 32 224#32
  let main_v14159 : IVec S1x256x256 32 := broadcastInDim S1x256x256 ![] bcast_S_S1x256x256 main_c_2235
  let main_v14160 : IVec S1x256x256 1 := cmpi .eq main_v9887 main_v14159
  let main_v14161 : IVec S1x256x256 1 := andi main_v14151 main_v14160
  let main_v14162 : FVec F S1x256x256 .f32 := select main_v14161 main_v14149 main_v14158
  let main_v14163 : FVec F S1x1x256 .f32 := (extractStridedSlice S1x1x256 ![0, 225, 0] · slices_S1x256x256_S1x1x256_0_225_0) main_v14162
  let main_v14164 : FVec F S1x256x1 .f32 := (extractStridedSlice S1x256x1 ![0, 0, 225] · slices_S1x256x256_S1x256x1_0_0_225) main_v14162
  let main_v14165 : FVec F S1x1x1 .f32 := (extractStridedSlice S1x1x1 ![0, 0, 225] · slices_S1x1x256_S1x1x1_0_0_225) main_v14163
  let main_v14166 : FVec F S1x256x1 .f32 := broadcastInDim S1x256x1 ![0, 1, 2] bcast_S1x1x1_S1x256x1_0_1_2 main_v14165
  let main_v14167 : FVec F S1x256x1 .f32 := Host.divf main_v14164 main_v14166
  let main_v14168 : FVec F S1x256x256 .f32 := broadcastInDim S1x256x256 ![0, 1, 2] bcast_S1x256x1_S1x256x256_0_1_2 main_v14167
  let main_c_2236 : IVec S_ 32 := constantI S_ 32 225#32
  let main_v14169 : IVec S1x256x256 32 := broadcastInDim S1x256x256 ![] bcast_S_S1x256x256 main_c_2236
  let main_v14170 : IVec S1x256x256 1 := cmpi .sgt main_v9886 main_v14169
  let main_c_2237 : IVec S_ 32 := constantI S_ 32 225#32
  let main_v14171 : IVec S1x256x256 32 := broadcastInDim S1x256x256 ![] bcast_S_S1x256x256 main_c_2237
  let main_v14172 : IVec S1x256x256 1 := cmpi .sgt main_v9887 main_v14171
  let main_v14173 : IVec S1x256x256 1 := andi main_v14170 main_v14172
  let main_v14174 : FVec F S1x256x256 .f32 := broadcastInDim S1x256x256 ![0, 1, 2] bcast_S1x1x256_S1x256x256_0_1_2 main_v14163
  let main_v14175 : FVec F S1x256x256 .f32 := mulf main_v14168 main_v14174
  let main_v14176 : FVec F S1x256x256 .f32 := subf main_v14162 main_v14175
  fn_part684 (F := F) main_arg0 main_v4875 main_v9852 main_v9886 main_v9887 main_v14162 main_v14168 main_v14170 main_v14173 main_v14176

def fn_part682 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14124 : FVec F S1x256x256 .f32) (main_v14125 : FVec F S1x1x256 .f32) (main_v14130 : FVec F S1x256x256 .f32) (main_v14132 : IVec S1x256x256 1) (main_v14134 : IVec S1x256x256 1) : IVec S9x256x256 1 × IVec S8x256x256 1 :=
  let main_v14135 : IVec S1x256x256 1 := andi main_v14132 main_v14134
  let main_v14136 : FVec F S1x256x256 .f32 := broadcastInDim S1x256x256 ![0, 1, 2] bcast_S1x1x256_S1x256x256_0_1_2 main_v14125
  let main_v14137 : FVec F S1x256x256 .f32 := mulf main_v14130 main_v14136
  let main_v14138 : FVec F S1x256x256 .f32 := subf main_v14124 main_v14137
  let main_v14139 : FVec F S1x256x256 .f32 := select main_v14135 main_v14138 main_v14124
  let main_c_2232 : IVec S_ 32 := constantI S_ 32 223#32
  let main_v14140 : IVec S1x256x256 32 := broadcastInDim S1x256x256 ![] bcast_S_S1x256x256 main_c_2232
  let main_v14141 : IVec S1x256x256 1 := cmpi .eq main_v9887 main_v14140
  let main_v14142 : IVec S1x256x256 1 := andi main_v14132 main_v14141
  let main_v14143 : FVec F S1x256x256 .f32 := select main_v14142 main_v14130 main_v14139
  let main_v14144 : FVec F S1x1x256 .f32 := (extractStridedSlice S1x1x256 ![0, 224, 0] · slices_S1x256x256_S1x1x256_0_224_0) main_v14143
  let main_v14145 : FVec F S1x256x1 .f32 := (extractStridedSlice S1x256x1 ![0, 0, 224] · slices_S1x256x256_S1x256x1_0_0_224) main_v14143
  let main_v14146 : FVec F S1x1x1 .f32 := (extractStridedSlice S1x1x1 ![0, 0, 224] · slices_S1x1x256_S1x1x1_0_0_224) main_v14144
  let main_v14147 : FVec F S1x256x1 .f32 := broadcastInDim S1x256x1 ![0, 1, 2] bcast_S1x1x1_S1x256x1_0_1_2 main_v14146
  let main_v14148 : FVec F S1x256x1 .f32 := Host.divf main_v14145 main_v14147
  let main_v14149 : FVec F S1x256x256 .f32 := broadcastInDim S1x256x256 ![0, 1, 2] bcast_S1x256x1_S1x256x256_0_1_2 main_v14148
  let main_c_2233 : IVec S_ 32 := constantI S_ 32 224#32
  let main_v14150 : IVec S1x256x256 32 := broadcastInDim S1x256x256 ![] bcast_S_S1x256x256 main_c_2233
  let main_v14151 : IVec S1x256x256 1 := cmpi .sgt main_v9886 main_v14150
  let main_c_2234 : IVec S_ 32 := constantI S_ 32 224#32
  let main_v14152 : IVec S1x256x256 32 := broadcastInDim S1x256x256 ![] bcast_S_S1x256x256 main_c_2234
  let main_v14153 : IVec S1x256x256 1 := cmpi .sgt main_v9887 main_v14152
  let main_v14154 : IVec S1x256x256 1 := andi main_v14151 main_v14153
  let main_v14155 : FVec F S1x256x256 .f32 := broadcastInDim S1x256x256 ![0, 1, 2] bcast_S1x1x256_S1x256x256_0_1_2 main_v14144
  fn_part683 (F := F) main_arg0 main_v4875 main_v9852 main_v9886 main_v9887 main_v14143 main_v14149 main_v14151 main_v14154 main_v14155

def fn_part681 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14105 : FVec F S1x256x256 .f32) (main_v14106 : FVec F S1x1x256 .f32) (main_v14111 : FVec F S1x256x256 .f32) (main_v14113 : IVec S1x256x256 1) (main_c_2228 : IVec S_ 32) : IVec S9x256x256 1 × IVec S8x256x256 1 :=
  let main_v14114 : IVec S1x256x256 32 := broadcastInDim S1x256x256 ![] bcast_S_S1x256x256 main_c_2228
  let main_v14115 : IVec S1x256x256 1 := cmpi .sgt main_v9887 main_v14114
  let main_v14116 : IVec S1x256x256 1 := andi main_v14113 main_v14115
  let main_v14117 : FVec F S1x256x256 .f32 := broadcastInDim S1x256x256 ![0, 1, 2] bcast_S1x1x256_S1x256x256_0_1_2 main_v14106
  let main_v14118 : FVec F S1x256x256 .f32 := mulf main_v14111 main_v14117
  let main_v14119 : FVec F S1x256x256 .f32 := subf main_v14105 main_v14118
  let main_v14120 : FVec F S1x256x256 .f32 := select main_v14116 main_v14119 main_v14105
  let main_c_2229 : IVec S_ 32 := constantI S_ 32 222#32
  let main_v14121 : IVec S1x256x256 32 := broadcastInDim S1x256x256 ![] bcast_S_S1x256x256 main_c_2229
  let main_v14122 : IVec S1x256x256 1 := cmpi .eq main_v9887 main_v14121
  let main_v14123 : IVec S1x256x256 1 := andi main_v14113 main_v14122
  let main_v14124 : FVec F S1x256x256 .f32 := select main_v14123 main_v14111 main_v14120
  let main_v14125 : FVec F S1x1x256 .f32 := (extractStridedSlice S1x1x256 ![0, 223, 0] · slices_S1x256x256_S1x1x256_0_223_0) main_v14124
  let main_v14126 : FVec F S1x256x1 .f32 := (extractStridedSlice S1x256x1 ![0, 0, 223] · slices_S1x256x256_S1x256x1_0_0_223) main_v14124
  let main_v14127 : FVec F S1x1x1 .f32 := (extractStridedSlice S1x1x1 ![0, 0, 223] · slices_S1x1x256_S1x1x1_0_0_223) main_v14125
  let main_v14128 : FVec F S1x256x1 .f32 := broadcastInDim S1x256x1 ![0, 1, 2] bcast_S1x1x1_S1x256x1_0_1_2 main_v14127
  let main_v14129 : FVec F S1x256x1 .f32 := Host.divf main_v14126 main_v14128
  let main_v14130 : FVec F S1x256x256 .f32 := broadcastInDim S1x256x256 ![0, 1, 2] bcast_S1x256x1_S1x256x256_0_1_2 main_v14129
  let main_c_2230 : IVec S_ 32 := constantI S_ 32 223#32
  let main_v14131 : IVec S1x256x256 32 := broadcastInDim S1x256x256 ![] bcast_S_S1x256x256 main_c_2230
  let main_v14132 : IVec S1x256x256 1 := cmpi .sgt main_v9886 main_v14131
  let main_c_2231 : IVec S_ 32 := constantI S_ 32 223#32
  let main_v14133 : IVec S1x256x256 32 := broadcastInDim S1x256x256 ![] bcast_S_S1x256x256 main_c_2231
  let main_v14134 : IVec S1x256x256 1 := cmpi .sgt main_v9887 main_v14133
  fn_part682 (F := F) main_arg0 main_v4875 main_v9852 main_v9886 main_v9887 main_v14124 main_v14125 main_v14130 main_v14132 main_v14134

def fn_part680 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14086 : FVec F S1x256x256 .f32) (main_v14087 : FVec F S1x1x256 .f32) (main_v14092 : FVec F S1x256x256 .f32) (main_v14093 : IVec S1x256x256 32) : IVec S9x256x256 1 × IVec S8x256x256 1 :=
  let main_v14094 : IVec S1x256x256 1 := cmpi .sgt main_v9886 main_v14093
  let main_c_2225 : IVec S_ 32 := constantI S_ 32 221#32
  let main_v14095 : IVec S1x256x256 32 := broadcastInDim S1x256x256 ![] bcast_S_S1x256x256 main_c_2225
  let main_v14096 : IVec S1x256x256 1 := cmpi .sgt main_v9887 main_v14095
  let main_v14097 : IVec S1x256x256 1 := andi main_v14094 main_v14096
  let main_v14098 : FVec F S1x256x256 .f32 := broadcastInDim S1x256x256 ![0, 1, 2] bcast_S1x1x256_S1x256x256_0_1_2 main_v14087
  let main_v14099 : FVec F S1x256x256 .f32 := mulf main_v14092 main_v14098
  let main_v14100 : FVec F S1x256x256 .f32 := subf main_v14086 main_v14099
  let main_v14101 : FVec F S1x256x256 .f32 := select main_v14097 main_v14100 main_v14086
  let main_c_2226 : IVec S_ 32 := constantI S_ 32 221#32
  let main_v14102 : IVec S1x256x256 32 := broadcastInDim S1x256x256 ![] bcast_S_S1x256x256 main_c_2226
  let main_v14103 : IVec S1x256x256 1 := cmpi .eq main_v9887 main_v14102
  let main_v14104 : IVec S1x256x256 1 := andi main_v14094 main_v14103
  let main_v14105 : FVec F S1x256x256 .f32 := select main_v14104 main_v14092 main_v14101
  let main_v14106 : FVec F S1x1x256 .f32 := (extractStridedSlice S1x1x256 ![0, 222, 0] · slices_S1x256x256_S1x1x256_0_222_0) main_v14105
  let main_v14107 : FVec F S1x256x1 .f32 := (extractStridedSlice S1x256x1 ![0, 0, 222] · slices_S1x256x256_S1x256x1_0_0_222) main_v14105
  let main_v14108 : FVec F S1x1x1 .f32 := (extractStridedSlice S1x1x1 ![0, 0, 222] · slices_S1x1x256_S1x1x1_0_0_222) main_v14106
  let main_v14109 : FVec F S1x256x1 .f32 := broadcastInDim S1x256x1 ![0, 1, 2] bcast_S1x1x1_S1x256x1_0_1_2 main_v14108
  let main_v14110 : FVec F S1x256x1 .f32 := Host.divf main_v14107 main_v14109
  let main_v14111 : FVec F S1x256x256 .f32 := broadcastInDim S1x256x256 ![0, 1, 2] bcast_S1x256x1_S1x256x256_0_1_2 main_v14110
  let main_c_2227 : IVec S_ 32 := constantI S_ 32 222#32
  let main_v14112 : IVec S1x256x256 32 := broadcastInDim S1x256x256 ![] bcast_S_S1x256x256 main_c_2227
  let main_v14113 : IVec S1x256x256 1 := cmpi .sgt main_v9886 main_v14112
  let main_c_2228 : IVec S_ 32 := constantI S_ 32 222#32
  fn_part681 (F := F) main_arg0 main_v4875 main_v9852 main_v9886 main_v9887 main_v14105 main_v14106 main_v14111 main_v14113 main_c_2228

def fn_part679 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14067 : FVec F S1x256x256 .f32) (main_v14068 : FVec F S1x1x256 .f32) (main_v14073 : FVec F S1x256x256 .f32) : IVec S9x256x256 1 × IVec S8x256x256 1 :=
  let main_c_2221 : IVec S_ 32 := constantI S_ 32 220#32
  let main_v14074 : IVec S1x256x256 32 := broadcastInDim S1x256x256 ![] bcast_S_S1x256x256 main_c_2221
  let main_v14075 : IVec S1x256x256 1 := cmpi .sgt main_v9886 main_v14074
  let main_c_2222 : IVec S_ 32 := constantI S_ 32 220#32
  let main_v14076 : IVec S1x256x256 32 := broadcastInDim S1x256x256 ![] bcast_S_S1x256x256 main_c_2222
  let main_v14077 : IVec S1x256x256 1 := cmpi .sgt main_v9887 main_v14076
  let main_v14078 : IVec S1x256x256 1 := andi main_v14075 main_v14077
  let main_v14079 : FVec F S1x256x256 .f32 := broadcastInDim S1x256x256 ![0, 1, 2] bcast_S1x1x256_S1x256x256_0_1_2 main_v14068
  let main_v14080 : FVec F S1x256x256 .f32 := mulf main_v14073 main_v14079
  let main_v14081 : FVec F S1x256x256 .f32 := subf main_v14067 main_v14080
  let main_v14082 : FVec F S1x256x256 .f32 := select main_v14078 main_v14081 main_v14067
  let main_c_2223 : IVec S_ 32 := constantI S_ 32 220#32
  let main_v14083 : IVec S1x256x256 32 := broadcastInDim S1x256x256 ![] bcast_S_S1x256x256 main_c_2223
  let main_v14084 : IVec S1x256x256 1 := cmpi .eq main_v9887 main_v14083
  let main_v14085 : IVec S1x256x256 1 := andi main_v14075 main_v14084
  let main_v14086 : FVec F S1x256x256 .f32 := select main_v14085 main_v14073 main_v14082
  let main_v14087 : FVec F S1x1x256 .f32 := (extractStridedSlice S1x1x256 ![0, 221, 0] · slices_S1x256x256_S1x1x256_0_221_0) main_v14086
  let main_v14088 : FVec F S1x256x1 .f32 := (extractStridedSlice S1x256x1 ![0, 0, 221] · slices_S1x256x256_S1x256x1_0_0_221) main_v14086
  let main_v14089 : FVec F S1x1x1 .f32 := (extractStridedSlice S1x1x1 ![0, 0, 221] · slices_S1x1x256_S1x1x1_0_0_221) main_v14087
  let main_v14090 : FVec F S1x256x1 .f32 := broadcastInDim S1x256x1 ![0, 1, 2] bcast_S1x1x1_S1x256x1_0_1_2 main_v14089
  let main_v14091 : FVec F S1x256x1 .f32 := Host.divf main_v14088 main_v14090
  let main_v14092 : FVec F S1x256x256 .f32 := broadcastInDim S1x256x256 ![0, 1, 2] bcast_S1x256x1_S1x256x256_0_1_2 main_v14091
  let main_c_2224 : IVec S_ 32 := constantI S_ 32 221#32
  let main_v14093 : IVec S1x256x256 32 := broadcastInDim S1x256x256 ![] bcast_S_S1x256x256 main_c_2224
  fn_part680 (F := F) main_arg0 main_v4875 main_v9852 main_v9886 main_v9887 main_v14086 main_v14087 main_v14092 main_v14093

def fn_part678 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14048 : FVec F S1x256x256 .f32) (main_v14049 : FVec F S1x1x256 .f32) (main_v14050 : FVec F S1x256x1 .f32) (main_v14052 : FVec F S1x256x1 .f32) : IVec S9x256x256 1 × IVec S8x256x256 1 :=
  let main_v14053 : FVec F S1x256x1 .f32 := Host.divf main_v14050 main_v14052
  let main_v14054 : FVec F S1x256x256 .f32 := broadcastInDim S1x256x256 ![0, 1, 2] bcast_S1x256x1_S1x256x256_0_1_2 main_v14053
  let main_c_2218 : IVec S_ 32 := constantI S_ 32 219#32
  let main_v14055 : IVec S1x256x256 32 := broadcastInDim S1x256x256 ![] bcast_S_S1x256x256 main_c_2218
  let main_v14056 : IVec S1x256x256 1 := cmpi .sgt main_v9886 main_v14055
  let main_c_2219 : IVec S_ 32 := constantI S_ 32 219#32
  let main_v14057 : IVec S1x256x256 32 := broadcastInDim S1x256x256 ![] bcast_S_S1x256x256 main_c_2219
  let main_v14058 : IVec S1x256x256 1 := cmpi .sgt main_v9887 main_v14057
  let main_v14059 : IVec S1x256x256 1 := andi main_v14056 main_v14058
  let main_v14060 : FVec F S1x256x256 .f32 := broadcastInDim S1x256x256 ![0, 1, 2] bcast_S1x1x256_S1x256x256_0_1_2 main_v14049
  let main_v14061 : FVec F S1x256x256 .f32 := mulf main_v14054 main_v14060
  let main_v14062 : FVec F S1x256x256 .f32 := subf main_v14048 main_v14061
  let main_v14063 : FVec F S1x256x256 .f32 := select main_v14059 main_v14062 main_v14048
  let main_c_2220 : IVec S_ 32 := constantI S_ 32 219#32
  let main_v14064 : IVec S1x256x256 32 := broadcastInDim S1x256x256 ![] bcast_S_S1x256x256 main_c_2220
  let main_v14065 : IVec S1x256x256 1 := cmpi .eq main_v9887 main_v14064
  let main_v14066 : IVec S1x256x256 1 := andi main_v14056 main_v14065
  let main_v14067 : FVec F S1x256x256 .f32 := select main_v14066 main_v14054 main_v14063
  let main_v14068 : FVec F S1x1x256 .f32 := (extractStridedSlice S1x1x256 ![0, 220, 0] · slices_S1x256x256_S1x1x256_0_220_0) main_v14067
  let main_v14069 : FVec F S1x256x1 .f32 := (extractStridedSlice S1x256x1 ![0, 0, 220] · slices_S1x256x256_S1x256x1_0_0_220) main_v14067
  let main_v14070 : FVec F S1x1x1 .f32 := (extractStridedSlice S1x1x1 ![0, 0, 220] · slices_S1x1x256_S1x1x1_0_0_220) main_v14068
  let main_v14071 : FVec F S1x256x1 .f32 := broadcastInDim S1x256x1 ![0, 1, 2] bcast_S1x1x1_S1x256x1_0_1_2 main_v14070
  let main_v14072 : FVec F S1x256x1 .f32 := Host.divf main_v14069 main_v14071
  let main_v14073 : FVec F S1x256x256 .f32 := broadcastInDim S1x256x256 ![0, 1, 2] bcast_S1x256x1_S1x256x256_0_1_2 main_v14072
  fn_part679 (F := F) main_arg0 main_v4875 main_v9852 main_v9886 main_v9887 main_v14067 main_v14068 main_v14073

def fn_part677 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14029 : FVec F S1x256x256 .f32) (main_v14030 : FVec F S1x1x256 .f32) (main_v14031 : FVec F S1x256x1 .f32) : IVec S9x256x256 1 × IVec S8x256x256 1 :=
  let main_v14032 : FVec F S1x1x1 .f32 := (extractStridedSlice S1x1x1 ![0, 0, 218] · slices_S1x1x256_S1x1x1_0_0_218) main_v14030
  let main_v14033 : FVec F S1x256x1 .f32 := broadcastInDim S1x256x1 ![0, 1, 2] bcast_S1x1x1_S1x256x1_0_1_2 main_v14032
  let main_v14034 : FVec F S1x256x1 .f32 := Host.divf main_v14031 main_v14033
  let main_v14035 : FVec F S1x256x256 .f32 := broadcastInDim S1x256x256 ![0, 1, 2] bcast_S1x256x1_S1x256x256_0_1_2 main_v14034
  let main_c_2215 : IVec S_ 32 := constantI S_ 32 218#32
  let main_v14036 : IVec S1x256x256 32 := broadcastInDim S1x256x256 ![] bcast_S_S1x256x256 main_c_2215
  let main_v14037 : IVec S1x256x256 1 := cmpi .sgt main_v9886 main_v14036
  let main_c_2216 : IVec S_ 32 := constantI S_ 32 218#32
  let main_v14038 : IVec S1x256x256 32 := broadcastInDim S1x256x256 ![] bcast_S_S1x256x256 main_c_2216
  let main_v14039 : IVec S1x256x256 1 := cmpi .sgt main_v9887 main_v14038
  let main_v14040 : IVec S1x256x256 1 := andi main_v14037 main_v14039
  let main_v14041 : FVec F S1x256x256 .f32 := broadcastInDim S1x256x256 ![0, 1, 2] bcast_S1x1x256_S1x256x256_0_1_2 main_v14030
  let main_v14042 : FVec F S1x256x256 .f32 := mulf main_v14035 main_v14041
  let main_v14043 : FVec F S1x256x256 .f32 := subf main_v14029 main_v14042
  let main_v14044 : FVec F S1x256x256 .f32 := select main_v14040 main_v14043 main_v14029
  let main_c_2217 : IVec S_ 32 := constantI S_ 32 218#32
  let main_v14045 : IVec S1x256x256 32 := broadcastInDim S1x256x256 ![] bcast_S_S1x256x256 main_c_2217
  let main_v14046 : IVec S1x256x256 1 := cmpi .eq main_v9887 main_v14045
  let main_v14047 : IVec S1x256x256 1 := andi main_v14037 main_v14046
  let main_v14048 : FVec F S1x256x256 .f32 := select main_v14047 main_v14035 main_v14044
  let main_v14049 : FVec F S1x1x256 .f32 := (extractStridedSlice S1x1x256 ![0, 219, 0] · slices_S1x256x256_S1x1x256_0_219_0) main_v14048
  let main_v14050 : FVec F S1x256x1 .f32 := (extractStridedSlice S1x256x1 ![0, 0, 219] · slices_S1x256x256_S1x256x1_0_0_219) main_v14048
  let main_v14051 : FVec F S1x1x1 .f32 := (extractStridedSlice S1x1x1 ![0, 0, 219] · slices_S1x1x256_S1x1x1_0_0_219) main_v14049
  let main_v14052 : FVec F S1x256x1 .f32 := broadcastInDim S1x256x1 ![0, 1, 2] bcast_S1x1x1_S1x256x1_0_1_2 main_v14051
  fn_part678 (F := F) main_arg0 main_v4875 main_v9852 main_v9886 main_v9887 main_v14048 main_v14049 main_v14050 main_v14052

def fn_part676 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v14010 : FVec F S1x256x256 .f32) : IVec S9x256x256 1 × IVec S8x256x256 1 :=
  let main_v14011 : FVec F S1x1x256 .f32 := (extractStridedSlice S1x1x256 ![0, 217, 0] · slices_S1x256x256_S1x1x256_0_217_0) main_v14010
  let main_v14012 : FVec F S1x256x1 .f32 := (extractStridedSlice S1x256x1 ![0, 0, 217] · slices_S1x256x256_S1x256x1_0_0_217) main_v14010
  let main_v14013 : FVec F S1x1x1 .f32 := (extractStridedSlice S1x1x1 ![0, 0, 217] · slices_S1x1x256_S1x1x1_0_0_217) main_v14011
  let main_v14014 : FVec F S1x256x1 .f32 := broadcastInDim S1x256x1 ![0, 1, 2] bcast_S1x1x1_S1x256x1_0_1_2 main_v14013
  let main_v14015 : FVec F S1x256x1 .f32 := Host.divf main_v14012 main_v14014
  let main_v14016 : FVec F S1x256x256 .f32 := broadcastInDim S1x256x256 ![0, 1, 2] bcast_S1x256x1_S1x256x256_0_1_2 main_v14015
  let main_c_2212 : IVec S_ 32 := constantI S_ 32 217#32
  let main_v14017 : IVec S1x256x256 32 := broadcastInDim S1x256x256 ![] bcast_S_S1x256x256 main_c_2212
  let main_v14018 : IVec S1x256x256 1 := cmpi .sgt main_v9886 main_v14017
  let main_c_2213 : IVec S_ 32 := constantI S_ 32 217#32
  let main_v14019 : IVec S1x256x256 32 := broadcastInDim S1x256x256 ![] bcast_S_S1x256x256 main_c_2213
  let main_v14020 : IVec S1x256x256 1 := cmpi .sgt main_v9887 main_v14019
  let main_v14021 : IVec S1x256x256 1 := andi main_v14018 main_v14020
  let main_v14022 : FVec F S1x256x256 .f32 := broadcastInDim S1x256x256 ![0, 1, 2] bcast_S1x1x256_S1x256x256_0_1_2 main_v14011
  let main_v14023 : FVec F S1x256x256 .f32 := mulf main_v14016 main_v14022
  let main_v14024 : FVec F S1x256x256 .f32 := subf main_v14010 main_v14023
  let main_v14025 : FVec F S1x256x256 .f32 := select main_v14021 main_v14024 main_v14010
  let main_c_2214 : IVec S_ 32 := constantI S_ 32 217#32
  let main_v14026 : IVec S1x256x256 32 := broadcastInDim S1x256x256 ![] bcast_S_S1x256x256 main_c_2214
  let main_v14027 : IVec S1x256x256 1 := cmpi .eq main_v9887 main_v14026
  let main_v14028 : IVec S1x256x256 1 := andi main_v14018 main_v14027
  let main_v14029 : FVec F S1x256x256 .f32 := select main_v14028 main_v14016 main_v14025
  let main_v14030 : FVec F S1x1x256 .f32 := (extractStridedSlice S1x1x256 ![0, 218, 0] · slices_S1x256x256_S1x1x256_0_218_0) main_v14029
  let main_v14031 : FVec F S1x256x1 .f32 := (extractStridedSlice S1x256x1 ![0, 0, 218] · slices_S1x256x256_S1x256x1_0_0_218) main_v14029
  fn_part677 (F := F) main_arg0 main_v4875 main_v9852 main_v9886 main_v9887 main_v14029 main_v14030 main_v14031

def fn_part675 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13978 : FVec F S1x256x256 .f32) (main_v13980 : IVec S1x256x256 1) (main_v13987 : FVec F S1x256x256 .f32) (main_v13989 : IVec S1x256x256 1) : IVec S9x256x256 1 × IVec S8x256x256 1 :=
  let main_v13990 : IVec S1x256x256 1 := andi main_v13980 main_v13989
  let main_v13991 : FVec F S1x256x256 .f32 := select main_v13990 main_v13978 main_v13987
  let main_v13992 : FVec F S1x1x256 .f32 := (extractStridedSlice S1x1x256 ![0, 216, 0] · slices_S1x256x256_S1x1x256_0_216_0) main_v13991
  let main_v13993 : FVec F S1x256x1 .f32 := (extractStridedSlice S1x256x1 ![0, 0, 216] · slices_S1x256x256_S1x256x1_0_0_216) main_v13991
  let main_v13994 : FVec F S1x1x1 .f32 := (extractStridedSlice S1x1x1 ![0, 0, 216] · slices_S1x1x256_S1x1x1_0_0_216) main_v13992
  let main_v13995 : FVec F S1x256x1 .f32 := broadcastInDim S1x256x1 ![0, 1, 2] bcast_S1x1x1_S1x256x1_0_1_2 main_v13994
  let main_v13996 : FVec F S1x256x1 .f32 := Host.divf main_v13993 main_v13995
  let main_v13997 : FVec F S1x256x256 .f32 := broadcastInDim S1x256x256 ![0, 1, 2] bcast_S1x256x1_S1x256x256_0_1_2 main_v13996
  let main_c_2209 : IVec S_ 32 := constantI S_ 32 216#32
  let main_v13998 : IVec S1x256x256 32 := broadcastInDim S1x256x256 ![] bcast_S_S1x256x256 main_c_2209
  let main_v13999 : IVec S1x256x256 1 := cmpi .sgt main_v9886 main_v13998
  let main_c_2210 : IVec S_ 32 := constantI S_ 32 216#32
  let main_v14000 : IVec S1x256x256 32 := broadcastInDim S1x256x256 ![] bcast_S_S1x256x256 main_c_2210
  let main_v14001 : IVec S1x256x256 1 := cmpi .sgt main_v9887 main_v14000
  let main_v14002 : IVec S1x256x256 1 := andi main_v13999 main_v14001
  let main_v14003 : FVec F S1x256x256 .f32 := broadcastInDim S1x256x256 ![0, 1, 2] bcast_S1x1x256_S1x256x256_0_1_2 main_v13992
  let main_v14004 : FVec F S1x256x256 .f32 := mulf main_v13997 main_v14003
  let main_v14005 : FVec F S1x256x256 .f32 := subf main_v13991 main_v14004
  let main_v14006 : FVec F S1x256x256 .f32 := select main_v14002 main_v14005 main_v13991
  let main_c_2211 : IVec S_ 32 := constantI S_ 32 216#32
  let main_v14007 : IVec S1x256x256 32 := broadcastInDim S1x256x256 ![] bcast_S_S1x256x256 main_c_2211
  let main_v14008 : IVec S1x256x256 1 := cmpi .eq main_v9887 main_v14007
  let main_v14009 : IVec S1x256x256 1 := andi main_v13999 main_v14008
  let main_v14010 : FVec F S1x256x256 .f32 := select main_v14009 main_v13997 main_v14006
  fn_part676 (F := F) main_arg0 main_v4875 main_v9852 main_v9886 main_v9887 main_v14010

def fn_part674 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13959 : FVec F S1x256x256 .f32) (main_v13961 : IVec S1x256x256 1) (main_v13968 : FVec F S1x256x256 .f32) (main_c_2205 : IVec S_ 32) : IVec S9x256x256 1 × IVec S8x256x256 1 :=
  let main_v13969 : IVec S1x256x256 32 := broadcastInDim S1x256x256 ![] bcast_S_S1x256x256 main_c_2205
  let main_v13970 : IVec S1x256x256 1 := cmpi .eq main_v9887 main_v13969
  let main_v13971 : IVec S1x256x256 1 := andi main_v13961 main_v13970
  let main_v13972 : FVec F S1x256x256 .f32 := select main_v13971 main_v13959 main_v13968
  let main_v13973 : FVec F S1x1x256 .f32 := (extractStridedSlice S1x1x256 ![0, 215, 0] · slices_S1x256x256_S1x1x256_0_215_0) main_v13972
  let main_v13974 : FVec F S1x256x1 .f32 := (extractStridedSlice S1x256x1 ![0, 0, 215] · slices_S1x256x256_S1x256x1_0_0_215) main_v13972
  let main_v13975 : FVec F S1x1x1 .f32 := (extractStridedSlice S1x1x1 ![0, 0, 215] · slices_S1x1x256_S1x1x1_0_0_215) main_v13973
  let main_v13976 : FVec F S1x256x1 .f32 := broadcastInDim S1x256x1 ![0, 1, 2] bcast_S1x1x1_S1x256x1_0_1_2 main_v13975
  let main_v13977 : FVec F S1x256x1 .f32 := Host.divf main_v13974 main_v13976
  let main_v13978 : FVec F S1x256x256 .f32 := broadcastInDim S1x256x256 ![0, 1, 2] bcast_S1x256x1_S1x256x256_0_1_2 main_v13977
  let main_c_2206 : IVec S_ 32 := constantI S_ 32 215#32
  let main_v13979 : IVec S1x256x256 32 := broadcastInDim S1x256x256 ![] bcast_S_S1x256x256 main_c_2206
  let main_v13980 : IVec S1x256x256 1 := cmpi .sgt main_v9886 main_v13979
  let main_c_2207 : IVec S_ 32 := constantI S_ 32 215#32
  let main_v13981 : IVec S1x256x256 32 := broadcastInDim S1x256x256 ![] bcast_S_S1x256x256 main_c_2207
  let main_v13982 : IVec S1x256x256 1 := cmpi .sgt main_v9887 main_v13981
  let main_v13983 : IVec S1x256x256 1 := andi main_v13980 main_v13982
  let main_v13984 : FVec F S1x256x256 .f32 := broadcastInDim S1x256x256 ![0, 1, 2] bcast_S1x1x256_S1x256x256_0_1_2 main_v13973
  let main_v13985 : FVec F S1x256x256 .f32 := mulf main_v13978 main_v13984
  let main_v13986 : FVec F S1x256x256 .f32 := subf main_v13972 main_v13985
  let main_v13987 : FVec F S1x256x256 .f32 := select main_v13983 main_v13986 main_v13972
  let main_c_2208 : IVec S_ 32 := constantI S_ 32 215#32
  let main_v13988 : IVec S1x256x256 32 := broadcastInDim S1x256x256 ![] bcast_S_S1x256x256 main_c_2208
  let main_v13989 : IVec S1x256x256 1 := cmpi .eq main_v9887 main_v13988
  fn_part675 (F := F) main_arg0 main_v4875 main_v9852 main_v9886 main_v9887 main_v13978 main_v13980 main_v13987 main_v13989

def fn_part673 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13934 : FVec F S1x256x256 .f32) (main_v13940 : FVec F S1x256x256 .f32) (main_v13942 : IVec S1x256x256 1) (main_v13945 : IVec S1x256x256 1) (main_v13948 : FVec F S1x256x256 .f32) : IVec S9x256x256 1 × IVec S8x256x256 1 :=
  let main_v13949 : FVec F S1x256x256 .f32 := select main_v13945 main_v13948 main_v13934
  let main_c_2202 : IVec S_ 32 := constantI S_ 32 213#32
  let main_v13950 : IVec S1x256x256 32 := broadcastInDim S1x256x256 ![] bcast_S_S1x256x256 main_c_2202
  let main_v13951 : IVec S1x256x256 1 := cmpi .eq main_v9887 main_v13950
  let main_v13952 : IVec S1x256x256 1 := andi main_v13942 main_v13951
  let main_v13953 : FVec F S1x256x256 .f32 := select main_v13952 main_v13940 main_v13949
  let main_v13954 : FVec F S1x1x256 .f32 := (extractStridedSlice S1x1x256 ![0, 214, 0] · slices_S1x256x256_S1x1x256_0_214_0) main_v13953
  let main_v13955 : FVec F S1x256x1 .f32 := (extractStridedSlice S1x256x1 ![0, 0, 214] · slices_S1x256x256_S1x256x1_0_0_214) main_v13953
  let main_v13956 : FVec F S1x1x1 .f32 := (extractStridedSlice S1x1x1 ![0, 0, 214] · slices_S1x1x256_S1x1x1_0_0_214) main_v13954
  let main_v13957 : FVec F S1x256x1 .f32 := broadcastInDim S1x256x1 ![0, 1, 2] bcast_S1x1x1_S1x256x1_0_1_2 main_v13956
  let main_v13958 : FVec F S1x256x1 .f32 := Host.divf main_v13955 main_v13957
  let main_v13959 : FVec F S1x256x256 .f32 := broadcastInDim S1x256x256 ![0, 1, 2] bcast_S1x256x1_S1x256x256_0_1_2 main_v13958
  let main_c_2203 : IVec S_ 32 := constantI S_ 32 214#32
  let main_v13960 : IVec S1x256x256 32 := broadcastInDim S1x256x256 ![] bcast_S_S1x256x256 main_c_2203
  let main_v13961 : IVec S1x256x256 1 := cmpi .sgt main_v9886 main_v13960
  let main_c_2204 : IVec S_ 32 := constantI S_ 32 214#32
  let main_v13962 : IVec S1x256x256 32 := broadcastInDim S1x256x256 ![] bcast_S_S1x256x256 main_c_2204
  let main_v13963 : IVec S1x256x256 1 := cmpi .sgt main_v9887 main_v13962
  let main_v13964 : IVec S1x256x256 1 := andi main_v13961 main_v13963
  let main_v13965 : FVec F S1x256x256 .f32 := broadcastInDim S1x256x256 ![0, 1, 2] bcast_S1x1x256_S1x256x256_0_1_2 main_v13954
  let main_v13966 : FVec F S1x256x256 .f32 := mulf main_v13959 main_v13965
  let main_v13967 : FVec F S1x256x256 .f32 := subf main_v13953 main_v13966
  let main_v13968 : FVec F S1x256x256 .f32 := select main_v13964 main_v13967 main_v13953
  let main_c_2205 : IVec S_ 32 := constantI S_ 32 214#32
  fn_part674 (F := F) main_arg0 main_v4875 main_v9852 main_v9886 main_v9887 main_v13959 main_v13961 main_v13968 main_c_2205

def fn_part672 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13915 : FVec F S1x256x256 .f32) (main_v13921 : FVec F S1x256x256 .f32) (main_v13923 : IVec S1x256x256 1) (main_v13926 : IVec S1x256x256 1) (main_v13927 : FVec F S1x256x256 .f32) : IVec S9x256x256 1 × IVec S8x256x256 1 :=
  let main_v13928 : FVec F S1x256x256 .f32 := mulf main_v13921 main_v13927
  let main_v13929 : FVec F S1x256x256 .f32 := subf main_v13915 main_v13928
  let main_v13930 : FVec F S1x256x256 .f32 := select main_v13926 main_v13929 main_v13915
  let main_c_2199 : IVec S_ 32 := constantI S_ 32 212#32
  let main_v13931 : IVec S1x256x256 32 := broadcastInDim S1x256x256 ![] bcast_S_S1x256x256 main_c_2199
  let main_v13932 : IVec S1x256x256 1 := cmpi .eq main_v9887 main_v13931
  let main_v13933 : IVec S1x256x256 1 := andi main_v13923 main_v13932
  let main_v13934 : FVec F S1x256x256 .f32 := select main_v13933 main_v13921 main_v13930
  let main_v13935 : FVec F S1x1x256 .f32 := (extractStridedSlice S1x1x256 ![0, 213, 0] · slices_S1x256x256_S1x1x256_0_213_0) main_v13934
  let main_v13936 : FVec F S1x256x1 .f32 := (extractStridedSlice S1x256x1 ![0, 0, 213] · slices_S1x256x256_S1x256x1_0_0_213) main_v13934
  let main_v13937 : FVec F S1x1x1 .f32 := (extractStridedSlice S1x1x1 ![0, 0, 213] · slices_S1x1x256_S1x1x1_0_0_213) main_v13935
  let main_v13938 : FVec F S1x256x1 .f32 := broadcastInDim S1x256x1 ![0, 1, 2] bcast_S1x1x1_S1x256x1_0_1_2 main_v13937
  let main_v13939 : FVec F S1x256x1 .f32 := Host.divf main_v13936 main_v13938
  let main_v13940 : FVec F S1x256x256 .f32 := broadcastInDim S1x256x256 ![0, 1, 2] bcast_S1x256x1_S1x256x256_0_1_2 main_v13939
  let main_c_2200 : IVec S_ 32 := constantI S_ 32 213#32
  let main_v13941 : IVec S1x256x256 32 := broadcastInDim S1x256x256 ![] bcast_S_S1x256x256 main_c_2200
  let main_v13942 : IVec S1x256x256 1 := cmpi .sgt main_v9886 main_v13941
  let main_c_2201 : IVec S_ 32 := constantI S_ 32 213#32
  let main_v13943 : IVec S1x256x256 32 := broadcastInDim S1x256x256 ![] bcast_S_S1x256x256 main_c_2201
  let main_v13944 : IVec S1x256x256 1 := cmpi .sgt main_v9887 main_v13943
  let main_v13945 : IVec S1x256x256 1 := andi main_v13942 main_v13944
  let main_v13946 : FVec F S1x256x256 .f32 := broadcastInDim S1x256x256 ![0, 1, 2] bcast_S1x1x256_S1x256x256_0_1_2 main_v13935
  let main_v13947 : FVec F S1x256x256 .f32 := mulf main_v13940 main_v13946
  let main_v13948 : FVec F S1x256x256 .f32 := subf main_v13934 main_v13947
  fn_part673 (F := F) main_arg0 main_v4875 main_v9852 main_v9886 main_v9887 main_v13934 main_v13940 main_v13942 main_v13945 main_v13948

def fn_part671 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13896 : FVec F S1x256x256 .f32) (main_v13897 : FVec F S1x1x256 .f32) (main_v13902 : FVec F S1x256x256 .f32) (main_v13904 : IVec S1x256x256 1) (main_v13906 : IVec S1x256x256 1) : IVec S9x256x256 1 × IVec S8x256x256 1 :=
  let main_v13907 : IVec S1x256x256 1 := andi main_v13904 main_v13906
  let main_v13908 : FVec F S1x256x256 .f32 := broadcastInDim S1x256x256 ![0, 1, 2] bcast_S1x1x256_S1x256x256_0_1_2 main_v13897
  let main_v13909 : FVec F S1x256x256 .f32 := mulf main_v13902 main_v13908
  let main_v13910 : FVec F S1x256x256 .f32 := subf main_v13896 main_v13909
  let main_v13911 : FVec F S1x256x256 .f32 := select main_v13907 main_v13910 main_v13896
  let main_c_2196 : IVec S_ 32 := constantI S_ 32 211#32
  let main_v13912 : IVec S1x256x256 32 := broadcastInDim S1x256x256 ![] bcast_S_S1x256x256 main_c_2196
  let main_v13913 : IVec S1x256x256 1 := cmpi .eq main_v9887 main_v13912
  let main_v13914 : IVec S1x256x256 1 := andi main_v13904 main_v13913
  let main_v13915 : FVec F S1x256x256 .f32 := select main_v13914 main_v13902 main_v13911
  let main_v13916 : FVec F S1x1x256 .f32 := (extractStridedSlice S1x1x256 ![0, 212, 0] · slices_S1x256x256_S1x1x256_0_212_0) main_v13915
  let main_v13917 : FVec F S1x256x1 .f32 := (extractStridedSlice S1x256x1 ![0, 0, 212] · slices_S1x256x256_S1x256x1_0_0_212) main_v13915
  let main_v13918 : FVec F S1x1x1 .f32 := (extractStridedSlice S1x1x1 ![0, 0, 212] · slices_S1x1x256_S1x1x1_0_0_212) main_v13916
  let main_v13919 : FVec F S1x256x1 .f32 := broadcastInDim S1x256x1 ![0, 1, 2] bcast_S1x1x1_S1x256x1_0_1_2 main_v13918
  let main_v13920 : FVec F S1x256x1 .f32 := Host.divf main_v13917 main_v13919
  let main_v13921 : FVec F S1x256x256 .f32 := broadcastInDim S1x256x256 ![0, 1, 2] bcast_S1x256x1_S1x256x256_0_1_2 main_v13920
  let main_c_2197 : IVec S_ 32 := constantI S_ 32 212#32
  let main_v13922 : IVec S1x256x256 32 := broadcastInDim S1x256x256 ![] bcast_S_S1x256x256 main_c_2197
  let main_v13923 : IVec S1x256x256 1 := cmpi .sgt main_v9886 main_v13922
  let main_c_2198 : IVec S_ 32 := constantI S_ 32 212#32
  let main_v13924 : IVec S1x256x256 32 := broadcastInDim S1x256x256 ![] bcast_S_S1x256x256 main_c_2198
  let main_v13925 : IVec S1x256x256 1 := cmpi .sgt main_v9887 main_v13924
  let main_v13926 : IVec S1x256x256 1 := andi main_v13923 main_v13925
  let main_v13927 : FVec F S1x256x256 .f32 := broadcastInDim S1x256x256 ![0, 1, 2] bcast_S1x1x256_S1x256x256_0_1_2 main_v13916
  fn_part672 (F := F) main_arg0 main_v4875 main_v9852 main_v9886 main_v9887 main_v13915 main_v13921 main_v13923 main_v13926 main_v13927

def fn_part670 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13877 : FVec F S1x256x256 .f32) (main_v13878 : FVec F S1x1x256 .f32) (main_v13883 : FVec F S1x256x256 .f32) (main_v13885 : IVec S1x256x256 1) (main_c_2192 : IVec S_ 32) : IVec S9x256x256 1 × IVec S8x256x256 1 :=
  let main_v13886 : IVec S1x256x256 32 := broadcastInDim S1x256x256 ![] bcast_S_S1x256x256 main_c_2192
  let main_v13887 : IVec S1x256x256 1 := cmpi .sgt main_v9887 main_v13886
  let main_v13888 : IVec S1x256x256 1 := andi main_v13885 main_v13887
  let main_v13889 : FVec F S1x256x256 .f32 := broadcastInDim S1x256x256 ![0, 1, 2] bcast_S1x1x256_S1x256x256_0_1_2 main_v13878
  let main_v13890 : FVec F S1x256x256 .f32 := mulf main_v13883 main_v13889
  let main_v13891 : FVec F S1x256x256 .f32 := subf main_v13877 main_v13890
  let main_v13892 : FVec F S1x256x256 .f32 := select main_v13888 main_v13891 main_v13877
  let main_c_2193 : IVec S_ 32 := constantI S_ 32 210#32
  let main_v13893 : IVec S1x256x256 32 := broadcastInDim S1x256x256 ![] bcast_S_S1x256x256 main_c_2193
  let main_v13894 : IVec S1x256x256 1 := cmpi .eq main_v9887 main_v13893
  let main_v13895 : IVec S1x256x256 1 := andi main_v13885 main_v13894
  let main_v13896 : FVec F S1x256x256 .f32 := select main_v13895 main_v13883 main_v13892
  let main_v13897 : FVec F S1x1x256 .f32 := (extractStridedSlice S1x1x256 ![0, 211, 0] · slices_S1x256x256_S1x1x256_0_211_0) main_v13896
  let main_v13898 : FVec F S1x256x1 .f32 := (extractStridedSlice S1x256x1 ![0, 0, 211] · slices_S1x256x256_S1x256x1_0_0_211) main_v13896
  let main_v13899 : FVec F S1x1x1 .f32 := (extractStridedSlice S1x1x1 ![0, 0, 211] · slices_S1x1x256_S1x1x1_0_0_211) main_v13897
  let main_v13900 : FVec F S1x256x1 .f32 := broadcastInDim S1x256x1 ![0, 1, 2] bcast_S1x1x1_S1x256x1_0_1_2 main_v13899
  let main_v13901 : FVec F S1x256x1 .f32 := Host.divf main_v13898 main_v13900
  let main_v13902 : FVec F S1x256x256 .f32 := broadcastInDim S1x256x256 ![0, 1, 2] bcast_S1x256x1_S1x256x256_0_1_2 main_v13901
  let main_c_2194 : IVec S_ 32 := constantI S_ 32 211#32
  let main_v13903 : IVec S1x256x256 32 := broadcastInDim S1x256x256 ![] bcast_S_S1x256x256 main_c_2194
  let main_v13904 : IVec S1x256x256 1 := cmpi .sgt main_v9886 main_v13903
  let main_c_2195 : IVec S_ 32 := constantI S_ 32 211#32
  let main_v13905 : IVec S1x256x256 32 := broadcastInDim S1x256x256 ![] bcast_S_S1x256x256 main_c_2195
  let main_v13906 : IVec S1x256x256 1 := cmpi .sgt main_v9887 main_v13905
  fn_part671 (F := F) main_arg0 main_v4875 main_v9852 main_v9886 main_v9887 main_v13896 main_v13897 main_v13902 main_v13904 main_v13906

def fn_part669 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13858 : FVec F S1x256x256 .f32) (main_v13859 : FVec F S1x1x256 .f32) (main_v13864 : FVec F S1x256x256 .f32) (main_v13865 : IVec S1x256x256 32) : IVec S9x256x256 1 × IVec S8x256x256 1 :=
  let main_v13866 : IVec S1x256x256 1 := cmpi .sgt main_v9886 main_v13865
  let main_c_2189 : IVec S_ 32 := constantI S_ 32 209#32
  let main_v13867 : IVec S1x256x256 32 := broadcastInDim S1x256x256 ![] bcast_S_S1x256x256 main_c_2189
  let main_v13868 : IVec S1x256x256 1 := cmpi .sgt main_v9887 main_v13867
  let main_v13869 : IVec S1x256x256 1 := andi main_v13866 main_v13868
  let main_v13870 : FVec F S1x256x256 .f32 := broadcastInDim S1x256x256 ![0, 1, 2] bcast_S1x1x256_S1x256x256_0_1_2 main_v13859
  let main_v13871 : FVec F S1x256x256 .f32 := mulf main_v13864 main_v13870
  let main_v13872 : FVec F S1x256x256 .f32 := subf main_v13858 main_v13871
  let main_v13873 : FVec F S1x256x256 .f32 := select main_v13869 main_v13872 main_v13858
  let main_c_2190 : IVec S_ 32 := constantI S_ 32 209#32
  let main_v13874 : IVec S1x256x256 32 := broadcastInDim S1x256x256 ![] bcast_S_S1x256x256 main_c_2190
  let main_v13875 : IVec S1x256x256 1 := cmpi .eq main_v9887 main_v13874
  let main_v13876 : IVec S1x256x256 1 := andi main_v13866 main_v13875
  let main_v13877 : FVec F S1x256x256 .f32 := select main_v13876 main_v13864 main_v13873
  let main_v13878 : FVec F S1x1x256 .f32 := (extractStridedSlice S1x1x256 ![0, 210, 0] · slices_S1x256x256_S1x1x256_0_210_0) main_v13877
  let main_v13879 : FVec F S1x256x1 .f32 := (extractStridedSlice S1x256x1 ![0, 0, 210] · slices_S1x256x256_S1x256x1_0_0_210) main_v13877
  let main_v13880 : FVec F S1x1x1 .f32 := (extractStridedSlice S1x1x1 ![0, 0, 210] · slices_S1x1x256_S1x1x1_0_0_210) main_v13878
  let main_v13881 : FVec F S1x256x1 .f32 := broadcastInDim S1x256x1 ![0, 1, 2] bcast_S1x1x1_S1x256x1_0_1_2 main_v13880
  let main_v13882 : FVec F S1x256x1 .f32 := Host.divf main_v13879 main_v13881
  let main_v13883 : FVec F S1x256x256 .f32 := broadcastInDim S1x256x256 ![0, 1, 2] bcast_S1x256x1_S1x256x256_0_1_2 main_v13882
  let main_c_2191 : IVec S_ 32 := constantI S_ 32 210#32
  let main_v13884 : IVec S1x256x256 32 := broadcastInDim S1x256x256 ![] bcast_S_S1x256x256 main_c_2191
  let main_v13885 : IVec S1x256x256 1 := cmpi .sgt main_v9886 main_v13884
  let main_c_2192 : IVec S_ 32 := constantI S_ 32 210#32
  fn_part670 (F := F) main_arg0 main_v4875 main_v9852 main_v9886 main_v9887 main_v13877 main_v13878 main_v13883 main_v13885 main_c_2192

def fn_part668 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13839 : FVec F S1x256x256 .f32) (main_v13840 : FVec F S1x1x256 .f32) (main_v13845 : FVec F S1x256x256 .f32) : IVec S9x256x256 1 × IVec S8x256x256 1 :=
  let main_c_2185 : IVec S_ 32 := constantI S_ 32 208#32
  let main_v13846 : IVec S1x256x256 32 := broadcastInDim S1x256x256 ![] bcast_S_S1x256x256 main_c_2185
  let main_v13847 : IVec S1x256x256 1 := cmpi .sgt main_v9886 main_v13846
  let main_c_2186 : IVec S_ 32 := constantI S_ 32 208#32
  let main_v13848 : IVec S1x256x256 32 := broadcastInDim S1x256x256 ![] bcast_S_S1x256x256 main_c_2186
  let main_v13849 : IVec S1x256x256 1 := cmpi .sgt main_v9887 main_v13848
  let main_v13850 : IVec S1x256x256 1 := andi main_v13847 main_v13849
  let main_v13851 : FVec F S1x256x256 .f32 := broadcastInDim S1x256x256 ![0, 1, 2] bcast_S1x1x256_S1x256x256_0_1_2 main_v13840
  let main_v13852 : FVec F S1x256x256 .f32 := mulf main_v13845 main_v13851
  let main_v13853 : FVec F S1x256x256 .f32 := subf main_v13839 main_v13852
  let main_v13854 : FVec F S1x256x256 .f32 := select main_v13850 main_v13853 main_v13839
  let main_c_2187 : IVec S_ 32 := constantI S_ 32 208#32
  let main_v13855 : IVec S1x256x256 32 := broadcastInDim S1x256x256 ![] bcast_S_S1x256x256 main_c_2187
  let main_v13856 : IVec S1x256x256 1 := cmpi .eq main_v9887 main_v13855
  let main_v13857 : IVec S1x256x256 1 := andi main_v13847 main_v13856
  let main_v13858 : FVec F S1x256x256 .f32 := select main_v13857 main_v13845 main_v13854
  let main_v13859 : FVec F S1x1x256 .f32 := (extractStridedSlice S1x1x256 ![0, 209, 0] · slices_S1x256x256_S1x1x256_0_209_0) main_v13858
  let main_v13860 : FVec F S1x256x1 .f32 := (extractStridedSlice S1x256x1 ![0, 0, 209] · slices_S1x256x256_S1x256x1_0_0_209) main_v13858
  let main_v13861 : FVec F S1x1x1 .f32 := (extractStridedSlice S1x1x1 ![0, 0, 209] · slices_S1x1x256_S1x1x1_0_0_209) main_v13859
  let main_v13862 : FVec F S1x256x1 .f32 := broadcastInDim S1x256x1 ![0, 1, 2] bcast_S1x1x1_S1x256x1_0_1_2 main_v13861
  let main_v13863 : FVec F S1x256x1 .f32 := Host.divf main_v13860 main_v13862
  let main_v13864 : FVec F S1x256x256 .f32 := broadcastInDim S1x256x256 ![0, 1, 2] bcast_S1x256x1_S1x256x256_0_1_2 main_v13863
  let main_c_2188 : IVec S_ 32 := constantI S_ 32 209#32
  let main_v13865 : IVec S1x256x256 32 := broadcastInDim S1x256x256 ![] bcast_S_S1x256x256 main_c_2188
  fn_part669 (F := F) main_arg0 main_v4875 main_v9852 main_v9886 main_v9887 main_v13858 main_v13859 main_v13864 main_v13865

def fn_part667 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13820 : FVec F S1x256x256 .f32) (main_v13821 : FVec F S1x1x256 .f32) (main_v13822 : FVec F S1x256x1 .f32) (main_v13824 : FVec F S1x256x1 .f32) : IVec S9x256x256 1 × IVec S8x256x256 1 :=
  let main_v13825 : FVec F S1x256x1 .f32 := Host.divf main_v13822 main_v13824
  let main_v13826 : FVec F S1x256x256 .f32 := broadcastInDim S1x256x256 ![0, 1, 2] bcast_S1x256x1_S1x256x256_0_1_2 main_v13825
  let main_c_2182 : IVec S_ 32 := constantI S_ 32 207#32
  let main_v13827 : IVec S1x256x256 32 := broadcastInDim S1x256x256 ![] bcast_S_S1x256x256 main_c_2182
  let main_v13828 : IVec S1x256x256 1 := cmpi .sgt main_v9886 main_v13827
  let main_c_2183 : IVec S_ 32 := constantI S_ 32 207#32
  let main_v13829 : IVec S1x256x256 32 := broadcastInDim S1x256x256 ![] bcast_S_S1x256x256 main_c_2183
  let main_v13830 : IVec S1x256x256 1 := cmpi .sgt main_v9887 main_v13829
  let main_v13831 : IVec S1x256x256 1 := andi main_v13828 main_v13830
  let main_v13832 : FVec F S1x256x256 .f32 := broadcastInDim S1x256x256 ![0, 1, 2] bcast_S1x1x256_S1x256x256_0_1_2 main_v13821
  let main_v13833 : FVec F S1x256x256 .f32 := mulf main_v13826 main_v13832
  let main_v13834 : FVec F S1x256x256 .f32 := subf main_v13820 main_v13833
  let main_v13835 : FVec F S1x256x256 .f32 := select main_v13831 main_v13834 main_v13820
  let main_c_2184 : IVec S_ 32 := constantI S_ 32 207#32
  let main_v13836 : IVec S1x256x256 32 := broadcastInDim S1x256x256 ![] bcast_S_S1x256x256 main_c_2184
  let main_v13837 : IVec S1x256x256 1 := cmpi .eq main_v9887 main_v13836
  let main_v13838 : IVec S1x256x256 1 := andi main_v13828 main_v13837
  let main_v13839 : FVec F S1x256x256 .f32 := select main_v13838 main_v13826 main_v13835
  let main_v13840 : FVec F S1x1x256 .f32 := (extractStridedSlice S1x1x256 ![0, 208, 0] · slices_S1x256x256_S1x1x256_0_208_0) main_v13839
  let main_v13841 : FVec F S1x256x1 .f32 := (extractStridedSlice S1x256x1 ![0, 0, 208] · slices_S1x256x256_S1x256x1_0_0_208) main_v13839
  let main_v13842 : FVec F S1x1x1 .f32 := (extractStridedSlice S1x1x1 ![0, 0, 208] · slices_S1x1x256_S1x1x1_0_0_208) main_v13840
  let main_v13843 : FVec F S1x256x1 .f32 := broadcastInDim S1x256x1 ![0, 1, 2] bcast_S1x1x1_S1x256x1_0_1_2 main_v13842
  let main_v13844 : FVec F S1x256x1 .f32 := Host.divf main_v13841 main_v13843
  let main_v13845 : FVec F S1x256x256 .f32 := broadcastInDim S1x256x256 ![0, 1, 2] bcast_S1x256x1_S1x256x256_0_1_2 main_v13844
  fn_part668 (F := F) main_arg0 main_v4875 main_v9852 main_v9886 main_v9887 main_v13839 main_v13840 main_v13845

def fn_part666 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13801 : FVec F S1x256x256 .f32) (main_v13802 : FVec F S1x1x256 .f32) (main_v13803 : FVec F S1x256x1 .f32) : IVec S9x256x256 1 × IVec S8x256x256 1 :=
  let main_v13804 : FVec F S1x1x1 .f32 := (extractStridedSlice S1x1x1 ![0, 0, 206] · slices_S1x1x256_S1x1x1_0_0_206) main_v13802
  let main_v13805 : FVec F S1x256x1 .f32 := broadcastInDim S1x256x1 ![0, 1, 2] bcast_S1x1x1_S1x256x1_0_1_2 main_v13804
  let main_v13806 : FVec F S1x256x1 .f32 := Host.divf main_v13803 main_v13805
  let main_v13807 : FVec F S1x256x256 .f32 := broadcastInDim S1x256x256 ![0, 1, 2] bcast_S1x256x1_S1x256x256_0_1_2 main_v13806
  let main_c_2179 : IVec S_ 32 := constantI S_ 32 206#32
  let main_v13808 : IVec S1x256x256 32 := broadcastInDim S1x256x256 ![] bcast_S_S1x256x256 main_c_2179
  let main_v13809 : IVec S1x256x256 1 := cmpi .sgt main_v9886 main_v13808
  let main_c_2180 : IVec S_ 32 := constantI S_ 32 206#32
  let main_v13810 : IVec S1x256x256 32 := broadcastInDim S1x256x256 ![] bcast_S_S1x256x256 main_c_2180
  let main_v13811 : IVec S1x256x256 1 := cmpi .sgt main_v9887 main_v13810
  let main_v13812 : IVec S1x256x256 1 := andi main_v13809 main_v13811
  let main_v13813 : FVec F S1x256x256 .f32 := broadcastInDim S1x256x256 ![0, 1, 2] bcast_S1x1x256_S1x256x256_0_1_2 main_v13802
  let main_v13814 : FVec F S1x256x256 .f32 := mulf main_v13807 main_v13813
  let main_v13815 : FVec F S1x256x256 .f32 := subf main_v13801 main_v13814
  let main_v13816 : FVec F S1x256x256 .f32 := select main_v13812 main_v13815 main_v13801
  let main_c_2181 : IVec S_ 32 := constantI S_ 32 206#32
  let main_v13817 : IVec S1x256x256 32 := broadcastInDim S1x256x256 ![] bcast_S_S1x256x256 main_c_2181
  let main_v13818 : IVec S1x256x256 1 := cmpi .eq main_v9887 main_v13817
  let main_v13819 : IVec S1x256x256 1 := andi main_v13809 main_v13818
  let main_v13820 : FVec F S1x256x256 .f32 := select main_v13819 main_v13807 main_v13816
  let main_v13821 : FVec F S1x1x256 .f32 := (extractStridedSlice S1x1x256 ![0, 207, 0] · slices_S1x256x256_S1x1x256_0_207_0) main_v13820
  let main_v13822 : FVec F S1x256x1 .f32 := (extractStridedSlice S1x256x1 ![0, 0, 207] · slices_S1x256x256_S1x256x1_0_0_207) main_v13820
  let main_v13823 : FVec F S1x1x1 .f32 := (extractStridedSlice S1x1x1 ![0, 0, 207] · slices_S1x1x256_S1x1x1_0_0_207) main_v13821
  let main_v13824 : FVec F S1x256x1 .f32 := broadcastInDim S1x256x1 ![0, 1, 2] bcast_S1x1x1_S1x256x1_0_1_2 main_v13823
  fn_part667 (F := F) main_arg0 main_v4875 main_v9852 main_v9886 main_v9887 main_v13820 main_v13821 main_v13822 main_v13824

def fn_part665 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13782 : FVec F S1x256x256 .f32) : IVec S9x256x256 1 × IVec S8x256x256 1 :=
  let main_v13783 : FVec F S1x1x256 .f32 := (extractStridedSlice S1x1x256 ![0, 205, 0] · slices_S1x256x256_S1x1x256_0_205_0) main_v13782
  let main_v13784 : FVec F S1x256x1 .f32 := (extractStridedSlice S1x256x1 ![0, 0, 205] · slices_S1x256x256_S1x256x1_0_0_205) main_v13782
  let main_v13785 : FVec F S1x1x1 .f32 := (extractStridedSlice S1x1x1 ![0, 0, 205] · slices_S1x1x256_S1x1x1_0_0_205) main_v13783
  let main_v13786 : FVec F S1x256x1 .f32 := broadcastInDim S1x256x1 ![0, 1, 2] bcast_S1x1x1_S1x256x1_0_1_2 main_v13785
  let main_v13787 : FVec F S1x256x1 .f32 := Host.divf main_v13784 main_v13786
  let main_v13788 : FVec F S1x256x256 .f32 := broadcastInDim S1x256x256 ![0, 1, 2] bcast_S1x256x1_S1x256x256_0_1_2 main_v13787
  let main_c_2176 : IVec S_ 32 := constantI S_ 32 205#32
  let main_v13789 : IVec S1x256x256 32 := broadcastInDim S1x256x256 ![] bcast_S_S1x256x256 main_c_2176
  let main_v13790 : IVec S1x256x256 1 := cmpi .sgt main_v9886 main_v13789
  let main_c_2177 : IVec S_ 32 := constantI S_ 32 205#32
  let main_v13791 : IVec S1x256x256 32 := broadcastInDim S1x256x256 ![] bcast_S_S1x256x256 main_c_2177
  let main_v13792 : IVec S1x256x256 1 := cmpi .sgt main_v9887 main_v13791
  let main_v13793 : IVec S1x256x256 1 := andi main_v13790 main_v13792
  let main_v13794 : FVec F S1x256x256 .f32 := broadcastInDim S1x256x256 ![0, 1, 2] bcast_S1x1x256_S1x256x256_0_1_2 main_v13783
  let main_v13795 : FVec F S1x256x256 .f32 := mulf main_v13788 main_v13794
  let main_v13796 : FVec F S1x256x256 .f32 := subf main_v13782 main_v13795
  let main_v13797 : FVec F S1x256x256 .f32 := select main_v13793 main_v13796 main_v13782
  let main_c_2178 : IVec S_ 32 := constantI S_ 32 205#32
  let main_v13798 : IVec S1x256x256 32 := broadcastInDim S1x256x256 ![] bcast_S_S1x256x256 main_c_2178
  let main_v13799 : IVec S1x256x256 1 := cmpi .eq main_v9887 main_v13798
  let main_v13800 : IVec S1x256x256 1 := andi main_v13790 main_v13799
  let main_v13801 : FVec F S1x256x256 .f32 := select main_v13800 main_v13788 main_v13797
  let main_v13802 : FVec F S1x1x256 .f32 := (extractStridedSlice S1x1x256 ![0, 206, 0] · slices_S1x256x256_S1x1x256_0_206_0) main_v13801
  let main_v13803 : FVec F S1x256x1 .f32 := (extractStridedSlice S1x256x1 ![0, 0, 206] · slices_S1x256x256_S1x256x1_0_0_206) main_v13801
  fn_part666 (F := F) main_arg0 main_v4875 main_v9852 main_v9886 main_v9887 main_v13801 main_v13802 main_v13803

def fn_part664 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13750 : FVec F S1x256x256 .f32) (main_v13752 : IVec S1x256x256 1) (main_v13759 : FVec F S1x256x256 .f32) (main_v13761 : IVec S1x256x256 1) : IVec S9x256x256 1 × IVec S8x256x256 1 :=
  let main_v13762 : IVec S1x256x256 1 := andi main_v13752 main_v13761
  let main_v13763 : FVec F S1x256x256 .f32 := select main_v13762 main_v13750 main_v13759
  let main_v13764 : FVec F S1x1x256 .f32 := (extractStridedSlice S1x1x256 ![0, 204, 0] · slices_S1x256x256_S1x1x256_0_204_0) main_v13763
  let main_v13765 : FVec F S1x256x1 .f32 := (extractStridedSlice S1x256x1 ![0, 0, 204] · slices_S1x256x256_S1x256x1_0_0_204) main_v13763
  let main_v13766 : FVec F S1x1x1 .f32 := (extractStridedSlice S1x1x1 ![0, 0, 204] · slices_S1x1x256_S1x1x1_0_0_204) main_v13764
  let main_v13767 : FVec F S1x256x1 .f32 := broadcastInDim S1x256x1 ![0, 1, 2] bcast_S1x1x1_S1x256x1_0_1_2 main_v13766
  let main_v13768 : FVec F S1x256x1 .f32 := Host.divf main_v13765 main_v13767
  let main_v13769 : FVec F S1x256x256 .f32 := broadcastInDim S1x256x256 ![0, 1, 2] bcast_S1x256x1_S1x256x256_0_1_2 main_v13768
  let main_c_2173 : IVec S_ 32 := constantI S_ 32 204#32
  let main_v13770 : IVec S1x256x256 32 := broadcastInDim S1x256x256 ![] bcast_S_S1x256x256 main_c_2173
  let main_v13771 : IVec S1x256x256 1 := cmpi .sgt main_v9886 main_v13770
  let main_c_2174 : IVec S_ 32 := constantI S_ 32 204#32
  let main_v13772 : IVec S1x256x256 32 := broadcastInDim S1x256x256 ![] bcast_S_S1x256x256 main_c_2174
  let main_v13773 : IVec S1x256x256 1 := cmpi .sgt main_v9887 main_v13772
  let main_v13774 : IVec S1x256x256 1 := andi main_v13771 main_v13773
  let main_v13775 : FVec F S1x256x256 .f32 := broadcastInDim S1x256x256 ![0, 1, 2] bcast_S1x1x256_S1x256x256_0_1_2 main_v13764
  let main_v13776 : FVec F S1x256x256 .f32 := mulf main_v13769 main_v13775
  let main_v13777 : FVec F S1x256x256 .f32 := subf main_v13763 main_v13776
  let main_v13778 : FVec F S1x256x256 .f32 := select main_v13774 main_v13777 main_v13763
  let main_c_2175 : IVec S_ 32 := constantI S_ 32 204#32
  let main_v13779 : IVec S1x256x256 32 := broadcastInDim S1x256x256 ![] bcast_S_S1x256x256 main_c_2175
  let main_v13780 : IVec S1x256x256 1 := cmpi .eq main_v9887 main_v13779
  let main_v13781 : IVec S1x256x256 1 := andi main_v13771 main_v13780
  let main_v13782 : FVec F S1x256x256 .f32 := select main_v13781 main_v13769 main_v13778
  fn_part665 (F := F) main_arg0 main_v4875 main_v9852 main_v9886 main_v9887 main_v13782

def fn_part663 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13731 : FVec F S1x256x256 .f32) (main_v13733 : IVec S1x256x256 1) (main_v13740 : FVec F S1x256x256 .f32) (main_c_2169 : IVec S_ 32) : IVec S9x256x256 1 × IVec S8x256x256 1 :=
  let main_v13741 : IVec S1x256x256 32 := broadcastInDim S1x256x256 ![] bcast_S_S1x256x256 main_c_2169
  let main_v13742 : IVec S1x256x256 1 := cmpi .eq main_v9887 main_v13741
  let main_v13743 : IVec S1x256x256 1 := andi main_v13733 main_v13742
  let main_v13744 : FVec F S1x256x256 .f32 := select main_v13743 main_v13731 main_v13740
  let main_v13745 : FVec F S1x1x256 .f32 := (extractStridedSlice S1x1x256 ![0, 203, 0] · slices_S1x256x256_S1x1x256_0_203_0) main_v13744
  let main_v13746 : FVec F S1x256x1 .f32 := (extractStridedSlice S1x256x1 ![0, 0, 203] · slices_S1x256x256_S1x256x1_0_0_203) main_v13744
  let main_v13747 : FVec F S1x1x1 .f32 := (extractStridedSlice S1x1x1 ![0, 0, 203] · slices_S1x1x256_S1x1x1_0_0_203) main_v13745
  let main_v13748 : FVec F S1x256x1 .f32 := broadcastInDim S1x256x1 ![0, 1, 2] bcast_S1x1x1_S1x256x1_0_1_2 main_v13747
  let main_v13749 : FVec F S1x256x1 .f32 := Host.divf main_v13746 main_v13748
  let main_v13750 : FVec F S1x256x256 .f32 := broadcastInDim S1x256x256 ![0, 1, 2] bcast_S1x256x1_S1x256x256_0_1_2 main_v13749
  let main_c_2170 : IVec S_ 32 := constantI S_ 32 203#32
  let main_v13751 : IVec S1x256x256 32 := broadcastInDim S1x256x256 ![] bcast_S_S1x256x256 main_c_2170
  let main_v13752 : IVec S1x256x256 1 := cmpi .sgt main_v9886 main_v13751
  let main_c_2171 : IVec S_ 32 := constantI S_ 32 203#32
  let main_v13753 : IVec S1x256x256 32 := broadcastInDim S1x256x256 ![] bcast_S_S1x256x256 main_c_2171
  let main_v13754 : IVec S1x256x256 1 := cmpi .sgt main_v9887 main_v13753
  let main_v13755 : IVec S1x256x256 1 := andi main_v13752 main_v13754
  let main_v13756 : FVec F S1x256x256 .f32 := broadcastInDim S1x256x256 ![0, 1, 2] bcast_S1x1x256_S1x256x256_0_1_2 main_v13745
  let main_v13757 : FVec F S1x256x256 .f32 := mulf main_v13750 main_v13756
  let main_v13758 : FVec F S1x256x256 .f32 := subf main_v13744 main_v13757
  let main_v13759 : FVec F S1x256x256 .f32 := select main_v13755 main_v13758 main_v13744
  let main_c_2172 : IVec S_ 32 := constantI S_ 32 203#32
  let main_v13760 : IVec S1x256x256 32 := broadcastInDim S1x256x256 ![] bcast_S_S1x256x256 main_c_2172
  let main_v13761 : IVec S1x256x256 1 := cmpi .eq main_v9887 main_v13760
  fn_part664 (F := F) main_arg0 main_v4875 main_v9852 main_v9886 main_v9887 main_v13750 main_v13752 main_v13759 main_v13761

def fn_part662 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13706 : FVec F S1x256x256 .f32) (main_v13712 : FVec F S1x256x256 .f32) (main_v13714 : IVec S1x256x256 1) (main_v13717 : IVec S1x256x256 1) (main_v13720 : FVec F S1x256x256 .f32) : IVec S9x256x256 1 × IVec S8x256x256 1 :=
  let main_v13721 : FVec F S1x256x256 .f32 := select main_v13717 main_v13720 main_v13706
  let main_c_2166 : IVec S_ 32 := constantI S_ 32 201#32
  let main_v13722 : IVec S1x256x256 32 := broadcastInDim S1x256x256 ![] bcast_S_S1x256x256 main_c_2166
  let main_v13723 : IVec S1x256x256 1 := cmpi .eq main_v9887 main_v13722
  let main_v13724 : IVec S1x256x256 1 := andi main_v13714 main_v13723
  let main_v13725 : FVec F S1x256x256 .f32 := select main_v13724 main_v13712 main_v13721
  let main_v13726 : FVec F S1x1x256 .f32 := (extractStridedSlice S1x1x256 ![0, 202, 0] · slices_S1x256x256_S1x1x256_0_202_0) main_v13725
  let main_v13727 : FVec F S1x256x1 .f32 := (extractStridedSlice S1x256x1 ![0, 0, 202] · slices_S1x256x256_S1x256x1_0_0_202) main_v13725
  let main_v13728 : FVec F S1x1x1 .f32 := (extractStridedSlice S1x1x1 ![0, 0, 202] · slices_S1x1x256_S1x1x1_0_0_202) main_v13726
  let main_v13729 : FVec F S1x256x1 .f32 := broadcastInDim S1x256x1 ![0, 1, 2] bcast_S1x1x1_S1x256x1_0_1_2 main_v13728
  let main_v13730 : FVec F S1x256x1 .f32 := Host.divf main_v13727 main_v13729
  let main_v13731 : FVec F S1x256x256 .f32 := broadcastInDim S1x256x256 ![0, 1, 2] bcast_S1x256x1_S1x256x256_0_1_2 main_v13730
  let main_c_2167 : IVec S_ 32 := constantI S_ 32 202#32
  let main_v13732 : IVec S1x256x256 32 := broadcastInDim S1x256x256 ![] bcast_S_S1x256x256 main_c_2167
  let main_v13733 : IVec S1x256x256 1 := cmpi .sgt main_v9886 main_v13732
  let main_c_2168 : IVec S_ 32 := constantI S_ 32 202#32
  let main_v13734 : IVec S1x256x256 32 := broadcastInDim S1x256x256 ![] bcast_S_S1x256x256 main_c_2168
  let main_v13735 : IVec S1x256x256 1 := cmpi .sgt main_v9887 main_v13734
  let main_v13736 : IVec S1x256x256 1 := andi main_v13733 main_v13735
  let main_v13737 : FVec F S1x256x256 .f32 := broadcastInDim S1x256x256 ![0, 1, 2] bcast_S1x1x256_S1x256x256_0_1_2 main_v13726
  let main_v13738 : FVec F S1x256x256 .f32 := mulf main_v13731 main_v13737
  let main_v13739 : FVec F S1x256x256 .f32 := subf main_v13725 main_v13738
  let main_v13740 : FVec F S1x256x256 .f32 := select main_v13736 main_v13739 main_v13725
  let main_c_2169 : IVec S_ 32 := constantI S_ 32 202#32
  fn_part663 (F := F) main_arg0 main_v4875 main_v9852 main_v9886 main_v9887 main_v13731 main_v13733 main_v13740 main_c_2169

def fn_part661 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13687 : FVec F S1x256x256 .f32) (main_v13693 : FVec F S1x256x256 .f32) (main_v13695 : IVec S1x256x256 1) (main_v13698 : IVec S1x256x256 1) (main_v13699 : FVec F S1x256x256 .f32) : IVec S9x256x256 1 × IVec S8x256x256 1 :=
  let main_v13700 : FVec F S1x256x256 .f32 := mulf main_v13693 main_v13699
  let main_v13701 : FVec F S1x256x256 .f32 := subf main_v13687 main_v13700
  let main_v13702 : FVec F S1x256x256 .f32 := select main_v13698 main_v13701 main_v13687
  let main_c_2163 : IVec S_ 32 := constantI S_ 32 200#32
  let main_v13703 : IVec S1x256x256 32 := broadcastInDim S1x256x256 ![] bcast_S_S1x256x256 main_c_2163
  let main_v13704 : IVec S1x256x256 1 := cmpi .eq main_v9887 main_v13703
  let main_v13705 : IVec S1x256x256 1 := andi main_v13695 main_v13704
  let main_v13706 : FVec F S1x256x256 .f32 := select main_v13705 main_v13693 main_v13702
  let main_v13707 : FVec F S1x1x256 .f32 := (extractStridedSlice S1x1x256 ![0, 201, 0] · slices_S1x256x256_S1x1x256_0_201_0) main_v13706
  let main_v13708 : FVec F S1x256x1 .f32 := (extractStridedSlice S1x256x1 ![0, 0, 201] · slices_S1x256x256_S1x256x1_0_0_201) main_v13706
  let main_v13709 : FVec F S1x1x1 .f32 := (extractStridedSlice S1x1x1 ![0, 0, 201] · slices_S1x1x256_S1x1x1_0_0_201) main_v13707
  let main_v13710 : FVec F S1x256x1 .f32 := broadcastInDim S1x256x1 ![0, 1, 2] bcast_S1x1x1_S1x256x1_0_1_2 main_v13709
  let main_v13711 : FVec F S1x256x1 .f32 := Host.divf main_v13708 main_v13710
  let main_v13712 : FVec F S1x256x256 .f32 := broadcastInDim S1x256x256 ![0, 1, 2] bcast_S1x256x1_S1x256x256_0_1_2 main_v13711
  let main_c_2164 : IVec S_ 32 := constantI S_ 32 201#32
  let main_v13713 : IVec S1x256x256 32 := broadcastInDim S1x256x256 ![] bcast_S_S1x256x256 main_c_2164
  let main_v13714 : IVec S1x256x256 1 := cmpi .sgt main_v9886 main_v13713
  let main_c_2165 : IVec S_ 32 := constantI S_ 32 201#32
  let main_v13715 : IVec S1x256x256 32 := broadcastInDim S1x256x256 ![] bcast_S_S1x256x256 main_c_2165
  let main_v13716 : IVec S1x256x256 1 := cmpi .sgt main_v9887 main_v13715
  let main_v13717 : IVec S1x256x256 1 := andi main_v13714 main_v13716
  let main_v13718 : FVec F S1x256x256 .f32 := broadcastInDim S1x256x256 ![0, 1, 2] bcast_S1x1x256_S1x256x256_0_1_2 main_v13707
  let main_v13719 : FVec F S1x256x256 .f32 := mulf main_v13712 main_v13718
  let main_v13720 : FVec F S1x256x256 .f32 := subf main_v13706 main_v13719
  fn_part662 (F := F) main_arg0 main_v4875 main_v9852 main_v9886 main_v9887 main_v13706 main_v13712 main_v13714 main_v13717 main_v13720

def fn_part660 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13668 : FVec F S1x256x256 .f32) (main_v13669 : FVec F S1x1x256 .f32) (main_v13674 : FVec F S1x256x256 .f32) (main_v13676 : IVec S1x256x256 1) (main_v13678 : IVec S1x256x256 1) : IVec S9x256x256 1 × IVec S8x256x256 1 :=
  let main_v13679 : IVec S1x256x256 1 := andi main_v13676 main_v13678
  let main_v13680 : FVec F S1x256x256 .f32 := broadcastInDim S1x256x256 ![0, 1, 2] bcast_S1x1x256_S1x256x256_0_1_2 main_v13669
  let main_v13681 : FVec F S1x256x256 .f32 := mulf main_v13674 main_v13680
  let main_v13682 : FVec F S1x256x256 .f32 := subf main_v13668 main_v13681
  let main_v13683 : FVec F S1x256x256 .f32 := select main_v13679 main_v13682 main_v13668
  let main_c_2160 : IVec S_ 32 := constantI S_ 32 199#32
  let main_v13684 : IVec S1x256x256 32 := broadcastInDim S1x256x256 ![] bcast_S_S1x256x256 main_c_2160
  let main_v13685 : IVec S1x256x256 1 := cmpi .eq main_v9887 main_v13684
  let main_v13686 : IVec S1x256x256 1 := andi main_v13676 main_v13685
  let main_v13687 : FVec F S1x256x256 .f32 := select main_v13686 main_v13674 main_v13683
  let main_v13688 : FVec F S1x1x256 .f32 := (extractStridedSlice S1x1x256 ![0, 200, 0] · slices_S1x256x256_S1x1x256_0_200_0) main_v13687
  let main_v13689 : FVec F S1x256x1 .f32 := (extractStridedSlice S1x256x1 ![0, 0, 200] · slices_S1x256x256_S1x256x1_0_0_200) main_v13687
  let main_v13690 : FVec F S1x1x1 .f32 := (extractStridedSlice S1x1x1 ![0, 0, 200] · slices_S1x1x256_S1x1x1_0_0_200) main_v13688
  let main_v13691 : FVec F S1x256x1 .f32 := broadcastInDim S1x256x1 ![0, 1, 2] bcast_S1x1x1_S1x256x1_0_1_2 main_v13690
  let main_v13692 : FVec F S1x256x1 .f32 := Host.divf main_v13689 main_v13691
  let main_v13693 : FVec F S1x256x256 .f32 := broadcastInDim S1x256x256 ![0, 1, 2] bcast_S1x256x1_S1x256x256_0_1_2 main_v13692
  let main_c_2161 : IVec S_ 32 := constantI S_ 32 200#32
  let main_v13694 : IVec S1x256x256 32 := broadcastInDim S1x256x256 ![] bcast_S_S1x256x256 main_c_2161
  let main_v13695 : IVec S1x256x256 1 := cmpi .sgt main_v9886 main_v13694
  let main_c_2162 : IVec S_ 32 := constantI S_ 32 200#32
  let main_v13696 : IVec S1x256x256 32 := broadcastInDim S1x256x256 ![] bcast_S_S1x256x256 main_c_2162
  let main_v13697 : IVec S1x256x256 1 := cmpi .sgt main_v9887 main_v13696
  let main_v13698 : IVec S1x256x256 1 := andi main_v13695 main_v13697
  let main_v13699 : FVec F S1x256x256 .f32 := broadcastInDim S1x256x256 ![0, 1, 2] bcast_S1x1x256_S1x256x256_0_1_2 main_v13688
  fn_part661 (F := F) main_arg0 main_v4875 main_v9852 main_v9886 main_v9887 main_v13687 main_v13693 main_v13695 main_v13698 main_v13699

def fn_part659 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13649 : FVec F S1x256x256 .f32) (main_v13650 : FVec F S1x1x256 .f32) (main_v13655 : FVec F S1x256x256 .f32) (main_v13657 : IVec S1x256x256 1) (main_c_2156 : IVec S_ 32) : IVec S9x256x256 1 × IVec S8x256x256 1 :=
  let main_v13658 : IVec S1x256x256 32 := broadcastInDim S1x256x256 ![] bcast_S_S1x256x256 main_c_2156
  let main_v13659 : IVec S1x256x256 1 := cmpi .sgt main_v9887 main_v13658
  let main_v13660 : IVec S1x256x256 1 := andi main_v13657 main_v13659
  let main_v13661 : FVec F S1x256x256 .f32 := broadcastInDim S1x256x256 ![0, 1, 2] bcast_S1x1x256_S1x256x256_0_1_2 main_v13650
  let main_v13662 : FVec F S1x256x256 .f32 := mulf main_v13655 main_v13661
  let main_v13663 : FVec F S1x256x256 .f32 := subf main_v13649 main_v13662
  let main_v13664 : FVec F S1x256x256 .f32 := select main_v13660 main_v13663 main_v13649
  let main_c_2157 : IVec S_ 32 := constantI S_ 32 198#32
  let main_v13665 : IVec S1x256x256 32 := broadcastInDim S1x256x256 ![] bcast_S_S1x256x256 main_c_2157
  let main_v13666 : IVec S1x256x256 1 := cmpi .eq main_v9887 main_v13665
  let main_v13667 : IVec S1x256x256 1 := andi main_v13657 main_v13666
  let main_v13668 : FVec F S1x256x256 .f32 := select main_v13667 main_v13655 main_v13664
  let main_v13669 : FVec F S1x1x256 .f32 := (extractStridedSlice S1x1x256 ![0, 199, 0] · slices_S1x256x256_S1x1x256_0_199_0) main_v13668
  let main_v13670 : FVec F S1x256x1 .f32 := (extractStridedSlice S1x256x1 ![0, 0, 199] · slices_S1x256x256_S1x256x1_0_0_199) main_v13668
  let main_v13671 : FVec F S1x1x1 .f32 := (extractStridedSlice S1x1x1 ![0, 0, 199] · slices_S1x1x256_S1x1x1_0_0_199) main_v13669
  let main_v13672 : FVec F S1x256x1 .f32 := broadcastInDim S1x256x1 ![0, 1, 2] bcast_S1x1x1_S1x256x1_0_1_2 main_v13671
  let main_v13673 : FVec F S1x256x1 .f32 := Host.divf main_v13670 main_v13672
  let main_v13674 : FVec F S1x256x256 .f32 := broadcastInDim S1x256x256 ![0, 1, 2] bcast_S1x256x1_S1x256x256_0_1_2 main_v13673
  let main_c_2158 : IVec S_ 32 := constantI S_ 32 199#32
  let main_v13675 : IVec S1x256x256 32 := broadcastInDim S1x256x256 ![] bcast_S_S1x256x256 main_c_2158
  let main_v13676 : IVec S1x256x256 1 := cmpi .sgt main_v9886 main_v13675
  let main_c_2159 : IVec S_ 32 := constantI S_ 32 199#32
  let main_v13677 : IVec S1x256x256 32 := broadcastInDim S1x256x256 ![] bcast_S_S1x256x256 main_c_2159
  let main_v13678 : IVec S1x256x256 1 := cmpi .sgt main_v9887 main_v13677
  fn_part660 (F := F) main_arg0 main_v4875 main_v9852 main_v9886 main_v9887 main_v13668 main_v13669 main_v13674 main_v13676 main_v13678

def fn_part658 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13630 : FVec F S1x256x256 .f32) (main_v13631 : FVec F S1x1x256 .f32) (main_v13636 : FVec F S1x256x256 .f32) (main_v13637 : IVec S1x256x256 32) : IVec S9x256x256 1 × IVec S8x256x256 1 :=
  let main_v13638 : IVec S1x256x256 1 := cmpi .sgt main_v9886 main_v13637
  let main_c_2153 : IVec S_ 32 := constantI S_ 32 197#32
  let main_v13639 : IVec S1x256x256 32 := broadcastInDim S1x256x256 ![] bcast_S_S1x256x256 main_c_2153
  let main_v13640 : IVec S1x256x256 1 := cmpi .sgt main_v9887 main_v13639
  let main_v13641 : IVec S1x256x256 1 := andi main_v13638 main_v13640
  let main_v13642 : FVec F S1x256x256 .f32 := broadcastInDim S1x256x256 ![0, 1, 2] bcast_S1x1x256_S1x256x256_0_1_2 main_v13631
  let main_v13643 : FVec F S1x256x256 .f32 := mulf main_v13636 main_v13642
  let main_v13644 : FVec F S1x256x256 .f32 := subf main_v13630 main_v13643
  let main_v13645 : FVec F S1x256x256 .f32 := select main_v13641 main_v13644 main_v13630
  let main_c_2154 : IVec S_ 32 := constantI S_ 32 197#32
  let main_v13646 : IVec S1x256x256 32 := broadcastInDim S1x256x256 ![] bcast_S_S1x256x256 main_c_2154
  let main_v13647 : IVec S1x256x256 1 := cmpi .eq main_v9887 main_v13646
  let main_v13648 : IVec S1x256x256 1 := andi main_v13638 main_v13647
  let main_v13649 : FVec F S1x256x256 .f32 := select main_v13648 main_v13636 main_v13645
  let main_v13650 : FVec F S1x1x256 .f32 := (extractStridedSlice S1x1x256 ![0, 198, 0] · slices_S1x256x256_S1x1x256_0_198_0) main_v13649
  let main_v13651 : FVec F S1x256x1 .f32 := (extractStridedSlice S1x256x1 ![0, 0, 198] · slices_S1x256x256_S1x256x1_0_0_198) main_v13649
  let main_v13652 : FVec F S1x1x1 .f32 := (extractStridedSlice S1x1x1 ![0, 0, 198] · slices_S1x1x256_S1x1x1_0_0_198) main_v13650
  let main_v13653 : FVec F S1x256x1 .f32 := broadcastInDim S1x256x1 ![0, 1, 2] bcast_S1x1x1_S1x256x1_0_1_2 main_v13652
  let main_v13654 : FVec F S1x256x1 .f32 := Host.divf main_v13651 main_v13653
  let main_v13655 : FVec F S1x256x256 .f32 := broadcastInDim S1x256x256 ![0, 1, 2] bcast_S1x256x1_S1x256x256_0_1_2 main_v13654
  let main_c_2155 : IVec S_ 32 := constantI S_ 32 198#32
  let main_v13656 : IVec S1x256x256 32 := broadcastInDim S1x256x256 ![] bcast_S_S1x256x256 main_c_2155
  let main_v13657 : IVec S1x256x256 1 := cmpi .sgt main_v9886 main_v13656
  let main_c_2156 : IVec S_ 32 := constantI S_ 32 198#32
  fn_part659 (F := F) main_arg0 main_v4875 main_v9852 main_v9886 main_v9887 main_v13649 main_v13650 main_v13655 main_v13657 main_c_2156

def fn_part657 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13611 : FVec F S1x256x256 .f32) (main_v13612 : FVec F S1x1x256 .f32) (main_v13617 : FVec F S1x256x256 .f32) : IVec S9x256x256 1 × IVec S8x256x256 1 :=
  let main_c_2149 : IVec S_ 32 := constantI S_ 32 196#32
  let main_v13618 : IVec S1x256x256 32 := broadcastInDim S1x256x256 ![] bcast_S_S1x256x256 main_c_2149
  let main_v13619 : IVec S1x256x256 1 := cmpi .sgt main_v9886 main_v13618
  let main_c_2150 : IVec S_ 32 := constantI S_ 32 196#32
  let main_v13620 : IVec S1x256x256 32 := broadcastInDim S1x256x256 ![] bcast_S_S1x256x256 main_c_2150
  let main_v13621 : IVec S1x256x256 1 := cmpi .sgt main_v9887 main_v13620
  let main_v13622 : IVec S1x256x256 1 := andi main_v13619 main_v13621
  let main_v13623 : FVec F S1x256x256 .f32 := broadcastInDim S1x256x256 ![0, 1, 2] bcast_S1x1x256_S1x256x256_0_1_2 main_v13612
  let main_v13624 : FVec F S1x256x256 .f32 := mulf main_v13617 main_v13623
  let main_v13625 : FVec F S1x256x256 .f32 := subf main_v13611 main_v13624
  let main_v13626 : FVec F S1x256x256 .f32 := select main_v13622 main_v13625 main_v13611
  let main_c_2151 : IVec S_ 32 := constantI S_ 32 196#32
  let main_v13627 : IVec S1x256x256 32 := broadcastInDim S1x256x256 ![] bcast_S_S1x256x256 main_c_2151
  let main_v13628 : IVec S1x256x256 1 := cmpi .eq main_v9887 main_v13627
  let main_v13629 : IVec S1x256x256 1 := andi main_v13619 main_v13628
  let main_v13630 : FVec F S1x256x256 .f32 := select main_v13629 main_v13617 main_v13626
  let main_v13631 : FVec F S1x1x256 .f32 := (extractStridedSlice S1x1x256 ![0, 197, 0] · slices_S1x256x256_S1x1x256_0_197_0) main_v13630
  let main_v13632 : FVec F S1x256x1 .f32 := (extractStridedSlice S1x256x1 ![0, 0, 197] · slices_S1x256x256_S1x256x1_0_0_197) main_v13630
  let main_v13633 : FVec F S1x1x1 .f32 := (extractStridedSlice S1x1x1 ![0, 0, 197] · slices_S1x1x256_S1x1x1_0_0_197) main_v13631
  let main_v13634 : FVec F S1x256x1 .f32 := broadcastInDim S1x256x1 ![0, 1, 2] bcast_S1x1x1_S1x256x1_0_1_2 main_v13633
  let main_v13635 : FVec F S1x256x1 .f32 := Host.divf main_v13632 main_v13634
  let main_v13636 : FVec F S1x256x256 .f32 := broadcastInDim S1x256x256 ![0, 1, 2] bcast_S1x256x1_S1x256x256_0_1_2 main_v13635
  let main_c_2152 : IVec S_ 32 := constantI S_ 32 197#32
  let main_v13637 : IVec S1x256x256 32 := broadcastInDim S1x256x256 ![] bcast_S_S1x256x256 main_c_2152
  fn_part658 (F := F) main_arg0 main_v4875 main_v9852 main_v9886 main_v9887 main_v13630 main_v13631 main_v13636 main_v13637

def fn_part656 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13592 : FVec F S1x256x256 .f32) (main_v13593 : FVec F S1x1x256 .f32) (main_v13594 : FVec F S1x256x1 .f32) (main_v13596 : FVec F S1x256x1 .f32) : IVec S9x256x256 1 × IVec S8x256x256 1 :=
  let main_v13597 : FVec F S1x256x1 .f32 := Host.divf main_v13594 main_v13596
  let main_v13598 : FVec F S1x256x256 .f32 := broadcastInDim S1x256x256 ![0, 1, 2] bcast_S1x256x1_S1x256x256_0_1_2 main_v13597
  let main_c_2146 : IVec S_ 32 := constantI S_ 32 195#32
  let main_v13599 : IVec S1x256x256 32 := broadcastInDim S1x256x256 ![] bcast_S_S1x256x256 main_c_2146
  let main_v13600 : IVec S1x256x256 1 := cmpi .sgt main_v9886 main_v13599
  let main_c_2147 : IVec S_ 32 := constantI S_ 32 195#32
  let main_v13601 : IVec S1x256x256 32 := broadcastInDim S1x256x256 ![] bcast_S_S1x256x256 main_c_2147
  let main_v13602 : IVec S1x256x256 1 := cmpi .sgt main_v9887 main_v13601
  let main_v13603 : IVec S1x256x256 1 := andi main_v13600 main_v13602
  let main_v13604 : FVec F S1x256x256 .f32 := broadcastInDim S1x256x256 ![0, 1, 2] bcast_S1x1x256_S1x256x256_0_1_2 main_v13593
  let main_v13605 : FVec F S1x256x256 .f32 := mulf main_v13598 main_v13604
  let main_v13606 : FVec F S1x256x256 .f32 := subf main_v13592 main_v13605
  let main_v13607 : FVec F S1x256x256 .f32 := select main_v13603 main_v13606 main_v13592
  let main_c_2148 : IVec S_ 32 := constantI S_ 32 195#32
  let main_v13608 : IVec S1x256x256 32 := broadcastInDim S1x256x256 ![] bcast_S_S1x256x256 main_c_2148
  let main_v13609 : IVec S1x256x256 1 := cmpi .eq main_v9887 main_v13608
  let main_v13610 : IVec S1x256x256 1 := andi main_v13600 main_v13609
  let main_v13611 : FVec F S1x256x256 .f32 := select main_v13610 main_v13598 main_v13607
  let main_v13612 : FVec F S1x1x256 .f32 := (extractStridedSlice S1x1x256 ![0, 196, 0] · slices_S1x256x256_S1x1x256_0_196_0) main_v13611
  let main_v13613 : FVec F S1x256x1 .f32 := (extractStridedSlice S1x256x1 ![0, 0, 196] · slices_S1x256x256_S1x256x1_0_0_196) main_v13611
  let main_v13614 : FVec F S1x1x1 .f32 := (extractStridedSlice S1x1x1 ![0, 0, 196] · slices_S1x1x256_S1x1x1_0_0_196) main_v13612
  let main_v13615 : FVec F S1x256x1 .f32 := broadcastInDim S1x256x1 ![0, 1, 2] bcast_S1x1x1_S1x256x1_0_1_2 main_v13614
  let main_v13616 : FVec F S1x256x1 .f32 := Host.divf main_v13613 main_v13615
  let main_v13617 : FVec F S1x256x256 .f32 := broadcastInDim S1x256x256 ![0, 1, 2] bcast_S1x256x1_S1x256x256_0_1_2 main_v13616
  fn_part657 (F := F) main_arg0 main_v4875 main_v9852 main_v9886 main_v9887 main_v13611 main_v13612 main_v13617

def fn_part655 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13573 : FVec F S1x256x256 .f32) (main_v13574 : FVec F S1x1x256 .f32) (main_v13575 : FVec F S1x256x1 .f32) : IVec S9x256x256 1 × IVec S8x256x256 1 :=
  let main_v13576 : FVec F S1x1x1 .f32 := (extractStridedSlice S1x1x1 ![0, 0, 194] · slices_S1x1x256_S1x1x1_0_0_194) main_v13574
  let main_v13577 : FVec F S1x256x1 .f32 := broadcastInDim S1x256x1 ![0, 1, 2] bcast_S1x1x1_S1x256x1_0_1_2 main_v13576
  let main_v13578 : FVec F S1x256x1 .f32 := Host.divf main_v13575 main_v13577
  let main_v13579 : FVec F S1x256x256 .f32 := broadcastInDim S1x256x256 ![0, 1, 2] bcast_S1x256x1_S1x256x256_0_1_2 main_v13578
  let main_c_2143 : IVec S_ 32 := constantI S_ 32 194#32
  let main_v13580 : IVec S1x256x256 32 := broadcastInDim S1x256x256 ![] bcast_S_S1x256x256 main_c_2143
  let main_v13581 : IVec S1x256x256 1 := cmpi .sgt main_v9886 main_v13580
  let main_c_2144 : IVec S_ 32 := constantI S_ 32 194#32
  let main_v13582 : IVec S1x256x256 32 := broadcastInDim S1x256x256 ![] bcast_S_S1x256x256 main_c_2144
  let main_v13583 : IVec S1x256x256 1 := cmpi .sgt main_v9887 main_v13582
  let main_v13584 : IVec S1x256x256 1 := andi main_v13581 main_v13583
  let main_v13585 : FVec F S1x256x256 .f32 := broadcastInDim S1x256x256 ![0, 1, 2] bcast_S1x1x256_S1x256x256_0_1_2 main_v13574
  let main_v13586 : FVec F S1x256x256 .f32 := mulf main_v13579 main_v13585
  let main_v13587 : FVec F S1x256x256 .f32 := subf main_v13573 main_v13586
  let main_v13588 : FVec F S1x256x256 .f32 := select main_v13584 main_v13587 main_v13573
  let main_c_2145 : IVec S_ 32 := constantI S_ 32 194#32
  let main_v13589 : IVec S1x256x256 32 := broadcastInDim S1x256x256 ![] bcast_S_S1x256x256 main_c_2145
  let main_v13590 : IVec S1x256x256 1 := cmpi .eq main_v9887 main_v13589
  let main_v13591 : IVec S1x256x256 1 := andi main_v13581 main_v13590
  let main_v13592 : FVec F S1x256x256 .f32 := select main_v13591 main_v13579 main_v13588
  let main_v13593 : FVec F S1x1x256 .f32 := (extractStridedSlice S1x1x256 ![0, 195, 0] · slices_S1x256x256_S1x1x256_0_195_0) main_v13592
  let main_v13594 : FVec F S1x256x1 .f32 := (extractStridedSlice S1x256x1 ![0, 0, 195] · slices_S1x256x256_S1x256x1_0_0_195) main_v13592
  let main_v13595 : FVec F S1x1x1 .f32 := (extractStridedSlice S1x1x1 ![0, 0, 195] · slices_S1x1x256_S1x1x1_0_0_195) main_v13593
  let main_v13596 : FVec F S1x256x1 .f32 := broadcastInDim S1x256x1 ![0, 1, 2] bcast_S1x1x1_S1x256x1_0_1_2 main_v13595
  fn_part656 (F := F) main_arg0 main_v4875 main_v9852 main_v9886 main_v9887 main_v13592 main_v13593 main_v13594 main_v13596

def fn_part654 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13554 : FVec F S1x256x256 .f32) : IVec S9x256x256 1 × IVec S8x256x256 1 :=
  let main_v13555 : FVec F S1x1x256 .f32 := (extractStridedSlice S1x1x256 ![0, 193, 0] · slices_S1x256x256_S1x1x256_0_193_0) main_v13554
  let main_v13556 : FVec F S1x256x1 .f32 := (extractStridedSlice S1x256x1 ![0, 0, 193] · slices_S1x256x256_S1x256x1_0_0_193) main_v13554
  let main_v13557 : FVec F S1x1x1 .f32 := (extractStridedSlice S1x1x1 ![0, 0, 193] · slices_S1x1x256_S1x1x1_0_0_193) main_v13555
  let main_v13558 : FVec F S1x256x1 .f32 := broadcastInDim S1x256x1 ![0, 1, 2] bcast_S1x1x1_S1x256x1_0_1_2 main_v13557
  let main_v13559 : FVec F S1x256x1 .f32 := Host.divf main_v13556 main_v13558
  let main_v13560 : FVec F S1x256x256 .f32 := broadcastInDim S1x256x256 ![0, 1, 2] bcast_S1x256x1_S1x256x256_0_1_2 main_v13559
  let main_c_2140 : IVec S_ 32 := constantI S_ 32 193#32
  let main_v13561 : IVec S1x256x256 32 := broadcastInDim S1x256x256 ![] bcast_S_S1x256x256 main_c_2140
  let main_v13562 : IVec S1x256x256 1 := cmpi .sgt main_v9886 main_v13561
  let main_c_2141 : IVec S_ 32 := constantI S_ 32 193#32
  let main_v13563 : IVec S1x256x256 32 := broadcastInDim S1x256x256 ![] bcast_S_S1x256x256 main_c_2141
  let main_v13564 : IVec S1x256x256 1 := cmpi .sgt main_v9887 main_v13563
  let main_v13565 : IVec S1x256x256 1 := andi main_v13562 main_v13564
  let main_v13566 : FVec F S1x256x256 .f32 := broadcastInDim S1x256x256 ![0, 1, 2] bcast_S1x1x256_S1x256x256_0_1_2 main_v13555
  let main_v13567 : FVec F S1x256x256 .f32 := mulf main_v13560 main_v13566
  let main_v13568 : FVec F S1x256x256 .f32 := subf main_v13554 main_v13567
  let main_v13569 : FVec F S1x256x256 .f32 := select main_v13565 main_v13568 main_v13554
  let main_c_2142 : IVec S_ 32 := constantI S_ 32 193#32
  let main_v13570 : IVec S1x256x256 32 := broadcastInDim S1x256x256 ![] bcast_S_S1x256x256 main_c_2142
  let main_v13571 : IVec S1x256x256 1 := cmpi .eq main_v9887 main_v13570
  let main_v13572 : IVec S1x256x256 1 := andi main_v13562 main_v13571
  let main_v13573 : FVec F S1x256x256 .f32 := select main_v13572 main_v13560 main_v13569
  let main_v13574 : FVec F S1x1x256 .f32 := (extractStridedSlice S1x1x256 ![0, 194, 0] · slices_S1x256x256_S1x1x256_0_194_0) main_v13573
  let main_v13575 : FVec F S1x256x1 .f32 := (extractStridedSlice S1x256x1 ![0, 0, 194] · slices_S1x256x256_S1x256x1_0_0_194) main_v13573
  fn_part655 (F := F) main_arg0 main_v4875 main_v9852 main_v9886 main_v9887 main_v13573 main_v13574 main_v13575

def fn_part653 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13522 : FVec F S1x256x256 .f32) (main_v13524 : IVec S1x256x256 1) (main_v13531 : FVec F S1x256x256 .f32) (main_v13533 : IVec S1x256x256 1) : IVec S9x256x256 1 × IVec S8x256x256 1 :=
  let main_v13534 : IVec S1x256x256 1 := andi main_v13524 main_v13533
  let main_v13535 : FVec F S1x256x256 .f32 := select main_v13534 main_v13522 main_v13531
  let main_v13536 : FVec F S1x1x256 .f32 := (extractStridedSlice S1x1x256 ![0, 192, 0] · slices_S1x256x256_S1x1x256_0_192_0) main_v13535
  let main_v13537 : FVec F S1x256x1 .f32 := (extractStridedSlice S1x256x1 ![0, 0, 192] · slices_S1x256x256_S1x256x1_0_0_192) main_v13535
  let main_v13538 : FVec F S1x1x1 .f32 := (extractStridedSlice S1x1x1 ![0, 0, 192] · slices_S1x1x256_S1x1x1_0_0_192) main_v13536
  let main_v13539 : FVec F S1x256x1 .f32 := broadcastInDim S1x256x1 ![0, 1, 2] bcast_S1x1x1_S1x256x1_0_1_2 main_v13538
  let main_v13540 : FVec F S1x256x1 .f32 := Host.divf main_v13537 main_v13539
  let main_v13541 : FVec F S1x256x256 .f32 := broadcastInDim S1x256x256 ![0, 1, 2] bcast_S1x256x1_S1x256x256_0_1_2 main_v13540
  let main_c_2137 : IVec S_ 32 := constantI S_ 32 192#32
  let main_v13542 : IVec S1x256x256 32 := broadcastInDim S1x256x256 ![] bcast_S_S1x256x256 main_c_2137
  let main_v13543 : IVec S1x256x256 1 := cmpi .sgt main_v9886 main_v13542
  let main_c_2138 : IVec S_ 32 := constantI S_ 32 192#32
  let main_v13544 : IVec S1x256x256 32 := broadcastInDim S1x256x256 ![] bcast_S_S1x256x256 main_c_2138
  let main_v13545 : IVec S1x256x256 1 := cmpi .sgt main_v9887 main_v13544
  let main_v13546 : IVec S1x256x256 1 := andi main_v13543 main_v13545
  let main_v13547 : FVec F S1x256x256 .f32 := broadcastInDim S1x256x256 ![0, 1, 2] bcast_S1x1x256_S1x256x256_0_1_2 main_v13536
  let main_v13548 : FVec F S1x256x256 .f32 := mulf main_v13541 main_v13547
  let main_v13549 : FVec F S1x256x256 .f32 := subf main_v13535 main_v13548
  let main_v13550 : FVec F S1x256x256 .f32 := select main_v13546 main_v13549 main_v13535
  let main_c_2139 : IVec S_ 32 := constantI S_ 32 192#32
  let main_v13551 : IVec S1x256x256 32 := broadcastInDim S1x256x256 ![] bcast_S_S1x256x256 main_c_2139
  let main_v13552 : IVec S1x256x256 1 := cmpi .eq main_v9887 main_v13551
  let main_v13553 : IVec S1x256x256 1 := andi main_v13543 main_v13552
  let main_v13554 : FVec F S1x256x256 .f32 := select main_v13553 main_v13541 main_v13550
  fn_part654 (F := F) main_arg0 main_v4875 main_v9852 main_v9886 main_v9887 main_v13554

def fn_part652 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13503 : FVec F S1x256x256 .f32) (main_v13505 : IVec S1x256x256 1) (main_v13512 : FVec F S1x256x256 .f32) (main_c_2133 : IVec S_ 32) : IVec S9x256x256 1 × IVec S8x256x256 1 :=
  let main_v13513 : IVec S1x256x256 32 := broadcastInDim S1x256x256 ![] bcast_S_S1x256x256 main_c_2133
  let main_v13514 : IVec S1x256x256 1 := cmpi .eq main_v9887 main_v13513
  let main_v13515 : IVec S1x256x256 1 := andi main_v13505 main_v13514
  let main_v13516 : FVec F S1x256x256 .f32 := select main_v13515 main_v13503 main_v13512
  let main_v13517 : FVec F S1x1x256 .f32 := (extractStridedSlice S1x1x256 ![0, 191, 0] · slices_S1x256x256_S1x1x256_0_191_0) main_v13516
  let main_v13518 : FVec F S1x256x1 .f32 := (extractStridedSlice S1x256x1 ![0, 0, 191] · slices_S1x256x256_S1x256x1_0_0_191) main_v13516
  let main_v13519 : FVec F S1x1x1 .f32 := (extractStridedSlice S1x1x1 ![0, 0, 191] · slices_S1x1x256_S1x1x1_0_0_191) main_v13517
  let main_v13520 : FVec F S1x256x1 .f32 := broadcastInDim S1x256x1 ![0, 1, 2] bcast_S1x1x1_S1x256x1_0_1_2 main_v13519
  let main_v13521 : FVec F S1x256x1 .f32 := Host.divf main_v13518 main_v13520
  let main_v13522 : FVec F S1x256x256 .f32 := broadcastInDim S1x256x256 ![0, 1, 2] bcast_S1x256x1_S1x256x256_0_1_2 main_v13521
  let main_c_2134 : IVec S_ 32 := constantI S_ 32 191#32
  let main_v13523 : IVec S1x256x256 32 := broadcastInDim S1x256x256 ![] bcast_S_S1x256x256 main_c_2134
  let main_v13524 : IVec S1x256x256 1 := cmpi .sgt main_v9886 main_v13523
  let main_c_2135 : IVec S_ 32 := constantI S_ 32 191#32
  let main_v13525 : IVec S1x256x256 32 := broadcastInDim S1x256x256 ![] bcast_S_S1x256x256 main_c_2135
  let main_v13526 : IVec S1x256x256 1 := cmpi .sgt main_v9887 main_v13525
  let main_v13527 : IVec S1x256x256 1 := andi main_v13524 main_v13526
  let main_v13528 : FVec F S1x256x256 .f32 := broadcastInDim S1x256x256 ![0, 1, 2] bcast_S1x1x256_S1x256x256_0_1_2 main_v13517
  let main_v13529 : FVec F S1x256x256 .f32 := mulf main_v13522 main_v13528
  let main_v13530 : FVec F S1x256x256 .f32 := subf main_v13516 main_v13529
  let main_v13531 : FVec F S1x256x256 .f32 := select main_v13527 main_v13530 main_v13516
  let main_c_2136 : IVec S_ 32 := constantI S_ 32 191#32
  let main_v13532 : IVec S1x256x256 32 := broadcastInDim S1x256x256 ![] bcast_S_S1x256x256 main_c_2136
  let main_v13533 : IVec S1x256x256 1 := cmpi .eq main_v9887 main_v13532
  fn_part653 (F := F) main_arg0 main_v4875 main_v9852 main_v9886 main_v9887 main_v13522 main_v13524 main_v13531 main_v13533

def fn_part651 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13478 : FVec F S1x256x256 .f32) (main_v13484 : FVec F S1x256x256 .f32) (main_v13486 : IVec S1x256x256 1) (main_v13489 : IVec S1x256x256 1) (main_v13492 : FVec F S1x256x256 .f32) : IVec S9x256x256 1 × IVec S8x256x256 1 :=
  let main_v13493 : FVec F S1x256x256 .f32 := select main_v13489 main_v13492 main_v13478
  let main_c_2130 : IVec S_ 32 := constantI S_ 32 189#32
  let main_v13494 : IVec S1x256x256 32 := broadcastInDim S1x256x256 ![] bcast_S_S1x256x256 main_c_2130
  let main_v13495 : IVec S1x256x256 1 := cmpi .eq main_v9887 main_v13494
  let main_v13496 : IVec S1x256x256 1 := andi main_v13486 main_v13495
  let main_v13497 : FVec F S1x256x256 .f32 := select main_v13496 main_v13484 main_v13493
  let main_v13498 : FVec F S1x1x256 .f32 := (extractStridedSlice S1x1x256 ![0, 190, 0] · slices_S1x256x256_S1x1x256_0_190_0) main_v13497
  let main_v13499 : FVec F S1x256x1 .f32 := (extractStridedSlice S1x256x1 ![0, 0, 190] · slices_S1x256x256_S1x256x1_0_0_190) main_v13497
  let main_v13500 : FVec F S1x1x1 .f32 := (extractStridedSlice S1x1x1 ![0, 0, 190] · slices_S1x1x256_S1x1x1_0_0_190) main_v13498
  let main_v13501 : FVec F S1x256x1 .f32 := broadcastInDim S1x256x1 ![0, 1, 2] bcast_S1x1x1_S1x256x1_0_1_2 main_v13500
  let main_v13502 : FVec F S1x256x1 .f32 := Host.divf main_v13499 main_v13501
  let main_v13503 : FVec F S1x256x256 .f32 := broadcastInDim S1x256x256 ![0, 1, 2] bcast_S1x256x1_S1x256x256_0_1_2 main_v13502
  let main_c_2131 : IVec S_ 32 := constantI S_ 32 190#32
  let main_v13504 : IVec S1x256x256 32 := broadcastInDim S1x256x256 ![] bcast_S_S1x256x256 main_c_2131
  let main_v13505 : IVec S1x256x256 1 := cmpi .sgt main_v9886 main_v13504
  let main_c_2132 : IVec S_ 32 := constantI S_ 32 190#32
  let main_v13506 : IVec S1x256x256 32 := broadcastInDim S1x256x256 ![] bcast_S_S1x256x256 main_c_2132
  let main_v13507 : IVec S1x256x256 1 := cmpi .sgt main_v9887 main_v13506
  let main_v13508 : IVec S1x256x256 1 := andi main_v13505 main_v13507
  let main_v13509 : FVec F S1x256x256 .f32 := broadcastInDim S1x256x256 ![0, 1, 2] bcast_S1x1x256_S1x256x256_0_1_2 main_v13498
  let main_v13510 : FVec F S1x256x256 .f32 := mulf main_v13503 main_v13509
  let main_v13511 : FVec F S1x256x256 .f32 := subf main_v13497 main_v13510
  let main_v13512 : FVec F S1x256x256 .f32 := select main_v13508 main_v13511 main_v13497
  let main_c_2133 : IVec S_ 32 := constantI S_ 32 190#32
  fn_part652 (F := F) main_arg0 main_v4875 main_v9852 main_v9886 main_v9887 main_v13503 main_v13505 main_v13512 main_c_2133

def fn_part650 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13459 : FVec F S1x256x256 .f32) (main_v13465 : FVec F S1x256x256 .f32) (main_v13467 : IVec S1x256x256 1) (main_v13470 : IVec S1x256x256 1) (main_v13471 : FVec F S1x256x256 .f32) : IVec S9x256x256 1 × IVec S8x256x256 1 :=
  let main_v13472 : FVec F S1x256x256 .f32 := mulf main_v13465 main_v13471
  let main_v13473 : FVec F S1x256x256 .f32 := subf main_v13459 main_v13472
  let main_v13474 : FVec F S1x256x256 .f32 := select main_v13470 main_v13473 main_v13459
  let main_c_2127 : IVec S_ 32 := constantI S_ 32 188#32
  let main_v13475 : IVec S1x256x256 32 := broadcastInDim S1x256x256 ![] bcast_S_S1x256x256 main_c_2127
  let main_v13476 : IVec S1x256x256 1 := cmpi .eq main_v9887 main_v13475
  let main_v13477 : IVec S1x256x256 1 := andi main_v13467 main_v13476
  let main_v13478 : FVec F S1x256x256 .f32 := select main_v13477 main_v13465 main_v13474
  let main_v13479 : FVec F S1x1x256 .f32 := (extractStridedSlice S1x1x256 ![0, 189, 0] · slices_S1x256x256_S1x1x256_0_189_0) main_v13478
  let main_v13480 : FVec F S1x256x1 .f32 := (extractStridedSlice S1x256x1 ![0, 0, 189] · slices_S1x256x256_S1x256x1_0_0_189) main_v13478
  let main_v13481 : FVec F S1x1x1 .f32 := (extractStridedSlice S1x1x1 ![0, 0, 189] · slices_S1x1x256_S1x1x1_0_0_189) main_v13479
  let main_v13482 : FVec F S1x256x1 .f32 := broadcastInDim S1x256x1 ![0, 1, 2] bcast_S1x1x1_S1x256x1_0_1_2 main_v13481
  let main_v13483 : FVec F S1x256x1 .f32 := Host.divf main_v13480 main_v13482
  let main_v13484 : FVec F S1x256x256 .f32 := broadcastInDim S1x256x256 ![0, 1, 2] bcast_S1x256x1_S1x256x256_0_1_2 main_v13483
  let main_c_2128 : IVec S_ 32 := constantI S_ 32 189#32
  let main_v13485 : IVec S1x256x256 32 := broadcastInDim S1x256x256 ![] bcast_S_S1x256x256 main_c_2128
  let main_v13486 : IVec S1x256x256 1 := cmpi .sgt main_v9886 main_v13485
  let main_c_2129 : IVec S_ 32 := constantI S_ 32 189#32
  let main_v13487 : IVec S1x256x256 32 := broadcastInDim S1x256x256 ![] bcast_S_S1x256x256 main_c_2129
  let main_v13488 : IVec S1x256x256 1 := cmpi .sgt main_v9887 main_v13487
  let main_v13489 : IVec S1x256x256 1 := andi main_v13486 main_v13488
  let main_v13490 : FVec F S1x256x256 .f32 := broadcastInDim S1x256x256 ![0, 1, 2] bcast_S1x1x256_S1x256x256_0_1_2 main_v13479
  let main_v13491 : FVec F S1x256x256 .f32 := mulf main_v13484 main_v13490
  let main_v13492 : FVec F S1x256x256 .f32 := subf main_v13478 main_v13491
  fn_part651 (F := F) main_arg0 main_v4875 main_v9852 main_v9886 main_v9887 main_v13478 main_v13484 main_v13486 main_v13489 main_v13492

def fn_part649 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13440 : FVec F S1x256x256 .f32) (main_v13441 : FVec F S1x1x256 .f32) (main_v13446 : FVec F S1x256x256 .f32) (main_v13448 : IVec S1x256x256 1) (main_v13450 : IVec S1x256x256 1) : IVec S9x256x256 1 × IVec S8x256x256 1 :=
  let main_v13451 : IVec S1x256x256 1 := andi main_v13448 main_v13450
  let main_v13452 : FVec F S1x256x256 .f32 := broadcastInDim S1x256x256 ![0, 1, 2] bcast_S1x1x256_S1x256x256_0_1_2 main_v13441
  let main_v13453 : FVec F S1x256x256 .f32 := mulf main_v13446 main_v13452
  let main_v13454 : FVec F S1x256x256 .f32 := subf main_v13440 main_v13453
  let main_v13455 : FVec F S1x256x256 .f32 := select main_v13451 main_v13454 main_v13440
  let main_c_2124 : IVec S_ 32 := constantI S_ 32 187#32
  let main_v13456 : IVec S1x256x256 32 := broadcastInDim S1x256x256 ![] bcast_S_S1x256x256 main_c_2124
  let main_v13457 : IVec S1x256x256 1 := cmpi .eq main_v9887 main_v13456
  let main_v13458 : IVec S1x256x256 1 := andi main_v13448 main_v13457
  let main_v13459 : FVec F S1x256x256 .f32 := select main_v13458 main_v13446 main_v13455
  let main_v13460 : FVec F S1x1x256 .f32 := (extractStridedSlice S1x1x256 ![0, 188, 0] · slices_S1x256x256_S1x1x256_0_188_0) main_v13459
  let main_v13461 : FVec F S1x256x1 .f32 := (extractStridedSlice S1x256x1 ![0, 0, 188] · slices_S1x256x256_S1x256x1_0_0_188) main_v13459
  let main_v13462 : FVec F S1x1x1 .f32 := (extractStridedSlice S1x1x1 ![0, 0, 188] · slices_S1x1x256_S1x1x1_0_0_188) main_v13460
  let main_v13463 : FVec F S1x256x1 .f32 := broadcastInDim S1x256x1 ![0, 1, 2] bcast_S1x1x1_S1x256x1_0_1_2 main_v13462
  let main_v13464 : FVec F S1x256x1 .f32 := Host.divf main_v13461 main_v13463
  let main_v13465 : FVec F S1x256x256 .f32 := broadcastInDim S1x256x256 ![0, 1, 2] bcast_S1x256x1_S1x256x256_0_1_2 main_v13464
  let main_c_2125 : IVec S_ 32 := constantI S_ 32 188#32
  let main_v13466 : IVec S1x256x256 32 := broadcastInDim S1x256x256 ![] bcast_S_S1x256x256 main_c_2125
  let main_v13467 : IVec S1x256x256 1 := cmpi .sgt main_v9886 main_v13466
  let main_c_2126 : IVec S_ 32 := constantI S_ 32 188#32
  let main_v13468 : IVec S1x256x256 32 := broadcastInDim S1x256x256 ![] bcast_S_S1x256x256 main_c_2126
  let main_v13469 : IVec S1x256x256 1 := cmpi .sgt main_v9887 main_v13468
  let main_v13470 : IVec S1x256x256 1 := andi main_v13467 main_v13469
  let main_v13471 : FVec F S1x256x256 .f32 := broadcastInDim S1x256x256 ![0, 1, 2] bcast_S1x1x256_S1x256x256_0_1_2 main_v13460
  fn_part650 (F := F) main_arg0 main_v4875 main_v9852 main_v9886 main_v9887 main_v13459 main_v13465 main_v13467 main_v13470 main_v13471

def fn_part648 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13421 : FVec F S1x256x256 .f32) (main_v13422 : FVec F S1x1x256 .f32) (main_v13427 : FVec F S1x256x256 .f32) (main_v13429 : IVec S1x256x256 1) (main_c_2120 : IVec S_ 32) : IVec S9x256x256 1 × IVec S8x256x256 1 :=
  let main_v13430 : IVec S1x256x256 32 := broadcastInDim S1x256x256 ![] bcast_S_S1x256x256 main_c_2120
  let main_v13431 : IVec S1x256x256 1 := cmpi .sgt main_v9887 main_v13430
  let main_v13432 : IVec S1x256x256 1 := andi main_v13429 main_v13431
  let main_v13433 : FVec F S1x256x256 .f32 := broadcastInDim S1x256x256 ![0, 1, 2] bcast_S1x1x256_S1x256x256_0_1_2 main_v13422
  let main_v13434 : FVec F S1x256x256 .f32 := mulf main_v13427 main_v13433
  let main_v13435 : FVec F S1x256x256 .f32 := subf main_v13421 main_v13434
  let main_v13436 : FVec F S1x256x256 .f32 := select main_v13432 main_v13435 main_v13421
  let main_c_2121 : IVec S_ 32 := constantI S_ 32 186#32
  let main_v13437 : IVec S1x256x256 32 := broadcastInDim S1x256x256 ![] bcast_S_S1x256x256 main_c_2121
  let main_v13438 : IVec S1x256x256 1 := cmpi .eq main_v9887 main_v13437
  let main_v13439 : IVec S1x256x256 1 := andi main_v13429 main_v13438
  let main_v13440 : FVec F S1x256x256 .f32 := select main_v13439 main_v13427 main_v13436
  let main_v13441 : FVec F S1x1x256 .f32 := (extractStridedSlice S1x1x256 ![0, 187, 0] · slices_S1x256x256_S1x1x256_0_187_0) main_v13440
  let main_v13442 : FVec F S1x256x1 .f32 := (extractStridedSlice S1x256x1 ![0, 0, 187] · slices_S1x256x256_S1x256x1_0_0_187) main_v13440
  let main_v13443 : FVec F S1x1x1 .f32 := (extractStridedSlice S1x1x1 ![0, 0, 187] · slices_S1x1x256_S1x1x1_0_0_187) main_v13441
  let main_v13444 : FVec F S1x256x1 .f32 := broadcastInDim S1x256x1 ![0, 1, 2] bcast_S1x1x1_S1x256x1_0_1_2 main_v13443
  let main_v13445 : FVec F S1x256x1 .f32 := Host.divf main_v13442 main_v13444
  let main_v13446 : FVec F S1x256x256 .f32 := broadcastInDim S1x256x256 ![0, 1, 2] bcast_S1x256x1_S1x256x256_0_1_2 main_v13445
  let main_c_2122 : IVec S_ 32 := constantI S_ 32 187#32
  let main_v13447 : IVec S1x256x256 32 := broadcastInDim S1x256x256 ![] bcast_S_S1x256x256 main_c_2122
  let main_v13448 : IVec S1x256x256 1 := cmpi .sgt main_v9886 main_v13447
  let main_c_2123 : IVec S_ 32 := constantI S_ 32 187#32
  let main_v13449 : IVec S1x256x256 32 := broadcastInDim S1x256x256 ![] bcast_S_S1x256x256 main_c_2123
  let main_v13450 : IVec S1x256x256 1 := cmpi .sgt main_v9887 main_v13449
  fn_part649 (F := F) main_arg0 main_v4875 main_v9852 main_v9886 main_v9887 main_v13440 main_v13441 main_v13446 main_v13448 main_v13450

def fn_part647 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13402 : FVec F S1x256x256 .f32) (main_v13403 : FVec F S1x1x256 .f32) (main_v13408 : FVec F S1x256x256 .f32) (main_v13409 : IVec S1x256x256 32) : IVec S9x256x256 1 × IVec S8x256x256 1 :=
  let main_v13410 : IVec S1x256x256 1 := cmpi .sgt main_v9886 main_v13409
  let main_c_2117 : IVec S_ 32 := constantI S_ 32 185#32
  let main_v13411 : IVec S1x256x256 32 := broadcastInDim S1x256x256 ![] bcast_S_S1x256x256 main_c_2117
  let main_v13412 : IVec S1x256x256 1 := cmpi .sgt main_v9887 main_v13411
  let main_v13413 : IVec S1x256x256 1 := andi main_v13410 main_v13412
  let main_v13414 : FVec F S1x256x256 .f32 := broadcastInDim S1x256x256 ![0, 1, 2] bcast_S1x1x256_S1x256x256_0_1_2 main_v13403
  let main_v13415 : FVec F S1x256x256 .f32 := mulf main_v13408 main_v13414
  let main_v13416 : FVec F S1x256x256 .f32 := subf main_v13402 main_v13415
  let main_v13417 : FVec F S1x256x256 .f32 := select main_v13413 main_v13416 main_v13402
  let main_c_2118 : IVec S_ 32 := constantI S_ 32 185#32
  let main_v13418 : IVec S1x256x256 32 := broadcastInDim S1x256x256 ![] bcast_S_S1x256x256 main_c_2118
  let main_v13419 : IVec S1x256x256 1 := cmpi .eq main_v9887 main_v13418
  let main_v13420 : IVec S1x256x256 1 := andi main_v13410 main_v13419
  let main_v13421 : FVec F S1x256x256 .f32 := select main_v13420 main_v13408 main_v13417
  let main_v13422 : FVec F S1x1x256 .f32 := (extractStridedSlice S1x1x256 ![0, 186, 0] · slices_S1x256x256_S1x1x256_0_186_0) main_v13421
  let main_v13423 : FVec F S1x256x1 .f32 := (extractStridedSlice S1x256x1 ![0, 0, 186] · slices_S1x256x256_S1x256x1_0_0_186) main_v13421
  let main_v13424 : FVec F S1x1x1 .f32 := (extractStridedSlice S1x1x1 ![0, 0, 186] · slices_S1x1x256_S1x1x1_0_0_186) main_v13422
  let main_v13425 : FVec F S1x256x1 .f32 := broadcastInDim S1x256x1 ![0, 1, 2] bcast_S1x1x1_S1x256x1_0_1_2 main_v13424
  let main_v13426 : FVec F S1x256x1 .f32 := Host.divf main_v13423 main_v13425
  let main_v13427 : FVec F S1x256x256 .f32 := broadcastInDim S1x256x256 ![0, 1, 2] bcast_S1x256x1_S1x256x256_0_1_2 main_v13426
  let main_c_2119 : IVec S_ 32 := constantI S_ 32 186#32
  let main_v13428 : IVec S1x256x256 32 := broadcastInDim S1x256x256 ![] bcast_S_S1x256x256 main_c_2119
  let main_v13429 : IVec S1x256x256 1 := cmpi .sgt main_v9886 main_v13428
  let main_c_2120 : IVec S_ 32 := constantI S_ 32 186#32
  fn_part648 (F := F) main_arg0 main_v4875 main_v9852 main_v9886 main_v9887 main_v13421 main_v13422 main_v13427 main_v13429 main_c_2120

def fn_part646 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13383 : FVec F S1x256x256 .f32) (main_v13384 : FVec F S1x1x256 .f32) (main_v13389 : FVec F S1x256x256 .f32) : IVec S9x256x256 1 × IVec S8x256x256 1 :=
  let main_c_2113 : IVec S_ 32 := constantI S_ 32 184#32
  let main_v13390 : IVec S1x256x256 32 := broadcastInDim S1x256x256 ![] bcast_S_S1x256x256 main_c_2113
  let main_v13391 : IVec S1x256x256 1 := cmpi .sgt main_v9886 main_v13390
  let main_c_2114 : IVec S_ 32 := constantI S_ 32 184#32
  let main_v13392 : IVec S1x256x256 32 := broadcastInDim S1x256x256 ![] bcast_S_S1x256x256 main_c_2114
  let main_v13393 : IVec S1x256x256 1 := cmpi .sgt main_v9887 main_v13392
  let main_v13394 : IVec S1x256x256 1 := andi main_v13391 main_v13393
  let main_v13395 : FVec F S1x256x256 .f32 := broadcastInDim S1x256x256 ![0, 1, 2] bcast_S1x1x256_S1x256x256_0_1_2 main_v13384
  let main_v13396 : FVec F S1x256x256 .f32 := mulf main_v13389 main_v13395
  let main_v13397 : FVec F S1x256x256 .f32 := subf main_v13383 main_v13396
  let main_v13398 : FVec F S1x256x256 .f32 := select main_v13394 main_v13397 main_v13383
  let main_c_2115 : IVec S_ 32 := constantI S_ 32 184#32
  let main_v13399 : IVec S1x256x256 32 := broadcastInDim S1x256x256 ![] bcast_S_S1x256x256 main_c_2115
  let main_v13400 : IVec S1x256x256 1 := cmpi .eq main_v9887 main_v13399
  let main_v13401 : IVec S1x256x256 1 := andi main_v13391 main_v13400
  let main_v13402 : FVec F S1x256x256 .f32 := select main_v13401 main_v13389 main_v13398
  let main_v13403 : FVec F S1x1x256 .f32 := (extractStridedSlice S1x1x256 ![0, 185, 0] · slices_S1x256x256_S1x1x256_0_185_0) main_v13402
  let main_v13404 : FVec F S1x256x1 .f32 := (extractStridedSlice S1x256x1 ![0, 0, 185] · slices_S1x256x256_S1x256x1_0_0_185) main_v13402
  let main_v13405 : FVec F S1x1x1 .f32 := (extractStridedSlice S1x1x1 ![0, 0, 185] · slices_S1x1x256_S1x1x1_0_0_185) main_v13403
  let main_v13406 : FVec F S1x256x1 .f32 := broadcastInDim S1x256x1 ![0, 1, 2] bcast_S1x1x1_S1x256x1_0_1_2 main_v13405
  let main_v13407 : FVec F S1x256x1 .f32 := Host.divf main_v13404 main_v13406
  let main_v13408 : FVec F S1x256x256 .f32 := broadcastInDim S1x256x256 ![0, 1, 2] bcast_S1x256x1_S1x256x256_0_1_2 main_v13407
  let main_c_2116 : IVec S_ 32 := constantI S_ 32 185#32
  let main_v13409 : IVec S1x256x256 32 := broadcastInDim S1x256x256 ![] bcast_S_S1x256x256 main_c_2116
  fn_part647 (F := F) main_arg0 main_v4875 main_v9852 main_v9886 main_v9887 main_v13402 main_v13403 main_v13408 main_v13409

def fn_part645 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13364 : FVec F S1x256x256 .f32) (main_v13365 : FVec F S1x1x256 .f32) (main_v13366 : FVec F S1x256x1 .f32) (main_v13368 : FVec F S1x256x1 .f32) : IVec S9x256x256 1 × IVec S8x256x256 1 :=
  let main_v13369 : FVec F S1x256x1 .f32 := Host.divf main_v13366 main_v13368
  let main_v13370 : FVec F S1x256x256 .f32 := broadcastInDim S1x256x256 ![0, 1, 2] bcast_S1x256x1_S1x256x256_0_1_2 main_v13369
  let main_c_2110 : IVec S_ 32 := constantI S_ 32 183#32
  let main_v13371 : IVec S1x256x256 32 := broadcastInDim S1x256x256 ![] bcast_S_S1x256x256 main_c_2110
  let main_v13372 : IVec S1x256x256 1 := cmpi .sgt main_v9886 main_v13371
  let main_c_2111 : IVec S_ 32 := constantI S_ 32 183#32
  let main_v13373 : IVec S1x256x256 32 := broadcastInDim S1x256x256 ![] bcast_S_S1x256x256 main_c_2111
  let main_v13374 : IVec S1x256x256 1 := cmpi .sgt main_v9887 main_v13373
  let main_v13375 : IVec S1x256x256 1 := andi main_v13372 main_v13374
  let main_v13376 : FVec F S1x256x256 .f32 := broadcastInDim S1x256x256 ![0, 1, 2] bcast_S1x1x256_S1x256x256_0_1_2 main_v13365
  let main_v13377 : FVec F S1x256x256 .f32 := mulf main_v13370 main_v13376
  let main_v13378 : FVec F S1x256x256 .f32 := subf main_v13364 main_v13377
  let main_v13379 : FVec F S1x256x256 .f32 := select main_v13375 main_v13378 main_v13364
  let main_c_2112 : IVec S_ 32 := constantI S_ 32 183#32
  let main_v13380 : IVec S1x256x256 32 := broadcastInDim S1x256x256 ![] bcast_S_S1x256x256 main_c_2112
  let main_v13381 : IVec S1x256x256 1 := cmpi .eq main_v9887 main_v13380
  let main_v13382 : IVec S1x256x256 1 := andi main_v13372 main_v13381
  let main_v13383 : FVec F S1x256x256 .f32 := select main_v13382 main_v13370 main_v13379
  let main_v13384 : FVec F S1x1x256 .f32 := (extractStridedSlice S1x1x256 ![0, 184, 0] · slices_S1x256x256_S1x1x256_0_184_0) main_v13383
  let main_v13385 : FVec F S1x256x1 .f32 := (extractStridedSlice S1x256x1 ![0, 0, 184] · slices_S1x256x256_S1x256x1_0_0_184) main_v13383
  let main_v13386 : FVec F S1x1x1 .f32 := (extractStridedSlice S1x1x1 ![0, 0, 184] · slices_S1x1x256_S1x1x1_0_0_184) main_v13384
  let main_v13387 : FVec F S1x256x1 .f32 := broadcastInDim S1x256x1 ![0, 1, 2] bcast_S1x1x1_S1x256x1_0_1_2 main_v13386
  let main_v13388 : FVec F S1x256x1 .f32 := Host.divf main_v13385 main_v13387
  let main_v13389 : FVec F S1x256x256 .f32 := broadcastInDim S1x256x256 ![0, 1, 2] bcast_S1x256x1_S1x256x256_0_1_2 main_v13388
  fn_part646 (F := F) main_arg0 main_v4875 main_v9852 main_v9886 main_v9887 main_v13383 main_v13384 main_v13389

def fn_part644 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13345 : FVec F S1x256x256 .f32) (main_v13346 : FVec F S1x1x256 .f32) (main_v13347 : FVec F S1x256x1 .f32) : IVec S9x256x256 1 × IVec S8x256x256 1 :=
  let main_v13348 : FVec F S1x1x1 .f32 := (extractStridedSlice S1x1x1 ![0, 0, 182] · slices_S1x1x256_S1x1x1_0_0_182) main_v13346
  let main_v13349 : FVec F S1x256x1 .f32 := broadcastInDim S1x256x1 ![0, 1, 2] bcast_S1x1x1_S1x256x1_0_1_2 main_v13348
  let main_v13350 : FVec F S1x256x1 .f32 := Host.divf main_v13347 main_v13349
  let main_v13351 : FVec F S1x256x256 .f32 := broadcastInDim S1x256x256 ![0, 1, 2] bcast_S1x256x1_S1x256x256_0_1_2 main_v13350
  let main_c_2107 : IVec S_ 32 := constantI S_ 32 182#32
  let main_v13352 : IVec S1x256x256 32 := broadcastInDim S1x256x256 ![] bcast_S_S1x256x256 main_c_2107
  let main_v13353 : IVec S1x256x256 1 := cmpi .sgt main_v9886 main_v13352
  let main_c_2108 : IVec S_ 32 := constantI S_ 32 182#32
  let main_v13354 : IVec S1x256x256 32 := broadcastInDim S1x256x256 ![] bcast_S_S1x256x256 main_c_2108
  let main_v13355 : IVec S1x256x256 1 := cmpi .sgt main_v9887 main_v13354
  let main_v13356 : IVec S1x256x256 1 := andi main_v13353 main_v13355
  let main_v13357 : FVec F S1x256x256 .f32 := broadcastInDim S1x256x256 ![0, 1, 2] bcast_S1x1x256_S1x256x256_0_1_2 main_v13346
  let main_v13358 : FVec F S1x256x256 .f32 := mulf main_v13351 main_v13357
  let main_v13359 : FVec F S1x256x256 .f32 := subf main_v13345 main_v13358
  let main_v13360 : FVec F S1x256x256 .f32 := select main_v13356 main_v13359 main_v13345
  let main_c_2109 : IVec S_ 32 := constantI S_ 32 182#32
  let main_v13361 : IVec S1x256x256 32 := broadcastInDim S1x256x256 ![] bcast_S_S1x256x256 main_c_2109
  let main_v13362 : IVec S1x256x256 1 := cmpi .eq main_v9887 main_v13361
  let main_v13363 : IVec S1x256x256 1 := andi main_v13353 main_v13362
  let main_v13364 : FVec F S1x256x256 .f32 := select main_v13363 main_v13351 main_v13360
  let main_v13365 : FVec F S1x1x256 .f32 := (extractStridedSlice S1x1x256 ![0, 183, 0] · slices_S1x256x256_S1x1x256_0_183_0) main_v13364
  let main_v13366 : FVec F S1x256x1 .f32 := (extractStridedSlice S1x256x1 ![0, 0, 183] · slices_S1x256x256_S1x256x1_0_0_183) main_v13364
  let main_v13367 : FVec F S1x1x1 .f32 := (extractStridedSlice S1x1x1 ![0, 0, 183] · slices_S1x1x256_S1x1x1_0_0_183) main_v13365
  let main_v13368 : FVec F S1x256x1 .f32 := broadcastInDim S1x256x1 ![0, 1, 2] bcast_S1x1x1_S1x256x1_0_1_2 main_v13367
  fn_part645 (F := F) main_arg0 main_v4875 main_v9852 main_v9886 main_v9887 main_v13364 main_v13365 main_v13366 main_v13368

def fn_part643 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13326 : FVec F S1x256x256 .f32) : IVec S9x256x256 1 × IVec S8x256x256 1 :=
  let main_v13327 : FVec F S1x1x256 .f32 := (extractStridedSlice S1x1x256 ![0, 181, 0] · slices_S1x256x256_S1x1x256_0_181_0) main_v13326
  let main_v13328 : FVec F S1x256x1 .f32 := (extractStridedSlice S1x256x1 ![0, 0, 181] · slices_S1x256x256_S1x256x1_0_0_181) main_v13326
  let main_v13329 : FVec F S1x1x1 .f32 := (extractStridedSlice S1x1x1 ![0, 0, 181] · slices_S1x1x256_S1x1x1_0_0_181) main_v13327
  let main_v13330 : FVec F S1x256x1 .f32 := broadcastInDim S1x256x1 ![0, 1, 2] bcast_S1x1x1_S1x256x1_0_1_2 main_v13329
  let main_v13331 : FVec F S1x256x1 .f32 := Host.divf main_v13328 main_v13330
  let main_v13332 : FVec F S1x256x256 .f32 := broadcastInDim S1x256x256 ![0, 1, 2] bcast_S1x256x1_S1x256x256_0_1_2 main_v13331
  let main_c_2104 : IVec S_ 32 := constantI S_ 32 181#32
  let main_v13333 : IVec S1x256x256 32 := broadcastInDim S1x256x256 ![] bcast_S_S1x256x256 main_c_2104
  let main_v13334 : IVec S1x256x256 1 := cmpi .sgt main_v9886 main_v13333
  let main_c_2105 : IVec S_ 32 := constantI S_ 32 181#32
  let main_v13335 : IVec S1x256x256 32 := broadcastInDim S1x256x256 ![] bcast_S_S1x256x256 main_c_2105
  let main_v13336 : IVec S1x256x256 1 := cmpi .sgt main_v9887 main_v13335
  let main_v13337 : IVec S1x256x256 1 := andi main_v13334 main_v13336
  let main_v13338 : FVec F S1x256x256 .f32 := broadcastInDim S1x256x256 ![0, 1, 2] bcast_S1x1x256_S1x256x256_0_1_2 main_v13327
  let main_v13339 : FVec F S1x256x256 .f32 := mulf main_v13332 main_v13338
  let main_v13340 : FVec F S1x256x256 .f32 := subf main_v13326 main_v13339
  let main_v13341 : FVec F S1x256x256 .f32 := select main_v13337 main_v13340 main_v13326
  let main_c_2106 : IVec S_ 32 := constantI S_ 32 181#32
  let main_v13342 : IVec S1x256x256 32 := broadcastInDim S1x256x256 ![] bcast_S_S1x256x256 main_c_2106
  let main_v13343 : IVec S1x256x256 1 := cmpi .eq main_v9887 main_v13342
  let main_v13344 : IVec S1x256x256 1 := andi main_v13334 main_v13343
  let main_v13345 : FVec F S1x256x256 .f32 := select main_v13344 main_v13332 main_v13341
  let main_v13346 : FVec F S1x1x256 .f32 := (extractStridedSlice S1x1x256 ![0, 182, 0] · slices_S1x256x256_S1x1x256_0_182_0) main_v13345
  let main_v13347 : FVec F S1x256x1 .f32 := (extractStridedSlice S1x256x1 ![0, 0, 182] · slices_S1x256x256_S1x256x1_0_0_182) main_v13345
  fn_part644 (F := F) main_arg0 main_v4875 main_v9852 main_v9886 main_v9887 main_v13345 main_v13346 main_v13347

def fn_part642 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13294 : FVec F S1x256x256 .f32) (main_v13296 : IVec S1x256x256 1) (main_v13303 : FVec F S1x256x256 .f32) (main_v13305 : IVec S1x256x256 1) : IVec S9x256x256 1 × IVec S8x256x256 1 :=
  let main_v13306 : IVec S1x256x256 1 := andi main_v13296 main_v13305
  let main_v13307 : FVec F S1x256x256 .f32 := select main_v13306 main_v13294 main_v13303
  let main_v13308 : FVec F S1x1x256 .f32 := (extractStridedSlice S1x1x256 ![0, 180, 0] · slices_S1x256x256_S1x1x256_0_180_0) main_v13307
  let main_v13309 : FVec F S1x256x1 .f32 := (extractStridedSlice S1x256x1 ![0, 0, 180] · slices_S1x256x256_S1x256x1_0_0_180) main_v13307
  let main_v13310 : FVec F S1x1x1 .f32 := (extractStridedSlice S1x1x1 ![0, 0, 180] · slices_S1x1x256_S1x1x1_0_0_180) main_v13308
  let main_v13311 : FVec F S1x256x1 .f32 := broadcastInDim S1x256x1 ![0, 1, 2] bcast_S1x1x1_S1x256x1_0_1_2 main_v13310
  let main_v13312 : FVec F S1x256x1 .f32 := Host.divf main_v13309 main_v13311
  let main_v13313 : FVec F S1x256x256 .f32 := broadcastInDim S1x256x256 ![0, 1, 2] bcast_S1x256x1_S1x256x256_0_1_2 main_v13312
  let main_c_2101 : IVec S_ 32 := constantI S_ 32 180#32
  let main_v13314 : IVec S1x256x256 32 := broadcastInDim S1x256x256 ![] bcast_S_S1x256x256 main_c_2101
  let main_v13315 : IVec S1x256x256 1 := cmpi .sgt main_v9886 main_v13314
  let main_c_2102 : IVec S_ 32 := constantI S_ 32 180#32
  let main_v13316 : IVec S1x256x256 32 := broadcastInDim S1x256x256 ![] bcast_S_S1x256x256 main_c_2102
  let main_v13317 : IVec S1x256x256 1 := cmpi .sgt main_v9887 main_v13316
  let main_v13318 : IVec S1x256x256 1 := andi main_v13315 main_v13317
  let main_v13319 : FVec F S1x256x256 .f32 := broadcastInDim S1x256x256 ![0, 1, 2] bcast_S1x1x256_S1x256x256_0_1_2 main_v13308
  let main_v13320 : FVec F S1x256x256 .f32 := mulf main_v13313 main_v13319
  let main_v13321 : FVec F S1x256x256 .f32 := subf main_v13307 main_v13320
  let main_v13322 : FVec F S1x256x256 .f32 := select main_v13318 main_v13321 main_v13307
  let main_c_2103 : IVec S_ 32 := constantI S_ 32 180#32
  let main_v13323 : IVec S1x256x256 32 := broadcastInDim S1x256x256 ![] bcast_S_S1x256x256 main_c_2103
  let main_v13324 : IVec S1x256x256 1 := cmpi .eq main_v9887 main_v13323
  let main_v13325 : IVec S1x256x256 1 := andi main_v13315 main_v13324
  let main_v13326 : FVec F S1x256x256 .f32 := select main_v13325 main_v13313 main_v13322
  fn_part643 (F := F) main_arg0 main_v4875 main_v9852 main_v9886 main_v9887 main_v13326

def fn_part641 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13275 : FVec F S1x256x256 .f32) (main_v13277 : IVec S1x256x256 1) (main_v13284 : FVec F S1x256x256 .f32) (main_c_2097 : IVec S_ 32) : IVec S9x256x256 1 × IVec S8x256x256 1 :=
  let main_v13285 : IVec S1x256x256 32 := broadcastInDim S1x256x256 ![] bcast_S_S1x256x256 main_c_2097
  let main_v13286 : IVec S1x256x256 1 := cmpi .eq main_v9887 main_v13285
  let main_v13287 : IVec S1x256x256 1 := andi main_v13277 main_v13286
  let main_v13288 : FVec F S1x256x256 .f32 := select main_v13287 main_v13275 main_v13284
  let main_v13289 : FVec F S1x1x256 .f32 := (extractStridedSlice S1x1x256 ![0, 179, 0] · slices_S1x256x256_S1x1x256_0_179_0) main_v13288
  let main_v13290 : FVec F S1x256x1 .f32 := (extractStridedSlice S1x256x1 ![0, 0, 179] · slices_S1x256x256_S1x256x1_0_0_179) main_v13288
  let main_v13291 : FVec F S1x1x1 .f32 := (extractStridedSlice S1x1x1 ![0, 0, 179] · slices_S1x1x256_S1x1x1_0_0_179) main_v13289
  let main_v13292 : FVec F S1x256x1 .f32 := broadcastInDim S1x256x1 ![0, 1, 2] bcast_S1x1x1_S1x256x1_0_1_2 main_v13291
  let main_v13293 : FVec F S1x256x1 .f32 := Host.divf main_v13290 main_v13292
  let main_v13294 : FVec F S1x256x256 .f32 := broadcastInDim S1x256x256 ![0, 1, 2] bcast_S1x256x1_S1x256x256_0_1_2 main_v13293
  let main_c_2098 : IVec S_ 32 := constantI S_ 32 179#32
  let main_v13295 : IVec S1x256x256 32 := broadcastInDim S1x256x256 ![] bcast_S_S1x256x256 main_c_2098
  let main_v13296 : IVec S1x256x256 1 := cmpi .sgt main_v9886 main_v13295
  let main_c_2099 : IVec S_ 32 := constantI S_ 32 179#32
  let main_v13297 : IVec S1x256x256 32 := broadcastInDim S1x256x256 ![] bcast_S_S1x256x256 main_c_2099
  let main_v13298 : IVec S1x256x256 1 := cmpi .sgt main_v9887 main_v13297
  let main_v13299 : IVec S1x256x256 1 := andi main_v13296 main_v13298
  let main_v13300 : FVec F S1x256x256 .f32 := broadcastInDim S1x256x256 ![0, 1, 2] bcast_S1x1x256_S1x256x256_0_1_2 main_v13289
  let main_v13301 : FVec F S1x256x256 .f32 := mulf main_v13294 main_v13300
  let main_v13302 : FVec F S1x256x256 .f32 := subf main_v13288 main_v13301
  let main_v13303 : FVec F S1x256x256 .f32 := select main_v13299 main_v13302 main_v13288
  let main_c_2100 : IVec S_ 32 := constantI S_ 32 179#32
  let main_v13304 : IVec S1x256x256 32 := broadcastInDim S1x256x256 ![] bcast_S_S1x256x256 main_c_2100
  let main_v13305 : IVec S1x256x256 1 := cmpi .eq main_v9887 main_v13304
  fn_part642 (F := F) main_arg0 main_v4875 main_v9852 main_v9886 main_v9887 main_v13294 main_v13296 main_v13303 main_v13305

def fn_part640 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13250 : FVec F S1x256x256 .f32) (main_v13256 : FVec F S1x256x256 .f32) (main_v13258 : IVec S1x256x256 1) (main_v13261 : IVec S1x256x256 1) (main_v13264 : FVec F S1x256x256 .f32) : IVec S9x256x256 1 × IVec S8x256x256 1 :=
  let main_v13265 : FVec F S1x256x256 .f32 := select main_v13261 main_v13264 main_v13250
  let main_c_2094 : IVec S_ 32 := constantI S_ 32 177#32
  let main_v13266 : IVec S1x256x256 32 := broadcastInDim S1x256x256 ![] bcast_S_S1x256x256 main_c_2094
  let main_v13267 : IVec S1x256x256 1 := cmpi .eq main_v9887 main_v13266
  let main_v13268 : IVec S1x256x256 1 := andi main_v13258 main_v13267
  let main_v13269 : FVec F S1x256x256 .f32 := select main_v13268 main_v13256 main_v13265
  let main_v13270 : FVec F S1x1x256 .f32 := (extractStridedSlice S1x1x256 ![0, 178, 0] · slices_S1x256x256_S1x1x256_0_178_0) main_v13269
  let main_v13271 : FVec F S1x256x1 .f32 := (extractStridedSlice S1x256x1 ![0, 0, 178] · slices_S1x256x256_S1x256x1_0_0_178) main_v13269
  let main_v13272 : FVec F S1x1x1 .f32 := (extractStridedSlice S1x1x1 ![0, 0, 178] · slices_S1x1x256_S1x1x1_0_0_178) main_v13270
  let main_v13273 : FVec F S1x256x1 .f32 := broadcastInDim S1x256x1 ![0, 1, 2] bcast_S1x1x1_S1x256x1_0_1_2 main_v13272
  let main_v13274 : FVec F S1x256x1 .f32 := Host.divf main_v13271 main_v13273
  let main_v13275 : FVec F S1x256x256 .f32 := broadcastInDim S1x256x256 ![0, 1, 2] bcast_S1x256x1_S1x256x256_0_1_2 main_v13274
  let main_c_2095 : IVec S_ 32 := constantI S_ 32 178#32
  let main_v13276 : IVec S1x256x256 32 := broadcastInDim S1x256x256 ![] bcast_S_S1x256x256 main_c_2095
  let main_v13277 : IVec S1x256x256 1 := cmpi .sgt main_v9886 main_v13276
  let main_c_2096 : IVec S_ 32 := constantI S_ 32 178#32
  let main_v13278 : IVec S1x256x256 32 := broadcastInDim S1x256x256 ![] bcast_S_S1x256x256 main_c_2096
  let main_v13279 : IVec S1x256x256 1 := cmpi .sgt main_v9887 main_v13278
  let main_v13280 : IVec S1x256x256 1 := andi main_v13277 main_v13279
  let main_v13281 : FVec F S1x256x256 .f32 := broadcastInDim S1x256x256 ![0, 1, 2] bcast_S1x1x256_S1x256x256_0_1_2 main_v13270
  let main_v13282 : FVec F S1x256x256 .f32 := mulf main_v13275 main_v13281
  let main_v13283 : FVec F S1x256x256 .f32 := subf main_v13269 main_v13282
  let main_v13284 : FVec F S1x256x256 .f32 := select main_v13280 main_v13283 main_v13269
  let main_c_2097 : IVec S_ 32 := constantI S_ 32 178#32
  fn_part641 (F := F) main_arg0 main_v4875 main_v9852 main_v9886 main_v9887 main_v13275 main_v13277 main_v13284 main_c_2097

def fn_part639 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13231 : FVec F S1x256x256 .f32) (main_v13237 : FVec F S1x256x256 .f32) (main_v13239 : IVec S1x256x256 1) (main_v13242 : IVec S1x256x256 1) (main_v13243 : FVec F S1x256x256 .f32) : IVec S9x256x256 1 × IVec S8x256x256 1 :=
  let main_v13244 : FVec F S1x256x256 .f32 := mulf main_v13237 main_v13243
  let main_v13245 : FVec F S1x256x256 .f32 := subf main_v13231 main_v13244
  let main_v13246 : FVec F S1x256x256 .f32 := select main_v13242 main_v13245 main_v13231
  let main_c_2091 : IVec S_ 32 := constantI S_ 32 176#32
  let main_v13247 : IVec S1x256x256 32 := broadcastInDim S1x256x256 ![] bcast_S_S1x256x256 main_c_2091
  let main_v13248 : IVec S1x256x256 1 := cmpi .eq main_v9887 main_v13247
  let main_v13249 : IVec S1x256x256 1 := andi main_v13239 main_v13248
  let main_v13250 : FVec F S1x256x256 .f32 := select main_v13249 main_v13237 main_v13246
  let main_v13251 : FVec F S1x1x256 .f32 := (extractStridedSlice S1x1x256 ![0, 177, 0] · slices_S1x256x256_S1x1x256_0_177_0) main_v13250
  let main_v13252 : FVec F S1x256x1 .f32 := (extractStridedSlice S1x256x1 ![0, 0, 177] · slices_S1x256x256_S1x256x1_0_0_177) main_v13250
  let main_v13253 : FVec F S1x1x1 .f32 := (extractStridedSlice S1x1x1 ![0, 0, 177] · slices_S1x1x256_S1x1x1_0_0_177) main_v13251
  let main_v13254 : FVec F S1x256x1 .f32 := broadcastInDim S1x256x1 ![0, 1, 2] bcast_S1x1x1_S1x256x1_0_1_2 main_v13253
  let main_v13255 : FVec F S1x256x1 .f32 := Host.divf main_v13252 main_v13254
  let main_v13256 : FVec F S1x256x256 .f32 := broadcastInDim S1x256x256 ![0, 1, 2] bcast_S1x256x1_S1x256x256_0_1_2 main_v13255
  let main_c_2092 : IVec S_ 32 := constantI S_ 32 177#32
  let main_v13257 : IVec S1x256x256 32 := broadcastInDim S1x256x256 ![] bcast_S_S1x256x256 main_c_2092
  let main_v13258 : IVec S1x256x256 1 := cmpi .sgt main_v9886 main_v13257
  let main_c_2093 : IVec S_ 32 := constantI S_ 32 177#32
  let main_v13259 : IVec S1x256x256 32 := broadcastInDim S1x256x256 ![] bcast_S_S1x256x256 main_c_2093
  let main_v13260 : IVec S1x256x256 1 := cmpi .sgt main_v9887 main_v13259
  let main_v13261 : IVec S1x256x256 1 := andi main_v13258 main_v13260
  let main_v13262 : FVec F S1x256x256 .f32 := broadcastInDim S1x256x256 ![0, 1, 2] bcast_S1x1x256_S1x256x256_0_1_2 main_v13251
  let main_v13263 : FVec F S1x256x256 .f32 := mulf main_v13256 main_v13262
  let main_v13264 : FVec F S1x256x256 .f32 := subf main_v13250 main_v13263
  fn_part640 (F := F) main_arg0 main_v4875 main_v9852 main_v9886 main_v9887 main_v13250 main_v13256 main_v13258 main_v13261 main_v13264

def fn_part638 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13212 : FVec F S1x256x256 .f32) (main_v13213 : FVec F S1x1x256 .f32) (main_v13218 : FVec F S1x256x256 .f32) (main_v13220 : IVec S1x256x256 1) (main_v13222 : IVec S1x256x256 1) : IVec S9x256x256 1 × IVec S8x256x256 1 :=
  let main_v13223 : IVec S1x256x256 1 := andi main_v13220 main_v13222
  let main_v13224 : FVec F S1x256x256 .f32 := broadcastInDim S1x256x256 ![0, 1, 2] bcast_S1x1x256_S1x256x256_0_1_2 main_v13213
  let main_v13225 : FVec F S1x256x256 .f32 := mulf main_v13218 main_v13224
  let main_v13226 : FVec F S1x256x256 .f32 := subf main_v13212 main_v13225
  let main_v13227 : FVec F S1x256x256 .f32 := select main_v13223 main_v13226 main_v13212
  let main_c_2088 : IVec S_ 32 := constantI S_ 32 175#32
  let main_v13228 : IVec S1x256x256 32 := broadcastInDim S1x256x256 ![] bcast_S_S1x256x256 main_c_2088
  let main_v13229 : IVec S1x256x256 1 := cmpi .eq main_v9887 main_v13228
  let main_v13230 : IVec S1x256x256 1 := andi main_v13220 main_v13229
  let main_v13231 : FVec F S1x256x256 .f32 := select main_v13230 main_v13218 main_v13227
  let main_v13232 : FVec F S1x1x256 .f32 := (extractStridedSlice S1x1x256 ![0, 176, 0] · slices_S1x256x256_S1x1x256_0_176_0) main_v13231
  let main_v13233 : FVec F S1x256x1 .f32 := (extractStridedSlice S1x256x1 ![0, 0, 176] · slices_S1x256x256_S1x256x1_0_0_176) main_v13231
  let main_v13234 : FVec F S1x1x1 .f32 := (extractStridedSlice S1x1x1 ![0, 0, 176] · slices_S1x1x256_S1x1x1_0_0_176) main_v13232
  let main_v13235 : FVec F S1x256x1 .f32 := broadcastInDim S1x256x1 ![0, 1, 2] bcast_S1x1x1_S1x256x1_0_1_2 main_v13234
  let main_v13236 : FVec F S1x256x1 .f32 := Host.divf main_v13233 main_v13235
  let main_v13237 : FVec F S1x256x256 .f32 := broadcastInDim S1x256x256 ![0, 1, 2] bcast_S1x256x1_S1x256x256_0_1_2 main_v13236
  let main_c_2089 : IVec S_ 32 := constantI S_ 32 176#32
  let main_v13238 : IVec S1x256x256 32 := broadcastInDim S1x256x256 ![] bcast_S_S1x256x256 main_c_2089
  let main_v13239 : IVec S1x256x256 1 := cmpi .sgt main_v9886 main_v13238
  let main_c_2090 : IVec S_ 32 := constantI S_ 32 176#32
  let main_v13240 : IVec S1x256x256 32 := broadcastInDim S1x256x256 ![] bcast_S_S1x256x256 main_c_2090
  let main_v13241 : IVec S1x256x256 1 := cmpi .sgt main_v9887 main_v13240
  let main_v13242 : IVec S1x256x256 1 := andi main_v13239 main_v13241
  let main_v13243 : FVec F S1x256x256 .f32 := broadcastInDim S1x256x256 ![0, 1, 2] bcast_S1x1x256_S1x256x256_0_1_2 main_v13232
  fn_part639 (F := F) main_arg0 main_v4875 main_v9852 main_v9886 main_v9887 main_v13231 main_v13237 main_v13239 main_v13242 main_v13243

def fn_part637 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13193 : FVec F S1x256x256 .f32) (main_v13194 : FVec F S1x1x256 .f32) (main_v13199 : FVec F S1x256x256 .f32) (main_v13201 : IVec S1x256x256 1) (main_c_2084 : IVec S_ 32) : IVec S9x256x256 1 × IVec S8x256x256 1 :=
  let main_v13202 : IVec S1x256x256 32 := broadcastInDim S1x256x256 ![] bcast_S_S1x256x256 main_c_2084
  let main_v13203 : IVec S1x256x256 1 := cmpi .sgt main_v9887 main_v13202
  let main_v13204 : IVec S1x256x256 1 := andi main_v13201 main_v13203
  let main_v13205 : FVec F S1x256x256 .f32 := broadcastInDim S1x256x256 ![0, 1, 2] bcast_S1x1x256_S1x256x256_0_1_2 main_v13194
  let main_v13206 : FVec F S1x256x256 .f32 := mulf main_v13199 main_v13205
  let main_v13207 : FVec F S1x256x256 .f32 := subf main_v13193 main_v13206
  let main_v13208 : FVec F S1x256x256 .f32 := select main_v13204 main_v13207 main_v13193
  let main_c_2085 : IVec S_ 32 := constantI S_ 32 174#32
  let main_v13209 : IVec S1x256x256 32 := broadcastInDim S1x256x256 ![] bcast_S_S1x256x256 main_c_2085
  let main_v13210 : IVec S1x256x256 1 := cmpi .eq main_v9887 main_v13209
  let main_v13211 : IVec S1x256x256 1 := andi main_v13201 main_v13210
  let main_v13212 : FVec F S1x256x256 .f32 := select main_v13211 main_v13199 main_v13208
  let main_v13213 : FVec F S1x1x256 .f32 := (extractStridedSlice S1x1x256 ![0, 175, 0] · slices_S1x256x256_S1x1x256_0_175_0) main_v13212
  let main_v13214 : FVec F S1x256x1 .f32 := (extractStridedSlice S1x256x1 ![0, 0, 175] · slices_S1x256x256_S1x256x1_0_0_175) main_v13212
  let main_v13215 : FVec F S1x1x1 .f32 := (extractStridedSlice S1x1x1 ![0, 0, 175] · slices_S1x1x256_S1x1x1_0_0_175) main_v13213
  let main_v13216 : FVec F S1x256x1 .f32 := broadcastInDim S1x256x1 ![0, 1, 2] bcast_S1x1x1_S1x256x1_0_1_2 main_v13215
  let main_v13217 : FVec F S1x256x1 .f32 := Host.divf main_v13214 main_v13216
  let main_v13218 : FVec F S1x256x256 .f32 := broadcastInDim S1x256x256 ![0, 1, 2] bcast_S1x256x1_S1x256x256_0_1_2 main_v13217
  let main_c_2086 : IVec S_ 32 := constantI S_ 32 175#32
  let main_v13219 : IVec S1x256x256 32 := broadcastInDim S1x256x256 ![] bcast_S_S1x256x256 main_c_2086
  let main_v13220 : IVec S1x256x256 1 := cmpi .sgt main_v9886 main_v13219
  let main_c_2087 : IVec S_ 32 := constantI S_ 32 175#32
  let main_v13221 : IVec S1x256x256 32 := broadcastInDim S1x256x256 ![] bcast_S_S1x256x256 main_c_2087
  let main_v13222 : IVec S1x256x256 1 := cmpi .sgt main_v9887 main_v13221
  fn_part638 (F := F) main_arg0 main_v4875 main_v9852 main_v9886 main_v9887 main_v13212 main_v13213 main_v13218 main_v13220 main_v13222

def fn_part636 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13174 : FVec F S1x256x256 .f32) (main_v13175 : FVec F S1x1x256 .f32) (main_v13180 : FVec F S1x256x256 .f32) (main_v13181 : IVec S1x256x256 32) : IVec S9x256x256 1 × IVec S8x256x256 1 :=
  let main_v13182 : IVec S1x256x256 1 := cmpi .sgt main_v9886 main_v13181
  let main_c_2081 : IVec S_ 32 := constantI S_ 32 173#32
  let main_v13183 : IVec S1x256x256 32 := broadcastInDim S1x256x256 ![] bcast_S_S1x256x256 main_c_2081
  let main_v13184 : IVec S1x256x256 1 := cmpi .sgt main_v9887 main_v13183
  let main_v13185 : IVec S1x256x256 1 := andi main_v13182 main_v13184
  let main_v13186 : FVec F S1x256x256 .f32 := broadcastInDim S1x256x256 ![0, 1, 2] bcast_S1x1x256_S1x256x256_0_1_2 main_v13175
  let main_v13187 : FVec F S1x256x256 .f32 := mulf main_v13180 main_v13186
  let main_v13188 : FVec F S1x256x256 .f32 := subf main_v13174 main_v13187
  let main_v13189 : FVec F S1x256x256 .f32 := select main_v13185 main_v13188 main_v13174
  let main_c_2082 : IVec S_ 32 := constantI S_ 32 173#32
  let main_v13190 : IVec S1x256x256 32 := broadcastInDim S1x256x256 ![] bcast_S_S1x256x256 main_c_2082
  let main_v13191 : IVec S1x256x256 1 := cmpi .eq main_v9887 main_v13190
  let main_v13192 : IVec S1x256x256 1 := andi main_v13182 main_v13191
  let main_v13193 : FVec F S1x256x256 .f32 := select main_v13192 main_v13180 main_v13189
  let main_v13194 : FVec F S1x1x256 .f32 := (extractStridedSlice S1x1x256 ![0, 174, 0] · slices_S1x256x256_S1x1x256_0_174_0) main_v13193
  let main_v13195 : FVec F S1x256x1 .f32 := (extractStridedSlice S1x256x1 ![0, 0, 174] · slices_S1x256x256_S1x256x1_0_0_174) main_v13193
  let main_v13196 : FVec F S1x1x1 .f32 := (extractStridedSlice S1x1x1 ![0, 0, 174] · slices_S1x1x256_S1x1x1_0_0_174) main_v13194
  let main_v13197 : FVec F S1x256x1 .f32 := broadcastInDim S1x256x1 ![0, 1, 2] bcast_S1x1x1_S1x256x1_0_1_2 main_v13196
  let main_v13198 : FVec F S1x256x1 .f32 := Host.divf main_v13195 main_v13197
  let main_v13199 : FVec F S1x256x256 .f32 := broadcastInDim S1x256x256 ![0, 1, 2] bcast_S1x256x1_S1x256x256_0_1_2 main_v13198
  let main_c_2083 : IVec S_ 32 := constantI S_ 32 174#32
  let main_v13200 : IVec S1x256x256 32 := broadcastInDim S1x256x256 ![] bcast_S_S1x256x256 main_c_2083
  let main_v13201 : IVec S1x256x256 1 := cmpi .sgt main_v9886 main_v13200
  let main_c_2084 : IVec S_ 32 := constantI S_ 32 174#32
  fn_part637 (F := F) main_arg0 main_v4875 main_v9852 main_v9886 main_v9887 main_v13193 main_v13194 main_v13199 main_v13201 main_c_2084

def fn_part635 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13155 : FVec F S1x256x256 .f32) (main_v13156 : FVec F S1x1x256 .f32) (main_v13161 : FVec F S1x256x256 .f32) : IVec S9x256x256 1 × IVec S8x256x256 1 :=
  let main_c_2077 : IVec S_ 32 := constantI S_ 32 172#32
  let main_v13162 : IVec S1x256x256 32 := broadcastInDim S1x256x256 ![] bcast_S_S1x256x256 main_c_2077
  let main_v13163 : IVec S1x256x256 1 := cmpi .sgt main_v9886 main_v13162
  let main_c_2078 : IVec S_ 32 := constantI S_ 32 172#32
  let main_v13164 : IVec S1x256x256 32 := broadcastInDim S1x256x256 ![] bcast_S_S1x256x256 main_c_2078
  let main_v13165 : IVec S1x256x256 1 := cmpi .sgt main_v9887 main_v13164
  let main_v13166 : IVec S1x256x256 1 := andi main_v13163 main_v13165
  let main_v13167 : FVec F S1x256x256 .f32 := broadcastInDim S1x256x256 ![0, 1, 2] bcast_S1x1x256_S1x256x256_0_1_2 main_v13156
  let main_v13168 : FVec F S1x256x256 .f32 := mulf main_v13161 main_v13167
  let main_v13169 : FVec F S1x256x256 .f32 := subf main_v13155 main_v13168
  let main_v13170 : FVec F S1x256x256 .f32 := select main_v13166 main_v13169 main_v13155
  let main_c_2079 : IVec S_ 32 := constantI S_ 32 172#32
  let main_v13171 : IVec S1x256x256 32 := broadcastInDim S1x256x256 ![] bcast_S_S1x256x256 main_c_2079
  let main_v13172 : IVec S1x256x256 1 := cmpi .eq main_v9887 main_v13171
  let main_v13173 : IVec S1x256x256 1 := andi main_v13163 main_v13172
  let main_v13174 : FVec F S1x256x256 .f32 := select main_v13173 main_v13161 main_v13170
  let main_v13175 : FVec F S1x1x256 .f32 := (extractStridedSlice S1x1x256 ![0, 173, 0] · slices_S1x256x256_S1x1x256_0_173_0) main_v13174
  let main_v13176 : FVec F S1x256x1 .f32 := (extractStridedSlice S1x256x1 ![0, 0, 173] · slices_S1x256x256_S1x256x1_0_0_173) main_v13174
  let main_v13177 : FVec F S1x1x1 .f32 := (extractStridedSlice S1x1x1 ![0, 0, 173] · slices_S1x1x256_S1x1x1_0_0_173) main_v13175
  let main_v13178 : FVec F S1x256x1 .f32 := broadcastInDim S1x256x1 ![0, 1, 2] bcast_S1x1x1_S1x256x1_0_1_2 main_v13177
  let main_v13179 : FVec F S1x256x1 .f32 := Host.divf main_v13176 main_v13178
  let main_v13180 : FVec F S1x256x256 .f32 := broadcastInDim S1x256x256 ![0, 1, 2] bcast_S1x256x1_S1x256x256_0_1_2 main_v13179
  let main_c_2080 : IVec S_ 32 := constantI S_ 32 173#32
  let main_v13181 : IVec S1x256x256 32 := broadcastInDim S1x256x256 ![] bcast_S_S1x256x256 main_c_2080
  fn_part636 (F := F) main_arg0 main_v4875 main_v9852 main_v9886 main_v9887 main_v13174 main_v13175 main_v13180 main_v13181

def fn_part634 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13136 : FVec F S1x256x256 .f32) (main_v13137 : FVec F S1x1x256 .f32) (main_v13138 : FVec F S1x256x1 .f32) (main_v13140 : FVec F S1x256x1 .f32) : IVec S9x256x256 1 × IVec S8x256x256 1 :=
  let main_v13141 : FVec F S1x256x1 .f32 := Host.divf main_v13138 main_v13140
  let main_v13142 : FVec F S1x256x256 .f32 := broadcastInDim S1x256x256 ![0, 1, 2] bcast_S1x256x1_S1x256x256_0_1_2 main_v13141
  let main_c_2074 : IVec S_ 32 := constantI S_ 32 171#32
  let main_v13143 : IVec S1x256x256 32 := broadcastInDim S1x256x256 ![] bcast_S_S1x256x256 main_c_2074
  let main_v13144 : IVec S1x256x256 1 := cmpi .sgt main_v9886 main_v13143
  let main_c_2075 : IVec S_ 32 := constantI S_ 32 171#32
  let main_v13145 : IVec S1x256x256 32 := broadcastInDim S1x256x256 ![] bcast_S_S1x256x256 main_c_2075
  let main_v13146 : IVec S1x256x256 1 := cmpi .sgt main_v9887 main_v13145
  let main_v13147 : IVec S1x256x256 1 := andi main_v13144 main_v13146
  let main_v13148 : FVec F S1x256x256 .f32 := broadcastInDim S1x256x256 ![0, 1, 2] bcast_S1x1x256_S1x256x256_0_1_2 main_v13137
  let main_v13149 : FVec F S1x256x256 .f32 := mulf main_v13142 main_v13148
  let main_v13150 : FVec F S1x256x256 .f32 := subf main_v13136 main_v13149
  let main_v13151 : FVec F S1x256x256 .f32 := select main_v13147 main_v13150 main_v13136
  let main_c_2076 : IVec S_ 32 := constantI S_ 32 171#32
  let main_v13152 : IVec S1x256x256 32 := broadcastInDim S1x256x256 ![] bcast_S_S1x256x256 main_c_2076
  let main_v13153 : IVec S1x256x256 1 := cmpi .eq main_v9887 main_v13152
  let main_v13154 : IVec S1x256x256 1 := andi main_v13144 main_v13153
  let main_v13155 : FVec F S1x256x256 .f32 := select main_v13154 main_v13142 main_v13151
  let main_v13156 : FVec F S1x1x256 .f32 := (extractStridedSlice S1x1x256 ![0, 172, 0] · slices_S1x256x256_S1x1x256_0_172_0) main_v13155
  let main_v13157 : FVec F S1x256x1 .f32 := (extractStridedSlice S1x256x1 ![0, 0, 172] · slices_S1x256x256_S1x256x1_0_0_172) main_v13155
  let main_v13158 : FVec F S1x1x1 .f32 := (extractStridedSlice S1x1x1 ![0, 0, 172] · slices_S1x1x256_S1x1x1_0_0_172) main_v13156
  let main_v13159 : FVec F S1x256x1 .f32 := broadcastInDim S1x256x1 ![0, 1, 2] bcast_S1x1x1_S1x256x1_0_1_2 main_v13158
  let main_v13160 : FVec F S1x256x1 .f32 := Host.divf main_v13157 main_v13159
  let main_v13161 : FVec F S1x256x256 .f32 := broadcastInDim S1x256x256 ![0, 1, 2] bcast_S1x256x1_S1x256x256_0_1_2 main_v13160
  fn_part635 (F := F) main_arg0 main_v4875 main_v9852 main_v9886 main_v9887 main_v13155 main_v13156 main_v13161

def fn_part633 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13117 : FVec F S1x256x256 .f32) (main_v13118 : FVec F S1x1x256 .f32) (main_v13119 : FVec F S1x256x1 .f32) : IVec S9x256x256 1 × IVec S8x256x256 1 :=
  let main_v13120 : FVec F S1x1x1 .f32 := (extractStridedSlice S1x1x1 ![0, 0, 170] · slices_S1x1x256_S1x1x1_0_0_170) main_v13118
  let main_v13121 : FVec F S1x256x1 .f32 := broadcastInDim S1x256x1 ![0, 1, 2] bcast_S1x1x1_S1x256x1_0_1_2 main_v13120
  let main_v13122 : FVec F S1x256x1 .f32 := Host.divf main_v13119 main_v13121
  let main_v13123 : FVec F S1x256x256 .f32 := broadcastInDim S1x256x256 ![0, 1, 2] bcast_S1x256x1_S1x256x256_0_1_2 main_v13122
  let main_c_2071 : IVec S_ 32 := constantI S_ 32 170#32
  let main_v13124 : IVec S1x256x256 32 := broadcastInDim S1x256x256 ![] bcast_S_S1x256x256 main_c_2071
  let main_v13125 : IVec S1x256x256 1 := cmpi .sgt main_v9886 main_v13124
  let main_c_2072 : IVec S_ 32 := constantI S_ 32 170#32
  let main_v13126 : IVec S1x256x256 32 := broadcastInDim S1x256x256 ![] bcast_S_S1x256x256 main_c_2072
  let main_v13127 : IVec S1x256x256 1 := cmpi .sgt main_v9887 main_v13126
  let main_v13128 : IVec S1x256x256 1 := andi main_v13125 main_v13127
  let main_v13129 : FVec F S1x256x256 .f32 := broadcastInDim S1x256x256 ![0, 1, 2] bcast_S1x1x256_S1x256x256_0_1_2 main_v13118
  let main_v13130 : FVec F S1x256x256 .f32 := mulf main_v13123 main_v13129
  let main_v13131 : FVec F S1x256x256 .f32 := subf main_v13117 main_v13130
  let main_v13132 : FVec F S1x256x256 .f32 := select main_v13128 main_v13131 main_v13117
  let main_c_2073 : IVec S_ 32 := constantI S_ 32 170#32
  let main_v13133 : IVec S1x256x256 32 := broadcastInDim S1x256x256 ![] bcast_S_S1x256x256 main_c_2073
  let main_v13134 : IVec S1x256x256 1 := cmpi .eq main_v9887 main_v13133
  let main_v13135 : IVec S1x256x256 1 := andi main_v13125 main_v13134
  let main_v13136 : FVec F S1x256x256 .f32 := select main_v13135 main_v13123 main_v13132
  let main_v13137 : FVec F S1x1x256 .f32 := (extractStridedSlice S1x1x256 ![0, 171, 0] · slices_S1x256x256_S1x1x256_0_171_0) main_v13136
  let main_v13138 : FVec F S1x256x1 .f32 := (extractStridedSlice S1x256x1 ![0, 0, 171] · slices_S1x256x256_S1x256x1_0_0_171) main_v13136
  let main_v13139 : FVec F S1x1x1 .f32 := (extractStridedSlice S1x1x1 ![0, 0, 171] · slices_S1x1x256_S1x1x1_0_0_171) main_v13137
  let main_v13140 : FVec F S1x256x1 .f32 := broadcastInDim S1x256x1 ![0, 1, 2] bcast_S1x1x1_S1x256x1_0_1_2 main_v13139
  fn_part634 (F := F) main_arg0 main_v4875 main_v9852 main_v9886 main_v9887 main_v13136 main_v13137 main_v13138 main_v13140

def fn_part632 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13098 : FVec F S1x256x256 .f32) : IVec S9x256x256 1 × IVec S8x256x256 1 :=
  let main_v13099 : FVec F S1x1x256 .f32 := (extractStridedSlice S1x1x256 ![0, 169, 0] · slices_S1x256x256_S1x1x256_0_169_0) main_v13098
  let main_v13100 : FVec F S1x256x1 .f32 := (extractStridedSlice S1x256x1 ![0, 0, 169] · slices_S1x256x256_S1x256x1_0_0_169) main_v13098
  let main_v13101 : FVec F S1x1x1 .f32 := (extractStridedSlice S1x1x1 ![0, 0, 169] · slices_S1x1x256_S1x1x1_0_0_169) main_v13099
  let main_v13102 : FVec F S1x256x1 .f32 := broadcastInDim S1x256x1 ![0, 1, 2] bcast_S1x1x1_S1x256x1_0_1_2 main_v13101
  let main_v13103 : FVec F S1x256x1 .f32 := Host.divf main_v13100 main_v13102
  let main_v13104 : FVec F S1x256x256 .f32 := broadcastInDim S1x256x256 ![0, 1, 2] bcast_S1x256x1_S1x256x256_0_1_2 main_v13103
  let main_c_2068 : IVec S_ 32 := constantI S_ 32 169#32
  let main_v13105 : IVec S1x256x256 32 := broadcastInDim S1x256x256 ![] bcast_S_S1x256x256 main_c_2068
  let main_v13106 : IVec S1x256x256 1 := cmpi .sgt main_v9886 main_v13105
  let main_c_2069 : IVec S_ 32 := constantI S_ 32 169#32
  let main_v13107 : IVec S1x256x256 32 := broadcastInDim S1x256x256 ![] bcast_S_S1x256x256 main_c_2069
  let main_v13108 : IVec S1x256x256 1 := cmpi .sgt main_v9887 main_v13107
  let main_v13109 : IVec S1x256x256 1 := andi main_v13106 main_v13108
  let main_v13110 : FVec F S1x256x256 .f32 := broadcastInDim S1x256x256 ![0, 1, 2] bcast_S1x1x256_S1x256x256_0_1_2 main_v13099
  let main_v13111 : FVec F S1x256x256 .f32 := mulf main_v13104 main_v13110
  let main_v13112 : FVec F S1x256x256 .f32 := subf main_v13098 main_v13111
  let main_v13113 : FVec F S1x256x256 .f32 := select main_v13109 main_v13112 main_v13098
  let main_c_2070 : IVec S_ 32 := constantI S_ 32 169#32
  let main_v13114 : IVec S1x256x256 32 := broadcastInDim S1x256x256 ![] bcast_S_S1x256x256 main_c_2070
  let main_v13115 : IVec S1x256x256 1 := cmpi .eq main_v9887 main_v13114
  let main_v13116 : IVec S1x256x256 1 := andi main_v13106 main_v13115
  let main_v13117 : FVec F S1x256x256 .f32 := select main_v13116 main_v13104 main_v13113
  let main_v13118 : FVec F S1x1x256 .f32 := (extractStridedSlice S1x1x256 ![0, 170, 0] · slices_S1x256x256_S1x1x256_0_170_0) main_v13117
  let main_v13119 : FVec F S1x256x1 .f32 := (extractStridedSlice S1x256x1 ![0, 0, 170] · slices_S1x256x256_S1x256x1_0_0_170) main_v13117
  fn_part633 (F := F) main_arg0 main_v4875 main_v9852 main_v9886 main_v9887 main_v13117 main_v13118 main_v13119

def fn_part631 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13066 : FVec F S1x256x256 .f32) (main_v13068 : IVec S1x256x256 1) (main_v13075 : FVec F S1x256x256 .f32) (main_v13077 : IVec S1x256x256 1) : IVec S9x256x256 1 × IVec S8x256x256 1 :=
  let main_v13078 : IVec S1x256x256 1 := andi main_v13068 main_v13077
  let main_v13079 : FVec F S1x256x256 .f32 := select main_v13078 main_v13066 main_v13075
  let main_v13080 : FVec F S1x1x256 .f32 := (extractStridedSlice S1x1x256 ![0, 168, 0] · slices_S1x256x256_S1x1x256_0_168_0) main_v13079
  let main_v13081 : FVec F S1x256x1 .f32 := (extractStridedSlice S1x256x1 ![0, 0, 168] · slices_S1x256x256_S1x256x1_0_0_168) main_v13079
  let main_v13082 : FVec F S1x1x1 .f32 := (extractStridedSlice S1x1x1 ![0, 0, 168] · slices_S1x1x256_S1x1x1_0_0_168) main_v13080
  let main_v13083 : FVec F S1x256x1 .f32 := broadcastInDim S1x256x1 ![0, 1, 2] bcast_S1x1x1_S1x256x1_0_1_2 main_v13082
  let main_v13084 : FVec F S1x256x1 .f32 := Host.divf main_v13081 main_v13083
  let main_v13085 : FVec F S1x256x256 .f32 := broadcastInDim S1x256x256 ![0, 1, 2] bcast_S1x256x1_S1x256x256_0_1_2 main_v13084
  let main_c_2065 : IVec S_ 32 := constantI S_ 32 168#32
  let main_v13086 : IVec S1x256x256 32 := broadcastInDim S1x256x256 ![] bcast_S_S1x256x256 main_c_2065
  let main_v13087 : IVec S1x256x256 1 := cmpi .sgt main_v9886 main_v13086
  let main_c_2066 : IVec S_ 32 := constantI S_ 32 168#32
  let main_v13088 : IVec S1x256x256 32 := broadcastInDim S1x256x256 ![] bcast_S_S1x256x256 main_c_2066
  let main_v13089 : IVec S1x256x256 1 := cmpi .sgt main_v9887 main_v13088
  let main_v13090 : IVec S1x256x256 1 := andi main_v13087 main_v13089
  let main_v13091 : FVec F S1x256x256 .f32 := broadcastInDim S1x256x256 ![0, 1, 2] bcast_S1x1x256_S1x256x256_0_1_2 main_v13080
  let main_v13092 : FVec F S1x256x256 .f32 := mulf main_v13085 main_v13091
  let main_v13093 : FVec F S1x256x256 .f32 := subf main_v13079 main_v13092
  let main_v13094 : FVec F S1x256x256 .f32 := select main_v13090 main_v13093 main_v13079
  let main_c_2067 : IVec S_ 32 := constantI S_ 32 168#32
  let main_v13095 : IVec S1x256x256 32 := broadcastInDim S1x256x256 ![] bcast_S_S1x256x256 main_c_2067
  let main_v13096 : IVec S1x256x256 1 := cmpi .eq main_v9887 main_v13095
  let main_v13097 : IVec S1x256x256 1 := andi main_v13087 main_v13096
  let main_v13098 : FVec F S1x256x256 .f32 := select main_v13097 main_v13085 main_v13094
  fn_part632 (F := F) main_arg0 main_v4875 main_v9852 main_v9886 main_v9887 main_v13098

def fn_part630 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13047 : FVec F S1x256x256 .f32) (main_v13049 : IVec S1x256x256 1) (main_v13056 : FVec F S1x256x256 .f32) (main_c_2061 : IVec S_ 32) : IVec S9x256x256 1 × IVec S8x256x256 1 :=
  let main_v13057 : IVec S1x256x256 32 := broadcastInDim S1x256x256 ![] bcast_S_S1x256x256 main_c_2061
  let main_v13058 : IVec S1x256x256 1 := cmpi .eq main_v9887 main_v13057
  let main_v13059 : IVec S1x256x256 1 := andi main_v13049 main_v13058
  let main_v13060 : FVec F S1x256x256 .f32 := select main_v13059 main_v13047 main_v13056
  let main_v13061 : FVec F S1x1x256 .f32 := (extractStridedSlice S1x1x256 ![0, 167, 0] · slices_S1x256x256_S1x1x256_0_167_0) main_v13060
  let main_v13062 : FVec F S1x256x1 .f32 := (extractStridedSlice S1x256x1 ![0, 0, 167] · slices_S1x256x256_S1x256x1_0_0_167) main_v13060
  let main_v13063 : FVec F S1x1x1 .f32 := (extractStridedSlice S1x1x1 ![0, 0, 167] · slices_S1x1x256_S1x1x1_0_0_167) main_v13061
  let main_v13064 : FVec F S1x256x1 .f32 := broadcastInDim S1x256x1 ![0, 1, 2] bcast_S1x1x1_S1x256x1_0_1_2 main_v13063
  let main_v13065 : FVec F S1x256x1 .f32 := Host.divf main_v13062 main_v13064
  let main_v13066 : FVec F S1x256x256 .f32 := broadcastInDim S1x256x256 ![0, 1, 2] bcast_S1x256x1_S1x256x256_0_1_2 main_v13065
  let main_c_2062 : IVec S_ 32 := constantI S_ 32 167#32
  let main_v13067 : IVec S1x256x256 32 := broadcastInDim S1x256x256 ![] bcast_S_S1x256x256 main_c_2062
  let main_v13068 : IVec S1x256x256 1 := cmpi .sgt main_v9886 main_v13067
  let main_c_2063 : IVec S_ 32 := constantI S_ 32 167#32
  let main_v13069 : IVec S1x256x256 32 := broadcastInDim S1x256x256 ![] bcast_S_S1x256x256 main_c_2063
  let main_v13070 : IVec S1x256x256 1 := cmpi .sgt main_v9887 main_v13069
  let main_v13071 : IVec S1x256x256 1 := andi main_v13068 main_v13070
  let main_v13072 : FVec F S1x256x256 .f32 := broadcastInDim S1x256x256 ![0, 1, 2] bcast_S1x1x256_S1x256x256_0_1_2 main_v13061
  let main_v13073 : FVec F S1x256x256 .f32 := mulf main_v13066 main_v13072
  let main_v13074 : FVec F S1x256x256 .f32 := subf main_v13060 main_v13073
  let main_v13075 : FVec F S1x256x256 .f32 := select main_v13071 main_v13074 main_v13060
  let main_c_2064 : IVec S_ 32 := constantI S_ 32 167#32
  let main_v13076 : IVec S1x256x256 32 := broadcastInDim S1x256x256 ![] bcast_S_S1x256x256 main_c_2064
  let main_v13077 : IVec S1x256x256 1 := cmpi .eq main_v9887 main_v13076
  fn_part631 (F := F) main_arg0 main_v4875 main_v9852 main_v9886 main_v9887 main_v13066 main_v13068 main_v13075 main_v13077

def fn_part629 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13022 : FVec F S1x256x256 .f32) (main_v13028 : FVec F S1x256x256 .f32) (main_v13030 : IVec S1x256x256 1) (main_v13033 : IVec S1x256x256 1) (main_v13036 : FVec F S1x256x256 .f32) : IVec S9x256x256 1 × IVec S8x256x256 1 :=
  let main_v13037 : FVec F S1x256x256 .f32 := select main_v13033 main_v13036 main_v13022
  let main_c_2058 : IVec S_ 32 := constantI S_ 32 165#32
  let main_v13038 : IVec S1x256x256 32 := broadcastInDim S1x256x256 ![] bcast_S_S1x256x256 main_c_2058
  let main_v13039 : IVec S1x256x256 1 := cmpi .eq main_v9887 main_v13038
  let main_v13040 : IVec S1x256x256 1 := andi main_v13030 main_v13039
  let main_v13041 : FVec F S1x256x256 .f32 := select main_v13040 main_v13028 main_v13037
  let main_v13042 : FVec F S1x1x256 .f32 := (extractStridedSlice S1x1x256 ![0, 166, 0] · slices_S1x256x256_S1x1x256_0_166_0) main_v13041
  let main_v13043 : FVec F S1x256x1 .f32 := (extractStridedSlice S1x256x1 ![0, 0, 166] · slices_S1x256x256_S1x256x1_0_0_166) main_v13041
  let main_v13044 : FVec F S1x1x1 .f32 := (extractStridedSlice S1x1x1 ![0, 0, 166] · slices_S1x1x256_S1x1x1_0_0_166) main_v13042
  let main_v13045 : FVec F S1x256x1 .f32 := broadcastInDim S1x256x1 ![0, 1, 2] bcast_S1x1x1_S1x256x1_0_1_2 main_v13044
  let main_v13046 : FVec F S1x256x1 .f32 := Host.divf main_v13043 main_v13045
  let main_v13047 : FVec F S1x256x256 .f32 := broadcastInDim S1x256x256 ![0, 1, 2] bcast_S1x256x1_S1x256x256_0_1_2 main_v13046
  let main_c_2059 : IVec S_ 32 := constantI S_ 32 166#32
  let main_v13048 : IVec S1x256x256 32 := broadcastInDim S1x256x256 ![] bcast_S_S1x256x256 main_c_2059
  let main_v13049 : IVec S1x256x256 1 := cmpi .sgt main_v9886 main_v13048
  let main_c_2060 : IVec S_ 32 := constantI S_ 32 166#32
  let main_v13050 : IVec S1x256x256 32 := broadcastInDim S1x256x256 ![] bcast_S_S1x256x256 main_c_2060
  let main_v13051 : IVec S1x256x256 1 := cmpi .sgt main_v9887 main_v13050
  let main_v13052 : IVec S1x256x256 1 := andi main_v13049 main_v13051
  let main_v13053 : FVec F S1x256x256 .f32 := broadcastInDim S1x256x256 ![0, 1, 2] bcast_S1x1x256_S1x256x256_0_1_2 main_v13042
  let main_v13054 : FVec F S1x256x256 .f32 := mulf main_v13047 main_v13053
  let main_v13055 : FVec F S1x256x256 .f32 := subf main_v13041 main_v13054
  let main_v13056 : FVec F S1x256x256 .f32 := select main_v13052 main_v13055 main_v13041
  let main_c_2061 : IVec S_ 32 := constantI S_ 32 166#32
  fn_part630 (F := F) main_arg0 main_v4875 main_v9852 main_v9886 main_v9887 main_v13047 main_v13049 main_v13056 main_c_2061

def fn_part628 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v13003 : FVec F S1x256x256 .f32) (main_v13009 : FVec F S1x256x256 .f32) (main_v13011 : IVec S1x256x256 1) (main_v13014 : IVec S1x256x256 1) (main_v13015 : FVec F S1x256x256 .f32) : IVec S9x256x256 1 × IVec S8x256x256 1 :=
  let main_v13016 : FVec F S1x256x256 .f32 := mulf main_v13009 main_v13015
  let main_v13017 : FVec F S1x256x256 .f32 := subf main_v13003 main_v13016
  let main_v13018 : FVec F S1x256x256 .f32 := select main_v13014 main_v13017 main_v13003
  let main_c_2055 : IVec S_ 32 := constantI S_ 32 164#32
  let main_v13019 : IVec S1x256x256 32 := broadcastInDim S1x256x256 ![] bcast_S_S1x256x256 main_c_2055
  let main_v13020 : IVec S1x256x256 1 := cmpi .eq main_v9887 main_v13019
  let main_v13021 : IVec S1x256x256 1 := andi main_v13011 main_v13020
  let main_v13022 : FVec F S1x256x256 .f32 := select main_v13021 main_v13009 main_v13018
  let main_v13023 : FVec F S1x1x256 .f32 := (extractStridedSlice S1x1x256 ![0, 165, 0] · slices_S1x256x256_S1x1x256_0_165_0) main_v13022
  let main_v13024 : FVec F S1x256x1 .f32 := (extractStridedSlice S1x256x1 ![0, 0, 165] · slices_S1x256x256_S1x256x1_0_0_165) main_v13022
  let main_v13025 : FVec F S1x1x1 .f32 := (extractStridedSlice S1x1x1 ![0, 0, 165] · slices_S1x1x256_S1x1x1_0_0_165) main_v13023
  let main_v13026 : FVec F S1x256x1 .f32 := broadcastInDim S1x256x1 ![0, 1, 2] bcast_S1x1x1_S1x256x1_0_1_2 main_v13025
  let main_v13027 : FVec F S1x256x1 .f32 := Host.divf main_v13024 main_v13026
  let main_v13028 : FVec F S1x256x256 .f32 := broadcastInDim S1x256x256 ![0, 1, 2] bcast_S1x256x1_S1x256x256_0_1_2 main_v13027
  let main_c_2056 : IVec S_ 32 := constantI S_ 32 165#32
  let main_v13029 : IVec S1x256x256 32 := broadcastInDim S1x256x256 ![] bcast_S_S1x256x256 main_c_2056
  let main_v13030 : IVec S1x256x256 1 := cmpi .sgt main_v9886 main_v13029
  let main_c_2057 : IVec S_ 32 := constantI S_ 32 165#32
  let main_v13031 : IVec S1x256x256 32 := broadcastInDim S1x256x256 ![] bcast_S_S1x256x256 main_c_2057
  let main_v13032 : IVec S1x256x256 1 := cmpi .sgt main_v9887 main_v13031
  let main_v13033 : IVec S1x256x256 1 := andi main_v13030 main_v13032
  let main_v13034 : FVec F S1x256x256 .f32 := broadcastInDim S1x256x256 ![0, 1, 2] bcast_S1x1x256_S1x256x256_0_1_2 main_v13023
  let main_v13035 : FVec F S1x256x256 .f32 := mulf main_v13028 main_v13034
  let main_v13036 : FVec F S1x256x256 .f32 := subf main_v13022 main_v13035
  fn_part629 (F := F) main_arg0 main_v4875 main_v9852 main_v9886 main_v9887 main_v13022 main_v13028 main_v13030 main_v13033 main_v13036

def fn_part627 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12984 : FVec F S1x256x256 .f32) (main_v12985 : FVec F S1x1x256 .f32) (main_v12990 : FVec F S1x256x256 .f32) (main_v12992 : IVec S1x256x256 1) (main_v12994 : IVec S1x256x256 1) : IVec S9x256x256 1 × IVec S8x256x256 1 :=
  let main_v12995 : IVec S1x256x256 1 := andi main_v12992 main_v12994
  let main_v12996 : FVec F S1x256x256 .f32 := broadcastInDim S1x256x256 ![0, 1, 2] bcast_S1x1x256_S1x256x256_0_1_2 main_v12985
  let main_v12997 : FVec F S1x256x256 .f32 := mulf main_v12990 main_v12996
  let main_v12998 : FVec F S1x256x256 .f32 := subf main_v12984 main_v12997
  let main_v12999 : FVec F S1x256x256 .f32 := select main_v12995 main_v12998 main_v12984
  let main_c_2052 : IVec S_ 32 := constantI S_ 32 163#32
  let main_v13000 : IVec S1x256x256 32 := broadcastInDim S1x256x256 ![] bcast_S_S1x256x256 main_c_2052
  let main_v13001 : IVec S1x256x256 1 := cmpi .eq main_v9887 main_v13000
  let main_v13002 : IVec S1x256x256 1 := andi main_v12992 main_v13001
  let main_v13003 : FVec F S1x256x256 .f32 := select main_v13002 main_v12990 main_v12999
  let main_v13004 : FVec F S1x1x256 .f32 := (extractStridedSlice S1x1x256 ![0, 164, 0] · slices_S1x256x256_S1x1x256_0_164_0) main_v13003
  let main_v13005 : FVec F S1x256x1 .f32 := (extractStridedSlice S1x256x1 ![0, 0, 164] · slices_S1x256x256_S1x256x1_0_0_164) main_v13003
  let main_v13006 : FVec F S1x1x1 .f32 := (extractStridedSlice S1x1x1 ![0, 0, 164] · slices_S1x1x256_S1x1x1_0_0_164) main_v13004
  let main_v13007 : FVec F S1x256x1 .f32 := broadcastInDim S1x256x1 ![0, 1, 2] bcast_S1x1x1_S1x256x1_0_1_2 main_v13006
  let main_v13008 : FVec F S1x256x1 .f32 := Host.divf main_v13005 main_v13007
  let main_v13009 : FVec F S1x256x256 .f32 := broadcastInDim S1x256x256 ![0, 1, 2] bcast_S1x256x1_S1x256x256_0_1_2 main_v13008
  let main_c_2053 : IVec S_ 32 := constantI S_ 32 164#32
  let main_v13010 : IVec S1x256x256 32 := broadcastInDim S1x256x256 ![] bcast_S_S1x256x256 main_c_2053
  let main_v13011 : IVec S1x256x256 1 := cmpi .sgt main_v9886 main_v13010
  let main_c_2054 : IVec S_ 32 := constantI S_ 32 164#32
  let main_v13012 : IVec S1x256x256 32 := broadcastInDim S1x256x256 ![] bcast_S_S1x256x256 main_c_2054
  let main_v13013 : IVec S1x256x256 1 := cmpi .sgt main_v9887 main_v13012
  let main_v13014 : IVec S1x256x256 1 := andi main_v13011 main_v13013
  let main_v13015 : FVec F S1x256x256 .f32 := broadcastInDim S1x256x256 ![0, 1, 2] bcast_S1x1x256_S1x256x256_0_1_2 main_v13004
  fn_part628 (F := F) main_arg0 main_v4875 main_v9852 main_v9886 main_v9887 main_v13003 main_v13009 main_v13011 main_v13014 main_v13015

def fn_part626 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12965 : FVec F S1x256x256 .f32) (main_v12966 : FVec F S1x1x256 .f32) (main_v12971 : FVec F S1x256x256 .f32) (main_v12973 : IVec S1x256x256 1) (main_c_2048 : IVec S_ 32) : IVec S9x256x256 1 × IVec S8x256x256 1 :=
  let main_v12974 : IVec S1x256x256 32 := broadcastInDim S1x256x256 ![] bcast_S_S1x256x256 main_c_2048
  let main_v12975 : IVec S1x256x256 1 := cmpi .sgt main_v9887 main_v12974
  let main_v12976 : IVec S1x256x256 1 := andi main_v12973 main_v12975
  let main_v12977 : FVec F S1x256x256 .f32 := broadcastInDim S1x256x256 ![0, 1, 2] bcast_S1x1x256_S1x256x256_0_1_2 main_v12966
  let main_v12978 : FVec F S1x256x256 .f32 := mulf main_v12971 main_v12977
  let main_v12979 : FVec F S1x256x256 .f32 := subf main_v12965 main_v12978
  let main_v12980 : FVec F S1x256x256 .f32 := select main_v12976 main_v12979 main_v12965
  let main_c_2049 : IVec S_ 32 := constantI S_ 32 162#32
  let main_v12981 : IVec S1x256x256 32 := broadcastInDim S1x256x256 ![] bcast_S_S1x256x256 main_c_2049
  let main_v12982 : IVec S1x256x256 1 := cmpi .eq main_v9887 main_v12981
  let main_v12983 : IVec S1x256x256 1 := andi main_v12973 main_v12982
  let main_v12984 : FVec F S1x256x256 .f32 := select main_v12983 main_v12971 main_v12980
  let main_v12985 : FVec F S1x1x256 .f32 := (extractStridedSlice S1x1x256 ![0, 163, 0] · slices_S1x256x256_S1x1x256_0_163_0) main_v12984
  let main_v12986 : FVec F S1x256x1 .f32 := (extractStridedSlice S1x256x1 ![0, 0, 163] · slices_S1x256x256_S1x256x1_0_0_163) main_v12984
  let main_v12987 : FVec F S1x1x1 .f32 := (extractStridedSlice S1x1x1 ![0, 0, 163] · slices_S1x1x256_S1x1x1_0_0_163) main_v12985
  let main_v12988 : FVec F S1x256x1 .f32 := broadcastInDim S1x256x1 ![0, 1, 2] bcast_S1x1x1_S1x256x1_0_1_2 main_v12987
  let main_v12989 : FVec F S1x256x1 .f32 := Host.divf main_v12986 main_v12988
  let main_v12990 : FVec F S1x256x256 .f32 := broadcastInDim S1x256x256 ![0, 1, 2] bcast_S1x256x1_S1x256x256_0_1_2 main_v12989
  let main_c_2050 : IVec S_ 32 := constantI S_ 32 163#32
  let main_v12991 : IVec S1x256x256 32 := broadcastInDim S1x256x256 ![] bcast_S_S1x256x256 main_c_2050
  let main_v12992 : IVec S1x256x256 1 := cmpi .sgt main_v9886 main_v12991
  let main_c_2051 : IVec S_ 32 := constantI S_ 32 163#32
  let main_v12993 : IVec S1x256x256 32 := broadcastInDim S1x256x256 ![] bcast_S_S1x256x256 main_c_2051
  let main_v12994 : IVec S1x256x256 1 := cmpi .sgt main_v9887 main_v12993
  fn_part627 (F := F) main_arg0 main_v4875 main_v9852 main_v9886 main_v9887 main_v12984 main_v12985 main_v12990 main_v12992 main_v12994

def fn_part625 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12946 : FVec F S1x256x256 .f32) (main_v12947 : FVec F S1x1x256 .f32) (main_v12952 : FVec F S1x256x256 .f32) (main_v12953 : IVec S1x256x256 32) : IVec S9x256x256 1 × IVec S8x256x256 1 :=
  let main_v12954 : IVec S1x256x256 1 := cmpi .sgt main_v9886 main_v12953
  let main_c_2045 : IVec S_ 32 := constantI S_ 32 161#32
  let main_v12955 : IVec S1x256x256 32 := broadcastInDim S1x256x256 ![] bcast_S_S1x256x256 main_c_2045
  let main_v12956 : IVec S1x256x256 1 := cmpi .sgt main_v9887 main_v12955
  let main_v12957 : IVec S1x256x256 1 := andi main_v12954 main_v12956
  let main_v12958 : FVec F S1x256x256 .f32 := broadcastInDim S1x256x256 ![0, 1, 2] bcast_S1x1x256_S1x256x256_0_1_2 main_v12947
  let main_v12959 : FVec F S1x256x256 .f32 := mulf main_v12952 main_v12958
  let main_v12960 : FVec F S1x256x256 .f32 := subf main_v12946 main_v12959
  let main_v12961 : FVec F S1x256x256 .f32 := select main_v12957 main_v12960 main_v12946
  let main_c_2046 : IVec S_ 32 := constantI S_ 32 161#32
  let main_v12962 : IVec S1x256x256 32 := broadcastInDim S1x256x256 ![] bcast_S_S1x256x256 main_c_2046
  let main_v12963 : IVec S1x256x256 1 := cmpi .eq main_v9887 main_v12962
  let main_v12964 : IVec S1x256x256 1 := andi main_v12954 main_v12963
  let main_v12965 : FVec F S1x256x256 .f32 := select main_v12964 main_v12952 main_v12961
  let main_v12966 : FVec F S1x1x256 .f32 := (extractStridedSlice S1x1x256 ![0, 162, 0] · slices_S1x256x256_S1x1x256_0_162_0) main_v12965
  let main_v12967 : FVec F S1x256x1 .f32 := (extractStridedSlice S1x256x1 ![0, 0, 162] · slices_S1x256x256_S1x256x1_0_0_162) main_v12965
  let main_v12968 : FVec F S1x1x1 .f32 := (extractStridedSlice S1x1x1 ![0, 0, 162] · slices_S1x1x256_S1x1x1_0_0_162) main_v12966
  let main_v12969 : FVec F S1x256x1 .f32 := broadcastInDim S1x256x1 ![0, 1, 2] bcast_S1x1x1_S1x256x1_0_1_2 main_v12968
  let main_v12970 : FVec F S1x256x1 .f32 := Host.divf main_v12967 main_v12969
  let main_v12971 : FVec F S1x256x256 .f32 := broadcastInDim S1x256x256 ![0, 1, 2] bcast_S1x256x1_S1x256x256_0_1_2 main_v12970
  let main_c_2047 : IVec S_ 32 := constantI S_ 32 162#32
  let main_v12972 : IVec S1x256x256 32 := broadcastInDim S1x256x256 ![] bcast_S_S1x256x256 main_c_2047
  let main_v12973 : IVec S1x256x256 1 := cmpi .sgt main_v9886 main_v12972
  let main_c_2048 : IVec S_ 32 := constantI S_ 32 162#32
  fn_part626 (F := F) main_arg0 main_v4875 main_v9852 main_v9886 main_v9887 main_v12965 main_v12966 main_v12971 main_v12973 main_c_2048

def fn_part624 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12927 : FVec F S1x256x256 .f32) (main_v12928 : FVec F S1x1x256 .f32) (main_v12933 : FVec F S1x256x256 .f32) : IVec S9x256x256 1 × IVec S8x256x256 1 :=
  let main_c_2041 : IVec S_ 32 := constantI S_ 32 160#32
  let main_v12934 : IVec S1x256x256 32 := broadcastInDim S1x256x256 ![] bcast_S_S1x256x256 main_c_2041
  let main_v12935 : IVec S1x256x256 1 := cmpi .sgt main_v9886 main_v12934
  let main_c_2042 : IVec S_ 32 := constantI S_ 32 160#32
  let main_v12936 : IVec S1x256x256 32 := broadcastInDim S1x256x256 ![] bcast_S_S1x256x256 main_c_2042
  let main_v12937 : IVec S1x256x256 1 := cmpi .sgt main_v9887 main_v12936
  let main_v12938 : IVec S1x256x256 1 := andi main_v12935 main_v12937
  let main_v12939 : FVec F S1x256x256 .f32 := broadcastInDim S1x256x256 ![0, 1, 2] bcast_S1x1x256_S1x256x256_0_1_2 main_v12928
  let main_v12940 : FVec F S1x256x256 .f32 := mulf main_v12933 main_v12939
  let main_v12941 : FVec F S1x256x256 .f32 := subf main_v12927 main_v12940
  let main_v12942 : FVec F S1x256x256 .f32 := select main_v12938 main_v12941 main_v12927
  let main_c_2043 : IVec S_ 32 := constantI S_ 32 160#32
  let main_v12943 : IVec S1x256x256 32 := broadcastInDim S1x256x256 ![] bcast_S_S1x256x256 main_c_2043
  let main_v12944 : IVec S1x256x256 1 := cmpi .eq main_v9887 main_v12943
  let main_v12945 : IVec S1x256x256 1 := andi main_v12935 main_v12944
  let main_v12946 : FVec F S1x256x256 .f32 := select main_v12945 main_v12933 main_v12942
  let main_v12947 : FVec F S1x1x256 .f32 := (extractStridedSlice S1x1x256 ![0, 161, 0] · slices_S1x256x256_S1x1x256_0_161_0) main_v12946
  let main_v12948 : FVec F S1x256x1 .f32 := (extractStridedSlice S1x256x1 ![0, 0, 161] · slices_S1x256x256_S1x256x1_0_0_161) main_v12946
  let main_v12949 : FVec F S1x1x1 .f32 := (extractStridedSlice S1x1x1 ![0, 0, 161] · slices_S1x1x256_S1x1x1_0_0_161) main_v12947
  let main_v12950 : FVec F S1x256x1 .f32 := broadcastInDim S1x256x1 ![0, 1, 2] bcast_S1x1x1_S1x256x1_0_1_2 main_v12949
  let main_v12951 : FVec F S1x256x1 .f32 := Host.divf main_v12948 main_v12950
  let main_v12952 : FVec F S1x256x256 .f32 := broadcastInDim S1x256x256 ![0, 1, 2] bcast_S1x256x1_S1x256x256_0_1_2 main_v12951
  let main_c_2044 : IVec S_ 32 := constantI S_ 32 161#32
  let main_v12953 : IVec S1x256x256 32 := broadcastInDim S1x256x256 ![] bcast_S_S1x256x256 main_c_2044
  fn_part625 (F := F) main_arg0 main_v4875 main_v9852 main_v9886 main_v9887 main_v12946 main_v12947 main_v12952 main_v12953

def fn_part623 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12908 : FVec F S1x256x256 .f32) (main_v12909 : FVec F S1x1x256 .f32) (main_v12910 : FVec F S1x256x1 .f32) (main_v12912 : FVec F S1x256x1 .f32) : IVec S9x256x256 1 × IVec S8x256x256 1 :=
  let main_v12913 : FVec F S1x256x1 .f32 := Host.divf main_v12910 main_v12912
  let main_v12914 : FVec F S1x256x256 .f32 := broadcastInDim S1x256x256 ![0, 1, 2] bcast_S1x256x1_S1x256x256_0_1_2 main_v12913
  let main_c_2038 : IVec S_ 32 := constantI S_ 32 159#32
  let main_v12915 : IVec S1x256x256 32 := broadcastInDim S1x256x256 ![] bcast_S_S1x256x256 main_c_2038
  let main_v12916 : IVec S1x256x256 1 := cmpi .sgt main_v9886 main_v12915
  let main_c_2039 : IVec S_ 32 := constantI S_ 32 159#32
  let main_v12917 : IVec S1x256x256 32 := broadcastInDim S1x256x256 ![] bcast_S_S1x256x256 main_c_2039
  let main_v12918 : IVec S1x256x256 1 := cmpi .sgt main_v9887 main_v12917
  let main_v12919 : IVec S1x256x256 1 := andi main_v12916 main_v12918
  let main_v12920 : FVec F S1x256x256 .f32 := broadcastInDim S1x256x256 ![0, 1, 2] bcast_S1x1x256_S1x256x256_0_1_2 main_v12909
  let main_v12921 : FVec F S1x256x256 .f32 := mulf main_v12914 main_v12920
  let main_v12922 : FVec F S1x256x256 .f32 := subf main_v12908 main_v12921
  let main_v12923 : FVec F S1x256x256 .f32 := select main_v12919 main_v12922 main_v12908
  let main_c_2040 : IVec S_ 32 := constantI S_ 32 159#32
  let main_v12924 : IVec S1x256x256 32 := broadcastInDim S1x256x256 ![] bcast_S_S1x256x256 main_c_2040
  let main_v12925 : IVec S1x256x256 1 := cmpi .eq main_v9887 main_v12924
  let main_v12926 : IVec S1x256x256 1 := andi main_v12916 main_v12925
  let main_v12927 : FVec F S1x256x256 .f32 := select main_v12926 main_v12914 main_v12923
  let main_v12928 : FVec F S1x1x256 .f32 := (extractStridedSlice S1x1x256 ![0, 160, 0] · slices_S1x256x256_S1x1x256_0_160_0) main_v12927
  let main_v12929 : FVec F S1x256x1 .f32 := (extractStridedSlice S1x256x1 ![0, 0, 160] · slices_S1x256x256_S1x256x1_0_0_160) main_v12927
  let main_v12930 : FVec F S1x1x1 .f32 := (extractStridedSlice S1x1x1 ![0, 0, 160] · slices_S1x1x256_S1x1x1_0_0_160) main_v12928
  let main_v12931 : FVec F S1x256x1 .f32 := broadcastInDim S1x256x1 ![0, 1, 2] bcast_S1x1x1_S1x256x1_0_1_2 main_v12930
  let main_v12932 : FVec F S1x256x1 .f32 := Host.divf main_v12929 main_v12931
  let main_v12933 : FVec F S1x256x256 .f32 := broadcastInDim S1x256x256 ![0, 1, 2] bcast_S1x256x1_S1x256x256_0_1_2 main_v12932
  fn_part624 (F := F) main_arg0 main_v4875 main_v9852 main_v9886 main_v9887 main_v12927 main_v12928 main_v12933

def fn_part622 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12889 : FVec F S1x256x256 .f32) (main_v12890 : FVec F S1x1x256 .f32) (main_v12891 : FVec F S1x256x1 .f32) : IVec S9x256x256 1 × IVec S8x256x256 1 :=
  let main_v12892 : FVec F S1x1x1 .f32 := (extractStridedSlice S1x1x1 ![0, 0, 158] · slices_S1x1x256_S1x1x1_0_0_158) main_v12890
  let main_v12893 : FVec F S1x256x1 .f32 := broadcastInDim S1x256x1 ![0, 1, 2] bcast_S1x1x1_S1x256x1_0_1_2 main_v12892
  let main_v12894 : FVec F S1x256x1 .f32 := Host.divf main_v12891 main_v12893
  let main_v12895 : FVec F S1x256x256 .f32 := broadcastInDim S1x256x256 ![0, 1, 2] bcast_S1x256x1_S1x256x256_0_1_2 main_v12894
  let main_c_2035 : IVec S_ 32 := constantI S_ 32 158#32
  let main_v12896 : IVec S1x256x256 32 := broadcastInDim S1x256x256 ![] bcast_S_S1x256x256 main_c_2035
  let main_v12897 : IVec S1x256x256 1 := cmpi .sgt main_v9886 main_v12896
  let main_c_2036 : IVec S_ 32 := constantI S_ 32 158#32
  let main_v12898 : IVec S1x256x256 32 := broadcastInDim S1x256x256 ![] bcast_S_S1x256x256 main_c_2036
  let main_v12899 : IVec S1x256x256 1 := cmpi .sgt main_v9887 main_v12898
  let main_v12900 : IVec S1x256x256 1 := andi main_v12897 main_v12899
  let main_v12901 : FVec F S1x256x256 .f32 := broadcastInDim S1x256x256 ![0, 1, 2] bcast_S1x1x256_S1x256x256_0_1_2 main_v12890
  let main_v12902 : FVec F S1x256x256 .f32 := mulf main_v12895 main_v12901
  let main_v12903 : FVec F S1x256x256 .f32 := subf main_v12889 main_v12902
  let main_v12904 : FVec F S1x256x256 .f32 := select main_v12900 main_v12903 main_v12889
  let main_c_2037 : IVec S_ 32 := constantI S_ 32 158#32
  let main_v12905 : IVec S1x256x256 32 := broadcastInDim S1x256x256 ![] bcast_S_S1x256x256 main_c_2037
  let main_v12906 : IVec S1x256x256 1 := cmpi .eq main_v9887 main_v12905
  let main_v12907 : IVec S1x256x256 1 := andi main_v12897 main_v12906
  let main_v12908 : FVec F S1x256x256 .f32 := select main_v12907 main_v12895 main_v12904
  let main_v12909 : FVec F S1x1x256 .f32 := (extractStridedSlice S1x1x256 ![0, 159, 0] · slices_S1x256x256_S1x1x256_0_159_0) main_v12908
  let main_v12910 : FVec F S1x256x1 .f32 := (extractStridedSlice S1x256x1 ![0, 0, 159] · slices_S1x256x256_S1x256x1_0_0_159) main_v12908
  let main_v12911 : FVec F S1x1x1 .f32 := (extractStridedSlice S1x1x1 ![0, 0, 159] · slices_S1x1x256_S1x1x1_0_0_159) main_v12909
  let main_v12912 : FVec F S1x256x1 .f32 := broadcastInDim S1x256x1 ![0, 1, 2] bcast_S1x1x1_S1x256x1_0_1_2 main_v12911
  fn_part623 (F := F) main_arg0 main_v4875 main_v9852 main_v9886 main_v9887 main_v12908 main_v12909 main_v12910 main_v12912

def fn_part621 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12870 : FVec F S1x256x256 .f32) : IVec S9x256x256 1 × IVec S8x256x256 1 :=
  let main_v12871 : FVec F S1x1x256 .f32 := (extractStridedSlice S1x1x256 ![0, 157, 0] · slices_S1x256x256_S1x1x256_0_157_0) main_v12870
  let main_v12872 : FVec F S1x256x1 .f32 := (extractStridedSlice S1x256x1 ![0, 0, 157] · slices_S1x256x256_S1x256x1_0_0_157) main_v12870
  let main_v12873 : FVec F S1x1x1 .f32 := (extractStridedSlice S1x1x1 ![0, 0, 157] · slices_S1x1x256_S1x1x1_0_0_157) main_v12871
  let main_v12874 : FVec F S1x256x1 .f32 := broadcastInDim S1x256x1 ![0, 1, 2] bcast_S1x1x1_S1x256x1_0_1_2 main_v12873
  let main_v12875 : FVec F S1x256x1 .f32 := Host.divf main_v12872 main_v12874
  let main_v12876 : FVec F S1x256x256 .f32 := broadcastInDim S1x256x256 ![0, 1, 2] bcast_S1x256x1_S1x256x256_0_1_2 main_v12875
  let main_c_2032 : IVec S_ 32 := constantI S_ 32 157#32
  let main_v12877 : IVec S1x256x256 32 := broadcastInDim S1x256x256 ![] bcast_S_S1x256x256 main_c_2032
  let main_v12878 : IVec S1x256x256 1 := cmpi .sgt main_v9886 main_v12877
  let main_c_2033 : IVec S_ 32 := constantI S_ 32 157#32
  let main_v12879 : IVec S1x256x256 32 := broadcastInDim S1x256x256 ![] bcast_S_S1x256x256 main_c_2033
  let main_v12880 : IVec S1x256x256 1 := cmpi .sgt main_v9887 main_v12879
  let main_v12881 : IVec S1x256x256 1 := andi main_v12878 main_v12880
  let main_v12882 : FVec F S1x256x256 .f32 := broadcastInDim S1x256x256 ![0, 1, 2] bcast_S1x1x256_S1x256x256_0_1_2 main_v12871
  let main_v12883 : FVec F S1x256x256 .f32 := mulf main_v12876 main_v12882
  let main_v12884 : FVec F S1x256x256 .f32 := subf main_v12870 main_v12883
  let main_v12885 : FVec F S1x256x256 .f32 := select main_v12881 main_v12884 main_v12870
  let main_c_2034 : IVec S_ 32 := constantI S_ 32 157#32
  let main_v12886 : IVec S1x256x256 32 := broadcastInDim S1x256x256 ![] bcast_S_S1x256x256 main_c_2034
  let main_v12887 : IVec S1x256x256 1 := cmpi .eq main_v9887 main_v12886
  let main_v12888 : IVec S1x256x256 1 := andi main_v12878 main_v12887
  let main_v12889 : FVec F S1x256x256 .f32 := select main_v12888 main_v12876 main_v12885
  let main_v12890 : FVec F S1x1x256 .f32 := (extractStridedSlice S1x1x256 ![0, 158, 0] · slices_S1x256x256_S1x1x256_0_158_0) main_v12889
  let main_v12891 : FVec F S1x256x1 .f32 := (extractStridedSlice S1x256x1 ![0, 0, 158] · slices_S1x256x256_S1x256x1_0_0_158) main_v12889
  fn_part622 (F := F) main_arg0 main_v4875 main_v9852 main_v9886 main_v9887 main_v12889 main_v12890 main_v12891

def fn_part620 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12838 : FVec F S1x256x256 .f32) (main_v12840 : IVec S1x256x256 1) (main_v12847 : FVec F S1x256x256 .f32) (main_v12849 : IVec S1x256x256 1) : IVec S9x256x256 1 × IVec S8x256x256 1 :=
  let main_v12850 : IVec S1x256x256 1 := andi main_v12840 main_v12849
  let main_v12851 : FVec F S1x256x256 .f32 := select main_v12850 main_v12838 main_v12847
  let main_v12852 : FVec F S1x1x256 .f32 := (extractStridedSlice S1x1x256 ![0, 156, 0] · slices_S1x256x256_S1x1x256_0_156_0) main_v12851
  let main_v12853 : FVec F S1x256x1 .f32 := (extractStridedSlice S1x256x1 ![0, 0, 156] · slices_S1x256x256_S1x256x1_0_0_156) main_v12851
  let main_v12854 : FVec F S1x1x1 .f32 := (extractStridedSlice S1x1x1 ![0, 0, 156] · slices_S1x1x256_S1x1x1_0_0_156) main_v12852
  let main_v12855 : FVec F S1x256x1 .f32 := broadcastInDim S1x256x1 ![0, 1, 2] bcast_S1x1x1_S1x256x1_0_1_2 main_v12854
  let main_v12856 : FVec F S1x256x1 .f32 := Host.divf main_v12853 main_v12855
  let main_v12857 : FVec F S1x256x256 .f32 := broadcastInDim S1x256x256 ![0, 1, 2] bcast_S1x256x1_S1x256x256_0_1_2 main_v12856
  let main_c_2029 : IVec S_ 32 := constantI S_ 32 156#32
  let main_v12858 : IVec S1x256x256 32 := broadcastInDim S1x256x256 ![] bcast_S_S1x256x256 main_c_2029
  let main_v12859 : IVec S1x256x256 1 := cmpi .sgt main_v9886 main_v12858
  let main_c_2030 : IVec S_ 32 := constantI S_ 32 156#32
  let main_v12860 : IVec S1x256x256 32 := broadcastInDim S1x256x256 ![] bcast_S_S1x256x256 main_c_2030
  let main_v12861 : IVec S1x256x256 1 := cmpi .sgt main_v9887 main_v12860
  let main_v12862 : IVec S1x256x256 1 := andi main_v12859 main_v12861
  let main_v12863 : FVec F S1x256x256 .f32 := broadcastInDim S1x256x256 ![0, 1, 2] bcast_S1x1x256_S1x256x256_0_1_2 main_v12852
  let main_v12864 : FVec F S1x256x256 .f32 := mulf main_v12857 main_v12863
  let main_v12865 : FVec F S1x256x256 .f32 := subf main_v12851 main_v12864
  let main_v12866 : FVec F S1x256x256 .f32 := select main_v12862 main_v12865 main_v12851
  let main_c_2031 : IVec S_ 32 := constantI S_ 32 156#32
  let main_v12867 : IVec S1x256x256 32 := broadcastInDim S1x256x256 ![] bcast_S_S1x256x256 main_c_2031
  let main_v12868 : IVec S1x256x256 1 := cmpi .eq main_v9887 main_v12867
  let main_v12869 : IVec S1x256x256 1 := andi main_v12859 main_v12868
  let main_v12870 : FVec F S1x256x256 .f32 := select main_v12869 main_v12857 main_v12866
  fn_part621 (F := F) main_arg0 main_v4875 main_v9852 main_v9886 main_v9887 main_v12870

def fn_part619 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12819 : FVec F S1x256x256 .f32) (main_v12821 : IVec S1x256x256 1) (main_v12828 : FVec F S1x256x256 .f32) (main_c_2025 : IVec S_ 32) : IVec S9x256x256 1 × IVec S8x256x256 1 :=
  let main_v12829 : IVec S1x256x256 32 := broadcastInDim S1x256x256 ![] bcast_S_S1x256x256 main_c_2025
  let main_v12830 : IVec S1x256x256 1 := cmpi .eq main_v9887 main_v12829
  let main_v12831 : IVec S1x256x256 1 := andi main_v12821 main_v12830
  let main_v12832 : FVec F S1x256x256 .f32 := select main_v12831 main_v12819 main_v12828
  let main_v12833 : FVec F S1x1x256 .f32 := (extractStridedSlice S1x1x256 ![0, 155, 0] · slices_S1x256x256_S1x1x256_0_155_0) main_v12832
  let main_v12834 : FVec F S1x256x1 .f32 := (extractStridedSlice S1x256x1 ![0, 0, 155] · slices_S1x256x256_S1x256x1_0_0_155) main_v12832
  let main_v12835 : FVec F S1x1x1 .f32 := (extractStridedSlice S1x1x1 ![0, 0, 155] · slices_S1x1x256_S1x1x1_0_0_155) main_v12833
  let main_v12836 : FVec F S1x256x1 .f32 := broadcastInDim S1x256x1 ![0, 1, 2] bcast_S1x1x1_S1x256x1_0_1_2 main_v12835
  let main_v12837 : FVec F S1x256x1 .f32 := Host.divf main_v12834 main_v12836
  let main_v12838 : FVec F S1x256x256 .f32 := broadcastInDim S1x256x256 ![0, 1, 2] bcast_S1x256x1_S1x256x256_0_1_2 main_v12837
  let main_c_2026 : IVec S_ 32 := constantI S_ 32 155#32
  let main_v12839 : IVec S1x256x256 32 := broadcastInDim S1x256x256 ![] bcast_S_S1x256x256 main_c_2026
  let main_v12840 : IVec S1x256x256 1 := cmpi .sgt main_v9886 main_v12839
  let main_c_2027 : IVec S_ 32 := constantI S_ 32 155#32
  let main_v12841 : IVec S1x256x256 32 := broadcastInDim S1x256x256 ![] bcast_S_S1x256x256 main_c_2027
  let main_v12842 : IVec S1x256x256 1 := cmpi .sgt main_v9887 main_v12841
  let main_v12843 : IVec S1x256x256 1 := andi main_v12840 main_v12842
  let main_v12844 : FVec F S1x256x256 .f32 := broadcastInDim S1x256x256 ![0, 1, 2] bcast_S1x1x256_S1x256x256_0_1_2 main_v12833
  let main_v12845 : FVec F S1x256x256 .f32 := mulf main_v12838 main_v12844
  let main_v12846 : FVec F S1x256x256 .f32 := subf main_v12832 main_v12845
  let main_v12847 : FVec F S1x256x256 .f32 := select main_v12843 main_v12846 main_v12832
  let main_c_2028 : IVec S_ 32 := constantI S_ 32 155#32
  let main_v12848 : IVec S1x256x256 32 := broadcastInDim S1x256x256 ![] bcast_S_S1x256x256 main_c_2028
  let main_v12849 : IVec S1x256x256 1 := cmpi .eq main_v9887 main_v12848
  fn_part620 (F := F) main_arg0 main_v4875 main_v9852 main_v9886 main_v9887 main_v12838 main_v12840 main_v12847 main_v12849

def fn_part618 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12794 : FVec F S1x256x256 .f32) (main_v12800 : FVec F S1x256x256 .f32) (main_v12802 : IVec S1x256x256 1) (main_v12805 : IVec S1x256x256 1) (main_v12808 : FVec F S1x256x256 .f32) : IVec S9x256x256 1 × IVec S8x256x256 1 :=
  let main_v12809 : FVec F S1x256x256 .f32 := select main_v12805 main_v12808 main_v12794
  let main_c_2022 : IVec S_ 32 := constantI S_ 32 153#32
  let main_v12810 : IVec S1x256x256 32 := broadcastInDim S1x256x256 ![] bcast_S_S1x256x256 main_c_2022
  let main_v12811 : IVec S1x256x256 1 := cmpi .eq main_v9887 main_v12810
  let main_v12812 : IVec S1x256x256 1 := andi main_v12802 main_v12811
  let main_v12813 : FVec F S1x256x256 .f32 := select main_v12812 main_v12800 main_v12809
  let main_v12814 : FVec F S1x1x256 .f32 := (extractStridedSlice S1x1x256 ![0, 154, 0] · slices_S1x256x256_S1x1x256_0_154_0) main_v12813
  let main_v12815 : FVec F S1x256x1 .f32 := (extractStridedSlice S1x256x1 ![0, 0, 154] · slices_S1x256x256_S1x256x1_0_0_154) main_v12813
  let main_v12816 : FVec F S1x1x1 .f32 := (extractStridedSlice S1x1x1 ![0, 0, 154] · slices_S1x1x256_S1x1x1_0_0_154) main_v12814
  let main_v12817 : FVec F S1x256x1 .f32 := broadcastInDim S1x256x1 ![0, 1, 2] bcast_S1x1x1_S1x256x1_0_1_2 main_v12816
  let main_v12818 : FVec F S1x256x1 .f32 := Host.divf main_v12815 main_v12817
  let main_v12819 : FVec F S1x256x256 .f32 := broadcastInDim S1x256x256 ![0, 1, 2] bcast_S1x256x1_S1x256x256_0_1_2 main_v12818
  let main_c_2023 : IVec S_ 32 := constantI S_ 32 154#32
  let main_v12820 : IVec S1x256x256 32 := broadcastInDim S1x256x256 ![] bcast_S_S1x256x256 main_c_2023
  let main_v12821 : IVec S1x256x256 1 := cmpi .sgt main_v9886 main_v12820
  let main_c_2024 : IVec S_ 32 := constantI S_ 32 154#32
  let main_v12822 : IVec S1x256x256 32 := broadcastInDim S1x256x256 ![] bcast_S_S1x256x256 main_c_2024
  let main_v12823 : IVec S1x256x256 1 := cmpi .sgt main_v9887 main_v12822
  let main_v12824 : IVec S1x256x256 1 := andi main_v12821 main_v12823
  let main_v12825 : FVec F S1x256x256 .f32 := broadcastInDim S1x256x256 ![0, 1, 2] bcast_S1x1x256_S1x256x256_0_1_2 main_v12814
  let main_v12826 : FVec F S1x256x256 .f32 := mulf main_v12819 main_v12825
  let main_v12827 : FVec F S1x256x256 .f32 := subf main_v12813 main_v12826
  let main_v12828 : FVec F S1x256x256 .f32 := select main_v12824 main_v12827 main_v12813
  let main_c_2025 : IVec S_ 32 := constantI S_ 32 154#32
  fn_part619 (F := F) main_arg0 main_v4875 main_v9852 main_v9886 main_v9887 main_v12819 main_v12821 main_v12828 main_c_2025

def fn_part617 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12775 : FVec F S1x256x256 .f32) (main_v12781 : FVec F S1x256x256 .f32) (main_v12783 : IVec S1x256x256 1) (main_v12786 : IVec S1x256x256 1) (main_v12787 : FVec F S1x256x256 .f32) : IVec S9x256x256 1 × IVec S8x256x256 1 :=
  let main_v12788 : FVec F S1x256x256 .f32 := mulf main_v12781 main_v12787
  let main_v12789 : FVec F S1x256x256 .f32 := subf main_v12775 main_v12788
  let main_v12790 : FVec F S1x256x256 .f32 := select main_v12786 main_v12789 main_v12775
  let main_c_2019 : IVec S_ 32 := constantI S_ 32 152#32
  let main_v12791 : IVec S1x256x256 32 := broadcastInDim S1x256x256 ![] bcast_S_S1x256x256 main_c_2019
  let main_v12792 : IVec S1x256x256 1 := cmpi .eq main_v9887 main_v12791
  let main_v12793 : IVec S1x256x256 1 := andi main_v12783 main_v12792
  let main_v12794 : FVec F S1x256x256 .f32 := select main_v12793 main_v12781 main_v12790
  let main_v12795 : FVec F S1x1x256 .f32 := (extractStridedSlice S1x1x256 ![0, 153, 0] · slices_S1x256x256_S1x1x256_0_153_0) main_v12794
  let main_v12796 : FVec F S1x256x1 .f32 := (extractStridedSlice S1x256x1 ![0, 0, 153] · slices_S1x256x256_S1x256x1_0_0_153) main_v12794
  let main_v12797 : FVec F S1x1x1 .f32 := (extractStridedSlice S1x1x1 ![0, 0, 153] · slices_S1x1x256_S1x1x1_0_0_153) main_v12795
  let main_v12798 : FVec F S1x256x1 .f32 := broadcastInDim S1x256x1 ![0, 1, 2] bcast_S1x1x1_S1x256x1_0_1_2 main_v12797
  let main_v12799 : FVec F S1x256x1 .f32 := Host.divf main_v12796 main_v12798
  let main_v12800 : FVec F S1x256x256 .f32 := broadcastInDim S1x256x256 ![0, 1, 2] bcast_S1x256x1_S1x256x256_0_1_2 main_v12799
  let main_c_2020 : IVec S_ 32 := constantI S_ 32 153#32
  let main_v12801 : IVec S1x256x256 32 := broadcastInDim S1x256x256 ![] bcast_S_S1x256x256 main_c_2020
  let main_v12802 : IVec S1x256x256 1 := cmpi .sgt main_v9886 main_v12801
  let main_c_2021 : IVec S_ 32 := constantI S_ 32 153#32
  let main_v12803 : IVec S1x256x256 32 := broadcastInDim S1x256x256 ![] bcast_S_S1x256x256 main_c_2021
  let main_v12804 : IVec S1x256x256 1 := cmpi .sgt main_v9887 main_v12803
  let main_v12805 : IVec S1x256x256 1 := andi main_v12802 main_v12804
  let main_v12806 : FVec F S1x256x256 .f32 := broadcastInDim S1x256x256 ![0, 1, 2] bcast_S1x1x256_S1x256x256_0_1_2 main_v12795
  let main_v12807 : FVec F S1x256x256 .f32 := mulf main_v12800 main_v12806
  let main_v12808 : FVec F S1x256x256 .f32 := subf main_v12794 main_v12807
  fn_part618 (F := F) main_arg0 main_v4875 main_v9852 main_v9886 main_v9887 main_v12794 main_v12800 main_v12802 main_v12805 main_v12808

def fn_part616 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12756 : FVec F S1x256x256 .f32) (main_v12757 : FVec F S1x1x256 .f32) (main_v12762 : FVec F S1x256x256 .f32) (main_v12764 : IVec S1x256x256 1) (main_v12766 : IVec S1x256x256 1) : IVec S9x256x256 1 × IVec S8x256x256 1 :=
  let main_v12767 : IVec S1x256x256 1 := andi main_v12764 main_v12766
  let main_v12768 : FVec F S1x256x256 .f32 := broadcastInDim S1x256x256 ![0, 1, 2] bcast_S1x1x256_S1x256x256_0_1_2 main_v12757
  let main_v12769 : FVec F S1x256x256 .f32 := mulf main_v12762 main_v12768
  let main_v12770 : FVec F S1x256x256 .f32 := subf main_v12756 main_v12769
  let main_v12771 : FVec F S1x256x256 .f32 := select main_v12767 main_v12770 main_v12756
  let main_c_2016 : IVec S_ 32 := constantI S_ 32 151#32
  let main_v12772 : IVec S1x256x256 32 := broadcastInDim S1x256x256 ![] bcast_S_S1x256x256 main_c_2016
  let main_v12773 : IVec S1x256x256 1 := cmpi .eq main_v9887 main_v12772
  let main_v12774 : IVec S1x256x256 1 := andi main_v12764 main_v12773
  let main_v12775 : FVec F S1x256x256 .f32 := select main_v12774 main_v12762 main_v12771
  let main_v12776 : FVec F S1x1x256 .f32 := (extractStridedSlice S1x1x256 ![0, 152, 0] · slices_S1x256x256_S1x1x256_0_152_0) main_v12775
  let main_v12777 : FVec F S1x256x1 .f32 := (extractStridedSlice S1x256x1 ![0, 0, 152] · slices_S1x256x256_S1x256x1_0_0_152) main_v12775
  let main_v12778 : FVec F S1x1x1 .f32 := (extractStridedSlice S1x1x1 ![0, 0, 152] · slices_S1x1x256_S1x1x1_0_0_152) main_v12776
  let main_v12779 : FVec F S1x256x1 .f32 := broadcastInDim S1x256x1 ![0, 1, 2] bcast_S1x1x1_S1x256x1_0_1_2 main_v12778
  let main_v12780 : FVec F S1x256x1 .f32 := Host.divf main_v12777 main_v12779
  let main_v12781 : FVec F S1x256x256 .f32 := broadcastInDim S1x256x256 ![0, 1, 2] bcast_S1x256x1_S1x256x256_0_1_2 main_v12780
  let main_c_2017 : IVec S_ 32 := constantI S_ 32 152#32
  let main_v12782 : IVec S1x256x256 32 := broadcastInDim S1x256x256 ![] bcast_S_S1x256x256 main_c_2017
  let main_v12783 : IVec S1x256x256 1 := cmpi .sgt main_v9886 main_v12782
  let main_c_2018 : IVec S_ 32 := constantI S_ 32 152#32
  let main_v12784 : IVec S1x256x256 32 := broadcastInDim S1x256x256 ![] bcast_S_S1x256x256 main_c_2018
  let main_v12785 : IVec S1x256x256 1 := cmpi .sgt main_v9887 main_v12784
  let main_v12786 : IVec S1x256x256 1 := andi main_v12783 main_v12785
  let main_v12787 : FVec F S1x256x256 .f32 := broadcastInDim S1x256x256 ![0, 1, 2] bcast_S1x1x256_S1x256x256_0_1_2 main_v12776
  fn_part617 (F := F) main_arg0 main_v4875 main_v9852 main_v9886 main_v9887 main_v12775 main_v12781 main_v12783 main_v12786 main_v12787

def fn_part615 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12737 : FVec F S1x256x256 .f32) (main_v12738 : FVec F S1x1x256 .f32) (main_v12743 : FVec F S1x256x256 .f32) (main_v12745 : IVec S1x256x256 1) (main_c_2012 : IVec S_ 32) : IVec S9x256x256 1 × IVec S8x256x256 1 :=
  let main_v12746 : IVec S1x256x256 32 := broadcastInDim S1x256x256 ![] bcast_S_S1x256x256 main_c_2012
  let main_v12747 : IVec S1x256x256 1 := cmpi .sgt main_v9887 main_v12746
  let main_v12748 : IVec S1x256x256 1 := andi main_v12745 main_v12747
  let main_v12749 : FVec F S1x256x256 .f32 := broadcastInDim S1x256x256 ![0, 1, 2] bcast_S1x1x256_S1x256x256_0_1_2 main_v12738
  let main_v12750 : FVec F S1x256x256 .f32 := mulf main_v12743 main_v12749
  let main_v12751 : FVec F S1x256x256 .f32 := subf main_v12737 main_v12750
  let main_v12752 : FVec F S1x256x256 .f32 := select main_v12748 main_v12751 main_v12737
  let main_c_2013 : IVec S_ 32 := constantI S_ 32 150#32
  let main_v12753 : IVec S1x256x256 32 := broadcastInDim S1x256x256 ![] bcast_S_S1x256x256 main_c_2013
  let main_v12754 : IVec S1x256x256 1 := cmpi .eq main_v9887 main_v12753
  let main_v12755 : IVec S1x256x256 1 := andi main_v12745 main_v12754
  let main_v12756 : FVec F S1x256x256 .f32 := select main_v12755 main_v12743 main_v12752
  let main_v12757 : FVec F S1x1x256 .f32 := (extractStridedSlice S1x1x256 ![0, 151, 0] · slices_S1x256x256_S1x1x256_0_151_0) main_v12756
  let main_v12758 : FVec F S1x256x1 .f32 := (extractStridedSlice S1x256x1 ![0, 0, 151] · slices_S1x256x256_S1x256x1_0_0_151) main_v12756
  let main_v12759 : FVec F S1x1x1 .f32 := (extractStridedSlice S1x1x1 ![0, 0, 151] · slices_S1x1x256_S1x1x1_0_0_151) main_v12757
  let main_v12760 : FVec F S1x256x1 .f32 := broadcastInDim S1x256x1 ![0, 1, 2] bcast_S1x1x1_S1x256x1_0_1_2 main_v12759
  let main_v12761 : FVec F S1x256x1 .f32 := Host.divf main_v12758 main_v12760
  let main_v12762 : FVec F S1x256x256 .f32 := broadcastInDim S1x256x256 ![0, 1, 2] bcast_S1x256x1_S1x256x256_0_1_2 main_v12761
  let main_c_2014 : IVec S_ 32 := constantI S_ 32 151#32
  let main_v12763 : IVec S1x256x256 32 := broadcastInDim S1x256x256 ![] bcast_S_S1x256x256 main_c_2014
  let main_v12764 : IVec S1x256x256 1 := cmpi .sgt main_v9886 main_v12763
  let main_c_2015 : IVec S_ 32 := constantI S_ 32 151#32
  let main_v12765 : IVec S1x256x256 32 := broadcastInDim S1x256x256 ![] bcast_S_S1x256x256 main_c_2015
  let main_v12766 : IVec S1x256x256 1 := cmpi .sgt main_v9887 main_v12765
  fn_part616 (F := F) main_arg0 main_v4875 main_v9852 main_v9886 main_v9887 main_v12756 main_v12757 main_v12762 main_v12764 main_v12766

def fn_part614 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12718 : FVec F S1x256x256 .f32) (main_v12719 : FVec F S1x1x256 .f32) (main_v12724 : FVec F S1x256x256 .f32) (main_v12725 : IVec S1x256x256 32) : IVec S9x256x256 1 × IVec S8x256x256 1 :=
  let main_v12726 : IVec S1x256x256 1 := cmpi .sgt main_v9886 main_v12725
  let main_c_2009 : IVec S_ 32 := constantI S_ 32 149#32
  let main_v12727 : IVec S1x256x256 32 := broadcastInDim S1x256x256 ![] bcast_S_S1x256x256 main_c_2009
  let main_v12728 : IVec S1x256x256 1 := cmpi .sgt main_v9887 main_v12727
  let main_v12729 : IVec S1x256x256 1 := andi main_v12726 main_v12728
  let main_v12730 : FVec F S1x256x256 .f32 := broadcastInDim S1x256x256 ![0, 1, 2] bcast_S1x1x256_S1x256x256_0_1_2 main_v12719
  let main_v12731 : FVec F S1x256x256 .f32 := mulf main_v12724 main_v12730
  let main_v12732 : FVec F S1x256x256 .f32 := subf main_v12718 main_v12731
  let main_v12733 : FVec F S1x256x256 .f32 := select main_v12729 main_v12732 main_v12718
  let main_c_2010 : IVec S_ 32 := constantI S_ 32 149#32
  let main_v12734 : IVec S1x256x256 32 := broadcastInDim S1x256x256 ![] bcast_S_S1x256x256 main_c_2010
  let main_v12735 : IVec S1x256x256 1 := cmpi .eq main_v9887 main_v12734
  let main_v12736 : IVec S1x256x256 1 := andi main_v12726 main_v12735
  let main_v12737 : FVec F S1x256x256 .f32 := select main_v12736 main_v12724 main_v12733
  let main_v12738 : FVec F S1x1x256 .f32 := (extractStridedSlice S1x1x256 ![0, 150, 0] · slices_S1x256x256_S1x1x256_0_150_0) main_v12737
  let main_v12739 : FVec F S1x256x1 .f32 := (extractStridedSlice S1x256x1 ![0, 0, 150] · slices_S1x256x256_S1x256x1_0_0_150) main_v12737
  let main_v12740 : FVec F S1x1x1 .f32 := (extractStridedSlice S1x1x1 ![0, 0, 150] · slices_S1x1x256_S1x1x1_0_0_150) main_v12738
  let main_v12741 : FVec F S1x256x1 .f32 := broadcastInDim S1x256x1 ![0, 1, 2] bcast_S1x1x1_S1x256x1_0_1_2 main_v12740
  let main_v12742 : FVec F S1x256x1 .f32 := Host.divf main_v12739 main_v12741
  let main_v12743 : FVec F S1x256x256 .f32 := broadcastInDim S1x256x256 ![0, 1, 2] bcast_S1x256x1_S1x256x256_0_1_2 main_v12742
  let main_c_2011 : IVec S_ 32 := constantI S_ 32 150#32
  let main_v12744 : IVec S1x256x256 32 := broadcastInDim S1x256x256 ![] bcast_S_S1x256x256 main_c_2011
  let main_v12745 : IVec S1x256x256 1 := cmpi .sgt main_v9886 main_v12744
  let main_c_2012 : IVec S_ 32 := constantI S_ 32 150#32
  fn_part615 (F := F) main_arg0 main_v4875 main_v9852 main_v9886 main_v9887 main_v12737 main_v12738 main_v12743 main_v12745 main_c_2012

def fn_part613 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12699 : FVec F S1x256x256 .f32) (main_v12700 : FVec F S1x1x256 .f32) (main_v12705 : FVec F S1x256x256 .f32) : IVec S9x256x256 1 × IVec S8x256x256 1 :=
  let main_c_2005 : IVec S_ 32 := constantI S_ 32 148#32
  let main_v12706 : IVec S1x256x256 32 := broadcastInDim S1x256x256 ![] bcast_S_S1x256x256 main_c_2005
  let main_v12707 : IVec S1x256x256 1 := cmpi .sgt main_v9886 main_v12706
  let main_c_2006 : IVec S_ 32 := constantI S_ 32 148#32
  let main_v12708 : IVec S1x256x256 32 := broadcastInDim S1x256x256 ![] bcast_S_S1x256x256 main_c_2006
  let main_v12709 : IVec S1x256x256 1 := cmpi .sgt main_v9887 main_v12708
  let main_v12710 : IVec S1x256x256 1 := andi main_v12707 main_v12709
  let main_v12711 : FVec F S1x256x256 .f32 := broadcastInDim S1x256x256 ![0, 1, 2] bcast_S1x1x256_S1x256x256_0_1_2 main_v12700
  let main_v12712 : FVec F S1x256x256 .f32 := mulf main_v12705 main_v12711
  let main_v12713 : FVec F S1x256x256 .f32 := subf main_v12699 main_v12712
  let main_v12714 : FVec F S1x256x256 .f32 := select main_v12710 main_v12713 main_v12699
  let main_c_2007 : IVec S_ 32 := constantI S_ 32 148#32
  let main_v12715 : IVec S1x256x256 32 := broadcastInDim S1x256x256 ![] bcast_S_S1x256x256 main_c_2007
  let main_v12716 : IVec S1x256x256 1 := cmpi .eq main_v9887 main_v12715
  let main_v12717 : IVec S1x256x256 1 := andi main_v12707 main_v12716
  let main_v12718 : FVec F S1x256x256 .f32 := select main_v12717 main_v12705 main_v12714
  let main_v12719 : FVec F S1x1x256 .f32 := (extractStridedSlice S1x1x256 ![0, 149, 0] · slices_S1x256x256_S1x1x256_0_149_0) main_v12718
  let main_v12720 : FVec F S1x256x1 .f32 := (extractStridedSlice S1x256x1 ![0, 0, 149] · slices_S1x256x256_S1x256x1_0_0_149) main_v12718
  let main_v12721 : FVec F S1x1x1 .f32 := (extractStridedSlice S1x1x1 ![0, 0, 149] · slices_S1x1x256_S1x1x1_0_0_149) main_v12719
  let main_v12722 : FVec F S1x256x1 .f32 := broadcastInDim S1x256x1 ![0, 1, 2] bcast_S1x1x1_S1x256x1_0_1_2 main_v12721
  let main_v12723 : FVec F S1x256x1 .f32 := Host.divf main_v12720 main_v12722
  let main_v12724 : FVec F S1x256x256 .f32 := broadcastInDim S1x256x256 ![0, 1, 2] bcast_S1x256x1_S1x256x256_0_1_2 main_v12723
  let main_c_2008 : IVec S_ 32 := constantI S_ 32 149#32
  let main_v12725 : IVec S1x256x256 32 := broadcastInDim S1x256x256 ![] bcast_S_S1x256x256 main_c_2008
  fn_part614 (F := F) main_arg0 main_v4875 main_v9852 main_v9886 main_v9887 main_v12718 main_v12719 main_v12724 main_v12725

def fn_part612 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12680 : FVec F S1x256x256 .f32) (main_v12681 : FVec F S1x1x256 .f32) (main_v12682 : FVec F S1x256x1 .f32) (main_v12684 : FVec F S1x256x1 .f32) : IVec S9x256x256 1 × IVec S8x256x256 1 :=
  let main_v12685 : FVec F S1x256x1 .f32 := Host.divf main_v12682 main_v12684
  let main_v12686 : FVec F S1x256x256 .f32 := broadcastInDim S1x256x256 ![0, 1, 2] bcast_S1x256x1_S1x256x256_0_1_2 main_v12685
  let main_c_2002 : IVec S_ 32 := constantI S_ 32 147#32
  let main_v12687 : IVec S1x256x256 32 := broadcastInDim S1x256x256 ![] bcast_S_S1x256x256 main_c_2002
  let main_v12688 : IVec S1x256x256 1 := cmpi .sgt main_v9886 main_v12687
  let main_c_2003 : IVec S_ 32 := constantI S_ 32 147#32
  let main_v12689 : IVec S1x256x256 32 := broadcastInDim S1x256x256 ![] bcast_S_S1x256x256 main_c_2003
  let main_v12690 : IVec S1x256x256 1 := cmpi .sgt main_v9887 main_v12689
  let main_v12691 : IVec S1x256x256 1 := andi main_v12688 main_v12690
  let main_v12692 : FVec F S1x256x256 .f32 := broadcastInDim S1x256x256 ![0, 1, 2] bcast_S1x1x256_S1x256x256_0_1_2 main_v12681
  let main_v12693 : FVec F S1x256x256 .f32 := mulf main_v12686 main_v12692
  let main_v12694 : FVec F S1x256x256 .f32 := subf main_v12680 main_v12693
  let main_v12695 : FVec F S1x256x256 .f32 := select main_v12691 main_v12694 main_v12680
  let main_c_2004 : IVec S_ 32 := constantI S_ 32 147#32
  let main_v12696 : IVec S1x256x256 32 := broadcastInDim S1x256x256 ![] bcast_S_S1x256x256 main_c_2004
  let main_v12697 : IVec S1x256x256 1 := cmpi .eq main_v9887 main_v12696
  let main_v12698 : IVec S1x256x256 1 := andi main_v12688 main_v12697
  let main_v12699 : FVec F S1x256x256 .f32 := select main_v12698 main_v12686 main_v12695
  let main_v12700 : FVec F S1x1x256 .f32 := (extractStridedSlice S1x1x256 ![0, 148, 0] · slices_S1x256x256_S1x1x256_0_148_0) main_v12699
  let main_v12701 : FVec F S1x256x1 .f32 := (extractStridedSlice S1x256x1 ![0, 0, 148] · slices_S1x256x256_S1x256x1_0_0_148) main_v12699
  let main_v12702 : FVec F S1x1x1 .f32 := (extractStridedSlice S1x1x1 ![0, 0, 148] · slices_S1x1x256_S1x1x1_0_0_148) main_v12700
  let main_v12703 : FVec F S1x256x1 .f32 := broadcastInDim S1x256x1 ![0, 1, 2] bcast_S1x1x1_S1x256x1_0_1_2 main_v12702
  let main_v12704 : FVec F S1x256x1 .f32 := Host.divf main_v12701 main_v12703
  let main_v12705 : FVec F S1x256x256 .f32 := broadcastInDim S1x256x256 ![0, 1, 2] bcast_S1x256x1_S1x256x256_0_1_2 main_v12704
  fn_part613 (F := F) main_arg0 main_v4875 main_v9852 main_v9886 main_v9887 main_v12699 main_v12700 main_v12705

def fn_part611 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12661 : FVec F S1x256x256 .f32) (main_v12662 : FVec F S1x1x256 .f32) (main_v12663 : FVec F S1x256x1 .f32) : IVec S9x256x256 1 × IVec S8x256x256 1 :=
  let main_v12664 : FVec F S1x1x1 .f32 := (extractStridedSlice S1x1x1 ![0, 0, 146] · slices_S1x1x256_S1x1x1_0_0_146) main_v12662
  let main_v12665 : FVec F S1x256x1 .f32 := broadcastInDim S1x256x1 ![0, 1, 2] bcast_S1x1x1_S1x256x1_0_1_2 main_v12664
  let main_v12666 : FVec F S1x256x1 .f32 := Host.divf main_v12663 main_v12665
  let main_v12667 : FVec F S1x256x256 .f32 := broadcastInDim S1x256x256 ![0, 1, 2] bcast_S1x256x1_S1x256x256_0_1_2 main_v12666
  let main_c_1999 : IVec S_ 32 := constantI S_ 32 146#32
  let main_v12668 : IVec S1x256x256 32 := broadcastInDim S1x256x256 ![] bcast_S_S1x256x256 main_c_1999
  let main_v12669 : IVec S1x256x256 1 := cmpi .sgt main_v9886 main_v12668
  let main_c_2000 : IVec S_ 32 := constantI S_ 32 146#32
  let main_v12670 : IVec S1x256x256 32 := broadcastInDim S1x256x256 ![] bcast_S_S1x256x256 main_c_2000
  let main_v12671 : IVec S1x256x256 1 := cmpi .sgt main_v9887 main_v12670
  let main_v12672 : IVec S1x256x256 1 := andi main_v12669 main_v12671
  let main_v12673 : FVec F S1x256x256 .f32 := broadcastInDim S1x256x256 ![0, 1, 2] bcast_S1x1x256_S1x256x256_0_1_2 main_v12662
  let main_v12674 : FVec F S1x256x256 .f32 := mulf main_v12667 main_v12673
  let main_v12675 : FVec F S1x256x256 .f32 := subf main_v12661 main_v12674
  let main_v12676 : FVec F S1x256x256 .f32 := select main_v12672 main_v12675 main_v12661
  let main_c_2001 : IVec S_ 32 := constantI S_ 32 146#32
  let main_v12677 : IVec S1x256x256 32 := broadcastInDim S1x256x256 ![] bcast_S_S1x256x256 main_c_2001
  let main_v12678 : IVec S1x256x256 1 := cmpi .eq main_v9887 main_v12677
  let main_v12679 : IVec S1x256x256 1 := andi main_v12669 main_v12678
  let main_v12680 : FVec F S1x256x256 .f32 := select main_v12679 main_v12667 main_v12676
  let main_v12681 : FVec F S1x1x256 .f32 := (extractStridedSlice S1x1x256 ![0, 147, 0] · slices_S1x256x256_S1x1x256_0_147_0) main_v12680
  let main_v12682 : FVec F S1x256x1 .f32 := (extractStridedSlice S1x256x1 ![0, 0, 147] · slices_S1x256x256_S1x256x1_0_0_147) main_v12680
  let main_v12683 : FVec F S1x1x1 .f32 := (extractStridedSlice S1x1x1 ![0, 0, 147] · slices_S1x1x256_S1x1x1_0_0_147) main_v12681
  let main_v12684 : FVec F S1x256x1 .f32 := broadcastInDim S1x256x1 ![0, 1, 2] bcast_S1x1x1_S1x256x1_0_1_2 main_v12683
  fn_part612 (F := F) main_arg0 main_v4875 main_v9852 main_v9886 main_v9887 main_v12680 main_v12681 main_v12682 main_v12684

def fn_part610 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12642 : FVec F S1x256x256 .f32) : IVec S9x256x256 1 × IVec S8x256x256 1 :=
  let main_v12643 : FVec F S1x1x256 .f32 := (extractStridedSlice S1x1x256 ![0, 145, 0] · slices_S1x256x256_S1x1x256_0_145_0) main_v12642
  let main_v12644 : FVec F S1x256x1 .f32 := (extractStridedSlice S1x256x1 ![0, 0, 145] · slices_S1x256x256_S1x256x1_0_0_145) main_v12642
  let main_v12645 : FVec F S1x1x1 .f32 := (extractStridedSlice S1x1x1 ![0, 0, 145] · slices_S1x1x256_S1x1x1_0_0_145) main_v12643
  let main_v12646 : FVec F S1x256x1 .f32 := broadcastInDim S1x256x1 ![0, 1, 2] bcast_S1x1x1_S1x256x1_0_1_2 main_v12645
  let main_v12647 : FVec F S1x256x1 .f32 := Host.divf main_v12644 main_v12646
  let main_v12648 : FVec F S1x256x256 .f32 := broadcastInDim S1x256x256 ![0, 1, 2] bcast_S1x256x1_S1x256x256_0_1_2 main_v12647
  let main_c_1996 : IVec S_ 32 := constantI S_ 32 145#32
  let main_v12649 : IVec S1x256x256 32 := broadcastInDim S1x256x256 ![] bcast_S_S1x256x256 main_c_1996
  let main_v12650 : IVec S1x256x256 1 := cmpi .sgt main_v9886 main_v12649
  let main_c_1997 : IVec S_ 32 := constantI S_ 32 145#32
  let main_v12651 : IVec S1x256x256 32 := broadcastInDim S1x256x256 ![] bcast_S_S1x256x256 main_c_1997
  let main_v12652 : IVec S1x256x256 1 := cmpi .sgt main_v9887 main_v12651
  let main_v12653 : IVec S1x256x256 1 := andi main_v12650 main_v12652
  let main_v12654 : FVec F S1x256x256 .f32 := broadcastInDim S1x256x256 ![0, 1, 2] bcast_S1x1x256_S1x256x256_0_1_2 main_v12643
  let main_v12655 : FVec F S1x256x256 .f32 := mulf main_v12648 main_v12654
  let main_v12656 : FVec F S1x256x256 .f32 := subf main_v12642 main_v12655
  let main_v12657 : FVec F S1x256x256 .f32 := select main_v12653 main_v12656 main_v12642
  let main_c_1998 : IVec S_ 32 := constantI S_ 32 145#32
  let main_v12658 : IVec S1x256x256 32 := broadcastInDim S1x256x256 ![] bcast_S_S1x256x256 main_c_1998
  let main_v12659 : IVec S1x256x256 1 := cmpi .eq main_v9887 main_v12658
  let main_v12660 : IVec S1x256x256 1 := andi main_v12650 main_v12659
  let main_v12661 : FVec F S1x256x256 .f32 := select main_v12660 main_v12648 main_v12657
  let main_v12662 : FVec F S1x1x256 .f32 := (extractStridedSlice S1x1x256 ![0, 146, 0] · slices_S1x256x256_S1x1x256_0_146_0) main_v12661
  let main_v12663 : FVec F S1x256x1 .f32 := (extractStridedSlice S1x256x1 ![0, 0, 146] · slices_S1x256x256_S1x256x1_0_0_146) main_v12661
  fn_part611 (F := F) main_arg0 main_v4875 main_v9852 main_v9886 main_v9887 main_v12661 main_v12662 main_v12663

def fn_part609 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12610 : FVec F S1x256x256 .f32) (main_v12612 : IVec S1x256x256 1) (main_v12619 : FVec F S1x256x256 .f32) (main_v12621 : IVec S1x256x256 1) : IVec S9x256x256 1 × IVec S8x256x256 1 :=
  let main_v12622 : IVec S1x256x256 1 := andi main_v12612 main_v12621
  let main_v12623 : FVec F S1x256x256 .f32 := select main_v12622 main_v12610 main_v12619
  let main_v12624 : FVec F S1x1x256 .f32 := (extractStridedSlice S1x1x256 ![0, 144, 0] · slices_S1x256x256_S1x1x256_0_144_0) main_v12623
  let main_v12625 : FVec F S1x256x1 .f32 := (extractStridedSlice S1x256x1 ![0, 0, 144] · slices_S1x256x256_S1x256x1_0_0_144) main_v12623
  let main_v12626 : FVec F S1x1x1 .f32 := (extractStridedSlice S1x1x1 ![0, 0, 144] · slices_S1x1x256_S1x1x1_0_0_144) main_v12624
  let main_v12627 : FVec F S1x256x1 .f32 := broadcastInDim S1x256x1 ![0, 1, 2] bcast_S1x1x1_S1x256x1_0_1_2 main_v12626
  let main_v12628 : FVec F S1x256x1 .f32 := Host.divf main_v12625 main_v12627
  let main_v12629 : FVec F S1x256x256 .f32 := broadcastInDim S1x256x256 ![0, 1, 2] bcast_S1x256x1_S1x256x256_0_1_2 main_v12628
  let main_c_1993 : IVec S_ 32 := constantI S_ 32 144#32
  let main_v12630 : IVec S1x256x256 32 := broadcastInDim S1x256x256 ![] bcast_S_S1x256x256 main_c_1993
  let main_v12631 : IVec S1x256x256 1 := cmpi .sgt main_v9886 main_v12630
  let main_c_1994 : IVec S_ 32 := constantI S_ 32 144#32
  let main_v12632 : IVec S1x256x256 32 := broadcastInDim S1x256x256 ![] bcast_S_S1x256x256 main_c_1994
  let main_v12633 : IVec S1x256x256 1 := cmpi .sgt main_v9887 main_v12632
  let main_v12634 : IVec S1x256x256 1 := andi main_v12631 main_v12633
  let main_v12635 : FVec F S1x256x256 .f32 := broadcastInDim S1x256x256 ![0, 1, 2] bcast_S1x1x256_S1x256x256_0_1_2 main_v12624
  let main_v12636 : FVec F S1x256x256 .f32 := mulf main_v12629 main_v12635
  let main_v12637 : FVec F S1x256x256 .f32 := subf main_v12623 main_v12636
  let main_v12638 : FVec F S1x256x256 .f32 := select main_v12634 main_v12637 main_v12623
  let main_c_1995 : IVec S_ 32 := constantI S_ 32 144#32
  let main_v12639 : IVec S1x256x256 32 := broadcastInDim S1x256x256 ![] bcast_S_S1x256x256 main_c_1995
  let main_v12640 : IVec S1x256x256 1 := cmpi .eq main_v9887 main_v12639
  let main_v12641 : IVec S1x256x256 1 := andi main_v12631 main_v12640
  let main_v12642 : FVec F S1x256x256 .f32 := select main_v12641 main_v12629 main_v12638
  fn_part610 (F := F) main_arg0 main_v4875 main_v9852 main_v9886 main_v9887 main_v12642

def fn_part608 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12591 : FVec F S1x256x256 .f32) (main_v12593 : IVec S1x256x256 1) (main_v12600 : FVec F S1x256x256 .f32) (main_c_1989 : IVec S_ 32) : IVec S9x256x256 1 × IVec S8x256x256 1 :=
  let main_v12601 : IVec S1x256x256 32 := broadcastInDim S1x256x256 ![] bcast_S_S1x256x256 main_c_1989
  let main_v12602 : IVec S1x256x256 1 := cmpi .eq main_v9887 main_v12601
  let main_v12603 : IVec S1x256x256 1 := andi main_v12593 main_v12602
  let main_v12604 : FVec F S1x256x256 .f32 := select main_v12603 main_v12591 main_v12600
  let main_v12605 : FVec F S1x1x256 .f32 := (extractStridedSlice S1x1x256 ![0, 143, 0] · slices_S1x256x256_S1x1x256_0_143_0) main_v12604
  let main_v12606 : FVec F S1x256x1 .f32 := (extractStridedSlice S1x256x1 ![0, 0, 143] · slices_S1x256x256_S1x256x1_0_0_143) main_v12604
  let main_v12607 : FVec F S1x1x1 .f32 := (extractStridedSlice S1x1x1 ![0, 0, 143] · slices_S1x1x256_S1x1x1_0_0_143) main_v12605
  let main_v12608 : FVec F S1x256x1 .f32 := broadcastInDim S1x256x1 ![0, 1, 2] bcast_S1x1x1_S1x256x1_0_1_2 main_v12607
  let main_v12609 : FVec F S1x256x1 .f32 := Host.divf main_v12606 main_v12608
  let main_v12610 : FVec F S1x256x256 .f32 := broadcastInDim S1x256x256 ![0, 1, 2] bcast_S1x256x1_S1x256x256_0_1_2 main_v12609
  let main_c_1990 : IVec S_ 32 := constantI S_ 32 143#32
  let main_v12611 : IVec S1x256x256 32 := broadcastInDim S1x256x256 ![] bcast_S_S1x256x256 main_c_1990
  let main_v12612 : IVec S1x256x256 1 := cmpi .sgt main_v9886 main_v12611
  let main_c_1991 : IVec S_ 32 := constantI S_ 32 143#32
  let main_v12613 : IVec S1x256x256 32 := broadcastInDim S1x256x256 ![] bcast_S_S1x256x256 main_c_1991
  let main_v12614 : IVec S1x256x256 1 := cmpi .sgt main_v9887 main_v12613
  let main_v12615 : IVec S1x256x256 1 := andi main_v12612 main_v12614
  let main_v12616 : FVec F S1x256x256 .f32 := broadcastInDim S1x256x256 ![0, 1, 2] bcast_S1x1x256_S1x256x256_0_1_2 main_v12605
  let main_v12617 : FVec F S1x256x256 .f32 := mulf main_v12610 main_v12616
  let main_v12618 : FVec F S1x256x256 .f32 := subf main_v12604 main_v12617
  let main_v12619 : FVec F S1x256x256 .f32 := select main_v12615 main_v12618 main_v12604
  let main_c_1992 : IVec S_ 32 := constantI S_ 32 143#32
  let main_v12620 : IVec S1x256x256 32 := broadcastInDim S1x256x256 ![] bcast_S_S1x256x256 main_c_1992
  let main_v12621 : IVec S1x256x256 1 := cmpi .eq main_v9887 main_v12620
  fn_part609 (F := F) main_arg0 main_v4875 main_v9852 main_v9886 main_v9887 main_v12610 main_v12612 main_v12619 main_v12621

def fn_part607 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12566 : FVec F S1x256x256 .f32) (main_v12572 : FVec F S1x256x256 .f32) (main_v12574 : IVec S1x256x256 1) (main_v12577 : IVec S1x256x256 1) (main_v12580 : FVec F S1x256x256 .f32) : IVec S9x256x256 1 × IVec S8x256x256 1 :=
  let main_v12581 : FVec F S1x256x256 .f32 := select main_v12577 main_v12580 main_v12566
  let main_c_1986 : IVec S_ 32 := constantI S_ 32 141#32
  let main_v12582 : IVec S1x256x256 32 := broadcastInDim S1x256x256 ![] bcast_S_S1x256x256 main_c_1986
  let main_v12583 : IVec S1x256x256 1 := cmpi .eq main_v9887 main_v12582
  let main_v12584 : IVec S1x256x256 1 := andi main_v12574 main_v12583
  let main_v12585 : FVec F S1x256x256 .f32 := select main_v12584 main_v12572 main_v12581
  let main_v12586 : FVec F S1x1x256 .f32 := (extractStridedSlice S1x1x256 ![0, 142, 0] · slices_S1x256x256_S1x1x256_0_142_0) main_v12585
  let main_v12587 : FVec F S1x256x1 .f32 := (extractStridedSlice S1x256x1 ![0, 0, 142] · slices_S1x256x256_S1x256x1_0_0_142) main_v12585
  let main_v12588 : FVec F S1x1x1 .f32 := (extractStridedSlice S1x1x1 ![0, 0, 142] · slices_S1x1x256_S1x1x1_0_0_142) main_v12586
  let main_v12589 : FVec F S1x256x1 .f32 := broadcastInDim S1x256x1 ![0, 1, 2] bcast_S1x1x1_S1x256x1_0_1_2 main_v12588
  let main_v12590 : FVec F S1x256x1 .f32 := Host.divf main_v12587 main_v12589
  let main_v12591 : FVec F S1x256x256 .f32 := broadcastInDim S1x256x256 ![0, 1, 2] bcast_S1x256x1_S1x256x256_0_1_2 main_v12590
  let main_c_1987 : IVec S_ 32 := constantI S_ 32 142#32
  let main_v12592 : IVec S1x256x256 32 := broadcastInDim S1x256x256 ![] bcast_S_S1x256x256 main_c_1987
  let main_v12593 : IVec S1x256x256 1 := cmpi .sgt main_v9886 main_v12592
  let main_c_1988 : IVec S_ 32 := constantI S_ 32 142#32
  let main_v12594 : IVec S1x256x256 32 := broadcastInDim S1x256x256 ![] bcast_S_S1x256x256 main_c_1988
  let main_v12595 : IVec S1x256x256 1 := cmpi .sgt main_v9887 main_v12594
  let main_v12596 : IVec S1x256x256 1 := andi main_v12593 main_v12595
  let main_v12597 : FVec F S1x256x256 .f32 := broadcastInDim S1x256x256 ![0, 1, 2] bcast_S1x1x256_S1x256x256_0_1_2 main_v12586
  let main_v12598 : FVec F S1x256x256 .f32 := mulf main_v12591 main_v12597
  let main_v12599 : FVec F S1x256x256 .f32 := subf main_v12585 main_v12598
  let main_v12600 : FVec F S1x256x256 .f32 := select main_v12596 main_v12599 main_v12585
  let main_c_1989 : IVec S_ 32 := constantI S_ 32 142#32
  fn_part608 (F := F) main_arg0 main_v4875 main_v9852 main_v9886 main_v9887 main_v12591 main_v12593 main_v12600 main_c_1989

def fn_part606 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12547 : FVec F S1x256x256 .f32) (main_v12553 : FVec F S1x256x256 .f32) (main_v12555 : IVec S1x256x256 1) (main_v12558 : IVec S1x256x256 1) (main_v12559 : FVec F S1x256x256 .f32) : IVec S9x256x256 1 × IVec S8x256x256 1 :=
  let main_v12560 : FVec F S1x256x256 .f32 := mulf main_v12553 main_v12559
  let main_v12561 : FVec F S1x256x256 .f32 := subf main_v12547 main_v12560
  let main_v12562 : FVec F S1x256x256 .f32 := select main_v12558 main_v12561 main_v12547
  let main_c_1983 : IVec S_ 32 := constantI S_ 32 140#32
  let main_v12563 : IVec S1x256x256 32 := broadcastInDim S1x256x256 ![] bcast_S_S1x256x256 main_c_1983
  let main_v12564 : IVec S1x256x256 1 := cmpi .eq main_v9887 main_v12563
  let main_v12565 : IVec S1x256x256 1 := andi main_v12555 main_v12564
  let main_v12566 : FVec F S1x256x256 .f32 := select main_v12565 main_v12553 main_v12562
  let main_v12567 : FVec F S1x1x256 .f32 := (extractStridedSlice S1x1x256 ![0, 141, 0] · slices_S1x256x256_S1x1x256_0_141_0) main_v12566
  let main_v12568 : FVec F S1x256x1 .f32 := (extractStridedSlice S1x256x1 ![0, 0, 141] · slices_S1x256x256_S1x256x1_0_0_141) main_v12566
  let main_v12569 : FVec F S1x1x1 .f32 := (extractStridedSlice S1x1x1 ![0, 0, 141] · slices_S1x1x256_S1x1x1_0_0_141) main_v12567
  let main_v12570 : FVec F S1x256x1 .f32 := broadcastInDim S1x256x1 ![0, 1, 2] bcast_S1x1x1_S1x256x1_0_1_2 main_v12569
  let main_v12571 : FVec F S1x256x1 .f32 := Host.divf main_v12568 main_v12570
  let main_v12572 : FVec F S1x256x256 .f32 := broadcastInDim S1x256x256 ![0, 1, 2] bcast_S1x256x1_S1x256x256_0_1_2 main_v12571
  let main_c_1984 : IVec S_ 32 := constantI S_ 32 141#32
  let main_v12573 : IVec S1x256x256 32 := broadcastInDim S1x256x256 ![] bcast_S_S1x256x256 main_c_1984
  let main_v12574 : IVec S1x256x256 1 := cmpi .sgt main_v9886 main_v12573
  let main_c_1985 : IVec S_ 32 := constantI S_ 32 141#32
  let main_v12575 : IVec S1x256x256 32 := broadcastInDim S1x256x256 ![] bcast_S_S1x256x256 main_c_1985
  let main_v12576 : IVec S1x256x256 1 := cmpi .sgt main_v9887 main_v12575
  let main_v12577 : IVec S1x256x256 1 := andi main_v12574 main_v12576
  let main_v12578 : FVec F S1x256x256 .f32 := broadcastInDim S1x256x256 ![0, 1, 2] bcast_S1x1x256_S1x256x256_0_1_2 main_v12567
  let main_v12579 : FVec F S1x256x256 .f32 := mulf main_v12572 main_v12578
  let main_v12580 : FVec F S1x256x256 .f32 := subf main_v12566 main_v12579
  fn_part607 (F := F) main_arg0 main_v4875 main_v9852 main_v9886 main_v9887 main_v12566 main_v12572 main_v12574 main_v12577 main_v12580

def fn_part605 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12528 : FVec F S1x256x256 .f32) (main_v12529 : FVec F S1x1x256 .f32) (main_v12534 : FVec F S1x256x256 .f32) (main_v12536 : IVec S1x256x256 1) (main_v12538 : IVec S1x256x256 1) : IVec S9x256x256 1 × IVec S8x256x256 1 :=
  let main_v12539 : IVec S1x256x256 1 := andi main_v12536 main_v12538
  let main_v12540 : FVec F S1x256x256 .f32 := broadcastInDim S1x256x256 ![0, 1, 2] bcast_S1x1x256_S1x256x256_0_1_2 main_v12529
  let main_v12541 : FVec F S1x256x256 .f32 := mulf main_v12534 main_v12540
  let main_v12542 : FVec F S1x256x256 .f32 := subf main_v12528 main_v12541
  let main_v12543 : FVec F S1x256x256 .f32 := select main_v12539 main_v12542 main_v12528
  let main_c_1980 : IVec S_ 32 := constantI S_ 32 139#32
  let main_v12544 : IVec S1x256x256 32 := broadcastInDim S1x256x256 ![] bcast_S_S1x256x256 main_c_1980
  let main_v12545 : IVec S1x256x256 1 := cmpi .eq main_v9887 main_v12544
  let main_v12546 : IVec S1x256x256 1 := andi main_v12536 main_v12545
  let main_v12547 : FVec F S1x256x256 .f32 := select main_v12546 main_v12534 main_v12543
  let main_v12548 : FVec F S1x1x256 .f32 := (extractStridedSlice S1x1x256 ![0, 140, 0] · slices_S1x256x256_S1x1x256_0_140_0) main_v12547
  let main_v12549 : FVec F S1x256x1 .f32 := (extractStridedSlice S1x256x1 ![0, 0, 140] · slices_S1x256x256_S1x256x1_0_0_140) main_v12547
  let main_v12550 : FVec F S1x1x1 .f32 := (extractStridedSlice S1x1x1 ![0, 0, 140] · slices_S1x1x256_S1x1x1_0_0_140) main_v12548
  let main_v12551 : FVec F S1x256x1 .f32 := broadcastInDim S1x256x1 ![0, 1, 2] bcast_S1x1x1_S1x256x1_0_1_2 main_v12550
  let main_v12552 : FVec F S1x256x1 .f32 := Host.divf main_v12549 main_v12551
  let main_v12553 : FVec F S1x256x256 .f32 := broadcastInDim S1x256x256 ![0, 1, 2] bcast_S1x256x1_S1x256x256_0_1_2 main_v12552
  let main_c_1981 : IVec S_ 32 := constantI S_ 32 140#32
  let main_v12554 : IVec S1x256x256 32 := broadcastInDim S1x256x256 ![] bcast_S_S1x256x256 main_c_1981
  let main_v12555 : IVec S1x256x256 1 := cmpi .sgt main_v9886 main_v12554
  let main_c_1982 : IVec S_ 32 := constantI S_ 32 140#32
  let main_v12556 : IVec S1x256x256 32 := broadcastInDim S1x256x256 ![] bcast_S_S1x256x256 main_c_1982
  let main_v12557 : IVec S1x256x256 1 := cmpi .sgt main_v9887 main_v12556
  let main_v12558 : IVec S1x256x256 1 := andi main_v12555 main_v12557
  let main_v12559 : FVec F S1x256x256 .f32 := broadcastInDim S1x256x256 ![0, 1, 2] bcast_S1x1x256_S1x256x256_0_1_2 main_v12548
  fn_part606 (F := F) main_arg0 main_v4875 main_v9852 main_v9886 main_v9887 main_v12547 main_v12553 main_v12555 main_v12558 main_v12559

def fn_part604 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12509 : FVec F S1x256x256 .f32) (main_v12510 : FVec F S1x1x256 .f32) (main_v12515 : FVec F S1x256x256 .f32) (main_v12517 : IVec S1x256x256 1) (main_c_1976 : IVec S_ 32) : IVec S9x256x256 1 × IVec S8x256x256 1 :=
  let main_v12518 : IVec S1x256x256 32 := broadcastInDim S1x256x256 ![] bcast_S_S1x256x256 main_c_1976
  let main_v12519 : IVec S1x256x256 1 := cmpi .sgt main_v9887 main_v12518
  let main_v12520 : IVec S1x256x256 1 := andi main_v12517 main_v12519
  let main_v12521 : FVec F S1x256x256 .f32 := broadcastInDim S1x256x256 ![0, 1, 2] bcast_S1x1x256_S1x256x256_0_1_2 main_v12510
  let main_v12522 : FVec F S1x256x256 .f32 := mulf main_v12515 main_v12521
  let main_v12523 : FVec F S1x256x256 .f32 := subf main_v12509 main_v12522
  let main_v12524 : FVec F S1x256x256 .f32 := select main_v12520 main_v12523 main_v12509
  let main_c_1977 : IVec S_ 32 := constantI S_ 32 138#32
  let main_v12525 : IVec S1x256x256 32 := broadcastInDim S1x256x256 ![] bcast_S_S1x256x256 main_c_1977
  let main_v12526 : IVec S1x256x256 1 := cmpi .eq main_v9887 main_v12525
  let main_v12527 : IVec S1x256x256 1 := andi main_v12517 main_v12526
  let main_v12528 : FVec F S1x256x256 .f32 := select main_v12527 main_v12515 main_v12524
  let main_v12529 : FVec F S1x1x256 .f32 := (extractStridedSlice S1x1x256 ![0, 139, 0] · slices_S1x256x256_S1x1x256_0_139_0) main_v12528
  let main_v12530 : FVec F S1x256x1 .f32 := (extractStridedSlice S1x256x1 ![0, 0, 139] · slices_S1x256x256_S1x256x1_0_0_139) main_v12528
  let main_v12531 : FVec F S1x1x1 .f32 := (extractStridedSlice S1x1x1 ![0, 0, 139] · slices_S1x1x256_S1x1x1_0_0_139) main_v12529
  let main_v12532 : FVec F S1x256x1 .f32 := broadcastInDim S1x256x1 ![0, 1, 2] bcast_S1x1x1_S1x256x1_0_1_2 main_v12531
  let main_v12533 : FVec F S1x256x1 .f32 := Host.divf main_v12530 main_v12532
  let main_v12534 : FVec F S1x256x256 .f32 := broadcastInDim S1x256x256 ![0, 1, 2] bcast_S1x256x1_S1x256x256_0_1_2 main_v12533
  let main_c_1978 : IVec S_ 32 := constantI S_ 32 139#32
  let main_v12535 : IVec S1x256x256 32 := broadcastInDim S1x256x256 ![] bcast_S_S1x256x256 main_c_1978
  let main_v12536 : IVec S1x256x256 1 := cmpi .sgt main_v9886 main_v12535
  let main_c_1979 : IVec S_ 32 := constantI S_ 32 139#32
  let main_v12537 : IVec S1x256x256 32 := broadcastInDim S1x256x256 ![] bcast_S_S1x256x256 main_c_1979
  let main_v12538 : IVec S1x256x256 1 := cmpi .sgt main_v9887 main_v12537
  fn_part605 (F := F) main_arg0 main_v4875 main_v9852 main_v9886 main_v9887 main_v12528 main_v12529 main_v12534 main_v12536 main_v12538

def fn_part603 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12490 : FVec F S1x256x256 .f32) (main_v12491 : FVec F S1x1x256 .f32) (main_v12496 : FVec F S1x256x256 .f32) (main_v12497 : IVec S1x256x256 32) : IVec S9x256x256 1 × IVec S8x256x256 1 :=
  let main_v12498 : IVec S1x256x256 1 := cmpi .sgt main_v9886 main_v12497
  let main_c_1973 : IVec S_ 32 := constantI S_ 32 137#32
  let main_v12499 : IVec S1x256x256 32 := broadcastInDim S1x256x256 ![] bcast_S_S1x256x256 main_c_1973
  let main_v12500 : IVec S1x256x256 1 := cmpi .sgt main_v9887 main_v12499
  let main_v12501 : IVec S1x256x256 1 := andi main_v12498 main_v12500
  let main_v12502 : FVec F S1x256x256 .f32 := broadcastInDim S1x256x256 ![0, 1, 2] bcast_S1x1x256_S1x256x256_0_1_2 main_v12491
  let main_v12503 : FVec F S1x256x256 .f32 := mulf main_v12496 main_v12502
  let main_v12504 : FVec F S1x256x256 .f32 := subf main_v12490 main_v12503
  let main_v12505 : FVec F S1x256x256 .f32 := select main_v12501 main_v12504 main_v12490
  let main_c_1974 : IVec S_ 32 := constantI S_ 32 137#32
  let main_v12506 : IVec S1x256x256 32 := broadcastInDim S1x256x256 ![] bcast_S_S1x256x256 main_c_1974
  let main_v12507 : IVec S1x256x256 1 := cmpi .eq main_v9887 main_v12506
  let main_v12508 : IVec S1x256x256 1 := andi main_v12498 main_v12507
  let main_v12509 : FVec F S1x256x256 .f32 := select main_v12508 main_v12496 main_v12505
  let main_v12510 : FVec F S1x1x256 .f32 := (extractStridedSlice S1x1x256 ![0, 138, 0] · slices_S1x256x256_S1x1x256_0_138_0) main_v12509
  let main_v12511 : FVec F S1x256x1 .f32 := (extractStridedSlice S1x256x1 ![0, 0, 138] · slices_S1x256x256_S1x256x1_0_0_138) main_v12509
  let main_v12512 : FVec F S1x1x1 .f32 := (extractStridedSlice S1x1x1 ![0, 0, 138] · slices_S1x1x256_S1x1x1_0_0_138) main_v12510
  let main_v12513 : FVec F S1x256x1 .f32 := broadcastInDim S1x256x1 ![0, 1, 2] bcast_S1x1x1_S1x256x1_0_1_2 main_v12512
  let main_v12514 : FVec F S1x256x1 .f32 := Host.divf main_v12511 main_v12513
  let main_v12515 : FVec F S1x256x256 .f32 := broadcastInDim S1x256x256 ![0, 1, 2] bcast_S1x256x1_S1x256x256_0_1_2 main_v12514
  let main_c_1975 : IVec S_ 32 := constantI S_ 32 138#32
  let main_v12516 : IVec S1x256x256 32 := broadcastInDim S1x256x256 ![] bcast_S_S1x256x256 main_c_1975
  let main_v12517 : IVec S1x256x256 1 := cmpi .sgt main_v9886 main_v12516
  let main_c_1976 : IVec S_ 32 := constantI S_ 32 138#32
  fn_part604 (F := F) main_arg0 main_v4875 main_v9852 main_v9886 main_v9887 main_v12509 main_v12510 main_v12515 main_v12517 main_c_1976

def fn_part602 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12471 : FVec F S1x256x256 .f32) (main_v12472 : FVec F S1x1x256 .f32) (main_v12477 : FVec F S1x256x256 .f32) : IVec S9x256x256 1 × IVec S8x256x256 1 :=
  let main_c_1969 : IVec S_ 32 := constantI S_ 32 136#32
  let main_v12478 : IVec S1x256x256 32 := broadcastInDim S1x256x256 ![] bcast_S_S1x256x256 main_c_1969
  let main_v12479 : IVec S1x256x256 1 := cmpi .sgt main_v9886 main_v12478
  let main_c_1970 : IVec S_ 32 := constantI S_ 32 136#32
  let main_v12480 : IVec S1x256x256 32 := broadcastInDim S1x256x256 ![] bcast_S_S1x256x256 main_c_1970
  let main_v12481 : IVec S1x256x256 1 := cmpi .sgt main_v9887 main_v12480
  let main_v12482 : IVec S1x256x256 1 := andi main_v12479 main_v12481
  let main_v12483 : FVec F S1x256x256 .f32 := broadcastInDim S1x256x256 ![0, 1, 2] bcast_S1x1x256_S1x256x256_0_1_2 main_v12472
  let main_v12484 : FVec F S1x256x256 .f32 := mulf main_v12477 main_v12483
  let main_v12485 : FVec F S1x256x256 .f32 := subf main_v12471 main_v12484
  let main_v12486 : FVec F S1x256x256 .f32 := select main_v12482 main_v12485 main_v12471
  let main_c_1971 : IVec S_ 32 := constantI S_ 32 136#32
  let main_v12487 : IVec S1x256x256 32 := broadcastInDim S1x256x256 ![] bcast_S_S1x256x256 main_c_1971
  let main_v12488 : IVec S1x256x256 1 := cmpi .eq main_v9887 main_v12487
  let main_v12489 : IVec S1x256x256 1 := andi main_v12479 main_v12488
  let main_v12490 : FVec F S1x256x256 .f32 := select main_v12489 main_v12477 main_v12486
  let main_v12491 : FVec F S1x1x256 .f32 := (extractStridedSlice S1x1x256 ![0, 137, 0] · slices_S1x256x256_S1x1x256_0_137_0) main_v12490
  let main_v12492 : FVec F S1x256x1 .f32 := (extractStridedSlice S1x256x1 ![0, 0, 137] · slices_S1x256x256_S1x256x1_0_0_137) main_v12490
  let main_v12493 : FVec F S1x1x1 .f32 := (extractStridedSlice S1x1x1 ![0, 0, 137] · slices_S1x1x256_S1x1x1_0_0_137) main_v12491
  let main_v12494 : FVec F S1x256x1 .f32 := broadcastInDim S1x256x1 ![0, 1, 2] bcast_S1x1x1_S1x256x1_0_1_2 main_v12493
  let main_v12495 : FVec F S1x256x1 .f32 := Host.divf main_v12492 main_v12494
  let main_v12496 : FVec F S1x256x256 .f32 := broadcastInDim S1x256x256 ![0, 1, 2] bcast_S1x256x1_S1x256x256_0_1_2 main_v12495
  let main_c_1972 : IVec S_ 32 := constantI S_ 32 137#32
  let main_v12497 : IVec S1x256x256 32 := broadcastInDim S1x256x256 ![] bcast_S_S1x256x256 main_c_1972
  fn_part603 (F := F) main_arg0 main_v4875 main_v9852 main_v9886 main_v9887 main_v12490 main_v12491 main_v12496 main_v12497

def fn_part601 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12452 : FVec F S1x256x256 .f32) (main_v12453 : FVec F S1x1x256 .f32) (main_v12454 : FVec F S1x256x1 .f32) (main_v12456 : FVec F S1x256x1 .f32) : IVec S9x256x256 1 × IVec S8x256x256 1 :=
  let main_v12457 : FVec F S1x256x1 .f32 := Host.divf main_v12454 main_v12456
  let main_v12458 : FVec F S1x256x256 .f32 := broadcastInDim S1x256x256 ![0, 1, 2] bcast_S1x256x1_S1x256x256_0_1_2 main_v12457
  let main_c_1966 : IVec S_ 32 := constantI S_ 32 135#32
  let main_v12459 : IVec S1x256x256 32 := broadcastInDim S1x256x256 ![] bcast_S_S1x256x256 main_c_1966
  let main_v12460 : IVec S1x256x256 1 := cmpi .sgt main_v9886 main_v12459
  let main_c_1967 : IVec S_ 32 := constantI S_ 32 135#32
  let main_v12461 : IVec S1x256x256 32 := broadcastInDim S1x256x256 ![] bcast_S_S1x256x256 main_c_1967
  let main_v12462 : IVec S1x256x256 1 := cmpi .sgt main_v9887 main_v12461
  let main_v12463 : IVec S1x256x256 1 := andi main_v12460 main_v12462
  let main_v12464 : FVec F S1x256x256 .f32 := broadcastInDim S1x256x256 ![0, 1, 2] bcast_S1x1x256_S1x256x256_0_1_2 main_v12453
  let main_v12465 : FVec F S1x256x256 .f32 := mulf main_v12458 main_v12464
  let main_v12466 : FVec F S1x256x256 .f32 := subf main_v12452 main_v12465
  let main_v12467 : FVec F S1x256x256 .f32 := select main_v12463 main_v12466 main_v12452
  let main_c_1968 : IVec S_ 32 := constantI S_ 32 135#32
  let main_v12468 : IVec S1x256x256 32 := broadcastInDim S1x256x256 ![] bcast_S_S1x256x256 main_c_1968
  let main_v12469 : IVec S1x256x256 1 := cmpi .eq main_v9887 main_v12468
  let main_v12470 : IVec S1x256x256 1 := andi main_v12460 main_v12469
  let main_v12471 : FVec F S1x256x256 .f32 := select main_v12470 main_v12458 main_v12467
  let main_v12472 : FVec F S1x1x256 .f32 := (extractStridedSlice S1x1x256 ![0, 136, 0] · slices_S1x256x256_S1x1x256_0_136_0) main_v12471
  let main_v12473 : FVec F S1x256x1 .f32 := (extractStridedSlice S1x256x1 ![0, 0, 136] · slices_S1x256x256_S1x256x1_0_0_136) main_v12471
  let main_v12474 : FVec F S1x1x1 .f32 := (extractStridedSlice S1x1x1 ![0, 0, 136] · slices_S1x1x256_S1x1x1_0_0_136) main_v12472
  let main_v12475 : FVec F S1x256x1 .f32 := broadcastInDim S1x256x1 ![0, 1, 2] bcast_S1x1x1_S1x256x1_0_1_2 main_v12474
  let main_v12476 : FVec F S1x256x1 .f32 := Host.divf main_v12473 main_v12475
  let main_v12477 : FVec F S1x256x256 .f32 := broadcastInDim S1x256x256 ![0, 1, 2] bcast_S1x256x1_S1x256x256_0_1_2 main_v12476
  fn_part602 (F := F) main_arg0 main_v4875 main_v9852 main_v9886 main_v9887 main_v12471 main_v12472 main_v12477

def fn_part600 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12433 : FVec F S1x256x256 .f32) (main_v12434 : FVec F S1x1x256 .f32) (main_v12435 : FVec F S1x256x1 .f32) : IVec S9x256x256 1 × IVec S8x256x256 1 :=
  let main_v12436 : FVec F S1x1x1 .f32 := (extractStridedSlice S1x1x1 ![0, 0, 134] · slices_S1x1x256_S1x1x1_0_0_134) main_v12434
  let main_v12437 : FVec F S1x256x1 .f32 := broadcastInDim S1x256x1 ![0, 1, 2] bcast_S1x1x1_S1x256x1_0_1_2 main_v12436
  let main_v12438 : FVec F S1x256x1 .f32 := Host.divf main_v12435 main_v12437
  let main_v12439 : FVec F S1x256x256 .f32 := broadcastInDim S1x256x256 ![0, 1, 2] bcast_S1x256x1_S1x256x256_0_1_2 main_v12438
  let main_c_1963 : IVec S_ 32 := constantI S_ 32 134#32
  let main_v12440 : IVec S1x256x256 32 := broadcastInDim S1x256x256 ![] bcast_S_S1x256x256 main_c_1963
  let main_v12441 : IVec S1x256x256 1 := cmpi .sgt main_v9886 main_v12440
  let main_c_1964 : IVec S_ 32 := constantI S_ 32 134#32
  let main_v12442 : IVec S1x256x256 32 := broadcastInDim S1x256x256 ![] bcast_S_S1x256x256 main_c_1964
  let main_v12443 : IVec S1x256x256 1 := cmpi .sgt main_v9887 main_v12442
  let main_v12444 : IVec S1x256x256 1 := andi main_v12441 main_v12443
  let main_v12445 : FVec F S1x256x256 .f32 := broadcastInDim S1x256x256 ![0, 1, 2] bcast_S1x1x256_S1x256x256_0_1_2 main_v12434
  let main_v12446 : FVec F S1x256x256 .f32 := mulf main_v12439 main_v12445
  let main_v12447 : FVec F S1x256x256 .f32 := subf main_v12433 main_v12446
  let main_v12448 : FVec F S1x256x256 .f32 := select main_v12444 main_v12447 main_v12433
  let main_c_1965 : IVec S_ 32 := constantI S_ 32 134#32
  let main_v12449 : IVec S1x256x256 32 := broadcastInDim S1x256x256 ![] bcast_S_S1x256x256 main_c_1965
  let main_v12450 : IVec S1x256x256 1 := cmpi .eq main_v9887 main_v12449
  let main_v12451 : IVec S1x256x256 1 := andi main_v12441 main_v12450
  let main_v12452 : FVec F S1x256x256 .f32 := select main_v12451 main_v12439 main_v12448
  let main_v12453 : FVec F S1x1x256 .f32 := (extractStridedSlice S1x1x256 ![0, 135, 0] · slices_S1x256x256_S1x1x256_0_135_0) main_v12452
  let main_v12454 : FVec F S1x256x1 .f32 := (extractStridedSlice S1x256x1 ![0, 0, 135] · slices_S1x256x256_S1x256x1_0_0_135) main_v12452
  let main_v12455 : FVec F S1x1x1 .f32 := (extractStridedSlice S1x1x1 ![0, 0, 135] · slices_S1x1x256_S1x1x1_0_0_135) main_v12453
  let main_v12456 : FVec F S1x256x1 .f32 := broadcastInDim S1x256x1 ![0, 1, 2] bcast_S1x1x1_S1x256x1_0_1_2 main_v12455
  fn_part601 (F := F) main_arg0 main_v4875 main_v9852 main_v9886 main_v9887 main_v12452 main_v12453 main_v12454 main_v12456

def fn_part599 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12414 : FVec F S1x256x256 .f32) : IVec S9x256x256 1 × IVec S8x256x256 1 :=
  let main_v12415 : FVec F S1x1x256 .f32 := (extractStridedSlice S1x1x256 ![0, 133, 0] · slices_S1x256x256_S1x1x256_0_133_0) main_v12414
  let main_v12416 : FVec F S1x256x1 .f32 := (extractStridedSlice S1x256x1 ![0, 0, 133] · slices_S1x256x256_S1x256x1_0_0_133) main_v12414
  let main_v12417 : FVec F S1x1x1 .f32 := (extractStridedSlice S1x1x1 ![0, 0, 133] · slices_S1x1x256_S1x1x1_0_0_133) main_v12415
  let main_v12418 : FVec F S1x256x1 .f32 := broadcastInDim S1x256x1 ![0, 1, 2] bcast_S1x1x1_S1x256x1_0_1_2 main_v12417
  let main_v12419 : FVec F S1x256x1 .f32 := Host.divf main_v12416 main_v12418
  let main_v12420 : FVec F S1x256x256 .f32 := broadcastInDim S1x256x256 ![0, 1, 2] bcast_S1x256x1_S1x256x256_0_1_2 main_v12419
  let main_c_1960 : IVec S_ 32 := constantI S_ 32 133#32
  let main_v12421 : IVec S1x256x256 32 := broadcastInDim S1x256x256 ![] bcast_S_S1x256x256 main_c_1960
  let main_v12422 : IVec S1x256x256 1 := cmpi .sgt main_v9886 main_v12421
  let main_c_1961 : IVec S_ 32 := constantI S_ 32 133#32
  let main_v12423 : IVec S1x256x256 32 := broadcastInDim S1x256x256 ![] bcast_S_S1x256x256 main_c_1961
  let main_v12424 : IVec S1x256x256 1 := cmpi .sgt main_v9887 main_v12423
  let main_v12425 : IVec S1x256x256 1 := andi main_v12422 main_v12424
  let main_v12426 : FVec F S1x256x256 .f32 := broadcastInDim S1x256x256 ![0, 1, 2] bcast_S1x1x256_S1x256x256_0_1_2 main_v12415
  let main_v12427 : FVec F S1x256x256 .f32 := mulf main_v12420 main_v12426
  let main_v12428 : FVec F S1x256x256 .f32 := subf main_v12414 main_v12427
  let main_v12429 : FVec F S1x256x256 .f32 := select main_v12425 main_v12428 main_v12414
  let main_c_1962 : IVec S_ 32 := constantI S_ 32 133#32
  let main_v12430 : IVec S1x256x256 32 := broadcastInDim S1x256x256 ![] bcast_S_S1x256x256 main_c_1962
  let main_v12431 : IVec S1x256x256 1 := cmpi .eq main_v9887 main_v12430
  let main_v12432 : IVec S1x256x256 1 := andi main_v12422 main_v12431
  let main_v12433 : FVec F S1x256x256 .f32 := select main_v12432 main_v12420 main_v12429
  let main_v12434 : FVec F S1x1x256 .f32 := (extractStridedSlice S1x1x256 ![0, 134, 0] · slices_S1x256x256_S1x1x256_0_134_0) main_v12433
  let main_v12435 : FVec F S1x256x1 .f32 := (extractStridedSlice S1x256x1 ![0, 0, 134] · slices_S1x256x256_S1x256x1_0_0_134) main_v12433
  fn_part600 (F := F) main_arg0 main_v4875 main_v9852 main_v9886 main_v9887 main_v12433 main_v12434 main_v12435

def fn_part598 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12382 : FVec F S1x256x256 .f32) (main_v12384 : IVec S1x256x256 1) (main_v12391 : FVec F S1x256x256 .f32) (main_v12393 : IVec S1x256x256 1) : IVec S9x256x256 1 × IVec S8x256x256 1 :=
  let main_v12394 : IVec S1x256x256 1 := andi main_v12384 main_v12393
  let main_v12395 : FVec F S1x256x256 .f32 := select main_v12394 main_v12382 main_v12391
  let main_v12396 : FVec F S1x1x256 .f32 := (extractStridedSlice S1x1x256 ![0, 132, 0] · slices_S1x256x256_S1x1x256_0_132_0) main_v12395
  let main_v12397 : FVec F S1x256x1 .f32 := (extractStridedSlice S1x256x1 ![0, 0, 132] · slices_S1x256x256_S1x256x1_0_0_132) main_v12395
  let main_v12398 : FVec F S1x1x1 .f32 := (extractStridedSlice S1x1x1 ![0, 0, 132] · slices_S1x1x256_S1x1x1_0_0_132) main_v12396
  let main_v12399 : FVec F S1x256x1 .f32 := broadcastInDim S1x256x1 ![0, 1, 2] bcast_S1x1x1_S1x256x1_0_1_2 main_v12398
  let main_v12400 : FVec F S1x256x1 .f32 := Host.divf main_v12397 main_v12399
  let main_v12401 : FVec F S1x256x256 .f32 := broadcastInDim S1x256x256 ![0, 1, 2] bcast_S1x256x1_S1x256x256_0_1_2 main_v12400
  let main_c_1957 : IVec S_ 32 := constantI S_ 32 132#32
  let main_v12402 : IVec S1x256x256 32 := broadcastInDim S1x256x256 ![] bcast_S_S1x256x256 main_c_1957
  let main_v12403 : IVec S1x256x256 1 := cmpi .sgt main_v9886 main_v12402
  let main_c_1958 : IVec S_ 32 := constantI S_ 32 132#32
  let main_v12404 : IVec S1x256x256 32 := broadcastInDim S1x256x256 ![] bcast_S_S1x256x256 main_c_1958
  let main_v12405 : IVec S1x256x256 1 := cmpi .sgt main_v9887 main_v12404
  let main_v12406 : IVec S1x256x256 1 := andi main_v12403 main_v12405
  let main_v12407 : FVec F S1x256x256 .f32 := broadcastInDim S1x256x256 ![0, 1, 2] bcast_S1x1x256_S1x256x256_0_1_2 main_v12396
  let main_v12408 : FVec F S1x256x256 .f32 := mulf main_v12401 main_v12407
  let main_v12409 : FVec F S1x256x256 .f32 := subf main_v12395 main_v12408
  let main_v12410 : FVec F S1x256x256 .f32 := select main_v12406 main_v12409 main_v12395
  let main_c_1959 : IVec S_ 32 := constantI S_ 32 132#32
  let main_v12411 : IVec S1x256x256 32 := broadcastInDim S1x256x256 ![] bcast_S_S1x256x256 main_c_1959
  let main_v12412 : IVec S1x256x256 1 := cmpi .eq main_v9887 main_v12411
  let main_v12413 : IVec S1x256x256 1 := andi main_v12403 main_v12412
  let main_v12414 : FVec F S1x256x256 .f32 := select main_v12413 main_v12401 main_v12410
  fn_part599 (F := F) main_arg0 main_v4875 main_v9852 main_v9886 main_v9887 main_v12414

def fn_part597 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12363 : FVec F S1x256x256 .f32) (main_v12365 : IVec S1x256x256 1) (main_v12372 : FVec F S1x256x256 .f32) (main_c_1953 : IVec S_ 32) : IVec S9x256x256 1 × IVec S8x256x256 1 :=
  let main_v12373 : IVec S1x256x256 32 := broadcastInDim S1x256x256 ![] bcast_S_S1x256x256 main_c_1953
  let main_v12374 : IVec S1x256x256 1 := cmpi .eq main_v9887 main_v12373
  let main_v12375 : IVec S1x256x256 1 := andi main_v12365 main_v12374
  let main_v12376 : FVec F S1x256x256 .f32 := select main_v12375 main_v12363 main_v12372
  let main_v12377 : FVec F S1x1x256 .f32 := (extractStridedSlice S1x1x256 ![0, 131, 0] · slices_S1x256x256_S1x1x256_0_131_0) main_v12376
  let main_v12378 : FVec F S1x256x1 .f32 := (extractStridedSlice S1x256x1 ![0, 0, 131] · slices_S1x256x256_S1x256x1_0_0_131) main_v12376
  let main_v12379 : FVec F S1x1x1 .f32 := (extractStridedSlice S1x1x1 ![0, 0, 131] · slices_S1x1x256_S1x1x1_0_0_131) main_v12377
  let main_v12380 : FVec F S1x256x1 .f32 := broadcastInDim S1x256x1 ![0, 1, 2] bcast_S1x1x1_S1x256x1_0_1_2 main_v12379
  let main_v12381 : FVec F S1x256x1 .f32 := Host.divf main_v12378 main_v12380
  let main_v12382 : FVec F S1x256x256 .f32 := broadcastInDim S1x256x256 ![0, 1, 2] bcast_S1x256x1_S1x256x256_0_1_2 main_v12381
  let main_c_1954 : IVec S_ 32 := constantI S_ 32 131#32
  let main_v12383 : IVec S1x256x256 32 := broadcastInDim S1x256x256 ![] bcast_S_S1x256x256 main_c_1954
  let main_v12384 : IVec S1x256x256 1 := cmpi .sgt main_v9886 main_v12383
  let main_c_1955 : IVec S_ 32 := constantI S_ 32 131#32
  let main_v12385 : IVec S1x256x256 32 := broadcastInDim S1x256x256 ![] bcast_S_S1x256x256 main_c_1955
  let main_v12386 : IVec S1x256x256 1 := cmpi .sgt main_v9887 main_v12385
  let main_v12387 : IVec S1x256x256 1 := andi main_v12384 main_v12386
  let main_v12388 : FVec F S1x256x256 .f32 := broadcastInDim S1x256x256 ![0, 1, 2] bcast_S1x1x256_S1x256x256_0_1_2 main_v12377
  let main_v12389 : FVec F S1x256x256 .f32 := mulf main_v12382 main_v12388
  let main_v12390 : FVec F S1x256x256 .f32 := subf main_v12376 main_v12389
  let main_v12391 : FVec F S1x256x256 .f32 := select main_v12387 main_v12390 main_v12376
  let main_c_1956 : IVec S_ 32 := constantI S_ 32 131#32
  let main_v12392 : IVec S1x256x256 32 := broadcastInDim S1x256x256 ![] bcast_S_S1x256x256 main_c_1956
  let main_v12393 : IVec S1x256x256 1 := cmpi .eq main_v9887 main_v12392
  fn_part598 (F := F) main_arg0 main_v4875 main_v9852 main_v9886 main_v9887 main_v12382 main_v12384 main_v12391 main_v12393

def fn_part596 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12338 : FVec F S1x256x256 .f32) (main_v12344 : FVec F S1x256x256 .f32) (main_v12346 : IVec S1x256x256 1) (main_v12349 : IVec S1x256x256 1) (main_v12352 : FVec F S1x256x256 .f32) : IVec S9x256x256 1 × IVec S8x256x256 1 :=
  let main_v12353 : FVec F S1x256x256 .f32 := select main_v12349 main_v12352 main_v12338
  let main_c_1950 : IVec S_ 32 := constantI S_ 32 129#32
  let main_v12354 : IVec S1x256x256 32 := broadcastInDim S1x256x256 ![] bcast_S_S1x256x256 main_c_1950
  let main_v12355 : IVec S1x256x256 1 := cmpi .eq main_v9887 main_v12354
  let main_v12356 : IVec S1x256x256 1 := andi main_v12346 main_v12355
  let main_v12357 : FVec F S1x256x256 .f32 := select main_v12356 main_v12344 main_v12353
  let main_v12358 : FVec F S1x1x256 .f32 := (extractStridedSlice S1x1x256 ![0, 130, 0] · slices_S1x256x256_S1x1x256_0_130_0) main_v12357
  let main_v12359 : FVec F S1x256x1 .f32 := (extractStridedSlice S1x256x1 ![0, 0, 130] · slices_S1x256x256_S1x256x1_0_0_130) main_v12357
  let main_v12360 : FVec F S1x1x1 .f32 := (extractStridedSlice S1x1x1 ![0, 0, 130] · slices_S1x1x256_S1x1x1_0_0_130) main_v12358
  let main_v12361 : FVec F S1x256x1 .f32 := broadcastInDim S1x256x1 ![0, 1, 2] bcast_S1x1x1_S1x256x1_0_1_2 main_v12360
  let main_v12362 : FVec F S1x256x1 .f32 := Host.divf main_v12359 main_v12361
  let main_v12363 : FVec F S1x256x256 .f32 := broadcastInDim S1x256x256 ![0, 1, 2] bcast_S1x256x1_S1x256x256_0_1_2 main_v12362
  let main_c_1951 : IVec S_ 32 := constantI S_ 32 130#32
  let main_v12364 : IVec S1x256x256 32 := broadcastInDim S1x256x256 ![] bcast_S_S1x256x256 main_c_1951
  let main_v12365 : IVec S1x256x256 1 := cmpi .sgt main_v9886 main_v12364
  let main_c_1952 : IVec S_ 32 := constantI S_ 32 130#32
  let main_v12366 : IVec S1x256x256 32 := broadcastInDim S1x256x256 ![] bcast_S_S1x256x256 main_c_1952
  let main_v12367 : IVec S1x256x256 1 := cmpi .sgt main_v9887 main_v12366
  let main_v12368 : IVec S1x256x256 1 := andi main_v12365 main_v12367
  let main_v12369 : FVec F S1x256x256 .f32 := broadcastInDim S1x256x256 ![0, 1, 2] bcast_S1x1x256_S1x256x256_0_1_2 main_v12358
  let main_v12370 : FVec F S1x256x256 .f32 := mulf main_v12363 main_v12369
  let main_v12371 : FVec F S1x256x256 .f32 := subf main_v12357 main_v12370
  let main_v12372 : FVec F S1x256x256 .f32 := select main_v12368 main_v12371 main_v12357
  let main_c_1953 : IVec S_ 32 := constantI S_ 32 130#32
  fn_part597 (F := F) main_arg0 main_v4875 main_v9852 main_v9886 main_v9887 main_v12363 main_v12365 main_v12372 main_c_1953

def fn_part595 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12319 : FVec F S1x256x256 .f32) (main_v12325 : FVec F S1x256x256 .f32) (main_v12327 : IVec S1x256x256 1) (main_v12330 : IVec S1x256x256 1) (main_v12331 : FVec F S1x256x256 .f32) : IVec S9x256x256 1 × IVec S8x256x256 1 :=
  let main_v12332 : FVec F S1x256x256 .f32 := mulf main_v12325 main_v12331
  let main_v12333 : FVec F S1x256x256 .f32 := subf main_v12319 main_v12332
  let main_v12334 : FVec F S1x256x256 .f32 := select main_v12330 main_v12333 main_v12319
  let main_c_1947 : IVec S_ 32 := constantI S_ 32 128#32
  let main_v12335 : IVec S1x256x256 32 := broadcastInDim S1x256x256 ![] bcast_S_S1x256x256 main_c_1947
  let main_v12336 : IVec S1x256x256 1 := cmpi .eq main_v9887 main_v12335
  let main_v12337 : IVec S1x256x256 1 := andi main_v12327 main_v12336
  let main_v12338 : FVec F S1x256x256 .f32 := select main_v12337 main_v12325 main_v12334
  let main_v12339 : FVec F S1x1x256 .f32 := (extractStridedSlice S1x1x256 ![0, 129, 0] · slices_S1x256x256_S1x1x256_0_129_0) main_v12338
  let main_v12340 : FVec F S1x256x1 .f32 := (extractStridedSlice S1x256x1 ![0, 0, 129] · slices_S1x256x256_S1x256x1_0_0_129) main_v12338
  let main_v12341 : FVec F S1x1x1 .f32 := (extractStridedSlice S1x1x1 ![0, 0, 129] · slices_S1x1x256_S1x1x1_0_0_129) main_v12339
  let main_v12342 : FVec F S1x256x1 .f32 := broadcastInDim S1x256x1 ![0, 1, 2] bcast_S1x1x1_S1x256x1_0_1_2 main_v12341
  let main_v12343 : FVec F S1x256x1 .f32 := Host.divf main_v12340 main_v12342
  let main_v12344 : FVec F S1x256x256 .f32 := broadcastInDim S1x256x256 ![0, 1, 2] bcast_S1x256x1_S1x256x256_0_1_2 main_v12343
  let main_c_1948 : IVec S_ 32 := constantI S_ 32 129#32
  let main_v12345 : IVec S1x256x256 32 := broadcastInDim S1x256x256 ![] bcast_S_S1x256x256 main_c_1948
  let main_v12346 : IVec S1x256x256 1 := cmpi .sgt main_v9886 main_v12345
  let main_c_1949 : IVec S_ 32 := constantI S_ 32 129#32
  let main_v12347 : IVec S1x256x256 32 := broadcastInDim S1x256x256 ![] bcast_S_S1x256x256 main_c_1949
  let main_v12348 : IVec S1x256x256 1 := cmpi .sgt main_v9887 main_v12347
  let main_v12349 : IVec S1x256x256 1 := andi main_v12346 main_v12348
  let main_v12350 : FVec F S1x256x256 .f32 := broadcastInDim S1x256x256 ![0, 1, 2] bcast_S1x1x256_S1x256x256_0_1_2 main_v12339
  let main_v12351 : FVec F S1x256x256 .f32 := mulf main_v12344 main_v12350
  let main_v12352 : FVec F S1x256x256 .f32 := subf main_v12338 main_v12351
  fn_part596 (F := F) main_arg0 main_v4875 main_v9852 main_v9886 main_v9887 main_v12338 main_v12344 main_v12346 main_v12349 main_v12352

def fn_part594 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12300 : FVec F S1x256x256 .f32) (main_v12301 : FVec F S1x1x256 .f32) (main_v12306 : FVec F S1x256x256 .f32) (main_v12308 : IVec S1x256x256 1) (main_v12310 : IVec S1x256x256 1) : IVec S9x256x256 1 × IVec S8x256x256 1 :=
  let main_v12311 : IVec S1x256x256 1 := andi main_v12308 main_v12310
  let main_v12312 : FVec F S1x256x256 .f32 := broadcastInDim S1x256x256 ![0, 1, 2] bcast_S1x1x256_S1x256x256_0_1_2 main_v12301
  let main_v12313 : FVec F S1x256x256 .f32 := mulf main_v12306 main_v12312
  let main_v12314 : FVec F S1x256x256 .f32 := subf main_v12300 main_v12313
  let main_v12315 : FVec F S1x256x256 .f32 := select main_v12311 main_v12314 main_v12300
  let main_c_1944 : IVec S_ 32 := constantI S_ 32 127#32
  let main_v12316 : IVec S1x256x256 32 := broadcastInDim S1x256x256 ![] bcast_S_S1x256x256 main_c_1944
  let main_v12317 : IVec S1x256x256 1 := cmpi .eq main_v9887 main_v12316
  let main_v12318 : IVec S1x256x256 1 := andi main_v12308 main_v12317
  let main_v12319 : FVec F S1x256x256 .f32 := select main_v12318 main_v12306 main_v12315
  let main_v12320 : FVec F S1x1x256 .f32 := (extractStridedSlice S1x1x256 ![0, 128, 0] · slices_S1x256x256_S1x1x256_0_128_0) main_v12319
  let main_v12321 : FVec F S1x256x1 .f32 := (extractStridedSlice S1x256x1 ![0, 0, 128] · slices_S1x256x256_S1x256x1_0_0_128) main_v12319
  let main_v12322 : FVec F S1x1x1 .f32 := (extractStridedSlice S1x1x1 ![0, 0, 128] · slices_S1x1x256_S1x1x1_0_0_128) main_v12320
  let main_v12323 : FVec F S1x256x1 .f32 := broadcastInDim S1x256x1 ![0, 1, 2] bcast_S1x1x1_S1x256x1_0_1_2 main_v12322
  let main_v12324 : FVec F S1x256x1 .f32 := Host.divf main_v12321 main_v12323
  let main_v12325 : FVec F S1x256x256 .f32 := broadcastInDim S1x256x256 ![0, 1, 2] bcast_S1x256x1_S1x256x256_0_1_2 main_v12324
  let main_c_1945 : IVec S_ 32 := constantI S_ 32 128#32
  let main_v12326 : IVec S1x256x256 32 := broadcastInDim S1x256x256 ![] bcast_S_S1x256x256 main_c_1945
  let main_v12327 : IVec S1x256x256 1 := cmpi .sgt main_v9886 main_v12326
  let main_c_1946 : IVec S_ 32 := constantI S_ 32 128#32
  let main_v12328 : IVec S1x256x256 32 := broadcastInDim S1x256x256 ![] bcast_S_S1x256x256 main_c_1946
  let main_v12329 : IVec S1x256x256 1 := cmpi .sgt main_v9887 main_v12328
  let main_v12330 : IVec S1x256x256 1 := andi main_v12327 main_v12329
  let main_v12331 : FVec F S1x256x256 .f32 := broadcastInDim S1x256x256 ![0, 1, 2] bcast_S1x1x256_S1x256x256_0_1_2 main_v12320
  fn_part595 (F := F) main_arg0 main_v4875 main_v9852 main_v9886 main_v9887 main_v12319 main_v12325 main_v12327 main_v12330 main_v12331

def fn_part593 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12281 : FVec F S1x256x256 .f32) (main_v12282 : FVec F S1x1x256 .f32) (main_v12287 : FVec F S1x256x256 .f32) (main_v12289 : IVec S1x256x256 1) (main_c_1940 : IVec S_ 32) : IVec S9x256x256 1 × IVec S8x256x256 1 :=
  let main_v12290 : IVec S1x256x256 32 := broadcastInDim S1x256x256 ![] bcast_S_S1x256x256 main_c_1940
  let main_v12291 : IVec S1x256x256 1 := cmpi .sgt main_v9887 main_v12290
  let main_v12292 : IVec S1x256x256 1 := andi main_v12289 main_v12291
  let main_v12293 : FVec F S1x256x256 .f32 := broadcastInDim S1x256x256 ![0, 1, 2] bcast_S1x1x256_S1x256x256_0_1_2 main_v12282
  let main_v12294 : FVec F S1x256x256 .f32 := mulf main_v12287 main_v12293
  let main_v12295 : FVec F S1x256x256 .f32 := subf main_v12281 main_v12294
  let main_v12296 : FVec F S1x256x256 .f32 := select main_v12292 main_v12295 main_v12281
  let main_c_1941 : IVec S_ 32 := constantI S_ 32 126#32
  let main_v12297 : IVec S1x256x256 32 := broadcastInDim S1x256x256 ![] bcast_S_S1x256x256 main_c_1941
  let main_v12298 : IVec S1x256x256 1 := cmpi .eq main_v9887 main_v12297
  let main_v12299 : IVec S1x256x256 1 := andi main_v12289 main_v12298
  let main_v12300 : FVec F S1x256x256 .f32 := select main_v12299 main_v12287 main_v12296
  let main_v12301 : FVec F S1x1x256 .f32 := (extractStridedSlice S1x1x256 ![0, 127, 0] · slices_S1x256x256_S1x1x256_0_127_0) main_v12300
  let main_v12302 : FVec F S1x256x1 .f32 := (extractStridedSlice S1x256x1 ![0, 0, 127] · slices_S1x256x256_S1x256x1_0_0_127) main_v12300
  let main_v12303 : FVec F S1x1x1 .f32 := (extractStridedSlice S1x1x1 ![0, 0, 127] · slices_S1x1x256_S1x1x1_0_0_127) main_v12301
  let main_v12304 : FVec F S1x256x1 .f32 := broadcastInDim S1x256x1 ![0, 1, 2] bcast_S1x1x1_S1x256x1_0_1_2 main_v12303
  let main_v12305 : FVec F S1x256x1 .f32 := Host.divf main_v12302 main_v12304
  let main_v12306 : FVec F S1x256x256 .f32 := broadcastInDim S1x256x256 ![0, 1, 2] bcast_S1x256x1_S1x256x256_0_1_2 main_v12305
  let main_c_1942 : IVec S_ 32 := constantI S_ 32 127#32
  let main_v12307 : IVec S1x256x256 32 := broadcastInDim S1x256x256 ![] bcast_S_S1x256x256 main_c_1942
  let main_v12308 : IVec S1x256x256 1 := cmpi .sgt main_v9886 main_v12307
  let main_c_1943 : IVec S_ 32 := constantI S_ 32 127#32
  let main_v12309 : IVec S1x256x256 32 := broadcastInDim S1x256x256 ![] bcast_S_S1x256x256 main_c_1943
  let main_v12310 : IVec S1x256x256 1 := cmpi .sgt main_v9887 main_v12309
  fn_part594 (F := F) main_arg0 main_v4875 main_v9852 main_v9886 main_v9887 main_v12300 main_v12301 main_v12306 main_v12308 main_v12310

def fn_part592 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12262 : FVec F S1x256x256 .f32) (main_v12263 : FVec F S1x1x256 .f32) (main_v12268 : FVec F S1x256x256 .f32) (main_v12269 : IVec S1x256x256 32) : IVec S9x256x256 1 × IVec S8x256x256 1 :=
  let main_v12270 : IVec S1x256x256 1 := cmpi .sgt main_v9886 main_v12269
  let main_c_1937 : IVec S_ 32 := constantI S_ 32 125#32
  let main_v12271 : IVec S1x256x256 32 := broadcastInDim S1x256x256 ![] bcast_S_S1x256x256 main_c_1937
  let main_v12272 : IVec S1x256x256 1 := cmpi .sgt main_v9887 main_v12271
  let main_v12273 : IVec S1x256x256 1 := andi main_v12270 main_v12272
  let main_v12274 : FVec F S1x256x256 .f32 := broadcastInDim S1x256x256 ![0, 1, 2] bcast_S1x1x256_S1x256x256_0_1_2 main_v12263
  let main_v12275 : FVec F S1x256x256 .f32 := mulf main_v12268 main_v12274
  let main_v12276 : FVec F S1x256x256 .f32 := subf main_v12262 main_v12275
  let main_v12277 : FVec F S1x256x256 .f32 := select main_v12273 main_v12276 main_v12262
  let main_c_1938 : IVec S_ 32 := constantI S_ 32 125#32
  let main_v12278 : IVec S1x256x256 32 := broadcastInDim S1x256x256 ![] bcast_S_S1x256x256 main_c_1938
  let main_v12279 : IVec S1x256x256 1 := cmpi .eq main_v9887 main_v12278
  let main_v12280 : IVec S1x256x256 1 := andi main_v12270 main_v12279
  let main_v12281 : FVec F S1x256x256 .f32 := select main_v12280 main_v12268 main_v12277
  let main_v12282 : FVec F S1x1x256 .f32 := (extractStridedSlice S1x1x256 ![0, 126, 0] · slices_S1x256x256_S1x1x256_0_126_0) main_v12281
  let main_v12283 : FVec F S1x256x1 .f32 := (extractStridedSlice S1x256x1 ![0, 0, 126] · slices_S1x256x256_S1x256x1_0_0_126) main_v12281
  let main_v12284 : FVec F S1x1x1 .f32 := (extractStridedSlice S1x1x1 ![0, 0, 126] · slices_S1x1x256_S1x1x1_0_0_126) main_v12282
  let main_v12285 : FVec F S1x256x1 .f32 := broadcastInDim S1x256x1 ![0, 1, 2] bcast_S1x1x1_S1x256x1_0_1_2 main_v12284
  let main_v12286 : FVec F S1x256x1 .f32 := Host.divf main_v12283 main_v12285
  let main_v12287 : FVec F S1x256x256 .f32 := broadcastInDim S1x256x256 ![0, 1, 2] bcast_S1x256x1_S1x256x256_0_1_2 main_v12286
  let main_c_1939 : IVec S_ 32 := constantI S_ 32 126#32
  let main_v12288 : IVec S1x256x256 32 := broadcastInDim S1x256x256 ![] bcast_S_S1x256x256 main_c_1939
  let main_v12289 : IVec S1x256x256 1 := cmpi .sgt main_v9886 main_v12288
  let main_c_1940 : IVec S_ 32 := constantI S_ 32 126#32
  fn_part593 (F := F) main_arg0 main_v4875 main_v9852 main_v9886 main_v9887 main_v12281 main_v12282 main_v12287 main_v12289 main_c_1940

def fn_part591 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12243 : FVec F S1x256x256 .f32) (main_v12244 : FVec F S1x1x256 .f32) (main_v12249 : FVec F S1x256x256 .f32) : IVec S9x256x256 1 × IVec S8x256x256 1 :=
  let main_c_1933 : IVec S_ 32 := constantI S_ 32 124#32
  let main_v12250 : IVec S1x256x256 32 := broadcastInDim S1x256x256 ![] bcast_S_S1x256x256 main_c_1933
  let main_v12251 : IVec S1x256x256 1 := cmpi .sgt main_v9886 main_v12250
  let main_c_1934 : IVec S_ 32 := constantI S_ 32 124#32
  let main_v12252 : IVec S1x256x256 32 := broadcastInDim S1x256x256 ![] bcast_S_S1x256x256 main_c_1934
  let main_v12253 : IVec S1x256x256 1 := cmpi .sgt main_v9887 main_v12252
  let main_v12254 : IVec S1x256x256 1 := andi main_v12251 main_v12253
  let main_v12255 : FVec F S1x256x256 .f32 := broadcastInDim S1x256x256 ![0, 1, 2] bcast_S1x1x256_S1x256x256_0_1_2 main_v12244
  let main_v12256 : FVec F S1x256x256 .f32 := mulf main_v12249 main_v12255
  let main_v12257 : FVec F S1x256x256 .f32 := subf main_v12243 main_v12256
  let main_v12258 : FVec F S1x256x256 .f32 := select main_v12254 main_v12257 main_v12243
  let main_c_1935 : IVec S_ 32 := constantI S_ 32 124#32
  let main_v12259 : IVec S1x256x256 32 := broadcastInDim S1x256x256 ![] bcast_S_S1x256x256 main_c_1935
  let main_v12260 : IVec S1x256x256 1 := cmpi .eq main_v9887 main_v12259
  let main_v12261 : IVec S1x256x256 1 := andi main_v12251 main_v12260
  let main_v12262 : FVec F S1x256x256 .f32 := select main_v12261 main_v12249 main_v12258
  let main_v12263 : FVec F S1x1x256 .f32 := (extractStridedSlice S1x1x256 ![0, 125, 0] · slices_S1x256x256_S1x1x256_0_125_0) main_v12262
  let main_v12264 : FVec F S1x256x1 .f32 := (extractStridedSlice S1x256x1 ![0, 0, 125] · slices_S1x256x256_S1x256x1_0_0_125) main_v12262
  let main_v12265 : FVec F S1x1x1 .f32 := (extractStridedSlice S1x1x1 ![0, 0, 125] · slices_S1x1x256_S1x1x1_0_0_125) main_v12263
  let main_v12266 : FVec F S1x256x1 .f32 := broadcastInDim S1x256x1 ![0, 1, 2] bcast_S1x1x1_S1x256x1_0_1_2 main_v12265
  let main_v12267 : FVec F S1x256x1 .f32 := Host.divf main_v12264 main_v12266
  let main_v12268 : FVec F S1x256x256 .f32 := broadcastInDim S1x256x256 ![0, 1, 2] bcast_S1x256x1_S1x256x256_0_1_2 main_v12267
  let main_c_1936 : IVec S_ 32 := constantI S_ 32 125#32
  let main_v12269 : IVec S1x256x256 32 := broadcastInDim S1x256x256 ![] bcast_S_S1x256x256 main_c_1936
  fn_part592 (F := F) main_arg0 main_v4875 main_v9852 main_v9886 main_v9887 main_v12262 main_v12263 main_v12268 main_v12269

def fn_part590 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12224 : FVec F S1x256x256 .f32) (main_v12225 : FVec F S1x1x256 .f32) (main_v12226 : FVec F S1x256x1 .f32) (main_v12228 : FVec F S1x256x1 .f32) : IVec S9x256x256 1 × IVec S8x256x256 1 :=
  let main_v12229 : FVec F S1x256x1 .f32 := Host.divf main_v12226 main_v12228
  let main_v12230 : FVec F S1x256x256 .f32 := broadcastInDim S1x256x256 ![0, 1, 2] bcast_S1x256x1_S1x256x256_0_1_2 main_v12229
  let main_c_1930 : IVec S_ 32 := constantI S_ 32 123#32
  let main_v12231 : IVec S1x256x256 32 := broadcastInDim S1x256x256 ![] bcast_S_S1x256x256 main_c_1930
  let main_v12232 : IVec S1x256x256 1 := cmpi .sgt main_v9886 main_v12231
  let main_c_1931 : IVec S_ 32 := constantI S_ 32 123#32
  let main_v12233 : IVec S1x256x256 32 := broadcastInDim S1x256x256 ![] bcast_S_S1x256x256 main_c_1931
  let main_v12234 : IVec S1x256x256 1 := cmpi .sgt main_v9887 main_v12233
  let main_v12235 : IVec S1x256x256 1 := andi main_v12232 main_v12234
  let main_v12236 : FVec F S1x256x256 .f32 := broadcastInDim S1x256x256 ![0, 1, 2] bcast_S1x1x256_S1x256x256_0_1_2 main_v12225
  let main_v12237 : FVec F S1x256x256 .f32 := mulf main_v12230 main_v12236
  let main_v12238 : FVec F S1x256x256 .f32 := subf main_v12224 main_v12237
  let main_v12239 : FVec F S1x256x256 .f32 := select main_v12235 main_v12238 main_v12224
  let main_c_1932 : IVec S_ 32 := constantI S_ 32 123#32
  let main_v12240 : IVec S1x256x256 32 := broadcastInDim S1x256x256 ![] bcast_S_S1x256x256 main_c_1932
  let main_v12241 : IVec S1x256x256 1 := cmpi .eq main_v9887 main_v12240
  let main_v12242 : IVec S1x256x256 1 := andi main_v12232 main_v12241
  let main_v12243 : FVec F S1x256x256 .f32 := select main_v12242 main_v12230 main_v12239
  let main_v12244 : FVec F S1x1x256 .f32 := (extractStridedSlice S1x1x256 ![0, 124, 0] · slices_S1x256x256_S1x1x256_0_124_0) main_v12243
  let main_v12245 : FVec F S1x256x1 .f32 := (extractStridedSlice S1x256x1 ![0, 0, 124] · slices_S1x256x256_S1x256x1_0_0_124) main_v12243
  let main_v12246 : FVec F S1x1x1 .f32 := (extractStridedSlice S1x1x1 ![0, 0, 124] · slices_S1x1x256_S1x1x1_0_0_124) main_v12244
  let main_v12247 : FVec F S1x256x1 .f32 := broadcastInDim S1x256x1 ![0, 1, 2] bcast_S1x1x1_S1x256x1_0_1_2 main_v12246
  let main_v12248 : FVec F S1x256x1 .f32 := Host.divf main_v12245 main_v12247
  let main_v12249 : FVec F S1x256x256 .f32 := broadcastInDim S1x256x256 ![0, 1, 2] bcast_S1x256x1_S1x256x256_0_1_2 main_v12248
  fn_part591 (F := F) main_arg0 main_v4875 main_v9852 main_v9886 main_v9887 main_v12243 main_v12244 main_v12249

def fn_part589 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12205 : FVec F S1x256x256 .f32) (main_v12206 : FVec F S1x1x256 .f32) (main_v12207 : FVec F S1x256x1 .f32) : IVec S9x256x256 1 × IVec S8x256x256 1 :=
  let main_v12208 : FVec F S1x1x1 .f32 := (extractStridedSlice S1x1x1 ![0, 0, 122] · slices_S1x1x256_S1x1x1_0_0_122) main_v12206
  let main_v12209 : FVec F S1x256x1 .f32 := broadcastInDim S1x256x1 ![0, 1, 2] bcast_S1x1x1_S1x256x1_0_1_2 main_v12208
  let main_v12210 : FVec F S1x256x1 .f32 := Host.divf main_v12207 main_v12209
  let main_v12211 : FVec F S1x256x256 .f32 := broadcastInDim S1x256x256 ![0, 1, 2] bcast_S1x256x1_S1x256x256_0_1_2 main_v12210
  let main_c_1927 : IVec S_ 32 := constantI S_ 32 122#32
  let main_v12212 : IVec S1x256x256 32 := broadcastInDim S1x256x256 ![] bcast_S_S1x256x256 main_c_1927
  let main_v12213 : IVec S1x256x256 1 := cmpi .sgt main_v9886 main_v12212
  let main_c_1928 : IVec S_ 32 := constantI S_ 32 122#32
  let main_v12214 : IVec S1x256x256 32 := broadcastInDim S1x256x256 ![] bcast_S_S1x256x256 main_c_1928
  let main_v12215 : IVec S1x256x256 1 := cmpi .sgt main_v9887 main_v12214
  let main_v12216 : IVec S1x256x256 1 := andi main_v12213 main_v12215
  let main_v12217 : FVec F S1x256x256 .f32 := broadcastInDim S1x256x256 ![0, 1, 2] bcast_S1x1x256_S1x256x256_0_1_2 main_v12206
  let main_v12218 : FVec F S1x256x256 .f32 := mulf main_v12211 main_v12217
  let main_v12219 : FVec F S1x256x256 .f32 := subf main_v12205 main_v12218
  let main_v12220 : FVec F S1x256x256 .f32 := select main_v12216 main_v12219 main_v12205
  let main_c_1929 : IVec S_ 32 := constantI S_ 32 122#32
  let main_v12221 : IVec S1x256x256 32 := broadcastInDim S1x256x256 ![] bcast_S_S1x256x256 main_c_1929
  let main_v12222 : IVec S1x256x256 1 := cmpi .eq main_v9887 main_v12221
  let main_v12223 : IVec S1x256x256 1 := andi main_v12213 main_v12222
  let main_v12224 : FVec F S1x256x256 .f32 := select main_v12223 main_v12211 main_v12220
  let main_v12225 : FVec F S1x1x256 .f32 := (extractStridedSlice S1x1x256 ![0, 123, 0] · slices_S1x256x256_S1x1x256_0_123_0) main_v12224
  let main_v12226 : FVec F S1x256x1 .f32 := (extractStridedSlice S1x256x1 ![0, 0, 123] · slices_S1x256x256_S1x256x1_0_0_123) main_v12224
  let main_v12227 : FVec F S1x1x1 .f32 := (extractStridedSlice S1x1x1 ![0, 0, 123] · slices_S1x1x256_S1x1x1_0_0_123) main_v12225
  let main_v12228 : FVec F S1x256x1 .f32 := broadcastInDim S1x256x1 ![0, 1, 2] bcast_S1x1x1_S1x256x1_0_1_2 main_v12227
  fn_part590 (F := F) main_arg0 main_v4875 main_v9852 main_v9886 main_v9887 main_v12224 main_v12225 main_v12226 main_v12228

def fn_part588 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12186 : FVec F S1x256x256 .f32) : IVec S9x256x256 1 × IVec S8x256x256 1 :=
  let main_v12187 : FVec F S1x1x256 .f32 := (extractStridedSlice S1x1x256 ![0, 121, 0] · slices_S1x256x256_S1x1x256_0_121_0) main_v12186
  let main_v12188 : FVec F S1x256x1 .f32 := (extractStridedSlice S1x256x1 ![0, 0, 121] · slices_S1x256x256_S1x256x1_0_0_121) main_v12186
  let main_v12189 : FVec F S1x1x1 .f32 := (extractStridedSlice S1x1x1 ![0, 0, 121] · slices_S1x1x256_S1x1x1_0_0_121) main_v12187
  let main_v12190 : FVec F S1x256x1 .f32 := broadcastInDim S1x256x1 ![0, 1, 2] bcast_S1x1x1_S1x256x1_0_1_2 main_v12189
  let main_v12191 : FVec F S1x256x1 .f32 := Host.divf main_v12188 main_v12190
  let main_v12192 : FVec F S1x256x256 .f32 := broadcastInDim S1x256x256 ![0, 1, 2] bcast_S1x256x1_S1x256x256_0_1_2 main_v12191
  let main_c_1924 : IVec S_ 32 := constantI S_ 32 121#32
  let main_v12193 : IVec S1x256x256 32 := broadcastInDim S1x256x256 ![] bcast_S_S1x256x256 main_c_1924
  let main_v12194 : IVec S1x256x256 1 := cmpi .sgt main_v9886 main_v12193
  let main_c_1925 : IVec S_ 32 := constantI S_ 32 121#32
  let main_v12195 : IVec S1x256x256 32 := broadcastInDim S1x256x256 ![] bcast_S_S1x256x256 main_c_1925
  let main_v12196 : IVec S1x256x256 1 := cmpi .sgt main_v9887 main_v12195
  let main_v12197 : IVec S1x256x256 1 := andi main_v12194 main_v12196
  let main_v12198 : FVec F S1x256x256 .f32 := broadcastInDim S1x256x256 ![0, 1, 2] bcast_S1x1x256_S1x256x256_0_1_2 main_v12187
  let main_v12199 : FVec F S1x256x256 .f32 := mulf main_v12192 main_v12198
  let main_v12200 : FVec F S1x256x256 .f32 := subf main_v12186 main_v12199
  let main_v12201 : FVec F S1x256x256 .f32 := select main_v12197 main_v12200 main_v12186
  let main_c_1926 : IVec S_ 32 := constantI S_ 32 121#32
  let main_v12202 : IVec S1x256x256 32 := broadcastInDim S1x256x256 ![] bcast_S_S1x256x256 main_c_1926
  let main_v12203 : IVec S1x256x256 1 := cmpi .eq main_v9887 main_v12202
  let main_v12204 : IVec S1x256x256 1 := andi main_v12194 main_v12203
  let main_v12205 : FVec F S1x256x256 .f32 := select main_v12204 main_v12192 main_v12201
  let main_v12206 : FVec F S1x1x256 .f32 := (extractStridedSlice S1x1x256 ![0, 122, 0] · slices_S1x256x256_S1x1x256_0_122_0) main_v12205
  let main_v12207 : FVec F S1x256x1 .f32 := (extractStridedSlice S1x256x1 ![0, 0, 122] · slices_S1x256x256_S1x256x1_0_0_122) main_v12205
  fn_part589 (F := F) main_arg0 main_v4875 main_v9852 main_v9886 main_v9887 main_v12205 main_v12206 main_v12207

def fn_part587 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12154 : FVec F S1x256x256 .f32) (main_v12156 : IVec S1x256x256 1) (main_v12163 : FVec F S1x256x256 .f32) (main_v12165 : IVec S1x256x256 1) : IVec S9x256x256 1 × IVec S8x256x256 1 :=
  let main_v12166 : IVec S1x256x256 1 := andi main_v12156 main_v12165
  let main_v12167 : FVec F S1x256x256 .f32 := select main_v12166 main_v12154 main_v12163
  let main_v12168 : FVec F S1x1x256 .f32 := (extractStridedSlice S1x1x256 ![0, 120, 0] · slices_S1x256x256_S1x1x256_0_120_0) main_v12167
  let main_v12169 : FVec F S1x256x1 .f32 := (extractStridedSlice S1x256x1 ![0, 0, 120] · slices_S1x256x256_S1x256x1_0_0_120) main_v12167
  let main_v12170 : FVec F S1x1x1 .f32 := (extractStridedSlice S1x1x1 ![0, 0, 120] · slices_S1x1x256_S1x1x1_0_0_120) main_v12168
  let main_v12171 : FVec F S1x256x1 .f32 := broadcastInDim S1x256x1 ![0, 1, 2] bcast_S1x1x1_S1x256x1_0_1_2 main_v12170
  let main_v12172 : FVec F S1x256x1 .f32 := Host.divf main_v12169 main_v12171
  let main_v12173 : FVec F S1x256x256 .f32 := broadcastInDim S1x256x256 ![0, 1, 2] bcast_S1x256x1_S1x256x256_0_1_2 main_v12172
  let main_c_1921 : IVec S_ 32 := constantI S_ 32 120#32
  let main_v12174 : IVec S1x256x256 32 := broadcastInDim S1x256x256 ![] bcast_S_S1x256x256 main_c_1921
  let main_v12175 : IVec S1x256x256 1 := cmpi .sgt main_v9886 main_v12174
  let main_c_1922 : IVec S_ 32 := constantI S_ 32 120#32
  let main_v12176 : IVec S1x256x256 32 := broadcastInDim S1x256x256 ![] bcast_S_S1x256x256 main_c_1922
  let main_v12177 : IVec S1x256x256 1 := cmpi .sgt main_v9887 main_v12176
  let main_v12178 : IVec S1x256x256 1 := andi main_v12175 main_v12177
  let main_v12179 : FVec F S1x256x256 .f32 := broadcastInDim S1x256x256 ![0, 1, 2] bcast_S1x1x256_S1x256x256_0_1_2 main_v12168
  let main_v12180 : FVec F S1x256x256 .f32 := mulf main_v12173 main_v12179
  let main_v12181 : FVec F S1x256x256 .f32 := subf main_v12167 main_v12180
  let main_v12182 : FVec F S1x256x256 .f32 := select main_v12178 main_v12181 main_v12167
  let main_c_1923 : IVec S_ 32 := constantI S_ 32 120#32
  let main_v12183 : IVec S1x256x256 32 := broadcastInDim S1x256x256 ![] bcast_S_S1x256x256 main_c_1923
  let main_v12184 : IVec S1x256x256 1 := cmpi .eq main_v9887 main_v12183
  let main_v12185 : IVec S1x256x256 1 := andi main_v12175 main_v12184
  let main_v12186 : FVec F S1x256x256 .f32 := select main_v12185 main_v12173 main_v12182
  fn_part588 (F := F) main_arg0 main_v4875 main_v9852 main_v9886 main_v9887 main_v12186

def fn_part586 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12135 : FVec F S1x256x256 .f32) (main_v12137 : IVec S1x256x256 1) (main_v12144 : FVec F S1x256x256 .f32) (main_c_1917 : IVec S_ 32) : IVec S9x256x256 1 × IVec S8x256x256 1 :=
  let main_v12145 : IVec S1x256x256 32 := broadcastInDim S1x256x256 ![] bcast_S_S1x256x256 main_c_1917
  let main_v12146 : IVec S1x256x256 1 := cmpi .eq main_v9887 main_v12145
  let main_v12147 : IVec S1x256x256 1 := andi main_v12137 main_v12146
  let main_v12148 : FVec F S1x256x256 .f32 := select main_v12147 main_v12135 main_v12144
  let main_v12149 : FVec F S1x1x256 .f32 := (extractStridedSlice S1x1x256 ![0, 119, 0] · slices_S1x256x256_S1x1x256_0_119_0) main_v12148
  let main_v12150 : FVec F S1x256x1 .f32 := (extractStridedSlice S1x256x1 ![0, 0, 119] · slices_S1x256x256_S1x256x1_0_0_119) main_v12148
  let main_v12151 : FVec F S1x1x1 .f32 := (extractStridedSlice S1x1x1 ![0, 0, 119] · slices_S1x1x256_S1x1x1_0_0_119) main_v12149
  let main_v12152 : FVec F S1x256x1 .f32 := broadcastInDim S1x256x1 ![0, 1, 2] bcast_S1x1x1_S1x256x1_0_1_2 main_v12151
  let main_v12153 : FVec F S1x256x1 .f32 := Host.divf main_v12150 main_v12152
  let main_v12154 : FVec F S1x256x256 .f32 := broadcastInDim S1x256x256 ![0, 1, 2] bcast_S1x256x1_S1x256x256_0_1_2 main_v12153
  let main_c_1918 : IVec S_ 32 := constantI S_ 32 119#32
  let main_v12155 : IVec S1x256x256 32 := broadcastInDim S1x256x256 ![] bcast_S_S1x256x256 main_c_1918
  let main_v12156 : IVec S1x256x256 1 := cmpi .sgt main_v9886 main_v12155
  let main_c_1919 : IVec S_ 32 := constantI S_ 32 119#32
  let main_v12157 : IVec S1x256x256 32 := broadcastInDim S1x256x256 ![] bcast_S_S1x256x256 main_c_1919
  let main_v12158 : IVec S1x256x256 1 := cmpi .sgt main_v9887 main_v12157
  let main_v12159 : IVec S1x256x256 1 := andi main_v12156 main_v12158
  let main_v12160 : FVec F S1x256x256 .f32 := broadcastInDim S1x256x256 ![0, 1, 2] bcast_S1x1x256_S1x256x256_0_1_2 main_v12149
  let main_v12161 : FVec F S1x256x256 .f32 := mulf main_v12154 main_v12160
  let main_v12162 : FVec F S1x256x256 .f32 := subf main_v12148 main_v12161
  let main_v12163 : FVec F S1x256x256 .f32 := select main_v12159 main_v12162 main_v12148
  let main_c_1920 : IVec S_ 32 := constantI S_ 32 119#32
  let main_v12164 : IVec S1x256x256 32 := broadcastInDim S1x256x256 ![] bcast_S_S1x256x256 main_c_1920
  let main_v12165 : IVec S1x256x256 1 := cmpi .eq main_v9887 main_v12164
  fn_part587 (F := F) main_arg0 main_v4875 main_v9852 main_v9886 main_v9887 main_v12154 main_v12156 main_v12163 main_v12165

def fn_part585 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12110 : FVec F S1x256x256 .f32) (main_v12116 : FVec F S1x256x256 .f32) (main_v12118 : IVec S1x256x256 1) (main_v12121 : IVec S1x256x256 1) (main_v12124 : FVec F S1x256x256 .f32) : IVec S9x256x256 1 × IVec S8x256x256 1 :=
  let main_v12125 : FVec F S1x256x256 .f32 := select main_v12121 main_v12124 main_v12110
  let main_c_1914 : IVec S_ 32 := constantI S_ 32 117#32
  let main_v12126 : IVec S1x256x256 32 := broadcastInDim S1x256x256 ![] bcast_S_S1x256x256 main_c_1914
  let main_v12127 : IVec S1x256x256 1 := cmpi .eq main_v9887 main_v12126
  let main_v12128 : IVec S1x256x256 1 := andi main_v12118 main_v12127
  let main_v12129 : FVec F S1x256x256 .f32 := select main_v12128 main_v12116 main_v12125
  let main_v12130 : FVec F S1x1x256 .f32 := (extractStridedSlice S1x1x256 ![0, 118, 0] · slices_S1x256x256_S1x1x256_0_118_0) main_v12129
  let main_v12131 : FVec F S1x256x1 .f32 := (extractStridedSlice S1x256x1 ![0, 0, 118] · slices_S1x256x256_S1x256x1_0_0_118) main_v12129
  let main_v12132 : FVec F S1x1x1 .f32 := (extractStridedSlice S1x1x1 ![0, 0, 118] · slices_S1x1x256_S1x1x1_0_0_118) main_v12130
  let main_v12133 : FVec F S1x256x1 .f32 := broadcastInDim S1x256x1 ![0, 1, 2] bcast_S1x1x1_S1x256x1_0_1_2 main_v12132
  let main_v12134 : FVec F S1x256x1 .f32 := Host.divf main_v12131 main_v12133
  let main_v12135 : FVec F S1x256x256 .f32 := broadcastInDim S1x256x256 ![0, 1, 2] bcast_S1x256x1_S1x256x256_0_1_2 main_v12134
  let main_c_1915 : IVec S_ 32 := constantI S_ 32 118#32
  let main_v12136 : IVec S1x256x256 32 := broadcastInDim S1x256x256 ![] bcast_S_S1x256x256 main_c_1915
  let main_v12137 : IVec S1x256x256 1 := cmpi .sgt main_v9886 main_v12136
  let main_c_1916 : IVec S_ 32 := constantI S_ 32 118#32
  let main_v12138 : IVec S1x256x256 32 := broadcastInDim S1x256x256 ![] bcast_S_S1x256x256 main_c_1916
  let main_v12139 : IVec S1x256x256 1 := cmpi .sgt main_v9887 main_v12138
  let main_v12140 : IVec S1x256x256 1 := andi main_v12137 main_v12139
  let main_v12141 : FVec F S1x256x256 .f32 := broadcastInDim S1x256x256 ![0, 1, 2] bcast_S1x1x256_S1x256x256_0_1_2 main_v12130
  let main_v12142 : FVec F S1x256x256 .f32 := mulf main_v12135 main_v12141
  let main_v12143 : FVec F S1x256x256 .f32 := subf main_v12129 main_v12142
  let main_v12144 : FVec F S1x256x256 .f32 := select main_v12140 main_v12143 main_v12129
  let main_c_1917 : IVec S_ 32 := constantI S_ 32 118#32
  fn_part586 (F := F) main_arg0 main_v4875 main_v9852 main_v9886 main_v9887 main_v12135 main_v12137 main_v12144 main_c_1917

def fn_part584 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12091 : FVec F S1x256x256 .f32) (main_v12097 : FVec F S1x256x256 .f32) (main_v12099 : IVec S1x256x256 1) (main_v12102 : IVec S1x256x256 1) (main_v12103 : FVec F S1x256x256 .f32) : IVec S9x256x256 1 × IVec S8x256x256 1 :=
  let main_v12104 : FVec F S1x256x256 .f32 := mulf main_v12097 main_v12103
  let main_v12105 : FVec F S1x256x256 .f32 := subf main_v12091 main_v12104
  let main_v12106 : FVec F S1x256x256 .f32 := select main_v12102 main_v12105 main_v12091
  let main_c_1911 : IVec S_ 32 := constantI S_ 32 116#32
  let main_v12107 : IVec S1x256x256 32 := broadcastInDim S1x256x256 ![] bcast_S_S1x256x256 main_c_1911
  let main_v12108 : IVec S1x256x256 1 := cmpi .eq main_v9887 main_v12107
  let main_v12109 : IVec S1x256x256 1 := andi main_v12099 main_v12108
  let main_v12110 : FVec F S1x256x256 .f32 := select main_v12109 main_v12097 main_v12106
  let main_v12111 : FVec F S1x1x256 .f32 := (extractStridedSlice S1x1x256 ![0, 117, 0] · slices_S1x256x256_S1x1x256_0_117_0) main_v12110
  let main_v12112 : FVec F S1x256x1 .f32 := (extractStridedSlice S1x256x1 ![0, 0, 117] · slices_S1x256x256_S1x256x1_0_0_117) main_v12110
  let main_v12113 : FVec F S1x1x1 .f32 := (extractStridedSlice S1x1x1 ![0, 0, 117] · slices_S1x1x256_S1x1x1_0_0_117) main_v12111
  let main_v12114 : FVec F S1x256x1 .f32 := broadcastInDim S1x256x1 ![0, 1, 2] bcast_S1x1x1_S1x256x1_0_1_2 main_v12113
  let main_v12115 : FVec F S1x256x1 .f32 := Host.divf main_v12112 main_v12114
  let main_v12116 : FVec F S1x256x256 .f32 := broadcastInDim S1x256x256 ![0, 1, 2] bcast_S1x256x1_S1x256x256_0_1_2 main_v12115
  let main_c_1912 : IVec S_ 32 := constantI S_ 32 117#32
  let main_v12117 : IVec S1x256x256 32 := broadcastInDim S1x256x256 ![] bcast_S_S1x256x256 main_c_1912
  let main_v12118 : IVec S1x256x256 1 := cmpi .sgt main_v9886 main_v12117
  let main_c_1913 : IVec S_ 32 := constantI S_ 32 117#32
  let main_v12119 : IVec S1x256x256 32 := broadcastInDim S1x256x256 ![] bcast_S_S1x256x256 main_c_1913
  let main_v12120 : IVec S1x256x256 1 := cmpi .sgt main_v9887 main_v12119
  let main_v12121 : IVec S1x256x256 1 := andi main_v12118 main_v12120
  let main_v12122 : FVec F S1x256x256 .f32 := broadcastInDim S1x256x256 ![0, 1, 2] bcast_S1x1x256_S1x256x256_0_1_2 main_v12111
  let main_v12123 : FVec F S1x256x256 .f32 := mulf main_v12116 main_v12122
  let main_v12124 : FVec F S1x256x256 .f32 := subf main_v12110 main_v12123
  fn_part585 (F := F) main_arg0 main_v4875 main_v9852 main_v9886 main_v9887 main_v12110 main_v12116 main_v12118 main_v12121 main_v12124

def fn_part583 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12072 : FVec F S1x256x256 .f32) (main_v12073 : FVec F S1x1x256 .f32) (main_v12078 : FVec F S1x256x256 .f32) (main_v12080 : IVec S1x256x256 1) (main_v12082 : IVec S1x256x256 1) : IVec S9x256x256 1 × IVec S8x256x256 1 :=
  let main_v12083 : IVec S1x256x256 1 := andi main_v12080 main_v12082
  let main_v12084 : FVec F S1x256x256 .f32 := broadcastInDim S1x256x256 ![0, 1, 2] bcast_S1x1x256_S1x256x256_0_1_2 main_v12073
  let main_v12085 : FVec F S1x256x256 .f32 := mulf main_v12078 main_v12084
  let main_v12086 : FVec F S1x256x256 .f32 := subf main_v12072 main_v12085
  let main_v12087 : FVec F S1x256x256 .f32 := select main_v12083 main_v12086 main_v12072
  let main_c_1908 : IVec S_ 32 := constantI S_ 32 115#32
  let main_v12088 : IVec S1x256x256 32 := broadcastInDim S1x256x256 ![] bcast_S_S1x256x256 main_c_1908
  let main_v12089 : IVec S1x256x256 1 := cmpi .eq main_v9887 main_v12088
  let main_v12090 : IVec S1x256x256 1 := andi main_v12080 main_v12089
  let main_v12091 : FVec F S1x256x256 .f32 := select main_v12090 main_v12078 main_v12087
  let main_v12092 : FVec F S1x1x256 .f32 := (extractStridedSlice S1x1x256 ![0, 116, 0] · slices_S1x256x256_S1x1x256_0_116_0) main_v12091
  let main_v12093 : FVec F S1x256x1 .f32 := (extractStridedSlice S1x256x1 ![0, 0, 116] · slices_S1x256x256_S1x256x1_0_0_116) main_v12091
  let main_v12094 : FVec F S1x1x1 .f32 := (extractStridedSlice S1x1x1 ![0, 0, 116] · slices_S1x1x256_S1x1x1_0_0_116) main_v12092
  let main_v12095 : FVec F S1x256x1 .f32 := broadcastInDim S1x256x1 ![0, 1, 2] bcast_S1x1x1_S1x256x1_0_1_2 main_v12094
  let main_v12096 : FVec F S1x256x1 .f32 := Host.divf main_v12093 main_v12095
  let main_v12097 : FVec F S1x256x256 .f32 := broadcastInDim S1x256x256 ![0, 1, 2] bcast_S1x256x1_S1x256x256_0_1_2 main_v12096
  let main_c_1909 : IVec S_ 32 := constantI S_ 32 116#32
  let main_v12098 : IVec S1x256x256 32 := broadcastInDim S1x256x256 ![] bcast_S_S1x256x256 main_c_1909
  let main_v12099 : IVec S1x256x256 1 := cmpi .sgt main_v9886 main_v12098
  let main_c_1910 : IVec S_ 32 := constantI S_ 32 116#32
  let main_v12100 : IVec S1x256x256 32 := broadcastInDim S1x256x256 ![] bcast_S_S1x256x256 main_c_1910
  let main_v12101 : IVec S1x256x256 1 := cmpi .sgt main_v9887 main_v12100
  let main_v12102 : IVec S1x256x256 1 := andi main_v12099 main_v12101
  let main_v12103 : FVec F S1x256x256 .f32 := broadcastInDim S1x256x256 ![0, 1, 2] bcast_S1x1x256_S1x256x256_0_1_2 main_v12092
  fn_part584 (F := F) main_arg0 main_v4875 main_v9852 main_v9886 main_v9887 main_v12091 main_v12097 main_v12099 main_v12102 main_v12103

def fn_part582 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12053 : FVec F S1x256x256 .f32) (main_v12054 : FVec F S1x1x256 .f32) (main_v12059 : FVec F S1x256x256 .f32) (main_v12061 : IVec S1x256x256 1) (main_c_1904 : IVec S_ 32) : IVec S9x256x256 1 × IVec S8x256x256 1 :=
  let main_v12062 : IVec S1x256x256 32 := broadcastInDim S1x256x256 ![] bcast_S_S1x256x256 main_c_1904
  let main_v12063 : IVec S1x256x256 1 := cmpi .sgt main_v9887 main_v12062
  let main_v12064 : IVec S1x256x256 1 := andi main_v12061 main_v12063
  let main_v12065 : FVec F S1x256x256 .f32 := broadcastInDim S1x256x256 ![0, 1, 2] bcast_S1x1x256_S1x256x256_0_1_2 main_v12054
  let main_v12066 : FVec F S1x256x256 .f32 := mulf main_v12059 main_v12065
  let main_v12067 : FVec F S1x256x256 .f32 := subf main_v12053 main_v12066
  let main_v12068 : FVec F S1x256x256 .f32 := select main_v12064 main_v12067 main_v12053
  let main_c_1905 : IVec S_ 32 := constantI S_ 32 114#32
  let main_v12069 : IVec S1x256x256 32 := broadcastInDim S1x256x256 ![] bcast_S_S1x256x256 main_c_1905
  let main_v12070 : IVec S1x256x256 1 := cmpi .eq main_v9887 main_v12069
  let main_v12071 : IVec S1x256x256 1 := andi main_v12061 main_v12070
  let main_v12072 : FVec F S1x256x256 .f32 := select main_v12071 main_v12059 main_v12068
  let main_v12073 : FVec F S1x1x256 .f32 := (extractStridedSlice S1x1x256 ![0, 115, 0] · slices_S1x256x256_S1x1x256_0_115_0) main_v12072
  let main_v12074 : FVec F S1x256x1 .f32 := (extractStridedSlice S1x256x1 ![0, 0, 115] · slices_S1x256x256_S1x256x1_0_0_115) main_v12072
  let main_v12075 : FVec F S1x1x1 .f32 := (extractStridedSlice S1x1x1 ![0, 0, 115] · slices_S1x1x256_S1x1x1_0_0_115) main_v12073
  let main_v12076 : FVec F S1x256x1 .f32 := broadcastInDim S1x256x1 ![0, 1, 2] bcast_S1x1x1_S1x256x1_0_1_2 main_v12075
  let main_v12077 : FVec F S1x256x1 .f32 := Host.divf main_v12074 main_v12076
  let main_v12078 : FVec F S1x256x256 .f32 := broadcastInDim S1x256x256 ![0, 1, 2] bcast_S1x256x1_S1x256x256_0_1_2 main_v12077
  let main_c_1906 : IVec S_ 32 := constantI S_ 32 115#32
  let main_v12079 : IVec S1x256x256 32 := broadcastInDim S1x256x256 ![] bcast_S_S1x256x256 main_c_1906
  let main_v12080 : IVec S1x256x256 1 := cmpi .sgt main_v9886 main_v12079
  let main_c_1907 : IVec S_ 32 := constantI S_ 32 115#32
  let main_v12081 : IVec S1x256x256 32 := broadcastInDim S1x256x256 ![] bcast_S_S1x256x256 main_c_1907
  let main_v12082 : IVec S1x256x256 1 := cmpi .sgt main_v9887 main_v12081
  fn_part583 (F := F) main_arg0 main_v4875 main_v9852 main_v9886 main_v9887 main_v12072 main_v12073 main_v12078 main_v12080 main_v12082

def fn_part581 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12034 : FVec F S1x256x256 .f32) (main_v12035 : FVec F S1x1x256 .f32) (main_v12040 : FVec F S1x256x256 .f32) (main_v12041 : IVec S1x256x256 32) : IVec S9x256x256 1 × IVec S8x256x256 1 :=
  let main_v12042 : IVec S1x256x256 1 := cmpi .sgt main_v9886 main_v12041
  let main_c_1901 : IVec S_ 32 := constantI S_ 32 113#32
  let main_v12043 : IVec S1x256x256 32 := broadcastInDim S1x256x256 ![] bcast_S_S1x256x256 main_c_1901
  let main_v12044 : IVec S1x256x256 1 := cmpi .sgt main_v9887 main_v12043
  let main_v12045 : IVec S1x256x256 1 := andi main_v12042 main_v12044
  let main_v12046 : FVec F S1x256x256 .f32 := broadcastInDim S1x256x256 ![0, 1, 2] bcast_S1x1x256_S1x256x256_0_1_2 main_v12035
  let main_v12047 : FVec F S1x256x256 .f32 := mulf main_v12040 main_v12046
  let main_v12048 : FVec F S1x256x256 .f32 := subf main_v12034 main_v12047
  let main_v12049 : FVec F S1x256x256 .f32 := select main_v12045 main_v12048 main_v12034
  let main_c_1902 : IVec S_ 32 := constantI S_ 32 113#32
  let main_v12050 : IVec S1x256x256 32 := broadcastInDim S1x256x256 ![] bcast_S_S1x256x256 main_c_1902
  let main_v12051 : IVec S1x256x256 1 := cmpi .eq main_v9887 main_v12050
  let main_v12052 : IVec S1x256x256 1 := andi main_v12042 main_v12051
  let main_v12053 : FVec F S1x256x256 .f32 := select main_v12052 main_v12040 main_v12049
  let main_v12054 : FVec F S1x1x256 .f32 := (extractStridedSlice S1x1x256 ![0, 114, 0] · slices_S1x256x256_S1x1x256_0_114_0) main_v12053
  let main_v12055 : FVec F S1x256x1 .f32 := (extractStridedSlice S1x256x1 ![0, 0, 114] · slices_S1x256x256_S1x256x1_0_0_114) main_v12053
  let main_v12056 : FVec F S1x1x1 .f32 := (extractStridedSlice S1x1x1 ![0, 0, 114] · slices_S1x1x256_S1x1x1_0_0_114) main_v12054
  let main_v12057 : FVec F S1x256x1 .f32 := broadcastInDim S1x256x1 ![0, 1, 2] bcast_S1x1x1_S1x256x1_0_1_2 main_v12056
  let main_v12058 : FVec F S1x256x1 .f32 := Host.divf main_v12055 main_v12057
  let main_v12059 : FVec F S1x256x256 .f32 := broadcastInDim S1x256x256 ![0, 1, 2] bcast_S1x256x1_S1x256x256_0_1_2 main_v12058
  let main_c_1903 : IVec S_ 32 := constantI S_ 32 114#32
  let main_v12060 : IVec S1x256x256 32 := broadcastInDim S1x256x256 ![] bcast_S_S1x256x256 main_c_1903
  let main_v12061 : IVec S1x256x256 1 := cmpi .sgt main_v9886 main_v12060
  let main_c_1904 : IVec S_ 32 := constantI S_ 32 114#32
  fn_part582 (F := F) main_arg0 main_v4875 main_v9852 main_v9886 main_v9887 main_v12053 main_v12054 main_v12059 main_v12061 main_c_1904

def fn_part580 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v12015 : FVec F S1x256x256 .f32) (main_v12016 : FVec F S1x1x256 .f32) (main_v12021 : FVec F S1x256x256 .f32) : IVec S9x256x256 1 × IVec S8x256x256 1 :=
  let main_c_1897 : IVec S_ 32 := constantI S_ 32 112#32
  let main_v12022 : IVec S1x256x256 32 := broadcastInDim S1x256x256 ![] bcast_S_S1x256x256 main_c_1897
  let main_v12023 : IVec S1x256x256 1 := cmpi .sgt main_v9886 main_v12022
  let main_c_1898 : IVec S_ 32 := constantI S_ 32 112#32
  let main_v12024 : IVec S1x256x256 32 := broadcastInDim S1x256x256 ![] bcast_S_S1x256x256 main_c_1898
  let main_v12025 : IVec S1x256x256 1 := cmpi .sgt main_v9887 main_v12024
  let main_v12026 : IVec S1x256x256 1 := andi main_v12023 main_v12025
  let main_v12027 : FVec F S1x256x256 .f32 := broadcastInDim S1x256x256 ![0, 1, 2] bcast_S1x1x256_S1x256x256_0_1_2 main_v12016
  let main_v12028 : FVec F S1x256x256 .f32 := mulf main_v12021 main_v12027
  let main_v12029 : FVec F S1x256x256 .f32 := subf main_v12015 main_v12028
  let main_v12030 : FVec F S1x256x256 .f32 := select main_v12026 main_v12029 main_v12015
  let main_c_1899 : IVec S_ 32 := constantI S_ 32 112#32
  let main_v12031 : IVec S1x256x256 32 := broadcastInDim S1x256x256 ![] bcast_S_S1x256x256 main_c_1899
  let main_v12032 : IVec S1x256x256 1 := cmpi .eq main_v9887 main_v12031
  let main_v12033 : IVec S1x256x256 1 := andi main_v12023 main_v12032
  let main_v12034 : FVec F S1x256x256 .f32 := select main_v12033 main_v12021 main_v12030
  let main_v12035 : FVec F S1x1x256 .f32 := (extractStridedSlice S1x1x256 ![0, 113, 0] · slices_S1x256x256_S1x1x256_0_113_0) main_v12034
  let main_v12036 : FVec F S1x256x1 .f32 := (extractStridedSlice S1x256x1 ![0, 0, 113] · slices_S1x256x256_S1x256x1_0_0_113) main_v12034
  let main_v12037 : FVec F S1x1x1 .f32 := (extractStridedSlice S1x1x1 ![0, 0, 113] · slices_S1x1x256_S1x1x1_0_0_113) main_v12035
  let main_v12038 : FVec F S1x256x1 .f32 := broadcastInDim S1x256x1 ![0, 1, 2] bcast_S1x1x1_S1x256x1_0_1_2 main_v12037
  let main_v12039 : FVec F S1x256x1 .f32 := Host.divf main_v12036 main_v12038
  let main_v12040 : FVec F S1x256x256 .f32 := broadcastInDim S1x256x256 ![0, 1, 2] bcast_S1x256x1_S1x256x256_0_1_2 main_v12039
  let main_c_1900 : IVec S_ 32 := constantI S_ 32 113#32
  let main_v12041 : IVec S1x256x256 32 := broadcastInDim S1x256x256 ![] bcast_S_S1x256x256 main_c_1900
  fn_part581 (F := F) main_arg0 main_v4875 main_v9852 main_v9886 main_v9887 main_v12034 main_v12035 main_v12040 main_v12041

def fn_part579 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11996 : FVec F S1x256x256 .f32) (main_v11997 : FVec F S1x1x256 .f32) (main_v11998 : FVec F S1x256x1 .f32) (main_v12000 : FVec F S1x256x1 .f32) : IVec S9x256x256 1 × IVec S8x256x256 1 :=
  let main_v12001 : FVec F S1x256x1 .f32 := Host.divf main_v11998 main_v12000
  let main_v12002 : FVec F S1x256x256 .f32 := broadcastInDim S1x256x256 ![0, 1, 2] bcast_S1x256x1_S1x256x256_0_1_2 main_v12001
  let main_c_1894 : IVec S_ 32 := constantI S_ 32 111#32
  let main_v12003 : IVec S1x256x256 32 := broadcastInDim S1x256x256 ![] bcast_S_S1x256x256 main_c_1894
  let main_v12004 : IVec S1x256x256 1 := cmpi .sgt main_v9886 main_v12003
  let main_c_1895 : IVec S_ 32 := constantI S_ 32 111#32
  let main_v12005 : IVec S1x256x256 32 := broadcastInDim S1x256x256 ![] bcast_S_S1x256x256 main_c_1895
  let main_v12006 : IVec S1x256x256 1 := cmpi .sgt main_v9887 main_v12005
  let main_v12007 : IVec S1x256x256 1 := andi main_v12004 main_v12006
  let main_v12008 : FVec F S1x256x256 .f32 := broadcastInDim S1x256x256 ![0, 1, 2] bcast_S1x1x256_S1x256x256_0_1_2 main_v11997
  let main_v12009 : FVec F S1x256x256 .f32 := mulf main_v12002 main_v12008
  let main_v12010 : FVec F S1x256x256 .f32 := subf main_v11996 main_v12009
  let main_v12011 : FVec F S1x256x256 .f32 := select main_v12007 main_v12010 main_v11996
  let main_c_1896 : IVec S_ 32 := constantI S_ 32 111#32
  let main_v12012 : IVec S1x256x256 32 := broadcastInDim S1x256x256 ![] bcast_S_S1x256x256 main_c_1896
  let main_v12013 : IVec S1x256x256 1 := cmpi .eq main_v9887 main_v12012
  let main_v12014 : IVec S1x256x256 1 := andi main_v12004 main_v12013
  let main_v12015 : FVec F S1x256x256 .f32 := select main_v12014 main_v12002 main_v12011
  let main_v12016 : FVec F S1x1x256 .f32 := (extractStridedSlice S1x1x256 ![0, 112, 0] · slices_S1x256x256_S1x1x256_0_112_0) main_v12015
  let main_v12017 : FVec F S1x256x1 .f32 := (extractStridedSlice S1x256x1 ![0, 0, 112] · slices_S1x256x256_S1x256x1_0_0_112) main_v12015
  let main_v12018 : FVec F S1x1x1 .f32 := (extractStridedSlice S1x1x1 ![0, 0, 112] · slices_S1x1x256_S1x1x1_0_0_112) main_v12016
  let main_v12019 : FVec F S1x256x1 .f32 := broadcastInDim S1x256x1 ![0, 1, 2] bcast_S1x1x1_S1x256x1_0_1_2 main_v12018
  let main_v12020 : FVec F S1x256x1 .f32 := Host.divf main_v12017 main_v12019
  let main_v12021 : FVec F S1x256x256 .f32 := broadcastInDim S1x256x256 ![0, 1, 2] bcast_S1x256x1_S1x256x256_0_1_2 main_v12020
  fn_part580 (F := F) main_arg0 main_v4875 main_v9852 main_v9886 main_v9887 main_v12015 main_v12016 main_v12021

def fn_part578 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11977 : FVec F S1x256x256 .f32) (main_v11978 : FVec F S1x1x256 .f32) (main_v11979 : FVec F S1x256x1 .f32) : IVec S9x256x256 1 × IVec S8x256x256 1 :=
  let main_v11980 : FVec F S1x1x1 .f32 := (extractStridedSlice S1x1x1 ![0, 0, 110] · slices_S1x1x256_S1x1x1_0_0_110) main_v11978
  let main_v11981 : FVec F S1x256x1 .f32 := broadcastInDim S1x256x1 ![0, 1, 2] bcast_S1x1x1_S1x256x1_0_1_2 main_v11980
  let main_v11982 : FVec F S1x256x1 .f32 := Host.divf main_v11979 main_v11981
  let main_v11983 : FVec F S1x256x256 .f32 := broadcastInDim S1x256x256 ![0, 1, 2] bcast_S1x256x1_S1x256x256_0_1_2 main_v11982
  let main_c_1891 : IVec S_ 32 := constantI S_ 32 110#32
  let main_v11984 : IVec S1x256x256 32 := broadcastInDim S1x256x256 ![] bcast_S_S1x256x256 main_c_1891
  let main_v11985 : IVec S1x256x256 1 := cmpi .sgt main_v9886 main_v11984
  let main_c_1892 : IVec S_ 32 := constantI S_ 32 110#32
  let main_v11986 : IVec S1x256x256 32 := broadcastInDim S1x256x256 ![] bcast_S_S1x256x256 main_c_1892
  let main_v11987 : IVec S1x256x256 1 := cmpi .sgt main_v9887 main_v11986
  let main_v11988 : IVec S1x256x256 1 := andi main_v11985 main_v11987
  let main_v11989 : FVec F S1x256x256 .f32 := broadcastInDim S1x256x256 ![0, 1, 2] bcast_S1x1x256_S1x256x256_0_1_2 main_v11978
  let main_v11990 : FVec F S1x256x256 .f32 := mulf main_v11983 main_v11989
  let main_v11991 : FVec F S1x256x256 .f32 := subf main_v11977 main_v11990
  let main_v11992 : FVec F S1x256x256 .f32 := select main_v11988 main_v11991 main_v11977
  let main_c_1893 : IVec S_ 32 := constantI S_ 32 110#32
  let main_v11993 : IVec S1x256x256 32 := broadcastInDim S1x256x256 ![] bcast_S_S1x256x256 main_c_1893
  let main_v11994 : IVec S1x256x256 1 := cmpi .eq main_v9887 main_v11993
  let main_v11995 : IVec S1x256x256 1 := andi main_v11985 main_v11994
  let main_v11996 : FVec F S1x256x256 .f32 := select main_v11995 main_v11983 main_v11992
  let main_v11997 : FVec F S1x1x256 .f32 := (extractStridedSlice S1x1x256 ![0, 111, 0] · slices_S1x256x256_S1x1x256_0_111_0) main_v11996
  let main_v11998 : FVec F S1x256x1 .f32 := (extractStridedSlice S1x256x1 ![0, 0, 111] · slices_S1x256x256_S1x256x1_0_0_111) main_v11996
  let main_v11999 : FVec F S1x1x1 .f32 := (extractStridedSlice S1x1x1 ![0, 0, 111] · slices_S1x1x256_S1x1x1_0_0_111) main_v11997
  let main_v12000 : FVec F S1x256x1 .f32 := broadcastInDim S1x256x1 ![0, 1, 2] bcast_S1x1x1_S1x256x1_0_1_2 main_v11999
  fn_part579 (F := F) main_arg0 main_v4875 main_v9852 main_v9886 main_v9887 main_v11996 main_v11997 main_v11998 main_v12000

def fn_part577 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11958 : FVec F S1x256x256 .f32) : IVec S9x256x256 1 × IVec S8x256x256 1 :=
  let main_v11959 : FVec F S1x1x256 .f32 := (extractStridedSlice S1x1x256 ![0, 109, 0] · slices_S1x256x256_S1x1x256_0_109_0) main_v11958
  let main_v11960 : FVec F S1x256x1 .f32 := (extractStridedSlice S1x256x1 ![0, 0, 109] · slices_S1x256x256_S1x256x1_0_0_109) main_v11958
  let main_v11961 : FVec F S1x1x1 .f32 := (extractStridedSlice S1x1x1 ![0, 0, 109] · slices_S1x1x256_S1x1x1_0_0_109) main_v11959
  let main_v11962 : FVec F S1x256x1 .f32 := broadcastInDim S1x256x1 ![0, 1, 2] bcast_S1x1x1_S1x256x1_0_1_2 main_v11961
  let main_v11963 : FVec F S1x256x1 .f32 := Host.divf main_v11960 main_v11962
  let main_v11964 : FVec F S1x256x256 .f32 := broadcastInDim S1x256x256 ![0, 1, 2] bcast_S1x256x1_S1x256x256_0_1_2 main_v11963
  let main_c_1888 : IVec S_ 32 := constantI S_ 32 109#32
  let main_v11965 : IVec S1x256x256 32 := broadcastInDim S1x256x256 ![] bcast_S_S1x256x256 main_c_1888
  let main_v11966 : IVec S1x256x256 1 := cmpi .sgt main_v9886 main_v11965
  let main_c_1889 : IVec S_ 32 := constantI S_ 32 109#32
  let main_v11967 : IVec S1x256x256 32 := broadcastInDim S1x256x256 ![] bcast_S_S1x256x256 main_c_1889
  let main_v11968 : IVec S1x256x256 1 := cmpi .sgt main_v9887 main_v11967
  let main_v11969 : IVec S1x256x256 1 := andi main_v11966 main_v11968
  let main_v11970 : FVec F S1x256x256 .f32 := broadcastInDim S1x256x256 ![0, 1, 2] bcast_S1x1x256_S1x256x256_0_1_2 main_v11959
  let main_v11971 : FVec F S1x256x256 .f32 := mulf main_v11964 main_v11970
  let main_v11972 : FVec F S1x256x256 .f32 := subf main_v11958 main_v11971
  let main_v11973 : FVec F S1x256x256 .f32 := select main_v11969 main_v11972 main_v11958
  let main_c_1890 : IVec S_ 32 := constantI S_ 32 109#32
  let main_v11974 : IVec S1x256x256 32 := broadcastInDim S1x256x256 ![] bcast_S_S1x256x256 main_c_1890
  let main_v11975 : IVec S1x256x256 1 := cmpi .eq main_v9887 main_v11974
  let main_v11976 : IVec S1x256x256 1 := andi main_v11966 main_v11975
  let main_v11977 : FVec F S1x256x256 .f32 := select main_v11976 main_v11964 main_v11973
  let main_v11978 : FVec F S1x1x256 .f32 := (extractStridedSlice S1x1x256 ![0, 110, 0] · slices_S1x256x256_S1x1x256_0_110_0) main_v11977
  let main_v11979 : FVec F S1x256x1 .f32 := (extractStridedSlice S1x256x1 ![0, 0, 110] · slices_S1x256x256_S1x256x1_0_0_110) main_v11977
  fn_part578 (F := F) main_arg0 main_v4875 main_v9852 main_v9886 main_v9887 main_v11977 main_v11978 main_v11979

def fn_part576 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11926 : FVec F S1x256x256 .f32) (main_v11928 : IVec S1x256x256 1) (main_v11935 : FVec F S1x256x256 .f32) (main_v11937 : IVec S1x256x256 1) : IVec S9x256x256 1 × IVec S8x256x256 1 :=
  let main_v11938 : IVec S1x256x256 1 := andi main_v11928 main_v11937
  let main_v11939 : FVec F S1x256x256 .f32 := select main_v11938 main_v11926 main_v11935
  let main_v11940 : FVec F S1x1x256 .f32 := (extractStridedSlice S1x1x256 ![0, 108, 0] · slices_S1x256x256_S1x1x256_0_108_0) main_v11939
  let main_v11941 : FVec F S1x256x1 .f32 := (extractStridedSlice S1x256x1 ![0, 0, 108] · slices_S1x256x256_S1x256x1_0_0_108) main_v11939
  let main_v11942 : FVec F S1x1x1 .f32 := (extractStridedSlice S1x1x1 ![0, 0, 108] · slices_S1x1x256_S1x1x1_0_0_108) main_v11940
  let main_v11943 : FVec F S1x256x1 .f32 := broadcastInDim S1x256x1 ![0, 1, 2] bcast_S1x1x1_S1x256x1_0_1_2 main_v11942
  let main_v11944 : FVec F S1x256x1 .f32 := Host.divf main_v11941 main_v11943
  let main_v11945 : FVec F S1x256x256 .f32 := broadcastInDim S1x256x256 ![0, 1, 2] bcast_S1x256x1_S1x256x256_0_1_2 main_v11944
  let main_c_1885 : IVec S_ 32 := constantI S_ 32 108#32
  let main_v11946 : IVec S1x256x256 32 := broadcastInDim S1x256x256 ![] bcast_S_S1x256x256 main_c_1885
  let main_v11947 : IVec S1x256x256 1 := cmpi .sgt main_v9886 main_v11946
  let main_c_1886 : IVec S_ 32 := constantI S_ 32 108#32
  let main_v11948 : IVec S1x256x256 32 := broadcastInDim S1x256x256 ![] bcast_S_S1x256x256 main_c_1886
  let main_v11949 : IVec S1x256x256 1 := cmpi .sgt main_v9887 main_v11948
  let main_v11950 : IVec S1x256x256 1 := andi main_v11947 main_v11949
  let main_v11951 : FVec F S1x256x256 .f32 := broadcastInDim S1x256x256 ![0, 1, 2] bcast_S1x1x256_S1x256x256_0_1_2 main_v11940
  let main_v11952 : FVec F S1x256x256 .f32 := mulf main_v11945 main_v11951
  let main_v11953 : FVec F S1x256x256 .f32 := subf main_v11939 main_v11952
  let main_v11954 : FVec F S1x256x256 .f32 := select main_v11950 main_v11953 main_v11939
  let main_c_1887 : IVec S_ 32 := constantI S_ 32 108#32
  let main_v11955 : IVec S1x256x256 32 := broadcastInDim S1x256x256 ![] bcast_S_S1x256x256 main_c_1887
  let main_v11956 : IVec S1x256x256 1 := cmpi .eq main_v9887 main_v11955
  let main_v11957 : IVec S1x256x256 1 := andi main_v11947 main_v11956
  let main_v11958 : FVec F S1x256x256 .f32 := select main_v11957 main_v11945 main_v11954
  fn_part577 (F := F) main_arg0 main_v4875 main_v9852 main_v9886 main_v9887 main_v11958

def fn_part575 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11907 : FVec F S1x256x256 .f32) (main_v11909 : IVec S1x256x256 1) (main_v11916 : FVec F S1x256x256 .f32) (main_c_1881 : IVec S_ 32) : IVec S9x256x256 1 × IVec S8x256x256 1 :=
  let main_v11917 : IVec S1x256x256 32 := broadcastInDim S1x256x256 ![] bcast_S_S1x256x256 main_c_1881
  let main_v11918 : IVec S1x256x256 1 := cmpi .eq main_v9887 main_v11917
  let main_v11919 : IVec S1x256x256 1 := andi main_v11909 main_v11918
  let main_v11920 : FVec F S1x256x256 .f32 := select main_v11919 main_v11907 main_v11916
  let main_v11921 : FVec F S1x1x256 .f32 := (extractStridedSlice S1x1x256 ![0, 107, 0] · slices_S1x256x256_S1x1x256_0_107_0) main_v11920
  let main_v11922 : FVec F S1x256x1 .f32 := (extractStridedSlice S1x256x1 ![0, 0, 107] · slices_S1x256x256_S1x256x1_0_0_107) main_v11920
  let main_v11923 : FVec F S1x1x1 .f32 := (extractStridedSlice S1x1x1 ![0, 0, 107] · slices_S1x1x256_S1x1x1_0_0_107) main_v11921
  let main_v11924 : FVec F S1x256x1 .f32 := broadcastInDim S1x256x1 ![0, 1, 2] bcast_S1x1x1_S1x256x1_0_1_2 main_v11923
  let main_v11925 : FVec F S1x256x1 .f32 := Host.divf main_v11922 main_v11924
  let main_v11926 : FVec F S1x256x256 .f32 := broadcastInDim S1x256x256 ![0, 1, 2] bcast_S1x256x1_S1x256x256_0_1_2 main_v11925
  let main_c_1882 : IVec S_ 32 := constantI S_ 32 107#32
  let main_v11927 : IVec S1x256x256 32 := broadcastInDim S1x256x256 ![] bcast_S_S1x256x256 main_c_1882
  let main_v11928 : IVec S1x256x256 1 := cmpi .sgt main_v9886 main_v11927
  let main_c_1883 : IVec S_ 32 := constantI S_ 32 107#32
  let main_v11929 : IVec S1x256x256 32 := broadcastInDim S1x256x256 ![] bcast_S_S1x256x256 main_c_1883
  let main_v11930 : IVec S1x256x256 1 := cmpi .sgt main_v9887 main_v11929
  let main_v11931 : IVec S1x256x256 1 := andi main_v11928 main_v11930
  let main_v11932 : FVec F S1x256x256 .f32 := broadcastInDim S1x256x256 ![0, 1, 2] bcast_S1x1x256_S1x256x256_0_1_2 main_v11921
  let main_v11933 : FVec F S1x256x256 .f32 := mulf main_v11926 main_v11932
  let main_v11934 : FVec F S1x256x256 .f32 := subf main_v11920 main_v11933
  let main_v11935 : FVec F S1x256x256 .f32 := select main_v11931 main_v11934 main_v11920
  let main_c_1884 : IVec S_ 32 := constantI S_ 32 107#32
  let main_v11936 : IVec S1x256x256 32 := broadcastInDim S1x256x256 ![] bcast_S_S1x256x256 main_c_1884
  let main_v11937 : IVec S1x256x256 1 := cmpi .eq main_v9887 main_v11936
  fn_part576 (F := F) main_arg0 main_v4875 main_v9852 main_v9886 main_v9887 main_v11926 main_v11928 main_v11935 main_v11937

def fn_part574 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11882 : FVec F S1x256x256 .f32) (main_v11888 : FVec F S1x256x256 .f32) (main_v11890 : IVec S1x256x256 1) (main_v11893 : IVec S1x256x256 1) (main_v11896 : FVec F S1x256x256 .f32) : IVec S9x256x256 1 × IVec S8x256x256 1 :=
  let main_v11897 : FVec F S1x256x256 .f32 := select main_v11893 main_v11896 main_v11882
  let main_c_1878 : IVec S_ 32 := constantI S_ 32 105#32
  let main_v11898 : IVec S1x256x256 32 := broadcastInDim S1x256x256 ![] bcast_S_S1x256x256 main_c_1878
  let main_v11899 : IVec S1x256x256 1 := cmpi .eq main_v9887 main_v11898
  let main_v11900 : IVec S1x256x256 1 := andi main_v11890 main_v11899
  let main_v11901 : FVec F S1x256x256 .f32 := select main_v11900 main_v11888 main_v11897
  let main_v11902 : FVec F S1x1x256 .f32 := (extractStridedSlice S1x1x256 ![0, 106, 0] · slices_S1x256x256_S1x1x256_0_106_0) main_v11901
  let main_v11903 : FVec F S1x256x1 .f32 := (extractStridedSlice S1x256x1 ![0, 0, 106] · slices_S1x256x256_S1x256x1_0_0_106) main_v11901
  let main_v11904 : FVec F S1x1x1 .f32 := (extractStridedSlice S1x1x1 ![0, 0, 106] · slices_S1x1x256_S1x1x1_0_0_106) main_v11902
  let main_v11905 : FVec F S1x256x1 .f32 := broadcastInDim S1x256x1 ![0, 1, 2] bcast_S1x1x1_S1x256x1_0_1_2 main_v11904
  let main_v11906 : FVec F S1x256x1 .f32 := Host.divf main_v11903 main_v11905
  let main_v11907 : FVec F S1x256x256 .f32 := broadcastInDim S1x256x256 ![0, 1, 2] bcast_S1x256x1_S1x256x256_0_1_2 main_v11906
  let main_c_1879 : IVec S_ 32 := constantI S_ 32 106#32
  let main_v11908 : IVec S1x256x256 32 := broadcastInDim S1x256x256 ![] bcast_S_S1x256x256 main_c_1879
  let main_v11909 : IVec S1x256x256 1 := cmpi .sgt main_v9886 main_v11908
  let main_c_1880 : IVec S_ 32 := constantI S_ 32 106#32
  let main_v11910 : IVec S1x256x256 32 := broadcastInDim S1x256x256 ![] bcast_S_S1x256x256 main_c_1880
  let main_v11911 : IVec S1x256x256 1 := cmpi .sgt main_v9887 main_v11910
  let main_v11912 : IVec S1x256x256 1 := andi main_v11909 main_v11911
  let main_v11913 : FVec F S1x256x256 .f32 := broadcastInDim S1x256x256 ![0, 1, 2] bcast_S1x1x256_S1x256x256_0_1_2 main_v11902
  let main_v11914 : FVec F S1x256x256 .f32 := mulf main_v11907 main_v11913
  let main_v11915 : FVec F S1x256x256 .f32 := subf main_v11901 main_v11914
  let main_v11916 : FVec F S1x256x256 .f32 := select main_v11912 main_v11915 main_v11901
  let main_c_1881 : IVec S_ 32 := constantI S_ 32 106#32
  fn_part575 (F := F) main_arg0 main_v4875 main_v9852 main_v9886 main_v9887 main_v11907 main_v11909 main_v11916 main_c_1881

def fn_part573 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11863 : FVec F S1x256x256 .f32) (main_v11869 : FVec F S1x256x256 .f32) (main_v11871 : IVec S1x256x256 1) (main_v11874 : IVec S1x256x256 1) (main_v11875 : FVec F S1x256x256 .f32) : IVec S9x256x256 1 × IVec S8x256x256 1 :=
  let main_v11876 : FVec F S1x256x256 .f32 := mulf main_v11869 main_v11875
  let main_v11877 : FVec F S1x256x256 .f32 := subf main_v11863 main_v11876
  let main_v11878 : FVec F S1x256x256 .f32 := select main_v11874 main_v11877 main_v11863
  let main_c_1875 : IVec S_ 32 := constantI S_ 32 104#32
  let main_v11879 : IVec S1x256x256 32 := broadcastInDim S1x256x256 ![] bcast_S_S1x256x256 main_c_1875
  let main_v11880 : IVec S1x256x256 1 := cmpi .eq main_v9887 main_v11879
  let main_v11881 : IVec S1x256x256 1 := andi main_v11871 main_v11880
  let main_v11882 : FVec F S1x256x256 .f32 := select main_v11881 main_v11869 main_v11878
  let main_v11883 : FVec F S1x1x256 .f32 := (extractStridedSlice S1x1x256 ![0, 105, 0] · slices_S1x256x256_S1x1x256_0_105_0) main_v11882
  let main_v11884 : FVec F S1x256x1 .f32 := (extractStridedSlice S1x256x1 ![0, 0, 105] · slices_S1x256x256_S1x256x1_0_0_105) main_v11882
  let main_v11885 : FVec F S1x1x1 .f32 := (extractStridedSlice S1x1x1 ![0, 0, 105] · slices_S1x1x256_S1x1x1_0_0_105) main_v11883
  let main_v11886 : FVec F S1x256x1 .f32 := broadcastInDim S1x256x1 ![0, 1, 2] bcast_S1x1x1_S1x256x1_0_1_2 main_v11885
  let main_v11887 : FVec F S1x256x1 .f32 := Host.divf main_v11884 main_v11886
  let main_v11888 : FVec F S1x256x256 .f32 := broadcastInDim S1x256x256 ![0, 1, 2] bcast_S1x256x1_S1x256x256_0_1_2 main_v11887
  let main_c_1876 : IVec S_ 32 := constantI S_ 32 105#32
  let main_v11889 : IVec S1x256x256 32 := broadcastInDim S1x256x256 ![] bcast_S_S1x256x256 main_c_1876
  let main_v11890 : IVec S1x256x256 1 := cmpi .sgt main_v9886 main_v11889
  let main_c_1877 : IVec S_ 32 := constantI S_ 32 105#32
  let main_v11891 : IVec S1x256x256 32 := broadcastInDim S1x256x256 ![] bcast_S_S1x256x256 main_c_1877
  let main_v11892 : IVec S1x256x256 1 := cmpi .sgt main_v9887 main_v11891
  let main_v11893 : IVec S1x256x256 1 := andi main_v11890 main_v11892
  let main_v11894 : FVec F S1x256x256 .f32 := broadcastInDim S1x256x256 ![0, 1, 2] bcast_S1x1x256_S1x256x256_0_1_2 main_v11883
  let main_v11895 : FVec F S1x256x256 .f32 := mulf main_v11888 main_v11894
  let main_v11896 : FVec F S1x256x256 .f32 := subf main_v11882 main_v11895
  fn_part574 (F := F) main_arg0 main_v4875 main_v9852 main_v9886 main_v9887 main_v11882 main_v11888 main_v11890 main_v11893 main_v11896

def fn_part572 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11844 : FVec F S1x256x256 .f32) (main_v11845 : FVec F S1x1x256 .f32) (main_v11850 : FVec F S1x256x256 .f32) (main_v11852 : IVec S1x256x256 1) (main_v11854 : IVec S1x256x256 1) : IVec S9x256x256 1 × IVec S8x256x256 1 :=
  let main_v11855 : IVec S1x256x256 1 := andi main_v11852 main_v11854
  let main_v11856 : FVec F S1x256x256 .f32 := broadcastInDim S1x256x256 ![0, 1, 2] bcast_S1x1x256_S1x256x256_0_1_2 main_v11845
  let main_v11857 : FVec F S1x256x256 .f32 := mulf main_v11850 main_v11856
  let main_v11858 : FVec F S1x256x256 .f32 := subf main_v11844 main_v11857
  let main_v11859 : FVec F S1x256x256 .f32 := select main_v11855 main_v11858 main_v11844
  let main_c_1872 : IVec S_ 32 := constantI S_ 32 103#32
  let main_v11860 : IVec S1x256x256 32 := broadcastInDim S1x256x256 ![] bcast_S_S1x256x256 main_c_1872
  let main_v11861 : IVec S1x256x256 1 := cmpi .eq main_v9887 main_v11860
  let main_v11862 : IVec S1x256x256 1 := andi main_v11852 main_v11861
  let main_v11863 : FVec F S1x256x256 .f32 := select main_v11862 main_v11850 main_v11859
  let main_v11864 : FVec F S1x1x256 .f32 := (extractStridedSlice S1x1x256 ![0, 104, 0] · slices_S1x256x256_S1x1x256_0_104_0) main_v11863
  let main_v11865 : FVec F S1x256x1 .f32 := (extractStridedSlice S1x256x1 ![0, 0, 104] · slices_S1x256x256_S1x256x1_0_0_104) main_v11863
  let main_v11866 : FVec F S1x1x1 .f32 := (extractStridedSlice S1x1x1 ![0, 0, 104] · slices_S1x1x256_S1x1x1_0_0_104) main_v11864
  let main_v11867 : FVec F S1x256x1 .f32 := broadcastInDim S1x256x1 ![0, 1, 2] bcast_S1x1x1_S1x256x1_0_1_2 main_v11866
  let main_v11868 : FVec F S1x256x1 .f32 := Host.divf main_v11865 main_v11867
  let main_v11869 : FVec F S1x256x256 .f32 := broadcastInDim S1x256x256 ![0, 1, 2] bcast_S1x256x1_S1x256x256_0_1_2 main_v11868
  let main_c_1873 : IVec S_ 32 := constantI S_ 32 104#32
  let main_v11870 : IVec S1x256x256 32 := broadcastInDim S1x256x256 ![] bcast_S_S1x256x256 main_c_1873
  let main_v11871 : IVec S1x256x256 1 := cmpi .sgt main_v9886 main_v11870
  let main_c_1874 : IVec S_ 32 := constantI S_ 32 104#32
  let main_v11872 : IVec S1x256x256 32 := broadcastInDim S1x256x256 ![] bcast_S_S1x256x256 main_c_1874
  let main_v11873 : IVec S1x256x256 1 := cmpi .sgt main_v9887 main_v11872
  let main_v11874 : IVec S1x256x256 1 := andi main_v11871 main_v11873
  let main_v11875 : FVec F S1x256x256 .f32 := broadcastInDim S1x256x256 ![0, 1, 2] bcast_S1x1x256_S1x256x256_0_1_2 main_v11864
  fn_part573 (F := F) main_arg0 main_v4875 main_v9852 main_v9886 main_v9887 main_v11863 main_v11869 main_v11871 main_v11874 main_v11875

def fn_part571 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11825 : FVec F S1x256x256 .f32) (main_v11826 : FVec F S1x1x256 .f32) (main_v11831 : FVec F S1x256x256 .f32) (main_v11833 : IVec S1x256x256 1) (main_c_1868 : IVec S_ 32) : IVec S9x256x256 1 × IVec S8x256x256 1 :=
  let main_v11834 : IVec S1x256x256 32 := broadcastInDim S1x256x256 ![] bcast_S_S1x256x256 main_c_1868
  let main_v11835 : IVec S1x256x256 1 := cmpi .sgt main_v9887 main_v11834
  let main_v11836 : IVec S1x256x256 1 := andi main_v11833 main_v11835
  let main_v11837 : FVec F S1x256x256 .f32 := broadcastInDim S1x256x256 ![0, 1, 2] bcast_S1x1x256_S1x256x256_0_1_2 main_v11826
  let main_v11838 : FVec F S1x256x256 .f32 := mulf main_v11831 main_v11837
  let main_v11839 : FVec F S1x256x256 .f32 := subf main_v11825 main_v11838
  let main_v11840 : FVec F S1x256x256 .f32 := select main_v11836 main_v11839 main_v11825
  let main_c_1869 : IVec S_ 32 := constantI S_ 32 102#32
  let main_v11841 : IVec S1x256x256 32 := broadcastInDim S1x256x256 ![] bcast_S_S1x256x256 main_c_1869
  let main_v11842 : IVec S1x256x256 1 := cmpi .eq main_v9887 main_v11841
  let main_v11843 : IVec S1x256x256 1 := andi main_v11833 main_v11842
  let main_v11844 : FVec F S1x256x256 .f32 := select main_v11843 main_v11831 main_v11840
  let main_v11845 : FVec F S1x1x256 .f32 := (extractStridedSlice S1x1x256 ![0, 103, 0] · slices_S1x256x256_S1x1x256_0_103_0) main_v11844
  let main_v11846 : FVec F S1x256x1 .f32 := (extractStridedSlice S1x256x1 ![0, 0, 103] · slices_S1x256x256_S1x256x1_0_0_103) main_v11844
  let main_v11847 : FVec F S1x1x1 .f32 := (extractStridedSlice S1x1x1 ![0, 0, 103] · slices_S1x1x256_S1x1x1_0_0_103) main_v11845
  let main_v11848 : FVec F S1x256x1 .f32 := broadcastInDim S1x256x1 ![0, 1, 2] bcast_S1x1x1_S1x256x1_0_1_2 main_v11847
  let main_v11849 : FVec F S1x256x1 .f32 := Host.divf main_v11846 main_v11848
  let main_v11850 : FVec F S1x256x256 .f32 := broadcastInDim S1x256x256 ![0, 1, 2] bcast_S1x256x1_S1x256x256_0_1_2 main_v11849
  let main_c_1870 : IVec S_ 32 := constantI S_ 32 103#32
  let main_v11851 : IVec S1x256x256 32 := broadcastInDim S1x256x256 ![] bcast_S_S1x256x256 main_c_1870
  let main_v11852 : IVec S1x256x256 1 := cmpi .sgt main_v9886 main_v11851
  let main_c_1871 : IVec S_ 32 := constantI S_ 32 103#32
  let main_v11853 : IVec S1x256x256 32 := broadcastInDim S1x256x256 ![] bcast_S_S1x256x256 main_c_1871
  let main_v11854 : IVec S1x256x256 1 := cmpi .sgt main_v9887 main_v11853
  fn_part572 (F := F) main_arg0 main_v4875 main_v9852 main_v9886 main_v9887 main_v11844 main_v11845 main_v11850 main_v11852 main_v11854

def fn_part570 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11806 : FVec F S1x256x256 .f32) (main_v11807 : FVec F S1x1x256 .f32) (main_v11812 : FVec F S1x256x256 .f32) (main_v11813 : IVec S1x256x256 32) : IVec S9x256x256 1 × IVec S8x256x256 1 :=
  let main_v11814 : IVec S1x256x256 1 := cmpi .sgt main_v9886 main_v11813
  let main_c_1865 : IVec S_ 32 := constantI S_ 32 101#32
  let main_v11815 : IVec S1x256x256 32 := broadcastInDim S1x256x256 ![] bcast_S_S1x256x256 main_c_1865
  let main_v11816 : IVec S1x256x256 1 := cmpi .sgt main_v9887 main_v11815
  let main_v11817 : IVec S1x256x256 1 := andi main_v11814 main_v11816
  let main_v11818 : FVec F S1x256x256 .f32 := broadcastInDim S1x256x256 ![0, 1, 2] bcast_S1x1x256_S1x256x256_0_1_2 main_v11807
  let main_v11819 : FVec F S1x256x256 .f32 := mulf main_v11812 main_v11818
  let main_v11820 : FVec F S1x256x256 .f32 := subf main_v11806 main_v11819
  let main_v11821 : FVec F S1x256x256 .f32 := select main_v11817 main_v11820 main_v11806
  let main_c_1866 : IVec S_ 32 := constantI S_ 32 101#32
  let main_v11822 : IVec S1x256x256 32 := broadcastInDim S1x256x256 ![] bcast_S_S1x256x256 main_c_1866
  let main_v11823 : IVec S1x256x256 1 := cmpi .eq main_v9887 main_v11822
  let main_v11824 : IVec S1x256x256 1 := andi main_v11814 main_v11823
  let main_v11825 : FVec F S1x256x256 .f32 := select main_v11824 main_v11812 main_v11821
  let main_v11826 : FVec F S1x1x256 .f32 := (extractStridedSlice S1x1x256 ![0, 102, 0] · slices_S1x256x256_S1x1x256_0_102_0) main_v11825
  let main_v11827 : FVec F S1x256x1 .f32 := (extractStridedSlice S1x256x1 ![0, 0, 102] · slices_S1x256x256_S1x256x1_0_0_102) main_v11825
  let main_v11828 : FVec F S1x1x1 .f32 := (extractStridedSlice S1x1x1 ![0, 0, 102] · slices_S1x1x256_S1x1x1_0_0_102) main_v11826
  let main_v11829 : FVec F S1x256x1 .f32 := broadcastInDim S1x256x1 ![0, 1, 2] bcast_S1x1x1_S1x256x1_0_1_2 main_v11828
  let main_v11830 : FVec F S1x256x1 .f32 := Host.divf main_v11827 main_v11829
  let main_v11831 : FVec F S1x256x256 .f32 := broadcastInDim S1x256x256 ![0, 1, 2] bcast_S1x256x1_S1x256x256_0_1_2 main_v11830
  let main_c_1867 : IVec S_ 32 := constantI S_ 32 102#32
  let main_v11832 : IVec S1x256x256 32 := broadcastInDim S1x256x256 ![] bcast_S_S1x256x256 main_c_1867
  let main_v11833 : IVec S1x256x256 1 := cmpi .sgt main_v9886 main_v11832
  let main_c_1868 : IVec S_ 32 := constantI S_ 32 102#32
  fn_part571 (F := F) main_arg0 main_v4875 main_v9852 main_v9886 main_v9887 main_v11825 main_v11826 main_v11831 main_v11833 main_c_1868

def fn_part569 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11787 : FVec F S1x256x256 .f32) (main_v11788 : FVec F S1x1x256 .f32) (main_v11793 : FVec F S1x256x256 .f32) : IVec S9x256x256 1 × IVec S8x256x256 1 :=
  let main_c_1861 : IVec S_ 32 := constantI S_ 32 100#32
  let main_v11794 : IVec S1x256x256 32 := broadcastInDim S1x256x256 ![] bcast_S_S1x256x256 main_c_1861
  let main_v11795 : IVec S1x256x256 1 := cmpi .sgt main_v9886 main_v11794
  let main_c_1862 : IVec S_ 32 := constantI S_ 32 100#32
  let main_v11796 : IVec S1x256x256 32 := broadcastInDim S1x256x256 ![] bcast_S_S1x256x256 main_c_1862
  let main_v11797 : IVec S1x256x256 1 := cmpi .sgt main_v9887 main_v11796
  let main_v11798 : IVec S1x256x256 1 := andi main_v11795 main_v11797
  let main_v11799 : FVec F S1x256x256 .f32 := broadcastInDim S1x256x256 ![0, 1, 2] bcast_S1x1x256_S1x256x256_0_1_2 main_v11788
  let main_v11800 : FVec F S1x256x256 .f32 := mulf main_v11793 main_v11799
  let main_v11801 : FVec F S1x256x256 .f32 := subf main_v11787 main_v11800
  let main_v11802 : FVec F S1x256x256 .f32 := select main_v11798 main_v11801 main_v11787
  let main_c_1863 : IVec S_ 32 := constantI S_ 32 100#32
  let main_v11803 : IVec S1x256x256 32 := broadcastInDim S1x256x256 ![] bcast_S_S1x256x256 main_c_1863
  let main_v11804 : IVec S1x256x256 1 := cmpi .eq main_v9887 main_v11803
  let main_v11805 : IVec S1x256x256 1 := andi main_v11795 main_v11804
  let main_v11806 : FVec F S1x256x256 .f32 := select main_v11805 main_v11793 main_v11802
  let main_v11807 : FVec F S1x1x256 .f32 := (extractStridedSlice S1x1x256 ![0, 101, 0] · slices_S1x256x256_S1x1x256_0_101_0) main_v11806
  let main_v11808 : FVec F S1x256x1 .f32 := (extractStridedSlice S1x256x1 ![0, 0, 101] · slices_S1x256x256_S1x256x1_0_0_101) main_v11806
  let main_v11809 : FVec F S1x1x1 .f32 := (extractStridedSlice S1x1x1 ![0, 0, 101] · slices_S1x1x256_S1x1x1_0_0_101) main_v11807
  let main_v11810 : FVec F S1x256x1 .f32 := broadcastInDim S1x256x1 ![0, 1, 2] bcast_S1x1x1_S1x256x1_0_1_2 main_v11809
  let main_v11811 : FVec F S1x256x1 .f32 := Host.divf main_v11808 main_v11810
  let main_v11812 : FVec F S1x256x256 .f32 := broadcastInDim S1x256x256 ![0, 1, 2] bcast_S1x256x1_S1x256x256_0_1_2 main_v11811
  let main_c_1864 : IVec S_ 32 := constantI S_ 32 101#32
  let main_v11813 : IVec S1x256x256 32 := broadcastInDim S1x256x256 ![] bcast_S_S1x256x256 main_c_1864
  fn_part570 (F := F) main_arg0 main_v4875 main_v9852 main_v9886 main_v9887 main_v11806 main_v11807 main_v11812 main_v11813

def fn_part568 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11768 : FVec F S1x256x256 .f32) (main_v11769 : FVec F S1x1x256 .f32) (main_v11770 : FVec F S1x256x1 .f32) (main_v11772 : FVec F S1x256x1 .f32) : IVec S9x256x256 1 × IVec S8x256x256 1 :=
  let main_v11773 : FVec F S1x256x1 .f32 := Host.divf main_v11770 main_v11772
  let main_v11774 : FVec F S1x256x256 .f32 := broadcastInDim S1x256x256 ![0, 1, 2] bcast_S1x256x1_S1x256x256_0_1_2 main_v11773
  let main_c_1858 : IVec S_ 32 := constantI S_ 32 99#32
  let main_v11775 : IVec S1x256x256 32 := broadcastInDim S1x256x256 ![] bcast_S_S1x256x256 main_c_1858
  let main_v11776 : IVec S1x256x256 1 := cmpi .sgt main_v9886 main_v11775
  let main_c_1859 : IVec S_ 32 := constantI S_ 32 99#32
  let main_v11777 : IVec S1x256x256 32 := broadcastInDim S1x256x256 ![] bcast_S_S1x256x256 main_c_1859
  let main_v11778 : IVec S1x256x256 1 := cmpi .sgt main_v9887 main_v11777
  let main_v11779 : IVec S1x256x256 1 := andi main_v11776 main_v11778
  let main_v11780 : FVec F S1x256x256 .f32 := broadcastInDim S1x256x256 ![0, 1, 2] bcast_S1x1x256_S1x256x256_0_1_2 main_v11769
  let main_v11781 : FVec F S1x256x256 .f32 := mulf main_v11774 main_v11780
  let main_v11782 : FVec F S1x256x256 .f32 := subf main_v11768 main_v11781
  let main_v11783 : FVec F S1x256x256 .f32 := select main_v11779 main_v11782 main_v11768
  let main_c_1860 : IVec S_ 32 := constantI S_ 32 99#32
  let main_v11784 : IVec S1x256x256 32 := broadcastInDim S1x256x256 ![] bcast_S_S1x256x256 main_c_1860
  let main_v11785 : IVec S1x256x256 1 := cmpi .eq main_v9887 main_v11784
  let main_v11786 : IVec S1x256x256 1 := andi main_v11776 main_v11785
  let main_v11787 : FVec F S1x256x256 .f32 := select main_v11786 main_v11774 main_v11783
  let main_v11788 : FVec F S1x1x256 .f32 := (extractStridedSlice S1x1x256 ![0, 100, 0] · slices_S1x256x256_S1x1x256_0_100_0) main_v11787
  let main_v11789 : FVec F S1x256x1 .f32 := (extractStridedSlice S1x256x1 ![0, 0, 100] · slices_S1x256x256_S1x256x1_0_0_100) main_v11787
  let main_v11790 : FVec F S1x1x1 .f32 := (extractStridedSlice S1x1x1 ![0, 0, 100] · slices_S1x1x256_S1x1x1_0_0_100) main_v11788
  let main_v11791 : FVec F S1x256x1 .f32 := broadcastInDim S1x256x1 ![0, 1, 2] bcast_S1x1x1_S1x256x1_0_1_2 main_v11790
  let main_v11792 : FVec F S1x256x1 .f32 := Host.divf main_v11789 main_v11791
  let main_v11793 : FVec F S1x256x256 .f32 := broadcastInDim S1x256x256 ![0, 1, 2] bcast_S1x256x1_S1x256x256_0_1_2 main_v11792
  fn_part569 (F := F) main_arg0 main_v4875 main_v9852 main_v9886 main_v9887 main_v11787 main_v11788 main_v11793

def fn_part567 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11749 : FVec F S1x256x256 .f32) (main_v11750 : FVec F S1x1x256 .f32) (main_v11751 : FVec F S1x256x1 .f32) : IVec S9x256x256 1 × IVec S8x256x256 1 :=
  let main_v11752 : FVec F S1x1x1 .f32 := (extractStridedSlice S1x1x1 ![0, 0, 98] · slices_S1x1x256_S1x1x1_0_0_98) main_v11750
  let main_v11753 : FVec F S1x256x1 .f32 := broadcastInDim S1x256x1 ![0, 1, 2] bcast_S1x1x1_S1x256x1_0_1_2 main_v11752
  let main_v11754 : FVec F S1x256x1 .f32 := Host.divf main_v11751 main_v11753
  let main_v11755 : FVec F S1x256x256 .f32 := broadcastInDim S1x256x256 ![0, 1, 2] bcast_S1x256x1_S1x256x256_0_1_2 main_v11754
  let main_c_1855 : IVec S_ 32 := constantI S_ 32 98#32
  let main_v11756 : IVec S1x256x256 32 := broadcastInDim S1x256x256 ![] bcast_S_S1x256x256 main_c_1855
  let main_v11757 : IVec S1x256x256 1 := cmpi .sgt main_v9886 main_v11756
  let main_c_1856 : IVec S_ 32 := constantI S_ 32 98#32
  let main_v11758 : IVec S1x256x256 32 := broadcastInDim S1x256x256 ![] bcast_S_S1x256x256 main_c_1856
  let main_v11759 : IVec S1x256x256 1 := cmpi .sgt main_v9887 main_v11758
  let main_v11760 : IVec S1x256x256 1 := andi main_v11757 main_v11759
  let main_v11761 : FVec F S1x256x256 .f32 := broadcastInDim S1x256x256 ![0, 1, 2] bcast_S1x1x256_S1x256x256_0_1_2 main_v11750
  let main_v11762 : FVec F S1x256x256 .f32 := mulf main_v11755 main_v11761
  let main_v11763 : FVec F S1x256x256 .f32 := subf main_v11749 main_v11762
  let main_v11764 : FVec F S1x256x256 .f32 := select main_v11760 main_v11763 main_v11749
  let main_c_1857 : IVec S_ 32 := constantI S_ 32 98#32
  let main_v11765 : IVec S1x256x256 32 := broadcastInDim S1x256x256 ![] bcast_S_S1x256x256 main_c_1857
  let main_v11766 : IVec S1x256x256 1 := cmpi .eq main_v9887 main_v11765
  let main_v11767 : IVec S1x256x256 1 := andi main_v11757 main_v11766
  let main_v11768 : FVec F S1x256x256 .f32 := select main_v11767 main_v11755 main_v11764
  let main_v11769 : FVec F S1x1x256 .f32 := (extractStridedSlice S1x1x256 ![0, 99, 0] · slices_S1x256x256_S1x1x256_0_99_0) main_v11768
  let main_v11770 : FVec F S1x256x1 .f32 := (extractStridedSlice S1x256x1 ![0, 0, 99] · slices_S1x256x256_S1x256x1_0_0_99) main_v11768
  let main_v11771 : FVec F S1x1x1 .f32 := (extractStridedSlice S1x1x1 ![0, 0, 99] · slices_S1x1x256_S1x1x1_0_0_99) main_v11769
  let main_v11772 : FVec F S1x256x1 .f32 := broadcastInDim S1x256x1 ![0, 1, 2] bcast_S1x1x1_S1x256x1_0_1_2 main_v11771
  fn_part568 (F := F) main_arg0 main_v4875 main_v9852 main_v9886 main_v9887 main_v11768 main_v11769 main_v11770 main_v11772

def fn_part566 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11730 : FVec F S1x256x256 .f32) : IVec S9x256x256 1 × IVec S8x256x256 1 :=
  let main_v11731 : FVec F S1x1x256 .f32 := (extractStridedSlice S1x1x256 ![0, 97, 0] · slices_S1x256x256_S1x1x256_0_97_0) main_v11730
  let main_v11732 : FVec F S1x256x1 .f32 := (extractStridedSlice S1x256x1 ![0, 0, 97] · slices_S1x256x256_S1x256x1_0_0_97) main_v11730
  let main_v11733 : FVec F S1x1x1 .f32 := (extractStridedSlice S1x1x1 ![0, 0, 97] · slices_S1x1x256_S1x1x1_0_0_97) main_v11731
  let main_v11734 : FVec F S1x256x1 .f32 := broadcastInDim S1x256x1 ![0, 1, 2] bcast_S1x1x1_S1x256x1_0_1_2 main_v11733
  let main_v11735 : FVec F S1x256x1 .f32 := Host.divf main_v11732 main_v11734
  let main_v11736 : FVec F S1x256x256 .f32 := broadcastInDim S1x256x256 ![0, 1, 2] bcast_S1x256x1_S1x256x256_0_1_2 main_v11735
  let main_c_1852 : IVec S_ 32 := constantI S_ 32 97#32
  let main_v11737 : IVec S1x256x256 32 := broadcastInDim S1x256x256 ![] bcast_S_S1x256x256 main_c_1852
  let main_v11738 : IVec S1x256x256 1 := cmpi .sgt main_v9886 main_v11737
  let main_c_1853 : IVec S_ 32 := constantI S_ 32 97#32
  let main_v11739 : IVec S1x256x256 32 := broadcastInDim S1x256x256 ![] bcast_S_S1x256x256 main_c_1853
  let main_v11740 : IVec S1x256x256 1 := cmpi .sgt main_v9887 main_v11739
  let main_v11741 : IVec S1x256x256 1 := andi main_v11738 main_v11740
  let main_v11742 : FVec F S1x256x256 .f32 := broadcastInDim S1x256x256 ![0, 1, 2] bcast_S1x1x256_S1x256x256_0_1_2 main_v11731
  let main_v11743 : FVec F S1x256x256 .f32 := mulf main_v11736 main_v11742
  let main_v11744 : FVec F S1x256x256 .f32 := subf main_v11730 main_v11743
  let main_v11745 : FVec F S1x256x256 .f32 := select main_v11741 main_v11744 main_v11730
  let main_c_1854 : IVec S_ 32 := constantI S_ 32 97#32
  let main_v11746 : IVec S1x256x256 32 := broadcastInDim S1x256x256 ![] bcast_S_S1x256x256 main_c_1854
  let main_v11747 : IVec S1x256x256 1 := cmpi .eq main_v9887 main_v11746
  let main_v11748 : IVec S1x256x256 1 := andi main_v11738 main_v11747
  let main_v11749 : FVec F S1x256x256 .f32 := select main_v11748 main_v11736 main_v11745
  let main_v11750 : FVec F S1x1x256 .f32 := (extractStridedSlice S1x1x256 ![0, 98, 0] · slices_S1x256x256_S1x1x256_0_98_0) main_v11749
  let main_v11751 : FVec F S1x256x1 .f32 := (extractStridedSlice S1x256x1 ![0, 0, 98] · slices_S1x256x256_S1x256x1_0_0_98) main_v11749
  fn_part567 (F := F) main_arg0 main_v4875 main_v9852 main_v9886 main_v9887 main_v11749 main_v11750 main_v11751

def fn_part565 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11698 : FVec F S1x256x256 .f32) (main_v11700 : IVec S1x256x256 1) (main_v11707 : FVec F S1x256x256 .f32) (main_v11709 : IVec S1x256x256 1) : IVec S9x256x256 1 × IVec S8x256x256 1 :=
  let main_v11710 : IVec S1x256x256 1 := andi main_v11700 main_v11709
  let main_v11711 : FVec F S1x256x256 .f32 := select main_v11710 main_v11698 main_v11707
  let main_v11712 : FVec F S1x1x256 .f32 := (extractStridedSlice S1x1x256 ![0, 96, 0] · slices_S1x256x256_S1x1x256_0_96_0) main_v11711
  let main_v11713 : FVec F S1x256x1 .f32 := (extractStridedSlice S1x256x1 ![0, 0, 96] · slices_S1x256x256_S1x256x1_0_0_96) main_v11711
  let main_v11714 : FVec F S1x1x1 .f32 := (extractStridedSlice S1x1x1 ![0, 0, 96] · slices_S1x1x256_S1x1x1_0_0_96) main_v11712
  let main_v11715 : FVec F S1x256x1 .f32 := broadcastInDim S1x256x1 ![0, 1, 2] bcast_S1x1x1_S1x256x1_0_1_2 main_v11714
  let main_v11716 : FVec F S1x256x1 .f32 := Host.divf main_v11713 main_v11715
  let main_v11717 : FVec F S1x256x256 .f32 := broadcastInDim S1x256x256 ![0, 1, 2] bcast_S1x256x1_S1x256x256_0_1_2 main_v11716
  let main_c_1849 : IVec S_ 32 := constantI S_ 32 96#32
  let main_v11718 : IVec S1x256x256 32 := broadcastInDim S1x256x256 ![] bcast_S_S1x256x256 main_c_1849
  let main_v11719 : IVec S1x256x256 1 := cmpi .sgt main_v9886 main_v11718
  let main_c_1850 : IVec S_ 32 := constantI S_ 32 96#32
  let main_v11720 : IVec S1x256x256 32 := broadcastInDim S1x256x256 ![] bcast_S_S1x256x256 main_c_1850
  let main_v11721 : IVec S1x256x256 1 := cmpi .sgt main_v9887 main_v11720
  let main_v11722 : IVec S1x256x256 1 := andi main_v11719 main_v11721
  let main_v11723 : FVec F S1x256x256 .f32 := broadcastInDim S1x256x256 ![0, 1, 2] bcast_S1x1x256_S1x256x256_0_1_2 main_v11712
  let main_v11724 : FVec F S1x256x256 .f32 := mulf main_v11717 main_v11723
  let main_v11725 : FVec F S1x256x256 .f32 := subf main_v11711 main_v11724
  let main_v11726 : FVec F S1x256x256 .f32 := select main_v11722 main_v11725 main_v11711
  let main_c_1851 : IVec S_ 32 := constantI S_ 32 96#32
  let main_v11727 : IVec S1x256x256 32 := broadcastInDim S1x256x256 ![] bcast_S_S1x256x256 main_c_1851
  let main_v11728 : IVec S1x256x256 1 := cmpi .eq main_v9887 main_v11727
  let main_v11729 : IVec S1x256x256 1 := andi main_v11719 main_v11728
  let main_v11730 : FVec F S1x256x256 .f32 := select main_v11729 main_v11717 main_v11726
  fn_part566 (F := F) main_arg0 main_v4875 main_v9852 main_v9886 main_v9887 main_v11730

def fn_part564 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11679 : FVec F S1x256x256 .f32) (main_v11681 : IVec S1x256x256 1) (main_v11688 : FVec F S1x256x256 .f32) (main_c_1845 : IVec S_ 32) : IVec S9x256x256 1 × IVec S8x256x256 1 :=
  let main_v11689 : IVec S1x256x256 32 := broadcastInDim S1x256x256 ![] bcast_S_S1x256x256 main_c_1845
  let main_v11690 : IVec S1x256x256 1 := cmpi .eq main_v9887 main_v11689
  let main_v11691 : IVec S1x256x256 1 := andi main_v11681 main_v11690
  let main_v11692 : FVec F S1x256x256 .f32 := select main_v11691 main_v11679 main_v11688
  let main_v11693 : FVec F S1x1x256 .f32 := (extractStridedSlice S1x1x256 ![0, 95, 0] · slices_S1x256x256_S1x1x256_0_95_0) main_v11692
  let main_v11694 : FVec F S1x256x1 .f32 := (extractStridedSlice S1x256x1 ![0, 0, 95] · slices_S1x256x256_S1x256x1_0_0_95) main_v11692
  let main_v11695 : FVec F S1x1x1 .f32 := (extractStridedSlice S1x1x1 ![0, 0, 95] · slices_S1x1x256_S1x1x1_0_0_95) main_v11693
  let main_v11696 : FVec F S1x256x1 .f32 := broadcastInDim S1x256x1 ![0, 1, 2] bcast_S1x1x1_S1x256x1_0_1_2 main_v11695
  let main_v11697 : FVec F S1x256x1 .f32 := Host.divf main_v11694 main_v11696
  let main_v11698 : FVec F S1x256x256 .f32 := broadcastInDim S1x256x256 ![0, 1, 2] bcast_S1x256x1_S1x256x256_0_1_2 main_v11697
  let main_c_1846 : IVec S_ 32 := constantI S_ 32 95#32
  let main_v11699 : IVec S1x256x256 32 := broadcastInDim S1x256x256 ![] bcast_S_S1x256x256 main_c_1846
  let main_v11700 : IVec S1x256x256 1 := cmpi .sgt main_v9886 main_v11699
  let main_c_1847 : IVec S_ 32 := constantI S_ 32 95#32
  let main_v11701 : IVec S1x256x256 32 := broadcastInDim S1x256x256 ![] bcast_S_S1x256x256 main_c_1847
  let main_v11702 : IVec S1x256x256 1 := cmpi .sgt main_v9887 main_v11701
  let main_v11703 : IVec S1x256x256 1 := andi main_v11700 main_v11702
  let main_v11704 : FVec F S1x256x256 .f32 := broadcastInDim S1x256x256 ![0, 1, 2] bcast_S1x1x256_S1x256x256_0_1_2 main_v11693
  let main_v11705 : FVec F S1x256x256 .f32 := mulf main_v11698 main_v11704
  let main_v11706 : FVec F S1x256x256 .f32 := subf main_v11692 main_v11705
  let main_v11707 : FVec F S1x256x256 .f32 := select main_v11703 main_v11706 main_v11692
  let main_c_1848 : IVec S_ 32 := constantI S_ 32 95#32
  let main_v11708 : IVec S1x256x256 32 := broadcastInDim S1x256x256 ![] bcast_S_S1x256x256 main_c_1848
  let main_v11709 : IVec S1x256x256 1 := cmpi .eq main_v9887 main_v11708
  fn_part565 (F := F) main_arg0 main_v4875 main_v9852 main_v9886 main_v9887 main_v11698 main_v11700 main_v11707 main_v11709

def fn_part563 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11654 : FVec F S1x256x256 .f32) (main_v11660 : FVec F S1x256x256 .f32) (main_v11662 : IVec S1x256x256 1) (main_v11665 : IVec S1x256x256 1) (main_v11668 : FVec F S1x256x256 .f32) : IVec S9x256x256 1 × IVec S8x256x256 1 :=
  let main_v11669 : FVec F S1x256x256 .f32 := select main_v11665 main_v11668 main_v11654
  let main_c_1842 : IVec S_ 32 := constantI S_ 32 93#32
  let main_v11670 : IVec S1x256x256 32 := broadcastInDim S1x256x256 ![] bcast_S_S1x256x256 main_c_1842
  let main_v11671 : IVec S1x256x256 1 := cmpi .eq main_v9887 main_v11670
  let main_v11672 : IVec S1x256x256 1 := andi main_v11662 main_v11671
  let main_v11673 : FVec F S1x256x256 .f32 := select main_v11672 main_v11660 main_v11669
  let main_v11674 : FVec F S1x1x256 .f32 := (extractStridedSlice S1x1x256 ![0, 94, 0] · slices_S1x256x256_S1x1x256_0_94_0) main_v11673
  let main_v11675 : FVec F S1x256x1 .f32 := (extractStridedSlice S1x256x1 ![0, 0, 94] · slices_S1x256x256_S1x256x1_0_0_94) main_v11673
  let main_v11676 : FVec F S1x1x1 .f32 := (extractStridedSlice S1x1x1 ![0, 0, 94] · slices_S1x1x256_S1x1x1_0_0_94) main_v11674
  let main_v11677 : FVec F S1x256x1 .f32 := broadcastInDim S1x256x1 ![0, 1, 2] bcast_S1x1x1_S1x256x1_0_1_2 main_v11676
  let main_v11678 : FVec F S1x256x1 .f32 := Host.divf main_v11675 main_v11677
  let main_v11679 : FVec F S1x256x256 .f32 := broadcastInDim S1x256x256 ![0, 1, 2] bcast_S1x256x1_S1x256x256_0_1_2 main_v11678
  let main_c_1843 : IVec S_ 32 := constantI S_ 32 94#32
  let main_v11680 : IVec S1x256x256 32 := broadcastInDim S1x256x256 ![] bcast_S_S1x256x256 main_c_1843
  let main_v11681 : IVec S1x256x256 1 := cmpi .sgt main_v9886 main_v11680
  let main_c_1844 : IVec S_ 32 := constantI S_ 32 94#32
  let main_v11682 : IVec S1x256x256 32 := broadcastInDim S1x256x256 ![] bcast_S_S1x256x256 main_c_1844
  let main_v11683 : IVec S1x256x256 1 := cmpi .sgt main_v9887 main_v11682
  let main_v11684 : IVec S1x256x256 1 := andi main_v11681 main_v11683
  let main_v11685 : FVec F S1x256x256 .f32 := broadcastInDim S1x256x256 ![0, 1, 2] bcast_S1x1x256_S1x256x256_0_1_2 main_v11674
  let main_v11686 : FVec F S1x256x256 .f32 := mulf main_v11679 main_v11685
  let main_v11687 : FVec F S1x256x256 .f32 := subf main_v11673 main_v11686
  let main_v11688 : FVec F S1x256x256 .f32 := select main_v11684 main_v11687 main_v11673
  let main_c_1845 : IVec S_ 32 := constantI S_ 32 94#32
  fn_part564 (F := F) main_arg0 main_v4875 main_v9852 main_v9886 main_v9887 main_v11679 main_v11681 main_v11688 main_c_1845

def fn_part562 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11635 : FVec F S1x256x256 .f32) (main_v11641 : FVec F S1x256x256 .f32) (main_v11643 : IVec S1x256x256 1) (main_v11646 : IVec S1x256x256 1) (main_v11647 : FVec F S1x256x256 .f32) : IVec S9x256x256 1 × IVec S8x256x256 1 :=
  let main_v11648 : FVec F S1x256x256 .f32 := mulf main_v11641 main_v11647
  let main_v11649 : FVec F S1x256x256 .f32 := subf main_v11635 main_v11648
  let main_v11650 : FVec F S1x256x256 .f32 := select main_v11646 main_v11649 main_v11635
  let main_c_1839 : IVec S_ 32 := constantI S_ 32 92#32
  let main_v11651 : IVec S1x256x256 32 := broadcastInDim S1x256x256 ![] bcast_S_S1x256x256 main_c_1839
  let main_v11652 : IVec S1x256x256 1 := cmpi .eq main_v9887 main_v11651
  let main_v11653 : IVec S1x256x256 1 := andi main_v11643 main_v11652
  let main_v11654 : FVec F S1x256x256 .f32 := select main_v11653 main_v11641 main_v11650
  let main_v11655 : FVec F S1x1x256 .f32 := (extractStridedSlice S1x1x256 ![0, 93, 0] · slices_S1x256x256_S1x1x256_0_93_0) main_v11654
  let main_v11656 : FVec F S1x256x1 .f32 := (extractStridedSlice S1x256x1 ![0, 0, 93] · slices_S1x256x256_S1x256x1_0_0_93) main_v11654
  let main_v11657 : FVec F S1x1x1 .f32 := (extractStridedSlice S1x1x1 ![0, 0, 93] · slices_S1x1x256_S1x1x1_0_0_93) main_v11655
  let main_v11658 : FVec F S1x256x1 .f32 := broadcastInDim S1x256x1 ![0, 1, 2] bcast_S1x1x1_S1x256x1_0_1_2 main_v11657
  let main_v11659 : FVec F S1x256x1 .f32 := Host.divf main_v11656 main_v11658
  let main_v11660 : FVec F S1x256x256 .f32 := broadcastInDim S1x256x256 ![0, 1, 2] bcast_S1x256x1_S1x256x256_0_1_2 main_v11659
  let main_c_1840 : IVec S_ 32 := constantI S_ 32 93#32
  let main_v11661 : IVec S1x256x256 32 := broadcastInDim S1x256x256 ![] bcast_S_S1x256x256 main_c_1840
  let main_v11662 : IVec S1x256x256 1 := cmpi .sgt main_v9886 main_v11661
  let main_c_1841 : IVec S_ 32 := constantI S_ 32 93#32
  let main_v11663 : IVec S1x256x256 32 := broadcastInDim S1x256x256 ![] bcast_S_S1x256x256 main_c_1841
  let main_v11664 : IVec S1x256x256 1 := cmpi .sgt main_v9887 main_v11663
  let main_v11665 : IVec S1x256x256 1 := andi main_v11662 main_v11664
  let main_v11666 : FVec F S1x256x256 .f32 := broadcastInDim S1x256x256 ![0, 1, 2] bcast_S1x1x256_S1x256x256_0_1_2 main_v11655
  let main_v11667 : FVec F S1x256x256 .f32 := mulf main_v11660 main_v11666
  let main_v11668 : FVec F S1x256x256 .f32 := subf main_v11654 main_v11667
  fn_part563 (F := F) main_arg0 main_v4875 main_v9852 main_v9886 main_v9887 main_v11654 main_v11660 main_v11662 main_v11665 main_v11668

def fn_part561 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11616 : FVec F S1x256x256 .f32) (main_v11617 : FVec F S1x1x256 .f32) (main_v11622 : FVec F S1x256x256 .f32) (main_v11624 : IVec S1x256x256 1) (main_v11626 : IVec S1x256x256 1) : IVec S9x256x256 1 × IVec S8x256x256 1 :=
  let main_v11627 : IVec S1x256x256 1 := andi main_v11624 main_v11626
  let main_v11628 : FVec F S1x256x256 .f32 := broadcastInDim S1x256x256 ![0, 1, 2] bcast_S1x1x256_S1x256x256_0_1_2 main_v11617
  let main_v11629 : FVec F S1x256x256 .f32 := mulf main_v11622 main_v11628
  let main_v11630 : FVec F S1x256x256 .f32 := subf main_v11616 main_v11629
  let main_v11631 : FVec F S1x256x256 .f32 := select main_v11627 main_v11630 main_v11616
  let main_c_1836 : IVec S_ 32 := constantI S_ 32 91#32
  let main_v11632 : IVec S1x256x256 32 := broadcastInDim S1x256x256 ![] bcast_S_S1x256x256 main_c_1836
  let main_v11633 : IVec S1x256x256 1 := cmpi .eq main_v9887 main_v11632
  let main_v11634 : IVec S1x256x256 1 := andi main_v11624 main_v11633
  let main_v11635 : FVec F S1x256x256 .f32 := select main_v11634 main_v11622 main_v11631
  let main_v11636 : FVec F S1x1x256 .f32 := (extractStridedSlice S1x1x256 ![0, 92, 0] · slices_S1x256x256_S1x1x256_0_92_0) main_v11635
  let main_v11637 : FVec F S1x256x1 .f32 := (extractStridedSlice S1x256x1 ![0, 0, 92] · slices_S1x256x256_S1x256x1_0_0_92) main_v11635
  let main_v11638 : FVec F S1x1x1 .f32 := (extractStridedSlice S1x1x1 ![0, 0, 92] · slices_S1x1x256_S1x1x1_0_0_92) main_v11636
  let main_v11639 : FVec F S1x256x1 .f32 := broadcastInDim S1x256x1 ![0, 1, 2] bcast_S1x1x1_S1x256x1_0_1_2 main_v11638
  let main_v11640 : FVec F S1x256x1 .f32 := Host.divf main_v11637 main_v11639
  let main_v11641 : FVec F S1x256x256 .f32 := broadcastInDim S1x256x256 ![0, 1, 2] bcast_S1x256x1_S1x256x256_0_1_2 main_v11640
  let main_c_1837 : IVec S_ 32 := constantI S_ 32 92#32
  let main_v11642 : IVec S1x256x256 32 := broadcastInDim S1x256x256 ![] bcast_S_S1x256x256 main_c_1837
  let main_v11643 : IVec S1x256x256 1 := cmpi .sgt main_v9886 main_v11642
  let main_c_1838 : IVec S_ 32 := constantI S_ 32 92#32
  let main_v11644 : IVec S1x256x256 32 := broadcastInDim S1x256x256 ![] bcast_S_S1x256x256 main_c_1838
  let main_v11645 : IVec S1x256x256 1 := cmpi .sgt main_v9887 main_v11644
  let main_v11646 : IVec S1x256x256 1 := andi main_v11643 main_v11645
  let main_v11647 : FVec F S1x256x256 .f32 := broadcastInDim S1x256x256 ![0, 1, 2] bcast_S1x1x256_S1x256x256_0_1_2 main_v11636
  fn_part562 (F := F) main_arg0 main_v4875 main_v9852 main_v9886 main_v9887 main_v11635 main_v11641 main_v11643 main_v11646 main_v11647

def fn_part560 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11597 : FVec F S1x256x256 .f32) (main_v11598 : FVec F S1x1x256 .f32) (main_v11603 : FVec F S1x256x256 .f32) (main_v11605 : IVec S1x256x256 1) (main_c_1832 : IVec S_ 32) : IVec S9x256x256 1 × IVec S8x256x256 1 :=
  let main_v11606 : IVec S1x256x256 32 := broadcastInDim S1x256x256 ![] bcast_S_S1x256x256 main_c_1832
  let main_v11607 : IVec S1x256x256 1 := cmpi .sgt main_v9887 main_v11606
  let main_v11608 : IVec S1x256x256 1 := andi main_v11605 main_v11607
  let main_v11609 : FVec F S1x256x256 .f32 := broadcastInDim S1x256x256 ![0, 1, 2] bcast_S1x1x256_S1x256x256_0_1_2 main_v11598
  let main_v11610 : FVec F S1x256x256 .f32 := mulf main_v11603 main_v11609
  let main_v11611 : FVec F S1x256x256 .f32 := subf main_v11597 main_v11610
  let main_v11612 : FVec F S1x256x256 .f32 := select main_v11608 main_v11611 main_v11597
  let main_c_1833 : IVec S_ 32 := constantI S_ 32 90#32
  let main_v11613 : IVec S1x256x256 32 := broadcastInDim S1x256x256 ![] bcast_S_S1x256x256 main_c_1833
  let main_v11614 : IVec S1x256x256 1 := cmpi .eq main_v9887 main_v11613
  let main_v11615 : IVec S1x256x256 1 := andi main_v11605 main_v11614
  let main_v11616 : FVec F S1x256x256 .f32 := select main_v11615 main_v11603 main_v11612
  let main_v11617 : FVec F S1x1x256 .f32 := (extractStridedSlice S1x1x256 ![0, 91, 0] · slices_S1x256x256_S1x1x256_0_91_0) main_v11616
  let main_v11618 : FVec F S1x256x1 .f32 := (extractStridedSlice S1x256x1 ![0, 0, 91] · slices_S1x256x256_S1x256x1_0_0_91) main_v11616
  let main_v11619 : FVec F S1x1x1 .f32 := (extractStridedSlice S1x1x1 ![0, 0, 91] · slices_S1x1x256_S1x1x1_0_0_91) main_v11617
  let main_v11620 : FVec F S1x256x1 .f32 := broadcastInDim S1x256x1 ![0, 1, 2] bcast_S1x1x1_S1x256x1_0_1_2 main_v11619
  let main_v11621 : FVec F S1x256x1 .f32 := Host.divf main_v11618 main_v11620
  let main_v11622 : FVec F S1x256x256 .f32 := broadcastInDim S1x256x256 ![0, 1, 2] bcast_S1x256x1_S1x256x256_0_1_2 main_v11621
  let main_c_1834 : IVec S_ 32 := constantI S_ 32 91#32
  let main_v11623 : IVec S1x256x256 32 := broadcastInDim S1x256x256 ![] bcast_S_S1x256x256 main_c_1834
  let main_v11624 : IVec S1x256x256 1 := cmpi .sgt main_v9886 main_v11623
  let main_c_1835 : IVec S_ 32 := constantI S_ 32 91#32
  let main_v11625 : IVec S1x256x256 32 := broadcastInDim S1x256x256 ![] bcast_S_S1x256x256 main_c_1835
  let main_v11626 : IVec S1x256x256 1 := cmpi .sgt main_v9887 main_v11625
  fn_part561 (F := F) main_arg0 main_v4875 main_v9852 main_v9886 main_v9887 main_v11616 main_v11617 main_v11622 main_v11624 main_v11626

def fn_part559 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11578 : FVec F S1x256x256 .f32) (main_v11579 : FVec F S1x1x256 .f32) (main_v11584 : FVec F S1x256x256 .f32) (main_v11585 : IVec S1x256x256 32) : IVec S9x256x256 1 × IVec S8x256x256 1 :=
  let main_v11586 : IVec S1x256x256 1 := cmpi .sgt main_v9886 main_v11585
  let main_c_1829 : IVec S_ 32 := constantI S_ 32 89#32
  let main_v11587 : IVec S1x256x256 32 := broadcastInDim S1x256x256 ![] bcast_S_S1x256x256 main_c_1829
  let main_v11588 : IVec S1x256x256 1 := cmpi .sgt main_v9887 main_v11587
  let main_v11589 : IVec S1x256x256 1 := andi main_v11586 main_v11588
  let main_v11590 : FVec F S1x256x256 .f32 := broadcastInDim S1x256x256 ![0, 1, 2] bcast_S1x1x256_S1x256x256_0_1_2 main_v11579
  let main_v11591 : FVec F S1x256x256 .f32 := mulf main_v11584 main_v11590
  let main_v11592 : FVec F S1x256x256 .f32 := subf main_v11578 main_v11591
  let main_v11593 : FVec F S1x256x256 .f32 := select main_v11589 main_v11592 main_v11578
  let main_c_1830 : IVec S_ 32 := constantI S_ 32 89#32
  let main_v11594 : IVec S1x256x256 32 := broadcastInDim S1x256x256 ![] bcast_S_S1x256x256 main_c_1830
  let main_v11595 : IVec S1x256x256 1 := cmpi .eq main_v9887 main_v11594
  let main_v11596 : IVec S1x256x256 1 := andi main_v11586 main_v11595
  let main_v11597 : FVec F S1x256x256 .f32 := select main_v11596 main_v11584 main_v11593
  let main_v11598 : FVec F S1x1x256 .f32 := (extractStridedSlice S1x1x256 ![0, 90, 0] · slices_S1x256x256_S1x1x256_0_90_0) main_v11597
  let main_v11599 : FVec F S1x256x1 .f32 := (extractStridedSlice S1x256x1 ![0, 0, 90] · slices_S1x256x256_S1x256x1_0_0_90) main_v11597
  let main_v11600 : FVec F S1x1x1 .f32 := (extractStridedSlice S1x1x1 ![0, 0, 90] · slices_S1x1x256_S1x1x1_0_0_90) main_v11598
  let main_v11601 : FVec F S1x256x1 .f32 := broadcastInDim S1x256x1 ![0, 1, 2] bcast_S1x1x1_S1x256x1_0_1_2 main_v11600
  let main_v11602 : FVec F S1x256x1 .f32 := Host.divf main_v11599 main_v11601
  let main_v11603 : FVec F S1x256x256 .f32 := broadcastInDim S1x256x256 ![0, 1, 2] bcast_S1x256x1_S1x256x256_0_1_2 main_v11602
  let main_c_1831 : IVec S_ 32 := constantI S_ 32 90#32
  let main_v11604 : IVec S1x256x256 32 := broadcastInDim S1x256x256 ![] bcast_S_S1x256x256 main_c_1831
  let main_v11605 : IVec S1x256x256 1 := cmpi .sgt main_v9886 main_v11604
  let main_c_1832 : IVec S_ 32 := constantI S_ 32 90#32
  fn_part560 (F := F) main_arg0 main_v4875 main_v9852 main_v9886 main_v9887 main_v11597 main_v11598 main_v11603 main_v11605 main_c_1832

def fn_part558 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11559 : FVec F S1x256x256 .f32) (main_v11560 : FVec F S1x1x256 .f32) (main_v11565 : FVec F S1x256x256 .f32) : IVec S9x256x256 1 × IVec S8x256x256 1 :=
  let main_c_1825 : IVec S_ 32 := constantI S_ 32 88#32
  let main_v11566 : IVec S1x256x256 32 := broadcastInDim S1x256x256 ![] bcast_S_S1x256x256 main_c_1825
  let main_v11567 : IVec S1x256x256 1 := cmpi .sgt main_v9886 main_v11566
  let main_c_1826 : IVec S_ 32 := constantI S_ 32 88#32
  let main_v11568 : IVec S1x256x256 32 := broadcastInDim S1x256x256 ![] bcast_S_S1x256x256 main_c_1826
  let main_v11569 : IVec S1x256x256 1 := cmpi .sgt main_v9887 main_v11568
  let main_v11570 : IVec S1x256x256 1 := andi main_v11567 main_v11569
  let main_v11571 : FVec F S1x256x256 .f32 := broadcastInDim S1x256x256 ![0, 1, 2] bcast_S1x1x256_S1x256x256_0_1_2 main_v11560
  let main_v11572 : FVec F S1x256x256 .f32 := mulf main_v11565 main_v11571
  let main_v11573 : FVec F S1x256x256 .f32 := subf main_v11559 main_v11572
  let main_v11574 : FVec F S1x256x256 .f32 := select main_v11570 main_v11573 main_v11559
  let main_c_1827 : IVec S_ 32 := constantI S_ 32 88#32
  let main_v11575 : IVec S1x256x256 32 := broadcastInDim S1x256x256 ![] bcast_S_S1x256x256 main_c_1827
  let main_v11576 : IVec S1x256x256 1 := cmpi .eq main_v9887 main_v11575
  let main_v11577 : IVec S1x256x256 1 := andi main_v11567 main_v11576
  let main_v11578 : FVec F S1x256x256 .f32 := select main_v11577 main_v11565 main_v11574
  let main_v11579 : FVec F S1x1x256 .f32 := (extractStridedSlice S1x1x256 ![0, 89, 0] · slices_S1x256x256_S1x1x256_0_89_0) main_v11578
  let main_v11580 : FVec F S1x256x1 .f32 := (extractStridedSlice S1x256x1 ![0, 0, 89] · slices_S1x256x256_S1x256x1_0_0_89) main_v11578
  let main_v11581 : FVec F S1x1x1 .f32 := (extractStridedSlice S1x1x1 ![0, 0, 89] · slices_S1x1x256_S1x1x1_0_0_89) main_v11579
  let main_v11582 : FVec F S1x256x1 .f32 := broadcastInDim S1x256x1 ![0, 1, 2] bcast_S1x1x1_S1x256x1_0_1_2 main_v11581
  let main_v11583 : FVec F S1x256x1 .f32 := Host.divf main_v11580 main_v11582
  let main_v11584 : FVec F S1x256x256 .f32 := broadcastInDim S1x256x256 ![0, 1, 2] bcast_S1x256x1_S1x256x256_0_1_2 main_v11583
  let main_c_1828 : IVec S_ 32 := constantI S_ 32 89#32
  let main_v11585 : IVec S1x256x256 32 := broadcastInDim S1x256x256 ![] bcast_S_S1x256x256 main_c_1828
  fn_part559 (F := F) main_arg0 main_v4875 main_v9852 main_v9886 main_v9887 main_v11578 main_v11579 main_v11584 main_v11585

def fn_part557 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11540 : FVec F S1x256x256 .f32) (main_v11541 : FVec F S1x1x256 .f32) (main_v11542 : FVec F S1x256x1 .f32) (main_v11544 : FVec F S1x256x1 .f32) : IVec S9x256x256 1 × IVec S8x256x256 1 :=
  let main_v11545 : FVec F S1x256x1 .f32 := Host.divf main_v11542 main_v11544
  let main_v11546 : FVec F S1x256x256 .f32 := broadcastInDim S1x256x256 ![0, 1, 2] bcast_S1x256x1_S1x256x256_0_1_2 main_v11545
  let main_c_1822 : IVec S_ 32 := constantI S_ 32 87#32
  let main_v11547 : IVec S1x256x256 32 := broadcastInDim S1x256x256 ![] bcast_S_S1x256x256 main_c_1822
  let main_v11548 : IVec S1x256x256 1 := cmpi .sgt main_v9886 main_v11547
  let main_c_1823 : IVec S_ 32 := constantI S_ 32 87#32
  let main_v11549 : IVec S1x256x256 32 := broadcastInDim S1x256x256 ![] bcast_S_S1x256x256 main_c_1823
  let main_v11550 : IVec S1x256x256 1 := cmpi .sgt main_v9887 main_v11549
  let main_v11551 : IVec S1x256x256 1 := andi main_v11548 main_v11550
  let main_v11552 : FVec F S1x256x256 .f32 := broadcastInDim S1x256x256 ![0, 1, 2] bcast_S1x1x256_S1x256x256_0_1_2 main_v11541
  let main_v11553 : FVec F S1x256x256 .f32 := mulf main_v11546 main_v11552
  let main_v11554 : FVec F S1x256x256 .f32 := subf main_v11540 main_v11553
  let main_v11555 : FVec F S1x256x256 .f32 := select main_v11551 main_v11554 main_v11540
  let main_c_1824 : IVec S_ 32 := constantI S_ 32 87#32
  let main_v11556 : IVec S1x256x256 32 := broadcastInDim S1x256x256 ![] bcast_S_S1x256x256 main_c_1824
  let main_v11557 : IVec S1x256x256 1 := cmpi .eq main_v9887 main_v11556
  let main_v11558 : IVec S1x256x256 1 := andi main_v11548 main_v11557
  let main_v11559 : FVec F S1x256x256 .f32 := select main_v11558 main_v11546 main_v11555
  let main_v11560 : FVec F S1x1x256 .f32 := (extractStridedSlice S1x1x256 ![0, 88, 0] · slices_S1x256x256_S1x1x256_0_88_0) main_v11559
  let main_v11561 : FVec F S1x256x1 .f32 := (extractStridedSlice S1x256x1 ![0, 0, 88] · slices_S1x256x256_S1x256x1_0_0_88) main_v11559
  let main_v11562 : FVec F S1x1x1 .f32 := (extractStridedSlice S1x1x1 ![0, 0, 88] · slices_S1x1x256_S1x1x1_0_0_88) main_v11560
  let main_v11563 : FVec F S1x256x1 .f32 := broadcastInDim S1x256x1 ![0, 1, 2] bcast_S1x1x1_S1x256x1_0_1_2 main_v11562
  let main_v11564 : FVec F S1x256x1 .f32 := Host.divf main_v11561 main_v11563
  let main_v11565 : FVec F S1x256x256 .f32 := broadcastInDim S1x256x256 ![0, 1, 2] bcast_S1x256x1_S1x256x256_0_1_2 main_v11564
  fn_part558 (F := F) main_arg0 main_v4875 main_v9852 main_v9886 main_v9887 main_v11559 main_v11560 main_v11565

def fn_part556 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11521 : FVec F S1x256x256 .f32) (main_v11522 : FVec F S1x1x256 .f32) (main_v11523 : FVec F S1x256x1 .f32) : IVec S9x256x256 1 × IVec S8x256x256 1 :=
  let main_v11524 : FVec F S1x1x1 .f32 := (extractStridedSlice S1x1x1 ![0, 0, 86] · slices_S1x1x256_S1x1x1_0_0_86) main_v11522
  let main_v11525 : FVec F S1x256x1 .f32 := broadcastInDim S1x256x1 ![0, 1, 2] bcast_S1x1x1_S1x256x1_0_1_2 main_v11524
  let main_v11526 : FVec F S1x256x1 .f32 := Host.divf main_v11523 main_v11525
  let main_v11527 : FVec F S1x256x256 .f32 := broadcastInDim S1x256x256 ![0, 1, 2] bcast_S1x256x1_S1x256x256_0_1_2 main_v11526
  let main_c_1819 : IVec S_ 32 := constantI S_ 32 86#32
  let main_v11528 : IVec S1x256x256 32 := broadcastInDim S1x256x256 ![] bcast_S_S1x256x256 main_c_1819
  let main_v11529 : IVec S1x256x256 1 := cmpi .sgt main_v9886 main_v11528
  let main_c_1820 : IVec S_ 32 := constantI S_ 32 86#32
  let main_v11530 : IVec S1x256x256 32 := broadcastInDim S1x256x256 ![] bcast_S_S1x256x256 main_c_1820
  let main_v11531 : IVec S1x256x256 1 := cmpi .sgt main_v9887 main_v11530
  let main_v11532 : IVec S1x256x256 1 := andi main_v11529 main_v11531
  let main_v11533 : FVec F S1x256x256 .f32 := broadcastInDim S1x256x256 ![0, 1, 2] bcast_S1x1x256_S1x256x256_0_1_2 main_v11522
  let main_v11534 : FVec F S1x256x256 .f32 := mulf main_v11527 main_v11533
  let main_v11535 : FVec F S1x256x256 .f32 := subf main_v11521 main_v11534
  let main_v11536 : FVec F S1x256x256 .f32 := select main_v11532 main_v11535 main_v11521
  let main_c_1821 : IVec S_ 32 := constantI S_ 32 86#32
  let main_v11537 : IVec S1x256x256 32 := broadcastInDim S1x256x256 ![] bcast_S_S1x256x256 main_c_1821
  let main_v11538 : IVec S1x256x256 1 := cmpi .eq main_v9887 main_v11537
  let main_v11539 : IVec S1x256x256 1 := andi main_v11529 main_v11538
  let main_v11540 : FVec F S1x256x256 .f32 := select main_v11539 main_v11527 main_v11536
  let main_v11541 : FVec F S1x1x256 .f32 := (extractStridedSlice S1x1x256 ![0, 87, 0] · slices_S1x256x256_S1x1x256_0_87_0) main_v11540
  let main_v11542 : FVec F S1x256x1 .f32 := (extractStridedSlice S1x256x1 ![0, 0, 87] · slices_S1x256x256_S1x256x1_0_0_87) main_v11540
  let main_v11543 : FVec F S1x1x1 .f32 := (extractStridedSlice S1x1x1 ![0, 0, 87] · slices_S1x1x256_S1x1x1_0_0_87) main_v11541
  let main_v11544 : FVec F S1x256x1 .f32 := broadcastInDim S1x256x1 ![0, 1, 2] bcast_S1x1x1_S1x256x1_0_1_2 main_v11543
  fn_part557 (F := F) main_arg0 main_v4875 main_v9852 main_v9886 main_v9887 main_v11540 main_v11541 main_v11542 main_v11544

def fn_part555 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11502 : FVec F S1x256x256 .f32) : IVec S9x256x256 1 × IVec S8x256x256 1 :=
  let main_v11503 : FVec F S1x1x256 .f32 := (extractStridedSlice S1x1x256 ![0, 85, 0] · slices_S1x256x256_S1x1x256_0_85_0) main_v11502
  let main_v11504 : FVec F S1x256x1 .f32 := (extractStridedSlice S1x256x1 ![0, 0, 85] · slices_S1x256x256_S1x256x1_0_0_85) main_v11502
  let main_v11505 : FVec F S1x1x1 .f32 := (extractStridedSlice S1x1x1 ![0, 0, 85] · slices_S1x1x256_S1x1x1_0_0_85) main_v11503
  let main_v11506 : FVec F S1x256x1 .f32 := broadcastInDim S1x256x1 ![0, 1, 2] bcast_S1x1x1_S1x256x1_0_1_2 main_v11505
  let main_v11507 : FVec F S1x256x1 .f32 := Host.divf main_v11504 main_v11506
  let main_v11508 : FVec F S1x256x256 .f32 := broadcastInDim S1x256x256 ![0, 1, 2] bcast_S1x256x1_S1x256x256_0_1_2 main_v11507
  let main_c_1816 : IVec S_ 32 := constantI S_ 32 85#32
  let main_v11509 : IVec S1x256x256 32 := broadcastInDim S1x256x256 ![] bcast_S_S1x256x256 main_c_1816
  let main_v11510 : IVec S1x256x256 1 := cmpi .sgt main_v9886 main_v11509
  let main_c_1817 : IVec S_ 32 := constantI S_ 32 85#32
  let main_v11511 : IVec S1x256x256 32 := broadcastInDim S1x256x256 ![] bcast_S_S1x256x256 main_c_1817
  let main_v11512 : IVec S1x256x256 1 := cmpi .sgt main_v9887 main_v11511
  let main_v11513 : IVec S1x256x256 1 := andi main_v11510 main_v11512
  let main_v11514 : FVec F S1x256x256 .f32 := broadcastInDim S1x256x256 ![0, 1, 2] bcast_S1x1x256_S1x256x256_0_1_2 main_v11503
  let main_v11515 : FVec F S1x256x256 .f32 := mulf main_v11508 main_v11514
  let main_v11516 : FVec F S1x256x256 .f32 := subf main_v11502 main_v11515
  let main_v11517 : FVec F S1x256x256 .f32 := select main_v11513 main_v11516 main_v11502
  let main_c_1818 : IVec S_ 32 := constantI S_ 32 85#32
  let main_v11518 : IVec S1x256x256 32 := broadcastInDim S1x256x256 ![] bcast_S_S1x256x256 main_c_1818
  let main_v11519 : IVec S1x256x256 1 := cmpi .eq main_v9887 main_v11518
  let main_v11520 : IVec S1x256x256 1 := andi main_v11510 main_v11519
  let main_v11521 : FVec F S1x256x256 .f32 := select main_v11520 main_v11508 main_v11517
  let main_v11522 : FVec F S1x1x256 .f32 := (extractStridedSlice S1x1x256 ![0, 86, 0] · slices_S1x256x256_S1x1x256_0_86_0) main_v11521
  let main_v11523 : FVec F S1x256x1 .f32 := (extractStridedSlice S1x256x1 ![0, 0, 86] · slices_S1x256x256_S1x256x1_0_0_86) main_v11521
  fn_part556 (F := F) main_arg0 main_v4875 main_v9852 main_v9886 main_v9887 main_v11521 main_v11522 main_v11523

def fn_part554 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11470 : FVec F S1x256x256 .f32) (main_v11472 : IVec S1x256x256 1) (main_v11479 : FVec F S1x256x256 .f32) (main_v11481 : IVec S1x256x256 1) : IVec S9x256x256 1 × IVec S8x256x256 1 :=
  let main_v11482 : IVec S1x256x256 1 := andi main_v11472 main_v11481
  let main_v11483 : FVec F S1x256x256 .f32 := select main_v11482 main_v11470 main_v11479
  let main_v11484 : FVec F S1x1x256 .f32 := (extractStridedSlice S1x1x256 ![0, 84, 0] · slices_S1x256x256_S1x1x256_0_84_0) main_v11483
  let main_v11485 : FVec F S1x256x1 .f32 := (extractStridedSlice S1x256x1 ![0, 0, 84] · slices_S1x256x256_S1x256x1_0_0_84) main_v11483
  let main_v11486 : FVec F S1x1x1 .f32 := (extractStridedSlice S1x1x1 ![0, 0, 84] · slices_S1x1x256_S1x1x1_0_0_84) main_v11484
  let main_v11487 : FVec F S1x256x1 .f32 := broadcastInDim S1x256x1 ![0, 1, 2] bcast_S1x1x1_S1x256x1_0_1_2 main_v11486
  let main_v11488 : FVec F S1x256x1 .f32 := Host.divf main_v11485 main_v11487
  let main_v11489 : FVec F S1x256x256 .f32 := broadcastInDim S1x256x256 ![0, 1, 2] bcast_S1x256x1_S1x256x256_0_1_2 main_v11488
  let main_c_1813 : IVec S_ 32 := constantI S_ 32 84#32
  let main_v11490 : IVec S1x256x256 32 := broadcastInDim S1x256x256 ![] bcast_S_S1x256x256 main_c_1813
  let main_v11491 : IVec S1x256x256 1 := cmpi .sgt main_v9886 main_v11490
  let main_c_1814 : IVec S_ 32 := constantI S_ 32 84#32
  let main_v11492 : IVec S1x256x256 32 := broadcastInDim S1x256x256 ![] bcast_S_S1x256x256 main_c_1814
  let main_v11493 : IVec S1x256x256 1 := cmpi .sgt main_v9887 main_v11492
  let main_v11494 : IVec S1x256x256 1 := andi main_v11491 main_v11493
  let main_v11495 : FVec F S1x256x256 .f32 := broadcastInDim S1x256x256 ![0, 1, 2] bcast_S1x1x256_S1x256x256_0_1_2 main_v11484
  let main_v11496 : FVec F S1x256x256 .f32 := mulf main_v11489 main_v11495
  let main_v11497 : FVec F S1x256x256 .f32 := subf main_v11483 main_v11496
  let main_v11498 : FVec F S1x256x256 .f32 := select main_v11494 main_v11497 main_v11483
  let main_c_1815 : IVec S_ 32 := constantI S_ 32 84#32
  let main_v11499 : IVec S1x256x256 32 := broadcastInDim S1x256x256 ![] bcast_S_S1x256x256 main_c_1815
  let main_v11500 : IVec S1x256x256 1 := cmpi .eq main_v9887 main_v11499
  let main_v11501 : IVec S1x256x256 1 := andi main_v11491 main_v11500
  let main_v11502 : FVec F S1x256x256 .f32 := select main_v11501 main_v11489 main_v11498
  fn_part555 (F := F) main_arg0 main_v4875 main_v9852 main_v9886 main_v9887 main_v11502

def fn_part553 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11451 : FVec F S1x256x256 .f32) (main_v11453 : IVec S1x256x256 1) (main_v11460 : FVec F S1x256x256 .f32) (main_c_1809 : IVec S_ 32) : IVec S9x256x256 1 × IVec S8x256x256 1 :=
  let main_v11461 : IVec S1x256x256 32 := broadcastInDim S1x256x256 ![] bcast_S_S1x256x256 main_c_1809
  let main_v11462 : IVec S1x256x256 1 := cmpi .eq main_v9887 main_v11461
  let main_v11463 : IVec S1x256x256 1 := andi main_v11453 main_v11462
  let main_v11464 : FVec F S1x256x256 .f32 := select main_v11463 main_v11451 main_v11460
  let main_v11465 : FVec F S1x1x256 .f32 := (extractStridedSlice S1x1x256 ![0, 83, 0] · slices_S1x256x256_S1x1x256_0_83_0) main_v11464
  let main_v11466 : FVec F S1x256x1 .f32 := (extractStridedSlice S1x256x1 ![0, 0, 83] · slices_S1x256x256_S1x256x1_0_0_83) main_v11464
  let main_v11467 : FVec F S1x1x1 .f32 := (extractStridedSlice S1x1x1 ![0, 0, 83] · slices_S1x1x256_S1x1x1_0_0_83) main_v11465
  let main_v11468 : FVec F S1x256x1 .f32 := broadcastInDim S1x256x1 ![0, 1, 2] bcast_S1x1x1_S1x256x1_0_1_2 main_v11467
  let main_v11469 : FVec F S1x256x1 .f32 := Host.divf main_v11466 main_v11468
  let main_v11470 : FVec F S1x256x256 .f32 := broadcastInDim S1x256x256 ![0, 1, 2] bcast_S1x256x1_S1x256x256_0_1_2 main_v11469
  let main_c_1810 : IVec S_ 32 := constantI S_ 32 83#32
  let main_v11471 : IVec S1x256x256 32 := broadcastInDim S1x256x256 ![] bcast_S_S1x256x256 main_c_1810
  let main_v11472 : IVec S1x256x256 1 := cmpi .sgt main_v9886 main_v11471
  let main_c_1811 : IVec S_ 32 := constantI S_ 32 83#32
  let main_v11473 : IVec S1x256x256 32 := broadcastInDim S1x256x256 ![] bcast_S_S1x256x256 main_c_1811
  let main_v11474 : IVec S1x256x256 1 := cmpi .sgt main_v9887 main_v11473
  let main_v11475 : IVec S1x256x256 1 := andi main_v11472 main_v11474
  let main_v11476 : FVec F S1x256x256 .f32 := broadcastInDim S1x256x256 ![0, 1, 2] bcast_S1x1x256_S1x256x256_0_1_2 main_v11465
  let main_v11477 : FVec F S1x256x256 .f32 := mulf main_v11470 main_v11476
  let main_v11478 : FVec F S1x256x256 .f32 := subf main_v11464 main_v11477
  let main_v11479 : FVec F S1x256x256 .f32 := select main_v11475 main_v11478 main_v11464
  let main_c_1812 : IVec S_ 32 := constantI S_ 32 83#32
  let main_v11480 : IVec S1x256x256 32 := broadcastInDim S1x256x256 ![] bcast_S_S1x256x256 main_c_1812
  let main_v11481 : IVec S1x256x256 1 := cmpi .eq main_v9887 main_v11480
  fn_part554 (F := F) main_arg0 main_v4875 main_v9852 main_v9886 main_v9887 main_v11470 main_v11472 main_v11479 main_v11481

def fn_part552 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11426 : FVec F S1x256x256 .f32) (main_v11432 : FVec F S1x256x256 .f32) (main_v11434 : IVec S1x256x256 1) (main_v11437 : IVec S1x256x256 1) (main_v11440 : FVec F S1x256x256 .f32) : IVec S9x256x256 1 × IVec S8x256x256 1 :=
  let main_v11441 : FVec F S1x256x256 .f32 := select main_v11437 main_v11440 main_v11426
  let main_c_1806 : IVec S_ 32 := constantI S_ 32 81#32
  let main_v11442 : IVec S1x256x256 32 := broadcastInDim S1x256x256 ![] bcast_S_S1x256x256 main_c_1806
  let main_v11443 : IVec S1x256x256 1 := cmpi .eq main_v9887 main_v11442
  let main_v11444 : IVec S1x256x256 1 := andi main_v11434 main_v11443
  let main_v11445 : FVec F S1x256x256 .f32 := select main_v11444 main_v11432 main_v11441
  let main_v11446 : FVec F S1x1x256 .f32 := (extractStridedSlice S1x1x256 ![0, 82, 0] · slices_S1x256x256_S1x1x256_0_82_0) main_v11445
  let main_v11447 : FVec F S1x256x1 .f32 := (extractStridedSlice S1x256x1 ![0, 0, 82] · slices_S1x256x256_S1x256x1_0_0_82) main_v11445
  let main_v11448 : FVec F S1x1x1 .f32 := (extractStridedSlice S1x1x1 ![0, 0, 82] · slices_S1x1x256_S1x1x1_0_0_82) main_v11446
  let main_v11449 : FVec F S1x256x1 .f32 := broadcastInDim S1x256x1 ![0, 1, 2] bcast_S1x1x1_S1x256x1_0_1_2 main_v11448
  let main_v11450 : FVec F S1x256x1 .f32 := Host.divf main_v11447 main_v11449
  let main_v11451 : FVec F S1x256x256 .f32 := broadcastInDim S1x256x256 ![0, 1, 2] bcast_S1x256x1_S1x256x256_0_1_2 main_v11450
  let main_c_1807 : IVec S_ 32 := constantI S_ 32 82#32
  let main_v11452 : IVec S1x256x256 32 := broadcastInDim S1x256x256 ![] bcast_S_S1x256x256 main_c_1807
  let main_v11453 : IVec S1x256x256 1 := cmpi .sgt main_v9886 main_v11452
  let main_c_1808 : IVec S_ 32 := constantI S_ 32 82#32
  let main_v11454 : IVec S1x256x256 32 := broadcastInDim S1x256x256 ![] bcast_S_S1x256x256 main_c_1808
  let main_v11455 : IVec S1x256x256 1 := cmpi .sgt main_v9887 main_v11454
  let main_v11456 : IVec S1x256x256 1 := andi main_v11453 main_v11455
  let main_v11457 : FVec F S1x256x256 .f32 := broadcastInDim S1x256x256 ![0, 1, 2] bcast_S1x1x256_S1x256x256_0_1_2 main_v11446
  let main_v11458 : FVec F S1x256x256 .f32 := mulf main_v11451 main_v11457
  let main_v11459 : FVec F S1x256x256 .f32 := subf main_v11445 main_v11458
  let main_v11460 : FVec F S1x256x256 .f32 := select main_v11456 main_v11459 main_v11445
  let main_c_1809 : IVec S_ 32 := constantI S_ 32 82#32
  fn_part553 (F := F) main_arg0 main_v4875 main_v9852 main_v9886 main_v9887 main_v11451 main_v11453 main_v11460 main_c_1809

def fn_part551 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11407 : FVec F S1x256x256 .f32) (main_v11413 : FVec F S1x256x256 .f32) (main_v11415 : IVec S1x256x256 1) (main_v11418 : IVec S1x256x256 1) (main_v11419 : FVec F S1x256x256 .f32) : IVec S9x256x256 1 × IVec S8x256x256 1 :=
  let main_v11420 : FVec F S1x256x256 .f32 := mulf main_v11413 main_v11419
  let main_v11421 : FVec F S1x256x256 .f32 := subf main_v11407 main_v11420
  let main_v11422 : FVec F S1x256x256 .f32 := select main_v11418 main_v11421 main_v11407
  let main_c_1803 : IVec S_ 32 := constantI S_ 32 80#32
  let main_v11423 : IVec S1x256x256 32 := broadcastInDim S1x256x256 ![] bcast_S_S1x256x256 main_c_1803
  let main_v11424 : IVec S1x256x256 1 := cmpi .eq main_v9887 main_v11423
  let main_v11425 : IVec S1x256x256 1 := andi main_v11415 main_v11424
  let main_v11426 : FVec F S1x256x256 .f32 := select main_v11425 main_v11413 main_v11422
  let main_v11427 : FVec F S1x1x256 .f32 := (extractStridedSlice S1x1x256 ![0, 81, 0] · slices_S1x256x256_S1x1x256_0_81_0) main_v11426
  let main_v11428 : FVec F S1x256x1 .f32 := (extractStridedSlice S1x256x1 ![0, 0, 81] · slices_S1x256x256_S1x256x1_0_0_81) main_v11426
  let main_v11429 : FVec F S1x1x1 .f32 := (extractStridedSlice S1x1x1 ![0, 0, 81] · slices_S1x1x256_S1x1x1_0_0_81) main_v11427
  let main_v11430 : FVec F S1x256x1 .f32 := broadcastInDim S1x256x1 ![0, 1, 2] bcast_S1x1x1_S1x256x1_0_1_2 main_v11429
  let main_v11431 : FVec F S1x256x1 .f32 := Host.divf main_v11428 main_v11430
  let main_v11432 : FVec F S1x256x256 .f32 := broadcastInDim S1x256x256 ![0, 1, 2] bcast_S1x256x1_S1x256x256_0_1_2 main_v11431
  let main_c_1804 : IVec S_ 32 := constantI S_ 32 81#32
  let main_v11433 : IVec S1x256x256 32 := broadcastInDim S1x256x256 ![] bcast_S_S1x256x256 main_c_1804
  let main_v11434 : IVec S1x256x256 1 := cmpi .sgt main_v9886 main_v11433
  let main_c_1805 : IVec S_ 32 := constantI S_ 32 81#32
  let main_v11435 : IVec S1x256x256 32 := broadcastInDim S1x256x256 ![] bcast_S_S1x256x256 main_c_1805
  let main_v11436 : IVec S1x256x256 1 := cmpi .sgt main_v9887 main_v11435
  let main_v11437 : IVec S1x256x256 1 := andi main_v11434 main_v11436
  let main_v11438 : FVec F S1x256x256 .f32 := broadcastInDim S1x256x256 ![0, 1, 2] bcast_S1x1x256_S1x256x256_0_1_2 main_v11427
  let main_v11439 : FVec F S1x256x256 .f32 := mulf main_v11432 main_v11438
  let main_v11440 : FVec F S1x256x256 .f32 := subf main_v11426 main_v11439
  fn_part552 (F := F) main_arg0 main_v4875 main_v9852 main_v9886 main_v9887 main_v11426 main_v11432 main_v11434 main_v11437 main_v11440

def fn_part550 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11388 : FVec F S1x256x256 .f32) (main_v11389 : FVec F S1x1x256 .f32) (main_v11394 : FVec F S1x256x256 .f32) (main_v11396 : IVec S1x256x256 1) (main_v11398 : IVec S1x256x256 1) : IVec S9x256x256 1 × IVec S8x256x256 1 :=
  let main_v11399 : IVec S1x256x256 1 := andi main_v11396 main_v11398
  let main_v11400 : FVec F S1x256x256 .f32 := broadcastInDim S1x256x256 ![0, 1, 2] bcast_S1x1x256_S1x256x256_0_1_2 main_v11389
  let main_v11401 : FVec F S1x256x256 .f32 := mulf main_v11394 main_v11400
  let main_v11402 : FVec F S1x256x256 .f32 := subf main_v11388 main_v11401
  let main_v11403 : FVec F S1x256x256 .f32 := select main_v11399 main_v11402 main_v11388
  let main_c_1800 : IVec S_ 32 := constantI S_ 32 79#32
  let main_v11404 : IVec S1x256x256 32 := broadcastInDim S1x256x256 ![] bcast_S_S1x256x256 main_c_1800
  let main_v11405 : IVec S1x256x256 1 := cmpi .eq main_v9887 main_v11404
  let main_v11406 : IVec S1x256x256 1 := andi main_v11396 main_v11405
  let main_v11407 : FVec F S1x256x256 .f32 := select main_v11406 main_v11394 main_v11403
  let main_v11408 : FVec F S1x1x256 .f32 := (extractStridedSlice S1x1x256 ![0, 80, 0] · slices_S1x256x256_S1x1x256_0_80_0) main_v11407
  let main_v11409 : FVec F S1x256x1 .f32 := (extractStridedSlice S1x256x1 ![0, 0, 80] · slices_S1x256x256_S1x256x1_0_0_80) main_v11407
  let main_v11410 : FVec F S1x1x1 .f32 := (extractStridedSlice S1x1x1 ![0, 0, 80] · slices_S1x1x256_S1x1x1_0_0_80) main_v11408
  let main_v11411 : FVec F S1x256x1 .f32 := broadcastInDim S1x256x1 ![0, 1, 2] bcast_S1x1x1_S1x256x1_0_1_2 main_v11410
  let main_v11412 : FVec F S1x256x1 .f32 := Host.divf main_v11409 main_v11411
  let main_v11413 : FVec F S1x256x256 .f32 := broadcastInDim S1x256x256 ![0, 1, 2] bcast_S1x256x1_S1x256x256_0_1_2 main_v11412
  let main_c_1801 : IVec S_ 32 := constantI S_ 32 80#32
  let main_v11414 : IVec S1x256x256 32 := broadcastInDim S1x256x256 ![] bcast_S_S1x256x256 main_c_1801
  let main_v11415 : IVec S1x256x256 1 := cmpi .sgt main_v9886 main_v11414
  let main_c_1802 : IVec S_ 32 := constantI S_ 32 80#32
  let main_v11416 : IVec S1x256x256 32 := broadcastInDim S1x256x256 ![] bcast_S_S1x256x256 main_c_1802
  let main_v11417 : IVec S1x256x256 1 := cmpi .sgt main_v9887 main_v11416
  let main_v11418 : IVec S1x256x256 1 := andi main_v11415 main_v11417
  let main_v11419 : FVec F S1x256x256 .f32 := broadcastInDim S1x256x256 ![0, 1, 2] bcast_S1x1x256_S1x256x256_0_1_2 main_v11408
  fn_part551 (F := F) main_arg0 main_v4875 main_v9852 main_v9886 main_v9887 main_v11407 main_v11413 main_v11415 main_v11418 main_v11419

def fn_part549 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11369 : FVec F S1x256x256 .f32) (main_v11370 : FVec F S1x1x256 .f32) (main_v11375 : FVec F S1x256x256 .f32) (main_v11377 : IVec S1x256x256 1) (main_c_1796 : IVec S_ 32) : IVec S9x256x256 1 × IVec S8x256x256 1 :=
  let main_v11378 : IVec S1x256x256 32 := broadcastInDim S1x256x256 ![] bcast_S_S1x256x256 main_c_1796
  let main_v11379 : IVec S1x256x256 1 := cmpi .sgt main_v9887 main_v11378
  let main_v11380 : IVec S1x256x256 1 := andi main_v11377 main_v11379
  let main_v11381 : FVec F S1x256x256 .f32 := broadcastInDim S1x256x256 ![0, 1, 2] bcast_S1x1x256_S1x256x256_0_1_2 main_v11370
  let main_v11382 : FVec F S1x256x256 .f32 := mulf main_v11375 main_v11381
  let main_v11383 : FVec F S1x256x256 .f32 := subf main_v11369 main_v11382
  let main_v11384 : FVec F S1x256x256 .f32 := select main_v11380 main_v11383 main_v11369
  let main_c_1797 : IVec S_ 32 := constantI S_ 32 78#32
  let main_v11385 : IVec S1x256x256 32 := broadcastInDim S1x256x256 ![] bcast_S_S1x256x256 main_c_1797
  let main_v11386 : IVec S1x256x256 1 := cmpi .eq main_v9887 main_v11385
  let main_v11387 : IVec S1x256x256 1 := andi main_v11377 main_v11386
  let main_v11388 : FVec F S1x256x256 .f32 := select main_v11387 main_v11375 main_v11384
  let main_v11389 : FVec F S1x1x256 .f32 := (extractStridedSlice S1x1x256 ![0, 79, 0] · slices_S1x256x256_S1x1x256_0_79_0) main_v11388
  let main_v11390 : FVec F S1x256x1 .f32 := (extractStridedSlice S1x256x1 ![0, 0, 79] · slices_S1x256x256_S1x256x1_0_0_79) main_v11388
  let main_v11391 : FVec F S1x1x1 .f32 := (extractStridedSlice S1x1x1 ![0, 0, 79] · slices_S1x1x256_S1x1x1_0_0_79) main_v11389
  let main_v11392 : FVec F S1x256x1 .f32 := broadcastInDim S1x256x1 ![0, 1, 2] bcast_S1x1x1_S1x256x1_0_1_2 main_v11391
  let main_v11393 : FVec F S1x256x1 .f32 := Host.divf main_v11390 main_v11392
  let main_v11394 : FVec F S1x256x256 .f32 := broadcastInDim S1x256x256 ![0, 1, 2] bcast_S1x256x1_S1x256x256_0_1_2 main_v11393
  let main_c_1798 : IVec S_ 32 := constantI S_ 32 79#32
  let main_v11395 : IVec S1x256x256 32 := broadcastInDim S1x256x256 ![] bcast_S_S1x256x256 main_c_1798
  let main_v11396 : IVec S1x256x256 1 := cmpi .sgt main_v9886 main_v11395
  let main_c_1799 : IVec S_ 32 := constantI S_ 32 79#32
  let main_v11397 : IVec S1x256x256 32 := broadcastInDim S1x256x256 ![] bcast_S_S1x256x256 main_c_1799
  let main_v11398 : IVec S1x256x256 1 := cmpi .sgt main_v9887 main_v11397
  fn_part550 (F := F) main_arg0 main_v4875 main_v9852 main_v9886 main_v9887 main_v11388 main_v11389 main_v11394 main_v11396 main_v11398

def fn_part548 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11350 : FVec F S1x256x256 .f32) (main_v11351 : FVec F S1x1x256 .f32) (main_v11356 : FVec F S1x256x256 .f32) (main_v11357 : IVec S1x256x256 32) : IVec S9x256x256 1 × IVec S8x256x256 1 :=
  let main_v11358 : IVec S1x256x256 1 := cmpi .sgt main_v9886 main_v11357
  let main_c_1793 : IVec S_ 32 := constantI S_ 32 77#32
  let main_v11359 : IVec S1x256x256 32 := broadcastInDim S1x256x256 ![] bcast_S_S1x256x256 main_c_1793
  let main_v11360 : IVec S1x256x256 1 := cmpi .sgt main_v9887 main_v11359
  let main_v11361 : IVec S1x256x256 1 := andi main_v11358 main_v11360
  let main_v11362 : FVec F S1x256x256 .f32 := broadcastInDim S1x256x256 ![0, 1, 2] bcast_S1x1x256_S1x256x256_0_1_2 main_v11351
  let main_v11363 : FVec F S1x256x256 .f32 := mulf main_v11356 main_v11362
  let main_v11364 : FVec F S1x256x256 .f32 := subf main_v11350 main_v11363
  let main_v11365 : FVec F S1x256x256 .f32 := select main_v11361 main_v11364 main_v11350
  let main_c_1794 : IVec S_ 32 := constantI S_ 32 77#32
  let main_v11366 : IVec S1x256x256 32 := broadcastInDim S1x256x256 ![] bcast_S_S1x256x256 main_c_1794
  let main_v11367 : IVec S1x256x256 1 := cmpi .eq main_v9887 main_v11366
  let main_v11368 : IVec S1x256x256 1 := andi main_v11358 main_v11367
  let main_v11369 : FVec F S1x256x256 .f32 := select main_v11368 main_v11356 main_v11365
  let main_v11370 : FVec F S1x1x256 .f32 := (extractStridedSlice S1x1x256 ![0, 78, 0] · slices_S1x256x256_S1x1x256_0_78_0) main_v11369
  let main_v11371 : FVec F S1x256x1 .f32 := (extractStridedSlice S1x256x1 ![0, 0, 78] · slices_S1x256x256_S1x256x1_0_0_78) main_v11369
  let main_v11372 : FVec F S1x1x1 .f32 := (extractStridedSlice S1x1x1 ![0, 0, 78] · slices_S1x1x256_S1x1x1_0_0_78) main_v11370
  let main_v11373 : FVec F S1x256x1 .f32 := broadcastInDim S1x256x1 ![0, 1, 2] bcast_S1x1x1_S1x256x1_0_1_2 main_v11372
  let main_v11374 : FVec F S1x256x1 .f32 := Host.divf main_v11371 main_v11373
  let main_v11375 : FVec F S1x256x256 .f32 := broadcastInDim S1x256x256 ![0, 1, 2] bcast_S1x256x1_S1x256x256_0_1_2 main_v11374
  let main_c_1795 : IVec S_ 32 := constantI S_ 32 78#32
  let main_v11376 : IVec S1x256x256 32 := broadcastInDim S1x256x256 ![] bcast_S_S1x256x256 main_c_1795
  let main_v11377 : IVec S1x256x256 1 := cmpi .sgt main_v9886 main_v11376
  let main_c_1796 : IVec S_ 32 := constantI S_ 32 78#32
  fn_part549 (F := F) main_arg0 main_v4875 main_v9852 main_v9886 main_v9887 main_v11369 main_v11370 main_v11375 main_v11377 main_c_1796

def fn_part547 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11331 : FVec F S1x256x256 .f32) (main_v11332 : FVec F S1x1x256 .f32) (main_v11337 : FVec F S1x256x256 .f32) : IVec S9x256x256 1 × IVec S8x256x256 1 :=
  let main_c_1789 : IVec S_ 32 := constantI S_ 32 76#32
  let main_v11338 : IVec S1x256x256 32 := broadcastInDim S1x256x256 ![] bcast_S_S1x256x256 main_c_1789
  let main_v11339 : IVec S1x256x256 1 := cmpi .sgt main_v9886 main_v11338
  let main_c_1790 : IVec S_ 32 := constantI S_ 32 76#32
  let main_v11340 : IVec S1x256x256 32 := broadcastInDim S1x256x256 ![] bcast_S_S1x256x256 main_c_1790
  let main_v11341 : IVec S1x256x256 1 := cmpi .sgt main_v9887 main_v11340
  let main_v11342 : IVec S1x256x256 1 := andi main_v11339 main_v11341
  let main_v11343 : FVec F S1x256x256 .f32 := broadcastInDim S1x256x256 ![0, 1, 2] bcast_S1x1x256_S1x256x256_0_1_2 main_v11332
  let main_v11344 : FVec F S1x256x256 .f32 := mulf main_v11337 main_v11343
  let main_v11345 : FVec F S1x256x256 .f32 := subf main_v11331 main_v11344
  let main_v11346 : FVec F S1x256x256 .f32 := select main_v11342 main_v11345 main_v11331
  let main_c_1791 : IVec S_ 32 := constantI S_ 32 76#32
  let main_v11347 : IVec S1x256x256 32 := broadcastInDim S1x256x256 ![] bcast_S_S1x256x256 main_c_1791
  let main_v11348 : IVec S1x256x256 1 := cmpi .eq main_v9887 main_v11347
  let main_v11349 : IVec S1x256x256 1 := andi main_v11339 main_v11348
  let main_v11350 : FVec F S1x256x256 .f32 := select main_v11349 main_v11337 main_v11346
  let main_v11351 : FVec F S1x1x256 .f32 := (extractStridedSlice S1x1x256 ![0, 77, 0] · slices_S1x256x256_S1x1x256_0_77_0) main_v11350
  let main_v11352 : FVec F S1x256x1 .f32 := (extractStridedSlice S1x256x1 ![0, 0, 77] · slices_S1x256x256_S1x256x1_0_0_77) main_v11350
  let main_v11353 : FVec F S1x1x1 .f32 := (extractStridedSlice S1x1x1 ![0, 0, 77] · slices_S1x1x256_S1x1x1_0_0_77) main_v11351
  let main_v11354 : FVec F S1x256x1 .f32 := broadcastInDim S1x256x1 ![0, 1, 2] bcast_S1x1x1_S1x256x1_0_1_2 main_v11353
  let main_v11355 : FVec F S1x256x1 .f32 := Host.divf main_v11352 main_v11354
  let main_v11356 : FVec F S1x256x256 .f32 := broadcastInDim S1x256x256 ![0, 1, 2] bcast_S1x256x1_S1x256x256_0_1_2 main_v11355
  let main_c_1792 : IVec S_ 32 := constantI S_ 32 77#32
  let main_v11357 : IVec S1x256x256 32 := broadcastInDim S1x256x256 ![] bcast_S_S1x256x256 main_c_1792
  fn_part548 (F := F) main_arg0 main_v4875 main_v9852 main_v9886 main_v9887 main_v11350 main_v11351 main_v11356 main_v11357

def fn_part546 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11312 : FVec F S1x256x256 .f32) (main_v11313 : FVec F S1x1x256 .f32) (main_v11314 : FVec F S1x256x1 .f32) (main_v11316 : FVec F S1x256x1 .f32) : IVec S9x256x256 1 × IVec S8x256x256 1 :=
  let main_v11317 : FVec F S1x256x1 .f32 := Host.divf main_v11314 main_v11316
  let main_v11318 : FVec F S1x256x256 .f32 := broadcastInDim S1x256x256 ![0, 1, 2] bcast_S1x256x1_S1x256x256_0_1_2 main_v11317
  let main_c_1786 : IVec S_ 32 := constantI S_ 32 75#32
  let main_v11319 : IVec S1x256x256 32 := broadcastInDim S1x256x256 ![] bcast_S_S1x256x256 main_c_1786
  let main_v11320 : IVec S1x256x256 1 := cmpi .sgt main_v9886 main_v11319
  let main_c_1787 : IVec S_ 32 := constantI S_ 32 75#32
  let main_v11321 : IVec S1x256x256 32 := broadcastInDim S1x256x256 ![] bcast_S_S1x256x256 main_c_1787
  let main_v11322 : IVec S1x256x256 1 := cmpi .sgt main_v9887 main_v11321
  let main_v11323 : IVec S1x256x256 1 := andi main_v11320 main_v11322
  let main_v11324 : FVec F S1x256x256 .f32 := broadcastInDim S1x256x256 ![0, 1, 2] bcast_S1x1x256_S1x256x256_0_1_2 main_v11313
  let main_v11325 : FVec F S1x256x256 .f32 := mulf main_v11318 main_v11324
  let main_v11326 : FVec F S1x256x256 .f32 := subf main_v11312 main_v11325
  let main_v11327 : FVec F S1x256x256 .f32 := select main_v11323 main_v11326 main_v11312
  let main_c_1788 : IVec S_ 32 := constantI S_ 32 75#32
  let main_v11328 : IVec S1x256x256 32 := broadcastInDim S1x256x256 ![] bcast_S_S1x256x256 main_c_1788
  let main_v11329 : IVec S1x256x256 1 := cmpi .eq main_v9887 main_v11328
  let main_v11330 : IVec S1x256x256 1 := andi main_v11320 main_v11329
  let main_v11331 : FVec F S1x256x256 .f32 := select main_v11330 main_v11318 main_v11327
  let main_v11332 : FVec F S1x1x256 .f32 := (extractStridedSlice S1x1x256 ![0, 76, 0] · slices_S1x256x256_S1x1x256_0_76_0) main_v11331
  let main_v11333 : FVec F S1x256x1 .f32 := (extractStridedSlice S1x256x1 ![0, 0, 76] · slices_S1x256x256_S1x256x1_0_0_76) main_v11331
  let main_v11334 : FVec F S1x1x1 .f32 := (extractStridedSlice S1x1x1 ![0, 0, 76] · slices_S1x1x256_S1x1x1_0_0_76) main_v11332
  let main_v11335 : FVec F S1x256x1 .f32 := broadcastInDim S1x256x1 ![0, 1, 2] bcast_S1x1x1_S1x256x1_0_1_2 main_v11334
  let main_v11336 : FVec F S1x256x1 .f32 := Host.divf main_v11333 main_v11335
  let main_v11337 : FVec F S1x256x256 .f32 := broadcastInDim S1x256x256 ![0, 1, 2] bcast_S1x256x1_S1x256x256_0_1_2 main_v11336
  fn_part547 (F := F) main_arg0 main_v4875 main_v9852 main_v9886 main_v9887 main_v11331 main_v11332 main_v11337

def fn_part545 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11293 : FVec F S1x256x256 .f32) (main_v11294 : FVec F S1x1x256 .f32) (main_v11295 : FVec F S1x256x1 .f32) : IVec S9x256x256 1 × IVec S8x256x256 1 :=
  let main_v11296 : FVec F S1x1x1 .f32 := (extractStridedSlice S1x1x1 ![0, 0, 74] · slices_S1x1x256_S1x1x1_0_0_74) main_v11294
  let main_v11297 : FVec F S1x256x1 .f32 := broadcastInDim S1x256x1 ![0, 1, 2] bcast_S1x1x1_S1x256x1_0_1_2 main_v11296
  let main_v11298 : FVec F S1x256x1 .f32 := Host.divf main_v11295 main_v11297
  let main_v11299 : FVec F S1x256x256 .f32 := broadcastInDim S1x256x256 ![0, 1, 2] bcast_S1x256x1_S1x256x256_0_1_2 main_v11298
  let main_c_1783 : IVec S_ 32 := constantI S_ 32 74#32
  let main_v11300 : IVec S1x256x256 32 := broadcastInDim S1x256x256 ![] bcast_S_S1x256x256 main_c_1783
  let main_v11301 : IVec S1x256x256 1 := cmpi .sgt main_v9886 main_v11300
  let main_c_1784 : IVec S_ 32 := constantI S_ 32 74#32
  let main_v11302 : IVec S1x256x256 32 := broadcastInDim S1x256x256 ![] bcast_S_S1x256x256 main_c_1784
  let main_v11303 : IVec S1x256x256 1 := cmpi .sgt main_v9887 main_v11302
  let main_v11304 : IVec S1x256x256 1 := andi main_v11301 main_v11303
  let main_v11305 : FVec F S1x256x256 .f32 := broadcastInDim S1x256x256 ![0, 1, 2] bcast_S1x1x256_S1x256x256_0_1_2 main_v11294
  let main_v11306 : FVec F S1x256x256 .f32 := mulf main_v11299 main_v11305
  let main_v11307 : FVec F S1x256x256 .f32 := subf main_v11293 main_v11306
  let main_v11308 : FVec F S1x256x256 .f32 := select main_v11304 main_v11307 main_v11293
  let main_c_1785 : IVec S_ 32 := constantI S_ 32 74#32
  let main_v11309 : IVec S1x256x256 32 := broadcastInDim S1x256x256 ![] bcast_S_S1x256x256 main_c_1785
  let main_v11310 : IVec S1x256x256 1 := cmpi .eq main_v9887 main_v11309
  let main_v11311 : IVec S1x256x256 1 := andi main_v11301 main_v11310
  let main_v11312 : FVec F S1x256x256 .f32 := select main_v11311 main_v11299 main_v11308
  let main_v11313 : FVec F S1x1x256 .f32 := (extractStridedSlice S1x1x256 ![0, 75, 0] · slices_S1x256x256_S1x1x256_0_75_0) main_v11312
  let main_v11314 : FVec F S1x256x1 .f32 := (extractStridedSlice S1x256x1 ![0, 0, 75] · slices_S1x256x256_S1x256x1_0_0_75) main_v11312
  let main_v11315 : FVec F S1x1x1 .f32 := (extractStridedSlice S1x1x1 ![0, 0, 75] · slices_S1x1x256_S1x1x1_0_0_75) main_v11313
  let main_v11316 : FVec F S1x256x1 .f32 := broadcastInDim S1x256x1 ![0, 1, 2] bcast_S1x1x1_S1x256x1_0_1_2 main_v11315
  fn_part546 (F := F) main_arg0 main_v4875 main_v9852 main_v9886 main_v9887 main_v11312 main_v11313 main_v11314 main_v11316

def fn_part544 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11274 : FVec F S1x256x256 .f32) : IVec S9x256x256 1 × IVec S8x256x256 1 :=
  let main_v11275 : FVec F S1x1x256 .f32 := (extractStridedSlice S1x1x256 ![0, 73, 0] · slices_S1x256x256_S1x1x256_0_73_0) main_v11274
  let main_v11276 : FVec F S1x256x1 .f32 := (extractStridedSlice S1x256x1 ![0, 0, 73] · slices_S1x256x256_S1x256x1_0_0_73) main_v11274
  let main_v11277 : FVec F S1x1x1 .f32 := (extractStridedSlice S1x1x1 ![0, 0, 73] · slices_S1x1x256_S1x1x1_0_0_73) main_v11275
  let main_v11278 : FVec F S1x256x1 .f32 := broadcastInDim S1x256x1 ![0, 1, 2] bcast_S1x1x1_S1x256x1_0_1_2 main_v11277
  let main_v11279 : FVec F S1x256x1 .f32 := Host.divf main_v11276 main_v11278
  let main_v11280 : FVec F S1x256x256 .f32 := broadcastInDim S1x256x256 ![0, 1, 2] bcast_S1x256x1_S1x256x256_0_1_2 main_v11279
  let main_c_1780 : IVec S_ 32 := constantI S_ 32 73#32
  let main_v11281 : IVec S1x256x256 32 := broadcastInDim S1x256x256 ![] bcast_S_S1x256x256 main_c_1780
  let main_v11282 : IVec S1x256x256 1 := cmpi .sgt main_v9886 main_v11281
  let main_c_1781 : IVec S_ 32 := constantI S_ 32 73#32
  let main_v11283 : IVec S1x256x256 32 := broadcastInDim S1x256x256 ![] bcast_S_S1x256x256 main_c_1781
  let main_v11284 : IVec S1x256x256 1 := cmpi .sgt main_v9887 main_v11283
  let main_v11285 : IVec S1x256x256 1 := andi main_v11282 main_v11284
  let main_v11286 : FVec F S1x256x256 .f32 := broadcastInDim S1x256x256 ![0, 1, 2] bcast_S1x1x256_S1x256x256_0_1_2 main_v11275
  let main_v11287 : FVec F S1x256x256 .f32 := mulf main_v11280 main_v11286
  let main_v11288 : FVec F S1x256x256 .f32 := subf main_v11274 main_v11287
  let main_v11289 : FVec F S1x256x256 .f32 := select main_v11285 main_v11288 main_v11274
  let main_c_1782 : IVec S_ 32 := constantI S_ 32 73#32
  let main_v11290 : IVec S1x256x256 32 := broadcastInDim S1x256x256 ![] bcast_S_S1x256x256 main_c_1782
  let main_v11291 : IVec S1x256x256 1 := cmpi .eq main_v9887 main_v11290
  let main_v11292 : IVec S1x256x256 1 := andi main_v11282 main_v11291
  let main_v11293 : FVec F S1x256x256 .f32 := select main_v11292 main_v11280 main_v11289
  let main_v11294 : FVec F S1x1x256 .f32 := (extractStridedSlice S1x1x256 ![0, 74, 0] · slices_S1x256x256_S1x1x256_0_74_0) main_v11293
  let main_v11295 : FVec F S1x256x1 .f32 := (extractStridedSlice S1x256x1 ![0, 0, 74] · slices_S1x256x256_S1x256x1_0_0_74) main_v11293
  fn_part545 (F := F) main_arg0 main_v4875 main_v9852 main_v9886 main_v9887 main_v11293 main_v11294 main_v11295

def fn_part543 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11242 : FVec F S1x256x256 .f32) (main_v11244 : IVec S1x256x256 1) (main_v11251 : FVec F S1x256x256 .f32) (main_v11253 : IVec S1x256x256 1) : IVec S9x256x256 1 × IVec S8x256x256 1 :=
  let main_v11254 : IVec S1x256x256 1 := andi main_v11244 main_v11253
  let main_v11255 : FVec F S1x256x256 .f32 := select main_v11254 main_v11242 main_v11251
  let main_v11256 : FVec F S1x1x256 .f32 := (extractStridedSlice S1x1x256 ![0, 72, 0] · slices_S1x256x256_S1x1x256_0_72_0) main_v11255
  let main_v11257 : FVec F S1x256x1 .f32 := (extractStridedSlice S1x256x1 ![0, 0, 72] · slices_S1x256x256_S1x256x1_0_0_72) main_v11255
  let main_v11258 : FVec F S1x1x1 .f32 := (extractStridedSlice S1x1x1 ![0, 0, 72] · slices_S1x1x256_S1x1x1_0_0_72) main_v11256
  let main_v11259 : FVec F S1x256x1 .f32 := broadcastInDim S1x256x1 ![0, 1, 2] bcast_S1x1x1_S1x256x1_0_1_2 main_v11258
  let main_v11260 : FVec F S1x256x1 .f32 := Host.divf main_v11257 main_v11259
  let main_v11261 : FVec F S1x256x256 .f32 := broadcastInDim S1x256x256 ![0, 1, 2] bcast_S1x256x1_S1x256x256_0_1_2 main_v11260
  let main_c_1777 : IVec S_ 32 := constantI S_ 32 72#32
  let main_v11262 : IVec S1x256x256 32 := broadcastInDim S1x256x256 ![] bcast_S_S1x256x256 main_c_1777
  let main_v11263 : IVec S1x256x256 1 := cmpi .sgt main_v9886 main_v11262
  let main_c_1778 : IVec S_ 32 := constantI S_ 32 72#32
  let main_v11264 : IVec S1x256x256 32 := broadcastInDim S1x256x256 ![] bcast_S_S1x256x256 main_c_1778
  let main_v11265 : IVec S1x256x256 1 := cmpi .sgt main_v9887 main_v11264
  let main_v11266 : IVec S1x256x256 1 := andi main_v11263 main_v11265
  let main_v11267 : FVec F S1x256x256 .f32 := broadcastInDim S1x256x256 ![0, 1, 2] bcast_S1x1x256_S1x256x256_0_1_2 main_v11256
  let main_v11268 : FVec F S1x256x256 .f32 := mulf main_v11261 main_v11267
  let main_v11269 : FVec F S1x256x256 .f32 := subf main_v11255 main_v11268
  let main_v11270 : FVec F S1x256x256 .f32 := select main_v11266 main_v11269 main_v11255
  let main_c_1779 : IVec S_ 32 := constantI S_ 32 72#32
  let main_v11271 : IVec S1x256x256 32 := broadcastInDim S1x256x256 ![] bcast_S_S1x256x256 main_c_1779
  let main_v11272 : IVec S1x256x256 1 := cmpi .eq main_v9887 main_v11271
  let main_v11273 : IVec S1x256x256 1 := andi main_v11263 main_v11272
  let main_v11274 : FVec F S1x256x256 .f32 := select main_v11273 main_v11261 main_v11270
  fn_part544 (F := F) main_arg0 main_v4875 main_v9852 main_v9886 main_v9887 main_v11274

def fn_part542 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11223 : FVec F S1x256x256 .f32) (main_v11225 : IVec S1x256x256 1) (main_v11232 : FVec F S1x256x256 .f32) (main_c_1773 : IVec S_ 32) : IVec S9x256x256 1 × IVec S8x256x256 1 :=
  let main_v11233 : IVec S1x256x256 32 := broadcastInDim S1x256x256 ![] bcast_S_S1x256x256 main_c_1773
  let main_v11234 : IVec S1x256x256 1 := cmpi .eq main_v9887 main_v11233
  let main_v11235 : IVec S1x256x256 1 := andi main_v11225 main_v11234
  let main_v11236 : FVec F S1x256x256 .f32 := select main_v11235 main_v11223 main_v11232
  let main_v11237 : FVec F S1x1x256 .f32 := (extractStridedSlice S1x1x256 ![0, 71, 0] · slices_S1x256x256_S1x1x256_0_71_0) main_v11236
  let main_v11238 : FVec F S1x256x1 .f32 := (extractStridedSlice S1x256x1 ![0, 0, 71] · slices_S1x256x256_S1x256x1_0_0_71) main_v11236
  let main_v11239 : FVec F S1x1x1 .f32 := (extractStridedSlice S1x1x1 ![0, 0, 71] · slices_S1x1x256_S1x1x1_0_0_71) main_v11237
  let main_v11240 : FVec F S1x256x1 .f32 := broadcastInDim S1x256x1 ![0, 1, 2] bcast_S1x1x1_S1x256x1_0_1_2 main_v11239
  let main_v11241 : FVec F S1x256x1 .f32 := Host.divf main_v11238 main_v11240
  let main_v11242 : FVec F S1x256x256 .f32 := broadcastInDim S1x256x256 ![0, 1, 2] bcast_S1x256x1_S1x256x256_0_1_2 main_v11241
  let main_c_1774 : IVec S_ 32 := constantI S_ 32 71#32
  let main_v11243 : IVec S1x256x256 32 := broadcastInDim S1x256x256 ![] bcast_S_S1x256x256 main_c_1774
  let main_v11244 : IVec S1x256x256 1 := cmpi .sgt main_v9886 main_v11243
  let main_c_1775 : IVec S_ 32 := constantI S_ 32 71#32
  let main_v11245 : IVec S1x256x256 32 := broadcastInDim S1x256x256 ![] bcast_S_S1x256x256 main_c_1775
  let main_v11246 : IVec S1x256x256 1 := cmpi .sgt main_v9887 main_v11245
  let main_v11247 : IVec S1x256x256 1 := andi main_v11244 main_v11246
  let main_v11248 : FVec F S1x256x256 .f32 := broadcastInDim S1x256x256 ![0, 1, 2] bcast_S1x1x256_S1x256x256_0_1_2 main_v11237
  let main_v11249 : FVec F S1x256x256 .f32 := mulf main_v11242 main_v11248
  let main_v11250 : FVec F S1x256x256 .f32 := subf main_v11236 main_v11249
  let main_v11251 : FVec F S1x256x256 .f32 := select main_v11247 main_v11250 main_v11236
  let main_c_1776 : IVec S_ 32 := constantI S_ 32 71#32
  let main_v11252 : IVec S1x256x256 32 := broadcastInDim S1x256x256 ![] bcast_S_S1x256x256 main_c_1776
  let main_v11253 : IVec S1x256x256 1 := cmpi .eq main_v9887 main_v11252
  fn_part543 (F := F) main_arg0 main_v4875 main_v9852 main_v9886 main_v9887 main_v11242 main_v11244 main_v11251 main_v11253

def fn_part541 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11198 : FVec F S1x256x256 .f32) (main_v11204 : FVec F S1x256x256 .f32) (main_v11206 : IVec S1x256x256 1) (main_v11209 : IVec S1x256x256 1) (main_v11212 : FVec F S1x256x256 .f32) : IVec S9x256x256 1 × IVec S8x256x256 1 :=
  let main_v11213 : FVec F S1x256x256 .f32 := select main_v11209 main_v11212 main_v11198
  let main_c_1770 : IVec S_ 32 := constantI S_ 32 69#32
  let main_v11214 : IVec S1x256x256 32 := broadcastInDim S1x256x256 ![] bcast_S_S1x256x256 main_c_1770
  let main_v11215 : IVec S1x256x256 1 := cmpi .eq main_v9887 main_v11214
  let main_v11216 : IVec S1x256x256 1 := andi main_v11206 main_v11215
  let main_v11217 : FVec F S1x256x256 .f32 := select main_v11216 main_v11204 main_v11213
  let main_v11218 : FVec F S1x1x256 .f32 := (extractStridedSlice S1x1x256 ![0, 70, 0] · slices_S1x256x256_S1x1x256_0_70_0) main_v11217
  let main_v11219 : FVec F S1x256x1 .f32 := (extractStridedSlice S1x256x1 ![0, 0, 70] · slices_S1x256x256_S1x256x1_0_0_70) main_v11217
  let main_v11220 : FVec F S1x1x1 .f32 := (extractStridedSlice S1x1x1 ![0, 0, 70] · slices_S1x1x256_S1x1x1_0_0_70) main_v11218
  let main_v11221 : FVec F S1x256x1 .f32 := broadcastInDim S1x256x1 ![0, 1, 2] bcast_S1x1x1_S1x256x1_0_1_2 main_v11220
  let main_v11222 : FVec F S1x256x1 .f32 := Host.divf main_v11219 main_v11221
  let main_v11223 : FVec F S1x256x256 .f32 := broadcastInDim S1x256x256 ![0, 1, 2] bcast_S1x256x1_S1x256x256_0_1_2 main_v11222
  let main_c_1771 : IVec S_ 32 := constantI S_ 32 70#32
  let main_v11224 : IVec S1x256x256 32 := broadcastInDim S1x256x256 ![] bcast_S_S1x256x256 main_c_1771
  let main_v11225 : IVec S1x256x256 1 := cmpi .sgt main_v9886 main_v11224
  let main_c_1772 : IVec S_ 32 := constantI S_ 32 70#32
  let main_v11226 : IVec S1x256x256 32 := broadcastInDim S1x256x256 ![] bcast_S_S1x256x256 main_c_1772
  let main_v11227 : IVec S1x256x256 1 := cmpi .sgt main_v9887 main_v11226
  let main_v11228 : IVec S1x256x256 1 := andi main_v11225 main_v11227
  let main_v11229 : FVec F S1x256x256 .f32 := broadcastInDim S1x256x256 ![0, 1, 2] bcast_S1x1x256_S1x256x256_0_1_2 main_v11218
  let main_v11230 : FVec F S1x256x256 .f32 := mulf main_v11223 main_v11229
  let main_v11231 : FVec F S1x256x256 .f32 := subf main_v11217 main_v11230
  let main_v11232 : FVec F S1x256x256 .f32 := select main_v11228 main_v11231 main_v11217
  let main_c_1773 : IVec S_ 32 := constantI S_ 32 70#32
  fn_part542 (F := F) main_arg0 main_v4875 main_v9852 main_v9886 main_v9887 main_v11223 main_v11225 main_v11232 main_c_1773

def fn_part540 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11179 : FVec F S1x256x256 .f32) (main_v11185 : FVec F S1x256x256 .f32) (main_v11187 : IVec S1x256x256 1) (main_v11190 : IVec S1x256x256 1) (main_v11191 : FVec F S1x256x256 .f32) : IVec S9x256x256 1 × IVec S8x256x256 1 :=
  let main_v11192 : FVec F S1x256x256 .f32 := mulf main_v11185 main_v11191
  let main_v11193 : FVec F S1x256x256 .f32 := subf main_v11179 main_v11192
  let main_v11194 : FVec F S1x256x256 .f32 := select main_v11190 main_v11193 main_v11179
  let main_c_1767 : IVec S_ 32 := constantI S_ 32 68#32
  let main_v11195 : IVec S1x256x256 32 := broadcastInDim S1x256x256 ![] bcast_S_S1x256x256 main_c_1767
  let main_v11196 : IVec S1x256x256 1 := cmpi .eq main_v9887 main_v11195
  let main_v11197 : IVec S1x256x256 1 := andi main_v11187 main_v11196
  let main_v11198 : FVec F S1x256x256 .f32 := select main_v11197 main_v11185 main_v11194
  let main_v11199 : FVec F S1x1x256 .f32 := (extractStridedSlice S1x1x256 ![0, 69, 0] · slices_S1x256x256_S1x1x256_0_69_0) main_v11198
  let main_v11200 : FVec F S1x256x1 .f32 := (extractStridedSlice S1x256x1 ![0, 0, 69] · slices_S1x256x256_S1x256x1_0_0_69) main_v11198
  let main_v11201 : FVec F S1x1x1 .f32 := (extractStridedSlice S1x1x1 ![0, 0, 69] · slices_S1x1x256_S1x1x1_0_0_69) main_v11199
  let main_v11202 : FVec F S1x256x1 .f32 := broadcastInDim S1x256x1 ![0, 1, 2] bcast_S1x1x1_S1x256x1_0_1_2 main_v11201
  let main_v11203 : FVec F S1x256x1 .f32 := Host.divf main_v11200 main_v11202
  let main_v11204 : FVec F S1x256x256 .f32 := broadcastInDim S1x256x256 ![0, 1, 2] bcast_S1x256x1_S1x256x256_0_1_2 main_v11203
  let main_c_1768 : IVec S_ 32 := constantI S_ 32 69#32
  let main_v11205 : IVec S1x256x256 32 := broadcastInDim S1x256x256 ![] bcast_S_S1x256x256 main_c_1768
  let main_v11206 : IVec S1x256x256 1 := cmpi .sgt main_v9886 main_v11205
  let main_c_1769 : IVec S_ 32 := constantI S_ 32 69#32
  let main_v11207 : IVec S1x256x256 32 := broadcastInDim S1x256x256 ![] bcast_S_S1x256x256 main_c_1769
  let main_v11208 : IVec S1x256x256 1 := cmpi .sgt main_v9887 main_v11207
  let main_v11209 : IVec S1x256x256 1 := andi main_v11206 main_v11208
  let main_v11210 : FVec F S1x256x256 .f32 := broadcastInDim S1x256x256 ![0, 1, 2] bcast_S1x1x256_S1x256x256_0_1_2 main_v11199
  let main_v11211 : FVec F S1x256x256 .f32 := mulf main_v11204 main_v11210
  let main_v11212 : FVec F S1x256x256 .f32 := subf main_v11198 main_v11211
  fn_part541 (F := F) main_arg0 main_v4875 main_v9852 main_v9886 main_v9887 main_v11198 main_v11204 main_v11206 main_v11209 main_v11212

def fn_part539 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11160 : FVec F S1x256x256 .f32) (main_v11161 : FVec F S1x1x256 .f32) (main_v11166 : FVec F S1x256x256 .f32) (main_v11168 : IVec S1x256x256 1) (main_v11170 : IVec S1x256x256 1) : IVec S9x256x256 1 × IVec S8x256x256 1 :=
  let main_v11171 : IVec S1x256x256 1 := andi main_v11168 main_v11170
  let main_v11172 : FVec F S1x256x256 .f32 := broadcastInDim S1x256x256 ![0, 1, 2] bcast_S1x1x256_S1x256x256_0_1_2 main_v11161
  let main_v11173 : FVec F S1x256x256 .f32 := mulf main_v11166 main_v11172
  let main_v11174 : FVec F S1x256x256 .f32 := subf main_v11160 main_v11173
  let main_v11175 : FVec F S1x256x256 .f32 := select main_v11171 main_v11174 main_v11160
  let main_c_1764 : IVec S_ 32 := constantI S_ 32 67#32
  let main_v11176 : IVec S1x256x256 32 := broadcastInDim S1x256x256 ![] bcast_S_S1x256x256 main_c_1764
  let main_v11177 : IVec S1x256x256 1 := cmpi .eq main_v9887 main_v11176
  let main_v11178 : IVec S1x256x256 1 := andi main_v11168 main_v11177
  let main_v11179 : FVec F S1x256x256 .f32 := select main_v11178 main_v11166 main_v11175
  let main_v11180 : FVec F S1x1x256 .f32 := (extractStridedSlice S1x1x256 ![0, 68, 0] · slices_S1x256x256_S1x1x256_0_68_0) main_v11179
  let main_v11181 : FVec F S1x256x1 .f32 := (extractStridedSlice S1x256x1 ![0, 0, 68] · slices_S1x256x256_S1x256x1_0_0_68) main_v11179
  let main_v11182 : FVec F S1x1x1 .f32 := (extractStridedSlice S1x1x1 ![0, 0, 68] · slices_S1x1x256_S1x1x1_0_0_68) main_v11180
  let main_v11183 : FVec F S1x256x1 .f32 := broadcastInDim S1x256x1 ![0, 1, 2] bcast_S1x1x1_S1x256x1_0_1_2 main_v11182
  let main_v11184 : FVec F S1x256x1 .f32 := Host.divf main_v11181 main_v11183
  let main_v11185 : FVec F S1x256x256 .f32 := broadcastInDim S1x256x256 ![0, 1, 2] bcast_S1x256x1_S1x256x256_0_1_2 main_v11184
  let main_c_1765 : IVec S_ 32 := constantI S_ 32 68#32
  let main_v11186 : IVec S1x256x256 32 := broadcastInDim S1x256x256 ![] bcast_S_S1x256x256 main_c_1765
  let main_v11187 : IVec S1x256x256 1 := cmpi .sgt main_v9886 main_v11186
  let main_c_1766 : IVec S_ 32 := constantI S_ 32 68#32
  let main_v11188 : IVec S1x256x256 32 := broadcastInDim S1x256x256 ![] bcast_S_S1x256x256 main_c_1766
  let main_v11189 : IVec S1x256x256 1 := cmpi .sgt main_v9887 main_v11188
  let main_v11190 : IVec S1x256x256 1 := andi main_v11187 main_v11189
  let main_v11191 : FVec F S1x256x256 .f32 := broadcastInDim S1x256x256 ![0, 1, 2] bcast_S1x1x256_S1x256x256_0_1_2 main_v11180
  fn_part540 (F := F) main_arg0 main_v4875 main_v9852 main_v9886 main_v9887 main_v11179 main_v11185 main_v11187 main_v11190 main_v11191

def fn_part538 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11141 : FVec F S1x256x256 .f32) (main_v11142 : FVec F S1x1x256 .f32) (main_v11147 : FVec F S1x256x256 .f32) (main_v11149 : IVec S1x256x256 1) (main_c_1760 : IVec S_ 32) : IVec S9x256x256 1 × IVec S8x256x256 1 :=
  let main_v11150 : IVec S1x256x256 32 := broadcastInDim S1x256x256 ![] bcast_S_S1x256x256 main_c_1760
  let main_v11151 : IVec S1x256x256 1 := cmpi .sgt main_v9887 main_v11150
  let main_v11152 : IVec S1x256x256 1 := andi main_v11149 main_v11151
  let main_v11153 : FVec F S1x256x256 .f32 := broadcastInDim S1x256x256 ![0, 1, 2] bcast_S1x1x256_S1x256x256_0_1_2 main_v11142
  let main_v11154 : FVec F S1x256x256 .f32 := mulf main_v11147 main_v11153
  let main_v11155 : FVec F S1x256x256 .f32 := subf main_v11141 main_v11154
  let main_v11156 : FVec F S1x256x256 .f32 := select main_v11152 main_v11155 main_v11141
  let main_c_1761 : IVec S_ 32 := constantI S_ 32 66#32
  let main_v11157 : IVec S1x256x256 32 := broadcastInDim S1x256x256 ![] bcast_S_S1x256x256 main_c_1761
  let main_v11158 : IVec S1x256x256 1 := cmpi .eq main_v9887 main_v11157
  let main_v11159 : IVec S1x256x256 1 := andi main_v11149 main_v11158
  let main_v11160 : FVec F S1x256x256 .f32 := select main_v11159 main_v11147 main_v11156
  let main_v11161 : FVec F S1x1x256 .f32 := (extractStridedSlice S1x1x256 ![0, 67, 0] · slices_S1x256x256_S1x1x256_0_67_0) main_v11160
  let main_v11162 : FVec F S1x256x1 .f32 := (extractStridedSlice S1x256x1 ![0, 0, 67] · slices_S1x256x256_S1x256x1_0_0_67) main_v11160
  let main_v11163 : FVec F S1x1x1 .f32 := (extractStridedSlice S1x1x1 ![0, 0, 67] · slices_S1x1x256_S1x1x1_0_0_67) main_v11161
  let main_v11164 : FVec F S1x256x1 .f32 := broadcastInDim S1x256x1 ![0, 1, 2] bcast_S1x1x1_S1x256x1_0_1_2 main_v11163
  let main_v11165 : FVec F S1x256x1 .f32 := Host.divf main_v11162 main_v11164
  let main_v11166 : FVec F S1x256x256 .f32 := broadcastInDim S1x256x256 ![0, 1, 2] bcast_S1x256x1_S1x256x256_0_1_2 main_v11165
  let main_c_1762 : IVec S_ 32 := constantI S_ 32 67#32
  let main_v11167 : IVec S1x256x256 32 := broadcastInDim S1x256x256 ![] bcast_S_S1x256x256 main_c_1762
  let main_v11168 : IVec S1x256x256 1 := cmpi .sgt main_v9886 main_v11167
  let main_c_1763 : IVec S_ 32 := constantI S_ 32 67#32
  let main_v11169 : IVec S1x256x256 32 := broadcastInDim S1x256x256 ![] bcast_S_S1x256x256 main_c_1763
  let main_v11170 : IVec S1x256x256 1 := cmpi .sgt main_v9887 main_v11169
  fn_part539 (F := F) main_arg0 main_v4875 main_v9852 main_v9886 main_v9887 main_v11160 main_v11161 main_v11166 main_v11168 main_v11170

def fn_part537 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11122 : FVec F S1x256x256 .f32) (main_v11123 : FVec F S1x1x256 .f32) (main_v11128 : FVec F S1x256x256 .f32) (main_v11129 : IVec S1x256x256 32) : IVec S9x256x256 1 × IVec S8x256x256 1 :=
  let main_v11130 : IVec S1x256x256 1 := cmpi .sgt main_v9886 main_v11129
  let main_c_1757 : IVec S_ 32 := constantI S_ 32 65#32
  let main_v11131 : IVec S1x256x256 32 := broadcastInDim S1x256x256 ![] bcast_S_S1x256x256 main_c_1757
  let main_v11132 : IVec S1x256x256 1 := cmpi .sgt main_v9887 main_v11131
  let main_v11133 : IVec S1x256x256 1 := andi main_v11130 main_v11132
  let main_v11134 : FVec F S1x256x256 .f32 := broadcastInDim S1x256x256 ![0, 1, 2] bcast_S1x1x256_S1x256x256_0_1_2 main_v11123
  let main_v11135 : FVec F S1x256x256 .f32 := mulf main_v11128 main_v11134
  let main_v11136 : FVec F S1x256x256 .f32 := subf main_v11122 main_v11135
  let main_v11137 : FVec F S1x256x256 .f32 := select main_v11133 main_v11136 main_v11122
  let main_c_1758 : IVec S_ 32 := constantI S_ 32 65#32
  let main_v11138 : IVec S1x256x256 32 := broadcastInDim S1x256x256 ![] bcast_S_S1x256x256 main_c_1758
  let main_v11139 : IVec S1x256x256 1 := cmpi .eq main_v9887 main_v11138
  let main_v11140 : IVec S1x256x256 1 := andi main_v11130 main_v11139
  let main_v11141 : FVec F S1x256x256 .f32 := select main_v11140 main_v11128 main_v11137
  let main_v11142 : FVec F S1x1x256 .f32 := (extractStridedSlice S1x1x256 ![0, 66, 0] · slices_S1x256x256_S1x1x256_0_66_0) main_v11141
  let main_v11143 : FVec F S1x256x1 .f32 := (extractStridedSlice S1x256x1 ![0, 0, 66] · slices_S1x256x256_S1x256x1_0_0_66) main_v11141
  let main_v11144 : FVec F S1x1x1 .f32 := (extractStridedSlice S1x1x1 ![0, 0, 66] · slices_S1x1x256_S1x1x1_0_0_66) main_v11142
  let main_v11145 : FVec F S1x256x1 .f32 := broadcastInDim S1x256x1 ![0, 1, 2] bcast_S1x1x1_S1x256x1_0_1_2 main_v11144
  let main_v11146 : FVec F S1x256x1 .f32 := Host.divf main_v11143 main_v11145
  let main_v11147 : FVec F S1x256x256 .f32 := broadcastInDim S1x256x256 ![0, 1, 2] bcast_S1x256x1_S1x256x256_0_1_2 main_v11146
  let main_c_1759 : IVec S_ 32 := constantI S_ 32 66#32
  let main_v11148 : IVec S1x256x256 32 := broadcastInDim S1x256x256 ![] bcast_S_S1x256x256 main_c_1759
  let main_v11149 : IVec S1x256x256 1 := cmpi .sgt main_v9886 main_v11148
  let main_c_1760 : IVec S_ 32 := constantI S_ 32 66#32
  fn_part538 (F := F) main_arg0 main_v4875 main_v9852 main_v9886 main_v9887 main_v11141 main_v11142 main_v11147 main_v11149 main_c_1760

def fn_part536 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11103 : FVec F S1x256x256 .f32) (main_v11104 : FVec F S1x1x256 .f32) (main_v11109 : FVec F S1x256x256 .f32) : IVec S9x256x256 1 × IVec S8x256x256 1 :=
  let main_c_1753 : IVec S_ 32 := constantI S_ 32 64#32
  let main_v11110 : IVec S1x256x256 32 := broadcastInDim S1x256x256 ![] bcast_S_S1x256x256 main_c_1753
  let main_v11111 : IVec S1x256x256 1 := cmpi .sgt main_v9886 main_v11110
  let main_c_1754 : IVec S_ 32 := constantI S_ 32 64#32
  let main_v11112 : IVec S1x256x256 32 := broadcastInDim S1x256x256 ![] bcast_S_S1x256x256 main_c_1754
  let main_v11113 : IVec S1x256x256 1 := cmpi .sgt main_v9887 main_v11112
  let main_v11114 : IVec S1x256x256 1 := andi main_v11111 main_v11113
  let main_v11115 : FVec F S1x256x256 .f32 := broadcastInDim S1x256x256 ![0, 1, 2] bcast_S1x1x256_S1x256x256_0_1_2 main_v11104
  let main_v11116 : FVec F S1x256x256 .f32 := mulf main_v11109 main_v11115
  let main_v11117 : FVec F S1x256x256 .f32 := subf main_v11103 main_v11116
  let main_v11118 : FVec F S1x256x256 .f32 := select main_v11114 main_v11117 main_v11103
  let main_c_1755 : IVec S_ 32 := constantI S_ 32 64#32
  let main_v11119 : IVec S1x256x256 32 := broadcastInDim S1x256x256 ![] bcast_S_S1x256x256 main_c_1755
  let main_v11120 : IVec S1x256x256 1 := cmpi .eq main_v9887 main_v11119
  let main_v11121 : IVec S1x256x256 1 := andi main_v11111 main_v11120
  let main_v11122 : FVec F S1x256x256 .f32 := select main_v11121 main_v11109 main_v11118
  let main_v11123 : FVec F S1x1x256 .f32 := (extractStridedSlice S1x1x256 ![0, 65, 0] · slices_S1x256x256_S1x1x256_0_65_0) main_v11122
  let main_v11124 : FVec F S1x256x1 .f32 := (extractStridedSlice S1x256x1 ![0, 0, 65] · slices_S1x256x256_S1x256x1_0_0_65) main_v11122
  let main_v11125 : FVec F S1x1x1 .f32 := (extractStridedSlice S1x1x1 ![0, 0, 65] · slices_S1x1x256_S1x1x1_0_0_65) main_v11123
  let main_v11126 : FVec F S1x256x1 .f32 := broadcastInDim S1x256x1 ![0, 1, 2] bcast_S1x1x1_S1x256x1_0_1_2 main_v11125
  let main_v11127 : FVec F S1x256x1 .f32 := Host.divf main_v11124 main_v11126
  let main_v11128 : FVec F S1x256x256 .f32 := broadcastInDim S1x256x256 ![0, 1, 2] bcast_S1x256x1_S1x256x256_0_1_2 main_v11127
  let main_c_1756 : IVec S_ 32 := constantI S_ 32 65#32
  let main_v11129 : IVec S1x256x256 32 := broadcastInDim S1x256x256 ![] bcast_S_S1x256x256 main_c_1756
  fn_part537 (F := F) main_arg0 main_v4875 main_v9852 main_v9886 main_v9887 main_v11122 main_v11123 main_v11128 main_v11129

def fn_part535 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11084 : FVec F S1x256x256 .f32) (main_v11085 : FVec F S1x1x256 .f32) (main_v11086 : FVec F S1x256x1 .f32) (main_v11088 : FVec F S1x256x1 .f32) : IVec S9x256x256 1 × IVec S8x256x256 1 :=
  let main_v11089 : FVec F S1x256x1 .f32 := Host.divf main_v11086 main_v11088
  let main_v11090 : FVec F S1x256x256 .f32 := broadcastInDim S1x256x256 ![0, 1, 2] bcast_S1x256x1_S1x256x256_0_1_2 main_v11089
  let main_c_1750 : IVec S_ 32 := constantI S_ 32 63#32
  let main_v11091 : IVec S1x256x256 32 := broadcastInDim S1x256x256 ![] bcast_S_S1x256x256 main_c_1750
  let main_v11092 : IVec S1x256x256 1 := cmpi .sgt main_v9886 main_v11091
  let main_c_1751 : IVec S_ 32 := constantI S_ 32 63#32
  let main_v11093 : IVec S1x256x256 32 := broadcastInDim S1x256x256 ![] bcast_S_S1x256x256 main_c_1751
  let main_v11094 : IVec S1x256x256 1 := cmpi .sgt main_v9887 main_v11093
  let main_v11095 : IVec S1x256x256 1 := andi main_v11092 main_v11094
  let main_v11096 : FVec F S1x256x256 .f32 := broadcastInDim S1x256x256 ![0, 1, 2] bcast_S1x1x256_S1x256x256_0_1_2 main_v11085
  let main_v11097 : FVec F S1x256x256 .f32 := mulf main_v11090 main_v11096
  let main_v11098 : FVec F S1x256x256 .f32 := subf main_v11084 main_v11097
  let main_v11099 : FVec F S1x256x256 .f32 := select main_v11095 main_v11098 main_v11084
  let main_c_1752 : IVec S_ 32 := constantI S_ 32 63#32
  let main_v11100 : IVec S1x256x256 32 := broadcastInDim S1x256x256 ![] bcast_S_S1x256x256 main_c_1752
  let main_v11101 : IVec S1x256x256 1 := cmpi .eq main_v9887 main_v11100
  let main_v11102 : IVec S1x256x256 1 := andi main_v11092 main_v11101
  let main_v11103 : FVec F S1x256x256 .f32 := select main_v11102 main_v11090 main_v11099
  let main_v11104 : FVec F S1x1x256 .f32 := (extractStridedSlice S1x1x256 ![0, 64, 0] · slices_S1x256x256_S1x1x256_0_64_0) main_v11103
  let main_v11105 : FVec F S1x256x1 .f32 := (extractStridedSlice S1x256x1 ![0, 0, 64] · slices_S1x256x256_S1x256x1_0_0_64) main_v11103
  let main_v11106 : FVec F S1x1x1 .f32 := (extractStridedSlice S1x1x1 ![0, 0, 64] · slices_S1x1x256_S1x1x1_0_0_64) main_v11104
  let main_v11107 : FVec F S1x256x1 .f32 := broadcastInDim S1x256x1 ![0, 1, 2] bcast_S1x1x1_S1x256x1_0_1_2 main_v11106
  let main_v11108 : FVec F S1x256x1 .f32 := Host.divf main_v11105 main_v11107
  let main_v11109 : FVec F S1x256x256 .f32 := broadcastInDim S1x256x256 ![0, 1, 2] bcast_S1x256x1_S1x256x256_0_1_2 main_v11108
  fn_part536 (F := F) main_arg0 main_v4875 main_v9852 main_v9886 main_v9887 main_v11103 main_v11104 main_v11109

def fn_part534 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11065 : FVec F S1x256x256 .f32) (main_v11066 : FVec F S1x1x256 .f32) (main_v11067 : FVec F S1x256x1 .f32) : IVec S9x256x256 1 × IVec S8x256x256 1 :=
  let main_v11068 : FVec F S1x1x1 .f32 := (extractStridedSlice S1x1x1 ![0, 0, 62] · slices_S1x1x256_S1x1x1_0_0_62) main_v11066
  let main_v11069 : FVec F S1x256x1 .f32 := broadcastInDim S1x256x1 ![0, 1, 2] bcast_S1x1x1_S1x256x1_0_1_2 main_v11068
  let main_v11070 : FVec F S1x256x1 .f32 := Host.divf main_v11067 main_v11069
  let main_v11071 : FVec F S1x256x256 .f32 := broadcastInDim S1x256x256 ![0, 1, 2] bcast_S1x256x1_S1x256x256_0_1_2 main_v11070
  let main_c_1747 : IVec S_ 32 := constantI S_ 32 62#32
  let main_v11072 : IVec S1x256x256 32 := broadcastInDim S1x256x256 ![] bcast_S_S1x256x256 main_c_1747
  let main_v11073 : IVec S1x256x256 1 := cmpi .sgt main_v9886 main_v11072
  let main_c_1748 : IVec S_ 32 := constantI S_ 32 62#32
  let main_v11074 : IVec S1x256x256 32 := broadcastInDim S1x256x256 ![] bcast_S_S1x256x256 main_c_1748
  let main_v11075 : IVec S1x256x256 1 := cmpi .sgt main_v9887 main_v11074
  let main_v11076 : IVec S1x256x256 1 := andi main_v11073 main_v11075
  let main_v11077 : FVec F S1x256x256 .f32 := broadcastInDim S1x256x256 ![0, 1, 2] bcast_S1x1x256_S1x256x256_0_1_2 main_v11066
  let main_v11078 : FVec F S1x256x256 .f32 := mulf main_v11071 main_v11077
  let main_v11079 : FVec F S1x256x256 .f32 := subf main_v11065 main_v11078
  let main_v11080 : FVec F S1x256x256 .f32 := select main_v11076 main_v11079 main_v11065
  let main_c_1749 : IVec S_ 32 := constantI S_ 32 62#32
  let main_v11081 : IVec S1x256x256 32 := broadcastInDim S1x256x256 ![] bcast_S_S1x256x256 main_c_1749
  let main_v11082 : IVec S1x256x256 1 := cmpi .eq main_v9887 main_v11081
  let main_v11083 : IVec S1x256x256 1 := andi main_v11073 main_v11082
  let main_v11084 : FVec F S1x256x256 .f32 := select main_v11083 main_v11071 main_v11080
  let main_v11085 : FVec F S1x1x256 .f32 := (extractStridedSlice S1x1x256 ![0, 63, 0] · slices_S1x256x256_S1x1x256_0_63_0) main_v11084
  let main_v11086 : FVec F S1x256x1 .f32 := (extractStridedSlice S1x256x1 ![0, 0, 63] · slices_S1x256x256_S1x256x1_0_0_63) main_v11084
  let main_v11087 : FVec F S1x1x1 .f32 := (extractStridedSlice S1x1x1 ![0, 0, 63] · slices_S1x1x256_S1x1x1_0_0_63) main_v11085
  let main_v11088 : FVec F S1x256x1 .f32 := broadcastInDim S1x256x1 ![0, 1, 2] bcast_S1x1x1_S1x256x1_0_1_2 main_v11087
  fn_part535 (F := F) main_arg0 main_v4875 main_v9852 main_v9886 main_v9887 main_v11084 main_v11085 main_v11086 main_v11088

def fn_part533 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11046 : FVec F S1x256x256 .f32) : IVec S9x256x256 1 × IVec S8x256x256 1 :=
  let main_v11047 : FVec F S1x1x256 .f32 := (extractStridedSlice S1x1x256 ![0, 61, 0] · slices_S1x256x256_S1x1x256_0_61_0) main_v11046
  let main_v11048 : FVec F S1x256x1 .f32 := (extractStridedSlice S1x256x1 ![0, 0, 61] · slices_S1x256x256_S1x256x1_0_0_61) main_v11046
  let main_v11049 : FVec F S1x1x1 .f32 := (extractStridedSlice S1x1x1 ![0, 0, 61] · slices_S1x1x256_S1x1x1_0_0_61) main_v11047
  let main_v11050 : FVec F S1x256x1 .f32 := broadcastInDim S1x256x1 ![0, 1, 2] bcast_S1x1x1_S1x256x1_0_1_2 main_v11049
  let main_v11051 : FVec F S1x256x1 .f32 := Host.divf main_v11048 main_v11050
  let main_v11052 : FVec F S1x256x256 .f32 := broadcastInDim S1x256x256 ![0, 1, 2] bcast_S1x256x1_S1x256x256_0_1_2 main_v11051
  let main_c_1744 : IVec S_ 32 := constantI S_ 32 61#32
  let main_v11053 : IVec S1x256x256 32 := broadcastInDim S1x256x256 ![] bcast_S_S1x256x256 main_c_1744
  let main_v11054 : IVec S1x256x256 1 := cmpi .sgt main_v9886 main_v11053
  let main_c_1745 : IVec S_ 32 := constantI S_ 32 61#32
  let main_v11055 : IVec S1x256x256 32 := broadcastInDim S1x256x256 ![] bcast_S_S1x256x256 main_c_1745
  let main_v11056 : IVec S1x256x256 1 := cmpi .sgt main_v9887 main_v11055
  let main_v11057 : IVec S1x256x256 1 := andi main_v11054 main_v11056
  let main_v11058 : FVec F S1x256x256 .f32 := broadcastInDim S1x256x256 ![0, 1, 2] bcast_S1x1x256_S1x256x256_0_1_2 main_v11047
  let main_v11059 : FVec F S1x256x256 .f32 := mulf main_v11052 main_v11058
  let main_v11060 : FVec F S1x256x256 .f32 := subf main_v11046 main_v11059
  let main_v11061 : FVec F S1x256x256 .f32 := select main_v11057 main_v11060 main_v11046
  let main_c_1746 : IVec S_ 32 := constantI S_ 32 61#32
  let main_v11062 : IVec S1x256x256 32 := broadcastInDim S1x256x256 ![] bcast_S_S1x256x256 main_c_1746
  let main_v11063 : IVec S1x256x256 1 := cmpi .eq main_v9887 main_v11062
  let main_v11064 : IVec S1x256x256 1 := andi main_v11054 main_v11063
  let main_v11065 : FVec F S1x256x256 .f32 := select main_v11064 main_v11052 main_v11061
  let main_v11066 : FVec F S1x1x256 .f32 := (extractStridedSlice S1x1x256 ![0, 62, 0] · slices_S1x256x256_S1x1x256_0_62_0) main_v11065
  let main_v11067 : FVec F S1x256x1 .f32 := (extractStridedSlice S1x256x1 ![0, 0, 62] · slices_S1x256x256_S1x256x1_0_0_62) main_v11065
  fn_part534 (F := F) main_arg0 main_v4875 main_v9852 main_v9886 main_v9887 main_v11065 main_v11066 main_v11067

def fn_part532 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v11014 : FVec F S1x256x256 .f32) (main_v11016 : IVec S1x256x256 1) (main_v11023 : FVec F S1x256x256 .f32) (main_v11025 : IVec S1x256x256 1) : IVec S9x256x256 1 × IVec S8x256x256 1 :=
  let main_v11026 : IVec S1x256x256 1 := andi main_v11016 main_v11025
  let main_v11027 : FVec F S1x256x256 .f32 := select main_v11026 main_v11014 main_v11023
  let main_v11028 : FVec F S1x1x256 .f32 := (extractStridedSlice S1x1x256 ![0, 60, 0] · slices_S1x256x256_S1x1x256_0_60_0) main_v11027
  let main_v11029 : FVec F S1x256x1 .f32 := (extractStridedSlice S1x256x1 ![0, 0, 60] · slices_S1x256x256_S1x256x1_0_0_60) main_v11027
  let main_v11030 : FVec F S1x1x1 .f32 := (extractStridedSlice S1x1x1 ![0, 0, 60] · slices_S1x1x256_S1x1x1_0_0_60) main_v11028
  let main_v11031 : FVec F S1x256x1 .f32 := broadcastInDim S1x256x1 ![0, 1, 2] bcast_S1x1x1_S1x256x1_0_1_2 main_v11030
  let main_v11032 : FVec F S1x256x1 .f32 := Host.divf main_v11029 main_v11031
  let main_v11033 : FVec F S1x256x256 .f32 := broadcastInDim S1x256x256 ![0, 1, 2] bcast_S1x256x1_S1x256x256_0_1_2 main_v11032
  let main_c_1741 : IVec S_ 32 := constantI S_ 32 60#32
  let main_v11034 : IVec S1x256x256 32 := broadcastInDim S1x256x256 ![] bcast_S_S1x256x256 main_c_1741
  let main_v11035 : IVec S1x256x256 1 := cmpi .sgt main_v9886 main_v11034
  let main_c_1742 : IVec S_ 32 := constantI S_ 32 60#32
  let main_v11036 : IVec S1x256x256 32 := broadcastInDim S1x256x256 ![] bcast_S_S1x256x256 main_c_1742
  let main_v11037 : IVec S1x256x256 1 := cmpi .sgt main_v9887 main_v11036
  let main_v11038 : IVec S1x256x256 1 := andi main_v11035 main_v11037
  let main_v11039 : FVec F S1x256x256 .f32 := broadcastInDim S1x256x256 ![0, 1, 2] bcast_S1x1x256_S1x256x256_0_1_2 main_v11028
  let main_v11040 : FVec F S1x256x256 .f32 := mulf main_v11033 main_v11039
  let main_v11041 : FVec F S1x256x256 .f32 := subf main_v11027 main_v11040
  let main_v11042 : FVec F S1x256x256 .f32 := select main_v11038 main_v11041 main_v11027
  let main_c_1743 : IVec S_ 32 := constantI S_ 32 60#32
  let main_v11043 : IVec S1x256x256 32 := broadcastInDim S1x256x256 ![] bcast_S_S1x256x256 main_c_1743
  let main_v11044 : IVec S1x256x256 1 := cmpi .eq main_v9887 main_v11043
  let main_v11045 : IVec S1x256x256 1 := andi main_v11035 main_v11044
  let main_v11046 : FVec F S1x256x256 .f32 := select main_v11045 main_v11033 main_v11042
  fn_part533 (F := F) main_arg0 main_v4875 main_v9852 main_v9886 main_v9887 main_v11046

def fn_part531 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10995 : FVec F S1x256x256 .f32) (main_v10997 : IVec S1x256x256 1) (main_v11004 : FVec F S1x256x256 .f32) (main_c_1737 : IVec S_ 32) : IVec S9x256x256 1 × IVec S8x256x256 1 :=
  let main_v11005 : IVec S1x256x256 32 := broadcastInDim S1x256x256 ![] bcast_S_S1x256x256 main_c_1737
  let main_v11006 : IVec S1x256x256 1 := cmpi .eq main_v9887 main_v11005
  let main_v11007 : IVec S1x256x256 1 := andi main_v10997 main_v11006
  let main_v11008 : FVec F S1x256x256 .f32 := select main_v11007 main_v10995 main_v11004
  let main_v11009 : FVec F S1x1x256 .f32 := (extractStridedSlice S1x1x256 ![0, 59, 0] · slices_S1x256x256_S1x1x256_0_59_0) main_v11008
  let main_v11010 : FVec F S1x256x1 .f32 := (extractStridedSlice S1x256x1 ![0, 0, 59] · slices_S1x256x256_S1x256x1_0_0_59) main_v11008
  let main_v11011 : FVec F S1x1x1 .f32 := (extractStridedSlice S1x1x1 ![0, 0, 59] · slices_S1x1x256_S1x1x1_0_0_59) main_v11009
  let main_v11012 : FVec F S1x256x1 .f32 := broadcastInDim S1x256x1 ![0, 1, 2] bcast_S1x1x1_S1x256x1_0_1_2 main_v11011
  let main_v11013 : FVec F S1x256x1 .f32 := Host.divf main_v11010 main_v11012
  let main_v11014 : FVec F S1x256x256 .f32 := broadcastInDim S1x256x256 ![0, 1, 2] bcast_S1x256x1_S1x256x256_0_1_2 main_v11013
  let main_c_1738 : IVec S_ 32 := constantI S_ 32 59#32
  let main_v11015 : IVec S1x256x256 32 := broadcastInDim S1x256x256 ![] bcast_S_S1x256x256 main_c_1738
  let main_v11016 : IVec S1x256x256 1 := cmpi .sgt main_v9886 main_v11015
  let main_c_1739 : IVec S_ 32 := constantI S_ 32 59#32
  let main_v11017 : IVec S1x256x256 32 := broadcastInDim S1x256x256 ![] bcast_S_S1x256x256 main_c_1739
  let main_v11018 : IVec S1x256x256 1 := cmpi .sgt main_v9887 main_v11017
  let main_v11019 : IVec S1x256x256 1 := andi main_v11016 main_v11018
  let main_v11020 : FVec F S1x256x256 .f32 := broadcastInDim S1x256x256 ![0, 1, 2] bcast_S1x1x256_S1x256x256_0_1_2 main_v11009
  let main_v11021 : FVec F S1x256x256 .f32 := mulf main_v11014 main_v11020
  let main_v11022 : FVec F S1x256x256 .f32 := subf main_v11008 main_v11021
  let main_v11023 : FVec F S1x256x256 .f32 := select main_v11019 main_v11022 main_v11008
  let main_c_1740 : IVec S_ 32 := constantI S_ 32 59#32
  let main_v11024 : IVec S1x256x256 32 := broadcastInDim S1x256x256 ![] bcast_S_S1x256x256 main_c_1740
  let main_v11025 : IVec S1x256x256 1 := cmpi .eq main_v9887 main_v11024
  fn_part532 (F := F) main_arg0 main_v4875 main_v9852 main_v9886 main_v9887 main_v11014 main_v11016 main_v11023 main_v11025

def fn_part530 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10970 : FVec F S1x256x256 .f32) (main_v10976 : FVec F S1x256x256 .f32) (main_v10978 : IVec S1x256x256 1) (main_v10981 : IVec S1x256x256 1) (main_v10984 : FVec F S1x256x256 .f32) : IVec S9x256x256 1 × IVec S8x256x256 1 :=
  let main_v10985 : FVec F S1x256x256 .f32 := select main_v10981 main_v10984 main_v10970
  let main_c_1734 : IVec S_ 32 := constantI S_ 32 57#32
  let main_v10986 : IVec S1x256x256 32 := broadcastInDim S1x256x256 ![] bcast_S_S1x256x256 main_c_1734
  let main_v10987 : IVec S1x256x256 1 := cmpi .eq main_v9887 main_v10986
  let main_v10988 : IVec S1x256x256 1 := andi main_v10978 main_v10987
  let main_v10989 : FVec F S1x256x256 .f32 := select main_v10988 main_v10976 main_v10985
  let main_v10990 : FVec F S1x1x256 .f32 := (extractStridedSlice S1x1x256 ![0, 58, 0] · slices_S1x256x256_S1x1x256_0_58_0) main_v10989
  let main_v10991 : FVec F S1x256x1 .f32 := (extractStridedSlice S1x256x1 ![0, 0, 58] · slices_S1x256x256_S1x256x1_0_0_58) main_v10989
  let main_v10992 : FVec F S1x1x1 .f32 := (extractStridedSlice S1x1x1 ![0, 0, 58] · slices_S1x1x256_S1x1x1_0_0_58) main_v10990
  let main_v10993 : FVec F S1x256x1 .f32 := broadcastInDim S1x256x1 ![0, 1, 2] bcast_S1x1x1_S1x256x1_0_1_2 main_v10992
  let main_v10994 : FVec F S1x256x1 .f32 := Host.divf main_v10991 main_v10993
  let main_v10995 : FVec F S1x256x256 .f32 := broadcastInDim S1x256x256 ![0, 1, 2] bcast_S1x256x1_S1x256x256_0_1_2 main_v10994
  let main_c_1735 : IVec S_ 32 := constantI S_ 32 58#32
  let main_v10996 : IVec S1x256x256 32 := broadcastInDim S1x256x256 ![] bcast_S_S1x256x256 main_c_1735
  let main_v10997 : IVec S1x256x256 1 := cmpi .sgt main_v9886 main_v10996
  let main_c_1736 : IVec S_ 32 := constantI S_ 32 58#32
  let main_v10998 : IVec S1x256x256 32 := broadcastInDim S1x256x256 ![] bcast_S_S1x256x256 main_c_1736
  let main_v10999 : IVec S1x256x256 1 := cmpi .sgt main_v9887 main_v10998
  let main_v11000 : IVec S1x256x256 1 := andi main_v10997 main_v10999
  let main_v11001 : FVec F S1x256x256 .f32 := broadcastInDim S1x256x256 ![0, 1, 2] bcast_S1x1x256_S1x256x256_0_1_2 main_v10990
  let main_v11002 : FVec F S1x256x256 .f32 := mulf main_v10995 main_v11001
  let main_v11003 : FVec F S1x256x256 .f32 := subf main_v10989 main_v11002
  let main_v11004 : FVec F S1x256x256 .f32 := select main_v11000 main_v11003 main_v10989
  let main_c_1737 : IVec S_ 32 := constantI S_ 32 58#32
  fn_part531 (F := F) main_arg0 main_v4875 main_v9852 main_v9886 main_v9887 main_v10995 main_v10997 main_v11004 main_c_1737

def fn_part529 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10951 : FVec F S1x256x256 .f32) (main_v10957 : FVec F S1x256x256 .f32) (main_v10959 : IVec S1x256x256 1) (main_v10962 : IVec S1x256x256 1) (main_v10963 : FVec F S1x256x256 .f32) : IVec S9x256x256 1 × IVec S8x256x256 1 :=
  let main_v10964 : FVec F S1x256x256 .f32 := mulf main_v10957 main_v10963
  let main_v10965 : FVec F S1x256x256 .f32 := subf main_v10951 main_v10964
  let main_v10966 : FVec F S1x256x256 .f32 := select main_v10962 main_v10965 main_v10951
  let main_c_1731 : IVec S_ 32 := constantI S_ 32 56#32
  let main_v10967 : IVec S1x256x256 32 := broadcastInDim S1x256x256 ![] bcast_S_S1x256x256 main_c_1731
  let main_v10968 : IVec S1x256x256 1 := cmpi .eq main_v9887 main_v10967
  let main_v10969 : IVec S1x256x256 1 := andi main_v10959 main_v10968
  let main_v10970 : FVec F S1x256x256 .f32 := select main_v10969 main_v10957 main_v10966
  let main_v10971 : FVec F S1x1x256 .f32 := (extractStridedSlice S1x1x256 ![0, 57, 0] · slices_S1x256x256_S1x1x256_0_57_0) main_v10970
  let main_v10972 : FVec F S1x256x1 .f32 := (extractStridedSlice S1x256x1 ![0, 0, 57] · slices_S1x256x256_S1x256x1_0_0_57) main_v10970
  let main_v10973 : FVec F S1x1x1 .f32 := (extractStridedSlice S1x1x1 ![0, 0, 57] · slices_S1x1x256_S1x1x1_0_0_57) main_v10971
  let main_v10974 : FVec F S1x256x1 .f32 := broadcastInDim S1x256x1 ![0, 1, 2] bcast_S1x1x1_S1x256x1_0_1_2 main_v10973
  let main_v10975 : FVec F S1x256x1 .f32 := Host.divf main_v10972 main_v10974
  let main_v10976 : FVec F S1x256x256 .f32 := broadcastInDim S1x256x256 ![0, 1, 2] bcast_S1x256x1_S1x256x256_0_1_2 main_v10975
  let main_c_1732 : IVec S_ 32 := constantI S_ 32 57#32
  let main_v10977 : IVec S1x256x256 32 := broadcastInDim S1x256x256 ![] bcast_S_S1x256x256 main_c_1732
  let main_v10978 : IVec S1x256x256 1 := cmpi .sgt main_v9886 main_v10977
  let main_c_1733 : IVec S_ 32 := constantI S_ 32 57#32
  let main_v10979 : IVec S1x256x256 32 := broadcastInDim S1x256x256 ![] bcast_S_S1x256x256 main_c_1733
  let main_v10980 : IVec S1x256x256 1 := cmpi .sgt main_v9887 main_v10979
  let main_v10981 : IVec S1x256x256 1 := andi main_v10978 main_v10980
  let main_v10982 : FVec F S1x256x256 .f32 := broadcastInDim S1x256x256 ![0, 1, 2] bcast_S1x1x256_S1x256x256_0_1_2 main_v10971
  let main_v10983 : FVec F S1x256x256 .f32 := mulf main_v10976 main_v10982
  let main_v10984 : FVec F S1x256x256 .f32 := subf main_v10970 main_v10983
  fn_part530 (F := F) main_arg0 main_v4875 main_v9852 main_v9886 main_v9887 main_v10970 main_v10976 main_v10978 main_v10981 main_v10984

def fn_part528 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10932 : FVec F S1x256x256 .f32) (main_v10933 : FVec F S1x1x256 .f32) (main_v10938 : FVec F S1x256x256 .f32) (main_v10940 : IVec S1x256x256 1) (main_v10942 : IVec S1x256x256 1) : IVec S9x256x256 1 × IVec S8x256x256 1 :=
  let main_v10943 : IVec S1x256x256 1 := andi main_v10940 main_v10942
  let main_v10944 : FVec F S1x256x256 .f32 := broadcastInDim S1x256x256 ![0, 1, 2] bcast_S1x1x256_S1x256x256_0_1_2 main_v10933
  let main_v10945 : FVec F S1x256x256 .f32 := mulf main_v10938 main_v10944
  let main_v10946 : FVec F S1x256x256 .f32 := subf main_v10932 main_v10945
  let main_v10947 : FVec F S1x256x256 .f32 := select main_v10943 main_v10946 main_v10932
  let main_c_1728 : IVec S_ 32 := constantI S_ 32 55#32
  let main_v10948 : IVec S1x256x256 32 := broadcastInDim S1x256x256 ![] bcast_S_S1x256x256 main_c_1728
  let main_v10949 : IVec S1x256x256 1 := cmpi .eq main_v9887 main_v10948
  let main_v10950 : IVec S1x256x256 1 := andi main_v10940 main_v10949
  let main_v10951 : FVec F S1x256x256 .f32 := select main_v10950 main_v10938 main_v10947
  let main_v10952 : FVec F S1x1x256 .f32 := (extractStridedSlice S1x1x256 ![0, 56, 0] · slices_S1x256x256_S1x1x256_0_56_0) main_v10951
  let main_v10953 : FVec F S1x256x1 .f32 := (extractStridedSlice S1x256x1 ![0, 0, 56] · slices_S1x256x256_S1x256x1_0_0_56) main_v10951
  let main_v10954 : FVec F S1x1x1 .f32 := (extractStridedSlice S1x1x1 ![0, 0, 56] · slices_S1x1x256_S1x1x1_0_0_56) main_v10952
  let main_v10955 : FVec F S1x256x1 .f32 := broadcastInDim S1x256x1 ![0, 1, 2] bcast_S1x1x1_S1x256x1_0_1_2 main_v10954
  let main_v10956 : FVec F S1x256x1 .f32 := Host.divf main_v10953 main_v10955
  let main_v10957 : FVec F S1x256x256 .f32 := broadcastInDim S1x256x256 ![0, 1, 2] bcast_S1x256x1_S1x256x256_0_1_2 main_v10956
  let main_c_1729 : IVec S_ 32 := constantI S_ 32 56#32
  let main_v10958 : IVec S1x256x256 32 := broadcastInDim S1x256x256 ![] bcast_S_S1x256x256 main_c_1729
  let main_v10959 : IVec S1x256x256 1 := cmpi .sgt main_v9886 main_v10958
  let main_c_1730 : IVec S_ 32 := constantI S_ 32 56#32
  let main_v10960 : IVec S1x256x256 32 := broadcastInDim S1x256x256 ![] bcast_S_S1x256x256 main_c_1730
  let main_v10961 : IVec S1x256x256 1 := cmpi .sgt main_v9887 main_v10960
  let main_v10962 : IVec S1x256x256 1 := andi main_v10959 main_v10961
  let main_v10963 : FVec F S1x256x256 .f32 := broadcastInDim S1x256x256 ![0, 1, 2] bcast_S1x1x256_S1x256x256_0_1_2 main_v10952
  fn_part529 (F := F) main_arg0 main_v4875 main_v9852 main_v9886 main_v9887 main_v10951 main_v10957 main_v10959 main_v10962 main_v10963

def fn_part527 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10913 : FVec F S1x256x256 .f32) (main_v10914 : FVec F S1x1x256 .f32) (main_v10919 : FVec F S1x256x256 .f32) (main_v10921 : IVec S1x256x256 1) (main_c_1724 : IVec S_ 32) : IVec S9x256x256 1 × IVec S8x256x256 1 :=
  let main_v10922 : IVec S1x256x256 32 := broadcastInDim S1x256x256 ![] bcast_S_S1x256x256 main_c_1724
  let main_v10923 : IVec S1x256x256 1 := cmpi .sgt main_v9887 main_v10922
  let main_v10924 : IVec S1x256x256 1 := andi main_v10921 main_v10923
  let main_v10925 : FVec F S1x256x256 .f32 := broadcastInDim S1x256x256 ![0, 1, 2] bcast_S1x1x256_S1x256x256_0_1_2 main_v10914
  let main_v10926 : FVec F S1x256x256 .f32 := mulf main_v10919 main_v10925
  let main_v10927 : FVec F S1x256x256 .f32 := subf main_v10913 main_v10926
  let main_v10928 : FVec F S1x256x256 .f32 := select main_v10924 main_v10927 main_v10913
  let main_c_1725 : IVec S_ 32 := constantI S_ 32 54#32
  let main_v10929 : IVec S1x256x256 32 := broadcastInDim S1x256x256 ![] bcast_S_S1x256x256 main_c_1725
  let main_v10930 : IVec S1x256x256 1 := cmpi .eq main_v9887 main_v10929
  let main_v10931 : IVec S1x256x256 1 := andi main_v10921 main_v10930
  let main_v10932 : FVec F S1x256x256 .f32 := select main_v10931 main_v10919 main_v10928
  let main_v10933 : FVec F S1x1x256 .f32 := (extractStridedSlice S1x1x256 ![0, 55, 0] · slices_S1x256x256_S1x1x256_0_55_0) main_v10932
  let main_v10934 : FVec F S1x256x1 .f32 := (extractStridedSlice S1x256x1 ![0, 0, 55] · slices_S1x256x256_S1x256x1_0_0_55) main_v10932
  let main_v10935 : FVec F S1x1x1 .f32 := (extractStridedSlice S1x1x1 ![0, 0, 55] · slices_S1x1x256_S1x1x1_0_0_55) main_v10933
  let main_v10936 : FVec F S1x256x1 .f32 := broadcastInDim S1x256x1 ![0, 1, 2] bcast_S1x1x1_S1x256x1_0_1_2 main_v10935
  let main_v10937 : FVec F S1x256x1 .f32 := Host.divf main_v10934 main_v10936
  let main_v10938 : FVec F S1x256x256 .f32 := broadcastInDim S1x256x256 ![0, 1, 2] bcast_S1x256x1_S1x256x256_0_1_2 main_v10937
  let main_c_1726 : IVec S_ 32 := constantI S_ 32 55#32
  let main_v10939 : IVec S1x256x256 32 := broadcastInDim S1x256x256 ![] bcast_S_S1x256x256 main_c_1726
  let main_v10940 : IVec S1x256x256 1 := cmpi .sgt main_v9886 main_v10939
  let main_c_1727 : IVec S_ 32 := constantI S_ 32 55#32
  let main_v10941 : IVec S1x256x256 32 := broadcastInDim S1x256x256 ![] bcast_S_S1x256x256 main_c_1727
  let main_v10942 : IVec S1x256x256 1 := cmpi .sgt main_v9887 main_v10941
  fn_part528 (F := F) main_arg0 main_v4875 main_v9852 main_v9886 main_v9887 main_v10932 main_v10933 main_v10938 main_v10940 main_v10942

def fn_part526 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10894 : FVec F S1x256x256 .f32) (main_v10895 : FVec F S1x1x256 .f32) (main_v10900 : FVec F S1x256x256 .f32) (main_v10901 : IVec S1x256x256 32) : IVec S9x256x256 1 × IVec S8x256x256 1 :=
  let main_v10902 : IVec S1x256x256 1 := cmpi .sgt main_v9886 main_v10901
  let main_c_1721 : IVec S_ 32 := constantI S_ 32 53#32
  let main_v10903 : IVec S1x256x256 32 := broadcastInDim S1x256x256 ![] bcast_S_S1x256x256 main_c_1721
  let main_v10904 : IVec S1x256x256 1 := cmpi .sgt main_v9887 main_v10903
  let main_v10905 : IVec S1x256x256 1 := andi main_v10902 main_v10904
  let main_v10906 : FVec F S1x256x256 .f32 := broadcastInDim S1x256x256 ![0, 1, 2] bcast_S1x1x256_S1x256x256_0_1_2 main_v10895
  let main_v10907 : FVec F S1x256x256 .f32 := mulf main_v10900 main_v10906
  let main_v10908 : FVec F S1x256x256 .f32 := subf main_v10894 main_v10907
  let main_v10909 : FVec F S1x256x256 .f32 := select main_v10905 main_v10908 main_v10894
  let main_c_1722 : IVec S_ 32 := constantI S_ 32 53#32
  let main_v10910 : IVec S1x256x256 32 := broadcastInDim S1x256x256 ![] bcast_S_S1x256x256 main_c_1722
  let main_v10911 : IVec S1x256x256 1 := cmpi .eq main_v9887 main_v10910
  let main_v10912 : IVec S1x256x256 1 := andi main_v10902 main_v10911
  let main_v10913 : FVec F S1x256x256 .f32 := select main_v10912 main_v10900 main_v10909
  let main_v10914 : FVec F S1x1x256 .f32 := (extractStridedSlice S1x1x256 ![0, 54, 0] · slices_S1x256x256_S1x1x256_0_54_0) main_v10913
  let main_v10915 : FVec F S1x256x1 .f32 := (extractStridedSlice S1x256x1 ![0, 0, 54] · slices_S1x256x256_S1x256x1_0_0_54) main_v10913
  let main_v10916 : FVec F S1x1x1 .f32 := (extractStridedSlice S1x1x1 ![0, 0, 54] · slices_S1x1x256_S1x1x1_0_0_54) main_v10914
  let main_v10917 : FVec F S1x256x1 .f32 := broadcastInDim S1x256x1 ![0, 1, 2] bcast_S1x1x1_S1x256x1_0_1_2 main_v10916
  let main_v10918 : FVec F S1x256x1 .f32 := Host.divf main_v10915 main_v10917
  let main_v10919 : FVec F S1x256x256 .f32 := broadcastInDim S1x256x256 ![0, 1, 2] bcast_S1x256x1_S1x256x256_0_1_2 main_v10918
  let main_c_1723 : IVec S_ 32 := constantI S_ 32 54#32
  let main_v10920 : IVec S1x256x256 32 := broadcastInDim S1x256x256 ![] bcast_S_S1x256x256 main_c_1723
  let main_v10921 : IVec S1x256x256 1 := cmpi .sgt main_v9886 main_v10920
  let main_c_1724 : IVec S_ 32 := constantI S_ 32 54#32
  fn_part527 (F := F) main_arg0 main_v4875 main_v9852 main_v9886 main_v9887 main_v10913 main_v10914 main_v10919 main_v10921 main_c_1724

def fn_part525 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10875 : FVec F S1x256x256 .f32) (main_v10876 : FVec F S1x1x256 .f32) (main_v10881 : FVec F S1x256x256 .f32) : IVec S9x256x256 1 × IVec S8x256x256 1 :=
  let main_c_1717 : IVec S_ 32 := constantI S_ 32 52#32
  let main_v10882 : IVec S1x256x256 32 := broadcastInDim S1x256x256 ![] bcast_S_S1x256x256 main_c_1717
  let main_v10883 : IVec S1x256x256 1 := cmpi .sgt main_v9886 main_v10882
  let main_c_1718 : IVec S_ 32 := constantI S_ 32 52#32
  let main_v10884 : IVec S1x256x256 32 := broadcastInDim S1x256x256 ![] bcast_S_S1x256x256 main_c_1718
  let main_v10885 : IVec S1x256x256 1 := cmpi .sgt main_v9887 main_v10884
  let main_v10886 : IVec S1x256x256 1 := andi main_v10883 main_v10885
  let main_v10887 : FVec F S1x256x256 .f32 := broadcastInDim S1x256x256 ![0, 1, 2] bcast_S1x1x256_S1x256x256_0_1_2 main_v10876
  let main_v10888 : FVec F S1x256x256 .f32 := mulf main_v10881 main_v10887
  let main_v10889 : FVec F S1x256x256 .f32 := subf main_v10875 main_v10888
  let main_v10890 : FVec F S1x256x256 .f32 := select main_v10886 main_v10889 main_v10875
  let main_c_1719 : IVec S_ 32 := constantI S_ 32 52#32
  let main_v10891 : IVec S1x256x256 32 := broadcastInDim S1x256x256 ![] bcast_S_S1x256x256 main_c_1719
  let main_v10892 : IVec S1x256x256 1 := cmpi .eq main_v9887 main_v10891
  let main_v10893 : IVec S1x256x256 1 := andi main_v10883 main_v10892
  let main_v10894 : FVec F S1x256x256 .f32 := select main_v10893 main_v10881 main_v10890
  let main_v10895 : FVec F S1x1x256 .f32 := (extractStridedSlice S1x1x256 ![0, 53, 0] · slices_S1x256x256_S1x1x256_0_53_0) main_v10894
  let main_v10896 : FVec F S1x256x1 .f32 := (extractStridedSlice S1x256x1 ![0, 0, 53] · slices_S1x256x256_S1x256x1_0_0_53) main_v10894
  let main_v10897 : FVec F S1x1x1 .f32 := (extractStridedSlice S1x1x1 ![0, 0, 53] · slices_S1x1x256_S1x1x1_0_0_53) main_v10895
  let main_v10898 : FVec F S1x256x1 .f32 := broadcastInDim S1x256x1 ![0, 1, 2] bcast_S1x1x1_S1x256x1_0_1_2 main_v10897
  let main_v10899 : FVec F S1x256x1 .f32 := Host.divf main_v10896 main_v10898
  let main_v10900 : FVec F S1x256x256 .f32 := broadcastInDim S1x256x256 ![0, 1, 2] bcast_S1x256x1_S1x256x256_0_1_2 main_v10899
  let main_c_1720 : IVec S_ 32 := constantI S_ 32 53#32
  let main_v10901 : IVec S1x256x256 32 := broadcastInDim S1x256x256 ![] bcast_S_S1x256x256 main_c_1720
  fn_part526 (F := F) main_arg0 main_v4875 main_v9852 main_v9886 main_v9887 main_v10894 main_v10895 main_v10900 main_v10901

def fn_part524 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10856 : FVec F S1x256x256 .f32) (main_v10857 : FVec F S1x1x256 .f32) (main_v10858 : FVec F S1x256x1 .f32) (main_v10860 : FVec F S1x256x1 .f32) : IVec S9x256x256 1 × IVec S8x256x256 1 :=
  let main_v10861 : FVec F S1x256x1 .f32 := Host.divf main_v10858 main_v10860
  let main_v10862 : FVec F S1x256x256 .f32 := broadcastInDim S1x256x256 ![0, 1, 2] bcast_S1x256x1_S1x256x256_0_1_2 main_v10861
  let main_c_1714 : IVec S_ 32 := constantI S_ 32 51#32
  let main_v10863 : IVec S1x256x256 32 := broadcastInDim S1x256x256 ![] bcast_S_S1x256x256 main_c_1714
  let main_v10864 : IVec S1x256x256 1 := cmpi .sgt main_v9886 main_v10863
  let main_c_1715 : IVec S_ 32 := constantI S_ 32 51#32
  let main_v10865 : IVec S1x256x256 32 := broadcastInDim S1x256x256 ![] bcast_S_S1x256x256 main_c_1715
  let main_v10866 : IVec S1x256x256 1 := cmpi .sgt main_v9887 main_v10865
  let main_v10867 : IVec S1x256x256 1 := andi main_v10864 main_v10866
  let main_v10868 : FVec F S1x256x256 .f32 := broadcastInDim S1x256x256 ![0, 1, 2] bcast_S1x1x256_S1x256x256_0_1_2 main_v10857
  let main_v10869 : FVec F S1x256x256 .f32 := mulf main_v10862 main_v10868
  let main_v10870 : FVec F S1x256x256 .f32 := subf main_v10856 main_v10869
  let main_v10871 : FVec F S1x256x256 .f32 := select main_v10867 main_v10870 main_v10856
  let main_c_1716 : IVec S_ 32 := constantI S_ 32 51#32
  let main_v10872 : IVec S1x256x256 32 := broadcastInDim S1x256x256 ![] bcast_S_S1x256x256 main_c_1716
  let main_v10873 : IVec S1x256x256 1 := cmpi .eq main_v9887 main_v10872
  let main_v10874 : IVec S1x256x256 1 := andi main_v10864 main_v10873
  let main_v10875 : FVec F S1x256x256 .f32 := select main_v10874 main_v10862 main_v10871
  let main_v10876 : FVec F S1x1x256 .f32 := (extractStridedSlice S1x1x256 ![0, 52, 0] · slices_S1x256x256_S1x1x256_0_52_0) main_v10875
  let main_v10877 : FVec F S1x256x1 .f32 := (extractStridedSlice S1x256x1 ![0, 0, 52] · slices_S1x256x256_S1x256x1_0_0_52) main_v10875
  let main_v10878 : FVec F S1x1x1 .f32 := (extractStridedSlice S1x1x1 ![0, 0, 52] · slices_S1x1x256_S1x1x1_0_0_52) main_v10876
  let main_v10879 : FVec F S1x256x1 .f32 := broadcastInDim S1x256x1 ![0, 1, 2] bcast_S1x1x1_S1x256x1_0_1_2 main_v10878
  let main_v10880 : FVec F S1x256x1 .f32 := Host.divf main_v10877 main_v10879
  let main_v10881 : FVec F S1x256x256 .f32 := broadcastInDim S1x256x256 ![0, 1, 2] bcast_S1x256x1_S1x256x256_0_1_2 main_v10880
  fn_part525 (F := F) main_arg0 main_v4875 main_v9852 main_v9886 main_v9887 main_v10875 main_v10876 main_v10881

def fn_part523 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10837 : FVec F S1x256x256 .f32) (main_v10838 : FVec F S1x1x256 .f32) (main_v10839 : FVec F S1x256x1 .f32) : IVec S9x256x256 1 × IVec S8x256x256 1 :=
  let main_v10840 : FVec F S1x1x1 .f32 := (extractStridedSlice S1x1x1 ![0, 0, 50] · slices_S1x1x256_S1x1x1_0_0_50) main_v10838
  let main_v10841 : FVec F S1x256x1 .f32 := broadcastInDim S1x256x1 ![0, 1, 2] bcast_S1x1x1_S1x256x1_0_1_2 main_v10840
  let main_v10842 : FVec F S1x256x1 .f32 := Host.divf main_v10839 main_v10841
  let main_v10843 : FVec F S1x256x256 .f32 := broadcastInDim S1x256x256 ![0, 1, 2] bcast_S1x256x1_S1x256x256_0_1_2 main_v10842
  let main_c_1711 : IVec S_ 32 := constantI S_ 32 50#32
  let main_v10844 : IVec S1x256x256 32 := broadcastInDim S1x256x256 ![] bcast_S_S1x256x256 main_c_1711
  let main_v10845 : IVec S1x256x256 1 := cmpi .sgt main_v9886 main_v10844
  let main_c_1712 : IVec S_ 32 := constantI S_ 32 50#32
  let main_v10846 : IVec S1x256x256 32 := broadcastInDim S1x256x256 ![] bcast_S_S1x256x256 main_c_1712
  let main_v10847 : IVec S1x256x256 1 := cmpi .sgt main_v9887 main_v10846
  let main_v10848 : IVec S1x256x256 1 := andi main_v10845 main_v10847
  let main_v10849 : FVec F S1x256x256 .f32 := broadcastInDim S1x256x256 ![0, 1, 2] bcast_S1x1x256_S1x256x256_0_1_2 main_v10838
  let main_v10850 : FVec F S1x256x256 .f32 := mulf main_v10843 main_v10849
  let main_v10851 : FVec F S1x256x256 .f32 := subf main_v10837 main_v10850
  let main_v10852 : FVec F S1x256x256 .f32 := select main_v10848 main_v10851 main_v10837
  let main_c_1713 : IVec S_ 32 := constantI S_ 32 50#32
  let main_v10853 : IVec S1x256x256 32 := broadcastInDim S1x256x256 ![] bcast_S_S1x256x256 main_c_1713
  let main_v10854 : IVec S1x256x256 1 := cmpi .eq main_v9887 main_v10853
  let main_v10855 : IVec S1x256x256 1 := andi main_v10845 main_v10854
  let main_v10856 : FVec F S1x256x256 .f32 := select main_v10855 main_v10843 main_v10852
  let main_v10857 : FVec F S1x1x256 .f32 := (extractStridedSlice S1x1x256 ![0, 51, 0] · slices_S1x256x256_S1x1x256_0_51_0) main_v10856
  let main_v10858 : FVec F S1x256x1 .f32 := (extractStridedSlice S1x256x1 ![0, 0, 51] · slices_S1x256x256_S1x256x1_0_0_51) main_v10856
  let main_v10859 : FVec F S1x1x1 .f32 := (extractStridedSlice S1x1x1 ![0, 0, 51] · slices_S1x1x256_S1x1x1_0_0_51) main_v10857
  let main_v10860 : FVec F S1x256x1 .f32 := broadcastInDim S1x256x1 ![0, 1, 2] bcast_S1x1x1_S1x256x1_0_1_2 main_v10859
  fn_part524 (F := F) main_arg0 main_v4875 main_v9852 main_v9886 main_v9887 main_v10856 main_v10857 main_v10858 main_v10860

def fn_part522 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10818 : FVec F S1x256x256 .f32) : IVec S9x256x256 1 × IVec S8x256x256 1 :=
  let main_v10819 : FVec F S1x1x256 .f32 := (extractStridedSlice S1x1x256 ![0, 49, 0] · slices_S1x256x256_S1x1x256_0_49_0) main_v10818
  let main_v10820 : FVec F S1x256x1 .f32 := (extractStridedSlice S1x256x1 ![0, 0, 49] · slices_S1x256x256_S1x256x1_0_0_49) main_v10818
  let main_v10821 : FVec F S1x1x1 .f32 := (extractStridedSlice S1x1x1 ![0, 0, 49] · slices_S1x1x256_S1x1x1_0_0_49) main_v10819
  let main_v10822 : FVec F S1x256x1 .f32 := broadcastInDim S1x256x1 ![0, 1, 2] bcast_S1x1x1_S1x256x1_0_1_2 main_v10821
  let main_v10823 : FVec F S1x256x1 .f32 := Host.divf main_v10820 main_v10822
  let main_v10824 : FVec F S1x256x256 .f32 := broadcastInDim S1x256x256 ![0, 1, 2] bcast_S1x256x1_S1x256x256_0_1_2 main_v10823
  let main_c_1708 : IVec S_ 32 := constantI S_ 32 49#32
  let main_v10825 : IVec S1x256x256 32 := broadcastInDim S1x256x256 ![] bcast_S_S1x256x256 main_c_1708
  let main_v10826 : IVec S1x256x256 1 := cmpi .sgt main_v9886 main_v10825
  let main_c_1709 : IVec S_ 32 := constantI S_ 32 49#32
  let main_v10827 : IVec S1x256x256 32 := broadcastInDim S1x256x256 ![] bcast_S_S1x256x256 main_c_1709
  let main_v10828 : IVec S1x256x256 1 := cmpi .sgt main_v9887 main_v10827
  let main_v10829 : IVec S1x256x256 1 := andi main_v10826 main_v10828
  let main_v10830 : FVec F S1x256x256 .f32 := broadcastInDim S1x256x256 ![0, 1, 2] bcast_S1x1x256_S1x256x256_0_1_2 main_v10819
  let main_v10831 : FVec F S1x256x256 .f32 := mulf main_v10824 main_v10830
  let main_v10832 : FVec F S1x256x256 .f32 := subf main_v10818 main_v10831
  let main_v10833 : FVec F S1x256x256 .f32 := select main_v10829 main_v10832 main_v10818
  let main_c_1710 : IVec S_ 32 := constantI S_ 32 49#32
  let main_v10834 : IVec S1x256x256 32 := broadcastInDim S1x256x256 ![] bcast_S_S1x256x256 main_c_1710
  let main_v10835 : IVec S1x256x256 1 := cmpi .eq main_v9887 main_v10834
  let main_v10836 : IVec S1x256x256 1 := andi main_v10826 main_v10835
  let main_v10837 : FVec F S1x256x256 .f32 := select main_v10836 main_v10824 main_v10833
  let main_v10838 : FVec F S1x1x256 .f32 := (extractStridedSlice S1x1x256 ![0, 50, 0] · slices_S1x256x256_S1x1x256_0_50_0) main_v10837
  let main_v10839 : FVec F S1x256x1 .f32 := (extractStridedSlice S1x256x1 ![0, 0, 50] · slices_S1x256x256_S1x256x1_0_0_50) main_v10837
  fn_part523 (F := F) main_arg0 main_v4875 main_v9852 main_v9886 main_v9887 main_v10837 main_v10838 main_v10839

def fn_part521 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10786 : FVec F S1x256x256 .f32) (main_v10788 : IVec S1x256x256 1) (main_v10795 : FVec F S1x256x256 .f32) (main_v10797 : IVec S1x256x256 1) : IVec S9x256x256 1 × IVec S8x256x256 1 :=
  let main_v10798 : IVec S1x256x256 1 := andi main_v10788 main_v10797
  let main_v10799 : FVec F S1x256x256 .f32 := select main_v10798 main_v10786 main_v10795
  let main_v10800 : FVec F S1x1x256 .f32 := (extractStridedSlice S1x1x256 ![0, 48, 0] · slices_S1x256x256_S1x1x256_0_48_0) main_v10799
  let main_v10801 : FVec F S1x256x1 .f32 := (extractStridedSlice S1x256x1 ![0, 0, 48] · slices_S1x256x256_S1x256x1_0_0_48) main_v10799
  let main_v10802 : FVec F S1x1x1 .f32 := (extractStridedSlice S1x1x1 ![0, 0, 48] · slices_S1x1x256_S1x1x1_0_0_48) main_v10800
  let main_v10803 : FVec F S1x256x1 .f32 := broadcastInDim S1x256x1 ![0, 1, 2] bcast_S1x1x1_S1x256x1_0_1_2 main_v10802
  let main_v10804 : FVec F S1x256x1 .f32 := Host.divf main_v10801 main_v10803
  let main_v10805 : FVec F S1x256x256 .f32 := broadcastInDim S1x256x256 ![0, 1, 2] bcast_S1x256x1_S1x256x256_0_1_2 main_v10804
  let main_c_1705 : IVec S_ 32 := constantI S_ 32 48#32
  let main_v10806 : IVec S1x256x256 32 := broadcastInDim S1x256x256 ![] bcast_S_S1x256x256 main_c_1705
  let main_v10807 : IVec S1x256x256 1 := cmpi .sgt main_v9886 main_v10806
  let main_c_1706 : IVec S_ 32 := constantI S_ 32 48#32
  let main_v10808 : IVec S1x256x256 32 := broadcastInDim S1x256x256 ![] bcast_S_S1x256x256 main_c_1706
  let main_v10809 : IVec S1x256x256 1 := cmpi .sgt main_v9887 main_v10808
  let main_v10810 : IVec S1x256x256 1 := andi main_v10807 main_v10809
  let main_v10811 : FVec F S1x256x256 .f32 := broadcastInDim S1x256x256 ![0, 1, 2] bcast_S1x1x256_S1x256x256_0_1_2 main_v10800
  let main_v10812 : FVec F S1x256x256 .f32 := mulf main_v10805 main_v10811
  let main_v10813 : FVec F S1x256x256 .f32 := subf main_v10799 main_v10812
  let main_v10814 : FVec F S1x256x256 .f32 := select main_v10810 main_v10813 main_v10799
  let main_c_1707 : IVec S_ 32 := constantI S_ 32 48#32
  let main_v10815 : IVec S1x256x256 32 := broadcastInDim S1x256x256 ![] bcast_S_S1x256x256 main_c_1707
  let main_v10816 : IVec S1x256x256 1 := cmpi .eq main_v9887 main_v10815
  let main_v10817 : IVec S1x256x256 1 := andi main_v10807 main_v10816
  let main_v10818 : FVec F S1x256x256 .f32 := select main_v10817 main_v10805 main_v10814
  fn_part522 (F := F) main_arg0 main_v4875 main_v9852 main_v9886 main_v9887 main_v10818

def fn_part520 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10767 : FVec F S1x256x256 .f32) (main_v10769 : IVec S1x256x256 1) (main_v10776 : FVec F S1x256x256 .f32) (main_c_1701 : IVec S_ 32) : IVec S9x256x256 1 × IVec S8x256x256 1 :=
  let main_v10777 : IVec S1x256x256 32 := broadcastInDim S1x256x256 ![] bcast_S_S1x256x256 main_c_1701
  let main_v10778 : IVec S1x256x256 1 := cmpi .eq main_v9887 main_v10777
  let main_v10779 : IVec S1x256x256 1 := andi main_v10769 main_v10778
  let main_v10780 : FVec F S1x256x256 .f32 := select main_v10779 main_v10767 main_v10776
  let main_v10781 : FVec F S1x1x256 .f32 := (extractStridedSlice S1x1x256 ![0, 47, 0] · slices_S1x256x256_S1x1x256_0_47_0) main_v10780
  let main_v10782 : FVec F S1x256x1 .f32 := (extractStridedSlice S1x256x1 ![0, 0, 47] · slices_S1x256x256_S1x256x1_0_0_47) main_v10780
  let main_v10783 : FVec F S1x1x1 .f32 := (extractStridedSlice S1x1x1 ![0, 0, 47] · slices_S1x1x256_S1x1x1_0_0_47) main_v10781
  let main_v10784 : FVec F S1x256x1 .f32 := broadcastInDim S1x256x1 ![0, 1, 2] bcast_S1x1x1_S1x256x1_0_1_2 main_v10783
  let main_v10785 : FVec F S1x256x1 .f32 := Host.divf main_v10782 main_v10784
  let main_v10786 : FVec F S1x256x256 .f32 := broadcastInDim S1x256x256 ![0, 1, 2] bcast_S1x256x1_S1x256x256_0_1_2 main_v10785
  let main_c_1702 : IVec S_ 32 := constantI S_ 32 47#32
  let main_v10787 : IVec S1x256x256 32 := broadcastInDim S1x256x256 ![] bcast_S_S1x256x256 main_c_1702
  let main_v10788 : IVec S1x256x256 1 := cmpi .sgt main_v9886 main_v10787
  let main_c_1703 : IVec S_ 32 := constantI S_ 32 47#32
  let main_v10789 : IVec S1x256x256 32 := broadcastInDim S1x256x256 ![] bcast_S_S1x256x256 main_c_1703
  let main_v10790 : IVec S1x256x256 1 := cmpi .sgt main_v9887 main_v10789
  let main_v10791 : IVec S1x256x256 1 := andi main_v10788 main_v10790
  let main_v10792 : FVec F S1x256x256 .f32 := broadcastInDim S1x256x256 ![0, 1, 2] bcast_S1x1x256_S1x256x256_0_1_2 main_v10781
  let main_v10793 : FVec F S1x256x256 .f32 := mulf main_v10786 main_v10792
  let main_v10794 : FVec F S1x256x256 .f32 := subf main_v10780 main_v10793
  let main_v10795 : FVec F S1x256x256 .f32 := select main_v10791 main_v10794 main_v10780
  let main_c_1704 : IVec S_ 32 := constantI S_ 32 47#32
  let main_v10796 : IVec S1x256x256 32 := broadcastInDim S1x256x256 ![] bcast_S_S1x256x256 main_c_1704
  let main_v10797 : IVec S1x256x256 1 := cmpi .eq main_v9887 main_v10796
  fn_part521 (F := F) main_arg0 main_v4875 main_v9852 main_v9886 main_v9887 main_v10786 main_v10788 main_v10795 main_v10797

def fn_part519 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10742 : FVec F S1x256x256 .f32) (main_v10748 : FVec F S1x256x256 .f32) (main_v10750 : IVec S1x256x256 1) (main_v10753 : IVec S1x256x256 1) (main_v10756 : FVec F S1x256x256 .f32) : IVec S9x256x256 1 × IVec S8x256x256 1 :=
  let main_v10757 : FVec F S1x256x256 .f32 := select main_v10753 main_v10756 main_v10742
  let main_c_1698 : IVec S_ 32 := constantI S_ 32 45#32
  let main_v10758 : IVec S1x256x256 32 := broadcastInDim S1x256x256 ![] bcast_S_S1x256x256 main_c_1698
  let main_v10759 : IVec S1x256x256 1 := cmpi .eq main_v9887 main_v10758
  let main_v10760 : IVec S1x256x256 1 := andi main_v10750 main_v10759
  let main_v10761 : FVec F S1x256x256 .f32 := select main_v10760 main_v10748 main_v10757
  let main_v10762 : FVec F S1x1x256 .f32 := (extractStridedSlice S1x1x256 ![0, 46, 0] · slices_S1x256x256_S1x1x256_0_46_0) main_v10761
  let main_v10763 : FVec F S1x256x1 .f32 := (extractStridedSlice S1x256x1 ![0, 0, 46] · slices_S1x256x256_S1x256x1_0_0_46) main_v10761
  let main_v10764 : FVec F S1x1x1 .f32 := (extractStridedSlice S1x1x1 ![0, 0, 46] · slices_S1x1x256_S1x1x1_0_0_46) main_v10762
  let main_v10765 : FVec F S1x256x1 .f32 := broadcastInDim S1x256x1 ![0, 1, 2] bcast_S1x1x1_S1x256x1_0_1_2 main_v10764
  let main_v10766 : FVec F S1x256x1 .f32 := Host.divf main_v10763 main_v10765
  let main_v10767 : FVec F S1x256x256 .f32 := broadcastInDim S1x256x256 ![0, 1, 2] bcast_S1x256x1_S1x256x256_0_1_2 main_v10766
  let main_c_1699 : IVec S_ 32 := constantI S_ 32 46#32
  let main_v10768 : IVec S1x256x256 32 := broadcastInDim S1x256x256 ![] bcast_S_S1x256x256 main_c_1699
  let main_v10769 : IVec S1x256x256 1 := cmpi .sgt main_v9886 main_v10768
  let main_c_1700 : IVec S_ 32 := constantI S_ 32 46#32
  let main_v10770 : IVec S1x256x256 32 := broadcastInDim S1x256x256 ![] bcast_S_S1x256x256 main_c_1700
  let main_v10771 : IVec S1x256x256 1 := cmpi .sgt main_v9887 main_v10770
  let main_v10772 : IVec S1x256x256 1 := andi main_v10769 main_v10771
  let main_v10773 : FVec F S1x256x256 .f32 := broadcastInDim S1x256x256 ![0, 1, 2] bcast_S1x1x256_S1x256x256_0_1_2 main_v10762
  let main_v10774 : FVec F S1x256x256 .f32 := mulf main_v10767 main_v10773
  let main_v10775 : FVec F S1x256x256 .f32 := subf main_v10761 main_v10774
  let main_v10776 : FVec F S1x256x256 .f32 := select main_v10772 main_v10775 main_v10761
  let main_c_1701 : IVec S_ 32 := constantI S_ 32 46#32
  fn_part520 (F := F) main_arg0 main_v4875 main_v9852 main_v9886 main_v9887 main_v10767 main_v10769 main_v10776 main_c_1701

def fn_part518 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10723 : FVec F S1x256x256 .f32) (main_v10729 : FVec F S1x256x256 .f32) (main_v10731 : IVec S1x256x256 1) (main_v10734 : IVec S1x256x256 1) (main_v10735 : FVec F S1x256x256 .f32) : IVec S9x256x256 1 × IVec S8x256x256 1 :=
  let main_v10736 : FVec F S1x256x256 .f32 := mulf main_v10729 main_v10735
  let main_v10737 : FVec F S1x256x256 .f32 := subf main_v10723 main_v10736
  let main_v10738 : FVec F S1x256x256 .f32 := select main_v10734 main_v10737 main_v10723
  let main_c_1695 : IVec S_ 32 := constantI S_ 32 44#32
  let main_v10739 : IVec S1x256x256 32 := broadcastInDim S1x256x256 ![] bcast_S_S1x256x256 main_c_1695
  let main_v10740 : IVec S1x256x256 1 := cmpi .eq main_v9887 main_v10739
  let main_v10741 : IVec S1x256x256 1 := andi main_v10731 main_v10740
  let main_v10742 : FVec F S1x256x256 .f32 := select main_v10741 main_v10729 main_v10738
  let main_v10743 : FVec F S1x1x256 .f32 := (extractStridedSlice S1x1x256 ![0, 45, 0] · slices_S1x256x256_S1x1x256_0_45_0) main_v10742
  let main_v10744 : FVec F S1x256x1 .f32 := (extractStridedSlice S1x256x1 ![0, 0, 45] · slices_S1x256x256_S1x256x1_0_0_45) main_v10742
  let main_v10745 : FVec F S1x1x1 .f32 := (extractStridedSlice S1x1x1 ![0, 0, 45] · slices_S1x1x256_S1x1x1_0_0_45) main_v10743
  let main_v10746 : FVec F S1x256x1 .f32 := broadcastInDim S1x256x1 ![0, 1, 2] bcast_S1x1x1_S1x256x1_0_1_2 main_v10745
  let main_v10747 : FVec F S1x256x1 .f32 := Host.divf main_v10744 main_v10746
  let main_v10748 : FVec F S1x256x256 .f32 := broadcastInDim S1x256x256 ![0, 1, 2] bcast_S1x256x1_S1x256x256_0_1_2 main_v10747
  let main_c_1696 : IVec S_ 32 := constantI S_ 32 45#32
  let main_v10749 : IVec S1x256x256 32 := broadcastInDim S1x256x256 ![] bcast_S_S1x256x256 main_c_1696
  let main_v10750 : IVec S1x256x256 1 := cmpi .sgt main_v9886 main_v10749
  let main_c_1697 : IVec S_ 32 := constantI S_ 32 45#32
  let main_v10751 : IVec S1x256x256 32 := broadcastInDim S1x256x256 ![] bcast_S_S1x256x256 main_c_1697
  let main_v10752 : IVec S1x256x256 1 := cmpi .sgt main_v9887 main_v10751
  let main_v10753 : IVec S1x256x256 1 := andi main_v10750 main_v10752
  let main_v10754 : FVec F S1x256x256 .f32 := broadcastInDim S1x256x256 ![0, 1, 2] bcast_S1x1x256_S1x256x256_0_1_2 main_v10743
  let main_v10755 : FVec F S1x256x256 .f32 := mulf main_v10748 main_v10754
  let main_v10756 : FVec F S1x256x256 .f32 := subf main_v10742 main_v10755
  fn_part519 (F := F) main_arg0 main_v4875 main_v9852 main_v9886 main_v9887 main_v10742 main_v10748 main_v10750 main_v10753 main_v10756

def fn_part517 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10704 : FVec F S1x256x256 .f32) (main_v10705 : FVec F S1x1x256 .f32) (main_v10710 : FVec F S1x256x256 .f32) (main_v10712 : IVec S1x256x256 1) (main_v10714 : IVec S1x256x256 1) : IVec S9x256x256 1 × IVec S8x256x256 1 :=
  let main_v10715 : IVec S1x256x256 1 := andi main_v10712 main_v10714
  let main_v10716 : FVec F S1x256x256 .f32 := broadcastInDim S1x256x256 ![0, 1, 2] bcast_S1x1x256_S1x256x256_0_1_2 main_v10705
  let main_v10717 : FVec F S1x256x256 .f32 := mulf main_v10710 main_v10716
  let main_v10718 : FVec F S1x256x256 .f32 := subf main_v10704 main_v10717
  let main_v10719 : FVec F S1x256x256 .f32 := select main_v10715 main_v10718 main_v10704
  let main_c_1692 : IVec S_ 32 := constantI S_ 32 43#32
  let main_v10720 : IVec S1x256x256 32 := broadcastInDim S1x256x256 ![] bcast_S_S1x256x256 main_c_1692
  let main_v10721 : IVec S1x256x256 1 := cmpi .eq main_v9887 main_v10720
  let main_v10722 : IVec S1x256x256 1 := andi main_v10712 main_v10721
  let main_v10723 : FVec F S1x256x256 .f32 := select main_v10722 main_v10710 main_v10719
  let main_v10724 : FVec F S1x1x256 .f32 := (extractStridedSlice S1x1x256 ![0, 44, 0] · slices_S1x256x256_S1x1x256_0_44_0) main_v10723
  let main_v10725 : FVec F S1x256x1 .f32 := (extractStridedSlice S1x256x1 ![0, 0, 44] · slices_S1x256x256_S1x256x1_0_0_44) main_v10723
  let main_v10726 : FVec F S1x1x1 .f32 := (extractStridedSlice S1x1x1 ![0, 0, 44] · slices_S1x1x256_S1x1x1_0_0_44) main_v10724
  let main_v10727 : FVec F S1x256x1 .f32 := broadcastInDim S1x256x1 ![0, 1, 2] bcast_S1x1x1_S1x256x1_0_1_2 main_v10726
  let main_v10728 : FVec F S1x256x1 .f32 := Host.divf main_v10725 main_v10727
  let main_v10729 : FVec F S1x256x256 .f32 := broadcastInDim S1x256x256 ![0, 1, 2] bcast_S1x256x1_S1x256x256_0_1_2 main_v10728
  let main_c_1693 : IVec S_ 32 := constantI S_ 32 44#32
  let main_v10730 : IVec S1x256x256 32 := broadcastInDim S1x256x256 ![] bcast_S_S1x256x256 main_c_1693
  let main_v10731 : IVec S1x256x256 1 := cmpi .sgt main_v9886 main_v10730
  let main_c_1694 : IVec S_ 32 := constantI S_ 32 44#32
  let main_v10732 : IVec S1x256x256 32 := broadcastInDim S1x256x256 ![] bcast_S_S1x256x256 main_c_1694
  let main_v10733 : IVec S1x256x256 1 := cmpi .sgt main_v9887 main_v10732
  let main_v10734 : IVec S1x256x256 1 := andi main_v10731 main_v10733
  let main_v10735 : FVec F S1x256x256 .f32 := broadcastInDim S1x256x256 ![0, 1, 2] bcast_S1x1x256_S1x256x256_0_1_2 main_v10724
  fn_part518 (F := F) main_arg0 main_v4875 main_v9852 main_v9886 main_v9887 main_v10723 main_v10729 main_v10731 main_v10734 main_v10735

def fn_part516 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10685 : FVec F S1x256x256 .f32) (main_v10686 : FVec F S1x1x256 .f32) (main_v10691 : FVec F S1x256x256 .f32) (main_v10693 : IVec S1x256x256 1) (main_c_1688 : IVec S_ 32) : IVec S9x256x256 1 × IVec S8x256x256 1 :=
  let main_v10694 : IVec S1x256x256 32 := broadcastInDim S1x256x256 ![] bcast_S_S1x256x256 main_c_1688
  let main_v10695 : IVec S1x256x256 1 := cmpi .sgt main_v9887 main_v10694
  let main_v10696 : IVec S1x256x256 1 := andi main_v10693 main_v10695
  let main_v10697 : FVec F S1x256x256 .f32 := broadcastInDim S1x256x256 ![0, 1, 2] bcast_S1x1x256_S1x256x256_0_1_2 main_v10686
  let main_v10698 : FVec F S1x256x256 .f32 := mulf main_v10691 main_v10697
  let main_v10699 : FVec F S1x256x256 .f32 := subf main_v10685 main_v10698
  let main_v10700 : FVec F S1x256x256 .f32 := select main_v10696 main_v10699 main_v10685
  let main_c_1689 : IVec S_ 32 := constantI S_ 32 42#32
  let main_v10701 : IVec S1x256x256 32 := broadcastInDim S1x256x256 ![] bcast_S_S1x256x256 main_c_1689
  let main_v10702 : IVec S1x256x256 1 := cmpi .eq main_v9887 main_v10701
  let main_v10703 : IVec S1x256x256 1 := andi main_v10693 main_v10702
  let main_v10704 : FVec F S1x256x256 .f32 := select main_v10703 main_v10691 main_v10700
  let main_v10705 : FVec F S1x1x256 .f32 := (extractStridedSlice S1x1x256 ![0, 43, 0] · slices_S1x256x256_S1x1x256_0_43_0) main_v10704
  let main_v10706 : FVec F S1x256x1 .f32 := (extractStridedSlice S1x256x1 ![0, 0, 43] · slices_S1x256x256_S1x256x1_0_0_43) main_v10704
  let main_v10707 : FVec F S1x1x1 .f32 := (extractStridedSlice S1x1x1 ![0, 0, 43] · slices_S1x1x256_S1x1x1_0_0_43) main_v10705
  let main_v10708 : FVec F S1x256x1 .f32 := broadcastInDim S1x256x1 ![0, 1, 2] bcast_S1x1x1_S1x256x1_0_1_2 main_v10707
  let main_v10709 : FVec F S1x256x1 .f32 := Host.divf main_v10706 main_v10708
  let main_v10710 : FVec F S1x256x256 .f32 := broadcastInDim S1x256x256 ![0, 1, 2] bcast_S1x256x1_S1x256x256_0_1_2 main_v10709
  let main_c_1690 : IVec S_ 32 := constantI S_ 32 43#32
  let main_v10711 : IVec S1x256x256 32 := broadcastInDim S1x256x256 ![] bcast_S_S1x256x256 main_c_1690
  let main_v10712 : IVec S1x256x256 1 := cmpi .sgt main_v9886 main_v10711
  let main_c_1691 : IVec S_ 32 := constantI S_ 32 43#32
  let main_v10713 : IVec S1x256x256 32 := broadcastInDim S1x256x256 ![] bcast_S_S1x256x256 main_c_1691
  let main_v10714 : IVec S1x256x256 1 := cmpi .sgt main_v9887 main_v10713
  fn_part517 (F := F) main_arg0 main_v4875 main_v9852 main_v9886 main_v9887 main_v10704 main_v10705 main_v10710 main_v10712 main_v10714

def fn_part515 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10666 : FVec F S1x256x256 .f32) (main_v10667 : FVec F S1x1x256 .f32) (main_v10672 : FVec F S1x256x256 .f32) (main_v10673 : IVec S1x256x256 32) : IVec S9x256x256 1 × IVec S8x256x256 1 :=
  let main_v10674 : IVec S1x256x256 1 := cmpi .sgt main_v9886 main_v10673
  let main_c_1685 : IVec S_ 32 := constantI S_ 32 41#32
  let main_v10675 : IVec S1x256x256 32 := broadcastInDim S1x256x256 ![] bcast_S_S1x256x256 main_c_1685
  let main_v10676 : IVec S1x256x256 1 := cmpi .sgt main_v9887 main_v10675
  let main_v10677 : IVec S1x256x256 1 := andi main_v10674 main_v10676
  let main_v10678 : FVec F S1x256x256 .f32 := broadcastInDim S1x256x256 ![0, 1, 2] bcast_S1x1x256_S1x256x256_0_1_2 main_v10667
  let main_v10679 : FVec F S1x256x256 .f32 := mulf main_v10672 main_v10678
  let main_v10680 : FVec F S1x256x256 .f32 := subf main_v10666 main_v10679
  let main_v10681 : FVec F S1x256x256 .f32 := select main_v10677 main_v10680 main_v10666
  let main_c_1686 : IVec S_ 32 := constantI S_ 32 41#32
  let main_v10682 : IVec S1x256x256 32 := broadcastInDim S1x256x256 ![] bcast_S_S1x256x256 main_c_1686
  let main_v10683 : IVec S1x256x256 1 := cmpi .eq main_v9887 main_v10682
  let main_v10684 : IVec S1x256x256 1 := andi main_v10674 main_v10683
  let main_v10685 : FVec F S1x256x256 .f32 := select main_v10684 main_v10672 main_v10681
  let main_v10686 : FVec F S1x1x256 .f32 := (extractStridedSlice S1x1x256 ![0, 42, 0] · slices_S1x256x256_S1x1x256_0_42_0) main_v10685
  let main_v10687 : FVec F S1x256x1 .f32 := (extractStridedSlice S1x256x1 ![0, 0, 42] · slices_S1x256x256_S1x256x1_0_0_42) main_v10685
  let main_v10688 : FVec F S1x1x1 .f32 := (extractStridedSlice S1x1x1 ![0, 0, 42] · slices_S1x1x256_S1x1x1_0_0_42) main_v10686
  let main_v10689 : FVec F S1x256x1 .f32 := broadcastInDim S1x256x1 ![0, 1, 2] bcast_S1x1x1_S1x256x1_0_1_2 main_v10688
  let main_v10690 : FVec F S1x256x1 .f32 := Host.divf main_v10687 main_v10689
  let main_v10691 : FVec F S1x256x256 .f32 := broadcastInDim S1x256x256 ![0, 1, 2] bcast_S1x256x1_S1x256x256_0_1_2 main_v10690
  let main_c_1687 : IVec S_ 32 := constantI S_ 32 42#32
  let main_v10692 : IVec S1x256x256 32 := broadcastInDim S1x256x256 ![] bcast_S_S1x256x256 main_c_1687
  let main_v10693 : IVec S1x256x256 1 := cmpi .sgt main_v9886 main_v10692
  let main_c_1688 : IVec S_ 32 := constantI S_ 32 42#32
  fn_part516 (F := F) main_arg0 main_v4875 main_v9852 main_v9886 main_v9887 main_v10685 main_v10686 main_v10691 main_v10693 main_c_1688

def fn_part514 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10647 : FVec F S1x256x256 .f32) (main_v10648 : FVec F S1x1x256 .f32) (main_v10653 : FVec F S1x256x256 .f32) : IVec S9x256x256 1 × IVec S8x256x256 1 :=
  let main_c_1681 : IVec S_ 32 := constantI S_ 32 40#32
  let main_v10654 : IVec S1x256x256 32 := broadcastInDim S1x256x256 ![] bcast_S_S1x256x256 main_c_1681
  let main_v10655 : IVec S1x256x256 1 := cmpi .sgt main_v9886 main_v10654
  let main_c_1682 : IVec S_ 32 := constantI S_ 32 40#32
  let main_v10656 : IVec S1x256x256 32 := broadcastInDim S1x256x256 ![] bcast_S_S1x256x256 main_c_1682
  let main_v10657 : IVec S1x256x256 1 := cmpi .sgt main_v9887 main_v10656
  let main_v10658 : IVec S1x256x256 1 := andi main_v10655 main_v10657
  let main_v10659 : FVec F S1x256x256 .f32 := broadcastInDim S1x256x256 ![0, 1, 2] bcast_S1x1x256_S1x256x256_0_1_2 main_v10648
  let main_v10660 : FVec F S1x256x256 .f32 := mulf main_v10653 main_v10659
  let main_v10661 : FVec F S1x256x256 .f32 := subf main_v10647 main_v10660
  let main_v10662 : FVec F S1x256x256 .f32 := select main_v10658 main_v10661 main_v10647
  let main_c_1683 : IVec S_ 32 := constantI S_ 32 40#32
  let main_v10663 : IVec S1x256x256 32 := broadcastInDim S1x256x256 ![] bcast_S_S1x256x256 main_c_1683
  let main_v10664 : IVec S1x256x256 1 := cmpi .eq main_v9887 main_v10663
  let main_v10665 : IVec S1x256x256 1 := andi main_v10655 main_v10664
  let main_v10666 : FVec F S1x256x256 .f32 := select main_v10665 main_v10653 main_v10662
  let main_v10667 : FVec F S1x1x256 .f32 := (extractStridedSlice S1x1x256 ![0, 41, 0] · slices_S1x256x256_S1x1x256_0_41_0) main_v10666
  let main_v10668 : FVec F S1x256x1 .f32 := (extractStridedSlice S1x256x1 ![0, 0, 41] · slices_S1x256x256_S1x256x1_0_0_41) main_v10666
  let main_v10669 : FVec F S1x1x1 .f32 := (extractStridedSlice S1x1x1 ![0, 0, 41] · slices_S1x1x256_S1x1x1_0_0_41) main_v10667
  let main_v10670 : FVec F S1x256x1 .f32 := broadcastInDim S1x256x1 ![0, 1, 2] bcast_S1x1x1_S1x256x1_0_1_2 main_v10669
  let main_v10671 : FVec F S1x256x1 .f32 := Host.divf main_v10668 main_v10670
  let main_v10672 : FVec F S1x256x256 .f32 := broadcastInDim S1x256x256 ![0, 1, 2] bcast_S1x256x1_S1x256x256_0_1_2 main_v10671
  let main_c_1684 : IVec S_ 32 := constantI S_ 32 41#32
  let main_v10673 : IVec S1x256x256 32 := broadcastInDim S1x256x256 ![] bcast_S_S1x256x256 main_c_1684
  fn_part515 (F := F) main_arg0 main_v4875 main_v9852 main_v9886 main_v9887 main_v10666 main_v10667 main_v10672 main_v10673

def fn_part513 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10628 : FVec F S1x256x256 .f32) (main_v10629 : FVec F S1x1x256 .f32) (main_v10630 : FVec F S1x256x1 .f32) (main_v10632 : FVec F S1x256x1 .f32) : IVec S9x256x256 1 × IVec S8x256x256 1 :=
  let main_v10633 : FVec F S1x256x1 .f32 := Host.divf main_v10630 main_v10632
  let main_v10634 : FVec F S1x256x256 .f32 := broadcastInDim S1x256x256 ![0, 1, 2] bcast_S1x256x1_S1x256x256_0_1_2 main_v10633
  let main_c_1678 : IVec S_ 32 := constantI S_ 32 39#32
  let main_v10635 : IVec S1x256x256 32 := broadcastInDim S1x256x256 ![] bcast_S_S1x256x256 main_c_1678
  let main_v10636 : IVec S1x256x256 1 := cmpi .sgt main_v9886 main_v10635
  let main_c_1679 : IVec S_ 32 := constantI S_ 32 39#32
  let main_v10637 : IVec S1x256x256 32 := broadcastInDim S1x256x256 ![] bcast_S_S1x256x256 main_c_1679
  let main_v10638 : IVec S1x256x256 1 := cmpi .sgt main_v9887 main_v10637
  let main_v10639 : IVec S1x256x256 1 := andi main_v10636 main_v10638
  let main_v10640 : FVec F S1x256x256 .f32 := broadcastInDim S1x256x256 ![0, 1, 2] bcast_S1x1x256_S1x256x256_0_1_2 main_v10629
  let main_v10641 : FVec F S1x256x256 .f32 := mulf main_v10634 main_v10640
  let main_v10642 : FVec F S1x256x256 .f32 := subf main_v10628 main_v10641
  let main_v10643 : FVec F S1x256x256 .f32 := select main_v10639 main_v10642 main_v10628
  let main_c_1680 : IVec S_ 32 := constantI S_ 32 39#32
  let main_v10644 : IVec S1x256x256 32 := broadcastInDim S1x256x256 ![] bcast_S_S1x256x256 main_c_1680
  let main_v10645 : IVec S1x256x256 1 := cmpi .eq main_v9887 main_v10644
  let main_v10646 : IVec S1x256x256 1 := andi main_v10636 main_v10645
  let main_v10647 : FVec F S1x256x256 .f32 := select main_v10646 main_v10634 main_v10643
  let main_v10648 : FVec F S1x1x256 .f32 := (extractStridedSlice S1x1x256 ![0, 40, 0] · slices_S1x256x256_S1x1x256_0_40_0) main_v10647
  let main_v10649 : FVec F S1x256x1 .f32 := (extractStridedSlice S1x256x1 ![0, 0, 40] · slices_S1x256x256_S1x256x1_0_0_40) main_v10647
  let main_v10650 : FVec F S1x1x1 .f32 := (extractStridedSlice S1x1x1 ![0, 0, 40] · slices_S1x1x256_S1x1x1_0_0_40) main_v10648
  let main_v10651 : FVec F S1x256x1 .f32 := broadcastInDim S1x256x1 ![0, 1, 2] bcast_S1x1x1_S1x256x1_0_1_2 main_v10650
  let main_v10652 : FVec F S1x256x1 .f32 := Host.divf main_v10649 main_v10651
  let main_v10653 : FVec F S1x256x256 .f32 := broadcastInDim S1x256x256 ![0, 1, 2] bcast_S1x256x1_S1x256x256_0_1_2 main_v10652
  fn_part514 (F := F) main_arg0 main_v4875 main_v9852 main_v9886 main_v9887 main_v10647 main_v10648 main_v10653

def fn_part512 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10609 : FVec F S1x256x256 .f32) (main_v10610 : FVec F S1x1x256 .f32) (main_v10611 : FVec F S1x256x1 .f32) : IVec S9x256x256 1 × IVec S8x256x256 1 :=
  let main_v10612 : FVec F S1x1x1 .f32 := (extractStridedSlice S1x1x1 ![0, 0, 38] · slices_S1x1x256_S1x1x1_0_0_38) main_v10610
  let main_v10613 : FVec F S1x256x1 .f32 := broadcastInDim S1x256x1 ![0, 1, 2] bcast_S1x1x1_S1x256x1_0_1_2 main_v10612
  let main_v10614 : FVec F S1x256x1 .f32 := Host.divf main_v10611 main_v10613
  let main_v10615 : FVec F S1x256x256 .f32 := broadcastInDim S1x256x256 ![0, 1, 2] bcast_S1x256x1_S1x256x256_0_1_2 main_v10614
  let main_c_1675 : IVec S_ 32 := constantI S_ 32 38#32
  let main_v10616 : IVec S1x256x256 32 := broadcastInDim S1x256x256 ![] bcast_S_S1x256x256 main_c_1675
  let main_v10617 : IVec S1x256x256 1 := cmpi .sgt main_v9886 main_v10616
  let main_c_1676 : IVec S_ 32 := constantI S_ 32 38#32
  let main_v10618 : IVec S1x256x256 32 := broadcastInDim S1x256x256 ![] bcast_S_S1x256x256 main_c_1676
  let main_v10619 : IVec S1x256x256 1 := cmpi .sgt main_v9887 main_v10618
  let main_v10620 : IVec S1x256x256 1 := andi main_v10617 main_v10619
  let main_v10621 : FVec F S1x256x256 .f32 := broadcastInDim S1x256x256 ![0, 1, 2] bcast_S1x1x256_S1x256x256_0_1_2 main_v10610
  let main_v10622 : FVec F S1x256x256 .f32 := mulf main_v10615 main_v10621
  let main_v10623 : FVec F S1x256x256 .f32 := subf main_v10609 main_v10622
  let main_v10624 : FVec F S1x256x256 .f32 := select main_v10620 main_v10623 main_v10609
  let main_c_1677 : IVec S_ 32 := constantI S_ 32 38#32
  let main_v10625 : IVec S1x256x256 32 := broadcastInDim S1x256x256 ![] bcast_S_S1x256x256 main_c_1677
  let main_v10626 : IVec S1x256x256 1 := cmpi .eq main_v9887 main_v10625
  let main_v10627 : IVec S1x256x256 1 := andi main_v10617 main_v10626
  let main_v10628 : FVec F S1x256x256 .f32 := select main_v10627 main_v10615 main_v10624
  let main_v10629 : FVec F S1x1x256 .f32 := (extractStridedSlice S1x1x256 ![0, 39, 0] · slices_S1x256x256_S1x1x256_0_39_0) main_v10628
  let main_v10630 : FVec F S1x256x1 .f32 := (extractStridedSlice S1x256x1 ![0, 0, 39] · slices_S1x256x256_S1x256x1_0_0_39) main_v10628
  let main_v10631 : FVec F S1x1x1 .f32 := (extractStridedSlice S1x1x1 ![0, 0, 39] · slices_S1x1x256_S1x1x1_0_0_39) main_v10629
  let main_v10632 : FVec F S1x256x1 .f32 := broadcastInDim S1x256x1 ![0, 1, 2] bcast_S1x1x1_S1x256x1_0_1_2 main_v10631
  fn_part513 (F := F) main_arg0 main_v4875 main_v9852 main_v9886 main_v9887 main_v10628 main_v10629 main_v10630 main_v10632

def fn_part511 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10590 : FVec F S1x256x256 .f32) : IVec S9x256x256 1 × IVec S8x256x256 1 :=
  let main_v10591 : FVec F S1x1x256 .f32 := (extractStridedSlice S1x1x256 ![0, 37, 0] · slices_S1x256x256_S1x1x256_0_37_0) main_v10590
  let main_v10592 : FVec F S1x256x1 .f32 := (extractStridedSlice S1x256x1 ![0, 0, 37] · slices_S1x256x256_S1x256x1_0_0_37) main_v10590
  let main_v10593 : FVec F S1x1x1 .f32 := (extractStridedSlice S1x1x1 ![0, 0, 37] · slices_S1x1x256_S1x1x1_0_0_37) main_v10591
  let main_v10594 : FVec F S1x256x1 .f32 := broadcastInDim S1x256x1 ![0, 1, 2] bcast_S1x1x1_S1x256x1_0_1_2 main_v10593
  let main_v10595 : FVec F S1x256x1 .f32 := Host.divf main_v10592 main_v10594
  let main_v10596 : FVec F S1x256x256 .f32 := broadcastInDim S1x256x256 ![0, 1, 2] bcast_S1x256x1_S1x256x256_0_1_2 main_v10595
  let main_c_1672 : IVec S_ 32 := constantI S_ 32 37#32
  let main_v10597 : IVec S1x256x256 32 := broadcastInDim S1x256x256 ![] bcast_S_S1x256x256 main_c_1672
  let main_v10598 : IVec S1x256x256 1 := cmpi .sgt main_v9886 main_v10597
  let main_c_1673 : IVec S_ 32 := constantI S_ 32 37#32
  let main_v10599 : IVec S1x256x256 32 := broadcastInDim S1x256x256 ![] bcast_S_S1x256x256 main_c_1673
  let main_v10600 : IVec S1x256x256 1 := cmpi .sgt main_v9887 main_v10599
  let main_v10601 : IVec S1x256x256 1 := andi main_v10598 main_v10600
  let main_v10602 : FVec F S1x256x256 .f32 := broadcastInDim S1x256x256 ![0, 1, 2] bcast_S1x1x256_S1x256x256_0_1_2 main_v10591
  let main_v10603 : FVec F S1x256x256 .f32 := mulf main_v10596 main_v10602
  let main_v10604 : FVec F S1x256x256 .f32 := subf main_v10590 main_v10603
  let main_v10605 : FVec F S1x256x256 .f32 := select main_v10601 main_v10604 main_v10590
  let main_c_1674 : IVec S_ 32 := constantI S_ 32 37#32
  let main_v10606 : IVec S1x256x256 32 := broadcastInDim S1x256x256 ![] bcast_S_S1x256x256 main_c_1674
  let main_v10607 : IVec S1x256x256 1 := cmpi .eq main_v9887 main_v10606
  let main_v10608 : IVec S1x256x256 1 := andi main_v10598 main_v10607
  let main_v10609 : FVec F S1x256x256 .f32 := select main_v10608 main_v10596 main_v10605
  let main_v10610 : FVec F S1x1x256 .f32 := (extractStridedSlice S1x1x256 ![0, 38, 0] · slices_S1x256x256_S1x1x256_0_38_0) main_v10609
  let main_v10611 : FVec F S1x256x1 .f32 := (extractStridedSlice S1x256x1 ![0, 0, 38] · slices_S1x256x256_S1x256x1_0_0_38) main_v10609
  fn_part512 (F := F) main_arg0 main_v4875 main_v9852 main_v9886 main_v9887 main_v10609 main_v10610 main_v10611

def fn_part510 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10558 : FVec F S1x256x256 .f32) (main_v10560 : IVec S1x256x256 1) (main_v10567 : FVec F S1x256x256 .f32) (main_v10569 : IVec S1x256x256 1) : IVec S9x256x256 1 × IVec S8x256x256 1 :=
  let main_v10570 : IVec S1x256x256 1 := andi main_v10560 main_v10569
  let main_v10571 : FVec F S1x256x256 .f32 := select main_v10570 main_v10558 main_v10567
  let main_v10572 : FVec F S1x1x256 .f32 := (extractStridedSlice S1x1x256 ![0, 36, 0] · slices_S1x256x256_S1x1x256_0_36_0) main_v10571
  let main_v10573 : FVec F S1x256x1 .f32 := (extractStridedSlice S1x256x1 ![0, 0, 36] · slices_S1x256x256_S1x256x1_0_0_36) main_v10571
  let main_v10574 : FVec F S1x1x1 .f32 := (extractStridedSlice S1x1x1 ![0, 0, 36] · slices_S1x1x256_S1x1x1_0_0_36) main_v10572
  let main_v10575 : FVec F S1x256x1 .f32 := broadcastInDim S1x256x1 ![0, 1, 2] bcast_S1x1x1_S1x256x1_0_1_2 main_v10574
  let main_v10576 : FVec F S1x256x1 .f32 := Host.divf main_v10573 main_v10575
  let main_v10577 : FVec F S1x256x256 .f32 := broadcastInDim S1x256x256 ![0, 1, 2] bcast_S1x256x1_S1x256x256_0_1_2 main_v10576
  let main_c_1669 : IVec S_ 32 := constantI S_ 32 36#32
  let main_v10578 : IVec S1x256x256 32 := broadcastInDim S1x256x256 ![] bcast_S_S1x256x256 main_c_1669
  let main_v10579 : IVec S1x256x256 1 := cmpi .sgt main_v9886 main_v10578
  let main_c_1670 : IVec S_ 32 := constantI S_ 32 36#32
  let main_v10580 : IVec S1x256x256 32 := broadcastInDim S1x256x256 ![] bcast_S_S1x256x256 main_c_1670
  let main_v10581 : IVec S1x256x256 1 := cmpi .sgt main_v9887 main_v10580
  let main_v10582 : IVec S1x256x256 1 := andi main_v10579 main_v10581
  let main_v10583 : FVec F S1x256x256 .f32 := broadcastInDim S1x256x256 ![0, 1, 2] bcast_S1x1x256_S1x256x256_0_1_2 main_v10572
  let main_v10584 : FVec F S1x256x256 .f32 := mulf main_v10577 main_v10583
  let main_v10585 : FVec F S1x256x256 .f32 := subf main_v10571 main_v10584
  let main_v10586 : FVec F S1x256x256 .f32 := select main_v10582 main_v10585 main_v10571
  let main_c_1671 : IVec S_ 32 := constantI S_ 32 36#32
  let main_v10587 : IVec S1x256x256 32 := broadcastInDim S1x256x256 ![] bcast_S_S1x256x256 main_c_1671
  let main_v10588 : IVec S1x256x256 1 := cmpi .eq main_v9887 main_v10587
  let main_v10589 : IVec S1x256x256 1 := andi main_v10579 main_v10588
  let main_v10590 : FVec F S1x256x256 .f32 := select main_v10589 main_v10577 main_v10586
  fn_part511 (F := F) main_arg0 main_v4875 main_v9852 main_v9886 main_v9887 main_v10590

def fn_part509 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10539 : FVec F S1x256x256 .f32) (main_v10541 : IVec S1x256x256 1) (main_v10548 : FVec F S1x256x256 .f32) (main_c_1665 : IVec S_ 32) : IVec S9x256x256 1 × IVec S8x256x256 1 :=
  let main_v10549 : IVec S1x256x256 32 := broadcastInDim S1x256x256 ![] bcast_S_S1x256x256 main_c_1665
  let main_v10550 : IVec S1x256x256 1 := cmpi .eq main_v9887 main_v10549
  let main_v10551 : IVec S1x256x256 1 := andi main_v10541 main_v10550
  let main_v10552 : FVec F S1x256x256 .f32 := select main_v10551 main_v10539 main_v10548
  let main_v10553 : FVec F S1x1x256 .f32 := (extractStridedSlice S1x1x256 ![0, 35, 0] · slices_S1x256x256_S1x1x256_0_35_0) main_v10552
  let main_v10554 : FVec F S1x256x1 .f32 := (extractStridedSlice S1x256x1 ![0, 0, 35] · slices_S1x256x256_S1x256x1_0_0_35) main_v10552
  let main_v10555 : FVec F S1x1x1 .f32 := (extractStridedSlice S1x1x1 ![0, 0, 35] · slices_S1x1x256_S1x1x1_0_0_35) main_v10553
  let main_v10556 : FVec F S1x256x1 .f32 := broadcastInDim S1x256x1 ![0, 1, 2] bcast_S1x1x1_S1x256x1_0_1_2 main_v10555
  let main_v10557 : FVec F S1x256x1 .f32 := Host.divf main_v10554 main_v10556
  let main_v10558 : FVec F S1x256x256 .f32 := broadcastInDim S1x256x256 ![0, 1, 2] bcast_S1x256x1_S1x256x256_0_1_2 main_v10557
  let main_c_1666 : IVec S_ 32 := constantI S_ 32 35#32
  let main_v10559 : IVec S1x256x256 32 := broadcastInDim S1x256x256 ![] bcast_S_S1x256x256 main_c_1666
  let main_v10560 : IVec S1x256x256 1 := cmpi .sgt main_v9886 main_v10559
  let main_c_1667 : IVec S_ 32 := constantI S_ 32 35#32
  let main_v10561 : IVec S1x256x256 32 := broadcastInDim S1x256x256 ![] bcast_S_S1x256x256 main_c_1667
  let main_v10562 : IVec S1x256x256 1 := cmpi .sgt main_v9887 main_v10561
  let main_v10563 : IVec S1x256x256 1 := andi main_v10560 main_v10562
  let main_v10564 : FVec F S1x256x256 .f32 := broadcastInDim S1x256x256 ![0, 1, 2] bcast_S1x1x256_S1x256x256_0_1_2 main_v10553
  let main_v10565 : FVec F S1x256x256 .f32 := mulf main_v10558 main_v10564
  let main_v10566 : FVec F S1x256x256 .f32 := subf main_v10552 main_v10565
  let main_v10567 : FVec F S1x256x256 .f32 := select main_v10563 main_v10566 main_v10552
  let main_c_1668 : IVec S_ 32 := constantI S_ 32 35#32
  let main_v10568 : IVec S1x256x256 32 := broadcastInDim S1x256x256 ![] bcast_S_S1x256x256 main_c_1668
  let main_v10569 : IVec S1x256x256 1 := cmpi .eq main_v9887 main_v10568
  fn_part510 (F := F) main_arg0 main_v4875 main_v9852 main_v9886 main_v9887 main_v10558 main_v10560 main_v10567 main_v10569

def fn_part508 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10514 : FVec F S1x256x256 .f32) (main_v10520 : FVec F S1x256x256 .f32) (main_v10522 : IVec S1x256x256 1) (main_v10525 : IVec S1x256x256 1) (main_v10528 : FVec F S1x256x256 .f32) : IVec S9x256x256 1 × IVec S8x256x256 1 :=
  let main_v10529 : FVec F S1x256x256 .f32 := select main_v10525 main_v10528 main_v10514
  let main_c_1662 : IVec S_ 32 := constantI S_ 32 33#32
  let main_v10530 : IVec S1x256x256 32 := broadcastInDim S1x256x256 ![] bcast_S_S1x256x256 main_c_1662
  let main_v10531 : IVec S1x256x256 1 := cmpi .eq main_v9887 main_v10530
  let main_v10532 : IVec S1x256x256 1 := andi main_v10522 main_v10531
  let main_v10533 : FVec F S1x256x256 .f32 := select main_v10532 main_v10520 main_v10529
  let main_v10534 : FVec F S1x1x256 .f32 := (extractStridedSlice S1x1x256 ![0, 34, 0] · slices_S1x256x256_S1x1x256_0_34_0) main_v10533
  let main_v10535 : FVec F S1x256x1 .f32 := (extractStridedSlice S1x256x1 ![0, 0, 34] · slices_S1x256x256_S1x256x1_0_0_34) main_v10533
  let main_v10536 : FVec F S1x1x1 .f32 := (extractStridedSlice S1x1x1 ![0, 0, 34] · slices_S1x1x256_S1x1x1_0_0_34) main_v10534
  let main_v10537 : FVec F S1x256x1 .f32 := broadcastInDim S1x256x1 ![0, 1, 2] bcast_S1x1x1_S1x256x1_0_1_2 main_v10536
  let main_v10538 : FVec F S1x256x1 .f32 := Host.divf main_v10535 main_v10537
  let main_v10539 : FVec F S1x256x256 .f32 := broadcastInDim S1x256x256 ![0, 1, 2] bcast_S1x256x1_S1x256x256_0_1_2 main_v10538
  let main_c_1663 : IVec S_ 32 := constantI S_ 32 34#32
  let main_v10540 : IVec S1x256x256 32 := broadcastInDim S1x256x256 ![] bcast_S_S1x256x256 main_c_1663
  let main_v10541 : IVec S1x256x256 1 := cmpi .sgt main_v9886 main_v10540
  let main_c_1664 : IVec S_ 32 := constantI S_ 32 34#32
  let main_v10542 : IVec S1x256x256 32 := broadcastInDim S1x256x256 ![] bcast_S_S1x256x256 main_c_1664
  let main_v10543 : IVec S1x256x256 1 := cmpi .sgt main_v9887 main_v10542
  let main_v10544 : IVec S1x256x256 1 := andi main_v10541 main_v10543
  let main_v10545 : FVec F S1x256x256 .f32 := broadcastInDim S1x256x256 ![0, 1, 2] bcast_S1x1x256_S1x256x256_0_1_2 main_v10534
  let main_v10546 : FVec F S1x256x256 .f32 := mulf main_v10539 main_v10545
  let main_v10547 : FVec F S1x256x256 .f32 := subf main_v10533 main_v10546
  let main_v10548 : FVec F S1x256x256 .f32 := select main_v10544 main_v10547 main_v10533
  let main_c_1665 : IVec S_ 32 := constantI S_ 32 34#32
  fn_part509 (F := F) main_arg0 main_v4875 main_v9852 main_v9886 main_v9887 main_v10539 main_v10541 main_v10548 main_c_1665

def fn_part507 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10495 : FVec F S1x256x256 .f32) (main_v10501 : FVec F S1x256x256 .f32) (main_v10503 : IVec S1x256x256 1) (main_v10506 : IVec S1x256x256 1) (main_v10507 : FVec F S1x256x256 .f32) : IVec S9x256x256 1 × IVec S8x256x256 1 :=
  let main_v10508 : FVec F S1x256x256 .f32 := mulf main_v10501 main_v10507
  let main_v10509 : FVec F S1x256x256 .f32 := subf main_v10495 main_v10508
  let main_v10510 : FVec F S1x256x256 .f32 := select main_v10506 main_v10509 main_v10495
  let main_c_1659 : IVec S_ 32 := constantI S_ 32 32#32
  let main_v10511 : IVec S1x256x256 32 := broadcastInDim S1x256x256 ![] bcast_S_S1x256x256 main_c_1659
  let main_v10512 : IVec S1x256x256 1 := cmpi .eq main_v9887 main_v10511
  let main_v10513 : IVec S1x256x256 1 := andi main_v10503 main_v10512
  let main_v10514 : FVec F S1x256x256 .f32 := select main_v10513 main_v10501 main_v10510
  let main_v10515 : FVec F S1x1x256 .f32 := (extractStridedSlice S1x1x256 ![0, 33, 0] · slices_S1x256x256_S1x1x256_0_33_0) main_v10514
  let main_v10516 : FVec F S1x256x1 .f32 := (extractStridedSlice S1x256x1 ![0, 0, 33] · slices_S1x256x256_S1x256x1_0_0_33) main_v10514
  let main_v10517 : FVec F S1x1x1 .f32 := (extractStridedSlice S1x1x1 ![0, 0, 33] · slices_S1x1x256_S1x1x1_0_0_33) main_v10515
  let main_v10518 : FVec F S1x256x1 .f32 := broadcastInDim S1x256x1 ![0, 1, 2] bcast_S1x1x1_S1x256x1_0_1_2 main_v10517
  let main_v10519 : FVec F S1x256x1 .f32 := Host.divf main_v10516 main_v10518
  let main_v10520 : FVec F S1x256x256 .f32 := broadcastInDim S1x256x256 ![0, 1, 2] bcast_S1x256x1_S1x256x256_0_1_2 main_v10519
  let main_c_1660 : IVec S_ 32 := constantI S_ 32 33#32
  let main_v10521 : IVec S1x256x256 32 := broadcastInDim S1x256x256 ![] bcast_S_S1x256x256 main_c_1660
  let main_v10522 : IVec S1x256x256 1 := cmpi .sgt main_v9886 main_v10521
  let main_c_1661 : IVec S_ 32 := constantI S_ 32 33#32
  let main_v10523 : IVec S1x256x256 32 := broadcastInDim S1x256x256 ![] bcast_S_S1x256x256 main_c_1661
  let main_v10524 : IVec S1x256x256 1 := cmpi .sgt main_v9887 main_v10523
  let main_v10525 : IVec S1x256x256 1 := andi main_v10522 main_v10524
  let main_v10526 : FVec F S1x256x256 .f32 := broadcastInDim S1x256x256 ![0, 1, 2] bcast_S1x1x256_S1x256x256_0_1_2 main_v10515
  let main_v10527 : FVec F S1x256x256 .f32 := mulf main_v10520 main_v10526
  let main_v10528 : FVec F S1x256x256 .f32 := subf main_v10514 main_v10527
  fn_part508 (F := F) main_arg0 main_v4875 main_v9852 main_v9886 main_v9887 main_v10514 main_v10520 main_v10522 main_v10525 main_v10528

def fn_part506 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10476 : FVec F S1x256x256 .f32) (main_v10477 : FVec F S1x1x256 .f32) (main_v10482 : FVec F S1x256x256 .f32) (main_v10484 : IVec S1x256x256 1) (main_v10486 : IVec S1x256x256 1) : IVec S9x256x256 1 × IVec S8x256x256 1 :=
  let main_v10487 : IVec S1x256x256 1 := andi main_v10484 main_v10486
  let main_v10488 : FVec F S1x256x256 .f32 := broadcastInDim S1x256x256 ![0, 1, 2] bcast_S1x1x256_S1x256x256_0_1_2 main_v10477
  let main_v10489 : FVec F S1x256x256 .f32 := mulf main_v10482 main_v10488
  let main_v10490 : FVec F S1x256x256 .f32 := subf main_v10476 main_v10489
  let main_v10491 : FVec F S1x256x256 .f32 := select main_v10487 main_v10490 main_v10476
  let main_c_1656 : IVec S_ 32 := constantI S_ 32 31#32
  let main_v10492 : IVec S1x256x256 32 := broadcastInDim S1x256x256 ![] bcast_S_S1x256x256 main_c_1656
  let main_v10493 : IVec S1x256x256 1 := cmpi .eq main_v9887 main_v10492
  let main_v10494 : IVec S1x256x256 1 := andi main_v10484 main_v10493
  let main_v10495 : FVec F S1x256x256 .f32 := select main_v10494 main_v10482 main_v10491
  let main_v10496 : FVec F S1x1x256 .f32 := (extractStridedSlice S1x1x256 ![0, 32, 0] · slices_S1x256x256_S1x1x256_0_32_0) main_v10495
  let main_v10497 : FVec F S1x256x1 .f32 := (extractStridedSlice S1x256x1 ![0, 0, 32] · slices_S1x256x256_S1x256x1_0_0_32) main_v10495
  let main_v10498 : FVec F S1x1x1 .f32 := (extractStridedSlice S1x1x1 ![0, 0, 32] · slices_S1x1x256_S1x1x1_0_0_32) main_v10496
  let main_v10499 : FVec F S1x256x1 .f32 := broadcastInDim S1x256x1 ![0, 1, 2] bcast_S1x1x1_S1x256x1_0_1_2 main_v10498
  let main_v10500 : FVec F S1x256x1 .f32 := Host.divf main_v10497 main_v10499
  let main_v10501 : FVec F S1x256x256 .f32 := broadcastInDim S1x256x256 ![0, 1, 2] bcast_S1x256x1_S1x256x256_0_1_2 main_v10500
  let main_c_1657 : IVec S_ 32 := constantI S_ 32 32#32
  let main_v10502 : IVec S1x256x256 32 := broadcastInDim S1x256x256 ![] bcast_S_S1x256x256 main_c_1657
  let main_v10503 : IVec S1x256x256 1 := cmpi .sgt main_v9886 main_v10502
  let main_c_1658 : IVec S_ 32 := constantI S_ 32 32#32
  let main_v10504 : IVec S1x256x256 32 := broadcastInDim S1x256x256 ![] bcast_S_S1x256x256 main_c_1658
  let main_v10505 : IVec S1x256x256 1 := cmpi .sgt main_v9887 main_v10504
  let main_v10506 : IVec S1x256x256 1 := andi main_v10503 main_v10505
  let main_v10507 : FVec F S1x256x256 .f32 := broadcastInDim S1x256x256 ![0, 1, 2] bcast_S1x1x256_S1x256x256_0_1_2 main_v10496
  fn_part507 (F := F) main_arg0 main_v4875 main_v9852 main_v9886 main_v9887 main_v10495 main_v10501 main_v10503 main_v10506 main_v10507

def fn_part505 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10457 : FVec F S1x256x256 .f32) (main_v10458 : FVec F S1x1x256 .f32) (main_v10463 : FVec F S1x256x256 .f32) (main_v10465 : IVec S1x256x256 1) (main_c_1652 : IVec S_ 32) : IVec S9x256x256 1 × IVec S8x256x256 1 :=
  let main_v10466 : IVec S1x256x256 32 := broadcastInDim S1x256x256 ![] bcast_S_S1x256x256 main_c_1652
  let main_v10467 : IVec S1x256x256 1 := cmpi .sgt main_v9887 main_v10466
  let main_v10468 : IVec S1x256x256 1 := andi main_v10465 main_v10467
  let main_v10469 : FVec F S1x256x256 .f32 := broadcastInDim S1x256x256 ![0, 1, 2] bcast_S1x1x256_S1x256x256_0_1_2 main_v10458
  let main_v10470 : FVec F S1x256x256 .f32 := mulf main_v10463 main_v10469
  let main_v10471 : FVec F S1x256x256 .f32 := subf main_v10457 main_v10470
  let main_v10472 : FVec F S1x256x256 .f32 := select main_v10468 main_v10471 main_v10457
  let main_c_1653 : IVec S_ 32 := constantI S_ 32 30#32
  let main_v10473 : IVec S1x256x256 32 := broadcastInDim S1x256x256 ![] bcast_S_S1x256x256 main_c_1653
  let main_v10474 : IVec S1x256x256 1 := cmpi .eq main_v9887 main_v10473
  let main_v10475 : IVec S1x256x256 1 := andi main_v10465 main_v10474
  let main_v10476 : FVec F S1x256x256 .f32 := select main_v10475 main_v10463 main_v10472
  let main_v10477 : FVec F S1x1x256 .f32 := (extractStridedSlice S1x1x256 ![0, 31, 0] · slices_S1x256x256_S1x1x256_0_31_0) main_v10476
  let main_v10478 : FVec F S1x256x1 .f32 := (extractStridedSlice S1x256x1 ![0, 0, 31] · slices_S1x256x256_S1x256x1_0_0_31) main_v10476
  let main_v10479 : FVec F S1x1x1 .f32 := (extractStridedSlice S1x1x1 ![0, 0, 31] · slices_S1x1x256_S1x1x1_0_0_31) main_v10477
  let main_v10480 : FVec F S1x256x1 .f32 := broadcastInDim S1x256x1 ![0, 1, 2] bcast_S1x1x1_S1x256x1_0_1_2 main_v10479
  let main_v10481 : FVec F S1x256x1 .f32 := Host.divf main_v10478 main_v10480
  let main_v10482 : FVec F S1x256x256 .f32 := broadcastInDim S1x256x256 ![0, 1, 2] bcast_S1x256x1_S1x256x256_0_1_2 main_v10481
  let main_c_1654 : IVec S_ 32 := constantI S_ 32 31#32
  let main_v10483 : IVec S1x256x256 32 := broadcastInDim S1x256x256 ![] bcast_S_S1x256x256 main_c_1654
  let main_v10484 : IVec S1x256x256 1 := cmpi .sgt main_v9886 main_v10483
  let main_c_1655 : IVec S_ 32 := constantI S_ 32 31#32
  let main_v10485 : IVec S1x256x256 32 := broadcastInDim S1x256x256 ![] bcast_S_S1x256x256 main_c_1655
  let main_v10486 : IVec S1x256x256 1 := cmpi .sgt main_v9887 main_v10485
  fn_part506 (F := F) main_arg0 main_v4875 main_v9852 main_v9886 main_v9887 main_v10476 main_v10477 main_v10482 main_v10484 main_v10486

def fn_part504 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10438 : FVec F S1x256x256 .f32) (main_v10439 : FVec F S1x1x256 .f32) (main_v10444 : FVec F S1x256x256 .f32) (main_v10445 : IVec S1x256x256 32) : IVec S9x256x256 1 × IVec S8x256x256 1 :=
  let main_v10446 : IVec S1x256x256 1 := cmpi .sgt main_v9886 main_v10445
  let main_c_1649 : IVec S_ 32 := constantI S_ 32 29#32
  let main_v10447 : IVec S1x256x256 32 := broadcastInDim S1x256x256 ![] bcast_S_S1x256x256 main_c_1649
  let main_v10448 : IVec S1x256x256 1 := cmpi .sgt main_v9887 main_v10447
  let main_v10449 : IVec S1x256x256 1 := andi main_v10446 main_v10448
  let main_v10450 : FVec F S1x256x256 .f32 := broadcastInDim S1x256x256 ![0, 1, 2] bcast_S1x1x256_S1x256x256_0_1_2 main_v10439
  let main_v10451 : FVec F S1x256x256 .f32 := mulf main_v10444 main_v10450
  let main_v10452 : FVec F S1x256x256 .f32 := subf main_v10438 main_v10451
  let main_v10453 : FVec F S1x256x256 .f32 := select main_v10449 main_v10452 main_v10438
  let main_c_1650 : IVec S_ 32 := constantI S_ 32 29#32
  let main_v10454 : IVec S1x256x256 32 := broadcastInDim S1x256x256 ![] bcast_S_S1x256x256 main_c_1650
  let main_v10455 : IVec S1x256x256 1 := cmpi .eq main_v9887 main_v10454
  let main_v10456 : IVec S1x256x256 1 := andi main_v10446 main_v10455
  let main_v10457 : FVec F S1x256x256 .f32 := select main_v10456 main_v10444 main_v10453
  let main_v10458 : FVec F S1x1x256 .f32 := (extractStridedSlice S1x1x256 ![0, 30, 0] · slices_S1x256x256_S1x1x256_0_30_0) main_v10457
  let main_v10459 : FVec F S1x256x1 .f32 := (extractStridedSlice S1x256x1 ![0, 0, 30] · slices_S1x256x256_S1x256x1_0_0_30) main_v10457
  let main_v10460 : FVec F S1x1x1 .f32 := (extractStridedSlice S1x1x1 ![0, 0, 30] · slices_S1x1x256_S1x1x1_0_0_30) main_v10458
  let main_v10461 : FVec F S1x256x1 .f32 := broadcastInDim S1x256x1 ![0, 1, 2] bcast_S1x1x1_S1x256x1_0_1_2 main_v10460
  let main_v10462 : FVec F S1x256x1 .f32 := Host.divf main_v10459 main_v10461
  let main_v10463 : FVec F S1x256x256 .f32 := broadcastInDim S1x256x256 ![0, 1, 2] bcast_S1x256x1_S1x256x256_0_1_2 main_v10462
  let main_c_1651 : IVec S_ 32 := constantI S_ 32 30#32
  let main_v10464 : IVec S1x256x256 32 := broadcastInDim S1x256x256 ![] bcast_S_S1x256x256 main_c_1651
  let main_v10465 : IVec S1x256x256 1 := cmpi .sgt main_v9886 main_v10464
  let main_c_1652 : IVec S_ 32 := constantI S_ 32 30#32
  fn_part505 (F := F) main_arg0 main_v4875 main_v9852 main_v9886 main_v9887 main_v10457 main_v10458 main_v10463 main_v10465 main_c_1652

def fn_part503 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10419 : FVec F S1x256x256 .f32) (main_v10420 : FVec F S1x1x256 .f32) (main_v10425 : FVec F S1x256x256 .f32) : IVec S9x256x256 1 × IVec S8x256x256 1 :=
  let main_c_1645 : IVec S_ 32 := constantI S_ 32 28#32
  let main_v10426 : IVec S1x256x256 32 := broadcastInDim S1x256x256 ![] bcast_S_S1x256x256 main_c_1645
  let main_v10427 : IVec S1x256x256 1 := cmpi .sgt main_v9886 main_v10426
  let main_c_1646 : IVec S_ 32 := constantI S_ 32 28#32
  let main_v10428 : IVec S1x256x256 32 := broadcastInDim S1x256x256 ![] bcast_S_S1x256x256 main_c_1646
  let main_v10429 : IVec S1x256x256 1 := cmpi .sgt main_v9887 main_v10428
  let main_v10430 : IVec S1x256x256 1 := andi main_v10427 main_v10429
  let main_v10431 : FVec F S1x256x256 .f32 := broadcastInDim S1x256x256 ![0, 1, 2] bcast_S1x1x256_S1x256x256_0_1_2 main_v10420
  let main_v10432 : FVec F S1x256x256 .f32 := mulf main_v10425 main_v10431
  let main_v10433 : FVec F S1x256x256 .f32 := subf main_v10419 main_v10432
  let main_v10434 : FVec F S1x256x256 .f32 := select main_v10430 main_v10433 main_v10419
  let main_c_1647 : IVec S_ 32 := constantI S_ 32 28#32
  let main_v10435 : IVec S1x256x256 32 := broadcastInDim S1x256x256 ![] bcast_S_S1x256x256 main_c_1647
  let main_v10436 : IVec S1x256x256 1 := cmpi .eq main_v9887 main_v10435
  let main_v10437 : IVec S1x256x256 1 := andi main_v10427 main_v10436
  let main_v10438 : FVec F S1x256x256 .f32 := select main_v10437 main_v10425 main_v10434
  let main_v10439 : FVec F S1x1x256 .f32 := (extractStridedSlice S1x1x256 ![0, 29, 0] · slices_S1x256x256_S1x1x256_0_29_0) main_v10438
  let main_v10440 : FVec F S1x256x1 .f32 := (extractStridedSlice S1x256x1 ![0, 0, 29] · slices_S1x256x256_S1x256x1_0_0_29) main_v10438
  let main_v10441 : FVec F S1x1x1 .f32 := (extractStridedSlice S1x1x1 ![0, 0, 29] · slices_S1x1x256_S1x1x1_0_0_29) main_v10439
  let main_v10442 : FVec F S1x256x1 .f32 := broadcastInDim S1x256x1 ![0, 1, 2] bcast_S1x1x1_S1x256x1_0_1_2 main_v10441
  let main_v10443 : FVec F S1x256x1 .f32 := Host.divf main_v10440 main_v10442
  let main_v10444 : FVec F S1x256x256 .f32 := broadcastInDim S1x256x256 ![0, 1, 2] bcast_S1x256x1_S1x256x256_0_1_2 main_v10443
  let main_c_1648 : IVec S_ 32 := constantI S_ 32 29#32
  let main_v10445 : IVec S1x256x256 32 := broadcastInDim S1x256x256 ![] bcast_S_S1x256x256 main_c_1648
  fn_part504 (F := F) main_arg0 main_v4875 main_v9852 main_v9886 main_v9887 main_v10438 main_v10439 main_v10444 main_v10445

def fn_part502 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10400 : FVec F S1x256x256 .f32) (main_v10401 : FVec F S1x1x256 .f32) (main_v10402 : FVec F S1x256x1 .f32) (main_v10404 : FVec F S1x256x1 .f32) : IVec S9x256x256 1 × IVec S8x256x256 1 :=
  let main_v10405 : FVec F S1x256x1 .f32 := Host.divf main_v10402 main_v10404
  let main_v10406 : FVec F S1x256x256 .f32 := broadcastInDim S1x256x256 ![0, 1, 2] bcast_S1x256x1_S1x256x256_0_1_2 main_v10405
  let main_c_1642 : IVec S_ 32 := constantI S_ 32 27#32
  let main_v10407 : IVec S1x256x256 32 := broadcastInDim S1x256x256 ![] bcast_S_S1x256x256 main_c_1642
  let main_v10408 : IVec S1x256x256 1 := cmpi .sgt main_v9886 main_v10407
  let main_c_1643 : IVec S_ 32 := constantI S_ 32 27#32
  let main_v10409 : IVec S1x256x256 32 := broadcastInDim S1x256x256 ![] bcast_S_S1x256x256 main_c_1643
  let main_v10410 : IVec S1x256x256 1 := cmpi .sgt main_v9887 main_v10409
  let main_v10411 : IVec S1x256x256 1 := andi main_v10408 main_v10410
  let main_v10412 : FVec F S1x256x256 .f32 := broadcastInDim S1x256x256 ![0, 1, 2] bcast_S1x1x256_S1x256x256_0_1_2 main_v10401
  let main_v10413 : FVec F S1x256x256 .f32 := mulf main_v10406 main_v10412
  let main_v10414 : FVec F S1x256x256 .f32 := subf main_v10400 main_v10413
  let main_v10415 : FVec F S1x256x256 .f32 := select main_v10411 main_v10414 main_v10400
  let main_c_1644 : IVec S_ 32 := constantI S_ 32 27#32
  let main_v10416 : IVec S1x256x256 32 := broadcastInDim S1x256x256 ![] bcast_S_S1x256x256 main_c_1644
  let main_v10417 : IVec S1x256x256 1 := cmpi .eq main_v9887 main_v10416
  let main_v10418 : IVec S1x256x256 1 := andi main_v10408 main_v10417
  let main_v10419 : FVec F S1x256x256 .f32 := select main_v10418 main_v10406 main_v10415
  let main_v10420 : FVec F S1x1x256 .f32 := (extractStridedSlice S1x1x256 ![0, 28, 0] · slices_S1x256x256_S1x1x256_0_28_0) main_v10419
  let main_v10421 : FVec F S1x256x1 .f32 := (extractStridedSlice S1x256x1 ![0, 0, 28] · slices_S1x256x256_S1x256x1_0_0_28) main_v10419
  let main_v10422 : FVec F S1x1x1 .f32 := (extractStridedSlice S1x1x1 ![0, 0, 28] · slices_S1x1x256_S1x1x1_0_0_28) main_v10420
  let main_v10423 : FVec F S1x256x1 .f32 := broadcastInDim S1x256x1 ![0, 1, 2] bcast_S1x1x1_S1x256x1_0_1_2 main_v10422
  let main_v10424 : FVec F S1x256x1 .f32 := Host.divf main_v10421 main_v10423
  let main_v10425 : FVec F S1x256x256 .f32 := broadcastInDim S1x256x256 ![0, 1, 2] bcast_S1x256x1_S1x256x256_0_1_2 main_v10424
  fn_part503 (F := F) main_arg0 main_v4875 main_v9852 main_v9886 main_v9887 main_v10419 main_v10420 main_v10425

def fn_part501 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10381 : FVec F S1x256x256 .f32) (main_v10382 : FVec F S1x1x256 .f32) (main_v10383 : FVec F S1x256x1 .f32) : IVec S9x256x256 1 × IVec S8x256x256 1 :=
  let main_v10384 : FVec F S1x1x1 .f32 := (extractStridedSlice S1x1x1 ![0, 0, 26] · slices_S1x1x256_S1x1x1_0_0_26) main_v10382
  let main_v10385 : FVec F S1x256x1 .f32 := broadcastInDim S1x256x1 ![0, 1, 2] bcast_S1x1x1_S1x256x1_0_1_2 main_v10384
  let main_v10386 : FVec F S1x256x1 .f32 := Host.divf main_v10383 main_v10385
  let main_v10387 : FVec F S1x256x256 .f32 := broadcastInDim S1x256x256 ![0, 1, 2] bcast_S1x256x1_S1x256x256_0_1_2 main_v10386
  let main_c_1639 : IVec S_ 32 := constantI S_ 32 26#32
  let main_v10388 : IVec S1x256x256 32 := broadcastInDim S1x256x256 ![] bcast_S_S1x256x256 main_c_1639
  let main_v10389 : IVec S1x256x256 1 := cmpi .sgt main_v9886 main_v10388
  let main_c_1640 : IVec S_ 32 := constantI S_ 32 26#32
  let main_v10390 : IVec S1x256x256 32 := broadcastInDim S1x256x256 ![] bcast_S_S1x256x256 main_c_1640
  let main_v10391 : IVec S1x256x256 1 := cmpi .sgt main_v9887 main_v10390
  let main_v10392 : IVec S1x256x256 1 := andi main_v10389 main_v10391
  let main_v10393 : FVec F S1x256x256 .f32 := broadcastInDim S1x256x256 ![0, 1, 2] bcast_S1x1x256_S1x256x256_0_1_2 main_v10382
  let main_v10394 : FVec F S1x256x256 .f32 := mulf main_v10387 main_v10393
  let main_v10395 : FVec F S1x256x256 .f32 := subf main_v10381 main_v10394
  let main_v10396 : FVec F S1x256x256 .f32 := select main_v10392 main_v10395 main_v10381
  let main_c_1641 : IVec S_ 32 := constantI S_ 32 26#32
  let main_v10397 : IVec S1x256x256 32 := broadcastInDim S1x256x256 ![] bcast_S_S1x256x256 main_c_1641
  let main_v10398 : IVec S1x256x256 1 := cmpi .eq main_v9887 main_v10397
  let main_v10399 : IVec S1x256x256 1 := andi main_v10389 main_v10398
  let main_v10400 : FVec F S1x256x256 .f32 := select main_v10399 main_v10387 main_v10396
  let main_v10401 : FVec F S1x1x256 .f32 := (extractStridedSlice S1x1x256 ![0, 27, 0] · slices_S1x256x256_S1x1x256_0_27_0) main_v10400
  let main_v10402 : FVec F S1x256x1 .f32 := (extractStridedSlice S1x256x1 ![0, 0, 27] · slices_S1x256x256_S1x256x1_0_0_27) main_v10400
  let main_v10403 : FVec F S1x1x1 .f32 := (extractStridedSlice S1x1x1 ![0, 0, 27] · slices_S1x1x256_S1x1x1_0_0_27) main_v10401
  let main_v10404 : FVec F S1x256x1 .f32 := broadcastInDim S1x256x1 ![0, 1, 2] bcast_S1x1x1_S1x256x1_0_1_2 main_v10403
  fn_part502 (F := F) main_arg0 main_v4875 main_v9852 main_v9886 main_v9887 main_v10400 main_v10401 main_v10402 main_v10404

def fn_part500 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10362 : FVec F S1x256x256 .f32) : IVec S9x256x256 1 × IVec S8x256x256 1 :=
  let main_v10363 : FVec F S1x1x256 .f32 := (extractStridedSlice S1x1x256 ![0, 25, 0] · slices_S1x256x256_S1x1x256_0_25_0) main_v10362
  let main_v10364 : FVec F S1x256x1 .f32 := (extractStridedSlice S1x256x1 ![0, 0, 25] · slices_S1x256x256_S1x256x1_0_0_25) main_v10362
  let main_v10365 : FVec F S1x1x1 .f32 := (extractStridedSlice S1x1x1 ![0, 0, 25] · slices_S1x1x256_S1x1x1_0_0_25) main_v10363
  let main_v10366 : FVec F S1x256x1 .f32 := broadcastInDim S1x256x1 ![0, 1, 2] bcast_S1x1x1_S1x256x1_0_1_2 main_v10365
  let main_v10367 : FVec F S1x256x1 .f32 := Host.divf main_v10364 main_v10366
  let main_v10368 : FVec F S1x256x256 .f32 := broadcastInDim S1x256x256 ![0, 1, 2] bcast_S1x256x1_S1x256x256_0_1_2 main_v10367
  let main_c_1636 : IVec S_ 32 := constantI S_ 32 25#32
  let main_v10369 : IVec S1x256x256 32 := broadcastInDim S1x256x256 ![] bcast_S_S1x256x256 main_c_1636
  let main_v10370 : IVec S1x256x256 1 := cmpi .sgt main_v9886 main_v10369
  let main_c_1637 : IVec S_ 32 := constantI S_ 32 25#32
  let main_v10371 : IVec S1x256x256 32 := broadcastInDim S1x256x256 ![] bcast_S_S1x256x256 main_c_1637
  let main_v10372 : IVec S1x256x256 1 := cmpi .sgt main_v9887 main_v10371
  let main_v10373 : IVec S1x256x256 1 := andi main_v10370 main_v10372
  let main_v10374 : FVec F S1x256x256 .f32 := broadcastInDim S1x256x256 ![0, 1, 2] bcast_S1x1x256_S1x256x256_0_1_2 main_v10363
  let main_v10375 : FVec F S1x256x256 .f32 := mulf main_v10368 main_v10374
  let main_v10376 : FVec F S1x256x256 .f32 := subf main_v10362 main_v10375
  let main_v10377 : FVec F S1x256x256 .f32 := select main_v10373 main_v10376 main_v10362
  let main_c_1638 : IVec S_ 32 := constantI S_ 32 25#32
  let main_v10378 : IVec S1x256x256 32 := broadcastInDim S1x256x256 ![] bcast_S_S1x256x256 main_c_1638
  let main_v10379 : IVec S1x256x256 1 := cmpi .eq main_v9887 main_v10378
  let main_v10380 : IVec S1x256x256 1 := andi main_v10370 main_v10379
  let main_v10381 : FVec F S1x256x256 .f32 := select main_v10380 main_v10368 main_v10377
  let main_v10382 : FVec F S1x1x256 .f32 := (extractStridedSlice S1x1x256 ![0, 26, 0] · slices_S1x256x256_S1x1x256_0_26_0) main_v10381
  let main_v10383 : FVec F S1x256x1 .f32 := (extractStridedSlice S1x256x1 ![0, 0, 26] · slices_S1x256x256_S1x256x1_0_0_26) main_v10381
  fn_part501 (F := F) main_arg0 main_v4875 main_v9852 main_v9886 main_v9887 main_v10381 main_v10382 main_v10383

def fn_part499 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10330 : FVec F S1x256x256 .f32) (main_v10332 : IVec S1x256x256 1) (main_v10339 : FVec F S1x256x256 .f32) (main_v10341 : IVec S1x256x256 1) : IVec S9x256x256 1 × IVec S8x256x256 1 :=
  let main_v10342 : IVec S1x256x256 1 := andi main_v10332 main_v10341
  let main_v10343 : FVec F S1x256x256 .f32 := select main_v10342 main_v10330 main_v10339
  let main_v10344 : FVec F S1x1x256 .f32 := (extractStridedSlice S1x1x256 ![0, 24, 0] · slices_S1x256x256_S1x1x256_0_24_0) main_v10343
  let main_v10345 : FVec F S1x256x1 .f32 := (extractStridedSlice S1x256x1 ![0, 0, 24] · slices_S1x256x256_S1x256x1_0_0_24) main_v10343
  let main_v10346 : FVec F S1x1x1 .f32 := (extractStridedSlice S1x1x1 ![0, 0, 24] · slices_S1x1x256_S1x1x1_0_0_24) main_v10344
  let main_v10347 : FVec F S1x256x1 .f32 := broadcastInDim S1x256x1 ![0, 1, 2] bcast_S1x1x1_S1x256x1_0_1_2 main_v10346
  let main_v10348 : FVec F S1x256x1 .f32 := Host.divf main_v10345 main_v10347
  let main_v10349 : FVec F S1x256x256 .f32 := broadcastInDim S1x256x256 ![0, 1, 2] bcast_S1x256x1_S1x256x256_0_1_2 main_v10348
  let main_c_1633 : IVec S_ 32 := constantI S_ 32 24#32
  let main_v10350 : IVec S1x256x256 32 := broadcastInDim S1x256x256 ![] bcast_S_S1x256x256 main_c_1633
  let main_v10351 : IVec S1x256x256 1 := cmpi .sgt main_v9886 main_v10350
  let main_c_1634 : IVec S_ 32 := constantI S_ 32 24#32
  let main_v10352 : IVec S1x256x256 32 := broadcastInDim S1x256x256 ![] bcast_S_S1x256x256 main_c_1634
  let main_v10353 : IVec S1x256x256 1 := cmpi .sgt main_v9887 main_v10352
  let main_v10354 : IVec S1x256x256 1 := andi main_v10351 main_v10353
  let main_v10355 : FVec F S1x256x256 .f32 := broadcastInDim S1x256x256 ![0, 1, 2] bcast_S1x1x256_S1x256x256_0_1_2 main_v10344
  let main_v10356 : FVec F S1x256x256 .f32 := mulf main_v10349 main_v10355
  let main_v10357 : FVec F S1x256x256 .f32 := subf main_v10343 main_v10356
  let main_v10358 : FVec F S1x256x256 .f32 := select main_v10354 main_v10357 main_v10343
  let main_c_1635 : IVec S_ 32 := constantI S_ 32 24#32
  let main_v10359 : IVec S1x256x256 32 := broadcastInDim S1x256x256 ![] bcast_S_S1x256x256 main_c_1635
  let main_v10360 : IVec S1x256x256 1 := cmpi .eq main_v9887 main_v10359
  let main_v10361 : IVec S1x256x256 1 := andi main_v10351 main_v10360
  let main_v10362 : FVec F S1x256x256 .f32 := select main_v10361 main_v10349 main_v10358
  fn_part500 (F := F) main_arg0 main_v4875 main_v9852 main_v9886 main_v9887 main_v10362

def fn_part498 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10311 : FVec F S1x256x256 .f32) (main_v10313 : IVec S1x256x256 1) (main_v10320 : FVec F S1x256x256 .f32) (main_c_1629 : IVec S_ 32) : IVec S9x256x256 1 × IVec S8x256x256 1 :=
  let main_v10321 : IVec S1x256x256 32 := broadcastInDim S1x256x256 ![] bcast_S_S1x256x256 main_c_1629
  let main_v10322 : IVec S1x256x256 1 := cmpi .eq main_v9887 main_v10321
  let main_v10323 : IVec S1x256x256 1 := andi main_v10313 main_v10322
  let main_v10324 : FVec F S1x256x256 .f32 := select main_v10323 main_v10311 main_v10320
  let main_v10325 : FVec F S1x1x256 .f32 := (extractStridedSlice S1x1x256 ![0, 23, 0] · slices_S1x256x256_S1x1x256_0_23_0) main_v10324
  let main_v10326 : FVec F S1x256x1 .f32 := (extractStridedSlice S1x256x1 ![0, 0, 23] · slices_S1x256x256_S1x256x1_0_0_23) main_v10324
  let main_v10327 : FVec F S1x1x1 .f32 := (extractStridedSlice S1x1x1 ![0, 0, 23] · slices_S1x1x256_S1x1x1_0_0_23) main_v10325
  let main_v10328 : FVec F S1x256x1 .f32 := broadcastInDim S1x256x1 ![0, 1, 2] bcast_S1x1x1_S1x256x1_0_1_2 main_v10327
  let main_v10329 : FVec F S1x256x1 .f32 := Host.divf main_v10326 main_v10328
  let main_v10330 : FVec F S1x256x256 .f32 := broadcastInDim S1x256x256 ![0, 1, 2] bcast_S1x256x1_S1x256x256_0_1_2 main_v10329
  let main_c_1630 : IVec S_ 32 := constantI S_ 32 23#32
  let main_v10331 : IVec S1x256x256 32 := broadcastInDim S1x256x256 ![] bcast_S_S1x256x256 main_c_1630
  let main_v10332 : IVec S1x256x256 1 := cmpi .sgt main_v9886 main_v10331
  let main_c_1631 : IVec S_ 32 := constantI S_ 32 23#32
  let main_v10333 : IVec S1x256x256 32 := broadcastInDim S1x256x256 ![] bcast_S_S1x256x256 main_c_1631
  let main_v10334 : IVec S1x256x256 1 := cmpi .sgt main_v9887 main_v10333
  let main_v10335 : IVec S1x256x256 1 := andi main_v10332 main_v10334
  let main_v10336 : FVec F S1x256x256 .f32 := broadcastInDim S1x256x256 ![0, 1, 2] bcast_S1x1x256_S1x256x256_0_1_2 main_v10325
  let main_v10337 : FVec F S1x256x256 .f32 := mulf main_v10330 main_v10336
  let main_v10338 : FVec F S1x256x256 .f32 := subf main_v10324 main_v10337
  let main_v10339 : FVec F S1x256x256 .f32 := select main_v10335 main_v10338 main_v10324
  let main_c_1632 : IVec S_ 32 := constantI S_ 32 23#32
  let main_v10340 : IVec S1x256x256 32 := broadcastInDim S1x256x256 ![] bcast_S_S1x256x256 main_c_1632
  let main_v10341 : IVec S1x256x256 1 := cmpi .eq main_v9887 main_v10340
  fn_part499 (F := F) main_arg0 main_v4875 main_v9852 main_v9886 main_v9887 main_v10330 main_v10332 main_v10339 main_v10341

def fn_part497 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10286 : FVec F S1x256x256 .f32) (main_v10292 : FVec F S1x256x256 .f32) (main_v10294 : IVec S1x256x256 1) (main_v10297 : IVec S1x256x256 1) (main_v10300 : FVec F S1x256x256 .f32) : IVec S9x256x256 1 × IVec S8x256x256 1 :=
  let main_v10301 : FVec F S1x256x256 .f32 := select main_v10297 main_v10300 main_v10286
  let main_c_1626 : IVec S_ 32 := constantI S_ 32 21#32
  let main_v10302 : IVec S1x256x256 32 := broadcastInDim S1x256x256 ![] bcast_S_S1x256x256 main_c_1626
  let main_v10303 : IVec S1x256x256 1 := cmpi .eq main_v9887 main_v10302
  let main_v10304 : IVec S1x256x256 1 := andi main_v10294 main_v10303
  let main_v10305 : FVec F S1x256x256 .f32 := select main_v10304 main_v10292 main_v10301
  let main_v10306 : FVec F S1x1x256 .f32 := (extractStridedSlice S1x1x256 ![0, 22, 0] · slices_S1x256x256_S1x1x256_0_22_0) main_v10305
  let main_v10307 : FVec F S1x256x1 .f32 := (extractStridedSlice S1x256x1 ![0, 0, 22] · slices_S1x256x256_S1x256x1_0_0_22) main_v10305
  let main_v10308 : FVec F S1x1x1 .f32 := (extractStridedSlice S1x1x1 ![0, 0, 22] · slices_S1x1x256_S1x1x1_0_0_22) main_v10306
  let main_v10309 : FVec F S1x256x1 .f32 := broadcastInDim S1x256x1 ![0, 1, 2] bcast_S1x1x1_S1x256x1_0_1_2 main_v10308
  let main_v10310 : FVec F S1x256x1 .f32 := Host.divf main_v10307 main_v10309
  let main_v10311 : FVec F S1x256x256 .f32 := broadcastInDim S1x256x256 ![0, 1, 2] bcast_S1x256x1_S1x256x256_0_1_2 main_v10310
  let main_c_1627 : IVec S_ 32 := constantI S_ 32 22#32
  let main_v10312 : IVec S1x256x256 32 := broadcastInDim S1x256x256 ![] bcast_S_S1x256x256 main_c_1627
  let main_v10313 : IVec S1x256x256 1 := cmpi .sgt main_v9886 main_v10312
  let main_c_1628 : IVec S_ 32 := constantI S_ 32 22#32
  let main_v10314 : IVec S1x256x256 32 := broadcastInDim S1x256x256 ![] bcast_S_S1x256x256 main_c_1628
  let main_v10315 : IVec S1x256x256 1 := cmpi .sgt main_v9887 main_v10314
  let main_v10316 : IVec S1x256x256 1 := andi main_v10313 main_v10315
  let main_v10317 : FVec F S1x256x256 .f32 := broadcastInDim S1x256x256 ![0, 1, 2] bcast_S1x1x256_S1x256x256_0_1_2 main_v10306
  let main_v10318 : FVec F S1x256x256 .f32 := mulf main_v10311 main_v10317
  let main_v10319 : FVec F S1x256x256 .f32 := subf main_v10305 main_v10318
  let main_v10320 : FVec F S1x256x256 .f32 := select main_v10316 main_v10319 main_v10305
  let main_c_1629 : IVec S_ 32 := constantI S_ 32 22#32
  fn_part498 (F := F) main_arg0 main_v4875 main_v9852 main_v9886 main_v9887 main_v10311 main_v10313 main_v10320 main_c_1629

def fn_part496 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10267 : FVec F S1x256x256 .f32) (main_v10273 : FVec F S1x256x256 .f32) (main_v10275 : IVec S1x256x256 1) (main_v10278 : IVec S1x256x256 1) (main_v10279 : FVec F S1x256x256 .f32) : IVec S9x256x256 1 × IVec S8x256x256 1 :=
  let main_v10280 : FVec F S1x256x256 .f32 := mulf main_v10273 main_v10279
  let main_v10281 : FVec F S1x256x256 .f32 := subf main_v10267 main_v10280
  let main_v10282 : FVec F S1x256x256 .f32 := select main_v10278 main_v10281 main_v10267
  let main_c_1623 : IVec S_ 32 := constantI S_ 32 20#32
  let main_v10283 : IVec S1x256x256 32 := broadcastInDim S1x256x256 ![] bcast_S_S1x256x256 main_c_1623
  let main_v10284 : IVec S1x256x256 1 := cmpi .eq main_v9887 main_v10283
  let main_v10285 : IVec S1x256x256 1 := andi main_v10275 main_v10284
  let main_v10286 : FVec F S1x256x256 .f32 := select main_v10285 main_v10273 main_v10282
  let main_v10287 : FVec F S1x1x256 .f32 := (extractStridedSlice S1x1x256 ![0, 21, 0] · slices_S1x256x256_S1x1x256_0_21_0) main_v10286
  let main_v10288 : FVec F S1x256x1 .f32 := (extractStridedSlice S1x256x1 ![0, 0, 21] · slices_S1x256x256_S1x256x1_0_0_21) main_v10286
  let main_v10289 : FVec F S1x1x1 .f32 := (extractStridedSlice S1x1x1 ![0, 0, 21] · slices_S1x1x256_S1x1x1_0_0_21) main_v10287
  let main_v10290 : FVec F S1x256x1 .f32 := broadcastInDim S1x256x1 ![0, 1, 2] bcast_S1x1x1_S1x256x1_0_1_2 main_v10289
  let main_v10291 : FVec F S1x256x1 .f32 := Host.divf main_v10288 main_v10290
  let main_v10292 : FVec F S1x256x256 .f32 := broadcastInDim S1x256x256 ![0, 1, 2] bcast_S1x256x1_S1x256x256_0_1_2 main_v10291
  let main_c_1624 : IVec S_ 32 := constantI S_ 32 21#32
  let main_v10293 : IVec S1x256x256 32 := broadcastInDim S1x256x256 ![] bcast_S_S1x256x256 main_c_1624
  let main_v10294 : IVec S1x256x256 1 := cmpi .sgt main_v9886 main_v10293
  let main_c_1625 : IVec S_ 32 := constantI S_ 32 21#32
  let main_v10295 : IVec S1x256x256 32 := broadcastInDim S1x256x256 ![] bcast_S_S1x256x256 main_c_1625
  let main_v10296 : IVec S1x256x256 1 := cmpi .sgt main_v9887 main_v10295
  let main_v10297 : IVec S1x256x256 1 := andi main_v10294 main_v10296
  let main_v10298 : FVec F S1x256x256 .f32 := broadcastInDim S1x256x256 ![0, 1, 2] bcast_S1x1x256_S1x256x256_0_1_2 main_v10287
  let main_v10299 : FVec F S1x256x256 .f32 := mulf main_v10292 main_v10298
  let main_v10300 : FVec F S1x256x256 .f32 := subf main_v10286 main_v10299
  fn_part497 (F := F) main_arg0 main_v4875 main_v9852 main_v9886 main_v9887 main_v10286 main_v10292 main_v10294 main_v10297 main_v10300

def fn_part495 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10248 : FVec F S1x256x256 .f32) (main_v10249 : FVec F S1x1x256 .f32) (main_v10254 : FVec F S1x256x256 .f32) (main_v10256 : IVec S1x256x256 1) (main_v10258 : IVec S1x256x256 1) : IVec S9x256x256 1 × IVec S8x256x256 1 :=
  let main_v10259 : IVec S1x256x256 1 := andi main_v10256 main_v10258
  let main_v10260 : FVec F S1x256x256 .f32 := broadcastInDim S1x256x256 ![0, 1, 2] bcast_S1x1x256_S1x256x256_0_1_2 main_v10249
  let main_v10261 : FVec F S1x256x256 .f32 := mulf main_v10254 main_v10260
  let main_v10262 : FVec F S1x256x256 .f32 := subf main_v10248 main_v10261
  let main_v10263 : FVec F S1x256x256 .f32 := select main_v10259 main_v10262 main_v10248
  let main_c_1620 : IVec S_ 32 := constantI S_ 32 19#32
  let main_v10264 : IVec S1x256x256 32 := broadcastInDim S1x256x256 ![] bcast_S_S1x256x256 main_c_1620
  let main_v10265 : IVec S1x256x256 1 := cmpi .eq main_v9887 main_v10264
  let main_v10266 : IVec S1x256x256 1 := andi main_v10256 main_v10265
  let main_v10267 : FVec F S1x256x256 .f32 := select main_v10266 main_v10254 main_v10263
  let main_v10268 : FVec F S1x1x256 .f32 := (extractStridedSlice S1x1x256 ![0, 20, 0] · slices_S1x256x256_S1x1x256_0_20_0) main_v10267
  let main_v10269 : FVec F S1x256x1 .f32 := (extractStridedSlice S1x256x1 ![0, 0, 20] · slices_S1x256x256_S1x256x1_0_0_20) main_v10267
  let main_v10270 : FVec F S1x1x1 .f32 := (extractStridedSlice S1x1x1 ![0, 0, 20] · slices_S1x1x256_S1x1x1_0_0_20) main_v10268
  let main_v10271 : FVec F S1x256x1 .f32 := broadcastInDim S1x256x1 ![0, 1, 2] bcast_S1x1x1_S1x256x1_0_1_2 main_v10270
  let main_v10272 : FVec F S1x256x1 .f32 := Host.divf main_v10269 main_v10271
  let main_v10273 : FVec F S1x256x256 .f32 := broadcastInDim S1x256x256 ![0, 1, 2] bcast_S1x256x1_S1x256x256_0_1_2 main_v10272
  let main_c_1621 : IVec S_ 32 := constantI S_ 32 20#32
  let main_v10274 : IVec S1x256x256 32 := broadcastInDim S1x256x256 ![] bcast_S_S1x256x256 main_c_1621
  let main_v10275 : IVec S1x256x256 1 := cmpi .sgt main_v9886 main_v10274
  let main_c_1622 : IVec S_ 32 := constantI S_ 32 20#32
  let main_v10276 : IVec S1x256x256 32 := broadcastInDim S1x256x256 ![] bcast_S_S1x256x256 main_c_1622
  let main_v10277 : IVec S1x256x256 1 := cmpi .sgt main_v9887 main_v10276
  let main_v10278 : IVec S1x256x256 1 := andi main_v10275 main_v10277
  let main_v10279 : FVec F S1x256x256 .f32 := broadcastInDim S1x256x256 ![0, 1, 2] bcast_S1x1x256_S1x256x256_0_1_2 main_v10268
  fn_part496 (F := F) main_arg0 main_v4875 main_v9852 main_v9886 main_v9887 main_v10267 main_v10273 main_v10275 main_v10278 main_v10279

def fn_part494 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10229 : FVec F S1x256x256 .f32) (main_v10230 : FVec F S1x1x256 .f32) (main_v10235 : FVec F S1x256x256 .f32) (main_v10237 : IVec S1x256x256 1) (main_c_1616 : IVec S_ 32) : IVec S9x256x256 1 × IVec S8x256x256 1 :=
  let main_v10238 : IVec S1x256x256 32 := broadcastInDim S1x256x256 ![] bcast_S_S1x256x256 main_c_1616
  let main_v10239 : IVec S1x256x256 1 := cmpi .sgt main_v9887 main_v10238
  let main_v10240 : IVec S1x256x256 1 := andi main_v10237 main_v10239
  let main_v10241 : FVec F S1x256x256 .f32 := broadcastInDim S1x256x256 ![0, 1, 2] bcast_S1x1x256_S1x256x256_0_1_2 main_v10230
  let main_v10242 : FVec F S1x256x256 .f32 := mulf main_v10235 main_v10241
  let main_v10243 : FVec F S1x256x256 .f32 := subf main_v10229 main_v10242
  let main_v10244 : FVec F S1x256x256 .f32 := select main_v10240 main_v10243 main_v10229
  let main_c_1617 : IVec S_ 32 := constantI S_ 32 18#32
  let main_v10245 : IVec S1x256x256 32 := broadcastInDim S1x256x256 ![] bcast_S_S1x256x256 main_c_1617
  let main_v10246 : IVec S1x256x256 1 := cmpi .eq main_v9887 main_v10245
  let main_v10247 : IVec S1x256x256 1 := andi main_v10237 main_v10246
  let main_v10248 : FVec F S1x256x256 .f32 := select main_v10247 main_v10235 main_v10244
  let main_v10249 : FVec F S1x1x256 .f32 := (extractStridedSlice S1x1x256 ![0, 19, 0] · slices_S1x256x256_S1x1x256_0_19_0) main_v10248
  let main_v10250 : FVec F S1x256x1 .f32 := (extractStridedSlice S1x256x1 ![0, 0, 19] · slices_S1x256x256_S1x256x1_0_0_19) main_v10248
  let main_v10251 : FVec F S1x1x1 .f32 := (extractStridedSlice S1x1x1 ![0, 0, 19] · slices_S1x1x256_S1x1x1_0_0_19) main_v10249
  let main_v10252 : FVec F S1x256x1 .f32 := broadcastInDim S1x256x1 ![0, 1, 2] bcast_S1x1x1_S1x256x1_0_1_2 main_v10251
  let main_v10253 : FVec F S1x256x1 .f32 := Host.divf main_v10250 main_v10252
  let main_v10254 : FVec F S1x256x256 .f32 := broadcastInDim S1x256x256 ![0, 1, 2] bcast_S1x256x1_S1x256x256_0_1_2 main_v10253
  let main_c_1618 : IVec S_ 32 := constantI S_ 32 19#32
  let main_v10255 : IVec S1x256x256 32 := broadcastInDim S1x256x256 ![] bcast_S_S1x256x256 main_c_1618
  let main_v10256 : IVec S1x256x256 1 := cmpi .sgt main_v9886 main_v10255
  let main_c_1619 : IVec S_ 32 := constantI S_ 32 19#32
  let main_v10257 : IVec S1x256x256 32 := broadcastInDim S1x256x256 ![] bcast_S_S1x256x256 main_c_1619
  let main_v10258 : IVec S1x256x256 1 := cmpi .sgt main_v9887 main_v10257
  fn_part495 (F := F) main_arg0 main_v4875 main_v9852 main_v9886 main_v9887 main_v10248 main_v10249 main_v10254 main_v10256 main_v10258

def fn_part493 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10210 : FVec F S1x256x256 .f32) (main_v10211 : FVec F S1x1x256 .f32) (main_v10216 : FVec F S1x256x256 .f32) (main_v10217 : IVec S1x256x256 32) : IVec S9x256x256 1 × IVec S8x256x256 1 :=
  let main_v10218 : IVec S1x256x256 1 := cmpi .sgt main_v9886 main_v10217
  let main_c_1613 : IVec S_ 32 := constantI S_ 32 17#32
  let main_v10219 : IVec S1x256x256 32 := broadcastInDim S1x256x256 ![] bcast_S_S1x256x256 main_c_1613
  let main_v10220 : IVec S1x256x256 1 := cmpi .sgt main_v9887 main_v10219
  let main_v10221 : IVec S1x256x256 1 := andi main_v10218 main_v10220
  let main_v10222 : FVec F S1x256x256 .f32 := broadcastInDim S1x256x256 ![0, 1, 2] bcast_S1x1x256_S1x256x256_0_1_2 main_v10211
  let main_v10223 : FVec F S1x256x256 .f32 := mulf main_v10216 main_v10222
  let main_v10224 : FVec F S1x256x256 .f32 := subf main_v10210 main_v10223
  let main_v10225 : FVec F S1x256x256 .f32 := select main_v10221 main_v10224 main_v10210
  let main_c_1614 : IVec S_ 32 := constantI S_ 32 17#32
  let main_v10226 : IVec S1x256x256 32 := broadcastInDim S1x256x256 ![] bcast_S_S1x256x256 main_c_1614
  let main_v10227 : IVec S1x256x256 1 := cmpi .eq main_v9887 main_v10226
  let main_v10228 : IVec S1x256x256 1 := andi main_v10218 main_v10227
  let main_v10229 : FVec F S1x256x256 .f32 := select main_v10228 main_v10216 main_v10225
  let main_v10230 : FVec F S1x1x256 .f32 := (extractStridedSlice S1x1x256 ![0, 18, 0] · slices_S1x256x256_S1x1x256_0_18_0) main_v10229
  let main_v10231 : FVec F S1x256x1 .f32 := (extractStridedSlice S1x256x1 ![0, 0, 18] · slices_S1x256x256_S1x256x1_0_0_18) main_v10229
  let main_v10232 : FVec F S1x1x1 .f32 := (extractStridedSlice S1x1x1 ![0, 0, 18] · slices_S1x1x256_S1x1x1_0_0_18) main_v10230
  let main_v10233 : FVec F S1x256x1 .f32 := broadcastInDim S1x256x1 ![0, 1, 2] bcast_S1x1x1_S1x256x1_0_1_2 main_v10232
  let main_v10234 : FVec F S1x256x1 .f32 := Host.divf main_v10231 main_v10233
  let main_v10235 : FVec F S1x256x256 .f32 := broadcastInDim S1x256x256 ![0, 1, 2] bcast_S1x256x1_S1x256x256_0_1_2 main_v10234
  let main_c_1615 : IVec S_ 32 := constantI S_ 32 18#32
  let main_v10236 : IVec S1x256x256 32 := broadcastInDim S1x256x256 ![] bcast_S_S1x256x256 main_c_1615
  let main_v10237 : IVec S1x256x256 1 := cmpi .sgt main_v9886 main_v10236
  let main_c_1616 : IVec S_ 32 := constantI S_ 32 18#32
  fn_part494 (F := F) main_arg0 main_v4875 main_v9852 main_v9886 main_v9887 main_v10229 main_v10230 main_v10235 main_v10237 main_c_1616

def fn_part492 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10191 : FVec F S1x256x256 .f32) (main_v10192 : FVec F S1x1x256 .f32) (main_v10197 : FVec F S1x256x256 .f32) : IVec S9x256x256 1 × IVec S8x256x256 1 :=
  let main_c_1609 : IVec S_ 32 := constantI S_ 32 16#32
  let main_v10198 : IVec S1x256x256 32 := broadcastInDim S1x256x256 ![] bcast_S_S1x256x256 main_c_1609
  let main_v10199 : IVec S1x256x256 1 := cmpi .sgt main_v9886 main_v10198
  let main_c_1610 : IVec S_ 32 := constantI S_ 32 16#32
  let main_v10200 : IVec S1x256x256 32 := broadcastInDim S1x256x256 ![] bcast_S_S1x256x256 main_c_1610
  let main_v10201 : IVec S1x256x256 1 := cmpi .sgt main_v9887 main_v10200
  let main_v10202 : IVec S1x256x256 1 := andi main_v10199 main_v10201
  let main_v10203 : FVec F S1x256x256 .f32 := broadcastInDim S1x256x256 ![0, 1, 2] bcast_S1x1x256_S1x256x256_0_1_2 main_v10192
  let main_v10204 : FVec F S1x256x256 .f32 := mulf main_v10197 main_v10203
  let main_v10205 : FVec F S1x256x256 .f32 := subf main_v10191 main_v10204
  let main_v10206 : FVec F S1x256x256 .f32 := select main_v10202 main_v10205 main_v10191
  let main_c_1611 : IVec S_ 32 := constantI S_ 32 16#32
  let main_v10207 : IVec S1x256x256 32 := broadcastInDim S1x256x256 ![] bcast_S_S1x256x256 main_c_1611
  let main_v10208 : IVec S1x256x256 1 := cmpi .eq main_v9887 main_v10207
  let main_v10209 : IVec S1x256x256 1 := andi main_v10199 main_v10208
  let main_v10210 : FVec F S1x256x256 .f32 := select main_v10209 main_v10197 main_v10206
  let main_v10211 : FVec F S1x1x256 .f32 := (extractStridedSlice S1x1x256 ![0, 17, 0] · slices_S1x256x256_S1x1x256_0_17_0) main_v10210
  let main_v10212 : FVec F S1x256x1 .f32 := (extractStridedSlice S1x256x1 ![0, 0, 17] · slices_S1x256x256_S1x256x1_0_0_17) main_v10210
  let main_v10213 : FVec F S1x1x1 .f32 := (extractStridedSlice S1x1x1 ![0, 0, 17] · slices_S1x1x256_S1x1x1_0_0_17) main_v10211
  let main_v10214 : FVec F S1x256x1 .f32 := broadcastInDim S1x256x1 ![0, 1, 2] bcast_S1x1x1_S1x256x1_0_1_2 main_v10213
  let main_v10215 : FVec F S1x256x1 .f32 := Host.divf main_v10212 main_v10214
  let main_v10216 : FVec F S1x256x256 .f32 := broadcastInDim S1x256x256 ![0, 1, 2] bcast_S1x256x1_S1x256x256_0_1_2 main_v10215
  let main_c_1612 : IVec S_ 32 := constantI S_ 32 17#32
  let main_v10217 : IVec S1x256x256 32 := broadcastInDim S1x256x256 ![] bcast_S_S1x256x256 main_c_1612
  fn_part493 (F := F) main_arg0 main_v4875 main_v9852 main_v9886 main_v9887 main_v10210 main_v10211 main_v10216 main_v10217

def fn_part491 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10172 : FVec F S1x256x256 .f32) (main_v10173 : FVec F S1x1x256 .f32) (main_v10174 : FVec F S1x256x1 .f32) (main_v10176 : FVec F S1x256x1 .f32) : IVec S9x256x256 1 × IVec S8x256x256 1 :=
  let main_v10177 : FVec F S1x256x1 .f32 := Host.divf main_v10174 main_v10176
  let main_v10178 : FVec F S1x256x256 .f32 := broadcastInDim S1x256x256 ![0, 1, 2] bcast_S1x256x1_S1x256x256_0_1_2 main_v10177
  let main_c_1606 : IVec S_ 32 := constantI S_ 32 15#32
  let main_v10179 : IVec S1x256x256 32 := broadcastInDim S1x256x256 ![] bcast_S_S1x256x256 main_c_1606
  let main_v10180 : IVec S1x256x256 1 := cmpi .sgt main_v9886 main_v10179
  let main_c_1607 : IVec S_ 32 := constantI S_ 32 15#32
  let main_v10181 : IVec S1x256x256 32 := broadcastInDim S1x256x256 ![] bcast_S_S1x256x256 main_c_1607
  let main_v10182 : IVec S1x256x256 1 := cmpi .sgt main_v9887 main_v10181
  let main_v10183 : IVec S1x256x256 1 := andi main_v10180 main_v10182
  let main_v10184 : FVec F S1x256x256 .f32 := broadcastInDim S1x256x256 ![0, 1, 2] bcast_S1x1x256_S1x256x256_0_1_2 main_v10173
  let main_v10185 : FVec F S1x256x256 .f32 := mulf main_v10178 main_v10184
  let main_v10186 : FVec F S1x256x256 .f32 := subf main_v10172 main_v10185
  let main_v10187 : FVec F S1x256x256 .f32 := select main_v10183 main_v10186 main_v10172
  let main_c_1608 : IVec S_ 32 := constantI S_ 32 15#32
  let main_v10188 : IVec S1x256x256 32 := broadcastInDim S1x256x256 ![] bcast_S_S1x256x256 main_c_1608
  let main_v10189 : IVec S1x256x256 1 := cmpi .eq main_v9887 main_v10188
  let main_v10190 : IVec S1x256x256 1 := andi main_v10180 main_v10189
  let main_v10191 : FVec F S1x256x256 .f32 := select main_v10190 main_v10178 main_v10187
  let main_v10192 : FVec F S1x1x256 .f32 := (extractStridedSlice S1x1x256 ![0, 16, 0] · slices_S1x256x256_S1x1x256_0_16_0) main_v10191
  let main_v10193 : FVec F S1x256x1 .f32 := (extractStridedSlice S1x256x1 ![0, 0, 16] · slices_S1x256x256_S1x256x1_0_0_16) main_v10191
  let main_v10194 : FVec F S1x1x1 .f32 := (extractStridedSlice S1x1x1 ![0, 0, 16] · slices_S1x1x256_S1x1x1_0_0_16) main_v10192
  let main_v10195 : FVec F S1x256x1 .f32 := broadcastInDim S1x256x1 ![0, 1, 2] bcast_S1x1x1_S1x256x1_0_1_2 main_v10194
  let main_v10196 : FVec F S1x256x1 .f32 := Host.divf main_v10193 main_v10195
  let main_v10197 : FVec F S1x256x256 .f32 := broadcastInDim S1x256x256 ![0, 1, 2] bcast_S1x256x1_S1x256x256_0_1_2 main_v10196
  fn_part492 (F := F) main_arg0 main_v4875 main_v9852 main_v9886 main_v9887 main_v10191 main_v10192 main_v10197

def fn_part490 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10153 : FVec F S1x256x256 .f32) (main_v10154 : FVec F S1x1x256 .f32) (main_v10155 : FVec F S1x256x1 .f32) : IVec S9x256x256 1 × IVec S8x256x256 1 :=
  let main_v10156 : FVec F S1x1x1 .f32 := (extractStridedSlice S1x1x1 ![0, 0, 14] · slices_S1x1x256_S1x1x1_0_0_14) main_v10154
  let main_v10157 : FVec F S1x256x1 .f32 := broadcastInDim S1x256x1 ![0, 1, 2] bcast_S1x1x1_S1x256x1_0_1_2 main_v10156
  let main_v10158 : FVec F S1x256x1 .f32 := Host.divf main_v10155 main_v10157
  let main_v10159 : FVec F S1x256x256 .f32 := broadcastInDim S1x256x256 ![0, 1, 2] bcast_S1x256x1_S1x256x256_0_1_2 main_v10158
  let main_c_1603 : IVec S_ 32 := constantI S_ 32 14#32
  let main_v10160 : IVec S1x256x256 32 := broadcastInDim S1x256x256 ![] bcast_S_S1x256x256 main_c_1603
  let main_v10161 : IVec S1x256x256 1 := cmpi .sgt main_v9886 main_v10160
  let main_c_1604 : IVec S_ 32 := constantI S_ 32 14#32
  let main_v10162 : IVec S1x256x256 32 := broadcastInDim S1x256x256 ![] bcast_S_S1x256x256 main_c_1604
  let main_v10163 : IVec S1x256x256 1 := cmpi .sgt main_v9887 main_v10162
  let main_v10164 : IVec S1x256x256 1 := andi main_v10161 main_v10163
  let main_v10165 : FVec F S1x256x256 .f32 := broadcastInDim S1x256x256 ![0, 1, 2] bcast_S1x1x256_S1x256x256_0_1_2 main_v10154
  let main_v10166 : FVec F S1x256x256 .f32 := mulf main_v10159 main_v10165
  let main_v10167 : FVec F S1x256x256 .f32 := subf main_v10153 main_v10166
  let main_v10168 : FVec F S1x256x256 .f32 := select main_v10164 main_v10167 main_v10153
  let main_c_1605 : IVec S_ 32 := constantI S_ 32 14#32
  let main_v10169 : IVec S1x256x256 32 := broadcastInDim S1x256x256 ![] bcast_S_S1x256x256 main_c_1605
  let main_v10170 : IVec S1x256x256 1 := cmpi .eq main_v9887 main_v10169
  let main_v10171 : IVec S1x256x256 1 := andi main_v10161 main_v10170
  let main_v10172 : FVec F S1x256x256 .f32 := select main_v10171 main_v10159 main_v10168
  let main_v10173 : FVec F S1x1x256 .f32 := (extractStridedSlice S1x1x256 ![0, 15, 0] · slices_S1x256x256_S1x1x256_0_15_0) main_v10172
  let main_v10174 : FVec F S1x256x1 .f32 := (extractStridedSlice S1x256x1 ![0, 0, 15] · slices_S1x256x256_S1x256x1_0_0_15) main_v10172
  let main_v10175 : FVec F S1x1x1 .f32 := (extractStridedSlice S1x1x1 ![0, 0, 15] · slices_S1x1x256_S1x1x1_0_0_15) main_v10173
  let main_v10176 : FVec F S1x256x1 .f32 := broadcastInDim S1x256x1 ![0, 1, 2] bcast_S1x1x1_S1x256x1_0_1_2 main_v10175
  fn_part491 (F := F) main_arg0 main_v4875 main_v9852 main_v9886 main_v9887 main_v10172 main_v10173 main_v10174 main_v10176

def fn_part489 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10134 : FVec F S1x256x256 .f32) : IVec S9x256x256 1 × IVec S8x256x256 1 :=
  let main_v10135 : FVec F S1x1x256 .f32 := (extractStridedSlice S1x1x256 ![0, 13, 0] · slices_S1x256x256_S1x1x256_0_13_0) main_v10134
  let main_v10136 : FVec F S1x256x1 .f32 := (extractStridedSlice S1x256x1 ![0, 0, 13] · slices_S1x256x256_S1x256x1_0_0_13) main_v10134
  let main_v10137 : FVec F S1x1x1 .f32 := (extractStridedSlice S1x1x1 ![0, 0, 13] · slices_S1x1x256_S1x1x1_0_0_13) main_v10135
  let main_v10138 : FVec F S1x256x1 .f32 := broadcastInDim S1x256x1 ![0, 1, 2] bcast_S1x1x1_S1x256x1_0_1_2 main_v10137
  let main_v10139 : FVec F S1x256x1 .f32 := Host.divf main_v10136 main_v10138
  let main_v10140 : FVec F S1x256x256 .f32 := broadcastInDim S1x256x256 ![0, 1, 2] bcast_S1x256x1_S1x256x256_0_1_2 main_v10139
  let main_c_1600 : IVec S_ 32 := constantI S_ 32 13#32
  let main_v10141 : IVec S1x256x256 32 := broadcastInDim S1x256x256 ![] bcast_S_S1x256x256 main_c_1600
  let main_v10142 : IVec S1x256x256 1 := cmpi .sgt main_v9886 main_v10141
  let main_c_1601 : IVec S_ 32 := constantI S_ 32 13#32
  let main_v10143 : IVec S1x256x256 32 := broadcastInDim S1x256x256 ![] bcast_S_S1x256x256 main_c_1601
  let main_v10144 : IVec S1x256x256 1 := cmpi .sgt main_v9887 main_v10143
  let main_v10145 : IVec S1x256x256 1 := andi main_v10142 main_v10144
  let main_v10146 : FVec F S1x256x256 .f32 := broadcastInDim S1x256x256 ![0, 1, 2] bcast_S1x1x256_S1x256x256_0_1_2 main_v10135
  let main_v10147 : FVec F S1x256x256 .f32 := mulf main_v10140 main_v10146
  let main_v10148 : FVec F S1x256x256 .f32 := subf main_v10134 main_v10147
  let main_v10149 : FVec F S1x256x256 .f32 := select main_v10145 main_v10148 main_v10134
  let main_c_1602 : IVec S_ 32 := constantI S_ 32 13#32
  let main_v10150 : IVec S1x256x256 32 := broadcastInDim S1x256x256 ![] bcast_S_S1x256x256 main_c_1602
  let main_v10151 : IVec S1x256x256 1 := cmpi .eq main_v9887 main_v10150
  let main_v10152 : IVec S1x256x256 1 := andi main_v10142 main_v10151
  let main_v10153 : FVec F S1x256x256 .f32 := select main_v10152 main_v10140 main_v10149
  let main_v10154 : FVec F S1x1x256 .f32 := (extractStridedSlice S1x1x256 ![0, 14, 0] · slices_S1x256x256_S1x1x256_0_14_0) main_v10153
  let main_v10155 : FVec F S1x256x1 .f32 := (extractStridedSlice S1x256x1 ![0, 0, 14] · slices_S1x256x256_S1x256x1_0_0_14) main_v10153
  fn_part490 (F := F) main_arg0 main_v4875 main_v9852 main_v9886 main_v9887 main_v10153 main_v10154 main_v10155

def fn_part488 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10102 : FVec F S1x256x256 .f32) (main_v10104 : IVec S1x256x256 1) (main_v10111 : FVec F S1x256x256 .f32) (main_v10113 : IVec S1x256x256 1) : IVec S9x256x256 1 × IVec S8x256x256 1 :=
  let main_v10114 : IVec S1x256x256 1 := andi main_v10104 main_v10113
  let main_v10115 : FVec F S1x256x256 .f32 := select main_v10114 main_v10102 main_v10111
  let main_v10116 : FVec F S1x1x256 .f32 := (extractStridedSlice S1x1x256 ![0, 12, 0] · slices_S1x256x256_S1x1x256_0_12_0) main_v10115
  let main_v10117 : FVec F S1x256x1 .f32 := (extractStridedSlice S1x256x1 ![0, 0, 12] · slices_S1x256x256_S1x256x1_0_0_12) main_v10115
  let main_v10118 : FVec F S1x1x1 .f32 := (extractStridedSlice S1x1x1 ![0, 0, 12] · slices_S1x1x256_S1x1x1_0_0_12) main_v10116
  let main_v10119 : FVec F S1x256x1 .f32 := broadcastInDim S1x256x1 ![0, 1, 2] bcast_S1x1x1_S1x256x1_0_1_2 main_v10118
  let main_v10120 : FVec F S1x256x1 .f32 := Host.divf main_v10117 main_v10119
  let main_v10121 : FVec F S1x256x256 .f32 := broadcastInDim S1x256x256 ![0, 1, 2] bcast_S1x256x1_S1x256x256_0_1_2 main_v10120
  let main_c_1597 : IVec S_ 32 := constantI S_ 32 12#32
  let main_v10122 : IVec S1x256x256 32 := broadcastInDim S1x256x256 ![] bcast_S_S1x256x256 main_c_1597
  let main_v10123 : IVec S1x256x256 1 := cmpi .sgt main_v9886 main_v10122
  let main_c_1598 : IVec S_ 32 := constantI S_ 32 12#32
  let main_v10124 : IVec S1x256x256 32 := broadcastInDim S1x256x256 ![] bcast_S_S1x256x256 main_c_1598
  let main_v10125 : IVec S1x256x256 1 := cmpi .sgt main_v9887 main_v10124
  let main_v10126 : IVec S1x256x256 1 := andi main_v10123 main_v10125
  let main_v10127 : FVec F S1x256x256 .f32 := broadcastInDim S1x256x256 ![0, 1, 2] bcast_S1x1x256_S1x256x256_0_1_2 main_v10116
  let main_v10128 : FVec F S1x256x256 .f32 := mulf main_v10121 main_v10127
  let main_v10129 : FVec F S1x256x256 .f32 := subf main_v10115 main_v10128
  let main_v10130 : FVec F S1x256x256 .f32 := select main_v10126 main_v10129 main_v10115
  let main_c_1599 : IVec S_ 32 := constantI S_ 32 12#32
  let main_v10131 : IVec S1x256x256 32 := broadcastInDim S1x256x256 ![] bcast_S_S1x256x256 main_c_1599
  let main_v10132 : IVec S1x256x256 1 := cmpi .eq main_v9887 main_v10131
  let main_v10133 : IVec S1x256x256 1 := andi main_v10123 main_v10132
  let main_v10134 : FVec F S1x256x256 .f32 := select main_v10133 main_v10121 main_v10130
  fn_part489 (F := F) main_arg0 main_v4875 main_v9852 main_v9886 main_v9887 main_v10134

def fn_part487 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10083 : FVec F S1x256x256 .f32) (main_v10085 : IVec S1x256x256 1) (main_v10092 : FVec F S1x256x256 .f32) (main_c_1593 : IVec S_ 32) : IVec S9x256x256 1 × IVec S8x256x256 1 :=
  let main_v10093 : IVec S1x256x256 32 := broadcastInDim S1x256x256 ![] bcast_S_S1x256x256 main_c_1593
  let main_v10094 : IVec S1x256x256 1 := cmpi .eq main_v9887 main_v10093
  let main_v10095 : IVec S1x256x256 1 := andi main_v10085 main_v10094
  let main_v10096 : FVec F S1x256x256 .f32 := select main_v10095 main_v10083 main_v10092
  let main_v10097 : FVec F S1x1x256 .f32 := (extractStridedSlice S1x1x256 ![0, 11, 0] · slices_S1x256x256_S1x1x256_0_11_0) main_v10096
  let main_v10098 : FVec F S1x256x1 .f32 := (extractStridedSlice S1x256x1 ![0, 0, 11] · slices_S1x256x256_S1x256x1_0_0_11) main_v10096
  let main_v10099 : FVec F S1x1x1 .f32 := (extractStridedSlice S1x1x1 ![0, 0, 11] · slices_S1x1x256_S1x1x1_0_0_11) main_v10097
  let main_v10100 : FVec F S1x256x1 .f32 := broadcastInDim S1x256x1 ![0, 1, 2] bcast_S1x1x1_S1x256x1_0_1_2 main_v10099
  let main_v10101 : FVec F S1x256x1 .f32 := Host.divf main_v10098 main_v10100
  let main_v10102 : FVec F S1x256x256 .f32 := broadcastInDim S1x256x256 ![0, 1, 2] bcast_S1x256x1_S1x256x256_0_1_2 main_v10101
  let main_c_1594 : IVec S_ 32 := constantI S_ 32 11#32
  let main_v10103 : IVec S1x256x256 32 := broadcastInDim S1x256x256 ![] bcast_S_S1x256x256 main_c_1594
  let main_v10104 : IVec S1x256x256 1 := cmpi .sgt main_v9886 main_v10103
  let main_c_1595 : IVec S_ 32 := constantI S_ 32 11#32
  let main_v10105 : IVec S1x256x256 32 := broadcastInDim S1x256x256 ![] bcast_S_S1x256x256 main_c_1595
  let main_v10106 : IVec S1x256x256 1 := cmpi .sgt main_v9887 main_v10105
  let main_v10107 : IVec S1x256x256 1 := andi main_v10104 main_v10106
  let main_v10108 : FVec F S1x256x256 .f32 := broadcastInDim S1x256x256 ![0, 1, 2] bcast_S1x1x256_S1x256x256_0_1_2 main_v10097
  let main_v10109 : FVec F S1x256x256 .f32 := mulf main_v10102 main_v10108
  let main_v10110 : FVec F S1x256x256 .f32 := subf main_v10096 main_v10109
  let main_v10111 : FVec F S1x256x256 .f32 := select main_v10107 main_v10110 main_v10096
  let main_c_1596 : IVec S_ 32 := constantI S_ 32 11#32
  let main_v10112 : IVec S1x256x256 32 := broadcastInDim S1x256x256 ![] bcast_S_S1x256x256 main_c_1596
  let main_v10113 : IVec S1x256x256 1 := cmpi .eq main_v9887 main_v10112
  fn_part488 (F := F) main_arg0 main_v4875 main_v9852 main_v9886 main_v9887 main_v10102 main_v10104 main_v10111 main_v10113

def fn_part486 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10058 : FVec F S1x256x256 .f32) (main_v10064 : FVec F S1x256x256 .f32) (main_v10066 : IVec S1x256x256 1) (main_v10069 : IVec S1x256x256 1) (main_v10072 : FVec F S1x256x256 .f32) : IVec S9x256x256 1 × IVec S8x256x256 1 :=
  let main_v10073 : FVec F S1x256x256 .f32 := select main_v10069 main_v10072 main_v10058
  let main_c_1590 : IVec S_ 32 := constantI S_ 32 9#32
  let main_v10074 : IVec S1x256x256 32 := broadcastInDim S1x256x256 ![] bcast_S_S1x256x256 main_c_1590
  let main_v10075 : IVec S1x256x256 1 := cmpi .eq main_v9887 main_v10074
  let main_v10076 : IVec S1x256x256 1 := andi main_v10066 main_v10075
  let main_v10077 : FVec F S1x256x256 .f32 := select main_v10076 main_v10064 main_v10073
  let main_v10078 : FVec F S1x1x256 .f32 := (extractStridedSlice S1x1x256 ![0, 10, 0] · slices_S1x256x256_S1x1x256_0_10_0) main_v10077
  let main_v10079 : FVec F S1x256x1 .f32 := (extractStridedSlice S1x256x1 ![0, 0, 10] · slices_S1x256x256_S1x256x1_0_0_10) main_v10077
  let main_v10080 : FVec F S1x1x1 .f32 := (extractStridedSlice S1x1x1 ![0, 0, 10] · slices_S1x1x256_S1x1x1_0_0_10) main_v10078
  let main_v10081 : FVec F S1x256x1 .f32 := broadcastInDim S1x256x1 ![0, 1, 2] bcast_S1x1x1_S1x256x1_0_1_2 main_v10080
  let main_v10082 : FVec F S1x256x1 .f32 := Host.divf main_v10079 main_v10081
  let main_v10083 : FVec F S1x256x256 .f32 := broadcastInDim S1x256x256 ![0, 1, 2] bcast_S1x256x1_S1x256x256_0_1_2 main_v10082
  let main_c_1591 : IVec S_ 32 := constantI S_ 32 10#32
  let main_v10084 : IVec S1x256x256 32 := broadcastInDim S1x256x256 ![] bcast_S_S1x256x256 main_c_1591
  let main_v10085 : IVec S1x256x256 1 := cmpi .sgt main_v9886 main_v10084
  let main_c_1592 : IVec S_ 32 := constantI S_ 32 10#32
  let main_v10086 : IVec S1x256x256 32 := broadcastInDim S1x256x256 ![] bcast_S_S1x256x256 main_c_1592
  let main_v10087 : IVec S1x256x256 1 := cmpi .sgt main_v9887 main_v10086
  let main_v10088 : IVec S1x256x256 1 := andi main_v10085 main_v10087
  let main_v10089 : FVec F S1x256x256 .f32 := broadcastInDim S1x256x256 ![0, 1, 2] bcast_S1x1x256_S1x256x256_0_1_2 main_v10078
  let main_v10090 : FVec F S1x256x256 .f32 := mulf main_v10083 main_v10089
  let main_v10091 : FVec F S1x256x256 .f32 := subf main_v10077 main_v10090
  let main_v10092 : FVec F S1x256x256 .f32 := select main_v10088 main_v10091 main_v10077
  let main_c_1593 : IVec S_ 32 := constantI S_ 32 10#32
  fn_part487 (F := F) main_arg0 main_v4875 main_v9852 main_v9886 main_v9887 main_v10083 main_v10085 main_v10092 main_c_1593

def fn_part485 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10039 : FVec F S1x256x256 .f32) (main_v10045 : FVec F S1x256x256 .f32) (main_v10047 : IVec S1x256x256 1) (main_v10050 : IVec S1x256x256 1) (main_v10051 : FVec F S1x256x256 .f32) : IVec S9x256x256 1 × IVec S8x256x256 1 :=
  let main_v10052 : FVec F S1x256x256 .f32 := mulf main_v10045 main_v10051
  let main_v10053 : FVec F S1x256x256 .f32 := subf main_v10039 main_v10052
  let main_v10054 : FVec F S1x256x256 .f32 := select main_v10050 main_v10053 main_v10039
  let main_c_1587 : IVec S_ 32 := constantI S_ 32 8#32
  let main_v10055 : IVec S1x256x256 32 := broadcastInDim S1x256x256 ![] bcast_S_S1x256x256 main_c_1587
  let main_v10056 : IVec S1x256x256 1 := cmpi .eq main_v9887 main_v10055
  let main_v10057 : IVec S1x256x256 1 := andi main_v10047 main_v10056
  let main_v10058 : FVec F S1x256x256 .f32 := select main_v10057 main_v10045 main_v10054
  let main_v10059 : FVec F S1x1x256 .f32 := (extractStridedSlice S1x1x256 ![0, 9, 0] · slices_S1x256x256_S1x1x256_0_9_0) main_v10058
  let main_v10060 : FVec F S1x256x1 .f32 := (extractStridedSlice S1x256x1 ![0, 0, 9] · slices_S1x256x256_S1x256x1_0_0_9) main_v10058
  let main_v10061 : FVec F S1x1x1 .f32 := (extractStridedSlice S1x1x1 ![0, 0, 9] · slices_S1x1x256_S1x1x1_0_0_9) main_v10059
  let main_v10062 : FVec F S1x256x1 .f32 := broadcastInDim S1x256x1 ![0, 1, 2] bcast_S1x1x1_S1x256x1_0_1_2 main_v10061
  let main_v10063 : FVec F S1x256x1 .f32 := Host.divf main_v10060 main_v10062
  let main_v10064 : FVec F S1x256x256 .f32 := broadcastInDim S1x256x256 ![0, 1, 2] bcast_S1x256x1_S1x256x256_0_1_2 main_v10063
  let main_c_1588 : IVec S_ 32 := constantI S_ 32 9#32
  let main_v10065 : IVec S1x256x256 32 := broadcastInDim S1x256x256 ![] bcast_S_S1x256x256 main_c_1588
  let main_v10066 : IVec S1x256x256 1 := cmpi .sgt main_v9886 main_v10065
  let main_c_1589 : IVec S_ 32 := constantI S_ 32 9#32
  let main_v10067 : IVec S1x256x256 32 := broadcastInDim S1x256x256 ![] bcast_S_S1x256x256 main_c_1589
  let main_v10068 : IVec S1x256x256 1 := cmpi .sgt main_v9887 main_v10067
  let main_v10069 : IVec S1x256x256 1 := andi main_v10066 main_v10068
  let main_v10070 : FVec F S1x256x256 .f32 := broadcastInDim S1x256x256 ![0, 1, 2] bcast_S1x1x256_S1x256x256_0_1_2 main_v10059
  let main_v10071 : FVec F S1x256x256 .f32 := mulf main_v10064 main_v10070
  let main_v10072 : FVec F S1x256x256 .f32 := subf main_v10058 main_v10071
  fn_part486 (F := F) main_arg0 main_v4875 main_v9852 main_v9886 main_v9887 main_v10058 main_v10064 main_v10066 main_v10069 main_v10072

def fn_part484 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10020 : FVec F S1x256x256 .f32) (main_v10021 : FVec F S1x1x256 .f32) (main_v10026 : FVec F S1x256x256 .f32) (main_v10028 : IVec S1x256x256 1) (main_v10030 : IVec S1x256x256 1) : IVec S9x256x256 1 × IVec S8x256x256 1 :=
  let main_v10031 : IVec S1x256x256 1 := andi main_v10028 main_v10030
  let main_v10032 : FVec F S1x256x256 .f32 := broadcastInDim S1x256x256 ![0, 1, 2] bcast_S1x1x256_S1x256x256_0_1_2 main_v10021
  let main_v10033 : FVec F S1x256x256 .f32 := mulf main_v10026 main_v10032
  let main_v10034 : FVec F S1x256x256 .f32 := subf main_v10020 main_v10033
  let main_v10035 : FVec F S1x256x256 .f32 := select main_v10031 main_v10034 main_v10020
  let main_c_1584 : IVec S_ 32 := constantI S_ 32 7#32
  let main_v10036 : IVec S1x256x256 32 := broadcastInDim S1x256x256 ![] bcast_S_S1x256x256 main_c_1584
  let main_v10037 : IVec S1x256x256 1 := cmpi .eq main_v9887 main_v10036
  let main_v10038 : IVec S1x256x256 1 := andi main_v10028 main_v10037
  let main_v10039 : FVec F S1x256x256 .f32 := select main_v10038 main_v10026 main_v10035
  let main_v10040 : FVec F S1x1x256 .f32 := (extractStridedSlice S1x1x256 ![0, 8, 0] · slices_S1x256x256_S1x1x256_0_8_0) main_v10039
  let main_v10041 : FVec F S1x256x1 .f32 := (extractStridedSlice S1x256x1 ![0, 0, 8] · slices_S1x256x256_S1x256x1_0_0_8) main_v10039
  let main_v10042 : FVec F S1x1x1 .f32 := (extractStridedSlice S1x1x1 ![0, 0, 8] · slices_S1x1x256_S1x1x1_0_0_8) main_v10040
  let main_v10043 : FVec F S1x256x1 .f32 := broadcastInDim S1x256x1 ![0, 1, 2] bcast_S1x1x1_S1x256x1_0_1_2 main_v10042
  let main_v10044 : FVec F S1x256x1 .f32 := Host.divf main_v10041 main_v10043
  let main_v10045 : FVec F S1x256x256 .f32 := broadcastInDim S1x256x256 ![0, 1, 2] bcast_S1x256x1_S1x256x256_0_1_2 main_v10044
  let main_c_1585 : IVec S_ 32 := constantI S_ 32 8#32
  let main_v10046 : IVec S1x256x256 32 := broadcastInDim S1x256x256 ![] bcast_S_S1x256x256 main_c_1585
  let main_v10047 : IVec S1x256x256 1 := cmpi .sgt main_v9886 main_v10046
  let main_c_1586 : IVec S_ 32 := constantI S_ 32 8#32
  let main_v10048 : IVec S1x256x256 32 := broadcastInDim S1x256x256 ![] bcast_S_S1x256x256 main_c_1586
  let main_v10049 : IVec S1x256x256 1 := cmpi .sgt main_v9887 main_v10048
  let main_v10050 : IVec S1x256x256 1 := andi main_v10047 main_v10049
  let main_v10051 : FVec F S1x256x256 .f32 := broadcastInDim S1x256x256 ![0, 1, 2] bcast_S1x1x256_S1x256x256_0_1_2 main_v10040
  fn_part485 (F := F) main_arg0 main_v4875 main_v9852 main_v9886 main_v9887 main_v10039 main_v10045 main_v10047 main_v10050 main_v10051

def fn_part483 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v10001 : FVec F S1x256x256 .f32) (main_v10002 : FVec F S1x1x256 .f32) (main_v10007 : FVec F S1x256x256 .f32) (main_v10009 : IVec S1x256x256 1) (main_c_1580 : IVec S_ 32) : IVec S9x256x256 1 × IVec S8x256x256 1 :=
  let main_v10010 : IVec S1x256x256 32 := broadcastInDim S1x256x256 ![] bcast_S_S1x256x256 main_c_1580
  let main_v10011 : IVec S1x256x256 1 := cmpi .sgt main_v9887 main_v10010
  let main_v10012 : IVec S1x256x256 1 := andi main_v10009 main_v10011
  let main_v10013 : FVec F S1x256x256 .f32 := broadcastInDim S1x256x256 ![0, 1, 2] bcast_S1x1x256_S1x256x256_0_1_2 main_v10002
  let main_v10014 : FVec F S1x256x256 .f32 := mulf main_v10007 main_v10013
  let main_v10015 : FVec F S1x256x256 .f32 := subf main_v10001 main_v10014
  let main_v10016 : FVec F S1x256x256 .f32 := select main_v10012 main_v10015 main_v10001
  let main_c_1581 : IVec S_ 32 := constantI S_ 32 6#32
  let main_v10017 : IVec S1x256x256 32 := broadcastInDim S1x256x256 ![] bcast_S_S1x256x256 main_c_1581
  let main_v10018 : IVec S1x256x256 1 := cmpi .eq main_v9887 main_v10017
  let main_v10019 : IVec S1x256x256 1 := andi main_v10009 main_v10018
  let main_v10020 : FVec F S1x256x256 .f32 := select main_v10019 main_v10007 main_v10016
  let main_v10021 : FVec F S1x1x256 .f32 := (extractStridedSlice S1x1x256 ![0, 7, 0] · slices_S1x256x256_S1x1x256_0_7_0) main_v10020
  let main_v10022 : FVec F S1x256x1 .f32 := (extractStridedSlice S1x256x1 ![0, 0, 7] · slices_S1x256x256_S1x256x1_0_0_7) main_v10020
  let main_v10023 : FVec F S1x1x1 .f32 := (extractStridedSlice S1x1x1 ![0, 0, 7] · slices_S1x1x256_S1x1x1_0_0_7) main_v10021
  let main_v10024 : FVec F S1x256x1 .f32 := broadcastInDim S1x256x1 ![0, 1, 2] bcast_S1x1x1_S1x256x1_0_1_2 main_v10023
  let main_v10025 : FVec F S1x256x1 .f32 := Host.divf main_v10022 main_v10024
  let main_v10026 : FVec F S1x256x256 .f32 := broadcastInDim S1x256x256 ![0, 1, 2] bcast_S1x256x1_S1x256x256_0_1_2 main_v10025
  let main_c_1582 : IVec S_ 32 := constantI S_ 32 7#32
  let main_v10027 : IVec S1x256x256 32 := broadcastInDim S1x256x256 ![] bcast_S_S1x256x256 main_c_1582
  let main_v10028 : IVec S1x256x256 1 := cmpi .sgt main_v9886 main_v10027
  let main_c_1583 : IVec S_ 32 := constantI S_ 32 7#32
  let main_v10029 : IVec S1x256x256 32 := broadcastInDim S1x256x256 ![] bcast_S_S1x256x256 main_c_1583
  let main_v10030 : IVec S1x256x256 1 := cmpi .sgt main_v9887 main_v10029
  fn_part484 (F := F) main_arg0 main_v4875 main_v9852 main_v9886 main_v9887 main_v10020 main_v10021 main_v10026 main_v10028 main_v10030

def fn_part482 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v9982 : FVec F S1x256x256 .f32) (main_v9983 : FVec F S1x1x256 .f32) (main_v9988 : FVec F S1x256x256 .f32) (main_v9989 : IVec S1x256x256 32) : IVec S9x256x256 1 × IVec S8x256x256 1 :=
  let main_v9990 : IVec S1x256x256 1 := cmpi .sgt main_v9886 main_v9989
  let main_c_1577 : IVec S_ 32 := constantI S_ 32 5#32
  let main_v9991 : IVec S1x256x256 32 := broadcastInDim S1x256x256 ![] bcast_S_S1x256x256 main_c_1577
  let main_v9992 : IVec S1x256x256 1 := cmpi .sgt main_v9887 main_v9991
  let main_v9993 : IVec S1x256x256 1 := andi main_v9990 main_v9992
  let main_v9994 : FVec F S1x256x256 .f32 := broadcastInDim S1x256x256 ![0, 1, 2] bcast_S1x1x256_S1x256x256_0_1_2 main_v9983
  let main_v9995 : FVec F S1x256x256 .f32 := mulf main_v9988 main_v9994
  let main_v9996 : FVec F S1x256x256 .f32 := subf main_v9982 main_v9995
  let main_v9997 : FVec F S1x256x256 .f32 := select main_v9993 main_v9996 main_v9982
  let main_c_1578 : IVec S_ 32 := constantI S_ 32 5#32
  let main_v9998 : IVec S1x256x256 32 := broadcastInDim S1x256x256 ![] bcast_S_S1x256x256 main_c_1578
  let main_v9999 : IVec S1x256x256 1 := cmpi .eq main_v9887 main_v9998
  let main_v10000 : IVec S1x256x256 1 := andi main_v9990 main_v9999
  let main_v10001 : FVec F S1x256x256 .f32 := select main_v10000 main_v9988 main_v9997
  let main_v10002 : FVec F S1x1x256 .f32 := (extractStridedSlice S1x1x256 ![0, 6, 0] · slices_S1x256x256_S1x1x256_0_6_0) main_v10001
  let main_v10003 : FVec F S1x256x1 .f32 := (extractStridedSlice S1x256x1 ![0, 0, 6] · slices_S1x256x256_S1x256x1_0_0_6) main_v10001
  let main_v10004 : FVec F S1x1x1 .f32 := (extractStridedSlice S1x1x1 ![0, 0, 6] · slices_S1x1x256_S1x1x1_0_0_6) main_v10002
  let main_v10005 : FVec F S1x256x1 .f32 := broadcastInDim S1x256x1 ![0, 1, 2] bcast_S1x1x1_S1x256x1_0_1_2 main_v10004
  let main_v10006 : FVec F S1x256x1 .f32 := Host.divf main_v10003 main_v10005
  let main_v10007 : FVec F S1x256x256 .f32 := broadcastInDim S1x256x256 ![0, 1, 2] bcast_S1x256x1_S1x256x256_0_1_2 main_v10006
  let main_c_1579 : IVec S_ 32 := constantI S_ 32 6#32
  let main_v10008 : IVec S1x256x256 32 := broadcastInDim S1x256x256 ![] bcast_S_S1x256x256 main_c_1579
  let main_v10009 : IVec S1x256x256 1 := cmpi .sgt main_v9886 main_v10008
  let main_c_1580 : IVec S_ 32 := constantI S_ 32 6#32
  fn_part483 (F := F) main_arg0 main_v4875 main_v9852 main_v9886 main_v9887 main_v10001 main_v10002 main_v10007 main_v10009 main_c_1580

def fn_part481 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v9963 : FVec F S1x256x256 .f32) (main_v9964 : FVec F S1x1x256 .f32) (main_v9969 : FVec F S1x256x256 .f32) : IVec S9x256x256 1 × IVec S8x256x256 1 :=
  let main_c_1573 : IVec S_ 32 := constantI S_ 32 4#32
  let main_v9970 : IVec S1x256x256 32 := broadcastInDim S1x256x256 ![] bcast_S_S1x256x256 main_c_1573
  let main_v9971 : IVec S1x256x256 1 := cmpi .sgt main_v9886 main_v9970
  let main_c_1574 : IVec S_ 32 := constantI S_ 32 4#32
  let main_v9972 : IVec S1x256x256 32 := broadcastInDim S1x256x256 ![] bcast_S_S1x256x256 main_c_1574
  let main_v9973 : IVec S1x256x256 1 := cmpi .sgt main_v9887 main_v9972
  let main_v9974 : IVec S1x256x256 1 := andi main_v9971 main_v9973
  let main_v9975 : FVec F S1x256x256 .f32 := broadcastInDim S1x256x256 ![0, 1, 2] bcast_S1x1x256_S1x256x256_0_1_2 main_v9964
  let main_v9976 : FVec F S1x256x256 .f32 := mulf main_v9969 main_v9975
  let main_v9977 : FVec F S1x256x256 .f32 := subf main_v9963 main_v9976
  let main_v9978 : FVec F S1x256x256 .f32 := select main_v9974 main_v9977 main_v9963
  let main_c_1575 : IVec S_ 32 := constantI S_ 32 4#32
  let main_v9979 : IVec S1x256x256 32 := broadcastInDim S1x256x256 ![] bcast_S_S1x256x256 main_c_1575
  let main_v9980 : IVec S1x256x256 1 := cmpi .eq main_v9887 main_v9979
  let main_v9981 : IVec S1x256x256 1 := andi main_v9971 main_v9980
  let main_v9982 : FVec F S1x256x256 .f32 := select main_v9981 main_v9969 main_v9978
  let main_v9983 : FVec F S1x1x256 .f32 := (extractStridedSlice S1x1x256 ![0, 5, 0] · slices_S1x256x256_S1x1x256_0_5_0) main_v9982
  let main_v9984 : FVec F S1x256x1 .f32 := (extractStridedSlice S1x256x1 ![0, 0, 5] · slices_S1x256x256_S1x256x1_0_0_5) main_v9982
  let main_v9985 : FVec F S1x1x1 .f32 := (extractStridedSlice S1x1x1 ![0, 0, 5] · slices_S1x1x256_S1x1x1_0_0_5) main_v9983
  let main_v9986 : FVec F S1x256x1 .f32 := broadcastInDim S1x256x1 ![0, 1, 2] bcast_S1x1x1_S1x256x1_0_1_2 main_v9985
  let main_v9987 : FVec F S1x256x1 .f32 := Host.divf main_v9984 main_v9986
  let main_v9988 : FVec F S1x256x256 .f32 := broadcastInDim S1x256x256 ![0, 1, 2] bcast_S1x256x1_S1x256x256_0_1_2 main_v9987
  let main_c_1576 : IVec S_ 32 := constantI S_ 32 5#32
  let main_v9989 : IVec S1x256x256 32 := broadcastInDim S1x256x256 ![] bcast_S_S1x256x256 main_c_1576
  fn_part482 (F := F) main_arg0 main_v4875 main_v9852 main_v9886 main_v9887 main_v9982 main_v9983 main_v9988 main_v9989

def fn_part480 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v9944 : FVec F S1x256x256 .f32) (main_v9945 : FVec F S1x1x256 .f32) (main_v9946 : FVec F S1x256x1 .f32) (main_v9948 : FVec F S1x256x1 .f32) : IVec S9x256x256 1 × IVec S8x256x256 1 :=
  let main_v9949 : FVec F S1x256x1 .f32 := Host.divf main_v9946 main_v9948
  let main_v9950 : FVec F S1x256x256 .f32 := broadcastInDim S1x256x256 ![0, 1, 2] bcast_S1x256x1_S1x256x256_0_1_2 main_v9949
  let main_c_1570 : IVec S_ 32 := constantI S_ 32 3#32
  let main_v9951 : IVec S1x256x256 32 := broadcastInDim S1x256x256 ![] bcast_S_S1x256x256 main_c_1570
  let main_v9952 : IVec S1x256x256 1 := cmpi .sgt main_v9886 main_v9951
  let main_c_1571 : IVec S_ 32 := constantI S_ 32 3#32
  let main_v9953 : IVec S1x256x256 32 := broadcastInDim S1x256x256 ![] bcast_S_S1x256x256 main_c_1571
  let main_v9954 : IVec S1x256x256 1 := cmpi .sgt main_v9887 main_v9953
  let main_v9955 : IVec S1x256x256 1 := andi main_v9952 main_v9954
  let main_v9956 : FVec F S1x256x256 .f32 := broadcastInDim S1x256x256 ![0, 1, 2] bcast_S1x1x256_S1x256x256_0_1_2 main_v9945
  let main_v9957 : FVec F S1x256x256 .f32 := mulf main_v9950 main_v9956
  let main_v9958 : FVec F S1x256x256 .f32 := subf main_v9944 main_v9957
  let main_v9959 : FVec F S1x256x256 .f32 := select main_v9955 main_v9958 main_v9944
  let main_c_1572 : IVec S_ 32 := constantI S_ 32 3#32
  let main_v9960 : IVec S1x256x256 32 := broadcastInDim S1x256x256 ![] bcast_S_S1x256x256 main_c_1572
  let main_v9961 : IVec S1x256x256 1 := cmpi .eq main_v9887 main_v9960
  let main_v9962 : IVec S1x256x256 1 := andi main_v9952 main_v9961
  let main_v9963 : FVec F S1x256x256 .f32 := select main_v9962 main_v9950 main_v9959
  let main_v9964 : FVec F S1x1x256 .f32 := (extractStridedSlice S1x1x256 ![0, 4, 0] · slices_S1x256x256_S1x1x256_0_4_0) main_v9963
  let main_v9965 : FVec F S1x256x1 .f32 := (extractStridedSlice S1x256x1 ![0, 0, 4] · slices_S1x256x256_S1x256x1_0_0_4) main_v9963
  let main_v9966 : FVec F S1x1x1 .f32 := (extractStridedSlice S1x1x1 ![0, 0, 4] · slices_S1x1x256_S1x1x1_0_0_4) main_v9964
  let main_v9967 : FVec F S1x256x1 .f32 := broadcastInDim S1x256x1 ![0, 1, 2] bcast_S1x1x1_S1x256x1_0_1_2 main_v9966
  let main_v9968 : FVec F S1x256x1 .f32 := Host.divf main_v9965 main_v9967
  let main_v9969 : FVec F S1x256x256 .f32 := broadcastInDim S1x256x256 ![0, 1, 2] bcast_S1x256x1_S1x256x256_0_1_2 main_v9968
  fn_part481 (F := F) main_arg0 main_v4875 main_v9852 main_v9886 main_v9887 main_v9963 main_v9964 main_v9969

def fn_part479 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v9925 : FVec F S1x256x256 .f32) (main_v9926 : FVec F S1x1x256 .f32) (main_v9927 : FVec F S1x256x1 .f32) : IVec S9x256x256 1 × IVec S8x256x256 1 :=
  let main_v9928 : FVec F S1x1x1 .f32 := (extractStridedSlice S1x1x1 ![0, 0, 2] · slices_S1x1x256_S1x1x1_0_0_2) main_v9926
  let main_v9929 : FVec F S1x256x1 .f32 := broadcastInDim S1x256x1 ![0, 1, 2] bcast_S1x1x1_S1x256x1_0_1_2 main_v9928
  let main_v9930 : FVec F S1x256x1 .f32 := Host.divf main_v9927 main_v9929
  let main_v9931 : FVec F S1x256x256 .f32 := broadcastInDim S1x256x256 ![0, 1, 2] bcast_S1x256x1_S1x256x256_0_1_2 main_v9930
  let main_c_1567 : IVec S_ 32 := constantI S_ 32 2#32
  let main_v9932 : IVec S1x256x256 32 := broadcastInDim S1x256x256 ![] bcast_S_S1x256x256 main_c_1567
  let main_v9933 : IVec S1x256x256 1 := cmpi .sgt main_v9886 main_v9932
  let main_c_1568 : IVec S_ 32 := constantI S_ 32 2#32
  let main_v9934 : IVec S1x256x256 32 := broadcastInDim S1x256x256 ![] bcast_S_S1x256x256 main_c_1568
  let main_v9935 : IVec S1x256x256 1 := cmpi .sgt main_v9887 main_v9934
  let main_v9936 : IVec S1x256x256 1 := andi main_v9933 main_v9935
  let main_v9937 : FVec F S1x256x256 .f32 := broadcastInDim S1x256x256 ![0, 1, 2] bcast_S1x1x256_S1x256x256_0_1_2 main_v9926
  let main_v9938 : FVec F S1x256x256 .f32 := mulf main_v9931 main_v9937
  let main_v9939 : FVec F S1x256x256 .f32 := subf main_v9925 main_v9938
  let main_v9940 : FVec F S1x256x256 .f32 := select main_v9936 main_v9939 main_v9925
  let main_c_1569 : IVec S_ 32 := constantI S_ 32 2#32
  let main_v9941 : IVec S1x256x256 32 := broadcastInDim S1x256x256 ![] bcast_S_S1x256x256 main_c_1569
  let main_v9942 : IVec S1x256x256 1 := cmpi .eq main_v9887 main_v9941
  let main_v9943 : IVec S1x256x256 1 := andi main_v9933 main_v9942
  let main_v9944 : FVec F S1x256x256 .f32 := select main_v9943 main_v9931 main_v9940
  let main_v9945 : FVec F S1x1x256 .f32 := (extractStridedSlice S1x1x256 ![0, 3, 0] · slices_S1x256x256_S1x1x256_0_3_0) main_v9944
  let main_v9946 : FVec F S1x256x1 .f32 := (extractStridedSlice S1x256x1 ![0, 0, 3] · slices_S1x256x256_S1x256x1_0_0_3) main_v9944
  let main_v9947 : FVec F S1x1x1 .f32 := (extractStridedSlice S1x1x1 ![0, 0, 3] · slices_S1x1x256_S1x1x1_0_0_3) main_v9945
  let main_v9948 : FVec F S1x256x1 .f32 := broadcastInDim S1x256x1 ![0, 1, 2] bcast_S1x1x1_S1x256x1_0_1_2 main_v9947
  fn_part480 (F := F) main_arg0 main_v4875 main_v9852 main_v9886 main_v9887 main_v9944 main_v9945 main_v9946 main_v9948

def fn_part478 {F : FTy → Type} [FloatOps F] (main_arg0 : FVec F S9x256x256 .f32) (main_v4875 : FVec F S5x256x256 .f32) (main_v9852 : FVec F S2x256x256 .f32) (main_v9886 : IVec S1x256x256 32) (main_v9887 : IVec S1x256x256 32) (main_v9906 : FVec F S1x256x256 .f32) : IVec S9x256x256 1 × IVec S8x256x256 1 :=
  let main_v9907 : FVec F S1x1x256 .f32 := (extractStridedSlice S1x1x256 ![0, 1, 0] · slices_S1x256x256_S1x1x256_0_1_0) main_v9906
  let main_v9908 : FVec F S1x256x1 .f32 := (extractStridedSlice S1x256x1 ![0, 0, 1] · slices_S1x256x256_S1x256x1_0_0_1) main_v9906
  let main_v9909 : FVec F S1x1x1 .f32 := (extractStridedSlice S1x1x1 ![0, 0, 1] · slices_S1x1x256_S1x1x1_0_0_1) main_v9907
  let main_v9910 : FVec F S1x256x1 .f32 := broadcastInDim S1x256x1 ![0, 1, 2] bcast_S1x1x1_S1x256x1_0_1_2 main_v9909
  let main_v9911 : FVec F S1x256x1 .f32 := Host.divf main_v9908 main_v9910
  let main_v9912 : FVec F S1x256x256 .f32 := broadcastInDim S1x256x256 ![0, 1, 2] bcast_S1x256x1_S1x256x256_0_1_2 main_v9911
  let main_c_1564 : IVec S_ 32 := constantI S_ 32 1#32
  let main_v9913 : IVec S1x256x256 32 := broadcastInDim S1x256x256 ![] bcast_S_S1x256x256 main_c_1564
  let main_v9914 : IVec S1x256x256 1 := cmpi .sgt main_v9886 main_v9913
  let main_c_1565 : IVec S_ 32 := constantI S_ 32 1#32
  let main_v9915 : IVec S1x256x256 32 := broadcastInDim S1x256x256 ![] bcast_S_S1x256x256 main_c_1565
  let main_v9916 : IVec S1x256x256 1 := cmpi .sgt main_v9887 main_v9915
  let main_v9917 : IVec S1x256x256 1 := andi main_v9914 main_v9916
  let main_v9918 : FVec F S1x256x256 .f32 := broadcastInDim S1x256x256 ![0, 1, 2] bcast_S1x1x256_S1x256x256_0_1_2 main_v9907
  let main_v9919 : FVec F S1x256x256 .f32 := mulf main_v9912 main_v9918
  let main_v9920 : FVec F S1x256x256 .f32 := subf main_v9906 main_v9919
  let main_v9921 : FVec F S1x256x256 .f32 := select main_v9917 main_v9920 main_v9906
  let main_c_1566 : IVec S_ 32 := constantI S_ 32 1#32
  let main_v9922 : IVec S1x256x256 32 := broadcastInDim S1x256x256 ![] bcast_S_S1x256x256 main_c_1566
  let main_v9923 : IVec S1x256x256 1 := cmpi .eq main_v9887 main_v9922
  let main_v9924 : IVec S1x256x256 1 := andi main_v9914 main_v9923
  let main_v9925 : FVec F S1x256x256 .f32 := select main_v9924 main_v9912 main_v9921
  let main_v9926 : FVec F S1x1x256 .f32 := (extractStridedSlice S1x1x256 ![0, 2, 0] · slices_S1x256x256_S1x1x256_0_2_0) main_v9925
  let main_v9927 : FVec F S1x256x1 .f32 := (extractStridedSlice S1x256x1 ![0, 0, 2] · slices_S1x256x256_S1x256x1_0_0_2) main_v9925
  fn_part479 (F := F) main_arg0 main_v4875 main_v9852 main_v9886 main_v9887 main_v9925 main_v9926 main_v9927

def fn_part477 {F : FTy → Type} [FloatOps F] (main_arg0 : FVec F S9x256x256 .f32) (main_v4875 : FVec F S5x256x256 .f32) (main_v9852 : FVec F S2x256x256 .f32) (main_v9885 : FVec F S1x256x256 .f32) : IVec S9x256x256 1 × IVec S8x256x256 1 :=
  let main_v9886 : IVec S1x256x256 32 := iotaInDim S1x256x256 32 1
  let main_v9887 : IVec S1x256x256 32 := iotaInDim S1x256x256 32 2
  let main_v9888 : FVec F S1x1x256 .f32 := (extractStridedSlice S1x1x256 ![0, 0, 0] · slices_S1x256x256_S1x1x256_0_0_0) main_v9885
  let main_v9889 : FVec F S1x256x1 .f32 := (extractStridedSlice S1x256x1 ![0, 0, 0] · slices_S1x256x256_S1x256x1_0_0_0) main_v9885
  let main_v9890 : FVec F S1x1x1 .f32 := (extractStridedSlice S1x1x1 ![0, 0, 0] · slices_S1x1x256_S1x1x1_0_0_0) main_v9888
  let main_v9891 : FVec F S1x256x1 .f32 := broadcastInDim S1x256x1 ![0, 1, 2] bcast_S1x1x1_S1x256x1_0_1_2 main_v9890
  let main_v9892 : FVec F S1x256x1 .f32 := Host.divf main_v9889 main_v9891
  let main_v9893 : FVec F S1x256x256 .f32 := broadcastInDim S1x256x256 ![0, 1, 2] bcast_S1x256x1_S1x256x256_0_1_2 main_v9892
  let main_c_1561 : IVec S_ 32 := constantI S_ 32 0#32
  let main_v9894 : IVec S1x256x256 32 := broadcastInDim S1x256x256 ![] bcast_S_S1x256x256 main_c_1561
  let main_v9895 : IVec S1x256x256 1 := cmpi .sgt main_v9886 main_v9894
  let main_c_1562 : IVec S_ 32 := constantI S_ 32 0#32
  let main_v9896 : IVec S1x256x256 32 := broadcastInDim S1x256x256 ![] bcast_S_S1x256x256 main_c_1562
  let main_v9897 : IVec S1x256x256 1 := cmpi .sgt main_v9887 main_v9896
  let main_v9898 : IVec S1x256x256 1 := andi main_v9895 main_v9897
  let main_v9899 : FVec F S1x256x256 .f32 := broadcastInDim S1x256x256 ![0, 1, 2] bcast_S1x1x256_S1x256x256_0_1_2 main_v9888
  let main_v9900 : FVec F S1x256x256 .f32 := mulf main_v9893 main_v9899
  let main_v9901 : FVec F S1x256x256 .f32 := subf main_v9885 main_v9900
  let main_v9902 : FVec F S1x256x256 .f32 := select main_v9898 main_v9901 main_v9885
  let main_c_1563 : IVec S_ 32 := constantI S_ 32 0#32
  let main_v9903 : IVec S1x256x256 32 := broadcastInDim S1x256x256 ![] bcast_S_S1x256x256 main_c_1563
  let main_v9904 : IVec S1x256x256 1 := cmpi .eq main_v9887 main_v9903
  let main_v9905 : IVec S1x256x256 1 := andi main_v9895 main_v9904
  let main_v9906 : FVec F S1x256x256 .f32 := select main_v9905 main_v9893 main_v9902
  fn_part478 (F := F) main_arg0 main_v4875 main_v9852 main_v9886 main_v9887 main_v9906

def fn_part476 {F : FTy → Type} [FloatOps F] (main_arg0 : FVec F S9x256x256 .f32) (main_v4875 : FVec F S5x256x256 .f32) (main_v9852 : FVec F S2x256x256 .f32) (main_v9863 : FVec F S1x256x256 .f32) (main_v9864 : FVec F S1x1x1 .f32) (main_v9865 : IVec S1x256x256 32) : IVec S9x256x256 1 × IVec S8x256x256 1 :=
  let main_v9866 : IVec S1x256x256 32 := iotaInDim S1x256x256 32 2
  let main_c_1557 : IVec S_ 32 := constantI S_ 32 0#32
  let main_v9867 : IVec S1x256x256 32 := broadcastInDim S1x256x256 ![] bcast_S_S1x256x256 main_c_1557
  let main_v9868 : IVec S1x256x256 1 := cmpi .eq main_v9865 main_v9867
  let main_c_1558 : IVec S_ 32 := constantI S_ 32 0#32
  let main_v9869 : IVec S1x256x256 32 := broadcastInDim S1x256x256 ![] bcast_S_S1x256x256 main_c_1558
  let main_v9870 : IVec S1x256x256 1 := cmpi .eq main_v9866 main_v9869
  let main_v9871 : IVec S1x256x256 1 := andi main_v9868 main_v9870
  let main_v9872 : FVec F S1x256x256 .f32 := broadcastInDim S1x256x256 ![0, 1, 2] bcast_S1x1x1_S1x256x256_0_1_2 main_v9864
  let main_v9873 : FVec F S1x256x256 .f32 := subf main_v9863 main_v9872
  let main_v9874 : FVec F S1x256x256 .f32 := select main_v9871 main_v9873 main_v9863
  let main_v9875 : FVec F S1x1x1 .f32 := (extractStridedSlice S1x1x1 ![1, 1, 1] · slices_S2x256x256_S1x1x1_1_1_1) main_v9852
  let main_v9876 : IVec S1x256x256 32 := iotaInDim S1x256x256 32 1
  let main_v9877 : IVec S1x256x256 32 := iotaInDim S1x256x256 32 2
  let main_c_1559 : IVec S_ 32 := constantI S_ 32 0#32
  let main_v9878 : IVec S1x256x256 32 := broadcastInDim S1x256x256 ![] bcast_S_S1x256x256 main_c_1559
  let main_v9879 : IVec S1x256x256 1 := cmpi .eq main_v9876 main_v9878
  let main_c_1560 : IVec S_ 32 := constantI S_ 32 0#32
  let main_v9880 : IVec S1x256x256 32 := broadcastInDim S1x256x256 ![] bcast_S_S1x256x256 main_c_1560
  let main_v9881 : IVec S1x256x256 1 := cmpi .eq main_v9877 main_v9880
  let main_v9882 : IVec S1x256x256 1 := andi main_v9879 main_v9881
  let main_v9883 : FVec F S1x256x256 .f32 := broadcastInDim S1x256x256 ![0, 1, 2] bcast_S1x1x1_S1x256x256_0_1_2 main_v9875
  let main_v9884 : FVec F S1x256x256 .f32 := subf main_v9874 main_v9883
  let main_v9885 : FVec F S1x256x256 .f32 := select main_v9882 main_v9884 main_v9874
  fn_part477 (F := F) main_arg0 main_v4875 main_v9852 main_v9885

def fn_part475 {F : FTy → Type} [FloatOps F] (main_arg0 : FVec F S9x256x256 .f32) (main_v8 : FVec F S1x256x256 .f32) (main_v4875 : FVec F S5x256x256 .f32) (main_v4988 : IVec S2x256x256 32) (main_v9833 : FVec F S2x256x256 .f32) (main_v9834 : FVec F S2x1x256 .f32) (main_v9839 : FVec F S2x256x256 .f32) (main_v9841 : IVec S2x256x256 1) (main_v9844 : IVec S2x256x256 1) : IVec S9x256x256 1 × IVec S8x256x256 1 :=
  let main_v9845 : FVec F S2x256x256 .f32 := broadcastInDim S2x256x256 ![0, 1, 2] bcast_S2x1x256_S2x256x256_0_1_2 main_v9834
  let main_v9846 : FVec F S2x256x256 .f32 := mulf main_v9839 main_v9845
  let main_v9847 : FVec F S2x256x256 .f32 := subf main_v9833 main_v9846
  let main_v9848 : FVec F S2x256x256 .f32 := select main_v9844 main_v9847 main_v9833
  let main_c_1554 : IVec S_ 32 := constantI S_ 32 255#32
  let main_v9849 : IVec S2x256x256 32 := broadcastInDim S2x256x256 ![] bcast_S_S2x256x256 main_c_1554
  let main_v9850 : IVec S2x256x256 1 := cmpi .eq main_v4988 main_v9849
  let main_v9851 : IVec S2x256x256 1 := andi main_v9841 main_v9850
  let main_v9852 : FVec F S2x256x256 .f32 := select main_v9851 main_v9839 main_v9848
  let main_v9853 : FVec F S1x1x1 .f32 := (extractStridedSlice S1x1x1 ![0, 1, 1] · slices_S5x256x256_S1x1x1_0_1_1) main_v4875
  let main_v9854 : IVec S1x256x256 32 := iotaInDim S1x256x256 32 1
  let main_v9855 : IVec S1x256x256 32 := iotaInDim S1x256x256 32 2
  let main_c_1555 : IVec S_ 32 := constantI S_ 32 0#32
  let main_v9856 : IVec S1x256x256 32 := broadcastInDim S1x256x256 ![] bcast_S_S1x256x256 main_c_1555
  let main_v9857 : IVec S1x256x256 1 := cmpi .eq main_v9854 main_v9856
  let main_c_1556 : IVec S_ 32 := constantI S_ 32 0#32
  let main_v9858 : IVec S1x256x256 32 := broadcastInDim S1x256x256 ![] bcast_S_S1x256x256 main_c_1556
  let main_v9859 : IVec S1x256x256 1 := cmpi .eq main_v9855 main_v9858
  let main_v9860 : IVec S1x256x256 1 := andi main_v9857 main_v9859
  let main_v9861 : FVec F S1x256x256 .f32 := broadcastInDim S1x256x256 ![0, 1, 2] bcast_S1x1x1_S1x256x256_0_1_2 main_v9853
  let main_v9862 : FVec F S1x256x256 .f32 := subf main_v8 main_v9861
  let main_v9863 : FVec F S1x256x256 .f32 := select main_v9860 main_v9862 main_v8
  let main_v9864 : FVec F S1x1x1 .f32 := (extractStridedSlice S1x1x1 ![0, 1, 1] · slices_S2x256x256_S1x1x1_0_1_1) main_v9852
  let main_v9865 : IVec S1x256x256 32 := iotaInDim S1x256x256 32 1
  fn_part476 (F := F) main_arg0 main_v4875 main_v9852 main_v9863 main_v9864 main_v9865

def fn_part474 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9814 : FVec F S2x256x256 .f32) (main_v9815 : FVec F S2x1x256 .f32) (main_v9820 : FVec F S2x256x256 .f32) (main_v9822 : IVec S2x256x256 1) (main_v9823 : IVec S2x256x256 32) : IVec S9x256x256 1 × IVec S8x256x256 1 :=
  let main_v9824 : IVec S2x256x256 1 := cmpi .sgt main_v4988 main_v9823
  let main_v9825 : IVec S2x256x256 1 := andi main_v9822 main_v9824
  let main_v9826 : FVec F S2x256x256 .f32 := broadcastInDim S2x256x256 ![0, 1, 2] bcast_S2x1x256_S2x256x256_0_1_2 main_v9815
  let main_v9827 : FVec F S2x256x256 .f32 := mulf main_v9820 main_v9826
  let main_v9828 : FVec F S2x256x256 .f32 := subf main_v9814 main_v9827
  let main_v9829 : FVec F S2x256x256 .f32 := select main_v9825 main_v9828 main_v9814
  let main_c_1551 : IVec S_ 32 := constantI S_ 32 254#32
  let main_v9830 : IVec S2x256x256 32 := broadcastInDim S2x256x256 ![] bcast_S_S2x256x256 main_c_1551
  let main_v9831 : IVec S2x256x256 1 := cmpi .eq main_v4988 main_v9830
  let main_v9832 : IVec S2x256x256 1 := andi main_v9822 main_v9831
  let main_v9833 : FVec F S2x256x256 .f32 := select main_v9832 main_v9820 main_v9829
  let main_v9834 : FVec F S2x1x256 .f32 := (extractStridedSlice S2x1x256 ![0, 255, 0] · slices_S2x256x256_S2x1x256_0_255_0) main_v9833
  let main_v9835 : FVec F S2x256x1 .f32 := (extractStridedSlice S2x256x1 ![0, 0, 255] · slices_S2x256x256_S2x256x1_0_0_255) main_v9833
  let main_v9836 : FVec F S2x1x1 .f32 := (extractStridedSlice S2x1x1 ![0, 0, 255] · slices_S2x1x256_S2x1x1_0_0_255) main_v9834
  let main_v9837 : FVec F S2x256x1 .f32 := broadcastInDim S2x256x1 ![0, 1, 2] bcast_S2x1x1_S2x256x1_0_1_2 main_v9836
  let main_v9838 : FVec F S2x256x1 .f32 := Host.divf main_v9835 main_v9837
  let main_v9839 : FVec F S2x256x256 .f32 := broadcastInDim S2x256x256 ![0, 1, 2] bcast_S2x256x1_S2x256x256_0_1_2 main_v9838
  let main_c_1552 : IVec S_ 32 := constantI S_ 32 255#32
  let main_v9840 : IVec S2x256x256 32 := broadcastInDim S2x256x256 ![] bcast_S_S2x256x256 main_c_1552
  let main_v9841 : IVec S2x256x256 1 := cmpi .sgt main_v4987 main_v9840
  let main_c_1553 : IVec S_ 32 := constantI S_ 32 255#32
  let main_v9842 : IVec S2x256x256 32 := broadcastInDim S2x256x256 ![] bcast_S_S2x256x256 main_c_1553
  let main_v9843 : IVec S2x256x256 1 := cmpi .sgt main_v4988 main_v9842
  let main_v9844 : IVec S2x256x256 1 := andi main_v9841 main_v9843
  fn_part475 (F := F) main_arg0 main_v8 main_v4875 main_v4988 main_v9833 main_v9834 main_v9839 main_v9841 main_v9844

def fn_part473 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9795 : FVec F S2x256x256 .f32) (main_v9796 : FVec F S2x1x256 .f32) (main_v9801 : FVec F S2x256x256 .f32) (main_v9803 : IVec S2x256x256 1) : IVec S9x256x256 1 × IVec S8x256x256 1 :=
  let main_c_1547 : IVec S_ 32 := constantI S_ 32 253#32
  let main_v9804 : IVec S2x256x256 32 := broadcastInDim S2x256x256 ![] bcast_S_S2x256x256 main_c_1547
  let main_v9805 : IVec S2x256x256 1 := cmpi .sgt main_v4988 main_v9804
  let main_v9806 : IVec S2x256x256 1 := andi main_v9803 main_v9805
  let main_v9807 : FVec F S2x256x256 .f32 := broadcastInDim S2x256x256 ![0, 1, 2] bcast_S2x1x256_S2x256x256_0_1_2 main_v9796
  let main_v9808 : FVec F S2x256x256 .f32 := mulf main_v9801 main_v9807
  let main_v9809 : FVec F S2x256x256 .f32 := subf main_v9795 main_v9808
  let main_v9810 : FVec F S2x256x256 .f32 := select main_v9806 main_v9809 main_v9795
  let main_c_1548 : IVec S_ 32 := constantI S_ 32 253#32
  let main_v9811 : IVec S2x256x256 32 := broadcastInDim S2x256x256 ![] bcast_S_S2x256x256 main_c_1548
  let main_v9812 : IVec S2x256x256 1 := cmpi .eq main_v4988 main_v9811
  let main_v9813 : IVec S2x256x256 1 := andi main_v9803 main_v9812
  let main_v9814 : FVec F S2x256x256 .f32 := select main_v9813 main_v9801 main_v9810
  let main_v9815 : FVec F S2x1x256 .f32 := (extractStridedSlice S2x1x256 ![0, 254, 0] · slices_S2x256x256_S2x1x256_0_254_0) main_v9814
  let main_v9816 : FVec F S2x256x1 .f32 := (extractStridedSlice S2x256x1 ![0, 0, 254] · slices_S2x256x256_S2x256x1_0_0_254) main_v9814
  let main_v9817 : FVec F S2x1x1 .f32 := (extractStridedSlice S2x1x1 ![0, 0, 254] · slices_S2x1x256_S2x1x1_0_0_254) main_v9815
  let main_v9818 : FVec F S2x256x1 .f32 := broadcastInDim S2x256x1 ![0, 1, 2] bcast_S2x1x1_S2x256x1_0_1_2 main_v9817
  let main_v9819 : FVec F S2x256x1 .f32 := Host.divf main_v9816 main_v9818
  let main_v9820 : FVec F S2x256x256 .f32 := broadcastInDim S2x256x256 ![0, 1, 2] bcast_S2x256x1_S2x256x256_0_1_2 main_v9819
  let main_c_1549 : IVec S_ 32 := constantI S_ 32 254#32
  let main_v9821 : IVec S2x256x256 32 := broadcastInDim S2x256x256 ![] bcast_S_S2x256x256 main_c_1549
  let main_v9822 : IVec S2x256x256 1 := cmpi .sgt main_v4987 main_v9821
  let main_c_1550 : IVec S_ 32 := constantI S_ 32 254#32
  let main_v9823 : IVec S2x256x256 32 := broadcastInDim S2x256x256 ![] bcast_S_S2x256x256 main_c_1550
  fn_part474 (F := F) main_arg0 main_v8 main_v4875 main_v4987 main_v4988 main_v9814 main_v9815 main_v9820 main_v9822 main_v9823

def fn_part472 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9776 : FVec F S2x256x256 .f32) (main_v9777 : FVec F S2x1x256 .f32) (main_v9782 : FVec F S2x256x256 .f32) (main_c_1543 : IVec S_ 32) : IVec S9x256x256 1 × IVec S8x256x256 1 :=
  let main_v9783 : IVec S2x256x256 32 := broadcastInDim S2x256x256 ![] bcast_S_S2x256x256 main_c_1543
  let main_v9784 : IVec S2x256x256 1 := cmpi .sgt main_v4987 main_v9783
  let main_c_1544 : IVec S_ 32 := constantI S_ 32 252#32
  let main_v9785 : IVec S2x256x256 32 := broadcastInDim S2x256x256 ![] bcast_S_S2x256x256 main_c_1544
  let main_v9786 : IVec S2x256x256 1 := cmpi .sgt main_v4988 main_v9785
  let main_v9787 : IVec S2x256x256 1 := andi main_v9784 main_v9786
  let main_v9788 : FVec F S2x256x256 .f32 := broadcastInDim S2x256x256 ![0, 1, 2] bcast_S2x1x256_S2x256x256_0_1_2 main_v9777
  let main_v9789 : FVec F S2x256x256 .f32 := mulf main_v9782 main_v9788
  let main_v9790 : FVec F S2x256x256 .f32 := subf main_v9776 main_v9789
  let main_v9791 : FVec F S2x256x256 .f32 := select main_v9787 main_v9790 main_v9776
  let main_c_1545 : IVec S_ 32 := constantI S_ 32 252#32
  let main_v9792 : IVec S2x256x256 32 := broadcastInDim S2x256x256 ![] bcast_S_S2x256x256 main_c_1545
  let main_v9793 : IVec S2x256x256 1 := cmpi .eq main_v4988 main_v9792
  let main_v9794 : IVec S2x256x256 1 := andi main_v9784 main_v9793
  let main_v9795 : FVec F S2x256x256 .f32 := select main_v9794 main_v9782 main_v9791
  let main_v9796 : FVec F S2x1x256 .f32 := (extractStridedSlice S2x1x256 ![0, 253, 0] · slices_S2x256x256_S2x1x256_0_253_0) main_v9795
  let main_v9797 : FVec F S2x256x1 .f32 := (extractStridedSlice S2x256x1 ![0, 0, 253] · slices_S2x256x256_S2x256x1_0_0_253) main_v9795
  let main_v9798 : FVec F S2x1x1 .f32 := (extractStridedSlice S2x1x1 ![0, 0, 253] · slices_S2x1x256_S2x1x1_0_0_253) main_v9796
  let main_v9799 : FVec F S2x256x1 .f32 := broadcastInDim S2x256x1 ![0, 1, 2] bcast_S2x1x1_S2x256x1_0_1_2 main_v9798
  let main_v9800 : FVec F S2x256x1 .f32 := Host.divf main_v9797 main_v9799
  let main_v9801 : FVec F S2x256x256 .f32 := broadcastInDim S2x256x256 ![0, 1, 2] bcast_S2x256x1_S2x256x256_0_1_2 main_v9800
  let main_c_1546 : IVec S_ 32 := constantI S_ 32 253#32
  let main_v9802 : IVec S2x256x256 32 := broadcastInDim S2x256x256 ![] bcast_S_S2x256x256 main_c_1546
  let main_v9803 : IVec S2x256x256 1 := cmpi .sgt main_v4987 main_v9802
  fn_part473 (F := F) main_arg0 main_v8 main_v4875 main_v4987 main_v4988 main_v9795 main_v9796 main_v9801 main_v9803

def fn_part471 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9757 : FVec F S2x256x256 .f32) (main_v9758 : FVec F S2x1x256 .f32) (main_v9762 : FVec F S2x256x1 .f32) : IVec S9x256x256 1 × IVec S8x256x256 1 :=
  let main_v9763 : FVec F S2x256x256 .f32 := broadcastInDim S2x256x256 ![0, 1, 2] bcast_S2x256x1_S2x256x256_0_1_2 main_v9762
  let main_c_1540 : IVec S_ 32 := constantI S_ 32 251#32
  let main_v9764 : IVec S2x256x256 32 := broadcastInDim S2x256x256 ![] bcast_S_S2x256x256 main_c_1540
  let main_v9765 : IVec S2x256x256 1 := cmpi .sgt main_v4987 main_v9764
  let main_c_1541 : IVec S_ 32 := constantI S_ 32 251#32
  let main_v9766 : IVec S2x256x256 32 := broadcastInDim S2x256x256 ![] bcast_S_S2x256x256 main_c_1541
  let main_v9767 : IVec S2x256x256 1 := cmpi .sgt main_v4988 main_v9766
  let main_v9768 : IVec S2x256x256 1 := andi main_v9765 main_v9767
  let main_v9769 : FVec F S2x256x256 .f32 := broadcastInDim S2x256x256 ![0, 1, 2] bcast_S2x1x256_S2x256x256_0_1_2 main_v9758
  let main_v9770 : FVec F S2x256x256 .f32 := mulf main_v9763 main_v9769
  let main_v9771 : FVec F S2x256x256 .f32 := subf main_v9757 main_v9770
  let main_v9772 : FVec F S2x256x256 .f32 := select main_v9768 main_v9771 main_v9757
  let main_c_1542 : IVec S_ 32 := constantI S_ 32 251#32
  let main_v9773 : IVec S2x256x256 32 := broadcastInDim S2x256x256 ![] bcast_S_S2x256x256 main_c_1542
  let main_v9774 : IVec S2x256x256 1 := cmpi .eq main_v4988 main_v9773
  let main_v9775 : IVec S2x256x256 1 := andi main_v9765 main_v9774
  let main_v9776 : FVec F S2x256x256 .f32 := select main_v9775 main_v9763 main_v9772
  let main_v9777 : FVec F S2x1x256 .f32 := (extractStridedSlice S2x1x256 ![0, 252, 0] · slices_S2x256x256_S2x1x256_0_252_0) main_v9776
  let main_v9778 : FVec F S2x256x1 .f32 := (extractStridedSlice S2x256x1 ![0, 0, 252] · slices_S2x256x256_S2x256x1_0_0_252) main_v9776
  let main_v9779 : FVec F S2x1x1 .f32 := (extractStridedSlice S2x1x1 ![0, 0, 252] · slices_S2x1x256_S2x1x1_0_0_252) main_v9777
  let main_v9780 : FVec F S2x256x1 .f32 := broadcastInDim S2x256x1 ![0, 1, 2] bcast_S2x1x1_S2x256x1_0_1_2 main_v9779
  let main_v9781 : FVec F S2x256x1 .f32 := Host.divf main_v9778 main_v9780
  let main_v9782 : FVec F S2x256x256 .f32 := broadcastInDim S2x256x256 ![0, 1, 2] bcast_S2x256x1_S2x256x256_0_1_2 main_v9781
  let main_c_1543 : IVec S_ 32 := constantI S_ 32 252#32
  fn_part472 (F := F) main_arg0 main_v8 main_v4875 main_v4987 main_v4988 main_v9776 main_v9777 main_v9782 main_c_1543

def fn_part470 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9738 : FVec F S2x256x256 .f32) (main_v9739 : FVec F S2x1x256 .f32) (main_v9740 : FVec F S2x256x1 .f32) (main_v9741 : FVec F S2x1x1 .f32) : IVec S9x256x256 1 × IVec S8x256x256 1 :=
  let main_v9742 : FVec F S2x256x1 .f32 := broadcastInDim S2x256x1 ![0, 1, 2] bcast_S2x1x1_S2x256x1_0_1_2 main_v9741
  let main_v9743 : FVec F S2x256x1 .f32 := Host.divf main_v9740 main_v9742
  let main_v9744 : FVec F S2x256x256 .f32 := broadcastInDim S2x256x256 ![0, 1, 2] bcast_S2x256x1_S2x256x256_0_1_2 main_v9743
  let main_c_1537 : IVec S_ 32 := constantI S_ 32 250#32
  let main_v9745 : IVec S2x256x256 32 := broadcastInDim S2x256x256 ![] bcast_S_S2x256x256 main_c_1537
  let main_v9746 : IVec S2x256x256 1 := cmpi .sgt main_v4987 main_v9745
  let main_c_1538 : IVec S_ 32 := constantI S_ 32 250#32
  let main_v9747 : IVec S2x256x256 32 := broadcastInDim S2x256x256 ![] bcast_S_S2x256x256 main_c_1538
  let main_v9748 : IVec S2x256x256 1 := cmpi .sgt main_v4988 main_v9747
  let main_v9749 : IVec S2x256x256 1 := andi main_v9746 main_v9748
  let main_v9750 : FVec F S2x256x256 .f32 := broadcastInDim S2x256x256 ![0, 1, 2] bcast_S2x1x256_S2x256x256_0_1_2 main_v9739
  let main_v9751 : FVec F S2x256x256 .f32 := mulf main_v9744 main_v9750
  let main_v9752 : FVec F S2x256x256 .f32 := subf main_v9738 main_v9751
  let main_v9753 : FVec F S2x256x256 .f32 := select main_v9749 main_v9752 main_v9738
  let main_c_1539 : IVec S_ 32 := constantI S_ 32 250#32
  let main_v9754 : IVec S2x256x256 32 := broadcastInDim S2x256x256 ![] bcast_S_S2x256x256 main_c_1539
  let main_v9755 : IVec S2x256x256 1 := cmpi .eq main_v4988 main_v9754
  let main_v9756 : IVec S2x256x256 1 := andi main_v9746 main_v9755
  let main_v9757 : FVec F S2x256x256 .f32 := select main_v9756 main_v9744 main_v9753
  let main_v9758 : FVec F S2x1x256 .f32 := (extractStridedSlice S2x1x256 ![0, 251, 0] · slices_S2x256x256_S2x1x256_0_251_0) main_v9757
  let main_v9759 : FVec F S2x256x1 .f32 := (extractStridedSlice S2x256x1 ![0, 0, 251] · slices_S2x256x256_S2x256x1_0_0_251) main_v9757
  let main_v9760 : FVec F S2x1x1 .f32 := (extractStridedSlice S2x1x1 ![0, 0, 251] · slices_S2x1x256_S2x1x1_0_0_251) main_v9758
  let main_v9761 : FVec F S2x256x1 .f32 := broadcastInDim S2x256x1 ![0, 1, 2] bcast_S2x1x1_S2x256x1_0_1_2 main_v9760
  let main_v9762 : FVec F S2x256x1 .f32 := Host.divf main_v9759 main_v9761
  fn_part471 (F := F) main_arg0 main_v8 main_v4875 main_v4987 main_v4988 main_v9757 main_v9758 main_v9762

def fn_part469 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9719 : FVec F S2x256x256 .f32) (main_v9720 : FVec F S2x1x256 .f32) : IVec S9x256x256 1 × IVec S8x256x256 1 :=
  let main_v9721 : FVec F S2x256x1 .f32 := (extractStridedSlice S2x256x1 ![0, 0, 249] · slices_S2x256x256_S2x256x1_0_0_249) main_v9719
  let main_v9722 : FVec F S2x1x1 .f32 := (extractStridedSlice S2x1x1 ![0, 0, 249] · slices_S2x1x256_S2x1x1_0_0_249) main_v9720
  let main_v9723 : FVec F S2x256x1 .f32 := broadcastInDim S2x256x1 ![0, 1, 2] bcast_S2x1x1_S2x256x1_0_1_2 main_v9722
  let main_v9724 : FVec F S2x256x1 .f32 := Host.divf main_v9721 main_v9723
  let main_v9725 : FVec F S2x256x256 .f32 := broadcastInDim S2x256x256 ![0, 1, 2] bcast_S2x256x1_S2x256x256_0_1_2 main_v9724
  let main_c_1534 : IVec S_ 32 := constantI S_ 32 249#32
  let main_v9726 : IVec S2x256x256 32 := broadcastInDim S2x256x256 ![] bcast_S_S2x256x256 main_c_1534
  let main_v9727 : IVec S2x256x256 1 := cmpi .sgt main_v4987 main_v9726
  let main_c_1535 : IVec S_ 32 := constantI S_ 32 249#32
  let main_v9728 : IVec S2x256x256 32 := broadcastInDim S2x256x256 ![] bcast_S_S2x256x256 main_c_1535
  let main_v9729 : IVec S2x256x256 1 := cmpi .sgt main_v4988 main_v9728
  let main_v9730 : IVec S2x256x256 1 := andi main_v9727 main_v9729
  let main_v9731 : FVec F S2x256x256 .f32 := broadcastInDim S2x256x256 ![0, 1, 2] bcast_S2x1x256_S2x256x256_0_1_2 main_v9720
  let main_v9732 : FVec F S2x256x256 .f32 := mulf main_v9725 main_v9731
  let main_v9733 : FVec F S2x256x256 .f32 := subf main_v9719 main_v9732
  let main_v9734 : FVec F S2x256x256 .f32 := select main_v9730 main_v9733 main_v9719
  let main_c_1536 : IVec S_ 32 := constantI S_ 32 249#32
  let main_v9735 : IVec S2x256x256 32 := broadcastInDim S2x256x256 ![] bcast_S_S2x256x256 main_c_1536
  let main_v9736 : IVec S2x256x256 1 := cmpi .eq main_v4988 main_v9735
  let main_v9737 : IVec S2x256x256 1 := andi main_v9727 main_v9736
  let main_v9738 : FVec F S2x256x256 .f32 := select main_v9737 main_v9725 main_v9734
  let main_v9739 : FVec F S2x1x256 .f32 := (extractStridedSlice S2x1x256 ![0, 250, 0] · slices_S2x256x256_S2x1x256_0_250_0) main_v9738
  let main_v9740 : FVec F S2x256x1 .f32 := (extractStridedSlice S2x256x1 ![0, 0, 250] · slices_S2x256x256_S2x256x1_0_0_250) main_v9738
  let main_v9741 : FVec F S2x1x1 .f32 := (extractStridedSlice S2x1x1 ![0, 0, 250] · slices_S2x1x256_S2x1x1_0_0_250) main_v9739
  fn_part470 (F := F) main_arg0 main_v8 main_v4875 main_v4987 main_v4988 main_v9738 main_v9739 main_v9740 main_v9741

def fn_part468 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9687 : FVec F S2x256x256 .f32) (main_v9696 : FVec F S2x256x256 .f32) (main_v9699 : IVec S2x256x256 1) : IVec S9x256x256 1 × IVec S8x256x256 1 :=
  let main_v9700 : FVec F S2x256x256 .f32 := select main_v9699 main_v9687 main_v9696
  let main_v9701 : FVec F S2x1x256 .f32 := (extractStridedSlice S2x1x256 ![0, 248, 0] · slices_S2x256x256_S2x1x256_0_248_0) main_v9700
  let main_v9702 : FVec F S2x256x1 .f32 := (extractStridedSlice S2x256x1 ![0, 0, 248] · slices_S2x256x256_S2x256x1_0_0_248) main_v9700
  let main_v9703 : FVec F S2x1x1 .f32 := (extractStridedSlice S2x1x1 ![0, 0, 248] · slices_S2x1x256_S2x1x1_0_0_248) main_v9701
  let main_v9704 : FVec F S2x256x1 .f32 := broadcastInDim S2x256x1 ![0, 1, 2] bcast_S2x1x1_S2x256x1_0_1_2 main_v9703
  let main_v9705 : FVec F S2x256x1 .f32 := Host.divf main_v9702 main_v9704
  let main_v9706 : FVec F S2x256x256 .f32 := broadcastInDim S2x256x256 ![0, 1, 2] bcast_S2x256x1_S2x256x256_0_1_2 main_v9705
  let main_c_1531 : IVec S_ 32 := constantI S_ 32 248#32
  let main_v9707 : IVec S2x256x256 32 := broadcastInDim S2x256x256 ![] bcast_S_S2x256x256 main_c_1531
  let main_v9708 : IVec S2x256x256 1 := cmpi .sgt main_v4987 main_v9707
  let main_c_1532 : IVec S_ 32 := constantI S_ 32 248#32
  let main_v9709 : IVec S2x256x256 32 := broadcastInDim S2x256x256 ![] bcast_S_S2x256x256 main_c_1532
  let main_v9710 : IVec S2x256x256 1 := cmpi .sgt main_v4988 main_v9709
  let main_v9711 : IVec S2x256x256 1 := andi main_v9708 main_v9710
  let main_v9712 : FVec F S2x256x256 .f32 := broadcastInDim S2x256x256 ![0, 1, 2] bcast_S2x1x256_S2x256x256_0_1_2 main_v9701
  let main_v9713 : FVec F S2x256x256 .f32 := mulf main_v9706 main_v9712
  let main_v9714 : FVec F S2x256x256 .f32 := subf main_v9700 main_v9713
  let main_v9715 : FVec F S2x256x256 .f32 := select main_v9711 main_v9714 main_v9700
  let main_c_1533 : IVec S_ 32 := constantI S_ 32 248#32
  let main_v9716 : IVec S2x256x256 32 := broadcastInDim S2x256x256 ![] bcast_S_S2x256x256 main_c_1533
  let main_v9717 : IVec S2x256x256 1 := cmpi .eq main_v4988 main_v9716
  let main_v9718 : IVec S2x256x256 1 := andi main_v9708 main_v9717
  let main_v9719 : FVec F S2x256x256 .f32 := select main_v9718 main_v9706 main_v9715
  let main_v9720 : FVec F S2x1x256 .f32 := (extractStridedSlice S2x1x256 ![0, 249, 0] · slices_S2x256x256_S2x1x256_0_249_0) main_v9719
  fn_part469 (F := F) main_arg0 main_v8 main_v4875 main_v4987 main_v4988 main_v9719 main_v9720

def fn_part467 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9668 : FVec F S2x256x256 .f32) (main_v9670 : IVec S2x256x256 1) (main_v9677 : FVec F S2x256x256 .f32) (main_v9678 : IVec S2x256x256 32) : IVec S9x256x256 1 × IVec S8x256x256 1 :=
  let main_v9679 : IVec S2x256x256 1 := cmpi .eq main_v4988 main_v9678
  let main_v9680 : IVec S2x256x256 1 := andi main_v9670 main_v9679
  let main_v9681 : FVec F S2x256x256 .f32 := select main_v9680 main_v9668 main_v9677
  let main_v9682 : FVec F S2x1x256 .f32 := (extractStridedSlice S2x1x256 ![0, 247, 0] · slices_S2x256x256_S2x1x256_0_247_0) main_v9681
  let main_v9683 : FVec F S2x256x1 .f32 := (extractStridedSlice S2x256x1 ![0, 0, 247] · slices_S2x256x256_S2x256x1_0_0_247) main_v9681
  let main_v9684 : FVec F S2x1x1 .f32 := (extractStridedSlice S2x1x1 ![0, 0, 247] · slices_S2x1x256_S2x1x1_0_0_247) main_v9682
  let main_v9685 : FVec F S2x256x1 .f32 := broadcastInDim S2x256x1 ![0, 1, 2] bcast_S2x1x1_S2x256x1_0_1_2 main_v9684
  let main_v9686 : FVec F S2x256x1 .f32 := Host.divf main_v9683 main_v9685
  let main_v9687 : FVec F S2x256x256 .f32 := broadcastInDim S2x256x256 ![0, 1, 2] bcast_S2x256x1_S2x256x256_0_1_2 main_v9686
  let main_c_1528 : IVec S_ 32 := constantI S_ 32 247#32
  let main_v9688 : IVec S2x256x256 32 := broadcastInDim S2x256x256 ![] bcast_S_S2x256x256 main_c_1528
  let main_v9689 : IVec S2x256x256 1 := cmpi .sgt main_v4987 main_v9688
  let main_c_1529 : IVec S_ 32 := constantI S_ 32 247#32
  let main_v9690 : IVec S2x256x256 32 := broadcastInDim S2x256x256 ![] bcast_S_S2x256x256 main_c_1529
  let main_v9691 : IVec S2x256x256 1 := cmpi .sgt main_v4988 main_v9690
  let main_v9692 : IVec S2x256x256 1 := andi main_v9689 main_v9691
  let main_v9693 : FVec F S2x256x256 .f32 := broadcastInDim S2x256x256 ![0, 1, 2] bcast_S2x1x256_S2x256x256_0_1_2 main_v9682
  let main_v9694 : FVec F S2x256x256 .f32 := mulf main_v9687 main_v9693
  let main_v9695 : FVec F S2x256x256 .f32 := subf main_v9681 main_v9694
  let main_v9696 : FVec F S2x256x256 .f32 := select main_v9692 main_v9695 main_v9681
  let main_c_1530 : IVec S_ 32 := constantI S_ 32 247#32
  let main_v9697 : IVec S2x256x256 32 := broadcastInDim S2x256x256 ![] bcast_S_S2x256x256 main_c_1530
  let main_v9698 : IVec S2x256x256 1 := cmpi .eq main_v4988 main_v9697
  let main_v9699 : IVec S2x256x256 1 := andi main_v9689 main_v9698
  fn_part468 (F := F) main_arg0 main_v8 main_v4875 main_v4987 main_v4988 main_v9687 main_v9696 main_v9699

def fn_part466 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9649 : FVec F S2x256x256 .f32) (main_v9651 : IVec S2x256x256 1) (main_v9658 : FVec F S2x256x256 .f32) : IVec S9x256x256 1 × IVec S8x256x256 1 :=
  let main_c_1524 : IVec S_ 32 := constantI S_ 32 245#32
  let main_v9659 : IVec S2x256x256 32 := broadcastInDim S2x256x256 ![] bcast_S_S2x256x256 main_c_1524
  let main_v9660 : IVec S2x256x256 1 := cmpi .eq main_v4988 main_v9659
  let main_v9661 : IVec S2x256x256 1 := andi main_v9651 main_v9660
  let main_v9662 : FVec F S2x256x256 .f32 := select main_v9661 main_v9649 main_v9658
  let main_v9663 : FVec F S2x1x256 .f32 := (extractStridedSlice S2x1x256 ![0, 246, 0] · slices_S2x256x256_S2x1x256_0_246_0) main_v9662
  let main_v9664 : FVec F S2x256x1 .f32 := (extractStridedSlice S2x256x1 ![0, 0, 246] · slices_S2x256x256_S2x256x1_0_0_246) main_v9662
  let main_v9665 : FVec F S2x1x1 .f32 := (extractStridedSlice S2x1x1 ![0, 0, 246] · slices_S2x1x256_S2x1x1_0_0_246) main_v9663
  let main_v9666 : FVec F S2x256x1 .f32 := broadcastInDim S2x256x1 ![0, 1, 2] bcast_S2x1x1_S2x256x1_0_1_2 main_v9665
  let main_v9667 : FVec F S2x256x1 .f32 := Host.divf main_v9664 main_v9666
  let main_v9668 : FVec F S2x256x256 .f32 := broadcastInDim S2x256x256 ![0, 1, 2] bcast_S2x256x1_S2x256x256_0_1_2 main_v9667
  let main_c_1525 : IVec S_ 32 := constantI S_ 32 246#32
  let main_v9669 : IVec S2x256x256 32 := broadcastInDim S2x256x256 ![] bcast_S_S2x256x256 main_c_1525
  let main_v9670 : IVec S2x256x256 1 := cmpi .sgt main_v4987 main_v9669
  let main_c_1526 : IVec S_ 32 := constantI S_ 32 246#32
  let main_v9671 : IVec S2x256x256 32 := broadcastInDim S2x256x256 ![] bcast_S_S2x256x256 main_c_1526
  let main_v9672 : IVec S2x256x256 1 := cmpi .sgt main_v4988 main_v9671
  let main_v9673 : IVec S2x256x256 1 := andi main_v9670 main_v9672
  let main_v9674 : FVec F S2x256x256 .f32 := broadcastInDim S2x256x256 ![0, 1, 2] bcast_S2x1x256_S2x256x256_0_1_2 main_v9663
  let main_v9675 : FVec F S2x256x256 .f32 := mulf main_v9668 main_v9674
  let main_v9676 : FVec F S2x256x256 .f32 := subf main_v9662 main_v9675
  let main_v9677 : FVec F S2x256x256 .f32 := select main_v9673 main_v9676 main_v9662
  let main_c_1527 : IVec S_ 32 := constantI S_ 32 246#32
  let main_v9678 : IVec S2x256x256 32 := broadcastInDim S2x256x256 ![] bcast_S_S2x256x256 main_c_1527
  fn_part467 (F := F) main_arg0 main_v8 main_v4875 main_v4987 main_v4988 main_v9668 main_v9670 main_v9677 main_v9678

def fn_part465 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9624 : FVec F S2x256x256 .f32) (main_v9630 : FVec F S2x256x256 .f32) (main_v9632 : IVec S2x256x256 1) (main_v9635 : IVec S2x256x256 1) (main_v9637 : FVec F S2x256x256 .f32) : IVec S9x256x256 1 × IVec S8x256x256 1 :=
  let main_v9638 : FVec F S2x256x256 .f32 := subf main_v9624 main_v9637
  let main_v9639 : FVec F S2x256x256 .f32 := select main_v9635 main_v9638 main_v9624
  let main_c_1521 : IVec S_ 32 := constantI S_ 32 244#32
  let main_v9640 : IVec S2x256x256 32 := broadcastInDim S2x256x256 ![] bcast_S_S2x256x256 main_c_1521
  let main_v9641 : IVec S2x256x256 1 := cmpi .eq main_v4988 main_v9640
  let main_v9642 : IVec S2x256x256 1 := andi main_v9632 main_v9641
  let main_v9643 : FVec F S2x256x256 .f32 := select main_v9642 main_v9630 main_v9639
  let main_v9644 : FVec F S2x1x256 .f32 := (extractStridedSlice S2x1x256 ![0, 245, 0] · slices_S2x256x256_S2x1x256_0_245_0) main_v9643
  let main_v9645 : FVec F S2x256x1 .f32 := (extractStridedSlice S2x256x1 ![0, 0, 245] · slices_S2x256x256_S2x256x1_0_0_245) main_v9643
  let main_v9646 : FVec F S2x1x1 .f32 := (extractStridedSlice S2x1x1 ![0, 0, 245] · slices_S2x1x256_S2x1x1_0_0_245) main_v9644
  let main_v9647 : FVec F S2x256x1 .f32 := broadcastInDim S2x256x1 ![0, 1, 2] bcast_S2x1x1_S2x256x1_0_1_2 main_v9646
  let main_v9648 : FVec F S2x256x1 .f32 := Host.divf main_v9645 main_v9647
  let main_v9649 : FVec F S2x256x256 .f32 := broadcastInDim S2x256x256 ![0, 1, 2] bcast_S2x256x1_S2x256x256_0_1_2 main_v9648
  let main_c_1522 : IVec S_ 32 := constantI S_ 32 245#32
  let main_v9650 : IVec S2x256x256 32 := broadcastInDim S2x256x256 ![] bcast_S_S2x256x256 main_c_1522
  let main_v9651 : IVec S2x256x256 1 := cmpi .sgt main_v4987 main_v9650
  let main_c_1523 : IVec S_ 32 := constantI S_ 32 245#32
  let main_v9652 : IVec S2x256x256 32 := broadcastInDim S2x256x256 ![] bcast_S_S2x256x256 main_c_1523
  let main_v9653 : IVec S2x256x256 1 := cmpi .sgt main_v4988 main_v9652
  let main_v9654 : IVec S2x256x256 1 := andi main_v9651 main_v9653
  let main_v9655 : FVec F S2x256x256 .f32 := broadcastInDim S2x256x256 ![0, 1, 2] bcast_S2x1x256_S2x256x256_0_1_2 main_v9644
  let main_v9656 : FVec F S2x256x256 .f32 := mulf main_v9649 main_v9655
  let main_v9657 : FVec F S2x256x256 .f32 := subf main_v9643 main_v9656
  let main_v9658 : FVec F S2x256x256 .f32 := select main_v9654 main_v9657 main_v9643
  fn_part466 (F := F) main_arg0 main_v8 main_v4875 main_v4987 main_v4988 main_v9649 main_v9651 main_v9658

def fn_part464 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9605 : FVec F S2x256x256 .f32) (main_v9606 : FVec F S2x1x256 .f32) (main_v9611 : FVec F S2x256x256 .f32) (main_v9613 : IVec S2x256x256 1) (main_v9616 : IVec S2x256x256 1) : IVec S9x256x256 1 × IVec S8x256x256 1 :=
  let main_v9617 : FVec F S2x256x256 .f32 := broadcastInDim S2x256x256 ![0, 1, 2] bcast_S2x1x256_S2x256x256_0_1_2 main_v9606
  let main_v9618 : FVec F S2x256x256 .f32 := mulf main_v9611 main_v9617
  let main_v9619 : FVec F S2x256x256 .f32 := subf main_v9605 main_v9618
  let main_v9620 : FVec F S2x256x256 .f32 := select main_v9616 main_v9619 main_v9605
  let main_c_1518 : IVec S_ 32 := constantI S_ 32 243#32
  let main_v9621 : IVec S2x256x256 32 := broadcastInDim S2x256x256 ![] bcast_S_S2x256x256 main_c_1518
  let main_v9622 : IVec S2x256x256 1 := cmpi .eq main_v4988 main_v9621
  let main_v9623 : IVec S2x256x256 1 := andi main_v9613 main_v9622
  let main_v9624 : FVec F S2x256x256 .f32 := select main_v9623 main_v9611 main_v9620
  let main_v9625 : FVec F S2x1x256 .f32 := (extractStridedSlice S2x1x256 ![0, 244, 0] · slices_S2x256x256_S2x1x256_0_244_0) main_v9624
  let main_v9626 : FVec F S2x256x1 .f32 := (extractStridedSlice S2x256x1 ![0, 0, 244] · slices_S2x256x256_S2x256x1_0_0_244) main_v9624
  let main_v9627 : FVec F S2x1x1 .f32 := (extractStridedSlice S2x1x1 ![0, 0, 244] · slices_S2x1x256_S2x1x1_0_0_244) main_v9625
  let main_v9628 : FVec F S2x256x1 .f32 := broadcastInDim S2x256x1 ![0, 1, 2] bcast_S2x1x1_S2x256x1_0_1_2 main_v9627
  let main_v9629 : FVec F S2x256x1 .f32 := Host.divf main_v9626 main_v9628
  let main_v9630 : FVec F S2x256x256 .f32 := broadcastInDim S2x256x256 ![0, 1, 2] bcast_S2x256x1_S2x256x256_0_1_2 main_v9629
  let main_c_1519 : IVec S_ 32 := constantI S_ 32 244#32
  let main_v9631 : IVec S2x256x256 32 := broadcastInDim S2x256x256 ![] bcast_S_S2x256x256 main_c_1519
  let main_v9632 : IVec S2x256x256 1 := cmpi .sgt main_v4987 main_v9631
  let main_c_1520 : IVec S_ 32 := constantI S_ 32 244#32
  let main_v9633 : IVec S2x256x256 32 := broadcastInDim S2x256x256 ![] bcast_S_S2x256x256 main_c_1520
  let main_v9634 : IVec S2x256x256 1 := cmpi .sgt main_v4988 main_v9633
  let main_v9635 : IVec S2x256x256 1 := andi main_v9632 main_v9634
  let main_v9636 : FVec F S2x256x256 .f32 := broadcastInDim S2x256x256 ![0, 1, 2] bcast_S2x1x256_S2x256x256_0_1_2 main_v9625
  let main_v9637 : FVec F S2x256x256 .f32 := mulf main_v9630 main_v9636
  fn_part465 (F := F) main_arg0 main_v8 main_v4875 main_v4987 main_v4988 main_v9624 main_v9630 main_v9632 main_v9635 main_v9637

def fn_part463 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9586 : FVec F S2x256x256 .f32) (main_v9587 : FVec F S2x1x256 .f32) (main_v9592 : FVec F S2x256x256 .f32) (main_v9594 : IVec S2x256x256 1) (main_v9595 : IVec S2x256x256 32) : IVec S9x256x256 1 × IVec S8x256x256 1 :=
  let main_v9596 : IVec S2x256x256 1 := cmpi .sgt main_v4988 main_v9595
  let main_v9597 : IVec S2x256x256 1 := andi main_v9594 main_v9596
  let main_v9598 : FVec F S2x256x256 .f32 := broadcastInDim S2x256x256 ![0, 1, 2] bcast_S2x1x256_S2x256x256_0_1_2 main_v9587
  let main_v9599 : FVec F S2x256x256 .f32 := mulf main_v9592 main_v9598
  let main_v9600 : FVec F S2x256x256 .f32 := subf main_v9586 main_v9599
  let main_v9601 : FVec F S2x256x256 .f32 := select main_v9597 main_v9600 main_v9586
  let main_c_1515 : IVec S_ 32 := constantI S_ 32 242#32
  let main_v9602 : IVec S2x256x256 32 := broadcastInDim S2x256x256 ![] bcast_S_S2x256x256 main_c_1515
  let main_v9603 : IVec S2x256x256 1 := cmpi .eq main_v4988 main_v9602
  let main_v9604 : IVec S2x256x256 1 := andi main_v9594 main_v9603
  let main_v9605 : FVec F S2x256x256 .f32 := select main_v9604 main_v9592 main_v9601
  let main_v9606 : FVec F S2x1x256 .f32 := (extractStridedSlice S2x1x256 ![0, 243, 0] · slices_S2x256x256_S2x1x256_0_243_0) main_v9605
  let main_v9607 : FVec F S2x256x1 .f32 := (extractStridedSlice S2x256x1 ![0, 0, 243] · slices_S2x256x256_S2x256x1_0_0_243) main_v9605
  let main_v9608 : FVec F S2x1x1 .f32 := (extractStridedSlice S2x1x1 ![0, 0, 243] · slices_S2x1x256_S2x1x1_0_0_243) main_v9606
  let main_v9609 : FVec F S2x256x1 .f32 := broadcastInDim S2x256x1 ![0, 1, 2] bcast_S2x1x1_S2x256x1_0_1_2 main_v9608
  let main_v9610 : FVec F S2x256x1 .f32 := Host.divf main_v9607 main_v9609
  let main_v9611 : FVec F S2x256x256 .f32 := broadcastInDim S2x256x256 ![0, 1, 2] bcast_S2x256x1_S2x256x256_0_1_2 main_v9610
  let main_c_1516 : IVec S_ 32 := constantI S_ 32 243#32
  let main_v9612 : IVec S2x256x256 32 := broadcastInDim S2x256x256 ![] bcast_S_S2x256x256 main_c_1516
  let main_v9613 : IVec S2x256x256 1 := cmpi .sgt main_v4987 main_v9612
  let main_c_1517 : IVec S_ 32 := constantI S_ 32 243#32
  let main_v9614 : IVec S2x256x256 32 := broadcastInDim S2x256x256 ![] bcast_S_S2x256x256 main_c_1517
  let main_v9615 : IVec S2x256x256 1 := cmpi .sgt main_v4988 main_v9614
  let main_v9616 : IVec S2x256x256 1 := andi main_v9613 main_v9615
  fn_part464 (F := F) main_arg0 main_v8 main_v4875 main_v4987 main_v4988 main_v9605 main_v9606 main_v9611 main_v9613 main_v9616

def fn_part462 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9567 : FVec F S2x256x256 .f32) (main_v9568 : FVec F S2x1x256 .f32) (main_v9573 : FVec F S2x256x256 .f32) (main_v9575 : IVec S2x256x256 1) : IVec S9x256x256 1 × IVec S8x256x256 1 :=
  let main_c_1511 : IVec S_ 32 := constantI S_ 32 241#32
  let main_v9576 : IVec S2x256x256 32 := broadcastInDim S2x256x256 ![] bcast_S_S2x256x256 main_c_1511
  let main_v9577 : IVec S2x256x256 1 := cmpi .sgt main_v4988 main_v9576
  let main_v9578 : IVec S2x256x256 1 := andi main_v9575 main_v9577
  let main_v9579 : FVec F S2x256x256 .f32 := broadcastInDim S2x256x256 ![0, 1, 2] bcast_S2x1x256_S2x256x256_0_1_2 main_v9568
  let main_v9580 : FVec F S2x256x256 .f32 := mulf main_v9573 main_v9579
  let main_v9581 : FVec F S2x256x256 .f32 := subf main_v9567 main_v9580
  let main_v9582 : FVec F S2x256x256 .f32 := select main_v9578 main_v9581 main_v9567
  let main_c_1512 : IVec S_ 32 := constantI S_ 32 241#32
  let main_v9583 : IVec S2x256x256 32 := broadcastInDim S2x256x256 ![] bcast_S_S2x256x256 main_c_1512
  let main_v9584 : IVec S2x256x256 1 := cmpi .eq main_v4988 main_v9583
  let main_v9585 : IVec S2x256x256 1 := andi main_v9575 main_v9584
  let main_v9586 : FVec F S2x256x256 .f32 := select main_v9585 main_v9573 main_v9582
  let main_v9587 : FVec F S2x1x256 .f32 := (extractStridedSlice S2x1x256 ![0, 242, 0] · slices_S2x256x256_S2x1x256_0_242_0) main_v9586
  let main_v9588 : FVec F S2x256x1 .f32 := (extractStridedSlice S2x256x1 ![0, 0, 242] · slices_S2x256x256_S2x256x1_0_0_242) main_v9586
  let main_v9589 : FVec F S2x1x1 .f32 := (extractStridedSlice S2x1x1 ![0, 0, 242] · slices_S2x1x256_S2x1x1_0_0_242) main_v9587
  let main_v9590 : FVec F S2x256x1 .f32 := broadcastInDim S2x256x1 ![0, 1, 2] bcast_S2x1x1_S2x256x1_0_1_2 main_v9589
  let main_v9591 : FVec F S2x256x1 .f32 := Host.divf main_v9588 main_v9590
  let main_v9592 : FVec F S2x256x256 .f32 := broadcastInDim S2x256x256 ![0, 1, 2] bcast_S2x256x1_S2x256x256_0_1_2 main_v9591
  let main_c_1513 : IVec S_ 32 := constantI S_ 32 242#32
  let main_v9593 : IVec S2x256x256 32 := broadcastInDim S2x256x256 ![] bcast_S_S2x256x256 main_c_1513
  let main_v9594 : IVec S2x256x256 1 := cmpi .sgt main_v4987 main_v9593
  let main_c_1514 : IVec S_ 32 := constantI S_ 32 242#32
  let main_v9595 : IVec S2x256x256 32 := broadcastInDim S2x256x256 ![] bcast_S_S2x256x256 main_c_1514
  fn_part463 (F := F) main_arg0 main_v8 main_v4875 main_v4987 main_v4988 main_v9586 main_v9587 main_v9592 main_v9594 main_v9595

def fn_part461 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9548 : FVec F S2x256x256 .f32) (main_v9549 : FVec F S2x1x256 .f32) (main_v9554 : FVec F S2x256x256 .f32) (main_c_1507 : IVec S_ 32) : IVec S9x256x256 1 × IVec S8x256x256 1 :=
  let main_v9555 : IVec S2x256x256 32 := broadcastInDim S2x256x256 ![] bcast_S_S2x256x256 main_c_1507
  let main_v9556 : IVec S2x256x256 1 := cmpi .sgt main_v4987 main_v9555
  let main_c_1508 : IVec S_ 32 := constantI S_ 32 240#32
  let main_v9557 : IVec S2x256x256 32 := broadcastInDim S2x256x256 ![] bcast_S_S2x256x256 main_c_1508
  let main_v9558 : IVec S2x256x256 1 := cmpi .sgt main_v4988 main_v9557
  let main_v9559 : IVec S2x256x256 1 := andi main_v9556 main_v9558
  let main_v9560 : FVec F S2x256x256 .f32 := broadcastInDim S2x256x256 ![0, 1, 2] bcast_S2x1x256_S2x256x256_0_1_2 main_v9549
  let main_v9561 : FVec F S2x256x256 .f32 := mulf main_v9554 main_v9560
  let main_v9562 : FVec F S2x256x256 .f32 := subf main_v9548 main_v9561
  let main_v9563 : FVec F S2x256x256 .f32 := select main_v9559 main_v9562 main_v9548
  let main_c_1509 : IVec S_ 32 := constantI S_ 32 240#32
  let main_v9564 : IVec S2x256x256 32 := broadcastInDim S2x256x256 ![] bcast_S_S2x256x256 main_c_1509
  let main_v9565 : IVec S2x256x256 1 := cmpi .eq main_v4988 main_v9564
  let main_v9566 : IVec S2x256x256 1 := andi main_v9556 main_v9565
  let main_v9567 : FVec F S2x256x256 .f32 := select main_v9566 main_v9554 main_v9563
  let main_v9568 : FVec F S2x1x256 .f32 := (extractStridedSlice S2x1x256 ![0, 241, 0] · slices_S2x256x256_S2x1x256_0_241_0) main_v9567
  let main_v9569 : FVec F S2x256x1 .f32 := (extractStridedSlice S2x256x1 ![0, 0, 241] · slices_S2x256x256_S2x256x1_0_0_241) main_v9567
  let main_v9570 : FVec F S2x1x1 .f32 := (extractStridedSlice S2x1x1 ![0, 0, 241] · slices_S2x1x256_S2x1x1_0_0_241) main_v9568
  let main_v9571 : FVec F S2x256x1 .f32 := broadcastInDim S2x256x1 ![0, 1, 2] bcast_S2x1x1_S2x256x1_0_1_2 main_v9570
  let main_v9572 : FVec F S2x256x1 .f32 := Host.divf main_v9569 main_v9571
  let main_v9573 : FVec F S2x256x256 .f32 := broadcastInDim S2x256x256 ![0, 1, 2] bcast_S2x256x1_S2x256x256_0_1_2 main_v9572
  let main_c_1510 : IVec S_ 32 := constantI S_ 32 241#32
  let main_v9574 : IVec S2x256x256 32 := broadcastInDim S2x256x256 ![] bcast_S_S2x256x256 main_c_1510
  let main_v9575 : IVec S2x256x256 1 := cmpi .sgt main_v4987 main_v9574
  fn_part462 (F := F) main_arg0 main_v8 main_v4875 main_v4987 main_v4988 main_v9567 main_v9568 main_v9573 main_v9575

def fn_part460 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9529 : FVec F S2x256x256 .f32) (main_v9530 : FVec F S2x1x256 .f32) (main_v9534 : FVec F S2x256x1 .f32) : IVec S9x256x256 1 × IVec S8x256x256 1 :=
  let main_v9535 : FVec F S2x256x256 .f32 := broadcastInDim S2x256x256 ![0, 1, 2] bcast_S2x256x1_S2x256x256_0_1_2 main_v9534
  let main_c_1504 : IVec S_ 32 := constantI S_ 32 239#32
  let main_v9536 : IVec S2x256x256 32 := broadcastInDim S2x256x256 ![] bcast_S_S2x256x256 main_c_1504
  let main_v9537 : IVec S2x256x256 1 := cmpi .sgt main_v4987 main_v9536
  let main_c_1505 : IVec S_ 32 := constantI S_ 32 239#32
  let main_v9538 : IVec S2x256x256 32 := broadcastInDim S2x256x256 ![] bcast_S_S2x256x256 main_c_1505
  let main_v9539 : IVec S2x256x256 1 := cmpi .sgt main_v4988 main_v9538
  let main_v9540 : IVec S2x256x256 1 := andi main_v9537 main_v9539
  let main_v9541 : FVec F S2x256x256 .f32 := broadcastInDim S2x256x256 ![0, 1, 2] bcast_S2x1x256_S2x256x256_0_1_2 main_v9530
  let main_v9542 : FVec F S2x256x256 .f32 := mulf main_v9535 main_v9541
  let main_v9543 : FVec F S2x256x256 .f32 := subf main_v9529 main_v9542
  let main_v9544 : FVec F S2x256x256 .f32 := select main_v9540 main_v9543 main_v9529
  let main_c_1506 : IVec S_ 32 := constantI S_ 32 239#32
  let main_v9545 : IVec S2x256x256 32 := broadcastInDim S2x256x256 ![] bcast_S_S2x256x256 main_c_1506
  let main_v9546 : IVec S2x256x256 1 := cmpi .eq main_v4988 main_v9545
  let main_v9547 : IVec S2x256x256 1 := andi main_v9537 main_v9546
  let main_v9548 : FVec F S2x256x256 .f32 := select main_v9547 main_v9535 main_v9544
  let main_v9549 : FVec F S2x1x256 .f32 := (extractStridedSlice S2x1x256 ![0, 240, 0] · slices_S2x256x256_S2x1x256_0_240_0) main_v9548
  let main_v9550 : FVec F S2x256x1 .f32 := (extractStridedSlice S2x256x1 ![0, 0, 240] · slices_S2x256x256_S2x256x1_0_0_240) main_v9548
  let main_v9551 : FVec F S2x1x1 .f32 := (extractStridedSlice S2x1x1 ![0, 0, 240] · slices_S2x1x256_S2x1x1_0_0_240) main_v9549
  let main_v9552 : FVec F S2x256x1 .f32 := broadcastInDim S2x256x1 ![0, 1, 2] bcast_S2x1x1_S2x256x1_0_1_2 main_v9551
  let main_v9553 : FVec F S2x256x1 .f32 := Host.divf main_v9550 main_v9552
  let main_v9554 : FVec F S2x256x256 .f32 := broadcastInDim S2x256x256 ![0, 1, 2] bcast_S2x256x1_S2x256x256_0_1_2 main_v9553
  let main_c_1507 : IVec S_ 32 := constantI S_ 32 240#32
  fn_part461 (F := F) main_arg0 main_v8 main_v4875 main_v4987 main_v4988 main_v9548 main_v9549 main_v9554 main_c_1507

def fn_part459 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9510 : FVec F S2x256x256 .f32) (main_v9511 : FVec F S2x1x256 .f32) (main_v9512 : FVec F S2x256x1 .f32) (main_v9513 : FVec F S2x1x1 .f32) : IVec S9x256x256 1 × IVec S8x256x256 1 :=
  let main_v9514 : FVec F S2x256x1 .f32 := broadcastInDim S2x256x1 ![0, 1, 2] bcast_S2x1x1_S2x256x1_0_1_2 main_v9513
  let main_v9515 : FVec F S2x256x1 .f32 := Host.divf main_v9512 main_v9514
  let main_v9516 : FVec F S2x256x256 .f32 := broadcastInDim S2x256x256 ![0, 1, 2] bcast_S2x256x1_S2x256x256_0_1_2 main_v9515
  let main_c_1501 : IVec S_ 32 := constantI S_ 32 238#32
  let main_v9517 : IVec S2x256x256 32 := broadcastInDim S2x256x256 ![] bcast_S_S2x256x256 main_c_1501
  let main_v9518 : IVec S2x256x256 1 := cmpi .sgt main_v4987 main_v9517
  let main_c_1502 : IVec S_ 32 := constantI S_ 32 238#32
  let main_v9519 : IVec S2x256x256 32 := broadcastInDim S2x256x256 ![] bcast_S_S2x256x256 main_c_1502
  let main_v9520 : IVec S2x256x256 1 := cmpi .sgt main_v4988 main_v9519
  let main_v9521 : IVec S2x256x256 1 := andi main_v9518 main_v9520
  let main_v9522 : FVec F S2x256x256 .f32 := broadcastInDim S2x256x256 ![0, 1, 2] bcast_S2x1x256_S2x256x256_0_1_2 main_v9511
  let main_v9523 : FVec F S2x256x256 .f32 := mulf main_v9516 main_v9522
  let main_v9524 : FVec F S2x256x256 .f32 := subf main_v9510 main_v9523
  let main_v9525 : FVec F S2x256x256 .f32 := select main_v9521 main_v9524 main_v9510
  let main_c_1503 : IVec S_ 32 := constantI S_ 32 238#32
  let main_v9526 : IVec S2x256x256 32 := broadcastInDim S2x256x256 ![] bcast_S_S2x256x256 main_c_1503
  let main_v9527 : IVec S2x256x256 1 := cmpi .eq main_v4988 main_v9526
  let main_v9528 : IVec S2x256x256 1 := andi main_v9518 main_v9527
  let main_v9529 : FVec F S2x256x256 .f32 := select main_v9528 main_v9516 main_v9525
  let main_v9530 : FVec F S2x1x256 .f32 := (extractStridedSlice S2x1x256 ![0, 239, 0] · slices_S2x256x256_S2x1x256_0_239_0) main_v9529
  let main_v9531 : FVec F S2x256x1 .f32 := (extractStridedSlice S2x256x1 ![0, 0, 239] · slices_S2x256x256_S2x256x1_0_0_239) main_v9529
  let main_v9532 : FVec F S2x1x1 .f32 := (extractStridedSlice S2x1x1 ![0, 0, 239] · slices_S2x1x256_S2x1x1_0_0_239) main_v9530
  let main_v9533 : FVec F S2x256x1 .f32 := broadcastInDim S2x256x1 ![0, 1, 2] bcast_S2x1x1_S2x256x1_0_1_2 main_v9532
  let main_v9534 : FVec F S2x256x1 .f32 := Host.divf main_v9531 main_v9533
  fn_part460 (F := F) main_arg0 main_v8 main_v4875 main_v4987 main_v4988 main_v9529 main_v9530 main_v9534

def fn_part458 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9491 : FVec F S2x256x256 .f32) (main_v9492 : FVec F S2x1x256 .f32) : IVec S9x256x256 1 × IVec S8x256x256 1 :=
  let main_v9493 : FVec F S2x256x1 .f32 := (extractStridedSlice S2x256x1 ![0, 0, 237] · slices_S2x256x256_S2x256x1_0_0_237) main_v9491
  let main_v9494 : FVec F S2x1x1 .f32 := (extractStridedSlice S2x1x1 ![0, 0, 237] · slices_S2x1x256_S2x1x1_0_0_237) main_v9492
  let main_v9495 : FVec F S2x256x1 .f32 := broadcastInDim S2x256x1 ![0, 1, 2] bcast_S2x1x1_S2x256x1_0_1_2 main_v9494
  let main_v9496 : FVec F S2x256x1 .f32 := Host.divf main_v9493 main_v9495
  let main_v9497 : FVec F S2x256x256 .f32 := broadcastInDim S2x256x256 ![0, 1, 2] bcast_S2x256x1_S2x256x256_0_1_2 main_v9496
  let main_c_1498 : IVec S_ 32 := constantI S_ 32 237#32
  let main_v9498 : IVec S2x256x256 32 := broadcastInDim S2x256x256 ![] bcast_S_S2x256x256 main_c_1498
  let main_v9499 : IVec S2x256x256 1 := cmpi .sgt main_v4987 main_v9498
  let main_c_1499 : IVec S_ 32 := constantI S_ 32 237#32
  let main_v9500 : IVec S2x256x256 32 := broadcastInDim S2x256x256 ![] bcast_S_S2x256x256 main_c_1499
  let main_v9501 : IVec S2x256x256 1 := cmpi .sgt main_v4988 main_v9500
  let main_v9502 : IVec S2x256x256 1 := andi main_v9499 main_v9501
  let main_v9503 : FVec F S2x256x256 .f32 := broadcastInDim S2x256x256 ![0, 1, 2] bcast_S2x1x256_S2x256x256_0_1_2 main_v9492
  let main_v9504 : FVec F S2x256x256 .f32 := mulf main_v9497 main_v9503
  let main_v9505 : FVec F S2x256x256 .f32 := subf main_v9491 main_v9504
  let main_v9506 : FVec F S2x256x256 .f32 := select main_v9502 main_v9505 main_v9491
  let main_c_1500 : IVec S_ 32 := constantI S_ 32 237#32
  let main_v9507 : IVec S2x256x256 32 := broadcastInDim S2x256x256 ![] bcast_S_S2x256x256 main_c_1500
  let main_v9508 : IVec S2x256x256 1 := cmpi .eq main_v4988 main_v9507
  let main_v9509 : IVec S2x256x256 1 := andi main_v9499 main_v9508
  let main_v9510 : FVec F S2x256x256 .f32 := select main_v9509 main_v9497 main_v9506
  let main_v9511 : FVec F S2x1x256 .f32 := (extractStridedSlice S2x1x256 ![0, 238, 0] · slices_S2x256x256_S2x1x256_0_238_0) main_v9510
  let main_v9512 : FVec F S2x256x1 .f32 := (extractStridedSlice S2x256x1 ![0, 0, 238] · slices_S2x256x256_S2x256x1_0_0_238) main_v9510
  let main_v9513 : FVec F S2x1x1 .f32 := (extractStridedSlice S2x1x1 ![0, 0, 238] · slices_S2x1x256_S2x1x1_0_0_238) main_v9511
  fn_part459 (F := F) main_arg0 main_v8 main_v4875 main_v4987 main_v4988 main_v9510 main_v9511 main_v9512 main_v9513

def fn_part457 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9459 : FVec F S2x256x256 .f32) (main_v9468 : FVec F S2x256x256 .f32) (main_v9471 : IVec S2x256x256 1) : IVec S9x256x256 1 × IVec S8x256x256 1 :=
  let main_v9472 : FVec F S2x256x256 .f32 := select main_v9471 main_v9459 main_v9468
  let main_v9473 : FVec F S2x1x256 .f32 := (extractStridedSlice S2x1x256 ![0, 236, 0] · slices_S2x256x256_S2x1x256_0_236_0) main_v9472
  let main_v9474 : FVec F S2x256x1 .f32 := (extractStridedSlice S2x256x1 ![0, 0, 236] · slices_S2x256x256_S2x256x1_0_0_236) main_v9472
  let main_v9475 : FVec F S2x1x1 .f32 := (extractStridedSlice S2x1x1 ![0, 0, 236] · slices_S2x1x256_S2x1x1_0_0_236) main_v9473
  let main_v9476 : FVec F S2x256x1 .f32 := broadcastInDim S2x256x1 ![0, 1, 2] bcast_S2x1x1_S2x256x1_0_1_2 main_v9475
  let main_v9477 : FVec F S2x256x1 .f32 := Host.divf main_v9474 main_v9476
  let main_v9478 : FVec F S2x256x256 .f32 := broadcastInDim S2x256x256 ![0, 1, 2] bcast_S2x256x1_S2x256x256_0_1_2 main_v9477
  let main_c_1495 : IVec S_ 32 := constantI S_ 32 236#32
  let main_v9479 : IVec S2x256x256 32 := broadcastInDim S2x256x256 ![] bcast_S_S2x256x256 main_c_1495
  let main_v9480 : IVec S2x256x256 1 := cmpi .sgt main_v4987 main_v9479
  let main_c_1496 : IVec S_ 32 := constantI S_ 32 236#32
  let main_v9481 : IVec S2x256x256 32 := broadcastInDim S2x256x256 ![] bcast_S_S2x256x256 main_c_1496
  let main_v9482 : IVec S2x256x256 1 := cmpi .sgt main_v4988 main_v9481
  let main_v9483 : IVec S2x256x256 1 := andi main_v9480 main_v9482
  let main_v9484 : FVec F S2x256x256 .f32 := broadcastInDim S2x256x256 ![0, 1, 2] bcast_S2x1x256_S2x256x256_0_1_2 main_v9473
  let main_v9485 : FVec F S2x256x256 .f32 := mulf main_v9478 main_v9484
  let main_v9486 : FVec F S2x256x256 .f32 := subf main_v9472 main_v9485
  let main_v9487 : FVec F S2x256x256 .f32 := select main_v9483 main_v9486 main_v9472
  let main_c_1497 : IVec S_ 32 := constantI S_ 32 236#32
  let main_v9488 : IVec S2x256x256 32 := broadcastInDim S2x256x256 ![] bcast_S_S2x256x256 main_c_1497
  let main_v9489 : IVec S2x256x256 1 := cmpi .eq main_v4988 main_v9488
  let main_v9490 : IVec S2x256x256 1 := andi main_v9480 main_v9489
  let main_v9491 : FVec F S2x256x256 .f32 := select main_v9490 main_v9478 main_v9487
  let main_v9492 : FVec F S2x1x256 .f32 := (extractStridedSlice S2x1x256 ![0, 237, 0] · slices_S2x256x256_S2x1x256_0_237_0) main_v9491
  fn_part458 (F := F) main_arg0 main_v8 main_v4875 main_v4987 main_v4988 main_v9491 main_v9492

def fn_part456 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9440 : FVec F S2x256x256 .f32) (main_v9442 : IVec S2x256x256 1) (main_v9449 : FVec F S2x256x256 .f32) (main_v9450 : IVec S2x256x256 32) : IVec S9x256x256 1 × IVec S8x256x256 1 :=
  let main_v9451 : IVec S2x256x256 1 := cmpi .eq main_v4988 main_v9450
  let main_v9452 : IVec S2x256x256 1 := andi main_v9442 main_v9451
  let main_v9453 : FVec F S2x256x256 .f32 := select main_v9452 main_v9440 main_v9449
  let main_v9454 : FVec F S2x1x256 .f32 := (extractStridedSlice S2x1x256 ![0, 235, 0] · slices_S2x256x256_S2x1x256_0_235_0) main_v9453
  let main_v9455 : FVec F S2x256x1 .f32 := (extractStridedSlice S2x256x1 ![0, 0, 235] · slices_S2x256x256_S2x256x1_0_0_235) main_v9453
  let main_v9456 : FVec F S2x1x1 .f32 := (extractStridedSlice S2x1x1 ![0, 0, 235] · slices_S2x1x256_S2x1x1_0_0_235) main_v9454
  let main_v9457 : FVec F S2x256x1 .f32 := broadcastInDim S2x256x1 ![0, 1, 2] bcast_S2x1x1_S2x256x1_0_1_2 main_v9456
  let main_v9458 : FVec F S2x256x1 .f32 := Host.divf main_v9455 main_v9457
  let main_v9459 : FVec F S2x256x256 .f32 := broadcastInDim S2x256x256 ![0, 1, 2] bcast_S2x256x1_S2x256x256_0_1_2 main_v9458
  let main_c_1492 : IVec S_ 32 := constantI S_ 32 235#32
  let main_v9460 : IVec S2x256x256 32 := broadcastInDim S2x256x256 ![] bcast_S_S2x256x256 main_c_1492
  let main_v9461 : IVec S2x256x256 1 := cmpi .sgt main_v4987 main_v9460
  let main_c_1493 : IVec S_ 32 := constantI S_ 32 235#32
  let main_v9462 : IVec S2x256x256 32 := broadcastInDim S2x256x256 ![] bcast_S_S2x256x256 main_c_1493
  let main_v9463 : IVec S2x256x256 1 := cmpi .sgt main_v4988 main_v9462
  let main_v9464 : IVec S2x256x256 1 := andi main_v9461 main_v9463
  let main_v9465 : FVec F S2x256x256 .f32 := broadcastInDim S2x256x256 ![0, 1, 2] bcast_S2x1x256_S2x256x256_0_1_2 main_v9454
  let main_v9466 : FVec F S2x256x256 .f32 := mulf main_v9459 main_v9465
  let main_v9467 : FVec F S2x256x256 .f32 := subf main_v9453 main_v9466
  let main_v9468 : FVec F S2x256x256 .f32 := select main_v9464 main_v9467 main_v9453
  let main_c_1494 : IVec S_ 32 := constantI S_ 32 235#32
  let main_v9469 : IVec S2x256x256 32 := broadcastInDim S2x256x256 ![] bcast_S_S2x256x256 main_c_1494
  let main_v9470 : IVec S2x256x256 1 := cmpi .eq main_v4988 main_v9469
  let main_v9471 : IVec S2x256x256 1 := andi main_v9461 main_v9470
  fn_part457 (F := F) main_arg0 main_v8 main_v4875 main_v4987 main_v4988 main_v9459 main_v9468 main_v9471

def fn_part455 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9421 : FVec F S2x256x256 .f32) (main_v9423 : IVec S2x256x256 1) (main_v9430 : FVec F S2x256x256 .f32) : IVec S9x256x256 1 × IVec S8x256x256 1 :=
  let main_c_1488 : IVec S_ 32 := constantI S_ 32 233#32
  let main_v9431 : IVec S2x256x256 32 := broadcastInDim S2x256x256 ![] bcast_S_S2x256x256 main_c_1488
  let main_v9432 : IVec S2x256x256 1 := cmpi .eq main_v4988 main_v9431
  let main_v9433 : IVec S2x256x256 1 := andi main_v9423 main_v9432
  let main_v9434 : FVec F S2x256x256 .f32 := select main_v9433 main_v9421 main_v9430
  let main_v9435 : FVec F S2x1x256 .f32 := (extractStridedSlice S2x1x256 ![0, 234, 0] · slices_S2x256x256_S2x1x256_0_234_0) main_v9434
  let main_v9436 : FVec F S2x256x1 .f32 := (extractStridedSlice S2x256x1 ![0, 0, 234] · slices_S2x256x256_S2x256x1_0_0_234) main_v9434
  let main_v9437 : FVec F S2x1x1 .f32 := (extractStridedSlice S2x1x1 ![0, 0, 234] · slices_S2x1x256_S2x1x1_0_0_234) main_v9435
  let main_v9438 : FVec F S2x256x1 .f32 := broadcastInDim S2x256x1 ![0, 1, 2] bcast_S2x1x1_S2x256x1_0_1_2 main_v9437
  let main_v9439 : FVec F S2x256x1 .f32 := Host.divf main_v9436 main_v9438
  let main_v9440 : FVec F S2x256x256 .f32 := broadcastInDim S2x256x256 ![0, 1, 2] bcast_S2x256x1_S2x256x256_0_1_2 main_v9439
  let main_c_1489 : IVec S_ 32 := constantI S_ 32 234#32
  let main_v9441 : IVec S2x256x256 32 := broadcastInDim S2x256x256 ![] bcast_S_S2x256x256 main_c_1489
  let main_v9442 : IVec S2x256x256 1 := cmpi .sgt main_v4987 main_v9441
  let main_c_1490 : IVec S_ 32 := constantI S_ 32 234#32
  let main_v9443 : IVec S2x256x256 32 := broadcastInDim S2x256x256 ![] bcast_S_S2x256x256 main_c_1490
  let main_v9444 : IVec S2x256x256 1 := cmpi .sgt main_v4988 main_v9443
  let main_v9445 : IVec S2x256x256 1 := andi main_v9442 main_v9444
  let main_v9446 : FVec F S2x256x256 .f32 := broadcastInDim S2x256x256 ![0, 1, 2] bcast_S2x1x256_S2x256x256_0_1_2 main_v9435
  let main_v9447 : FVec F S2x256x256 .f32 := mulf main_v9440 main_v9446
  let main_v9448 : FVec F S2x256x256 .f32 := subf main_v9434 main_v9447
  let main_v9449 : FVec F S2x256x256 .f32 := select main_v9445 main_v9448 main_v9434
  let main_c_1491 : IVec S_ 32 := constantI S_ 32 234#32
  let main_v9450 : IVec S2x256x256 32 := broadcastInDim S2x256x256 ![] bcast_S_S2x256x256 main_c_1491
  fn_part456 (F := F) main_arg0 main_v8 main_v4875 main_v4987 main_v4988 main_v9440 main_v9442 main_v9449 main_v9450

def fn_part454 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9396 : FVec F S2x256x256 .f32) (main_v9402 : FVec F S2x256x256 .f32) (main_v9404 : IVec S2x256x256 1) (main_v9407 : IVec S2x256x256 1) (main_v9409 : FVec F S2x256x256 .f32) : IVec S9x256x256 1 × IVec S8x256x256 1 :=
  let main_v9410 : FVec F S2x256x256 .f32 := subf main_v9396 main_v9409
  let main_v9411 : FVec F S2x256x256 .f32 := select main_v9407 main_v9410 main_v9396
  let main_c_1485 : IVec S_ 32 := constantI S_ 32 232#32
  let main_v9412 : IVec S2x256x256 32 := broadcastInDim S2x256x256 ![] bcast_S_S2x256x256 main_c_1485
  let main_v9413 : IVec S2x256x256 1 := cmpi .eq main_v4988 main_v9412
  let main_v9414 : IVec S2x256x256 1 := andi main_v9404 main_v9413
  let main_v9415 : FVec F S2x256x256 .f32 := select main_v9414 main_v9402 main_v9411
  let main_v9416 : FVec F S2x1x256 .f32 := (extractStridedSlice S2x1x256 ![0, 233, 0] · slices_S2x256x256_S2x1x256_0_233_0) main_v9415
  let main_v9417 : FVec F S2x256x1 .f32 := (extractStridedSlice S2x256x1 ![0, 0, 233] · slices_S2x256x256_S2x256x1_0_0_233) main_v9415
  let main_v9418 : FVec F S2x1x1 .f32 := (extractStridedSlice S2x1x1 ![0, 0, 233] · slices_S2x1x256_S2x1x1_0_0_233) main_v9416
  let main_v9419 : FVec F S2x256x1 .f32 := broadcastInDim S2x256x1 ![0, 1, 2] bcast_S2x1x1_S2x256x1_0_1_2 main_v9418
  let main_v9420 : FVec F S2x256x1 .f32 := Host.divf main_v9417 main_v9419
  let main_v9421 : FVec F S2x256x256 .f32 := broadcastInDim S2x256x256 ![0, 1, 2] bcast_S2x256x1_S2x256x256_0_1_2 main_v9420
  let main_c_1486 : IVec S_ 32 := constantI S_ 32 233#32
  let main_v9422 : IVec S2x256x256 32 := broadcastInDim S2x256x256 ![] bcast_S_S2x256x256 main_c_1486
  let main_v9423 : IVec S2x256x256 1 := cmpi .sgt main_v4987 main_v9422
  let main_c_1487 : IVec S_ 32 := constantI S_ 32 233#32
  let main_v9424 : IVec S2x256x256 32 := broadcastInDim S2x256x256 ![] bcast_S_S2x256x256 main_c_1487
  let main_v9425 : IVec S2x256x256 1 := cmpi .sgt main_v4988 main_v9424
  let main_v9426 : IVec S2x256x256 1 := andi main_v9423 main_v9425
  let main_v9427 : FVec F S2x256x256 .f32 := broadcastInDim S2x256x256 ![0, 1, 2] bcast_S2x1x256_S2x256x256_0_1_2 main_v9416
  let main_v9428 : FVec F S2x256x256 .f32 := mulf main_v9421 main_v9427
  let main_v9429 : FVec F S2x256x256 .f32 := subf main_v9415 main_v9428
  let main_v9430 : FVec F S2x256x256 .f32 := select main_v9426 main_v9429 main_v9415
  fn_part455 (F := F) main_arg0 main_v8 main_v4875 main_v4987 main_v4988 main_v9421 main_v9423 main_v9430

def fn_part453 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9377 : FVec F S2x256x256 .f32) (main_v9378 : FVec F S2x1x256 .f32) (main_v9383 : FVec F S2x256x256 .f32) (main_v9385 : IVec S2x256x256 1) (main_v9388 : IVec S2x256x256 1) : IVec S9x256x256 1 × IVec S8x256x256 1 :=
  let main_v9389 : FVec F S2x256x256 .f32 := broadcastInDim S2x256x256 ![0, 1, 2] bcast_S2x1x256_S2x256x256_0_1_2 main_v9378
  let main_v9390 : FVec F S2x256x256 .f32 := mulf main_v9383 main_v9389
  let main_v9391 : FVec F S2x256x256 .f32 := subf main_v9377 main_v9390
  let main_v9392 : FVec F S2x256x256 .f32 := select main_v9388 main_v9391 main_v9377
  let main_c_1482 : IVec S_ 32 := constantI S_ 32 231#32
  let main_v9393 : IVec S2x256x256 32 := broadcastInDim S2x256x256 ![] bcast_S_S2x256x256 main_c_1482
  let main_v9394 : IVec S2x256x256 1 := cmpi .eq main_v4988 main_v9393
  let main_v9395 : IVec S2x256x256 1 := andi main_v9385 main_v9394
  let main_v9396 : FVec F S2x256x256 .f32 := select main_v9395 main_v9383 main_v9392
  let main_v9397 : FVec F S2x1x256 .f32 := (extractStridedSlice S2x1x256 ![0, 232, 0] · slices_S2x256x256_S2x1x256_0_232_0) main_v9396
  let main_v9398 : FVec F S2x256x1 .f32 := (extractStridedSlice S2x256x1 ![0, 0, 232] · slices_S2x256x256_S2x256x1_0_0_232) main_v9396
  let main_v9399 : FVec F S2x1x1 .f32 := (extractStridedSlice S2x1x1 ![0, 0, 232] · slices_S2x1x256_S2x1x1_0_0_232) main_v9397
  let main_v9400 : FVec F S2x256x1 .f32 := broadcastInDim S2x256x1 ![0, 1, 2] bcast_S2x1x1_S2x256x1_0_1_2 main_v9399
  let main_v9401 : FVec F S2x256x1 .f32 := Host.divf main_v9398 main_v9400
  let main_v9402 : FVec F S2x256x256 .f32 := broadcastInDim S2x256x256 ![0, 1, 2] bcast_S2x256x1_S2x256x256_0_1_2 main_v9401
  let main_c_1483 : IVec S_ 32 := constantI S_ 32 232#32
  let main_v9403 : IVec S2x256x256 32 := broadcastInDim S2x256x256 ![] bcast_S_S2x256x256 main_c_1483
  let main_v9404 : IVec S2x256x256 1 := cmpi .sgt main_v4987 main_v9403
  let main_c_1484 : IVec S_ 32 := constantI S_ 32 232#32
  let main_v9405 : IVec S2x256x256 32 := broadcastInDim S2x256x256 ![] bcast_S_S2x256x256 main_c_1484
  let main_v9406 : IVec S2x256x256 1 := cmpi .sgt main_v4988 main_v9405
  let main_v9407 : IVec S2x256x256 1 := andi main_v9404 main_v9406
  let main_v9408 : FVec F S2x256x256 .f32 := broadcastInDim S2x256x256 ![0, 1, 2] bcast_S2x1x256_S2x256x256_0_1_2 main_v9397
  let main_v9409 : FVec F S2x256x256 .f32 := mulf main_v9402 main_v9408
  fn_part454 (F := F) main_arg0 main_v8 main_v4875 main_v4987 main_v4988 main_v9396 main_v9402 main_v9404 main_v9407 main_v9409

def fn_part452 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9358 : FVec F S2x256x256 .f32) (main_v9359 : FVec F S2x1x256 .f32) (main_v9364 : FVec F S2x256x256 .f32) (main_v9366 : IVec S2x256x256 1) (main_v9367 : IVec S2x256x256 32) : IVec S9x256x256 1 × IVec S8x256x256 1 :=
  let main_v9368 : IVec S2x256x256 1 := cmpi .sgt main_v4988 main_v9367
  let main_v9369 : IVec S2x256x256 1 := andi main_v9366 main_v9368
  let main_v9370 : FVec F S2x256x256 .f32 := broadcastInDim S2x256x256 ![0, 1, 2] bcast_S2x1x256_S2x256x256_0_1_2 main_v9359
  let main_v9371 : FVec F S2x256x256 .f32 := mulf main_v9364 main_v9370
  let main_v9372 : FVec F S2x256x256 .f32 := subf main_v9358 main_v9371
  let main_v9373 : FVec F S2x256x256 .f32 := select main_v9369 main_v9372 main_v9358
  let main_c_1479 : IVec S_ 32 := constantI S_ 32 230#32
  let main_v9374 : IVec S2x256x256 32 := broadcastInDim S2x256x256 ![] bcast_S_S2x256x256 main_c_1479
  let main_v9375 : IVec S2x256x256 1 := cmpi .eq main_v4988 main_v9374
  let main_v9376 : IVec S2x256x256 1 := andi main_v9366 main_v9375
  let main_v9377 : FVec F S2x256x256 .f32 := select main_v9376 main_v9364 main_v9373
  let main_v9378 : FVec F S2x1x256 .f32 := (extractStridedSlice S2x1x256 ![0, 231, 0] · slices_S2x256x256_S2x1x256_0_231_0) main_v9377
  let main_v9379 : FVec F S2x256x1 .f32 := (extractStridedSlice S2x256x1 ![0, 0, 231] · slices_S2x256x256_S2x256x1_0_0_231) main_v9377
  let main_v9380 : FVec F S2x1x1 .f32 := (extractStridedSlice S2x1x1 ![0, 0, 231] · slices_S2x1x256_S2x1x1_0_0_231) main_v9378
  let main_v9381 : FVec F S2x256x1 .f32 := broadcastInDim S2x256x1 ![0, 1, 2] bcast_S2x1x1_S2x256x1_0_1_2 main_v9380
  let main_v9382 : FVec F S2x256x1 .f32 := Host.divf main_v9379 main_v9381
  let main_v9383 : FVec F S2x256x256 .f32 := broadcastInDim S2x256x256 ![0, 1, 2] bcast_S2x256x1_S2x256x256_0_1_2 main_v9382
  let main_c_1480 : IVec S_ 32 := constantI S_ 32 231#32
  let main_v9384 : IVec S2x256x256 32 := broadcastInDim S2x256x256 ![] bcast_S_S2x256x256 main_c_1480
  let main_v9385 : IVec S2x256x256 1 := cmpi .sgt main_v4987 main_v9384
  let main_c_1481 : IVec S_ 32 := constantI S_ 32 231#32
  let main_v9386 : IVec S2x256x256 32 := broadcastInDim S2x256x256 ![] bcast_S_S2x256x256 main_c_1481
  let main_v9387 : IVec S2x256x256 1 := cmpi .sgt main_v4988 main_v9386
  let main_v9388 : IVec S2x256x256 1 := andi main_v9385 main_v9387
  fn_part453 (F := F) main_arg0 main_v8 main_v4875 main_v4987 main_v4988 main_v9377 main_v9378 main_v9383 main_v9385 main_v9388

def fn_part451 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9339 : FVec F S2x256x256 .f32) (main_v9340 : FVec F S2x1x256 .f32) (main_v9345 : FVec F S2x256x256 .f32) (main_v9347 : IVec S2x256x256 1) : IVec S9x256x256 1 × IVec S8x256x256 1 :=
  let main_c_1475 : IVec S_ 32 := constantI S_ 32 229#32
  let main_v9348 : IVec S2x256x256 32 := broadcastInDim S2x256x256 ![] bcast_S_S2x256x256 main_c_1475
  let main_v9349 : IVec S2x256x256 1 := cmpi .sgt main_v4988 main_v9348
  let main_v9350 : IVec S2x256x256 1 := andi main_v9347 main_v9349
  let main_v9351 : FVec F S2x256x256 .f32 := broadcastInDim S2x256x256 ![0, 1, 2] bcast_S2x1x256_S2x256x256_0_1_2 main_v9340
  let main_v9352 : FVec F S2x256x256 .f32 := mulf main_v9345 main_v9351
  let main_v9353 : FVec F S2x256x256 .f32 := subf main_v9339 main_v9352
  let main_v9354 : FVec F S2x256x256 .f32 := select main_v9350 main_v9353 main_v9339
  let main_c_1476 : IVec S_ 32 := constantI S_ 32 229#32
  let main_v9355 : IVec S2x256x256 32 := broadcastInDim S2x256x256 ![] bcast_S_S2x256x256 main_c_1476
  let main_v9356 : IVec S2x256x256 1 := cmpi .eq main_v4988 main_v9355
  let main_v9357 : IVec S2x256x256 1 := andi main_v9347 main_v9356
  let main_v9358 : FVec F S2x256x256 .f32 := select main_v9357 main_v9345 main_v9354
  let main_v9359 : FVec F S2x1x256 .f32 := (extractStridedSlice S2x1x256 ![0, 230, 0] · slices_S2x256x256_S2x1x256_0_230_0) main_v9358
  let main_v9360 : FVec F S2x256x1 .f32 := (extractStridedSlice S2x256x1 ![0, 0, 230] · slices_S2x256x256_S2x256x1_0_0_230) main_v9358
  let main_v9361 : FVec F S2x1x1 .f32 := (extractStridedSlice S2x1x1 ![0, 0, 230] · slices_S2x1x256_S2x1x1_0_0_230) main_v9359
  let main_v9362 : FVec F S2x256x1 .f32 := broadcastInDim S2x256x1 ![0, 1, 2] bcast_S2x1x1_S2x256x1_0_1_2 main_v9361
  let main_v9363 : FVec F S2x256x1 .f32 := Host.divf main_v9360 main_v9362
  let main_v9364 : FVec F S2x256x256 .f32 := broadcastInDim S2x256x256 ![0, 1, 2] bcast_S2x256x1_S2x256x256_0_1_2 main_v9363
  let main_c_1477 : IVec S_ 32 := constantI S_ 32 230#32
  let main_v9365 : IVec S2x256x256 32 := broadcastInDim S2x256x256 ![] bcast_S_S2x256x256 main_c_1477
  let main_v9366 : IVec S2x256x256 1 := cmpi .sgt main_v4987 main_v9365
  let main_c_1478 : IVec S_ 32 := constantI S_ 32 230#32
  let main_v9367 : IVec S2x256x256 32 := broadcastInDim S2x256x256 ![] bcast_S_S2x256x256 main_c_1478
  fn_part452 (F := F) main_arg0 main_v8 main_v4875 main_v4987 main_v4988 main_v9358 main_v9359 main_v9364 main_v9366 main_v9367

def fn_part450 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9320 : FVec F S2x256x256 .f32) (main_v9321 : FVec F S2x1x256 .f32) (main_v9326 : FVec F S2x256x256 .f32) (main_c_1471 : IVec S_ 32) : IVec S9x256x256 1 × IVec S8x256x256 1 :=
  let main_v9327 : IVec S2x256x256 32 := broadcastInDim S2x256x256 ![] bcast_S_S2x256x256 main_c_1471
  let main_v9328 : IVec S2x256x256 1 := cmpi .sgt main_v4987 main_v9327
  let main_c_1472 : IVec S_ 32 := constantI S_ 32 228#32
  let main_v9329 : IVec S2x256x256 32 := broadcastInDim S2x256x256 ![] bcast_S_S2x256x256 main_c_1472
  let main_v9330 : IVec S2x256x256 1 := cmpi .sgt main_v4988 main_v9329
  let main_v9331 : IVec S2x256x256 1 := andi main_v9328 main_v9330
  let main_v9332 : FVec F S2x256x256 .f32 := broadcastInDim S2x256x256 ![0, 1, 2] bcast_S2x1x256_S2x256x256_0_1_2 main_v9321
  let main_v9333 : FVec F S2x256x256 .f32 := mulf main_v9326 main_v9332
  let main_v9334 : FVec F S2x256x256 .f32 := subf main_v9320 main_v9333
  let main_v9335 : FVec F S2x256x256 .f32 := select main_v9331 main_v9334 main_v9320
  let main_c_1473 : IVec S_ 32 := constantI S_ 32 228#32
  let main_v9336 : IVec S2x256x256 32 := broadcastInDim S2x256x256 ![] bcast_S_S2x256x256 main_c_1473
  let main_v9337 : IVec S2x256x256 1 := cmpi .eq main_v4988 main_v9336
  let main_v9338 : IVec S2x256x256 1 := andi main_v9328 main_v9337
  let main_v9339 : FVec F S2x256x256 .f32 := select main_v9338 main_v9326 main_v9335
  let main_v9340 : FVec F S2x1x256 .f32 := (extractStridedSlice S2x1x256 ![0, 229, 0] · slices_S2x256x256_S2x1x256_0_229_0) main_v9339
  let main_v9341 : FVec F S2x256x1 .f32 := (extractStridedSlice S2x256x1 ![0, 0, 229] · slices_S2x256x256_S2x256x1_0_0_229) main_v9339
  let main_v9342 : FVec F S2x1x1 .f32 := (extractStridedSlice S2x1x1 ![0, 0, 229] · slices_S2x1x256_S2x1x1_0_0_229) main_v9340
  let main_v9343 : FVec F S2x256x1 .f32 := broadcastInDim S2x256x1 ![0, 1, 2] bcast_S2x1x1_S2x256x1_0_1_2 main_v9342
  let main_v9344 : FVec F S2x256x1 .f32 := Host.divf main_v9341 main_v9343
  let main_v9345 : FVec F S2x256x256 .f32 := broadcastInDim S2x256x256 ![0, 1, 2] bcast_S2x256x1_S2x256x256_0_1_2 main_v9344
  let main_c_1474 : IVec S_ 32 := constantI S_ 32 229#32
  let main_v9346 : IVec S2x256x256 32 := broadcastInDim S2x256x256 ![] bcast_S_S2x256x256 main_c_1474
  let main_v9347 : IVec S2x256x256 1 := cmpi .sgt main_v4987 main_v9346
  fn_part451 (F := F) main_arg0 main_v8 main_v4875 main_v4987 main_v4988 main_v9339 main_v9340 main_v9345 main_v9347

def fn_part449 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9301 : FVec F S2x256x256 .f32) (main_v9302 : FVec F S2x1x256 .f32) (main_v9306 : FVec F S2x256x1 .f32) : IVec S9x256x256 1 × IVec S8x256x256 1 :=
  let main_v9307 : FVec F S2x256x256 .f32 := broadcastInDim S2x256x256 ![0, 1, 2] bcast_S2x256x1_S2x256x256_0_1_2 main_v9306
  let main_c_1468 : IVec S_ 32 := constantI S_ 32 227#32
  let main_v9308 : IVec S2x256x256 32 := broadcastInDim S2x256x256 ![] bcast_S_S2x256x256 main_c_1468
  let main_v9309 : IVec S2x256x256 1 := cmpi .sgt main_v4987 main_v9308
  let main_c_1469 : IVec S_ 32 := constantI S_ 32 227#32
  let main_v9310 : IVec S2x256x256 32 := broadcastInDim S2x256x256 ![] bcast_S_S2x256x256 main_c_1469
  let main_v9311 : IVec S2x256x256 1 := cmpi .sgt main_v4988 main_v9310
  let main_v9312 : IVec S2x256x256 1 := andi main_v9309 main_v9311
  let main_v9313 : FVec F S2x256x256 .f32 := broadcastInDim S2x256x256 ![0, 1, 2] bcast_S2x1x256_S2x256x256_0_1_2 main_v9302
  let main_v9314 : FVec F S2x256x256 .f32 := mulf main_v9307 main_v9313
  let main_v9315 : FVec F S2x256x256 .f32 := subf main_v9301 main_v9314
  let main_v9316 : FVec F S2x256x256 .f32 := select main_v9312 main_v9315 main_v9301
  let main_c_1470 : IVec S_ 32 := constantI S_ 32 227#32
  let main_v9317 : IVec S2x256x256 32 := broadcastInDim S2x256x256 ![] bcast_S_S2x256x256 main_c_1470
  let main_v9318 : IVec S2x256x256 1 := cmpi .eq main_v4988 main_v9317
  let main_v9319 : IVec S2x256x256 1 := andi main_v9309 main_v9318
  let main_v9320 : FVec F S2x256x256 .f32 := select main_v9319 main_v9307 main_v9316
  let main_v9321 : FVec F S2x1x256 .f32 := (extractStridedSlice S2x1x256 ![0, 228, 0] · slices_S2x256x256_S2x1x256_0_228_0) main_v9320
  let main_v9322 : FVec F S2x256x1 .f32 := (extractStridedSlice S2x256x1 ![0, 0, 228] · slices_S2x256x256_S2x256x1_0_0_228) main_v9320
  let main_v9323 : FVec F S2x1x1 .f32 := (extractStridedSlice S2x1x1 ![0, 0, 228] · slices_S2x1x256_S2x1x1_0_0_228) main_v9321
  let main_v9324 : FVec F S2x256x1 .f32 := broadcastInDim S2x256x1 ![0, 1, 2] bcast_S2x1x1_S2x256x1_0_1_2 main_v9323
  let main_v9325 : FVec F S2x256x1 .f32 := Host.divf main_v9322 main_v9324
  let main_v9326 : FVec F S2x256x256 .f32 := broadcastInDim S2x256x256 ![0, 1, 2] bcast_S2x256x1_S2x256x256_0_1_2 main_v9325
  let main_c_1471 : IVec S_ 32 := constantI S_ 32 228#32
  fn_part450 (F := F) main_arg0 main_v8 main_v4875 main_v4987 main_v4988 main_v9320 main_v9321 main_v9326 main_c_1471

def fn_part448 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9282 : FVec F S2x256x256 .f32) (main_v9283 : FVec F S2x1x256 .f32) (main_v9284 : FVec F S2x256x1 .f32) (main_v9285 : FVec F S2x1x1 .f32) : IVec S9x256x256 1 × IVec S8x256x256 1 :=
  let main_v9286 : FVec F S2x256x1 .f32 := broadcastInDim S2x256x1 ![0, 1, 2] bcast_S2x1x1_S2x256x1_0_1_2 main_v9285
  let main_v9287 : FVec F S2x256x1 .f32 := Host.divf main_v9284 main_v9286
  let main_v9288 : FVec F S2x256x256 .f32 := broadcastInDim S2x256x256 ![0, 1, 2] bcast_S2x256x1_S2x256x256_0_1_2 main_v9287
  let main_c_1465 : IVec S_ 32 := constantI S_ 32 226#32
  let main_v9289 : IVec S2x256x256 32 := broadcastInDim S2x256x256 ![] bcast_S_S2x256x256 main_c_1465
  let main_v9290 : IVec S2x256x256 1 := cmpi .sgt main_v4987 main_v9289
  let main_c_1466 : IVec S_ 32 := constantI S_ 32 226#32
  let main_v9291 : IVec S2x256x256 32 := broadcastInDim S2x256x256 ![] bcast_S_S2x256x256 main_c_1466
  let main_v9292 : IVec S2x256x256 1 := cmpi .sgt main_v4988 main_v9291
  let main_v9293 : IVec S2x256x256 1 := andi main_v9290 main_v9292
  let main_v9294 : FVec F S2x256x256 .f32 := broadcastInDim S2x256x256 ![0, 1, 2] bcast_S2x1x256_S2x256x256_0_1_2 main_v9283
  let main_v9295 : FVec F S2x256x256 .f32 := mulf main_v9288 main_v9294
  let main_v9296 : FVec F S2x256x256 .f32 := subf main_v9282 main_v9295
  let main_v9297 : FVec F S2x256x256 .f32 := select main_v9293 main_v9296 main_v9282
  let main_c_1467 : IVec S_ 32 := constantI S_ 32 226#32
  let main_v9298 : IVec S2x256x256 32 := broadcastInDim S2x256x256 ![] bcast_S_S2x256x256 main_c_1467
  let main_v9299 : IVec S2x256x256 1 := cmpi .eq main_v4988 main_v9298
  let main_v9300 : IVec S2x256x256 1 := andi main_v9290 main_v9299
  let main_v9301 : FVec F S2x256x256 .f32 := select main_v9300 main_v9288 main_v9297
  let main_v9302 : FVec F S2x1x256 .f32 := (extractStridedSlice S2x1x256 ![0, 227, 0] · slices_S2x256x256_S2x1x256_0_227_0) main_v9301
  let main_v9303 : FVec F S2x256x1 .f32 := (extractStridedSlice S2x256x1 ![0, 0, 227] · slices_S2x256x256_S2x256x1_0_0_227) main_v9301
  let main_v9304 : FVec F S2x1x1 .f32 := (extractStridedSlice S2x1x1 ![0, 0, 227] · slices_S2x1x256_S2x1x1_0_0_227) main_v9302
  let main_v9305 : FVec F S2x256x1 .f32 := broadcastInDim S2x256x1 ![0, 1, 2] bcast_S2x1x1_S2x256x1_0_1_2 main_v9304
  let main_v9306 : FVec F S2x256x1 .f32 := Host.divf main_v9303 main_v9305
  fn_part449 (F := F) main_arg0 main_v8 main_v4875 main_v4987 main_v4988 main_v9301 main_v9302 main_v9306

def fn_part447 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9263 : FVec F S2x256x256 .f32) (main_v9264 : FVec F S2x1x256 .f32) : IVec S9x256x256 1 × IVec S8x256x256 1 :=
  let main_v9265 : FVec F S2x256x1 .f32 := (extractStridedSlice S2x256x1 ![0, 0, 225] · slices_S2x256x256_S2x256x1_0_0_225) main_v9263
  let main_v9266 : FVec F S2x1x1 .f32 := (extractStridedSlice S2x1x1 ![0, 0, 225] · slices_S2x1x256_S2x1x1_0_0_225) main_v9264
  let main_v9267 : FVec F S2x256x1 .f32 := broadcastInDim S2x256x1 ![0, 1, 2] bcast_S2x1x1_S2x256x1_0_1_2 main_v9266
  let main_v9268 : FVec F S2x256x1 .f32 := Host.divf main_v9265 main_v9267
  let main_v9269 : FVec F S2x256x256 .f32 := broadcastInDim S2x256x256 ![0, 1, 2] bcast_S2x256x1_S2x256x256_0_1_2 main_v9268
  let main_c_1462 : IVec S_ 32 := constantI S_ 32 225#32
  let main_v9270 : IVec S2x256x256 32 := broadcastInDim S2x256x256 ![] bcast_S_S2x256x256 main_c_1462
  let main_v9271 : IVec S2x256x256 1 := cmpi .sgt main_v4987 main_v9270
  let main_c_1463 : IVec S_ 32 := constantI S_ 32 225#32
  let main_v9272 : IVec S2x256x256 32 := broadcastInDim S2x256x256 ![] bcast_S_S2x256x256 main_c_1463
  let main_v9273 : IVec S2x256x256 1 := cmpi .sgt main_v4988 main_v9272
  let main_v9274 : IVec S2x256x256 1 := andi main_v9271 main_v9273
  let main_v9275 : FVec F S2x256x256 .f32 := broadcastInDim S2x256x256 ![0, 1, 2] bcast_S2x1x256_S2x256x256_0_1_2 main_v9264
  let main_v9276 : FVec F S2x256x256 .f32 := mulf main_v9269 main_v9275
  let main_v9277 : FVec F S2x256x256 .f32 := subf main_v9263 main_v9276
  let main_v9278 : FVec F S2x256x256 .f32 := select main_v9274 main_v9277 main_v9263
  let main_c_1464 : IVec S_ 32 := constantI S_ 32 225#32
  let main_v9279 : IVec S2x256x256 32 := broadcastInDim S2x256x256 ![] bcast_S_S2x256x256 main_c_1464
  let main_v9280 : IVec S2x256x256 1 := cmpi .eq main_v4988 main_v9279
  let main_v9281 : IVec S2x256x256 1 := andi main_v9271 main_v9280
  let main_v9282 : FVec F S2x256x256 .f32 := select main_v9281 main_v9269 main_v9278
  let main_v9283 : FVec F S2x1x256 .f32 := (extractStridedSlice S2x1x256 ![0, 226, 0] · slices_S2x256x256_S2x1x256_0_226_0) main_v9282
  let main_v9284 : FVec F S2x256x1 .f32 := (extractStridedSlice S2x256x1 ![0, 0, 226] · slices_S2x256x256_S2x256x1_0_0_226) main_v9282
  let main_v9285 : FVec F S2x1x1 .f32 := (extractStridedSlice S2x1x1 ![0, 0, 226] · slices_S2x1x256_S2x1x1_0_0_226) main_v9283
  fn_part448 (F := F) main_arg0 main_v8 main_v4875 main_v4987 main_v4988 main_v9282 main_v9283 main_v9284 main_v9285

def fn_part446 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9231 : FVec F S2x256x256 .f32) (main_v9240 : FVec F S2x256x256 .f32) (main_v9243 : IVec S2x256x256 1) : IVec S9x256x256 1 × IVec S8x256x256 1 :=
  let main_v9244 : FVec F S2x256x256 .f32 := select main_v9243 main_v9231 main_v9240
  let main_v9245 : FVec F S2x1x256 .f32 := (extractStridedSlice S2x1x256 ![0, 224, 0] · slices_S2x256x256_S2x1x256_0_224_0) main_v9244
  let main_v9246 : FVec F S2x256x1 .f32 := (extractStridedSlice S2x256x1 ![0, 0, 224] · slices_S2x256x256_S2x256x1_0_0_224) main_v9244
  let main_v9247 : FVec F S2x1x1 .f32 := (extractStridedSlice S2x1x1 ![0, 0, 224] · slices_S2x1x256_S2x1x1_0_0_224) main_v9245
  let main_v9248 : FVec F S2x256x1 .f32 := broadcastInDim S2x256x1 ![0, 1, 2] bcast_S2x1x1_S2x256x1_0_1_2 main_v9247
  let main_v9249 : FVec F S2x256x1 .f32 := Host.divf main_v9246 main_v9248
  let main_v9250 : FVec F S2x256x256 .f32 := broadcastInDim S2x256x256 ![0, 1, 2] bcast_S2x256x1_S2x256x256_0_1_2 main_v9249
  let main_c_1459 : IVec S_ 32 := constantI S_ 32 224#32
  let main_v9251 : IVec S2x256x256 32 := broadcastInDim S2x256x256 ![] bcast_S_S2x256x256 main_c_1459
  let main_v9252 : IVec S2x256x256 1 := cmpi .sgt main_v4987 main_v9251
  let main_c_1460 : IVec S_ 32 := constantI S_ 32 224#32
  let main_v9253 : IVec S2x256x256 32 := broadcastInDim S2x256x256 ![] bcast_S_S2x256x256 main_c_1460
  let main_v9254 : IVec S2x256x256 1 := cmpi .sgt main_v4988 main_v9253
  let main_v9255 : IVec S2x256x256 1 := andi main_v9252 main_v9254
  let main_v9256 : FVec F S2x256x256 .f32 := broadcastInDim S2x256x256 ![0, 1, 2] bcast_S2x1x256_S2x256x256_0_1_2 main_v9245
  let main_v9257 : FVec F S2x256x256 .f32 := mulf main_v9250 main_v9256
  let main_v9258 : FVec F S2x256x256 .f32 := subf main_v9244 main_v9257
  let main_v9259 : FVec F S2x256x256 .f32 := select main_v9255 main_v9258 main_v9244
  let main_c_1461 : IVec S_ 32 := constantI S_ 32 224#32
  let main_v9260 : IVec S2x256x256 32 := broadcastInDim S2x256x256 ![] bcast_S_S2x256x256 main_c_1461
  let main_v9261 : IVec S2x256x256 1 := cmpi .eq main_v4988 main_v9260
  let main_v9262 : IVec S2x256x256 1 := andi main_v9252 main_v9261
  let main_v9263 : FVec F S2x256x256 .f32 := select main_v9262 main_v9250 main_v9259
  let main_v9264 : FVec F S2x1x256 .f32 := (extractStridedSlice S2x1x256 ![0, 225, 0] · slices_S2x256x256_S2x1x256_0_225_0) main_v9263
  fn_part447 (F := F) main_arg0 main_v8 main_v4875 main_v4987 main_v4988 main_v9263 main_v9264

def fn_part445 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9212 : FVec F S2x256x256 .f32) (main_v9214 : IVec S2x256x256 1) (main_v9221 : FVec F S2x256x256 .f32) (main_v9222 : IVec S2x256x256 32) : IVec S9x256x256 1 × IVec S8x256x256 1 :=
  let main_v9223 : IVec S2x256x256 1 := cmpi .eq main_v4988 main_v9222
  let main_v9224 : IVec S2x256x256 1 := andi main_v9214 main_v9223
  let main_v9225 : FVec F S2x256x256 .f32 := select main_v9224 main_v9212 main_v9221
  let main_v9226 : FVec F S2x1x256 .f32 := (extractStridedSlice S2x1x256 ![0, 223, 0] · slices_S2x256x256_S2x1x256_0_223_0) main_v9225
  let main_v9227 : FVec F S2x256x1 .f32 := (extractStridedSlice S2x256x1 ![0, 0, 223] · slices_S2x256x256_S2x256x1_0_0_223) main_v9225
  let main_v9228 : FVec F S2x1x1 .f32 := (extractStridedSlice S2x1x1 ![0, 0, 223] · slices_S2x1x256_S2x1x1_0_0_223) main_v9226
  let main_v9229 : FVec F S2x256x1 .f32 := broadcastInDim S2x256x1 ![0, 1, 2] bcast_S2x1x1_S2x256x1_0_1_2 main_v9228
  let main_v9230 : FVec F S2x256x1 .f32 := Host.divf main_v9227 main_v9229
  let main_v9231 : FVec F S2x256x256 .f32 := broadcastInDim S2x256x256 ![0, 1, 2] bcast_S2x256x1_S2x256x256_0_1_2 main_v9230
  let main_c_1456 : IVec S_ 32 := constantI S_ 32 223#32
  let main_v9232 : IVec S2x256x256 32 := broadcastInDim S2x256x256 ![] bcast_S_S2x256x256 main_c_1456
  let main_v9233 : IVec S2x256x256 1 := cmpi .sgt main_v4987 main_v9232
  let main_c_1457 : IVec S_ 32 := constantI S_ 32 223#32
  let main_v9234 : IVec S2x256x256 32 := broadcastInDim S2x256x256 ![] bcast_S_S2x256x256 main_c_1457
  let main_v9235 : IVec S2x256x256 1 := cmpi .sgt main_v4988 main_v9234
  let main_v9236 : IVec S2x256x256 1 := andi main_v9233 main_v9235
  let main_v9237 : FVec F S2x256x256 .f32 := broadcastInDim S2x256x256 ![0, 1, 2] bcast_S2x1x256_S2x256x256_0_1_2 main_v9226
  let main_v9238 : FVec F S2x256x256 .f32 := mulf main_v9231 main_v9237
  let main_v9239 : FVec F S2x256x256 .f32 := subf main_v9225 main_v9238
  let main_v9240 : FVec F S2x256x256 .f32 := select main_v9236 main_v9239 main_v9225
  let main_c_1458 : IVec S_ 32 := constantI S_ 32 223#32
  let main_v9241 : IVec S2x256x256 32 := broadcastInDim S2x256x256 ![] bcast_S_S2x256x256 main_c_1458
  let main_v9242 : IVec S2x256x256 1 := cmpi .eq main_v4988 main_v9241
  let main_v9243 : IVec S2x256x256 1 := andi main_v9233 main_v9242
  fn_part446 (F := F) main_arg0 main_v8 main_v4875 main_v4987 main_v4988 main_v9231 main_v9240 main_v9243

def fn_part444 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9193 : FVec F S2x256x256 .f32) (main_v9195 : IVec S2x256x256 1) (main_v9202 : FVec F S2x256x256 .f32) : IVec S9x256x256 1 × IVec S8x256x256 1 :=
  let main_c_1452 : IVec S_ 32 := constantI S_ 32 221#32
  let main_v9203 : IVec S2x256x256 32 := broadcastInDim S2x256x256 ![] bcast_S_S2x256x256 main_c_1452
  let main_v9204 : IVec S2x256x256 1 := cmpi .eq main_v4988 main_v9203
  let main_v9205 : IVec S2x256x256 1 := andi main_v9195 main_v9204
  let main_v9206 : FVec F S2x256x256 .f32 := select main_v9205 main_v9193 main_v9202
  let main_v9207 : FVec F S2x1x256 .f32 := (extractStridedSlice S2x1x256 ![0, 222, 0] · slices_S2x256x256_S2x1x256_0_222_0) main_v9206
  let main_v9208 : FVec F S2x256x1 .f32 := (extractStridedSlice S2x256x1 ![0, 0, 222] · slices_S2x256x256_S2x256x1_0_0_222) main_v9206
  let main_v9209 : FVec F S2x1x1 .f32 := (extractStridedSlice S2x1x1 ![0, 0, 222] · slices_S2x1x256_S2x1x1_0_0_222) main_v9207
  let main_v9210 : FVec F S2x256x1 .f32 := broadcastInDim S2x256x1 ![0, 1, 2] bcast_S2x1x1_S2x256x1_0_1_2 main_v9209
  let main_v9211 : FVec F S2x256x1 .f32 := Host.divf main_v9208 main_v9210
  let main_v9212 : FVec F S2x256x256 .f32 := broadcastInDim S2x256x256 ![0, 1, 2] bcast_S2x256x1_S2x256x256_0_1_2 main_v9211
  let main_c_1453 : IVec S_ 32 := constantI S_ 32 222#32
  let main_v9213 : IVec S2x256x256 32 := broadcastInDim S2x256x256 ![] bcast_S_S2x256x256 main_c_1453
  let main_v9214 : IVec S2x256x256 1 := cmpi .sgt main_v4987 main_v9213
  let main_c_1454 : IVec S_ 32 := constantI S_ 32 222#32
  let main_v9215 : IVec S2x256x256 32 := broadcastInDim S2x256x256 ![] bcast_S_S2x256x256 main_c_1454
  let main_v9216 : IVec S2x256x256 1 := cmpi .sgt main_v4988 main_v9215
  let main_v9217 : IVec S2x256x256 1 := andi main_v9214 main_v9216
  let main_v9218 : FVec F S2x256x256 .f32 := broadcastInDim S2x256x256 ![0, 1, 2] bcast_S2x1x256_S2x256x256_0_1_2 main_v9207
  let main_v9219 : FVec F S2x256x256 .f32 := mulf main_v9212 main_v9218
  let main_v9220 : FVec F S2x256x256 .f32 := subf main_v9206 main_v9219
  let main_v9221 : FVec F S2x256x256 .f32 := select main_v9217 main_v9220 main_v9206
  let main_c_1455 : IVec S_ 32 := constantI S_ 32 222#32
  let main_v9222 : IVec S2x256x256 32 := broadcastInDim S2x256x256 ![] bcast_S_S2x256x256 main_c_1455
  fn_part445 (F := F) main_arg0 main_v8 main_v4875 main_v4987 main_v4988 main_v9212 main_v9214 main_v9221 main_v9222

def fn_part443 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9168 : FVec F S2x256x256 .f32) (main_v9174 : FVec F S2x256x256 .f32) (main_v9176 : IVec S2x256x256 1) (main_v9179 : IVec S2x256x256 1) (main_v9181 : FVec F S2x256x256 .f32) : IVec S9x256x256 1 × IVec S8x256x256 1 :=
  let main_v9182 : FVec F S2x256x256 .f32 := subf main_v9168 main_v9181
  let main_v9183 : FVec F S2x256x256 .f32 := select main_v9179 main_v9182 main_v9168
  let main_c_1449 : IVec S_ 32 := constantI S_ 32 220#32
  let main_v9184 : IVec S2x256x256 32 := broadcastInDim S2x256x256 ![] bcast_S_S2x256x256 main_c_1449
  let main_v9185 : IVec S2x256x256 1 := cmpi .eq main_v4988 main_v9184
  let main_v9186 : IVec S2x256x256 1 := andi main_v9176 main_v9185
  let main_v9187 : FVec F S2x256x256 .f32 := select main_v9186 main_v9174 main_v9183
  let main_v9188 : FVec F S2x1x256 .f32 := (extractStridedSlice S2x1x256 ![0, 221, 0] · slices_S2x256x256_S2x1x256_0_221_0) main_v9187
  let main_v9189 : FVec F S2x256x1 .f32 := (extractStridedSlice S2x256x1 ![0, 0, 221] · slices_S2x256x256_S2x256x1_0_0_221) main_v9187
  let main_v9190 : FVec F S2x1x1 .f32 := (extractStridedSlice S2x1x1 ![0, 0, 221] · slices_S2x1x256_S2x1x1_0_0_221) main_v9188
  let main_v9191 : FVec F S2x256x1 .f32 := broadcastInDim S2x256x1 ![0, 1, 2] bcast_S2x1x1_S2x256x1_0_1_2 main_v9190
  let main_v9192 : FVec F S2x256x1 .f32 := Host.divf main_v9189 main_v9191
  let main_v9193 : FVec F S2x256x256 .f32 := broadcastInDim S2x256x256 ![0, 1, 2] bcast_S2x256x1_S2x256x256_0_1_2 main_v9192
  let main_c_1450 : IVec S_ 32 := constantI S_ 32 221#32
  let main_v9194 : IVec S2x256x256 32 := broadcastInDim S2x256x256 ![] bcast_S_S2x256x256 main_c_1450
  let main_v9195 : IVec S2x256x256 1 := cmpi .sgt main_v4987 main_v9194
  let main_c_1451 : IVec S_ 32 := constantI S_ 32 221#32
  let main_v9196 : IVec S2x256x256 32 := broadcastInDim S2x256x256 ![] bcast_S_S2x256x256 main_c_1451
  let main_v9197 : IVec S2x256x256 1 := cmpi .sgt main_v4988 main_v9196
  let main_v9198 : IVec S2x256x256 1 := andi main_v9195 main_v9197
  let main_v9199 : FVec F S2x256x256 .f32 := broadcastInDim S2x256x256 ![0, 1, 2] bcast_S2x1x256_S2x256x256_0_1_2 main_v9188
  let main_v9200 : FVec F S2x256x256 .f32 := mulf main_v9193 main_v9199
  let main_v9201 : FVec F S2x256x256 .f32 := subf main_v9187 main_v9200
  let main_v9202 : FVec F S2x256x256 .f32 := select main_v9198 main_v9201 main_v9187
  fn_part444 (F := F) main_arg0 main_v8 main_v4875 main_v4987 main_v4988 main_v9193 main_v9195 main_v9202

def fn_part442 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9149 : FVec F S2x256x256 .f32) (main_v9150 : FVec F S2x1x256 .f32) (main_v9155 : FVec F S2x256x256 .f32) (main_v9157 : IVec S2x256x256 1) (main_v9160 : IVec S2x256x256 1) : IVec S9x256x256 1 × IVec S8x256x256 1 :=
  let main_v9161 : FVec F S2x256x256 .f32 := broadcastInDim S2x256x256 ![0, 1, 2] bcast_S2x1x256_S2x256x256_0_1_2 main_v9150
  let main_v9162 : FVec F S2x256x256 .f32 := mulf main_v9155 main_v9161
  let main_v9163 : FVec F S2x256x256 .f32 := subf main_v9149 main_v9162
  let main_v9164 : FVec F S2x256x256 .f32 := select main_v9160 main_v9163 main_v9149
  let main_c_1446 : IVec S_ 32 := constantI S_ 32 219#32
  let main_v9165 : IVec S2x256x256 32 := broadcastInDim S2x256x256 ![] bcast_S_S2x256x256 main_c_1446
  let main_v9166 : IVec S2x256x256 1 := cmpi .eq main_v4988 main_v9165
  let main_v9167 : IVec S2x256x256 1 := andi main_v9157 main_v9166
  let main_v9168 : FVec F S2x256x256 .f32 := select main_v9167 main_v9155 main_v9164
  let main_v9169 : FVec F S2x1x256 .f32 := (extractStridedSlice S2x1x256 ![0, 220, 0] · slices_S2x256x256_S2x1x256_0_220_0) main_v9168
  let main_v9170 : FVec F S2x256x1 .f32 := (extractStridedSlice S2x256x1 ![0, 0, 220] · slices_S2x256x256_S2x256x1_0_0_220) main_v9168
  let main_v9171 : FVec F S2x1x1 .f32 := (extractStridedSlice S2x1x1 ![0, 0, 220] · slices_S2x1x256_S2x1x1_0_0_220) main_v9169
  let main_v9172 : FVec F S2x256x1 .f32 := broadcastInDim S2x256x1 ![0, 1, 2] bcast_S2x1x1_S2x256x1_0_1_2 main_v9171
  let main_v9173 : FVec F S2x256x1 .f32 := Host.divf main_v9170 main_v9172
  let main_v9174 : FVec F S2x256x256 .f32 := broadcastInDim S2x256x256 ![0, 1, 2] bcast_S2x256x1_S2x256x256_0_1_2 main_v9173
  let main_c_1447 : IVec S_ 32 := constantI S_ 32 220#32
  let main_v9175 : IVec S2x256x256 32 := broadcastInDim S2x256x256 ![] bcast_S_S2x256x256 main_c_1447
  let main_v9176 : IVec S2x256x256 1 := cmpi .sgt main_v4987 main_v9175
  let main_c_1448 : IVec S_ 32 := constantI S_ 32 220#32
  let main_v9177 : IVec S2x256x256 32 := broadcastInDim S2x256x256 ![] bcast_S_S2x256x256 main_c_1448
  let main_v9178 : IVec S2x256x256 1 := cmpi .sgt main_v4988 main_v9177
  let main_v9179 : IVec S2x256x256 1 := andi main_v9176 main_v9178
  let main_v9180 : FVec F S2x256x256 .f32 := broadcastInDim S2x256x256 ![0, 1, 2] bcast_S2x1x256_S2x256x256_0_1_2 main_v9169
  let main_v9181 : FVec F S2x256x256 .f32 := mulf main_v9174 main_v9180
  fn_part443 (F := F) main_arg0 main_v8 main_v4875 main_v4987 main_v4988 main_v9168 main_v9174 main_v9176 main_v9179 main_v9181

def fn_part441 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9130 : FVec F S2x256x256 .f32) (main_v9131 : FVec F S2x1x256 .f32) (main_v9136 : FVec F S2x256x256 .f32) (main_v9138 : IVec S2x256x256 1) (main_v9139 : IVec S2x256x256 32) : IVec S9x256x256 1 × IVec S8x256x256 1 :=
  let main_v9140 : IVec S2x256x256 1 := cmpi .sgt main_v4988 main_v9139
  let main_v9141 : IVec S2x256x256 1 := andi main_v9138 main_v9140
  let main_v9142 : FVec F S2x256x256 .f32 := broadcastInDim S2x256x256 ![0, 1, 2] bcast_S2x1x256_S2x256x256_0_1_2 main_v9131
  let main_v9143 : FVec F S2x256x256 .f32 := mulf main_v9136 main_v9142
  let main_v9144 : FVec F S2x256x256 .f32 := subf main_v9130 main_v9143
  let main_v9145 : FVec F S2x256x256 .f32 := select main_v9141 main_v9144 main_v9130
  let main_c_1443 : IVec S_ 32 := constantI S_ 32 218#32
  let main_v9146 : IVec S2x256x256 32 := broadcastInDim S2x256x256 ![] bcast_S_S2x256x256 main_c_1443
  let main_v9147 : IVec S2x256x256 1 := cmpi .eq main_v4988 main_v9146
  let main_v9148 : IVec S2x256x256 1 := andi main_v9138 main_v9147
  let main_v9149 : FVec F S2x256x256 .f32 := select main_v9148 main_v9136 main_v9145
  let main_v9150 : FVec F S2x1x256 .f32 := (extractStridedSlice S2x1x256 ![0, 219, 0] · slices_S2x256x256_S2x1x256_0_219_0) main_v9149
  let main_v9151 : FVec F S2x256x1 .f32 := (extractStridedSlice S2x256x1 ![0, 0, 219] · slices_S2x256x256_S2x256x1_0_0_219) main_v9149
  let main_v9152 : FVec F S2x1x1 .f32 := (extractStridedSlice S2x1x1 ![0, 0, 219] · slices_S2x1x256_S2x1x1_0_0_219) main_v9150
  let main_v9153 : FVec F S2x256x1 .f32 := broadcastInDim S2x256x1 ![0, 1, 2] bcast_S2x1x1_S2x256x1_0_1_2 main_v9152
  let main_v9154 : FVec F S2x256x1 .f32 := Host.divf main_v9151 main_v9153
  let main_v9155 : FVec F S2x256x256 .f32 := broadcastInDim S2x256x256 ![0, 1, 2] bcast_S2x256x1_S2x256x256_0_1_2 main_v9154
  let main_c_1444 : IVec S_ 32 := constantI S_ 32 219#32
  let main_v9156 : IVec S2x256x256 32 := broadcastInDim S2x256x256 ![] bcast_S_S2x256x256 main_c_1444
  let main_v9157 : IVec S2x256x256 1 := cmpi .sgt main_v4987 main_v9156
  let main_c_1445 : IVec S_ 32 := constantI S_ 32 219#32
  let main_v9158 : IVec S2x256x256 32 := broadcastInDim S2x256x256 ![] bcast_S_S2x256x256 main_c_1445
  let main_v9159 : IVec S2x256x256 1 := cmpi .sgt main_v4988 main_v9158
  let main_v9160 : IVec S2x256x256 1 := andi main_v9157 main_v9159
  fn_part442 (F := F) main_arg0 main_v8 main_v4875 main_v4987 main_v4988 main_v9149 main_v9150 main_v9155 main_v9157 main_v9160

def fn_part440 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9111 : FVec F S2x256x256 .f32) (main_v9112 : FVec F S2x1x256 .f32) (main_v9117 : FVec F S2x256x256 .f32) (main_v9119 : IVec S2x256x256 1) : IVec S9x256x256 1 × IVec S8x256x256 1 :=
  let main_c_1439 : IVec S_ 32 := constantI S_ 32 217#32
  let main_v9120 : IVec S2x256x256 32 := broadcastInDim S2x256x256 ![] bcast_S_S2x256x256 main_c_1439
  let main_v9121 : IVec S2x256x256 1 := cmpi .sgt main_v4988 main_v9120
  let main_v9122 : IVec S2x256x256 1 := andi main_v9119 main_v9121
  let main_v9123 : FVec F S2x256x256 .f32 := broadcastInDim S2x256x256 ![0, 1, 2] bcast_S2x1x256_S2x256x256_0_1_2 main_v9112
  let main_v9124 : FVec F S2x256x256 .f32 := mulf main_v9117 main_v9123
  let main_v9125 : FVec F S2x256x256 .f32 := subf main_v9111 main_v9124
  let main_v9126 : FVec F S2x256x256 .f32 := select main_v9122 main_v9125 main_v9111
  let main_c_1440 : IVec S_ 32 := constantI S_ 32 217#32
  let main_v9127 : IVec S2x256x256 32 := broadcastInDim S2x256x256 ![] bcast_S_S2x256x256 main_c_1440
  let main_v9128 : IVec S2x256x256 1 := cmpi .eq main_v4988 main_v9127
  let main_v9129 : IVec S2x256x256 1 := andi main_v9119 main_v9128
  let main_v9130 : FVec F S2x256x256 .f32 := select main_v9129 main_v9117 main_v9126
  let main_v9131 : FVec F S2x1x256 .f32 := (extractStridedSlice S2x1x256 ![0, 218, 0] · slices_S2x256x256_S2x1x256_0_218_0) main_v9130
  let main_v9132 : FVec F S2x256x1 .f32 := (extractStridedSlice S2x256x1 ![0, 0, 218] · slices_S2x256x256_S2x256x1_0_0_218) main_v9130
  let main_v9133 : FVec F S2x1x1 .f32 := (extractStridedSlice S2x1x1 ![0, 0, 218] · slices_S2x1x256_S2x1x1_0_0_218) main_v9131
  let main_v9134 : FVec F S2x256x1 .f32 := broadcastInDim S2x256x1 ![0, 1, 2] bcast_S2x1x1_S2x256x1_0_1_2 main_v9133
  let main_v9135 : FVec F S2x256x1 .f32 := Host.divf main_v9132 main_v9134
  let main_v9136 : FVec F S2x256x256 .f32 := broadcastInDim S2x256x256 ![0, 1, 2] bcast_S2x256x1_S2x256x256_0_1_2 main_v9135
  let main_c_1441 : IVec S_ 32 := constantI S_ 32 218#32
  let main_v9137 : IVec S2x256x256 32 := broadcastInDim S2x256x256 ![] bcast_S_S2x256x256 main_c_1441
  let main_v9138 : IVec S2x256x256 1 := cmpi .sgt main_v4987 main_v9137
  let main_c_1442 : IVec S_ 32 := constantI S_ 32 218#32
  let main_v9139 : IVec S2x256x256 32 := broadcastInDim S2x256x256 ![] bcast_S_S2x256x256 main_c_1442
  fn_part441 (F := F) main_arg0 main_v8 main_v4875 main_v4987 main_v4988 main_v9130 main_v9131 main_v9136 main_v9138 main_v9139

def fn_part439 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9092 : FVec F S2x256x256 .f32) (main_v9093 : FVec F S2x1x256 .f32) (main_v9098 : FVec F S2x256x256 .f32) (main_c_1435 : IVec S_ 32) : IVec S9x256x256 1 × IVec S8x256x256 1 :=
  let main_v9099 : IVec S2x256x256 32 := broadcastInDim S2x256x256 ![] bcast_S_S2x256x256 main_c_1435
  let main_v9100 : IVec S2x256x256 1 := cmpi .sgt main_v4987 main_v9099
  let main_c_1436 : IVec S_ 32 := constantI S_ 32 216#32
  let main_v9101 : IVec S2x256x256 32 := broadcastInDim S2x256x256 ![] bcast_S_S2x256x256 main_c_1436
  let main_v9102 : IVec S2x256x256 1 := cmpi .sgt main_v4988 main_v9101
  let main_v9103 : IVec S2x256x256 1 := andi main_v9100 main_v9102
  let main_v9104 : FVec F S2x256x256 .f32 := broadcastInDim S2x256x256 ![0, 1, 2] bcast_S2x1x256_S2x256x256_0_1_2 main_v9093
  let main_v9105 : FVec F S2x256x256 .f32 := mulf main_v9098 main_v9104
  let main_v9106 : FVec F S2x256x256 .f32 := subf main_v9092 main_v9105
  let main_v9107 : FVec F S2x256x256 .f32 := select main_v9103 main_v9106 main_v9092
  let main_c_1437 : IVec S_ 32 := constantI S_ 32 216#32
  let main_v9108 : IVec S2x256x256 32 := broadcastInDim S2x256x256 ![] bcast_S_S2x256x256 main_c_1437
  let main_v9109 : IVec S2x256x256 1 := cmpi .eq main_v4988 main_v9108
  let main_v9110 : IVec S2x256x256 1 := andi main_v9100 main_v9109
  let main_v9111 : FVec F S2x256x256 .f32 := select main_v9110 main_v9098 main_v9107
  let main_v9112 : FVec F S2x1x256 .f32 := (extractStridedSlice S2x1x256 ![0, 217, 0] · slices_S2x256x256_S2x1x256_0_217_0) main_v9111
  let main_v9113 : FVec F S2x256x1 .f32 := (extractStridedSlice S2x256x1 ![0, 0, 217] · slices_S2x256x256_S2x256x1_0_0_217) main_v9111
  let main_v9114 : FVec F S2x1x1 .f32 := (extractStridedSlice S2x1x1 ![0, 0, 217] · slices_S2x1x256_S2x1x1_0_0_217) main_v9112
  let main_v9115 : FVec F S2x256x1 .f32 := broadcastInDim S2x256x1 ![0, 1, 2] bcast_S2x1x1_S2x256x1_0_1_2 main_v9114
  let main_v9116 : FVec F S2x256x1 .f32 := Host.divf main_v9113 main_v9115
  let main_v9117 : FVec F S2x256x256 .f32 := broadcastInDim S2x256x256 ![0, 1, 2] bcast_S2x256x1_S2x256x256_0_1_2 main_v9116
  let main_c_1438 : IVec S_ 32 := constantI S_ 32 217#32
  let main_v9118 : IVec S2x256x256 32 := broadcastInDim S2x256x256 ![] bcast_S_S2x256x256 main_c_1438
  let main_v9119 : IVec S2x256x256 1 := cmpi .sgt main_v4987 main_v9118
  fn_part440 (F := F) main_arg0 main_v8 main_v4875 main_v4987 main_v4988 main_v9111 main_v9112 main_v9117 main_v9119

def fn_part438 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9073 : FVec F S2x256x256 .f32) (main_v9074 : FVec F S2x1x256 .f32) (main_v9078 : FVec F S2x256x1 .f32) : IVec S9x256x256 1 × IVec S8x256x256 1 :=
  let main_v9079 : FVec F S2x256x256 .f32 := broadcastInDim S2x256x256 ![0, 1, 2] bcast_S2x256x1_S2x256x256_0_1_2 main_v9078
  let main_c_1432 : IVec S_ 32 := constantI S_ 32 215#32
  let main_v9080 : IVec S2x256x256 32 := broadcastInDim S2x256x256 ![] bcast_S_S2x256x256 main_c_1432
  let main_v9081 : IVec S2x256x256 1 := cmpi .sgt main_v4987 main_v9080
  let main_c_1433 : IVec S_ 32 := constantI S_ 32 215#32
  let main_v9082 : IVec S2x256x256 32 := broadcastInDim S2x256x256 ![] bcast_S_S2x256x256 main_c_1433
  let main_v9083 : IVec S2x256x256 1 := cmpi .sgt main_v4988 main_v9082
  let main_v9084 : IVec S2x256x256 1 := andi main_v9081 main_v9083
  let main_v9085 : FVec F S2x256x256 .f32 := broadcastInDim S2x256x256 ![0, 1, 2] bcast_S2x1x256_S2x256x256_0_1_2 main_v9074
  let main_v9086 : FVec F S2x256x256 .f32 := mulf main_v9079 main_v9085
  let main_v9087 : FVec F S2x256x256 .f32 := subf main_v9073 main_v9086
  let main_v9088 : FVec F S2x256x256 .f32 := select main_v9084 main_v9087 main_v9073
  let main_c_1434 : IVec S_ 32 := constantI S_ 32 215#32
  let main_v9089 : IVec S2x256x256 32 := broadcastInDim S2x256x256 ![] bcast_S_S2x256x256 main_c_1434
  let main_v9090 : IVec S2x256x256 1 := cmpi .eq main_v4988 main_v9089
  let main_v9091 : IVec S2x256x256 1 := andi main_v9081 main_v9090
  let main_v9092 : FVec F S2x256x256 .f32 := select main_v9091 main_v9079 main_v9088
  let main_v9093 : FVec F S2x1x256 .f32 := (extractStridedSlice S2x1x256 ![0, 216, 0] · slices_S2x256x256_S2x1x256_0_216_0) main_v9092
  let main_v9094 : FVec F S2x256x1 .f32 := (extractStridedSlice S2x256x1 ![0, 0, 216] · slices_S2x256x256_S2x256x1_0_0_216) main_v9092
  let main_v9095 : FVec F S2x1x1 .f32 := (extractStridedSlice S2x1x1 ![0, 0, 216] · slices_S2x1x256_S2x1x1_0_0_216) main_v9093
  let main_v9096 : FVec F S2x256x1 .f32 := broadcastInDim S2x256x1 ![0, 1, 2] bcast_S2x1x1_S2x256x1_0_1_2 main_v9095
  let main_v9097 : FVec F S2x256x1 .f32 := Host.divf main_v9094 main_v9096
  let main_v9098 : FVec F S2x256x256 .f32 := broadcastInDim S2x256x256 ![0, 1, 2] bcast_S2x256x1_S2x256x256_0_1_2 main_v9097
  let main_c_1435 : IVec S_ 32 := constantI S_ 32 216#32
  fn_part439 (F := F) main_arg0 main_v8 main_v4875 main_v4987 main_v4988 main_v9092 main_v9093 main_v9098 main_c_1435

def fn_part437 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9054 : FVec F S2x256x256 .f32) (main_v9055 : FVec F S2x1x256 .f32) (main_v9056 : FVec F S2x256x1 .f32) (main_v9057 : FVec F S2x1x1 .f32) : IVec S9x256x256 1 × IVec S8x256x256 1 :=
  let main_v9058 : FVec F S2x256x1 .f32 := broadcastInDim S2x256x1 ![0, 1, 2] bcast_S2x1x1_S2x256x1_0_1_2 main_v9057
  let main_v9059 : FVec F S2x256x1 .f32 := Host.divf main_v9056 main_v9058
  let main_v9060 : FVec F S2x256x256 .f32 := broadcastInDim S2x256x256 ![0, 1, 2] bcast_S2x256x1_S2x256x256_0_1_2 main_v9059
  let main_c_1429 : IVec S_ 32 := constantI S_ 32 214#32
  let main_v9061 : IVec S2x256x256 32 := broadcastInDim S2x256x256 ![] bcast_S_S2x256x256 main_c_1429
  let main_v9062 : IVec S2x256x256 1 := cmpi .sgt main_v4987 main_v9061
  let main_c_1430 : IVec S_ 32 := constantI S_ 32 214#32
  let main_v9063 : IVec S2x256x256 32 := broadcastInDim S2x256x256 ![] bcast_S_S2x256x256 main_c_1430
  let main_v9064 : IVec S2x256x256 1 := cmpi .sgt main_v4988 main_v9063
  let main_v9065 : IVec S2x256x256 1 := andi main_v9062 main_v9064
  let main_v9066 : FVec F S2x256x256 .f32 := broadcastInDim S2x256x256 ![0, 1, 2] bcast_S2x1x256_S2x256x256_0_1_2 main_v9055
  let main_v9067 : FVec F S2x256x256 .f32 := mulf main_v9060 main_v9066
  let main_v9068 : FVec F S2x256x256 .f32 := subf main_v9054 main_v9067
  let main_v9069 : FVec F S2x256x256 .f32 := select main_v9065 main_v9068 main_v9054
  let main_c_1431 : IVec S_ 32 := constantI S_ 32 214#32
  let main_v9070 : IVec S2x256x256 32 := broadcastInDim S2x256x256 ![] bcast_S_S2x256x256 main_c_1431
  let main_v9071 : IVec S2x256x256 1 := cmpi .eq main_v4988 main_v9070
  let main_v9072 : IVec S2x256x256 1 := andi main_v9062 main_v9071
  let main_v9073 : FVec F S2x256x256 .f32 := select main_v9072 main_v9060 main_v9069
  let main_v9074 : FVec F S2x1x256 .f32 := (extractStridedSlice S2x1x256 ![0, 215, 0] · slices_S2x256x256_S2x1x256_0_215_0) main_v9073
  let main_v9075 : FVec F S2x256x1 .f32 := (extractStridedSlice S2x256x1 ![0, 0, 215] · slices_S2x256x256_S2x256x1_0_0_215) main_v9073
  let main_v9076 : FVec F S2x1x1 .f32 := (extractStridedSlice S2x1x1 ![0, 0, 215] · slices_S2x1x256_S2x1x1_0_0_215) main_v9074
  let main_v9077 : FVec F S2x256x1 .f32 := broadcastInDim S2x256x1 ![0, 1, 2] bcast_S2x1x1_S2x256x1_0_1_2 main_v9076
  let main_v9078 : FVec F S2x256x1 .f32 := Host.divf main_v9075 main_v9077
  fn_part438 (F := F) main_arg0 main_v8 main_v4875 main_v4987 main_v4988 main_v9073 main_v9074 main_v9078

def fn_part436 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9035 : FVec F S2x256x256 .f32) (main_v9036 : FVec F S2x1x256 .f32) : IVec S9x256x256 1 × IVec S8x256x256 1 :=
  let main_v9037 : FVec F S2x256x1 .f32 := (extractStridedSlice S2x256x1 ![0, 0, 213] · slices_S2x256x256_S2x256x1_0_0_213) main_v9035
  let main_v9038 : FVec F S2x1x1 .f32 := (extractStridedSlice S2x1x1 ![0, 0, 213] · slices_S2x1x256_S2x1x1_0_0_213) main_v9036
  let main_v9039 : FVec F S2x256x1 .f32 := broadcastInDim S2x256x1 ![0, 1, 2] bcast_S2x1x1_S2x256x1_0_1_2 main_v9038
  let main_v9040 : FVec F S2x256x1 .f32 := Host.divf main_v9037 main_v9039
  let main_v9041 : FVec F S2x256x256 .f32 := broadcastInDim S2x256x256 ![0, 1, 2] bcast_S2x256x1_S2x256x256_0_1_2 main_v9040
  let main_c_1426 : IVec S_ 32 := constantI S_ 32 213#32
  let main_v9042 : IVec S2x256x256 32 := broadcastInDim S2x256x256 ![] bcast_S_S2x256x256 main_c_1426
  let main_v9043 : IVec S2x256x256 1 := cmpi .sgt main_v4987 main_v9042
  let main_c_1427 : IVec S_ 32 := constantI S_ 32 213#32
  let main_v9044 : IVec S2x256x256 32 := broadcastInDim S2x256x256 ![] bcast_S_S2x256x256 main_c_1427
  let main_v9045 : IVec S2x256x256 1 := cmpi .sgt main_v4988 main_v9044
  let main_v9046 : IVec S2x256x256 1 := andi main_v9043 main_v9045
  let main_v9047 : FVec F S2x256x256 .f32 := broadcastInDim S2x256x256 ![0, 1, 2] bcast_S2x1x256_S2x256x256_0_1_2 main_v9036
  let main_v9048 : FVec F S2x256x256 .f32 := mulf main_v9041 main_v9047
  let main_v9049 : FVec F S2x256x256 .f32 := subf main_v9035 main_v9048
  let main_v9050 : FVec F S2x256x256 .f32 := select main_v9046 main_v9049 main_v9035
  let main_c_1428 : IVec S_ 32 := constantI S_ 32 213#32
  let main_v9051 : IVec S2x256x256 32 := broadcastInDim S2x256x256 ![] bcast_S_S2x256x256 main_c_1428
  let main_v9052 : IVec S2x256x256 1 := cmpi .eq main_v4988 main_v9051
  let main_v9053 : IVec S2x256x256 1 := andi main_v9043 main_v9052
  let main_v9054 : FVec F S2x256x256 .f32 := select main_v9053 main_v9041 main_v9050
  let main_v9055 : FVec F S2x1x256 .f32 := (extractStridedSlice S2x1x256 ![0, 214, 0] · slices_S2x256x256_S2x1x256_0_214_0) main_v9054
  let main_v9056 : FVec F S2x256x1 .f32 := (extractStridedSlice S2x256x1 ![0, 0, 214] · slices_S2x256x256_S2x256x1_0_0_214) main_v9054
  let main_v9057 : FVec F S2x1x1 .f32 := (extractStridedSlice S2x1x1 ![0, 0, 214] · slices_S2x1x256_S2x1x1_0_0_214) main_v9055
  fn_part437 (F := F) main_arg0 main_v8 main_v4875 main_v4987 main_v4988 main_v9054 main_v9055 main_v9056 main_v9057

def fn_part435 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v9003 : FVec F S2x256x256 .f32) (main_v9012 : FVec F S2x256x256 .f32) (main_v9015 : IVec S2x256x256 1) : IVec S9x256x256 1 × IVec S8x256x256 1 :=
  let main_v9016 : FVec F S2x256x256 .f32 := select main_v9015 main_v9003 main_v9012
  let main_v9017 : FVec F S2x1x256 .f32 := (extractStridedSlice S2x1x256 ![0, 212, 0] · slices_S2x256x256_S2x1x256_0_212_0) main_v9016
  let main_v9018 : FVec F S2x256x1 .f32 := (extractStridedSlice S2x256x1 ![0, 0, 212] · slices_S2x256x256_S2x256x1_0_0_212) main_v9016
  let main_v9019 : FVec F S2x1x1 .f32 := (extractStridedSlice S2x1x1 ![0, 0, 212] · slices_S2x1x256_S2x1x1_0_0_212) main_v9017
  let main_v9020 : FVec F S2x256x1 .f32 := broadcastInDim S2x256x1 ![0, 1, 2] bcast_S2x1x1_S2x256x1_0_1_2 main_v9019
  let main_v9021 : FVec F S2x256x1 .f32 := Host.divf main_v9018 main_v9020
  let main_v9022 : FVec F S2x256x256 .f32 := broadcastInDim S2x256x256 ![0, 1, 2] bcast_S2x256x1_S2x256x256_0_1_2 main_v9021
  let main_c_1423 : IVec S_ 32 := constantI S_ 32 212#32
  let main_v9023 : IVec S2x256x256 32 := broadcastInDim S2x256x256 ![] bcast_S_S2x256x256 main_c_1423
  let main_v9024 : IVec S2x256x256 1 := cmpi .sgt main_v4987 main_v9023
  let main_c_1424 : IVec S_ 32 := constantI S_ 32 212#32
  let main_v9025 : IVec S2x256x256 32 := broadcastInDim S2x256x256 ![] bcast_S_S2x256x256 main_c_1424
  let main_v9026 : IVec S2x256x256 1 := cmpi .sgt main_v4988 main_v9025
  let main_v9027 : IVec S2x256x256 1 := andi main_v9024 main_v9026
  let main_v9028 : FVec F S2x256x256 .f32 := broadcastInDim S2x256x256 ![0, 1, 2] bcast_S2x1x256_S2x256x256_0_1_2 main_v9017
  let main_v9029 : FVec F S2x256x256 .f32 := mulf main_v9022 main_v9028
  let main_v9030 : FVec F S2x256x256 .f32 := subf main_v9016 main_v9029
  let main_v9031 : FVec F S2x256x256 .f32 := select main_v9027 main_v9030 main_v9016
  let main_c_1425 : IVec S_ 32 := constantI S_ 32 212#32
  let main_v9032 : IVec S2x256x256 32 := broadcastInDim S2x256x256 ![] bcast_S_S2x256x256 main_c_1425
  let main_v9033 : IVec S2x256x256 1 := cmpi .eq main_v4988 main_v9032
  let main_v9034 : IVec S2x256x256 1 := andi main_v9024 main_v9033
  let main_v9035 : FVec F S2x256x256 .f32 := select main_v9034 main_v9022 main_v9031
  let main_v9036 : FVec F S2x1x256 .f32 := (extractStridedSlice S2x1x256 ![0, 213, 0] · slices_S2x256x256_S2x1x256_0_213_0) main_v9035
  fn_part436 (F := F) main_arg0 main_v8 main_v4875 main_v4987 main_v4988 main_v9035 main_v9036

def fn_part434 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8984 : FVec F S2x256x256 .f32) (main_v8986 : IVec S2x256x256 1) (main_v8993 : FVec F S2x256x256 .f32) (main_v8994 : IVec S2x256x256 32) : IVec S9x256x256 1 × IVec S8x256x256 1 :=
  let main_v8995 : IVec S2x256x256 1 := cmpi .eq main_v4988 main_v8994
  let main_v8996 : IVec S2x256x256 1 := andi main_v8986 main_v8995
  let main_v8997 : FVec F S2x256x256 .f32 := select main_v8996 main_v8984 main_v8993
  let main_v8998 : FVec F S2x1x256 .f32 := (extractStridedSlice S2x1x256 ![0, 211, 0] · slices_S2x256x256_S2x1x256_0_211_0) main_v8997
  let main_v8999 : FVec F S2x256x1 .f32 := (extractStridedSlice S2x256x1 ![0, 0, 211] · slices_S2x256x256_S2x256x1_0_0_211) main_v8997
  let main_v9000 : FVec F S2x1x1 .f32 := (extractStridedSlice S2x1x1 ![0, 0, 211] · slices_S2x1x256_S2x1x1_0_0_211) main_v8998
  let main_v9001 : FVec F S2x256x1 .f32 := broadcastInDim S2x256x1 ![0, 1, 2] bcast_S2x1x1_S2x256x1_0_1_2 main_v9000
  let main_v9002 : FVec F S2x256x1 .f32 := Host.divf main_v8999 main_v9001
  let main_v9003 : FVec F S2x256x256 .f32 := broadcastInDim S2x256x256 ![0, 1, 2] bcast_S2x256x1_S2x256x256_0_1_2 main_v9002
  let main_c_1420 : IVec S_ 32 := constantI S_ 32 211#32
  let main_v9004 : IVec S2x256x256 32 := broadcastInDim S2x256x256 ![] bcast_S_S2x256x256 main_c_1420
  let main_v9005 : IVec S2x256x256 1 := cmpi .sgt main_v4987 main_v9004
  let main_c_1421 : IVec S_ 32 := constantI S_ 32 211#32
  let main_v9006 : IVec S2x256x256 32 := broadcastInDim S2x256x256 ![] bcast_S_S2x256x256 main_c_1421
  let main_v9007 : IVec S2x256x256 1 := cmpi .sgt main_v4988 main_v9006
  let main_v9008 : IVec S2x256x256 1 := andi main_v9005 main_v9007
  let main_v9009 : FVec F S2x256x256 .f32 := broadcastInDim S2x256x256 ![0, 1, 2] bcast_S2x1x256_S2x256x256_0_1_2 main_v8998
  let main_v9010 : FVec F S2x256x256 .f32 := mulf main_v9003 main_v9009
  let main_v9011 : FVec F S2x256x256 .f32 := subf main_v8997 main_v9010
  let main_v9012 : FVec F S2x256x256 .f32 := select main_v9008 main_v9011 main_v8997
  let main_c_1422 : IVec S_ 32 := constantI S_ 32 211#32
  let main_v9013 : IVec S2x256x256 32 := broadcastInDim S2x256x256 ![] bcast_S_S2x256x256 main_c_1422
  let main_v9014 : IVec S2x256x256 1 := cmpi .eq main_v4988 main_v9013
  let main_v9015 : IVec S2x256x256 1 := andi main_v9005 main_v9014
  fn_part435 (F := F) main_arg0 main_v8 main_v4875 main_v4987 main_v4988 main_v9003 main_v9012 main_v9015

def fn_part433 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8965 : FVec F S2x256x256 .f32) (main_v8967 : IVec S2x256x256 1) (main_v8974 : FVec F S2x256x256 .f32) : IVec S9x256x256 1 × IVec S8x256x256 1 :=
  let main_c_1416 : IVec S_ 32 := constantI S_ 32 209#32
  let main_v8975 : IVec S2x256x256 32 := broadcastInDim S2x256x256 ![] bcast_S_S2x256x256 main_c_1416
  let main_v8976 : IVec S2x256x256 1 := cmpi .eq main_v4988 main_v8975
  let main_v8977 : IVec S2x256x256 1 := andi main_v8967 main_v8976
  let main_v8978 : FVec F S2x256x256 .f32 := select main_v8977 main_v8965 main_v8974
  let main_v8979 : FVec F S2x1x256 .f32 := (extractStridedSlice S2x1x256 ![0, 210, 0] · slices_S2x256x256_S2x1x256_0_210_0) main_v8978
  let main_v8980 : FVec F S2x256x1 .f32 := (extractStridedSlice S2x256x1 ![0, 0, 210] · slices_S2x256x256_S2x256x1_0_0_210) main_v8978
  let main_v8981 : FVec F S2x1x1 .f32 := (extractStridedSlice S2x1x1 ![0, 0, 210] · slices_S2x1x256_S2x1x1_0_0_210) main_v8979
  let main_v8982 : FVec F S2x256x1 .f32 := broadcastInDim S2x256x1 ![0, 1, 2] bcast_S2x1x1_S2x256x1_0_1_2 main_v8981
  let main_v8983 : FVec F S2x256x1 .f32 := Host.divf main_v8980 main_v8982
  let main_v8984 : FVec F S2x256x256 .f32 := broadcastInDim S2x256x256 ![0, 1, 2] bcast_S2x256x1_S2x256x256_0_1_2 main_v8983
  let main_c_1417 : IVec S_ 32 := constantI S_ 32 210#32
  let main_v8985 : IVec S2x256x256 32 := broadcastInDim S2x256x256 ![] bcast_S_S2x256x256 main_c_1417
  let main_v8986 : IVec S2x256x256 1 := cmpi .sgt main_v4987 main_v8985
  let main_c_1418 : IVec S_ 32 := constantI S_ 32 210#32
  let main_v8987 : IVec S2x256x256 32 := broadcastInDim S2x256x256 ![] bcast_S_S2x256x256 main_c_1418
  let main_v8988 : IVec S2x256x256 1 := cmpi .sgt main_v4988 main_v8987
  let main_v8989 : IVec S2x256x256 1 := andi main_v8986 main_v8988
  let main_v8990 : FVec F S2x256x256 .f32 := broadcastInDim S2x256x256 ![0, 1, 2] bcast_S2x1x256_S2x256x256_0_1_2 main_v8979
  let main_v8991 : FVec F S2x256x256 .f32 := mulf main_v8984 main_v8990
  let main_v8992 : FVec F S2x256x256 .f32 := subf main_v8978 main_v8991
  let main_v8993 : FVec F S2x256x256 .f32 := select main_v8989 main_v8992 main_v8978
  let main_c_1419 : IVec S_ 32 := constantI S_ 32 210#32
  let main_v8994 : IVec S2x256x256 32 := broadcastInDim S2x256x256 ![] bcast_S_S2x256x256 main_c_1419
  fn_part434 (F := F) main_arg0 main_v8 main_v4875 main_v4987 main_v4988 main_v8984 main_v8986 main_v8993 main_v8994

def fn_part432 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8940 : FVec F S2x256x256 .f32) (main_v8946 : FVec F S2x256x256 .f32) (main_v8948 : IVec S2x256x256 1) (main_v8951 : IVec S2x256x256 1) (main_v8953 : FVec F S2x256x256 .f32) : IVec S9x256x256 1 × IVec S8x256x256 1 :=
  let main_v8954 : FVec F S2x256x256 .f32 := subf main_v8940 main_v8953
  let main_v8955 : FVec F S2x256x256 .f32 := select main_v8951 main_v8954 main_v8940
  let main_c_1413 : IVec S_ 32 := constantI S_ 32 208#32
  let main_v8956 : IVec S2x256x256 32 := broadcastInDim S2x256x256 ![] bcast_S_S2x256x256 main_c_1413
  let main_v8957 : IVec S2x256x256 1 := cmpi .eq main_v4988 main_v8956
  let main_v8958 : IVec S2x256x256 1 := andi main_v8948 main_v8957
  let main_v8959 : FVec F S2x256x256 .f32 := select main_v8958 main_v8946 main_v8955
  let main_v8960 : FVec F S2x1x256 .f32 := (extractStridedSlice S2x1x256 ![0, 209, 0] · slices_S2x256x256_S2x1x256_0_209_0) main_v8959
  let main_v8961 : FVec F S2x256x1 .f32 := (extractStridedSlice S2x256x1 ![0, 0, 209] · slices_S2x256x256_S2x256x1_0_0_209) main_v8959
  let main_v8962 : FVec F S2x1x1 .f32 := (extractStridedSlice S2x1x1 ![0, 0, 209] · slices_S2x1x256_S2x1x1_0_0_209) main_v8960
  let main_v8963 : FVec F S2x256x1 .f32 := broadcastInDim S2x256x1 ![0, 1, 2] bcast_S2x1x1_S2x256x1_0_1_2 main_v8962
  let main_v8964 : FVec F S2x256x1 .f32 := Host.divf main_v8961 main_v8963
  let main_v8965 : FVec F S2x256x256 .f32 := broadcastInDim S2x256x256 ![0, 1, 2] bcast_S2x256x1_S2x256x256_0_1_2 main_v8964
  let main_c_1414 : IVec S_ 32 := constantI S_ 32 209#32
  let main_v8966 : IVec S2x256x256 32 := broadcastInDim S2x256x256 ![] bcast_S_S2x256x256 main_c_1414
  let main_v8967 : IVec S2x256x256 1 := cmpi .sgt main_v4987 main_v8966
  let main_c_1415 : IVec S_ 32 := constantI S_ 32 209#32
  let main_v8968 : IVec S2x256x256 32 := broadcastInDim S2x256x256 ![] bcast_S_S2x256x256 main_c_1415
  let main_v8969 : IVec S2x256x256 1 := cmpi .sgt main_v4988 main_v8968
  let main_v8970 : IVec S2x256x256 1 := andi main_v8967 main_v8969
  let main_v8971 : FVec F S2x256x256 .f32 := broadcastInDim S2x256x256 ![0, 1, 2] bcast_S2x1x256_S2x256x256_0_1_2 main_v8960
  let main_v8972 : FVec F S2x256x256 .f32 := mulf main_v8965 main_v8971
  let main_v8973 : FVec F S2x256x256 .f32 := subf main_v8959 main_v8972
  let main_v8974 : FVec F S2x256x256 .f32 := select main_v8970 main_v8973 main_v8959
  fn_part433 (F := F) main_arg0 main_v8 main_v4875 main_v4987 main_v4988 main_v8965 main_v8967 main_v8974

def fn_part431 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8921 : FVec F S2x256x256 .f32) (main_v8922 : FVec F S2x1x256 .f32) (main_v8927 : FVec F S2x256x256 .f32) (main_v8929 : IVec S2x256x256 1) (main_v8932 : IVec S2x256x256 1) : IVec S9x256x256 1 × IVec S8x256x256 1 :=
  let main_v8933 : FVec F S2x256x256 .f32 := broadcastInDim S2x256x256 ![0, 1, 2] bcast_S2x1x256_S2x256x256_0_1_2 main_v8922
  let main_v8934 : FVec F S2x256x256 .f32 := mulf main_v8927 main_v8933
  let main_v8935 : FVec F S2x256x256 .f32 := subf main_v8921 main_v8934
  let main_v8936 : FVec F S2x256x256 .f32 := select main_v8932 main_v8935 main_v8921
  let main_c_1410 : IVec S_ 32 := constantI S_ 32 207#32
  let main_v8937 : IVec S2x256x256 32 := broadcastInDim S2x256x256 ![] bcast_S_S2x256x256 main_c_1410
  let main_v8938 : IVec S2x256x256 1 := cmpi .eq main_v4988 main_v8937
  let main_v8939 : IVec S2x256x256 1 := andi main_v8929 main_v8938
  let main_v8940 : FVec F S2x256x256 .f32 := select main_v8939 main_v8927 main_v8936
  let main_v8941 : FVec F S2x1x256 .f32 := (extractStridedSlice S2x1x256 ![0, 208, 0] · slices_S2x256x256_S2x1x256_0_208_0) main_v8940
  let main_v8942 : FVec F S2x256x1 .f32 := (extractStridedSlice S2x256x1 ![0, 0, 208] · slices_S2x256x256_S2x256x1_0_0_208) main_v8940
  let main_v8943 : FVec F S2x1x1 .f32 := (extractStridedSlice S2x1x1 ![0, 0, 208] · slices_S2x1x256_S2x1x1_0_0_208) main_v8941
  let main_v8944 : FVec F S2x256x1 .f32 := broadcastInDim S2x256x1 ![0, 1, 2] bcast_S2x1x1_S2x256x1_0_1_2 main_v8943
  let main_v8945 : FVec F S2x256x1 .f32 := Host.divf main_v8942 main_v8944
  let main_v8946 : FVec F S2x256x256 .f32 := broadcastInDim S2x256x256 ![0, 1, 2] bcast_S2x256x1_S2x256x256_0_1_2 main_v8945
  let main_c_1411 : IVec S_ 32 := constantI S_ 32 208#32
  let main_v8947 : IVec S2x256x256 32 := broadcastInDim S2x256x256 ![] bcast_S_S2x256x256 main_c_1411
  let main_v8948 : IVec S2x256x256 1 := cmpi .sgt main_v4987 main_v8947
  let main_c_1412 : IVec S_ 32 := constantI S_ 32 208#32
  let main_v8949 : IVec S2x256x256 32 := broadcastInDim S2x256x256 ![] bcast_S_S2x256x256 main_c_1412
  let main_v8950 : IVec S2x256x256 1 := cmpi .sgt main_v4988 main_v8949
  let main_v8951 : IVec S2x256x256 1 := andi main_v8948 main_v8950
  let main_v8952 : FVec F S2x256x256 .f32 := broadcastInDim S2x256x256 ![0, 1, 2] bcast_S2x1x256_S2x256x256_0_1_2 main_v8941
  let main_v8953 : FVec F S2x256x256 .f32 := mulf main_v8946 main_v8952
  fn_part432 (F := F) main_arg0 main_v8 main_v4875 main_v4987 main_v4988 main_v8940 main_v8946 main_v8948 main_v8951 main_v8953

def fn_part430 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8902 : FVec F S2x256x256 .f32) (main_v8903 : FVec F S2x1x256 .f32) (main_v8908 : FVec F S2x256x256 .f32) (main_v8910 : IVec S2x256x256 1) (main_v8911 : IVec S2x256x256 32) : IVec S9x256x256 1 × IVec S8x256x256 1 :=
  let main_v8912 : IVec S2x256x256 1 := cmpi .sgt main_v4988 main_v8911
  let main_v8913 : IVec S2x256x256 1 := andi main_v8910 main_v8912
  let main_v8914 : FVec F S2x256x256 .f32 := broadcastInDim S2x256x256 ![0, 1, 2] bcast_S2x1x256_S2x256x256_0_1_2 main_v8903
  let main_v8915 : FVec F S2x256x256 .f32 := mulf main_v8908 main_v8914
  let main_v8916 : FVec F S2x256x256 .f32 := subf main_v8902 main_v8915
  let main_v8917 : FVec F S2x256x256 .f32 := select main_v8913 main_v8916 main_v8902
  let main_c_1407 : IVec S_ 32 := constantI S_ 32 206#32
  let main_v8918 : IVec S2x256x256 32 := broadcastInDim S2x256x256 ![] bcast_S_S2x256x256 main_c_1407
  let main_v8919 : IVec S2x256x256 1 := cmpi .eq main_v4988 main_v8918
  let main_v8920 : IVec S2x256x256 1 := andi main_v8910 main_v8919
  let main_v8921 : FVec F S2x256x256 .f32 := select main_v8920 main_v8908 main_v8917
  let main_v8922 : FVec F S2x1x256 .f32 := (extractStridedSlice S2x1x256 ![0, 207, 0] · slices_S2x256x256_S2x1x256_0_207_0) main_v8921
  let main_v8923 : FVec F S2x256x1 .f32 := (extractStridedSlice S2x256x1 ![0, 0, 207] · slices_S2x256x256_S2x256x1_0_0_207) main_v8921
  let main_v8924 : FVec F S2x1x1 .f32 := (extractStridedSlice S2x1x1 ![0, 0, 207] · slices_S2x1x256_S2x1x1_0_0_207) main_v8922
  let main_v8925 : FVec F S2x256x1 .f32 := broadcastInDim S2x256x1 ![0, 1, 2] bcast_S2x1x1_S2x256x1_0_1_2 main_v8924
  let main_v8926 : FVec F S2x256x1 .f32 := Host.divf main_v8923 main_v8925
  let main_v8927 : FVec F S2x256x256 .f32 := broadcastInDim S2x256x256 ![0, 1, 2] bcast_S2x256x1_S2x256x256_0_1_2 main_v8926
  let main_c_1408 : IVec S_ 32 := constantI S_ 32 207#32
  let main_v8928 : IVec S2x256x256 32 := broadcastInDim S2x256x256 ![] bcast_S_S2x256x256 main_c_1408
  let main_v8929 : IVec S2x256x256 1 := cmpi .sgt main_v4987 main_v8928
  let main_c_1409 : IVec S_ 32 := constantI S_ 32 207#32
  let main_v8930 : IVec S2x256x256 32 := broadcastInDim S2x256x256 ![] bcast_S_S2x256x256 main_c_1409
  let main_v8931 : IVec S2x256x256 1 := cmpi .sgt main_v4988 main_v8930
  let main_v8932 : IVec S2x256x256 1 := andi main_v8929 main_v8931
  fn_part431 (F := F) main_arg0 main_v8 main_v4875 main_v4987 main_v4988 main_v8921 main_v8922 main_v8927 main_v8929 main_v8932

def fn_part429 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8883 : FVec F S2x256x256 .f32) (main_v8884 : FVec F S2x1x256 .f32) (main_v8889 : FVec F S2x256x256 .f32) (main_v8891 : IVec S2x256x256 1) : IVec S9x256x256 1 × IVec S8x256x256 1 :=
  let main_c_1403 : IVec S_ 32 := constantI S_ 32 205#32
  let main_v8892 : IVec S2x256x256 32 := broadcastInDim S2x256x256 ![] bcast_S_S2x256x256 main_c_1403
  let main_v8893 : IVec S2x256x256 1 := cmpi .sgt main_v4988 main_v8892
  let main_v8894 : IVec S2x256x256 1 := andi main_v8891 main_v8893
  let main_v8895 : FVec F S2x256x256 .f32 := broadcastInDim S2x256x256 ![0, 1, 2] bcast_S2x1x256_S2x256x256_0_1_2 main_v8884
  let main_v8896 : FVec F S2x256x256 .f32 := mulf main_v8889 main_v8895
  let main_v8897 : FVec F S2x256x256 .f32 := subf main_v8883 main_v8896
  let main_v8898 : FVec F S2x256x256 .f32 := select main_v8894 main_v8897 main_v8883
  let main_c_1404 : IVec S_ 32 := constantI S_ 32 205#32
  let main_v8899 : IVec S2x256x256 32 := broadcastInDim S2x256x256 ![] bcast_S_S2x256x256 main_c_1404
  let main_v8900 : IVec S2x256x256 1 := cmpi .eq main_v4988 main_v8899
  let main_v8901 : IVec S2x256x256 1 := andi main_v8891 main_v8900
  let main_v8902 : FVec F S2x256x256 .f32 := select main_v8901 main_v8889 main_v8898
  let main_v8903 : FVec F S2x1x256 .f32 := (extractStridedSlice S2x1x256 ![0, 206, 0] · slices_S2x256x256_S2x1x256_0_206_0) main_v8902
  let main_v8904 : FVec F S2x256x1 .f32 := (extractStridedSlice S2x256x1 ![0, 0, 206] · slices_S2x256x256_S2x256x1_0_0_206) main_v8902
  let main_v8905 : FVec F S2x1x1 .f32 := (extractStridedSlice S2x1x1 ![0, 0, 206] · slices_S2x1x256_S2x1x1_0_0_206) main_v8903
  let main_v8906 : FVec F S2x256x1 .f32 := broadcastInDim S2x256x1 ![0, 1, 2] bcast_S2x1x1_S2x256x1_0_1_2 main_v8905
  let main_v8907 : FVec F S2x256x1 .f32 := Host.divf main_v8904 main_v8906
  let main_v8908 : FVec F S2x256x256 .f32 := broadcastInDim S2x256x256 ![0, 1, 2] bcast_S2x256x1_S2x256x256_0_1_2 main_v8907
  let main_c_1405 : IVec S_ 32 := constantI S_ 32 206#32
  let main_v8909 : IVec S2x256x256 32 := broadcastInDim S2x256x256 ![] bcast_S_S2x256x256 main_c_1405
  let main_v8910 : IVec S2x256x256 1 := cmpi .sgt main_v4987 main_v8909
  let main_c_1406 : IVec S_ 32 := constantI S_ 32 206#32
  let main_v8911 : IVec S2x256x256 32 := broadcastInDim S2x256x256 ![] bcast_S_S2x256x256 main_c_1406
  fn_part430 (F := F) main_arg0 main_v8 main_v4875 main_v4987 main_v4988 main_v8902 main_v8903 main_v8908 main_v8910 main_v8911

def fn_part428 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8864 : FVec F S2x256x256 .f32) (main_v8865 : FVec F S2x1x256 .f32) (main_v8870 : FVec F S2x256x256 .f32) (main_c_1399 : IVec S_ 32) : IVec S9x256x256 1 × IVec S8x256x256 1 :=
  let main_v8871 : IVec S2x256x256 32 := broadcastInDim S2x256x256 ![] bcast_S_S2x256x256 main_c_1399
  let main_v8872 : IVec S2x256x256 1 := cmpi .sgt main_v4987 main_v8871
  let main_c_1400 : IVec S_ 32 := constantI S_ 32 204#32
  let main_v8873 : IVec S2x256x256 32 := broadcastInDim S2x256x256 ![] bcast_S_S2x256x256 main_c_1400
  let main_v8874 : IVec S2x256x256 1 := cmpi .sgt main_v4988 main_v8873
  let main_v8875 : IVec S2x256x256 1 := andi main_v8872 main_v8874
  let main_v8876 : FVec F S2x256x256 .f32 := broadcastInDim S2x256x256 ![0, 1, 2] bcast_S2x1x256_S2x256x256_0_1_2 main_v8865
  let main_v8877 : FVec F S2x256x256 .f32 := mulf main_v8870 main_v8876
  let main_v8878 : FVec F S2x256x256 .f32 := subf main_v8864 main_v8877
  let main_v8879 : FVec F S2x256x256 .f32 := select main_v8875 main_v8878 main_v8864
  let main_c_1401 : IVec S_ 32 := constantI S_ 32 204#32
  let main_v8880 : IVec S2x256x256 32 := broadcastInDim S2x256x256 ![] bcast_S_S2x256x256 main_c_1401
  let main_v8881 : IVec S2x256x256 1 := cmpi .eq main_v4988 main_v8880
  let main_v8882 : IVec S2x256x256 1 := andi main_v8872 main_v8881
  let main_v8883 : FVec F S2x256x256 .f32 := select main_v8882 main_v8870 main_v8879
  let main_v8884 : FVec F S2x1x256 .f32 := (extractStridedSlice S2x1x256 ![0, 205, 0] · slices_S2x256x256_S2x1x256_0_205_0) main_v8883
  let main_v8885 : FVec F S2x256x1 .f32 := (extractStridedSlice S2x256x1 ![0, 0, 205] · slices_S2x256x256_S2x256x1_0_0_205) main_v8883
  let main_v8886 : FVec F S2x1x1 .f32 := (extractStridedSlice S2x1x1 ![0, 0, 205] · slices_S2x1x256_S2x1x1_0_0_205) main_v8884
  let main_v8887 : FVec F S2x256x1 .f32 := broadcastInDim S2x256x1 ![0, 1, 2] bcast_S2x1x1_S2x256x1_0_1_2 main_v8886
  let main_v8888 : FVec F S2x256x1 .f32 := Host.divf main_v8885 main_v8887
  let main_v8889 : FVec F S2x256x256 .f32 := broadcastInDim S2x256x256 ![0, 1, 2] bcast_S2x256x1_S2x256x256_0_1_2 main_v8888
  let main_c_1402 : IVec S_ 32 := constantI S_ 32 205#32
  let main_v8890 : IVec S2x256x256 32 := broadcastInDim S2x256x256 ![] bcast_S_S2x256x256 main_c_1402
  let main_v8891 : IVec S2x256x256 1 := cmpi .sgt main_v4987 main_v8890
  fn_part429 (F := F) main_arg0 main_v8 main_v4875 main_v4987 main_v4988 main_v8883 main_v8884 main_v8889 main_v8891

def fn_part427 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8845 : FVec F S2x256x256 .f32) (main_v8846 : FVec F S2x1x256 .f32) (main_v8850 : FVec F S2x256x1 .f32) : IVec S9x256x256 1 × IVec S8x256x256 1 :=
  let main_v8851 : FVec F S2x256x256 .f32 := broadcastInDim S2x256x256 ![0, 1, 2] bcast_S2x256x1_S2x256x256_0_1_2 main_v8850
  let main_c_1396 : IVec S_ 32 := constantI S_ 32 203#32
  let main_v8852 : IVec S2x256x256 32 := broadcastInDim S2x256x256 ![] bcast_S_S2x256x256 main_c_1396
  let main_v8853 : IVec S2x256x256 1 := cmpi .sgt main_v4987 main_v8852
  let main_c_1397 : IVec S_ 32 := constantI S_ 32 203#32
  let main_v8854 : IVec S2x256x256 32 := broadcastInDim S2x256x256 ![] bcast_S_S2x256x256 main_c_1397
  let main_v8855 : IVec S2x256x256 1 := cmpi .sgt main_v4988 main_v8854
  let main_v8856 : IVec S2x256x256 1 := andi main_v8853 main_v8855
  let main_v8857 : FVec F S2x256x256 .f32 := broadcastInDim S2x256x256 ![0, 1, 2] bcast_S2x1x256_S2x256x256_0_1_2 main_v8846
  let main_v8858 : FVec F S2x256x256 .f32 := mulf main_v8851 main_v8857
  let main_v8859 : FVec F S2x256x256 .f32 := subf main_v8845 main_v8858
  let main_v8860 : FVec F S2x256x256 .f32 := select main_v8856 main_v8859 main_v8845
  let main_c_1398 : IVec S_ 32 := constantI S_ 32 203#32
  let main_v8861 : IVec S2x256x256 32 := broadcastInDim S2x256x256 ![] bcast_S_S2x256x256 main_c_1398
  let main_v8862 : IVec S2x256x256 1 := cmpi .eq main_v4988 main_v8861
  let main_v8863 : IVec S2x256x256 1 := andi main_v8853 main_v8862
  let main_v8864 : FVec F S2x256x256 .f32 := select main_v8863 main_v8851 main_v8860
  let main_v8865 : FVec F S2x1x256 .f32 := (extractStridedSlice S2x1x256 ![0, 204, 0] · slices_S2x256x256_S2x1x256_0_204_0) main_v8864
  let main_v8866 : FVec F S2x256x1 .f32 := (extractStridedSlice S2x256x1 ![0, 0, 204] · slices_S2x256x256_S2x256x1_0_0_204) main_v8864
  let main_v8867 : FVec F S2x1x1 .f32 := (extractStridedSlice S2x1x1 ![0, 0, 204] · slices_S2x1x256_S2x1x1_0_0_204) main_v8865
  let main_v8868 : FVec F S2x256x1 .f32 := broadcastInDim S2x256x1 ![0, 1, 2] bcast_S2x1x1_S2x256x1_0_1_2 main_v8867
  let main_v8869 : FVec F S2x256x1 .f32 := Host.divf main_v8866 main_v8868
  let main_v8870 : FVec F S2x256x256 .f32 := broadcastInDim S2x256x256 ![0, 1, 2] bcast_S2x256x1_S2x256x256_0_1_2 main_v8869
  let main_c_1399 : IVec S_ 32 := constantI S_ 32 204#32
  fn_part428 (F := F) main_arg0 main_v8 main_v4875 main_v4987 main_v4988 main_v8864 main_v8865 main_v8870 main_c_1399

def fn_part426 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8826 : FVec F S2x256x256 .f32) (main_v8827 : FVec F S2x1x256 .f32) (main_v8828 : FVec F S2x256x1 .f32) (main_v8829 : FVec F S2x1x1 .f32) : IVec S9x256x256 1 × IVec S8x256x256 1 :=
  let main_v8830 : FVec F S2x256x1 .f32 := broadcastInDim S2x256x1 ![0, 1, 2] bcast_S2x1x1_S2x256x1_0_1_2 main_v8829
  let main_v8831 : FVec F S2x256x1 .f32 := Host.divf main_v8828 main_v8830
  let main_v8832 : FVec F S2x256x256 .f32 := broadcastInDim S2x256x256 ![0, 1, 2] bcast_S2x256x1_S2x256x256_0_1_2 main_v8831
  let main_c_1393 : IVec S_ 32 := constantI S_ 32 202#32
  let main_v8833 : IVec S2x256x256 32 := broadcastInDim S2x256x256 ![] bcast_S_S2x256x256 main_c_1393
  let main_v8834 : IVec S2x256x256 1 := cmpi .sgt main_v4987 main_v8833
  let main_c_1394 : IVec S_ 32 := constantI S_ 32 202#32
  let main_v8835 : IVec S2x256x256 32 := broadcastInDim S2x256x256 ![] bcast_S_S2x256x256 main_c_1394
  let main_v8836 : IVec S2x256x256 1 := cmpi .sgt main_v4988 main_v8835
  let main_v8837 : IVec S2x256x256 1 := andi main_v8834 main_v8836
  let main_v8838 : FVec F S2x256x256 .f32 := broadcastInDim S2x256x256 ![0, 1, 2] bcast_S2x1x256_S2x256x256_0_1_2 main_v8827
  let main_v8839 : FVec F S2x256x256 .f32 := mulf main_v8832 main_v8838
  let main_v8840 : FVec F S2x256x256 .f32 := subf main_v8826 main_v8839
  let main_v8841 : FVec F S2x256x256 .f32 := select main_v8837 main_v8840 main_v8826
  let main_c_1395 : IVec S_ 32 := constantI S_ 32 202#32
  let main_v8842 : IVec S2x256x256 32 := broadcastInDim S2x256x256 ![] bcast_S_S2x256x256 main_c_1395
  let main_v8843 : IVec S2x256x256 1 := cmpi .eq main_v4988 main_v8842
  let main_v8844 : IVec S2x256x256 1 := andi main_v8834 main_v8843
  let main_v8845 : FVec F S2x256x256 .f32 := select main_v8844 main_v8832 main_v8841
  let main_v8846 : FVec F S2x1x256 .f32 := (extractStridedSlice S2x1x256 ![0, 203, 0] · slices_S2x256x256_S2x1x256_0_203_0) main_v8845
  let main_v8847 : FVec F S2x256x1 .f32 := (extractStridedSlice S2x256x1 ![0, 0, 203] · slices_S2x256x256_S2x256x1_0_0_203) main_v8845
  let main_v8848 : FVec F S2x1x1 .f32 := (extractStridedSlice S2x1x1 ![0, 0, 203] · slices_S2x1x256_S2x1x1_0_0_203) main_v8846
  let main_v8849 : FVec F S2x256x1 .f32 := broadcastInDim S2x256x1 ![0, 1, 2] bcast_S2x1x1_S2x256x1_0_1_2 main_v8848
  let main_v8850 : FVec F S2x256x1 .f32 := Host.divf main_v8847 main_v8849
  fn_part427 (F := F) main_arg0 main_v8 main_v4875 main_v4987 main_v4988 main_v8845 main_v8846 main_v8850

def fn_part425 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8807 : FVec F S2x256x256 .f32) (main_v8808 : FVec F S2x1x256 .f32) : IVec S9x256x256 1 × IVec S8x256x256 1 :=
  let main_v8809 : FVec F S2x256x1 .f32 := (extractStridedSlice S2x256x1 ![0, 0, 201] · slices_S2x256x256_S2x256x1_0_0_201) main_v8807
  let main_v8810 : FVec F S2x1x1 .f32 := (extractStridedSlice S2x1x1 ![0, 0, 201] · slices_S2x1x256_S2x1x1_0_0_201) main_v8808
  let main_v8811 : FVec F S2x256x1 .f32 := broadcastInDim S2x256x1 ![0, 1, 2] bcast_S2x1x1_S2x256x1_0_1_2 main_v8810
  let main_v8812 : FVec F S2x256x1 .f32 := Host.divf main_v8809 main_v8811
  let main_v8813 : FVec F S2x256x256 .f32 := broadcastInDim S2x256x256 ![0, 1, 2] bcast_S2x256x1_S2x256x256_0_1_2 main_v8812
  let main_c_1390 : IVec S_ 32 := constantI S_ 32 201#32
  let main_v8814 : IVec S2x256x256 32 := broadcastInDim S2x256x256 ![] bcast_S_S2x256x256 main_c_1390
  let main_v8815 : IVec S2x256x256 1 := cmpi .sgt main_v4987 main_v8814
  let main_c_1391 : IVec S_ 32 := constantI S_ 32 201#32
  let main_v8816 : IVec S2x256x256 32 := broadcastInDim S2x256x256 ![] bcast_S_S2x256x256 main_c_1391
  let main_v8817 : IVec S2x256x256 1 := cmpi .sgt main_v4988 main_v8816
  let main_v8818 : IVec S2x256x256 1 := andi main_v8815 main_v8817
  let main_v8819 : FVec F S2x256x256 .f32 := broadcastInDim S2x256x256 ![0, 1, 2] bcast_S2x1x256_S2x256x256_0_1_2 main_v8808
  let main_v8820 : FVec F S2x256x256 .f32 := mulf main_v8813 main_v8819
  let main_v8821 : FVec F S2x256x256 .f32 := subf main_v8807 main_v8820
  let main_v8822 : FVec F S2x256x256 .f32 := select main_v8818 main_v8821 main_v8807
  let main_c_1392 : IVec S_ 32 := constantI S_ 32 201#32
  let main_v8823 : IVec S2x256x256 32 := broadcastInDim S2x256x256 ![] bcast_S_S2x256x256 main_c_1392
  let main_v8824 : IVec S2x256x256 1 := cmpi .eq main_v4988 main_v8823
  let main_v8825 : IVec S2x256x256 1 := andi main_v8815 main_v8824
  let main_v8826 : FVec F S2x256x256 .f32 := select main_v8825 main_v8813 main_v8822
  let main_v8827 : FVec F S2x1x256 .f32 := (extractStridedSlice S2x1x256 ![0, 202, 0] · slices_S2x256x256_S2x1x256_0_202_0) main_v8826
  let main_v8828 : FVec F S2x256x1 .f32 := (extractStridedSlice S2x256x1 ![0, 0, 202] · slices_S2x256x256_S2x256x1_0_0_202) main_v8826
  let main_v8829 : FVec F S2x1x1 .f32 := (extractStridedSlice S2x1x1 ![0, 0, 202] · slices_S2x1x256_S2x1x1_0_0_202) main_v8827
  fn_part426 (F := F) main_arg0 main_v8 main_v4875 main_v4987 main_v4988 main_v8826 main_v8827 main_v8828 main_v8829

def fn_part424 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8775 : FVec F S2x256x256 .f32) (main_v8784 : FVec F S2x256x256 .f32) (main_v8787 : IVec S2x256x256 1) : IVec S9x256x256 1 × IVec S8x256x256 1 :=
  let main_v8788 : FVec F S2x256x256 .f32 := select main_v8787 main_v8775 main_v8784
  let main_v8789 : FVec F S2x1x256 .f32 := (extractStridedSlice S2x1x256 ![0, 200, 0] · slices_S2x256x256_S2x1x256_0_200_0) main_v8788
  let main_v8790 : FVec F S2x256x1 .f32 := (extractStridedSlice S2x256x1 ![0, 0, 200] · slices_S2x256x256_S2x256x1_0_0_200) main_v8788
  let main_v8791 : FVec F S2x1x1 .f32 := (extractStridedSlice S2x1x1 ![0, 0, 200] · slices_S2x1x256_S2x1x1_0_0_200) main_v8789
  let main_v8792 : FVec F S2x256x1 .f32 := broadcastInDim S2x256x1 ![0, 1, 2] bcast_S2x1x1_S2x256x1_0_1_2 main_v8791
  let main_v8793 : FVec F S2x256x1 .f32 := Host.divf main_v8790 main_v8792
  let main_v8794 : FVec F S2x256x256 .f32 := broadcastInDim S2x256x256 ![0, 1, 2] bcast_S2x256x1_S2x256x256_0_1_2 main_v8793
  let main_c_1387 : IVec S_ 32 := constantI S_ 32 200#32
  let main_v8795 : IVec S2x256x256 32 := broadcastInDim S2x256x256 ![] bcast_S_S2x256x256 main_c_1387
  let main_v8796 : IVec S2x256x256 1 := cmpi .sgt main_v4987 main_v8795
  let main_c_1388 : IVec S_ 32 := constantI S_ 32 200#32
  let main_v8797 : IVec S2x256x256 32 := broadcastInDim S2x256x256 ![] bcast_S_S2x256x256 main_c_1388
  let main_v8798 : IVec S2x256x256 1 := cmpi .sgt main_v4988 main_v8797
  let main_v8799 : IVec S2x256x256 1 := andi main_v8796 main_v8798
  let main_v8800 : FVec F S2x256x256 .f32 := broadcastInDim S2x256x256 ![0, 1, 2] bcast_S2x1x256_S2x256x256_0_1_2 main_v8789
  let main_v8801 : FVec F S2x256x256 .f32 := mulf main_v8794 main_v8800
  let main_v8802 : FVec F S2x256x256 .f32 := subf main_v8788 main_v8801
  let main_v8803 : FVec F S2x256x256 .f32 := select main_v8799 main_v8802 main_v8788
  let main_c_1389 : IVec S_ 32 := constantI S_ 32 200#32
  let main_v8804 : IVec S2x256x256 32 := broadcastInDim S2x256x256 ![] bcast_S_S2x256x256 main_c_1389
  let main_v8805 : IVec S2x256x256 1 := cmpi .eq main_v4988 main_v8804
  let main_v8806 : IVec S2x256x256 1 := andi main_v8796 main_v8805
  let main_v8807 : FVec F S2x256x256 .f32 := select main_v8806 main_v8794 main_v8803
  let main_v8808 : FVec F S2x1x256 .f32 := (extractStridedSlice S2x1x256 ![0, 201, 0] · slices_S2x256x256_S2x1x256_0_201_0) main_v8807
  fn_part425 (F := F) main_arg0 main_v8 main_v4875 main_v4987 main_v4988 main_v8807 main_v8808

def fn_part423 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8756 : FVec F S2x256x256 .f32) (main_v8758 : IVec S2x256x256 1) (main_v8765 : FVec F S2x256x256 .f32) (main_v8766 : IVec S2x256x256 32) : IVec S9x256x256 1 × IVec S8x256x256 1 :=
  let main_v8767 : IVec S2x256x256 1 := cmpi .eq main_v4988 main_v8766
  let main_v8768 : IVec S2x256x256 1 := andi main_v8758 main_v8767
  let main_v8769 : FVec F S2x256x256 .f32 := select main_v8768 main_v8756 main_v8765
  let main_v8770 : FVec F S2x1x256 .f32 := (extractStridedSlice S2x1x256 ![0, 199, 0] · slices_S2x256x256_S2x1x256_0_199_0) main_v8769
  let main_v8771 : FVec F S2x256x1 .f32 := (extractStridedSlice S2x256x1 ![0, 0, 199] · slices_S2x256x256_S2x256x1_0_0_199) main_v8769
  let main_v8772 : FVec F S2x1x1 .f32 := (extractStridedSlice S2x1x1 ![0, 0, 199] · slices_S2x1x256_S2x1x1_0_0_199) main_v8770
  let main_v8773 : FVec F S2x256x1 .f32 := broadcastInDim S2x256x1 ![0, 1, 2] bcast_S2x1x1_S2x256x1_0_1_2 main_v8772
  let main_v8774 : FVec F S2x256x1 .f32 := Host.divf main_v8771 main_v8773
  let main_v8775 : FVec F S2x256x256 .f32 := broadcastInDim S2x256x256 ![0, 1, 2] bcast_S2x256x1_S2x256x256_0_1_2 main_v8774
  let main_c_1384 : IVec S_ 32 := constantI S_ 32 199#32
  let main_v8776 : IVec S2x256x256 32 := broadcastInDim S2x256x256 ![] bcast_S_S2x256x256 main_c_1384
  let main_v8777 : IVec S2x256x256 1 := cmpi .sgt main_v4987 main_v8776
  let main_c_1385 : IVec S_ 32 := constantI S_ 32 199#32
  let main_v8778 : IVec S2x256x256 32 := broadcastInDim S2x256x256 ![] bcast_S_S2x256x256 main_c_1385
  let main_v8779 : IVec S2x256x256 1 := cmpi .sgt main_v4988 main_v8778
  let main_v8780 : IVec S2x256x256 1 := andi main_v8777 main_v8779
  let main_v8781 : FVec F S2x256x256 .f32 := broadcastInDim S2x256x256 ![0, 1, 2] bcast_S2x1x256_S2x256x256_0_1_2 main_v8770
  let main_v8782 : FVec F S2x256x256 .f32 := mulf main_v8775 main_v8781
  let main_v8783 : FVec F S2x256x256 .f32 := subf main_v8769 main_v8782
  let main_v8784 : FVec F S2x256x256 .f32 := select main_v8780 main_v8783 main_v8769
  let main_c_1386 : IVec S_ 32 := constantI S_ 32 199#32
  let main_v8785 : IVec S2x256x256 32 := broadcastInDim S2x256x256 ![] bcast_S_S2x256x256 main_c_1386
  let main_v8786 : IVec S2x256x256 1 := cmpi .eq main_v4988 main_v8785
  let main_v8787 : IVec S2x256x256 1 := andi main_v8777 main_v8786
  fn_part424 (F := F) main_arg0 main_v8 main_v4875 main_v4987 main_v4988 main_v8775 main_v8784 main_v8787

def fn_part422 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8737 : FVec F S2x256x256 .f32) (main_v8739 : IVec S2x256x256 1) (main_v8746 : FVec F S2x256x256 .f32) : IVec S9x256x256 1 × IVec S8x256x256 1 :=
  let main_c_1380 : IVec S_ 32 := constantI S_ 32 197#32
  let main_v8747 : IVec S2x256x256 32 := broadcastInDim S2x256x256 ![] bcast_S_S2x256x256 main_c_1380
  let main_v8748 : IVec S2x256x256 1 := cmpi .eq main_v4988 main_v8747
  let main_v8749 : IVec S2x256x256 1 := andi main_v8739 main_v8748
  let main_v8750 : FVec F S2x256x256 .f32 := select main_v8749 main_v8737 main_v8746
  let main_v8751 : FVec F S2x1x256 .f32 := (extractStridedSlice S2x1x256 ![0, 198, 0] · slices_S2x256x256_S2x1x256_0_198_0) main_v8750
  let main_v8752 : FVec F S2x256x1 .f32 := (extractStridedSlice S2x256x1 ![0, 0, 198] · slices_S2x256x256_S2x256x1_0_0_198) main_v8750
  let main_v8753 : FVec F S2x1x1 .f32 := (extractStridedSlice S2x1x1 ![0, 0, 198] · slices_S2x1x256_S2x1x1_0_0_198) main_v8751
  let main_v8754 : FVec F S2x256x1 .f32 := broadcastInDim S2x256x1 ![0, 1, 2] bcast_S2x1x1_S2x256x1_0_1_2 main_v8753
  let main_v8755 : FVec F S2x256x1 .f32 := Host.divf main_v8752 main_v8754
  let main_v8756 : FVec F S2x256x256 .f32 := broadcastInDim S2x256x256 ![0, 1, 2] bcast_S2x256x1_S2x256x256_0_1_2 main_v8755
  let main_c_1381 : IVec S_ 32 := constantI S_ 32 198#32
  let main_v8757 : IVec S2x256x256 32 := broadcastInDim S2x256x256 ![] bcast_S_S2x256x256 main_c_1381
  let main_v8758 : IVec S2x256x256 1 := cmpi .sgt main_v4987 main_v8757
  let main_c_1382 : IVec S_ 32 := constantI S_ 32 198#32
  let main_v8759 : IVec S2x256x256 32 := broadcastInDim S2x256x256 ![] bcast_S_S2x256x256 main_c_1382
  let main_v8760 : IVec S2x256x256 1 := cmpi .sgt main_v4988 main_v8759
  let main_v8761 : IVec S2x256x256 1 := andi main_v8758 main_v8760
  let main_v8762 : FVec F S2x256x256 .f32 := broadcastInDim S2x256x256 ![0, 1, 2] bcast_S2x1x256_S2x256x256_0_1_2 main_v8751
  let main_v8763 : FVec F S2x256x256 .f32 := mulf main_v8756 main_v8762
  let main_v8764 : FVec F S2x256x256 .f32 := subf main_v8750 main_v8763
  let main_v8765 : FVec F S2x256x256 .f32 := select main_v8761 main_v8764 main_v8750
  let main_c_1383 : IVec S_ 32 := constantI S_ 32 198#32
  let main_v8766 : IVec S2x256x256 32 := broadcastInDim S2x256x256 ![] bcast_S_S2x256x256 main_c_1383
  fn_part423 (F := F) main_arg0 main_v8 main_v4875 main_v4987 main_v4988 main_v8756 main_v8758 main_v8765 main_v8766

def fn_part421 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8712 : FVec F S2x256x256 .f32) (main_v8718 : FVec F S2x256x256 .f32) (main_v8720 : IVec S2x256x256 1) (main_v8723 : IVec S2x256x256 1) (main_v8725 : FVec F S2x256x256 .f32) : IVec S9x256x256 1 × IVec S8x256x256 1 :=
  let main_v8726 : FVec F S2x256x256 .f32 := subf main_v8712 main_v8725
  let main_v8727 : FVec F S2x256x256 .f32 := select main_v8723 main_v8726 main_v8712
  let main_c_1377 : IVec S_ 32 := constantI S_ 32 196#32
  let main_v8728 : IVec S2x256x256 32 := broadcastInDim S2x256x256 ![] bcast_S_S2x256x256 main_c_1377
  let main_v8729 : IVec S2x256x256 1 := cmpi .eq main_v4988 main_v8728
  let main_v8730 : IVec S2x256x256 1 := andi main_v8720 main_v8729
  let main_v8731 : FVec F S2x256x256 .f32 := select main_v8730 main_v8718 main_v8727
  let main_v8732 : FVec F S2x1x256 .f32 := (extractStridedSlice S2x1x256 ![0, 197, 0] · slices_S2x256x256_S2x1x256_0_197_0) main_v8731
  let main_v8733 : FVec F S2x256x1 .f32 := (extractStridedSlice S2x256x1 ![0, 0, 197] · slices_S2x256x256_S2x256x1_0_0_197) main_v8731
  let main_v8734 : FVec F S2x1x1 .f32 := (extractStridedSlice S2x1x1 ![0, 0, 197] · slices_S2x1x256_S2x1x1_0_0_197) main_v8732
  let main_v8735 : FVec F S2x256x1 .f32 := broadcastInDim S2x256x1 ![0, 1, 2] bcast_S2x1x1_S2x256x1_0_1_2 main_v8734
  let main_v8736 : FVec F S2x256x1 .f32 := Host.divf main_v8733 main_v8735
  let main_v8737 : FVec F S2x256x256 .f32 := broadcastInDim S2x256x256 ![0, 1, 2] bcast_S2x256x1_S2x256x256_0_1_2 main_v8736
  let main_c_1378 : IVec S_ 32 := constantI S_ 32 197#32
  let main_v8738 : IVec S2x256x256 32 := broadcastInDim S2x256x256 ![] bcast_S_S2x256x256 main_c_1378
  let main_v8739 : IVec S2x256x256 1 := cmpi .sgt main_v4987 main_v8738
  let main_c_1379 : IVec S_ 32 := constantI S_ 32 197#32
  let main_v8740 : IVec S2x256x256 32 := broadcastInDim S2x256x256 ![] bcast_S_S2x256x256 main_c_1379
  let main_v8741 : IVec S2x256x256 1 := cmpi .sgt main_v4988 main_v8740
  let main_v8742 : IVec S2x256x256 1 := andi main_v8739 main_v8741
  let main_v8743 : FVec F S2x256x256 .f32 := broadcastInDim S2x256x256 ![0, 1, 2] bcast_S2x1x256_S2x256x256_0_1_2 main_v8732
  let main_v8744 : FVec F S2x256x256 .f32 := mulf main_v8737 main_v8743
  let main_v8745 : FVec F S2x256x256 .f32 := subf main_v8731 main_v8744
  let main_v8746 : FVec F S2x256x256 .f32 := select main_v8742 main_v8745 main_v8731
  fn_part422 (F := F) main_arg0 main_v8 main_v4875 main_v4987 main_v4988 main_v8737 main_v8739 main_v8746

def fn_part420 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8693 : FVec F S2x256x256 .f32) (main_v8694 : FVec F S2x1x256 .f32) (main_v8699 : FVec F S2x256x256 .f32) (main_v8701 : IVec S2x256x256 1) (main_v8704 : IVec S2x256x256 1) : IVec S9x256x256 1 × IVec S8x256x256 1 :=
  let main_v8705 : FVec F S2x256x256 .f32 := broadcastInDim S2x256x256 ![0, 1, 2] bcast_S2x1x256_S2x256x256_0_1_2 main_v8694
  let main_v8706 : FVec F S2x256x256 .f32 := mulf main_v8699 main_v8705
  let main_v8707 : FVec F S2x256x256 .f32 := subf main_v8693 main_v8706
  let main_v8708 : FVec F S2x256x256 .f32 := select main_v8704 main_v8707 main_v8693
  let main_c_1374 : IVec S_ 32 := constantI S_ 32 195#32
  let main_v8709 : IVec S2x256x256 32 := broadcastInDim S2x256x256 ![] bcast_S_S2x256x256 main_c_1374
  let main_v8710 : IVec S2x256x256 1 := cmpi .eq main_v4988 main_v8709
  let main_v8711 : IVec S2x256x256 1 := andi main_v8701 main_v8710
  let main_v8712 : FVec F S2x256x256 .f32 := select main_v8711 main_v8699 main_v8708
  let main_v8713 : FVec F S2x1x256 .f32 := (extractStridedSlice S2x1x256 ![0, 196, 0] · slices_S2x256x256_S2x1x256_0_196_0) main_v8712
  let main_v8714 : FVec F S2x256x1 .f32 := (extractStridedSlice S2x256x1 ![0, 0, 196] · slices_S2x256x256_S2x256x1_0_0_196) main_v8712
  let main_v8715 : FVec F S2x1x1 .f32 := (extractStridedSlice S2x1x1 ![0, 0, 196] · slices_S2x1x256_S2x1x1_0_0_196) main_v8713
  let main_v8716 : FVec F S2x256x1 .f32 := broadcastInDim S2x256x1 ![0, 1, 2] bcast_S2x1x1_S2x256x1_0_1_2 main_v8715
  let main_v8717 : FVec F S2x256x1 .f32 := Host.divf main_v8714 main_v8716
  let main_v8718 : FVec F S2x256x256 .f32 := broadcastInDim S2x256x256 ![0, 1, 2] bcast_S2x256x1_S2x256x256_0_1_2 main_v8717
  let main_c_1375 : IVec S_ 32 := constantI S_ 32 196#32
  let main_v8719 : IVec S2x256x256 32 := broadcastInDim S2x256x256 ![] bcast_S_S2x256x256 main_c_1375
  let main_v8720 : IVec S2x256x256 1 := cmpi .sgt main_v4987 main_v8719
  let main_c_1376 : IVec S_ 32 := constantI S_ 32 196#32
  let main_v8721 : IVec S2x256x256 32 := broadcastInDim S2x256x256 ![] bcast_S_S2x256x256 main_c_1376
  let main_v8722 : IVec S2x256x256 1 := cmpi .sgt main_v4988 main_v8721
  let main_v8723 : IVec S2x256x256 1 := andi main_v8720 main_v8722
  let main_v8724 : FVec F S2x256x256 .f32 := broadcastInDim S2x256x256 ![0, 1, 2] bcast_S2x1x256_S2x256x256_0_1_2 main_v8713
  let main_v8725 : FVec F S2x256x256 .f32 := mulf main_v8718 main_v8724
  fn_part421 (F := F) main_arg0 main_v8 main_v4875 main_v4987 main_v4988 main_v8712 main_v8718 main_v8720 main_v8723 main_v8725

def fn_part419 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8674 : FVec F S2x256x256 .f32) (main_v8675 : FVec F S2x1x256 .f32) (main_v8680 : FVec F S2x256x256 .f32) (main_v8682 : IVec S2x256x256 1) (main_v8683 : IVec S2x256x256 32) : IVec S9x256x256 1 × IVec S8x256x256 1 :=
  let main_v8684 : IVec S2x256x256 1 := cmpi .sgt main_v4988 main_v8683
  let main_v8685 : IVec S2x256x256 1 := andi main_v8682 main_v8684
  let main_v8686 : FVec F S2x256x256 .f32 := broadcastInDim S2x256x256 ![0, 1, 2] bcast_S2x1x256_S2x256x256_0_1_2 main_v8675
  let main_v8687 : FVec F S2x256x256 .f32 := mulf main_v8680 main_v8686
  let main_v8688 : FVec F S2x256x256 .f32 := subf main_v8674 main_v8687
  let main_v8689 : FVec F S2x256x256 .f32 := select main_v8685 main_v8688 main_v8674
  let main_c_1371 : IVec S_ 32 := constantI S_ 32 194#32
  let main_v8690 : IVec S2x256x256 32 := broadcastInDim S2x256x256 ![] bcast_S_S2x256x256 main_c_1371
  let main_v8691 : IVec S2x256x256 1 := cmpi .eq main_v4988 main_v8690
  let main_v8692 : IVec S2x256x256 1 := andi main_v8682 main_v8691
  let main_v8693 : FVec F S2x256x256 .f32 := select main_v8692 main_v8680 main_v8689
  let main_v8694 : FVec F S2x1x256 .f32 := (extractStridedSlice S2x1x256 ![0, 195, 0] · slices_S2x256x256_S2x1x256_0_195_0) main_v8693
  let main_v8695 : FVec F S2x256x1 .f32 := (extractStridedSlice S2x256x1 ![0, 0, 195] · slices_S2x256x256_S2x256x1_0_0_195) main_v8693
  let main_v8696 : FVec F S2x1x1 .f32 := (extractStridedSlice S2x1x1 ![0, 0, 195] · slices_S2x1x256_S2x1x1_0_0_195) main_v8694
  let main_v8697 : FVec F S2x256x1 .f32 := broadcastInDim S2x256x1 ![0, 1, 2] bcast_S2x1x1_S2x256x1_0_1_2 main_v8696
  let main_v8698 : FVec F S2x256x1 .f32 := Host.divf main_v8695 main_v8697
  let main_v8699 : FVec F S2x256x256 .f32 := broadcastInDim S2x256x256 ![0, 1, 2] bcast_S2x256x1_S2x256x256_0_1_2 main_v8698
  let main_c_1372 : IVec S_ 32 := constantI S_ 32 195#32
  let main_v8700 : IVec S2x256x256 32 := broadcastInDim S2x256x256 ![] bcast_S_S2x256x256 main_c_1372
  let main_v8701 : IVec S2x256x256 1 := cmpi .sgt main_v4987 main_v8700
  let main_c_1373 : IVec S_ 32 := constantI S_ 32 195#32
  let main_v8702 : IVec S2x256x256 32 := broadcastInDim S2x256x256 ![] bcast_S_S2x256x256 main_c_1373
  let main_v8703 : IVec S2x256x256 1 := cmpi .sgt main_v4988 main_v8702
  let main_v8704 : IVec S2x256x256 1 := andi main_v8701 main_v8703
  fn_part420 (F := F) main_arg0 main_v8 main_v4875 main_v4987 main_v4988 main_v8693 main_v8694 main_v8699 main_v8701 main_v8704

def fn_part418 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8655 : FVec F S2x256x256 .f32) (main_v8656 : FVec F S2x1x256 .f32) (main_v8661 : FVec F S2x256x256 .f32) (main_v8663 : IVec S2x256x256 1) : IVec S9x256x256 1 × IVec S8x256x256 1 :=
  let main_c_1367 : IVec S_ 32 := constantI S_ 32 193#32
  let main_v8664 : IVec S2x256x256 32 := broadcastInDim S2x256x256 ![] bcast_S_S2x256x256 main_c_1367
  let main_v8665 : IVec S2x256x256 1 := cmpi .sgt main_v4988 main_v8664
  let main_v8666 : IVec S2x256x256 1 := andi main_v8663 main_v8665
  let main_v8667 : FVec F S2x256x256 .f32 := broadcastInDim S2x256x256 ![0, 1, 2] bcast_S2x1x256_S2x256x256_0_1_2 main_v8656
  let main_v8668 : FVec F S2x256x256 .f32 := mulf main_v8661 main_v8667
  let main_v8669 : FVec F S2x256x256 .f32 := subf main_v8655 main_v8668
  let main_v8670 : FVec F S2x256x256 .f32 := select main_v8666 main_v8669 main_v8655
  let main_c_1368 : IVec S_ 32 := constantI S_ 32 193#32
  let main_v8671 : IVec S2x256x256 32 := broadcastInDim S2x256x256 ![] bcast_S_S2x256x256 main_c_1368
  let main_v8672 : IVec S2x256x256 1 := cmpi .eq main_v4988 main_v8671
  let main_v8673 : IVec S2x256x256 1 := andi main_v8663 main_v8672
  let main_v8674 : FVec F S2x256x256 .f32 := select main_v8673 main_v8661 main_v8670
  let main_v8675 : FVec F S2x1x256 .f32 := (extractStridedSlice S2x1x256 ![0, 194, 0] · slices_S2x256x256_S2x1x256_0_194_0) main_v8674
  let main_v8676 : FVec F S2x256x1 .f32 := (extractStridedSlice S2x256x1 ![0, 0, 194] · slices_S2x256x256_S2x256x1_0_0_194) main_v8674
  let main_v8677 : FVec F S2x1x1 .f32 := (extractStridedSlice S2x1x1 ![0, 0, 194] · slices_S2x1x256_S2x1x1_0_0_194) main_v8675
  let main_v8678 : FVec F S2x256x1 .f32 := broadcastInDim S2x256x1 ![0, 1, 2] bcast_S2x1x1_S2x256x1_0_1_2 main_v8677
  let main_v8679 : FVec F S2x256x1 .f32 := Host.divf main_v8676 main_v8678
  let main_v8680 : FVec F S2x256x256 .f32 := broadcastInDim S2x256x256 ![0, 1, 2] bcast_S2x256x1_S2x256x256_0_1_2 main_v8679
  let main_c_1369 : IVec S_ 32 := constantI S_ 32 194#32
  let main_v8681 : IVec S2x256x256 32 := broadcastInDim S2x256x256 ![] bcast_S_S2x256x256 main_c_1369
  let main_v8682 : IVec S2x256x256 1 := cmpi .sgt main_v4987 main_v8681
  let main_c_1370 : IVec S_ 32 := constantI S_ 32 194#32
  let main_v8683 : IVec S2x256x256 32 := broadcastInDim S2x256x256 ![] bcast_S_S2x256x256 main_c_1370
  fn_part419 (F := F) main_arg0 main_v8 main_v4875 main_v4987 main_v4988 main_v8674 main_v8675 main_v8680 main_v8682 main_v8683

def fn_part417 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8636 : FVec F S2x256x256 .f32) (main_v8637 : FVec F S2x1x256 .f32) (main_v8642 : FVec F S2x256x256 .f32) (main_c_1363 : IVec S_ 32) : IVec S9x256x256 1 × IVec S8x256x256 1 :=
  let main_v8643 : IVec S2x256x256 32 := broadcastInDim S2x256x256 ![] bcast_S_S2x256x256 main_c_1363
  let main_v8644 : IVec S2x256x256 1 := cmpi .sgt main_v4987 main_v8643
  let main_c_1364 : IVec S_ 32 := constantI S_ 32 192#32
  let main_v8645 : IVec S2x256x256 32 := broadcastInDim S2x256x256 ![] bcast_S_S2x256x256 main_c_1364
  let main_v8646 : IVec S2x256x256 1 := cmpi .sgt main_v4988 main_v8645
  let main_v8647 : IVec S2x256x256 1 := andi main_v8644 main_v8646
  let main_v8648 : FVec F S2x256x256 .f32 := broadcastInDim S2x256x256 ![0, 1, 2] bcast_S2x1x256_S2x256x256_0_1_2 main_v8637
  let main_v8649 : FVec F S2x256x256 .f32 := mulf main_v8642 main_v8648
  let main_v8650 : FVec F S2x256x256 .f32 := subf main_v8636 main_v8649
  let main_v8651 : FVec F S2x256x256 .f32 := select main_v8647 main_v8650 main_v8636
  let main_c_1365 : IVec S_ 32 := constantI S_ 32 192#32
  let main_v8652 : IVec S2x256x256 32 := broadcastInDim S2x256x256 ![] bcast_S_S2x256x256 main_c_1365
  let main_v8653 : IVec S2x256x256 1 := cmpi .eq main_v4988 main_v8652
  let main_v8654 : IVec S2x256x256 1 := andi main_v8644 main_v8653
  let main_v8655 : FVec F S2x256x256 .f32 := select main_v8654 main_v8642 main_v8651
  let main_v8656 : FVec F S2x1x256 .f32 := (extractStridedSlice S2x1x256 ![0, 193, 0] · slices_S2x256x256_S2x1x256_0_193_0) main_v8655
  let main_v8657 : FVec F S2x256x1 .f32 := (extractStridedSlice S2x256x1 ![0, 0, 193] · slices_S2x256x256_S2x256x1_0_0_193) main_v8655
  let main_v8658 : FVec F S2x1x1 .f32 := (extractStridedSlice S2x1x1 ![0, 0, 193] · slices_S2x1x256_S2x1x1_0_0_193) main_v8656
  let main_v8659 : FVec F S2x256x1 .f32 := broadcastInDim S2x256x1 ![0, 1, 2] bcast_S2x1x1_S2x256x1_0_1_2 main_v8658
  let main_v8660 : FVec F S2x256x1 .f32 := Host.divf main_v8657 main_v8659
  let main_v8661 : FVec F S2x256x256 .f32 := broadcastInDim S2x256x256 ![0, 1, 2] bcast_S2x256x1_S2x256x256_0_1_2 main_v8660
  let main_c_1366 : IVec S_ 32 := constantI S_ 32 193#32
  let main_v8662 : IVec S2x256x256 32 := broadcastInDim S2x256x256 ![] bcast_S_S2x256x256 main_c_1366
  let main_v8663 : IVec S2x256x256 1 := cmpi .sgt main_v4987 main_v8662
  fn_part418 (F := F) main_arg0 main_v8 main_v4875 main_v4987 main_v4988 main_v8655 main_v8656 main_v8661 main_v8663

def fn_part416 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8617 : FVec F S2x256x256 .f32) (main_v8618 : FVec F S2x1x256 .f32) (main_v8622 : FVec F S2x256x1 .f32) : IVec S9x256x256 1 × IVec S8x256x256 1 :=
  let main_v8623 : FVec F S2x256x256 .f32 := broadcastInDim S2x256x256 ![0, 1, 2] bcast_S2x256x1_S2x256x256_0_1_2 main_v8622
  let main_c_1360 : IVec S_ 32 := constantI S_ 32 191#32
  let main_v8624 : IVec S2x256x256 32 := broadcastInDim S2x256x256 ![] bcast_S_S2x256x256 main_c_1360
  let main_v8625 : IVec S2x256x256 1 := cmpi .sgt main_v4987 main_v8624
  let main_c_1361 : IVec S_ 32 := constantI S_ 32 191#32
  let main_v8626 : IVec S2x256x256 32 := broadcastInDim S2x256x256 ![] bcast_S_S2x256x256 main_c_1361
  let main_v8627 : IVec S2x256x256 1 := cmpi .sgt main_v4988 main_v8626
  let main_v8628 : IVec S2x256x256 1 := andi main_v8625 main_v8627
  let main_v8629 : FVec F S2x256x256 .f32 := broadcastInDim S2x256x256 ![0, 1, 2] bcast_S2x1x256_S2x256x256_0_1_2 main_v8618
  let main_v8630 : FVec F S2x256x256 .f32 := mulf main_v8623 main_v8629
  let main_v8631 : FVec F S2x256x256 .f32 := subf main_v8617 main_v8630
  let main_v8632 : FVec F S2x256x256 .f32 := select main_v8628 main_v8631 main_v8617
  let main_c_1362 : IVec S_ 32 := constantI S_ 32 191#32
  let main_v8633 : IVec S2x256x256 32 := broadcastInDim S2x256x256 ![] bcast_S_S2x256x256 main_c_1362
  let main_v8634 : IVec S2x256x256 1 := cmpi .eq main_v4988 main_v8633
  let main_v8635 : IVec S2x256x256 1 := andi main_v8625 main_v8634
  let main_v8636 : FVec F S2x256x256 .f32 := select main_v8635 main_v8623 main_v8632
  let main_v8637 : FVec F S2x1x256 .f32 := (extractStridedSlice S2x1x256 ![0, 192, 0] · slices_S2x256x256_S2x1x256_0_192_0) main_v8636
  let main_v8638 : FVec F S2x256x1 .f32 := (extractStridedSlice S2x256x1 ![0, 0, 192] · slices_S2x256x256_S2x256x1_0_0_192) main_v8636
  let main_v8639 : FVec F S2x1x1 .f32 := (extractStridedSlice S2x1x1 ![0, 0, 192] · slices_S2x1x256_S2x1x1_0_0_192) main_v8637
  let main_v8640 : FVec F S2x256x1 .f32 := broadcastInDim S2x256x1 ![0, 1, 2] bcast_S2x1x1_S2x256x1_0_1_2 main_v8639
  let main_v8641 : FVec F S2x256x1 .f32 := Host.divf main_v8638 main_v8640
  let main_v8642 : FVec F S2x256x256 .f32 := broadcastInDim S2x256x256 ![0, 1, 2] bcast_S2x256x1_S2x256x256_0_1_2 main_v8641
  let main_c_1363 : IVec S_ 32 := constantI S_ 32 192#32
  fn_part417 (F := F) main_arg0 main_v8 main_v4875 main_v4987 main_v4988 main_v8636 main_v8637 main_v8642 main_c_1363

def fn_part415 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8598 : FVec F S2x256x256 .f32) (main_v8599 : FVec F S2x1x256 .f32) (main_v8600 : FVec F S2x256x1 .f32) (main_v8601 : FVec F S2x1x1 .f32) : IVec S9x256x256 1 × IVec S8x256x256 1 :=
  let main_v8602 : FVec F S2x256x1 .f32 := broadcastInDim S2x256x1 ![0, 1, 2] bcast_S2x1x1_S2x256x1_0_1_2 main_v8601
  let main_v8603 : FVec F S2x256x1 .f32 := Host.divf main_v8600 main_v8602
  let main_v8604 : FVec F S2x256x256 .f32 := broadcastInDim S2x256x256 ![0, 1, 2] bcast_S2x256x1_S2x256x256_0_1_2 main_v8603
  let main_c_1357 : IVec S_ 32 := constantI S_ 32 190#32
  let main_v8605 : IVec S2x256x256 32 := broadcastInDim S2x256x256 ![] bcast_S_S2x256x256 main_c_1357
  let main_v8606 : IVec S2x256x256 1 := cmpi .sgt main_v4987 main_v8605
  let main_c_1358 : IVec S_ 32 := constantI S_ 32 190#32
  let main_v8607 : IVec S2x256x256 32 := broadcastInDim S2x256x256 ![] bcast_S_S2x256x256 main_c_1358
  let main_v8608 : IVec S2x256x256 1 := cmpi .sgt main_v4988 main_v8607
  let main_v8609 : IVec S2x256x256 1 := andi main_v8606 main_v8608
  let main_v8610 : FVec F S2x256x256 .f32 := broadcastInDim S2x256x256 ![0, 1, 2] bcast_S2x1x256_S2x256x256_0_1_2 main_v8599
  let main_v8611 : FVec F S2x256x256 .f32 := mulf main_v8604 main_v8610
  let main_v8612 : FVec F S2x256x256 .f32 := subf main_v8598 main_v8611
  let main_v8613 : FVec F S2x256x256 .f32 := select main_v8609 main_v8612 main_v8598
  let main_c_1359 : IVec S_ 32 := constantI S_ 32 190#32
  let main_v8614 : IVec S2x256x256 32 := broadcastInDim S2x256x256 ![] bcast_S_S2x256x256 main_c_1359
  let main_v8615 : IVec S2x256x256 1 := cmpi .eq main_v4988 main_v8614
  let main_v8616 : IVec S2x256x256 1 := andi main_v8606 main_v8615
  let main_v8617 : FVec F S2x256x256 .f32 := select main_v8616 main_v8604 main_v8613
  let main_v8618 : FVec F S2x1x256 .f32 := (extractStridedSlice S2x1x256 ![0, 191, 0] · slices_S2x256x256_S2x1x256_0_191_0) main_v8617
  let main_v8619 : FVec F S2x256x1 .f32 := (extractStridedSlice S2x256x1 ![0, 0, 191] · slices_S2x256x256_S2x256x1_0_0_191) main_v8617
  let main_v8620 : FVec F S2x1x1 .f32 := (extractStridedSlice S2x1x1 ![0, 0, 191] · slices_S2x1x256_S2x1x1_0_0_191) main_v8618
  let main_v8621 : FVec F S2x256x1 .f32 := broadcastInDim S2x256x1 ![0, 1, 2] bcast_S2x1x1_S2x256x1_0_1_2 main_v8620
  let main_v8622 : FVec F S2x256x1 .f32 := Host.divf main_v8619 main_v8621
  fn_part416 (F := F) main_arg0 main_v8 main_v4875 main_v4987 main_v4988 main_v8617 main_v8618 main_v8622

def fn_part414 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8579 : FVec F S2x256x256 .f32) (main_v8580 : FVec F S2x1x256 .f32) : IVec S9x256x256 1 × IVec S8x256x256 1 :=
  let main_v8581 : FVec F S2x256x1 .f32 := (extractStridedSlice S2x256x1 ![0, 0, 189] · slices_S2x256x256_S2x256x1_0_0_189) main_v8579
  let main_v8582 : FVec F S2x1x1 .f32 := (extractStridedSlice S2x1x1 ![0, 0, 189] · slices_S2x1x256_S2x1x1_0_0_189) main_v8580
  let main_v8583 : FVec F S2x256x1 .f32 := broadcastInDim S2x256x1 ![0, 1, 2] bcast_S2x1x1_S2x256x1_0_1_2 main_v8582
  let main_v8584 : FVec F S2x256x1 .f32 := Host.divf main_v8581 main_v8583
  let main_v8585 : FVec F S2x256x256 .f32 := broadcastInDim S2x256x256 ![0, 1, 2] bcast_S2x256x1_S2x256x256_0_1_2 main_v8584
  let main_c_1354 : IVec S_ 32 := constantI S_ 32 189#32
  let main_v8586 : IVec S2x256x256 32 := broadcastInDim S2x256x256 ![] bcast_S_S2x256x256 main_c_1354
  let main_v8587 : IVec S2x256x256 1 := cmpi .sgt main_v4987 main_v8586
  let main_c_1355 : IVec S_ 32 := constantI S_ 32 189#32
  let main_v8588 : IVec S2x256x256 32 := broadcastInDim S2x256x256 ![] bcast_S_S2x256x256 main_c_1355
  let main_v8589 : IVec S2x256x256 1 := cmpi .sgt main_v4988 main_v8588
  let main_v8590 : IVec S2x256x256 1 := andi main_v8587 main_v8589
  let main_v8591 : FVec F S2x256x256 .f32 := broadcastInDim S2x256x256 ![0, 1, 2] bcast_S2x1x256_S2x256x256_0_1_2 main_v8580
  let main_v8592 : FVec F S2x256x256 .f32 := mulf main_v8585 main_v8591
  let main_v8593 : FVec F S2x256x256 .f32 := subf main_v8579 main_v8592
  let main_v8594 : FVec F S2x256x256 .f32 := select main_v8590 main_v8593 main_v8579
  let main_c_1356 : IVec S_ 32 := constantI S_ 32 189#32
  let main_v8595 : IVec S2x256x256 32 := broadcastInDim S2x256x256 ![] bcast_S_S2x256x256 main_c_1356
  let main_v8596 : IVec S2x256x256 1 := cmpi .eq main_v4988 main_v8595
  let main_v8597 : IVec S2x256x256 1 := andi main_v8587 main_v8596
  let main_v8598 : FVec F S2x256x256 .f32 := select main_v8597 main_v8585 main_v8594
  let main_v8599 : FVec F S2x1x256 .f32 := (extractStridedSlice S2x1x256 ![0, 190, 0] · slices_S2x256x256_S2x1x256_0_190_0) main_v8598
  let main_v8600 : FVec F S2x256x1 .f32 := (extractStridedSlice S2x256x1 ![0, 0, 190] · slices_S2x256x256_S2x256x1_0_0_190) main_v8598
  let main_v8601 : FVec F S2x1x1 .f32 := (extractStridedSlice S2x1x1 ![0, 0, 190] · slices_S2x1x256_S2x1x1_0_0_190) main_v8599
  fn_part415 (F := F) main_arg0 main_v8 main_v4875 main_v4987 main_v4988 main_v8598 main_v8599 main_v8600 main_v8601

def fn_part413 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8547 : FVec F S2x256x256 .f32) (main_v8556 : FVec F S2x256x256 .f32) (main_v8559 : IVec S2x256x256 1) : IVec S9x256x256 1 × IVec S8x256x256 1 :=
  let main_v8560 : FVec F S2x256x256 .f32 := select main_v8559 main_v8547 main_v8556
  let main_v8561 : FVec F S2x1x256 .f32 := (extractStridedSlice S2x1x256 ![0, 188, 0] · slices_S2x256x256_S2x1x256_0_188_0) main_v8560
  let main_v8562 : FVec F S2x256x1 .f32 := (extractStridedSlice S2x256x1 ![0, 0, 188] · slices_S2x256x256_S2x256x1_0_0_188) main_v8560
  let main_v8563 : FVec F S2x1x1 .f32 := (extractStridedSlice S2x1x1 ![0, 0, 188] · slices_S2x1x256_S2x1x1_0_0_188) main_v8561
  let main_v8564 : FVec F S2x256x1 .f32 := broadcastInDim S2x256x1 ![0, 1, 2] bcast_S2x1x1_S2x256x1_0_1_2 main_v8563
  let main_v8565 : FVec F S2x256x1 .f32 := Host.divf main_v8562 main_v8564
  let main_v8566 : FVec F S2x256x256 .f32 := broadcastInDim S2x256x256 ![0, 1, 2] bcast_S2x256x1_S2x256x256_0_1_2 main_v8565
  let main_c_1351 : IVec S_ 32 := constantI S_ 32 188#32
  let main_v8567 : IVec S2x256x256 32 := broadcastInDim S2x256x256 ![] bcast_S_S2x256x256 main_c_1351
  let main_v8568 : IVec S2x256x256 1 := cmpi .sgt main_v4987 main_v8567
  let main_c_1352 : IVec S_ 32 := constantI S_ 32 188#32
  let main_v8569 : IVec S2x256x256 32 := broadcastInDim S2x256x256 ![] bcast_S_S2x256x256 main_c_1352
  let main_v8570 : IVec S2x256x256 1 := cmpi .sgt main_v4988 main_v8569
  let main_v8571 : IVec S2x256x256 1 := andi main_v8568 main_v8570
  let main_v8572 : FVec F S2x256x256 .f32 := broadcastInDim S2x256x256 ![0, 1, 2] bcast_S2x1x256_S2x256x256_0_1_2 main_v8561
  let main_v8573 : FVec F S2x256x256 .f32 := mulf main_v8566 main_v8572
  let main_v8574 : FVec F S2x256x256 .f32 := subf main_v8560 main_v8573
  let main_v8575 : FVec F S2x256x256 .f32 := select main_v8571 main_v8574 main_v8560
  let main_c_1353 : IVec S_ 32 := constantI S_ 32 188#32
  let main_v8576 : IVec S2x256x256 32 := broadcastInDim S2x256x256 ![] bcast_S_S2x256x256 main_c_1353
  let main_v8577 : IVec S2x256x256 1 := cmpi .eq main_v4988 main_v8576
  let main_v8578 : IVec S2x256x256 1 := andi main_v8568 main_v8577
  let main_v8579 : FVec F S2x256x256 .f32 := select main_v8578 main_v8566 main_v8575
  let main_v8580 : FVec F S2x1x256 .f32 := (extractStridedSlice S2x1x256 ![0, 189, 0] · slices_S2x256x256_S2x1x256_0_189_0) main_v8579
  fn_part414 (F := F) main_arg0 main_v8 main_v4875 main_v4987 main_v4988 main_v8579 main_v8580

def fn_part412 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8528 : FVec F S2x256x256 .f32) (main_v8530 : IVec S2x256x256 1) (main_v8537 : FVec F S2x256x256 .f32) (main_v8538 : IVec S2x256x256 32) : IVec S9x256x256 1 × IVec S8x256x256 1 :=
  let main_v8539 : IVec S2x256x256 1 := cmpi .eq main_v4988 main_v8538
  let main_v8540 : IVec S2x256x256 1 := andi main_v8530 main_v8539
  let main_v8541 : FVec F S2x256x256 .f32 := select main_v8540 main_v8528 main_v8537
  let main_v8542 : FVec F S2x1x256 .f32 := (extractStridedSlice S2x1x256 ![0, 187, 0] · slices_S2x256x256_S2x1x256_0_187_0) main_v8541
  let main_v8543 : FVec F S2x256x1 .f32 := (extractStridedSlice S2x256x1 ![0, 0, 187] · slices_S2x256x256_S2x256x1_0_0_187) main_v8541
  let main_v8544 : FVec F S2x1x1 .f32 := (extractStridedSlice S2x1x1 ![0, 0, 187] · slices_S2x1x256_S2x1x1_0_0_187) main_v8542
  let main_v8545 : FVec F S2x256x1 .f32 := broadcastInDim S2x256x1 ![0, 1, 2] bcast_S2x1x1_S2x256x1_0_1_2 main_v8544
  let main_v8546 : FVec F S2x256x1 .f32 := Host.divf main_v8543 main_v8545
  let main_v8547 : FVec F S2x256x256 .f32 := broadcastInDim S2x256x256 ![0, 1, 2] bcast_S2x256x1_S2x256x256_0_1_2 main_v8546
  let main_c_1348 : IVec S_ 32 := constantI S_ 32 187#32
  let main_v8548 : IVec S2x256x256 32 := broadcastInDim S2x256x256 ![] bcast_S_S2x256x256 main_c_1348
  let main_v8549 : IVec S2x256x256 1 := cmpi .sgt main_v4987 main_v8548
  let main_c_1349 : IVec S_ 32 := constantI S_ 32 187#32
  let main_v8550 : IVec S2x256x256 32 := broadcastInDim S2x256x256 ![] bcast_S_S2x256x256 main_c_1349
  let main_v8551 : IVec S2x256x256 1 := cmpi .sgt main_v4988 main_v8550
  let main_v8552 : IVec S2x256x256 1 := andi main_v8549 main_v8551
  let main_v8553 : FVec F S2x256x256 .f32 := broadcastInDim S2x256x256 ![0, 1, 2] bcast_S2x1x256_S2x256x256_0_1_2 main_v8542
  let main_v8554 : FVec F S2x256x256 .f32 := mulf main_v8547 main_v8553
  let main_v8555 : FVec F S2x256x256 .f32 := subf main_v8541 main_v8554
  let main_v8556 : FVec F S2x256x256 .f32 := select main_v8552 main_v8555 main_v8541
  let main_c_1350 : IVec S_ 32 := constantI S_ 32 187#32
  let main_v8557 : IVec S2x256x256 32 := broadcastInDim S2x256x256 ![] bcast_S_S2x256x256 main_c_1350
  let main_v8558 : IVec S2x256x256 1 := cmpi .eq main_v4988 main_v8557
  let main_v8559 : IVec S2x256x256 1 := andi main_v8549 main_v8558
  fn_part413 (F := F) main_arg0 main_v8 main_v4875 main_v4987 main_v4988 main_v8547 main_v8556 main_v8559

def fn_part411 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8509 : FVec F S2x256x256 .f32) (main_v8511 : IVec S2x256x256 1) (main_v8518 : FVec F S2x256x256 .f32) : IVec S9x256x256 1 × IVec S8x256x256 1 :=
  let main_c_1344 : IVec S_ 32 := constantI S_ 32 185#32
  let main_v8519 : IVec S2x256x256 32 := broadcastInDim S2x256x256 ![] bcast_S_S2x256x256 main_c_1344
  let main_v8520 : IVec S2x256x256 1 := cmpi .eq main_v4988 main_v8519
  let main_v8521 : IVec S2x256x256 1 := andi main_v8511 main_v8520
  let main_v8522 : FVec F S2x256x256 .f32 := select main_v8521 main_v8509 main_v8518
  let main_v8523 : FVec F S2x1x256 .f32 := (extractStridedSlice S2x1x256 ![0, 186, 0] · slices_S2x256x256_S2x1x256_0_186_0) main_v8522
  let main_v8524 : FVec F S2x256x1 .f32 := (extractStridedSlice S2x256x1 ![0, 0, 186] · slices_S2x256x256_S2x256x1_0_0_186) main_v8522
  let main_v8525 : FVec F S2x1x1 .f32 := (extractStridedSlice S2x1x1 ![0, 0, 186] · slices_S2x1x256_S2x1x1_0_0_186) main_v8523
  let main_v8526 : FVec F S2x256x1 .f32 := broadcastInDim S2x256x1 ![0, 1, 2] bcast_S2x1x1_S2x256x1_0_1_2 main_v8525
  let main_v8527 : FVec F S2x256x1 .f32 := Host.divf main_v8524 main_v8526
  let main_v8528 : FVec F S2x256x256 .f32 := broadcastInDim S2x256x256 ![0, 1, 2] bcast_S2x256x1_S2x256x256_0_1_2 main_v8527
  let main_c_1345 : IVec S_ 32 := constantI S_ 32 186#32
  let main_v8529 : IVec S2x256x256 32 := broadcastInDim S2x256x256 ![] bcast_S_S2x256x256 main_c_1345
  let main_v8530 : IVec S2x256x256 1 := cmpi .sgt main_v4987 main_v8529
  let main_c_1346 : IVec S_ 32 := constantI S_ 32 186#32
  let main_v8531 : IVec S2x256x256 32 := broadcastInDim S2x256x256 ![] bcast_S_S2x256x256 main_c_1346
  let main_v8532 : IVec S2x256x256 1 := cmpi .sgt main_v4988 main_v8531
  let main_v8533 : IVec S2x256x256 1 := andi main_v8530 main_v8532
  let main_v8534 : FVec F S2x256x256 .f32 := broadcastInDim S2x256x256 ![0, 1, 2] bcast_S2x1x256_S2x256x256_0_1_2 main_v8523
  let main_v8535 : FVec F S2x256x256 .f32 := mulf main_v8528 main_v8534
  let main_v8536 : FVec F S2x256x256 .f32 := subf main_v8522 main_v8535
  let main_v8537 : FVec F S2x256x256 .f32 := select main_v8533 main_v8536 main_v8522
  let main_c_1347 : IVec S_ 32 := constantI S_ 32 186#32
  let main_v8538 : IVec S2x256x256 32 := broadcastInDim S2x256x256 ![] bcast_S_S2x256x256 main_c_1347
  fn_part412 (F := F) main_arg0 main_v8 main_v4875 main_v4987 main_v4988 main_v8528 main_v8530 main_v8537 main_v8538

def fn_part410 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8484 : FVec F S2x256x256 .f32) (main_v8490 : FVec F S2x256x256 .f32) (main_v8492 : IVec S2x256x256 1) (main_v8495 : IVec S2x256x256 1) (main_v8497 : FVec F S2x256x256 .f32) : IVec S9x256x256 1 × IVec S8x256x256 1 :=
  let main_v8498 : FVec F S2x256x256 .f32 := subf main_v8484 main_v8497
  let main_v8499 : FVec F S2x256x256 .f32 := select main_v8495 main_v8498 main_v8484
  let main_c_1341 : IVec S_ 32 := constantI S_ 32 184#32
  let main_v8500 : IVec S2x256x256 32 := broadcastInDim S2x256x256 ![] bcast_S_S2x256x256 main_c_1341
  let main_v8501 : IVec S2x256x256 1 := cmpi .eq main_v4988 main_v8500
  let main_v8502 : IVec S2x256x256 1 := andi main_v8492 main_v8501
  let main_v8503 : FVec F S2x256x256 .f32 := select main_v8502 main_v8490 main_v8499
  let main_v8504 : FVec F S2x1x256 .f32 := (extractStridedSlice S2x1x256 ![0, 185, 0] · slices_S2x256x256_S2x1x256_0_185_0) main_v8503
  let main_v8505 : FVec F S2x256x1 .f32 := (extractStridedSlice S2x256x1 ![0, 0, 185] · slices_S2x256x256_S2x256x1_0_0_185) main_v8503
  let main_v8506 : FVec F S2x1x1 .f32 := (extractStridedSlice S2x1x1 ![0, 0, 185] · slices_S2x1x256_S2x1x1_0_0_185) main_v8504
  let main_v8507 : FVec F S2x256x1 .f32 := broadcastInDim S2x256x1 ![0, 1, 2] bcast_S2x1x1_S2x256x1_0_1_2 main_v8506
  let main_v8508 : FVec F S2x256x1 .f32 := Host.divf main_v8505 main_v8507
  let main_v8509 : FVec F S2x256x256 .f32 := broadcastInDim S2x256x256 ![0, 1, 2] bcast_S2x256x1_S2x256x256_0_1_2 main_v8508
  let main_c_1342 : IVec S_ 32 := constantI S_ 32 185#32
  let main_v8510 : IVec S2x256x256 32 := broadcastInDim S2x256x256 ![] bcast_S_S2x256x256 main_c_1342
  let main_v8511 : IVec S2x256x256 1 := cmpi .sgt main_v4987 main_v8510
  let main_c_1343 : IVec S_ 32 := constantI S_ 32 185#32
  let main_v8512 : IVec S2x256x256 32 := broadcastInDim S2x256x256 ![] bcast_S_S2x256x256 main_c_1343
  let main_v8513 : IVec S2x256x256 1 := cmpi .sgt main_v4988 main_v8512
  let main_v8514 : IVec S2x256x256 1 := andi main_v8511 main_v8513
  let main_v8515 : FVec F S2x256x256 .f32 := broadcastInDim S2x256x256 ![0, 1, 2] bcast_S2x1x256_S2x256x256_0_1_2 main_v8504
  let main_v8516 : FVec F S2x256x256 .f32 := mulf main_v8509 main_v8515
  let main_v8517 : FVec F S2x256x256 .f32 := subf main_v8503 main_v8516
  let main_v8518 : FVec F S2x256x256 .f32 := select main_v8514 main_v8517 main_v8503
  fn_part411 (F := F) main_arg0 main_v8 main_v4875 main_v4987 main_v4988 main_v8509 main_v8511 main_v8518

def fn_part409 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8465 : FVec F S2x256x256 .f32) (main_v8466 : FVec F S2x1x256 .f32) (main_v8471 : FVec F S2x256x256 .f32) (main_v8473 : IVec S2x256x256 1) (main_v8476 : IVec S2x256x256 1) : IVec S9x256x256 1 × IVec S8x256x256 1 :=
  let main_v8477 : FVec F S2x256x256 .f32 := broadcastInDim S2x256x256 ![0, 1, 2] bcast_S2x1x256_S2x256x256_0_1_2 main_v8466
  let main_v8478 : FVec F S2x256x256 .f32 := mulf main_v8471 main_v8477
  let main_v8479 : FVec F S2x256x256 .f32 := subf main_v8465 main_v8478
  let main_v8480 : FVec F S2x256x256 .f32 := select main_v8476 main_v8479 main_v8465
  let main_c_1338 : IVec S_ 32 := constantI S_ 32 183#32
  let main_v8481 : IVec S2x256x256 32 := broadcastInDim S2x256x256 ![] bcast_S_S2x256x256 main_c_1338
  let main_v8482 : IVec S2x256x256 1 := cmpi .eq main_v4988 main_v8481
  let main_v8483 : IVec S2x256x256 1 := andi main_v8473 main_v8482
  let main_v8484 : FVec F S2x256x256 .f32 := select main_v8483 main_v8471 main_v8480
  let main_v8485 : FVec F S2x1x256 .f32 := (extractStridedSlice S2x1x256 ![0, 184, 0] · slices_S2x256x256_S2x1x256_0_184_0) main_v8484
  let main_v8486 : FVec F S2x256x1 .f32 := (extractStridedSlice S2x256x1 ![0, 0, 184] · slices_S2x256x256_S2x256x1_0_0_184) main_v8484
  let main_v8487 : FVec F S2x1x1 .f32 := (extractStridedSlice S2x1x1 ![0, 0, 184] · slices_S2x1x256_S2x1x1_0_0_184) main_v8485
  let main_v8488 : FVec F S2x256x1 .f32 := broadcastInDim S2x256x1 ![0, 1, 2] bcast_S2x1x1_S2x256x1_0_1_2 main_v8487
  let main_v8489 : FVec F S2x256x1 .f32 := Host.divf main_v8486 main_v8488
  let main_v8490 : FVec F S2x256x256 .f32 := broadcastInDim S2x256x256 ![0, 1, 2] bcast_S2x256x1_S2x256x256_0_1_2 main_v8489
  let main_c_1339 : IVec S_ 32 := constantI S_ 32 184#32
  let main_v8491 : IVec S2x256x256 32 := broadcastInDim S2x256x256 ![] bcast_S_S2x256x256 main_c_1339
  let main_v8492 : IVec S2x256x256 1 := cmpi .sgt main_v4987 main_v8491
  let main_c_1340 : IVec S_ 32 := constantI S_ 32 184#32
  let main_v8493 : IVec S2x256x256 32 := broadcastInDim S2x256x256 ![] bcast_S_S2x256x256 main_c_1340
  let main_v8494 : IVec S2x256x256 1 := cmpi .sgt main_v4988 main_v8493
  let main_v8495 : IVec S2x256x256 1 := andi main_v8492 main_v8494
  let main_v8496 : FVec F S2x256x256 .f32 := broadcastInDim S2x256x256 ![0, 1, 2] bcast_S2x1x256_S2x256x256_0_1_2 main_v8485
  let main_v8497 : FVec F S2x256x256 .f32 := mulf main_v8490 main_v8496
  fn_part410 (F := F) main_arg0 main_v8 main_v4875 main_v4987 main_v4988 main_v8484 main_v8490 main_v8492 main_v8495 main_v8497

def fn_part408 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8446 : FVec F S2x256x256 .f32) (main_v8447 : FVec F S2x1x256 .f32) (main_v8452 : FVec F S2x256x256 .f32) (main_v8454 : IVec S2x256x256 1) (main_v8455 : IVec S2x256x256 32) : IVec S9x256x256 1 × IVec S8x256x256 1 :=
  let main_v8456 : IVec S2x256x256 1 := cmpi .sgt main_v4988 main_v8455
  let main_v8457 : IVec S2x256x256 1 := andi main_v8454 main_v8456
  let main_v8458 : FVec F S2x256x256 .f32 := broadcastInDim S2x256x256 ![0, 1, 2] bcast_S2x1x256_S2x256x256_0_1_2 main_v8447
  let main_v8459 : FVec F S2x256x256 .f32 := mulf main_v8452 main_v8458
  let main_v8460 : FVec F S2x256x256 .f32 := subf main_v8446 main_v8459
  let main_v8461 : FVec F S2x256x256 .f32 := select main_v8457 main_v8460 main_v8446
  let main_c_1335 : IVec S_ 32 := constantI S_ 32 182#32
  let main_v8462 : IVec S2x256x256 32 := broadcastInDim S2x256x256 ![] bcast_S_S2x256x256 main_c_1335
  let main_v8463 : IVec S2x256x256 1 := cmpi .eq main_v4988 main_v8462
  let main_v8464 : IVec S2x256x256 1 := andi main_v8454 main_v8463
  let main_v8465 : FVec F S2x256x256 .f32 := select main_v8464 main_v8452 main_v8461
  let main_v8466 : FVec F S2x1x256 .f32 := (extractStridedSlice S2x1x256 ![0, 183, 0] · slices_S2x256x256_S2x1x256_0_183_0) main_v8465
  let main_v8467 : FVec F S2x256x1 .f32 := (extractStridedSlice S2x256x1 ![0, 0, 183] · slices_S2x256x256_S2x256x1_0_0_183) main_v8465
  let main_v8468 : FVec F S2x1x1 .f32 := (extractStridedSlice S2x1x1 ![0, 0, 183] · slices_S2x1x256_S2x1x1_0_0_183) main_v8466
  let main_v8469 : FVec F S2x256x1 .f32 := broadcastInDim S2x256x1 ![0, 1, 2] bcast_S2x1x1_S2x256x1_0_1_2 main_v8468
  let main_v8470 : FVec F S2x256x1 .f32 := Host.divf main_v8467 main_v8469
  let main_v8471 : FVec F S2x256x256 .f32 := broadcastInDim S2x256x256 ![0, 1, 2] bcast_S2x256x1_S2x256x256_0_1_2 main_v8470
  let main_c_1336 : IVec S_ 32 := constantI S_ 32 183#32
  let main_v8472 : IVec S2x256x256 32 := broadcastInDim S2x256x256 ![] bcast_S_S2x256x256 main_c_1336
  let main_v8473 : IVec S2x256x256 1 := cmpi .sgt main_v4987 main_v8472
  let main_c_1337 : IVec S_ 32 := constantI S_ 32 183#32
  let main_v8474 : IVec S2x256x256 32 := broadcastInDim S2x256x256 ![] bcast_S_S2x256x256 main_c_1337
  let main_v8475 : IVec S2x256x256 1 := cmpi .sgt main_v4988 main_v8474
  let main_v8476 : IVec S2x256x256 1 := andi main_v8473 main_v8475
  fn_part409 (F := F) main_arg0 main_v8 main_v4875 main_v4987 main_v4988 main_v8465 main_v8466 main_v8471 main_v8473 main_v8476

def fn_part407 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8427 : FVec F S2x256x256 .f32) (main_v8428 : FVec F S2x1x256 .f32) (main_v8433 : FVec F S2x256x256 .f32) (main_v8435 : IVec S2x256x256 1) : IVec S9x256x256 1 × IVec S8x256x256 1 :=
  let main_c_1331 : IVec S_ 32 := constantI S_ 32 181#32
  let main_v8436 : IVec S2x256x256 32 := broadcastInDim S2x256x256 ![] bcast_S_S2x256x256 main_c_1331
  let main_v8437 : IVec S2x256x256 1 := cmpi .sgt main_v4988 main_v8436
  let main_v8438 : IVec S2x256x256 1 := andi main_v8435 main_v8437
  let main_v8439 : FVec F S2x256x256 .f32 := broadcastInDim S2x256x256 ![0, 1, 2] bcast_S2x1x256_S2x256x256_0_1_2 main_v8428
  let main_v8440 : FVec F S2x256x256 .f32 := mulf main_v8433 main_v8439
  let main_v8441 : FVec F S2x256x256 .f32 := subf main_v8427 main_v8440
  let main_v8442 : FVec F S2x256x256 .f32 := select main_v8438 main_v8441 main_v8427
  let main_c_1332 : IVec S_ 32 := constantI S_ 32 181#32
  let main_v8443 : IVec S2x256x256 32 := broadcastInDim S2x256x256 ![] bcast_S_S2x256x256 main_c_1332
  let main_v8444 : IVec S2x256x256 1 := cmpi .eq main_v4988 main_v8443
  let main_v8445 : IVec S2x256x256 1 := andi main_v8435 main_v8444
  let main_v8446 : FVec F S2x256x256 .f32 := select main_v8445 main_v8433 main_v8442
  let main_v8447 : FVec F S2x1x256 .f32 := (extractStridedSlice S2x1x256 ![0, 182, 0] · slices_S2x256x256_S2x1x256_0_182_0) main_v8446
  let main_v8448 : FVec F S2x256x1 .f32 := (extractStridedSlice S2x256x1 ![0, 0, 182] · slices_S2x256x256_S2x256x1_0_0_182) main_v8446
  let main_v8449 : FVec F S2x1x1 .f32 := (extractStridedSlice S2x1x1 ![0, 0, 182] · slices_S2x1x256_S2x1x1_0_0_182) main_v8447
  let main_v8450 : FVec F S2x256x1 .f32 := broadcastInDim S2x256x1 ![0, 1, 2] bcast_S2x1x1_S2x256x1_0_1_2 main_v8449
  let main_v8451 : FVec F S2x256x1 .f32 := Host.divf main_v8448 main_v8450
  let main_v8452 : FVec F S2x256x256 .f32 := broadcastInDim S2x256x256 ![0, 1, 2] bcast_S2x256x1_S2x256x256_0_1_2 main_v8451
  let main_c_1333 : IVec S_ 32 := constantI S_ 32 182#32
  let main_v8453 : IVec S2x256x256 32 := broadcastInDim S2x256x256 ![] bcast_S_S2x256x256 main_c_1333
  let main_v8454 : IVec S2x256x256 1 := cmpi .sgt main_v4987 main_v8453
  let main_c_1334 : IVec S_ 32 := constantI S_ 32 182#32
  let main_v8455 : IVec S2x256x256 32 := broadcastInDim S2x256x256 ![] bcast_S_S2x256x256 main_c_1334
  fn_part408 (F := F) main_arg0 main_v8 main_v4875 main_v4987 main_v4988 main_v8446 main_v8447 main_v8452 main_v8454 main_v8455

def fn_part406 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8408 : FVec F S2x256x256 .f32) (main_v8409 : FVec F S2x1x256 .f32) (main_v8414 : FVec F S2x256x256 .f32) (main_c_1327 : IVec S_ 32) : IVec S9x256x256 1 × IVec S8x256x256 1 :=
  let main_v8415 : IVec S2x256x256 32 := broadcastInDim S2x256x256 ![] bcast_S_S2x256x256 main_c_1327
  let main_v8416 : IVec S2x256x256 1 := cmpi .sgt main_v4987 main_v8415
  let main_c_1328 : IVec S_ 32 := constantI S_ 32 180#32
  let main_v8417 : IVec S2x256x256 32 := broadcastInDim S2x256x256 ![] bcast_S_S2x256x256 main_c_1328
  let main_v8418 : IVec S2x256x256 1 := cmpi .sgt main_v4988 main_v8417
  let main_v8419 : IVec S2x256x256 1 := andi main_v8416 main_v8418
  let main_v8420 : FVec F S2x256x256 .f32 := broadcastInDim S2x256x256 ![0, 1, 2] bcast_S2x1x256_S2x256x256_0_1_2 main_v8409
  let main_v8421 : FVec F S2x256x256 .f32 := mulf main_v8414 main_v8420
  let main_v8422 : FVec F S2x256x256 .f32 := subf main_v8408 main_v8421
  let main_v8423 : FVec F S2x256x256 .f32 := select main_v8419 main_v8422 main_v8408
  let main_c_1329 : IVec S_ 32 := constantI S_ 32 180#32
  let main_v8424 : IVec S2x256x256 32 := broadcastInDim S2x256x256 ![] bcast_S_S2x256x256 main_c_1329
  let main_v8425 : IVec S2x256x256 1 := cmpi .eq main_v4988 main_v8424
  let main_v8426 : IVec S2x256x256 1 := andi main_v8416 main_v8425
  let main_v8427 : FVec F S2x256x256 .f32 := select main_v8426 main_v8414 main_v8423
  let main_v8428 : FVec F S2x1x256 .f32 := (extractStridedSlice S2x1x256 ![0, 181, 0] · slices_S2x256x256_S2x1x256_0_181_0) main_v8427
  let main_v8429 : FVec F S2x256x1 .f32 := (extractStridedSlice S2x256x1 ![0, 0, 181] · slices_S2x256x256_S2x256x1_0_0_181) main_v8427
  let main_v8430 : FVec F S2x1x1 .f32 := (extractStridedSlice S2x1x1 ![0, 0, 181] · slices_S2x1x256_S2x1x1_0_0_181) main_v8428
  let main_v8431 : FVec F S2x256x1 .f32 := broadcastInDim S2x256x1 ![0, 1, 2] bcast_S2x1x1_S2x256x1_0_1_2 main_v8430
  let main_v8432 : FVec F S2x256x1 .f32 := Host.divf main_v8429 main_v8431
  let main_v8433 : FVec F S2x256x256 .f32 := broadcastInDim S2x256x256 ![0, 1, 2] bcast_S2x256x1_S2x256x256_0_1_2 main_v8432
  let main_c_1330 : IVec S_ 32 := constantI S_ 32 181#32
  let main_v8434 : IVec S2x256x256 32 := broadcastInDim S2x256x256 ![] bcast_S_S2x256x256 main_c_1330
  let main_v8435 : IVec S2x256x256 1 := cmpi .sgt main_v4987 main_v8434
  fn_part407 (F := F) main_arg0 main_v8 main_v4875 main_v4987 main_v4988 main_v8427 main_v8428 main_v8433 main_v8435

def fn_part405 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8389 : FVec F S2x256x256 .f32) (main_v8390 : FVec F S2x1x256 .f32) (main_v8394 : FVec F S2x256x1 .f32) : IVec S9x256x256 1 × IVec S8x256x256 1 :=
  let main_v8395 : FVec F S2x256x256 .f32 := broadcastInDim S2x256x256 ![0, 1, 2] bcast_S2x256x1_S2x256x256_0_1_2 main_v8394
  let main_c_1324 : IVec S_ 32 := constantI S_ 32 179#32
  let main_v8396 : IVec S2x256x256 32 := broadcastInDim S2x256x256 ![] bcast_S_S2x256x256 main_c_1324
  let main_v8397 : IVec S2x256x256 1 := cmpi .sgt main_v4987 main_v8396
  let main_c_1325 : IVec S_ 32 := constantI S_ 32 179#32
  let main_v8398 : IVec S2x256x256 32 := broadcastInDim S2x256x256 ![] bcast_S_S2x256x256 main_c_1325
  let main_v8399 : IVec S2x256x256 1 := cmpi .sgt main_v4988 main_v8398
  let main_v8400 : IVec S2x256x256 1 := andi main_v8397 main_v8399
  let main_v8401 : FVec F S2x256x256 .f32 := broadcastInDim S2x256x256 ![0, 1, 2] bcast_S2x1x256_S2x256x256_0_1_2 main_v8390
  let main_v8402 : FVec F S2x256x256 .f32 := mulf main_v8395 main_v8401
  let main_v8403 : FVec F S2x256x256 .f32 := subf main_v8389 main_v8402
  let main_v8404 : FVec F S2x256x256 .f32 := select main_v8400 main_v8403 main_v8389
  let main_c_1326 : IVec S_ 32 := constantI S_ 32 179#32
  let main_v8405 : IVec S2x256x256 32 := broadcastInDim S2x256x256 ![] bcast_S_S2x256x256 main_c_1326
  let main_v8406 : IVec S2x256x256 1 := cmpi .eq main_v4988 main_v8405
  let main_v8407 : IVec S2x256x256 1 := andi main_v8397 main_v8406
  let main_v8408 : FVec F S2x256x256 .f32 := select main_v8407 main_v8395 main_v8404
  let main_v8409 : FVec F S2x1x256 .f32 := (extractStridedSlice S2x1x256 ![0, 180, 0] · slices_S2x256x256_S2x1x256_0_180_0) main_v8408
  let main_v8410 : FVec F S2x256x1 .f32 := (extractStridedSlice S2x256x1 ![0, 0, 180] · slices_S2x256x256_S2x256x1_0_0_180) main_v8408
  let main_v8411 : FVec F S2x1x1 .f32 := (extractStridedSlice S2x1x1 ![0, 0, 180] · slices_S2x1x256_S2x1x1_0_0_180) main_v8409
  let main_v8412 : FVec F S2x256x1 .f32 := broadcastInDim S2x256x1 ![0, 1, 2] bcast_S2x1x1_S2x256x1_0_1_2 main_v8411
  let main_v8413 : FVec F S2x256x1 .f32 := Host.divf main_v8410 main_v8412
  let main_v8414 : FVec F S2x256x256 .f32 := broadcastInDim S2x256x256 ![0, 1, 2] bcast_S2x256x1_S2x256x256_0_1_2 main_v8413
  let main_c_1327 : IVec S_ 32 := constantI S_ 32 180#32
  fn_part406 (F := F) main_arg0 main_v8 main_v4875 main_v4987 main_v4988 main_v8408 main_v8409 main_v8414 main_c_1327

def fn_part404 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8370 : FVec F S2x256x256 .f32) (main_v8371 : FVec F S2x1x256 .f32) (main_v8372 : FVec F S2x256x1 .f32) (main_v8373 : FVec F S2x1x1 .f32) : IVec S9x256x256 1 × IVec S8x256x256 1 :=
  let main_v8374 : FVec F S2x256x1 .f32 := broadcastInDim S2x256x1 ![0, 1, 2] bcast_S2x1x1_S2x256x1_0_1_2 main_v8373
  let main_v8375 : FVec F S2x256x1 .f32 := Host.divf main_v8372 main_v8374
  let main_v8376 : FVec F S2x256x256 .f32 := broadcastInDim S2x256x256 ![0, 1, 2] bcast_S2x256x1_S2x256x256_0_1_2 main_v8375
  let main_c_1321 : IVec S_ 32 := constantI S_ 32 178#32
  let main_v8377 : IVec S2x256x256 32 := broadcastInDim S2x256x256 ![] bcast_S_S2x256x256 main_c_1321
  let main_v8378 : IVec S2x256x256 1 := cmpi .sgt main_v4987 main_v8377
  let main_c_1322 : IVec S_ 32 := constantI S_ 32 178#32
  let main_v8379 : IVec S2x256x256 32 := broadcastInDim S2x256x256 ![] bcast_S_S2x256x256 main_c_1322
  let main_v8380 : IVec S2x256x256 1 := cmpi .sgt main_v4988 main_v8379
  let main_v8381 : IVec S2x256x256 1 := andi main_v8378 main_v8380
  let main_v8382 : FVec F S2x256x256 .f32 := broadcastInDim S2x256x256 ![0, 1, 2] bcast_S2x1x256_S2x256x256_0_1_2 main_v8371
  let main_v8383 : FVec F S2x256x256 .f32 := mulf main_v8376 main_v8382
  let main_v8384 : FVec F S2x256x256 .f32 := subf main_v8370 main_v8383
  let main_v8385 : FVec F S2x256x256 .f32 := select main_v8381 main_v8384 main_v8370
  let main_c_1323 : IVec S_ 32 := constantI S_ 32 178#32
  let main_v8386 : IVec S2x256x256 32 := broadcastInDim S2x256x256 ![] bcast_S_S2x256x256 main_c_1323
  let main_v8387 : IVec S2x256x256 1 := cmpi .eq main_v4988 main_v8386
  let main_v8388 : IVec S2x256x256 1 := andi main_v8378 main_v8387
  let main_v8389 : FVec F S2x256x256 .f32 := select main_v8388 main_v8376 main_v8385
  let main_v8390 : FVec F S2x1x256 .f32 := (extractStridedSlice S2x1x256 ![0, 179, 0] · slices_S2x256x256_S2x1x256_0_179_0) main_v8389
  let main_v8391 : FVec F S2x256x1 .f32 := (extractStridedSlice S2x256x1 ![0, 0, 179] · slices_S2x256x256_S2x256x1_0_0_179) main_v8389
  let main_v8392 : FVec F S2x1x1 .f32 := (extractStridedSlice S2x1x1 ![0, 0, 179] · slices_S2x1x256_S2x1x1_0_0_179) main_v8390
  let main_v8393 : FVec F S2x256x1 .f32 := broadcastInDim S2x256x1 ![0, 1, 2] bcast_S2x1x1_S2x256x1_0_1_2 main_v8392
  let main_v8394 : FVec F S2x256x1 .f32 := Host.divf main_v8391 main_v8393
  fn_part405 (F := F) main_arg0 main_v8 main_v4875 main_v4987 main_v4988 main_v8389 main_v8390 main_v8394

def fn_part403 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8351 : FVec F S2x256x256 .f32) (main_v8352 : FVec F S2x1x256 .f32) : IVec S9x256x256 1 × IVec S8x256x256 1 :=
  let main_v8353 : FVec F S2x256x1 .f32 := (extractStridedSlice S2x256x1 ![0, 0, 177] · slices_S2x256x256_S2x256x1_0_0_177) main_v8351
  let main_v8354 : FVec F S2x1x1 .f32 := (extractStridedSlice S2x1x1 ![0, 0, 177] · slices_S2x1x256_S2x1x1_0_0_177) main_v8352
  let main_v8355 : FVec F S2x256x1 .f32 := broadcastInDim S2x256x1 ![0, 1, 2] bcast_S2x1x1_S2x256x1_0_1_2 main_v8354
  let main_v8356 : FVec F S2x256x1 .f32 := Host.divf main_v8353 main_v8355
  let main_v8357 : FVec F S2x256x256 .f32 := broadcastInDim S2x256x256 ![0, 1, 2] bcast_S2x256x1_S2x256x256_0_1_2 main_v8356
  let main_c_1318 : IVec S_ 32 := constantI S_ 32 177#32
  let main_v8358 : IVec S2x256x256 32 := broadcastInDim S2x256x256 ![] bcast_S_S2x256x256 main_c_1318
  let main_v8359 : IVec S2x256x256 1 := cmpi .sgt main_v4987 main_v8358
  let main_c_1319 : IVec S_ 32 := constantI S_ 32 177#32
  let main_v8360 : IVec S2x256x256 32 := broadcastInDim S2x256x256 ![] bcast_S_S2x256x256 main_c_1319
  let main_v8361 : IVec S2x256x256 1 := cmpi .sgt main_v4988 main_v8360
  let main_v8362 : IVec S2x256x256 1 := andi main_v8359 main_v8361
  let main_v8363 : FVec F S2x256x256 .f32 := broadcastInDim S2x256x256 ![0, 1, 2] bcast_S2x1x256_S2x256x256_0_1_2 main_v8352
  let main_v8364 : FVec F S2x256x256 .f32 := mulf main_v8357 main_v8363
  let main_v8365 : FVec F S2x256x256 .f32 := subf main_v8351 main_v8364
  let main_v8366 : FVec F S2x256x256 .f32 := select main_v8362 main_v8365 main_v8351
  let main_c_1320 : IVec S_ 32 := constantI S_ 32 177#32
  let main_v8367 : IVec S2x256x256 32 := broadcastInDim S2x256x256 ![] bcast_S_S2x256x256 main_c_1320
  let main_v8368 : IVec S2x256x256 1 := cmpi .eq main_v4988 main_v8367
  let main_v8369 : IVec S2x256x256 1 := andi main_v8359 main_v8368
  let main_v8370 : FVec F S2x256x256 .f32 := select main_v8369 main_v8357 main_v8366
  let main_v8371 : FVec F S2x1x256 .f32 := (extractStridedSlice S2x1x256 ![0, 178, 0] · slices_S2x256x256_S2x1x256_0_178_0) main_v8370
  let main_v8372 : FVec F S2x256x1 .f32 := (extractStridedSlice S2x256x1 ![0, 0, 178] · slices_S2x256x256_S2x256x1_0_0_178) main_v8370
  let main_v8373 : FVec F S2x1x1 .f32 := (extractStridedSlice S2x1x1 ![0, 0, 178] · slices_S2x1x256_S2x1x1_0_0_178) main_v8371
  fn_part404 (F := F) main_arg0 main_v8 main_v4875 main_v4987 main_v4988 main_v8370 main_v8371 main_v8372 main_v8373

def fn_part402 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8319 : FVec F S2x256x256 .f32) (main_v8328 : FVec F S2x256x256 .f32) (main_v8331 : IVec S2x256x256 1) : IVec S9x256x256 1 × IVec S8x256x256 1 :=
  let main_v8332 : FVec F S2x256x256 .f32 := select main_v8331 main_v8319 main_v8328
  let main_v8333 : FVec F S2x1x256 .f32 := (extractStridedSlice S2x1x256 ![0, 176, 0] · slices_S2x256x256_S2x1x256_0_176_0) main_v8332
  let main_v8334 : FVec F S2x256x1 .f32 := (extractStridedSlice S2x256x1 ![0, 0, 176] · slices_S2x256x256_S2x256x1_0_0_176) main_v8332
  let main_v8335 : FVec F S2x1x1 .f32 := (extractStridedSlice S2x1x1 ![0, 0, 176] · slices_S2x1x256_S2x1x1_0_0_176) main_v8333
  let main_v8336 : FVec F S2x256x1 .f32 := broadcastInDim S2x256x1 ![0, 1, 2] bcast_S2x1x1_S2x256x1_0_1_2 main_v8335
  let main_v8337 : FVec F S2x256x1 .f32 := Host.divf main_v8334 main_v8336
  let main_v8338 : FVec F S2x256x256 .f32 := broadcastInDim S2x256x256 ![0, 1, 2] bcast_S2x256x1_S2x256x256_0_1_2 main_v8337
  let main_c_1315 : IVec S_ 32 := constantI S_ 32 176#32
  let main_v8339 : IVec S2x256x256 32 := broadcastInDim S2x256x256 ![] bcast_S_S2x256x256 main_c_1315
  let main_v8340 : IVec S2x256x256 1 := cmpi .sgt main_v4987 main_v8339
  let main_c_1316 : IVec S_ 32 := constantI S_ 32 176#32
  let main_v8341 : IVec S2x256x256 32 := broadcastInDim S2x256x256 ![] bcast_S_S2x256x256 main_c_1316
  let main_v8342 : IVec S2x256x256 1 := cmpi .sgt main_v4988 main_v8341
  let main_v8343 : IVec S2x256x256 1 := andi main_v8340 main_v8342
  let main_v8344 : FVec F S2x256x256 .f32 := broadcastInDim S2x256x256 ![0, 1, 2] bcast_S2x1x256_S2x256x256_0_1_2 main_v8333
  let main_v8345 : FVec F S2x256x256 .f32 := mulf main_v8338 main_v8344
  let main_v8346 : FVec F S2x256x256 .f32 := subf main_v8332 main_v8345
  let main_v8347 : FVec F S2x256x256 .f32 := select main_v8343 main_v8346 main_v8332
  let main_c_1317 : IVec S_ 32 := constantI S_ 32 176#32
  let main_v8348 : IVec S2x256x256 32 := broadcastInDim S2x256x256 ![] bcast_S_S2x256x256 main_c_1317
  let main_v8349 : IVec S2x256x256 1 := cmpi .eq main_v4988 main_v8348
  let main_v8350 : IVec S2x256x256 1 := andi main_v8340 main_v8349
  let main_v8351 : FVec F S2x256x256 .f32 := select main_v8350 main_v8338 main_v8347
  let main_v8352 : FVec F S2x1x256 .f32 := (extractStridedSlice S2x1x256 ![0, 177, 0] · slices_S2x256x256_S2x1x256_0_177_0) main_v8351
  fn_part403 (F := F) main_arg0 main_v8 main_v4875 main_v4987 main_v4988 main_v8351 main_v8352

def fn_part401 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8300 : FVec F S2x256x256 .f32) (main_v8302 : IVec S2x256x256 1) (main_v8309 : FVec F S2x256x256 .f32) (main_v8310 : IVec S2x256x256 32) : IVec S9x256x256 1 × IVec S8x256x256 1 :=
  let main_v8311 : IVec S2x256x256 1 := cmpi .eq main_v4988 main_v8310
  let main_v8312 : IVec S2x256x256 1 := andi main_v8302 main_v8311
  let main_v8313 : FVec F S2x256x256 .f32 := select main_v8312 main_v8300 main_v8309
  let main_v8314 : FVec F S2x1x256 .f32 := (extractStridedSlice S2x1x256 ![0, 175, 0] · slices_S2x256x256_S2x1x256_0_175_0) main_v8313
  let main_v8315 : FVec F S2x256x1 .f32 := (extractStridedSlice S2x256x1 ![0, 0, 175] · slices_S2x256x256_S2x256x1_0_0_175) main_v8313
  let main_v8316 : FVec F S2x1x1 .f32 := (extractStridedSlice S2x1x1 ![0, 0, 175] · slices_S2x1x256_S2x1x1_0_0_175) main_v8314
  let main_v8317 : FVec F S2x256x1 .f32 := broadcastInDim S2x256x1 ![0, 1, 2] bcast_S2x1x1_S2x256x1_0_1_2 main_v8316
  let main_v8318 : FVec F S2x256x1 .f32 := Host.divf main_v8315 main_v8317
  let main_v8319 : FVec F S2x256x256 .f32 := broadcastInDim S2x256x256 ![0, 1, 2] bcast_S2x256x1_S2x256x256_0_1_2 main_v8318
  let main_c_1312 : IVec S_ 32 := constantI S_ 32 175#32
  let main_v8320 : IVec S2x256x256 32 := broadcastInDim S2x256x256 ![] bcast_S_S2x256x256 main_c_1312
  let main_v8321 : IVec S2x256x256 1 := cmpi .sgt main_v4987 main_v8320
  let main_c_1313 : IVec S_ 32 := constantI S_ 32 175#32
  let main_v8322 : IVec S2x256x256 32 := broadcastInDim S2x256x256 ![] bcast_S_S2x256x256 main_c_1313
  let main_v8323 : IVec S2x256x256 1 := cmpi .sgt main_v4988 main_v8322
  let main_v8324 : IVec S2x256x256 1 := andi main_v8321 main_v8323
  let main_v8325 : FVec F S2x256x256 .f32 := broadcastInDim S2x256x256 ![0, 1, 2] bcast_S2x1x256_S2x256x256_0_1_2 main_v8314
  let main_v8326 : FVec F S2x256x256 .f32 := mulf main_v8319 main_v8325
  let main_v8327 : FVec F S2x256x256 .f32 := subf main_v8313 main_v8326
  let main_v8328 : FVec F S2x256x256 .f32 := select main_v8324 main_v8327 main_v8313
  let main_c_1314 : IVec S_ 32 := constantI S_ 32 175#32
  let main_v8329 : IVec S2x256x256 32 := broadcastInDim S2x256x256 ![] bcast_S_S2x256x256 main_c_1314
  let main_v8330 : IVec S2x256x256 1 := cmpi .eq main_v4988 main_v8329
  let main_v8331 : IVec S2x256x256 1 := andi main_v8321 main_v8330
  fn_part402 (F := F) main_arg0 main_v8 main_v4875 main_v4987 main_v4988 main_v8319 main_v8328 main_v8331

def fn_part400 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8281 : FVec F S2x256x256 .f32) (main_v8283 : IVec S2x256x256 1) (main_v8290 : FVec F S2x256x256 .f32) : IVec S9x256x256 1 × IVec S8x256x256 1 :=
  let main_c_1308 : IVec S_ 32 := constantI S_ 32 173#32
  let main_v8291 : IVec S2x256x256 32 := broadcastInDim S2x256x256 ![] bcast_S_S2x256x256 main_c_1308
  let main_v8292 : IVec S2x256x256 1 := cmpi .eq main_v4988 main_v8291
  let main_v8293 : IVec S2x256x256 1 := andi main_v8283 main_v8292
  let main_v8294 : FVec F S2x256x256 .f32 := select main_v8293 main_v8281 main_v8290
  let main_v8295 : FVec F S2x1x256 .f32 := (extractStridedSlice S2x1x256 ![0, 174, 0] · slices_S2x256x256_S2x1x256_0_174_0) main_v8294
  let main_v8296 : FVec F S2x256x1 .f32 := (extractStridedSlice S2x256x1 ![0, 0, 174] · slices_S2x256x256_S2x256x1_0_0_174) main_v8294
  let main_v8297 : FVec F S2x1x1 .f32 := (extractStridedSlice S2x1x1 ![0, 0, 174] · slices_S2x1x256_S2x1x1_0_0_174) main_v8295
  let main_v8298 : FVec F S2x256x1 .f32 := broadcastInDim S2x256x1 ![0, 1, 2] bcast_S2x1x1_S2x256x1_0_1_2 main_v8297
  let main_v8299 : FVec F S2x256x1 .f32 := Host.divf main_v8296 main_v8298
  let main_v8300 : FVec F S2x256x256 .f32 := broadcastInDim S2x256x256 ![0, 1, 2] bcast_S2x256x1_S2x256x256_0_1_2 main_v8299
  let main_c_1309 : IVec S_ 32 := constantI S_ 32 174#32
  let main_v8301 : IVec S2x256x256 32 := broadcastInDim S2x256x256 ![] bcast_S_S2x256x256 main_c_1309
  let main_v8302 : IVec S2x256x256 1 := cmpi .sgt main_v4987 main_v8301
  let main_c_1310 : IVec S_ 32 := constantI S_ 32 174#32
  let main_v8303 : IVec S2x256x256 32 := broadcastInDim S2x256x256 ![] bcast_S_S2x256x256 main_c_1310
  let main_v8304 : IVec S2x256x256 1 := cmpi .sgt main_v4988 main_v8303
  let main_v8305 : IVec S2x256x256 1 := andi main_v8302 main_v8304
  let main_v8306 : FVec F S2x256x256 .f32 := broadcastInDim S2x256x256 ![0, 1, 2] bcast_S2x1x256_S2x256x256_0_1_2 main_v8295
  let main_v8307 : FVec F S2x256x256 .f32 := mulf main_v8300 main_v8306
  let main_v8308 : FVec F S2x256x256 .f32 := subf main_v8294 main_v8307
  let main_v8309 : FVec F S2x256x256 .f32 := select main_v8305 main_v8308 main_v8294
  let main_c_1311 : IVec S_ 32 := constantI S_ 32 174#32
  let main_v8310 : IVec S2x256x256 32 := broadcastInDim S2x256x256 ![] bcast_S_S2x256x256 main_c_1311
  fn_part401 (F := F) main_arg0 main_v8 main_v4875 main_v4987 main_v4988 main_v8300 main_v8302 main_v8309 main_v8310

def fn_part399 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8256 : FVec F S2x256x256 .f32) (main_v8262 : FVec F S2x256x256 .f32) (main_v8264 : IVec S2x256x256 1) (main_v8267 : IVec S2x256x256 1) (main_v8269 : FVec F S2x256x256 .f32) : IVec S9x256x256 1 × IVec S8x256x256 1 :=
  let main_v8270 : FVec F S2x256x256 .f32 := subf main_v8256 main_v8269
  let main_v8271 : FVec F S2x256x256 .f32 := select main_v8267 main_v8270 main_v8256
  let main_c_1305 : IVec S_ 32 := constantI S_ 32 172#32
  let main_v8272 : IVec S2x256x256 32 := broadcastInDim S2x256x256 ![] bcast_S_S2x256x256 main_c_1305
  let main_v8273 : IVec S2x256x256 1 := cmpi .eq main_v4988 main_v8272
  let main_v8274 : IVec S2x256x256 1 := andi main_v8264 main_v8273
  let main_v8275 : FVec F S2x256x256 .f32 := select main_v8274 main_v8262 main_v8271
  let main_v8276 : FVec F S2x1x256 .f32 := (extractStridedSlice S2x1x256 ![0, 173, 0] · slices_S2x256x256_S2x1x256_0_173_0) main_v8275
  let main_v8277 : FVec F S2x256x1 .f32 := (extractStridedSlice S2x256x1 ![0, 0, 173] · slices_S2x256x256_S2x256x1_0_0_173) main_v8275
  let main_v8278 : FVec F S2x1x1 .f32 := (extractStridedSlice S2x1x1 ![0, 0, 173] · slices_S2x1x256_S2x1x1_0_0_173) main_v8276
  let main_v8279 : FVec F S2x256x1 .f32 := broadcastInDim S2x256x1 ![0, 1, 2] bcast_S2x1x1_S2x256x1_0_1_2 main_v8278
  let main_v8280 : FVec F S2x256x1 .f32 := Host.divf main_v8277 main_v8279
  let main_v8281 : FVec F S2x256x256 .f32 := broadcastInDim S2x256x256 ![0, 1, 2] bcast_S2x256x1_S2x256x256_0_1_2 main_v8280
  let main_c_1306 : IVec S_ 32 := constantI S_ 32 173#32
  let main_v8282 : IVec S2x256x256 32 := broadcastInDim S2x256x256 ![] bcast_S_S2x256x256 main_c_1306
  let main_v8283 : IVec S2x256x256 1 := cmpi .sgt main_v4987 main_v8282
  let main_c_1307 : IVec S_ 32 := constantI S_ 32 173#32
  let main_v8284 : IVec S2x256x256 32 := broadcastInDim S2x256x256 ![] bcast_S_S2x256x256 main_c_1307
  let main_v8285 : IVec S2x256x256 1 := cmpi .sgt main_v4988 main_v8284
  let main_v8286 : IVec S2x256x256 1 := andi main_v8283 main_v8285
  let main_v8287 : FVec F S2x256x256 .f32 := broadcastInDim S2x256x256 ![0, 1, 2] bcast_S2x1x256_S2x256x256_0_1_2 main_v8276
  let main_v8288 : FVec F S2x256x256 .f32 := mulf main_v8281 main_v8287
  let main_v8289 : FVec F S2x256x256 .f32 := subf main_v8275 main_v8288
  let main_v8290 : FVec F S2x256x256 .f32 := select main_v8286 main_v8289 main_v8275
  fn_part400 (F := F) main_arg0 main_v8 main_v4875 main_v4987 main_v4988 main_v8281 main_v8283 main_v8290

def fn_part398 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8237 : FVec F S2x256x256 .f32) (main_v8238 : FVec F S2x1x256 .f32) (main_v8243 : FVec F S2x256x256 .f32) (main_v8245 : IVec S2x256x256 1) (main_v8248 : IVec S2x256x256 1) : IVec S9x256x256 1 × IVec S8x256x256 1 :=
  let main_v8249 : FVec F S2x256x256 .f32 := broadcastInDim S2x256x256 ![0, 1, 2] bcast_S2x1x256_S2x256x256_0_1_2 main_v8238
  let main_v8250 : FVec F S2x256x256 .f32 := mulf main_v8243 main_v8249
  let main_v8251 : FVec F S2x256x256 .f32 := subf main_v8237 main_v8250
  let main_v8252 : FVec F S2x256x256 .f32 := select main_v8248 main_v8251 main_v8237
  let main_c_1302 : IVec S_ 32 := constantI S_ 32 171#32
  let main_v8253 : IVec S2x256x256 32 := broadcastInDim S2x256x256 ![] bcast_S_S2x256x256 main_c_1302
  let main_v8254 : IVec S2x256x256 1 := cmpi .eq main_v4988 main_v8253
  let main_v8255 : IVec S2x256x256 1 := andi main_v8245 main_v8254
  let main_v8256 : FVec F S2x256x256 .f32 := select main_v8255 main_v8243 main_v8252
  let main_v8257 : FVec F S2x1x256 .f32 := (extractStridedSlice S2x1x256 ![0, 172, 0] · slices_S2x256x256_S2x1x256_0_172_0) main_v8256
  let main_v8258 : FVec F S2x256x1 .f32 := (extractStridedSlice S2x256x1 ![0, 0, 172] · slices_S2x256x256_S2x256x1_0_0_172) main_v8256
  let main_v8259 : FVec F S2x1x1 .f32 := (extractStridedSlice S2x1x1 ![0, 0, 172] · slices_S2x1x256_S2x1x1_0_0_172) main_v8257
  let main_v8260 : FVec F S2x256x1 .f32 := broadcastInDim S2x256x1 ![0, 1, 2] bcast_S2x1x1_S2x256x1_0_1_2 main_v8259
  let main_v8261 : FVec F S2x256x1 .f32 := Host.divf main_v8258 main_v8260
  let main_v8262 : FVec F S2x256x256 .f32 := broadcastInDim S2x256x256 ![0, 1, 2] bcast_S2x256x1_S2x256x256_0_1_2 main_v8261
  let main_c_1303 : IVec S_ 32 := constantI S_ 32 172#32
  let main_v8263 : IVec S2x256x256 32 := broadcastInDim S2x256x256 ![] bcast_S_S2x256x256 main_c_1303
  let main_v8264 : IVec S2x256x256 1 := cmpi .sgt main_v4987 main_v8263
  let main_c_1304 : IVec S_ 32 := constantI S_ 32 172#32
  let main_v8265 : IVec S2x256x256 32 := broadcastInDim S2x256x256 ![] bcast_S_S2x256x256 main_c_1304
  let main_v8266 : IVec S2x256x256 1 := cmpi .sgt main_v4988 main_v8265
  let main_v8267 : IVec S2x256x256 1 := andi main_v8264 main_v8266
  let main_v8268 : FVec F S2x256x256 .f32 := broadcastInDim S2x256x256 ![0, 1, 2] bcast_S2x1x256_S2x256x256_0_1_2 main_v8257
  let main_v8269 : FVec F S2x256x256 .f32 := mulf main_v8262 main_v8268
  fn_part399 (F := F) main_arg0 main_v8 main_v4875 main_v4987 main_v4988 main_v8256 main_v8262 main_v8264 main_v8267 main_v8269

def fn_part397 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8218 : FVec F S2x256x256 .f32) (main_v8219 : FVec F S2x1x256 .f32) (main_v8224 : FVec F S2x256x256 .f32) (main_v8226 : IVec S2x256x256 1) (main_v8227 : IVec S2x256x256 32) : IVec S9x256x256 1 × IVec S8x256x256 1 :=
  let main_v8228 : IVec S2x256x256 1 := cmpi .sgt main_v4988 main_v8227
  let main_v8229 : IVec S2x256x256 1 := andi main_v8226 main_v8228
  let main_v8230 : FVec F S2x256x256 .f32 := broadcastInDim S2x256x256 ![0, 1, 2] bcast_S2x1x256_S2x256x256_0_1_2 main_v8219
  let main_v8231 : FVec F S2x256x256 .f32 := mulf main_v8224 main_v8230
  let main_v8232 : FVec F S2x256x256 .f32 := subf main_v8218 main_v8231
  let main_v8233 : FVec F S2x256x256 .f32 := select main_v8229 main_v8232 main_v8218
  let main_c_1299 : IVec S_ 32 := constantI S_ 32 170#32
  let main_v8234 : IVec S2x256x256 32 := broadcastInDim S2x256x256 ![] bcast_S_S2x256x256 main_c_1299
  let main_v8235 : IVec S2x256x256 1 := cmpi .eq main_v4988 main_v8234
  let main_v8236 : IVec S2x256x256 1 := andi main_v8226 main_v8235
  let main_v8237 : FVec F S2x256x256 .f32 := select main_v8236 main_v8224 main_v8233
  let main_v8238 : FVec F S2x1x256 .f32 := (extractStridedSlice S2x1x256 ![0, 171, 0] · slices_S2x256x256_S2x1x256_0_171_0) main_v8237
  let main_v8239 : FVec F S2x256x1 .f32 := (extractStridedSlice S2x256x1 ![0, 0, 171] · slices_S2x256x256_S2x256x1_0_0_171) main_v8237
  let main_v8240 : FVec F S2x1x1 .f32 := (extractStridedSlice S2x1x1 ![0, 0, 171] · slices_S2x1x256_S2x1x1_0_0_171) main_v8238
  let main_v8241 : FVec F S2x256x1 .f32 := broadcastInDim S2x256x1 ![0, 1, 2] bcast_S2x1x1_S2x256x1_0_1_2 main_v8240
  let main_v8242 : FVec F S2x256x1 .f32 := Host.divf main_v8239 main_v8241
  let main_v8243 : FVec F S2x256x256 .f32 := broadcastInDim S2x256x256 ![0, 1, 2] bcast_S2x256x1_S2x256x256_0_1_2 main_v8242
  let main_c_1300 : IVec S_ 32 := constantI S_ 32 171#32
  let main_v8244 : IVec S2x256x256 32 := broadcastInDim S2x256x256 ![] bcast_S_S2x256x256 main_c_1300
  let main_v8245 : IVec S2x256x256 1 := cmpi .sgt main_v4987 main_v8244
  let main_c_1301 : IVec S_ 32 := constantI S_ 32 171#32
  let main_v8246 : IVec S2x256x256 32 := broadcastInDim S2x256x256 ![] bcast_S_S2x256x256 main_c_1301
  let main_v8247 : IVec S2x256x256 1 := cmpi .sgt main_v4988 main_v8246
  let main_v8248 : IVec S2x256x256 1 := andi main_v8245 main_v8247
  fn_part398 (F := F) main_arg0 main_v8 main_v4875 main_v4987 main_v4988 main_v8237 main_v8238 main_v8243 main_v8245 main_v8248

def fn_part396 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8199 : FVec F S2x256x256 .f32) (main_v8200 : FVec F S2x1x256 .f32) (main_v8205 : FVec F S2x256x256 .f32) (main_v8207 : IVec S2x256x256 1) : IVec S9x256x256 1 × IVec S8x256x256 1 :=
  let main_c_1295 : IVec S_ 32 := constantI S_ 32 169#32
  let main_v8208 : IVec S2x256x256 32 := broadcastInDim S2x256x256 ![] bcast_S_S2x256x256 main_c_1295
  let main_v8209 : IVec S2x256x256 1 := cmpi .sgt main_v4988 main_v8208
  let main_v8210 : IVec S2x256x256 1 := andi main_v8207 main_v8209
  let main_v8211 : FVec F S2x256x256 .f32 := broadcastInDim S2x256x256 ![0, 1, 2] bcast_S2x1x256_S2x256x256_0_1_2 main_v8200
  let main_v8212 : FVec F S2x256x256 .f32 := mulf main_v8205 main_v8211
  let main_v8213 : FVec F S2x256x256 .f32 := subf main_v8199 main_v8212
  let main_v8214 : FVec F S2x256x256 .f32 := select main_v8210 main_v8213 main_v8199
  let main_c_1296 : IVec S_ 32 := constantI S_ 32 169#32
  let main_v8215 : IVec S2x256x256 32 := broadcastInDim S2x256x256 ![] bcast_S_S2x256x256 main_c_1296
  let main_v8216 : IVec S2x256x256 1 := cmpi .eq main_v4988 main_v8215
  let main_v8217 : IVec S2x256x256 1 := andi main_v8207 main_v8216
  let main_v8218 : FVec F S2x256x256 .f32 := select main_v8217 main_v8205 main_v8214
  let main_v8219 : FVec F S2x1x256 .f32 := (extractStridedSlice S2x1x256 ![0, 170, 0] · slices_S2x256x256_S2x1x256_0_170_0) main_v8218
  let main_v8220 : FVec F S2x256x1 .f32 := (extractStridedSlice S2x256x1 ![0, 0, 170] · slices_S2x256x256_S2x256x1_0_0_170) main_v8218
  let main_v8221 : FVec F S2x1x1 .f32 := (extractStridedSlice S2x1x1 ![0, 0, 170] · slices_S2x1x256_S2x1x1_0_0_170) main_v8219
  let main_v8222 : FVec F S2x256x1 .f32 := broadcastInDim S2x256x1 ![0, 1, 2] bcast_S2x1x1_S2x256x1_0_1_2 main_v8221
  let main_v8223 : FVec F S2x256x1 .f32 := Host.divf main_v8220 main_v8222
  let main_v8224 : FVec F S2x256x256 .f32 := broadcastInDim S2x256x256 ![0, 1, 2] bcast_S2x256x1_S2x256x256_0_1_2 main_v8223
  let main_c_1297 : IVec S_ 32 := constantI S_ 32 170#32
  let main_v8225 : IVec S2x256x256 32 := broadcastInDim S2x256x256 ![] bcast_S_S2x256x256 main_c_1297
  let main_v8226 : IVec S2x256x256 1 := cmpi .sgt main_v4987 main_v8225
  let main_c_1298 : IVec S_ 32 := constantI S_ 32 170#32
  let main_v8227 : IVec S2x256x256 32 := broadcastInDim S2x256x256 ![] bcast_S_S2x256x256 main_c_1298
  fn_part397 (F := F) main_arg0 main_v8 main_v4875 main_v4987 main_v4988 main_v8218 main_v8219 main_v8224 main_v8226 main_v8227

def fn_part395 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8180 : FVec F S2x256x256 .f32) (main_v8181 : FVec F S2x1x256 .f32) (main_v8186 : FVec F S2x256x256 .f32) (main_c_1291 : IVec S_ 32) : IVec S9x256x256 1 × IVec S8x256x256 1 :=
  let main_v8187 : IVec S2x256x256 32 := broadcastInDim S2x256x256 ![] bcast_S_S2x256x256 main_c_1291
  let main_v8188 : IVec S2x256x256 1 := cmpi .sgt main_v4987 main_v8187
  let main_c_1292 : IVec S_ 32 := constantI S_ 32 168#32
  let main_v8189 : IVec S2x256x256 32 := broadcastInDim S2x256x256 ![] bcast_S_S2x256x256 main_c_1292
  let main_v8190 : IVec S2x256x256 1 := cmpi .sgt main_v4988 main_v8189
  let main_v8191 : IVec S2x256x256 1 := andi main_v8188 main_v8190
  let main_v8192 : FVec F S2x256x256 .f32 := broadcastInDim S2x256x256 ![0, 1, 2] bcast_S2x1x256_S2x256x256_0_1_2 main_v8181
  let main_v8193 : FVec F S2x256x256 .f32 := mulf main_v8186 main_v8192
  let main_v8194 : FVec F S2x256x256 .f32 := subf main_v8180 main_v8193
  let main_v8195 : FVec F S2x256x256 .f32 := select main_v8191 main_v8194 main_v8180
  let main_c_1293 : IVec S_ 32 := constantI S_ 32 168#32
  let main_v8196 : IVec S2x256x256 32 := broadcastInDim S2x256x256 ![] bcast_S_S2x256x256 main_c_1293
  let main_v8197 : IVec S2x256x256 1 := cmpi .eq main_v4988 main_v8196
  let main_v8198 : IVec S2x256x256 1 := andi main_v8188 main_v8197
  let main_v8199 : FVec F S2x256x256 .f32 := select main_v8198 main_v8186 main_v8195
  let main_v8200 : FVec F S2x1x256 .f32 := (extractStridedSlice S2x1x256 ![0, 169, 0] · slices_S2x256x256_S2x1x256_0_169_0) main_v8199
  let main_v8201 : FVec F S2x256x1 .f32 := (extractStridedSlice S2x256x1 ![0, 0, 169] · slices_S2x256x256_S2x256x1_0_0_169) main_v8199
  let main_v8202 : FVec F S2x1x1 .f32 := (extractStridedSlice S2x1x1 ![0, 0, 169] · slices_S2x1x256_S2x1x1_0_0_169) main_v8200
  let main_v8203 : FVec F S2x256x1 .f32 := broadcastInDim S2x256x1 ![0, 1, 2] bcast_S2x1x1_S2x256x1_0_1_2 main_v8202
  let main_v8204 : FVec F S2x256x1 .f32 := Host.divf main_v8201 main_v8203
  let main_v8205 : FVec F S2x256x256 .f32 := broadcastInDim S2x256x256 ![0, 1, 2] bcast_S2x256x1_S2x256x256_0_1_2 main_v8204
  let main_c_1294 : IVec S_ 32 := constantI S_ 32 169#32
  let main_v8206 : IVec S2x256x256 32 := broadcastInDim S2x256x256 ![] bcast_S_S2x256x256 main_c_1294
  let main_v8207 : IVec S2x256x256 1 := cmpi .sgt main_v4987 main_v8206
  fn_part396 (F := F) main_arg0 main_v8 main_v4875 main_v4987 main_v4988 main_v8199 main_v8200 main_v8205 main_v8207

def fn_part394 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8161 : FVec F S2x256x256 .f32) (main_v8162 : FVec F S2x1x256 .f32) (main_v8166 : FVec F S2x256x1 .f32) : IVec S9x256x256 1 × IVec S8x256x256 1 :=
  let main_v8167 : FVec F S2x256x256 .f32 := broadcastInDim S2x256x256 ![0, 1, 2] bcast_S2x256x1_S2x256x256_0_1_2 main_v8166
  let main_c_1288 : IVec S_ 32 := constantI S_ 32 167#32
  let main_v8168 : IVec S2x256x256 32 := broadcastInDim S2x256x256 ![] bcast_S_S2x256x256 main_c_1288
  let main_v8169 : IVec S2x256x256 1 := cmpi .sgt main_v4987 main_v8168
  let main_c_1289 : IVec S_ 32 := constantI S_ 32 167#32
  let main_v8170 : IVec S2x256x256 32 := broadcastInDim S2x256x256 ![] bcast_S_S2x256x256 main_c_1289
  let main_v8171 : IVec S2x256x256 1 := cmpi .sgt main_v4988 main_v8170
  let main_v8172 : IVec S2x256x256 1 := andi main_v8169 main_v8171
  let main_v8173 : FVec F S2x256x256 .f32 := broadcastInDim S2x256x256 ![0, 1, 2] bcast_S2x1x256_S2x256x256_0_1_2 main_v8162
  let main_v8174 : FVec F S2x256x256 .f32 := mulf main_v8167 main_v8173
  let main_v8175 : FVec F S2x256x256 .f32 := subf main_v8161 main_v8174
  let main_v8176 : FVec F S2x256x256 .f32 := select main_v8172 main_v8175 main_v8161
  let main_c_1290 : IVec S_ 32 := constantI S_ 32 167#32
  let main_v8177 : IVec S2x256x256 32 := broadcastInDim S2x256x256 ![] bcast_S_S2x256x256 main_c_1290
  let main_v8178 : IVec S2x256x256 1 := cmpi .eq main_v4988 main_v8177
  let main_v8179 : IVec S2x256x256 1 := andi main_v8169 main_v8178
  let main_v8180 : FVec F S2x256x256 .f32 := select main_v8179 main_v8167 main_v8176
  let main_v8181 : FVec F S2x1x256 .f32 := (extractStridedSlice S2x1x256 ![0, 168, 0] · slices_S2x256x256_S2x1x256_0_168_0) main_v8180
  let main_v8182 : FVec F S2x256x1 .f32 := (extractStridedSlice S2x256x1 ![0, 0, 168] · slices_S2x256x256_S2x256x1_0_0_168) main_v8180
  let main_v8183 : FVec F S2x1x1 .f32 := (extractStridedSlice S2x1x1 ![0, 0, 168] · slices_S2x1x256_S2x1x1_0_0_168) main_v8181
  let main_v8184 : FVec F S2x256x1 .f32 := broadcastInDim S2x256x1 ![0, 1, 2] bcast_S2x1x1_S2x256x1_0_1_2 main_v8183
  let main_v8185 : FVec F S2x256x1 .f32 := Host.divf main_v8182 main_v8184
  let main_v8186 : FVec F S2x256x256 .f32 := broadcastInDim S2x256x256 ![0, 1, 2] bcast_S2x256x1_S2x256x256_0_1_2 main_v8185
  let main_c_1291 : IVec S_ 32 := constantI S_ 32 168#32
  fn_part395 (F := F) main_arg0 main_v8 main_v4875 main_v4987 main_v4988 main_v8180 main_v8181 main_v8186 main_c_1291

def fn_part393 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8142 : FVec F S2x256x256 .f32) (main_v8143 : FVec F S2x1x256 .f32) (main_v8144 : FVec F S2x256x1 .f32) (main_v8145 : FVec F S2x1x1 .f32) : IVec S9x256x256 1 × IVec S8x256x256 1 :=
  let main_v8146 : FVec F S2x256x1 .f32 := broadcastInDim S2x256x1 ![0, 1, 2] bcast_S2x1x1_S2x256x1_0_1_2 main_v8145
  let main_v8147 : FVec F S2x256x1 .f32 := Host.divf main_v8144 main_v8146
  let main_v8148 : FVec F S2x256x256 .f32 := broadcastInDim S2x256x256 ![0, 1, 2] bcast_S2x256x1_S2x256x256_0_1_2 main_v8147
  let main_c_1285 : IVec S_ 32 := constantI S_ 32 166#32
  let main_v8149 : IVec S2x256x256 32 := broadcastInDim S2x256x256 ![] bcast_S_S2x256x256 main_c_1285
  let main_v8150 : IVec S2x256x256 1 := cmpi .sgt main_v4987 main_v8149
  let main_c_1286 : IVec S_ 32 := constantI S_ 32 166#32
  let main_v8151 : IVec S2x256x256 32 := broadcastInDim S2x256x256 ![] bcast_S_S2x256x256 main_c_1286
  let main_v8152 : IVec S2x256x256 1 := cmpi .sgt main_v4988 main_v8151
  let main_v8153 : IVec S2x256x256 1 := andi main_v8150 main_v8152
  let main_v8154 : FVec F S2x256x256 .f32 := broadcastInDim S2x256x256 ![0, 1, 2] bcast_S2x1x256_S2x256x256_0_1_2 main_v8143
  let main_v8155 : FVec F S2x256x256 .f32 := mulf main_v8148 main_v8154
  let main_v8156 : FVec F S2x256x256 .f32 := subf main_v8142 main_v8155
  let main_v8157 : FVec F S2x256x256 .f32 := select main_v8153 main_v8156 main_v8142
  let main_c_1287 : IVec S_ 32 := constantI S_ 32 166#32
  let main_v8158 : IVec S2x256x256 32 := broadcastInDim S2x256x256 ![] bcast_S_S2x256x256 main_c_1287
  let main_v8159 : IVec S2x256x256 1 := cmpi .eq main_v4988 main_v8158
  let main_v8160 : IVec S2x256x256 1 := andi main_v8150 main_v8159
  let main_v8161 : FVec F S2x256x256 .f32 := select main_v8160 main_v8148 main_v8157
  let main_v8162 : FVec F S2x1x256 .f32 := (extractStridedSlice S2x1x256 ![0, 167, 0] · slices_S2x256x256_S2x1x256_0_167_0) main_v8161
  let main_v8163 : FVec F S2x256x1 .f32 := (extractStridedSlice S2x256x1 ![0, 0, 167] · slices_S2x256x256_S2x256x1_0_0_167) main_v8161
  let main_v8164 : FVec F S2x1x1 .f32 := (extractStridedSlice S2x1x1 ![0, 0, 167] · slices_S2x1x256_S2x1x1_0_0_167) main_v8162
  let main_v8165 : FVec F S2x256x1 .f32 := broadcastInDim S2x256x1 ![0, 1, 2] bcast_S2x1x1_S2x256x1_0_1_2 main_v8164
  let main_v8166 : FVec F S2x256x1 .f32 := Host.divf main_v8163 main_v8165
  fn_part394 (F := F) main_arg0 main_v8 main_v4875 main_v4987 main_v4988 main_v8161 main_v8162 main_v8166

def fn_part392 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8123 : FVec F S2x256x256 .f32) (main_v8124 : FVec F S2x1x256 .f32) : IVec S9x256x256 1 × IVec S8x256x256 1 :=
  let main_v8125 : FVec F S2x256x1 .f32 := (extractStridedSlice S2x256x1 ![0, 0, 165] · slices_S2x256x256_S2x256x1_0_0_165) main_v8123
  let main_v8126 : FVec F S2x1x1 .f32 := (extractStridedSlice S2x1x1 ![0, 0, 165] · slices_S2x1x256_S2x1x1_0_0_165) main_v8124
  let main_v8127 : FVec F S2x256x1 .f32 := broadcastInDim S2x256x1 ![0, 1, 2] bcast_S2x1x1_S2x256x1_0_1_2 main_v8126
  let main_v8128 : FVec F S2x256x1 .f32 := Host.divf main_v8125 main_v8127
  let main_v8129 : FVec F S2x256x256 .f32 := broadcastInDim S2x256x256 ![0, 1, 2] bcast_S2x256x1_S2x256x256_0_1_2 main_v8128
  let main_c_1282 : IVec S_ 32 := constantI S_ 32 165#32
  let main_v8130 : IVec S2x256x256 32 := broadcastInDim S2x256x256 ![] bcast_S_S2x256x256 main_c_1282
  let main_v8131 : IVec S2x256x256 1 := cmpi .sgt main_v4987 main_v8130
  let main_c_1283 : IVec S_ 32 := constantI S_ 32 165#32
  let main_v8132 : IVec S2x256x256 32 := broadcastInDim S2x256x256 ![] bcast_S_S2x256x256 main_c_1283
  let main_v8133 : IVec S2x256x256 1 := cmpi .sgt main_v4988 main_v8132
  let main_v8134 : IVec S2x256x256 1 := andi main_v8131 main_v8133
  let main_v8135 : FVec F S2x256x256 .f32 := broadcastInDim S2x256x256 ![0, 1, 2] bcast_S2x1x256_S2x256x256_0_1_2 main_v8124
  let main_v8136 : FVec F S2x256x256 .f32 := mulf main_v8129 main_v8135
  let main_v8137 : FVec F S2x256x256 .f32 := subf main_v8123 main_v8136
  let main_v8138 : FVec F S2x256x256 .f32 := select main_v8134 main_v8137 main_v8123
  let main_c_1284 : IVec S_ 32 := constantI S_ 32 165#32
  let main_v8139 : IVec S2x256x256 32 := broadcastInDim S2x256x256 ![] bcast_S_S2x256x256 main_c_1284
  let main_v8140 : IVec S2x256x256 1 := cmpi .eq main_v4988 main_v8139
  let main_v8141 : IVec S2x256x256 1 := andi main_v8131 main_v8140
  let main_v8142 : FVec F S2x256x256 .f32 := select main_v8141 main_v8129 main_v8138
  let main_v8143 : FVec F S2x1x256 .f32 := (extractStridedSlice S2x1x256 ![0, 166, 0] · slices_S2x256x256_S2x1x256_0_166_0) main_v8142
  let main_v8144 : FVec F S2x256x1 .f32 := (extractStridedSlice S2x256x1 ![0, 0, 166] · slices_S2x256x256_S2x256x1_0_0_166) main_v8142
  let main_v8145 : FVec F S2x1x1 .f32 := (extractStridedSlice S2x1x1 ![0, 0, 166] · slices_S2x1x256_S2x1x1_0_0_166) main_v8143
  fn_part393 (F := F) main_arg0 main_v8 main_v4875 main_v4987 main_v4988 main_v8142 main_v8143 main_v8144 main_v8145

def fn_part391 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8091 : FVec F S2x256x256 .f32) (main_v8100 : FVec F S2x256x256 .f32) (main_v8103 : IVec S2x256x256 1) : IVec S9x256x256 1 × IVec S8x256x256 1 :=
  let main_v8104 : FVec F S2x256x256 .f32 := select main_v8103 main_v8091 main_v8100
  let main_v8105 : FVec F S2x1x256 .f32 := (extractStridedSlice S2x1x256 ![0, 164, 0] · slices_S2x256x256_S2x1x256_0_164_0) main_v8104
  let main_v8106 : FVec F S2x256x1 .f32 := (extractStridedSlice S2x256x1 ![0, 0, 164] · slices_S2x256x256_S2x256x1_0_0_164) main_v8104
  let main_v8107 : FVec F S2x1x1 .f32 := (extractStridedSlice S2x1x1 ![0, 0, 164] · slices_S2x1x256_S2x1x1_0_0_164) main_v8105
  let main_v8108 : FVec F S2x256x1 .f32 := broadcastInDim S2x256x1 ![0, 1, 2] bcast_S2x1x1_S2x256x1_0_1_2 main_v8107
  let main_v8109 : FVec F S2x256x1 .f32 := Host.divf main_v8106 main_v8108
  let main_v8110 : FVec F S2x256x256 .f32 := broadcastInDim S2x256x256 ![0, 1, 2] bcast_S2x256x1_S2x256x256_0_1_2 main_v8109
  let main_c_1279 : IVec S_ 32 := constantI S_ 32 164#32
  let main_v8111 : IVec S2x256x256 32 := broadcastInDim S2x256x256 ![] bcast_S_S2x256x256 main_c_1279
  let main_v8112 : IVec S2x256x256 1 := cmpi .sgt main_v4987 main_v8111
  let main_c_1280 : IVec S_ 32 := constantI S_ 32 164#32
  let main_v8113 : IVec S2x256x256 32 := broadcastInDim S2x256x256 ![] bcast_S_S2x256x256 main_c_1280
  let main_v8114 : IVec S2x256x256 1 := cmpi .sgt main_v4988 main_v8113
  let main_v8115 : IVec S2x256x256 1 := andi main_v8112 main_v8114
  let main_v8116 : FVec F S2x256x256 .f32 := broadcastInDim S2x256x256 ![0, 1, 2] bcast_S2x1x256_S2x256x256_0_1_2 main_v8105
  let main_v8117 : FVec F S2x256x256 .f32 := mulf main_v8110 main_v8116
  let main_v8118 : FVec F S2x256x256 .f32 := subf main_v8104 main_v8117
  let main_v8119 : FVec F S2x256x256 .f32 := select main_v8115 main_v8118 main_v8104
  let main_c_1281 : IVec S_ 32 := constantI S_ 32 164#32
  let main_v8120 : IVec S2x256x256 32 := broadcastInDim S2x256x256 ![] bcast_S_S2x256x256 main_c_1281
  let main_v8121 : IVec S2x256x256 1 := cmpi .eq main_v4988 main_v8120
  let main_v8122 : IVec S2x256x256 1 := andi main_v8112 main_v8121
  let main_v8123 : FVec F S2x256x256 .f32 := select main_v8122 main_v8110 main_v8119
  let main_v8124 : FVec F S2x1x256 .f32 := (extractStridedSlice S2x1x256 ![0, 165, 0] · slices_S2x256x256_S2x1x256_0_165_0) main_v8123
  fn_part392 (F := F) main_arg0 main_v8 main_v4875 main_v4987 main_v4988 main_v8123 main_v8124

def fn_part390 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8072 : FVec F S2x256x256 .f32) (main_v8074 : IVec S2x256x256 1) (main_v8081 : FVec F S2x256x256 .f32) (main_v8082 : IVec S2x256x256 32) : IVec S9x256x256 1 × IVec S8x256x256 1 :=
  let main_v8083 : IVec S2x256x256 1 := cmpi .eq main_v4988 main_v8082
  let main_v8084 : IVec S2x256x256 1 := andi main_v8074 main_v8083
  let main_v8085 : FVec F S2x256x256 .f32 := select main_v8084 main_v8072 main_v8081
  let main_v8086 : FVec F S2x1x256 .f32 := (extractStridedSlice S2x1x256 ![0, 163, 0] · slices_S2x256x256_S2x1x256_0_163_0) main_v8085
  let main_v8087 : FVec F S2x256x1 .f32 := (extractStridedSlice S2x256x1 ![0, 0, 163] · slices_S2x256x256_S2x256x1_0_0_163) main_v8085
  let main_v8088 : FVec F S2x1x1 .f32 := (extractStridedSlice S2x1x1 ![0, 0, 163] · slices_S2x1x256_S2x1x1_0_0_163) main_v8086
  let main_v8089 : FVec F S2x256x1 .f32 := broadcastInDim S2x256x1 ![0, 1, 2] bcast_S2x1x1_S2x256x1_0_1_2 main_v8088
  let main_v8090 : FVec F S2x256x1 .f32 := Host.divf main_v8087 main_v8089
  let main_v8091 : FVec F S2x256x256 .f32 := broadcastInDim S2x256x256 ![0, 1, 2] bcast_S2x256x1_S2x256x256_0_1_2 main_v8090
  let main_c_1276 : IVec S_ 32 := constantI S_ 32 163#32
  let main_v8092 : IVec S2x256x256 32 := broadcastInDim S2x256x256 ![] bcast_S_S2x256x256 main_c_1276
  let main_v8093 : IVec S2x256x256 1 := cmpi .sgt main_v4987 main_v8092
  let main_c_1277 : IVec S_ 32 := constantI S_ 32 163#32
  let main_v8094 : IVec S2x256x256 32 := broadcastInDim S2x256x256 ![] bcast_S_S2x256x256 main_c_1277
  let main_v8095 : IVec S2x256x256 1 := cmpi .sgt main_v4988 main_v8094
  let main_v8096 : IVec S2x256x256 1 := andi main_v8093 main_v8095
  let main_v8097 : FVec F S2x256x256 .f32 := broadcastInDim S2x256x256 ![0, 1, 2] bcast_S2x1x256_S2x256x256_0_1_2 main_v8086
  let main_v8098 : FVec F S2x256x256 .f32 := mulf main_v8091 main_v8097
  let main_v8099 : FVec F S2x256x256 .f32 := subf main_v8085 main_v8098
  let main_v8100 : FVec F S2x256x256 .f32 := select main_v8096 main_v8099 main_v8085
  let main_c_1278 : IVec S_ 32 := constantI S_ 32 163#32
  let main_v8101 : IVec S2x256x256 32 := broadcastInDim S2x256x256 ![] bcast_S_S2x256x256 main_c_1278
  let main_v8102 : IVec S2x256x256 1 := cmpi .eq main_v4988 main_v8101
  let main_v8103 : IVec S2x256x256 1 := andi main_v8093 main_v8102
  fn_part391 (F := F) main_arg0 main_v8 main_v4875 main_v4987 main_v4988 main_v8091 main_v8100 main_v8103

def fn_part389 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8053 : FVec F S2x256x256 .f32) (main_v8055 : IVec S2x256x256 1) (main_v8062 : FVec F S2x256x256 .f32) : IVec S9x256x256 1 × IVec S8x256x256 1 :=
  let main_c_1272 : IVec S_ 32 := constantI S_ 32 161#32
  let main_v8063 : IVec S2x256x256 32 := broadcastInDim S2x256x256 ![] bcast_S_S2x256x256 main_c_1272
  let main_v8064 : IVec S2x256x256 1 := cmpi .eq main_v4988 main_v8063
  let main_v8065 : IVec S2x256x256 1 := andi main_v8055 main_v8064
  let main_v8066 : FVec F S2x256x256 .f32 := select main_v8065 main_v8053 main_v8062
  let main_v8067 : FVec F S2x1x256 .f32 := (extractStridedSlice S2x1x256 ![0, 162, 0] · slices_S2x256x256_S2x1x256_0_162_0) main_v8066
  let main_v8068 : FVec F S2x256x1 .f32 := (extractStridedSlice S2x256x1 ![0, 0, 162] · slices_S2x256x256_S2x256x1_0_0_162) main_v8066
  let main_v8069 : FVec F S2x1x1 .f32 := (extractStridedSlice S2x1x1 ![0, 0, 162] · slices_S2x1x256_S2x1x1_0_0_162) main_v8067
  let main_v8070 : FVec F S2x256x1 .f32 := broadcastInDim S2x256x1 ![0, 1, 2] bcast_S2x1x1_S2x256x1_0_1_2 main_v8069
  let main_v8071 : FVec F S2x256x1 .f32 := Host.divf main_v8068 main_v8070
  let main_v8072 : FVec F S2x256x256 .f32 := broadcastInDim S2x256x256 ![0, 1, 2] bcast_S2x256x1_S2x256x256_0_1_2 main_v8071
  let main_c_1273 : IVec S_ 32 := constantI S_ 32 162#32
  let main_v8073 : IVec S2x256x256 32 := broadcastInDim S2x256x256 ![] bcast_S_S2x256x256 main_c_1273
  let main_v8074 : IVec S2x256x256 1 := cmpi .sgt main_v4987 main_v8073
  let main_c_1274 : IVec S_ 32 := constantI S_ 32 162#32
  let main_v8075 : IVec S2x256x256 32 := broadcastInDim S2x256x256 ![] bcast_S_S2x256x256 main_c_1274
  let main_v8076 : IVec S2x256x256 1 := cmpi .sgt main_v4988 main_v8075
  let main_v8077 : IVec S2x256x256 1 := andi main_v8074 main_v8076
  let main_v8078 : FVec F S2x256x256 .f32 := broadcastInDim S2x256x256 ![0, 1, 2] bcast_S2x1x256_S2x256x256_0_1_2 main_v8067
  let main_v8079 : FVec F S2x256x256 .f32 := mulf main_v8072 main_v8078
  let main_v8080 : FVec F S2x256x256 .f32 := subf main_v8066 main_v8079
  let main_v8081 : FVec F S2x256x256 .f32 := select main_v8077 main_v8080 main_v8066
  let main_c_1275 : IVec S_ 32 := constantI S_ 32 162#32
  let main_v8082 : IVec S2x256x256 32 := broadcastInDim S2x256x256 ![] bcast_S_S2x256x256 main_c_1275
  fn_part390 (F := F) main_arg0 main_v8 main_v4875 main_v4987 main_v4988 main_v8072 main_v8074 main_v8081 main_v8082

def fn_part388 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8028 : FVec F S2x256x256 .f32) (main_v8034 : FVec F S2x256x256 .f32) (main_v8036 : IVec S2x256x256 1) (main_v8039 : IVec S2x256x256 1) (main_v8041 : FVec F S2x256x256 .f32) : IVec S9x256x256 1 × IVec S8x256x256 1 :=
  let main_v8042 : FVec F S2x256x256 .f32 := subf main_v8028 main_v8041
  let main_v8043 : FVec F S2x256x256 .f32 := select main_v8039 main_v8042 main_v8028
  let main_c_1269 : IVec S_ 32 := constantI S_ 32 160#32
  let main_v8044 : IVec S2x256x256 32 := broadcastInDim S2x256x256 ![] bcast_S_S2x256x256 main_c_1269
  let main_v8045 : IVec S2x256x256 1 := cmpi .eq main_v4988 main_v8044
  let main_v8046 : IVec S2x256x256 1 := andi main_v8036 main_v8045
  let main_v8047 : FVec F S2x256x256 .f32 := select main_v8046 main_v8034 main_v8043
  let main_v8048 : FVec F S2x1x256 .f32 := (extractStridedSlice S2x1x256 ![0, 161, 0] · slices_S2x256x256_S2x1x256_0_161_0) main_v8047
  let main_v8049 : FVec F S2x256x1 .f32 := (extractStridedSlice S2x256x1 ![0, 0, 161] · slices_S2x256x256_S2x256x1_0_0_161) main_v8047
  let main_v8050 : FVec F S2x1x1 .f32 := (extractStridedSlice S2x1x1 ![0, 0, 161] · slices_S2x1x256_S2x1x1_0_0_161) main_v8048
  let main_v8051 : FVec F S2x256x1 .f32 := broadcastInDim S2x256x1 ![0, 1, 2] bcast_S2x1x1_S2x256x1_0_1_2 main_v8050
  let main_v8052 : FVec F S2x256x1 .f32 := Host.divf main_v8049 main_v8051
  let main_v8053 : FVec F S2x256x256 .f32 := broadcastInDim S2x256x256 ![0, 1, 2] bcast_S2x256x1_S2x256x256_0_1_2 main_v8052
  let main_c_1270 : IVec S_ 32 := constantI S_ 32 161#32
  let main_v8054 : IVec S2x256x256 32 := broadcastInDim S2x256x256 ![] bcast_S_S2x256x256 main_c_1270
  let main_v8055 : IVec S2x256x256 1 := cmpi .sgt main_v4987 main_v8054
  let main_c_1271 : IVec S_ 32 := constantI S_ 32 161#32
  let main_v8056 : IVec S2x256x256 32 := broadcastInDim S2x256x256 ![] bcast_S_S2x256x256 main_c_1271
  let main_v8057 : IVec S2x256x256 1 := cmpi .sgt main_v4988 main_v8056
  let main_v8058 : IVec S2x256x256 1 := andi main_v8055 main_v8057
  let main_v8059 : FVec F S2x256x256 .f32 := broadcastInDim S2x256x256 ![0, 1, 2] bcast_S2x1x256_S2x256x256_0_1_2 main_v8048
  let main_v8060 : FVec F S2x256x256 .f32 := mulf main_v8053 main_v8059
  let main_v8061 : FVec F S2x256x256 .f32 := subf main_v8047 main_v8060
  let main_v8062 : FVec F S2x256x256 .f32 := select main_v8058 main_v8061 main_v8047
  fn_part389 (F := F) main_arg0 main_v8 main_v4875 main_v4987 main_v4988 main_v8053 main_v8055 main_v8062

def fn_part387 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v8009 : FVec F S2x256x256 .f32) (main_v8010 : FVec F S2x1x256 .f32) (main_v8015 : FVec F S2x256x256 .f32) (main_v8017 : IVec S2x256x256 1) (main_v8020 : IVec S2x256x256 1) : IVec S9x256x256 1 × IVec S8x256x256 1 :=
  let main_v8021 : FVec F S2x256x256 .f32 := broadcastInDim S2x256x256 ![0, 1, 2] bcast_S2x1x256_S2x256x256_0_1_2 main_v8010
  let main_v8022 : FVec F S2x256x256 .f32 := mulf main_v8015 main_v8021
  let main_v8023 : FVec F S2x256x256 .f32 := subf main_v8009 main_v8022
  let main_v8024 : FVec F S2x256x256 .f32 := select main_v8020 main_v8023 main_v8009
  let main_c_1266 : IVec S_ 32 := constantI S_ 32 159#32
  let main_v8025 : IVec S2x256x256 32 := broadcastInDim S2x256x256 ![] bcast_S_S2x256x256 main_c_1266
  let main_v8026 : IVec S2x256x256 1 := cmpi .eq main_v4988 main_v8025
  let main_v8027 : IVec S2x256x256 1 := andi main_v8017 main_v8026
  let main_v8028 : FVec F S2x256x256 .f32 := select main_v8027 main_v8015 main_v8024
  let main_v8029 : FVec F S2x1x256 .f32 := (extractStridedSlice S2x1x256 ![0, 160, 0] · slices_S2x256x256_S2x1x256_0_160_0) main_v8028
  let main_v8030 : FVec F S2x256x1 .f32 := (extractStridedSlice S2x256x1 ![0, 0, 160] · slices_S2x256x256_S2x256x1_0_0_160) main_v8028
  let main_v8031 : FVec F S2x1x1 .f32 := (extractStridedSlice S2x1x1 ![0, 0, 160] · slices_S2x1x256_S2x1x1_0_0_160) main_v8029
  let main_v8032 : FVec F S2x256x1 .f32 := broadcastInDim S2x256x1 ![0, 1, 2] bcast_S2x1x1_S2x256x1_0_1_2 main_v8031
  let main_v8033 : FVec F S2x256x1 .f32 := Host.divf main_v8030 main_v8032
  let main_v8034 : FVec F S2x256x256 .f32 := broadcastInDim S2x256x256 ![0, 1, 2] bcast_S2x256x1_S2x256x256_0_1_2 main_v8033
  let main_c_1267 : IVec S_ 32 := constantI S_ 32 160#32
  let main_v8035 : IVec S2x256x256 32 := broadcastInDim S2x256x256 ![] bcast_S_S2x256x256 main_c_1267
  let main_v8036 : IVec S2x256x256 1 := cmpi .sgt main_v4987 main_v8035
  let main_c_1268 : IVec S_ 32 := constantI S_ 32 160#32
  let main_v8037 : IVec S2x256x256 32 := broadcastInDim S2x256x256 ![] bcast_S_S2x256x256 main_c_1268
  let main_v8038 : IVec S2x256x256 1 := cmpi .sgt main_v4988 main_v8037
  let main_v8039 : IVec S2x256x256 1 := andi main_v8036 main_v8038
  let main_v8040 : FVec F S2x256x256 .f32 := broadcastInDim S2x256x256 ![0, 1, 2] bcast_S2x1x256_S2x256x256_0_1_2 main_v8029
  let main_v8041 : FVec F S2x256x256 .f32 := mulf main_v8034 main_v8040
  fn_part388 (F := F) main_arg0 main_v8 main_v4875 main_v4987 main_v4988 main_v8028 main_v8034 main_v8036 main_v8039 main_v8041

def fn_part386 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7990 : FVec F S2x256x256 .f32) (main_v7991 : FVec F S2x1x256 .f32) (main_v7996 : FVec F S2x256x256 .f32) (main_v7998 : IVec S2x256x256 1) (main_v7999 : IVec S2x256x256 32) : IVec S9x256x256 1 × IVec S8x256x256 1 :=
  let main_v8000 : IVec S2x256x256 1 := cmpi .sgt main_v4988 main_v7999
  let main_v8001 : IVec S2x256x256 1 := andi main_v7998 main_v8000
  let main_v8002 : FVec F S2x256x256 .f32 := broadcastInDim S2x256x256 ![0, 1, 2] bcast_S2x1x256_S2x256x256_0_1_2 main_v7991
  let main_v8003 : FVec F S2x256x256 .f32 := mulf main_v7996 main_v8002
  let main_v8004 : FVec F S2x256x256 .f32 := subf main_v7990 main_v8003
  let main_v8005 : FVec F S2x256x256 .f32 := select main_v8001 main_v8004 main_v7990
  let main_c_1263 : IVec S_ 32 := constantI S_ 32 158#32
  let main_v8006 : IVec S2x256x256 32 := broadcastInDim S2x256x256 ![] bcast_S_S2x256x256 main_c_1263
  let main_v8007 : IVec S2x256x256 1 := cmpi .eq main_v4988 main_v8006
  let main_v8008 : IVec S2x256x256 1 := andi main_v7998 main_v8007
  let main_v8009 : FVec F S2x256x256 .f32 := select main_v8008 main_v7996 main_v8005
  let main_v8010 : FVec F S2x1x256 .f32 := (extractStridedSlice S2x1x256 ![0, 159, 0] · slices_S2x256x256_S2x1x256_0_159_0) main_v8009
  let main_v8011 : FVec F S2x256x1 .f32 := (extractStridedSlice S2x256x1 ![0, 0, 159] · slices_S2x256x256_S2x256x1_0_0_159) main_v8009
  let main_v8012 : FVec F S2x1x1 .f32 := (extractStridedSlice S2x1x1 ![0, 0, 159] · slices_S2x1x256_S2x1x1_0_0_159) main_v8010
  let main_v8013 : FVec F S2x256x1 .f32 := broadcastInDim S2x256x1 ![0, 1, 2] bcast_S2x1x1_S2x256x1_0_1_2 main_v8012
  let main_v8014 : FVec F S2x256x1 .f32 := Host.divf main_v8011 main_v8013
  let main_v8015 : FVec F S2x256x256 .f32 := broadcastInDim S2x256x256 ![0, 1, 2] bcast_S2x256x1_S2x256x256_0_1_2 main_v8014
  let main_c_1264 : IVec S_ 32 := constantI S_ 32 159#32
  let main_v8016 : IVec S2x256x256 32 := broadcastInDim S2x256x256 ![] bcast_S_S2x256x256 main_c_1264
  let main_v8017 : IVec S2x256x256 1 := cmpi .sgt main_v4987 main_v8016
  let main_c_1265 : IVec S_ 32 := constantI S_ 32 159#32
  let main_v8018 : IVec S2x256x256 32 := broadcastInDim S2x256x256 ![] bcast_S_S2x256x256 main_c_1265
  let main_v8019 : IVec S2x256x256 1 := cmpi .sgt main_v4988 main_v8018
  let main_v8020 : IVec S2x256x256 1 := andi main_v8017 main_v8019
  fn_part387 (F := F) main_arg0 main_v8 main_v4875 main_v4987 main_v4988 main_v8009 main_v8010 main_v8015 main_v8017 main_v8020

def fn_part385 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7971 : FVec F S2x256x256 .f32) (main_v7972 : FVec F S2x1x256 .f32) (main_v7977 : FVec F S2x256x256 .f32) (main_v7979 : IVec S2x256x256 1) : IVec S9x256x256 1 × IVec S8x256x256 1 :=
  let main_c_1259 : IVec S_ 32 := constantI S_ 32 157#32
  let main_v7980 : IVec S2x256x256 32 := broadcastInDim S2x256x256 ![] bcast_S_S2x256x256 main_c_1259
  let main_v7981 : IVec S2x256x256 1 := cmpi .sgt main_v4988 main_v7980
  let main_v7982 : IVec S2x256x256 1 := andi main_v7979 main_v7981
  let main_v7983 : FVec F S2x256x256 .f32 := broadcastInDim S2x256x256 ![0, 1, 2] bcast_S2x1x256_S2x256x256_0_1_2 main_v7972
  let main_v7984 : FVec F S2x256x256 .f32 := mulf main_v7977 main_v7983
  let main_v7985 : FVec F S2x256x256 .f32 := subf main_v7971 main_v7984
  let main_v7986 : FVec F S2x256x256 .f32 := select main_v7982 main_v7985 main_v7971
  let main_c_1260 : IVec S_ 32 := constantI S_ 32 157#32
  let main_v7987 : IVec S2x256x256 32 := broadcastInDim S2x256x256 ![] bcast_S_S2x256x256 main_c_1260
  let main_v7988 : IVec S2x256x256 1 := cmpi .eq main_v4988 main_v7987
  let main_v7989 : IVec S2x256x256 1 := andi main_v7979 main_v7988
  let main_v7990 : FVec F S2x256x256 .f32 := select main_v7989 main_v7977 main_v7986
  let main_v7991 : FVec F S2x1x256 .f32 := (extractStridedSlice S2x1x256 ![0, 158, 0] · slices_S2x256x256_S2x1x256_0_158_0) main_v7990
  let main_v7992 : FVec F S2x256x1 .f32 := (extractStridedSlice S2x256x1 ![0, 0, 158] · slices_S2x256x256_S2x256x1_0_0_158) main_v7990
  let main_v7993 : FVec F S2x1x1 .f32 := (extractStridedSlice S2x1x1 ![0, 0, 158] · slices_S2x1x256_S2x1x1_0_0_158) main_v7991
  let main_v7994 : FVec F S2x256x1 .f32 := broadcastInDim S2x256x1 ![0, 1, 2] bcast_S2x1x1_S2x256x1_0_1_2 main_v7993
  let main_v7995 : FVec F S2x256x1 .f32 := Host.divf main_v7992 main_v7994
  let main_v7996 : FVec F S2x256x256 .f32 := broadcastInDim S2x256x256 ![0, 1, 2] bcast_S2x256x1_S2x256x256_0_1_2 main_v7995
  let main_c_1261 : IVec S_ 32 := constantI S_ 32 158#32
  let main_v7997 : IVec S2x256x256 32 := broadcastInDim S2x256x256 ![] bcast_S_S2x256x256 main_c_1261
  let main_v7998 : IVec S2x256x256 1 := cmpi .sgt main_v4987 main_v7997
  let main_c_1262 : IVec S_ 32 := constantI S_ 32 158#32
  let main_v7999 : IVec S2x256x256 32 := broadcastInDim S2x256x256 ![] bcast_S_S2x256x256 main_c_1262
  fn_part386 (F := F) main_arg0 main_v8 main_v4875 main_v4987 main_v4988 main_v7990 main_v7991 main_v7996 main_v7998 main_v7999

def fn_part384 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7952 : FVec F S2x256x256 .f32) (main_v7953 : FVec F S2x1x256 .f32) (main_v7958 : FVec F S2x256x256 .f32) (main_c_1255 : IVec S_ 32) : IVec S9x256x256 1 × IVec S8x256x256 1 :=
  let main_v7959 : IVec S2x256x256 32 := broadcastInDim S2x256x256 ![] bcast_S_S2x256x256 main_c_1255
  let main_v7960 : IVec S2x256x256 1 := cmpi .sgt main_v4987 main_v7959
  let main_c_1256 : IVec S_ 32 := constantI S_ 32 156#32
  let main_v7961 : IVec S2x256x256 32 := broadcastInDim S2x256x256 ![] bcast_S_S2x256x256 main_c_1256
  let main_v7962 : IVec S2x256x256 1 := cmpi .sgt main_v4988 main_v7961
  let main_v7963 : IVec S2x256x256 1 := andi main_v7960 main_v7962
  let main_v7964 : FVec F S2x256x256 .f32 := broadcastInDim S2x256x256 ![0, 1, 2] bcast_S2x1x256_S2x256x256_0_1_2 main_v7953
  let main_v7965 : FVec F S2x256x256 .f32 := mulf main_v7958 main_v7964
  let main_v7966 : FVec F S2x256x256 .f32 := subf main_v7952 main_v7965
  let main_v7967 : FVec F S2x256x256 .f32 := select main_v7963 main_v7966 main_v7952
  let main_c_1257 : IVec S_ 32 := constantI S_ 32 156#32
  let main_v7968 : IVec S2x256x256 32 := broadcastInDim S2x256x256 ![] bcast_S_S2x256x256 main_c_1257
  let main_v7969 : IVec S2x256x256 1 := cmpi .eq main_v4988 main_v7968
  let main_v7970 : IVec S2x256x256 1 := andi main_v7960 main_v7969
  let main_v7971 : FVec F S2x256x256 .f32 := select main_v7970 main_v7958 main_v7967
  let main_v7972 : FVec F S2x1x256 .f32 := (extractStridedSlice S2x1x256 ![0, 157, 0] · slices_S2x256x256_S2x1x256_0_157_0) main_v7971
  let main_v7973 : FVec F S2x256x1 .f32 := (extractStridedSlice S2x256x1 ![0, 0, 157] · slices_S2x256x256_S2x256x1_0_0_157) main_v7971
  let main_v7974 : FVec F S2x1x1 .f32 := (extractStridedSlice S2x1x1 ![0, 0, 157] · slices_S2x1x256_S2x1x1_0_0_157) main_v7972
  let main_v7975 : FVec F S2x256x1 .f32 := broadcastInDim S2x256x1 ![0, 1, 2] bcast_S2x1x1_S2x256x1_0_1_2 main_v7974
  let main_v7976 : FVec F S2x256x1 .f32 := Host.divf main_v7973 main_v7975
  let main_v7977 : FVec F S2x256x256 .f32 := broadcastInDim S2x256x256 ![0, 1, 2] bcast_S2x256x1_S2x256x256_0_1_2 main_v7976
  let main_c_1258 : IVec S_ 32 := constantI S_ 32 157#32
  let main_v7978 : IVec S2x256x256 32 := broadcastInDim S2x256x256 ![] bcast_S_S2x256x256 main_c_1258
  let main_v7979 : IVec S2x256x256 1 := cmpi .sgt main_v4987 main_v7978
  fn_part385 (F := F) main_arg0 main_v8 main_v4875 main_v4987 main_v4988 main_v7971 main_v7972 main_v7977 main_v7979

def fn_part383 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7933 : FVec F S2x256x256 .f32) (main_v7934 : FVec F S2x1x256 .f32) (main_v7938 : FVec F S2x256x1 .f32) : IVec S9x256x256 1 × IVec S8x256x256 1 :=
  let main_v7939 : FVec F S2x256x256 .f32 := broadcastInDim S2x256x256 ![0, 1, 2] bcast_S2x256x1_S2x256x256_0_1_2 main_v7938
  let main_c_1252 : IVec S_ 32 := constantI S_ 32 155#32
  let main_v7940 : IVec S2x256x256 32 := broadcastInDim S2x256x256 ![] bcast_S_S2x256x256 main_c_1252
  let main_v7941 : IVec S2x256x256 1 := cmpi .sgt main_v4987 main_v7940
  let main_c_1253 : IVec S_ 32 := constantI S_ 32 155#32
  let main_v7942 : IVec S2x256x256 32 := broadcastInDim S2x256x256 ![] bcast_S_S2x256x256 main_c_1253
  let main_v7943 : IVec S2x256x256 1 := cmpi .sgt main_v4988 main_v7942
  let main_v7944 : IVec S2x256x256 1 := andi main_v7941 main_v7943
  let main_v7945 : FVec F S2x256x256 .f32 := broadcastInDim S2x256x256 ![0, 1, 2] bcast_S2x1x256_S2x256x256_0_1_2 main_v7934
  let main_v7946 : FVec F S2x256x256 .f32 := mulf main_v7939 main_v7945
  let main_v7947 : FVec F S2x256x256 .f32 := subf main_v7933 main_v7946
  let main_v7948 : FVec F S2x256x256 .f32 := select main_v7944 main_v7947 main_v7933
  let main_c_1254 : IVec S_ 32 := constantI S_ 32 155#32
  let main_v7949 : IVec S2x256x256 32 := broadcastInDim S2x256x256 ![] bcast_S_S2x256x256 main_c_1254
  let main_v7950 : IVec S2x256x256 1 := cmpi .eq main_v4988 main_v7949
  let main_v7951 : IVec S2x256x256 1 := andi main_v7941 main_v7950
  let main_v7952 : FVec F S2x256x256 .f32 := select main_v7951 main_v7939 main_v7948
  let main_v7953 : FVec F S2x1x256 .f32 := (extractStridedSlice S2x1x256 ![0, 156, 0] · slices_S2x256x256_S2x1x256_0_156_0) main_v7952
  let main_v7954 : FVec F S2x256x1 .f32 := (extractStridedSlice S2x256x1 ![0, 0, 156] · slices_S2x256x256_S2x256x1_0_0_156) main_v7952
  let main_v7955 : FVec F S2x1x1 .f32 := (extractStridedSlice S2x1x1 ![0, 0, 156] · slices_S2x1x256_S2x1x1_0_0_156) main_v7953
  let main_v7956 : FVec F S2x256x1 .f32 := broadcastInDim S2x256x1 ![0, 1, 2] bcast_S2x1x1_S2x256x1_0_1_2 main_v7955
  let main_v7957 : FVec F S2x256x1 .f32 := Host.divf main_v7954 main_v7956
  let main_v7958 : FVec F S2x256x256 .f32 := broadcastInDim S2x256x256 ![0, 1, 2] bcast_S2x256x1_S2x256x256_0_1_2 main_v7957
  let main_c_1255 : IVec S_ 32 := constantI S_ 32 156#32
  fn_part384 (F := F) main_arg0 main_v8 main_v4875 main_v4987 main_v4988 main_v7952 main_v7953 main_v7958 main_c_1255

def fn_part382 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7914 : FVec F S2x256x256 .f32) (main_v7915 : FVec F S2x1x256 .f32) (main_v7916 : FVec F S2x256x1 .f32) (main_v7917 : FVec F S2x1x1 .f32) : IVec S9x256x256 1 × IVec S8x256x256 1 :=
  let main_v7918 : FVec F S2x256x1 .f32 := broadcastInDim S2x256x1 ![0, 1, 2] bcast_S2x1x1_S2x256x1_0_1_2 main_v7917
  let main_v7919 : FVec F S2x256x1 .f32 := Host.divf main_v7916 main_v7918
  let main_v7920 : FVec F S2x256x256 .f32 := broadcastInDim S2x256x256 ![0, 1, 2] bcast_S2x256x1_S2x256x256_0_1_2 main_v7919
  let main_c_1249 : IVec S_ 32 := constantI S_ 32 154#32
  let main_v7921 : IVec S2x256x256 32 := broadcastInDim S2x256x256 ![] bcast_S_S2x256x256 main_c_1249
  let main_v7922 : IVec S2x256x256 1 := cmpi .sgt main_v4987 main_v7921
  let main_c_1250 : IVec S_ 32 := constantI S_ 32 154#32
  let main_v7923 : IVec S2x256x256 32 := broadcastInDim S2x256x256 ![] bcast_S_S2x256x256 main_c_1250
  let main_v7924 : IVec S2x256x256 1 := cmpi .sgt main_v4988 main_v7923
  let main_v7925 : IVec S2x256x256 1 := andi main_v7922 main_v7924
  let main_v7926 : FVec F S2x256x256 .f32 := broadcastInDim S2x256x256 ![0, 1, 2] bcast_S2x1x256_S2x256x256_0_1_2 main_v7915
  let main_v7927 : FVec F S2x256x256 .f32 := mulf main_v7920 main_v7926
  let main_v7928 : FVec F S2x256x256 .f32 := subf main_v7914 main_v7927
  let main_v7929 : FVec F S2x256x256 .f32 := select main_v7925 main_v7928 main_v7914
  let main_c_1251 : IVec S_ 32 := constantI S_ 32 154#32
  let main_v7930 : IVec S2x256x256 32 := broadcastInDim S2x256x256 ![] bcast_S_S2x256x256 main_c_1251
  let main_v7931 : IVec S2x256x256 1 := cmpi .eq main_v4988 main_v7930
  let main_v7932 : IVec S2x256x256 1 := andi main_v7922 main_v7931
  let main_v7933 : FVec F S2x256x256 .f32 := select main_v7932 main_v7920 main_v7929
  let main_v7934 : FVec F S2x1x256 .f32 := (extractStridedSlice S2x1x256 ![0, 155, 0] · slices_S2x256x256_S2x1x256_0_155_0) main_v7933
  let main_v7935 : FVec F S2x256x1 .f32 := (extractStridedSlice S2x256x1 ![0, 0, 155] · slices_S2x256x256_S2x256x1_0_0_155) main_v7933
  let main_v7936 : FVec F S2x1x1 .f32 := (extractStridedSlice S2x1x1 ![0, 0, 155] · slices_S2x1x256_S2x1x1_0_0_155) main_v7934
  let main_v7937 : FVec F S2x256x1 .f32 := broadcastInDim S2x256x1 ![0, 1, 2] bcast_S2x1x1_S2x256x1_0_1_2 main_v7936
  let main_v7938 : FVec F S2x256x1 .f32 := Host.divf main_v7935 main_v7937
  fn_part383 (F := F) main_arg0 main_v8 main_v4875 main_v4987 main_v4988 main_v7933 main_v7934 main_v7938

def fn_part381 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7895 : FVec F S2x256x256 .f32) (main_v7896 : FVec F S2x1x256 .f32) : IVec S9x256x256 1 × IVec S8x256x256 1 :=
  let main_v7897 : FVec F S2x256x1 .f32 := (extractStridedSlice S2x256x1 ![0, 0, 153] · slices_S2x256x256_S2x256x1_0_0_153) main_v7895
  let main_v7898 : FVec F S2x1x1 .f32 := (extractStridedSlice S2x1x1 ![0, 0, 153] · slices_S2x1x256_S2x1x1_0_0_153) main_v7896
  let main_v7899 : FVec F S2x256x1 .f32 := broadcastInDim S2x256x1 ![0, 1, 2] bcast_S2x1x1_S2x256x1_0_1_2 main_v7898
  let main_v7900 : FVec F S2x256x1 .f32 := Host.divf main_v7897 main_v7899
  let main_v7901 : FVec F S2x256x256 .f32 := broadcastInDim S2x256x256 ![0, 1, 2] bcast_S2x256x1_S2x256x256_0_1_2 main_v7900
  let main_c_1246 : IVec S_ 32 := constantI S_ 32 153#32
  let main_v7902 : IVec S2x256x256 32 := broadcastInDim S2x256x256 ![] bcast_S_S2x256x256 main_c_1246
  let main_v7903 : IVec S2x256x256 1 := cmpi .sgt main_v4987 main_v7902
  let main_c_1247 : IVec S_ 32 := constantI S_ 32 153#32
  let main_v7904 : IVec S2x256x256 32 := broadcastInDim S2x256x256 ![] bcast_S_S2x256x256 main_c_1247
  let main_v7905 : IVec S2x256x256 1 := cmpi .sgt main_v4988 main_v7904
  let main_v7906 : IVec S2x256x256 1 := andi main_v7903 main_v7905
  let main_v7907 : FVec F S2x256x256 .f32 := broadcastInDim S2x256x256 ![0, 1, 2] bcast_S2x1x256_S2x256x256_0_1_2 main_v7896
  let main_v7908 : FVec F S2x256x256 .f32 := mulf main_v7901 main_v7907
  let main_v7909 : FVec F S2x256x256 .f32 := subf main_v7895 main_v7908
  let main_v7910 : FVec F S2x256x256 .f32 := select main_v7906 main_v7909 main_v7895
  let main_c_1248 : IVec S_ 32 := constantI S_ 32 153#32
  let main_v7911 : IVec S2x256x256 32 := broadcastInDim S2x256x256 ![] bcast_S_S2x256x256 main_c_1248
  let main_v7912 : IVec S2x256x256 1 := cmpi .eq main_v4988 main_v7911
  let main_v7913 : IVec S2x256x256 1 := andi main_v7903 main_v7912
  let main_v7914 : FVec F S2x256x256 .f32 := select main_v7913 main_v7901 main_v7910
  let main_v7915 : FVec F S2x1x256 .f32 := (extractStridedSlice S2x1x256 ![0, 154, 0] · slices_S2x256x256_S2x1x256_0_154_0) main_v7914
  let main_v7916 : FVec F S2x256x1 .f32 := (extractStridedSlice S2x256x1 ![0, 0, 154] · slices_S2x256x256_S2x256x1_0_0_154) main_v7914
  let main_v7917 : FVec F S2x1x1 .f32 := (extractStridedSlice S2x1x1 ![0, 0, 154] · slices_S2x1x256_S2x1x1_0_0_154) main_v7915
  fn_part382 (F := F) main_arg0 main_v8 main_v4875 main_v4987 main_v4988 main_v7914 main_v7915 main_v7916 main_v7917

def fn_part380 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7863 : FVec F S2x256x256 .f32) (main_v7872 : FVec F S2x256x256 .f32) (main_v7875 : IVec S2x256x256 1) : IVec S9x256x256 1 × IVec S8x256x256 1 :=
  let main_v7876 : FVec F S2x256x256 .f32 := select main_v7875 main_v7863 main_v7872
  let main_v7877 : FVec F S2x1x256 .f32 := (extractStridedSlice S2x1x256 ![0, 152, 0] · slices_S2x256x256_S2x1x256_0_152_0) main_v7876
  let main_v7878 : FVec F S2x256x1 .f32 := (extractStridedSlice S2x256x1 ![0, 0, 152] · slices_S2x256x256_S2x256x1_0_0_152) main_v7876
  let main_v7879 : FVec F S2x1x1 .f32 := (extractStridedSlice S2x1x1 ![0, 0, 152] · slices_S2x1x256_S2x1x1_0_0_152) main_v7877
  let main_v7880 : FVec F S2x256x1 .f32 := broadcastInDim S2x256x1 ![0, 1, 2] bcast_S2x1x1_S2x256x1_0_1_2 main_v7879
  let main_v7881 : FVec F S2x256x1 .f32 := Host.divf main_v7878 main_v7880
  let main_v7882 : FVec F S2x256x256 .f32 := broadcastInDim S2x256x256 ![0, 1, 2] bcast_S2x256x1_S2x256x256_0_1_2 main_v7881
  let main_c_1243 : IVec S_ 32 := constantI S_ 32 152#32
  let main_v7883 : IVec S2x256x256 32 := broadcastInDim S2x256x256 ![] bcast_S_S2x256x256 main_c_1243
  let main_v7884 : IVec S2x256x256 1 := cmpi .sgt main_v4987 main_v7883
  let main_c_1244 : IVec S_ 32 := constantI S_ 32 152#32
  let main_v7885 : IVec S2x256x256 32 := broadcastInDim S2x256x256 ![] bcast_S_S2x256x256 main_c_1244
  let main_v7886 : IVec S2x256x256 1 := cmpi .sgt main_v4988 main_v7885
  let main_v7887 : IVec S2x256x256 1 := andi main_v7884 main_v7886
  let main_v7888 : FVec F S2x256x256 .f32 := broadcastInDim S2x256x256 ![0, 1, 2] bcast_S2x1x256_S2x256x256_0_1_2 main_v7877
  let main_v7889 : FVec F S2x256x256 .f32 := mulf main_v7882 main_v7888
  let main_v7890 : FVec F S2x256x256 .f32 := subf main_v7876 main_v7889
  let main_v7891 : FVec F S2x256x256 .f32 := select main_v7887 main_v7890 main_v7876
  let main_c_1245 : IVec S_ 32 := constantI S_ 32 152#32
  let main_v7892 : IVec S2x256x256 32 := broadcastInDim S2x256x256 ![] bcast_S_S2x256x256 main_c_1245
  let main_v7893 : IVec S2x256x256 1 := cmpi .eq main_v4988 main_v7892
  let main_v7894 : IVec S2x256x256 1 := andi main_v7884 main_v7893
  let main_v7895 : FVec F S2x256x256 .f32 := select main_v7894 main_v7882 main_v7891
  let main_v7896 : FVec F S2x1x256 .f32 := (extractStridedSlice S2x1x256 ![0, 153, 0] · slices_S2x256x256_S2x1x256_0_153_0) main_v7895
  fn_part381 (F := F) main_arg0 main_v8 main_v4875 main_v4987 main_v4988 main_v7895 main_v7896

def fn_part379 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7844 : FVec F S2x256x256 .f32) (main_v7846 : IVec S2x256x256 1) (main_v7853 : FVec F S2x256x256 .f32) (main_v7854 : IVec S2x256x256 32) : IVec S9x256x256 1 × IVec S8x256x256 1 :=
  let main_v7855 : IVec S2x256x256 1 := cmpi .eq main_v4988 main_v7854
  let main_v7856 : IVec S2x256x256 1 := andi main_v7846 main_v7855
  let main_v7857 : FVec F S2x256x256 .f32 := select main_v7856 main_v7844 main_v7853
  let main_v7858 : FVec F S2x1x256 .f32 := (extractStridedSlice S2x1x256 ![0, 151, 0] · slices_S2x256x256_S2x1x256_0_151_0) main_v7857
  let main_v7859 : FVec F S2x256x1 .f32 := (extractStridedSlice S2x256x1 ![0, 0, 151] · slices_S2x256x256_S2x256x1_0_0_151) main_v7857
  let main_v7860 : FVec F S2x1x1 .f32 := (extractStridedSlice S2x1x1 ![0, 0, 151] · slices_S2x1x256_S2x1x1_0_0_151) main_v7858
  let main_v7861 : FVec F S2x256x1 .f32 := broadcastInDim S2x256x1 ![0, 1, 2] bcast_S2x1x1_S2x256x1_0_1_2 main_v7860
  let main_v7862 : FVec F S2x256x1 .f32 := Host.divf main_v7859 main_v7861
  let main_v7863 : FVec F S2x256x256 .f32 := broadcastInDim S2x256x256 ![0, 1, 2] bcast_S2x256x1_S2x256x256_0_1_2 main_v7862
  let main_c_1240 : IVec S_ 32 := constantI S_ 32 151#32
  let main_v7864 : IVec S2x256x256 32 := broadcastInDim S2x256x256 ![] bcast_S_S2x256x256 main_c_1240
  let main_v7865 : IVec S2x256x256 1 := cmpi .sgt main_v4987 main_v7864
  let main_c_1241 : IVec S_ 32 := constantI S_ 32 151#32
  let main_v7866 : IVec S2x256x256 32 := broadcastInDim S2x256x256 ![] bcast_S_S2x256x256 main_c_1241
  let main_v7867 : IVec S2x256x256 1 := cmpi .sgt main_v4988 main_v7866
  let main_v7868 : IVec S2x256x256 1 := andi main_v7865 main_v7867
  let main_v7869 : FVec F S2x256x256 .f32 := broadcastInDim S2x256x256 ![0, 1, 2] bcast_S2x1x256_S2x256x256_0_1_2 main_v7858
  let main_v7870 : FVec F S2x256x256 .f32 := mulf main_v7863 main_v7869
  let main_v7871 : FVec F S2x256x256 .f32 := subf main_v7857 main_v7870
  let main_v7872 : FVec F S2x256x256 .f32 := select main_v7868 main_v7871 main_v7857
  let main_c_1242 : IVec S_ 32 := constantI S_ 32 151#32
  let main_v7873 : IVec S2x256x256 32 := broadcastInDim S2x256x256 ![] bcast_S_S2x256x256 main_c_1242
  let main_v7874 : IVec S2x256x256 1 := cmpi .eq main_v4988 main_v7873
  let main_v7875 : IVec S2x256x256 1 := andi main_v7865 main_v7874
  fn_part380 (F := F) main_arg0 main_v8 main_v4875 main_v4987 main_v4988 main_v7863 main_v7872 main_v7875

def fn_part378 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7825 : FVec F S2x256x256 .f32) (main_v7827 : IVec S2x256x256 1) (main_v7834 : FVec F S2x256x256 .f32) : IVec S9x256x256 1 × IVec S8x256x256 1 :=
  let main_c_1236 : IVec S_ 32 := constantI S_ 32 149#32
  let main_v7835 : IVec S2x256x256 32 := broadcastInDim S2x256x256 ![] bcast_S_S2x256x256 main_c_1236
  let main_v7836 : IVec S2x256x256 1 := cmpi .eq main_v4988 main_v7835
  let main_v7837 : IVec S2x256x256 1 := andi main_v7827 main_v7836
  let main_v7838 : FVec F S2x256x256 .f32 := select main_v7837 main_v7825 main_v7834
  let main_v7839 : FVec F S2x1x256 .f32 := (extractStridedSlice S2x1x256 ![0, 150, 0] · slices_S2x256x256_S2x1x256_0_150_0) main_v7838
  let main_v7840 : FVec F S2x256x1 .f32 := (extractStridedSlice S2x256x1 ![0, 0, 150] · slices_S2x256x256_S2x256x1_0_0_150) main_v7838
  let main_v7841 : FVec F S2x1x1 .f32 := (extractStridedSlice S2x1x1 ![0, 0, 150] · slices_S2x1x256_S2x1x1_0_0_150) main_v7839
  let main_v7842 : FVec F S2x256x1 .f32 := broadcastInDim S2x256x1 ![0, 1, 2] bcast_S2x1x1_S2x256x1_0_1_2 main_v7841
  let main_v7843 : FVec F S2x256x1 .f32 := Host.divf main_v7840 main_v7842
  let main_v7844 : FVec F S2x256x256 .f32 := broadcastInDim S2x256x256 ![0, 1, 2] bcast_S2x256x1_S2x256x256_0_1_2 main_v7843
  let main_c_1237 : IVec S_ 32 := constantI S_ 32 150#32
  let main_v7845 : IVec S2x256x256 32 := broadcastInDim S2x256x256 ![] bcast_S_S2x256x256 main_c_1237
  let main_v7846 : IVec S2x256x256 1 := cmpi .sgt main_v4987 main_v7845
  let main_c_1238 : IVec S_ 32 := constantI S_ 32 150#32
  let main_v7847 : IVec S2x256x256 32 := broadcastInDim S2x256x256 ![] bcast_S_S2x256x256 main_c_1238
  let main_v7848 : IVec S2x256x256 1 := cmpi .sgt main_v4988 main_v7847
  let main_v7849 : IVec S2x256x256 1 := andi main_v7846 main_v7848
  let main_v7850 : FVec F S2x256x256 .f32 := broadcastInDim S2x256x256 ![0, 1, 2] bcast_S2x1x256_S2x256x256_0_1_2 main_v7839
  let main_v7851 : FVec F S2x256x256 .f32 := mulf main_v7844 main_v7850
  let main_v7852 : FVec F S2x256x256 .f32 := subf main_v7838 main_v7851
  let main_v7853 : FVec F S2x256x256 .f32 := select main_v7849 main_v7852 main_v7838
  let main_c_1239 : IVec S_ 32 := constantI S_ 32 150#32
  let main_v7854 : IVec S2x256x256 32 := broadcastInDim S2x256x256 ![] bcast_S_S2x256x256 main_c_1239
  fn_part379 (F := F) main_arg0 main_v8 main_v4875 main_v4987 main_v4988 main_v7844 main_v7846 main_v7853 main_v7854

def fn_part377 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7800 : FVec F S2x256x256 .f32) (main_v7806 : FVec F S2x256x256 .f32) (main_v7808 : IVec S2x256x256 1) (main_v7811 : IVec S2x256x256 1) (main_v7813 : FVec F S2x256x256 .f32) : IVec S9x256x256 1 × IVec S8x256x256 1 :=
  let main_v7814 : FVec F S2x256x256 .f32 := subf main_v7800 main_v7813
  let main_v7815 : FVec F S2x256x256 .f32 := select main_v7811 main_v7814 main_v7800
  let main_c_1233 : IVec S_ 32 := constantI S_ 32 148#32
  let main_v7816 : IVec S2x256x256 32 := broadcastInDim S2x256x256 ![] bcast_S_S2x256x256 main_c_1233
  let main_v7817 : IVec S2x256x256 1 := cmpi .eq main_v4988 main_v7816
  let main_v7818 : IVec S2x256x256 1 := andi main_v7808 main_v7817
  let main_v7819 : FVec F S2x256x256 .f32 := select main_v7818 main_v7806 main_v7815
  let main_v7820 : FVec F S2x1x256 .f32 := (extractStridedSlice S2x1x256 ![0, 149, 0] · slices_S2x256x256_S2x1x256_0_149_0) main_v7819
  let main_v7821 : FVec F S2x256x1 .f32 := (extractStridedSlice S2x256x1 ![0, 0, 149] · slices_S2x256x256_S2x256x1_0_0_149) main_v7819
  let main_v7822 : FVec F S2x1x1 .f32 := (extractStridedSlice S2x1x1 ![0, 0, 149] · slices_S2x1x256_S2x1x1_0_0_149) main_v7820
  let main_v7823 : FVec F S2x256x1 .f32 := broadcastInDim S2x256x1 ![0, 1, 2] bcast_S2x1x1_S2x256x1_0_1_2 main_v7822
  let main_v7824 : FVec F S2x256x1 .f32 := Host.divf main_v7821 main_v7823
  let main_v7825 : FVec F S2x256x256 .f32 := broadcastInDim S2x256x256 ![0, 1, 2] bcast_S2x256x1_S2x256x256_0_1_2 main_v7824
  let main_c_1234 : IVec S_ 32 := constantI S_ 32 149#32
  let main_v7826 : IVec S2x256x256 32 := broadcastInDim S2x256x256 ![] bcast_S_S2x256x256 main_c_1234
  let main_v7827 : IVec S2x256x256 1 := cmpi .sgt main_v4987 main_v7826
  let main_c_1235 : IVec S_ 32 := constantI S_ 32 149#32
  let main_v7828 : IVec S2x256x256 32 := broadcastInDim S2x256x256 ![] bcast_S_S2x256x256 main_c_1235
  let main_v7829 : IVec S2x256x256 1 := cmpi .sgt main_v4988 main_v7828
  let main_v7830 : IVec S2x256x256 1 := andi main_v7827 main_v7829
  let main_v7831 : FVec F S2x256x256 .f32 := broadcastInDim S2x256x256 ![0, 1, 2] bcast_S2x1x256_S2x256x256_0_1_2 main_v7820
  let main_v7832 : FVec F S2x256x256 .f32 := mulf main_v7825 main_v7831
  let main_v7833 : FVec F S2x256x256 .f32 := subf main_v7819 main_v7832
  let main_v7834 : FVec F S2x256x256 .f32 := select main_v7830 main_v7833 main_v7819
  fn_part378 (F := F) main_arg0 main_v8 main_v4875 main_v4987 main_v4988 main_v7825 main_v7827 main_v7834

def fn_part376 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7781 : FVec F S2x256x256 .f32) (main_v7782 : FVec F S2x1x256 .f32) (main_v7787 : FVec F S2x256x256 .f32) (main_v7789 : IVec S2x256x256 1) (main_v7792 : IVec S2x256x256 1) : IVec S9x256x256 1 × IVec S8x256x256 1 :=
  let main_v7793 : FVec F S2x256x256 .f32 := broadcastInDim S2x256x256 ![0, 1, 2] bcast_S2x1x256_S2x256x256_0_1_2 main_v7782
  let main_v7794 : FVec F S2x256x256 .f32 := mulf main_v7787 main_v7793
  let main_v7795 : FVec F S2x256x256 .f32 := subf main_v7781 main_v7794
  let main_v7796 : FVec F S2x256x256 .f32 := select main_v7792 main_v7795 main_v7781
  let main_c_1230 : IVec S_ 32 := constantI S_ 32 147#32
  let main_v7797 : IVec S2x256x256 32 := broadcastInDim S2x256x256 ![] bcast_S_S2x256x256 main_c_1230
  let main_v7798 : IVec S2x256x256 1 := cmpi .eq main_v4988 main_v7797
  let main_v7799 : IVec S2x256x256 1 := andi main_v7789 main_v7798
  let main_v7800 : FVec F S2x256x256 .f32 := select main_v7799 main_v7787 main_v7796
  let main_v7801 : FVec F S2x1x256 .f32 := (extractStridedSlice S2x1x256 ![0, 148, 0] · slices_S2x256x256_S2x1x256_0_148_0) main_v7800
  let main_v7802 : FVec F S2x256x1 .f32 := (extractStridedSlice S2x256x1 ![0, 0, 148] · slices_S2x256x256_S2x256x1_0_0_148) main_v7800
  let main_v7803 : FVec F S2x1x1 .f32 := (extractStridedSlice S2x1x1 ![0, 0, 148] · slices_S2x1x256_S2x1x1_0_0_148) main_v7801
  let main_v7804 : FVec F S2x256x1 .f32 := broadcastInDim S2x256x1 ![0, 1, 2] bcast_S2x1x1_S2x256x1_0_1_2 main_v7803
  let main_v7805 : FVec F S2x256x1 .f32 := Host.divf main_v7802 main_v7804
  let main_v7806 : FVec F S2x256x256 .f32 := broadcastInDim S2x256x256 ![0, 1, 2] bcast_S2x256x1_S2x256x256_0_1_2 main_v7805
  let main_c_1231 : IVec S_ 32 := constantI S_ 32 148#32
  let main_v7807 : IVec S2x256x256 32 := broadcastInDim S2x256x256 ![] bcast_S_S2x256x256 main_c_1231
  let main_v7808 : IVec S2x256x256 1 := cmpi .sgt main_v4987 main_v7807
  let main_c_1232 : IVec S_ 32 := constantI S_ 32 148#32
  let main_v7809 : IVec S2x256x256 32 := broadcastInDim S2x256x256 ![] bcast_S_S2x256x256 main_c_1232
  let main_v7810 : IVec S2x256x256 1 := cmpi .sgt main_v4988 main_v7809
  let main_v7811 : IVec S2x256x256 1 := andi main_v7808 main_v7810
  let main_v7812 : FVec F S2x256x256 .f32 := broadcastInDim S2x256x256 ![0, 1, 2] bcast_S2x1x256_S2x256x256_0_1_2 main_v7801
  let main_v7813 : FVec F S2x256x256 .f32 := mulf main_v7806 main_v7812
  fn_part377 (F := F) main_arg0 main_v8 main_v4875 main_v4987 main_v4988 main_v7800 main_v7806 main_v7808 main_v7811 main_v7813

def fn_part375 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7762 : FVec F S2x256x256 .f32) (main_v7763 : FVec F S2x1x256 .f32) (main_v7768 : FVec F S2x256x256 .f32) (main_v7770 : IVec S2x256x256 1) (main_v7771 : IVec S2x256x256 32) : IVec S9x256x256 1 × IVec S8x256x256 1 :=
  let main_v7772 : IVec S2x256x256 1 := cmpi .sgt main_v4988 main_v7771
  let main_v7773 : IVec S2x256x256 1 := andi main_v7770 main_v7772
  let main_v7774 : FVec F S2x256x256 .f32 := broadcastInDim S2x256x256 ![0, 1, 2] bcast_S2x1x256_S2x256x256_0_1_2 main_v7763
  let main_v7775 : FVec F S2x256x256 .f32 := mulf main_v7768 main_v7774
  let main_v7776 : FVec F S2x256x256 .f32 := subf main_v7762 main_v7775
  let main_v7777 : FVec F S2x256x256 .f32 := select main_v7773 main_v7776 main_v7762
  let main_c_1227 : IVec S_ 32 := constantI S_ 32 146#32
  let main_v7778 : IVec S2x256x256 32 := broadcastInDim S2x256x256 ![] bcast_S_S2x256x256 main_c_1227
  let main_v7779 : IVec S2x256x256 1 := cmpi .eq main_v4988 main_v7778
  let main_v7780 : IVec S2x256x256 1 := andi main_v7770 main_v7779
  let main_v7781 : FVec F S2x256x256 .f32 := select main_v7780 main_v7768 main_v7777
  let main_v7782 : FVec F S2x1x256 .f32 := (extractStridedSlice S2x1x256 ![0, 147, 0] · slices_S2x256x256_S2x1x256_0_147_0) main_v7781
  let main_v7783 : FVec F S2x256x1 .f32 := (extractStridedSlice S2x256x1 ![0, 0, 147] · slices_S2x256x256_S2x256x1_0_0_147) main_v7781
  let main_v7784 : FVec F S2x1x1 .f32 := (extractStridedSlice S2x1x1 ![0, 0, 147] · slices_S2x1x256_S2x1x1_0_0_147) main_v7782
  let main_v7785 : FVec F S2x256x1 .f32 := broadcastInDim S2x256x1 ![0, 1, 2] bcast_S2x1x1_S2x256x1_0_1_2 main_v7784
  let main_v7786 : FVec F S2x256x1 .f32 := Host.divf main_v7783 main_v7785
  let main_v7787 : FVec F S2x256x256 .f32 := broadcastInDim S2x256x256 ![0, 1, 2] bcast_S2x256x1_S2x256x256_0_1_2 main_v7786
  let main_c_1228 : IVec S_ 32 := constantI S_ 32 147#32
  let main_v7788 : IVec S2x256x256 32 := broadcastInDim S2x256x256 ![] bcast_S_S2x256x256 main_c_1228
  let main_v7789 : IVec S2x256x256 1 := cmpi .sgt main_v4987 main_v7788
  let main_c_1229 : IVec S_ 32 := constantI S_ 32 147#32
  let main_v7790 : IVec S2x256x256 32 := broadcastInDim S2x256x256 ![] bcast_S_S2x256x256 main_c_1229
  let main_v7791 : IVec S2x256x256 1 := cmpi .sgt main_v4988 main_v7790
  let main_v7792 : IVec S2x256x256 1 := andi main_v7789 main_v7791
  fn_part376 (F := F) main_arg0 main_v8 main_v4875 main_v4987 main_v4988 main_v7781 main_v7782 main_v7787 main_v7789 main_v7792

def fn_part374 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7743 : FVec F S2x256x256 .f32) (main_v7744 : FVec F S2x1x256 .f32) (main_v7749 : FVec F S2x256x256 .f32) (main_v7751 : IVec S2x256x256 1) : IVec S9x256x256 1 × IVec S8x256x256 1 :=
  let main_c_1223 : IVec S_ 32 := constantI S_ 32 145#32
  let main_v7752 : IVec S2x256x256 32 := broadcastInDim S2x256x256 ![] bcast_S_S2x256x256 main_c_1223
  let main_v7753 : IVec S2x256x256 1 := cmpi .sgt main_v4988 main_v7752
  let main_v7754 : IVec S2x256x256 1 := andi main_v7751 main_v7753
  let main_v7755 : FVec F S2x256x256 .f32 := broadcastInDim S2x256x256 ![0, 1, 2] bcast_S2x1x256_S2x256x256_0_1_2 main_v7744
  let main_v7756 : FVec F S2x256x256 .f32 := mulf main_v7749 main_v7755
  let main_v7757 : FVec F S2x256x256 .f32 := subf main_v7743 main_v7756
  let main_v7758 : FVec F S2x256x256 .f32 := select main_v7754 main_v7757 main_v7743
  let main_c_1224 : IVec S_ 32 := constantI S_ 32 145#32
  let main_v7759 : IVec S2x256x256 32 := broadcastInDim S2x256x256 ![] bcast_S_S2x256x256 main_c_1224
  let main_v7760 : IVec S2x256x256 1 := cmpi .eq main_v4988 main_v7759
  let main_v7761 : IVec S2x256x256 1 := andi main_v7751 main_v7760
  let main_v7762 : FVec F S2x256x256 .f32 := select main_v7761 main_v7749 main_v7758
  let main_v7763 : FVec F S2x1x256 .f32 := (extractStridedSlice S2x1x256 ![0, 146, 0] · slices_S2x256x256_S2x1x256_0_146_0) main_v7762
  let main_v7764 : FVec F S2x256x1 .f32 := (extractStridedSlice S2x256x1 ![0, 0, 146] · slices_S2x256x256_S2x256x1_0_0_146) main_v7762
  let main_v7765 : FVec F S2x1x1 .f32 := (extractStridedSlice S2x1x1 ![0, 0, 146] · slices_S2x1x256_S2x1x1_0_0_146) main_v7763
  let main_v7766 : FVec F S2x256x1 .f32 := broadcastInDim S2x256x1 ![0, 1, 2] bcast_S2x1x1_S2x256x1_0_1_2 main_v7765
  let main_v7767 : FVec F S2x256x1 .f32 := Host.divf main_v7764 main_v7766
  let main_v7768 : FVec F S2x256x256 .f32 := broadcastInDim S2x256x256 ![0, 1, 2] bcast_S2x256x1_S2x256x256_0_1_2 main_v7767
  let main_c_1225 : IVec S_ 32 := constantI S_ 32 146#32
  let main_v7769 : IVec S2x256x256 32 := broadcastInDim S2x256x256 ![] bcast_S_S2x256x256 main_c_1225
  let main_v7770 : IVec S2x256x256 1 := cmpi .sgt main_v4987 main_v7769
  let main_c_1226 : IVec S_ 32 := constantI S_ 32 146#32
  let main_v7771 : IVec S2x256x256 32 := broadcastInDim S2x256x256 ![] bcast_S_S2x256x256 main_c_1226
  fn_part375 (F := F) main_arg0 main_v8 main_v4875 main_v4987 main_v4988 main_v7762 main_v7763 main_v7768 main_v7770 main_v7771

def fn_part373 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7724 : FVec F S2x256x256 .f32) (main_v7725 : FVec F S2x1x256 .f32) (main_v7730 : FVec F S2x256x256 .f32) (main_c_1219 : IVec S_ 32) : IVec S9x256x256 1 × IVec S8x256x256 1 :=
  let main_v7731 : IVec S2x256x256 32 := broadcastInDim S2x256x256 ![] bcast_S_S2x256x256 main_c_1219
  let main_v7732 : IVec S2x256x256 1 := cmpi .sgt main_v4987 main_v7731
  let main_c_1220 : IVec S_ 32 := constantI S_ 32 144#32
  let main_v7733 : IVec S2x256x256 32 := broadcastInDim S2x256x256 ![] bcast_S_S2x256x256 main_c_1220
  let main_v7734 : IVec S2x256x256 1 := cmpi .sgt main_v4988 main_v7733
  let main_v7735 : IVec S2x256x256 1 := andi main_v7732 main_v7734
  let main_v7736 : FVec F S2x256x256 .f32 := broadcastInDim S2x256x256 ![0, 1, 2] bcast_S2x1x256_S2x256x256_0_1_2 main_v7725
  let main_v7737 : FVec F S2x256x256 .f32 := mulf main_v7730 main_v7736
  let main_v7738 : FVec F S2x256x256 .f32 := subf main_v7724 main_v7737
  let main_v7739 : FVec F S2x256x256 .f32 := select main_v7735 main_v7738 main_v7724
  let main_c_1221 : IVec S_ 32 := constantI S_ 32 144#32
  let main_v7740 : IVec S2x256x256 32 := broadcastInDim S2x256x256 ![] bcast_S_S2x256x256 main_c_1221
  let main_v7741 : IVec S2x256x256 1 := cmpi .eq main_v4988 main_v7740
  let main_v7742 : IVec S2x256x256 1 := andi main_v7732 main_v7741
  let main_v7743 : FVec F S2x256x256 .f32 := select main_v7742 main_v7730 main_v7739
  let main_v7744 : FVec F S2x1x256 .f32 := (extractStridedSlice S2x1x256 ![0, 145, 0] · slices_S2x256x256_S2x1x256_0_145_0) main_v7743
  let main_v7745 : FVec F S2x256x1 .f32 := (extractStridedSlice S2x256x1 ![0, 0, 145] · slices_S2x256x256_S2x256x1_0_0_145) main_v7743
  let main_v7746 : FVec F S2x1x1 .f32 := (extractStridedSlice S2x1x1 ![0, 0, 145] · slices_S2x1x256_S2x1x1_0_0_145) main_v7744
  let main_v7747 : FVec F S2x256x1 .f32 := broadcastInDim S2x256x1 ![0, 1, 2] bcast_S2x1x1_S2x256x1_0_1_2 main_v7746
  let main_v7748 : FVec F S2x256x1 .f32 := Host.divf main_v7745 main_v7747
  let main_v7749 : FVec F S2x256x256 .f32 := broadcastInDim S2x256x256 ![0, 1, 2] bcast_S2x256x1_S2x256x256_0_1_2 main_v7748
  let main_c_1222 : IVec S_ 32 := constantI S_ 32 145#32
  let main_v7750 : IVec S2x256x256 32 := broadcastInDim S2x256x256 ![] bcast_S_S2x256x256 main_c_1222
  let main_v7751 : IVec S2x256x256 1 := cmpi .sgt main_v4987 main_v7750
  fn_part374 (F := F) main_arg0 main_v8 main_v4875 main_v4987 main_v4988 main_v7743 main_v7744 main_v7749 main_v7751

def fn_part372 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7705 : FVec F S2x256x256 .f32) (main_v7706 : FVec F S2x1x256 .f32) (main_v7710 : FVec F S2x256x1 .f32) : IVec S9x256x256 1 × IVec S8x256x256 1 :=
  let main_v7711 : FVec F S2x256x256 .f32 := broadcastInDim S2x256x256 ![0, 1, 2] bcast_S2x256x1_S2x256x256_0_1_2 main_v7710
  let main_c_1216 : IVec S_ 32 := constantI S_ 32 143#32
  let main_v7712 : IVec S2x256x256 32 := broadcastInDim S2x256x256 ![] bcast_S_S2x256x256 main_c_1216
  let main_v7713 : IVec S2x256x256 1 := cmpi .sgt main_v4987 main_v7712
  let main_c_1217 : IVec S_ 32 := constantI S_ 32 143#32
  let main_v7714 : IVec S2x256x256 32 := broadcastInDim S2x256x256 ![] bcast_S_S2x256x256 main_c_1217
  let main_v7715 : IVec S2x256x256 1 := cmpi .sgt main_v4988 main_v7714
  let main_v7716 : IVec S2x256x256 1 := andi main_v7713 main_v7715
  let main_v7717 : FVec F S2x256x256 .f32 := broadcastInDim S2x256x256 ![0, 1, 2] bcast_S2x1x256_S2x256x256_0_1_2 main_v7706
  let main_v7718 : FVec F S2x256x256 .f32 := mulf main_v7711 main_v7717
  let main_v7719 : FVec F S2x256x256 .f32 := subf main_v7705 main_v7718
  let main_v7720 : FVec F S2x256x256 .f32 := select main_v7716 main_v7719 main_v7705
  let main_c_1218 : IVec S_ 32 := constantI S_ 32 143#32
  let main_v7721 : IVec S2x256x256 32 := broadcastInDim S2x256x256 ![] bcast_S_S2x256x256 main_c_1218
  let main_v7722 : IVec S2x256x256 1 := cmpi .eq main_v4988 main_v7721
  let main_v7723 : IVec S2x256x256 1 := andi main_v7713 main_v7722
  let main_v7724 : FVec F S2x256x256 .f32 := select main_v7723 main_v7711 main_v7720
  let main_v7725 : FVec F S2x1x256 .f32 := (extractStridedSlice S2x1x256 ![0, 144, 0] · slices_S2x256x256_S2x1x256_0_144_0) main_v7724
  let main_v7726 : FVec F S2x256x1 .f32 := (extractStridedSlice S2x256x1 ![0, 0, 144] · slices_S2x256x256_S2x256x1_0_0_144) main_v7724
  let main_v7727 : FVec F S2x1x1 .f32 := (extractStridedSlice S2x1x1 ![0, 0, 144] · slices_S2x1x256_S2x1x1_0_0_144) main_v7725
  let main_v7728 : FVec F S2x256x1 .f32 := broadcastInDim S2x256x1 ![0, 1, 2] bcast_S2x1x1_S2x256x1_0_1_2 main_v7727
  let main_v7729 : FVec F S2x256x1 .f32 := Host.divf main_v7726 main_v7728
  let main_v7730 : FVec F S2x256x256 .f32 := broadcastInDim S2x256x256 ![0, 1, 2] bcast_S2x256x1_S2x256x256_0_1_2 main_v7729
  let main_c_1219 : IVec S_ 32 := constantI S_ 32 144#32
  fn_part373 (F := F) main_arg0 main_v8 main_v4875 main_v4987 main_v4988 main_v7724 main_v7725 main_v7730 main_c_1219

def fn_part371 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7686 : FVec F S2x256x256 .f32) (main_v7687 : FVec F S2x1x256 .f32) (main_v7688 : FVec F S2x256x1 .f32) (main_v7689 : FVec F S2x1x1 .f32) : IVec S9x256x256 1 × IVec S8x256x256 1 :=
  let main_v7690 : FVec F S2x256x1 .f32 := broadcastInDim S2x256x1 ![0, 1, 2] bcast_S2x1x1_S2x256x1_0_1_2 main_v7689
  let main_v7691 : FVec F S2x256x1 .f32 := Host.divf main_v7688 main_v7690
  let main_v7692 : FVec F S2x256x256 .f32 := broadcastInDim S2x256x256 ![0, 1, 2] bcast_S2x256x1_S2x256x256_0_1_2 main_v7691
  let main_c_1213 : IVec S_ 32 := constantI S_ 32 142#32
  let main_v7693 : IVec S2x256x256 32 := broadcastInDim S2x256x256 ![] bcast_S_S2x256x256 main_c_1213
  let main_v7694 : IVec S2x256x256 1 := cmpi .sgt main_v4987 main_v7693
  let main_c_1214 : IVec S_ 32 := constantI S_ 32 142#32
  let main_v7695 : IVec S2x256x256 32 := broadcastInDim S2x256x256 ![] bcast_S_S2x256x256 main_c_1214
  let main_v7696 : IVec S2x256x256 1 := cmpi .sgt main_v4988 main_v7695
  let main_v7697 : IVec S2x256x256 1 := andi main_v7694 main_v7696
  let main_v7698 : FVec F S2x256x256 .f32 := broadcastInDim S2x256x256 ![0, 1, 2] bcast_S2x1x256_S2x256x256_0_1_2 main_v7687
  let main_v7699 : FVec F S2x256x256 .f32 := mulf main_v7692 main_v7698
  let main_v7700 : FVec F S2x256x256 .f32 := subf main_v7686 main_v7699
  let main_v7701 : FVec F S2x256x256 .f32 := select main_v7697 main_v7700 main_v7686
  let main_c_1215 : IVec S_ 32 := constantI S_ 32 142#32
  let main_v7702 : IVec S2x256x256 32 := broadcastInDim S2x256x256 ![] bcast_S_S2x256x256 main_c_1215
  let main_v7703 : IVec S2x256x256 1 := cmpi .eq main_v4988 main_v7702
  let main_v7704 : IVec S2x256x256 1 := andi main_v7694 main_v7703
  let main_v7705 : FVec F S2x256x256 .f32 := select main_v7704 main_v7692 main_v7701
  let main_v7706 : FVec F S2x1x256 .f32 := (extractStridedSlice S2x1x256 ![0, 143, 0] · slices_S2x256x256_S2x1x256_0_143_0) main_v7705
  let main_v7707 : FVec F S2x256x1 .f32 := (extractStridedSlice S2x256x1 ![0, 0, 143] · slices_S2x256x256_S2x256x1_0_0_143) main_v7705
  let main_v7708 : FVec F S2x1x1 .f32 := (extractStridedSlice S2x1x1 ![0, 0, 143] · slices_S2x1x256_S2x1x1_0_0_143) main_v7706
  let main_v7709 : FVec F S2x256x1 .f32 := broadcastInDim S2x256x1 ![0, 1, 2] bcast_S2x1x1_S2x256x1_0_1_2 main_v7708
  let main_v7710 : FVec F S2x256x1 .f32 := Host.divf main_v7707 main_v7709
  fn_part372 (F := F) main_arg0 main_v8 main_v4875 main_v4987 main_v4988 main_v7705 main_v7706 main_v7710

def fn_part370 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7667 : FVec F S2x256x256 .f32) (main_v7668 : FVec F S2x1x256 .f32) : IVec S9x256x256 1 × IVec S8x256x256 1 :=
  let main_v7669 : FVec F S2x256x1 .f32 := (extractStridedSlice S2x256x1 ![0, 0, 141] · slices_S2x256x256_S2x256x1_0_0_141) main_v7667
  let main_v7670 : FVec F S2x1x1 .f32 := (extractStridedSlice S2x1x1 ![0, 0, 141] · slices_S2x1x256_S2x1x1_0_0_141) main_v7668
  let main_v7671 : FVec F S2x256x1 .f32 := broadcastInDim S2x256x1 ![0, 1, 2] bcast_S2x1x1_S2x256x1_0_1_2 main_v7670
  let main_v7672 : FVec F S2x256x1 .f32 := Host.divf main_v7669 main_v7671
  let main_v7673 : FVec F S2x256x256 .f32 := broadcastInDim S2x256x256 ![0, 1, 2] bcast_S2x256x1_S2x256x256_0_1_2 main_v7672
  let main_c_1210 : IVec S_ 32 := constantI S_ 32 141#32
  let main_v7674 : IVec S2x256x256 32 := broadcastInDim S2x256x256 ![] bcast_S_S2x256x256 main_c_1210
  let main_v7675 : IVec S2x256x256 1 := cmpi .sgt main_v4987 main_v7674
  let main_c_1211 : IVec S_ 32 := constantI S_ 32 141#32
  let main_v7676 : IVec S2x256x256 32 := broadcastInDim S2x256x256 ![] bcast_S_S2x256x256 main_c_1211
  let main_v7677 : IVec S2x256x256 1 := cmpi .sgt main_v4988 main_v7676
  let main_v7678 : IVec S2x256x256 1 := andi main_v7675 main_v7677
  let main_v7679 : FVec F S2x256x256 .f32 := broadcastInDim S2x256x256 ![0, 1, 2] bcast_S2x1x256_S2x256x256_0_1_2 main_v7668
  let main_v7680 : FVec F S2x256x256 .f32 := mulf main_v7673 main_v7679
  let main_v7681 : FVec F S2x256x256 .f32 := subf main_v7667 main_v7680
  let main_v7682 : FVec F S2x256x256 .f32 := select main_v7678 main_v7681 main_v7667
  let main_c_1212 : IVec S_ 32 := constantI S_ 32 141#32
  let main_v7683 : IVec S2x256x256 32 := broadcastInDim S2x256x256 ![] bcast_S_S2x256x256 main_c_1212
  let main_v7684 : IVec S2x256x256 1 := cmpi .eq main_v4988 main_v7683
  let main_v7685 : IVec S2x256x256 1 := andi main_v7675 main_v7684
  let main_v7686 : FVec F S2x256x256 .f32 := select main_v7685 main_v7673 main_v7682
  let main_v7687 : FVec F S2x1x256 .f32 := (extractStridedSlice S2x1x256 ![0, 142, 0] · slices_S2x256x256_S2x1x256_0_142_0) main_v7686
  let main_v7688 : FVec F S2x256x1 .f32 := (extractStridedSlice S2x256x1 ![0, 0, 142] · slices_S2x256x256_S2x256x1_0_0_142) main_v7686
  let main_v7689 : FVec F S2x1x1 .f32 := (extractStridedSlice S2x1x1 ![0, 0, 142] · slices_S2x1x256_S2x1x1_0_0_142) main_v7687
  fn_part371 (F := F) main_arg0 main_v8 main_v4875 main_v4987 main_v4988 main_v7686 main_v7687 main_v7688 main_v7689

def fn_part369 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7635 : FVec F S2x256x256 .f32) (main_v7644 : FVec F S2x256x256 .f32) (main_v7647 : IVec S2x256x256 1) : IVec S9x256x256 1 × IVec S8x256x256 1 :=
  let main_v7648 : FVec F S2x256x256 .f32 := select main_v7647 main_v7635 main_v7644
  let main_v7649 : FVec F S2x1x256 .f32 := (extractStridedSlice S2x1x256 ![0, 140, 0] · slices_S2x256x256_S2x1x256_0_140_0) main_v7648
  let main_v7650 : FVec F S2x256x1 .f32 := (extractStridedSlice S2x256x1 ![0, 0, 140] · slices_S2x256x256_S2x256x1_0_0_140) main_v7648
  let main_v7651 : FVec F S2x1x1 .f32 := (extractStridedSlice S2x1x1 ![0, 0, 140] · slices_S2x1x256_S2x1x1_0_0_140) main_v7649
  let main_v7652 : FVec F S2x256x1 .f32 := broadcastInDim S2x256x1 ![0, 1, 2] bcast_S2x1x1_S2x256x1_0_1_2 main_v7651
  let main_v7653 : FVec F S2x256x1 .f32 := Host.divf main_v7650 main_v7652
  let main_v7654 : FVec F S2x256x256 .f32 := broadcastInDim S2x256x256 ![0, 1, 2] bcast_S2x256x1_S2x256x256_0_1_2 main_v7653
  let main_c_1207 : IVec S_ 32 := constantI S_ 32 140#32
  let main_v7655 : IVec S2x256x256 32 := broadcastInDim S2x256x256 ![] bcast_S_S2x256x256 main_c_1207
  let main_v7656 : IVec S2x256x256 1 := cmpi .sgt main_v4987 main_v7655
  let main_c_1208 : IVec S_ 32 := constantI S_ 32 140#32
  let main_v7657 : IVec S2x256x256 32 := broadcastInDim S2x256x256 ![] bcast_S_S2x256x256 main_c_1208
  let main_v7658 : IVec S2x256x256 1 := cmpi .sgt main_v4988 main_v7657
  let main_v7659 : IVec S2x256x256 1 := andi main_v7656 main_v7658
  let main_v7660 : FVec F S2x256x256 .f32 := broadcastInDim S2x256x256 ![0, 1, 2] bcast_S2x1x256_S2x256x256_0_1_2 main_v7649
  let main_v7661 : FVec F S2x256x256 .f32 := mulf main_v7654 main_v7660
  let main_v7662 : FVec F S2x256x256 .f32 := subf main_v7648 main_v7661
  let main_v7663 : FVec F S2x256x256 .f32 := select main_v7659 main_v7662 main_v7648
  let main_c_1209 : IVec S_ 32 := constantI S_ 32 140#32
  let main_v7664 : IVec S2x256x256 32 := broadcastInDim S2x256x256 ![] bcast_S_S2x256x256 main_c_1209
  let main_v7665 : IVec S2x256x256 1 := cmpi .eq main_v4988 main_v7664
  let main_v7666 : IVec S2x256x256 1 := andi main_v7656 main_v7665
  let main_v7667 : FVec F S2x256x256 .f32 := select main_v7666 main_v7654 main_v7663
  let main_v7668 : FVec F S2x1x256 .f32 := (extractStridedSlice S2x1x256 ![0, 141, 0] · slices_S2x256x256_S2x1x256_0_141_0) main_v7667
  fn_part370 (F := F) main_arg0 main_v8 main_v4875 main_v4987 main_v4988 main_v7667 main_v7668

def fn_part368 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7616 : FVec F S2x256x256 .f32) (main_v7618 : IVec S2x256x256 1) (main_v7625 : FVec F S2x256x256 .f32) (main_v7626 : IVec S2x256x256 32) : IVec S9x256x256 1 × IVec S8x256x256 1 :=
  let main_v7627 : IVec S2x256x256 1 := cmpi .eq main_v4988 main_v7626
  let main_v7628 : IVec S2x256x256 1 := andi main_v7618 main_v7627
  let main_v7629 : FVec F S2x256x256 .f32 := select main_v7628 main_v7616 main_v7625
  let main_v7630 : FVec F S2x1x256 .f32 := (extractStridedSlice S2x1x256 ![0, 139, 0] · slices_S2x256x256_S2x1x256_0_139_0) main_v7629
  let main_v7631 : FVec F S2x256x1 .f32 := (extractStridedSlice S2x256x1 ![0, 0, 139] · slices_S2x256x256_S2x256x1_0_0_139) main_v7629
  let main_v7632 : FVec F S2x1x1 .f32 := (extractStridedSlice S2x1x1 ![0, 0, 139] · slices_S2x1x256_S2x1x1_0_0_139) main_v7630
  let main_v7633 : FVec F S2x256x1 .f32 := broadcastInDim S2x256x1 ![0, 1, 2] bcast_S2x1x1_S2x256x1_0_1_2 main_v7632
  let main_v7634 : FVec F S2x256x1 .f32 := Host.divf main_v7631 main_v7633
  let main_v7635 : FVec F S2x256x256 .f32 := broadcastInDim S2x256x256 ![0, 1, 2] bcast_S2x256x1_S2x256x256_0_1_2 main_v7634
  let main_c_1204 : IVec S_ 32 := constantI S_ 32 139#32
  let main_v7636 : IVec S2x256x256 32 := broadcastInDim S2x256x256 ![] bcast_S_S2x256x256 main_c_1204
  let main_v7637 : IVec S2x256x256 1 := cmpi .sgt main_v4987 main_v7636
  let main_c_1205 : IVec S_ 32 := constantI S_ 32 139#32
  let main_v7638 : IVec S2x256x256 32 := broadcastInDim S2x256x256 ![] bcast_S_S2x256x256 main_c_1205
  let main_v7639 : IVec S2x256x256 1 := cmpi .sgt main_v4988 main_v7638
  let main_v7640 : IVec S2x256x256 1 := andi main_v7637 main_v7639
  let main_v7641 : FVec F S2x256x256 .f32 := broadcastInDim S2x256x256 ![0, 1, 2] bcast_S2x1x256_S2x256x256_0_1_2 main_v7630
  let main_v7642 : FVec F S2x256x256 .f32 := mulf main_v7635 main_v7641
  let main_v7643 : FVec F S2x256x256 .f32 := subf main_v7629 main_v7642
  let main_v7644 : FVec F S2x256x256 .f32 := select main_v7640 main_v7643 main_v7629
  let main_c_1206 : IVec S_ 32 := constantI S_ 32 139#32
  let main_v7645 : IVec S2x256x256 32 := broadcastInDim S2x256x256 ![] bcast_S_S2x256x256 main_c_1206
  let main_v7646 : IVec S2x256x256 1 := cmpi .eq main_v4988 main_v7645
  let main_v7647 : IVec S2x256x256 1 := andi main_v7637 main_v7646
  fn_part369 (F := F) main_arg0 main_v8 main_v4875 main_v4987 main_v4988 main_v7635 main_v7644 main_v7647

def fn_part367 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7597 : FVec F S2x256x256 .f32) (main_v7599 : IVec S2x256x256 1) (main_v7606 : FVec F S2x256x256 .f32) : IVec S9x256x256 1 × IVec S8x256x256 1 :=
  let main_c_1200 : IVec S_ 32 := constantI S_ 32 137#32
  let main_v7607 : IVec S2x256x256 32 := broadcastInDim S2x256x256 ![] bcast_S_S2x256x256 main_c_1200
  let main_v7608 : IVec S2x256x256 1 := cmpi .eq main_v4988 main_v7607
  let main_v7609 : IVec S2x256x256 1 := andi main_v7599 main_v7608
  let main_v7610 : FVec F S2x256x256 .f32 := select main_v7609 main_v7597 main_v7606
  let main_v7611 : FVec F S2x1x256 .f32 := (extractStridedSlice S2x1x256 ![0, 138, 0] · slices_S2x256x256_S2x1x256_0_138_0) main_v7610
  let main_v7612 : FVec F S2x256x1 .f32 := (extractStridedSlice S2x256x1 ![0, 0, 138] · slices_S2x256x256_S2x256x1_0_0_138) main_v7610
  let main_v7613 : FVec F S2x1x1 .f32 := (extractStridedSlice S2x1x1 ![0, 0, 138] · slices_S2x1x256_S2x1x1_0_0_138) main_v7611
  let main_v7614 : FVec F S2x256x1 .f32 := broadcastInDim S2x256x1 ![0, 1, 2] bcast_S2x1x1_S2x256x1_0_1_2 main_v7613
  let main_v7615 : FVec F S2x256x1 .f32 := Host.divf main_v7612 main_v7614
  let main_v7616 : FVec F S2x256x256 .f32 := broadcastInDim S2x256x256 ![0, 1, 2] bcast_S2x256x1_S2x256x256_0_1_2 main_v7615
  let main_c_1201 : IVec S_ 32 := constantI S_ 32 138#32
  let main_v7617 : IVec S2x256x256 32 := broadcastInDim S2x256x256 ![] bcast_S_S2x256x256 main_c_1201
  let main_v7618 : IVec S2x256x256 1 := cmpi .sgt main_v4987 main_v7617
  let main_c_1202 : IVec S_ 32 := constantI S_ 32 138#32
  let main_v7619 : IVec S2x256x256 32 := broadcastInDim S2x256x256 ![] bcast_S_S2x256x256 main_c_1202
  let main_v7620 : IVec S2x256x256 1 := cmpi .sgt main_v4988 main_v7619
  let main_v7621 : IVec S2x256x256 1 := andi main_v7618 main_v7620
  let main_v7622 : FVec F S2x256x256 .f32 := broadcastInDim S2x256x256 ![0, 1, 2] bcast_S2x1x256_S2x256x256_0_1_2 main_v7611
  let main_v7623 : FVec F S2x256x256 .f32 := mulf main_v7616 main_v7622
  let main_v7624 : FVec F S2x256x256 .f32 := subf main_v7610 main_v7623
  let main_v7625 : FVec F S2x256x256 .f32 := select main_v7621 main_v7624 main_v7610
  let main_c_1203 : IVec S_ 32 := constantI S_ 32 138#32
  let main_v7626 : IVec S2x256x256 32 := broadcastInDim S2x256x256 ![] bcast_S_S2x256x256 main_c_1203
  fn_part368 (F := F) main_arg0 main_v8 main_v4875 main_v4987 main_v4988 main_v7616 main_v7618 main_v7625 main_v7626

def fn_part366 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7572 : FVec F S2x256x256 .f32) (main_v7578 : FVec F S2x256x256 .f32) (main_v7580 : IVec S2x256x256 1) (main_v7583 : IVec S2x256x256 1) (main_v7585 : FVec F S2x256x256 .f32) : IVec S9x256x256 1 × IVec S8x256x256 1 :=
  let main_v7586 : FVec F S2x256x256 .f32 := subf main_v7572 main_v7585
  let main_v7587 : FVec F S2x256x256 .f32 := select main_v7583 main_v7586 main_v7572
  let main_c_1197 : IVec S_ 32 := constantI S_ 32 136#32
  let main_v7588 : IVec S2x256x256 32 := broadcastInDim S2x256x256 ![] bcast_S_S2x256x256 main_c_1197
  let main_v7589 : IVec S2x256x256 1 := cmpi .eq main_v4988 main_v7588
  let main_v7590 : IVec S2x256x256 1 := andi main_v7580 main_v7589
  let main_v7591 : FVec F S2x256x256 .f32 := select main_v7590 main_v7578 main_v7587
  let main_v7592 : FVec F S2x1x256 .f32 := (extractStridedSlice S2x1x256 ![0, 137, 0] · slices_S2x256x256_S2x1x256_0_137_0) main_v7591
  let main_v7593 : FVec F S2x256x1 .f32 := (extractStridedSlice S2x256x1 ![0, 0, 137] · slices_S2x256x256_S2x256x1_0_0_137) main_v7591
  let main_v7594 : FVec F S2x1x1 .f32 := (extractStridedSlice S2x1x1 ![0, 0, 137] · slices_S2x1x256_S2x1x1_0_0_137) main_v7592
  let main_v7595 : FVec F S2x256x1 .f32 := broadcastInDim S2x256x1 ![0, 1, 2] bcast_S2x1x1_S2x256x1_0_1_2 main_v7594
  let main_v7596 : FVec F S2x256x1 .f32 := Host.divf main_v7593 main_v7595
  let main_v7597 : FVec F S2x256x256 .f32 := broadcastInDim S2x256x256 ![0, 1, 2] bcast_S2x256x1_S2x256x256_0_1_2 main_v7596
  let main_c_1198 : IVec S_ 32 := constantI S_ 32 137#32
  let main_v7598 : IVec S2x256x256 32 := broadcastInDim S2x256x256 ![] bcast_S_S2x256x256 main_c_1198
  let main_v7599 : IVec S2x256x256 1 := cmpi .sgt main_v4987 main_v7598
  let main_c_1199 : IVec S_ 32 := constantI S_ 32 137#32
  let main_v7600 : IVec S2x256x256 32 := broadcastInDim S2x256x256 ![] bcast_S_S2x256x256 main_c_1199
  let main_v7601 : IVec S2x256x256 1 := cmpi .sgt main_v4988 main_v7600
  let main_v7602 : IVec S2x256x256 1 := andi main_v7599 main_v7601
  let main_v7603 : FVec F S2x256x256 .f32 := broadcastInDim S2x256x256 ![0, 1, 2] bcast_S2x1x256_S2x256x256_0_1_2 main_v7592
  let main_v7604 : FVec F S2x256x256 .f32 := mulf main_v7597 main_v7603
  let main_v7605 : FVec F S2x256x256 .f32 := subf main_v7591 main_v7604
  let main_v7606 : FVec F S2x256x256 .f32 := select main_v7602 main_v7605 main_v7591
  fn_part367 (F := F) main_arg0 main_v8 main_v4875 main_v4987 main_v4988 main_v7597 main_v7599 main_v7606

def fn_part365 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7553 : FVec F S2x256x256 .f32) (main_v7554 : FVec F S2x1x256 .f32) (main_v7559 : FVec F S2x256x256 .f32) (main_v7561 : IVec S2x256x256 1) (main_v7564 : IVec S2x256x256 1) : IVec S9x256x256 1 × IVec S8x256x256 1 :=
  let main_v7565 : FVec F S2x256x256 .f32 := broadcastInDim S2x256x256 ![0, 1, 2] bcast_S2x1x256_S2x256x256_0_1_2 main_v7554
  let main_v7566 : FVec F S2x256x256 .f32 := mulf main_v7559 main_v7565
  let main_v7567 : FVec F S2x256x256 .f32 := subf main_v7553 main_v7566
  let main_v7568 : FVec F S2x256x256 .f32 := select main_v7564 main_v7567 main_v7553
  let main_c_1194 : IVec S_ 32 := constantI S_ 32 135#32
  let main_v7569 : IVec S2x256x256 32 := broadcastInDim S2x256x256 ![] bcast_S_S2x256x256 main_c_1194
  let main_v7570 : IVec S2x256x256 1 := cmpi .eq main_v4988 main_v7569
  let main_v7571 : IVec S2x256x256 1 := andi main_v7561 main_v7570
  let main_v7572 : FVec F S2x256x256 .f32 := select main_v7571 main_v7559 main_v7568
  let main_v7573 : FVec F S2x1x256 .f32 := (extractStridedSlice S2x1x256 ![0, 136, 0] · slices_S2x256x256_S2x1x256_0_136_0) main_v7572
  let main_v7574 : FVec F S2x256x1 .f32 := (extractStridedSlice S2x256x1 ![0, 0, 136] · slices_S2x256x256_S2x256x1_0_0_136) main_v7572
  let main_v7575 : FVec F S2x1x1 .f32 := (extractStridedSlice S2x1x1 ![0, 0, 136] · slices_S2x1x256_S2x1x1_0_0_136) main_v7573
  let main_v7576 : FVec F S2x256x1 .f32 := broadcastInDim S2x256x1 ![0, 1, 2] bcast_S2x1x1_S2x256x1_0_1_2 main_v7575
  let main_v7577 : FVec F S2x256x1 .f32 := Host.divf main_v7574 main_v7576
  let main_v7578 : FVec F S2x256x256 .f32 := broadcastInDim S2x256x256 ![0, 1, 2] bcast_S2x256x1_S2x256x256_0_1_2 main_v7577
  let main_c_1195 : IVec S_ 32 := constantI S_ 32 136#32
  let main_v7579 : IVec S2x256x256 32 := broadcastInDim S2x256x256 ![] bcast_S_S2x256x256 main_c_1195
  let main_v7580 : IVec S2x256x256 1 := cmpi .sgt main_v4987 main_v7579
  let main_c_1196 : IVec S_ 32 := constantI S_ 32 136#32
  let main_v7581 : IVec S2x256x256 32 := broadcastInDim S2x256x256 ![] bcast_S_S2x256x256 main_c_1196
  let main_v7582 : IVec S2x256x256 1 := cmpi .sgt main_v4988 main_v7581
  let main_v7583 : IVec S2x256x256 1 := andi main_v7580 main_v7582
  let main_v7584 : FVec F S2x256x256 .f32 := broadcastInDim S2x256x256 ![0, 1, 2] bcast_S2x1x256_S2x256x256_0_1_2 main_v7573
  let main_v7585 : FVec F S2x256x256 .f32 := mulf main_v7578 main_v7584
  fn_part366 (F := F) main_arg0 main_v8 main_v4875 main_v4987 main_v4988 main_v7572 main_v7578 main_v7580 main_v7583 main_v7585

def fn_part364 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7534 : FVec F S2x256x256 .f32) (main_v7535 : FVec F S2x1x256 .f32) (main_v7540 : FVec F S2x256x256 .f32) (main_v7542 : IVec S2x256x256 1) (main_v7543 : IVec S2x256x256 32) : IVec S9x256x256 1 × IVec S8x256x256 1 :=
  let main_v7544 : IVec S2x256x256 1 := cmpi .sgt main_v4988 main_v7543
  let main_v7545 : IVec S2x256x256 1 := andi main_v7542 main_v7544
  let main_v7546 : FVec F S2x256x256 .f32 := broadcastInDim S2x256x256 ![0, 1, 2] bcast_S2x1x256_S2x256x256_0_1_2 main_v7535
  let main_v7547 : FVec F S2x256x256 .f32 := mulf main_v7540 main_v7546
  let main_v7548 : FVec F S2x256x256 .f32 := subf main_v7534 main_v7547
  let main_v7549 : FVec F S2x256x256 .f32 := select main_v7545 main_v7548 main_v7534
  let main_c_1191 : IVec S_ 32 := constantI S_ 32 134#32
  let main_v7550 : IVec S2x256x256 32 := broadcastInDim S2x256x256 ![] bcast_S_S2x256x256 main_c_1191
  let main_v7551 : IVec S2x256x256 1 := cmpi .eq main_v4988 main_v7550
  let main_v7552 : IVec S2x256x256 1 := andi main_v7542 main_v7551
  let main_v7553 : FVec F S2x256x256 .f32 := select main_v7552 main_v7540 main_v7549
  let main_v7554 : FVec F S2x1x256 .f32 := (extractStridedSlice S2x1x256 ![0, 135, 0] · slices_S2x256x256_S2x1x256_0_135_0) main_v7553
  let main_v7555 : FVec F S2x256x1 .f32 := (extractStridedSlice S2x256x1 ![0, 0, 135] · slices_S2x256x256_S2x256x1_0_0_135) main_v7553
  let main_v7556 : FVec F S2x1x1 .f32 := (extractStridedSlice S2x1x1 ![0, 0, 135] · slices_S2x1x256_S2x1x1_0_0_135) main_v7554
  let main_v7557 : FVec F S2x256x1 .f32 := broadcastInDim S2x256x1 ![0, 1, 2] bcast_S2x1x1_S2x256x1_0_1_2 main_v7556
  let main_v7558 : FVec F S2x256x1 .f32 := Host.divf main_v7555 main_v7557
  let main_v7559 : FVec F S2x256x256 .f32 := broadcastInDim S2x256x256 ![0, 1, 2] bcast_S2x256x1_S2x256x256_0_1_2 main_v7558
  let main_c_1192 : IVec S_ 32 := constantI S_ 32 135#32
  let main_v7560 : IVec S2x256x256 32 := broadcastInDim S2x256x256 ![] bcast_S_S2x256x256 main_c_1192
  let main_v7561 : IVec S2x256x256 1 := cmpi .sgt main_v4987 main_v7560
  let main_c_1193 : IVec S_ 32 := constantI S_ 32 135#32
  let main_v7562 : IVec S2x256x256 32 := broadcastInDim S2x256x256 ![] bcast_S_S2x256x256 main_c_1193
  let main_v7563 : IVec S2x256x256 1 := cmpi .sgt main_v4988 main_v7562
  let main_v7564 : IVec S2x256x256 1 := andi main_v7561 main_v7563
  fn_part365 (F := F) main_arg0 main_v8 main_v4875 main_v4987 main_v4988 main_v7553 main_v7554 main_v7559 main_v7561 main_v7564

def fn_part363 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7515 : FVec F S2x256x256 .f32) (main_v7516 : FVec F S2x1x256 .f32) (main_v7521 : FVec F S2x256x256 .f32) (main_v7523 : IVec S2x256x256 1) : IVec S9x256x256 1 × IVec S8x256x256 1 :=
  let main_c_1187 : IVec S_ 32 := constantI S_ 32 133#32
  let main_v7524 : IVec S2x256x256 32 := broadcastInDim S2x256x256 ![] bcast_S_S2x256x256 main_c_1187
  let main_v7525 : IVec S2x256x256 1 := cmpi .sgt main_v4988 main_v7524
  let main_v7526 : IVec S2x256x256 1 := andi main_v7523 main_v7525
  let main_v7527 : FVec F S2x256x256 .f32 := broadcastInDim S2x256x256 ![0, 1, 2] bcast_S2x1x256_S2x256x256_0_1_2 main_v7516
  let main_v7528 : FVec F S2x256x256 .f32 := mulf main_v7521 main_v7527
  let main_v7529 : FVec F S2x256x256 .f32 := subf main_v7515 main_v7528
  let main_v7530 : FVec F S2x256x256 .f32 := select main_v7526 main_v7529 main_v7515
  let main_c_1188 : IVec S_ 32 := constantI S_ 32 133#32
  let main_v7531 : IVec S2x256x256 32 := broadcastInDim S2x256x256 ![] bcast_S_S2x256x256 main_c_1188
  let main_v7532 : IVec S2x256x256 1 := cmpi .eq main_v4988 main_v7531
  let main_v7533 : IVec S2x256x256 1 := andi main_v7523 main_v7532
  let main_v7534 : FVec F S2x256x256 .f32 := select main_v7533 main_v7521 main_v7530
  let main_v7535 : FVec F S2x1x256 .f32 := (extractStridedSlice S2x1x256 ![0, 134, 0] · slices_S2x256x256_S2x1x256_0_134_0) main_v7534
  let main_v7536 : FVec F S2x256x1 .f32 := (extractStridedSlice S2x256x1 ![0, 0, 134] · slices_S2x256x256_S2x256x1_0_0_134) main_v7534
  let main_v7537 : FVec F S2x1x1 .f32 := (extractStridedSlice S2x1x1 ![0, 0, 134] · slices_S2x1x256_S2x1x1_0_0_134) main_v7535
  let main_v7538 : FVec F S2x256x1 .f32 := broadcastInDim S2x256x1 ![0, 1, 2] bcast_S2x1x1_S2x256x1_0_1_2 main_v7537
  let main_v7539 : FVec F S2x256x1 .f32 := Host.divf main_v7536 main_v7538
  let main_v7540 : FVec F S2x256x256 .f32 := broadcastInDim S2x256x256 ![0, 1, 2] bcast_S2x256x1_S2x256x256_0_1_2 main_v7539
  let main_c_1189 : IVec S_ 32 := constantI S_ 32 134#32
  let main_v7541 : IVec S2x256x256 32 := broadcastInDim S2x256x256 ![] bcast_S_S2x256x256 main_c_1189
  let main_v7542 : IVec S2x256x256 1 := cmpi .sgt main_v4987 main_v7541
  let main_c_1190 : IVec S_ 32 := constantI S_ 32 134#32
  let main_v7543 : IVec S2x256x256 32 := broadcastInDim S2x256x256 ![] bcast_S_S2x256x256 main_c_1190
  fn_part364 (F := F) main_arg0 main_v8 main_v4875 main_v4987 main_v4988 main_v7534 main_v7535 main_v7540 main_v7542 main_v7543

def fn_part362 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7496 : FVec F S2x256x256 .f32) (main_v7497 : FVec F S2x1x256 .f32) (main_v7502 : FVec F S2x256x256 .f32) (main_c_1183 : IVec S_ 32) : IVec S9x256x256 1 × IVec S8x256x256 1 :=
  let main_v7503 : IVec S2x256x256 32 := broadcastInDim S2x256x256 ![] bcast_S_S2x256x256 main_c_1183
  let main_v7504 : IVec S2x256x256 1 := cmpi .sgt main_v4987 main_v7503
  let main_c_1184 : IVec S_ 32 := constantI S_ 32 132#32
  let main_v7505 : IVec S2x256x256 32 := broadcastInDim S2x256x256 ![] bcast_S_S2x256x256 main_c_1184
  let main_v7506 : IVec S2x256x256 1 := cmpi .sgt main_v4988 main_v7505
  let main_v7507 : IVec S2x256x256 1 := andi main_v7504 main_v7506
  let main_v7508 : FVec F S2x256x256 .f32 := broadcastInDim S2x256x256 ![0, 1, 2] bcast_S2x1x256_S2x256x256_0_1_2 main_v7497
  let main_v7509 : FVec F S2x256x256 .f32 := mulf main_v7502 main_v7508
  let main_v7510 : FVec F S2x256x256 .f32 := subf main_v7496 main_v7509
  let main_v7511 : FVec F S2x256x256 .f32 := select main_v7507 main_v7510 main_v7496
  let main_c_1185 : IVec S_ 32 := constantI S_ 32 132#32
  let main_v7512 : IVec S2x256x256 32 := broadcastInDim S2x256x256 ![] bcast_S_S2x256x256 main_c_1185
  let main_v7513 : IVec S2x256x256 1 := cmpi .eq main_v4988 main_v7512
  let main_v7514 : IVec S2x256x256 1 := andi main_v7504 main_v7513
  let main_v7515 : FVec F S2x256x256 .f32 := select main_v7514 main_v7502 main_v7511
  let main_v7516 : FVec F S2x1x256 .f32 := (extractStridedSlice S2x1x256 ![0, 133, 0] · slices_S2x256x256_S2x1x256_0_133_0) main_v7515
  let main_v7517 : FVec F S2x256x1 .f32 := (extractStridedSlice S2x256x1 ![0, 0, 133] · slices_S2x256x256_S2x256x1_0_0_133) main_v7515
  let main_v7518 : FVec F S2x1x1 .f32 := (extractStridedSlice S2x1x1 ![0, 0, 133] · slices_S2x1x256_S2x1x1_0_0_133) main_v7516
  let main_v7519 : FVec F S2x256x1 .f32 := broadcastInDim S2x256x1 ![0, 1, 2] bcast_S2x1x1_S2x256x1_0_1_2 main_v7518
  let main_v7520 : FVec F S2x256x1 .f32 := Host.divf main_v7517 main_v7519
  let main_v7521 : FVec F S2x256x256 .f32 := broadcastInDim S2x256x256 ![0, 1, 2] bcast_S2x256x1_S2x256x256_0_1_2 main_v7520
  let main_c_1186 : IVec S_ 32 := constantI S_ 32 133#32
  let main_v7522 : IVec S2x256x256 32 := broadcastInDim S2x256x256 ![] bcast_S_S2x256x256 main_c_1186
  let main_v7523 : IVec S2x256x256 1 := cmpi .sgt main_v4987 main_v7522
  fn_part363 (F := F) main_arg0 main_v8 main_v4875 main_v4987 main_v4988 main_v7515 main_v7516 main_v7521 main_v7523

def fn_part361 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7477 : FVec F S2x256x256 .f32) (main_v7478 : FVec F S2x1x256 .f32) (main_v7482 : FVec F S2x256x1 .f32) : IVec S9x256x256 1 × IVec S8x256x256 1 :=
  let main_v7483 : FVec F S2x256x256 .f32 := broadcastInDim S2x256x256 ![0, 1, 2] bcast_S2x256x1_S2x256x256_0_1_2 main_v7482
  let main_c_1180 : IVec S_ 32 := constantI S_ 32 131#32
  let main_v7484 : IVec S2x256x256 32 := broadcastInDim S2x256x256 ![] bcast_S_S2x256x256 main_c_1180
  let main_v7485 : IVec S2x256x256 1 := cmpi .sgt main_v4987 main_v7484
  let main_c_1181 : IVec S_ 32 := constantI S_ 32 131#32
  let main_v7486 : IVec S2x256x256 32 := broadcastInDim S2x256x256 ![] bcast_S_S2x256x256 main_c_1181
  let main_v7487 : IVec S2x256x256 1 := cmpi .sgt main_v4988 main_v7486
  let main_v7488 : IVec S2x256x256 1 := andi main_v7485 main_v7487
  let main_v7489 : FVec F S2x256x256 .f32 := broadcastInDim S2x256x256 ![0, 1, 2] bcast_S2x1x256_S2x256x256_0_1_2 main_v7478
  let main_v7490 : FVec F S2x256x256 .f32 := mulf main_v7483 main_v7489
  let main_v7491 : FVec F S2x256x256 .f32 := subf main_v7477 main_v7490
  let main_v7492 : FVec F S2x256x256 .f32 := select main_v7488 main_v7491 main_v7477
  let main_c_1182 : IVec S_ 32 := constantI S_ 32 131#32
  let main_v7493 : IVec S2x256x256 32 := broadcastInDim S2x256x256 ![] bcast_S_S2x256x256 main_c_1182
  let main_v7494 : IVec S2x256x256 1 := cmpi .eq main_v4988 main_v7493
  let main_v7495 : IVec S2x256x256 1 := andi main_v7485 main_v7494
  let main_v7496 : FVec F S2x256x256 .f32 := select main_v7495 main_v7483 main_v7492
  let main_v7497 : FVec F S2x1x256 .f32 := (extractStridedSlice S2x1x256 ![0, 132, 0] · slices_S2x256x256_S2x1x256_0_132_0) main_v7496
  let main_v7498 : FVec F S2x256x1 .f32 := (extractStridedSlice S2x256x1 ![0, 0, 132] · slices_S2x256x256_S2x256x1_0_0_132) main_v7496
  let main_v7499 : FVec F S2x1x1 .f32 := (extractStridedSlice S2x1x1 ![0, 0, 132] · slices_S2x1x256_S2x1x1_0_0_132) main_v7497
  let main_v7500 : FVec F S2x256x1 .f32 := broadcastInDim S2x256x1 ![0, 1, 2] bcast_S2x1x1_S2x256x1_0_1_2 main_v7499
  let main_v7501 : FVec F S2x256x1 .f32 := Host.divf main_v7498 main_v7500
  let main_v7502 : FVec F S2x256x256 .f32 := broadcastInDim S2x256x256 ![0, 1, 2] bcast_S2x256x1_S2x256x256_0_1_2 main_v7501
  let main_c_1183 : IVec S_ 32 := constantI S_ 32 132#32
  fn_part362 (F := F) main_arg0 main_v8 main_v4875 main_v4987 main_v4988 main_v7496 main_v7497 main_v7502 main_c_1183

def fn_part360 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7458 : FVec F S2x256x256 .f32) (main_v7459 : FVec F S2x1x256 .f32) (main_v7460 : FVec F S2x256x1 .f32) (main_v7461 : FVec F S2x1x1 .f32) : IVec S9x256x256 1 × IVec S8x256x256 1 :=
  let main_v7462 : FVec F S2x256x1 .f32 := broadcastInDim S2x256x1 ![0, 1, 2] bcast_S2x1x1_S2x256x1_0_1_2 main_v7461
  let main_v7463 : FVec F S2x256x1 .f32 := Host.divf main_v7460 main_v7462
  let main_v7464 : FVec F S2x256x256 .f32 := broadcastInDim S2x256x256 ![0, 1, 2] bcast_S2x256x1_S2x256x256_0_1_2 main_v7463
  let main_c_1177 : IVec S_ 32 := constantI S_ 32 130#32
  let main_v7465 : IVec S2x256x256 32 := broadcastInDim S2x256x256 ![] bcast_S_S2x256x256 main_c_1177
  let main_v7466 : IVec S2x256x256 1 := cmpi .sgt main_v4987 main_v7465
  let main_c_1178 : IVec S_ 32 := constantI S_ 32 130#32
  let main_v7467 : IVec S2x256x256 32 := broadcastInDim S2x256x256 ![] bcast_S_S2x256x256 main_c_1178
  let main_v7468 : IVec S2x256x256 1 := cmpi .sgt main_v4988 main_v7467
  let main_v7469 : IVec S2x256x256 1 := andi main_v7466 main_v7468
  let main_v7470 : FVec F S2x256x256 .f32 := broadcastInDim S2x256x256 ![0, 1, 2] bcast_S2x1x256_S2x256x256_0_1_2 main_v7459
  let main_v7471 : FVec F S2x256x256 .f32 := mulf main_v7464 main_v7470
  let main_v7472 : FVec F S2x256x256 .f32 := subf main_v7458 main_v7471
  let main_v7473 : FVec F S2x256x256 .f32 := select main_v7469 main_v7472 main_v7458
  let main_c_1179 : IVec S_ 32 := constantI S_ 32 130#32
  let main_v7474 : IVec S2x256x256 32 := broadcastInDim S2x256x256 ![] bcast_S_S2x256x256 main_c_1179
  let main_v7475 : IVec S2x256x256 1 := cmpi .eq main_v4988 main_v7474
  let main_v7476 : IVec S2x256x256 1 := andi main_v7466 main_v7475
  let main_v7477 : FVec F S2x256x256 .f32 := select main_v7476 main_v7464 main_v7473
  let main_v7478 : FVec F S2x1x256 .f32 := (extractStridedSlice S2x1x256 ![0, 131, 0] · slices_S2x256x256_S2x1x256_0_131_0) main_v7477
  let main_v7479 : FVec F S2x256x1 .f32 := (extractStridedSlice S2x256x1 ![0, 0, 131] · slices_S2x256x256_S2x256x1_0_0_131) main_v7477
  let main_v7480 : FVec F S2x1x1 .f32 := (extractStridedSlice S2x1x1 ![0, 0, 131] · slices_S2x1x256_S2x1x1_0_0_131) main_v7478
  let main_v7481 : FVec F S2x256x1 .f32 := broadcastInDim S2x256x1 ![0, 1, 2] bcast_S2x1x1_S2x256x1_0_1_2 main_v7480
  let main_v7482 : FVec F S2x256x1 .f32 := Host.divf main_v7479 main_v7481
  fn_part361 (F := F) main_arg0 main_v8 main_v4875 main_v4987 main_v4988 main_v7477 main_v7478 main_v7482

def fn_part359 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7439 : FVec F S2x256x256 .f32) (main_v7440 : FVec F S2x1x256 .f32) : IVec S9x256x256 1 × IVec S8x256x256 1 :=
  let main_v7441 : FVec F S2x256x1 .f32 := (extractStridedSlice S2x256x1 ![0, 0, 129] · slices_S2x256x256_S2x256x1_0_0_129) main_v7439
  let main_v7442 : FVec F S2x1x1 .f32 := (extractStridedSlice S2x1x1 ![0, 0, 129] · slices_S2x1x256_S2x1x1_0_0_129) main_v7440
  let main_v7443 : FVec F S2x256x1 .f32 := broadcastInDim S2x256x1 ![0, 1, 2] bcast_S2x1x1_S2x256x1_0_1_2 main_v7442
  let main_v7444 : FVec F S2x256x1 .f32 := Host.divf main_v7441 main_v7443
  let main_v7445 : FVec F S2x256x256 .f32 := broadcastInDim S2x256x256 ![0, 1, 2] bcast_S2x256x1_S2x256x256_0_1_2 main_v7444
  let main_c_1174 : IVec S_ 32 := constantI S_ 32 129#32
  let main_v7446 : IVec S2x256x256 32 := broadcastInDim S2x256x256 ![] bcast_S_S2x256x256 main_c_1174
  let main_v7447 : IVec S2x256x256 1 := cmpi .sgt main_v4987 main_v7446
  let main_c_1175 : IVec S_ 32 := constantI S_ 32 129#32
  let main_v7448 : IVec S2x256x256 32 := broadcastInDim S2x256x256 ![] bcast_S_S2x256x256 main_c_1175
  let main_v7449 : IVec S2x256x256 1 := cmpi .sgt main_v4988 main_v7448
  let main_v7450 : IVec S2x256x256 1 := andi main_v7447 main_v7449
  let main_v7451 : FVec F S2x256x256 .f32 := broadcastInDim S2x256x256 ![0, 1, 2] bcast_S2x1x256_S2x256x256_0_1_2 main_v7440
  let main_v7452 : FVec F S2x256x256 .f32 := mulf main_v7445 main_v7451
  let main_v7453 : FVec F S2x256x256 .f32 := subf main_v7439 main_v7452
  let main_v7454 : FVec F S2x256x256 .f32 := select main_v7450 main_v7453 main_v7439
  let main_c_1176 : IVec S_ 32 := constantI S_ 32 129#32
  let main_v7455 : IVec S2x256x256 32 := broadcastInDim S2x256x256 ![] bcast_S_S2x256x256 main_c_1176
  let main_v7456 : IVec S2x256x256 1 := cmpi .eq main_v4988 main_v7455
  let main_v7457 : IVec S2x256x256 1 := andi main_v7447 main_v7456
  let main_v7458 : FVec F S2x256x256 .f32 := select main_v7457 main_v7445 main_v7454
  let main_v7459 : FVec F S2x1x256 .f32 := (extractStridedSlice S2x1x256 ![0, 130, 0] · slices_S2x256x256_S2x1x256_0_130_0) main_v7458
  let main_v7460 : FVec F S2x256x1 .f32 := (extractStridedSlice S2x256x1 ![0, 0, 130] · slices_S2x256x256_S2x256x1_0_0_130) main_v7458
  let main_v7461 : FVec F S2x1x1 .f32 := (extractStridedSlice S2x1x1 ![0, 0, 130] · slices_S2x1x256_S2x1x1_0_0_130) main_v7459
  fn_part360 (F := F) main_arg0 main_v8 main_v4875 main_v4987 main_v4988 main_v7458 main_v7459 main_v7460 main_v7461

def fn_part358 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7407 : FVec F S2x256x256 .f32) (main_v7416 : FVec F S2x256x256 .f32) (main_v7419 : IVec S2x256x256 1) : IVec S9x256x256 1 × IVec S8x256x256 1 :=
  let main_v7420 : FVec F S2x256x256 .f32 := select main_v7419 main_v7407 main_v7416
  let main_v7421 : FVec F S2x1x256 .f32 := (extractStridedSlice S2x1x256 ![0, 128, 0] · slices_S2x256x256_S2x1x256_0_128_0) main_v7420
  let main_v7422 : FVec F S2x256x1 .f32 := (extractStridedSlice S2x256x1 ![0, 0, 128] · slices_S2x256x256_S2x256x1_0_0_128) main_v7420
  let main_v7423 : FVec F S2x1x1 .f32 := (extractStridedSlice S2x1x1 ![0, 0, 128] · slices_S2x1x256_S2x1x1_0_0_128) main_v7421
  let main_v7424 : FVec F S2x256x1 .f32 := broadcastInDim S2x256x1 ![0, 1, 2] bcast_S2x1x1_S2x256x1_0_1_2 main_v7423
  let main_v7425 : FVec F S2x256x1 .f32 := Host.divf main_v7422 main_v7424
  let main_v7426 : FVec F S2x256x256 .f32 := broadcastInDim S2x256x256 ![0, 1, 2] bcast_S2x256x1_S2x256x256_0_1_2 main_v7425
  let main_c_1171 : IVec S_ 32 := constantI S_ 32 128#32
  let main_v7427 : IVec S2x256x256 32 := broadcastInDim S2x256x256 ![] bcast_S_S2x256x256 main_c_1171
  let main_v7428 : IVec S2x256x256 1 := cmpi .sgt main_v4987 main_v7427
  let main_c_1172 : IVec S_ 32 := constantI S_ 32 128#32
  let main_v7429 : IVec S2x256x256 32 := broadcastInDim S2x256x256 ![] bcast_S_S2x256x256 main_c_1172
  let main_v7430 : IVec S2x256x256 1 := cmpi .sgt main_v4988 main_v7429
  let main_v7431 : IVec S2x256x256 1 := andi main_v7428 main_v7430
  let main_v7432 : FVec F S2x256x256 .f32 := broadcastInDim S2x256x256 ![0, 1, 2] bcast_S2x1x256_S2x256x256_0_1_2 main_v7421
  let main_v7433 : FVec F S2x256x256 .f32 := mulf main_v7426 main_v7432
  let main_v7434 : FVec F S2x256x256 .f32 := subf main_v7420 main_v7433
  let main_v7435 : FVec F S2x256x256 .f32 := select main_v7431 main_v7434 main_v7420
  let main_c_1173 : IVec S_ 32 := constantI S_ 32 128#32
  let main_v7436 : IVec S2x256x256 32 := broadcastInDim S2x256x256 ![] bcast_S_S2x256x256 main_c_1173
  let main_v7437 : IVec S2x256x256 1 := cmpi .eq main_v4988 main_v7436
  let main_v7438 : IVec S2x256x256 1 := andi main_v7428 main_v7437
  let main_v7439 : FVec F S2x256x256 .f32 := select main_v7438 main_v7426 main_v7435
  let main_v7440 : FVec F S2x1x256 .f32 := (extractStridedSlice S2x1x256 ![0, 129, 0] · slices_S2x256x256_S2x1x256_0_129_0) main_v7439
  fn_part359 (F := F) main_arg0 main_v8 main_v4875 main_v4987 main_v4988 main_v7439 main_v7440

def fn_part357 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7388 : FVec F S2x256x256 .f32) (main_v7390 : IVec S2x256x256 1) (main_v7397 : FVec F S2x256x256 .f32) (main_v7398 : IVec S2x256x256 32) : IVec S9x256x256 1 × IVec S8x256x256 1 :=
  let main_v7399 : IVec S2x256x256 1 := cmpi .eq main_v4988 main_v7398
  let main_v7400 : IVec S2x256x256 1 := andi main_v7390 main_v7399
  let main_v7401 : FVec F S2x256x256 .f32 := select main_v7400 main_v7388 main_v7397
  let main_v7402 : FVec F S2x1x256 .f32 := (extractStridedSlice S2x1x256 ![0, 127, 0] · slices_S2x256x256_S2x1x256_0_127_0) main_v7401
  let main_v7403 : FVec F S2x256x1 .f32 := (extractStridedSlice S2x256x1 ![0, 0, 127] · slices_S2x256x256_S2x256x1_0_0_127) main_v7401
  let main_v7404 : FVec F S2x1x1 .f32 := (extractStridedSlice S2x1x1 ![0, 0, 127] · slices_S2x1x256_S2x1x1_0_0_127) main_v7402
  let main_v7405 : FVec F S2x256x1 .f32 := broadcastInDim S2x256x1 ![0, 1, 2] bcast_S2x1x1_S2x256x1_0_1_2 main_v7404
  let main_v7406 : FVec F S2x256x1 .f32 := Host.divf main_v7403 main_v7405
  let main_v7407 : FVec F S2x256x256 .f32 := broadcastInDim S2x256x256 ![0, 1, 2] bcast_S2x256x1_S2x256x256_0_1_2 main_v7406
  let main_c_1168 : IVec S_ 32 := constantI S_ 32 127#32
  let main_v7408 : IVec S2x256x256 32 := broadcastInDim S2x256x256 ![] bcast_S_S2x256x256 main_c_1168
  let main_v7409 : IVec S2x256x256 1 := cmpi .sgt main_v4987 main_v7408
  let main_c_1169 : IVec S_ 32 := constantI S_ 32 127#32
  let main_v7410 : IVec S2x256x256 32 := broadcastInDim S2x256x256 ![] bcast_S_S2x256x256 main_c_1169
  let main_v7411 : IVec S2x256x256 1 := cmpi .sgt main_v4988 main_v7410
  let main_v7412 : IVec S2x256x256 1 := andi main_v7409 main_v7411
  let main_v7413 : FVec F S2x256x256 .f32 := broadcastInDim S2x256x256 ![0, 1, 2] bcast_S2x1x256_S2x256x256_0_1_2 main_v7402
  let main_v7414 : FVec F S2x256x256 .f32 := mulf main_v7407 main_v7413
  let main_v7415 : FVec F S2x256x256 .f32 := subf main_v7401 main_v7414
  let main_v7416 : FVec F S2x256x256 .f32 := select main_v7412 main_v7415 main_v7401
  let main_c_1170 : IVec S_ 32 := constantI S_ 32 127#32
  let main_v7417 : IVec S2x256x256 32 := broadcastInDim S2x256x256 ![] bcast_S_S2x256x256 main_c_1170
  let main_v7418 : IVec S2x256x256 1 := cmpi .eq main_v4988 main_v7417
  let main_v7419 : IVec S2x256x256 1 := andi main_v7409 main_v7418
  fn_part358 (F := F) main_arg0 main_v8 main_v4875 main_v4987 main_v4988 main_v7407 main_v7416 main_v7419

def fn_part356 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7369 : FVec F S2x256x256 .f32) (main_v7371 : IVec S2x256x256 1) (main_v7378 : FVec F S2x256x256 .f32) : IVec S9x256x256 1 × IVec S8x256x256 1 :=
  let main_c_1164 : IVec S_ 32 := constantI S_ 32 125#32
  let main_v7379 : IVec S2x256x256 32 := broadcastInDim S2x256x256 ![] bcast_S_S2x256x256 main_c_1164
  let main_v7380 : IVec S2x256x256 1 := cmpi .eq main_v4988 main_v7379
  let main_v7381 : IVec S2x256x256 1 := andi main_v7371 main_v7380
  let main_v7382 : FVec F S2x256x256 .f32 := select main_v7381 main_v7369 main_v7378
  let main_v7383 : FVec F S2x1x256 .f32 := (extractStridedSlice S2x1x256 ![0, 126, 0] · slices_S2x256x256_S2x1x256_0_126_0) main_v7382
  let main_v7384 : FVec F S2x256x1 .f32 := (extractStridedSlice S2x256x1 ![0, 0, 126] · slices_S2x256x256_S2x256x1_0_0_126) main_v7382
  let main_v7385 : FVec F S2x1x1 .f32 := (extractStridedSlice S2x1x1 ![0, 0, 126] · slices_S2x1x256_S2x1x1_0_0_126) main_v7383
  let main_v7386 : FVec F S2x256x1 .f32 := broadcastInDim S2x256x1 ![0, 1, 2] bcast_S2x1x1_S2x256x1_0_1_2 main_v7385
  let main_v7387 : FVec F S2x256x1 .f32 := Host.divf main_v7384 main_v7386
  let main_v7388 : FVec F S2x256x256 .f32 := broadcastInDim S2x256x256 ![0, 1, 2] bcast_S2x256x1_S2x256x256_0_1_2 main_v7387
  let main_c_1165 : IVec S_ 32 := constantI S_ 32 126#32
  let main_v7389 : IVec S2x256x256 32 := broadcastInDim S2x256x256 ![] bcast_S_S2x256x256 main_c_1165
  let main_v7390 : IVec S2x256x256 1 := cmpi .sgt main_v4987 main_v7389
  let main_c_1166 : IVec S_ 32 := constantI S_ 32 126#32
  let main_v7391 : IVec S2x256x256 32 := broadcastInDim S2x256x256 ![] bcast_S_S2x256x256 main_c_1166
  let main_v7392 : IVec S2x256x256 1 := cmpi .sgt main_v4988 main_v7391
  let main_v7393 : IVec S2x256x256 1 := andi main_v7390 main_v7392
  let main_v7394 : FVec F S2x256x256 .f32 := broadcastInDim S2x256x256 ![0, 1, 2] bcast_S2x1x256_S2x256x256_0_1_2 main_v7383
  let main_v7395 : FVec F S2x256x256 .f32 := mulf main_v7388 main_v7394
  let main_v7396 : FVec F S2x256x256 .f32 := subf main_v7382 main_v7395
  let main_v7397 : FVec F S2x256x256 .f32 := select main_v7393 main_v7396 main_v7382
  let main_c_1167 : IVec S_ 32 := constantI S_ 32 126#32
  let main_v7398 : IVec S2x256x256 32 := broadcastInDim S2x256x256 ![] bcast_S_S2x256x256 main_c_1167
  fn_part357 (F := F) main_arg0 main_v8 main_v4875 main_v4987 main_v4988 main_v7388 main_v7390 main_v7397 main_v7398

def fn_part355 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7344 : FVec F S2x256x256 .f32) (main_v7350 : FVec F S2x256x256 .f32) (main_v7352 : IVec S2x256x256 1) (main_v7355 : IVec S2x256x256 1) (main_v7357 : FVec F S2x256x256 .f32) : IVec S9x256x256 1 × IVec S8x256x256 1 :=
  let main_v7358 : FVec F S2x256x256 .f32 := subf main_v7344 main_v7357
  let main_v7359 : FVec F S2x256x256 .f32 := select main_v7355 main_v7358 main_v7344
  let main_c_1161 : IVec S_ 32 := constantI S_ 32 124#32
  let main_v7360 : IVec S2x256x256 32 := broadcastInDim S2x256x256 ![] bcast_S_S2x256x256 main_c_1161
  let main_v7361 : IVec S2x256x256 1 := cmpi .eq main_v4988 main_v7360
  let main_v7362 : IVec S2x256x256 1 := andi main_v7352 main_v7361
  let main_v7363 : FVec F S2x256x256 .f32 := select main_v7362 main_v7350 main_v7359
  let main_v7364 : FVec F S2x1x256 .f32 := (extractStridedSlice S2x1x256 ![0, 125, 0] · slices_S2x256x256_S2x1x256_0_125_0) main_v7363
  let main_v7365 : FVec F S2x256x1 .f32 := (extractStridedSlice S2x256x1 ![0, 0, 125] · slices_S2x256x256_S2x256x1_0_0_125) main_v7363
  let main_v7366 : FVec F S2x1x1 .f32 := (extractStridedSlice S2x1x1 ![0, 0, 125] · slices_S2x1x256_S2x1x1_0_0_125) main_v7364
  let main_v7367 : FVec F S2x256x1 .f32 := broadcastInDim S2x256x1 ![0, 1, 2] bcast_S2x1x1_S2x256x1_0_1_2 main_v7366
  let main_v7368 : FVec F S2x256x1 .f32 := Host.divf main_v7365 main_v7367
  let main_v7369 : FVec F S2x256x256 .f32 := broadcastInDim S2x256x256 ![0, 1, 2] bcast_S2x256x1_S2x256x256_0_1_2 main_v7368
  let main_c_1162 : IVec S_ 32 := constantI S_ 32 125#32
  let main_v7370 : IVec S2x256x256 32 := broadcastInDim S2x256x256 ![] bcast_S_S2x256x256 main_c_1162
  let main_v7371 : IVec S2x256x256 1 := cmpi .sgt main_v4987 main_v7370
  let main_c_1163 : IVec S_ 32 := constantI S_ 32 125#32
  let main_v7372 : IVec S2x256x256 32 := broadcastInDim S2x256x256 ![] bcast_S_S2x256x256 main_c_1163
  let main_v7373 : IVec S2x256x256 1 := cmpi .sgt main_v4988 main_v7372
  let main_v7374 : IVec S2x256x256 1 := andi main_v7371 main_v7373
  let main_v7375 : FVec F S2x256x256 .f32 := broadcastInDim S2x256x256 ![0, 1, 2] bcast_S2x1x256_S2x256x256_0_1_2 main_v7364
  let main_v7376 : FVec F S2x256x256 .f32 := mulf main_v7369 main_v7375
  let main_v7377 : FVec F S2x256x256 .f32 := subf main_v7363 main_v7376
  let main_v7378 : FVec F S2x256x256 .f32 := select main_v7374 main_v7377 main_v7363
  fn_part356 (F := F) main_arg0 main_v8 main_v4875 main_v4987 main_v4988 main_v7369 main_v7371 main_v7378

def fn_part354 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7325 : FVec F S2x256x256 .f32) (main_v7326 : FVec F S2x1x256 .f32) (main_v7331 : FVec F S2x256x256 .f32) (main_v7333 : IVec S2x256x256 1) (main_v7336 : IVec S2x256x256 1) : IVec S9x256x256 1 × IVec S8x256x256 1 :=
  let main_v7337 : FVec F S2x256x256 .f32 := broadcastInDim S2x256x256 ![0, 1, 2] bcast_S2x1x256_S2x256x256_0_1_2 main_v7326
  let main_v7338 : FVec F S2x256x256 .f32 := mulf main_v7331 main_v7337
  let main_v7339 : FVec F S2x256x256 .f32 := subf main_v7325 main_v7338
  let main_v7340 : FVec F S2x256x256 .f32 := select main_v7336 main_v7339 main_v7325
  let main_c_1158 : IVec S_ 32 := constantI S_ 32 123#32
  let main_v7341 : IVec S2x256x256 32 := broadcastInDim S2x256x256 ![] bcast_S_S2x256x256 main_c_1158
  let main_v7342 : IVec S2x256x256 1 := cmpi .eq main_v4988 main_v7341
  let main_v7343 : IVec S2x256x256 1 := andi main_v7333 main_v7342
  let main_v7344 : FVec F S2x256x256 .f32 := select main_v7343 main_v7331 main_v7340
  let main_v7345 : FVec F S2x1x256 .f32 := (extractStridedSlice S2x1x256 ![0, 124, 0] · slices_S2x256x256_S2x1x256_0_124_0) main_v7344
  let main_v7346 : FVec F S2x256x1 .f32 := (extractStridedSlice S2x256x1 ![0, 0, 124] · slices_S2x256x256_S2x256x1_0_0_124) main_v7344
  let main_v7347 : FVec F S2x1x1 .f32 := (extractStridedSlice S2x1x1 ![0, 0, 124] · slices_S2x1x256_S2x1x1_0_0_124) main_v7345
  let main_v7348 : FVec F S2x256x1 .f32 := broadcastInDim S2x256x1 ![0, 1, 2] bcast_S2x1x1_S2x256x1_0_1_2 main_v7347
  let main_v7349 : FVec F S2x256x1 .f32 := Host.divf main_v7346 main_v7348
  let main_v7350 : FVec F S2x256x256 .f32 := broadcastInDim S2x256x256 ![0, 1, 2] bcast_S2x256x1_S2x256x256_0_1_2 main_v7349
  let main_c_1159 : IVec S_ 32 := constantI S_ 32 124#32
  let main_v7351 : IVec S2x256x256 32 := broadcastInDim S2x256x256 ![] bcast_S_S2x256x256 main_c_1159
  let main_v7352 : IVec S2x256x256 1 := cmpi .sgt main_v4987 main_v7351
  let main_c_1160 : IVec S_ 32 := constantI S_ 32 124#32
  let main_v7353 : IVec S2x256x256 32 := broadcastInDim S2x256x256 ![] bcast_S_S2x256x256 main_c_1160
  let main_v7354 : IVec S2x256x256 1 := cmpi .sgt main_v4988 main_v7353
  let main_v7355 : IVec S2x256x256 1 := andi main_v7352 main_v7354
  let main_v7356 : FVec F S2x256x256 .f32 := broadcastInDim S2x256x256 ![0, 1, 2] bcast_S2x1x256_S2x256x256_0_1_2 main_v7345
  let main_v7357 : FVec F S2x256x256 .f32 := mulf main_v7350 main_v7356
  fn_part355 (F := F) main_arg0 main_v8 main_v4875 main_v4987 main_v4988 main_v7344 main_v7350 main_v7352 main_v7355 main_v7357

def fn_part353 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7306 : FVec F S2x256x256 .f32) (main_v7307 : FVec F S2x1x256 .f32) (main_v7312 : FVec F S2x256x256 .f32) (main_v7314 : IVec S2x256x256 1) (main_v7315 : IVec S2x256x256 32) : IVec S9x256x256 1 × IVec S8x256x256 1 :=
  let main_v7316 : IVec S2x256x256 1 := cmpi .sgt main_v4988 main_v7315
  let main_v7317 : IVec S2x256x256 1 := andi main_v7314 main_v7316
  let main_v7318 : FVec F S2x256x256 .f32 := broadcastInDim S2x256x256 ![0, 1, 2] bcast_S2x1x256_S2x256x256_0_1_2 main_v7307
  let main_v7319 : FVec F S2x256x256 .f32 := mulf main_v7312 main_v7318
  let main_v7320 : FVec F S2x256x256 .f32 := subf main_v7306 main_v7319
  let main_v7321 : FVec F S2x256x256 .f32 := select main_v7317 main_v7320 main_v7306
  let main_c_1155 : IVec S_ 32 := constantI S_ 32 122#32
  let main_v7322 : IVec S2x256x256 32 := broadcastInDim S2x256x256 ![] bcast_S_S2x256x256 main_c_1155
  let main_v7323 : IVec S2x256x256 1 := cmpi .eq main_v4988 main_v7322
  let main_v7324 : IVec S2x256x256 1 := andi main_v7314 main_v7323
  let main_v7325 : FVec F S2x256x256 .f32 := select main_v7324 main_v7312 main_v7321
  let main_v7326 : FVec F S2x1x256 .f32 := (extractStridedSlice S2x1x256 ![0, 123, 0] · slices_S2x256x256_S2x1x256_0_123_0) main_v7325
  let main_v7327 : FVec F S2x256x1 .f32 := (extractStridedSlice S2x256x1 ![0, 0, 123] · slices_S2x256x256_S2x256x1_0_0_123) main_v7325
  let main_v7328 : FVec F S2x1x1 .f32 := (extractStridedSlice S2x1x1 ![0, 0, 123] · slices_S2x1x256_S2x1x1_0_0_123) main_v7326
  let main_v7329 : FVec F S2x256x1 .f32 := broadcastInDim S2x256x1 ![0, 1, 2] bcast_S2x1x1_S2x256x1_0_1_2 main_v7328
  let main_v7330 : FVec F S2x256x1 .f32 := Host.divf main_v7327 main_v7329
  let main_v7331 : FVec F S2x256x256 .f32 := broadcastInDim S2x256x256 ![0, 1, 2] bcast_S2x256x1_S2x256x256_0_1_2 main_v7330
  let main_c_1156 : IVec S_ 32 := constantI S_ 32 123#32
  let main_v7332 : IVec S2x256x256 32 := broadcastInDim S2x256x256 ![] bcast_S_S2x256x256 main_c_1156
  let main_v7333 : IVec S2x256x256 1 := cmpi .sgt main_v4987 main_v7332
  let main_c_1157 : IVec S_ 32 := constantI S_ 32 123#32
  let main_v7334 : IVec S2x256x256 32 := broadcastInDim S2x256x256 ![] bcast_S_S2x256x256 main_c_1157
  let main_v7335 : IVec S2x256x256 1 := cmpi .sgt main_v4988 main_v7334
  let main_v7336 : IVec S2x256x256 1 := andi main_v7333 main_v7335
  fn_part354 (F := F) main_arg0 main_v8 main_v4875 main_v4987 main_v4988 main_v7325 main_v7326 main_v7331 main_v7333 main_v7336

def fn_part352 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7287 : FVec F S2x256x256 .f32) (main_v7288 : FVec F S2x1x256 .f32) (main_v7293 : FVec F S2x256x256 .f32) (main_v7295 : IVec S2x256x256 1) : IVec S9x256x256 1 × IVec S8x256x256 1 :=
  let main_c_1151 : IVec S_ 32 := constantI S_ 32 121#32
  let main_v7296 : IVec S2x256x256 32 := broadcastInDim S2x256x256 ![] bcast_S_S2x256x256 main_c_1151
  let main_v7297 : IVec S2x256x256 1 := cmpi .sgt main_v4988 main_v7296
  let main_v7298 : IVec S2x256x256 1 := andi main_v7295 main_v7297
  let main_v7299 : FVec F S2x256x256 .f32 := broadcastInDim S2x256x256 ![0, 1, 2] bcast_S2x1x256_S2x256x256_0_1_2 main_v7288
  let main_v7300 : FVec F S2x256x256 .f32 := mulf main_v7293 main_v7299
  let main_v7301 : FVec F S2x256x256 .f32 := subf main_v7287 main_v7300
  let main_v7302 : FVec F S2x256x256 .f32 := select main_v7298 main_v7301 main_v7287
  let main_c_1152 : IVec S_ 32 := constantI S_ 32 121#32
  let main_v7303 : IVec S2x256x256 32 := broadcastInDim S2x256x256 ![] bcast_S_S2x256x256 main_c_1152
  let main_v7304 : IVec S2x256x256 1 := cmpi .eq main_v4988 main_v7303
  let main_v7305 : IVec S2x256x256 1 := andi main_v7295 main_v7304
  let main_v7306 : FVec F S2x256x256 .f32 := select main_v7305 main_v7293 main_v7302
  let main_v7307 : FVec F S2x1x256 .f32 := (extractStridedSlice S2x1x256 ![0, 122, 0] · slices_S2x256x256_S2x1x256_0_122_0) main_v7306
  let main_v7308 : FVec F S2x256x1 .f32 := (extractStridedSlice S2x256x1 ![0, 0, 122] · slices_S2x256x256_S2x256x1_0_0_122) main_v7306
  let main_v7309 : FVec F S2x1x1 .f32 := (extractStridedSlice S2x1x1 ![0, 0, 122] · slices_S2x1x256_S2x1x1_0_0_122) main_v7307
  let main_v7310 : FVec F S2x256x1 .f32 := broadcastInDim S2x256x1 ![0, 1, 2] bcast_S2x1x1_S2x256x1_0_1_2 main_v7309
  let main_v7311 : FVec F S2x256x1 .f32 := Host.divf main_v7308 main_v7310
  let main_v7312 : FVec F S2x256x256 .f32 := broadcastInDim S2x256x256 ![0, 1, 2] bcast_S2x256x1_S2x256x256_0_1_2 main_v7311
  let main_c_1153 : IVec S_ 32 := constantI S_ 32 122#32
  let main_v7313 : IVec S2x256x256 32 := broadcastInDim S2x256x256 ![] bcast_S_S2x256x256 main_c_1153
  let main_v7314 : IVec S2x256x256 1 := cmpi .sgt main_v4987 main_v7313
  let main_c_1154 : IVec S_ 32 := constantI S_ 32 122#32
  let main_v7315 : IVec S2x256x256 32 := broadcastInDim S2x256x256 ![] bcast_S_S2x256x256 main_c_1154
  fn_part353 (F := F) main_arg0 main_v8 main_v4875 main_v4987 main_v4988 main_v7306 main_v7307 main_v7312 main_v7314 main_v7315

def fn_part351 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7268 : FVec F S2x256x256 .f32) (main_v7269 : FVec F S2x1x256 .f32) (main_v7274 : FVec F S2x256x256 .f32) (main_c_1147 : IVec S_ 32) : IVec S9x256x256 1 × IVec S8x256x256 1 :=
  let main_v7275 : IVec S2x256x256 32 := broadcastInDim S2x256x256 ![] bcast_S_S2x256x256 main_c_1147
  let main_v7276 : IVec S2x256x256 1 := cmpi .sgt main_v4987 main_v7275
  let main_c_1148 : IVec S_ 32 := constantI S_ 32 120#32
  let main_v7277 : IVec S2x256x256 32 := broadcastInDim S2x256x256 ![] bcast_S_S2x256x256 main_c_1148
  let main_v7278 : IVec S2x256x256 1 := cmpi .sgt main_v4988 main_v7277
  let main_v7279 : IVec S2x256x256 1 := andi main_v7276 main_v7278
  let main_v7280 : FVec F S2x256x256 .f32 := broadcastInDim S2x256x256 ![0, 1, 2] bcast_S2x1x256_S2x256x256_0_1_2 main_v7269
  let main_v7281 : FVec F S2x256x256 .f32 := mulf main_v7274 main_v7280
  let main_v7282 : FVec F S2x256x256 .f32 := subf main_v7268 main_v7281
  let main_v7283 : FVec F S2x256x256 .f32 := select main_v7279 main_v7282 main_v7268
  let main_c_1149 : IVec S_ 32 := constantI S_ 32 120#32
  let main_v7284 : IVec S2x256x256 32 := broadcastInDim S2x256x256 ![] bcast_S_S2x256x256 main_c_1149
  let main_v7285 : IVec S2x256x256 1 := cmpi .eq main_v4988 main_v7284
  let main_v7286 : IVec S2x256x256 1 := andi main_v7276 main_v7285
  let main_v7287 : FVec F S2x256x256 .f32 := select main_v7286 main_v7274 main_v7283
  let main_v7288 : FVec F S2x1x256 .f32 := (extractStridedSlice S2x1x256 ![0, 121, 0] · slices_S2x256x256_S2x1x256_0_121_0) main_v7287
  let main_v7289 : FVec F S2x256x1 .f32 := (extractStridedSlice S2x256x1 ![0, 0, 121] · slices_S2x256x256_S2x256x1_0_0_121) main_v7287
  let main_v7290 : FVec F S2x1x1 .f32 := (extractStridedSlice S2x1x1 ![0, 0, 121] · slices_S2x1x256_S2x1x1_0_0_121) main_v7288
  let main_v7291 : FVec F S2x256x1 .f32 := broadcastInDim S2x256x1 ![0, 1, 2] bcast_S2x1x1_S2x256x1_0_1_2 main_v7290
  let main_v7292 : FVec F S2x256x1 .f32 := Host.divf main_v7289 main_v7291
  let main_v7293 : FVec F S2x256x256 .f32 := broadcastInDim S2x256x256 ![0, 1, 2] bcast_S2x256x1_S2x256x256_0_1_2 main_v7292
  let main_c_1150 : IVec S_ 32 := constantI S_ 32 121#32
  let main_v7294 : IVec S2x256x256 32 := broadcastInDim S2x256x256 ![] bcast_S_S2x256x256 main_c_1150
  let main_v7295 : IVec S2x256x256 1 := cmpi .sgt main_v4987 main_v7294
  fn_part352 (F := F) main_arg0 main_v8 main_v4875 main_v4987 main_v4988 main_v7287 main_v7288 main_v7293 main_v7295

def fn_part350 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7249 : FVec F S2x256x256 .f32) (main_v7250 : FVec F S2x1x256 .f32) (main_v7254 : FVec F S2x256x1 .f32) : IVec S9x256x256 1 × IVec S8x256x256 1 :=
  let main_v7255 : FVec F S2x256x256 .f32 := broadcastInDim S2x256x256 ![0, 1, 2] bcast_S2x256x1_S2x256x256_0_1_2 main_v7254
  let main_c_1144 : IVec S_ 32 := constantI S_ 32 119#32
  let main_v7256 : IVec S2x256x256 32 := broadcastInDim S2x256x256 ![] bcast_S_S2x256x256 main_c_1144
  let main_v7257 : IVec S2x256x256 1 := cmpi .sgt main_v4987 main_v7256
  let main_c_1145 : IVec S_ 32 := constantI S_ 32 119#32
  let main_v7258 : IVec S2x256x256 32 := broadcastInDim S2x256x256 ![] bcast_S_S2x256x256 main_c_1145
  let main_v7259 : IVec S2x256x256 1 := cmpi .sgt main_v4988 main_v7258
  let main_v7260 : IVec S2x256x256 1 := andi main_v7257 main_v7259
  let main_v7261 : FVec F S2x256x256 .f32 := broadcastInDim S2x256x256 ![0, 1, 2] bcast_S2x1x256_S2x256x256_0_1_2 main_v7250
  let main_v7262 : FVec F S2x256x256 .f32 := mulf main_v7255 main_v7261
  let main_v7263 : FVec F S2x256x256 .f32 := subf main_v7249 main_v7262
  let main_v7264 : FVec F S2x256x256 .f32 := select main_v7260 main_v7263 main_v7249
  let main_c_1146 : IVec S_ 32 := constantI S_ 32 119#32
  let main_v7265 : IVec S2x256x256 32 := broadcastInDim S2x256x256 ![] bcast_S_S2x256x256 main_c_1146
  let main_v7266 : IVec S2x256x256 1 := cmpi .eq main_v4988 main_v7265
  let main_v7267 : IVec S2x256x256 1 := andi main_v7257 main_v7266
  let main_v7268 : FVec F S2x256x256 .f32 := select main_v7267 main_v7255 main_v7264
  let main_v7269 : FVec F S2x1x256 .f32 := (extractStridedSlice S2x1x256 ![0, 120, 0] · slices_S2x256x256_S2x1x256_0_120_0) main_v7268
  let main_v7270 : FVec F S2x256x1 .f32 := (extractStridedSlice S2x256x1 ![0, 0, 120] · slices_S2x256x256_S2x256x1_0_0_120) main_v7268
  let main_v7271 : FVec F S2x1x1 .f32 := (extractStridedSlice S2x1x1 ![0, 0, 120] · slices_S2x1x256_S2x1x1_0_0_120) main_v7269
  let main_v7272 : FVec F S2x256x1 .f32 := broadcastInDim S2x256x1 ![0, 1, 2] bcast_S2x1x1_S2x256x1_0_1_2 main_v7271
  let main_v7273 : FVec F S2x256x1 .f32 := Host.divf main_v7270 main_v7272
  let main_v7274 : FVec F S2x256x256 .f32 := broadcastInDim S2x256x256 ![0, 1, 2] bcast_S2x256x1_S2x256x256_0_1_2 main_v7273
  let main_c_1147 : IVec S_ 32 := constantI S_ 32 120#32
  fn_part351 (F := F) main_arg0 main_v8 main_v4875 main_v4987 main_v4988 main_v7268 main_v7269 main_v7274 main_c_1147

def fn_part349 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7230 : FVec F S2x256x256 .f32) (main_v7231 : FVec F S2x1x256 .f32) (main_v7232 : FVec F S2x256x1 .f32) (main_v7233 : FVec F S2x1x1 .f32) : IVec S9x256x256 1 × IVec S8x256x256 1 :=
  let main_v7234 : FVec F S2x256x1 .f32 := broadcastInDim S2x256x1 ![0, 1, 2] bcast_S2x1x1_S2x256x1_0_1_2 main_v7233
  let main_v7235 : FVec F S2x256x1 .f32 := Host.divf main_v7232 main_v7234
  let main_v7236 : FVec F S2x256x256 .f32 := broadcastInDim S2x256x256 ![0, 1, 2] bcast_S2x256x1_S2x256x256_0_1_2 main_v7235
  let main_c_1141 : IVec S_ 32 := constantI S_ 32 118#32
  let main_v7237 : IVec S2x256x256 32 := broadcastInDim S2x256x256 ![] bcast_S_S2x256x256 main_c_1141
  let main_v7238 : IVec S2x256x256 1 := cmpi .sgt main_v4987 main_v7237
  let main_c_1142 : IVec S_ 32 := constantI S_ 32 118#32
  let main_v7239 : IVec S2x256x256 32 := broadcastInDim S2x256x256 ![] bcast_S_S2x256x256 main_c_1142
  let main_v7240 : IVec S2x256x256 1 := cmpi .sgt main_v4988 main_v7239
  let main_v7241 : IVec S2x256x256 1 := andi main_v7238 main_v7240
  let main_v7242 : FVec F S2x256x256 .f32 := broadcastInDim S2x256x256 ![0, 1, 2] bcast_S2x1x256_S2x256x256_0_1_2 main_v7231
  let main_v7243 : FVec F S2x256x256 .f32 := mulf main_v7236 main_v7242
  let main_v7244 : FVec F S2x256x256 .f32 := subf main_v7230 main_v7243
  let main_v7245 : FVec F S2x256x256 .f32 := select main_v7241 main_v7244 main_v7230
  let main_c_1143 : IVec S_ 32 := constantI S_ 32 118#32
  let main_v7246 : IVec S2x256x256 32 := broadcastInDim S2x256x256 ![] bcast_S_S2x256x256 main_c_1143
  let main_v7247 : IVec S2x256x256 1 := cmpi .eq main_v4988 main_v7246
  let main_v7248 : IVec S2x256x256 1 := andi main_v7238 main_v7247
  let main_v7249 : FVec F S2x256x256 .f32 := select main_v7248 main_v7236 main_v7245
  let main_v7250 : FVec F S2x1x256 .f32 := (extractStridedSlice S2x1x256 ![0, 119, 0] · slices_S2x256x256_S2x1x256_0_119_0) main_v7249
  let main_v7251 : FVec F S2x256x1 .f32 := (extractStridedSlice S2x256x1 ![0, 0, 119] · slices_S2x256x256_S2x256x1_0_0_119) main_v7249
  let main_v7252 : FVec F S2x1x1 .f32 := (extractStridedSlice S2x1x1 ![0, 0, 119] · slices_S2x1x256_S2x1x1_0_0_119) main_v7250
  let main_v7253 : FVec F S2x256x1 .f32 := broadcastInDim S2x256x1 ![0, 1, 2] bcast_S2x1x1_S2x256x1_0_1_2 main_v7252
  let main_v7254 : FVec F S2x256x1 .f32 := Host.divf main_v7251 main_v7253
  fn_part350 (F := F) main_arg0 main_v8 main_v4875 main_v4987 main_v4988 main_v7249 main_v7250 main_v7254

def fn_part348 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7211 : FVec F S2x256x256 .f32) (main_v7212 : FVec F S2x1x256 .f32) : IVec S9x256x256 1 × IVec S8x256x256 1 :=
  let main_v7213 : FVec F S2x256x1 .f32 := (extractStridedSlice S2x256x1 ![0, 0, 117] · slices_S2x256x256_S2x256x1_0_0_117) main_v7211
  let main_v7214 : FVec F S2x1x1 .f32 := (extractStridedSlice S2x1x1 ![0, 0, 117] · slices_S2x1x256_S2x1x1_0_0_117) main_v7212
  let main_v7215 : FVec F S2x256x1 .f32 := broadcastInDim S2x256x1 ![0, 1, 2] bcast_S2x1x1_S2x256x1_0_1_2 main_v7214
  let main_v7216 : FVec F S2x256x1 .f32 := Host.divf main_v7213 main_v7215
  let main_v7217 : FVec F S2x256x256 .f32 := broadcastInDim S2x256x256 ![0, 1, 2] bcast_S2x256x1_S2x256x256_0_1_2 main_v7216
  let main_c_1138 : IVec S_ 32 := constantI S_ 32 117#32
  let main_v7218 : IVec S2x256x256 32 := broadcastInDim S2x256x256 ![] bcast_S_S2x256x256 main_c_1138
  let main_v7219 : IVec S2x256x256 1 := cmpi .sgt main_v4987 main_v7218
  let main_c_1139 : IVec S_ 32 := constantI S_ 32 117#32
  let main_v7220 : IVec S2x256x256 32 := broadcastInDim S2x256x256 ![] bcast_S_S2x256x256 main_c_1139
  let main_v7221 : IVec S2x256x256 1 := cmpi .sgt main_v4988 main_v7220
  let main_v7222 : IVec S2x256x256 1 := andi main_v7219 main_v7221
  let main_v7223 : FVec F S2x256x256 .f32 := broadcastInDim S2x256x256 ![0, 1, 2] bcast_S2x1x256_S2x256x256_0_1_2 main_v7212
  let main_v7224 : FVec F S2x256x256 .f32 := mulf main_v7217 main_v7223
  let main_v7225 : FVec F S2x256x256 .f32 := subf main_v7211 main_v7224
  let main_v7226 : FVec F S2x256x256 .f32 := select main_v7222 main_v7225 main_v7211
  let main_c_1140 : IVec S_ 32 := constantI S_ 32 117#32
  let main_v7227 : IVec S2x256x256 32 := broadcastInDim S2x256x256 ![] bcast_S_S2x256x256 main_c_1140
  let main_v7228 : IVec S2x256x256 1 := cmpi .eq main_v4988 main_v7227
  let main_v7229 : IVec S2x256x256 1 := andi main_v7219 main_v7228
  let main_v7230 : FVec F S2x256x256 .f32 := select main_v7229 main_v7217 main_v7226
  let main_v7231 : FVec F S2x1x256 .f32 := (extractStridedSlice S2x1x256 ![0, 118, 0] · slices_S2x256x256_S2x1x256_0_118_0) main_v7230
  let main_v7232 : FVec F S2x256x1 .f32 := (extractStridedSlice S2x256x1 ![0, 0, 118] · slices_S2x256x256_S2x256x1_0_0_118) main_v7230
  let main_v7233 : FVec F S2x1x1 .f32 := (extractStridedSlice S2x1x1 ![0, 0, 118] · slices_S2x1x256_S2x1x1_0_0_118) main_v7231
  fn_part349 (F := F) main_arg0 main_v8 main_v4875 main_v4987 main_v4988 main_v7230 main_v7231 main_v7232 main_v7233

def fn_part347 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7179 : FVec F S2x256x256 .f32) (main_v7188 : FVec F S2x256x256 .f32) (main_v7191 : IVec S2x256x256 1) : IVec S9x256x256 1 × IVec S8x256x256 1 :=
  let main_v7192 : FVec F S2x256x256 .f32 := select main_v7191 main_v7179 main_v7188
  let main_v7193 : FVec F S2x1x256 .f32 := (extractStridedSlice S2x1x256 ![0, 116, 0] · slices_S2x256x256_S2x1x256_0_116_0) main_v7192
  let main_v7194 : FVec F S2x256x1 .f32 := (extractStridedSlice S2x256x1 ![0, 0, 116] · slices_S2x256x256_S2x256x1_0_0_116) main_v7192
  let main_v7195 : FVec F S2x1x1 .f32 := (extractStridedSlice S2x1x1 ![0, 0, 116] · slices_S2x1x256_S2x1x1_0_0_116) main_v7193
  let main_v7196 : FVec F S2x256x1 .f32 := broadcastInDim S2x256x1 ![0, 1, 2] bcast_S2x1x1_S2x256x1_0_1_2 main_v7195
  let main_v7197 : FVec F S2x256x1 .f32 := Host.divf main_v7194 main_v7196
  let main_v7198 : FVec F S2x256x256 .f32 := broadcastInDim S2x256x256 ![0, 1, 2] bcast_S2x256x1_S2x256x256_0_1_2 main_v7197
  let main_c_1135 : IVec S_ 32 := constantI S_ 32 116#32
  let main_v7199 : IVec S2x256x256 32 := broadcastInDim S2x256x256 ![] bcast_S_S2x256x256 main_c_1135
  let main_v7200 : IVec S2x256x256 1 := cmpi .sgt main_v4987 main_v7199
  let main_c_1136 : IVec S_ 32 := constantI S_ 32 116#32
  let main_v7201 : IVec S2x256x256 32 := broadcastInDim S2x256x256 ![] bcast_S_S2x256x256 main_c_1136
  let main_v7202 : IVec S2x256x256 1 := cmpi .sgt main_v4988 main_v7201
  let main_v7203 : IVec S2x256x256 1 := andi main_v7200 main_v7202
  let main_v7204 : FVec F S2x256x256 .f32 := broadcastInDim S2x256x256 ![0, 1, 2] bcast_S2x1x256_S2x256x256_0_1_2 main_v7193
  let main_v7205 : FVec F S2x256x256 .f32 := mulf main_v7198 main_v7204
  let main_v7206 : FVec F S2x256x256 .f32 := subf main_v7192 main_v7205
  let main_v7207 : FVec F S2x256x256 .f32 := select main_v7203 main_v7206 main_v7192
  let main_c_1137 : IVec S_ 32 := constantI S_ 32 116#32
  let main_v7208 : IVec S2x256x256 32 := broadcastInDim S2x256x256 ![] bcast_S_S2x256x256 main_c_1137
  let main_v7209 : IVec S2x256x256 1 := cmpi .eq main_v4988 main_v7208
  let main_v7210 : IVec S2x256x256 1 := andi main_v7200 main_v7209
  let main_v7211 : FVec F S2x256x256 .f32 := select main_v7210 main_v7198 main_v7207
  let main_v7212 : FVec F S2x1x256 .f32 := (extractStridedSlice S2x1x256 ![0, 117, 0] · slices_S2x256x256_S2x1x256_0_117_0) main_v7211
  fn_part348 (F := F) main_arg0 main_v8 main_v4875 main_v4987 main_v4988 main_v7211 main_v7212

def fn_part346 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7160 : FVec F S2x256x256 .f32) (main_v7162 : IVec S2x256x256 1) (main_v7169 : FVec F S2x256x256 .f32) (main_v7170 : IVec S2x256x256 32) : IVec S9x256x256 1 × IVec S8x256x256 1 :=
  let main_v7171 : IVec S2x256x256 1 := cmpi .eq main_v4988 main_v7170
  let main_v7172 : IVec S2x256x256 1 := andi main_v7162 main_v7171
  let main_v7173 : FVec F S2x256x256 .f32 := select main_v7172 main_v7160 main_v7169
  let main_v7174 : FVec F S2x1x256 .f32 := (extractStridedSlice S2x1x256 ![0, 115, 0] · slices_S2x256x256_S2x1x256_0_115_0) main_v7173
  let main_v7175 : FVec F S2x256x1 .f32 := (extractStridedSlice S2x256x1 ![0, 0, 115] · slices_S2x256x256_S2x256x1_0_0_115) main_v7173
  let main_v7176 : FVec F S2x1x1 .f32 := (extractStridedSlice S2x1x1 ![0, 0, 115] · slices_S2x1x256_S2x1x1_0_0_115) main_v7174
  let main_v7177 : FVec F S2x256x1 .f32 := broadcastInDim S2x256x1 ![0, 1, 2] bcast_S2x1x1_S2x256x1_0_1_2 main_v7176
  let main_v7178 : FVec F S2x256x1 .f32 := Host.divf main_v7175 main_v7177
  let main_v7179 : FVec F S2x256x256 .f32 := broadcastInDim S2x256x256 ![0, 1, 2] bcast_S2x256x1_S2x256x256_0_1_2 main_v7178
  let main_c_1132 : IVec S_ 32 := constantI S_ 32 115#32
  let main_v7180 : IVec S2x256x256 32 := broadcastInDim S2x256x256 ![] bcast_S_S2x256x256 main_c_1132
  let main_v7181 : IVec S2x256x256 1 := cmpi .sgt main_v4987 main_v7180
  let main_c_1133 : IVec S_ 32 := constantI S_ 32 115#32
  let main_v7182 : IVec S2x256x256 32 := broadcastInDim S2x256x256 ![] bcast_S_S2x256x256 main_c_1133
  let main_v7183 : IVec S2x256x256 1 := cmpi .sgt main_v4988 main_v7182
  let main_v7184 : IVec S2x256x256 1 := andi main_v7181 main_v7183
  let main_v7185 : FVec F S2x256x256 .f32 := broadcastInDim S2x256x256 ![0, 1, 2] bcast_S2x1x256_S2x256x256_0_1_2 main_v7174
  let main_v7186 : FVec F S2x256x256 .f32 := mulf main_v7179 main_v7185
  let main_v7187 : FVec F S2x256x256 .f32 := subf main_v7173 main_v7186
  let main_v7188 : FVec F S2x256x256 .f32 := select main_v7184 main_v7187 main_v7173
  let main_c_1134 : IVec S_ 32 := constantI S_ 32 115#32
  let main_v7189 : IVec S2x256x256 32 := broadcastInDim S2x256x256 ![] bcast_S_S2x256x256 main_c_1134
  let main_v7190 : IVec S2x256x256 1 := cmpi .eq main_v4988 main_v7189
  let main_v7191 : IVec S2x256x256 1 := andi main_v7181 main_v7190
  fn_part347 (F := F) main_arg0 main_v8 main_v4875 main_v4987 main_v4988 main_v7179 main_v7188 main_v7191

def fn_part345 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7141 : FVec F S2x256x256 .f32) (main_v7143 : IVec S2x256x256 1) (main_v7150 : FVec F S2x256x256 .f32) : IVec S9x256x256 1 × IVec S8x256x256 1 :=
  let main_c_1128 : IVec S_ 32 := constantI S_ 32 113#32
  let main_v7151 : IVec S2x256x256 32 := broadcastInDim S2x256x256 ![] bcast_S_S2x256x256 main_c_1128
  let main_v7152 : IVec S2x256x256 1 := cmpi .eq main_v4988 main_v7151
  let main_v7153 : IVec S2x256x256 1 := andi main_v7143 main_v7152
  let main_v7154 : FVec F S2x256x256 .f32 := select main_v7153 main_v7141 main_v7150
  let main_v7155 : FVec F S2x1x256 .f32 := (extractStridedSlice S2x1x256 ![0, 114, 0] · slices_S2x256x256_S2x1x256_0_114_0) main_v7154
  let main_v7156 : FVec F S2x256x1 .f32 := (extractStridedSlice S2x256x1 ![0, 0, 114] · slices_S2x256x256_S2x256x1_0_0_114) main_v7154
  let main_v7157 : FVec F S2x1x1 .f32 := (extractStridedSlice S2x1x1 ![0, 0, 114] · slices_S2x1x256_S2x1x1_0_0_114) main_v7155
  let main_v7158 : FVec F S2x256x1 .f32 := broadcastInDim S2x256x1 ![0, 1, 2] bcast_S2x1x1_S2x256x1_0_1_2 main_v7157
  let main_v7159 : FVec F S2x256x1 .f32 := Host.divf main_v7156 main_v7158
  let main_v7160 : FVec F S2x256x256 .f32 := broadcastInDim S2x256x256 ![0, 1, 2] bcast_S2x256x1_S2x256x256_0_1_2 main_v7159
  let main_c_1129 : IVec S_ 32 := constantI S_ 32 114#32
  let main_v7161 : IVec S2x256x256 32 := broadcastInDim S2x256x256 ![] bcast_S_S2x256x256 main_c_1129
  let main_v7162 : IVec S2x256x256 1 := cmpi .sgt main_v4987 main_v7161
  let main_c_1130 : IVec S_ 32 := constantI S_ 32 114#32
  let main_v7163 : IVec S2x256x256 32 := broadcastInDim S2x256x256 ![] bcast_S_S2x256x256 main_c_1130
  let main_v7164 : IVec S2x256x256 1 := cmpi .sgt main_v4988 main_v7163
  let main_v7165 : IVec S2x256x256 1 := andi main_v7162 main_v7164
  let main_v7166 : FVec F S2x256x256 .f32 := broadcastInDim S2x256x256 ![0, 1, 2] bcast_S2x1x256_S2x256x256_0_1_2 main_v7155
  let main_v7167 : FVec F S2x256x256 .f32 := mulf main_v7160 main_v7166
  let main_v7168 : FVec F S2x256x256 .f32 := subf main_v7154 main_v7167
  let main_v7169 : FVec F S2x256x256 .f32 := select main_v7165 main_v7168 main_v7154
  let main_c_1131 : IVec S_ 32 := constantI S_ 32 114#32
  let main_v7170 : IVec S2x256x256 32 := broadcastInDim S2x256x256 ![] bcast_S_S2x256x256 main_c_1131
  fn_part346 (F := F) main_arg0 main_v8 main_v4875 main_v4987 main_v4988 main_v7160 main_v7162 main_v7169 main_v7170

def fn_part344 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7116 : FVec F S2x256x256 .f32) (main_v7122 : FVec F S2x256x256 .f32) (main_v7124 : IVec S2x256x256 1) (main_v7127 : IVec S2x256x256 1) (main_v7129 : FVec F S2x256x256 .f32) : IVec S9x256x256 1 × IVec S8x256x256 1 :=
  let main_v7130 : FVec F S2x256x256 .f32 := subf main_v7116 main_v7129
  let main_v7131 : FVec F S2x256x256 .f32 := select main_v7127 main_v7130 main_v7116
  let main_c_1125 : IVec S_ 32 := constantI S_ 32 112#32
  let main_v7132 : IVec S2x256x256 32 := broadcastInDim S2x256x256 ![] bcast_S_S2x256x256 main_c_1125
  let main_v7133 : IVec S2x256x256 1 := cmpi .eq main_v4988 main_v7132
  let main_v7134 : IVec S2x256x256 1 := andi main_v7124 main_v7133
  let main_v7135 : FVec F S2x256x256 .f32 := select main_v7134 main_v7122 main_v7131
  let main_v7136 : FVec F S2x1x256 .f32 := (extractStridedSlice S2x1x256 ![0, 113, 0] · slices_S2x256x256_S2x1x256_0_113_0) main_v7135
  let main_v7137 : FVec F S2x256x1 .f32 := (extractStridedSlice S2x256x1 ![0, 0, 113] · slices_S2x256x256_S2x256x1_0_0_113) main_v7135
  let main_v7138 : FVec F S2x1x1 .f32 := (extractStridedSlice S2x1x1 ![0, 0, 113] · slices_S2x1x256_S2x1x1_0_0_113) main_v7136
  let main_v7139 : FVec F S2x256x1 .f32 := broadcastInDim S2x256x1 ![0, 1, 2] bcast_S2x1x1_S2x256x1_0_1_2 main_v7138
  let main_v7140 : FVec F S2x256x1 .f32 := Host.divf main_v7137 main_v7139
  let main_v7141 : FVec F S2x256x256 .f32 := broadcastInDim S2x256x256 ![0, 1, 2] bcast_S2x256x1_S2x256x256_0_1_2 main_v7140
  let main_c_1126 : IVec S_ 32 := constantI S_ 32 113#32
  let main_v7142 : IVec S2x256x256 32 := broadcastInDim S2x256x256 ![] bcast_S_S2x256x256 main_c_1126
  let main_v7143 : IVec S2x256x256 1 := cmpi .sgt main_v4987 main_v7142
  let main_c_1127 : IVec S_ 32 := constantI S_ 32 113#32
  let main_v7144 : IVec S2x256x256 32 := broadcastInDim S2x256x256 ![] bcast_S_S2x256x256 main_c_1127
  let main_v7145 : IVec S2x256x256 1 := cmpi .sgt main_v4988 main_v7144
  let main_v7146 : IVec S2x256x256 1 := andi main_v7143 main_v7145
  let main_v7147 : FVec F S2x256x256 .f32 := broadcastInDim S2x256x256 ![0, 1, 2] bcast_S2x1x256_S2x256x256_0_1_2 main_v7136
  let main_v7148 : FVec F S2x256x256 .f32 := mulf main_v7141 main_v7147
  let main_v7149 : FVec F S2x256x256 .f32 := subf main_v7135 main_v7148
  let main_v7150 : FVec F S2x256x256 .f32 := select main_v7146 main_v7149 main_v7135
  fn_part345 (F := F) main_arg0 main_v8 main_v4875 main_v4987 main_v4988 main_v7141 main_v7143 main_v7150

def fn_part343 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7097 : FVec F S2x256x256 .f32) (main_v7098 : FVec F S2x1x256 .f32) (main_v7103 : FVec F S2x256x256 .f32) (main_v7105 : IVec S2x256x256 1) (main_v7108 : IVec S2x256x256 1) : IVec S9x256x256 1 × IVec S8x256x256 1 :=
  let main_v7109 : FVec F S2x256x256 .f32 := broadcastInDim S2x256x256 ![0, 1, 2] bcast_S2x1x256_S2x256x256_0_1_2 main_v7098
  let main_v7110 : FVec F S2x256x256 .f32 := mulf main_v7103 main_v7109
  let main_v7111 : FVec F S2x256x256 .f32 := subf main_v7097 main_v7110
  let main_v7112 : FVec F S2x256x256 .f32 := select main_v7108 main_v7111 main_v7097
  let main_c_1122 : IVec S_ 32 := constantI S_ 32 111#32
  let main_v7113 : IVec S2x256x256 32 := broadcastInDim S2x256x256 ![] bcast_S_S2x256x256 main_c_1122
  let main_v7114 : IVec S2x256x256 1 := cmpi .eq main_v4988 main_v7113
  let main_v7115 : IVec S2x256x256 1 := andi main_v7105 main_v7114
  let main_v7116 : FVec F S2x256x256 .f32 := select main_v7115 main_v7103 main_v7112
  let main_v7117 : FVec F S2x1x256 .f32 := (extractStridedSlice S2x1x256 ![0, 112, 0] · slices_S2x256x256_S2x1x256_0_112_0) main_v7116
  let main_v7118 : FVec F S2x256x1 .f32 := (extractStridedSlice S2x256x1 ![0, 0, 112] · slices_S2x256x256_S2x256x1_0_0_112) main_v7116
  let main_v7119 : FVec F S2x1x1 .f32 := (extractStridedSlice S2x1x1 ![0, 0, 112] · slices_S2x1x256_S2x1x1_0_0_112) main_v7117
  let main_v7120 : FVec F S2x256x1 .f32 := broadcastInDim S2x256x1 ![0, 1, 2] bcast_S2x1x1_S2x256x1_0_1_2 main_v7119
  let main_v7121 : FVec F S2x256x1 .f32 := Host.divf main_v7118 main_v7120
  let main_v7122 : FVec F S2x256x256 .f32 := broadcastInDim S2x256x256 ![0, 1, 2] bcast_S2x256x1_S2x256x256_0_1_2 main_v7121
  let main_c_1123 : IVec S_ 32 := constantI S_ 32 112#32
  let main_v7123 : IVec S2x256x256 32 := broadcastInDim S2x256x256 ![] bcast_S_S2x256x256 main_c_1123
  let main_v7124 : IVec S2x256x256 1 := cmpi .sgt main_v4987 main_v7123
  let main_c_1124 : IVec S_ 32 := constantI S_ 32 112#32
  let main_v7125 : IVec S2x256x256 32 := broadcastInDim S2x256x256 ![] bcast_S_S2x256x256 main_c_1124
  let main_v7126 : IVec S2x256x256 1 := cmpi .sgt main_v4988 main_v7125
  let main_v7127 : IVec S2x256x256 1 := andi main_v7124 main_v7126
  let main_v7128 : FVec F S2x256x256 .f32 := broadcastInDim S2x256x256 ![0, 1, 2] bcast_S2x1x256_S2x256x256_0_1_2 main_v7117
  let main_v7129 : FVec F S2x256x256 .f32 := mulf main_v7122 main_v7128
  fn_part344 (F := F) main_arg0 main_v8 main_v4875 main_v4987 main_v4988 main_v7116 main_v7122 main_v7124 main_v7127 main_v7129

def fn_part342 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7078 : FVec F S2x256x256 .f32) (main_v7079 : FVec F S2x1x256 .f32) (main_v7084 : FVec F S2x256x256 .f32) (main_v7086 : IVec S2x256x256 1) (main_v7087 : IVec S2x256x256 32) : IVec S9x256x256 1 × IVec S8x256x256 1 :=
  let main_v7088 : IVec S2x256x256 1 := cmpi .sgt main_v4988 main_v7087
  let main_v7089 : IVec S2x256x256 1 := andi main_v7086 main_v7088
  let main_v7090 : FVec F S2x256x256 .f32 := broadcastInDim S2x256x256 ![0, 1, 2] bcast_S2x1x256_S2x256x256_0_1_2 main_v7079
  let main_v7091 : FVec F S2x256x256 .f32 := mulf main_v7084 main_v7090
  let main_v7092 : FVec F S2x256x256 .f32 := subf main_v7078 main_v7091
  let main_v7093 : FVec F S2x256x256 .f32 := select main_v7089 main_v7092 main_v7078
  let main_c_1119 : IVec S_ 32 := constantI S_ 32 110#32
  let main_v7094 : IVec S2x256x256 32 := broadcastInDim S2x256x256 ![] bcast_S_S2x256x256 main_c_1119
  let main_v7095 : IVec S2x256x256 1 := cmpi .eq main_v4988 main_v7094
  let main_v7096 : IVec S2x256x256 1 := andi main_v7086 main_v7095
  let main_v7097 : FVec F S2x256x256 .f32 := select main_v7096 main_v7084 main_v7093
  let main_v7098 : FVec F S2x1x256 .f32 := (extractStridedSlice S2x1x256 ![0, 111, 0] · slices_S2x256x256_S2x1x256_0_111_0) main_v7097
  let main_v7099 : FVec F S2x256x1 .f32 := (extractStridedSlice S2x256x1 ![0, 0, 111] · slices_S2x256x256_S2x256x1_0_0_111) main_v7097
  let main_v7100 : FVec F S2x1x1 .f32 := (extractStridedSlice S2x1x1 ![0, 0, 111] · slices_S2x1x256_S2x1x1_0_0_111) main_v7098
  let main_v7101 : FVec F S2x256x1 .f32 := broadcastInDim S2x256x1 ![0, 1, 2] bcast_S2x1x1_S2x256x1_0_1_2 main_v7100
  let main_v7102 : FVec F S2x256x1 .f32 := Host.divf main_v7099 main_v7101
  let main_v7103 : FVec F S2x256x256 .f32 := broadcastInDim S2x256x256 ![0, 1, 2] bcast_S2x256x1_S2x256x256_0_1_2 main_v7102
  let main_c_1120 : IVec S_ 32 := constantI S_ 32 111#32
  let main_v7104 : IVec S2x256x256 32 := broadcastInDim S2x256x256 ![] bcast_S_S2x256x256 main_c_1120
  let main_v7105 : IVec S2x256x256 1 := cmpi .sgt main_v4987 main_v7104
  let main_c_1121 : IVec S_ 32 := constantI S_ 32 111#32
  let main_v7106 : IVec S2x256x256 32 := broadcastInDim S2x256x256 ![] bcast_S_S2x256x256 main_c_1121
  let main_v7107 : IVec S2x256x256 1 := cmpi .sgt main_v4988 main_v7106
  let main_v7108 : IVec S2x256x256 1 := andi main_v7105 main_v7107
  fn_part343 (F := F) main_arg0 main_v8 main_v4875 main_v4987 main_v4988 main_v7097 main_v7098 main_v7103 main_v7105 main_v7108

def fn_part341 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7059 : FVec F S2x256x256 .f32) (main_v7060 : FVec F S2x1x256 .f32) (main_v7065 : FVec F S2x256x256 .f32) (main_v7067 : IVec S2x256x256 1) : IVec S9x256x256 1 × IVec S8x256x256 1 :=
  let main_c_1115 : IVec S_ 32 := constantI S_ 32 109#32
  let main_v7068 : IVec S2x256x256 32 := broadcastInDim S2x256x256 ![] bcast_S_S2x256x256 main_c_1115
  let main_v7069 : IVec S2x256x256 1 := cmpi .sgt main_v4988 main_v7068
  let main_v7070 : IVec S2x256x256 1 := andi main_v7067 main_v7069
  let main_v7071 : FVec F S2x256x256 .f32 := broadcastInDim S2x256x256 ![0, 1, 2] bcast_S2x1x256_S2x256x256_0_1_2 main_v7060
  let main_v7072 : FVec F S2x256x256 .f32 := mulf main_v7065 main_v7071
  let main_v7073 : FVec F S2x256x256 .f32 := subf main_v7059 main_v7072
  let main_v7074 : FVec F S2x256x256 .f32 := select main_v7070 main_v7073 main_v7059
  let main_c_1116 : IVec S_ 32 := constantI S_ 32 109#32
  let main_v7075 : IVec S2x256x256 32 := broadcastInDim S2x256x256 ![] bcast_S_S2x256x256 main_c_1116
  let main_v7076 : IVec S2x256x256 1 := cmpi .eq main_v4988 main_v7075
  let main_v7077 : IVec S2x256x256 1 := andi main_v7067 main_v7076
  let main_v7078 : FVec F S2x256x256 .f32 := select main_v7077 main_v7065 main_v7074
  let main_v7079 : FVec F S2x1x256 .f32 := (extractStridedSlice S2x1x256 ![0, 110, 0] · slices_S2x256x256_S2x1x256_0_110_0) main_v7078
  let main_v7080 : FVec F S2x256x1 .f32 := (extractStridedSlice S2x256x1 ![0, 0, 110] · slices_S2x256x256_S2x256x1_0_0_110) main_v7078
  let main_v7081 : FVec F S2x1x1 .f32 := (extractStridedSlice S2x1x1 ![0, 0, 110] · slices_S2x1x256_S2x1x1_0_0_110) main_v7079
  let main_v7082 : FVec F S2x256x1 .f32 := broadcastInDim S2x256x1 ![0, 1, 2] bcast_S2x1x1_S2x256x1_0_1_2 main_v7081
  let main_v7083 : FVec F S2x256x1 .f32 := Host.divf main_v7080 main_v7082
  let main_v7084 : FVec F S2x256x256 .f32 := broadcastInDim S2x256x256 ![0, 1, 2] bcast_S2x256x1_S2x256x256_0_1_2 main_v7083
  let main_c_1117 : IVec S_ 32 := constantI S_ 32 110#32
  let main_v7085 : IVec S2x256x256 32 := broadcastInDim S2x256x256 ![] bcast_S_S2x256x256 main_c_1117
  let main_v7086 : IVec S2x256x256 1 := cmpi .sgt main_v4987 main_v7085
  let main_c_1118 : IVec S_ 32 := constantI S_ 32 110#32
  let main_v7087 : IVec S2x256x256 32 := broadcastInDim S2x256x256 ![] bcast_S_S2x256x256 main_c_1118
  fn_part342 (F := F) main_arg0 main_v8 main_v4875 main_v4987 main_v4988 main_v7078 main_v7079 main_v7084 main_v7086 main_v7087

def fn_part340 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7040 : FVec F S2x256x256 .f32) (main_v7041 : FVec F S2x1x256 .f32) (main_v7046 : FVec F S2x256x256 .f32) (main_c_1111 : IVec S_ 32) : IVec S9x256x256 1 × IVec S8x256x256 1 :=
  let main_v7047 : IVec S2x256x256 32 := broadcastInDim S2x256x256 ![] bcast_S_S2x256x256 main_c_1111
  let main_v7048 : IVec S2x256x256 1 := cmpi .sgt main_v4987 main_v7047
  let main_c_1112 : IVec S_ 32 := constantI S_ 32 108#32
  let main_v7049 : IVec S2x256x256 32 := broadcastInDim S2x256x256 ![] bcast_S_S2x256x256 main_c_1112
  let main_v7050 : IVec S2x256x256 1 := cmpi .sgt main_v4988 main_v7049
  let main_v7051 : IVec S2x256x256 1 := andi main_v7048 main_v7050
  let main_v7052 : FVec F S2x256x256 .f32 := broadcastInDim S2x256x256 ![0, 1, 2] bcast_S2x1x256_S2x256x256_0_1_2 main_v7041
  let main_v7053 : FVec F S2x256x256 .f32 := mulf main_v7046 main_v7052
  let main_v7054 : FVec F S2x256x256 .f32 := subf main_v7040 main_v7053
  let main_v7055 : FVec F S2x256x256 .f32 := select main_v7051 main_v7054 main_v7040
  let main_c_1113 : IVec S_ 32 := constantI S_ 32 108#32
  let main_v7056 : IVec S2x256x256 32 := broadcastInDim S2x256x256 ![] bcast_S_S2x256x256 main_c_1113
  let main_v7057 : IVec S2x256x256 1 := cmpi .eq main_v4988 main_v7056
  let main_v7058 : IVec S2x256x256 1 := andi main_v7048 main_v7057
  let main_v7059 : FVec F S2x256x256 .f32 := select main_v7058 main_v7046 main_v7055
  let main_v7060 : FVec F S2x1x256 .f32 := (extractStridedSlice S2x1x256 ![0, 109, 0] · slices_S2x256x256_S2x1x256_0_109_0) main_v7059
  let main_v7061 : FVec F S2x256x1 .f32 := (extractStridedSlice S2x256x1 ![0, 0, 109] · slices_S2x256x256_S2x256x1_0_0_109) main_v7059
  let main_v7062 : FVec F S2x1x1 .f32 := (extractStridedSlice S2x1x1 ![0, 0, 109] · slices_S2x1x256_S2x1x1_0_0_109) main_v7060
  let main_v7063 : FVec F S2x256x1 .f32 := broadcastInDim S2x256x1 ![0, 1, 2] bcast_S2x1x1_S2x256x1_0_1_2 main_v7062
  let main_v7064 : FVec F S2x256x1 .f32 := Host.divf main_v7061 main_v7063
  let main_v7065 : FVec F S2x256x256 .f32 := broadcastInDim S2x256x256 ![0, 1, 2] bcast_S2x256x1_S2x256x256_0_1_2 main_v7064
  let main_c_1114 : IVec S_ 32 := constantI S_ 32 109#32
  let main_v7066 : IVec S2x256x256 32 := broadcastInDim S2x256x256 ![] bcast_S_S2x256x256 main_c_1114
  let main_v7067 : IVec S2x256x256 1 := cmpi .sgt main_v4987 main_v7066
  fn_part341 (F := F) main_arg0 main_v8 main_v4875 main_v4987 main_v4988 main_v7059 main_v7060 main_v7065 main_v7067

def fn_part339 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7021 : FVec F S2x256x256 .f32) (main_v7022 : FVec F S2x1x256 .f32) (main_v7026 : FVec F S2x256x1 .f32) : IVec S9x256x256 1 × IVec S8x256x256 1 :=
  let main_v7027 : FVec F S2x256x256 .f32 := broadcastInDim S2x256x256 ![0, 1, 2] bcast_S2x256x1_S2x256x256_0_1_2 main_v7026
  let main_c_1108 : IVec S_ 32 := constantI S_ 32 107#32
  let main_v7028 : IVec S2x256x256 32 := broadcastInDim S2x256x256 ![] bcast_S_S2x256x256 main_c_1108
  let main_v7029 : IVec S2x256x256 1 := cmpi .sgt main_v4987 main_v7028
  let main_c_1109 : IVec S_ 32 := constantI S_ 32 107#32
  let main_v7030 : IVec S2x256x256 32 := broadcastInDim S2x256x256 ![] bcast_S_S2x256x256 main_c_1109
  let main_v7031 : IVec S2x256x256 1 := cmpi .sgt main_v4988 main_v7030
  let main_v7032 : IVec S2x256x256 1 := andi main_v7029 main_v7031
  let main_v7033 : FVec F S2x256x256 .f32 := broadcastInDim S2x256x256 ![0, 1, 2] bcast_S2x1x256_S2x256x256_0_1_2 main_v7022
  let main_v7034 : FVec F S2x256x256 .f32 := mulf main_v7027 main_v7033
  let main_v7035 : FVec F S2x256x256 .f32 := subf main_v7021 main_v7034
  let main_v7036 : FVec F S2x256x256 .f32 := select main_v7032 main_v7035 main_v7021
  let main_c_1110 : IVec S_ 32 := constantI S_ 32 107#32
  let main_v7037 : IVec S2x256x256 32 := broadcastInDim S2x256x256 ![] bcast_S_S2x256x256 main_c_1110
  let main_v7038 : IVec S2x256x256 1 := cmpi .eq main_v4988 main_v7037
  let main_v7039 : IVec S2x256x256 1 := andi main_v7029 main_v7038
  let main_v7040 : FVec F S2x256x256 .f32 := select main_v7039 main_v7027 main_v7036
  let main_v7041 : FVec F S2x1x256 .f32 := (extractStridedSlice S2x1x256 ![0, 108, 0] · slices_S2x256x256_S2x1x256_0_108_0) main_v7040
  let main_v7042 : FVec F S2x256x1 .f32 := (extractStridedSlice S2x256x1 ![0, 0, 108] · slices_S2x256x256_S2x256x1_0_0_108) main_v7040
  let main_v7043 : FVec F S2x1x1 .f32 := (extractStridedSlice S2x1x1 ![0, 0, 108] · slices_S2x1x256_S2x1x1_0_0_108) main_v7041
  let main_v7044 : FVec F S2x256x1 .f32 := broadcastInDim S2x256x1 ![0, 1, 2] bcast_S2x1x1_S2x256x1_0_1_2 main_v7043
  let main_v7045 : FVec F S2x256x1 .f32 := Host.divf main_v7042 main_v7044
  let main_v7046 : FVec F S2x256x256 .f32 := broadcastInDim S2x256x256 ![0, 1, 2] bcast_S2x256x1_S2x256x256_0_1_2 main_v7045
  let main_c_1111 : IVec S_ 32 := constantI S_ 32 108#32
  fn_part340 (F := F) main_arg0 main_v8 main_v4875 main_v4987 main_v4988 main_v7040 main_v7041 main_v7046 main_c_1111

def fn_part338 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v7002 : FVec F S2x256x256 .f32) (main_v7003 : FVec F S2x1x256 .f32) (main_v7004 : FVec F S2x256x1 .f32) (main_v7005 : FVec F S2x1x1 .f32) : IVec S9x256x256 1 × IVec S8x256x256 1 :=
  let main_v7006 : FVec F S2x256x1 .f32 := broadcastInDim S2x256x1 ![0, 1, 2] bcast_S2x1x1_S2x256x1_0_1_2 main_v7005
  let main_v7007 : FVec F S2x256x1 .f32 := Host.divf main_v7004 main_v7006
  let main_v7008 : FVec F S2x256x256 .f32 := broadcastInDim S2x256x256 ![0, 1, 2] bcast_S2x256x1_S2x256x256_0_1_2 main_v7007
  let main_c_1105 : IVec S_ 32 := constantI S_ 32 106#32
  let main_v7009 : IVec S2x256x256 32 := broadcastInDim S2x256x256 ![] bcast_S_S2x256x256 main_c_1105
  let main_v7010 : IVec S2x256x256 1 := cmpi .sgt main_v4987 main_v7009
  let main_c_1106 : IVec S_ 32 := constantI S_ 32 106#32
  let main_v7011 : IVec S2x256x256 32 := broadcastInDim S2x256x256 ![] bcast_S_S2x256x256 main_c_1106
  let main_v7012 : IVec S2x256x256 1 := cmpi .sgt main_v4988 main_v7011
  let main_v7013 : IVec S2x256x256 1 := andi main_v7010 main_v7012
  let main_v7014 : FVec F S2x256x256 .f32 := broadcastInDim S2x256x256 ![0, 1, 2] bcast_S2x1x256_S2x256x256_0_1_2 main_v7003
  let main_v7015 : FVec F S2x256x256 .f32 := mulf main_v7008 main_v7014
  let main_v7016 : FVec F S2x256x256 .f32 := subf main_v7002 main_v7015
  let main_v7017 : FVec F S2x256x256 .f32 := select main_v7013 main_v7016 main_v7002
  let main_c_1107 : IVec S_ 32 := constantI S_ 32 106#32
  let main_v7018 : IVec S2x256x256 32 := broadcastInDim S2x256x256 ![] bcast_S_S2x256x256 main_c_1107
  let main_v7019 : IVec S2x256x256 1 := cmpi .eq main_v4988 main_v7018
  let main_v7020 : IVec S2x256x256 1 := andi main_v7010 main_v7019
  let main_v7021 : FVec F S2x256x256 .f32 := select main_v7020 main_v7008 main_v7017
  let main_v7022 : FVec F S2x1x256 .f32 := (extractStridedSlice S2x1x256 ![0, 107, 0] · slices_S2x256x256_S2x1x256_0_107_0) main_v7021
  let main_v7023 : FVec F S2x256x1 .f32 := (extractStridedSlice S2x256x1 ![0, 0, 107] · slices_S2x256x256_S2x256x1_0_0_107) main_v7021
  let main_v7024 : FVec F S2x1x1 .f32 := (extractStridedSlice S2x1x1 ![0, 0, 107] · slices_S2x1x256_S2x1x1_0_0_107) main_v7022
  let main_v7025 : FVec F S2x256x1 .f32 := broadcastInDim S2x256x1 ![0, 1, 2] bcast_S2x1x1_S2x256x1_0_1_2 main_v7024
  let main_v7026 : FVec F S2x256x1 .f32 := Host.divf main_v7023 main_v7025
  fn_part339 (F := F) main_arg0 main_v8 main_v4875 main_v4987 main_v4988 main_v7021 main_v7022 main_v7026

def fn_part337 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6983 : FVec F S2x256x256 .f32) (main_v6984 : FVec F S2x1x256 .f32) : IVec S9x256x256 1 × IVec S8x256x256 1 :=
  let main_v6985 : FVec F S2x256x1 .f32 := (extractStridedSlice S2x256x1 ![0, 0, 105] · slices_S2x256x256_S2x256x1_0_0_105) main_v6983
  let main_v6986 : FVec F S2x1x1 .f32 := (extractStridedSlice S2x1x1 ![0, 0, 105] · slices_S2x1x256_S2x1x1_0_0_105) main_v6984
  let main_v6987 : FVec F S2x256x1 .f32 := broadcastInDim S2x256x1 ![0, 1, 2] bcast_S2x1x1_S2x256x1_0_1_2 main_v6986
  let main_v6988 : FVec F S2x256x1 .f32 := Host.divf main_v6985 main_v6987
  let main_v6989 : FVec F S2x256x256 .f32 := broadcastInDim S2x256x256 ![0, 1, 2] bcast_S2x256x1_S2x256x256_0_1_2 main_v6988
  let main_c_1102 : IVec S_ 32 := constantI S_ 32 105#32
  let main_v6990 : IVec S2x256x256 32 := broadcastInDim S2x256x256 ![] bcast_S_S2x256x256 main_c_1102
  let main_v6991 : IVec S2x256x256 1 := cmpi .sgt main_v4987 main_v6990
  let main_c_1103 : IVec S_ 32 := constantI S_ 32 105#32
  let main_v6992 : IVec S2x256x256 32 := broadcastInDim S2x256x256 ![] bcast_S_S2x256x256 main_c_1103
  let main_v6993 : IVec S2x256x256 1 := cmpi .sgt main_v4988 main_v6992
  let main_v6994 : IVec S2x256x256 1 := andi main_v6991 main_v6993
  let main_v6995 : FVec F S2x256x256 .f32 := broadcastInDim S2x256x256 ![0, 1, 2] bcast_S2x1x256_S2x256x256_0_1_2 main_v6984
  let main_v6996 : FVec F S2x256x256 .f32 := mulf main_v6989 main_v6995
  let main_v6997 : FVec F S2x256x256 .f32 := subf main_v6983 main_v6996
  let main_v6998 : FVec F S2x256x256 .f32 := select main_v6994 main_v6997 main_v6983
  let main_c_1104 : IVec S_ 32 := constantI S_ 32 105#32
  let main_v6999 : IVec S2x256x256 32 := broadcastInDim S2x256x256 ![] bcast_S_S2x256x256 main_c_1104
  let main_v7000 : IVec S2x256x256 1 := cmpi .eq main_v4988 main_v6999
  let main_v7001 : IVec S2x256x256 1 := andi main_v6991 main_v7000
  let main_v7002 : FVec F S2x256x256 .f32 := select main_v7001 main_v6989 main_v6998
  let main_v7003 : FVec F S2x1x256 .f32 := (extractStridedSlice S2x1x256 ![0, 106, 0] · slices_S2x256x256_S2x1x256_0_106_0) main_v7002
  let main_v7004 : FVec F S2x256x1 .f32 := (extractStridedSlice S2x256x1 ![0, 0, 106] · slices_S2x256x256_S2x256x1_0_0_106) main_v7002
  let main_v7005 : FVec F S2x1x1 .f32 := (extractStridedSlice S2x1x1 ![0, 0, 106] · slices_S2x1x256_S2x1x1_0_0_106) main_v7003
  fn_part338 (F := F) main_arg0 main_v8 main_v4875 main_v4987 main_v4988 main_v7002 main_v7003 main_v7004 main_v7005

def fn_part336 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6951 : FVec F S2x256x256 .f32) (main_v6960 : FVec F S2x256x256 .f32) (main_v6963 : IVec S2x256x256 1) : IVec S9x256x256 1 × IVec S8x256x256 1 :=
  let main_v6964 : FVec F S2x256x256 .f32 := select main_v6963 main_v6951 main_v6960
  let main_v6965 : FVec F S2x1x256 .f32 := (extractStridedSlice S2x1x256 ![0, 104, 0] · slices_S2x256x256_S2x1x256_0_104_0) main_v6964
  let main_v6966 : FVec F S2x256x1 .f32 := (extractStridedSlice S2x256x1 ![0, 0, 104] · slices_S2x256x256_S2x256x1_0_0_104) main_v6964
  let main_v6967 : FVec F S2x1x1 .f32 := (extractStridedSlice S2x1x1 ![0, 0, 104] · slices_S2x1x256_S2x1x1_0_0_104) main_v6965
  let main_v6968 : FVec F S2x256x1 .f32 := broadcastInDim S2x256x1 ![0, 1, 2] bcast_S2x1x1_S2x256x1_0_1_2 main_v6967
  let main_v6969 : FVec F S2x256x1 .f32 := Host.divf main_v6966 main_v6968
  let main_v6970 : FVec F S2x256x256 .f32 := broadcastInDim S2x256x256 ![0, 1, 2] bcast_S2x256x1_S2x256x256_0_1_2 main_v6969
  let main_c_1099 : IVec S_ 32 := constantI S_ 32 104#32
  let main_v6971 : IVec S2x256x256 32 := broadcastInDim S2x256x256 ![] bcast_S_S2x256x256 main_c_1099
  let main_v6972 : IVec S2x256x256 1 := cmpi .sgt main_v4987 main_v6971
  let main_c_1100 : IVec S_ 32 := constantI S_ 32 104#32
  let main_v6973 : IVec S2x256x256 32 := broadcastInDim S2x256x256 ![] bcast_S_S2x256x256 main_c_1100
  let main_v6974 : IVec S2x256x256 1 := cmpi .sgt main_v4988 main_v6973
  let main_v6975 : IVec S2x256x256 1 := andi main_v6972 main_v6974
  let main_v6976 : FVec F S2x256x256 .f32 := broadcastInDim S2x256x256 ![0, 1, 2] bcast_S2x1x256_S2x256x256_0_1_2 main_v6965
  let main_v6977 : FVec F S2x256x256 .f32 := mulf main_v6970 main_v6976
  let main_v6978 : FVec F S2x256x256 .f32 := subf main_v6964 main_v6977
  let main_v6979 : FVec F S2x256x256 .f32 := select main_v6975 main_v6978 main_v6964
  let main_c_1101 : IVec S_ 32 := constantI S_ 32 104#32
  let main_v6980 : IVec S2x256x256 32 := broadcastInDim S2x256x256 ![] bcast_S_S2x256x256 main_c_1101
  let main_v6981 : IVec S2x256x256 1 := cmpi .eq main_v4988 main_v6980
  let main_v6982 : IVec S2x256x256 1 := andi main_v6972 main_v6981
  let main_v6983 : FVec F S2x256x256 .f32 := select main_v6982 main_v6970 main_v6979
  let main_v6984 : FVec F S2x1x256 .f32 := (extractStridedSlice S2x1x256 ![0, 105, 0] · slices_S2x256x256_S2x1x256_0_105_0) main_v6983
  fn_part337 (F := F) main_arg0 main_v8 main_v4875 main_v4987 main_v4988 main_v6983 main_v6984

def fn_part335 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6932 : FVec F S2x256x256 .f32) (main_v6934 : IVec S2x256x256 1) (main_v6941 : FVec F S2x256x256 .f32) (main_v6942 : IVec S2x256x256 32) : IVec S9x256x256 1 × IVec S8x256x256 1 :=
  let main_v6943 : IVec S2x256x256 1 := cmpi .eq main_v4988 main_v6942
  let main_v6944 : IVec S2x256x256 1 := andi main_v6934 main_v6943
  let main_v6945 : FVec F S2x256x256 .f32 := select main_v6944 main_v6932 main_v6941
  let main_v6946 : FVec F S2x1x256 .f32 := (extractStridedSlice S2x1x256 ![0, 103, 0] · slices_S2x256x256_S2x1x256_0_103_0) main_v6945
  let main_v6947 : FVec F S2x256x1 .f32 := (extractStridedSlice S2x256x1 ![0, 0, 103] · slices_S2x256x256_S2x256x1_0_0_103) main_v6945
  let main_v6948 : FVec F S2x1x1 .f32 := (extractStridedSlice S2x1x1 ![0, 0, 103] · slices_S2x1x256_S2x1x1_0_0_103) main_v6946
  let main_v6949 : FVec F S2x256x1 .f32 := broadcastInDim S2x256x1 ![0, 1, 2] bcast_S2x1x1_S2x256x1_0_1_2 main_v6948
  let main_v6950 : FVec F S2x256x1 .f32 := Host.divf main_v6947 main_v6949
  let main_v6951 : FVec F S2x256x256 .f32 := broadcastInDim S2x256x256 ![0, 1, 2] bcast_S2x256x1_S2x256x256_0_1_2 main_v6950
  let main_c_1096 : IVec S_ 32 := constantI S_ 32 103#32
  let main_v6952 : IVec S2x256x256 32 := broadcastInDim S2x256x256 ![] bcast_S_S2x256x256 main_c_1096
  let main_v6953 : IVec S2x256x256 1 := cmpi .sgt main_v4987 main_v6952
  let main_c_1097 : IVec S_ 32 := constantI S_ 32 103#32
  let main_v6954 : IVec S2x256x256 32 := broadcastInDim S2x256x256 ![] bcast_S_S2x256x256 main_c_1097
  let main_v6955 : IVec S2x256x256 1 := cmpi .sgt main_v4988 main_v6954
  let main_v6956 : IVec S2x256x256 1 := andi main_v6953 main_v6955
  let main_v6957 : FVec F S2x256x256 .f32 := broadcastInDim S2x256x256 ![0, 1, 2] bcast_S2x1x256_S2x256x256_0_1_2 main_v6946
  let main_v6958 : FVec F S2x256x256 .f32 := mulf main_v6951 main_v6957
  let main_v6959 : FVec F S2x256x256 .f32 := subf main_v6945 main_v6958
  let main_v6960 : FVec F S2x256x256 .f32 := select main_v6956 main_v6959 main_v6945
  let main_c_1098 : IVec S_ 32 := constantI S_ 32 103#32
  let main_v6961 : IVec S2x256x256 32 := broadcastInDim S2x256x256 ![] bcast_S_S2x256x256 main_c_1098
  let main_v6962 : IVec S2x256x256 1 := cmpi .eq main_v4988 main_v6961
  let main_v6963 : IVec S2x256x256 1 := andi main_v6953 main_v6962
  fn_part336 (F := F) main_arg0 main_v8 main_v4875 main_v4987 main_v4988 main_v6951 main_v6960 main_v6963

def fn_part334 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6913 : FVec F S2x256x256 .f32) (main_v6915 : IVec S2x256x256 1) (main_v6922 : FVec F S2x256x256 .f32) : IVec S9x256x256 1 × IVec S8x256x256 1 :=
  let main_c_1092 : IVec S_ 32 := constantI S_ 32 101#32
  let main_v6923 : IVec S2x256x256 32 := broadcastInDim S2x256x256 ![] bcast_S_S2x256x256 main_c_1092
  let main_v6924 : IVec S2x256x256 1 := cmpi .eq main_v4988 main_v6923
  let main_v6925 : IVec S2x256x256 1 := andi main_v6915 main_v6924
  let main_v6926 : FVec F S2x256x256 .f32 := select main_v6925 main_v6913 main_v6922
  let main_v6927 : FVec F S2x1x256 .f32 := (extractStridedSlice S2x1x256 ![0, 102, 0] · slices_S2x256x256_S2x1x256_0_102_0) main_v6926
  let main_v6928 : FVec F S2x256x1 .f32 := (extractStridedSlice S2x256x1 ![0, 0, 102] · slices_S2x256x256_S2x256x1_0_0_102) main_v6926
  let main_v6929 : FVec F S2x1x1 .f32 := (extractStridedSlice S2x1x1 ![0, 0, 102] · slices_S2x1x256_S2x1x1_0_0_102) main_v6927
  let main_v6930 : FVec F S2x256x1 .f32 := broadcastInDim S2x256x1 ![0, 1, 2] bcast_S2x1x1_S2x256x1_0_1_2 main_v6929
  let main_v6931 : FVec F S2x256x1 .f32 := Host.divf main_v6928 main_v6930
  let main_v6932 : FVec F S2x256x256 .f32 := broadcastInDim S2x256x256 ![0, 1, 2] bcast_S2x256x1_S2x256x256_0_1_2 main_v6931
  let main_c_1093 : IVec S_ 32 := constantI S_ 32 102#32
  let main_v6933 : IVec S2x256x256 32 := broadcastInDim S2x256x256 ![] bcast_S_S2x256x256 main_c_1093
  let main_v6934 : IVec S2x256x256 1 := cmpi .sgt main_v4987 main_v6933
  let main_c_1094 : IVec S_ 32 := constantI S_ 32 102#32
  let main_v6935 : IVec S2x256x256 32 := broadcastInDim S2x256x256 ![] bcast_S_S2x256x256 main_c_1094
  let main_v6936 : IVec S2x256x256 1 := cmpi .sgt main_v4988 main_v6935
  let main_v6937 : IVec S2x256x256 1 := andi main_v6934 main_v6936
  let main_v6938 : FVec F S2x256x256 .f32 := broadcastInDim S2x256x256 ![0, 1, 2] bcast_S2x1x256_S2x256x256_0_1_2 main_v6927
  let main_v6939 : FVec F S2x256x256 .f32 := mulf main_v6932 main_v6938
  let main_v6940 : FVec F S2x256x256 .f32 := subf main_v6926 main_v6939
  let main_v6941 : FVec F S2x256x256 .f32 := select main_v6937 main_v6940 main_v6926
  let main_c_1095 : IVec S_ 32 := constantI S_ 32 102#32
  let main_v6942 : IVec S2x256x256 32 := broadcastInDim S2x256x256 ![] bcast_S_S2x256x256 main_c_1095
  fn_part335 (F := F) main_arg0 main_v8 main_v4875 main_v4987 main_v4988 main_v6932 main_v6934 main_v6941 main_v6942

def fn_part333 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6888 : FVec F S2x256x256 .f32) (main_v6894 : FVec F S2x256x256 .f32) (main_v6896 : IVec S2x256x256 1) (main_v6899 : IVec S2x256x256 1) (main_v6901 : FVec F S2x256x256 .f32) : IVec S9x256x256 1 × IVec S8x256x256 1 :=
  let main_v6902 : FVec F S2x256x256 .f32 := subf main_v6888 main_v6901
  let main_v6903 : FVec F S2x256x256 .f32 := select main_v6899 main_v6902 main_v6888
  let main_c_1089 : IVec S_ 32 := constantI S_ 32 100#32
  let main_v6904 : IVec S2x256x256 32 := broadcastInDim S2x256x256 ![] bcast_S_S2x256x256 main_c_1089
  let main_v6905 : IVec S2x256x256 1 := cmpi .eq main_v4988 main_v6904
  let main_v6906 : IVec S2x256x256 1 := andi main_v6896 main_v6905
  let main_v6907 : FVec F S2x256x256 .f32 := select main_v6906 main_v6894 main_v6903
  let main_v6908 : FVec F S2x1x256 .f32 := (extractStridedSlice S2x1x256 ![0, 101, 0] · slices_S2x256x256_S2x1x256_0_101_0) main_v6907
  let main_v6909 : FVec F S2x256x1 .f32 := (extractStridedSlice S2x256x1 ![0, 0, 101] · slices_S2x256x256_S2x256x1_0_0_101) main_v6907
  let main_v6910 : FVec F S2x1x1 .f32 := (extractStridedSlice S2x1x1 ![0, 0, 101] · slices_S2x1x256_S2x1x1_0_0_101) main_v6908
  let main_v6911 : FVec F S2x256x1 .f32 := broadcastInDim S2x256x1 ![0, 1, 2] bcast_S2x1x1_S2x256x1_0_1_2 main_v6910
  let main_v6912 : FVec F S2x256x1 .f32 := Host.divf main_v6909 main_v6911
  let main_v6913 : FVec F S2x256x256 .f32 := broadcastInDim S2x256x256 ![0, 1, 2] bcast_S2x256x1_S2x256x256_0_1_2 main_v6912
  let main_c_1090 : IVec S_ 32 := constantI S_ 32 101#32
  let main_v6914 : IVec S2x256x256 32 := broadcastInDim S2x256x256 ![] bcast_S_S2x256x256 main_c_1090
  let main_v6915 : IVec S2x256x256 1 := cmpi .sgt main_v4987 main_v6914
  let main_c_1091 : IVec S_ 32 := constantI S_ 32 101#32
  let main_v6916 : IVec S2x256x256 32 := broadcastInDim S2x256x256 ![] bcast_S_S2x256x256 main_c_1091
  let main_v6917 : IVec S2x256x256 1 := cmpi .sgt main_v4988 main_v6916
  let main_v6918 : IVec S2x256x256 1 := andi main_v6915 main_v6917
  let main_v6919 : FVec F S2x256x256 .f32 := broadcastInDim S2x256x256 ![0, 1, 2] bcast_S2x1x256_S2x256x256_0_1_2 main_v6908
  let main_v6920 : FVec F S2x256x256 .f32 := mulf main_v6913 main_v6919
  let main_v6921 : FVec F S2x256x256 .f32 := subf main_v6907 main_v6920
  let main_v6922 : FVec F S2x256x256 .f32 := select main_v6918 main_v6921 main_v6907
  fn_part334 (F := F) main_arg0 main_v8 main_v4875 main_v4987 main_v4988 main_v6913 main_v6915 main_v6922

def fn_part332 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6869 : FVec F S2x256x256 .f32) (main_v6870 : FVec F S2x1x256 .f32) (main_v6875 : FVec F S2x256x256 .f32) (main_v6877 : IVec S2x256x256 1) (main_v6880 : IVec S2x256x256 1) : IVec S9x256x256 1 × IVec S8x256x256 1 :=
  let main_v6881 : FVec F S2x256x256 .f32 := broadcastInDim S2x256x256 ![0, 1, 2] bcast_S2x1x256_S2x256x256_0_1_2 main_v6870
  let main_v6882 : FVec F S2x256x256 .f32 := mulf main_v6875 main_v6881
  let main_v6883 : FVec F S2x256x256 .f32 := subf main_v6869 main_v6882
  let main_v6884 : FVec F S2x256x256 .f32 := select main_v6880 main_v6883 main_v6869
  let main_c_1086 : IVec S_ 32 := constantI S_ 32 99#32
  let main_v6885 : IVec S2x256x256 32 := broadcastInDim S2x256x256 ![] bcast_S_S2x256x256 main_c_1086
  let main_v6886 : IVec S2x256x256 1 := cmpi .eq main_v4988 main_v6885
  let main_v6887 : IVec S2x256x256 1 := andi main_v6877 main_v6886
  let main_v6888 : FVec F S2x256x256 .f32 := select main_v6887 main_v6875 main_v6884
  let main_v6889 : FVec F S2x1x256 .f32 := (extractStridedSlice S2x1x256 ![0, 100, 0] · slices_S2x256x256_S2x1x256_0_100_0) main_v6888
  let main_v6890 : FVec F S2x256x1 .f32 := (extractStridedSlice S2x256x1 ![0, 0, 100] · slices_S2x256x256_S2x256x1_0_0_100) main_v6888
  let main_v6891 : FVec F S2x1x1 .f32 := (extractStridedSlice S2x1x1 ![0, 0, 100] · slices_S2x1x256_S2x1x1_0_0_100) main_v6889
  let main_v6892 : FVec F S2x256x1 .f32 := broadcastInDim S2x256x1 ![0, 1, 2] bcast_S2x1x1_S2x256x1_0_1_2 main_v6891
  let main_v6893 : FVec F S2x256x1 .f32 := Host.divf main_v6890 main_v6892
  let main_v6894 : FVec F S2x256x256 .f32 := broadcastInDim S2x256x256 ![0, 1, 2] bcast_S2x256x1_S2x256x256_0_1_2 main_v6893
  let main_c_1087 : IVec S_ 32 := constantI S_ 32 100#32
  let main_v6895 : IVec S2x256x256 32 := broadcastInDim S2x256x256 ![] bcast_S_S2x256x256 main_c_1087
  let main_v6896 : IVec S2x256x256 1 := cmpi .sgt main_v4987 main_v6895
  let main_c_1088 : IVec S_ 32 := constantI S_ 32 100#32
  let main_v6897 : IVec S2x256x256 32 := broadcastInDim S2x256x256 ![] bcast_S_S2x256x256 main_c_1088
  let main_v6898 : IVec S2x256x256 1 := cmpi .sgt main_v4988 main_v6897
  let main_v6899 : IVec S2x256x256 1 := andi main_v6896 main_v6898
  let main_v6900 : FVec F S2x256x256 .f32 := broadcastInDim S2x256x256 ![0, 1, 2] bcast_S2x1x256_S2x256x256_0_1_2 main_v6889
  let main_v6901 : FVec F S2x256x256 .f32 := mulf main_v6894 main_v6900
  fn_part333 (F := F) main_arg0 main_v8 main_v4875 main_v4987 main_v4988 main_v6888 main_v6894 main_v6896 main_v6899 main_v6901

def fn_part331 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6850 : FVec F S2x256x256 .f32) (main_v6851 : FVec F S2x1x256 .f32) (main_v6856 : FVec F S2x256x256 .f32) (main_v6858 : IVec S2x256x256 1) (main_v6859 : IVec S2x256x256 32) : IVec S9x256x256 1 × IVec S8x256x256 1 :=
  let main_v6860 : IVec S2x256x256 1 := cmpi .sgt main_v4988 main_v6859
  let main_v6861 : IVec S2x256x256 1 := andi main_v6858 main_v6860
  let main_v6862 : FVec F S2x256x256 .f32 := broadcastInDim S2x256x256 ![0, 1, 2] bcast_S2x1x256_S2x256x256_0_1_2 main_v6851
  let main_v6863 : FVec F S2x256x256 .f32 := mulf main_v6856 main_v6862
  let main_v6864 : FVec F S2x256x256 .f32 := subf main_v6850 main_v6863
  let main_v6865 : FVec F S2x256x256 .f32 := select main_v6861 main_v6864 main_v6850
  let main_c_1083 : IVec S_ 32 := constantI S_ 32 98#32
  let main_v6866 : IVec S2x256x256 32 := broadcastInDim S2x256x256 ![] bcast_S_S2x256x256 main_c_1083
  let main_v6867 : IVec S2x256x256 1 := cmpi .eq main_v4988 main_v6866
  let main_v6868 : IVec S2x256x256 1 := andi main_v6858 main_v6867
  let main_v6869 : FVec F S2x256x256 .f32 := select main_v6868 main_v6856 main_v6865
  let main_v6870 : FVec F S2x1x256 .f32 := (extractStridedSlice S2x1x256 ![0, 99, 0] · slices_S2x256x256_S2x1x256_0_99_0) main_v6869
  let main_v6871 : FVec F S2x256x1 .f32 := (extractStridedSlice S2x256x1 ![0, 0, 99] · slices_S2x256x256_S2x256x1_0_0_99) main_v6869
  let main_v6872 : FVec F S2x1x1 .f32 := (extractStridedSlice S2x1x1 ![0, 0, 99] · slices_S2x1x256_S2x1x1_0_0_99) main_v6870
  let main_v6873 : FVec F S2x256x1 .f32 := broadcastInDim S2x256x1 ![0, 1, 2] bcast_S2x1x1_S2x256x1_0_1_2 main_v6872
  let main_v6874 : FVec F S2x256x1 .f32 := Host.divf main_v6871 main_v6873
  let main_v6875 : FVec F S2x256x256 .f32 := broadcastInDim S2x256x256 ![0, 1, 2] bcast_S2x256x1_S2x256x256_0_1_2 main_v6874
  let main_c_1084 : IVec S_ 32 := constantI S_ 32 99#32
  let main_v6876 : IVec S2x256x256 32 := broadcastInDim S2x256x256 ![] bcast_S_S2x256x256 main_c_1084
  let main_v6877 : IVec S2x256x256 1 := cmpi .sgt main_v4987 main_v6876
  let main_c_1085 : IVec S_ 32 := constantI S_ 32 99#32
  let main_v6878 : IVec S2x256x256 32 := broadcastInDim S2x256x256 ![] bcast_S_S2x256x256 main_c_1085
  let main_v6879 : IVec S2x256x256 1 := cmpi .sgt main_v4988 main_v6878
  let main_v6880 : IVec S2x256x256 1 := andi main_v6877 main_v6879
  fn_part332 (F := F) main_arg0 main_v8 main_v4875 main_v4987 main_v4988 main_v6869 main_v6870 main_v6875 main_v6877 main_v6880

def fn_part330 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6831 : FVec F S2x256x256 .f32) (main_v6832 : FVec F S2x1x256 .f32) (main_v6837 : FVec F S2x256x256 .f32) (main_v6839 : IVec S2x256x256 1) : IVec S9x256x256 1 × IVec S8x256x256 1 :=
  let main_c_1079 : IVec S_ 32 := constantI S_ 32 97#32
  let main_v6840 : IVec S2x256x256 32 := broadcastInDim S2x256x256 ![] bcast_S_S2x256x256 main_c_1079
  let main_v6841 : IVec S2x256x256 1 := cmpi .sgt main_v4988 main_v6840
  let main_v6842 : IVec S2x256x256 1 := andi main_v6839 main_v6841
  let main_v6843 : FVec F S2x256x256 .f32 := broadcastInDim S2x256x256 ![0, 1, 2] bcast_S2x1x256_S2x256x256_0_1_2 main_v6832
  let main_v6844 : FVec F S2x256x256 .f32 := mulf main_v6837 main_v6843
  let main_v6845 : FVec F S2x256x256 .f32 := subf main_v6831 main_v6844
  let main_v6846 : FVec F S2x256x256 .f32 := select main_v6842 main_v6845 main_v6831
  let main_c_1080 : IVec S_ 32 := constantI S_ 32 97#32
  let main_v6847 : IVec S2x256x256 32 := broadcastInDim S2x256x256 ![] bcast_S_S2x256x256 main_c_1080
  let main_v6848 : IVec S2x256x256 1 := cmpi .eq main_v4988 main_v6847
  let main_v6849 : IVec S2x256x256 1 := andi main_v6839 main_v6848
  let main_v6850 : FVec F S2x256x256 .f32 := select main_v6849 main_v6837 main_v6846
  let main_v6851 : FVec F S2x1x256 .f32 := (extractStridedSlice S2x1x256 ![0, 98, 0] · slices_S2x256x256_S2x1x256_0_98_0) main_v6850
  let main_v6852 : FVec F S2x256x1 .f32 := (extractStridedSlice S2x256x1 ![0, 0, 98] · slices_S2x256x256_S2x256x1_0_0_98) main_v6850
  let main_v6853 : FVec F S2x1x1 .f32 := (extractStridedSlice S2x1x1 ![0, 0, 98] · slices_S2x1x256_S2x1x1_0_0_98) main_v6851
  let main_v6854 : FVec F S2x256x1 .f32 := broadcastInDim S2x256x1 ![0, 1, 2] bcast_S2x1x1_S2x256x1_0_1_2 main_v6853
  let main_v6855 : FVec F S2x256x1 .f32 := Host.divf main_v6852 main_v6854
  let main_v6856 : FVec F S2x256x256 .f32 := broadcastInDim S2x256x256 ![0, 1, 2] bcast_S2x256x1_S2x256x256_0_1_2 main_v6855
  let main_c_1081 : IVec S_ 32 := constantI S_ 32 98#32
  let main_v6857 : IVec S2x256x256 32 := broadcastInDim S2x256x256 ![] bcast_S_S2x256x256 main_c_1081
  let main_v6858 : IVec S2x256x256 1 := cmpi .sgt main_v4987 main_v6857
  let main_c_1082 : IVec S_ 32 := constantI S_ 32 98#32
  let main_v6859 : IVec S2x256x256 32 := broadcastInDim S2x256x256 ![] bcast_S_S2x256x256 main_c_1082
  fn_part331 (F := F) main_arg0 main_v8 main_v4875 main_v4987 main_v4988 main_v6850 main_v6851 main_v6856 main_v6858 main_v6859

def fn_part329 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6812 : FVec F S2x256x256 .f32) (main_v6813 : FVec F S2x1x256 .f32) (main_v6818 : FVec F S2x256x256 .f32) (main_c_1075 : IVec S_ 32) : IVec S9x256x256 1 × IVec S8x256x256 1 :=
  let main_v6819 : IVec S2x256x256 32 := broadcastInDim S2x256x256 ![] bcast_S_S2x256x256 main_c_1075
  let main_v6820 : IVec S2x256x256 1 := cmpi .sgt main_v4987 main_v6819
  let main_c_1076 : IVec S_ 32 := constantI S_ 32 96#32
  let main_v6821 : IVec S2x256x256 32 := broadcastInDim S2x256x256 ![] bcast_S_S2x256x256 main_c_1076
  let main_v6822 : IVec S2x256x256 1 := cmpi .sgt main_v4988 main_v6821
  let main_v6823 : IVec S2x256x256 1 := andi main_v6820 main_v6822
  let main_v6824 : FVec F S2x256x256 .f32 := broadcastInDim S2x256x256 ![0, 1, 2] bcast_S2x1x256_S2x256x256_0_1_2 main_v6813
  let main_v6825 : FVec F S2x256x256 .f32 := mulf main_v6818 main_v6824
  let main_v6826 : FVec F S2x256x256 .f32 := subf main_v6812 main_v6825
  let main_v6827 : FVec F S2x256x256 .f32 := select main_v6823 main_v6826 main_v6812
  let main_c_1077 : IVec S_ 32 := constantI S_ 32 96#32
  let main_v6828 : IVec S2x256x256 32 := broadcastInDim S2x256x256 ![] bcast_S_S2x256x256 main_c_1077
  let main_v6829 : IVec S2x256x256 1 := cmpi .eq main_v4988 main_v6828
  let main_v6830 : IVec S2x256x256 1 := andi main_v6820 main_v6829
  let main_v6831 : FVec F S2x256x256 .f32 := select main_v6830 main_v6818 main_v6827
  let main_v6832 : FVec F S2x1x256 .f32 := (extractStridedSlice S2x1x256 ![0, 97, 0] · slices_S2x256x256_S2x1x256_0_97_0) main_v6831
  let main_v6833 : FVec F S2x256x1 .f32 := (extractStridedSlice S2x256x1 ![0, 0, 97] · slices_S2x256x256_S2x256x1_0_0_97) main_v6831
  let main_v6834 : FVec F S2x1x1 .f32 := (extractStridedSlice S2x1x1 ![0, 0, 97] · slices_S2x1x256_S2x1x1_0_0_97) main_v6832
  let main_v6835 : FVec F S2x256x1 .f32 := broadcastInDim S2x256x1 ![0, 1, 2] bcast_S2x1x1_S2x256x1_0_1_2 main_v6834
  let main_v6836 : FVec F S2x256x1 .f32 := Host.divf main_v6833 main_v6835
  let main_v6837 : FVec F S2x256x256 .f32 := broadcastInDim S2x256x256 ![0, 1, 2] bcast_S2x256x1_S2x256x256_0_1_2 main_v6836
  let main_c_1078 : IVec S_ 32 := constantI S_ 32 97#32
  let main_v6838 : IVec S2x256x256 32 := broadcastInDim S2x256x256 ![] bcast_S_S2x256x256 main_c_1078
  let main_v6839 : IVec S2x256x256 1 := cmpi .sgt main_v4987 main_v6838
  fn_part330 (F := F) main_arg0 main_v8 main_v4875 main_v4987 main_v4988 main_v6831 main_v6832 main_v6837 main_v6839

def fn_part328 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6793 : FVec F S2x256x256 .f32) (main_v6794 : FVec F S2x1x256 .f32) (main_v6798 : FVec F S2x256x1 .f32) : IVec S9x256x256 1 × IVec S8x256x256 1 :=
  let main_v6799 : FVec F S2x256x256 .f32 := broadcastInDim S2x256x256 ![0, 1, 2] bcast_S2x256x1_S2x256x256_0_1_2 main_v6798
  let main_c_1072 : IVec S_ 32 := constantI S_ 32 95#32
  let main_v6800 : IVec S2x256x256 32 := broadcastInDim S2x256x256 ![] bcast_S_S2x256x256 main_c_1072
  let main_v6801 : IVec S2x256x256 1 := cmpi .sgt main_v4987 main_v6800
  let main_c_1073 : IVec S_ 32 := constantI S_ 32 95#32
  let main_v6802 : IVec S2x256x256 32 := broadcastInDim S2x256x256 ![] bcast_S_S2x256x256 main_c_1073
  let main_v6803 : IVec S2x256x256 1 := cmpi .sgt main_v4988 main_v6802
  let main_v6804 : IVec S2x256x256 1 := andi main_v6801 main_v6803
  let main_v6805 : FVec F S2x256x256 .f32 := broadcastInDim S2x256x256 ![0, 1, 2] bcast_S2x1x256_S2x256x256_0_1_2 main_v6794
  let main_v6806 : FVec F S2x256x256 .f32 := mulf main_v6799 main_v6805
  let main_v6807 : FVec F S2x256x256 .f32 := subf main_v6793 main_v6806
  let main_v6808 : FVec F S2x256x256 .f32 := select main_v6804 main_v6807 main_v6793
  let main_c_1074 : IVec S_ 32 := constantI S_ 32 95#32
  let main_v6809 : IVec S2x256x256 32 := broadcastInDim S2x256x256 ![] bcast_S_S2x256x256 main_c_1074
  let main_v6810 : IVec S2x256x256 1 := cmpi .eq main_v4988 main_v6809
  let main_v6811 : IVec S2x256x256 1 := andi main_v6801 main_v6810
  let main_v6812 : FVec F S2x256x256 .f32 := select main_v6811 main_v6799 main_v6808
  let main_v6813 : FVec F S2x1x256 .f32 := (extractStridedSlice S2x1x256 ![0, 96, 0] · slices_S2x256x256_S2x1x256_0_96_0) main_v6812
  let main_v6814 : FVec F S2x256x1 .f32 := (extractStridedSlice S2x256x1 ![0, 0, 96] · slices_S2x256x256_S2x256x1_0_0_96) main_v6812
  let main_v6815 : FVec F S2x1x1 .f32 := (extractStridedSlice S2x1x1 ![0, 0, 96] · slices_S2x1x256_S2x1x1_0_0_96) main_v6813
  let main_v6816 : FVec F S2x256x1 .f32 := broadcastInDim S2x256x1 ![0, 1, 2] bcast_S2x1x1_S2x256x1_0_1_2 main_v6815
  let main_v6817 : FVec F S2x256x1 .f32 := Host.divf main_v6814 main_v6816
  let main_v6818 : FVec F S2x256x256 .f32 := broadcastInDim S2x256x256 ![0, 1, 2] bcast_S2x256x1_S2x256x256_0_1_2 main_v6817
  let main_c_1075 : IVec S_ 32 := constantI S_ 32 96#32
  fn_part329 (F := F) main_arg0 main_v8 main_v4875 main_v4987 main_v4988 main_v6812 main_v6813 main_v6818 main_c_1075

def fn_part327 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6774 : FVec F S2x256x256 .f32) (main_v6775 : FVec F S2x1x256 .f32) (main_v6776 : FVec F S2x256x1 .f32) (main_v6777 : FVec F S2x1x1 .f32) : IVec S9x256x256 1 × IVec S8x256x256 1 :=
  let main_v6778 : FVec F S2x256x1 .f32 := broadcastInDim S2x256x1 ![0, 1, 2] bcast_S2x1x1_S2x256x1_0_1_2 main_v6777
  let main_v6779 : FVec F S2x256x1 .f32 := Host.divf main_v6776 main_v6778
  let main_v6780 : FVec F S2x256x256 .f32 := broadcastInDim S2x256x256 ![0, 1, 2] bcast_S2x256x1_S2x256x256_0_1_2 main_v6779
  let main_c_1069 : IVec S_ 32 := constantI S_ 32 94#32
  let main_v6781 : IVec S2x256x256 32 := broadcastInDim S2x256x256 ![] bcast_S_S2x256x256 main_c_1069
  let main_v6782 : IVec S2x256x256 1 := cmpi .sgt main_v4987 main_v6781
  let main_c_1070 : IVec S_ 32 := constantI S_ 32 94#32
  let main_v6783 : IVec S2x256x256 32 := broadcastInDim S2x256x256 ![] bcast_S_S2x256x256 main_c_1070
  let main_v6784 : IVec S2x256x256 1 := cmpi .sgt main_v4988 main_v6783
  let main_v6785 : IVec S2x256x256 1 := andi main_v6782 main_v6784
  let main_v6786 : FVec F S2x256x256 .f32 := broadcastInDim S2x256x256 ![0, 1, 2] bcast_S2x1x256_S2x256x256_0_1_2 main_v6775
  let main_v6787 : FVec F S2x256x256 .f32 := mulf main_v6780 main_v6786
  let main_v6788 : FVec F S2x256x256 .f32 := subf main_v6774 main_v6787
  let main_v6789 : FVec F S2x256x256 .f32 := select main_v6785 main_v6788 main_v6774
  let main_c_1071 : IVec S_ 32 := constantI S_ 32 94#32
  let main_v6790 : IVec S2x256x256 32 := broadcastInDim S2x256x256 ![] bcast_S_S2x256x256 main_c_1071
  let main_v6791 : IVec S2x256x256 1 := cmpi .eq main_v4988 main_v6790
  let main_v6792 : IVec S2x256x256 1 := andi main_v6782 main_v6791
  let main_v6793 : FVec F S2x256x256 .f32 := select main_v6792 main_v6780 main_v6789
  let main_v6794 : FVec F S2x1x256 .f32 := (extractStridedSlice S2x1x256 ![0, 95, 0] · slices_S2x256x256_S2x1x256_0_95_0) main_v6793
  let main_v6795 : FVec F S2x256x1 .f32 := (extractStridedSlice S2x256x1 ![0, 0, 95] · slices_S2x256x256_S2x256x1_0_0_95) main_v6793
  let main_v6796 : FVec F S2x1x1 .f32 := (extractStridedSlice S2x1x1 ![0, 0, 95] · slices_S2x1x256_S2x1x1_0_0_95) main_v6794
  let main_v6797 : FVec F S2x256x1 .f32 := broadcastInDim S2x256x1 ![0, 1, 2] bcast_S2x1x1_S2x256x1_0_1_2 main_v6796
  let main_v6798 : FVec F S2x256x1 .f32 := Host.divf main_v6795 main_v6797
  fn_part328 (F := F) main_arg0 main_v8 main_v4875 main_v4987 main_v4988 main_v6793 main_v6794 main_v6798

def fn_part326 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6755 : FVec F S2x256x256 .f32) (main_v6756 : FVec F S2x1x256 .f32) : IVec S9x256x256 1 × IVec S8x256x256 1 :=
  let main_v6757 : FVec F S2x256x1 .f32 := (extractStridedSlice S2x256x1 ![0, 0, 93] · slices_S2x256x256_S2x256x1_0_0_93) main_v6755
  let main_v6758 : FVec F S2x1x1 .f32 := (extractStridedSlice S2x1x1 ![0, 0, 93] · slices_S2x1x256_S2x1x1_0_0_93) main_v6756
  let main_v6759 : FVec F S2x256x1 .f32 := broadcastInDim S2x256x1 ![0, 1, 2] bcast_S2x1x1_S2x256x1_0_1_2 main_v6758
  let main_v6760 : FVec F S2x256x1 .f32 := Host.divf main_v6757 main_v6759
  let main_v6761 : FVec F S2x256x256 .f32 := broadcastInDim S2x256x256 ![0, 1, 2] bcast_S2x256x1_S2x256x256_0_1_2 main_v6760
  let main_c_1066 : IVec S_ 32 := constantI S_ 32 93#32
  let main_v6762 : IVec S2x256x256 32 := broadcastInDim S2x256x256 ![] bcast_S_S2x256x256 main_c_1066
  let main_v6763 : IVec S2x256x256 1 := cmpi .sgt main_v4987 main_v6762
  let main_c_1067 : IVec S_ 32 := constantI S_ 32 93#32
  let main_v6764 : IVec S2x256x256 32 := broadcastInDim S2x256x256 ![] bcast_S_S2x256x256 main_c_1067
  let main_v6765 : IVec S2x256x256 1 := cmpi .sgt main_v4988 main_v6764
  let main_v6766 : IVec S2x256x256 1 := andi main_v6763 main_v6765
  let main_v6767 : FVec F S2x256x256 .f32 := broadcastInDim S2x256x256 ![0, 1, 2] bcast_S2x1x256_S2x256x256_0_1_2 main_v6756
  let main_v6768 : FVec F S2x256x256 .f32 := mulf main_v6761 main_v6767
  let main_v6769 : FVec F S2x256x256 .f32 := subf main_v6755 main_v6768
  let main_v6770 : FVec F S2x256x256 .f32 := select main_v6766 main_v6769 main_v6755
  let main_c_1068 : IVec S_ 32 := constantI S_ 32 93#32
  let main_v6771 : IVec S2x256x256 32 := broadcastInDim S2x256x256 ![] bcast_S_S2x256x256 main_c_1068
  let main_v6772 : IVec S2x256x256 1 := cmpi .eq main_v4988 main_v6771
  let main_v6773 : IVec S2x256x256 1 := andi main_v6763 main_v6772
  let main_v6774 : FVec F S2x256x256 .f32 := select main_v6773 main_v6761 main_v6770
  let main_v6775 : FVec F S2x1x256 .f32 := (extractStridedSlice S2x1x256 ![0, 94, 0] · slices_S2x256x256_S2x1x256_0_94_0) main_v6774
  let main_v6776 : FVec F S2x256x1 .f32 := (extractStridedSlice S2x256x1 ![0, 0, 94] · slices_S2x256x256_S2x256x1_0_0_94) main_v6774
  let main_v6777 : FVec F S2x1x1 .f32 := (extractStridedSlice S2x1x1 ![0, 0, 94] · slices_S2x1x256_S2x1x1_0_0_94) main_v6775
  fn_part327 (F := F) main_arg0 main_v8 main_v4875 main_v4987 main_v4988 main_v6774 main_v6775 main_v6776 main_v6777

def fn_part325 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6723 : FVec F S2x256x256 .f32) (main_v6732 : FVec F S2x256x256 .f32) (main_v6735 : IVec S2x256x256 1) : IVec S9x256x256 1 × IVec S8x256x256 1 :=
  let main_v6736 : FVec F S2x256x256 .f32 := select main_v6735 main_v6723 main_v6732
  let main_v6737 : FVec F S2x1x256 .f32 := (extractStridedSlice S2x1x256 ![0, 92, 0] · slices_S2x256x256_S2x1x256_0_92_0) main_v6736
  let main_v6738 : FVec F S2x256x1 .f32 := (extractStridedSlice S2x256x1 ![0, 0, 92] · slices_S2x256x256_S2x256x1_0_0_92) main_v6736
  let main_v6739 : FVec F S2x1x1 .f32 := (extractStridedSlice S2x1x1 ![0, 0, 92] · slices_S2x1x256_S2x1x1_0_0_92) main_v6737
  let main_v6740 : FVec F S2x256x1 .f32 := broadcastInDim S2x256x1 ![0, 1, 2] bcast_S2x1x1_S2x256x1_0_1_2 main_v6739
  let main_v6741 : FVec F S2x256x1 .f32 := Host.divf main_v6738 main_v6740
  let main_v6742 : FVec F S2x256x256 .f32 := broadcastInDim S2x256x256 ![0, 1, 2] bcast_S2x256x1_S2x256x256_0_1_2 main_v6741
  let main_c_1063 : IVec S_ 32 := constantI S_ 32 92#32
  let main_v6743 : IVec S2x256x256 32 := broadcastInDim S2x256x256 ![] bcast_S_S2x256x256 main_c_1063
  let main_v6744 : IVec S2x256x256 1 := cmpi .sgt main_v4987 main_v6743
  let main_c_1064 : IVec S_ 32 := constantI S_ 32 92#32
  let main_v6745 : IVec S2x256x256 32 := broadcastInDim S2x256x256 ![] bcast_S_S2x256x256 main_c_1064
  let main_v6746 : IVec S2x256x256 1 := cmpi .sgt main_v4988 main_v6745
  let main_v6747 : IVec S2x256x256 1 := andi main_v6744 main_v6746
  let main_v6748 : FVec F S2x256x256 .f32 := broadcastInDim S2x256x256 ![0, 1, 2] bcast_S2x1x256_S2x256x256_0_1_2 main_v6737
  let main_v6749 : FVec F S2x256x256 .f32 := mulf main_v6742 main_v6748
  let main_v6750 : FVec F S2x256x256 .f32 := subf main_v6736 main_v6749
  let main_v6751 : FVec F S2x256x256 .f32 := select main_v6747 main_v6750 main_v6736
  let main_c_1065 : IVec S_ 32 := constantI S_ 32 92#32
  let main_v6752 : IVec S2x256x256 32 := broadcastInDim S2x256x256 ![] bcast_S_S2x256x256 main_c_1065
  let main_v6753 : IVec S2x256x256 1 := cmpi .eq main_v4988 main_v6752
  let main_v6754 : IVec S2x256x256 1 := andi main_v6744 main_v6753
  let main_v6755 : FVec F S2x256x256 .f32 := select main_v6754 main_v6742 main_v6751
  let main_v6756 : FVec F S2x1x256 .f32 := (extractStridedSlice S2x1x256 ![0, 93, 0] · slices_S2x256x256_S2x1x256_0_93_0) main_v6755
  fn_part326 (F := F) main_arg0 main_v8 main_v4875 main_v4987 main_v4988 main_v6755 main_v6756

def fn_part324 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6704 : FVec F S2x256x256 .f32) (main_v6706 : IVec S2x256x256 1) (main_v6713 : FVec F S2x256x256 .f32) (main_v6714 : IVec S2x256x256 32) : IVec S9x256x256 1 × IVec S8x256x256 1 :=
  let main_v6715 : IVec S2x256x256 1 := cmpi .eq main_v4988 main_v6714
  let main_v6716 : IVec S2x256x256 1 := andi main_v6706 main_v6715
  let main_v6717 : FVec F S2x256x256 .f32 := select main_v6716 main_v6704 main_v6713
  let main_v6718 : FVec F S2x1x256 .f32 := (extractStridedSlice S2x1x256 ![0, 91, 0] · slices_S2x256x256_S2x1x256_0_91_0) main_v6717
  let main_v6719 : FVec F S2x256x1 .f32 := (extractStridedSlice S2x256x1 ![0, 0, 91] · slices_S2x256x256_S2x256x1_0_0_91) main_v6717
  let main_v6720 : FVec F S2x1x1 .f32 := (extractStridedSlice S2x1x1 ![0, 0, 91] · slices_S2x1x256_S2x1x1_0_0_91) main_v6718
  let main_v6721 : FVec F S2x256x1 .f32 := broadcastInDim S2x256x1 ![0, 1, 2] bcast_S2x1x1_S2x256x1_0_1_2 main_v6720
  let main_v6722 : FVec F S2x256x1 .f32 := Host.divf main_v6719 main_v6721
  let main_v6723 : FVec F S2x256x256 .f32 := broadcastInDim S2x256x256 ![0, 1, 2] bcast_S2x256x1_S2x256x256_0_1_2 main_v6722
  let main_c_1060 : IVec S_ 32 := constantI S_ 32 91#32
  let main_v6724 : IVec S2x256x256 32 := broadcastInDim S2x256x256 ![] bcast_S_S2x256x256 main_c_1060
  let main_v6725 : IVec S2x256x256 1 := cmpi .sgt main_v4987 main_v6724
  let main_c_1061 : IVec S_ 32 := constantI S_ 32 91#32
  let main_v6726 : IVec S2x256x256 32 := broadcastInDim S2x256x256 ![] bcast_S_S2x256x256 main_c_1061
  let main_v6727 : IVec S2x256x256 1 := cmpi .sgt main_v4988 main_v6726
  let main_v6728 : IVec S2x256x256 1 := andi main_v6725 main_v6727
  let main_v6729 : FVec F S2x256x256 .f32 := broadcastInDim S2x256x256 ![0, 1, 2] bcast_S2x1x256_S2x256x256_0_1_2 main_v6718
  let main_v6730 : FVec F S2x256x256 .f32 := mulf main_v6723 main_v6729
  let main_v6731 : FVec F S2x256x256 .f32 := subf main_v6717 main_v6730
  let main_v6732 : FVec F S2x256x256 .f32 := select main_v6728 main_v6731 main_v6717
  let main_c_1062 : IVec S_ 32 := constantI S_ 32 91#32
  let main_v6733 : IVec S2x256x256 32 := broadcastInDim S2x256x256 ![] bcast_S_S2x256x256 main_c_1062
  let main_v6734 : IVec S2x256x256 1 := cmpi .eq main_v4988 main_v6733
  let main_v6735 : IVec S2x256x256 1 := andi main_v6725 main_v6734
  fn_part325 (F := F) main_arg0 main_v8 main_v4875 main_v4987 main_v4988 main_v6723 main_v6732 main_v6735

def fn_part323 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6685 : FVec F S2x256x256 .f32) (main_v6687 : IVec S2x256x256 1) (main_v6694 : FVec F S2x256x256 .f32) : IVec S9x256x256 1 × IVec S8x256x256 1 :=
  let main_c_1056 : IVec S_ 32 := constantI S_ 32 89#32
  let main_v6695 : IVec S2x256x256 32 := broadcastInDim S2x256x256 ![] bcast_S_S2x256x256 main_c_1056
  let main_v6696 : IVec S2x256x256 1 := cmpi .eq main_v4988 main_v6695
  let main_v6697 : IVec S2x256x256 1 := andi main_v6687 main_v6696
  let main_v6698 : FVec F S2x256x256 .f32 := select main_v6697 main_v6685 main_v6694
  let main_v6699 : FVec F S2x1x256 .f32 := (extractStridedSlice S2x1x256 ![0, 90, 0] · slices_S2x256x256_S2x1x256_0_90_0) main_v6698
  let main_v6700 : FVec F S2x256x1 .f32 := (extractStridedSlice S2x256x1 ![0, 0, 90] · slices_S2x256x256_S2x256x1_0_0_90) main_v6698
  let main_v6701 : FVec F S2x1x1 .f32 := (extractStridedSlice S2x1x1 ![0, 0, 90] · slices_S2x1x256_S2x1x1_0_0_90) main_v6699
  let main_v6702 : FVec F S2x256x1 .f32 := broadcastInDim S2x256x1 ![0, 1, 2] bcast_S2x1x1_S2x256x1_0_1_2 main_v6701
  let main_v6703 : FVec F S2x256x1 .f32 := Host.divf main_v6700 main_v6702
  let main_v6704 : FVec F S2x256x256 .f32 := broadcastInDim S2x256x256 ![0, 1, 2] bcast_S2x256x1_S2x256x256_0_1_2 main_v6703
  let main_c_1057 : IVec S_ 32 := constantI S_ 32 90#32
  let main_v6705 : IVec S2x256x256 32 := broadcastInDim S2x256x256 ![] bcast_S_S2x256x256 main_c_1057
  let main_v6706 : IVec S2x256x256 1 := cmpi .sgt main_v4987 main_v6705
  let main_c_1058 : IVec S_ 32 := constantI S_ 32 90#32
  let main_v6707 : IVec S2x256x256 32 := broadcastInDim S2x256x256 ![] bcast_S_S2x256x256 main_c_1058
  let main_v6708 : IVec S2x256x256 1 := cmpi .sgt main_v4988 main_v6707
  let main_v6709 : IVec S2x256x256 1 := andi main_v6706 main_v6708
  let main_v6710 : FVec F S2x256x256 .f32 := broadcastInDim S2x256x256 ![0, 1, 2] bcast_S2x1x256_S2x256x256_0_1_2 main_v6699
  let main_v6711 : FVec F S2x256x256 .f32 := mulf main_v6704 main_v6710
  let main_v6712 : FVec F S2x256x256 .f32 := subf main_v6698 main_v6711
  let main_v6713 : FVec F S2x256x256 .f32 := select main_v6709 main_v6712 main_v6698
  let main_c_1059 : IVec S_ 32 := constantI S_ 32 90#32
  let main_v6714 : IVec S2x256x256 32 := broadcastInDim S2x256x256 ![] bcast_S_S2x256x256 main_c_1059
  fn_part324 (F := F) main_arg0 main_v8 main_v4875 main_v4987 main_v4988 main_v6704 main_v6706 main_v6713 main_v6714

def fn_part322 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6660 : FVec F S2x256x256 .f32) (main_v6666 : FVec F S2x256x256 .f32) (main_v6668 : IVec S2x256x256 1) (main_v6671 : IVec S2x256x256 1) (main_v6673 : FVec F S2x256x256 .f32) : IVec S9x256x256 1 × IVec S8x256x256 1 :=
  let main_v6674 : FVec F S2x256x256 .f32 := subf main_v6660 main_v6673
  let main_v6675 : FVec F S2x256x256 .f32 := select main_v6671 main_v6674 main_v6660
  let main_c_1053 : IVec S_ 32 := constantI S_ 32 88#32
  let main_v6676 : IVec S2x256x256 32 := broadcastInDim S2x256x256 ![] bcast_S_S2x256x256 main_c_1053
  let main_v6677 : IVec S2x256x256 1 := cmpi .eq main_v4988 main_v6676
  let main_v6678 : IVec S2x256x256 1 := andi main_v6668 main_v6677
  let main_v6679 : FVec F S2x256x256 .f32 := select main_v6678 main_v6666 main_v6675
  let main_v6680 : FVec F S2x1x256 .f32 := (extractStridedSlice S2x1x256 ![0, 89, 0] · slices_S2x256x256_S2x1x256_0_89_0) main_v6679
  let main_v6681 : FVec F S2x256x1 .f32 := (extractStridedSlice S2x256x1 ![0, 0, 89] · slices_S2x256x256_S2x256x1_0_0_89) main_v6679
  let main_v6682 : FVec F S2x1x1 .f32 := (extractStridedSlice S2x1x1 ![0, 0, 89] · slices_S2x1x256_S2x1x1_0_0_89) main_v6680
  let main_v6683 : FVec F S2x256x1 .f32 := broadcastInDim S2x256x1 ![0, 1, 2] bcast_S2x1x1_S2x256x1_0_1_2 main_v6682
  let main_v6684 : FVec F S2x256x1 .f32 := Host.divf main_v6681 main_v6683
  let main_v6685 : FVec F S2x256x256 .f32 := broadcastInDim S2x256x256 ![0, 1, 2] bcast_S2x256x1_S2x256x256_0_1_2 main_v6684
  let main_c_1054 : IVec S_ 32 := constantI S_ 32 89#32
  let main_v6686 : IVec S2x256x256 32 := broadcastInDim S2x256x256 ![] bcast_S_S2x256x256 main_c_1054
  let main_v6687 : IVec S2x256x256 1 := cmpi .sgt main_v4987 main_v6686
  let main_c_1055 : IVec S_ 32 := constantI S_ 32 89#32
  let main_v6688 : IVec S2x256x256 32 := broadcastInDim S2x256x256 ![] bcast_S_S2x256x256 main_c_1055
  let main_v6689 : IVec S2x256x256 1 := cmpi .sgt main_v4988 main_v6688
  let main_v6690 : IVec S2x256x256 1 := andi main_v6687 main_v6689
  let main_v6691 : FVec F S2x256x256 .f32 := broadcastInDim S2x256x256 ![0, 1, 2] bcast_S2x1x256_S2x256x256_0_1_2 main_v6680
  let main_v6692 : FVec F S2x256x256 .f32 := mulf main_v6685 main_v6691
  let main_v6693 : FVec F S2x256x256 .f32 := subf main_v6679 main_v6692
  let main_v6694 : FVec F S2x256x256 .f32 := select main_v6690 main_v6693 main_v6679
  fn_part323 (F := F) main_arg0 main_v8 main_v4875 main_v4987 main_v4988 main_v6685 main_v6687 main_v6694

def fn_part321 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6641 : FVec F S2x256x256 .f32) (main_v6642 : FVec F S2x1x256 .f32) (main_v6647 : FVec F S2x256x256 .f32) (main_v6649 : IVec S2x256x256 1) (main_v6652 : IVec S2x256x256 1) : IVec S9x256x256 1 × IVec S8x256x256 1 :=
  let main_v6653 : FVec F S2x256x256 .f32 := broadcastInDim S2x256x256 ![0, 1, 2] bcast_S2x1x256_S2x256x256_0_1_2 main_v6642
  let main_v6654 : FVec F S2x256x256 .f32 := mulf main_v6647 main_v6653
  let main_v6655 : FVec F S2x256x256 .f32 := subf main_v6641 main_v6654
  let main_v6656 : FVec F S2x256x256 .f32 := select main_v6652 main_v6655 main_v6641
  let main_c_1050 : IVec S_ 32 := constantI S_ 32 87#32
  let main_v6657 : IVec S2x256x256 32 := broadcastInDim S2x256x256 ![] bcast_S_S2x256x256 main_c_1050
  let main_v6658 : IVec S2x256x256 1 := cmpi .eq main_v4988 main_v6657
  let main_v6659 : IVec S2x256x256 1 := andi main_v6649 main_v6658
  let main_v6660 : FVec F S2x256x256 .f32 := select main_v6659 main_v6647 main_v6656
  let main_v6661 : FVec F S2x1x256 .f32 := (extractStridedSlice S2x1x256 ![0, 88, 0] · slices_S2x256x256_S2x1x256_0_88_0) main_v6660
  let main_v6662 : FVec F S2x256x1 .f32 := (extractStridedSlice S2x256x1 ![0, 0, 88] · slices_S2x256x256_S2x256x1_0_0_88) main_v6660
  let main_v6663 : FVec F S2x1x1 .f32 := (extractStridedSlice S2x1x1 ![0, 0, 88] · slices_S2x1x256_S2x1x1_0_0_88) main_v6661
  let main_v6664 : FVec F S2x256x1 .f32 := broadcastInDim S2x256x1 ![0, 1, 2] bcast_S2x1x1_S2x256x1_0_1_2 main_v6663
  let main_v6665 : FVec F S2x256x1 .f32 := Host.divf main_v6662 main_v6664
  let main_v6666 : FVec F S2x256x256 .f32 := broadcastInDim S2x256x256 ![0, 1, 2] bcast_S2x256x1_S2x256x256_0_1_2 main_v6665
  let main_c_1051 : IVec S_ 32 := constantI S_ 32 88#32
  let main_v6667 : IVec S2x256x256 32 := broadcastInDim S2x256x256 ![] bcast_S_S2x256x256 main_c_1051
  let main_v6668 : IVec S2x256x256 1 := cmpi .sgt main_v4987 main_v6667
  let main_c_1052 : IVec S_ 32 := constantI S_ 32 88#32
  let main_v6669 : IVec S2x256x256 32 := broadcastInDim S2x256x256 ![] bcast_S_S2x256x256 main_c_1052
  let main_v6670 : IVec S2x256x256 1 := cmpi .sgt main_v4988 main_v6669
  let main_v6671 : IVec S2x256x256 1 := andi main_v6668 main_v6670
  let main_v6672 : FVec F S2x256x256 .f32 := broadcastInDim S2x256x256 ![0, 1, 2] bcast_S2x1x256_S2x256x256_0_1_2 main_v6661
  let main_v6673 : FVec F S2x256x256 .f32 := mulf main_v6666 main_v6672
  fn_part322 (F := F) main_arg0 main_v8 main_v4875 main_v4987 main_v4988 main_v6660 main_v6666 main_v6668 main_v6671 main_v6673

def fn_part320 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6622 : FVec F S2x256x256 .f32) (main_v6623 : FVec F S2x1x256 .f32) (main_v6628 : FVec F S2x256x256 .f32) (main_v6630 : IVec S2x256x256 1) (main_v6631 : IVec S2x256x256 32) : IVec S9x256x256 1 × IVec S8x256x256 1 :=
  let main_v6632 : IVec S2x256x256 1 := cmpi .sgt main_v4988 main_v6631
  let main_v6633 : IVec S2x256x256 1 := andi main_v6630 main_v6632
  let main_v6634 : FVec F S2x256x256 .f32 := broadcastInDim S2x256x256 ![0, 1, 2] bcast_S2x1x256_S2x256x256_0_1_2 main_v6623
  let main_v6635 : FVec F S2x256x256 .f32 := mulf main_v6628 main_v6634
  let main_v6636 : FVec F S2x256x256 .f32 := subf main_v6622 main_v6635
  let main_v6637 : FVec F S2x256x256 .f32 := select main_v6633 main_v6636 main_v6622
  let main_c_1047 : IVec S_ 32 := constantI S_ 32 86#32
  let main_v6638 : IVec S2x256x256 32 := broadcastInDim S2x256x256 ![] bcast_S_S2x256x256 main_c_1047
  let main_v6639 : IVec S2x256x256 1 := cmpi .eq main_v4988 main_v6638
  let main_v6640 : IVec S2x256x256 1 := andi main_v6630 main_v6639
  let main_v6641 : FVec F S2x256x256 .f32 := select main_v6640 main_v6628 main_v6637
  let main_v6642 : FVec F S2x1x256 .f32 := (extractStridedSlice S2x1x256 ![0, 87, 0] · slices_S2x256x256_S2x1x256_0_87_0) main_v6641
  let main_v6643 : FVec F S2x256x1 .f32 := (extractStridedSlice S2x256x1 ![0, 0, 87] · slices_S2x256x256_S2x256x1_0_0_87) main_v6641
  let main_v6644 : FVec F S2x1x1 .f32 := (extractStridedSlice S2x1x1 ![0, 0, 87] · slices_S2x1x256_S2x1x1_0_0_87) main_v6642
  let main_v6645 : FVec F S2x256x1 .f32 := broadcastInDim S2x256x1 ![0, 1, 2] bcast_S2x1x1_S2x256x1_0_1_2 main_v6644
  let main_v6646 : FVec F S2x256x1 .f32 := Host.divf main_v6643 main_v6645
  let main_v6647 : FVec F S2x256x256 .f32 := broadcastInDim S2x256x256 ![0, 1, 2] bcast_S2x256x1_S2x256x256_0_1_2 main_v6646
  let main_c_1048 : IVec S_ 32 := constantI S_ 32 87#32
  let main_v6648 : IVec S2x256x256 32 := broadcastInDim S2x256x256 ![] bcast_S_S2x256x256 main_c_1048
  let main_v6649 : IVec S2x256x256 1 := cmpi .sgt main_v4987 main_v6648
  let main_c_1049 : IVec S_ 32 := constantI S_ 32 87#32
  let main_v6650 : IVec S2x256x256 32 := broadcastInDim S2x256x256 ![] bcast_S_S2x256x256 main_c_1049
  let main_v6651 : IVec S2x256x256 1 := cmpi .sgt main_v4988 main_v6650
  let main_v6652 : IVec S2x256x256 1 := andi main_v6649 main_v6651
  fn_part321 (F := F) main_arg0 main_v8 main_v4875 main_v4987 main_v4988 main_v6641 main_v6642 main_v6647 main_v6649 main_v6652

def fn_part319 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6603 : FVec F S2x256x256 .f32) (main_v6604 : FVec F S2x1x256 .f32) (main_v6609 : FVec F S2x256x256 .f32) (main_v6611 : IVec S2x256x256 1) : IVec S9x256x256 1 × IVec S8x256x256 1 :=
  let main_c_1043 : IVec S_ 32 := constantI S_ 32 85#32
  let main_v6612 : IVec S2x256x256 32 := broadcastInDim S2x256x256 ![] bcast_S_S2x256x256 main_c_1043
  let main_v6613 : IVec S2x256x256 1 := cmpi .sgt main_v4988 main_v6612
  let main_v6614 : IVec S2x256x256 1 := andi main_v6611 main_v6613
  let main_v6615 : FVec F S2x256x256 .f32 := broadcastInDim S2x256x256 ![0, 1, 2] bcast_S2x1x256_S2x256x256_0_1_2 main_v6604
  let main_v6616 : FVec F S2x256x256 .f32 := mulf main_v6609 main_v6615
  let main_v6617 : FVec F S2x256x256 .f32 := subf main_v6603 main_v6616
  let main_v6618 : FVec F S2x256x256 .f32 := select main_v6614 main_v6617 main_v6603
  let main_c_1044 : IVec S_ 32 := constantI S_ 32 85#32
  let main_v6619 : IVec S2x256x256 32 := broadcastInDim S2x256x256 ![] bcast_S_S2x256x256 main_c_1044
  let main_v6620 : IVec S2x256x256 1 := cmpi .eq main_v4988 main_v6619
  let main_v6621 : IVec S2x256x256 1 := andi main_v6611 main_v6620
  let main_v6622 : FVec F S2x256x256 .f32 := select main_v6621 main_v6609 main_v6618
  let main_v6623 : FVec F S2x1x256 .f32 := (extractStridedSlice S2x1x256 ![0, 86, 0] · slices_S2x256x256_S2x1x256_0_86_0) main_v6622
  let main_v6624 : FVec F S2x256x1 .f32 := (extractStridedSlice S2x256x1 ![0, 0, 86] · slices_S2x256x256_S2x256x1_0_0_86) main_v6622
  let main_v6625 : FVec F S2x1x1 .f32 := (extractStridedSlice S2x1x1 ![0, 0, 86] · slices_S2x1x256_S2x1x1_0_0_86) main_v6623
  let main_v6626 : FVec F S2x256x1 .f32 := broadcastInDim S2x256x1 ![0, 1, 2] bcast_S2x1x1_S2x256x1_0_1_2 main_v6625
  let main_v6627 : FVec F S2x256x1 .f32 := Host.divf main_v6624 main_v6626
  let main_v6628 : FVec F S2x256x256 .f32 := broadcastInDim S2x256x256 ![0, 1, 2] bcast_S2x256x1_S2x256x256_0_1_2 main_v6627
  let main_c_1045 : IVec S_ 32 := constantI S_ 32 86#32
  let main_v6629 : IVec S2x256x256 32 := broadcastInDim S2x256x256 ![] bcast_S_S2x256x256 main_c_1045
  let main_v6630 : IVec S2x256x256 1 := cmpi .sgt main_v4987 main_v6629
  let main_c_1046 : IVec S_ 32 := constantI S_ 32 86#32
  let main_v6631 : IVec S2x256x256 32 := broadcastInDim S2x256x256 ![] bcast_S_S2x256x256 main_c_1046
  fn_part320 (F := F) main_arg0 main_v8 main_v4875 main_v4987 main_v4988 main_v6622 main_v6623 main_v6628 main_v6630 main_v6631

def fn_part318 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6584 : FVec F S2x256x256 .f32) (main_v6585 : FVec F S2x1x256 .f32) (main_v6590 : FVec F S2x256x256 .f32) (main_c_1039 : IVec S_ 32) : IVec S9x256x256 1 × IVec S8x256x256 1 :=
  let main_v6591 : IVec S2x256x256 32 := broadcastInDim S2x256x256 ![] bcast_S_S2x256x256 main_c_1039
  let main_v6592 : IVec S2x256x256 1 := cmpi .sgt main_v4987 main_v6591
  let main_c_1040 : IVec S_ 32 := constantI S_ 32 84#32
  let main_v6593 : IVec S2x256x256 32 := broadcastInDim S2x256x256 ![] bcast_S_S2x256x256 main_c_1040
  let main_v6594 : IVec S2x256x256 1 := cmpi .sgt main_v4988 main_v6593
  let main_v6595 : IVec S2x256x256 1 := andi main_v6592 main_v6594
  let main_v6596 : FVec F S2x256x256 .f32 := broadcastInDim S2x256x256 ![0, 1, 2] bcast_S2x1x256_S2x256x256_0_1_2 main_v6585
  let main_v6597 : FVec F S2x256x256 .f32 := mulf main_v6590 main_v6596
  let main_v6598 : FVec F S2x256x256 .f32 := subf main_v6584 main_v6597
  let main_v6599 : FVec F S2x256x256 .f32 := select main_v6595 main_v6598 main_v6584
  let main_c_1041 : IVec S_ 32 := constantI S_ 32 84#32
  let main_v6600 : IVec S2x256x256 32 := broadcastInDim S2x256x256 ![] bcast_S_S2x256x256 main_c_1041
  let main_v6601 : IVec S2x256x256 1 := cmpi .eq main_v4988 main_v6600
  let main_v6602 : IVec S2x256x256 1 := andi main_v6592 main_v6601
  let main_v6603 : FVec F S2x256x256 .f32 := select main_v6602 main_v6590 main_v6599
  let main_v6604 : FVec F S2x1x256 .f32 := (extractStridedSlice S2x1x256 ![0, 85, 0] · slices_S2x256x256_S2x1x256_0_85_0) main_v6603
  let main_v6605 : FVec F S2x256x1 .f32 := (extractStridedSlice S2x256x1 ![0, 0, 85] · slices_S2x256x256_S2x256x1_0_0_85) main_v6603
  let main_v6606 : FVec F S2x1x1 .f32 := (extractStridedSlice S2x1x1 ![0, 0, 85] · slices_S2x1x256_S2x1x1_0_0_85) main_v6604
  let main_v6607 : FVec F S2x256x1 .f32 := broadcastInDim S2x256x1 ![0, 1, 2] bcast_S2x1x1_S2x256x1_0_1_2 main_v6606
  let main_v6608 : FVec F S2x256x1 .f32 := Host.divf main_v6605 main_v6607
  let main_v6609 : FVec F S2x256x256 .f32 := broadcastInDim S2x256x256 ![0, 1, 2] bcast_S2x256x1_S2x256x256_0_1_2 main_v6608
  let main_c_1042 : IVec S_ 32 := constantI S_ 32 85#32
  let main_v6610 : IVec S2x256x256 32 := broadcastInDim S2x256x256 ![] bcast_S_S2x256x256 main_c_1042
  let main_v6611 : IVec S2x256x256 1 := cmpi .sgt main_v4987 main_v6610
  fn_part319 (F := F) main_arg0 main_v8 main_v4875 main_v4987 main_v4988 main_v6603 main_v6604 main_v6609 main_v6611

def fn_part317 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6565 : FVec F S2x256x256 .f32) (main_v6566 : FVec F S2x1x256 .f32) (main_v6570 : FVec F S2x256x1 .f32) : IVec S9x256x256 1 × IVec S8x256x256 1 :=
  let main_v6571 : FVec F S2x256x256 .f32 := broadcastInDim S2x256x256 ![0, 1, 2] bcast_S2x256x1_S2x256x256_0_1_2 main_v6570
  let main_c_1036 : IVec S_ 32 := constantI S_ 32 83#32
  let main_v6572 : IVec S2x256x256 32 := broadcastInDim S2x256x256 ![] bcast_S_S2x256x256 main_c_1036
  let main_v6573 : IVec S2x256x256 1 := cmpi .sgt main_v4987 main_v6572
  let main_c_1037 : IVec S_ 32 := constantI S_ 32 83#32
  let main_v6574 : IVec S2x256x256 32 := broadcastInDim S2x256x256 ![] bcast_S_S2x256x256 main_c_1037
  let main_v6575 : IVec S2x256x256 1 := cmpi .sgt main_v4988 main_v6574
  let main_v6576 : IVec S2x256x256 1 := andi main_v6573 main_v6575
  let main_v6577 : FVec F S2x256x256 .f32 := broadcastInDim S2x256x256 ![0, 1, 2] bcast_S2x1x256_S2x256x256_0_1_2 main_v6566
  let main_v6578 : FVec F S2x256x256 .f32 := mulf main_v6571 main_v6577
  let main_v6579 : FVec F S2x256x256 .f32 := subf main_v6565 main_v6578
  let main_v6580 : FVec F S2x256x256 .f32 := select main_v6576 main_v6579 main_v6565
  let main_c_1038 : IVec S_ 32 := constantI S_ 32 83#32
  let main_v6581 : IVec S2x256x256 32 := broadcastInDim S2x256x256 ![] bcast_S_S2x256x256 main_c_1038
  let main_v6582 : IVec S2x256x256 1 := cmpi .eq main_v4988 main_v6581
  let main_v6583 : IVec S2x256x256 1 := andi main_v6573 main_v6582
  let main_v6584 : FVec F S2x256x256 .f32 := select main_v6583 main_v6571 main_v6580
  let main_v6585 : FVec F S2x1x256 .f32 := (extractStridedSlice S2x1x256 ![0, 84, 0] · slices_S2x256x256_S2x1x256_0_84_0) main_v6584
  let main_v6586 : FVec F S2x256x1 .f32 := (extractStridedSlice S2x256x1 ![0, 0, 84] · slices_S2x256x256_S2x256x1_0_0_84) main_v6584
  let main_v6587 : FVec F S2x1x1 .f32 := (extractStridedSlice S2x1x1 ![0, 0, 84] · slices_S2x1x256_S2x1x1_0_0_84) main_v6585
  let main_v6588 : FVec F S2x256x1 .f32 := broadcastInDim S2x256x1 ![0, 1, 2] bcast_S2x1x1_S2x256x1_0_1_2 main_v6587
  let main_v6589 : FVec F S2x256x1 .f32 := Host.divf main_v6586 main_v6588
  let main_v6590 : FVec F S2x256x256 .f32 := broadcastInDim S2x256x256 ![0, 1, 2] bcast_S2x256x1_S2x256x256_0_1_2 main_v6589
  let main_c_1039 : IVec S_ 32 := constantI S_ 32 84#32
  fn_part318 (F := F) main_arg0 main_v8 main_v4875 main_v4987 main_v4988 main_v6584 main_v6585 main_v6590 main_c_1039

def fn_part316 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6546 : FVec F S2x256x256 .f32) (main_v6547 : FVec F S2x1x256 .f32) (main_v6548 : FVec F S2x256x1 .f32) (main_v6549 : FVec F S2x1x1 .f32) : IVec S9x256x256 1 × IVec S8x256x256 1 :=
  let main_v6550 : FVec F S2x256x1 .f32 := broadcastInDim S2x256x1 ![0, 1, 2] bcast_S2x1x1_S2x256x1_0_1_2 main_v6549
  let main_v6551 : FVec F S2x256x1 .f32 := Host.divf main_v6548 main_v6550
  let main_v6552 : FVec F S2x256x256 .f32 := broadcastInDim S2x256x256 ![0, 1, 2] bcast_S2x256x1_S2x256x256_0_1_2 main_v6551
  let main_c_1033 : IVec S_ 32 := constantI S_ 32 82#32
  let main_v6553 : IVec S2x256x256 32 := broadcastInDim S2x256x256 ![] bcast_S_S2x256x256 main_c_1033
  let main_v6554 : IVec S2x256x256 1 := cmpi .sgt main_v4987 main_v6553
  let main_c_1034 : IVec S_ 32 := constantI S_ 32 82#32
  let main_v6555 : IVec S2x256x256 32 := broadcastInDim S2x256x256 ![] bcast_S_S2x256x256 main_c_1034
  let main_v6556 : IVec S2x256x256 1 := cmpi .sgt main_v4988 main_v6555
  let main_v6557 : IVec S2x256x256 1 := andi main_v6554 main_v6556
  let main_v6558 : FVec F S2x256x256 .f32 := broadcastInDim S2x256x256 ![0, 1, 2] bcast_S2x1x256_S2x256x256_0_1_2 main_v6547
  let main_v6559 : FVec F S2x256x256 .f32 := mulf main_v6552 main_v6558
  let main_v6560 : FVec F S2x256x256 .f32 := subf main_v6546 main_v6559
  let main_v6561 : FVec F S2x256x256 .f32 := select main_v6557 main_v6560 main_v6546
  let main_c_1035 : IVec S_ 32 := constantI S_ 32 82#32
  let main_v6562 : IVec S2x256x256 32 := broadcastInDim S2x256x256 ![] bcast_S_S2x256x256 main_c_1035
  let main_v6563 : IVec S2x256x256 1 := cmpi .eq main_v4988 main_v6562
  let main_v6564 : IVec S2x256x256 1 := andi main_v6554 main_v6563
  let main_v6565 : FVec F S2x256x256 .f32 := select main_v6564 main_v6552 main_v6561
  let main_v6566 : FVec F S2x1x256 .f32 := (extractStridedSlice S2x1x256 ![0, 83, 0] · slices_S2x256x256_S2x1x256_0_83_0) main_v6565
  let main_v6567 : FVec F S2x256x1 .f32 := (extractStridedSlice S2x256x1 ![0, 0, 83] · slices_S2x256x256_S2x256x1_0_0_83) main_v6565
  let main_v6568 : FVec F S2x1x1 .f32 := (extractStridedSlice S2x1x1 ![0, 0, 83] · slices_S2x1x256_S2x1x1_0_0_83) main_v6566
  let main_v6569 : FVec F S2x256x1 .f32 := broadcastInDim S2x256x1 ![0, 1, 2] bcast_S2x1x1_S2x256x1_0_1_2 main_v6568
  let main_v6570 : FVec F S2x256x1 .f32 := Host.divf main_v6567 main_v6569
  fn_part317 (F := F) main_arg0 main_v8 main_v4875 main_v4987 main_v4988 main_v6565 main_v6566 main_v6570

def fn_part315 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6527 : FVec F S2x256x256 .f32) (main_v6528 : FVec F S2x1x256 .f32) : IVec S9x256x256 1 × IVec S8x256x256 1 :=
  let main_v6529 : FVec F S2x256x1 .f32 := (extractStridedSlice S2x256x1 ![0, 0, 81] · slices_S2x256x256_S2x256x1_0_0_81) main_v6527
  let main_v6530 : FVec F S2x1x1 .f32 := (extractStridedSlice S2x1x1 ![0, 0, 81] · slices_S2x1x256_S2x1x1_0_0_81) main_v6528
  let main_v6531 : FVec F S2x256x1 .f32 := broadcastInDim S2x256x1 ![0, 1, 2] bcast_S2x1x1_S2x256x1_0_1_2 main_v6530
  let main_v6532 : FVec F S2x256x1 .f32 := Host.divf main_v6529 main_v6531
  let main_v6533 : FVec F S2x256x256 .f32 := broadcastInDim S2x256x256 ![0, 1, 2] bcast_S2x256x1_S2x256x256_0_1_2 main_v6532
  let main_c_1030 : IVec S_ 32 := constantI S_ 32 81#32
  let main_v6534 : IVec S2x256x256 32 := broadcastInDim S2x256x256 ![] bcast_S_S2x256x256 main_c_1030
  let main_v6535 : IVec S2x256x256 1 := cmpi .sgt main_v4987 main_v6534
  let main_c_1031 : IVec S_ 32 := constantI S_ 32 81#32
  let main_v6536 : IVec S2x256x256 32 := broadcastInDim S2x256x256 ![] bcast_S_S2x256x256 main_c_1031
  let main_v6537 : IVec S2x256x256 1 := cmpi .sgt main_v4988 main_v6536
  let main_v6538 : IVec S2x256x256 1 := andi main_v6535 main_v6537
  let main_v6539 : FVec F S2x256x256 .f32 := broadcastInDim S2x256x256 ![0, 1, 2] bcast_S2x1x256_S2x256x256_0_1_2 main_v6528
  let main_v6540 : FVec F S2x256x256 .f32 := mulf main_v6533 main_v6539
  let main_v6541 : FVec F S2x256x256 .f32 := subf main_v6527 main_v6540
  let main_v6542 : FVec F S2x256x256 .f32 := select main_v6538 main_v6541 main_v6527
  let main_c_1032 : IVec S_ 32 := constantI S_ 32 81#32
  let main_v6543 : IVec S2x256x256 32 := broadcastInDim S2x256x256 ![] bcast_S_S2x256x256 main_c_1032
  let main_v6544 : IVec S2x256x256 1 := cmpi .eq main_v4988 main_v6543
  let main_v6545 : IVec S2x256x256 1 := andi main_v6535 main_v6544
  let main_v6546 : FVec F S2x256x256 .f32 := select main_v6545 main_v6533 main_v6542
  let main_v6547 : FVec F S2x1x256 .f32 := (extractStridedSlice S2x1x256 ![0, 82, 0] · slices_S2x256x256_S2x1x256_0_82_0) main_v6546
  let main_v6548 : FVec F S2x256x1 .f32 := (extractStridedSlice S2x256x1 ![0, 0, 82] · slices_S2x256x256_S2x256x1_0_0_82) main_v6546
  let main_v6549 : FVec F S2x1x1 .f32 := (extractStridedSlice S2x1x1 ![0, 0, 82] · slices_S2x1x256_S2x1x1_0_0_82) main_v6547
  fn_part316 (F := F) main_arg0 main_v8 main_v4875 main_v4987 main_v4988 main_v6546 main_v6547 main_v6548 main_v6549

def fn_part314 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6495 : FVec F S2x256x256 .f32) (main_v6504 : FVec F S2x256x256 .f32) (main_v6507 : IVec S2x256x256 1) : IVec S9x256x256 1 × IVec S8x256x256 1 :=
  let main_v6508 : FVec F S2x256x256 .f32 := select main_v6507 main_v6495 main_v6504
  let main_v6509 : FVec F S2x1x256 .f32 := (extractStridedSlice S2x1x256 ![0, 80, 0] · slices_S2x256x256_S2x1x256_0_80_0) main_v6508
  let main_v6510 : FVec F S2x256x1 .f32 := (extractStridedSlice S2x256x1 ![0, 0, 80] · slices_S2x256x256_S2x256x1_0_0_80) main_v6508
  let main_v6511 : FVec F S2x1x1 .f32 := (extractStridedSlice S2x1x1 ![0, 0, 80] · slices_S2x1x256_S2x1x1_0_0_80) main_v6509
  let main_v6512 : FVec F S2x256x1 .f32 := broadcastInDim S2x256x1 ![0, 1, 2] bcast_S2x1x1_S2x256x1_0_1_2 main_v6511
  let main_v6513 : FVec F S2x256x1 .f32 := Host.divf main_v6510 main_v6512
  let main_v6514 : FVec F S2x256x256 .f32 := broadcastInDim S2x256x256 ![0, 1, 2] bcast_S2x256x1_S2x256x256_0_1_2 main_v6513
  let main_c_1027 : IVec S_ 32 := constantI S_ 32 80#32
  let main_v6515 : IVec S2x256x256 32 := broadcastInDim S2x256x256 ![] bcast_S_S2x256x256 main_c_1027
  let main_v6516 : IVec S2x256x256 1 := cmpi .sgt main_v4987 main_v6515
  let main_c_1028 : IVec S_ 32 := constantI S_ 32 80#32
  let main_v6517 : IVec S2x256x256 32 := broadcastInDim S2x256x256 ![] bcast_S_S2x256x256 main_c_1028
  let main_v6518 : IVec S2x256x256 1 := cmpi .sgt main_v4988 main_v6517
  let main_v6519 : IVec S2x256x256 1 := andi main_v6516 main_v6518
  let main_v6520 : FVec F S2x256x256 .f32 := broadcastInDim S2x256x256 ![0, 1, 2] bcast_S2x1x256_S2x256x256_0_1_2 main_v6509
  let main_v6521 : FVec F S2x256x256 .f32 := mulf main_v6514 main_v6520
  let main_v6522 : FVec F S2x256x256 .f32 := subf main_v6508 main_v6521
  let main_v6523 : FVec F S2x256x256 .f32 := select main_v6519 main_v6522 main_v6508
  let main_c_1029 : IVec S_ 32 := constantI S_ 32 80#32
  let main_v6524 : IVec S2x256x256 32 := broadcastInDim S2x256x256 ![] bcast_S_S2x256x256 main_c_1029
  let main_v6525 : IVec S2x256x256 1 := cmpi .eq main_v4988 main_v6524
  let main_v6526 : IVec S2x256x256 1 := andi main_v6516 main_v6525
  let main_v6527 : FVec F S2x256x256 .f32 := select main_v6526 main_v6514 main_v6523
  let main_v6528 : FVec F S2x1x256 .f32 := (extractStridedSlice S2x1x256 ![0, 81, 0] · slices_S2x256x256_S2x1x256_0_81_0) main_v6527
  fn_part315 (F := F) main_arg0 main_v8 main_v4875 main_v4987 main_v4988 main_v6527 main_v6528

def fn_part313 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6476 : FVec F S2x256x256 .f32) (main_v6478 : IVec S2x256x256 1) (main_v6485 : FVec F S2x256x256 .f32) (main_v6486 : IVec S2x256x256 32) : IVec S9x256x256 1 × IVec S8x256x256 1 :=
  let main_v6487 : IVec S2x256x256 1 := cmpi .eq main_v4988 main_v6486
  let main_v6488 : IVec S2x256x256 1 := andi main_v6478 main_v6487
  let main_v6489 : FVec F S2x256x256 .f32 := select main_v6488 main_v6476 main_v6485
  let main_v6490 : FVec F S2x1x256 .f32 := (extractStridedSlice S2x1x256 ![0, 79, 0] · slices_S2x256x256_S2x1x256_0_79_0) main_v6489
  let main_v6491 : FVec F S2x256x1 .f32 := (extractStridedSlice S2x256x1 ![0, 0, 79] · slices_S2x256x256_S2x256x1_0_0_79) main_v6489
  let main_v6492 : FVec F S2x1x1 .f32 := (extractStridedSlice S2x1x1 ![0, 0, 79] · slices_S2x1x256_S2x1x1_0_0_79) main_v6490
  let main_v6493 : FVec F S2x256x1 .f32 := broadcastInDim S2x256x1 ![0, 1, 2] bcast_S2x1x1_S2x256x1_0_1_2 main_v6492
  let main_v6494 : FVec F S2x256x1 .f32 := Host.divf main_v6491 main_v6493
  let main_v6495 : FVec F S2x256x256 .f32 := broadcastInDim S2x256x256 ![0, 1, 2] bcast_S2x256x1_S2x256x256_0_1_2 main_v6494
  let main_c_1024 : IVec S_ 32 := constantI S_ 32 79#32
  let main_v6496 : IVec S2x256x256 32 := broadcastInDim S2x256x256 ![] bcast_S_S2x256x256 main_c_1024
  let main_v6497 : IVec S2x256x256 1 := cmpi .sgt main_v4987 main_v6496
  let main_c_1025 : IVec S_ 32 := constantI S_ 32 79#32
  let main_v6498 : IVec S2x256x256 32 := broadcastInDim S2x256x256 ![] bcast_S_S2x256x256 main_c_1025
  let main_v6499 : IVec S2x256x256 1 := cmpi .sgt main_v4988 main_v6498
  let main_v6500 : IVec S2x256x256 1 := andi main_v6497 main_v6499
  let main_v6501 : FVec F S2x256x256 .f32 := broadcastInDim S2x256x256 ![0, 1, 2] bcast_S2x1x256_S2x256x256_0_1_2 main_v6490
  let main_v6502 : FVec F S2x256x256 .f32 := mulf main_v6495 main_v6501
  let main_v6503 : FVec F S2x256x256 .f32 := subf main_v6489 main_v6502
  let main_v6504 : FVec F S2x256x256 .f32 := select main_v6500 main_v6503 main_v6489
  let main_c_1026 : IVec S_ 32 := constantI S_ 32 79#32
  let main_v6505 : IVec S2x256x256 32 := broadcastInDim S2x256x256 ![] bcast_S_S2x256x256 main_c_1026
  let main_v6506 : IVec S2x256x256 1 := cmpi .eq main_v4988 main_v6505
  let main_v6507 : IVec S2x256x256 1 := andi main_v6497 main_v6506
  fn_part314 (F := F) main_arg0 main_v8 main_v4875 main_v4987 main_v4988 main_v6495 main_v6504 main_v6507

def fn_part312 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6457 : FVec F S2x256x256 .f32) (main_v6459 : IVec S2x256x256 1) (main_v6466 : FVec F S2x256x256 .f32) : IVec S9x256x256 1 × IVec S8x256x256 1 :=
  let main_c_1020 : IVec S_ 32 := constantI S_ 32 77#32
  let main_v6467 : IVec S2x256x256 32 := broadcastInDim S2x256x256 ![] bcast_S_S2x256x256 main_c_1020
  let main_v6468 : IVec S2x256x256 1 := cmpi .eq main_v4988 main_v6467
  let main_v6469 : IVec S2x256x256 1 := andi main_v6459 main_v6468
  let main_v6470 : FVec F S2x256x256 .f32 := select main_v6469 main_v6457 main_v6466
  let main_v6471 : FVec F S2x1x256 .f32 := (extractStridedSlice S2x1x256 ![0, 78, 0] · slices_S2x256x256_S2x1x256_0_78_0) main_v6470
  let main_v6472 : FVec F S2x256x1 .f32 := (extractStridedSlice S2x256x1 ![0, 0, 78] · slices_S2x256x256_S2x256x1_0_0_78) main_v6470
  let main_v6473 : FVec F S2x1x1 .f32 := (extractStridedSlice S2x1x1 ![0, 0, 78] · slices_S2x1x256_S2x1x1_0_0_78) main_v6471
  let main_v6474 : FVec F S2x256x1 .f32 := broadcastInDim S2x256x1 ![0, 1, 2] bcast_S2x1x1_S2x256x1_0_1_2 main_v6473
  let main_v6475 : FVec F S2x256x1 .f32 := Host.divf main_v6472 main_v6474
  let main_v6476 : FVec F S2x256x256 .f32 := broadcastInDim S2x256x256 ![0, 1, 2] bcast_S2x256x1_S2x256x256_0_1_2 main_v6475
  let main_c_1021 : IVec S_ 32 := constantI S_ 32 78#32
  let main_v6477 : IVec S2x256x256 32 := broadcastInDim S2x256x256 ![] bcast_S_S2x256x256 main_c_1021
  let main_v6478 : IVec S2x256x256 1 := cmpi .sgt main_v4987 main_v6477
  let main_c_1022 : IVec S_ 32 := constantI S_ 32 78#32
  let main_v6479 : IVec S2x256x256 32 := broadcastInDim S2x256x256 ![] bcast_S_S2x256x256 main_c_1022
  let main_v6480 : IVec S2x256x256 1 := cmpi .sgt main_v4988 main_v6479
  let main_v6481 : IVec S2x256x256 1 := andi main_v6478 main_v6480
  let main_v6482 : FVec F S2x256x256 .f32 := broadcastInDim S2x256x256 ![0, 1, 2] bcast_S2x1x256_S2x256x256_0_1_2 main_v6471
  let main_v6483 : FVec F S2x256x256 .f32 := mulf main_v6476 main_v6482
  let main_v6484 : FVec F S2x256x256 .f32 := subf main_v6470 main_v6483
  let main_v6485 : FVec F S2x256x256 .f32 := select main_v6481 main_v6484 main_v6470
  let main_c_1023 : IVec S_ 32 := constantI S_ 32 78#32
  let main_v6486 : IVec S2x256x256 32 := broadcastInDim S2x256x256 ![] bcast_S_S2x256x256 main_c_1023
  fn_part313 (F := F) main_arg0 main_v8 main_v4875 main_v4987 main_v4988 main_v6476 main_v6478 main_v6485 main_v6486

def fn_part311 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6432 : FVec F S2x256x256 .f32) (main_v6438 : FVec F S2x256x256 .f32) (main_v6440 : IVec S2x256x256 1) (main_v6443 : IVec S2x256x256 1) (main_v6445 : FVec F S2x256x256 .f32) : IVec S9x256x256 1 × IVec S8x256x256 1 :=
  let main_v6446 : FVec F S2x256x256 .f32 := subf main_v6432 main_v6445
  let main_v6447 : FVec F S2x256x256 .f32 := select main_v6443 main_v6446 main_v6432
  let main_c_1017 : IVec S_ 32 := constantI S_ 32 76#32
  let main_v6448 : IVec S2x256x256 32 := broadcastInDim S2x256x256 ![] bcast_S_S2x256x256 main_c_1017
  let main_v6449 : IVec S2x256x256 1 := cmpi .eq main_v4988 main_v6448
  let main_v6450 : IVec S2x256x256 1 := andi main_v6440 main_v6449
  let main_v6451 : FVec F S2x256x256 .f32 := select main_v6450 main_v6438 main_v6447
  let main_v6452 : FVec F S2x1x256 .f32 := (extractStridedSlice S2x1x256 ![0, 77, 0] · slices_S2x256x256_S2x1x256_0_77_0) main_v6451
  let main_v6453 : FVec F S2x256x1 .f32 := (extractStridedSlice S2x256x1 ![0, 0, 77] · slices_S2x256x256_S2x256x1_0_0_77) main_v6451
  let main_v6454 : FVec F S2x1x1 .f32 := (extractStridedSlice S2x1x1 ![0, 0, 77] · slices_S2x1x256_S2x1x1_0_0_77) main_v6452
  let main_v6455 : FVec F S2x256x1 .f32 := broadcastInDim S2x256x1 ![0, 1, 2] bcast_S2x1x1_S2x256x1_0_1_2 main_v6454
  let main_v6456 : FVec F S2x256x1 .f32 := Host.divf main_v6453 main_v6455
  let main_v6457 : FVec F S2x256x256 .f32 := broadcastInDim S2x256x256 ![0, 1, 2] bcast_S2x256x1_S2x256x256_0_1_2 main_v6456
  let main_c_1018 : IVec S_ 32 := constantI S_ 32 77#32
  let main_v6458 : IVec S2x256x256 32 := broadcastInDim S2x256x256 ![] bcast_S_S2x256x256 main_c_1018
  let main_v6459 : IVec S2x256x256 1 := cmpi .sgt main_v4987 main_v6458
  let main_c_1019 : IVec S_ 32 := constantI S_ 32 77#32
  let main_v6460 : IVec S2x256x256 32 := broadcastInDim S2x256x256 ![] bcast_S_S2x256x256 main_c_1019
  let main_v6461 : IVec S2x256x256 1 := cmpi .sgt main_v4988 main_v6460
  let main_v6462 : IVec S2x256x256 1 := andi main_v6459 main_v6461
  let main_v6463 : FVec F S2x256x256 .f32 := broadcastInDim S2x256x256 ![0, 1, 2] bcast_S2x1x256_S2x256x256_0_1_2 main_v6452
  let main_v6464 : FVec F S2x256x256 .f32 := mulf main_v6457 main_v6463
  let main_v6465 : FVec F S2x256x256 .f32 := subf main_v6451 main_v6464
  let main_v6466 : FVec F S2x256x256 .f32 := select main_v6462 main_v6465 main_v6451
  fn_part312 (F := F) main_arg0 main_v8 main_v4875 main_v4987 main_v4988 main_v6457 main_v6459 main_v6466

def fn_part310 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6413 : FVec F S2x256x256 .f32) (main_v6414 : FVec F S2x1x256 .f32) (main_v6419 : FVec F S2x256x256 .f32) (main_v6421 : IVec S2x256x256 1) (main_v6424 : IVec S2x256x256 1) : IVec S9x256x256 1 × IVec S8x256x256 1 :=
  let main_v6425 : FVec F S2x256x256 .f32 := broadcastInDim S2x256x256 ![0, 1, 2] bcast_S2x1x256_S2x256x256_0_1_2 main_v6414
  let main_v6426 : FVec F S2x256x256 .f32 := mulf main_v6419 main_v6425
  let main_v6427 : FVec F S2x256x256 .f32 := subf main_v6413 main_v6426
  let main_v6428 : FVec F S2x256x256 .f32 := select main_v6424 main_v6427 main_v6413
  let main_c_1014 : IVec S_ 32 := constantI S_ 32 75#32
  let main_v6429 : IVec S2x256x256 32 := broadcastInDim S2x256x256 ![] bcast_S_S2x256x256 main_c_1014
  let main_v6430 : IVec S2x256x256 1 := cmpi .eq main_v4988 main_v6429
  let main_v6431 : IVec S2x256x256 1 := andi main_v6421 main_v6430
  let main_v6432 : FVec F S2x256x256 .f32 := select main_v6431 main_v6419 main_v6428
  let main_v6433 : FVec F S2x1x256 .f32 := (extractStridedSlice S2x1x256 ![0, 76, 0] · slices_S2x256x256_S2x1x256_0_76_0) main_v6432
  let main_v6434 : FVec F S2x256x1 .f32 := (extractStridedSlice S2x256x1 ![0, 0, 76] · slices_S2x256x256_S2x256x1_0_0_76) main_v6432
  let main_v6435 : FVec F S2x1x1 .f32 := (extractStridedSlice S2x1x1 ![0, 0, 76] · slices_S2x1x256_S2x1x1_0_0_76) main_v6433
  let main_v6436 : FVec F S2x256x1 .f32 := broadcastInDim S2x256x1 ![0, 1, 2] bcast_S2x1x1_S2x256x1_0_1_2 main_v6435
  let main_v6437 : FVec F S2x256x1 .f32 := Host.divf main_v6434 main_v6436
  let main_v6438 : FVec F S2x256x256 .f32 := broadcastInDim S2x256x256 ![0, 1, 2] bcast_S2x256x1_S2x256x256_0_1_2 main_v6437
  let main_c_1015 : IVec S_ 32 := constantI S_ 32 76#32
  let main_v6439 : IVec S2x256x256 32 := broadcastInDim S2x256x256 ![] bcast_S_S2x256x256 main_c_1015
  let main_v6440 : IVec S2x256x256 1 := cmpi .sgt main_v4987 main_v6439
  let main_c_1016 : IVec S_ 32 := constantI S_ 32 76#32
  let main_v6441 : IVec S2x256x256 32 := broadcastInDim S2x256x256 ![] bcast_S_S2x256x256 main_c_1016
  let main_v6442 : IVec S2x256x256 1 := cmpi .sgt main_v4988 main_v6441
  let main_v6443 : IVec S2x256x256 1 := andi main_v6440 main_v6442
  let main_v6444 : FVec F S2x256x256 .f32 := broadcastInDim S2x256x256 ![0, 1, 2] bcast_S2x1x256_S2x256x256_0_1_2 main_v6433
  let main_v6445 : FVec F S2x256x256 .f32 := mulf main_v6438 main_v6444
  fn_part311 (F := F) main_arg0 main_v8 main_v4875 main_v4987 main_v4988 main_v6432 main_v6438 main_v6440 main_v6443 main_v6445

def fn_part309 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6394 : FVec F S2x256x256 .f32) (main_v6395 : FVec F S2x1x256 .f32) (main_v6400 : FVec F S2x256x256 .f32) (main_v6402 : IVec S2x256x256 1) (main_v6403 : IVec S2x256x256 32) : IVec S9x256x256 1 × IVec S8x256x256 1 :=
  let main_v6404 : IVec S2x256x256 1 := cmpi .sgt main_v4988 main_v6403
  let main_v6405 : IVec S2x256x256 1 := andi main_v6402 main_v6404
  let main_v6406 : FVec F S2x256x256 .f32 := broadcastInDim S2x256x256 ![0, 1, 2] bcast_S2x1x256_S2x256x256_0_1_2 main_v6395
  let main_v6407 : FVec F S2x256x256 .f32 := mulf main_v6400 main_v6406
  let main_v6408 : FVec F S2x256x256 .f32 := subf main_v6394 main_v6407
  let main_v6409 : FVec F S2x256x256 .f32 := select main_v6405 main_v6408 main_v6394
  let main_c_1011 : IVec S_ 32 := constantI S_ 32 74#32
  let main_v6410 : IVec S2x256x256 32 := broadcastInDim S2x256x256 ![] bcast_S_S2x256x256 main_c_1011
  let main_v6411 : IVec S2x256x256 1 := cmpi .eq main_v4988 main_v6410
  let main_v6412 : IVec S2x256x256 1 := andi main_v6402 main_v6411
  let main_v6413 : FVec F S2x256x256 .f32 := select main_v6412 main_v6400 main_v6409
  let main_v6414 : FVec F S2x1x256 .f32 := (extractStridedSlice S2x1x256 ![0, 75, 0] · slices_S2x256x256_S2x1x256_0_75_0) main_v6413
  let main_v6415 : FVec F S2x256x1 .f32 := (extractStridedSlice S2x256x1 ![0, 0, 75] · slices_S2x256x256_S2x256x1_0_0_75) main_v6413
  let main_v6416 : FVec F S2x1x1 .f32 := (extractStridedSlice S2x1x1 ![0, 0, 75] · slices_S2x1x256_S2x1x1_0_0_75) main_v6414
  let main_v6417 : FVec F S2x256x1 .f32 := broadcastInDim S2x256x1 ![0, 1, 2] bcast_S2x1x1_S2x256x1_0_1_2 main_v6416
  let main_v6418 : FVec F S2x256x1 .f32 := Host.divf main_v6415 main_v6417
  let main_v6419 : FVec F S2x256x256 .f32 := broadcastInDim S2x256x256 ![0, 1, 2] bcast_S2x256x1_S2x256x256_0_1_2 main_v6418
  let main_c_1012 : IVec S_ 32 := constantI S_ 32 75#32
  let main_v6420 : IVec S2x256x256 32 := broadcastInDim S2x256x256 ![] bcast_S_S2x256x256 main_c_1012
  let main_v6421 : IVec S2x256x256 1 := cmpi .sgt main_v4987 main_v6420
  let main_c_1013 : IVec S_ 32 := constantI S_ 32 75#32
  let main_v6422 : IVec S2x256x256 32 := broadcastInDim S2x256x256 ![] bcast_S_S2x256x256 main_c_1013
  let main_v6423 : IVec S2x256x256 1 := cmpi .sgt main_v4988 main_v6422
  let main_v6424 : IVec S2x256x256 1 := andi main_v6421 main_v6423
  fn_part310 (F := F) main_arg0 main_v8 main_v4875 main_v4987 main_v4988 main_v6413 main_v6414 main_v6419 main_v6421 main_v6424

def fn_part308 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6375 : FVec F S2x256x256 .f32) (main_v6376 : FVec F S2x1x256 .f32) (main_v6381 : FVec F S2x256x256 .f32) (main_v6383 : IVec S2x256x256 1) : IVec S9x256x256 1 × IVec S8x256x256 1 :=
  let main_c_1007 : IVec S_ 32 := constantI S_ 32 73#32
  let main_v6384 : IVec S2x256x256 32 := broadcastInDim S2x256x256 ![] bcast_S_S2x256x256 main_c_1007
  let main_v6385 : IVec S2x256x256 1 := cmpi .sgt main_v4988 main_v6384
  let main_v6386 : IVec S2x256x256 1 := andi main_v6383 main_v6385
  let main_v6387 : FVec F S2x256x256 .f32 := broadcastInDim S2x256x256 ![0, 1, 2] bcast_S2x1x256_S2x256x256_0_1_2 main_v6376
  let main_v6388 : FVec F S2x256x256 .f32 := mulf main_v6381 main_v6387
  let main_v6389 : FVec F S2x256x256 .f32 := subf main_v6375 main_v6388
  let main_v6390 : FVec F S2x256x256 .f32 := select main_v6386 main_v6389 main_v6375
  let main_c_1008 : IVec S_ 32 := constantI S_ 32 73#32
  let main_v6391 : IVec S2x256x256 32 := broadcastInDim S2x256x256 ![] bcast_S_S2x256x256 main_c_1008
  let main_v6392 : IVec S2x256x256 1 := cmpi .eq main_v4988 main_v6391
  let main_v6393 : IVec S2x256x256 1 := andi main_v6383 main_v6392
  let main_v6394 : FVec F S2x256x256 .f32 := select main_v6393 main_v6381 main_v6390
  let main_v6395 : FVec F S2x1x256 .f32 := (extractStridedSlice S2x1x256 ![0, 74, 0] · slices_S2x256x256_S2x1x256_0_74_0) main_v6394
  let main_v6396 : FVec F S2x256x1 .f32 := (extractStridedSlice S2x256x1 ![0, 0, 74] · slices_S2x256x256_S2x256x1_0_0_74) main_v6394
  let main_v6397 : FVec F S2x1x1 .f32 := (extractStridedSlice S2x1x1 ![0, 0, 74] · slices_S2x1x256_S2x1x1_0_0_74) main_v6395
  let main_v6398 : FVec F S2x256x1 .f32 := broadcastInDim S2x256x1 ![0, 1, 2] bcast_S2x1x1_S2x256x1_0_1_2 main_v6397
  let main_v6399 : FVec F S2x256x1 .f32 := Host.divf main_v6396 main_v6398
  let main_v6400 : FVec F S2x256x256 .f32 := broadcastInDim S2x256x256 ![0, 1, 2] bcast_S2x256x1_S2x256x256_0_1_2 main_v6399
  let main_c_1009 : IVec S_ 32 := constantI S_ 32 74#32
  let main_v6401 : IVec S2x256x256 32 := broadcastInDim S2x256x256 ![] bcast_S_S2x256x256 main_c_1009
  let main_v6402 : IVec S2x256x256 1 := cmpi .sgt main_v4987 main_v6401
  let main_c_1010 : IVec S_ 32 := constantI S_ 32 74#32
  let main_v6403 : IVec S2x256x256 32 := broadcastInDim S2x256x256 ![] bcast_S_S2x256x256 main_c_1010
  fn_part309 (F := F) main_arg0 main_v8 main_v4875 main_v4987 main_v4988 main_v6394 main_v6395 main_v6400 main_v6402 main_v6403

def fn_part307 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6356 : FVec F S2x256x256 .f32) (main_v6357 : FVec F S2x1x256 .f32) (main_v6362 : FVec F S2x256x256 .f32) (main_c_1003 : IVec S_ 32) : IVec S9x256x256 1 × IVec S8x256x256 1 :=
  let main_v6363 : IVec S2x256x256 32 := broadcastInDim S2x256x256 ![] bcast_S_S2x256x256 main_c_1003
  let main_v6364 : IVec S2x256x256 1 := cmpi .sgt main_v4987 main_v6363
  let main_c_1004 : IVec S_ 32 := constantI S_ 32 72#32
  let main_v6365 : IVec S2x256x256 32 := broadcastInDim S2x256x256 ![] bcast_S_S2x256x256 main_c_1004
  let main_v6366 : IVec S2x256x256 1 := cmpi .sgt main_v4988 main_v6365
  let main_v6367 : IVec S2x256x256 1 := andi main_v6364 main_v6366
  let main_v6368 : FVec F S2x256x256 .f32 := broadcastInDim S2x256x256 ![0, 1, 2] bcast_S2x1x256_S2x256x256_0_1_2 main_v6357
  let main_v6369 : FVec F S2x256x256 .f32 := mulf main_v6362 main_v6368
  let main_v6370 : FVec F S2x256x256 .f32 := subf main_v6356 main_v6369
  let main_v6371 : FVec F S2x256x256 .f32 := select main_v6367 main_v6370 main_v6356
  let main_c_1005 : IVec S_ 32 := constantI S_ 32 72#32
  let main_v6372 : IVec S2x256x256 32 := broadcastInDim S2x256x256 ![] bcast_S_S2x256x256 main_c_1005
  let main_v6373 : IVec S2x256x256 1 := cmpi .eq main_v4988 main_v6372
  let main_v6374 : IVec S2x256x256 1 := andi main_v6364 main_v6373
  let main_v6375 : FVec F S2x256x256 .f32 := select main_v6374 main_v6362 main_v6371
  let main_v6376 : FVec F S2x1x256 .f32 := (extractStridedSlice S2x1x256 ![0, 73, 0] · slices_S2x256x256_S2x1x256_0_73_0) main_v6375
  let main_v6377 : FVec F S2x256x1 .f32 := (extractStridedSlice S2x256x1 ![0, 0, 73] · slices_S2x256x256_S2x256x1_0_0_73) main_v6375
  let main_v6378 : FVec F S2x1x1 .f32 := (extractStridedSlice S2x1x1 ![0, 0, 73] · slices_S2x1x256_S2x1x1_0_0_73) main_v6376
  let main_v6379 : FVec F S2x256x1 .f32 := broadcastInDim S2x256x1 ![0, 1, 2] bcast_S2x1x1_S2x256x1_0_1_2 main_v6378
  let main_v6380 : FVec F S2x256x1 .f32 := Host.divf main_v6377 main_v6379
  let main_v6381 : FVec F S2x256x256 .f32 := broadcastInDim S2x256x256 ![0, 1, 2] bcast_S2x256x1_S2x256x256_0_1_2 main_v6380
  let main_c_1006 : IVec S_ 32 := constantI S_ 32 73#32
  let main_v6382 : IVec S2x256x256 32 := broadcastInDim S2x256x256 ![] bcast_S_S2x256x256 main_c_1006
  let main_v6383 : IVec S2x256x256 1 := cmpi .sgt main_v4987 main_v6382
  fn_part308 (F := F) main_arg0 main_v8 main_v4875 main_v4987 main_v4988 main_v6375 main_v6376 main_v6381 main_v6383

def fn_part306 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6337 : FVec F S2x256x256 .f32) (main_v6338 : FVec F S2x1x256 .f32) (main_v6342 : FVec F S2x256x1 .f32) : IVec S9x256x256 1 × IVec S8x256x256 1 :=
  let main_v6343 : FVec F S2x256x256 .f32 := broadcastInDim S2x256x256 ![0, 1, 2] bcast_S2x256x1_S2x256x256_0_1_2 main_v6342
  let main_c_1000 : IVec S_ 32 := constantI S_ 32 71#32
  let main_v6344 : IVec S2x256x256 32 := broadcastInDim S2x256x256 ![] bcast_S_S2x256x256 main_c_1000
  let main_v6345 : IVec S2x256x256 1 := cmpi .sgt main_v4987 main_v6344
  let main_c_1001 : IVec S_ 32 := constantI S_ 32 71#32
  let main_v6346 : IVec S2x256x256 32 := broadcastInDim S2x256x256 ![] bcast_S_S2x256x256 main_c_1001
  let main_v6347 : IVec S2x256x256 1 := cmpi .sgt main_v4988 main_v6346
  let main_v6348 : IVec S2x256x256 1 := andi main_v6345 main_v6347
  let main_v6349 : FVec F S2x256x256 .f32 := broadcastInDim S2x256x256 ![0, 1, 2] bcast_S2x1x256_S2x256x256_0_1_2 main_v6338
  let main_v6350 : FVec F S2x256x256 .f32 := mulf main_v6343 main_v6349
  let main_v6351 : FVec F S2x256x256 .f32 := subf main_v6337 main_v6350
  let main_v6352 : FVec F S2x256x256 .f32 := select main_v6348 main_v6351 main_v6337
  let main_c_1002 : IVec S_ 32 := constantI S_ 32 71#32
  let main_v6353 : IVec S2x256x256 32 := broadcastInDim S2x256x256 ![] bcast_S_S2x256x256 main_c_1002
  let main_v6354 : IVec S2x256x256 1 := cmpi .eq main_v4988 main_v6353
  let main_v6355 : IVec S2x256x256 1 := andi main_v6345 main_v6354
  let main_v6356 : FVec F S2x256x256 .f32 := select main_v6355 main_v6343 main_v6352
  let main_v6357 : FVec F S2x1x256 .f32 := (extractStridedSlice S2x1x256 ![0, 72, 0] · slices_S2x256x256_S2x1x256_0_72_0) main_v6356
  let main_v6358 : FVec F S2x256x1 .f32 := (extractStridedSlice S2x256x1 ![0, 0, 72] · slices_S2x256x256_S2x256x1_0_0_72) main_v6356
  let main_v6359 : FVec F S2x1x1 .f32 := (extractStridedSlice S2x1x1 ![0, 0, 72] · slices_S2x1x256_S2x1x1_0_0_72) main_v6357
  let main_v6360 : FVec F S2x256x1 .f32 := broadcastInDim S2x256x1 ![0, 1, 2] bcast_S2x1x1_S2x256x1_0_1_2 main_v6359
  let main_v6361 : FVec F S2x256x1 .f32 := Host.divf main_v6358 main_v6360
  let main_v6362 : FVec F S2x256x256 .f32 := broadcastInDim S2x256x256 ![0, 1, 2] bcast_S2x256x1_S2x256x256_0_1_2 main_v6361
  let main_c_1003 : IVec S_ 32 := constantI S_ 32 72#32
  fn_part307 (F := F) main_arg0 main_v8 main_v4875 main_v4987 main_v4988 main_v6356 main_v6357 main_v6362 main_c_1003

def fn_part305 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6318 : FVec F S2x256x256 .f32) (main_v6319 : FVec F S2x1x256 .f32) (main_v6320 : FVec F S2x256x1 .f32) (main_v6321 : FVec F S2x1x1 .f32) : IVec S9x256x256 1 × IVec S8x256x256 1 :=
  let main_v6322 : FVec F S2x256x1 .f32 := broadcastInDim S2x256x1 ![0, 1, 2] bcast_S2x1x1_S2x256x1_0_1_2 main_v6321
  let main_v6323 : FVec F S2x256x1 .f32 := Host.divf main_v6320 main_v6322
  let main_v6324 : FVec F S2x256x256 .f32 := broadcastInDim S2x256x256 ![0, 1, 2] bcast_S2x256x1_S2x256x256_0_1_2 main_v6323
  let main_c_997 : IVec S_ 32 := constantI S_ 32 70#32
  let main_v6325 : IVec S2x256x256 32 := broadcastInDim S2x256x256 ![] bcast_S_S2x256x256 main_c_997
  let main_v6326 : IVec S2x256x256 1 := cmpi .sgt main_v4987 main_v6325
  let main_c_998 : IVec S_ 32 := constantI S_ 32 70#32
  let main_v6327 : IVec S2x256x256 32 := broadcastInDim S2x256x256 ![] bcast_S_S2x256x256 main_c_998
  let main_v6328 : IVec S2x256x256 1 := cmpi .sgt main_v4988 main_v6327
  let main_v6329 : IVec S2x256x256 1 := andi main_v6326 main_v6328
  let main_v6330 : FVec F S2x256x256 .f32 := broadcastInDim S2x256x256 ![0, 1, 2] bcast_S2x1x256_S2x256x256_0_1_2 main_v6319
  let main_v6331 : FVec F S2x256x256 .f32 := mulf main_v6324 main_v6330
  let main_v6332 : FVec F S2x256x256 .f32 := subf main_v6318 main_v6331
  let main_v6333 : FVec F S2x256x256 .f32 := select main_v6329 main_v6332 main_v6318
  let main_c_999 : IVec S_ 32 := constantI S_ 32 70#32
  let main_v6334 : IVec S2x256x256 32 := broadcastInDim S2x256x256 ![] bcast_S_S2x256x256 main_c_999
  let main_v6335 : IVec S2x256x256 1 := cmpi .eq main_v4988 main_v6334
  let main_v6336 : IVec S2x256x256 1 := andi main_v6326 main_v6335
  let main_v6337 : FVec F S2x256x256 .f32 := select main_v6336 main_v6324 main_v6333
  let main_v6338 : FVec F S2x1x256 .f32 := (extractStridedSlice S2x1x256 ![0, 71, 0] · slices_S2x256x256_S2x1x256_0_71_0) main_v6337
  let main_v6339 : FVec F S2x256x1 .f32 := (extractStridedSlice S2x256x1 ![0, 0, 71] · slices_S2x256x256_S2x256x1_0_0_71) main_v6337
  let main_v6340 : FVec F S2x1x1 .f32 := (extractStridedSlice S2x1x1 ![0, 0, 71] · slices_S2x1x256_S2x1x1_0_0_71) main_v6338
  let main_v6341 : FVec F S2x256x1 .f32 := broadcastInDim S2x256x1 ![0, 1, 2] bcast_S2x1x1_S2x256x1_0_1_2 main_v6340
  let main_v6342 : FVec F S2x256x1 .f32 := Host.divf main_v6339 main_v6341
  fn_part306 (F := F) main_arg0 main_v8 main_v4875 main_v4987 main_v4988 main_v6337 main_v6338 main_v6342

def fn_part304 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6299 : FVec F S2x256x256 .f32) (main_v6300 : FVec F S2x1x256 .f32) : IVec S9x256x256 1 × IVec S8x256x256 1 :=
  let main_v6301 : FVec F S2x256x1 .f32 := (extractStridedSlice S2x256x1 ![0, 0, 69] · slices_S2x256x256_S2x256x1_0_0_69) main_v6299
  let main_v6302 : FVec F S2x1x1 .f32 := (extractStridedSlice S2x1x1 ![0, 0, 69] · slices_S2x1x256_S2x1x1_0_0_69) main_v6300
  let main_v6303 : FVec F S2x256x1 .f32 := broadcastInDim S2x256x1 ![0, 1, 2] bcast_S2x1x1_S2x256x1_0_1_2 main_v6302
  let main_v6304 : FVec F S2x256x1 .f32 := Host.divf main_v6301 main_v6303
  let main_v6305 : FVec F S2x256x256 .f32 := broadcastInDim S2x256x256 ![0, 1, 2] bcast_S2x256x1_S2x256x256_0_1_2 main_v6304
  let main_c_994 : IVec S_ 32 := constantI S_ 32 69#32
  let main_v6306 : IVec S2x256x256 32 := broadcastInDim S2x256x256 ![] bcast_S_S2x256x256 main_c_994
  let main_v6307 : IVec S2x256x256 1 := cmpi .sgt main_v4987 main_v6306
  let main_c_995 : IVec S_ 32 := constantI S_ 32 69#32
  let main_v6308 : IVec S2x256x256 32 := broadcastInDim S2x256x256 ![] bcast_S_S2x256x256 main_c_995
  let main_v6309 : IVec S2x256x256 1 := cmpi .sgt main_v4988 main_v6308
  let main_v6310 : IVec S2x256x256 1 := andi main_v6307 main_v6309
  let main_v6311 : FVec F S2x256x256 .f32 := broadcastInDim S2x256x256 ![0, 1, 2] bcast_S2x1x256_S2x256x256_0_1_2 main_v6300
  let main_v6312 : FVec F S2x256x256 .f32 := mulf main_v6305 main_v6311
  let main_v6313 : FVec F S2x256x256 .f32 := subf main_v6299 main_v6312
  let main_v6314 : FVec F S2x256x256 .f32 := select main_v6310 main_v6313 main_v6299
  let main_c_996 : IVec S_ 32 := constantI S_ 32 69#32
  let main_v6315 : IVec S2x256x256 32 := broadcastInDim S2x256x256 ![] bcast_S_S2x256x256 main_c_996
  let main_v6316 : IVec S2x256x256 1 := cmpi .eq main_v4988 main_v6315
  let main_v6317 : IVec S2x256x256 1 := andi main_v6307 main_v6316
  let main_v6318 : FVec F S2x256x256 .f32 := select main_v6317 main_v6305 main_v6314
  let main_v6319 : FVec F S2x1x256 .f32 := (extractStridedSlice S2x1x256 ![0, 70, 0] · slices_S2x256x256_S2x1x256_0_70_0) main_v6318
  let main_v6320 : FVec F S2x256x1 .f32 := (extractStridedSlice S2x256x1 ![0, 0, 70] · slices_S2x256x256_S2x256x1_0_0_70) main_v6318
  let main_v6321 : FVec F S2x1x1 .f32 := (extractStridedSlice S2x1x1 ![0, 0, 70] · slices_S2x1x256_S2x1x1_0_0_70) main_v6319
  fn_part305 (F := F) main_arg0 main_v8 main_v4875 main_v4987 main_v4988 main_v6318 main_v6319 main_v6320 main_v6321

def fn_part303 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6267 : FVec F S2x256x256 .f32) (main_v6276 : FVec F S2x256x256 .f32) (main_v6279 : IVec S2x256x256 1) : IVec S9x256x256 1 × IVec S8x256x256 1 :=
  let main_v6280 : FVec F S2x256x256 .f32 := select main_v6279 main_v6267 main_v6276
  let main_v6281 : FVec F S2x1x256 .f32 := (extractStridedSlice S2x1x256 ![0, 68, 0] · slices_S2x256x256_S2x1x256_0_68_0) main_v6280
  let main_v6282 : FVec F S2x256x1 .f32 := (extractStridedSlice S2x256x1 ![0, 0, 68] · slices_S2x256x256_S2x256x1_0_0_68) main_v6280
  let main_v6283 : FVec F S2x1x1 .f32 := (extractStridedSlice S2x1x1 ![0, 0, 68] · slices_S2x1x256_S2x1x1_0_0_68) main_v6281
  let main_v6284 : FVec F S2x256x1 .f32 := broadcastInDim S2x256x1 ![0, 1, 2] bcast_S2x1x1_S2x256x1_0_1_2 main_v6283
  let main_v6285 : FVec F S2x256x1 .f32 := Host.divf main_v6282 main_v6284
  let main_v6286 : FVec F S2x256x256 .f32 := broadcastInDim S2x256x256 ![0, 1, 2] bcast_S2x256x1_S2x256x256_0_1_2 main_v6285
  let main_c_991 : IVec S_ 32 := constantI S_ 32 68#32
  let main_v6287 : IVec S2x256x256 32 := broadcastInDim S2x256x256 ![] bcast_S_S2x256x256 main_c_991
  let main_v6288 : IVec S2x256x256 1 := cmpi .sgt main_v4987 main_v6287
  let main_c_992 : IVec S_ 32 := constantI S_ 32 68#32
  let main_v6289 : IVec S2x256x256 32 := broadcastInDim S2x256x256 ![] bcast_S_S2x256x256 main_c_992
  let main_v6290 : IVec S2x256x256 1 := cmpi .sgt main_v4988 main_v6289
  let main_v6291 : IVec S2x256x256 1 := andi main_v6288 main_v6290
  let main_v6292 : FVec F S2x256x256 .f32 := broadcastInDim S2x256x256 ![0, 1, 2] bcast_S2x1x256_S2x256x256_0_1_2 main_v6281
  let main_v6293 : FVec F S2x256x256 .f32 := mulf main_v6286 main_v6292
  let main_v6294 : FVec F S2x256x256 .f32 := subf main_v6280 main_v6293
  let main_v6295 : FVec F S2x256x256 .f32 := select main_v6291 main_v6294 main_v6280
  let main_c_993 : IVec S_ 32 := constantI S_ 32 68#32
  let main_v6296 : IVec S2x256x256 32 := broadcastInDim S2x256x256 ![] bcast_S_S2x256x256 main_c_993
  let main_v6297 : IVec S2x256x256 1 := cmpi .eq main_v4988 main_v6296
  let main_v6298 : IVec S2x256x256 1 := andi main_v6288 main_v6297
  let main_v6299 : FVec F S2x256x256 .f32 := select main_v6298 main_v6286 main_v6295
  let main_v6300 : FVec F S2x1x256 .f32 := (extractStridedSlice S2x1x256 ![0, 69, 0] · slices_S2x256x256_S2x1x256_0_69_0) main_v6299
  fn_part304 (F := F) main_arg0 main_v8 main_v4875 main_v4987 main_v4988 main_v6299 main_v6300

def fn_part302 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6248 : FVec F S2x256x256 .f32) (main_v6250 : IVec S2x256x256 1) (main_v6257 : FVec F S2x256x256 .f32) (main_v6258 : IVec S2x256x256 32) : IVec S9x256x256 1 × IVec S8x256x256 1 :=
  let main_v6259 : IVec S2x256x256 1 := cmpi .eq main_v4988 main_v6258
  let main_v6260 : IVec S2x256x256 1 := andi main_v6250 main_v6259
  let main_v6261 : FVec F S2x256x256 .f32 := select main_v6260 main_v6248 main_v6257
  let main_v6262 : FVec F S2x1x256 .f32 := (extractStridedSlice S2x1x256 ![0, 67, 0] · slices_S2x256x256_S2x1x256_0_67_0) main_v6261
  let main_v6263 : FVec F S2x256x1 .f32 := (extractStridedSlice S2x256x1 ![0, 0, 67] · slices_S2x256x256_S2x256x1_0_0_67) main_v6261
  let main_v6264 : FVec F S2x1x1 .f32 := (extractStridedSlice S2x1x1 ![0, 0, 67] · slices_S2x1x256_S2x1x1_0_0_67) main_v6262
  let main_v6265 : FVec F S2x256x1 .f32 := broadcastInDim S2x256x1 ![0, 1, 2] bcast_S2x1x1_S2x256x1_0_1_2 main_v6264
  let main_v6266 : FVec F S2x256x1 .f32 := Host.divf main_v6263 main_v6265
  let main_v6267 : FVec F S2x256x256 .f32 := broadcastInDim S2x256x256 ![0, 1, 2] bcast_S2x256x1_S2x256x256_0_1_2 main_v6266
  let main_c_988 : IVec S_ 32 := constantI S_ 32 67#32
  let main_v6268 : IVec S2x256x256 32 := broadcastInDim S2x256x256 ![] bcast_S_S2x256x256 main_c_988
  let main_v6269 : IVec S2x256x256 1 := cmpi .sgt main_v4987 main_v6268
  let main_c_989 : IVec S_ 32 := constantI S_ 32 67#32
  let main_v6270 : IVec S2x256x256 32 := broadcastInDim S2x256x256 ![] bcast_S_S2x256x256 main_c_989
  let main_v6271 : IVec S2x256x256 1 := cmpi .sgt main_v4988 main_v6270
  let main_v6272 : IVec S2x256x256 1 := andi main_v6269 main_v6271
  let main_v6273 : FVec F S2x256x256 .f32 := broadcastInDim S2x256x256 ![0, 1, 2] bcast_S2x1x256_S2x256x256_0_1_2 main_v6262
  let main_v6274 : FVec F S2x256x256 .f32 := mulf main_v6267 main_v6273
  let main_v6275 : FVec F S2x256x256 .f32 := subf main_v6261 main_v6274
  let main_v6276 : FVec F S2x256x256 .f32 := select main_v6272 main_v6275 main_v6261
  let main_c_990 : IVec S_ 32 := constantI S_ 32 67#32
  let main_v6277 : IVec S2x256x256 32 := broadcastInDim S2x256x256 ![] bcast_S_S2x256x256 main_c_990
  let main_v6278 : IVec S2x256x256 1 := cmpi .eq main_v4988 main_v6277
  let main_v6279 : IVec S2x256x256 1 := andi main_v6269 main_v6278
  fn_part303 (F := F) main_arg0 main_v8 main_v4875 main_v4987 main_v4988 main_v6267 main_v6276 main_v6279

def fn_part301 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6229 : FVec F S2x256x256 .f32) (main_v6231 : IVec S2x256x256 1) (main_v6238 : FVec F S2x256x256 .f32) : IVec S9x256x256 1 × IVec S8x256x256 1 :=
  let main_c_984 : IVec S_ 32 := constantI S_ 32 65#32
  let main_v6239 : IVec S2x256x256 32 := broadcastInDim S2x256x256 ![] bcast_S_S2x256x256 main_c_984
  let main_v6240 : IVec S2x256x256 1 := cmpi .eq main_v4988 main_v6239
  let main_v6241 : IVec S2x256x256 1 := andi main_v6231 main_v6240
  let main_v6242 : FVec F S2x256x256 .f32 := select main_v6241 main_v6229 main_v6238
  let main_v6243 : FVec F S2x1x256 .f32 := (extractStridedSlice S2x1x256 ![0, 66, 0] · slices_S2x256x256_S2x1x256_0_66_0) main_v6242
  let main_v6244 : FVec F S2x256x1 .f32 := (extractStridedSlice S2x256x1 ![0, 0, 66] · slices_S2x256x256_S2x256x1_0_0_66) main_v6242
  let main_v6245 : FVec F S2x1x1 .f32 := (extractStridedSlice S2x1x1 ![0, 0, 66] · slices_S2x1x256_S2x1x1_0_0_66) main_v6243
  let main_v6246 : FVec F S2x256x1 .f32 := broadcastInDim S2x256x1 ![0, 1, 2] bcast_S2x1x1_S2x256x1_0_1_2 main_v6245
  let main_v6247 : FVec F S2x256x1 .f32 := Host.divf main_v6244 main_v6246
  let main_v6248 : FVec F S2x256x256 .f32 := broadcastInDim S2x256x256 ![0, 1, 2] bcast_S2x256x1_S2x256x256_0_1_2 main_v6247
  let main_c_985 : IVec S_ 32 := constantI S_ 32 66#32
  let main_v6249 : IVec S2x256x256 32 := broadcastInDim S2x256x256 ![] bcast_S_S2x256x256 main_c_985
  let main_v6250 : IVec S2x256x256 1 := cmpi .sgt main_v4987 main_v6249
  let main_c_986 : IVec S_ 32 := constantI S_ 32 66#32
  let main_v6251 : IVec S2x256x256 32 := broadcastInDim S2x256x256 ![] bcast_S_S2x256x256 main_c_986
  let main_v6252 : IVec S2x256x256 1 := cmpi .sgt main_v4988 main_v6251
  let main_v6253 : IVec S2x256x256 1 := andi main_v6250 main_v6252
  let main_v6254 : FVec F S2x256x256 .f32 := broadcastInDim S2x256x256 ![0, 1, 2] bcast_S2x1x256_S2x256x256_0_1_2 main_v6243
  let main_v6255 : FVec F S2x256x256 .f32 := mulf main_v6248 main_v6254
  let main_v6256 : FVec F S2x256x256 .f32 := subf main_v6242 main_v6255
  let main_v6257 : FVec F S2x256x256 .f32 := select main_v6253 main_v6256 main_v6242
  let main_c_987 : IVec S_ 32 := constantI S_ 32 66#32
  let main_v6258 : IVec S2x256x256 32 := broadcastInDim S2x256x256 ![] bcast_S_S2x256x256 main_c_987
  fn_part302 (F := F) main_arg0 main_v8 main_v4875 main_v4987 main_v4988 main_v6248 main_v6250 main_v6257 main_v6258

def fn_part300 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6204 : FVec F S2x256x256 .f32) (main_v6210 : FVec F S2x256x256 .f32) (main_v6212 : IVec S2x256x256 1) (main_v6215 : IVec S2x256x256 1) (main_v6217 : FVec F S2x256x256 .f32) : IVec S9x256x256 1 × IVec S8x256x256 1 :=
  let main_v6218 : FVec F S2x256x256 .f32 := subf main_v6204 main_v6217
  let main_v6219 : FVec F S2x256x256 .f32 := select main_v6215 main_v6218 main_v6204
  let main_c_981 : IVec S_ 32 := constantI S_ 32 64#32
  let main_v6220 : IVec S2x256x256 32 := broadcastInDim S2x256x256 ![] bcast_S_S2x256x256 main_c_981
  let main_v6221 : IVec S2x256x256 1 := cmpi .eq main_v4988 main_v6220
  let main_v6222 : IVec S2x256x256 1 := andi main_v6212 main_v6221
  let main_v6223 : FVec F S2x256x256 .f32 := select main_v6222 main_v6210 main_v6219
  let main_v6224 : FVec F S2x1x256 .f32 := (extractStridedSlice S2x1x256 ![0, 65, 0] · slices_S2x256x256_S2x1x256_0_65_0) main_v6223
  let main_v6225 : FVec F S2x256x1 .f32 := (extractStridedSlice S2x256x1 ![0, 0, 65] · slices_S2x256x256_S2x256x1_0_0_65) main_v6223
  let main_v6226 : FVec F S2x1x1 .f32 := (extractStridedSlice S2x1x1 ![0, 0, 65] · slices_S2x1x256_S2x1x1_0_0_65) main_v6224
  let main_v6227 : FVec F S2x256x1 .f32 := broadcastInDim S2x256x1 ![0, 1, 2] bcast_S2x1x1_S2x256x1_0_1_2 main_v6226
  let main_v6228 : FVec F S2x256x1 .f32 := Host.divf main_v6225 main_v6227
  let main_v6229 : FVec F S2x256x256 .f32 := broadcastInDim S2x256x256 ![0, 1, 2] bcast_S2x256x1_S2x256x256_0_1_2 main_v6228
  let main_c_982 : IVec S_ 32 := constantI S_ 32 65#32
  let main_v6230 : IVec S2x256x256 32 := broadcastInDim S2x256x256 ![] bcast_S_S2x256x256 main_c_982
  let main_v6231 : IVec S2x256x256 1 := cmpi .sgt main_v4987 main_v6230
  let main_c_983 : IVec S_ 32 := constantI S_ 32 65#32
  let main_v6232 : IVec S2x256x256 32 := broadcastInDim S2x256x256 ![] bcast_S_S2x256x256 main_c_983
  let main_v6233 : IVec S2x256x256 1 := cmpi .sgt main_v4988 main_v6232
  let main_v6234 : IVec S2x256x256 1 := andi main_v6231 main_v6233
  let main_v6235 : FVec F S2x256x256 .f32 := broadcastInDim S2x256x256 ![0, 1, 2] bcast_S2x1x256_S2x256x256_0_1_2 main_v6224
  let main_v6236 : FVec F S2x256x256 .f32 := mulf main_v6229 main_v6235
  let main_v6237 : FVec F S2x256x256 .f32 := subf main_v6223 main_v6236
  let main_v6238 : FVec F S2x256x256 .f32 := select main_v6234 main_v6237 main_v6223
  fn_part301 (F := F) main_arg0 main_v8 main_v4875 main_v4987 main_v4988 main_v6229 main_v6231 main_v6238

def fn_part299 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6185 : FVec F S2x256x256 .f32) (main_v6186 : FVec F S2x1x256 .f32) (main_v6191 : FVec F S2x256x256 .f32) (main_v6193 : IVec S2x256x256 1) (main_v6196 : IVec S2x256x256 1) : IVec S9x256x256 1 × IVec S8x256x256 1 :=
  let main_v6197 : FVec F S2x256x256 .f32 := broadcastInDim S2x256x256 ![0, 1, 2] bcast_S2x1x256_S2x256x256_0_1_2 main_v6186
  let main_v6198 : FVec F S2x256x256 .f32 := mulf main_v6191 main_v6197
  let main_v6199 : FVec F S2x256x256 .f32 := subf main_v6185 main_v6198
  let main_v6200 : FVec F S2x256x256 .f32 := select main_v6196 main_v6199 main_v6185
  let main_c_978 : IVec S_ 32 := constantI S_ 32 63#32
  let main_v6201 : IVec S2x256x256 32 := broadcastInDim S2x256x256 ![] bcast_S_S2x256x256 main_c_978
  let main_v6202 : IVec S2x256x256 1 := cmpi .eq main_v4988 main_v6201
  let main_v6203 : IVec S2x256x256 1 := andi main_v6193 main_v6202
  let main_v6204 : FVec F S2x256x256 .f32 := select main_v6203 main_v6191 main_v6200
  let main_v6205 : FVec F S2x1x256 .f32 := (extractStridedSlice S2x1x256 ![0, 64, 0] · slices_S2x256x256_S2x1x256_0_64_0) main_v6204
  let main_v6206 : FVec F S2x256x1 .f32 := (extractStridedSlice S2x256x1 ![0, 0, 64] · slices_S2x256x256_S2x256x1_0_0_64) main_v6204
  let main_v6207 : FVec F S2x1x1 .f32 := (extractStridedSlice S2x1x1 ![0, 0, 64] · slices_S2x1x256_S2x1x1_0_0_64) main_v6205
  let main_v6208 : FVec F S2x256x1 .f32 := broadcastInDim S2x256x1 ![0, 1, 2] bcast_S2x1x1_S2x256x1_0_1_2 main_v6207
  let main_v6209 : FVec F S2x256x1 .f32 := Host.divf main_v6206 main_v6208
  let main_v6210 : FVec F S2x256x256 .f32 := broadcastInDim S2x256x256 ![0, 1, 2] bcast_S2x256x1_S2x256x256_0_1_2 main_v6209
  let main_c_979 : IVec S_ 32 := constantI S_ 32 64#32
  let main_v6211 : IVec S2x256x256 32 := broadcastInDim S2x256x256 ![] bcast_S_S2x256x256 main_c_979
  let main_v6212 : IVec S2x256x256 1 := cmpi .sgt main_v4987 main_v6211
  let main_c_980 : IVec S_ 32 := constantI S_ 32 64#32
  let main_v6213 : IVec S2x256x256 32 := broadcastInDim S2x256x256 ![] bcast_S_S2x256x256 main_c_980
  let main_v6214 : IVec S2x256x256 1 := cmpi .sgt main_v4988 main_v6213
  let main_v6215 : IVec S2x256x256 1 := andi main_v6212 main_v6214
  let main_v6216 : FVec F S2x256x256 .f32 := broadcastInDim S2x256x256 ![0, 1, 2] bcast_S2x1x256_S2x256x256_0_1_2 main_v6205
  let main_v6217 : FVec F S2x256x256 .f32 := mulf main_v6210 main_v6216
  fn_part300 (F := F) main_arg0 main_v8 main_v4875 main_v4987 main_v4988 main_v6204 main_v6210 main_v6212 main_v6215 main_v6217

def fn_part298 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6166 : FVec F S2x256x256 .f32) (main_v6167 : FVec F S2x1x256 .f32) (main_v6172 : FVec F S2x256x256 .f32) (main_v6174 : IVec S2x256x256 1) (main_v6175 : IVec S2x256x256 32) : IVec S9x256x256 1 × IVec S8x256x256 1 :=
  let main_v6176 : IVec S2x256x256 1 := cmpi .sgt main_v4988 main_v6175
  let main_v6177 : IVec S2x256x256 1 := andi main_v6174 main_v6176
  let main_v6178 : FVec F S2x256x256 .f32 := broadcastInDim S2x256x256 ![0, 1, 2] bcast_S2x1x256_S2x256x256_0_1_2 main_v6167
  let main_v6179 : FVec F S2x256x256 .f32 := mulf main_v6172 main_v6178
  let main_v6180 : FVec F S2x256x256 .f32 := subf main_v6166 main_v6179
  let main_v6181 : FVec F S2x256x256 .f32 := select main_v6177 main_v6180 main_v6166
  let main_c_975 : IVec S_ 32 := constantI S_ 32 62#32
  let main_v6182 : IVec S2x256x256 32 := broadcastInDim S2x256x256 ![] bcast_S_S2x256x256 main_c_975
  let main_v6183 : IVec S2x256x256 1 := cmpi .eq main_v4988 main_v6182
  let main_v6184 : IVec S2x256x256 1 := andi main_v6174 main_v6183
  let main_v6185 : FVec F S2x256x256 .f32 := select main_v6184 main_v6172 main_v6181
  let main_v6186 : FVec F S2x1x256 .f32 := (extractStridedSlice S2x1x256 ![0, 63, 0] · slices_S2x256x256_S2x1x256_0_63_0) main_v6185
  let main_v6187 : FVec F S2x256x1 .f32 := (extractStridedSlice S2x256x1 ![0, 0, 63] · slices_S2x256x256_S2x256x1_0_0_63) main_v6185
  let main_v6188 : FVec F S2x1x1 .f32 := (extractStridedSlice S2x1x1 ![0, 0, 63] · slices_S2x1x256_S2x1x1_0_0_63) main_v6186
  let main_v6189 : FVec F S2x256x1 .f32 := broadcastInDim S2x256x1 ![0, 1, 2] bcast_S2x1x1_S2x256x1_0_1_2 main_v6188
  let main_v6190 : FVec F S2x256x1 .f32 := Host.divf main_v6187 main_v6189
  let main_v6191 : FVec F S2x256x256 .f32 := broadcastInDim S2x256x256 ![0, 1, 2] bcast_S2x256x1_S2x256x256_0_1_2 main_v6190
  let main_c_976 : IVec S_ 32 := constantI S_ 32 63#32
  let main_v6192 : IVec S2x256x256 32 := broadcastInDim S2x256x256 ![] bcast_S_S2x256x256 main_c_976
  let main_v6193 : IVec S2x256x256 1 := cmpi .sgt main_v4987 main_v6192
  let main_c_977 : IVec S_ 32 := constantI S_ 32 63#32
  let main_v6194 : IVec S2x256x256 32 := broadcastInDim S2x256x256 ![] bcast_S_S2x256x256 main_c_977
  let main_v6195 : IVec S2x256x256 1 := cmpi .sgt main_v4988 main_v6194
  let main_v6196 : IVec S2x256x256 1 := andi main_v6193 main_v6195
  fn_part299 (F := F) main_arg0 main_v8 main_v4875 main_v4987 main_v4988 main_v6185 main_v6186 main_v6191 main_v6193 main_v6196

def fn_part297 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6147 : FVec F S2x256x256 .f32) (main_v6148 : FVec F S2x1x256 .f32) (main_v6153 : FVec F S2x256x256 .f32) (main_v6155 : IVec S2x256x256 1) : IVec S9x256x256 1 × IVec S8x256x256 1 :=
  let main_c_971 : IVec S_ 32 := constantI S_ 32 61#32
  let main_v6156 : IVec S2x256x256 32 := broadcastInDim S2x256x256 ![] bcast_S_S2x256x256 main_c_971
  let main_v6157 : IVec S2x256x256 1 := cmpi .sgt main_v4988 main_v6156
  let main_v6158 : IVec S2x256x256 1 := andi main_v6155 main_v6157
  let main_v6159 : FVec F S2x256x256 .f32 := broadcastInDim S2x256x256 ![0, 1, 2] bcast_S2x1x256_S2x256x256_0_1_2 main_v6148
  let main_v6160 : FVec F S2x256x256 .f32 := mulf main_v6153 main_v6159
  let main_v6161 : FVec F S2x256x256 .f32 := subf main_v6147 main_v6160
  let main_v6162 : FVec F S2x256x256 .f32 := select main_v6158 main_v6161 main_v6147
  let main_c_972 : IVec S_ 32 := constantI S_ 32 61#32
  let main_v6163 : IVec S2x256x256 32 := broadcastInDim S2x256x256 ![] bcast_S_S2x256x256 main_c_972
  let main_v6164 : IVec S2x256x256 1 := cmpi .eq main_v4988 main_v6163
  let main_v6165 : IVec S2x256x256 1 := andi main_v6155 main_v6164
  let main_v6166 : FVec F S2x256x256 .f32 := select main_v6165 main_v6153 main_v6162
  let main_v6167 : FVec F S2x1x256 .f32 := (extractStridedSlice S2x1x256 ![0, 62, 0] · slices_S2x256x256_S2x1x256_0_62_0) main_v6166
  let main_v6168 : FVec F S2x256x1 .f32 := (extractStridedSlice S2x256x1 ![0, 0, 62] · slices_S2x256x256_S2x256x1_0_0_62) main_v6166
  let main_v6169 : FVec F S2x1x1 .f32 := (extractStridedSlice S2x1x1 ![0, 0, 62] · slices_S2x1x256_S2x1x1_0_0_62) main_v6167
  let main_v6170 : FVec F S2x256x1 .f32 := broadcastInDim S2x256x1 ![0, 1, 2] bcast_S2x1x1_S2x256x1_0_1_2 main_v6169
  let main_v6171 : FVec F S2x256x1 .f32 := Host.divf main_v6168 main_v6170
  let main_v6172 : FVec F S2x256x256 .f32 := broadcastInDim S2x256x256 ![0, 1, 2] bcast_S2x256x1_S2x256x256_0_1_2 main_v6171
  let main_c_973 : IVec S_ 32 := constantI S_ 32 62#32
  let main_v6173 : IVec S2x256x256 32 := broadcastInDim S2x256x256 ![] bcast_S_S2x256x256 main_c_973
  let main_v6174 : IVec S2x256x256 1 := cmpi .sgt main_v4987 main_v6173
  let main_c_974 : IVec S_ 32 := constantI S_ 32 62#32
  let main_v6175 : IVec S2x256x256 32 := broadcastInDim S2x256x256 ![] bcast_S_S2x256x256 main_c_974
  fn_part298 (F := F) main_arg0 main_v8 main_v4875 main_v4987 main_v4988 main_v6166 main_v6167 main_v6172 main_v6174 main_v6175

def fn_part296 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6128 : FVec F S2x256x256 .f32) (main_v6129 : FVec F S2x1x256 .f32) (main_v6134 : FVec F S2x256x256 .f32) (main_c_967 : IVec S_ 32) : IVec S9x256x256 1 × IVec S8x256x256 1 :=
  let main_v6135 : IVec S2x256x256 32 := broadcastInDim S2x256x256 ![] bcast_S_S2x256x256 main_c_967
  let main_v6136 : IVec S2x256x256 1 := cmpi .sgt main_v4987 main_v6135
  let main_c_968 : IVec S_ 32 := constantI S_ 32 60#32
  let main_v6137 : IVec S2x256x256 32 := broadcastInDim S2x256x256 ![] bcast_S_S2x256x256 main_c_968
  let main_v6138 : IVec S2x256x256 1 := cmpi .sgt main_v4988 main_v6137
  let main_v6139 : IVec S2x256x256 1 := andi main_v6136 main_v6138
  let main_v6140 : FVec F S2x256x256 .f32 := broadcastInDim S2x256x256 ![0, 1, 2] bcast_S2x1x256_S2x256x256_0_1_2 main_v6129
  let main_v6141 : FVec F S2x256x256 .f32 := mulf main_v6134 main_v6140
  let main_v6142 : FVec F S2x256x256 .f32 := subf main_v6128 main_v6141
  let main_v6143 : FVec F S2x256x256 .f32 := select main_v6139 main_v6142 main_v6128
  let main_c_969 : IVec S_ 32 := constantI S_ 32 60#32
  let main_v6144 : IVec S2x256x256 32 := broadcastInDim S2x256x256 ![] bcast_S_S2x256x256 main_c_969
  let main_v6145 : IVec S2x256x256 1 := cmpi .eq main_v4988 main_v6144
  let main_v6146 : IVec S2x256x256 1 := andi main_v6136 main_v6145
  let main_v6147 : FVec F S2x256x256 .f32 := select main_v6146 main_v6134 main_v6143
  let main_v6148 : FVec F S2x1x256 .f32 := (extractStridedSlice S2x1x256 ![0, 61, 0] · slices_S2x256x256_S2x1x256_0_61_0) main_v6147
  let main_v6149 : FVec F S2x256x1 .f32 := (extractStridedSlice S2x256x1 ![0, 0, 61] · slices_S2x256x256_S2x256x1_0_0_61) main_v6147
  let main_v6150 : FVec F S2x1x1 .f32 := (extractStridedSlice S2x1x1 ![0, 0, 61] · slices_S2x1x256_S2x1x1_0_0_61) main_v6148
  let main_v6151 : FVec F S2x256x1 .f32 := broadcastInDim S2x256x1 ![0, 1, 2] bcast_S2x1x1_S2x256x1_0_1_2 main_v6150
  let main_v6152 : FVec F S2x256x1 .f32 := Host.divf main_v6149 main_v6151
  let main_v6153 : FVec F S2x256x256 .f32 := broadcastInDim S2x256x256 ![0, 1, 2] bcast_S2x256x1_S2x256x256_0_1_2 main_v6152
  let main_c_970 : IVec S_ 32 := constantI S_ 32 61#32
  let main_v6154 : IVec S2x256x256 32 := broadcastInDim S2x256x256 ![] bcast_S_S2x256x256 main_c_970
  let main_v6155 : IVec S2x256x256 1 := cmpi .sgt main_v4987 main_v6154
  fn_part297 (F := F) main_arg0 main_v8 main_v4875 main_v4987 main_v4988 main_v6147 main_v6148 main_v6153 main_v6155

def fn_part295 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6109 : FVec F S2x256x256 .f32) (main_v6110 : FVec F S2x1x256 .f32) (main_v6114 : FVec F S2x256x1 .f32) : IVec S9x256x256 1 × IVec S8x256x256 1 :=
  let main_v6115 : FVec F S2x256x256 .f32 := broadcastInDim S2x256x256 ![0, 1, 2] bcast_S2x256x1_S2x256x256_0_1_2 main_v6114
  let main_c_964 : IVec S_ 32 := constantI S_ 32 59#32
  let main_v6116 : IVec S2x256x256 32 := broadcastInDim S2x256x256 ![] bcast_S_S2x256x256 main_c_964
  let main_v6117 : IVec S2x256x256 1 := cmpi .sgt main_v4987 main_v6116
  let main_c_965 : IVec S_ 32 := constantI S_ 32 59#32
  let main_v6118 : IVec S2x256x256 32 := broadcastInDim S2x256x256 ![] bcast_S_S2x256x256 main_c_965
  let main_v6119 : IVec S2x256x256 1 := cmpi .sgt main_v4988 main_v6118
  let main_v6120 : IVec S2x256x256 1 := andi main_v6117 main_v6119
  let main_v6121 : FVec F S2x256x256 .f32 := broadcastInDim S2x256x256 ![0, 1, 2] bcast_S2x1x256_S2x256x256_0_1_2 main_v6110
  let main_v6122 : FVec F S2x256x256 .f32 := mulf main_v6115 main_v6121
  let main_v6123 : FVec F S2x256x256 .f32 := subf main_v6109 main_v6122
  let main_v6124 : FVec F S2x256x256 .f32 := select main_v6120 main_v6123 main_v6109
  let main_c_966 : IVec S_ 32 := constantI S_ 32 59#32
  let main_v6125 : IVec S2x256x256 32 := broadcastInDim S2x256x256 ![] bcast_S_S2x256x256 main_c_966
  let main_v6126 : IVec S2x256x256 1 := cmpi .eq main_v4988 main_v6125
  let main_v6127 : IVec S2x256x256 1 := andi main_v6117 main_v6126
  let main_v6128 : FVec F S2x256x256 .f32 := select main_v6127 main_v6115 main_v6124
  let main_v6129 : FVec F S2x1x256 .f32 := (extractStridedSlice S2x1x256 ![0, 60, 0] · slices_S2x256x256_S2x1x256_0_60_0) main_v6128
  let main_v6130 : FVec F S2x256x1 .f32 := (extractStridedSlice S2x256x1 ![0, 0, 60] · slices_S2x256x256_S2x256x1_0_0_60) main_v6128
  let main_v6131 : FVec F S2x1x1 .f32 := (extractStridedSlice S2x1x1 ![0, 0, 60] · slices_S2x1x256_S2x1x1_0_0_60) main_v6129
  let main_v6132 : FVec F S2x256x1 .f32 := broadcastInDim S2x256x1 ![0, 1, 2] bcast_S2x1x1_S2x256x1_0_1_2 main_v6131
  let main_v6133 : FVec F S2x256x1 .f32 := Host.divf main_v6130 main_v6132
  let main_v6134 : FVec F S2x256x256 .f32 := broadcastInDim S2x256x256 ![0, 1, 2] bcast_S2x256x1_S2x256x256_0_1_2 main_v6133
  let main_c_967 : IVec S_ 32 := constantI S_ 32 60#32
  fn_part296 (F := F) main_arg0 main_v8 main_v4875 main_v4987 main_v4988 main_v6128 main_v6129 main_v6134 main_c_967

def fn_part294 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6090 : FVec F S2x256x256 .f32) (main_v6091 : FVec F S2x1x256 .f32) (main_v6092 : FVec F S2x256x1 .f32) (main_v6093 : FVec F S2x1x1 .f32) : IVec S9x256x256 1 × IVec S8x256x256 1 :=
  let main_v6094 : FVec F S2x256x1 .f32 := broadcastInDim S2x256x1 ![0, 1, 2] bcast_S2x1x1_S2x256x1_0_1_2 main_v6093
  let main_v6095 : FVec F S2x256x1 .f32 := Host.divf main_v6092 main_v6094
  let main_v6096 : FVec F S2x256x256 .f32 := broadcastInDim S2x256x256 ![0, 1, 2] bcast_S2x256x1_S2x256x256_0_1_2 main_v6095
  let main_c_961 : IVec S_ 32 := constantI S_ 32 58#32
  let main_v6097 : IVec S2x256x256 32 := broadcastInDim S2x256x256 ![] bcast_S_S2x256x256 main_c_961
  let main_v6098 : IVec S2x256x256 1 := cmpi .sgt main_v4987 main_v6097
  let main_c_962 : IVec S_ 32 := constantI S_ 32 58#32
  let main_v6099 : IVec S2x256x256 32 := broadcastInDim S2x256x256 ![] bcast_S_S2x256x256 main_c_962
  let main_v6100 : IVec S2x256x256 1 := cmpi .sgt main_v4988 main_v6099
  let main_v6101 : IVec S2x256x256 1 := andi main_v6098 main_v6100
  let main_v6102 : FVec F S2x256x256 .f32 := broadcastInDim S2x256x256 ![0, 1, 2] bcast_S2x1x256_S2x256x256_0_1_2 main_v6091
  let main_v6103 : FVec F S2x256x256 .f32 := mulf main_v6096 main_v6102
  let main_v6104 : FVec F S2x256x256 .f32 := subf main_v6090 main_v6103
  let main_v6105 : FVec F S2x256x256 .f32 := select main_v6101 main_v6104 main_v6090
  let main_c_963 : IVec S_ 32 := constantI S_ 32 58#32
  let main_v6106 : IVec S2x256x256 32 := broadcastInDim S2x256x256 ![] bcast_S_S2x256x256 main_c_963
  let main_v6107 : IVec S2x256x256 1 := cmpi .eq main_v4988 main_v6106
  let main_v6108 : IVec S2x256x256 1 := andi main_v6098 main_v6107
  let main_v6109 : FVec F S2x256x256 .f32 := select main_v6108 main_v6096 main_v6105
  let main_v6110 : FVec F S2x1x256 .f32 := (extractStridedSlice S2x1x256 ![0, 59, 0] · slices_S2x256x256_S2x1x256_0_59_0) main_v6109
  let main_v6111 : FVec F S2x256x1 .f32 := (extractStridedSlice S2x256x1 ![0, 0, 59] · slices_S2x256x256_S2x256x1_0_0_59) main_v6109
  let main_v6112 : FVec F S2x1x1 .f32 := (extractStridedSlice S2x1x1 ![0, 0, 59] · slices_S2x1x256_S2x1x1_0_0_59) main_v6110
  let main_v6113 : FVec F S2x256x1 .f32 := broadcastInDim S2x256x1 ![0, 1, 2] bcast_S2x1x1_S2x256x1_0_1_2 main_v6112
  let main_v6114 : FVec F S2x256x1 .f32 := Host.divf main_v6111 main_v6113
  fn_part295 (F := F) main_arg0 main_v8 main_v4875 main_v4987 main_v4988 main_v6109 main_v6110 main_v6114

def fn_part293 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6071 : FVec F S2x256x256 .f32) (main_v6072 : FVec F S2x1x256 .f32) : IVec S9x256x256 1 × IVec S8x256x256 1 :=
  let main_v6073 : FVec F S2x256x1 .f32 := (extractStridedSlice S2x256x1 ![0, 0, 57] · slices_S2x256x256_S2x256x1_0_0_57) main_v6071
  let main_v6074 : FVec F S2x1x1 .f32 := (extractStridedSlice S2x1x1 ![0, 0, 57] · slices_S2x1x256_S2x1x1_0_0_57) main_v6072
  let main_v6075 : FVec F S2x256x1 .f32 := broadcastInDim S2x256x1 ![0, 1, 2] bcast_S2x1x1_S2x256x1_0_1_2 main_v6074
  let main_v6076 : FVec F S2x256x1 .f32 := Host.divf main_v6073 main_v6075
  let main_v6077 : FVec F S2x256x256 .f32 := broadcastInDim S2x256x256 ![0, 1, 2] bcast_S2x256x1_S2x256x256_0_1_2 main_v6076
  let main_c_958 : IVec S_ 32 := constantI S_ 32 57#32
  let main_v6078 : IVec S2x256x256 32 := broadcastInDim S2x256x256 ![] bcast_S_S2x256x256 main_c_958
  let main_v6079 : IVec S2x256x256 1 := cmpi .sgt main_v4987 main_v6078
  let main_c_959 : IVec S_ 32 := constantI S_ 32 57#32
  let main_v6080 : IVec S2x256x256 32 := broadcastInDim S2x256x256 ![] bcast_S_S2x256x256 main_c_959
  let main_v6081 : IVec S2x256x256 1 := cmpi .sgt main_v4988 main_v6080
  let main_v6082 : IVec S2x256x256 1 := andi main_v6079 main_v6081
  let main_v6083 : FVec F S2x256x256 .f32 := broadcastInDim S2x256x256 ![0, 1, 2] bcast_S2x1x256_S2x256x256_0_1_2 main_v6072
  let main_v6084 : FVec F S2x256x256 .f32 := mulf main_v6077 main_v6083
  let main_v6085 : FVec F S2x256x256 .f32 := subf main_v6071 main_v6084
  let main_v6086 : FVec F S2x256x256 .f32 := select main_v6082 main_v6085 main_v6071
  let main_c_960 : IVec S_ 32 := constantI S_ 32 57#32
  let main_v6087 : IVec S2x256x256 32 := broadcastInDim S2x256x256 ![] bcast_S_S2x256x256 main_c_960
  let main_v6088 : IVec S2x256x256 1 := cmpi .eq main_v4988 main_v6087
  let main_v6089 : IVec S2x256x256 1 := andi main_v6079 main_v6088
  let main_v6090 : FVec F S2x256x256 .f32 := select main_v6089 main_v6077 main_v6086
  let main_v6091 : FVec F S2x1x256 .f32 := (extractStridedSlice S2x1x256 ![0, 58, 0] · slices_S2x256x256_S2x1x256_0_58_0) main_v6090
  let main_v6092 : FVec F S2x256x1 .f32 := (extractStridedSlice S2x256x1 ![0, 0, 58] · slices_S2x256x256_S2x256x1_0_0_58) main_v6090
  let main_v6093 : FVec F S2x1x1 .f32 := (extractStridedSlice S2x1x1 ![0, 0, 58] · slices_S2x1x256_S2x1x1_0_0_58) main_v6091
  fn_part294 (F := F) main_arg0 main_v8 main_v4875 main_v4987 main_v4988 main_v6090 main_v6091 main_v6092 main_v6093

def fn_part292 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6039 : FVec F S2x256x256 .f32) (main_v6048 : FVec F S2x256x256 .f32) (main_v6051 : IVec S2x256x256 1) : IVec S9x256x256 1 × IVec S8x256x256 1 :=
  let main_v6052 : FVec F S2x256x256 .f32 := select main_v6051 main_v6039 main_v6048
  let main_v6053 : FVec F S2x1x256 .f32 := (extractStridedSlice S2x1x256 ![0, 56, 0] · slices_S2x256x256_S2x1x256_0_56_0) main_v6052
  let main_v6054 : FVec F S2x256x1 .f32 := (extractStridedSlice S2x256x1 ![0, 0, 56] · slices_S2x256x256_S2x256x1_0_0_56) main_v6052
  let main_v6055 : FVec F S2x1x1 .f32 := (extractStridedSlice S2x1x1 ![0, 0, 56] · slices_S2x1x256_S2x1x1_0_0_56) main_v6053
  let main_v6056 : FVec F S2x256x1 .f32 := broadcastInDim S2x256x1 ![0, 1, 2] bcast_S2x1x1_S2x256x1_0_1_2 main_v6055
  let main_v6057 : FVec F S2x256x1 .f32 := Host.divf main_v6054 main_v6056
  let main_v6058 : FVec F S2x256x256 .f32 := broadcastInDim S2x256x256 ![0, 1, 2] bcast_S2x256x1_S2x256x256_0_1_2 main_v6057
  let main_c_955 : IVec S_ 32 := constantI S_ 32 56#32
  let main_v6059 : IVec S2x256x256 32 := broadcastInDim S2x256x256 ![] bcast_S_S2x256x256 main_c_955
  let main_v6060 : IVec S2x256x256 1 := cmpi .sgt main_v4987 main_v6059
  let main_c_956 : IVec S_ 32 := constantI S_ 32 56#32
  let main_v6061 : IVec S2x256x256 32 := broadcastInDim S2x256x256 ![] bcast_S_S2x256x256 main_c_956
  let main_v6062 : IVec S2x256x256 1 := cmpi .sgt main_v4988 main_v6061
  let main_v6063 : IVec S2x256x256 1 := andi main_v6060 main_v6062
  let main_v6064 : FVec F S2x256x256 .f32 := broadcastInDim S2x256x256 ![0, 1, 2] bcast_S2x1x256_S2x256x256_0_1_2 main_v6053
  let main_v6065 : FVec F S2x256x256 .f32 := mulf main_v6058 main_v6064
  let main_v6066 : FVec F S2x256x256 .f32 := subf main_v6052 main_v6065
  let main_v6067 : FVec F S2x256x256 .f32 := select main_v6063 main_v6066 main_v6052
  let main_c_957 : IVec S_ 32 := constantI S_ 32 56#32
  let main_v6068 : IVec S2x256x256 32 := broadcastInDim S2x256x256 ![] bcast_S_S2x256x256 main_c_957
  let main_v6069 : IVec S2x256x256 1 := cmpi .eq main_v4988 main_v6068
  let main_v6070 : IVec S2x256x256 1 := andi main_v6060 main_v6069
  let main_v6071 : FVec F S2x256x256 .f32 := select main_v6070 main_v6058 main_v6067
  let main_v6072 : FVec F S2x1x256 .f32 := (extractStridedSlice S2x1x256 ![0, 57, 0] · slices_S2x256x256_S2x1x256_0_57_0) main_v6071
  fn_part293 (F := F) main_arg0 main_v8 main_v4875 main_v4987 main_v4988 main_v6071 main_v6072

def fn_part291 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6020 : FVec F S2x256x256 .f32) (main_v6022 : IVec S2x256x256 1) (main_v6029 : FVec F S2x256x256 .f32) (main_v6030 : IVec S2x256x256 32) : IVec S9x256x256 1 × IVec S8x256x256 1 :=
  let main_v6031 : IVec S2x256x256 1 := cmpi .eq main_v4988 main_v6030
  let main_v6032 : IVec S2x256x256 1 := andi main_v6022 main_v6031
  let main_v6033 : FVec F S2x256x256 .f32 := select main_v6032 main_v6020 main_v6029
  let main_v6034 : FVec F S2x1x256 .f32 := (extractStridedSlice S2x1x256 ![0, 55, 0] · slices_S2x256x256_S2x1x256_0_55_0) main_v6033
  let main_v6035 : FVec F S2x256x1 .f32 := (extractStridedSlice S2x256x1 ![0, 0, 55] · slices_S2x256x256_S2x256x1_0_0_55) main_v6033
  let main_v6036 : FVec F S2x1x1 .f32 := (extractStridedSlice S2x1x1 ![0, 0, 55] · slices_S2x1x256_S2x1x1_0_0_55) main_v6034
  let main_v6037 : FVec F S2x256x1 .f32 := broadcastInDim S2x256x1 ![0, 1, 2] bcast_S2x1x1_S2x256x1_0_1_2 main_v6036
  let main_v6038 : FVec F S2x256x1 .f32 := Host.divf main_v6035 main_v6037
  let main_v6039 : FVec F S2x256x256 .f32 := broadcastInDim S2x256x256 ![0, 1, 2] bcast_S2x256x1_S2x256x256_0_1_2 main_v6038
  let main_c_952 : IVec S_ 32 := constantI S_ 32 55#32
  let main_v6040 : IVec S2x256x256 32 := broadcastInDim S2x256x256 ![] bcast_S_S2x256x256 main_c_952
  let main_v6041 : IVec S2x256x256 1 := cmpi .sgt main_v4987 main_v6040
  let main_c_953 : IVec S_ 32 := constantI S_ 32 55#32
  let main_v6042 : IVec S2x256x256 32 := broadcastInDim S2x256x256 ![] bcast_S_S2x256x256 main_c_953
  let main_v6043 : IVec S2x256x256 1 := cmpi .sgt main_v4988 main_v6042
  let main_v6044 : IVec S2x256x256 1 := andi main_v6041 main_v6043
  let main_v6045 : FVec F S2x256x256 .f32 := broadcastInDim S2x256x256 ![0, 1, 2] bcast_S2x1x256_S2x256x256_0_1_2 main_v6034
  let main_v6046 : FVec F S2x256x256 .f32 := mulf main_v6039 main_v6045
  let main_v6047 : FVec F S2x256x256 .f32 := subf main_v6033 main_v6046
  let main_v6048 : FVec F S2x256x256 .f32 := select main_v6044 main_v6047 main_v6033
  let main_c_954 : IVec S_ 32 := constantI S_ 32 55#32
  let main_v6049 : IVec S2x256x256 32 := broadcastInDim S2x256x256 ![] bcast_S_S2x256x256 main_c_954
  let main_v6050 : IVec S2x256x256 1 := cmpi .eq main_v4988 main_v6049
  let main_v6051 : IVec S2x256x256 1 := andi main_v6041 main_v6050
  fn_part292 (F := F) main_arg0 main_v8 main_v4875 main_v4987 main_v4988 main_v6039 main_v6048 main_v6051

def fn_part290 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v6001 : FVec F S2x256x256 .f32) (main_v6003 : IVec S2x256x256 1) (main_v6010 : FVec F S2x256x256 .f32) : IVec S9x256x256 1 × IVec S8x256x256 1 :=
  let main_c_948 : IVec S_ 32 := constantI S_ 32 53#32
  let main_v6011 : IVec S2x256x256 32 := broadcastInDim S2x256x256 ![] bcast_S_S2x256x256 main_c_948
  let main_v6012 : IVec S2x256x256 1 := cmpi .eq main_v4988 main_v6011
  let main_v6013 : IVec S2x256x256 1 := andi main_v6003 main_v6012
  let main_v6014 : FVec F S2x256x256 .f32 := select main_v6013 main_v6001 main_v6010
  let main_v6015 : FVec F S2x1x256 .f32 := (extractStridedSlice S2x1x256 ![0, 54, 0] · slices_S2x256x256_S2x1x256_0_54_0) main_v6014
  let main_v6016 : FVec F S2x256x1 .f32 := (extractStridedSlice S2x256x1 ![0, 0, 54] · slices_S2x256x256_S2x256x1_0_0_54) main_v6014
  let main_v6017 : FVec F S2x1x1 .f32 := (extractStridedSlice S2x1x1 ![0, 0, 54] · slices_S2x1x256_S2x1x1_0_0_54) main_v6015
  let main_v6018 : FVec F S2x256x1 .f32 := broadcastInDim S2x256x1 ![0, 1, 2] bcast_S2x1x1_S2x256x1_0_1_2 main_v6017
  let main_v6019 : FVec F S2x256x1 .f32 := Host.divf main_v6016 main_v6018
  let main_v6020 : FVec F S2x256x256 .f32 := broadcastInDim S2x256x256 ![0, 1, 2] bcast_S2x256x1_S2x256x256_0_1_2 main_v6019
  let main_c_949 : IVec S_ 32 := constantI S_ 32 54#32
  let main_v6021 : IVec S2x256x256 32 := broadcastInDim S2x256x256 ![] bcast_S_S2x256x256 main_c_949
  let main_v6022 : IVec S2x256x256 1 := cmpi .sgt main_v4987 main_v6021
  let main_c_950 : IVec S_ 32 := constantI S_ 32 54#32
  let main_v6023 : IVec S2x256x256 32 := broadcastInDim S2x256x256 ![] bcast_S_S2x256x256 main_c_950
  let main_v6024 : IVec S2x256x256 1 := cmpi .sgt main_v4988 main_v6023
  let main_v6025 : IVec S2x256x256 1 := andi main_v6022 main_v6024
  let main_v6026 : FVec F S2x256x256 .f32 := broadcastInDim S2x256x256 ![0, 1, 2] bcast_S2x1x256_S2x256x256_0_1_2 main_v6015
  let main_v6027 : FVec F S2x256x256 .f32 := mulf main_v6020 main_v6026
  let main_v6028 : FVec F S2x256x256 .f32 := subf main_v6014 main_v6027
  let main_v6029 : FVec F S2x256x256 .f32 := select main_v6025 main_v6028 main_v6014
  let main_c_951 : IVec S_ 32 := constantI S_ 32 54#32
  let main_v6030 : IVec S2x256x256 32 := broadcastInDim S2x256x256 ![] bcast_S_S2x256x256 main_c_951
  fn_part291 (F := F) main_arg0 main_v8 main_v4875 main_v4987 main_v4988 main_v6020 main_v6022 main_v6029 main_v6030

def fn_part289 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5976 : FVec F S2x256x256 .f32) (main_v5982 : FVec F S2x256x256 .f32) (main_v5984 : IVec S2x256x256 1) (main_v5987 : IVec S2x256x256 1) (main_v5989 : FVec F S2x256x256 .f32) : IVec S9x256x256 1 × IVec S8x256x256 1 :=
  let main_v5990 : FVec F S2x256x256 .f32 := subf main_v5976 main_v5989
  let main_v5991 : FVec F S2x256x256 .f32 := select main_v5987 main_v5990 main_v5976
  let main_c_945 : IVec S_ 32 := constantI S_ 32 52#32
  let main_v5992 : IVec S2x256x256 32 := broadcastInDim S2x256x256 ![] bcast_S_S2x256x256 main_c_945
  let main_v5993 : IVec S2x256x256 1 := cmpi .eq main_v4988 main_v5992
  let main_v5994 : IVec S2x256x256 1 := andi main_v5984 main_v5993
  let main_v5995 : FVec F S2x256x256 .f32 := select main_v5994 main_v5982 main_v5991
  let main_v5996 : FVec F S2x1x256 .f32 := (extractStridedSlice S2x1x256 ![0, 53, 0] · slices_S2x256x256_S2x1x256_0_53_0) main_v5995
  let main_v5997 : FVec F S2x256x1 .f32 := (extractStridedSlice S2x256x1 ![0, 0, 53] · slices_S2x256x256_S2x256x1_0_0_53) main_v5995
  let main_v5998 : FVec F S2x1x1 .f32 := (extractStridedSlice S2x1x1 ![0, 0, 53] · slices_S2x1x256_S2x1x1_0_0_53) main_v5996
  let main_v5999 : FVec F S2x256x1 .f32 := broadcastInDim S2x256x1 ![0, 1, 2] bcast_S2x1x1_S2x256x1_0_1_2 main_v5998
  let main_v6000 : FVec F S2x256x1 .f32 := Host.divf main_v5997 main_v5999
  let main_v6001 : FVec F S2x256x256 .f32 := broadcastInDim S2x256x256 ![0, 1, 2] bcast_S2x256x1_S2x256x256_0_1_2 main_v6000
  let main_c_946 : IVec S_ 32 := constantI S_ 32 53#32
  let main_v6002 : IVec S2x256x256 32 := broadcastInDim S2x256x256 ![] bcast_S_S2x256x256 main_c_946
  let main_v6003 : IVec S2x256x256 1 := cmpi .sgt main_v4987 main_v6002
  let main_c_947 : IVec S_ 32 := constantI S_ 32 53#32
  let main_v6004 : IVec S2x256x256 32 := broadcastInDim S2x256x256 ![] bcast_S_S2x256x256 main_c_947
  let main_v6005 : IVec S2x256x256 1 := cmpi .sgt main_v4988 main_v6004
  let main_v6006 : IVec S2x256x256 1 := andi main_v6003 main_v6005
  let main_v6007 : FVec F S2x256x256 .f32 := broadcastInDim S2x256x256 ![0, 1, 2] bcast_S2x1x256_S2x256x256_0_1_2 main_v5996
  let main_v6008 : FVec F S2x256x256 .f32 := mulf main_v6001 main_v6007
  let main_v6009 : FVec F S2x256x256 .f32 := subf main_v5995 main_v6008
  let main_v6010 : FVec F S2x256x256 .f32 := select main_v6006 main_v6009 main_v5995
  fn_part290 (F := F) main_arg0 main_v8 main_v4875 main_v4987 main_v4988 main_v6001 main_v6003 main_v6010

def fn_part288 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5957 : FVec F S2x256x256 .f32) (main_v5958 : FVec F S2x1x256 .f32) (main_v5963 : FVec F S2x256x256 .f32) (main_v5965 : IVec S2x256x256 1) (main_v5968 : IVec S2x256x256 1) : IVec S9x256x256 1 × IVec S8x256x256 1 :=
  let main_v5969 : FVec F S2x256x256 .f32 := broadcastInDim S2x256x256 ![0, 1, 2] bcast_S2x1x256_S2x256x256_0_1_2 main_v5958
  let main_v5970 : FVec F S2x256x256 .f32 := mulf main_v5963 main_v5969
  let main_v5971 : FVec F S2x256x256 .f32 := subf main_v5957 main_v5970
  let main_v5972 : FVec F S2x256x256 .f32 := select main_v5968 main_v5971 main_v5957
  let main_c_942 : IVec S_ 32 := constantI S_ 32 51#32
  let main_v5973 : IVec S2x256x256 32 := broadcastInDim S2x256x256 ![] bcast_S_S2x256x256 main_c_942
  let main_v5974 : IVec S2x256x256 1 := cmpi .eq main_v4988 main_v5973
  let main_v5975 : IVec S2x256x256 1 := andi main_v5965 main_v5974
  let main_v5976 : FVec F S2x256x256 .f32 := select main_v5975 main_v5963 main_v5972
  let main_v5977 : FVec F S2x1x256 .f32 := (extractStridedSlice S2x1x256 ![0, 52, 0] · slices_S2x256x256_S2x1x256_0_52_0) main_v5976
  let main_v5978 : FVec F S2x256x1 .f32 := (extractStridedSlice S2x256x1 ![0, 0, 52] · slices_S2x256x256_S2x256x1_0_0_52) main_v5976
  let main_v5979 : FVec F S2x1x1 .f32 := (extractStridedSlice S2x1x1 ![0, 0, 52] · slices_S2x1x256_S2x1x1_0_0_52) main_v5977
  let main_v5980 : FVec F S2x256x1 .f32 := broadcastInDim S2x256x1 ![0, 1, 2] bcast_S2x1x1_S2x256x1_0_1_2 main_v5979
  let main_v5981 : FVec F S2x256x1 .f32 := Host.divf main_v5978 main_v5980
  let main_v5982 : FVec F S2x256x256 .f32 := broadcastInDim S2x256x256 ![0, 1, 2] bcast_S2x256x1_S2x256x256_0_1_2 main_v5981
  let main_c_943 : IVec S_ 32 := constantI S_ 32 52#32
  let main_v5983 : IVec S2x256x256 32 := broadcastInDim S2x256x256 ![] bcast_S_S2x256x256 main_c_943
  let main_v5984 : IVec S2x256x256 1 := cmpi .sgt main_v4987 main_v5983
  let main_c_944 : IVec S_ 32 := constantI S_ 32 52#32
  let main_v5985 : IVec S2x256x256 32 := broadcastInDim S2x256x256 ![] bcast_S_S2x256x256 main_c_944
  let main_v5986 : IVec S2x256x256 1 := cmpi .sgt main_v4988 main_v5985
  let main_v5987 : IVec S2x256x256 1 := andi main_v5984 main_v5986
  let main_v5988 : FVec F S2x256x256 .f32 := broadcastInDim S2x256x256 ![0, 1, 2] bcast_S2x1x256_S2x256x256_0_1_2 main_v5977
  let main_v5989 : FVec F S2x256x256 .f32 := mulf main_v5982 main_v5988
  fn_part289 (F := F) main_arg0 main_v8 main_v4875 main_v4987 main_v4988 main_v5976 main_v5982 main_v5984 main_v5987 main_v5989

def fn_part287 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5938 : FVec F S2x256x256 .f32) (main_v5939 : FVec F S2x1x256 .f32) (main_v5944 : FVec F S2x256x256 .f32) (main_v5946 : IVec S2x256x256 1) (main_v5947 : IVec S2x256x256 32) : IVec S9x256x256 1 × IVec S8x256x256 1 :=
  let main_v5948 : IVec S2x256x256 1 := cmpi .sgt main_v4988 main_v5947
  let main_v5949 : IVec S2x256x256 1 := andi main_v5946 main_v5948
  let main_v5950 : FVec F S2x256x256 .f32 := broadcastInDim S2x256x256 ![0, 1, 2] bcast_S2x1x256_S2x256x256_0_1_2 main_v5939
  let main_v5951 : FVec F S2x256x256 .f32 := mulf main_v5944 main_v5950
  let main_v5952 : FVec F S2x256x256 .f32 := subf main_v5938 main_v5951
  let main_v5953 : FVec F S2x256x256 .f32 := select main_v5949 main_v5952 main_v5938
  let main_c_939 : IVec S_ 32 := constantI S_ 32 50#32
  let main_v5954 : IVec S2x256x256 32 := broadcastInDim S2x256x256 ![] bcast_S_S2x256x256 main_c_939
  let main_v5955 : IVec S2x256x256 1 := cmpi .eq main_v4988 main_v5954
  let main_v5956 : IVec S2x256x256 1 := andi main_v5946 main_v5955
  let main_v5957 : FVec F S2x256x256 .f32 := select main_v5956 main_v5944 main_v5953
  let main_v5958 : FVec F S2x1x256 .f32 := (extractStridedSlice S2x1x256 ![0, 51, 0] · slices_S2x256x256_S2x1x256_0_51_0) main_v5957
  let main_v5959 : FVec F S2x256x1 .f32 := (extractStridedSlice S2x256x1 ![0, 0, 51] · slices_S2x256x256_S2x256x1_0_0_51) main_v5957
  let main_v5960 : FVec F S2x1x1 .f32 := (extractStridedSlice S2x1x1 ![0, 0, 51] · slices_S2x1x256_S2x1x1_0_0_51) main_v5958
  let main_v5961 : FVec F S2x256x1 .f32 := broadcastInDim S2x256x1 ![0, 1, 2] bcast_S2x1x1_S2x256x1_0_1_2 main_v5960
  let main_v5962 : FVec F S2x256x1 .f32 := Host.divf main_v5959 main_v5961
  let main_v5963 : FVec F S2x256x256 .f32 := broadcastInDim S2x256x256 ![0, 1, 2] bcast_S2x256x1_S2x256x256_0_1_2 main_v5962
  let main_c_940 : IVec S_ 32 := constantI S_ 32 51#32
  let main_v5964 : IVec S2x256x256 32 := broadcastInDim S2x256x256 ![] bcast_S_S2x256x256 main_c_940
  let main_v5965 : IVec S2x256x256 1 := cmpi .sgt main_v4987 main_v5964
  let main_c_941 : IVec S_ 32 := constantI S_ 32 51#32
  let main_v5966 : IVec S2x256x256 32 := broadcastInDim S2x256x256 ![] bcast_S_S2x256x256 main_c_941
  let main_v5967 : IVec S2x256x256 1 := cmpi .sgt main_v4988 main_v5966
  let main_v5968 : IVec S2x256x256 1 := andi main_v5965 main_v5967
  fn_part288 (F := F) main_arg0 main_v8 main_v4875 main_v4987 main_v4988 main_v5957 main_v5958 main_v5963 main_v5965 main_v5968

def fn_part286 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5919 : FVec F S2x256x256 .f32) (main_v5920 : FVec F S2x1x256 .f32) (main_v5925 : FVec F S2x256x256 .f32) (main_v5927 : IVec S2x256x256 1) : IVec S9x256x256 1 × IVec S8x256x256 1 :=
  let main_c_935 : IVec S_ 32 := constantI S_ 32 49#32
  let main_v5928 : IVec S2x256x256 32 := broadcastInDim S2x256x256 ![] bcast_S_S2x256x256 main_c_935
  let main_v5929 : IVec S2x256x256 1 := cmpi .sgt main_v4988 main_v5928
  let main_v5930 : IVec S2x256x256 1 := andi main_v5927 main_v5929
  let main_v5931 : FVec F S2x256x256 .f32 := broadcastInDim S2x256x256 ![0, 1, 2] bcast_S2x1x256_S2x256x256_0_1_2 main_v5920
  let main_v5932 : FVec F S2x256x256 .f32 := mulf main_v5925 main_v5931
  let main_v5933 : FVec F S2x256x256 .f32 := subf main_v5919 main_v5932
  let main_v5934 : FVec F S2x256x256 .f32 := select main_v5930 main_v5933 main_v5919
  let main_c_936 : IVec S_ 32 := constantI S_ 32 49#32
  let main_v5935 : IVec S2x256x256 32 := broadcastInDim S2x256x256 ![] bcast_S_S2x256x256 main_c_936
  let main_v5936 : IVec S2x256x256 1 := cmpi .eq main_v4988 main_v5935
  let main_v5937 : IVec S2x256x256 1 := andi main_v5927 main_v5936
  let main_v5938 : FVec F S2x256x256 .f32 := select main_v5937 main_v5925 main_v5934
  let main_v5939 : FVec F S2x1x256 .f32 := (extractStridedSlice S2x1x256 ![0, 50, 0] · slices_S2x256x256_S2x1x256_0_50_0) main_v5938
  let main_v5940 : FVec F S2x256x1 .f32 := (extractStridedSlice S2x256x1 ![0, 0, 50] · slices_S2x256x256_S2x256x1_0_0_50) main_v5938
  let main_v5941 : FVec F S2x1x1 .f32 := (extractStridedSlice S2x1x1 ![0, 0, 50] · slices_S2x1x256_S2x1x1_0_0_50) main_v5939
  let main_v5942 : FVec F S2x256x1 .f32 := broadcastInDim S2x256x1 ![0, 1, 2] bcast_S2x1x1_S2x256x1_0_1_2 main_v5941
  let main_v5943 : FVec F S2x256x1 .f32 := Host.divf main_v5940 main_v5942
  let main_v5944 : FVec F S2x256x256 .f32 := broadcastInDim S2x256x256 ![0, 1, 2] bcast_S2x256x1_S2x256x256_0_1_2 main_v5943
  let main_c_937 : IVec S_ 32 := constantI S_ 32 50#32
  let main_v5945 : IVec S2x256x256 32 := broadcastInDim S2x256x256 ![] bcast_S_S2x256x256 main_c_937
  let main_v5946 : IVec S2x256x256 1 := cmpi .sgt main_v4987 main_v5945
  let main_c_938 : IVec S_ 32 := constantI S_ 32 50#32
  let main_v5947 : IVec S2x256x256 32 := broadcastInDim S2x256x256 ![] bcast_S_S2x256x256 main_c_938
  fn_part287 (F := F) main_arg0 main_v8 main_v4875 main_v4987 main_v4988 main_v5938 main_v5939 main_v5944 main_v5946 main_v5947

def fn_part285 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5900 : FVec F S2x256x256 .f32) (main_v5901 : FVec F S2x1x256 .f32) (main_v5906 : FVec F S2x256x256 .f32) (main_c_931 : IVec S_ 32) : IVec S9x256x256 1 × IVec S8x256x256 1 :=
  let main_v5907 : IVec S2x256x256 32 := broadcastInDim S2x256x256 ![] bcast_S_S2x256x256 main_c_931
  let main_v5908 : IVec S2x256x256 1 := cmpi .sgt main_v4987 main_v5907
  let main_c_932 : IVec S_ 32 := constantI S_ 32 48#32
  let main_v5909 : IVec S2x256x256 32 := broadcastInDim S2x256x256 ![] bcast_S_S2x256x256 main_c_932
  let main_v5910 : IVec S2x256x256 1 := cmpi .sgt main_v4988 main_v5909
  let main_v5911 : IVec S2x256x256 1 := andi main_v5908 main_v5910
  let main_v5912 : FVec F S2x256x256 .f32 := broadcastInDim S2x256x256 ![0, 1, 2] bcast_S2x1x256_S2x256x256_0_1_2 main_v5901
  let main_v5913 : FVec F S2x256x256 .f32 := mulf main_v5906 main_v5912
  let main_v5914 : FVec F S2x256x256 .f32 := subf main_v5900 main_v5913
  let main_v5915 : FVec F S2x256x256 .f32 := select main_v5911 main_v5914 main_v5900
  let main_c_933 : IVec S_ 32 := constantI S_ 32 48#32
  let main_v5916 : IVec S2x256x256 32 := broadcastInDim S2x256x256 ![] bcast_S_S2x256x256 main_c_933
  let main_v5917 : IVec S2x256x256 1 := cmpi .eq main_v4988 main_v5916
  let main_v5918 : IVec S2x256x256 1 := andi main_v5908 main_v5917
  let main_v5919 : FVec F S2x256x256 .f32 := select main_v5918 main_v5906 main_v5915
  let main_v5920 : FVec F S2x1x256 .f32 := (extractStridedSlice S2x1x256 ![0, 49, 0] · slices_S2x256x256_S2x1x256_0_49_0) main_v5919
  let main_v5921 : FVec F S2x256x1 .f32 := (extractStridedSlice S2x256x1 ![0, 0, 49] · slices_S2x256x256_S2x256x1_0_0_49) main_v5919
  let main_v5922 : FVec F S2x1x1 .f32 := (extractStridedSlice S2x1x1 ![0, 0, 49] · slices_S2x1x256_S2x1x1_0_0_49) main_v5920
  let main_v5923 : FVec F S2x256x1 .f32 := broadcastInDim S2x256x1 ![0, 1, 2] bcast_S2x1x1_S2x256x1_0_1_2 main_v5922
  let main_v5924 : FVec F S2x256x1 .f32 := Host.divf main_v5921 main_v5923
  let main_v5925 : FVec F S2x256x256 .f32 := broadcastInDim S2x256x256 ![0, 1, 2] bcast_S2x256x1_S2x256x256_0_1_2 main_v5924
  let main_c_934 : IVec S_ 32 := constantI S_ 32 49#32
  let main_v5926 : IVec S2x256x256 32 := broadcastInDim S2x256x256 ![] bcast_S_S2x256x256 main_c_934
  let main_v5927 : IVec S2x256x256 1 := cmpi .sgt main_v4987 main_v5926
  fn_part286 (F := F) main_arg0 main_v8 main_v4875 main_v4987 main_v4988 main_v5919 main_v5920 main_v5925 main_v5927

def fn_part284 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5881 : FVec F S2x256x256 .f32) (main_v5882 : FVec F S2x1x256 .f32) (main_v5886 : FVec F S2x256x1 .f32) : IVec S9x256x256 1 × IVec S8x256x256 1 :=
  let main_v5887 : FVec F S2x256x256 .f32 := broadcastInDim S2x256x256 ![0, 1, 2] bcast_S2x256x1_S2x256x256_0_1_2 main_v5886
  let main_c_928 : IVec S_ 32 := constantI S_ 32 47#32
  let main_v5888 : IVec S2x256x256 32 := broadcastInDim S2x256x256 ![] bcast_S_S2x256x256 main_c_928
  let main_v5889 : IVec S2x256x256 1 := cmpi .sgt main_v4987 main_v5888
  let main_c_929 : IVec S_ 32 := constantI S_ 32 47#32
  let main_v5890 : IVec S2x256x256 32 := broadcastInDim S2x256x256 ![] bcast_S_S2x256x256 main_c_929
  let main_v5891 : IVec S2x256x256 1 := cmpi .sgt main_v4988 main_v5890
  let main_v5892 : IVec S2x256x256 1 := andi main_v5889 main_v5891
  let main_v5893 : FVec F S2x256x256 .f32 := broadcastInDim S2x256x256 ![0, 1, 2] bcast_S2x1x256_S2x256x256_0_1_2 main_v5882
  let main_v5894 : FVec F S2x256x256 .f32 := mulf main_v5887 main_v5893
  let main_v5895 : FVec F S2x256x256 .f32 := subf main_v5881 main_v5894
  let main_v5896 : FVec F S2x256x256 .f32 := select main_v5892 main_v5895 main_v5881
  let main_c_930 : IVec S_ 32 := constantI S_ 32 47#32
  let main_v5897 : IVec S2x256x256 32 := broadcastInDim S2x256x256 ![] bcast_S_S2x256x256 main_c_930
  let main_v5898 : IVec S2x256x256 1 := cmpi .eq main_v4988 main_v5897
  let main_v5899 : IVec S2x256x256 1 := andi main_v5889 main_v5898
  let main_v5900 : FVec F S2x256x256 .f32 := select main_v5899 main_v5887 main_v5896
  let main_v5901 : FVec F S2x1x256 .f32 := (extractStridedSlice S2x1x256 ![0, 48, 0] · slices_S2x256x256_S2x1x256_0_48_0) main_v5900
  let main_v5902 : FVec F S2x256x1 .f32 := (extractStridedSlice S2x256x1 ![0, 0, 48] · slices_S2x256x256_S2x256x1_0_0_48) main_v5900
  let main_v5903 : FVec F S2x1x1 .f32 := (extractStridedSlice S2x1x1 ![0, 0, 48] · slices_S2x1x256_S2x1x1_0_0_48) main_v5901
  let main_v5904 : FVec F S2x256x1 .f32 := broadcastInDim S2x256x1 ![0, 1, 2] bcast_S2x1x1_S2x256x1_0_1_2 main_v5903
  let main_v5905 : FVec F S2x256x1 .f32 := Host.divf main_v5902 main_v5904
  let main_v5906 : FVec F S2x256x256 .f32 := broadcastInDim S2x256x256 ![0, 1, 2] bcast_S2x256x1_S2x256x256_0_1_2 main_v5905
  let main_c_931 : IVec S_ 32 := constantI S_ 32 48#32
  fn_part285 (F := F) main_arg0 main_v8 main_v4875 main_v4987 main_v4988 main_v5900 main_v5901 main_v5906 main_c_931

def fn_part283 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5862 : FVec F S2x256x256 .f32) (main_v5863 : FVec F S2x1x256 .f32) (main_v5864 : FVec F S2x256x1 .f32) (main_v5865 : FVec F S2x1x1 .f32) : IVec S9x256x256 1 × IVec S8x256x256 1 :=
  let main_v5866 : FVec F S2x256x1 .f32 := broadcastInDim S2x256x1 ![0, 1, 2] bcast_S2x1x1_S2x256x1_0_1_2 main_v5865
  let main_v5867 : FVec F S2x256x1 .f32 := Host.divf main_v5864 main_v5866
  let main_v5868 : FVec F S2x256x256 .f32 := broadcastInDim S2x256x256 ![0, 1, 2] bcast_S2x256x1_S2x256x256_0_1_2 main_v5867
  let main_c_925 : IVec S_ 32 := constantI S_ 32 46#32
  let main_v5869 : IVec S2x256x256 32 := broadcastInDim S2x256x256 ![] bcast_S_S2x256x256 main_c_925
  let main_v5870 : IVec S2x256x256 1 := cmpi .sgt main_v4987 main_v5869
  let main_c_926 : IVec S_ 32 := constantI S_ 32 46#32
  let main_v5871 : IVec S2x256x256 32 := broadcastInDim S2x256x256 ![] bcast_S_S2x256x256 main_c_926
  let main_v5872 : IVec S2x256x256 1 := cmpi .sgt main_v4988 main_v5871
  let main_v5873 : IVec S2x256x256 1 := andi main_v5870 main_v5872
  let main_v5874 : FVec F S2x256x256 .f32 := broadcastInDim S2x256x256 ![0, 1, 2] bcast_S2x1x256_S2x256x256_0_1_2 main_v5863
  let main_v5875 : FVec F S2x256x256 .f32 := mulf main_v5868 main_v5874
  let main_v5876 : FVec F S2x256x256 .f32 := subf main_v5862 main_v5875
  let main_v5877 : FVec F S2x256x256 .f32 := select main_v5873 main_v5876 main_v5862
  let main_c_927 : IVec S_ 32 := constantI S_ 32 46#32
  let main_v5878 : IVec S2x256x256 32 := broadcastInDim S2x256x256 ![] bcast_S_S2x256x256 main_c_927
  let main_v5879 : IVec S2x256x256 1 := cmpi .eq main_v4988 main_v5878
  let main_v5880 : IVec S2x256x256 1 := andi main_v5870 main_v5879
  let main_v5881 : FVec F S2x256x256 .f32 := select main_v5880 main_v5868 main_v5877
  let main_v5882 : FVec F S2x1x256 .f32 := (extractStridedSlice S2x1x256 ![0, 47, 0] · slices_S2x256x256_S2x1x256_0_47_0) main_v5881
  let main_v5883 : FVec F S2x256x1 .f32 := (extractStridedSlice S2x256x1 ![0, 0, 47] · slices_S2x256x256_S2x256x1_0_0_47) main_v5881
  let main_v5884 : FVec F S2x1x1 .f32 := (extractStridedSlice S2x1x1 ![0, 0, 47] · slices_S2x1x256_S2x1x1_0_0_47) main_v5882
  let main_v5885 : FVec F S2x256x1 .f32 := broadcastInDim S2x256x1 ![0, 1, 2] bcast_S2x1x1_S2x256x1_0_1_2 main_v5884
  let main_v5886 : FVec F S2x256x1 .f32 := Host.divf main_v5883 main_v5885
  fn_part284 (F := F) main_arg0 main_v8 main_v4875 main_v4987 main_v4988 main_v5881 main_v5882 main_v5886

def fn_part282 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5843 : FVec F S2x256x256 .f32) (main_v5844 : FVec F S2x1x256 .f32) : IVec S9x256x256 1 × IVec S8x256x256 1 :=
  let main_v5845 : FVec F S2x256x1 .f32 := (extractStridedSlice S2x256x1 ![0, 0, 45] · slices_S2x256x256_S2x256x1_0_0_45) main_v5843
  let main_v5846 : FVec F S2x1x1 .f32 := (extractStridedSlice S2x1x1 ![0, 0, 45] · slices_S2x1x256_S2x1x1_0_0_45) main_v5844
  let main_v5847 : FVec F S2x256x1 .f32 := broadcastInDim S2x256x1 ![0, 1, 2] bcast_S2x1x1_S2x256x1_0_1_2 main_v5846
  let main_v5848 : FVec F S2x256x1 .f32 := Host.divf main_v5845 main_v5847
  let main_v5849 : FVec F S2x256x256 .f32 := broadcastInDim S2x256x256 ![0, 1, 2] bcast_S2x256x1_S2x256x256_0_1_2 main_v5848
  let main_c_922 : IVec S_ 32 := constantI S_ 32 45#32
  let main_v5850 : IVec S2x256x256 32 := broadcastInDim S2x256x256 ![] bcast_S_S2x256x256 main_c_922
  let main_v5851 : IVec S2x256x256 1 := cmpi .sgt main_v4987 main_v5850
  let main_c_923 : IVec S_ 32 := constantI S_ 32 45#32
  let main_v5852 : IVec S2x256x256 32 := broadcastInDim S2x256x256 ![] bcast_S_S2x256x256 main_c_923
  let main_v5853 : IVec S2x256x256 1 := cmpi .sgt main_v4988 main_v5852
  let main_v5854 : IVec S2x256x256 1 := andi main_v5851 main_v5853
  let main_v5855 : FVec F S2x256x256 .f32 := broadcastInDim S2x256x256 ![0, 1, 2] bcast_S2x1x256_S2x256x256_0_1_2 main_v5844
  let main_v5856 : FVec F S2x256x256 .f32 := mulf main_v5849 main_v5855
  let main_v5857 : FVec F S2x256x256 .f32 := subf main_v5843 main_v5856
  let main_v5858 : FVec F S2x256x256 .f32 := select main_v5854 main_v5857 main_v5843
  let main_c_924 : IVec S_ 32 := constantI S_ 32 45#32
  let main_v5859 : IVec S2x256x256 32 := broadcastInDim S2x256x256 ![] bcast_S_S2x256x256 main_c_924
  let main_v5860 : IVec S2x256x256 1 := cmpi .eq main_v4988 main_v5859
  let main_v5861 : IVec S2x256x256 1 := andi main_v5851 main_v5860
  let main_v5862 : FVec F S2x256x256 .f32 := select main_v5861 main_v5849 main_v5858
  let main_v5863 : FVec F S2x1x256 .f32 := (extractStridedSlice S2x1x256 ![0, 46, 0] · slices_S2x256x256_S2x1x256_0_46_0) main_v5862
  let main_v5864 : FVec F S2x256x1 .f32 := (extractStridedSlice S2x256x1 ![0, 0, 46] · slices_S2x256x256_S2x256x1_0_0_46) main_v5862
  let main_v5865 : FVec F S2x1x1 .f32 := (extractStridedSlice S2x1x1 ![0, 0, 46] · slices_S2x1x256_S2x1x1_0_0_46) main_v5863
  fn_part283 (F := F) main_arg0 main_v8 main_v4875 main_v4987 main_v4988 main_v5862 main_v5863 main_v5864 main_v5865

def fn_part281 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5811 : FVec F S2x256x256 .f32) (main_v5820 : FVec F S2x256x256 .f32) (main_v5823 : IVec S2x256x256 1) : IVec S9x256x256 1 × IVec S8x256x256 1 :=
  let main_v5824 : FVec F S2x256x256 .f32 := select main_v5823 main_v5811 main_v5820
  let main_v5825 : FVec F S2x1x256 .f32 := (extractStridedSlice S2x1x256 ![0, 44, 0] · slices_S2x256x256_S2x1x256_0_44_0) main_v5824
  let main_v5826 : FVec F S2x256x1 .f32 := (extractStridedSlice S2x256x1 ![0, 0, 44] · slices_S2x256x256_S2x256x1_0_0_44) main_v5824
  let main_v5827 : FVec F S2x1x1 .f32 := (extractStridedSlice S2x1x1 ![0, 0, 44] · slices_S2x1x256_S2x1x1_0_0_44) main_v5825
  let main_v5828 : FVec F S2x256x1 .f32 := broadcastInDim S2x256x1 ![0, 1, 2] bcast_S2x1x1_S2x256x1_0_1_2 main_v5827
  let main_v5829 : FVec F S2x256x1 .f32 := Host.divf main_v5826 main_v5828
  let main_v5830 : FVec F S2x256x256 .f32 := broadcastInDim S2x256x256 ![0, 1, 2] bcast_S2x256x1_S2x256x256_0_1_2 main_v5829
  let main_c_919 : IVec S_ 32 := constantI S_ 32 44#32
  let main_v5831 : IVec S2x256x256 32 := broadcastInDim S2x256x256 ![] bcast_S_S2x256x256 main_c_919
  let main_v5832 : IVec S2x256x256 1 := cmpi .sgt main_v4987 main_v5831
  let main_c_920 : IVec S_ 32 := constantI S_ 32 44#32
  let main_v5833 : IVec S2x256x256 32 := broadcastInDim S2x256x256 ![] bcast_S_S2x256x256 main_c_920
  let main_v5834 : IVec S2x256x256 1 := cmpi .sgt main_v4988 main_v5833
  let main_v5835 : IVec S2x256x256 1 := andi main_v5832 main_v5834
  let main_v5836 : FVec F S2x256x256 .f32 := broadcastInDim S2x256x256 ![0, 1, 2] bcast_S2x1x256_S2x256x256_0_1_2 main_v5825
  let main_v5837 : FVec F S2x256x256 .f32 := mulf main_v5830 main_v5836
  let main_v5838 : FVec F S2x256x256 .f32 := subf main_v5824 main_v5837
  let main_v5839 : FVec F S2x256x256 .f32 := select main_v5835 main_v5838 main_v5824
  let main_c_921 : IVec S_ 32 := constantI S_ 32 44#32
  let main_v5840 : IVec S2x256x256 32 := broadcastInDim S2x256x256 ![] bcast_S_S2x256x256 main_c_921
  let main_v5841 : IVec S2x256x256 1 := cmpi .eq main_v4988 main_v5840
  let main_v5842 : IVec S2x256x256 1 := andi main_v5832 main_v5841
  let main_v5843 : FVec F S2x256x256 .f32 := select main_v5842 main_v5830 main_v5839
  let main_v5844 : FVec F S2x1x256 .f32 := (extractStridedSlice S2x1x256 ![0, 45, 0] · slices_S2x256x256_S2x1x256_0_45_0) main_v5843
  fn_part282 (F := F) main_arg0 main_v8 main_v4875 main_v4987 main_v4988 main_v5843 main_v5844

def fn_part280 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5792 : FVec F S2x256x256 .f32) (main_v5794 : IVec S2x256x256 1) (main_v5801 : FVec F S2x256x256 .f32) (main_v5802 : IVec S2x256x256 32) : IVec S9x256x256 1 × IVec S8x256x256 1 :=
  let main_v5803 : IVec S2x256x256 1 := cmpi .eq main_v4988 main_v5802
  let main_v5804 : IVec S2x256x256 1 := andi main_v5794 main_v5803
  let main_v5805 : FVec F S2x256x256 .f32 := select main_v5804 main_v5792 main_v5801
  let main_v5806 : FVec F S2x1x256 .f32 := (extractStridedSlice S2x1x256 ![0, 43, 0] · slices_S2x256x256_S2x1x256_0_43_0) main_v5805
  let main_v5807 : FVec F S2x256x1 .f32 := (extractStridedSlice S2x256x1 ![0, 0, 43] · slices_S2x256x256_S2x256x1_0_0_43) main_v5805
  let main_v5808 : FVec F S2x1x1 .f32 := (extractStridedSlice S2x1x1 ![0, 0, 43] · slices_S2x1x256_S2x1x1_0_0_43) main_v5806
  let main_v5809 : FVec F S2x256x1 .f32 := broadcastInDim S2x256x1 ![0, 1, 2] bcast_S2x1x1_S2x256x1_0_1_2 main_v5808
  let main_v5810 : FVec F S2x256x1 .f32 := Host.divf main_v5807 main_v5809
  let main_v5811 : FVec F S2x256x256 .f32 := broadcastInDim S2x256x256 ![0, 1, 2] bcast_S2x256x1_S2x256x256_0_1_2 main_v5810
  let main_c_916 : IVec S_ 32 := constantI S_ 32 43#32
  let main_v5812 : IVec S2x256x256 32 := broadcastInDim S2x256x256 ![] bcast_S_S2x256x256 main_c_916
  let main_v5813 : IVec S2x256x256 1 := cmpi .sgt main_v4987 main_v5812
  let main_c_917 : IVec S_ 32 := constantI S_ 32 43#32
  let main_v5814 : IVec S2x256x256 32 := broadcastInDim S2x256x256 ![] bcast_S_S2x256x256 main_c_917
  let main_v5815 : IVec S2x256x256 1 := cmpi .sgt main_v4988 main_v5814
  let main_v5816 : IVec S2x256x256 1 := andi main_v5813 main_v5815
  let main_v5817 : FVec F S2x256x256 .f32 := broadcastInDim S2x256x256 ![0, 1, 2] bcast_S2x1x256_S2x256x256_0_1_2 main_v5806
  let main_v5818 : FVec F S2x256x256 .f32 := mulf main_v5811 main_v5817
  let main_v5819 : FVec F S2x256x256 .f32 := subf main_v5805 main_v5818
  let main_v5820 : FVec F S2x256x256 .f32 := select main_v5816 main_v5819 main_v5805
  let main_c_918 : IVec S_ 32 := constantI S_ 32 43#32
  let main_v5821 : IVec S2x256x256 32 := broadcastInDim S2x256x256 ![] bcast_S_S2x256x256 main_c_918
  let main_v5822 : IVec S2x256x256 1 := cmpi .eq main_v4988 main_v5821
  let main_v5823 : IVec S2x256x256 1 := andi main_v5813 main_v5822
  fn_part281 (F := F) main_arg0 main_v8 main_v4875 main_v4987 main_v4988 main_v5811 main_v5820 main_v5823

def fn_part279 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5773 : FVec F S2x256x256 .f32) (main_v5775 : IVec S2x256x256 1) (main_v5782 : FVec F S2x256x256 .f32) : IVec S9x256x256 1 × IVec S8x256x256 1 :=
  let main_c_912 : IVec S_ 32 := constantI S_ 32 41#32
  let main_v5783 : IVec S2x256x256 32 := broadcastInDim S2x256x256 ![] bcast_S_S2x256x256 main_c_912
  let main_v5784 : IVec S2x256x256 1 := cmpi .eq main_v4988 main_v5783
  let main_v5785 : IVec S2x256x256 1 := andi main_v5775 main_v5784
  let main_v5786 : FVec F S2x256x256 .f32 := select main_v5785 main_v5773 main_v5782
  let main_v5787 : FVec F S2x1x256 .f32 := (extractStridedSlice S2x1x256 ![0, 42, 0] · slices_S2x256x256_S2x1x256_0_42_0) main_v5786
  let main_v5788 : FVec F S2x256x1 .f32 := (extractStridedSlice S2x256x1 ![0, 0, 42] · slices_S2x256x256_S2x256x1_0_0_42) main_v5786
  let main_v5789 : FVec F S2x1x1 .f32 := (extractStridedSlice S2x1x1 ![0, 0, 42] · slices_S2x1x256_S2x1x1_0_0_42) main_v5787
  let main_v5790 : FVec F S2x256x1 .f32 := broadcastInDim S2x256x1 ![0, 1, 2] bcast_S2x1x1_S2x256x1_0_1_2 main_v5789
  let main_v5791 : FVec F S2x256x1 .f32 := Host.divf main_v5788 main_v5790
  let main_v5792 : FVec F S2x256x256 .f32 := broadcastInDim S2x256x256 ![0, 1, 2] bcast_S2x256x1_S2x256x256_0_1_2 main_v5791
  let main_c_913 : IVec S_ 32 := constantI S_ 32 42#32
  let main_v5793 : IVec S2x256x256 32 := broadcastInDim S2x256x256 ![] bcast_S_S2x256x256 main_c_913
  let main_v5794 : IVec S2x256x256 1 := cmpi .sgt main_v4987 main_v5793
  let main_c_914 : IVec S_ 32 := constantI S_ 32 42#32
  let main_v5795 : IVec S2x256x256 32 := broadcastInDim S2x256x256 ![] bcast_S_S2x256x256 main_c_914
  let main_v5796 : IVec S2x256x256 1 := cmpi .sgt main_v4988 main_v5795
  let main_v5797 : IVec S2x256x256 1 := andi main_v5794 main_v5796
  let main_v5798 : FVec F S2x256x256 .f32 := broadcastInDim S2x256x256 ![0, 1, 2] bcast_S2x1x256_S2x256x256_0_1_2 main_v5787
  let main_v5799 : FVec F S2x256x256 .f32 := mulf main_v5792 main_v5798
  let main_v5800 : FVec F S2x256x256 .f32 := subf main_v5786 main_v5799
  let main_v5801 : FVec F S2x256x256 .f32 := select main_v5797 main_v5800 main_v5786
  let main_c_915 : IVec S_ 32 := constantI S_ 32 42#32
  let main_v5802 : IVec S2x256x256 32 := broadcastInDim S2x256x256 ![] bcast_S_S2x256x256 main_c_915
  fn_part280 (F := F) main_arg0 main_v8 main_v4875 main_v4987 main_v4988 main_v5792 main_v5794 main_v5801 main_v5802

def fn_part278 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5748 : FVec F S2x256x256 .f32) (main_v5754 : FVec F S2x256x256 .f32) (main_v5756 : IVec S2x256x256 1) (main_v5759 : IVec S2x256x256 1) (main_v5761 : FVec F S2x256x256 .f32) : IVec S9x256x256 1 × IVec S8x256x256 1 :=
  let main_v5762 : FVec F S2x256x256 .f32 := subf main_v5748 main_v5761
  let main_v5763 : FVec F S2x256x256 .f32 := select main_v5759 main_v5762 main_v5748
  let main_c_909 : IVec S_ 32 := constantI S_ 32 40#32
  let main_v5764 : IVec S2x256x256 32 := broadcastInDim S2x256x256 ![] bcast_S_S2x256x256 main_c_909
  let main_v5765 : IVec S2x256x256 1 := cmpi .eq main_v4988 main_v5764
  let main_v5766 : IVec S2x256x256 1 := andi main_v5756 main_v5765
  let main_v5767 : FVec F S2x256x256 .f32 := select main_v5766 main_v5754 main_v5763
  let main_v5768 : FVec F S2x1x256 .f32 := (extractStridedSlice S2x1x256 ![0, 41, 0] · slices_S2x256x256_S2x1x256_0_41_0) main_v5767
  let main_v5769 : FVec F S2x256x1 .f32 := (extractStridedSlice S2x256x1 ![0, 0, 41] · slices_S2x256x256_S2x256x1_0_0_41) main_v5767
  let main_v5770 : FVec F S2x1x1 .f32 := (extractStridedSlice S2x1x1 ![0, 0, 41] · slices_S2x1x256_S2x1x1_0_0_41) main_v5768
  let main_v5771 : FVec F S2x256x1 .f32 := broadcastInDim S2x256x1 ![0, 1, 2] bcast_S2x1x1_S2x256x1_0_1_2 main_v5770
  let main_v5772 : FVec F S2x256x1 .f32 := Host.divf main_v5769 main_v5771
  let main_v5773 : FVec F S2x256x256 .f32 := broadcastInDim S2x256x256 ![0, 1, 2] bcast_S2x256x1_S2x256x256_0_1_2 main_v5772
  let main_c_910 : IVec S_ 32 := constantI S_ 32 41#32
  let main_v5774 : IVec S2x256x256 32 := broadcastInDim S2x256x256 ![] bcast_S_S2x256x256 main_c_910
  let main_v5775 : IVec S2x256x256 1 := cmpi .sgt main_v4987 main_v5774
  let main_c_911 : IVec S_ 32 := constantI S_ 32 41#32
  let main_v5776 : IVec S2x256x256 32 := broadcastInDim S2x256x256 ![] bcast_S_S2x256x256 main_c_911
  let main_v5777 : IVec S2x256x256 1 := cmpi .sgt main_v4988 main_v5776
  let main_v5778 : IVec S2x256x256 1 := andi main_v5775 main_v5777
  let main_v5779 : FVec F S2x256x256 .f32 := broadcastInDim S2x256x256 ![0, 1, 2] bcast_S2x1x256_S2x256x256_0_1_2 main_v5768
  let main_v5780 : FVec F S2x256x256 .f32 := mulf main_v5773 main_v5779
  let main_v5781 : FVec F S2x256x256 .f32 := subf main_v5767 main_v5780
  let main_v5782 : FVec F S2x256x256 .f32 := select main_v5778 main_v5781 main_v5767
  fn_part279 (F := F) main_arg0 main_v8 main_v4875 main_v4987 main_v4988 main_v5773 main_v5775 main_v5782

def fn_part277 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5729 : FVec F S2x256x256 .f32) (main_v5730 : FVec F S2x1x256 .f32) (main_v5735 : FVec F S2x256x256 .f32) (main_v5737 : IVec S2x256x256 1) (main_v5740 : IVec S2x256x256 1) : IVec S9x256x256 1 × IVec S8x256x256 1 :=
  let main_v5741 : FVec F S2x256x256 .f32 := broadcastInDim S2x256x256 ![0, 1, 2] bcast_S2x1x256_S2x256x256_0_1_2 main_v5730
  let main_v5742 : FVec F S2x256x256 .f32 := mulf main_v5735 main_v5741
  let main_v5743 : FVec F S2x256x256 .f32 := subf main_v5729 main_v5742
  let main_v5744 : FVec F S2x256x256 .f32 := select main_v5740 main_v5743 main_v5729
  let main_c_906 : IVec S_ 32 := constantI S_ 32 39#32
  let main_v5745 : IVec S2x256x256 32 := broadcastInDim S2x256x256 ![] bcast_S_S2x256x256 main_c_906
  let main_v5746 : IVec S2x256x256 1 := cmpi .eq main_v4988 main_v5745
  let main_v5747 : IVec S2x256x256 1 := andi main_v5737 main_v5746
  let main_v5748 : FVec F S2x256x256 .f32 := select main_v5747 main_v5735 main_v5744
  let main_v5749 : FVec F S2x1x256 .f32 := (extractStridedSlice S2x1x256 ![0, 40, 0] · slices_S2x256x256_S2x1x256_0_40_0) main_v5748
  let main_v5750 : FVec F S2x256x1 .f32 := (extractStridedSlice S2x256x1 ![0, 0, 40] · slices_S2x256x256_S2x256x1_0_0_40) main_v5748
  let main_v5751 : FVec F S2x1x1 .f32 := (extractStridedSlice S2x1x1 ![0, 0, 40] · slices_S2x1x256_S2x1x1_0_0_40) main_v5749
  let main_v5752 : FVec F S2x256x1 .f32 := broadcastInDim S2x256x1 ![0, 1, 2] bcast_S2x1x1_S2x256x1_0_1_2 main_v5751
  let main_v5753 : FVec F S2x256x1 .f32 := Host.divf main_v5750 main_v5752
  let main_v5754 : FVec F S2x256x256 .f32 := broadcastInDim S2x256x256 ![0, 1, 2] bcast_S2x256x1_S2x256x256_0_1_2 main_v5753
  let main_c_907 : IVec S_ 32 := constantI S_ 32 40#32
  let main_v5755 : IVec S2x256x256 32 := broadcastInDim S2x256x256 ![] bcast_S_S2x256x256 main_c_907
  let main_v5756 : IVec S2x256x256 1 := cmpi .sgt main_v4987 main_v5755
  let main_c_908 : IVec S_ 32 := constantI S_ 32 40#32
  let main_v5757 : IVec S2x256x256 32 := broadcastInDim S2x256x256 ![] bcast_S_S2x256x256 main_c_908
  let main_v5758 : IVec S2x256x256 1 := cmpi .sgt main_v4988 main_v5757
  let main_v5759 : IVec S2x256x256 1 := andi main_v5756 main_v5758
  let main_v5760 : FVec F S2x256x256 .f32 := broadcastInDim S2x256x256 ![0, 1, 2] bcast_S2x1x256_S2x256x256_0_1_2 main_v5749
  let main_v5761 : FVec F S2x256x256 .f32 := mulf main_v5754 main_v5760
  fn_part278 (F := F) main_arg0 main_v8 main_v4875 main_v4987 main_v4988 main_v5748 main_v5754 main_v5756 main_v5759 main_v5761

def fn_part276 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5710 : FVec F S2x256x256 .f32) (main_v5711 : FVec F S2x1x256 .f32) (main_v5716 : FVec F S2x256x256 .f32) (main_v5718 : IVec S2x256x256 1) (main_v5719 : IVec S2x256x256 32) : IVec S9x256x256 1 × IVec S8x256x256 1 :=
  let main_v5720 : IVec S2x256x256 1 := cmpi .sgt main_v4988 main_v5719
  let main_v5721 : IVec S2x256x256 1 := andi main_v5718 main_v5720
  let main_v5722 : FVec F S2x256x256 .f32 := broadcastInDim S2x256x256 ![0, 1, 2] bcast_S2x1x256_S2x256x256_0_1_2 main_v5711
  let main_v5723 : FVec F S2x256x256 .f32 := mulf main_v5716 main_v5722
  let main_v5724 : FVec F S2x256x256 .f32 := subf main_v5710 main_v5723
  let main_v5725 : FVec F S2x256x256 .f32 := select main_v5721 main_v5724 main_v5710
  let main_c_903 : IVec S_ 32 := constantI S_ 32 38#32
  let main_v5726 : IVec S2x256x256 32 := broadcastInDim S2x256x256 ![] bcast_S_S2x256x256 main_c_903
  let main_v5727 : IVec S2x256x256 1 := cmpi .eq main_v4988 main_v5726
  let main_v5728 : IVec S2x256x256 1 := andi main_v5718 main_v5727
  let main_v5729 : FVec F S2x256x256 .f32 := select main_v5728 main_v5716 main_v5725
  let main_v5730 : FVec F S2x1x256 .f32 := (extractStridedSlice S2x1x256 ![0, 39, 0] · slices_S2x256x256_S2x1x256_0_39_0) main_v5729
  let main_v5731 : FVec F S2x256x1 .f32 := (extractStridedSlice S2x256x1 ![0, 0, 39] · slices_S2x256x256_S2x256x1_0_0_39) main_v5729
  let main_v5732 : FVec F S2x1x1 .f32 := (extractStridedSlice S2x1x1 ![0, 0, 39] · slices_S2x1x256_S2x1x1_0_0_39) main_v5730
  let main_v5733 : FVec F S2x256x1 .f32 := broadcastInDim S2x256x1 ![0, 1, 2] bcast_S2x1x1_S2x256x1_0_1_2 main_v5732
  let main_v5734 : FVec F S2x256x1 .f32 := Host.divf main_v5731 main_v5733
  let main_v5735 : FVec F S2x256x256 .f32 := broadcastInDim S2x256x256 ![0, 1, 2] bcast_S2x256x1_S2x256x256_0_1_2 main_v5734
  let main_c_904 : IVec S_ 32 := constantI S_ 32 39#32
  let main_v5736 : IVec S2x256x256 32 := broadcastInDim S2x256x256 ![] bcast_S_S2x256x256 main_c_904
  let main_v5737 : IVec S2x256x256 1 := cmpi .sgt main_v4987 main_v5736
  let main_c_905 : IVec S_ 32 := constantI S_ 32 39#32
  let main_v5738 : IVec S2x256x256 32 := broadcastInDim S2x256x256 ![] bcast_S_S2x256x256 main_c_905
  let main_v5739 : IVec S2x256x256 1 := cmpi .sgt main_v4988 main_v5738
  let main_v5740 : IVec S2x256x256 1 := andi main_v5737 main_v5739
  fn_part277 (F := F) main_arg0 main_v8 main_v4875 main_v4987 main_v4988 main_v5729 main_v5730 main_v5735 main_v5737 main_v5740

def fn_part275 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5691 : FVec F S2x256x256 .f32) (main_v5692 : FVec F S2x1x256 .f32) (main_v5697 : FVec F S2x256x256 .f32) (main_v5699 : IVec S2x256x256 1) : IVec S9x256x256 1 × IVec S8x256x256 1 :=
  let main_c_899 : IVec S_ 32 := constantI S_ 32 37#32
  let main_v5700 : IVec S2x256x256 32 := broadcastInDim S2x256x256 ![] bcast_S_S2x256x256 main_c_899
  let main_v5701 : IVec S2x256x256 1 := cmpi .sgt main_v4988 main_v5700
  let main_v5702 : IVec S2x256x256 1 := andi main_v5699 main_v5701
  let main_v5703 : FVec F S2x256x256 .f32 := broadcastInDim S2x256x256 ![0, 1, 2] bcast_S2x1x256_S2x256x256_0_1_2 main_v5692
  let main_v5704 : FVec F S2x256x256 .f32 := mulf main_v5697 main_v5703
  let main_v5705 : FVec F S2x256x256 .f32 := subf main_v5691 main_v5704
  let main_v5706 : FVec F S2x256x256 .f32 := select main_v5702 main_v5705 main_v5691
  let main_c_900 : IVec S_ 32 := constantI S_ 32 37#32
  let main_v5707 : IVec S2x256x256 32 := broadcastInDim S2x256x256 ![] bcast_S_S2x256x256 main_c_900
  let main_v5708 : IVec S2x256x256 1 := cmpi .eq main_v4988 main_v5707
  let main_v5709 : IVec S2x256x256 1 := andi main_v5699 main_v5708
  let main_v5710 : FVec F S2x256x256 .f32 := select main_v5709 main_v5697 main_v5706
  let main_v5711 : FVec F S2x1x256 .f32 := (extractStridedSlice S2x1x256 ![0, 38, 0] · slices_S2x256x256_S2x1x256_0_38_0) main_v5710
  let main_v5712 : FVec F S2x256x1 .f32 := (extractStridedSlice S2x256x1 ![0, 0, 38] · slices_S2x256x256_S2x256x1_0_0_38) main_v5710
  let main_v5713 : FVec F S2x1x1 .f32 := (extractStridedSlice S2x1x1 ![0, 0, 38] · slices_S2x1x256_S2x1x1_0_0_38) main_v5711
  let main_v5714 : FVec F S2x256x1 .f32 := broadcastInDim S2x256x1 ![0, 1, 2] bcast_S2x1x1_S2x256x1_0_1_2 main_v5713
  let main_v5715 : FVec F S2x256x1 .f32 := Host.divf main_v5712 main_v5714
  let main_v5716 : FVec F S2x256x256 .f32 := broadcastInDim S2x256x256 ![0, 1, 2] bcast_S2x256x1_S2x256x256_0_1_2 main_v5715
  let main_c_901 : IVec S_ 32 := constantI S_ 32 38#32
  let main_v5717 : IVec S2x256x256 32 := broadcastInDim S2x256x256 ![] bcast_S_S2x256x256 main_c_901
  let main_v5718 : IVec S2x256x256 1 := cmpi .sgt main_v4987 main_v5717
  let main_c_902 : IVec S_ 32 := constantI S_ 32 38#32
  let main_v5719 : IVec S2x256x256 32 := broadcastInDim S2x256x256 ![] bcast_S_S2x256x256 main_c_902
  fn_part276 (F := F) main_arg0 main_v8 main_v4875 main_v4987 main_v4988 main_v5710 main_v5711 main_v5716 main_v5718 main_v5719

def fn_part274 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5672 : FVec F S2x256x256 .f32) (main_v5673 : FVec F S2x1x256 .f32) (main_v5678 : FVec F S2x256x256 .f32) (main_c_895 : IVec S_ 32) : IVec S9x256x256 1 × IVec S8x256x256 1 :=
  let main_v5679 : IVec S2x256x256 32 := broadcastInDim S2x256x256 ![] bcast_S_S2x256x256 main_c_895
  let main_v5680 : IVec S2x256x256 1 := cmpi .sgt main_v4987 main_v5679
  let main_c_896 : IVec S_ 32 := constantI S_ 32 36#32
  let main_v5681 : IVec S2x256x256 32 := broadcastInDim S2x256x256 ![] bcast_S_S2x256x256 main_c_896
  let main_v5682 : IVec S2x256x256 1 := cmpi .sgt main_v4988 main_v5681
  let main_v5683 : IVec S2x256x256 1 := andi main_v5680 main_v5682
  let main_v5684 : FVec F S2x256x256 .f32 := broadcastInDim S2x256x256 ![0, 1, 2] bcast_S2x1x256_S2x256x256_0_1_2 main_v5673
  let main_v5685 : FVec F S2x256x256 .f32 := mulf main_v5678 main_v5684
  let main_v5686 : FVec F S2x256x256 .f32 := subf main_v5672 main_v5685
  let main_v5687 : FVec F S2x256x256 .f32 := select main_v5683 main_v5686 main_v5672
  let main_c_897 : IVec S_ 32 := constantI S_ 32 36#32
  let main_v5688 : IVec S2x256x256 32 := broadcastInDim S2x256x256 ![] bcast_S_S2x256x256 main_c_897
  let main_v5689 : IVec S2x256x256 1 := cmpi .eq main_v4988 main_v5688
  let main_v5690 : IVec S2x256x256 1 := andi main_v5680 main_v5689
  let main_v5691 : FVec F S2x256x256 .f32 := select main_v5690 main_v5678 main_v5687
  let main_v5692 : FVec F S2x1x256 .f32 := (extractStridedSlice S2x1x256 ![0, 37, 0] · slices_S2x256x256_S2x1x256_0_37_0) main_v5691
  let main_v5693 : FVec F S2x256x1 .f32 := (extractStridedSlice S2x256x1 ![0, 0, 37] · slices_S2x256x256_S2x256x1_0_0_37) main_v5691
  let main_v5694 : FVec F S2x1x1 .f32 := (extractStridedSlice S2x1x1 ![0, 0, 37] · slices_S2x1x256_S2x1x1_0_0_37) main_v5692
  let main_v5695 : FVec F S2x256x1 .f32 := broadcastInDim S2x256x1 ![0, 1, 2] bcast_S2x1x1_S2x256x1_0_1_2 main_v5694
  let main_v5696 : FVec F S2x256x1 .f32 := Host.divf main_v5693 main_v5695
  let main_v5697 : FVec F S2x256x256 .f32 := broadcastInDim S2x256x256 ![0, 1, 2] bcast_S2x256x1_S2x256x256_0_1_2 main_v5696
  let main_c_898 : IVec S_ 32 := constantI S_ 32 37#32
  let main_v5698 : IVec S2x256x256 32 := broadcastInDim S2x256x256 ![] bcast_S_S2x256x256 main_c_898
  let main_v5699 : IVec S2x256x256 1 := cmpi .sgt main_v4987 main_v5698
  fn_part275 (F := F) main_arg0 main_v8 main_v4875 main_v4987 main_v4988 main_v5691 main_v5692 main_v5697 main_v5699

def fn_part273 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5653 : FVec F S2x256x256 .f32) (main_v5654 : FVec F S2x1x256 .f32) (main_v5658 : FVec F S2x256x1 .f32) : IVec S9x256x256 1 × IVec S8x256x256 1 :=
  let main_v5659 : FVec F S2x256x256 .f32 := broadcastInDim S2x256x256 ![0, 1, 2] bcast_S2x256x1_S2x256x256_0_1_2 main_v5658
  let main_c_892 : IVec S_ 32 := constantI S_ 32 35#32
  let main_v5660 : IVec S2x256x256 32 := broadcastInDim S2x256x256 ![] bcast_S_S2x256x256 main_c_892
  let main_v5661 : IVec S2x256x256 1 := cmpi .sgt main_v4987 main_v5660
  let main_c_893 : IVec S_ 32 := constantI S_ 32 35#32
  let main_v5662 : IVec S2x256x256 32 := broadcastInDim S2x256x256 ![] bcast_S_S2x256x256 main_c_893
  let main_v5663 : IVec S2x256x256 1 := cmpi .sgt main_v4988 main_v5662
  let main_v5664 : IVec S2x256x256 1 := andi main_v5661 main_v5663
  let main_v5665 : FVec F S2x256x256 .f32 := broadcastInDim S2x256x256 ![0, 1, 2] bcast_S2x1x256_S2x256x256_0_1_2 main_v5654
  let main_v5666 : FVec F S2x256x256 .f32 := mulf main_v5659 main_v5665
  let main_v5667 : FVec F S2x256x256 .f32 := subf main_v5653 main_v5666
  let main_v5668 : FVec F S2x256x256 .f32 := select main_v5664 main_v5667 main_v5653
  let main_c_894 : IVec S_ 32 := constantI S_ 32 35#32
  let main_v5669 : IVec S2x256x256 32 := broadcastInDim S2x256x256 ![] bcast_S_S2x256x256 main_c_894
  let main_v5670 : IVec S2x256x256 1 := cmpi .eq main_v4988 main_v5669
  let main_v5671 : IVec S2x256x256 1 := andi main_v5661 main_v5670
  let main_v5672 : FVec F S2x256x256 .f32 := select main_v5671 main_v5659 main_v5668
  let main_v5673 : FVec F S2x1x256 .f32 := (extractStridedSlice S2x1x256 ![0, 36, 0] · slices_S2x256x256_S2x1x256_0_36_0) main_v5672
  let main_v5674 : FVec F S2x256x1 .f32 := (extractStridedSlice S2x256x1 ![0, 0, 36] · slices_S2x256x256_S2x256x1_0_0_36) main_v5672
  let main_v5675 : FVec F S2x1x1 .f32 := (extractStridedSlice S2x1x1 ![0, 0, 36] · slices_S2x1x256_S2x1x1_0_0_36) main_v5673
  let main_v5676 : FVec F S2x256x1 .f32 := broadcastInDim S2x256x1 ![0, 1, 2] bcast_S2x1x1_S2x256x1_0_1_2 main_v5675
  let main_v5677 : FVec F S2x256x1 .f32 := Host.divf main_v5674 main_v5676
  let main_v5678 : FVec F S2x256x256 .f32 := broadcastInDim S2x256x256 ![0, 1, 2] bcast_S2x256x1_S2x256x256_0_1_2 main_v5677
  let main_c_895 : IVec S_ 32 := constantI S_ 32 36#32
  fn_part274 (F := F) main_arg0 main_v8 main_v4875 main_v4987 main_v4988 main_v5672 main_v5673 main_v5678 main_c_895

def fn_part272 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5634 : FVec F S2x256x256 .f32) (main_v5635 : FVec F S2x1x256 .f32) (main_v5636 : FVec F S2x256x1 .f32) (main_v5637 : FVec F S2x1x1 .f32) : IVec S9x256x256 1 × IVec S8x256x256 1 :=
  let main_v5638 : FVec F S2x256x1 .f32 := broadcastInDim S2x256x1 ![0, 1, 2] bcast_S2x1x1_S2x256x1_0_1_2 main_v5637
  let main_v5639 : FVec F S2x256x1 .f32 := Host.divf main_v5636 main_v5638
  let main_v5640 : FVec F S2x256x256 .f32 := broadcastInDim S2x256x256 ![0, 1, 2] bcast_S2x256x1_S2x256x256_0_1_2 main_v5639
  let main_c_889 : IVec S_ 32 := constantI S_ 32 34#32
  let main_v5641 : IVec S2x256x256 32 := broadcastInDim S2x256x256 ![] bcast_S_S2x256x256 main_c_889
  let main_v5642 : IVec S2x256x256 1 := cmpi .sgt main_v4987 main_v5641
  let main_c_890 : IVec S_ 32 := constantI S_ 32 34#32
  let main_v5643 : IVec S2x256x256 32 := broadcastInDim S2x256x256 ![] bcast_S_S2x256x256 main_c_890
  let main_v5644 : IVec S2x256x256 1 := cmpi .sgt main_v4988 main_v5643
  let main_v5645 : IVec S2x256x256 1 := andi main_v5642 main_v5644
  let main_v5646 : FVec F S2x256x256 .f32 := broadcastInDim S2x256x256 ![0, 1, 2] bcast_S2x1x256_S2x256x256_0_1_2 main_v5635
  let main_v5647 : FVec F S2x256x256 .f32 := mulf main_v5640 main_v5646
  let main_v5648 : FVec F S2x256x256 .f32 := subf main_v5634 main_v5647
  let main_v5649 : FVec F S2x256x256 .f32 := select main_v5645 main_v5648 main_v5634
  let main_c_891 : IVec S_ 32 := constantI S_ 32 34#32
  let main_v5650 : IVec S2x256x256 32 := broadcastInDim S2x256x256 ![] bcast_S_S2x256x256 main_c_891
  let main_v5651 : IVec S2x256x256 1 := cmpi .eq main_v4988 main_v5650
  let main_v5652 : IVec S2x256x256 1 := andi main_v5642 main_v5651
  let main_v5653 : FVec F S2x256x256 .f32 := select main_v5652 main_v5640 main_v5649
  let main_v5654 : FVec F S2x1x256 .f32 := (extractStridedSlice S2x1x256 ![0, 35, 0] · slices_S2x256x256_S2x1x256_0_35_0) main_v5653
  let main_v5655 : FVec F S2x256x1 .f32 := (extractStridedSlice S2x256x1 ![0, 0, 35] · slices_S2x256x256_S2x256x1_0_0_35) main_v5653
  let main_v5656 : FVec F S2x1x1 .f32 := (extractStridedSlice S2x1x1 ![0, 0, 35] · slices_S2x1x256_S2x1x1_0_0_35) main_v5654
  let main_v5657 : FVec F S2x256x1 .f32 := broadcastInDim S2x256x1 ![0, 1, 2] bcast_S2x1x1_S2x256x1_0_1_2 main_v5656
  let main_v5658 : FVec F S2x256x1 .f32 := Host.divf main_v5655 main_v5657
  fn_part273 (F := F) main_arg0 main_v8 main_v4875 main_v4987 main_v4988 main_v5653 main_v5654 main_v5658

def fn_part271 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5615 : FVec F S2x256x256 .f32) (main_v5616 : FVec F S2x1x256 .f32) : IVec S9x256x256 1 × IVec S8x256x256 1 :=
  let main_v5617 : FVec F S2x256x1 .f32 := (extractStridedSlice S2x256x1 ![0, 0, 33] · slices_S2x256x256_S2x256x1_0_0_33) main_v5615
  let main_v5618 : FVec F S2x1x1 .f32 := (extractStridedSlice S2x1x1 ![0, 0, 33] · slices_S2x1x256_S2x1x1_0_0_33) main_v5616
  let main_v5619 : FVec F S2x256x1 .f32 := broadcastInDim S2x256x1 ![0, 1, 2] bcast_S2x1x1_S2x256x1_0_1_2 main_v5618
  let main_v5620 : FVec F S2x256x1 .f32 := Host.divf main_v5617 main_v5619
  let main_v5621 : FVec F S2x256x256 .f32 := broadcastInDim S2x256x256 ![0, 1, 2] bcast_S2x256x1_S2x256x256_0_1_2 main_v5620
  let main_c_886 : IVec S_ 32 := constantI S_ 32 33#32
  let main_v5622 : IVec S2x256x256 32 := broadcastInDim S2x256x256 ![] bcast_S_S2x256x256 main_c_886
  let main_v5623 : IVec S2x256x256 1 := cmpi .sgt main_v4987 main_v5622
  let main_c_887 : IVec S_ 32 := constantI S_ 32 33#32
  let main_v5624 : IVec S2x256x256 32 := broadcastInDim S2x256x256 ![] bcast_S_S2x256x256 main_c_887
  let main_v5625 : IVec S2x256x256 1 := cmpi .sgt main_v4988 main_v5624
  let main_v5626 : IVec S2x256x256 1 := andi main_v5623 main_v5625
  let main_v5627 : FVec F S2x256x256 .f32 := broadcastInDim S2x256x256 ![0, 1, 2] bcast_S2x1x256_S2x256x256_0_1_2 main_v5616
  let main_v5628 : FVec F S2x256x256 .f32 := mulf main_v5621 main_v5627
  let main_v5629 : FVec F S2x256x256 .f32 := subf main_v5615 main_v5628
  let main_v5630 : FVec F S2x256x256 .f32 := select main_v5626 main_v5629 main_v5615
  let main_c_888 : IVec S_ 32 := constantI S_ 32 33#32
  let main_v5631 : IVec S2x256x256 32 := broadcastInDim S2x256x256 ![] bcast_S_S2x256x256 main_c_888
  let main_v5632 : IVec S2x256x256 1 := cmpi .eq main_v4988 main_v5631
  let main_v5633 : IVec S2x256x256 1 := andi main_v5623 main_v5632
  let main_v5634 : FVec F S2x256x256 .f32 := select main_v5633 main_v5621 main_v5630
  let main_v5635 : FVec F S2x1x256 .f32 := (extractStridedSlice S2x1x256 ![0, 34, 0] · slices_S2x256x256_S2x1x256_0_34_0) main_v5634
  let main_v5636 : FVec F S2x256x1 .f32 := (extractStridedSlice S2x256x1 ![0, 0, 34] · slices_S2x256x256_S2x256x1_0_0_34) main_v5634
  let main_v5637 : FVec F S2x1x1 .f32 := (extractStridedSlice S2x1x1 ![0, 0, 34] · slices_S2x1x256_S2x1x1_0_0_34) main_v5635
  fn_part272 (F := F) main_arg0 main_v8 main_v4875 main_v4987 main_v4988 main_v5634 main_v5635 main_v5636 main_v5637

def fn_part270 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5583 : FVec F S2x256x256 .f32) (main_v5592 : FVec F S2x256x256 .f32) (main_v5595 : IVec S2x256x256 1) : IVec S9x256x256 1 × IVec S8x256x256 1 :=
  let main_v5596 : FVec F S2x256x256 .f32 := select main_v5595 main_v5583 main_v5592
  let main_v5597 : FVec F S2x1x256 .f32 := (extractStridedSlice S2x1x256 ![0, 32, 0] · slices_S2x256x256_S2x1x256_0_32_0) main_v5596
  let main_v5598 : FVec F S2x256x1 .f32 := (extractStridedSlice S2x256x1 ![0, 0, 32] · slices_S2x256x256_S2x256x1_0_0_32) main_v5596
  let main_v5599 : FVec F S2x1x1 .f32 := (extractStridedSlice S2x1x1 ![0, 0, 32] · slices_S2x1x256_S2x1x1_0_0_32) main_v5597
  let main_v5600 : FVec F S2x256x1 .f32 := broadcastInDim S2x256x1 ![0, 1, 2] bcast_S2x1x1_S2x256x1_0_1_2 main_v5599
  let main_v5601 : FVec F S2x256x1 .f32 := Host.divf main_v5598 main_v5600
  let main_v5602 : FVec F S2x256x256 .f32 := broadcastInDim S2x256x256 ![0, 1, 2] bcast_S2x256x1_S2x256x256_0_1_2 main_v5601
  let main_c_883 : IVec S_ 32 := constantI S_ 32 32#32
  let main_v5603 : IVec S2x256x256 32 := broadcastInDim S2x256x256 ![] bcast_S_S2x256x256 main_c_883
  let main_v5604 : IVec S2x256x256 1 := cmpi .sgt main_v4987 main_v5603
  let main_c_884 : IVec S_ 32 := constantI S_ 32 32#32
  let main_v5605 : IVec S2x256x256 32 := broadcastInDim S2x256x256 ![] bcast_S_S2x256x256 main_c_884
  let main_v5606 : IVec S2x256x256 1 := cmpi .sgt main_v4988 main_v5605
  let main_v5607 : IVec S2x256x256 1 := andi main_v5604 main_v5606
  let main_v5608 : FVec F S2x256x256 .f32 := broadcastInDim S2x256x256 ![0, 1, 2] bcast_S2x1x256_S2x256x256_0_1_2 main_v5597
  let main_v5609 : FVec F S2x256x256 .f32 := mulf main_v5602 main_v5608
  let main_v5610 : FVec F S2x256x256 .f32 := subf main_v5596 main_v5609
  let main_v5611 : FVec F S2x256x256 .f32 := select main_v5607 main_v5610 main_v5596
  let main_c_885 : IVec S_ 32 := constantI S_ 32 32#32
  let main_v5612 : IVec S2x256x256 32 := broadcastInDim S2x256x256 ![] bcast_S_S2x256x256 main_c_885
  let main_v5613 : IVec S2x256x256 1 := cmpi .eq main_v4988 main_v5612
  let main_v5614 : IVec S2x256x256 1 := andi main_v5604 main_v5613
  let main_v5615 : FVec F S2x256x256 .f32 := select main_v5614 main_v5602 main_v5611
  let main_v5616 : FVec F S2x1x256 .f32 := (extractStridedSlice S2x1x256 ![0, 33, 0] · slices_S2x256x256_S2x1x256_0_33_0) main_v5615
  fn_part271 (F := F) main_arg0 main_v8 main_v4875 main_v4987 main_v4988 main_v5615 main_v5616

def fn_part269 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5564 : FVec F S2x256x256 .f32) (main_v5566 : IVec S2x256x256 1) (main_v5573 : FVec F S2x256x256 .f32) (main_v5574 : IVec S2x256x256 32) : IVec S9x256x256 1 × IVec S8x256x256 1 :=
  let main_v5575 : IVec S2x256x256 1 := cmpi .eq main_v4988 main_v5574
  let main_v5576 : IVec S2x256x256 1 := andi main_v5566 main_v5575
  let main_v5577 : FVec F S2x256x256 .f32 := select main_v5576 main_v5564 main_v5573
  let main_v5578 : FVec F S2x1x256 .f32 := (extractStridedSlice S2x1x256 ![0, 31, 0] · slices_S2x256x256_S2x1x256_0_31_0) main_v5577
  let main_v5579 : FVec F S2x256x1 .f32 := (extractStridedSlice S2x256x1 ![0, 0, 31] · slices_S2x256x256_S2x256x1_0_0_31) main_v5577
  let main_v5580 : FVec F S2x1x1 .f32 := (extractStridedSlice S2x1x1 ![0, 0, 31] · slices_S2x1x256_S2x1x1_0_0_31) main_v5578
  let main_v5581 : FVec F S2x256x1 .f32 := broadcastInDim S2x256x1 ![0, 1, 2] bcast_S2x1x1_S2x256x1_0_1_2 main_v5580
  let main_v5582 : FVec F S2x256x1 .f32 := Host.divf main_v5579 main_v5581
  let main_v5583 : FVec F S2x256x256 .f32 := broadcastInDim S2x256x256 ![0, 1, 2] bcast_S2x256x1_S2x256x256_0_1_2 main_v5582
  let main_c_880 : IVec S_ 32 := constantI S_ 32 31#32
  let main_v5584 : IVec S2x256x256 32 := broadcastInDim S2x256x256 ![] bcast_S_S2x256x256 main_c_880
  let main_v5585 : IVec S2x256x256 1 := cmpi .sgt main_v4987 main_v5584
  let main_c_881 : IVec S_ 32 := constantI S_ 32 31#32
  let main_v5586 : IVec S2x256x256 32 := broadcastInDim S2x256x256 ![] bcast_S_S2x256x256 main_c_881
  let main_v5587 : IVec S2x256x256 1 := cmpi .sgt main_v4988 main_v5586
  let main_v5588 : IVec S2x256x256 1 := andi main_v5585 main_v5587
  let main_v5589 : FVec F S2x256x256 .f32 := broadcastInDim S2x256x256 ![0, 1, 2] bcast_S2x1x256_S2x256x256_0_1_2 main_v5578
  let main_v5590 : FVec F S2x256x256 .f32 := mulf main_v5583 main_v5589
  let main_v5591 : FVec F S2x256x256 .f32 := subf main_v5577 main_v5590
  let main_v5592 : FVec F S2x256x256 .f32 := select main_v5588 main_v5591 main_v5577
  let main_c_882 : IVec S_ 32 := constantI S_ 32 31#32
  let main_v5593 : IVec S2x256x256 32 := broadcastInDim S2x256x256 ![] bcast_S_S2x256x256 main_c_882
  let main_v5594 : IVec S2x256x256 1 := cmpi .eq main_v4988 main_v5593
  let main_v5595 : IVec S2x256x256 1 := andi main_v5585 main_v5594
  fn_part270 (F := F) main_arg0 main_v8 main_v4875 main_v4987 main_v4988 main_v5583 main_v5592 main_v5595

def fn_part268 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5545 : FVec F S2x256x256 .f32) (main_v5547 : IVec S2x256x256 1) (main_v5554 : FVec F S2x256x256 .f32) : IVec S9x256x256 1 × IVec S8x256x256 1 :=
  let main_c_876 : IVec S_ 32 := constantI S_ 32 29#32
  let main_v5555 : IVec S2x256x256 32 := broadcastInDim S2x256x256 ![] bcast_S_S2x256x256 main_c_876
  let main_v5556 : IVec S2x256x256 1 := cmpi .eq main_v4988 main_v5555
  let main_v5557 : IVec S2x256x256 1 := andi main_v5547 main_v5556
  let main_v5558 : FVec F S2x256x256 .f32 := select main_v5557 main_v5545 main_v5554
  let main_v5559 : FVec F S2x1x256 .f32 := (extractStridedSlice S2x1x256 ![0, 30, 0] · slices_S2x256x256_S2x1x256_0_30_0) main_v5558
  let main_v5560 : FVec F S2x256x1 .f32 := (extractStridedSlice S2x256x1 ![0, 0, 30] · slices_S2x256x256_S2x256x1_0_0_30) main_v5558
  let main_v5561 : FVec F S2x1x1 .f32 := (extractStridedSlice S2x1x1 ![0, 0, 30] · slices_S2x1x256_S2x1x1_0_0_30) main_v5559
  let main_v5562 : FVec F S2x256x1 .f32 := broadcastInDim S2x256x1 ![0, 1, 2] bcast_S2x1x1_S2x256x1_0_1_2 main_v5561
  let main_v5563 : FVec F S2x256x1 .f32 := Host.divf main_v5560 main_v5562
  let main_v5564 : FVec F S2x256x256 .f32 := broadcastInDim S2x256x256 ![0, 1, 2] bcast_S2x256x1_S2x256x256_0_1_2 main_v5563
  let main_c_877 : IVec S_ 32 := constantI S_ 32 30#32
  let main_v5565 : IVec S2x256x256 32 := broadcastInDim S2x256x256 ![] bcast_S_S2x256x256 main_c_877
  let main_v5566 : IVec S2x256x256 1 := cmpi .sgt main_v4987 main_v5565
  let main_c_878 : IVec S_ 32 := constantI S_ 32 30#32
  let main_v5567 : IVec S2x256x256 32 := broadcastInDim S2x256x256 ![] bcast_S_S2x256x256 main_c_878
  let main_v5568 : IVec S2x256x256 1 := cmpi .sgt main_v4988 main_v5567
  let main_v5569 : IVec S2x256x256 1 := andi main_v5566 main_v5568
  let main_v5570 : FVec F S2x256x256 .f32 := broadcastInDim S2x256x256 ![0, 1, 2] bcast_S2x1x256_S2x256x256_0_1_2 main_v5559
  let main_v5571 : FVec F S2x256x256 .f32 := mulf main_v5564 main_v5570
  let main_v5572 : FVec F S2x256x256 .f32 := subf main_v5558 main_v5571
  let main_v5573 : FVec F S2x256x256 .f32 := select main_v5569 main_v5572 main_v5558
  let main_c_879 : IVec S_ 32 := constantI S_ 32 30#32
  let main_v5574 : IVec S2x256x256 32 := broadcastInDim S2x256x256 ![] bcast_S_S2x256x256 main_c_879
  fn_part269 (F := F) main_arg0 main_v8 main_v4875 main_v4987 main_v4988 main_v5564 main_v5566 main_v5573 main_v5574

def fn_part267 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5520 : FVec F S2x256x256 .f32) (main_v5526 : FVec F S2x256x256 .f32) (main_v5528 : IVec S2x256x256 1) (main_v5531 : IVec S2x256x256 1) (main_v5533 : FVec F S2x256x256 .f32) : IVec S9x256x256 1 × IVec S8x256x256 1 :=
  let main_v5534 : FVec F S2x256x256 .f32 := subf main_v5520 main_v5533
  let main_v5535 : FVec F S2x256x256 .f32 := select main_v5531 main_v5534 main_v5520
  let main_c_873 : IVec S_ 32 := constantI S_ 32 28#32
  let main_v5536 : IVec S2x256x256 32 := broadcastInDim S2x256x256 ![] bcast_S_S2x256x256 main_c_873
  let main_v5537 : IVec S2x256x256 1 := cmpi .eq main_v4988 main_v5536
  let main_v5538 : IVec S2x256x256 1 := andi main_v5528 main_v5537
  let main_v5539 : FVec F S2x256x256 .f32 := select main_v5538 main_v5526 main_v5535
  let main_v5540 : FVec F S2x1x256 .f32 := (extractStridedSlice S2x1x256 ![0, 29, 0] · slices_S2x256x256_S2x1x256_0_29_0) main_v5539
  let main_v5541 : FVec F S2x256x1 .f32 := (extractStridedSlice S2x256x1 ![0, 0, 29] · slices_S2x256x256_S2x256x1_0_0_29) main_v5539
  let main_v5542 : FVec F S2x1x1 .f32 := (extractStridedSlice S2x1x1 ![0, 0, 29] · slices_S2x1x256_S2x1x1_0_0_29) main_v5540
  let main_v5543 : FVec F S2x256x1 .f32 := broadcastInDim S2x256x1 ![0, 1, 2] bcast_S2x1x1_S2x256x1_0_1_2 main_v5542
  let main_v5544 : FVec F S2x256x1 .f32 := Host.divf main_v5541 main_v5543
  let main_v5545 : FVec F S2x256x256 .f32 := broadcastInDim S2x256x256 ![0, 1, 2] bcast_S2x256x1_S2x256x256_0_1_2 main_v5544
  let main_c_874 : IVec S_ 32 := constantI S_ 32 29#32
  let main_v5546 : IVec S2x256x256 32 := broadcastInDim S2x256x256 ![] bcast_S_S2x256x256 main_c_874
  let main_v5547 : IVec S2x256x256 1 := cmpi .sgt main_v4987 main_v5546
  let main_c_875 : IVec S_ 32 := constantI S_ 32 29#32
  let main_v5548 : IVec S2x256x256 32 := broadcastInDim S2x256x256 ![] bcast_S_S2x256x256 main_c_875
  let main_v5549 : IVec S2x256x256 1 := cmpi .sgt main_v4988 main_v5548
  let main_v5550 : IVec S2x256x256 1 := andi main_v5547 main_v5549
  let main_v5551 : FVec F S2x256x256 .f32 := broadcastInDim S2x256x256 ![0, 1, 2] bcast_S2x1x256_S2x256x256_0_1_2 main_v5540
  let main_v5552 : FVec F S2x256x256 .f32 := mulf main_v5545 main_v5551
  let main_v5553 : FVec F S2x256x256 .f32 := subf main_v5539 main_v5552
  let main_v5554 : FVec F S2x256x256 .f32 := select main_v5550 main_v5553 main_v5539
  fn_part268 (F := F) main_arg0 main_v8 main_v4875 main_v4987 main_v4988 main_v5545 main_v5547 main_v5554

def fn_part266 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5501 : FVec F S2x256x256 .f32) (main_v5502 : FVec F S2x1x256 .f32) (main_v5507 : FVec F S2x256x256 .f32) (main_v5509 : IVec S2x256x256 1) (main_v5512 : IVec S2x256x256 1) : IVec S9x256x256 1 × IVec S8x256x256 1 :=
  let main_v5513 : FVec F S2x256x256 .f32 := broadcastInDim S2x256x256 ![0, 1, 2] bcast_S2x1x256_S2x256x256_0_1_2 main_v5502
  let main_v5514 : FVec F S2x256x256 .f32 := mulf main_v5507 main_v5513
  let main_v5515 : FVec F S2x256x256 .f32 := subf main_v5501 main_v5514
  let main_v5516 : FVec F S2x256x256 .f32 := select main_v5512 main_v5515 main_v5501
  let main_c_870 : IVec S_ 32 := constantI S_ 32 27#32
  let main_v5517 : IVec S2x256x256 32 := broadcastInDim S2x256x256 ![] bcast_S_S2x256x256 main_c_870
  let main_v5518 : IVec S2x256x256 1 := cmpi .eq main_v4988 main_v5517
  let main_v5519 : IVec S2x256x256 1 := andi main_v5509 main_v5518
  let main_v5520 : FVec F S2x256x256 .f32 := select main_v5519 main_v5507 main_v5516
  let main_v5521 : FVec F S2x1x256 .f32 := (extractStridedSlice S2x1x256 ![0, 28, 0] · slices_S2x256x256_S2x1x256_0_28_0) main_v5520
  let main_v5522 : FVec F S2x256x1 .f32 := (extractStridedSlice S2x256x1 ![0, 0, 28] · slices_S2x256x256_S2x256x1_0_0_28) main_v5520
  let main_v5523 : FVec F S2x1x1 .f32 := (extractStridedSlice S2x1x1 ![0, 0, 28] · slices_S2x1x256_S2x1x1_0_0_28) main_v5521
  let main_v5524 : FVec F S2x256x1 .f32 := broadcastInDim S2x256x1 ![0, 1, 2] bcast_S2x1x1_S2x256x1_0_1_2 main_v5523
  let main_v5525 : FVec F S2x256x1 .f32 := Host.divf main_v5522 main_v5524
  let main_v5526 : FVec F S2x256x256 .f32 := broadcastInDim S2x256x256 ![0, 1, 2] bcast_S2x256x1_S2x256x256_0_1_2 main_v5525
  let main_c_871 : IVec S_ 32 := constantI S_ 32 28#32
  let main_v5527 : IVec S2x256x256 32 := broadcastInDim S2x256x256 ![] bcast_S_S2x256x256 main_c_871
  let main_v5528 : IVec S2x256x256 1 := cmpi .sgt main_v4987 main_v5527
  let main_c_872 : IVec S_ 32 := constantI S_ 32 28#32
  let main_v5529 : IVec S2x256x256 32 := broadcastInDim S2x256x256 ![] bcast_S_S2x256x256 main_c_872
  let main_v5530 : IVec S2x256x256 1 := cmpi .sgt main_v4988 main_v5529
  let main_v5531 : IVec S2x256x256 1 := andi main_v5528 main_v5530
  let main_v5532 : FVec F S2x256x256 .f32 := broadcastInDim S2x256x256 ![0, 1, 2] bcast_S2x1x256_S2x256x256_0_1_2 main_v5521
  let main_v5533 : FVec F S2x256x256 .f32 := mulf main_v5526 main_v5532
  fn_part267 (F := F) main_arg0 main_v8 main_v4875 main_v4987 main_v4988 main_v5520 main_v5526 main_v5528 main_v5531 main_v5533

def fn_part265 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5482 : FVec F S2x256x256 .f32) (main_v5483 : FVec F S2x1x256 .f32) (main_v5488 : FVec F S2x256x256 .f32) (main_v5490 : IVec S2x256x256 1) (main_v5491 : IVec S2x256x256 32) : IVec S9x256x256 1 × IVec S8x256x256 1 :=
  let main_v5492 : IVec S2x256x256 1 := cmpi .sgt main_v4988 main_v5491
  let main_v5493 : IVec S2x256x256 1 := andi main_v5490 main_v5492
  let main_v5494 : FVec F S2x256x256 .f32 := broadcastInDim S2x256x256 ![0, 1, 2] bcast_S2x1x256_S2x256x256_0_1_2 main_v5483
  let main_v5495 : FVec F S2x256x256 .f32 := mulf main_v5488 main_v5494
  let main_v5496 : FVec F S2x256x256 .f32 := subf main_v5482 main_v5495
  let main_v5497 : FVec F S2x256x256 .f32 := select main_v5493 main_v5496 main_v5482
  let main_c_867 : IVec S_ 32 := constantI S_ 32 26#32
  let main_v5498 : IVec S2x256x256 32 := broadcastInDim S2x256x256 ![] bcast_S_S2x256x256 main_c_867
  let main_v5499 : IVec S2x256x256 1 := cmpi .eq main_v4988 main_v5498
  let main_v5500 : IVec S2x256x256 1 := andi main_v5490 main_v5499
  let main_v5501 : FVec F S2x256x256 .f32 := select main_v5500 main_v5488 main_v5497
  let main_v5502 : FVec F S2x1x256 .f32 := (extractStridedSlice S2x1x256 ![0, 27, 0] · slices_S2x256x256_S2x1x256_0_27_0) main_v5501
  let main_v5503 : FVec F S2x256x1 .f32 := (extractStridedSlice S2x256x1 ![0, 0, 27] · slices_S2x256x256_S2x256x1_0_0_27) main_v5501
  let main_v5504 : FVec F S2x1x1 .f32 := (extractStridedSlice S2x1x1 ![0, 0, 27] · slices_S2x1x256_S2x1x1_0_0_27) main_v5502
  let main_v5505 : FVec F S2x256x1 .f32 := broadcastInDim S2x256x1 ![0, 1, 2] bcast_S2x1x1_S2x256x1_0_1_2 main_v5504
  let main_v5506 : FVec F S2x256x1 .f32 := Host.divf main_v5503 main_v5505
  let main_v5507 : FVec F S2x256x256 .f32 := broadcastInDim S2x256x256 ![0, 1, 2] bcast_S2x256x1_S2x256x256_0_1_2 main_v5506
  let main_c_868 : IVec S_ 32 := constantI S_ 32 27#32
  let main_v5508 : IVec S2x256x256 32 := broadcastInDim S2x256x256 ![] bcast_S_S2x256x256 main_c_868
  let main_v5509 : IVec S2x256x256 1 := cmpi .sgt main_v4987 main_v5508
  let main_c_869 : IVec S_ 32 := constantI S_ 32 27#32
  let main_v5510 : IVec S2x256x256 32 := broadcastInDim S2x256x256 ![] bcast_S_S2x256x256 main_c_869
  let main_v5511 : IVec S2x256x256 1 := cmpi .sgt main_v4988 main_v5510
  let main_v5512 : IVec S2x256x256 1 := andi main_v5509 main_v5511
  fn_part266 (F := F) main_arg0 main_v8 main_v4875 main_v4987 main_v4988 main_v5501 main_v5502 main_v5507 main_v5509 main_v5512

def fn_part264 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5463 : FVec F S2x256x256 .f32) (main_v5464 : FVec F S2x1x256 .f32) (main_v5469 : FVec F S2x256x256 .f32) (main_v5471 : IVec S2x256x256 1) : IVec S9x256x256 1 × IVec S8x256x256 1 :=
  let main_c_863 : IVec S_ 32 := constantI S_ 32 25#32
  let main_v5472 : IVec S2x256x256 32 := broadcastInDim S2x256x256 ![] bcast_S_S2x256x256 main_c_863
  let main_v5473 : IVec S2x256x256 1 := cmpi .sgt main_v4988 main_v5472
  let main_v5474 : IVec S2x256x256 1 := andi main_v5471 main_v5473
  let main_v5475 : FVec F S2x256x256 .f32 := broadcastInDim S2x256x256 ![0, 1, 2] bcast_S2x1x256_S2x256x256_0_1_2 main_v5464
  let main_v5476 : FVec F S2x256x256 .f32 := mulf main_v5469 main_v5475
  let main_v5477 : FVec F S2x256x256 .f32 := subf main_v5463 main_v5476
  let main_v5478 : FVec F S2x256x256 .f32 := select main_v5474 main_v5477 main_v5463
  let main_c_864 : IVec S_ 32 := constantI S_ 32 25#32
  let main_v5479 : IVec S2x256x256 32 := broadcastInDim S2x256x256 ![] bcast_S_S2x256x256 main_c_864
  let main_v5480 : IVec S2x256x256 1 := cmpi .eq main_v4988 main_v5479
  let main_v5481 : IVec S2x256x256 1 := andi main_v5471 main_v5480
  let main_v5482 : FVec F S2x256x256 .f32 := select main_v5481 main_v5469 main_v5478
  let main_v5483 : FVec F S2x1x256 .f32 := (extractStridedSlice S2x1x256 ![0, 26, 0] · slices_S2x256x256_S2x1x256_0_26_0) main_v5482
  let main_v5484 : FVec F S2x256x1 .f32 := (extractStridedSlice S2x256x1 ![0, 0, 26] · slices_S2x256x256_S2x256x1_0_0_26) main_v5482
  let main_v5485 : FVec F S2x1x1 .f32 := (extractStridedSlice S2x1x1 ![0, 0, 26] · slices_S2x1x256_S2x1x1_0_0_26) main_v5483
  let main_v5486 : FVec F S2x256x1 .f32 := broadcastInDim S2x256x1 ![0, 1, 2] bcast_S2x1x1_S2x256x1_0_1_2 main_v5485
  let main_v5487 : FVec F S2x256x1 .f32 := Host.divf main_v5484 main_v5486
  let main_v5488 : FVec F S2x256x256 .f32 := broadcastInDim S2x256x256 ![0, 1, 2] bcast_S2x256x1_S2x256x256_0_1_2 main_v5487
  let main_c_865 : IVec S_ 32 := constantI S_ 32 26#32
  let main_v5489 : IVec S2x256x256 32 := broadcastInDim S2x256x256 ![] bcast_S_S2x256x256 main_c_865
  let main_v5490 : IVec S2x256x256 1 := cmpi .sgt main_v4987 main_v5489
  let main_c_866 : IVec S_ 32 := constantI S_ 32 26#32
  let main_v5491 : IVec S2x256x256 32 := broadcastInDim S2x256x256 ![] bcast_S_S2x256x256 main_c_866
  fn_part265 (F := F) main_arg0 main_v8 main_v4875 main_v4987 main_v4988 main_v5482 main_v5483 main_v5488 main_v5490 main_v5491

def fn_part263 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5444 : FVec F S2x256x256 .f32) (main_v5445 : FVec F S2x1x256 .f32) (main_v5450 : FVec F S2x256x256 .f32) (main_c_859 : IVec S_ 32) : IVec S9x256x256 1 × IVec S8x256x256 1 :=
  let main_v5451 : IVec S2x256x256 32 := broadcastInDim S2x256x256 ![] bcast_S_S2x256x256 main_c_859
  let main_v5452 : IVec S2x256x256 1 := cmpi .sgt main_v4987 main_v5451
  let main_c_860 : IVec S_ 32 := constantI S_ 32 24#32
  let main_v5453 : IVec S2x256x256 32 := broadcastInDim S2x256x256 ![] bcast_S_S2x256x256 main_c_860
  let main_v5454 : IVec S2x256x256 1 := cmpi .sgt main_v4988 main_v5453
  let main_v5455 : IVec S2x256x256 1 := andi main_v5452 main_v5454
  let main_v5456 : FVec F S2x256x256 .f32 := broadcastInDim S2x256x256 ![0, 1, 2] bcast_S2x1x256_S2x256x256_0_1_2 main_v5445
  let main_v5457 : FVec F S2x256x256 .f32 := mulf main_v5450 main_v5456
  let main_v5458 : FVec F S2x256x256 .f32 := subf main_v5444 main_v5457
  let main_v5459 : FVec F S2x256x256 .f32 := select main_v5455 main_v5458 main_v5444
  let main_c_861 : IVec S_ 32 := constantI S_ 32 24#32
  let main_v5460 : IVec S2x256x256 32 := broadcastInDim S2x256x256 ![] bcast_S_S2x256x256 main_c_861
  let main_v5461 : IVec S2x256x256 1 := cmpi .eq main_v4988 main_v5460
  let main_v5462 : IVec S2x256x256 1 := andi main_v5452 main_v5461
  let main_v5463 : FVec F S2x256x256 .f32 := select main_v5462 main_v5450 main_v5459
  let main_v5464 : FVec F S2x1x256 .f32 := (extractStridedSlice S2x1x256 ![0, 25, 0] · slices_S2x256x256_S2x1x256_0_25_0) main_v5463
  let main_v5465 : FVec F S2x256x1 .f32 := (extractStridedSlice S2x256x1 ![0, 0, 25] · slices_S2x256x256_S2x256x1_0_0_25) main_v5463
  let main_v5466 : FVec F S2x1x1 .f32 := (extractStridedSlice S2x1x1 ![0, 0, 25] · slices_S2x1x256_S2x1x1_0_0_25) main_v5464
  let main_v5467 : FVec F S2x256x1 .f32 := broadcastInDim S2x256x1 ![0, 1, 2] bcast_S2x1x1_S2x256x1_0_1_2 main_v5466
  let main_v5468 : FVec F S2x256x1 .f32 := Host.divf main_v5465 main_v5467
  let main_v5469 : FVec F S2x256x256 .f32 := broadcastInDim S2x256x256 ![0, 1, 2] bcast_S2x256x1_S2x256x256_0_1_2 main_v5468
  let main_c_862 : IVec S_ 32 := constantI S_ 32 25#32
  let main_v5470 : IVec S2x256x256 32 := broadcastInDim S2x256x256 ![] bcast_S_S2x256x256 main_c_862
  let main_v5471 : IVec S2x256x256 1 := cmpi .sgt main_v4987 main_v5470
  fn_part264 (F := F) main_arg0 main_v8 main_v4875 main_v4987 main_v4988 main_v5463 main_v5464 main_v5469 main_v5471

def fn_part262 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5425 : FVec F S2x256x256 .f32) (main_v5426 : FVec F S2x1x256 .f32) (main_v5430 : FVec F S2x256x1 .f32) : IVec S9x256x256 1 × IVec S8x256x256 1 :=
  let main_v5431 : FVec F S2x256x256 .f32 := broadcastInDim S2x256x256 ![0, 1, 2] bcast_S2x256x1_S2x256x256_0_1_2 main_v5430
  let main_c_856 : IVec S_ 32 := constantI S_ 32 23#32
  let main_v5432 : IVec S2x256x256 32 := broadcastInDim S2x256x256 ![] bcast_S_S2x256x256 main_c_856
  let main_v5433 : IVec S2x256x256 1 := cmpi .sgt main_v4987 main_v5432
  let main_c_857 : IVec S_ 32 := constantI S_ 32 23#32
  let main_v5434 : IVec S2x256x256 32 := broadcastInDim S2x256x256 ![] bcast_S_S2x256x256 main_c_857
  let main_v5435 : IVec S2x256x256 1 := cmpi .sgt main_v4988 main_v5434
  let main_v5436 : IVec S2x256x256 1 := andi main_v5433 main_v5435
  let main_v5437 : FVec F S2x256x256 .f32 := broadcastInDim S2x256x256 ![0, 1, 2] bcast_S2x1x256_S2x256x256_0_1_2 main_v5426
  let main_v5438 : FVec F S2x256x256 .f32 := mulf main_v5431 main_v5437
  let main_v5439 : FVec F S2x256x256 .f32 := subf main_v5425 main_v5438
  let main_v5440 : FVec F S2x256x256 .f32 := select main_v5436 main_v5439 main_v5425
  let main_c_858 : IVec S_ 32 := constantI S_ 32 23#32
  let main_v5441 : IVec S2x256x256 32 := broadcastInDim S2x256x256 ![] bcast_S_S2x256x256 main_c_858
  let main_v5442 : IVec S2x256x256 1 := cmpi .eq main_v4988 main_v5441
  let main_v5443 : IVec S2x256x256 1 := andi main_v5433 main_v5442
  let main_v5444 : FVec F S2x256x256 .f32 := select main_v5443 main_v5431 main_v5440
  let main_v5445 : FVec F S2x1x256 .f32 := (extractStridedSlice S2x1x256 ![0, 24, 0] · slices_S2x256x256_S2x1x256_0_24_0) main_v5444
  let main_v5446 : FVec F S2x256x1 .f32 := (extractStridedSlice S2x256x1 ![0, 0, 24] · slices_S2x256x256_S2x256x1_0_0_24) main_v5444
  let main_v5447 : FVec F S2x1x1 .f32 := (extractStridedSlice S2x1x1 ![0, 0, 24] · slices_S2x1x256_S2x1x1_0_0_24) main_v5445
  let main_v5448 : FVec F S2x256x1 .f32 := broadcastInDim S2x256x1 ![0, 1, 2] bcast_S2x1x1_S2x256x1_0_1_2 main_v5447
  let main_v5449 : FVec F S2x256x1 .f32 := Host.divf main_v5446 main_v5448
  let main_v5450 : FVec F S2x256x256 .f32 := broadcastInDim S2x256x256 ![0, 1, 2] bcast_S2x256x1_S2x256x256_0_1_2 main_v5449
  let main_c_859 : IVec S_ 32 := constantI S_ 32 24#32
  fn_part263 (F := F) main_arg0 main_v8 main_v4875 main_v4987 main_v4988 main_v5444 main_v5445 main_v5450 main_c_859

def fn_part261 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5406 : FVec F S2x256x256 .f32) (main_v5407 : FVec F S2x1x256 .f32) (main_v5408 : FVec F S2x256x1 .f32) (main_v5409 : FVec F S2x1x1 .f32) : IVec S9x256x256 1 × IVec S8x256x256 1 :=
  let main_v5410 : FVec F S2x256x1 .f32 := broadcastInDim S2x256x1 ![0, 1, 2] bcast_S2x1x1_S2x256x1_0_1_2 main_v5409
  let main_v5411 : FVec F S2x256x1 .f32 := Host.divf main_v5408 main_v5410
  let main_v5412 : FVec F S2x256x256 .f32 := broadcastInDim S2x256x256 ![0, 1, 2] bcast_S2x256x1_S2x256x256_0_1_2 main_v5411
  let main_c_853 : IVec S_ 32 := constantI S_ 32 22#32
  let main_v5413 : IVec S2x256x256 32 := broadcastInDim S2x256x256 ![] bcast_S_S2x256x256 main_c_853
  let main_v5414 : IVec S2x256x256 1 := cmpi .sgt main_v4987 main_v5413
  let main_c_854 : IVec S_ 32 := constantI S_ 32 22#32
  let main_v5415 : IVec S2x256x256 32 := broadcastInDim S2x256x256 ![] bcast_S_S2x256x256 main_c_854
  let main_v5416 : IVec S2x256x256 1 := cmpi .sgt main_v4988 main_v5415
  let main_v5417 : IVec S2x256x256 1 := andi main_v5414 main_v5416
  let main_v5418 : FVec F S2x256x256 .f32 := broadcastInDim S2x256x256 ![0, 1, 2] bcast_S2x1x256_S2x256x256_0_1_2 main_v5407
  let main_v5419 : FVec F S2x256x256 .f32 := mulf main_v5412 main_v5418
  let main_v5420 : FVec F S2x256x256 .f32 := subf main_v5406 main_v5419
  let main_v5421 : FVec F S2x256x256 .f32 := select main_v5417 main_v5420 main_v5406
  let main_c_855 : IVec S_ 32 := constantI S_ 32 22#32
  let main_v5422 : IVec S2x256x256 32 := broadcastInDim S2x256x256 ![] bcast_S_S2x256x256 main_c_855
  let main_v5423 : IVec S2x256x256 1 := cmpi .eq main_v4988 main_v5422
  let main_v5424 : IVec S2x256x256 1 := andi main_v5414 main_v5423
  let main_v5425 : FVec F S2x256x256 .f32 := select main_v5424 main_v5412 main_v5421
  let main_v5426 : FVec F S2x1x256 .f32 := (extractStridedSlice S2x1x256 ![0, 23, 0] · slices_S2x256x256_S2x1x256_0_23_0) main_v5425
  let main_v5427 : FVec F S2x256x1 .f32 := (extractStridedSlice S2x256x1 ![0, 0, 23] · slices_S2x256x256_S2x256x1_0_0_23) main_v5425
  let main_v5428 : FVec F S2x1x1 .f32 := (extractStridedSlice S2x1x1 ![0, 0, 23] · slices_S2x1x256_S2x1x1_0_0_23) main_v5426
  let main_v5429 : FVec F S2x256x1 .f32 := broadcastInDim S2x256x1 ![0, 1, 2] bcast_S2x1x1_S2x256x1_0_1_2 main_v5428
  let main_v5430 : FVec F S2x256x1 .f32 := Host.divf main_v5427 main_v5429
  fn_part262 (F := F) main_arg0 main_v8 main_v4875 main_v4987 main_v4988 main_v5425 main_v5426 main_v5430

def fn_part260 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5387 : FVec F S2x256x256 .f32) (main_v5388 : FVec F S2x1x256 .f32) : IVec S9x256x256 1 × IVec S8x256x256 1 :=
  let main_v5389 : FVec F S2x256x1 .f32 := (extractStridedSlice S2x256x1 ![0, 0, 21] · slices_S2x256x256_S2x256x1_0_0_21) main_v5387
  let main_v5390 : FVec F S2x1x1 .f32 := (extractStridedSlice S2x1x1 ![0, 0, 21] · slices_S2x1x256_S2x1x1_0_0_21) main_v5388
  let main_v5391 : FVec F S2x256x1 .f32 := broadcastInDim S2x256x1 ![0, 1, 2] bcast_S2x1x1_S2x256x1_0_1_2 main_v5390
  let main_v5392 : FVec F S2x256x1 .f32 := Host.divf main_v5389 main_v5391
  let main_v5393 : FVec F S2x256x256 .f32 := broadcastInDim S2x256x256 ![0, 1, 2] bcast_S2x256x1_S2x256x256_0_1_2 main_v5392
  let main_c_850 : IVec S_ 32 := constantI S_ 32 21#32
  let main_v5394 : IVec S2x256x256 32 := broadcastInDim S2x256x256 ![] bcast_S_S2x256x256 main_c_850
  let main_v5395 : IVec S2x256x256 1 := cmpi .sgt main_v4987 main_v5394
  let main_c_851 : IVec S_ 32 := constantI S_ 32 21#32
  let main_v5396 : IVec S2x256x256 32 := broadcastInDim S2x256x256 ![] bcast_S_S2x256x256 main_c_851
  let main_v5397 : IVec S2x256x256 1 := cmpi .sgt main_v4988 main_v5396
  let main_v5398 : IVec S2x256x256 1 := andi main_v5395 main_v5397
  let main_v5399 : FVec F S2x256x256 .f32 := broadcastInDim S2x256x256 ![0, 1, 2] bcast_S2x1x256_S2x256x256_0_1_2 main_v5388
  let main_v5400 : FVec F S2x256x256 .f32 := mulf main_v5393 main_v5399
  let main_v5401 : FVec F S2x256x256 .f32 := subf main_v5387 main_v5400
  let main_v5402 : FVec F S2x256x256 .f32 := select main_v5398 main_v5401 main_v5387
  let main_c_852 : IVec S_ 32 := constantI S_ 32 21#32
  let main_v5403 : IVec S2x256x256 32 := broadcastInDim S2x256x256 ![] bcast_S_S2x256x256 main_c_852
  let main_v5404 : IVec S2x256x256 1 := cmpi .eq main_v4988 main_v5403
  let main_v5405 : IVec S2x256x256 1 := andi main_v5395 main_v5404
  let main_v5406 : FVec F S2x256x256 .f32 := select main_v5405 main_v5393 main_v5402
  let main_v5407 : FVec F S2x1x256 .f32 := (extractStridedSlice S2x1x256 ![0, 22, 0] · slices_S2x256x256_S2x1x256_0_22_0) main_v5406
  let main_v5408 : FVec F S2x256x1 .f32 := (extractStridedSlice S2x256x1 ![0, 0, 22] · slices_S2x256x256_S2x256x1_0_0_22) main_v5406
  let main_v5409 : FVec F S2x1x1 .f32 := (extractStridedSlice S2x1x1 ![0, 0, 22] · slices_S2x1x256_S2x1x1_0_0_22) main_v5407
  fn_part261 (F := F) main_arg0 main_v8 main_v4875 main_v4987 main_v4988 main_v5406 main_v5407 main_v5408 main_v5409

def fn_part259 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5355 : FVec F S2x256x256 .f32) (main_v5364 : FVec F S2x256x256 .f32) (main_v5367 : IVec S2x256x256 1) : IVec S9x256x256 1 × IVec S8x256x256 1 :=
  let main_v5368 : FVec F S2x256x256 .f32 := select main_v5367 main_v5355 main_v5364
  let main_v5369 : FVec F S2x1x256 .f32 := (extractStridedSlice S2x1x256 ![0, 20, 0] · slices_S2x256x256_S2x1x256_0_20_0) main_v5368
  let main_v5370 : FVec F S2x256x1 .f32 := (extractStridedSlice S2x256x1 ![0, 0, 20] · slices_S2x256x256_S2x256x1_0_0_20) main_v5368
  let main_v5371 : FVec F S2x1x1 .f32 := (extractStridedSlice S2x1x1 ![0, 0, 20] · slices_S2x1x256_S2x1x1_0_0_20) main_v5369
  let main_v5372 : FVec F S2x256x1 .f32 := broadcastInDim S2x256x1 ![0, 1, 2] bcast_S2x1x1_S2x256x1_0_1_2 main_v5371
  let main_v5373 : FVec F S2x256x1 .f32 := Host.divf main_v5370 main_v5372
  let main_v5374 : FVec F S2x256x256 .f32 := broadcastInDim S2x256x256 ![0, 1, 2] bcast_S2x256x1_S2x256x256_0_1_2 main_v5373
  let main_c_847 : IVec S_ 32 := constantI S_ 32 20#32
  let main_v5375 : IVec S2x256x256 32 := broadcastInDim S2x256x256 ![] bcast_S_S2x256x256 main_c_847
  let main_v5376 : IVec S2x256x256 1 := cmpi .sgt main_v4987 main_v5375
  let main_c_848 : IVec S_ 32 := constantI S_ 32 20#32
  let main_v5377 : IVec S2x256x256 32 := broadcastInDim S2x256x256 ![] bcast_S_S2x256x256 main_c_848
  let main_v5378 : IVec S2x256x256 1 := cmpi .sgt main_v4988 main_v5377
  let main_v5379 : IVec S2x256x256 1 := andi main_v5376 main_v5378
  let main_v5380 : FVec F S2x256x256 .f32 := broadcastInDim S2x256x256 ![0, 1, 2] bcast_S2x1x256_S2x256x256_0_1_2 main_v5369
  let main_v5381 : FVec F S2x256x256 .f32 := mulf main_v5374 main_v5380
  let main_v5382 : FVec F S2x256x256 .f32 := subf main_v5368 main_v5381
  let main_v5383 : FVec F S2x256x256 .f32 := select main_v5379 main_v5382 main_v5368
  let main_c_849 : IVec S_ 32 := constantI S_ 32 20#32
  let main_v5384 : IVec S2x256x256 32 := broadcastInDim S2x256x256 ![] bcast_S_S2x256x256 main_c_849
  let main_v5385 : IVec S2x256x256 1 := cmpi .eq main_v4988 main_v5384
  let main_v5386 : IVec S2x256x256 1 := andi main_v5376 main_v5385
  let main_v5387 : FVec F S2x256x256 .f32 := select main_v5386 main_v5374 main_v5383
  let main_v5388 : FVec F S2x1x256 .f32 := (extractStridedSlice S2x1x256 ![0, 21, 0] · slices_S2x256x256_S2x1x256_0_21_0) main_v5387
  fn_part260 (F := F) main_arg0 main_v8 main_v4875 main_v4987 main_v4988 main_v5387 main_v5388

def fn_part258 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5336 : FVec F S2x256x256 .f32) (main_v5338 : IVec S2x256x256 1) (main_v5345 : FVec F S2x256x256 .f32) (main_v5346 : IVec S2x256x256 32) : IVec S9x256x256 1 × IVec S8x256x256 1 :=
  let main_v5347 : IVec S2x256x256 1 := cmpi .eq main_v4988 main_v5346
  let main_v5348 : IVec S2x256x256 1 := andi main_v5338 main_v5347
  let main_v5349 : FVec F S2x256x256 .f32 := select main_v5348 main_v5336 main_v5345
  let main_v5350 : FVec F S2x1x256 .f32 := (extractStridedSlice S2x1x256 ![0, 19, 0] · slices_S2x256x256_S2x1x256_0_19_0) main_v5349
  let main_v5351 : FVec F S2x256x1 .f32 := (extractStridedSlice S2x256x1 ![0, 0, 19] · slices_S2x256x256_S2x256x1_0_0_19) main_v5349
  let main_v5352 : FVec F S2x1x1 .f32 := (extractStridedSlice S2x1x1 ![0, 0, 19] · slices_S2x1x256_S2x1x1_0_0_19) main_v5350
  let main_v5353 : FVec F S2x256x1 .f32 := broadcastInDim S2x256x1 ![0, 1, 2] bcast_S2x1x1_S2x256x1_0_1_2 main_v5352
  let main_v5354 : FVec F S2x256x1 .f32 := Host.divf main_v5351 main_v5353
  let main_v5355 : FVec F S2x256x256 .f32 := broadcastInDim S2x256x256 ![0, 1, 2] bcast_S2x256x1_S2x256x256_0_1_2 main_v5354
  let main_c_844 : IVec S_ 32 := constantI S_ 32 19#32
  let main_v5356 : IVec S2x256x256 32 := broadcastInDim S2x256x256 ![] bcast_S_S2x256x256 main_c_844
  let main_v5357 : IVec S2x256x256 1 := cmpi .sgt main_v4987 main_v5356
  let main_c_845 : IVec S_ 32 := constantI S_ 32 19#32
  let main_v5358 : IVec S2x256x256 32 := broadcastInDim S2x256x256 ![] bcast_S_S2x256x256 main_c_845
  let main_v5359 : IVec S2x256x256 1 := cmpi .sgt main_v4988 main_v5358
  let main_v5360 : IVec S2x256x256 1 := andi main_v5357 main_v5359
  let main_v5361 : FVec F S2x256x256 .f32 := broadcastInDim S2x256x256 ![0, 1, 2] bcast_S2x1x256_S2x256x256_0_1_2 main_v5350
  let main_v5362 : FVec F S2x256x256 .f32 := mulf main_v5355 main_v5361
  let main_v5363 : FVec F S2x256x256 .f32 := subf main_v5349 main_v5362
  let main_v5364 : FVec F S2x256x256 .f32 := select main_v5360 main_v5363 main_v5349
  let main_c_846 : IVec S_ 32 := constantI S_ 32 19#32
  let main_v5365 : IVec S2x256x256 32 := broadcastInDim S2x256x256 ![] bcast_S_S2x256x256 main_c_846
  let main_v5366 : IVec S2x256x256 1 := cmpi .eq main_v4988 main_v5365
  let main_v5367 : IVec S2x256x256 1 := andi main_v5357 main_v5366
  fn_part259 (F := F) main_arg0 main_v8 main_v4875 main_v4987 main_v4988 main_v5355 main_v5364 main_v5367

def fn_part257 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5317 : FVec F S2x256x256 .f32) (main_v5319 : IVec S2x256x256 1) (main_v5326 : FVec F S2x256x256 .f32) : IVec S9x256x256 1 × IVec S8x256x256 1 :=
  let main_c_840 : IVec S_ 32 := constantI S_ 32 17#32
  let main_v5327 : IVec S2x256x256 32 := broadcastInDim S2x256x256 ![] bcast_S_S2x256x256 main_c_840
  let main_v5328 : IVec S2x256x256 1 := cmpi .eq main_v4988 main_v5327
  let main_v5329 : IVec S2x256x256 1 := andi main_v5319 main_v5328
  let main_v5330 : FVec F S2x256x256 .f32 := select main_v5329 main_v5317 main_v5326
  let main_v5331 : FVec F S2x1x256 .f32 := (extractStridedSlice S2x1x256 ![0, 18, 0] · slices_S2x256x256_S2x1x256_0_18_0) main_v5330
  let main_v5332 : FVec F S2x256x1 .f32 := (extractStridedSlice S2x256x1 ![0, 0, 18] · slices_S2x256x256_S2x256x1_0_0_18) main_v5330
  let main_v5333 : FVec F S2x1x1 .f32 := (extractStridedSlice S2x1x1 ![0, 0, 18] · slices_S2x1x256_S2x1x1_0_0_18) main_v5331
  let main_v5334 : FVec F S2x256x1 .f32 := broadcastInDim S2x256x1 ![0, 1, 2] bcast_S2x1x1_S2x256x1_0_1_2 main_v5333
  let main_v5335 : FVec F S2x256x1 .f32 := Host.divf main_v5332 main_v5334
  let main_v5336 : FVec F S2x256x256 .f32 := broadcastInDim S2x256x256 ![0, 1, 2] bcast_S2x256x1_S2x256x256_0_1_2 main_v5335
  let main_c_841 : IVec S_ 32 := constantI S_ 32 18#32
  let main_v5337 : IVec S2x256x256 32 := broadcastInDim S2x256x256 ![] bcast_S_S2x256x256 main_c_841
  let main_v5338 : IVec S2x256x256 1 := cmpi .sgt main_v4987 main_v5337
  let main_c_842 : IVec S_ 32 := constantI S_ 32 18#32
  let main_v5339 : IVec S2x256x256 32 := broadcastInDim S2x256x256 ![] bcast_S_S2x256x256 main_c_842
  let main_v5340 : IVec S2x256x256 1 := cmpi .sgt main_v4988 main_v5339
  let main_v5341 : IVec S2x256x256 1 := andi main_v5338 main_v5340
  let main_v5342 : FVec F S2x256x256 .f32 := broadcastInDim S2x256x256 ![0, 1, 2] bcast_S2x1x256_S2x256x256_0_1_2 main_v5331
  let main_v5343 : FVec F S2x256x256 .f32 := mulf main_v5336 main_v5342
  let main_v5344 : FVec F S2x256x256 .f32 := subf main_v5330 main_v5343
  let main_v5345 : FVec F S2x256x256 .f32 := select main_v5341 main_v5344 main_v5330
  let main_c_843 : IVec S_ 32 := constantI S_ 32 18#32
  let main_v5346 : IVec S2x256x256 32 := broadcastInDim S2x256x256 ![] bcast_S_S2x256x256 main_c_843
  fn_part258 (F := F) main_arg0 main_v8 main_v4875 main_v4987 main_v4988 main_v5336 main_v5338 main_v5345 main_v5346

def fn_part256 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5292 : FVec F S2x256x256 .f32) (main_v5298 : FVec F S2x256x256 .f32) (main_v5300 : IVec S2x256x256 1) (main_v5303 : IVec S2x256x256 1) (main_v5305 : FVec F S2x256x256 .f32) : IVec S9x256x256 1 × IVec S8x256x256 1 :=
  let main_v5306 : FVec F S2x256x256 .f32 := subf main_v5292 main_v5305
  let main_v5307 : FVec F S2x256x256 .f32 := select main_v5303 main_v5306 main_v5292
  let main_c_837 : IVec S_ 32 := constantI S_ 32 16#32
  let main_v5308 : IVec S2x256x256 32 := broadcastInDim S2x256x256 ![] bcast_S_S2x256x256 main_c_837
  let main_v5309 : IVec S2x256x256 1 := cmpi .eq main_v4988 main_v5308
  let main_v5310 : IVec S2x256x256 1 := andi main_v5300 main_v5309
  let main_v5311 : FVec F S2x256x256 .f32 := select main_v5310 main_v5298 main_v5307
  let main_v5312 : FVec F S2x1x256 .f32 := (extractStridedSlice S2x1x256 ![0, 17, 0] · slices_S2x256x256_S2x1x256_0_17_0) main_v5311
  let main_v5313 : FVec F S2x256x1 .f32 := (extractStridedSlice S2x256x1 ![0, 0, 17] · slices_S2x256x256_S2x256x1_0_0_17) main_v5311
  let main_v5314 : FVec F S2x1x1 .f32 := (extractStridedSlice S2x1x1 ![0, 0, 17] · slices_S2x1x256_S2x1x1_0_0_17) main_v5312
  let main_v5315 : FVec F S2x256x1 .f32 := broadcastInDim S2x256x1 ![0, 1, 2] bcast_S2x1x1_S2x256x1_0_1_2 main_v5314
  let main_v5316 : FVec F S2x256x1 .f32 := Host.divf main_v5313 main_v5315
  let main_v5317 : FVec F S2x256x256 .f32 := broadcastInDim S2x256x256 ![0, 1, 2] bcast_S2x256x1_S2x256x256_0_1_2 main_v5316
  let main_c_838 : IVec S_ 32 := constantI S_ 32 17#32
  let main_v5318 : IVec S2x256x256 32 := broadcastInDim S2x256x256 ![] bcast_S_S2x256x256 main_c_838
  let main_v5319 : IVec S2x256x256 1 := cmpi .sgt main_v4987 main_v5318
  let main_c_839 : IVec S_ 32 := constantI S_ 32 17#32
  let main_v5320 : IVec S2x256x256 32 := broadcastInDim S2x256x256 ![] bcast_S_S2x256x256 main_c_839
  let main_v5321 : IVec S2x256x256 1 := cmpi .sgt main_v4988 main_v5320
  let main_v5322 : IVec S2x256x256 1 := andi main_v5319 main_v5321
  let main_v5323 : FVec F S2x256x256 .f32 := broadcastInDim S2x256x256 ![0, 1, 2] bcast_S2x1x256_S2x256x256_0_1_2 main_v5312
  let main_v5324 : FVec F S2x256x256 .f32 := mulf main_v5317 main_v5323
  let main_v5325 : FVec F S2x256x256 .f32 := subf main_v5311 main_v5324
  let main_v5326 : FVec F S2x256x256 .f32 := select main_v5322 main_v5325 main_v5311
  fn_part257 (F := F) main_arg0 main_v8 main_v4875 main_v4987 main_v4988 main_v5317 main_v5319 main_v5326

def fn_part255 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5273 : FVec F S2x256x256 .f32) (main_v5274 : FVec F S2x1x256 .f32) (main_v5279 : FVec F S2x256x256 .f32) (main_v5281 : IVec S2x256x256 1) (main_v5284 : IVec S2x256x256 1) : IVec S9x256x256 1 × IVec S8x256x256 1 :=
  let main_v5285 : FVec F S2x256x256 .f32 := broadcastInDim S2x256x256 ![0, 1, 2] bcast_S2x1x256_S2x256x256_0_1_2 main_v5274
  let main_v5286 : FVec F S2x256x256 .f32 := mulf main_v5279 main_v5285
  let main_v5287 : FVec F S2x256x256 .f32 := subf main_v5273 main_v5286
  let main_v5288 : FVec F S2x256x256 .f32 := select main_v5284 main_v5287 main_v5273
  let main_c_834 : IVec S_ 32 := constantI S_ 32 15#32
  let main_v5289 : IVec S2x256x256 32 := broadcastInDim S2x256x256 ![] bcast_S_S2x256x256 main_c_834
  let main_v5290 : IVec S2x256x256 1 := cmpi .eq main_v4988 main_v5289
  let main_v5291 : IVec S2x256x256 1 := andi main_v5281 main_v5290
  let main_v5292 : FVec F S2x256x256 .f32 := select main_v5291 main_v5279 main_v5288
  let main_v5293 : FVec F S2x1x256 .f32 := (extractStridedSlice S2x1x256 ![0, 16, 0] · slices_S2x256x256_S2x1x256_0_16_0) main_v5292
  let main_v5294 : FVec F S2x256x1 .f32 := (extractStridedSlice S2x256x1 ![0, 0, 16] · slices_S2x256x256_S2x256x1_0_0_16) main_v5292
  let main_v5295 : FVec F S2x1x1 .f32 := (extractStridedSlice S2x1x1 ![0, 0, 16] · slices_S2x1x256_S2x1x1_0_0_16) main_v5293
  let main_v5296 : FVec F S2x256x1 .f32 := broadcastInDim S2x256x1 ![0, 1, 2] bcast_S2x1x1_S2x256x1_0_1_2 main_v5295
  let main_v5297 : FVec F S2x256x1 .f32 := Host.divf main_v5294 main_v5296
  let main_v5298 : FVec F S2x256x256 .f32 := broadcastInDim S2x256x256 ![0, 1, 2] bcast_S2x256x1_S2x256x256_0_1_2 main_v5297
  let main_c_835 : IVec S_ 32 := constantI S_ 32 16#32
  let main_v5299 : IVec S2x256x256 32 := broadcastInDim S2x256x256 ![] bcast_S_S2x256x256 main_c_835
  let main_v5300 : IVec S2x256x256 1 := cmpi .sgt main_v4987 main_v5299
  let main_c_836 : IVec S_ 32 := constantI S_ 32 16#32
  let main_v5301 : IVec S2x256x256 32 := broadcastInDim S2x256x256 ![] bcast_S_S2x256x256 main_c_836
  let main_v5302 : IVec S2x256x256 1 := cmpi .sgt main_v4988 main_v5301
  let main_v5303 : IVec S2x256x256 1 := andi main_v5300 main_v5302
  let main_v5304 : FVec F S2x256x256 .f32 := broadcastInDim S2x256x256 ![0, 1, 2] bcast_S2x1x256_S2x256x256_0_1_2 main_v5293
  let main_v5305 : FVec F S2x256x256 .f32 := mulf main_v5298 main_v5304
  fn_part256 (F := F) main_arg0 main_v8 main_v4875 main_v4987 main_v4988 main_v5292 main_v5298 main_v5300 main_v5303 main_v5305

def fn_part254 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5254 : FVec F S2x256x256 .f32) (main_v5255 : FVec F S2x1x256 .f32) (main_v5260 : FVec F S2x256x256 .f32) (main_v5262 : IVec S2x256x256 1) (main_v5263 : IVec S2x256x256 32) : IVec S9x256x256 1 × IVec S8x256x256 1 :=
  let main_v5264 : IVec S2x256x256 1 := cmpi .sgt main_v4988 main_v5263
  let main_v5265 : IVec S2x256x256 1 := andi main_v5262 main_v5264
  let main_v5266 : FVec F S2x256x256 .f32 := broadcastInDim S2x256x256 ![0, 1, 2] bcast_S2x1x256_S2x256x256_0_1_2 main_v5255
  let main_v5267 : FVec F S2x256x256 .f32 := mulf main_v5260 main_v5266
  let main_v5268 : FVec F S2x256x256 .f32 := subf main_v5254 main_v5267
  let main_v5269 : FVec F S2x256x256 .f32 := select main_v5265 main_v5268 main_v5254
  let main_c_831 : IVec S_ 32 := constantI S_ 32 14#32
  let main_v5270 : IVec S2x256x256 32 := broadcastInDim S2x256x256 ![] bcast_S_S2x256x256 main_c_831
  let main_v5271 : IVec S2x256x256 1 := cmpi .eq main_v4988 main_v5270
  let main_v5272 : IVec S2x256x256 1 := andi main_v5262 main_v5271
  let main_v5273 : FVec F S2x256x256 .f32 := select main_v5272 main_v5260 main_v5269
  let main_v5274 : FVec F S2x1x256 .f32 := (extractStridedSlice S2x1x256 ![0, 15, 0] · slices_S2x256x256_S2x1x256_0_15_0) main_v5273
  let main_v5275 : FVec F S2x256x1 .f32 := (extractStridedSlice S2x256x1 ![0, 0, 15] · slices_S2x256x256_S2x256x1_0_0_15) main_v5273
  let main_v5276 : FVec F S2x1x1 .f32 := (extractStridedSlice S2x1x1 ![0, 0, 15] · slices_S2x1x256_S2x1x1_0_0_15) main_v5274
  let main_v5277 : FVec F S2x256x1 .f32 := broadcastInDim S2x256x1 ![0, 1, 2] bcast_S2x1x1_S2x256x1_0_1_2 main_v5276
  let main_v5278 : FVec F S2x256x1 .f32 := Host.divf main_v5275 main_v5277
  let main_v5279 : FVec F S2x256x256 .f32 := broadcastInDim S2x256x256 ![0, 1, 2] bcast_S2x256x1_S2x256x256_0_1_2 main_v5278
  let main_c_832 : IVec S_ 32 := constantI S_ 32 15#32
  let main_v5280 : IVec S2x256x256 32 := broadcastInDim S2x256x256 ![] bcast_S_S2x256x256 main_c_832
  let main_v5281 : IVec S2x256x256 1 := cmpi .sgt main_v4987 main_v5280
  let main_c_833 : IVec S_ 32 := constantI S_ 32 15#32
  let main_v5282 : IVec S2x256x256 32 := broadcastInDim S2x256x256 ![] bcast_S_S2x256x256 main_c_833
  let main_v5283 : IVec S2x256x256 1 := cmpi .sgt main_v4988 main_v5282
  let main_v5284 : IVec S2x256x256 1 := andi main_v5281 main_v5283
  fn_part255 (F := F) main_arg0 main_v8 main_v4875 main_v4987 main_v4988 main_v5273 main_v5274 main_v5279 main_v5281 main_v5284

def fn_part253 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5235 : FVec F S2x256x256 .f32) (main_v5236 : FVec F S2x1x256 .f32) (main_v5241 : FVec F S2x256x256 .f32) (main_v5243 : IVec S2x256x256 1) : IVec S9x256x256 1 × IVec S8x256x256 1 :=
  let main_c_827 : IVec S_ 32 := constantI S_ 32 13#32
  let main_v5244 : IVec S2x256x256 32 := broadcastInDim S2x256x256 ![] bcast_S_S2x256x256 main_c_827
  let main_v5245 : IVec S2x256x256 1 := cmpi .sgt main_v4988 main_v5244
  let main_v5246 : IVec S2x256x256 1 := andi main_v5243 main_v5245
  let main_v5247 : FVec F S2x256x256 .f32 := broadcastInDim S2x256x256 ![0, 1, 2] bcast_S2x1x256_S2x256x256_0_1_2 main_v5236
  let main_v5248 : FVec F S2x256x256 .f32 := mulf main_v5241 main_v5247
  let main_v5249 : FVec F S2x256x256 .f32 := subf main_v5235 main_v5248
  let main_v5250 : FVec F S2x256x256 .f32 := select main_v5246 main_v5249 main_v5235
  let main_c_828 : IVec S_ 32 := constantI S_ 32 13#32
  let main_v5251 : IVec S2x256x256 32 := broadcastInDim S2x256x256 ![] bcast_S_S2x256x256 main_c_828
  let main_v5252 : IVec S2x256x256 1 := cmpi .eq main_v4988 main_v5251
  let main_v5253 : IVec S2x256x256 1 := andi main_v5243 main_v5252
  let main_v5254 : FVec F S2x256x256 .f32 := select main_v5253 main_v5241 main_v5250
  let main_v5255 : FVec F S2x1x256 .f32 := (extractStridedSlice S2x1x256 ![0, 14, 0] · slices_S2x256x256_S2x1x256_0_14_0) main_v5254
  let main_v5256 : FVec F S2x256x1 .f32 := (extractStridedSlice S2x256x1 ![0, 0, 14] · slices_S2x256x256_S2x256x1_0_0_14) main_v5254
  let main_v5257 : FVec F S2x1x1 .f32 := (extractStridedSlice S2x1x1 ![0, 0, 14] · slices_S2x1x256_S2x1x1_0_0_14) main_v5255
  let main_v5258 : FVec F S2x256x1 .f32 := broadcastInDim S2x256x1 ![0, 1, 2] bcast_S2x1x1_S2x256x1_0_1_2 main_v5257
  let main_v5259 : FVec F S2x256x1 .f32 := Host.divf main_v5256 main_v5258
  let main_v5260 : FVec F S2x256x256 .f32 := broadcastInDim S2x256x256 ![0, 1, 2] bcast_S2x256x1_S2x256x256_0_1_2 main_v5259
  let main_c_829 : IVec S_ 32 := constantI S_ 32 14#32
  let main_v5261 : IVec S2x256x256 32 := broadcastInDim S2x256x256 ![] bcast_S_S2x256x256 main_c_829
  let main_v5262 : IVec S2x256x256 1 := cmpi .sgt main_v4987 main_v5261
  let main_c_830 : IVec S_ 32 := constantI S_ 32 14#32
  let main_v5263 : IVec S2x256x256 32 := broadcastInDim S2x256x256 ![] bcast_S_S2x256x256 main_c_830
  fn_part254 (F := F) main_arg0 main_v8 main_v4875 main_v4987 main_v4988 main_v5254 main_v5255 main_v5260 main_v5262 main_v5263

def fn_part252 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5216 : FVec F S2x256x256 .f32) (main_v5217 : FVec F S2x1x256 .f32) (main_v5222 : FVec F S2x256x256 .f32) (main_c_823 : IVec S_ 32) : IVec S9x256x256 1 × IVec S8x256x256 1 :=
  let main_v5223 : IVec S2x256x256 32 := broadcastInDim S2x256x256 ![] bcast_S_S2x256x256 main_c_823
  let main_v5224 : IVec S2x256x256 1 := cmpi .sgt main_v4987 main_v5223
  let main_c_824 : IVec S_ 32 := constantI S_ 32 12#32
  let main_v5225 : IVec S2x256x256 32 := broadcastInDim S2x256x256 ![] bcast_S_S2x256x256 main_c_824
  let main_v5226 : IVec S2x256x256 1 := cmpi .sgt main_v4988 main_v5225
  let main_v5227 : IVec S2x256x256 1 := andi main_v5224 main_v5226
  let main_v5228 : FVec F S2x256x256 .f32 := broadcastInDim S2x256x256 ![0, 1, 2] bcast_S2x1x256_S2x256x256_0_1_2 main_v5217
  let main_v5229 : FVec F S2x256x256 .f32 := mulf main_v5222 main_v5228
  let main_v5230 : FVec F S2x256x256 .f32 := subf main_v5216 main_v5229
  let main_v5231 : FVec F S2x256x256 .f32 := select main_v5227 main_v5230 main_v5216
  let main_c_825 : IVec S_ 32 := constantI S_ 32 12#32
  let main_v5232 : IVec S2x256x256 32 := broadcastInDim S2x256x256 ![] bcast_S_S2x256x256 main_c_825
  let main_v5233 : IVec S2x256x256 1 := cmpi .eq main_v4988 main_v5232
  let main_v5234 : IVec S2x256x256 1 := andi main_v5224 main_v5233
  let main_v5235 : FVec F S2x256x256 .f32 := select main_v5234 main_v5222 main_v5231
  let main_v5236 : FVec F S2x1x256 .f32 := (extractStridedSlice S2x1x256 ![0, 13, 0] · slices_S2x256x256_S2x1x256_0_13_0) main_v5235
  let main_v5237 : FVec F S2x256x1 .f32 := (extractStridedSlice S2x256x1 ![0, 0, 13] · slices_S2x256x256_S2x256x1_0_0_13) main_v5235
  let main_v5238 : FVec F S2x1x1 .f32 := (extractStridedSlice S2x1x1 ![0, 0, 13] · slices_S2x1x256_S2x1x1_0_0_13) main_v5236
  let main_v5239 : FVec F S2x256x1 .f32 := broadcastInDim S2x256x1 ![0, 1, 2] bcast_S2x1x1_S2x256x1_0_1_2 main_v5238
  let main_v5240 : FVec F S2x256x1 .f32 := Host.divf main_v5237 main_v5239
  let main_v5241 : FVec F S2x256x256 .f32 := broadcastInDim S2x256x256 ![0, 1, 2] bcast_S2x256x1_S2x256x256_0_1_2 main_v5240
  let main_c_826 : IVec S_ 32 := constantI S_ 32 13#32
  let main_v5242 : IVec S2x256x256 32 := broadcastInDim S2x256x256 ![] bcast_S_S2x256x256 main_c_826
  let main_v5243 : IVec S2x256x256 1 := cmpi .sgt main_v4987 main_v5242
  fn_part253 (F := F) main_arg0 main_v8 main_v4875 main_v4987 main_v4988 main_v5235 main_v5236 main_v5241 main_v5243

def fn_part251 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5197 : FVec F S2x256x256 .f32) (main_v5198 : FVec F S2x1x256 .f32) (main_v5202 : FVec F S2x256x1 .f32) : IVec S9x256x256 1 × IVec S8x256x256 1 :=
  let main_v5203 : FVec F S2x256x256 .f32 := broadcastInDim S2x256x256 ![0, 1, 2] bcast_S2x256x1_S2x256x256_0_1_2 main_v5202
  let main_c_820 : IVec S_ 32 := constantI S_ 32 11#32
  let main_v5204 : IVec S2x256x256 32 := broadcastInDim S2x256x256 ![] bcast_S_S2x256x256 main_c_820
  let main_v5205 : IVec S2x256x256 1 := cmpi .sgt main_v4987 main_v5204
  let main_c_821 : IVec S_ 32 := constantI S_ 32 11#32
  let main_v5206 : IVec S2x256x256 32 := broadcastInDim S2x256x256 ![] bcast_S_S2x256x256 main_c_821
  let main_v5207 : IVec S2x256x256 1 := cmpi .sgt main_v4988 main_v5206
  let main_v5208 : IVec S2x256x256 1 := andi main_v5205 main_v5207
  let main_v5209 : FVec F S2x256x256 .f32 := broadcastInDim S2x256x256 ![0, 1, 2] bcast_S2x1x256_S2x256x256_0_1_2 main_v5198
  let main_v5210 : FVec F S2x256x256 .f32 := mulf main_v5203 main_v5209
  let main_v5211 : FVec F S2x256x256 .f32 := subf main_v5197 main_v5210
  let main_v5212 : FVec F S2x256x256 .f32 := select main_v5208 main_v5211 main_v5197
  let main_c_822 : IVec S_ 32 := constantI S_ 32 11#32
  let main_v5213 : IVec S2x256x256 32 := broadcastInDim S2x256x256 ![] bcast_S_S2x256x256 main_c_822
  let main_v5214 : IVec S2x256x256 1 := cmpi .eq main_v4988 main_v5213
  let main_v5215 : IVec S2x256x256 1 := andi main_v5205 main_v5214
  let main_v5216 : FVec F S2x256x256 .f32 := select main_v5215 main_v5203 main_v5212
  let main_v5217 : FVec F S2x1x256 .f32 := (extractStridedSlice S2x1x256 ![0, 12, 0] · slices_S2x256x256_S2x1x256_0_12_0) main_v5216
  let main_v5218 : FVec F S2x256x1 .f32 := (extractStridedSlice S2x256x1 ![0, 0, 12] · slices_S2x256x256_S2x256x1_0_0_12) main_v5216
  let main_v5219 : FVec F S2x1x1 .f32 := (extractStridedSlice S2x1x1 ![0, 0, 12] · slices_S2x1x256_S2x1x1_0_0_12) main_v5217
  let main_v5220 : FVec F S2x256x1 .f32 := broadcastInDim S2x256x1 ![0, 1, 2] bcast_S2x1x1_S2x256x1_0_1_2 main_v5219
  let main_v5221 : FVec F S2x256x1 .f32 := Host.divf main_v5218 main_v5220
  let main_v5222 : FVec F S2x256x256 .f32 := broadcastInDim S2x256x256 ![0, 1, 2] bcast_S2x256x1_S2x256x256_0_1_2 main_v5221
  let main_c_823 : IVec S_ 32 := constantI S_ 32 12#32
  fn_part252 (F := F) main_arg0 main_v8 main_v4875 main_v4987 main_v4988 main_v5216 main_v5217 main_v5222 main_c_823

def fn_part250 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5178 : FVec F S2x256x256 .f32) (main_v5179 : FVec F S2x1x256 .f32) (main_v5180 : FVec F S2x256x1 .f32) (main_v5181 : FVec F S2x1x1 .f32) : IVec S9x256x256 1 × IVec S8x256x256 1 :=
  let main_v5182 : FVec F S2x256x1 .f32 := broadcastInDim S2x256x1 ![0, 1, 2] bcast_S2x1x1_S2x256x1_0_1_2 main_v5181
  let main_v5183 : FVec F S2x256x1 .f32 := Host.divf main_v5180 main_v5182
  let main_v5184 : FVec F S2x256x256 .f32 := broadcastInDim S2x256x256 ![0, 1, 2] bcast_S2x256x1_S2x256x256_0_1_2 main_v5183
  let main_c_817 : IVec S_ 32 := constantI S_ 32 10#32
  let main_v5185 : IVec S2x256x256 32 := broadcastInDim S2x256x256 ![] bcast_S_S2x256x256 main_c_817
  let main_v5186 : IVec S2x256x256 1 := cmpi .sgt main_v4987 main_v5185
  let main_c_818 : IVec S_ 32 := constantI S_ 32 10#32
  let main_v5187 : IVec S2x256x256 32 := broadcastInDim S2x256x256 ![] bcast_S_S2x256x256 main_c_818
  let main_v5188 : IVec S2x256x256 1 := cmpi .sgt main_v4988 main_v5187
  let main_v5189 : IVec S2x256x256 1 := andi main_v5186 main_v5188
  let main_v5190 : FVec F S2x256x256 .f32 := broadcastInDim S2x256x256 ![0, 1, 2] bcast_S2x1x256_S2x256x256_0_1_2 main_v5179
  let main_v5191 : FVec F S2x256x256 .f32 := mulf main_v5184 main_v5190
  let main_v5192 : FVec F S2x256x256 .f32 := subf main_v5178 main_v5191
  let main_v5193 : FVec F S2x256x256 .f32 := select main_v5189 main_v5192 main_v5178
  let main_c_819 : IVec S_ 32 := constantI S_ 32 10#32
  let main_v5194 : IVec S2x256x256 32 := broadcastInDim S2x256x256 ![] bcast_S_S2x256x256 main_c_819
  let main_v5195 : IVec S2x256x256 1 := cmpi .eq main_v4988 main_v5194
  let main_v5196 : IVec S2x256x256 1 := andi main_v5186 main_v5195
  let main_v5197 : FVec F S2x256x256 .f32 := select main_v5196 main_v5184 main_v5193
  let main_v5198 : FVec F S2x1x256 .f32 := (extractStridedSlice S2x1x256 ![0, 11, 0] · slices_S2x256x256_S2x1x256_0_11_0) main_v5197
  let main_v5199 : FVec F S2x256x1 .f32 := (extractStridedSlice S2x256x1 ![0, 0, 11] · slices_S2x256x256_S2x256x1_0_0_11) main_v5197
  let main_v5200 : FVec F S2x1x1 .f32 := (extractStridedSlice S2x1x1 ![0, 0, 11] · slices_S2x1x256_S2x1x1_0_0_11) main_v5198
  let main_v5201 : FVec F S2x256x1 .f32 := broadcastInDim S2x256x1 ![0, 1, 2] bcast_S2x1x1_S2x256x1_0_1_2 main_v5200
  let main_v5202 : FVec F S2x256x1 .f32 := Host.divf main_v5199 main_v5201
  fn_part251 (F := F) main_arg0 main_v8 main_v4875 main_v4987 main_v4988 main_v5197 main_v5198 main_v5202

def fn_part249 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5159 : FVec F S2x256x256 .f32) (main_v5160 : FVec F S2x1x256 .f32) : IVec S9x256x256 1 × IVec S8x256x256 1 :=
  let main_v5161 : FVec F S2x256x1 .f32 := (extractStridedSlice S2x256x1 ![0, 0, 9] · slices_S2x256x256_S2x256x1_0_0_9) main_v5159
  let main_v5162 : FVec F S2x1x1 .f32 := (extractStridedSlice S2x1x1 ![0, 0, 9] · slices_S2x1x256_S2x1x1_0_0_9) main_v5160
  let main_v5163 : FVec F S2x256x1 .f32 := broadcastInDim S2x256x1 ![0, 1, 2] bcast_S2x1x1_S2x256x1_0_1_2 main_v5162
  let main_v5164 : FVec F S2x256x1 .f32 := Host.divf main_v5161 main_v5163
  let main_v5165 : FVec F S2x256x256 .f32 := broadcastInDim S2x256x256 ![0, 1, 2] bcast_S2x256x1_S2x256x256_0_1_2 main_v5164
  let main_c_814 : IVec S_ 32 := constantI S_ 32 9#32
  let main_v5166 : IVec S2x256x256 32 := broadcastInDim S2x256x256 ![] bcast_S_S2x256x256 main_c_814
  let main_v5167 : IVec S2x256x256 1 := cmpi .sgt main_v4987 main_v5166
  let main_c_815 : IVec S_ 32 := constantI S_ 32 9#32
  let main_v5168 : IVec S2x256x256 32 := broadcastInDim S2x256x256 ![] bcast_S_S2x256x256 main_c_815
  let main_v5169 : IVec S2x256x256 1 := cmpi .sgt main_v4988 main_v5168
  let main_v5170 : IVec S2x256x256 1 := andi main_v5167 main_v5169
  let main_v5171 : FVec F S2x256x256 .f32 := broadcastInDim S2x256x256 ![0, 1, 2] bcast_S2x1x256_S2x256x256_0_1_2 main_v5160
  let main_v5172 : FVec F S2x256x256 .f32 := mulf main_v5165 main_v5171
  let main_v5173 : FVec F S2x256x256 .f32 := subf main_v5159 main_v5172
  let main_v5174 : FVec F S2x256x256 .f32 := select main_v5170 main_v5173 main_v5159
  let main_c_816 : IVec S_ 32 := constantI S_ 32 9#32
  let main_v5175 : IVec S2x256x256 32 := broadcastInDim S2x256x256 ![] bcast_S_S2x256x256 main_c_816
  let main_v5176 : IVec S2x256x256 1 := cmpi .eq main_v4988 main_v5175
  let main_v5177 : IVec S2x256x256 1 := andi main_v5167 main_v5176
  let main_v5178 : FVec F S2x256x256 .f32 := select main_v5177 main_v5165 main_v5174
  let main_v5179 : FVec F S2x1x256 .f32 := (extractStridedSlice S2x1x256 ![0, 10, 0] · slices_S2x256x256_S2x1x256_0_10_0) main_v5178
  let main_v5180 : FVec F S2x256x1 .f32 := (extractStridedSlice S2x256x1 ![0, 0, 10] · slices_S2x256x256_S2x256x1_0_0_10) main_v5178
  let main_v5181 : FVec F S2x1x1 .f32 := (extractStridedSlice S2x1x1 ![0, 0, 10] · slices_S2x1x256_S2x1x1_0_0_10) main_v5179
  fn_part250 (F := F) main_arg0 main_v8 main_v4875 main_v4987 main_v4988 main_v5178 main_v5179 main_v5180 main_v5181

def fn_part248 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5127 : FVec F S2x256x256 .f32) (main_v5136 : FVec F S2x256x256 .f32) (main_v5139 : IVec S2x256x256 1) : IVec S9x256x256 1 × IVec S8x256x256 1 :=
  let main_v5140 : FVec F S2x256x256 .f32 := select main_v5139 main_v5127 main_v5136
  let main_v5141 : FVec F S2x1x256 .f32 := (extractStridedSlice S2x1x256 ![0, 8, 0] · slices_S2x256x256_S2x1x256_0_8_0) main_v5140
  let main_v5142 : FVec F S2x256x1 .f32 := (extractStridedSlice S2x256x1 ![0, 0, 8] · slices_S2x256x256_S2x256x1_0_0_8) main_v5140
  let main_v5143 : FVec F S2x1x1 .f32 := (extractStridedSlice S2x1x1 ![0, 0, 8] · slices_S2x1x256_S2x1x1_0_0_8) main_v5141
  let main_v5144 : FVec F S2x256x1 .f32 := broadcastInDim S2x256x1 ![0, 1, 2] bcast_S2x1x1_S2x256x1_0_1_2 main_v5143
  let main_v5145 : FVec F S2x256x1 .f32 := Host.divf main_v5142 main_v5144
  let main_v5146 : FVec F S2x256x256 .f32 := broadcastInDim S2x256x256 ![0, 1, 2] bcast_S2x256x1_S2x256x256_0_1_2 main_v5145
  let main_c_811 : IVec S_ 32 := constantI S_ 32 8#32
  let main_v5147 : IVec S2x256x256 32 := broadcastInDim S2x256x256 ![] bcast_S_S2x256x256 main_c_811
  let main_v5148 : IVec S2x256x256 1 := cmpi .sgt main_v4987 main_v5147
  let main_c_812 : IVec S_ 32 := constantI S_ 32 8#32
  let main_v5149 : IVec S2x256x256 32 := broadcastInDim S2x256x256 ![] bcast_S_S2x256x256 main_c_812
  let main_v5150 : IVec S2x256x256 1 := cmpi .sgt main_v4988 main_v5149
  let main_v5151 : IVec S2x256x256 1 := andi main_v5148 main_v5150
  let main_v5152 : FVec F S2x256x256 .f32 := broadcastInDim S2x256x256 ![0, 1, 2] bcast_S2x1x256_S2x256x256_0_1_2 main_v5141
  let main_v5153 : FVec F S2x256x256 .f32 := mulf main_v5146 main_v5152
  let main_v5154 : FVec F S2x256x256 .f32 := subf main_v5140 main_v5153
  let main_v5155 : FVec F S2x256x256 .f32 := select main_v5151 main_v5154 main_v5140
  let main_c_813 : IVec S_ 32 := constantI S_ 32 8#32
  let main_v5156 : IVec S2x256x256 32 := broadcastInDim S2x256x256 ![] bcast_S_S2x256x256 main_c_813
  let main_v5157 : IVec S2x256x256 1 := cmpi .eq main_v4988 main_v5156
  let main_v5158 : IVec S2x256x256 1 := andi main_v5148 main_v5157
  let main_v5159 : FVec F S2x256x256 .f32 := select main_v5158 main_v5146 main_v5155
  let main_v5160 : FVec F S2x1x256 .f32 := (extractStridedSlice S2x1x256 ![0, 9, 0] · slices_S2x256x256_S2x1x256_0_9_0) main_v5159
  fn_part249 (F := F) main_arg0 main_v8 main_v4875 main_v4987 main_v4988 main_v5159 main_v5160

def fn_part247 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5108 : FVec F S2x256x256 .f32) (main_v5110 : IVec S2x256x256 1) (main_v5117 : FVec F S2x256x256 .f32) (main_v5118 : IVec S2x256x256 32) : IVec S9x256x256 1 × IVec S8x256x256 1 :=
  let main_v5119 : IVec S2x256x256 1 := cmpi .eq main_v4988 main_v5118
  let main_v5120 : IVec S2x256x256 1 := andi main_v5110 main_v5119
  let main_v5121 : FVec F S2x256x256 .f32 := select main_v5120 main_v5108 main_v5117
  let main_v5122 : FVec F S2x1x256 .f32 := (extractStridedSlice S2x1x256 ![0, 7, 0] · slices_S2x256x256_S2x1x256_0_7_0) main_v5121
  let main_v5123 : FVec F S2x256x1 .f32 := (extractStridedSlice S2x256x1 ![0, 0, 7] · slices_S2x256x256_S2x256x1_0_0_7) main_v5121
  let main_v5124 : FVec F S2x1x1 .f32 := (extractStridedSlice S2x1x1 ![0, 0, 7] · slices_S2x1x256_S2x1x1_0_0_7) main_v5122
  let main_v5125 : FVec F S2x256x1 .f32 := broadcastInDim S2x256x1 ![0, 1, 2] bcast_S2x1x1_S2x256x1_0_1_2 main_v5124
  let main_v5126 : FVec F S2x256x1 .f32 := Host.divf main_v5123 main_v5125
  let main_v5127 : FVec F S2x256x256 .f32 := broadcastInDim S2x256x256 ![0, 1, 2] bcast_S2x256x1_S2x256x256_0_1_2 main_v5126
  let main_c_808 : IVec S_ 32 := constantI S_ 32 7#32
  let main_v5128 : IVec S2x256x256 32 := broadcastInDim S2x256x256 ![] bcast_S_S2x256x256 main_c_808
  let main_v5129 : IVec S2x256x256 1 := cmpi .sgt main_v4987 main_v5128
  let main_c_809 : IVec S_ 32 := constantI S_ 32 7#32
  let main_v5130 : IVec S2x256x256 32 := broadcastInDim S2x256x256 ![] bcast_S_S2x256x256 main_c_809
  let main_v5131 : IVec S2x256x256 1 := cmpi .sgt main_v4988 main_v5130
  let main_v5132 : IVec S2x256x256 1 := andi main_v5129 main_v5131
  let main_v5133 : FVec F S2x256x256 .f32 := broadcastInDim S2x256x256 ![0, 1, 2] bcast_S2x1x256_S2x256x256_0_1_2 main_v5122
  let main_v5134 : FVec F S2x256x256 .f32 := mulf main_v5127 main_v5133
  let main_v5135 : FVec F S2x256x256 .f32 := subf main_v5121 main_v5134
  let main_v5136 : FVec F S2x256x256 .f32 := select main_v5132 main_v5135 main_v5121
  let main_c_810 : IVec S_ 32 := constantI S_ 32 7#32
  let main_v5137 : IVec S2x256x256 32 := broadcastInDim S2x256x256 ![] bcast_S_S2x256x256 main_c_810
  let main_v5138 : IVec S2x256x256 1 := cmpi .eq main_v4988 main_v5137
  let main_v5139 : IVec S2x256x256 1 := andi main_v5129 main_v5138
  fn_part248 (F := F) main_arg0 main_v8 main_v4875 main_v4987 main_v4988 main_v5127 main_v5136 main_v5139

def fn_part246 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5089 : FVec F S2x256x256 .f32) (main_v5091 : IVec S2x256x256 1) (main_v5098 : FVec F S2x256x256 .f32) : IVec S9x256x256 1 × IVec S8x256x256 1 :=
  let main_c_804 : IVec S_ 32 := constantI S_ 32 5#32
  let main_v5099 : IVec S2x256x256 32 := broadcastInDim S2x256x256 ![] bcast_S_S2x256x256 main_c_804
  let main_v5100 : IVec S2x256x256 1 := cmpi .eq main_v4988 main_v5099
  let main_v5101 : IVec S2x256x256 1 := andi main_v5091 main_v5100
  let main_v5102 : FVec F S2x256x256 .f32 := select main_v5101 main_v5089 main_v5098
  let main_v5103 : FVec F S2x1x256 .f32 := (extractStridedSlice S2x1x256 ![0, 6, 0] · slices_S2x256x256_S2x1x256_0_6_0) main_v5102
  let main_v5104 : FVec F S2x256x1 .f32 := (extractStridedSlice S2x256x1 ![0, 0, 6] · slices_S2x256x256_S2x256x1_0_0_6) main_v5102
  let main_v5105 : FVec F S2x1x1 .f32 := (extractStridedSlice S2x1x1 ![0, 0, 6] · slices_S2x1x256_S2x1x1_0_0_6) main_v5103
  let main_v5106 : FVec F S2x256x1 .f32 := broadcastInDim S2x256x1 ![0, 1, 2] bcast_S2x1x1_S2x256x1_0_1_2 main_v5105
  let main_v5107 : FVec F S2x256x1 .f32 := Host.divf main_v5104 main_v5106
  let main_v5108 : FVec F S2x256x256 .f32 := broadcastInDim S2x256x256 ![0, 1, 2] bcast_S2x256x1_S2x256x256_0_1_2 main_v5107
  let main_c_805 : IVec S_ 32 := constantI S_ 32 6#32
  let main_v5109 : IVec S2x256x256 32 := broadcastInDim S2x256x256 ![] bcast_S_S2x256x256 main_c_805
  let main_v5110 : IVec S2x256x256 1 := cmpi .sgt main_v4987 main_v5109
  let main_c_806 : IVec S_ 32 := constantI S_ 32 6#32
  let main_v5111 : IVec S2x256x256 32 := broadcastInDim S2x256x256 ![] bcast_S_S2x256x256 main_c_806
  let main_v5112 : IVec S2x256x256 1 := cmpi .sgt main_v4988 main_v5111
  let main_v5113 : IVec S2x256x256 1 := andi main_v5110 main_v5112
  let main_v5114 : FVec F S2x256x256 .f32 := broadcastInDim S2x256x256 ![0, 1, 2] bcast_S2x1x256_S2x256x256_0_1_2 main_v5103
  let main_v5115 : FVec F S2x256x256 .f32 := mulf main_v5108 main_v5114
  let main_v5116 : FVec F S2x256x256 .f32 := subf main_v5102 main_v5115
  let main_v5117 : FVec F S2x256x256 .f32 := select main_v5113 main_v5116 main_v5102
  let main_c_807 : IVec S_ 32 := constantI S_ 32 6#32
  let main_v5118 : IVec S2x256x256 32 := broadcastInDim S2x256x256 ![] bcast_S_S2x256x256 main_c_807
  fn_part247 (F := F) main_arg0 main_v8 main_v4875 main_v4987 main_v4988 main_v5108 main_v5110 main_v5117 main_v5118

def fn_part245 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5064 : FVec F S2x256x256 .f32) (main_v5070 : FVec F S2x256x256 .f32) (main_v5072 : IVec S2x256x256 1) (main_v5075 : IVec S2x256x256 1) (main_v5077 : FVec F S2x256x256 .f32) : IVec S9x256x256 1 × IVec S8x256x256 1 :=
  let main_v5078 : FVec F S2x256x256 .f32 := subf main_v5064 main_v5077
  let main_v5079 : FVec F S2x256x256 .f32 := select main_v5075 main_v5078 main_v5064
  let main_c_801 : IVec S_ 32 := constantI S_ 32 4#32
  let main_v5080 : IVec S2x256x256 32 := broadcastInDim S2x256x256 ![] bcast_S_S2x256x256 main_c_801
  let main_v5081 : IVec S2x256x256 1 := cmpi .eq main_v4988 main_v5080
  let main_v5082 : IVec S2x256x256 1 := andi main_v5072 main_v5081
  let main_v5083 : FVec F S2x256x256 .f32 := select main_v5082 main_v5070 main_v5079
  let main_v5084 : FVec F S2x1x256 .f32 := (extractStridedSlice S2x1x256 ![0, 5, 0] · slices_S2x256x256_S2x1x256_0_5_0) main_v5083
  let main_v5085 : FVec F S2x256x1 .f32 := (extractStridedSlice S2x256x1 ![0, 0, 5] · slices_S2x256x256_S2x256x1_0_0_5) main_v5083
  let main_v5086 : FVec F S2x1x1 .f32 := (extractStridedSlice S2x1x1 ![0, 0, 5] · slices_S2x1x256_S2x1x1_0_0_5) main_v5084
  let main_v5087 : FVec F S2x256x1 .f32 := broadcastInDim S2x256x1 ![0, 1, 2] bcast_S2x1x1_S2x256x1_0_1_2 main_v5086
  let main_v5088 : FVec F S2x256x1 .f32 := Host.divf main_v5085 main_v5087
  let main_v5089 : FVec F S2x256x256 .f32 := broadcastInDim S2x256x256 ![0, 1, 2] bcast_S2x256x1_S2x256x256_0_1_2 main_v5088
  let main_c_802 : IVec S_ 32 := constantI S_ 32 5#32
  let main_v5090 : IVec S2x256x256 32 := broadcastInDim S2x256x256 ![] bcast_S_S2x256x256 main_c_802
  let main_v5091 : IVec S2x256x256 1 := cmpi .sgt main_v4987 main_v5090
  let main_c_803 : IVec S_ 32 := constantI S_ 32 5#32
  let main_v5092 : IVec S2x256x256 32 := broadcastInDim S2x256x256 ![] bcast_S_S2x256x256 main_c_803
  let main_v5093 : IVec S2x256x256 1 := cmpi .sgt main_v4988 main_v5092
  let main_v5094 : IVec S2x256x256 1 := andi main_v5091 main_v5093
  let main_v5095 : FVec F S2x256x256 .f32 := broadcastInDim S2x256x256 ![0, 1, 2] bcast_S2x1x256_S2x256x256_0_1_2 main_v5084
  let main_v5096 : FVec F S2x256x256 .f32 := mulf main_v5089 main_v5095
  let main_v5097 : FVec F S2x256x256 .f32 := subf main_v5083 main_v5096
  let main_v5098 : FVec F S2x256x256 .f32 := select main_v5094 main_v5097 main_v5083
  fn_part246 (F := F) main_arg0 main_v8 main_v4875 main_v4987 main_v4988 main_v5089 main_v5091 main_v5098

def fn_part244 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5045 : FVec F S2x256x256 .f32) (main_v5046 : FVec F S2x1x256 .f32) (main_v5051 : FVec F S2x256x256 .f32) (main_v5053 : IVec S2x256x256 1) (main_v5056 : IVec S2x256x256 1) : IVec S9x256x256 1 × IVec S8x256x256 1 :=
  let main_v5057 : FVec F S2x256x256 .f32 := broadcastInDim S2x256x256 ![0, 1, 2] bcast_S2x1x256_S2x256x256_0_1_2 main_v5046
  let main_v5058 : FVec F S2x256x256 .f32 := mulf main_v5051 main_v5057
  let main_v5059 : FVec F S2x256x256 .f32 := subf main_v5045 main_v5058
  let main_v5060 : FVec F S2x256x256 .f32 := select main_v5056 main_v5059 main_v5045
  let main_c_798 : IVec S_ 32 := constantI S_ 32 3#32
  let main_v5061 : IVec S2x256x256 32 := broadcastInDim S2x256x256 ![] bcast_S_S2x256x256 main_c_798
  let main_v5062 : IVec S2x256x256 1 := cmpi .eq main_v4988 main_v5061
  let main_v5063 : IVec S2x256x256 1 := andi main_v5053 main_v5062
  let main_v5064 : FVec F S2x256x256 .f32 := select main_v5063 main_v5051 main_v5060
  let main_v5065 : FVec F S2x1x256 .f32 := (extractStridedSlice S2x1x256 ![0, 4, 0] · slices_S2x256x256_S2x1x256_0_4_0) main_v5064
  let main_v5066 : FVec F S2x256x1 .f32 := (extractStridedSlice S2x256x1 ![0, 0, 4] · slices_S2x256x256_S2x256x1_0_0_4) main_v5064
  let main_v5067 : FVec F S2x1x1 .f32 := (extractStridedSlice S2x1x1 ![0, 0, 4] · slices_S2x1x256_S2x1x1_0_0_4) main_v5065
  let main_v5068 : FVec F S2x256x1 .f32 := broadcastInDim S2x256x1 ![0, 1, 2] bcast_S2x1x1_S2x256x1_0_1_2 main_v5067
  let main_v5069 : FVec F S2x256x1 .f32 := Host.divf main_v5066 main_v5068
  let main_v5070 : FVec F S2x256x256 .f32 := broadcastInDim S2x256x256 ![0, 1, 2] bcast_S2x256x1_S2x256x256_0_1_2 main_v5069
  let main_c_799 : IVec S_ 32 := constantI S_ 32 4#32
  let main_v5071 : IVec S2x256x256 32 := broadcastInDim S2x256x256 ![] bcast_S_S2x256x256 main_c_799
  let main_v5072 : IVec S2x256x256 1 := cmpi .sgt main_v4987 main_v5071
  let main_c_800 : IVec S_ 32 := constantI S_ 32 4#32
  let main_v5073 : IVec S2x256x256 32 := broadcastInDim S2x256x256 ![] bcast_S_S2x256x256 main_c_800
  let main_v5074 : IVec S2x256x256 1 := cmpi .sgt main_v4988 main_v5073
  let main_v5075 : IVec S2x256x256 1 := andi main_v5072 main_v5074
  let main_v5076 : FVec F S2x256x256 .f32 := broadcastInDim S2x256x256 ![0, 1, 2] bcast_S2x1x256_S2x256x256_0_1_2 main_v5065
  let main_v5077 : FVec F S2x256x256 .f32 := mulf main_v5070 main_v5076
  fn_part245 (F := F) main_arg0 main_v8 main_v4875 main_v4987 main_v4988 main_v5064 main_v5070 main_v5072 main_v5075 main_v5077

def fn_part243 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5026 : FVec F S2x256x256 .f32) (main_v5027 : FVec F S2x1x256 .f32) (main_v5032 : FVec F S2x256x256 .f32) (main_v5034 : IVec S2x256x256 1) (main_v5035 : IVec S2x256x256 32) : IVec S9x256x256 1 × IVec S8x256x256 1 :=
  let main_v5036 : IVec S2x256x256 1 := cmpi .sgt main_v4988 main_v5035
  let main_v5037 : IVec S2x256x256 1 := andi main_v5034 main_v5036
  let main_v5038 : FVec F S2x256x256 .f32 := broadcastInDim S2x256x256 ![0, 1, 2] bcast_S2x1x256_S2x256x256_0_1_2 main_v5027
  let main_v5039 : FVec F S2x256x256 .f32 := mulf main_v5032 main_v5038
  let main_v5040 : FVec F S2x256x256 .f32 := subf main_v5026 main_v5039
  let main_v5041 : FVec F S2x256x256 .f32 := select main_v5037 main_v5040 main_v5026
  let main_c_795 : IVec S_ 32 := constantI S_ 32 2#32
  let main_v5042 : IVec S2x256x256 32 := broadcastInDim S2x256x256 ![] bcast_S_S2x256x256 main_c_795
  let main_v5043 : IVec S2x256x256 1 := cmpi .eq main_v4988 main_v5042
  let main_v5044 : IVec S2x256x256 1 := andi main_v5034 main_v5043
  let main_v5045 : FVec F S2x256x256 .f32 := select main_v5044 main_v5032 main_v5041
  let main_v5046 : FVec F S2x1x256 .f32 := (extractStridedSlice S2x1x256 ![0, 3, 0] · slices_S2x256x256_S2x1x256_0_3_0) main_v5045
  let main_v5047 : FVec F S2x256x1 .f32 := (extractStridedSlice S2x256x1 ![0, 0, 3] · slices_S2x256x256_S2x256x1_0_0_3) main_v5045
  let main_v5048 : FVec F S2x1x1 .f32 := (extractStridedSlice S2x1x1 ![0, 0, 3] · slices_S2x1x256_S2x1x1_0_0_3) main_v5046
  let main_v5049 : FVec F S2x256x1 .f32 := broadcastInDim S2x256x1 ![0, 1, 2] bcast_S2x1x1_S2x256x1_0_1_2 main_v5048
  let main_v5050 : FVec F S2x256x1 .f32 := Host.divf main_v5047 main_v5049
  let main_v5051 : FVec F S2x256x256 .f32 := broadcastInDim S2x256x256 ![0, 1, 2] bcast_S2x256x1_S2x256x256_0_1_2 main_v5050
  let main_c_796 : IVec S_ 32 := constantI S_ 32 3#32
  let main_v5052 : IVec S2x256x256 32 := broadcastInDim S2x256x256 ![] bcast_S_S2x256x256 main_c_796
  let main_v5053 : IVec S2x256x256 1 := cmpi .sgt main_v4987 main_v5052
  let main_c_797 : IVec S_ 32 := constantI S_ 32 3#32
  let main_v5054 : IVec S2x256x256 32 := broadcastInDim S2x256x256 ![] bcast_S_S2x256x256 main_c_797
  let main_v5055 : IVec S2x256x256 1 := cmpi .sgt main_v4988 main_v5054
  let main_v5056 : IVec S2x256x256 1 := andi main_v5053 main_v5055
  fn_part244 (F := F) main_arg0 main_v8 main_v4875 main_v4987 main_v4988 main_v5045 main_v5046 main_v5051 main_v5053 main_v5056

def fn_part242 {F : FTy → Type} [FloatOps F] (main_arg0 : FVec F S9x256x256 .f32) (main_v8 : FVec F S1x256x256 .f32) (main_v4875 : FVec F S5x256x256 .f32) (main_v4987 : IVec S2x256x256 32) (main_v4988 : IVec S2x256x256 32) (main_v5007 : FVec F S2x256x256 .f32) (main_v5008 : FVec F S2x1x256 .f32) (main_v5013 : FVec F S2x256x256 .f32) (main_v5015 : IVec S2x256x256 1) : IVec S9x256x256 1 × IVec S8x256x256 1 :=
  let main_c_791 : IVec S_ 32 := constantI S_ 32 1#32
  let main_v5016 : IVec S2x256x256 32 := broadcastInDim S2x256x256 ![] bcast_S_S2x256x256 main_c_791
  let main_v5017 : IVec S2x256x256 1 := cmpi .sgt main_v4988 main_v5016
  let main_v5018 : IVec S2x256x256 1 := andi main_v5015 main_v5017
  let main_v5019 : FVec F S2x256x256 .f32 := broadcastInDim S2x256x256 ![0, 1, 2] bcast_S2x1x256_S2x256x256_0_1_2 main_v5008
  let main_v5020 : FVec F S2x256x256 .f32 := mulf main_v5013 main_v5019
  let main_v5021 : FVec F S2x256x256 .f32 := subf main_v5007 main_v5020
  let main_v5022 : FVec F S2x256x256 .f32 := select main_v5018 main_v5021 main_v5007
  let main_c_792 : IVec S_ 32 := constantI S_ 32 1#32
  let main_v5023 : IVec S2x256x256 32 := broadcastInDim S2x256x256 ![] bcast_S_S2x256x256 main_c_792
  let main_v5024 : IVec S2x256x256 1 := cmpi .eq main_v4988 main_v5023
  let main_v5025 : IVec S2x256x256 1 := andi main_v5015 main_v5024
  let main_v5026 : FVec F S2x256x256 .f32 := select main_v5025 main_v5013 main_v5022
  let main_v5027 : FVec F S2x1x256 .f32 := (extractStridedSlice S2x1x256 ![0, 2, 0] · slices_S2x256x256_S2x1x256_0_2_0) main_v5026
  let main_v5028 : FVec F S2x256x1 .f32 := (extractStridedSlice S2x256x1 ![0, 0, 2] · slices_S2x256x256_S2x256x1_0_0_2) main_v5026
  let main_v5029 : FVec F S2x1x1 .f32 := (extractStridedSlice S2x1x1 ![0, 0, 2] · slices_S2x1x256_S2x1x1_0_0_2) main_v5027
  let main_v5030 : FVec F S2x256x1 .f32 := broadcastInDim S2x256x1 ![0, 1, 2] bcast_S2x1x1_S2x256x1_0_1_2 main_v5029
  let main_v5031 : FVec F S2x256x1 .f32 := Host.divf main_v5028 main_v5030
  let main_v5032 : FVec F S2x256x256 .f32 := broadcastInDim S2x256x256 ![0, 1, 2] bcast_S2x256x1_S2x256x256_0_1_2 main_v5031
  let main_c_793 : IVec S_ 32 := constantI S_ 32 2#32
  let main_v5033 : IVec S2x256x256 32 := broadcastInDim S2x256x256 ![] bcast_S_S2x256x256 main_c_793
  let main_v5034 : IVec S2x256x256 1 := cmpi .sgt main_v4987 main_v5033
  let main_c_794 : IVec S_ 32 := constantI S_ 32 2#32
  let main_v5035 : IVec S2x256x256 32 := broadcastInDim S2x256x256 ![] bcast_S_S2x256x256 main_c_794
  fn_part243 (F := F) main_arg0 main_v8 main_v4875 main_v4987 main_v4988 main_v5026 main_v5027 main_v5032 main_v5034 main_v5035

def fn_part241 {F : FTy → Type} [FloatOps F] (main_arg0 : FVec F S9x256x256 .f32) (main_v8 : FVec F S1x256x256 .f32) (main_v4875 : FVec F S5x256x256 .f32) (main_v4986 : FVec F S2x256x256 .f32) (main_v4987 : IVec S2x256x256 32) (main_v4988 : IVec S2x256x256 32) (main_v4989 : FVec F S2x1x256 .f32) (main_v4994 : FVec F S2x256x256 .f32) (main_c_787 : IVec S_ 32) : IVec S9x256x256 1 × IVec S8x256x256 1 :=
  let main_v4995 : IVec S2x256x256 32 := broadcastInDim S2x256x256 ![] bcast_S_S2x256x256 main_c_787
  let main_v4996 : IVec S2x256x256 1 := cmpi .sgt main_v4987 main_v4995
  let main_c_788 : IVec S_ 32 := constantI S_ 32 0#32
  let main_v4997 : IVec S2x256x256 32 := broadcastInDim S2x256x256 ![] bcast_S_S2x256x256 main_c_788
  let main_v4998 : IVec S2x256x256 1 := cmpi .sgt main_v4988 main_v4997
  let main_v4999 : IVec S2x256x256 1 := andi main_v4996 main_v4998
  let main_v5000 : FVec F S2x256x256 .f32 := broadcastInDim S2x256x256 ![0, 1, 2] bcast_S2x1x256_S2x256x256_0_1_2 main_v4989
  let main_v5001 : FVec F S2x256x256 .f32 := mulf main_v4994 main_v5000
  let main_v5002 : FVec F S2x256x256 .f32 := subf main_v4986 main_v5001
  let main_v5003 : FVec F S2x256x256 .f32 := select main_v4999 main_v5002 main_v4986
  let main_c_789 : IVec S_ 32 := constantI S_ 32 0#32
  let main_v5004 : IVec S2x256x256 32 := broadcastInDim S2x256x256 ![] bcast_S_S2x256x256 main_c_789
  let main_v5005 : IVec S2x256x256 1 := cmpi .eq main_v4988 main_v5004
  let main_v5006 : IVec S2x256x256 1 := andi main_v4996 main_v5005
  let main_v5007 : FVec F S2x256x256 .f32 := select main_v5006 main_v4994 main_v5003
  let main_v5008 : FVec F S2x1x256 .f32 := (extractStridedSlice S2x1x256 ![0, 1, 0] · slices_S2x256x256_S2x1x256_0_1_0) main_v5007
  let main_v5009 : FVec F S2x256x1 .f32 := (extractStridedSlice S2x256x1 ![0, 0, 1] · slices_S2x256x256_S2x256x1_0_0_1) main_v5007
  let main_v5010 : FVec F S2x1x1 .f32 := (extractStridedSlice S2x1x1 ![0, 0, 1] · slices_S2x1x256_S2x1x1_0_0_1) main_v5008
  let main_v5011 : FVec F S2x256x1 .f32 := broadcastInDim S2x256x1 ![0, 1, 2] bcast_S2x1x1_S2x256x1_0_1_2 main_v5010
  let main_v5012 : FVec F S2x256x1 .f32 := Host.divf main_v5009 main_v5011
  let main_v5013 : FVec F S2x256x256 .f32 := broadcastInDim S2x256x256 ![0, 1, 2] bcast_S2x256x1_S2x256x256_0_1_2 main_v5012
  let main_c_790 : IVec S_ 32 := constantI S_ 32 1#32
  let main_v5014 : IVec S2x256x256 32 := broadcastInDim S2x256x256 ![] bcast_S_S2x256x256 main_c_790
  let main_v5015 : IVec S2x256x256 1 := cmpi .sgt main_v4987 main_v5014
  fn_part242 (F := F) main_arg0 main_v8 main_v4875 main_v4987 main_v4988 main_v5007 main_v5008 main_v5013 main_v5015

def fn_part240 {F : FTy → Type} [FloatOps F] (main_arg0 : FVec F S9x256x256 .f32) (main_v8 : FVec F S1x256x256 .f32) (main_v4875 : FVec F S5x256x256 .f32) (main_v4930 : FVec F S1x256x256 .f32) (main_v4963 : FVec F S1x256x256 .f32) (main_v4971 : IVec S1x256x256 1) (main_v4973 : FVec F S1x256x256 .f32) : IVec S9x256x256 1 × IVec S8x256x256 1 :=
  let main_v4974 : FVec F S1x256x256 .f32 := select main_v4971 main_v4973 main_v4963
  let main_v4975 : FVec F S1x1x1 .f32 := (extractStridedSlice S1x1x1 ![4, 4, 4] · slices_S5x256x256_S1x1x1_4_4_4) main_v4875
  let main_v4976 : IVec S1x256x256 32 := iotaInDim S1x256x256 32 1
  let main_v4977 : IVec S1x256x256 32 := iotaInDim S1x256x256 32 2
  let main_c_785 : IVec S_ 32 := constantI S_ 32 1#32
  let main_v4978 : IVec S1x256x256 32 := broadcastInDim S1x256x256 ![] bcast_S_S1x256x256 main_c_785
  let main_v4979 : IVec S1x256x256 1 := cmpi .eq main_v4976 main_v4978
  let main_c_786 : IVec S_ 32 := constantI S_ 32 1#32
  let main_v4980 : IVec S1x256x256 32 := broadcastInDim S1x256x256 ![] bcast_S_S1x256x256 main_c_786
  let main_v4981 : IVec S1x256x256 1 := cmpi .eq main_v4977 main_v4980
  let main_v4982 : IVec S1x256x256 1 := andi main_v4979 main_v4981
  let main_v4983 : FVec F S1x256x256 .f32 := broadcastInDim S1x256x256 ![0, 1, 2] bcast_S1x1x1_S1x256x256_0_1_2 main_v4975
  let main_v4984 : FVec F S1x256x256 .f32 := subf main_v4974 main_v4983
  let main_v4985 : FVec F S1x256x256 .f32 := select main_v4982 main_v4984 main_v4974
  let main_v4986 : FVec F S2x256x256 .f32 := (fun a b => concatenate S2x256x256 0 [⟨S1x256x256, a⟩, ⟨S1x256x256, b⟩] concatenates_S1x256x256_S1x256x256_S2x256x256_d0) main_v4930 main_v4985
  let main_v4987 : IVec S2x256x256 32 := iotaInDim S2x256x256 32 1
  let main_v4988 : IVec S2x256x256 32 := iotaInDim S2x256x256 32 2
  let main_v4989 : FVec F S2x1x256 .f32 := (extractStridedSlice S2x1x256 ![0, 0, 0] · slices_S2x256x256_S2x1x256_0_0_0) main_v4986
  let main_v4990 : FVec F S2x256x1 .f32 := (extractStridedSlice S2x256x1 ![0, 0, 0] · slices_S2x256x256_S2x256x1_0_0_0) main_v4986
  let main_v4991 : FVec F S2x1x1 .f32 := (extractStridedSlice S2x1x1 ![0, 0, 0] · slices_S2x1x256_S2x1x1_0_0_0) main_v4989
  let main_v4992 : FVec F S2x256x1 .f32 := broadcastInDim S2x256x1 ![0, 1, 2] bcast_S2x1x1_S2x256x1_0_1_2 main_v4991
  let main_v4993 : FVec F S2x256x1 .f32 := Host.divf main_v4990 main_v4992
  let main_v4994 : FVec F S2x256x256 .f32 := broadcastInDim S2x256x256 ![0, 1, 2] bcast_S2x256x1_S2x256x256_0_1_2 main_v4993
  let main_c_787 : IVec S_ 32 := constantI S_ 32 0#32
  fn_part241 (F := F) main_arg0 main_v8 main_v4875 main_v4986 main_v4987 main_v4988 main_v4989 main_v4994 main_c_787

def fn_part239 {F : FTy → Type} [FloatOps F] (main_arg0 : FVec F S9x256x256 .f32) (main_v8 : FVec F S1x256x256 .f32) (main_v4875 : FVec F S5x256x256 .f32) (main_v4930 : FVec F S1x256x256 .f32) (main_v4952 : FVec F S1x256x256 .f32) (main_v4953 : FVec F S1x1x1 .f32) : IVec S9x256x256 1 × IVec S8x256x256 1 :=
  let main_v4954 : IVec S1x256x256 32 := iotaInDim S1x256x256 32 1
  let main_v4955 : IVec S1x256x256 32 := iotaInDim S1x256x256 32 2
  let main_c_781 : IVec S_ 32 := constantI S_ 32 0#32
  let main_v4956 : IVec S1x256x256 32 := broadcastInDim S1x256x256 ![] bcast_S_S1x256x256 main_c_781
  let main_v4957 : IVec S1x256x256 1 := cmpi .eq main_v4954 main_v4956
  let main_c_782 : IVec S_ 32 := constantI S_ 32 1#32
  let main_v4958 : IVec S1x256x256 32 := broadcastInDim S1x256x256 ![] bcast_S_S1x256x256 main_c_782
  let main_v4959 : IVec S1x256x256 1 := cmpi .eq main_v4955 main_v4958
  let main_v4960 : IVec S1x256x256 1 := andi main_v4957 main_v4959
  let main_v4961 : FVec F S1x256x256 .f32 := broadcastInDim S1x256x256 ![0, 1, 2] bcast_S1x1x1_S1x256x256_0_1_2 main_v4953
  let main_v4962 : FVec F S1x256x256 .f32 := subf main_v4952 main_v4961
  let main_v4963 : FVec F S1x256x256 .f32 := select main_v4960 main_v4962 main_v4952
  let main_v4964 : FVec F S1x1x1 .f32 := (extractStridedSlice S1x1x1 ![4, 4, 3] · slices_S5x256x256_S1x1x1_4_4_3) main_v4875
  let main_v4965 : IVec S1x256x256 32 := iotaInDim S1x256x256 32 1
  let main_v4966 : IVec S1x256x256 32 := iotaInDim S1x256x256 32 2
  let main_c_783 : IVec S_ 32 := constantI S_ 32 1#32
  let main_v4967 : IVec S1x256x256 32 := broadcastInDim S1x256x256 ![] bcast_S_S1x256x256 main_c_783
  let main_v4968 : IVec S1x256x256 1 := cmpi .eq main_v4965 main_v4967
  let main_c_784 : IVec S_ 32 := constantI S_ 32 0#32
  let main_v4969 : IVec S1x256x256 32 := broadcastInDim S1x256x256 ![] bcast_S_S1x256x256 main_c_784
  let main_v4970 : IVec S1x256x256 1 := cmpi .eq main_v4966 main_v4969
  let main_v4971 : IVec S1x256x256 1 := andi main_v4968 main_v4970
  let main_v4972 : FVec F S1x256x256 .f32 := broadcastInDim S1x256x256 ![0, 1, 2] bcast_S1x1x1_S1x256x256_0_1_2 main_v4964
  let main_v4973 : FVec F S1x256x256 .f32 := subf main_v4963 main_v4972
  fn_part240 (F := F) main_arg0 main_v8 main_v4875 main_v4930 main_v4963 main_v4971 main_v4973

def fn_part238 {F : FTy → Type} [FloatOps F] (main_arg0 : FVec F S9x256x256 .f32) (main_v7 : FVec F S1x256x256 .f32) (main_v8 : FVec F S1x256x256 .f32) (main_v4875 : FVec F S5x256x256 .f32) (main_v4930 : FVec F S1x256x256 .f32) (main_v4931 : FVec F S1x1x1 .f32) (main_v4932 : IVec S1x256x256 32) (main_v4933 : IVec S1x256x256 32) : IVec S9x256x256 1 × IVec S8x256x256 1 :=
  let main_c_777 : IVec S_ 32 := constantI S_ 32 0#32
  let main_v4934 : IVec S1x256x256 32 := broadcastInDim S1x256x256 ![] bcast_S_S1x256x256 main_c_777
  let main_v4935 : IVec S1x256x256 1 := cmpi .eq main_v4932 main_v4934
  let main_c_778 : IVec S_ 32 := constantI S_ 32 0#32
  let main_v4936 : IVec S1x256x256 32 := broadcastInDim S1x256x256 ![] bcast_S_S1x256x256 main_c_778
  let main_v4937 : IVec S1x256x256 1 := cmpi .eq main_v4933 main_v4936
  let main_v4938 : IVec S1x256x256 1 := andi main_v4935 main_v4937
  let main_v4939 : FVec F S1x256x256 .f32 := broadcastInDim S1x256x256 ![0, 1, 2] bcast_S1x1x1_S1x256x256_0_1_2 main_v4931
  let main_v4940 : FVec F S1x256x256 .f32 := subf main_v7 main_v4939
  let main_v4941 : FVec F S1x256x256 .f32 := select main_v4938 main_v4940 main_v7
  let main_v4942 : FVec F S1x1x1 .f32 := (extractStridedSlice S1x1x1 ![4, 3, 3] · slices_S5x256x256_S1x1x1_4_3_3) main_v4875
  let main_v4943 : IVec S1x256x256 32 := iotaInDim S1x256x256 32 1
  let main_v4944 : IVec S1x256x256 32 := iotaInDim S1x256x256 32 2
  let main_c_779 : IVec S_ 32 := constantI S_ 32 0#32
  let main_v4945 : IVec S1x256x256 32 := broadcastInDim S1x256x256 ![] bcast_S_S1x256x256 main_c_779
  let main_v4946 : IVec S1x256x256 1 := cmpi .eq main_v4943 main_v4945
  let main_c_780 : IVec S_ 32 := constantI S_ 32 0#32
  let main_v4947 : IVec S1x256x256 32 := broadcastInDim S1x256x256 ![] bcast_S_S1x256x256 main_c_780
  let main_v4948 : IVec S1x256x256 1 := cmpi .eq main_v4944 main_v4947
  let main_v4949 : IVec S1x256x256 1 := andi main_v4946 main_v4948
  let main_v4950 : FVec F S1x256x256 .f32 := broadcastInDim S1x256x256 ![0, 1, 2] bcast_S1x1x1_S1x256x256_0_1_2 main_v4942
  let main_v4951 : FVec F S1x256x256 .f32 := subf main_v4941 main_v4950
  let main_v4952 : FVec F S1x256x256 .f32 := select main_v4949 main_v4951 main_v4941
  let main_v4953 : FVec F S1x1x1 .f32 := (extractStridedSlice S1x1x1 ![4, 3, 4] · slices_S5x256x256_S1x1x1_4_3_4) main_v4875
  fn_part239 (F := F) main_arg0 main_v8 main_v4875 main_v4930 main_v4952 main_v4953

def fn_part237 {F : FTy → Type} [FloatOps F] (main_arg0 : FVec F S9x256x256 .f32) (main_v7 : FVec F S1x256x256 .f32) (main_v8 : FVec F S1x256x256 .f32) (main_v4875 : FVec F S5x256x256 .f32) (main_v4908 : FVec F S1x256x256 .f32) (main_v4909 : FVec F S1x1x1 .f32) (main_v4910 : IVec S1x256x256 32) (main_v4911 : IVec S1x256x256 32) (main_v4912 : IVec S1x256x256 32) : IVec S9x256x256 1 × IVec S8x256x256 1 :=
  let main_v4913 : IVec S1x256x256 1 := cmpi .eq main_v4910 main_v4912
  let main_c_774 : IVec S_ 32 := constantI S_ 32 0#32
  let main_v4914 : IVec S1x256x256 32 := broadcastInDim S1x256x256 ![] bcast_S_S1x256x256 main_c_774
  let main_v4915 : IVec S1x256x256 1 := cmpi .eq main_v4911 main_v4914
  let main_v4916 : IVec S1x256x256 1 := andi main_v4913 main_v4915
  let main_v4917 : FVec F S1x256x256 .f32 := broadcastInDim S1x256x256 ![0, 1, 2] bcast_S1x1x1_S1x256x256_0_1_2 main_v4909
  let main_v4918 : FVec F S1x256x256 .f32 := subf main_v4908 main_v4917
  let main_v4919 : FVec F S1x256x256 .f32 := select main_v4916 main_v4918 main_v4908
  let main_v4920 : FVec F S1x1x1 .f32 := (extractStridedSlice S1x1x1 ![2, 3, 3] · slices_S5x256x256_S1x1x1_2_3_3) main_v4875
  let main_v4921 : IVec S1x256x256 32 := iotaInDim S1x256x256 32 1
  let main_v4922 : IVec S1x256x256 32 := iotaInDim S1x256x256 32 2
  let main_c_775 : IVec S_ 32 := constantI S_ 32 1#32
  let main_v4923 : IVec S1x256x256 32 := broadcastInDim S1x256x256 ![] bcast_S_S1x256x256 main_c_775
  let main_v4924 : IVec S1x256x256 1 := cmpi .eq main_v4921 main_v4923
  let main_c_776 : IVec S_ 32 := constantI S_ 32 1#32
  let main_v4925 : IVec S1x256x256 32 := broadcastInDim S1x256x256 ![] bcast_S_S1x256x256 main_c_776
  let main_v4926 : IVec S1x256x256 1 := cmpi .eq main_v4922 main_v4925
  let main_v4927 : IVec S1x256x256 1 := andi main_v4924 main_v4926
  let main_v4928 : FVec F S1x256x256 .f32 := broadcastInDim S1x256x256 ![0, 1, 2] bcast_S1x1x1_S1x256x256_0_1_2 main_v4920
  let main_v4929 : FVec F S1x256x256 .f32 := subf main_v4919 main_v4928
  let main_v4930 : FVec F S1x256x256 .f32 := select main_v4927 main_v4929 main_v4919
  let main_v4931 : FVec F S1x1x1 .f32 := (extractStridedSlice S1x1x1 ![3, 1, 1] · slices_S5x256x256_S1x1x1_3_1_1) main_v4875
  let main_v4932 : IVec S1x256x256 32 := iotaInDim S1x256x256 32 1
  let main_v4933 : IVec S1x256x256 32 := iotaInDim S1x256x256 32 2
  fn_part238 (F := F) main_arg0 main_v7 main_v8 main_v4875 main_v4930 main_v4931 main_v4932 main_v4933

def fn_part236 {F : FTy → Type} [FloatOps F] (main_arg0 : FVec F S9x256x256 .f32) (main_v7 : FVec F S1x256x256 .f32) (main_v8 : FVec F S1x256x256 .f32) (main_v4875 : FVec F S5x256x256 .f32) (main_v4886 : FVec F S1x256x256 .f32) (main_v4887 : FVec F S1x1x1 .f32) (main_v4889 : IVec S1x256x256 32) (main_v4891 : IVec S1x256x256 1) (main_c_770 : IVec S_ 32) : IVec S9x256x256 1 × IVec S8x256x256 1 :=
  let main_v4892 : IVec S1x256x256 32 := broadcastInDim S1x256x256 ![] bcast_S_S1x256x256 main_c_770
  let main_v4893 : IVec S1x256x256 1 := cmpi .eq main_v4889 main_v4892
  let main_v4894 : IVec S1x256x256 1 := andi main_v4891 main_v4893
  let main_v4895 : FVec F S1x256x256 .f32 := broadcastInDim S1x256x256 ![0, 1, 2] bcast_S1x1x1_S1x256x256_0_1_2 main_v4887
  let main_v4896 : FVec F S1x256x256 .f32 := subf main_v4886 main_v4895
  let main_v4897 : FVec F S1x256x256 .f32 := select main_v4894 main_v4896 main_v4886
  let main_v4898 : FVec F S1x1x1 .f32 := (extractStridedSlice S1x1x1 ![2, 2, 3] · slices_S5x256x256_S1x1x1_2_2_3) main_v4875
  let main_v4899 : IVec S1x256x256 32 := iotaInDim S1x256x256 32 1
  let main_v4900 : IVec S1x256x256 32 := iotaInDim S1x256x256 32 2
  let main_c_771 : IVec S_ 32 := constantI S_ 32 0#32
  let main_v4901 : IVec S1x256x256 32 := broadcastInDim S1x256x256 ![] bcast_S_S1x256x256 main_c_771
  let main_v4902 : IVec S1x256x256 1 := cmpi .eq main_v4899 main_v4901
  let main_c_772 : IVec S_ 32 := constantI S_ 32 1#32
  let main_v4903 : IVec S1x256x256 32 := broadcastInDim S1x256x256 ![] bcast_S_S1x256x256 main_c_772
  let main_v4904 : IVec S1x256x256 1 := cmpi .eq main_v4900 main_v4903
  let main_v4905 : IVec S1x256x256 1 := andi main_v4902 main_v4904
  let main_v4906 : FVec F S1x256x256 .f32 := broadcastInDim S1x256x256 ![0, 1, 2] bcast_S1x1x1_S1x256x256_0_1_2 main_v4898
  let main_v4907 : FVec F S1x256x256 .f32 := subf main_v4897 main_v4906
  let main_v4908 : FVec F S1x256x256 .f32 := select main_v4905 main_v4907 main_v4897
  let main_v4909 : FVec F S1x1x1 .f32 := (extractStridedSlice S1x1x1 ![2, 3, 2] · slices_S5x256x256_S1x1x1_2_3_2) main_v4875
  let main_v4910 : IVec S1x256x256 32 := iotaInDim S1x256x256 32 1
  let main_v4911 : IVec S1x256x256 32 := iotaInDim S1x256x256 32 2
  let main_c_773 : IVec S_ 32 := constantI S_ 32 1#32
  let main_v4912 : IVec S1x256x256 32 := broadcastInDim S1x256x256 ![] bcast_S_S1x256x256 main_c_773
  fn_part237 (F := F) main_arg0 main_v7 main_v8 main_v4875 main_v4908 main_v4909 main_v4910 main_v4911 main_v4912

def fn_part235 {F : FTy → Type} [FloatOps F] (main_arg0 : FVec F S9x256x256 .f32) (main_v3 : FVec F S1x256x256 .f32) (main_v7 : FVec F S1x256x256 .f32) (main_v8 : FVec F S1x256x256 .f32) (main_v11 : IVec S5x256x256 32) (main_v4862 : FVec F S5x256x256 .f32) (main_v4864 : IVec S5x256x256 1) (main_v4871 : FVec F S5x256x256 .f32) (main_c_766 : IVec S_ 32) : IVec S9x256x256 1 × IVec S8x256x256 1 :=
  let main_v4872 : IVec S5x256x256 32 := broadcastInDim S5x256x256 ![] bcast_S_S5x256x256 main_c_766
  let main_v4873 : IVec S5x256x256 1 := cmpi .eq main_v11 main_v4872
  let main_v4874 : IVec S5x256x256 1 := andi main_v4864 main_v4873
  let main_v4875 : FVec F S5x256x256 .f32 := select main_v4874 main_v4862 main_v4871
  let main_v4876 : FVec F S1x1x1 .f32 := (extractStridedSlice S1x1x1 ![1, 1, 1] · slices_S5x256x256_S1x1x1_1_1_1) main_v4875
  let main_v4877 : IVec S1x256x256 32 := iotaInDim S1x256x256 32 1
  let main_v4878 : IVec S1x256x256 32 := iotaInDim S1x256x256 32 2
  let main_c_767 : IVec S_ 32 := constantI S_ 32 0#32
  let main_v4879 : IVec S1x256x256 32 := broadcastInDim S1x256x256 ![] bcast_S_S1x256x256 main_c_767
  let main_v4880 : IVec S1x256x256 1 := cmpi .eq main_v4877 main_v4879
  let main_c_768 : IVec S_ 32 := constantI S_ 32 0#32
  let main_v4881 : IVec S1x256x256 32 := broadcastInDim S1x256x256 ![] bcast_S_S1x256x256 main_c_768
  let main_v4882 : IVec S1x256x256 1 := cmpi .eq main_v4878 main_v4881
  let main_v4883 : IVec S1x256x256 1 := andi main_v4880 main_v4882
  let main_v4884 : FVec F S1x256x256 .f32 := broadcastInDim S1x256x256 ![0, 1, 2] bcast_S1x1x1_S1x256x256_0_1_2 main_v4876
  let main_v4885 : FVec F S1x256x256 .f32 := subf main_v3 main_v4884
  let main_v4886 : FVec F S1x256x256 .f32 := select main_v4883 main_v4885 main_v3
  let main_v4887 : FVec F S1x1x1 .f32 := (extractStridedSlice S1x1x1 ![2, 2, 2] · slices_S5x256x256_S1x1x1_2_2_2) main_v4875
  let main_v4888 : IVec S1x256x256 32 := iotaInDim S1x256x256 32 1
  let main_v4889 : IVec S1x256x256 32 := iotaInDim S1x256x256 32 2
  let main_c_769 : IVec S_ 32 := constantI S_ 32 0#32
  let main_v4890 : IVec S1x256x256 32 := broadcastInDim S1x256x256 ![] bcast_S_S1x256x256 main_c_769
  let main_v4891 : IVec S1x256x256 1 := cmpi .eq main_v4888 main_v4890
  let main_c_770 : IVec S_ 32 := constantI S_ 32 0#32
  fn_part236 (F := F) main_arg0 main_v7 main_v8 main_v4875 main_v4886 main_v4887 main_v4889 main_v4891 main_c_770

def fn_part234 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4837 : FVec F S5x256x256 .f32) (main_v4843 : FVec F S5x256x256 .f32) (main_v4845 : IVec S5x256x256 1) (main_v4848 : IVec S5x256x256 1) (main_v4851 : FVec F S5x256x256 .f32) : IVec S9x256x256 1 × IVec S8x256x256 1 :=
  let main_v4852 : FVec F S5x256x256 .f32 := select main_v4848 main_v4851 main_v4837
  let main_c_763 : IVec S_ 32 := constantI S_ 32 254#32
  let main_v4853 : IVec S5x256x256 32 := broadcastInDim S5x256x256 ![] bcast_S_S5x256x256 main_c_763
  let main_v4854 : IVec S5x256x256 1 := cmpi .eq main_v11 main_v4853
  let main_v4855 : IVec S5x256x256 1 := andi main_v4845 main_v4854
  let main_v4856 : FVec F S5x256x256 .f32 := select main_v4855 main_v4843 main_v4852
  let main_v4857 : FVec F S5x1x256 .f32 := (extractStridedSlice S5x1x256 ![0, 255, 0] · slices_S5x256x256_S5x1x256_0_255_0) main_v4856
  let main_v4858 : FVec F S5x256x1 .f32 := (extractStridedSlice S5x256x1 ![0, 0, 255] · slices_S5x256x256_S5x256x1_0_0_255) main_v4856
  let main_v4859 : FVec F S5x1x1 .f32 := (extractStridedSlice S5x1x1 ![0, 0, 255] · slices_S5x1x256_S5x1x1_0_0_255) main_v4857
  let main_v4860 : FVec F S5x256x1 .f32 := broadcastInDim S5x256x1 ![0, 1, 2] bcast_S5x1x1_S5x256x1_0_1_2 main_v4859
  let main_v4861 : FVec F S5x256x1 .f32 := Host.divf main_v4858 main_v4860
  let main_v4862 : FVec F S5x256x256 .f32 := broadcastInDim S5x256x256 ![0, 1, 2] bcast_S5x256x1_S5x256x256_0_1_2 main_v4861
  let main_c_764 : IVec S_ 32 := constantI S_ 32 255#32
  let main_v4863 : IVec S5x256x256 32 := broadcastInDim S5x256x256 ![] bcast_S_S5x256x256 main_c_764
  let main_v4864 : IVec S5x256x256 1 := cmpi .sgt main_v10 main_v4863
  let main_c_765 : IVec S_ 32 := constantI S_ 32 255#32
  let main_v4865 : IVec S5x256x256 32 := broadcastInDim S5x256x256 ![] bcast_S_S5x256x256 main_c_765
  let main_v4866 : IVec S5x256x256 1 := cmpi .sgt main_v11 main_v4865
  let main_v4867 : IVec S5x256x256 1 := andi main_v4864 main_v4866
  let main_v4868 : FVec F S5x256x256 .f32 := broadcastInDim S5x256x256 ![0, 1, 2] bcast_S5x1x256_S5x256x256_0_1_2 main_v4857
  let main_v4869 : FVec F S5x256x256 .f32 := mulf main_v4862 main_v4868
  let main_v4870 : FVec F S5x256x256 .f32 := subf main_v4856 main_v4869
  let main_v4871 : FVec F S5x256x256 .f32 := select main_v4867 main_v4870 main_v4856
  let main_c_766 : IVec S_ 32 := constantI S_ 32 255#32
  fn_part235 (F := F) main_arg0 main_v3 main_v7 main_v8 main_v11 main_v4862 main_v4864 main_v4871 main_c_766

def fn_part233 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4818 : FVec F S5x256x256 .f32) (main_v4824 : FVec F S5x256x256 .f32) (main_v4826 : IVec S5x256x256 1) (main_v4829 : IVec S5x256x256 1) (main_v4830 : FVec F S5x256x256 .f32) : IVec S9x256x256 1 × IVec S8x256x256 1 :=
  let main_v4831 : FVec F S5x256x256 .f32 := mulf main_v4824 main_v4830
  let main_v4832 : FVec F S5x256x256 .f32 := subf main_v4818 main_v4831
  let main_v4833 : FVec F S5x256x256 .f32 := select main_v4829 main_v4832 main_v4818
  let main_c_760 : IVec S_ 32 := constantI S_ 32 253#32
  let main_v4834 : IVec S5x256x256 32 := broadcastInDim S5x256x256 ![] bcast_S_S5x256x256 main_c_760
  let main_v4835 : IVec S5x256x256 1 := cmpi .eq main_v11 main_v4834
  let main_v4836 : IVec S5x256x256 1 := andi main_v4826 main_v4835
  let main_v4837 : FVec F S5x256x256 .f32 := select main_v4836 main_v4824 main_v4833
  let main_v4838 : FVec F S5x1x256 .f32 := (extractStridedSlice S5x1x256 ![0, 254, 0] · slices_S5x256x256_S5x1x256_0_254_0) main_v4837
  let main_v4839 : FVec F S5x256x1 .f32 := (extractStridedSlice S5x256x1 ![0, 0, 254] · slices_S5x256x256_S5x256x1_0_0_254) main_v4837
  let main_v4840 : FVec F S5x1x1 .f32 := (extractStridedSlice S5x1x1 ![0, 0, 254] · slices_S5x1x256_S5x1x1_0_0_254) main_v4838
  let main_v4841 : FVec F S5x256x1 .f32 := broadcastInDim S5x256x1 ![0, 1, 2] bcast_S5x1x1_S5x256x1_0_1_2 main_v4840
  let main_v4842 : FVec F S5x256x1 .f32 := Host.divf main_v4839 main_v4841
  let main_v4843 : FVec F S5x256x256 .f32 := broadcastInDim S5x256x256 ![0, 1, 2] bcast_S5x256x1_S5x256x256_0_1_2 main_v4842
  let main_c_761 : IVec S_ 32 := constantI S_ 32 254#32
  let main_v4844 : IVec S5x256x256 32 := broadcastInDim S5x256x256 ![] bcast_S_S5x256x256 main_c_761
  let main_v4845 : IVec S5x256x256 1 := cmpi .sgt main_v10 main_v4844
  let main_c_762 : IVec S_ 32 := constantI S_ 32 254#32
  let main_v4846 : IVec S5x256x256 32 := broadcastInDim S5x256x256 ![] bcast_S_S5x256x256 main_c_762
  let main_v4847 : IVec S5x256x256 1 := cmpi .sgt main_v11 main_v4846
  let main_v4848 : IVec S5x256x256 1 := andi main_v4845 main_v4847
  let main_v4849 : FVec F S5x256x256 .f32 := broadcastInDim S5x256x256 ![0, 1, 2] bcast_S5x1x256_S5x256x256_0_1_2 main_v4838
  let main_v4850 : FVec F S5x256x256 .f32 := mulf main_v4843 main_v4849
  let main_v4851 : FVec F S5x256x256 .f32 := subf main_v4837 main_v4850
  fn_part234 (F := F) main_arg0 main_v3 main_v7 main_v8 main_v10 main_v11 main_v4837 main_v4843 main_v4845 main_v4848 main_v4851

def fn_part232 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4799 : FVec F S5x256x256 .f32) (main_v4800 : FVec F S5x1x256 .f32) (main_v4805 : FVec F S5x256x256 .f32) (main_v4807 : IVec S5x256x256 1) (main_v4809 : IVec S5x256x256 1) : IVec S9x256x256 1 × IVec S8x256x256 1 :=
  let main_v4810 : IVec S5x256x256 1 := andi main_v4807 main_v4809
  let main_v4811 : FVec F S5x256x256 .f32 := broadcastInDim S5x256x256 ![0, 1, 2] bcast_S5x1x256_S5x256x256_0_1_2 main_v4800
  let main_v4812 : FVec F S5x256x256 .f32 := mulf main_v4805 main_v4811
  let main_v4813 : FVec F S5x256x256 .f32 := subf main_v4799 main_v4812
  let main_v4814 : FVec F S5x256x256 .f32 := select main_v4810 main_v4813 main_v4799
  let main_c_757 : IVec S_ 32 := constantI S_ 32 252#32
  let main_v4815 : IVec S5x256x256 32 := broadcastInDim S5x256x256 ![] bcast_S_S5x256x256 main_c_757
  let main_v4816 : IVec S5x256x256 1 := cmpi .eq main_v11 main_v4815
  let main_v4817 : IVec S5x256x256 1 := andi main_v4807 main_v4816
  let main_v4818 : FVec F S5x256x256 .f32 := select main_v4817 main_v4805 main_v4814
  let main_v4819 : FVec F S5x1x256 .f32 := (extractStridedSlice S5x1x256 ![0, 253, 0] · slices_S5x256x256_S5x1x256_0_253_0) main_v4818
  let main_v4820 : FVec F S5x256x1 .f32 := (extractStridedSlice S5x256x1 ![0, 0, 253] · slices_S5x256x256_S5x256x1_0_0_253) main_v4818
  let main_v4821 : FVec F S5x1x1 .f32 := (extractStridedSlice S5x1x1 ![0, 0, 253] · slices_S5x1x256_S5x1x1_0_0_253) main_v4819
  let main_v4822 : FVec F S5x256x1 .f32 := broadcastInDim S5x256x1 ![0, 1, 2] bcast_S5x1x1_S5x256x1_0_1_2 main_v4821
  let main_v4823 : FVec F S5x256x1 .f32 := Host.divf main_v4820 main_v4822
  let main_v4824 : FVec F S5x256x256 .f32 := broadcastInDim S5x256x256 ![0, 1, 2] bcast_S5x256x1_S5x256x256_0_1_2 main_v4823
  let main_c_758 : IVec S_ 32 := constantI S_ 32 253#32
  let main_v4825 : IVec S5x256x256 32 := broadcastInDim S5x256x256 ![] bcast_S_S5x256x256 main_c_758
  let main_v4826 : IVec S5x256x256 1 := cmpi .sgt main_v10 main_v4825
  let main_c_759 : IVec S_ 32 := constantI S_ 32 253#32
  let main_v4827 : IVec S5x256x256 32 := broadcastInDim S5x256x256 ![] bcast_S_S5x256x256 main_c_759
  let main_v4828 : IVec S5x256x256 1 := cmpi .sgt main_v11 main_v4827
  let main_v4829 : IVec S5x256x256 1 := andi main_v4826 main_v4828
  let main_v4830 : FVec F S5x256x256 .f32 := broadcastInDim S5x256x256 ![0, 1, 2] bcast_S5x1x256_S5x256x256_0_1_2 main_v4819
  fn_part233 (F := F) main_arg0 main_v3 main_v7 main_v8 main_v10 main_v11 main_v4818 main_v4824 main_v4826 main_v4829 main_v4830

def fn_part231 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4780 : FVec F S5x256x256 .f32) (main_v4781 : FVec F S5x1x256 .f32) (main_v4786 : FVec F S5x256x256 .f32) (main_v4788 : IVec S5x256x256 1) (main_c_753 : IVec S_ 32) : IVec S9x256x256 1 × IVec S8x256x256 1 :=
  let main_v4789 : IVec S5x256x256 32 := broadcastInDim S5x256x256 ![] bcast_S_S5x256x256 main_c_753
  let main_v4790 : IVec S5x256x256 1 := cmpi .sgt main_v11 main_v4789
  let main_v4791 : IVec S5x256x256 1 := andi main_v4788 main_v4790
  let main_v4792 : FVec F S5x256x256 .f32 := broadcastInDim S5x256x256 ![0, 1, 2] bcast_S5x1x256_S5x256x256_0_1_2 main_v4781
  let main_v4793 : FVec F S5x256x256 .f32 := mulf main_v4786 main_v4792
  let main_v4794 : FVec F S5x256x256 .f32 := subf main_v4780 main_v4793
  let main_v4795 : FVec F S5x256x256 .f32 := select main_v4791 main_v4794 main_v4780
  let main_c_754 : IVec S_ 32 := constantI S_ 32 251#32
  let main_v4796 : IVec S5x256x256 32 := broadcastInDim S5x256x256 ![] bcast_S_S5x256x256 main_c_754
  let main_v4797 : IVec S5x256x256 1 := cmpi .eq main_v11 main_v4796
  let main_v4798 : IVec S5x256x256 1 := andi main_v4788 main_v4797
  let main_v4799 : FVec F S5x256x256 .f32 := select main_v4798 main_v4786 main_v4795
  let main_v4800 : FVec F S5x1x256 .f32 := (extractStridedSlice S5x1x256 ![0, 252, 0] · slices_S5x256x256_S5x1x256_0_252_0) main_v4799
  let main_v4801 : FVec F S5x256x1 .f32 := (extractStridedSlice S5x256x1 ![0, 0, 252] · slices_S5x256x256_S5x256x1_0_0_252) main_v4799
  let main_v4802 : FVec F S5x1x1 .f32 := (extractStridedSlice S5x1x1 ![0, 0, 252] · slices_S5x1x256_S5x1x1_0_0_252) main_v4800
  let main_v4803 : FVec F S5x256x1 .f32 := broadcastInDim S5x256x1 ![0, 1, 2] bcast_S5x1x1_S5x256x1_0_1_2 main_v4802
  let main_v4804 : FVec F S5x256x1 .f32 := Host.divf main_v4801 main_v4803
  let main_v4805 : FVec F S5x256x256 .f32 := broadcastInDim S5x256x256 ![0, 1, 2] bcast_S5x256x1_S5x256x256_0_1_2 main_v4804
  let main_c_755 : IVec S_ 32 := constantI S_ 32 252#32
  let main_v4806 : IVec S5x256x256 32 := broadcastInDim S5x256x256 ![] bcast_S_S5x256x256 main_c_755
  let main_v4807 : IVec S5x256x256 1 := cmpi .sgt main_v10 main_v4806
  let main_c_756 : IVec S_ 32 := constantI S_ 32 252#32
  let main_v4808 : IVec S5x256x256 32 := broadcastInDim S5x256x256 ![] bcast_S_S5x256x256 main_c_756
  let main_v4809 : IVec S5x256x256 1 := cmpi .sgt main_v11 main_v4808
  fn_part232 (F := F) main_arg0 main_v3 main_v7 main_v8 main_v10 main_v11 main_v4799 main_v4800 main_v4805 main_v4807 main_v4809

def fn_part230 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4761 : FVec F S5x256x256 .f32) (main_v4762 : FVec F S5x1x256 .f32) (main_v4767 : FVec F S5x256x256 .f32) (main_v4768 : IVec S5x256x256 32) : IVec S9x256x256 1 × IVec S8x256x256 1 :=
  let main_v4769 : IVec S5x256x256 1 := cmpi .sgt main_v10 main_v4768
  let main_c_750 : IVec S_ 32 := constantI S_ 32 250#32
  let main_v4770 : IVec S5x256x256 32 := broadcastInDim S5x256x256 ![] bcast_S_S5x256x256 main_c_750
  let main_v4771 : IVec S5x256x256 1 := cmpi .sgt main_v11 main_v4770
  let main_v4772 : IVec S5x256x256 1 := andi main_v4769 main_v4771
  let main_v4773 : FVec F S5x256x256 .f32 := broadcastInDim S5x256x256 ![0, 1, 2] bcast_S5x1x256_S5x256x256_0_1_2 main_v4762
  let main_v4774 : FVec F S5x256x256 .f32 := mulf main_v4767 main_v4773
  let main_v4775 : FVec F S5x256x256 .f32 := subf main_v4761 main_v4774
  let main_v4776 : FVec F S5x256x256 .f32 := select main_v4772 main_v4775 main_v4761
  let main_c_751 : IVec S_ 32 := constantI S_ 32 250#32
  let main_v4777 : IVec S5x256x256 32 := broadcastInDim S5x256x256 ![] bcast_S_S5x256x256 main_c_751
  let main_v4778 : IVec S5x256x256 1 := cmpi .eq main_v11 main_v4777
  let main_v4779 : IVec S5x256x256 1 := andi main_v4769 main_v4778
  let main_v4780 : FVec F S5x256x256 .f32 := select main_v4779 main_v4767 main_v4776
  let main_v4781 : FVec F S5x1x256 .f32 := (extractStridedSlice S5x1x256 ![0, 251, 0] · slices_S5x256x256_S5x1x256_0_251_0) main_v4780
  let main_v4782 : FVec F S5x256x1 .f32 := (extractStridedSlice S5x256x1 ![0, 0, 251] · slices_S5x256x256_S5x256x1_0_0_251) main_v4780
  let main_v4783 : FVec F S5x1x1 .f32 := (extractStridedSlice S5x1x1 ![0, 0, 251] · slices_S5x1x256_S5x1x1_0_0_251) main_v4781
  let main_v4784 : FVec F S5x256x1 .f32 := broadcastInDim S5x256x1 ![0, 1, 2] bcast_S5x1x1_S5x256x1_0_1_2 main_v4783
  let main_v4785 : FVec F S5x256x1 .f32 := Host.divf main_v4782 main_v4784
  let main_v4786 : FVec F S5x256x256 .f32 := broadcastInDim S5x256x256 ![0, 1, 2] bcast_S5x256x1_S5x256x256_0_1_2 main_v4785
  let main_c_752 : IVec S_ 32 := constantI S_ 32 251#32
  let main_v4787 : IVec S5x256x256 32 := broadcastInDim S5x256x256 ![] bcast_S_S5x256x256 main_c_752
  let main_v4788 : IVec S5x256x256 1 := cmpi .sgt main_v10 main_v4787
  let main_c_753 : IVec S_ 32 := constantI S_ 32 251#32
  fn_part231 (F := F) main_arg0 main_v3 main_v7 main_v8 main_v10 main_v11 main_v4780 main_v4781 main_v4786 main_v4788 main_c_753

def fn_part229 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4742 : FVec F S5x256x256 .f32) (main_v4743 : FVec F S5x1x256 .f32) (main_v4748 : FVec F S5x256x256 .f32) : IVec S9x256x256 1 × IVec S8x256x256 1 :=
  let main_c_746 : IVec S_ 32 := constantI S_ 32 249#32
  let main_v4749 : IVec S5x256x256 32 := broadcastInDim S5x256x256 ![] bcast_S_S5x256x256 main_c_746
  let main_v4750 : IVec S5x256x256 1 := cmpi .sgt main_v10 main_v4749
  let main_c_747 : IVec S_ 32 := constantI S_ 32 249#32
  let main_v4751 : IVec S5x256x256 32 := broadcastInDim S5x256x256 ![] bcast_S_S5x256x256 main_c_747
  let main_v4752 : IVec S5x256x256 1 := cmpi .sgt main_v11 main_v4751
  let main_v4753 : IVec S5x256x256 1 := andi main_v4750 main_v4752
  let main_v4754 : FVec F S5x256x256 .f32 := broadcastInDim S5x256x256 ![0, 1, 2] bcast_S5x1x256_S5x256x256_0_1_2 main_v4743
  let main_v4755 : FVec F S5x256x256 .f32 := mulf main_v4748 main_v4754
  let main_v4756 : FVec F S5x256x256 .f32 := subf main_v4742 main_v4755
  let main_v4757 : FVec F S5x256x256 .f32 := select main_v4753 main_v4756 main_v4742
  let main_c_748 : IVec S_ 32 := constantI S_ 32 249#32
  let main_v4758 : IVec S5x256x256 32 := broadcastInDim S5x256x256 ![] bcast_S_S5x256x256 main_c_748
  let main_v4759 : IVec S5x256x256 1 := cmpi .eq main_v11 main_v4758
  let main_v4760 : IVec S5x256x256 1 := andi main_v4750 main_v4759
  let main_v4761 : FVec F S5x256x256 .f32 := select main_v4760 main_v4748 main_v4757
  let main_v4762 : FVec F S5x1x256 .f32 := (extractStridedSlice S5x1x256 ![0, 250, 0] · slices_S5x256x256_S5x1x256_0_250_0) main_v4761
  let main_v4763 : FVec F S5x256x1 .f32 := (extractStridedSlice S5x256x1 ![0, 0, 250] · slices_S5x256x256_S5x256x1_0_0_250) main_v4761
  let main_v4764 : FVec F S5x1x1 .f32 := (extractStridedSlice S5x1x1 ![0, 0, 250] · slices_S5x1x256_S5x1x1_0_0_250) main_v4762
  let main_v4765 : FVec F S5x256x1 .f32 := broadcastInDim S5x256x1 ![0, 1, 2] bcast_S5x1x1_S5x256x1_0_1_2 main_v4764
  let main_v4766 : FVec F S5x256x1 .f32 := Host.divf main_v4763 main_v4765
  let main_v4767 : FVec F S5x256x256 .f32 := broadcastInDim S5x256x256 ![0, 1, 2] bcast_S5x256x1_S5x256x256_0_1_2 main_v4766
  let main_c_749 : IVec S_ 32 := constantI S_ 32 250#32
  let main_v4768 : IVec S5x256x256 32 := broadcastInDim S5x256x256 ![] bcast_S_S5x256x256 main_c_749
  fn_part230 (F := F) main_arg0 main_v3 main_v7 main_v8 main_v10 main_v11 main_v4761 main_v4762 main_v4767 main_v4768

def fn_part228 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4723 : FVec F S5x256x256 .f32) (main_v4724 : FVec F S5x1x256 .f32) (main_v4725 : FVec F S5x256x1 .f32) (main_v4727 : FVec F S5x256x1 .f32) : IVec S9x256x256 1 × IVec S8x256x256 1 :=
  let main_v4728 : FVec F S5x256x1 .f32 := Host.divf main_v4725 main_v4727
  let main_v4729 : FVec F S5x256x256 .f32 := broadcastInDim S5x256x256 ![0, 1, 2] bcast_S5x256x1_S5x256x256_0_1_2 main_v4728
  let main_c_743 : IVec S_ 32 := constantI S_ 32 248#32
  let main_v4730 : IVec S5x256x256 32 := broadcastInDim S5x256x256 ![] bcast_S_S5x256x256 main_c_743
  let main_v4731 : IVec S5x256x256 1 := cmpi .sgt main_v10 main_v4730
  let main_c_744 : IVec S_ 32 := constantI S_ 32 248#32
  let main_v4732 : IVec S5x256x256 32 := broadcastInDim S5x256x256 ![] bcast_S_S5x256x256 main_c_744
  let main_v4733 : IVec S5x256x256 1 := cmpi .sgt main_v11 main_v4732
  let main_v4734 : IVec S5x256x256 1 := andi main_v4731 main_v4733
  let main_v4735 : FVec F S5x256x256 .f32 := broadcastInDim S5x256x256 ![0, 1, 2] bcast_S5x1x256_S5x256x256_0_1_2 main_v4724
  let main_v4736 : FVec F S5x256x256 .f32 := mulf main_v4729 main_v4735
  let main_v4737 : FVec F S5x256x256 .f32 := subf main_v4723 main_v4736
  let main_v4738 : FVec F S5x256x256 .f32 := select main_v4734 main_v4737 main_v4723
  let main_c_745 : IVec S_ 32 := constantI S_ 32 248#32
  let main_v4739 : IVec S5x256x256 32 := broadcastInDim S5x256x256 ![] bcast_S_S5x256x256 main_c_745
  let main_v4740 : IVec S5x256x256 1 := cmpi .eq main_v11 main_v4739
  let main_v4741 : IVec S5x256x256 1 := andi main_v4731 main_v4740
  let main_v4742 : FVec F S5x256x256 .f32 := select main_v4741 main_v4729 main_v4738
  let main_v4743 : FVec F S5x1x256 .f32 := (extractStridedSlice S5x1x256 ![0, 249, 0] · slices_S5x256x256_S5x1x256_0_249_0) main_v4742
  let main_v4744 : FVec F S5x256x1 .f32 := (extractStridedSlice S5x256x1 ![0, 0, 249] · slices_S5x256x256_S5x256x1_0_0_249) main_v4742
  let main_v4745 : FVec F S5x1x1 .f32 := (extractStridedSlice S5x1x1 ![0, 0, 249] · slices_S5x1x256_S5x1x1_0_0_249) main_v4743
  let main_v4746 : FVec F S5x256x1 .f32 := broadcastInDim S5x256x1 ![0, 1, 2] bcast_S5x1x1_S5x256x1_0_1_2 main_v4745
  let main_v4747 : FVec F S5x256x1 .f32 := Host.divf main_v4744 main_v4746
  let main_v4748 : FVec F S5x256x256 .f32 := broadcastInDim S5x256x256 ![0, 1, 2] bcast_S5x256x1_S5x256x256_0_1_2 main_v4747
  fn_part229 (F := F) main_arg0 main_v3 main_v7 main_v8 main_v10 main_v11 main_v4742 main_v4743 main_v4748

def fn_part227 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4704 : FVec F S5x256x256 .f32) (main_v4705 : FVec F S5x1x256 .f32) (main_v4706 : FVec F S5x256x1 .f32) : IVec S9x256x256 1 × IVec S8x256x256 1 :=
  let main_v4707 : FVec F S5x1x1 .f32 := (extractStridedSlice S5x1x1 ![0, 0, 247] · slices_S5x1x256_S5x1x1_0_0_247) main_v4705
  let main_v4708 : FVec F S5x256x1 .f32 := broadcastInDim S5x256x1 ![0, 1, 2] bcast_S5x1x1_S5x256x1_0_1_2 main_v4707
  let main_v4709 : FVec F S5x256x1 .f32 := Host.divf main_v4706 main_v4708
  let main_v4710 : FVec F S5x256x256 .f32 := broadcastInDim S5x256x256 ![0, 1, 2] bcast_S5x256x1_S5x256x256_0_1_2 main_v4709
  let main_c_740 : IVec S_ 32 := constantI S_ 32 247#32
  let main_v4711 : IVec S5x256x256 32 := broadcastInDim S5x256x256 ![] bcast_S_S5x256x256 main_c_740
  let main_v4712 : IVec S5x256x256 1 := cmpi .sgt main_v10 main_v4711
  let main_c_741 : IVec S_ 32 := constantI S_ 32 247#32
  let main_v4713 : IVec S5x256x256 32 := broadcastInDim S5x256x256 ![] bcast_S_S5x256x256 main_c_741
  let main_v4714 : IVec S5x256x256 1 := cmpi .sgt main_v11 main_v4713
  let main_v4715 : IVec S5x256x256 1 := andi main_v4712 main_v4714
  let main_v4716 : FVec F S5x256x256 .f32 := broadcastInDim S5x256x256 ![0, 1, 2] bcast_S5x1x256_S5x256x256_0_1_2 main_v4705
  let main_v4717 : FVec F S5x256x256 .f32 := mulf main_v4710 main_v4716
  let main_v4718 : FVec F S5x256x256 .f32 := subf main_v4704 main_v4717
  let main_v4719 : FVec F S5x256x256 .f32 := select main_v4715 main_v4718 main_v4704
  let main_c_742 : IVec S_ 32 := constantI S_ 32 247#32
  let main_v4720 : IVec S5x256x256 32 := broadcastInDim S5x256x256 ![] bcast_S_S5x256x256 main_c_742
  let main_v4721 : IVec S5x256x256 1 := cmpi .eq main_v11 main_v4720
  let main_v4722 : IVec S5x256x256 1 := andi main_v4712 main_v4721
  let main_v4723 : FVec F S5x256x256 .f32 := select main_v4722 main_v4710 main_v4719
  let main_v4724 : FVec F S5x1x256 .f32 := (extractStridedSlice S5x1x256 ![0, 248, 0] · slices_S5x256x256_S5x1x256_0_248_0) main_v4723
  let main_v4725 : FVec F S5x256x1 .f32 := (extractStridedSlice S5x256x1 ![0, 0, 248] · slices_S5x256x256_S5x256x1_0_0_248) main_v4723
  let main_v4726 : FVec F S5x1x1 .f32 := (extractStridedSlice S5x1x1 ![0, 0, 248] · slices_S5x1x256_S5x1x1_0_0_248) main_v4724
  let main_v4727 : FVec F S5x256x1 .f32 := broadcastInDim S5x256x1 ![0, 1, 2] bcast_S5x1x1_S5x256x1_0_1_2 main_v4726
  fn_part228 (F := F) main_arg0 main_v3 main_v7 main_v8 main_v10 main_v11 main_v4723 main_v4724 main_v4725 main_v4727

def fn_part226 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4685 : FVec F S5x256x256 .f32) : IVec S9x256x256 1 × IVec S8x256x256 1 :=
  let main_v4686 : FVec F S5x1x256 .f32 := (extractStridedSlice S5x1x256 ![0, 246, 0] · slices_S5x256x256_S5x1x256_0_246_0) main_v4685
  let main_v4687 : FVec F S5x256x1 .f32 := (extractStridedSlice S5x256x1 ![0, 0, 246] · slices_S5x256x256_S5x256x1_0_0_246) main_v4685
  let main_v4688 : FVec F S5x1x1 .f32 := (extractStridedSlice S5x1x1 ![0, 0, 246] · slices_S5x1x256_S5x1x1_0_0_246) main_v4686
  let main_v4689 : FVec F S5x256x1 .f32 := broadcastInDim S5x256x1 ![0, 1, 2] bcast_S5x1x1_S5x256x1_0_1_2 main_v4688
  let main_v4690 : FVec F S5x256x1 .f32 := Host.divf main_v4687 main_v4689
  let main_v4691 : FVec F S5x256x256 .f32 := broadcastInDim S5x256x256 ![0, 1, 2] bcast_S5x256x1_S5x256x256_0_1_2 main_v4690
  let main_c_737 : IVec S_ 32 := constantI S_ 32 246#32
  let main_v4692 : IVec S5x256x256 32 := broadcastInDim S5x256x256 ![] bcast_S_S5x256x256 main_c_737
  let main_v4693 : IVec S5x256x256 1 := cmpi .sgt main_v10 main_v4692
  let main_c_738 : IVec S_ 32 := constantI S_ 32 246#32
  let main_v4694 : IVec S5x256x256 32 := broadcastInDim S5x256x256 ![] bcast_S_S5x256x256 main_c_738
  let main_v4695 : IVec S5x256x256 1 := cmpi .sgt main_v11 main_v4694
  let main_v4696 : IVec S5x256x256 1 := andi main_v4693 main_v4695
  let main_v4697 : FVec F S5x256x256 .f32 := broadcastInDim S5x256x256 ![0, 1, 2] bcast_S5x1x256_S5x256x256_0_1_2 main_v4686
  let main_v4698 : FVec F S5x256x256 .f32 := mulf main_v4691 main_v4697
  let main_v4699 : FVec F S5x256x256 .f32 := subf main_v4685 main_v4698
  let main_v4700 : FVec F S5x256x256 .f32 := select main_v4696 main_v4699 main_v4685
  let main_c_739 : IVec S_ 32 := constantI S_ 32 246#32
  let main_v4701 : IVec S5x256x256 32 := broadcastInDim S5x256x256 ![] bcast_S_S5x256x256 main_c_739
  let main_v4702 : IVec S5x256x256 1 := cmpi .eq main_v11 main_v4701
  let main_v4703 : IVec S5x256x256 1 := andi main_v4693 main_v4702
  let main_v4704 : FVec F S5x256x256 .f32 := select main_v4703 main_v4691 main_v4700
  let main_v4705 : FVec F S5x1x256 .f32 := (extractStridedSlice S5x1x256 ![0, 247, 0] · slices_S5x256x256_S5x1x256_0_247_0) main_v4704
  let main_v4706 : FVec F S5x256x1 .f32 := (extractStridedSlice S5x256x1 ![0, 0, 247] · slices_S5x256x256_S5x256x1_0_0_247) main_v4704
  fn_part227 (F := F) main_arg0 main_v3 main_v7 main_v8 main_v10 main_v11 main_v4704 main_v4705 main_v4706

def fn_part225 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4653 : FVec F S5x256x256 .f32) (main_v4655 : IVec S5x256x256 1) (main_v4662 : FVec F S5x256x256 .f32) (main_v4664 : IVec S5x256x256 1) : IVec S9x256x256 1 × IVec S8x256x256 1 :=
  let main_v4665 : IVec S5x256x256 1 := andi main_v4655 main_v4664
  let main_v4666 : FVec F S5x256x256 .f32 := select main_v4665 main_v4653 main_v4662
  let main_v4667 : FVec F S5x1x256 .f32 := (extractStridedSlice S5x1x256 ![0, 245, 0] · slices_S5x256x256_S5x1x256_0_245_0) main_v4666
  let main_v4668 : FVec F S5x256x1 .f32 := (extractStridedSlice S5x256x1 ![0, 0, 245] · slices_S5x256x256_S5x256x1_0_0_245) main_v4666
  let main_v4669 : FVec F S5x1x1 .f32 := (extractStridedSlice S5x1x1 ![0, 0, 245] · slices_S5x1x256_S5x1x1_0_0_245) main_v4667
  let main_v4670 : FVec F S5x256x1 .f32 := broadcastInDim S5x256x1 ![0, 1, 2] bcast_S5x1x1_S5x256x1_0_1_2 main_v4669
  let main_v4671 : FVec F S5x256x1 .f32 := Host.divf main_v4668 main_v4670
  let main_v4672 : FVec F S5x256x256 .f32 := broadcastInDim S5x256x256 ![0, 1, 2] bcast_S5x256x1_S5x256x256_0_1_2 main_v4671
  let main_c_734 : IVec S_ 32 := constantI S_ 32 245#32
  let main_v4673 : IVec S5x256x256 32 := broadcastInDim S5x256x256 ![] bcast_S_S5x256x256 main_c_734
  let main_v4674 : IVec S5x256x256 1 := cmpi .sgt main_v10 main_v4673
  let main_c_735 : IVec S_ 32 := constantI S_ 32 245#32
  let main_v4675 : IVec S5x256x256 32 := broadcastInDim S5x256x256 ![] bcast_S_S5x256x256 main_c_735
  let main_v4676 : IVec S5x256x256 1 := cmpi .sgt main_v11 main_v4675
  let main_v4677 : IVec S5x256x256 1 := andi main_v4674 main_v4676
  let main_v4678 : FVec F S5x256x256 .f32 := broadcastInDim S5x256x256 ![0, 1, 2] bcast_S5x1x256_S5x256x256_0_1_2 main_v4667
  let main_v4679 : FVec F S5x256x256 .f32 := mulf main_v4672 main_v4678
  let main_v4680 : FVec F S5x256x256 .f32 := subf main_v4666 main_v4679
  let main_v4681 : FVec F S5x256x256 .f32 := select main_v4677 main_v4680 main_v4666
  let main_c_736 : IVec S_ 32 := constantI S_ 32 245#32
  let main_v4682 : IVec S5x256x256 32 := broadcastInDim S5x256x256 ![] bcast_S_S5x256x256 main_c_736
  let main_v4683 : IVec S5x256x256 1 := cmpi .eq main_v11 main_v4682
  let main_v4684 : IVec S5x256x256 1 := andi main_v4674 main_v4683
  let main_v4685 : FVec F S5x256x256 .f32 := select main_v4684 main_v4672 main_v4681
  fn_part226 (F := F) main_arg0 main_v3 main_v7 main_v8 main_v10 main_v11 main_v4685

def fn_part224 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4634 : FVec F S5x256x256 .f32) (main_v4636 : IVec S5x256x256 1) (main_v4643 : FVec F S5x256x256 .f32) (main_c_730 : IVec S_ 32) : IVec S9x256x256 1 × IVec S8x256x256 1 :=
  let main_v4644 : IVec S5x256x256 32 := broadcastInDim S5x256x256 ![] bcast_S_S5x256x256 main_c_730
  let main_v4645 : IVec S5x256x256 1 := cmpi .eq main_v11 main_v4644
  let main_v4646 : IVec S5x256x256 1 := andi main_v4636 main_v4645
  let main_v4647 : FVec F S5x256x256 .f32 := select main_v4646 main_v4634 main_v4643
  let main_v4648 : FVec F S5x1x256 .f32 := (extractStridedSlice S5x1x256 ![0, 244, 0] · slices_S5x256x256_S5x1x256_0_244_0) main_v4647
  let main_v4649 : FVec F S5x256x1 .f32 := (extractStridedSlice S5x256x1 ![0, 0, 244] · slices_S5x256x256_S5x256x1_0_0_244) main_v4647
  let main_v4650 : FVec F S5x1x1 .f32 := (extractStridedSlice S5x1x1 ![0, 0, 244] · slices_S5x1x256_S5x1x1_0_0_244) main_v4648
  let main_v4651 : FVec F S5x256x1 .f32 := broadcastInDim S5x256x1 ![0, 1, 2] bcast_S5x1x1_S5x256x1_0_1_2 main_v4650
  let main_v4652 : FVec F S5x256x1 .f32 := Host.divf main_v4649 main_v4651
  let main_v4653 : FVec F S5x256x256 .f32 := broadcastInDim S5x256x256 ![0, 1, 2] bcast_S5x256x1_S5x256x256_0_1_2 main_v4652
  let main_c_731 : IVec S_ 32 := constantI S_ 32 244#32
  let main_v4654 : IVec S5x256x256 32 := broadcastInDim S5x256x256 ![] bcast_S_S5x256x256 main_c_731
  let main_v4655 : IVec S5x256x256 1 := cmpi .sgt main_v10 main_v4654
  let main_c_732 : IVec S_ 32 := constantI S_ 32 244#32
  let main_v4656 : IVec S5x256x256 32 := broadcastInDim S5x256x256 ![] bcast_S_S5x256x256 main_c_732
  let main_v4657 : IVec S5x256x256 1 := cmpi .sgt main_v11 main_v4656
  let main_v4658 : IVec S5x256x256 1 := andi main_v4655 main_v4657
  let main_v4659 : FVec F S5x256x256 .f32 := broadcastInDim S5x256x256 ![0, 1, 2] bcast_S5x1x256_S5x256x256_0_1_2 main_v4648
  let main_v4660 : FVec F S5x256x256 .f32 := mulf main_v4653 main_v4659
  let main_v4661 : FVec F S5x256x256 .f32 := subf main_v4647 main_v4660
  let main_v4662 : FVec F S5x256x256 .f32 := select main_v4658 main_v4661 main_v4647
  let main_c_733 : IVec S_ 32 := constantI S_ 32 244#32
  let main_v4663 : IVec S5x256x256 32 := broadcastInDim S5x256x256 ![] bcast_S_S5x256x256 main_c_733
  let main_v4664 : IVec S5x256x256 1 := cmpi .eq main_v11 main_v4663
  fn_part225 (F := F) main_arg0 main_v3 main_v7 main_v8 main_v10 main_v11 main_v4653 main_v4655 main_v4662 main_v4664

def fn_part223 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4609 : FVec F S5x256x256 .f32) (main_v4615 : FVec F S5x256x256 .f32) (main_v4617 : IVec S5x256x256 1) (main_v4620 : IVec S5x256x256 1) (main_v4623 : FVec F S5x256x256 .f32) : IVec S9x256x256 1 × IVec S8x256x256 1 :=
  let main_v4624 : FVec F S5x256x256 .f32 := select main_v4620 main_v4623 main_v4609
  let main_c_727 : IVec S_ 32 := constantI S_ 32 242#32
  let main_v4625 : IVec S5x256x256 32 := broadcastInDim S5x256x256 ![] bcast_S_S5x256x256 main_c_727
  let main_v4626 : IVec S5x256x256 1 := cmpi .eq main_v11 main_v4625
  let main_v4627 : IVec S5x256x256 1 := andi main_v4617 main_v4626
  let main_v4628 : FVec F S5x256x256 .f32 := select main_v4627 main_v4615 main_v4624
  let main_v4629 : FVec F S5x1x256 .f32 := (extractStridedSlice S5x1x256 ![0, 243, 0] · slices_S5x256x256_S5x1x256_0_243_0) main_v4628
  let main_v4630 : FVec F S5x256x1 .f32 := (extractStridedSlice S5x256x1 ![0, 0, 243] · slices_S5x256x256_S5x256x1_0_0_243) main_v4628
  let main_v4631 : FVec F S5x1x1 .f32 := (extractStridedSlice S5x1x1 ![0, 0, 243] · slices_S5x1x256_S5x1x1_0_0_243) main_v4629
  let main_v4632 : FVec F S5x256x1 .f32 := broadcastInDim S5x256x1 ![0, 1, 2] bcast_S5x1x1_S5x256x1_0_1_2 main_v4631
  let main_v4633 : FVec F S5x256x1 .f32 := Host.divf main_v4630 main_v4632
  let main_v4634 : FVec F S5x256x256 .f32 := broadcastInDim S5x256x256 ![0, 1, 2] bcast_S5x256x1_S5x256x256_0_1_2 main_v4633
  let main_c_728 : IVec S_ 32 := constantI S_ 32 243#32
  let main_v4635 : IVec S5x256x256 32 := broadcastInDim S5x256x256 ![] bcast_S_S5x256x256 main_c_728
  let main_v4636 : IVec S5x256x256 1 := cmpi .sgt main_v10 main_v4635
  let main_c_729 : IVec S_ 32 := constantI S_ 32 243#32
  let main_v4637 : IVec S5x256x256 32 := broadcastInDim S5x256x256 ![] bcast_S_S5x256x256 main_c_729
  let main_v4638 : IVec S5x256x256 1 := cmpi .sgt main_v11 main_v4637
  let main_v4639 : IVec S5x256x256 1 := andi main_v4636 main_v4638
  let main_v4640 : FVec F S5x256x256 .f32 := broadcastInDim S5x256x256 ![0, 1, 2] bcast_S5x1x256_S5x256x256_0_1_2 main_v4629
  let main_v4641 : FVec F S5x256x256 .f32 := mulf main_v4634 main_v4640
  let main_v4642 : FVec F S5x256x256 .f32 := subf main_v4628 main_v4641
  let main_v4643 : FVec F S5x256x256 .f32 := select main_v4639 main_v4642 main_v4628
  let main_c_730 : IVec S_ 32 := constantI S_ 32 243#32
  fn_part224 (F := F) main_arg0 main_v3 main_v7 main_v8 main_v10 main_v11 main_v4634 main_v4636 main_v4643 main_c_730

def fn_part222 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4590 : FVec F S5x256x256 .f32) (main_v4596 : FVec F S5x256x256 .f32) (main_v4598 : IVec S5x256x256 1) (main_v4601 : IVec S5x256x256 1) (main_v4602 : FVec F S5x256x256 .f32) : IVec S9x256x256 1 × IVec S8x256x256 1 :=
  let main_v4603 : FVec F S5x256x256 .f32 := mulf main_v4596 main_v4602
  let main_v4604 : FVec F S5x256x256 .f32 := subf main_v4590 main_v4603
  let main_v4605 : FVec F S5x256x256 .f32 := select main_v4601 main_v4604 main_v4590
  let main_c_724 : IVec S_ 32 := constantI S_ 32 241#32
  let main_v4606 : IVec S5x256x256 32 := broadcastInDim S5x256x256 ![] bcast_S_S5x256x256 main_c_724
  let main_v4607 : IVec S5x256x256 1 := cmpi .eq main_v11 main_v4606
  let main_v4608 : IVec S5x256x256 1 := andi main_v4598 main_v4607
  let main_v4609 : FVec F S5x256x256 .f32 := select main_v4608 main_v4596 main_v4605
  let main_v4610 : FVec F S5x1x256 .f32 := (extractStridedSlice S5x1x256 ![0, 242, 0] · slices_S5x256x256_S5x1x256_0_242_0) main_v4609
  let main_v4611 : FVec F S5x256x1 .f32 := (extractStridedSlice S5x256x1 ![0, 0, 242] · slices_S5x256x256_S5x256x1_0_0_242) main_v4609
  let main_v4612 : FVec F S5x1x1 .f32 := (extractStridedSlice S5x1x1 ![0, 0, 242] · slices_S5x1x256_S5x1x1_0_0_242) main_v4610
  let main_v4613 : FVec F S5x256x1 .f32 := broadcastInDim S5x256x1 ![0, 1, 2] bcast_S5x1x1_S5x256x1_0_1_2 main_v4612
  let main_v4614 : FVec F S5x256x1 .f32 := Host.divf main_v4611 main_v4613
  let main_v4615 : FVec F S5x256x256 .f32 := broadcastInDim S5x256x256 ![0, 1, 2] bcast_S5x256x1_S5x256x256_0_1_2 main_v4614
  let main_c_725 : IVec S_ 32 := constantI S_ 32 242#32
  let main_v4616 : IVec S5x256x256 32 := broadcastInDim S5x256x256 ![] bcast_S_S5x256x256 main_c_725
  let main_v4617 : IVec S5x256x256 1 := cmpi .sgt main_v10 main_v4616
  let main_c_726 : IVec S_ 32 := constantI S_ 32 242#32
  let main_v4618 : IVec S5x256x256 32 := broadcastInDim S5x256x256 ![] bcast_S_S5x256x256 main_c_726
  let main_v4619 : IVec S5x256x256 1 := cmpi .sgt main_v11 main_v4618
  let main_v4620 : IVec S5x256x256 1 := andi main_v4617 main_v4619
  let main_v4621 : FVec F S5x256x256 .f32 := broadcastInDim S5x256x256 ![0, 1, 2] bcast_S5x1x256_S5x256x256_0_1_2 main_v4610
  let main_v4622 : FVec F S5x256x256 .f32 := mulf main_v4615 main_v4621
  let main_v4623 : FVec F S5x256x256 .f32 := subf main_v4609 main_v4622
  fn_part223 (F := F) main_arg0 main_v3 main_v7 main_v8 main_v10 main_v11 main_v4609 main_v4615 main_v4617 main_v4620 main_v4623

def fn_part221 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4571 : FVec F S5x256x256 .f32) (main_v4572 : FVec F S5x1x256 .f32) (main_v4577 : FVec F S5x256x256 .f32) (main_v4579 : IVec S5x256x256 1) (main_v4581 : IVec S5x256x256 1) : IVec S9x256x256 1 × IVec S8x256x256 1 :=
  let main_v4582 : IVec S5x256x256 1 := andi main_v4579 main_v4581
  let main_v4583 : FVec F S5x256x256 .f32 := broadcastInDim S5x256x256 ![0, 1, 2] bcast_S5x1x256_S5x256x256_0_1_2 main_v4572
  let main_v4584 : FVec F S5x256x256 .f32 := mulf main_v4577 main_v4583
  let main_v4585 : FVec F S5x256x256 .f32 := subf main_v4571 main_v4584
  let main_v4586 : FVec F S5x256x256 .f32 := select main_v4582 main_v4585 main_v4571
  let main_c_721 : IVec S_ 32 := constantI S_ 32 240#32
  let main_v4587 : IVec S5x256x256 32 := broadcastInDim S5x256x256 ![] bcast_S_S5x256x256 main_c_721
  let main_v4588 : IVec S5x256x256 1 := cmpi .eq main_v11 main_v4587
  let main_v4589 : IVec S5x256x256 1 := andi main_v4579 main_v4588
  let main_v4590 : FVec F S5x256x256 .f32 := select main_v4589 main_v4577 main_v4586
  let main_v4591 : FVec F S5x1x256 .f32 := (extractStridedSlice S5x1x256 ![0, 241, 0] · slices_S5x256x256_S5x1x256_0_241_0) main_v4590
  let main_v4592 : FVec F S5x256x1 .f32 := (extractStridedSlice S5x256x1 ![0, 0, 241] · slices_S5x256x256_S5x256x1_0_0_241) main_v4590
  let main_v4593 : FVec F S5x1x1 .f32 := (extractStridedSlice S5x1x1 ![0, 0, 241] · slices_S5x1x256_S5x1x1_0_0_241) main_v4591
  let main_v4594 : FVec F S5x256x1 .f32 := broadcastInDim S5x256x1 ![0, 1, 2] bcast_S5x1x1_S5x256x1_0_1_2 main_v4593
  let main_v4595 : FVec F S5x256x1 .f32 := Host.divf main_v4592 main_v4594
  let main_v4596 : FVec F S5x256x256 .f32 := broadcastInDim S5x256x256 ![0, 1, 2] bcast_S5x256x1_S5x256x256_0_1_2 main_v4595
  let main_c_722 : IVec S_ 32 := constantI S_ 32 241#32
  let main_v4597 : IVec S5x256x256 32 := broadcastInDim S5x256x256 ![] bcast_S_S5x256x256 main_c_722
  let main_v4598 : IVec S5x256x256 1 := cmpi .sgt main_v10 main_v4597
  let main_c_723 : IVec S_ 32 := constantI S_ 32 241#32
  let main_v4599 : IVec S5x256x256 32 := broadcastInDim S5x256x256 ![] bcast_S_S5x256x256 main_c_723
  let main_v4600 : IVec S5x256x256 1 := cmpi .sgt main_v11 main_v4599
  let main_v4601 : IVec S5x256x256 1 := andi main_v4598 main_v4600
  let main_v4602 : FVec F S5x256x256 .f32 := broadcastInDim S5x256x256 ![0, 1, 2] bcast_S5x1x256_S5x256x256_0_1_2 main_v4591
  fn_part222 (F := F) main_arg0 main_v3 main_v7 main_v8 main_v10 main_v11 main_v4590 main_v4596 main_v4598 main_v4601 main_v4602

def fn_part220 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4552 : FVec F S5x256x256 .f32) (main_v4553 : FVec F S5x1x256 .f32) (main_v4558 : FVec F S5x256x256 .f32) (main_v4560 : IVec S5x256x256 1) (main_c_717 : IVec S_ 32) : IVec S9x256x256 1 × IVec S8x256x256 1 :=
  let main_v4561 : IVec S5x256x256 32 := broadcastInDim S5x256x256 ![] bcast_S_S5x256x256 main_c_717
  let main_v4562 : IVec S5x256x256 1 := cmpi .sgt main_v11 main_v4561
  let main_v4563 : IVec S5x256x256 1 := andi main_v4560 main_v4562
  let main_v4564 : FVec F S5x256x256 .f32 := broadcastInDim S5x256x256 ![0, 1, 2] bcast_S5x1x256_S5x256x256_0_1_2 main_v4553
  let main_v4565 : FVec F S5x256x256 .f32 := mulf main_v4558 main_v4564
  let main_v4566 : FVec F S5x256x256 .f32 := subf main_v4552 main_v4565
  let main_v4567 : FVec F S5x256x256 .f32 := select main_v4563 main_v4566 main_v4552
  let main_c_718 : IVec S_ 32 := constantI S_ 32 239#32
  let main_v4568 : IVec S5x256x256 32 := broadcastInDim S5x256x256 ![] bcast_S_S5x256x256 main_c_718
  let main_v4569 : IVec S5x256x256 1 := cmpi .eq main_v11 main_v4568
  let main_v4570 : IVec S5x256x256 1 := andi main_v4560 main_v4569
  let main_v4571 : FVec F S5x256x256 .f32 := select main_v4570 main_v4558 main_v4567
  let main_v4572 : FVec F S5x1x256 .f32 := (extractStridedSlice S5x1x256 ![0, 240, 0] · slices_S5x256x256_S5x1x256_0_240_0) main_v4571
  let main_v4573 : FVec F S5x256x1 .f32 := (extractStridedSlice S5x256x1 ![0, 0, 240] · slices_S5x256x256_S5x256x1_0_0_240) main_v4571
  let main_v4574 : FVec F S5x1x1 .f32 := (extractStridedSlice S5x1x1 ![0, 0, 240] · slices_S5x1x256_S5x1x1_0_0_240) main_v4572
  let main_v4575 : FVec F S5x256x1 .f32 := broadcastInDim S5x256x1 ![0, 1, 2] bcast_S5x1x1_S5x256x1_0_1_2 main_v4574
  let main_v4576 : FVec F S5x256x1 .f32 := Host.divf main_v4573 main_v4575
  let main_v4577 : FVec F S5x256x256 .f32 := broadcastInDim S5x256x256 ![0, 1, 2] bcast_S5x256x1_S5x256x256_0_1_2 main_v4576
  let main_c_719 : IVec S_ 32 := constantI S_ 32 240#32
  let main_v4578 : IVec S5x256x256 32 := broadcastInDim S5x256x256 ![] bcast_S_S5x256x256 main_c_719
  let main_v4579 : IVec S5x256x256 1 := cmpi .sgt main_v10 main_v4578
  let main_c_720 : IVec S_ 32 := constantI S_ 32 240#32
  let main_v4580 : IVec S5x256x256 32 := broadcastInDim S5x256x256 ![] bcast_S_S5x256x256 main_c_720
  let main_v4581 : IVec S5x256x256 1 := cmpi .sgt main_v11 main_v4580
  fn_part221 (F := F) main_arg0 main_v3 main_v7 main_v8 main_v10 main_v11 main_v4571 main_v4572 main_v4577 main_v4579 main_v4581

def fn_part219 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4533 : FVec F S5x256x256 .f32) (main_v4534 : FVec F S5x1x256 .f32) (main_v4539 : FVec F S5x256x256 .f32) (main_v4540 : IVec S5x256x256 32) : IVec S9x256x256 1 × IVec S8x256x256 1 :=
  let main_v4541 : IVec S5x256x256 1 := cmpi .sgt main_v10 main_v4540
  let main_c_714 : IVec S_ 32 := constantI S_ 32 238#32
  let main_v4542 : IVec S5x256x256 32 := broadcastInDim S5x256x256 ![] bcast_S_S5x256x256 main_c_714
  let main_v4543 : IVec S5x256x256 1 := cmpi .sgt main_v11 main_v4542
  let main_v4544 : IVec S5x256x256 1 := andi main_v4541 main_v4543
  let main_v4545 : FVec F S5x256x256 .f32 := broadcastInDim S5x256x256 ![0, 1, 2] bcast_S5x1x256_S5x256x256_0_1_2 main_v4534
  let main_v4546 : FVec F S5x256x256 .f32 := mulf main_v4539 main_v4545
  let main_v4547 : FVec F S5x256x256 .f32 := subf main_v4533 main_v4546
  let main_v4548 : FVec F S5x256x256 .f32 := select main_v4544 main_v4547 main_v4533
  let main_c_715 : IVec S_ 32 := constantI S_ 32 238#32
  let main_v4549 : IVec S5x256x256 32 := broadcastInDim S5x256x256 ![] bcast_S_S5x256x256 main_c_715
  let main_v4550 : IVec S5x256x256 1 := cmpi .eq main_v11 main_v4549
  let main_v4551 : IVec S5x256x256 1 := andi main_v4541 main_v4550
  let main_v4552 : FVec F S5x256x256 .f32 := select main_v4551 main_v4539 main_v4548
  let main_v4553 : FVec F S5x1x256 .f32 := (extractStridedSlice S5x1x256 ![0, 239, 0] · slices_S5x256x256_S5x1x256_0_239_0) main_v4552
  let main_v4554 : FVec F S5x256x1 .f32 := (extractStridedSlice S5x256x1 ![0, 0, 239] · slices_S5x256x256_S5x256x1_0_0_239) main_v4552
  let main_v4555 : FVec F S5x1x1 .f32 := (extractStridedSlice S5x1x1 ![0, 0, 239] · slices_S5x1x256_S5x1x1_0_0_239) main_v4553
  let main_v4556 : FVec F S5x256x1 .f32 := broadcastInDim S5x256x1 ![0, 1, 2] bcast_S5x1x1_S5x256x1_0_1_2 main_v4555
  let main_v4557 : FVec F S5x256x1 .f32 := Host.divf main_v4554 main_v4556
  let main_v4558 : FVec F S5x256x256 .f32 := broadcastInDim S5x256x256 ![0, 1, 2] bcast_S5x256x1_S5x256x256_0_1_2 main_v4557
  let main_c_716 : IVec S_ 32 := constantI S_ 32 239#32
  let main_v4559 : IVec S5x256x256 32 := broadcastInDim S5x256x256 ![] bcast_S_S5x256x256 main_c_716
  let main_v4560 : IVec S5x256x256 1 := cmpi .sgt main_v10 main_v4559
  let main_c_717 : IVec S_ 32 := constantI S_ 32 239#32
  fn_part220 (F := F) main_arg0 main_v3 main_v7 main_v8 main_v10 main_v11 main_v4552 main_v4553 main_v4558 main_v4560 main_c_717

def fn_part218 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4514 : FVec F S5x256x256 .f32) (main_v4515 : FVec F S5x1x256 .f32) (main_v4520 : FVec F S5x256x256 .f32) : IVec S9x256x256 1 × IVec S8x256x256 1 :=
  let main_c_710 : IVec S_ 32 := constantI S_ 32 237#32
  let main_v4521 : IVec S5x256x256 32 := broadcastInDim S5x256x256 ![] bcast_S_S5x256x256 main_c_710
  let main_v4522 : IVec S5x256x256 1 := cmpi .sgt main_v10 main_v4521
  let main_c_711 : IVec S_ 32 := constantI S_ 32 237#32
  let main_v4523 : IVec S5x256x256 32 := broadcastInDim S5x256x256 ![] bcast_S_S5x256x256 main_c_711
  let main_v4524 : IVec S5x256x256 1 := cmpi .sgt main_v11 main_v4523
  let main_v4525 : IVec S5x256x256 1 := andi main_v4522 main_v4524
  let main_v4526 : FVec F S5x256x256 .f32 := broadcastInDim S5x256x256 ![0, 1, 2] bcast_S5x1x256_S5x256x256_0_1_2 main_v4515
  let main_v4527 : FVec F S5x256x256 .f32 := mulf main_v4520 main_v4526
  let main_v4528 : FVec F S5x256x256 .f32 := subf main_v4514 main_v4527
  let main_v4529 : FVec F S5x256x256 .f32 := select main_v4525 main_v4528 main_v4514
  let main_c_712 : IVec S_ 32 := constantI S_ 32 237#32
  let main_v4530 : IVec S5x256x256 32 := broadcastInDim S5x256x256 ![] bcast_S_S5x256x256 main_c_712
  let main_v4531 : IVec S5x256x256 1 := cmpi .eq main_v11 main_v4530
  let main_v4532 : IVec S5x256x256 1 := andi main_v4522 main_v4531
  let main_v4533 : FVec F S5x256x256 .f32 := select main_v4532 main_v4520 main_v4529
  let main_v4534 : FVec F S5x1x256 .f32 := (extractStridedSlice S5x1x256 ![0, 238, 0] · slices_S5x256x256_S5x1x256_0_238_0) main_v4533
  let main_v4535 : FVec F S5x256x1 .f32 := (extractStridedSlice S5x256x1 ![0, 0, 238] · slices_S5x256x256_S5x256x1_0_0_238) main_v4533
  let main_v4536 : FVec F S5x1x1 .f32 := (extractStridedSlice S5x1x1 ![0, 0, 238] · slices_S5x1x256_S5x1x1_0_0_238) main_v4534
  let main_v4537 : FVec F S5x256x1 .f32 := broadcastInDim S5x256x1 ![0, 1, 2] bcast_S5x1x1_S5x256x1_0_1_2 main_v4536
  let main_v4538 : FVec F S5x256x1 .f32 := Host.divf main_v4535 main_v4537
  let main_v4539 : FVec F S5x256x256 .f32 := broadcastInDim S5x256x256 ![0, 1, 2] bcast_S5x256x1_S5x256x256_0_1_2 main_v4538
  let main_c_713 : IVec S_ 32 := constantI S_ 32 238#32
  let main_v4540 : IVec S5x256x256 32 := broadcastInDim S5x256x256 ![] bcast_S_S5x256x256 main_c_713
  fn_part219 (F := F) main_arg0 main_v3 main_v7 main_v8 main_v10 main_v11 main_v4533 main_v4534 main_v4539 main_v4540

def fn_part217 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4495 : FVec F S5x256x256 .f32) (main_v4496 : FVec F S5x1x256 .f32) (main_v4497 : FVec F S5x256x1 .f32) (main_v4499 : FVec F S5x256x1 .f32) : IVec S9x256x256 1 × IVec S8x256x256 1 :=
  let main_v4500 : FVec F S5x256x1 .f32 := Host.divf main_v4497 main_v4499
  let main_v4501 : FVec F S5x256x256 .f32 := broadcastInDim S5x256x256 ![0, 1, 2] bcast_S5x256x1_S5x256x256_0_1_2 main_v4500
  let main_c_707 : IVec S_ 32 := constantI S_ 32 236#32
  let main_v4502 : IVec S5x256x256 32 := broadcastInDim S5x256x256 ![] bcast_S_S5x256x256 main_c_707
  let main_v4503 : IVec S5x256x256 1 := cmpi .sgt main_v10 main_v4502
  let main_c_708 : IVec S_ 32 := constantI S_ 32 236#32
  let main_v4504 : IVec S5x256x256 32 := broadcastInDim S5x256x256 ![] bcast_S_S5x256x256 main_c_708
  let main_v4505 : IVec S5x256x256 1 := cmpi .sgt main_v11 main_v4504
  let main_v4506 : IVec S5x256x256 1 := andi main_v4503 main_v4505
  let main_v4507 : FVec F S5x256x256 .f32 := broadcastInDim S5x256x256 ![0, 1, 2] bcast_S5x1x256_S5x256x256_0_1_2 main_v4496
  let main_v4508 : FVec F S5x256x256 .f32 := mulf main_v4501 main_v4507
  let main_v4509 : FVec F S5x256x256 .f32 := subf main_v4495 main_v4508
  let main_v4510 : FVec F S5x256x256 .f32 := select main_v4506 main_v4509 main_v4495
  let main_c_709 : IVec S_ 32 := constantI S_ 32 236#32
  let main_v4511 : IVec S5x256x256 32 := broadcastInDim S5x256x256 ![] bcast_S_S5x256x256 main_c_709
  let main_v4512 : IVec S5x256x256 1 := cmpi .eq main_v11 main_v4511
  let main_v4513 : IVec S5x256x256 1 := andi main_v4503 main_v4512
  let main_v4514 : FVec F S5x256x256 .f32 := select main_v4513 main_v4501 main_v4510
  let main_v4515 : FVec F S5x1x256 .f32 := (extractStridedSlice S5x1x256 ![0, 237, 0] · slices_S5x256x256_S5x1x256_0_237_0) main_v4514
  let main_v4516 : FVec F S5x256x1 .f32 := (extractStridedSlice S5x256x1 ![0, 0, 237] · slices_S5x256x256_S5x256x1_0_0_237) main_v4514
  let main_v4517 : FVec F S5x1x1 .f32 := (extractStridedSlice S5x1x1 ![0, 0, 237] · slices_S5x1x256_S5x1x1_0_0_237) main_v4515
  let main_v4518 : FVec F S5x256x1 .f32 := broadcastInDim S5x256x1 ![0, 1, 2] bcast_S5x1x1_S5x256x1_0_1_2 main_v4517
  let main_v4519 : FVec F S5x256x1 .f32 := Host.divf main_v4516 main_v4518
  let main_v4520 : FVec F S5x256x256 .f32 := broadcastInDim S5x256x256 ![0, 1, 2] bcast_S5x256x1_S5x256x256_0_1_2 main_v4519
  fn_part218 (F := F) main_arg0 main_v3 main_v7 main_v8 main_v10 main_v11 main_v4514 main_v4515 main_v4520

def fn_part216 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4476 : FVec F S5x256x256 .f32) (main_v4477 : FVec F S5x1x256 .f32) (main_v4478 : FVec F S5x256x1 .f32) : IVec S9x256x256 1 × IVec S8x256x256 1 :=
  let main_v4479 : FVec F S5x1x1 .f32 := (extractStridedSlice S5x1x1 ![0, 0, 235] · slices_S5x1x256_S5x1x1_0_0_235) main_v4477
  let main_v4480 : FVec F S5x256x1 .f32 := broadcastInDim S5x256x1 ![0, 1, 2] bcast_S5x1x1_S5x256x1_0_1_2 main_v4479
  let main_v4481 : FVec F S5x256x1 .f32 := Host.divf main_v4478 main_v4480
  let main_v4482 : FVec F S5x256x256 .f32 := broadcastInDim S5x256x256 ![0, 1, 2] bcast_S5x256x1_S5x256x256_0_1_2 main_v4481
  let main_c_704 : IVec S_ 32 := constantI S_ 32 235#32
  let main_v4483 : IVec S5x256x256 32 := broadcastInDim S5x256x256 ![] bcast_S_S5x256x256 main_c_704
  let main_v4484 : IVec S5x256x256 1 := cmpi .sgt main_v10 main_v4483
  let main_c_705 : IVec S_ 32 := constantI S_ 32 235#32
  let main_v4485 : IVec S5x256x256 32 := broadcastInDim S5x256x256 ![] bcast_S_S5x256x256 main_c_705
  let main_v4486 : IVec S5x256x256 1 := cmpi .sgt main_v11 main_v4485
  let main_v4487 : IVec S5x256x256 1 := andi main_v4484 main_v4486
  let main_v4488 : FVec F S5x256x256 .f32 := broadcastInDim S5x256x256 ![0, 1, 2] bcast_S5x1x256_S5x256x256_0_1_2 main_v4477
  let main_v4489 : FVec F S5x256x256 .f32 := mulf main_v4482 main_v4488
  let main_v4490 : FVec F S5x256x256 .f32 := subf main_v4476 main_v4489
  let main_v4491 : FVec F S5x256x256 .f32 := select main_v4487 main_v4490 main_v4476
  let main_c_706 : IVec S_ 32 := constantI S_ 32 235#32
  let main_v4492 : IVec S5x256x256 32 := broadcastInDim S5x256x256 ![] bcast_S_S5x256x256 main_c_706
  let main_v4493 : IVec S5x256x256 1 := cmpi .eq main_v11 main_v4492
  let main_v4494 : IVec S5x256x256 1 := andi main_v4484 main_v4493
  let main_v4495 : FVec F S5x256x256 .f32 := select main_v4494 main_v4482 main_v4491
  let main_v4496 : FVec F S5x1x256 .f32 := (extractStridedSlice S5x1x256 ![0, 236, 0] · slices_S5x256x256_S5x1x256_0_236_0) main_v4495
  let main_v4497 : FVec F S5x256x1 .f32 := (extractStridedSlice S5x256x1 ![0, 0, 236] · slices_S5x256x256_S5x256x1_0_0_236) main_v4495
  let main_v4498 : FVec F S5x1x1 .f32 := (extractStridedSlice S5x1x1 ![0, 0, 236] · slices_S5x1x256_S5x1x1_0_0_236) main_v4496
  let main_v4499 : FVec F S5x256x1 .f32 := broadcastInDim S5x256x1 ![0, 1, 2] bcast_S5x1x1_S5x256x1_0_1_2 main_v4498
  fn_part217 (F := F) main_arg0 main_v3 main_v7 main_v8 main_v10 main_v11 main_v4495 main_v4496 main_v4497 main_v4499

def fn_part215 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4457 : FVec F S5x256x256 .f32) : IVec S9x256x256 1 × IVec S8x256x256 1 :=
  let main_v4458 : FVec F S5x1x256 .f32 := (extractStridedSlice S5x1x256 ![0, 234, 0] · slices_S5x256x256_S5x1x256_0_234_0) main_v4457
  let main_v4459 : FVec F S5x256x1 .f32 := (extractStridedSlice S5x256x1 ![0, 0, 234] · slices_S5x256x256_S5x256x1_0_0_234) main_v4457
  let main_v4460 : FVec F S5x1x1 .f32 := (extractStridedSlice S5x1x1 ![0, 0, 234] · slices_S5x1x256_S5x1x1_0_0_234) main_v4458
  let main_v4461 : FVec F S5x256x1 .f32 := broadcastInDim S5x256x1 ![0, 1, 2] bcast_S5x1x1_S5x256x1_0_1_2 main_v4460
  let main_v4462 : FVec F S5x256x1 .f32 := Host.divf main_v4459 main_v4461
  let main_v4463 : FVec F S5x256x256 .f32 := broadcastInDim S5x256x256 ![0, 1, 2] bcast_S5x256x1_S5x256x256_0_1_2 main_v4462
  let main_c_701 : IVec S_ 32 := constantI S_ 32 234#32
  let main_v4464 : IVec S5x256x256 32 := broadcastInDim S5x256x256 ![] bcast_S_S5x256x256 main_c_701
  let main_v4465 : IVec S5x256x256 1 := cmpi .sgt main_v10 main_v4464
  let main_c_702 : IVec S_ 32 := constantI S_ 32 234#32
  let main_v4466 : IVec S5x256x256 32 := broadcastInDim S5x256x256 ![] bcast_S_S5x256x256 main_c_702
  let main_v4467 : IVec S5x256x256 1 := cmpi .sgt main_v11 main_v4466
  let main_v4468 : IVec S5x256x256 1 := andi main_v4465 main_v4467
  let main_v4469 : FVec F S5x256x256 .f32 := broadcastInDim S5x256x256 ![0, 1, 2] bcast_S5x1x256_S5x256x256_0_1_2 main_v4458
  let main_v4470 : FVec F S5x256x256 .f32 := mulf main_v4463 main_v4469
  let main_v4471 : FVec F S5x256x256 .f32 := subf main_v4457 main_v4470
  let main_v4472 : FVec F S5x256x256 .f32 := select main_v4468 main_v4471 main_v4457
  let main_c_703 : IVec S_ 32 := constantI S_ 32 234#32
  let main_v4473 : IVec S5x256x256 32 := broadcastInDim S5x256x256 ![] bcast_S_S5x256x256 main_c_703
  let main_v4474 : IVec S5x256x256 1 := cmpi .eq main_v11 main_v4473
  let main_v4475 : IVec S5x256x256 1 := andi main_v4465 main_v4474
  let main_v4476 : FVec F S5x256x256 .f32 := select main_v4475 main_v4463 main_v4472
  let main_v4477 : FVec F S5x1x256 .f32 := (extractStridedSlice S5x1x256 ![0, 235, 0] · slices_S5x256x256_S5x1x256_0_235_0) main_v4476
  let main_v4478 : FVec F S5x256x1 .f32 := (extractStridedSlice S5x256x1 ![0, 0, 235] · slices_S5x256x256_S5x256x1_0_0_235) main_v4476
  fn_part216 (F := F) main_arg0 main_v3 main_v7 main_v8 main_v10 main_v11 main_v4476 main_v4477 main_v4478

def fn_part214 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4425 : FVec F S5x256x256 .f32) (main_v4427 : IVec S5x256x256 1) (main_v4434 : FVec F S5x256x256 .f32) (main_v4436 : IVec S5x256x256 1) : IVec S9x256x256 1 × IVec S8x256x256 1 :=
  let main_v4437 : IVec S5x256x256 1 := andi main_v4427 main_v4436
  let main_v4438 : FVec F S5x256x256 .f32 := select main_v4437 main_v4425 main_v4434
  let main_v4439 : FVec F S5x1x256 .f32 := (extractStridedSlice S5x1x256 ![0, 233, 0] · slices_S5x256x256_S5x1x256_0_233_0) main_v4438
  let main_v4440 : FVec F S5x256x1 .f32 := (extractStridedSlice S5x256x1 ![0, 0, 233] · slices_S5x256x256_S5x256x1_0_0_233) main_v4438
  let main_v4441 : FVec F S5x1x1 .f32 := (extractStridedSlice S5x1x1 ![0, 0, 233] · slices_S5x1x256_S5x1x1_0_0_233) main_v4439
  let main_v4442 : FVec F S5x256x1 .f32 := broadcastInDim S5x256x1 ![0, 1, 2] bcast_S5x1x1_S5x256x1_0_1_2 main_v4441
  let main_v4443 : FVec F S5x256x1 .f32 := Host.divf main_v4440 main_v4442
  let main_v4444 : FVec F S5x256x256 .f32 := broadcastInDim S5x256x256 ![0, 1, 2] bcast_S5x256x1_S5x256x256_0_1_2 main_v4443
  let main_c_698 : IVec S_ 32 := constantI S_ 32 233#32
  let main_v4445 : IVec S5x256x256 32 := broadcastInDim S5x256x256 ![] bcast_S_S5x256x256 main_c_698
  let main_v4446 : IVec S5x256x256 1 := cmpi .sgt main_v10 main_v4445
  let main_c_699 : IVec S_ 32 := constantI S_ 32 233#32
  let main_v4447 : IVec S5x256x256 32 := broadcastInDim S5x256x256 ![] bcast_S_S5x256x256 main_c_699
  let main_v4448 : IVec S5x256x256 1 := cmpi .sgt main_v11 main_v4447
  let main_v4449 : IVec S5x256x256 1 := andi main_v4446 main_v4448
  let main_v4450 : FVec F S5x256x256 .f32 := broadcastInDim S5x256x256 ![0, 1, 2] bcast_S5x1x256_S5x256x256_0_1_2 main_v4439
  let main_v4451 : FVec F S5x256x256 .f32 := mulf main_v4444 main_v4450
  let main_v4452 : FVec F S5x256x256 .f32 := subf main_v4438 main_v4451
  let main_v4453 : FVec F S5x256x256 .f32 := select main_v4449 main_v4452 main_v4438
  let main_c_700 : IVec S_ 32 := constantI S_ 32 233#32
  let main_v4454 : IVec S5x256x256 32 := broadcastInDim S5x256x256 ![] bcast_S_S5x256x256 main_c_700
  let main_v4455 : IVec S5x256x256 1 := cmpi .eq main_v11 main_v4454
  let main_v4456 : IVec S5x256x256 1 := andi main_v4446 main_v4455
  let main_v4457 : FVec F S5x256x256 .f32 := select main_v4456 main_v4444 main_v4453
  fn_part215 (F := F) main_arg0 main_v3 main_v7 main_v8 main_v10 main_v11 main_v4457

def fn_part213 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4406 : FVec F S5x256x256 .f32) (main_v4408 : IVec S5x256x256 1) (main_v4415 : FVec F S5x256x256 .f32) (main_c_694 : IVec S_ 32) : IVec S9x256x256 1 × IVec S8x256x256 1 :=
  let main_v4416 : IVec S5x256x256 32 := broadcastInDim S5x256x256 ![] bcast_S_S5x256x256 main_c_694
  let main_v4417 : IVec S5x256x256 1 := cmpi .eq main_v11 main_v4416
  let main_v4418 : IVec S5x256x256 1 := andi main_v4408 main_v4417
  let main_v4419 : FVec F S5x256x256 .f32 := select main_v4418 main_v4406 main_v4415
  let main_v4420 : FVec F S5x1x256 .f32 := (extractStridedSlice S5x1x256 ![0, 232, 0] · slices_S5x256x256_S5x1x256_0_232_0) main_v4419
  let main_v4421 : FVec F S5x256x1 .f32 := (extractStridedSlice S5x256x1 ![0, 0, 232] · slices_S5x256x256_S5x256x1_0_0_232) main_v4419
  let main_v4422 : FVec F S5x1x1 .f32 := (extractStridedSlice S5x1x1 ![0, 0, 232] · slices_S5x1x256_S5x1x1_0_0_232) main_v4420
  let main_v4423 : FVec F S5x256x1 .f32 := broadcastInDim S5x256x1 ![0, 1, 2] bcast_S5x1x1_S5x256x1_0_1_2 main_v4422
  let main_v4424 : FVec F S5x256x1 .f32 := Host.divf main_v4421 main_v4423
  let main_v4425 : FVec F S5x256x256 .f32 := broadcastInDim S5x256x256 ![0, 1, 2] bcast_S5x256x1_S5x256x256_0_1_2 main_v4424
  let main_c_695 : IVec S_ 32 := constantI S_ 32 232#32
  let main_v4426 : IVec S5x256x256 32 := broadcastInDim S5x256x256 ![] bcast_S_S5x256x256 main_c_695
  let main_v4427 : IVec S5x256x256 1 := cmpi .sgt main_v10 main_v4426
  let main_c_696 : IVec S_ 32 := constantI S_ 32 232#32
  let main_v4428 : IVec S5x256x256 32 := broadcastInDim S5x256x256 ![] bcast_S_S5x256x256 main_c_696
  let main_v4429 : IVec S5x256x256 1 := cmpi .sgt main_v11 main_v4428
  let main_v4430 : IVec S5x256x256 1 := andi main_v4427 main_v4429
  let main_v4431 : FVec F S5x256x256 .f32 := broadcastInDim S5x256x256 ![0, 1, 2] bcast_S5x1x256_S5x256x256_0_1_2 main_v4420
  let main_v4432 : FVec F S5x256x256 .f32 := mulf main_v4425 main_v4431
  let main_v4433 : FVec F S5x256x256 .f32 := subf main_v4419 main_v4432
  let main_v4434 : FVec F S5x256x256 .f32 := select main_v4430 main_v4433 main_v4419
  let main_c_697 : IVec S_ 32 := constantI S_ 32 232#32
  let main_v4435 : IVec S5x256x256 32 := broadcastInDim S5x256x256 ![] bcast_S_S5x256x256 main_c_697
  let main_v4436 : IVec S5x256x256 1 := cmpi .eq main_v11 main_v4435
  fn_part214 (F := F) main_arg0 main_v3 main_v7 main_v8 main_v10 main_v11 main_v4425 main_v4427 main_v4434 main_v4436

def fn_part212 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4381 : FVec F S5x256x256 .f32) (main_v4387 : FVec F S5x256x256 .f32) (main_v4389 : IVec S5x256x256 1) (main_v4392 : IVec S5x256x256 1) (main_v4395 : FVec F S5x256x256 .f32) : IVec S9x256x256 1 × IVec S8x256x256 1 :=
  let main_v4396 : FVec F S5x256x256 .f32 := select main_v4392 main_v4395 main_v4381
  let main_c_691 : IVec S_ 32 := constantI S_ 32 230#32
  let main_v4397 : IVec S5x256x256 32 := broadcastInDim S5x256x256 ![] bcast_S_S5x256x256 main_c_691
  let main_v4398 : IVec S5x256x256 1 := cmpi .eq main_v11 main_v4397
  let main_v4399 : IVec S5x256x256 1 := andi main_v4389 main_v4398
  let main_v4400 : FVec F S5x256x256 .f32 := select main_v4399 main_v4387 main_v4396
  let main_v4401 : FVec F S5x1x256 .f32 := (extractStridedSlice S5x1x256 ![0, 231, 0] · slices_S5x256x256_S5x1x256_0_231_0) main_v4400
  let main_v4402 : FVec F S5x256x1 .f32 := (extractStridedSlice S5x256x1 ![0, 0, 231] · slices_S5x256x256_S5x256x1_0_0_231) main_v4400
  let main_v4403 : FVec F S5x1x1 .f32 := (extractStridedSlice S5x1x1 ![0, 0, 231] · slices_S5x1x256_S5x1x1_0_0_231) main_v4401
  let main_v4404 : FVec F S5x256x1 .f32 := broadcastInDim S5x256x1 ![0, 1, 2] bcast_S5x1x1_S5x256x1_0_1_2 main_v4403
  let main_v4405 : FVec F S5x256x1 .f32 := Host.divf main_v4402 main_v4404
  let main_v4406 : FVec F S5x256x256 .f32 := broadcastInDim S5x256x256 ![0, 1, 2] bcast_S5x256x1_S5x256x256_0_1_2 main_v4405
  let main_c_692 : IVec S_ 32 := constantI S_ 32 231#32
  let main_v4407 : IVec S5x256x256 32 := broadcastInDim S5x256x256 ![] bcast_S_S5x256x256 main_c_692
  let main_v4408 : IVec S5x256x256 1 := cmpi .sgt main_v10 main_v4407
  let main_c_693 : IVec S_ 32 := constantI S_ 32 231#32
  let main_v4409 : IVec S5x256x256 32 := broadcastInDim S5x256x256 ![] bcast_S_S5x256x256 main_c_693
  let main_v4410 : IVec S5x256x256 1 := cmpi .sgt main_v11 main_v4409
  let main_v4411 : IVec S5x256x256 1 := andi main_v4408 main_v4410
  let main_v4412 : FVec F S5x256x256 .f32 := broadcastInDim S5x256x256 ![0, 1, 2] bcast_S5x1x256_S5x256x256_0_1_2 main_v4401
  let main_v4413 : FVec F S5x256x256 .f32 := mulf main_v4406 main_v4412
  let main_v4414 : FVec F S5x256x256 .f32 := subf main_v4400 main_v4413
  let main_v4415 : FVec F S5x256x256 .f32 := select main_v4411 main_v4414 main_v4400
  let main_c_694 : IVec S_ 32 := constantI S_ 32 231#32
  fn_part213 (F := F) main_arg0 main_v3 main_v7 main_v8 main_v10 main_v11 main_v4406 main_v4408 main_v4415 main_c_694

def fn_part211 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4362 : FVec F S5x256x256 .f32) (main_v4368 : FVec F S5x256x256 .f32) (main_v4370 : IVec S5x256x256 1) (main_v4373 : IVec S5x256x256 1) (main_v4374 : FVec F S5x256x256 .f32) : IVec S9x256x256 1 × IVec S8x256x256 1 :=
  let main_v4375 : FVec F S5x256x256 .f32 := mulf main_v4368 main_v4374
  let main_v4376 : FVec F S5x256x256 .f32 := subf main_v4362 main_v4375
  let main_v4377 : FVec F S5x256x256 .f32 := select main_v4373 main_v4376 main_v4362
  let main_c_688 : IVec S_ 32 := constantI S_ 32 229#32
  let main_v4378 : IVec S5x256x256 32 := broadcastInDim S5x256x256 ![] bcast_S_S5x256x256 main_c_688
  let main_v4379 : IVec S5x256x256 1 := cmpi .eq main_v11 main_v4378
  let main_v4380 : IVec S5x256x256 1 := andi main_v4370 main_v4379
  let main_v4381 : FVec F S5x256x256 .f32 := select main_v4380 main_v4368 main_v4377
  let main_v4382 : FVec F S5x1x256 .f32 := (extractStridedSlice S5x1x256 ![0, 230, 0] · slices_S5x256x256_S5x1x256_0_230_0) main_v4381
  let main_v4383 : FVec F S5x256x1 .f32 := (extractStridedSlice S5x256x1 ![0, 0, 230] · slices_S5x256x256_S5x256x1_0_0_230) main_v4381
  let main_v4384 : FVec F S5x1x1 .f32 := (extractStridedSlice S5x1x1 ![0, 0, 230] · slices_S5x1x256_S5x1x1_0_0_230) main_v4382
  let main_v4385 : FVec F S5x256x1 .f32 := broadcastInDim S5x256x1 ![0, 1, 2] bcast_S5x1x1_S5x256x1_0_1_2 main_v4384
  let main_v4386 : FVec F S5x256x1 .f32 := Host.divf main_v4383 main_v4385
  let main_v4387 : FVec F S5x256x256 .f32 := broadcastInDim S5x256x256 ![0, 1, 2] bcast_S5x256x1_S5x256x256_0_1_2 main_v4386
  let main_c_689 : IVec S_ 32 := constantI S_ 32 230#32
  let main_v4388 : IVec S5x256x256 32 := broadcastInDim S5x256x256 ![] bcast_S_S5x256x256 main_c_689
  let main_v4389 : IVec S5x256x256 1 := cmpi .sgt main_v10 main_v4388
  let main_c_690 : IVec S_ 32 := constantI S_ 32 230#32
  let main_v4390 : IVec S5x256x256 32 := broadcastInDim S5x256x256 ![] bcast_S_S5x256x256 main_c_690
  let main_v4391 : IVec S5x256x256 1 := cmpi .sgt main_v11 main_v4390
  let main_v4392 : IVec S5x256x256 1 := andi main_v4389 main_v4391
  let main_v4393 : FVec F S5x256x256 .f32 := broadcastInDim S5x256x256 ![0, 1, 2] bcast_S5x1x256_S5x256x256_0_1_2 main_v4382
  let main_v4394 : FVec F S5x256x256 .f32 := mulf main_v4387 main_v4393
  let main_v4395 : FVec F S5x256x256 .f32 := subf main_v4381 main_v4394
  fn_part212 (F := F) main_arg0 main_v3 main_v7 main_v8 main_v10 main_v11 main_v4381 main_v4387 main_v4389 main_v4392 main_v4395

def fn_part210 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4343 : FVec F S5x256x256 .f32) (main_v4344 : FVec F S5x1x256 .f32) (main_v4349 : FVec F S5x256x256 .f32) (main_v4351 : IVec S5x256x256 1) (main_v4353 : IVec S5x256x256 1) : IVec S9x256x256 1 × IVec S8x256x256 1 :=
  let main_v4354 : IVec S5x256x256 1 := andi main_v4351 main_v4353
  let main_v4355 : FVec F S5x256x256 .f32 := broadcastInDim S5x256x256 ![0, 1, 2] bcast_S5x1x256_S5x256x256_0_1_2 main_v4344
  let main_v4356 : FVec F S5x256x256 .f32 := mulf main_v4349 main_v4355
  let main_v4357 : FVec F S5x256x256 .f32 := subf main_v4343 main_v4356
  let main_v4358 : FVec F S5x256x256 .f32 := select main_v4354 main_v4357 main_v4343
  let main_c_685 : IVec S_ 32 := constantI S_ 32 228#32
  let main_v4359 : IVec S5x256x256 32 := broadcastInDim S5x256x256 ![] bcast_S_S5x256x256 main_c_685
  let main_v4360 : IVec S5x256x256 1 := cmpi .eq main_v11 main_v4359
  let main_v4361 : IVec S5x256x256 1 := andi main_v4351 main_v4360
  let main_v4362 : FVec F S5x256x256 .f32 := select main_v4361 main_v4349 main_v4358
  let main_v4363 : FVec F S5x1x256 .f32 := (extractStridedSlice S5x1x256 ![0, 229, 0] · slices_S5x256x256_S5x1x256_0_229_0) main_v4362
  let main_v4364 : FVec F S5x256x1 .f32 := (extractStridedSlice S5x256x1 ![0, 0, 229] · slices_S5x256x256_S5x256x1_0_0_229) main_v4362
  let main_v4365 : FVec F S5x1x1 .f32 := (extractStridedSlice S5x1x1 ![0, 0, 229] · slices_S5x1x256_S5x1x1_0_0_229) main_v4363
  let main_v4366 : FVec F S5x256x1 .f32 := broadcastInDim S5x256x1 ![0, 1, 2] bcast_S5x1x1_S5x256x1_0_1_2 main_v4365
  let main_v4367 : FVec F S5x256x1 .f32 := Host.divf main_v4364 main_v4366
  let main_v4368 : FVec F S5x256x256 .f32 := broadcastInDim S5x256x256 ![0, 1, 2] bcast_S5x256x1_S5x256x256_0_1_2 main_v4367
  let main_c_686 : IVec S_ 32 := constantI S_ 32 229#32
  let main_v4369 : IVec S5x256x256 32 := broadcastInDim S5x256x256 ![] bcast_S_S5x256x256 main_c_686
  let main_v4370 : IVec S5x256x256 1 := cmpi .sgt main_v10 main_v4369
  let main_c_687 : IVec S_ 32 := constantI S_ 32 229#32
  let main_v4371 : IVec S5x256x256 32 := broadcastInDim S5x256x256 ![] bcast_S_S5x256x256 main_c_687
  let main_v4372 : IVec S5x256x256 1 := cmpi .sgt main_v11 main_v4371
  let main_v4373 : IVec S5x256x256 1 := andi main_v4370 main_v4372
  let main_v4374 : FVec F S5x256x256 .f32 := broadcastInDim S5x256x256 ![0, 1, 2] bcast_S5x1x256_S5x256x256_0_1_2 main_v4363
  fn_part211 (F := F) main_arg0 main_v3 main_v7 main_v8 main_v10 main_v11 main_v4362 main_v4368 main_v4370 main_v4373 main_v4374

def fn_part209 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4324 : FVec F S5x256x256 .f32) (main_v4325 : FVec F S5x1x256 .f32) (main_v4330 : FVec F S5x256x256 .f32) (main_v4332 : IVec S5x256x256 1) (main_c_681 : IVec S_ 32) : IVec S9x256x256 1 × IVec S8x256x256 1 :=
  let main_v4333 : IVec S5x256x256 32 := broadcastInDim S5x256x256 ![] bcast_S_S5x256x256 main_c_681
  let main_v4334 : IVec S5x256x256 1 := cmpi .sgt main_v11 main_v4333
  let main_v4335 : IVec S5x256x256 1 := andi main_v4332 main_v4334
  let main_v4336 : FVec F S5x256x256 .f32 := broadcastInDim S5x256x256 ![0, 1, 2] bcast_S5x1x256_S5x256x256_0_1_2 main_v4325
  let main_v4337 : FVec F S5x256x256 .f32 := mulf main_v4330 main_v4336
  let main_v4338 : FVec F S5x256x256 .f32 := subf main_v4324 main_v4337
  let main_v4339 : FVec F S5x256x256 .f32 := select main_v4335 main_v4338 main_v4324
  let main_c_682 : IVec S_ 32 := constantI S_ 32 227#32
  let main_v4340 : IVec S5x256x256 32 := broadcastInDim S5x256x256 ![] bcast_S_S5x256x256 main_c_682
  let main_v4341 : IVec S5x256x256 1 := cmpi .eq main_v11 main_v4340
  let main_v4342 : IVec S5x256x256 1 := andi main_v4332 main_v4341
  let main_v4343 : FVec F S5x256x256 .f32 := select main_v4342 main_v4330 main_v4339
  let main_v4344 : FVec F S5x1x256 .f32 := (extractStridedSlice S5x1x256 ![0, 228, 0] · slices_S5x256x256_S5x1x256_0_228_0) main_v4343
  let main_v4345 : FVec F S5x256x1 .f32 := (extractStridedSlice S5x256x1 ![0, 0, 228] · slices_S5x256x256_S5x256x1_0_0_228) main_v4343
  let main_v4346 : FVec F S5x1x1 .f32 := (extractStridedSlice S5x1x1 ![0, 0, 228] · slices_S5x1x256_S5x1x1_0_0_228) main_v4344
  let main_v4347 : FVec F S5x256x1 .f32 := broadcastInDim S5x256x1 ![0, 1, 2] bcast_S5x1x1_S5x256x1_0_1_2 main_v4346
  let main_v4348 : FVec F S5x256x1 .f32 := Host.divf main_v4345 main_v4347
  let main_v4349 : FVec F S5x256x256 .f32 := broadcastInDim S5x256x256 ![0, 1, 2] bcast_S5x256x1_S5x256x256_0_1_2 main_v4348
  let main_c_683 : IVec S_ 32 := constantI S_ 32 228#32
  let main_v4350 : IVec S5x256x256 32 := broadcastInDim S5x256x256 ![] bcast_S_S5x256x256 main_c_683
  let main_v4351 : IVec S5x256x256 1 := cmpi .sgt main_v10 main_v4350
  let main_c_684 : IVec S_ 32 := constantI S_ 32 228#32
  let main_v4352 : IVec S5x256x256 32 := broadcastInDim S5x256x256 ![] bcast_S_S5x256x256 main_c_684
  let main_v4353 : IVec S5x256x256 1 := cmpi .sgt main_v11 main_v4352
  fn_part210 (F := F) main_arg0 main_v3 main_v7 main_v8 main_v10 main_v11 main_v4343 main_v4344 main_v4349 main_v4351 main_v4353

def fn_part208 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4305 : FVec F S5x256x256 .f32) (main_v4306 : FVec F S5x1x256 .f32) (main_v4311 : FVec F S5x256x256 .f32) (main_v4312 : IVec S5x256x256 32) : IVec S9x256x256 1 × IVec S8x256x256 1 :=
  let main_v4313 : IVec S5x256x256 1 := cmpi .sgt main_v10 main_v4312
  let main_c_678 : IVec S_ 32 := constantI S_ 32 226#32
  let main_v4314 : IVec S5x256x256 32 := broadcastInDim S5x256x256 ![] bcast_S_S5x256x256 main_c_678
  let main_v4315 : IVec S5x256x256 1 := cmpi .sgt main_v11 main_v4314
  let main_v4316 : IVec S5x256x256 1 := andi main_v4313 main_v4315
  let main_v4317 : FVec F S5x256x256 .f32 := broadcastInDim S5x256x256 ![0, 1, 2] bcast_S5x1x256_S5x256x256_0_1_2 main_v4306
  let main_v4318 : FVec F S5x256x256 .f32 := mulf main_v4311 main_v4317
  let main_v4319 : FVec F S5x256x256 .f32 := subf main_v4305 main_v4318
  let main_v4320 : FVec F S5x256x256 .f32 := select main_v4316 main_v4319 main_v4305
  let main_c_679 : IVec S_ 32 := constantI S_ 32 226#32
  let main_v4321 : IVec S5x256x256 32 := broadcastInDim S5x256x256 ![] bcast_S_S5x256x256 main_c_679
  let main_v4322 : IVec S5x256x256 1 := cmpi .eq main_v11 main_v4321
  let main_v4323 : IVec S5x256x256 1 := andi main_v4313 main_v4322
  let main_v4324 : FVec F S5x256x256 .f32 := select main_v4323 main_v4311 main_v4320
  let main_v4325 : FVec F S5x1x256 .f32 := (extractStridedSlice S5x1x256 ![0, 227, 0] · slices_S5x256x256_S5x1x256_0_227_0) main_v4324
  let main_v4326 : FVec F S5x256x1 .f32 := (extractStridedSlice S5x256x1 ![0, 0, 227] · slices_S5x256x256_S5x256x1_0_0_227) main_v4324
  let main_v4327 : FVec F S5x1x1 .f32 := (extractStridedSlice S5x1x1 ![0, 0, 227] · slices_S5x1x256_S5x1x1_0_0_227) main_v4325
  let main_v4328 : FVec F S5x256x1 .f32 := broadcastInDim S5x256x1 ![0, 1, 2] bcast_S5x1x1_S5x256x1_0_1_2 main_v4327
  let main_v4329 : FVec F S5x256x1 .f32 := Host.divf main_v4326 main_v4328
  let main_v4330 : FVec F S5x256x256 .f32 := broadcastInDim S5x256x256 ![0, 1, 2] bcast_S5x256x1_S5x256x256_0_1_2 main_v4329
  let main_c_680 : IVec S_ 32 := constantI S_ 32 227#32
  let main_v4331 : IVec S5x256x256 32 := broadcastInDim S5x256x256 ![] bcast_S_S5x256x256 main_c_680
  let main_v4332 : IVec S5x256x256 1 := cmpi .sgt main_v10 main_v4331
  let main_c_681 : IVec S_ 32 := constantI S_ 32 227#32
  fn_part209 (F := F) main_arg0 main_v3 main_v7 main_v8 main_v10 main_v11 main_v4324 main_v4325 main_v4330 main_v4332 main_c_681

def fn_part207 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4286 : FVec F S5x256x256 .f32) (main_v4287 : FVec F S5x1x256 .f32) (main_v4292 : FVec F S5x256x256 .f32) : IVec S9x256x256 1 × IVec S8x256x256 1 :=
  let main_c_674 : IVec S_ 32 := constantI S_ 32 225#32
  let main_v4293 : IVec S5x256x256 32 := broadcastInDim S5x256x256 ![] bcast_S_S5x256x256 main_c_674
  let main_v4294 : IVec S5x256x256 1 := cmpi .sgt main_v10 main_v4293
  let main_c_675 : IVec S_ 32 := constantI S_ 32 225#32
  let main_v4295 : IVec S5x256x256 32 := broadcastInDim S5x256x256 ![] bcast_S_S5x256x256 main_c_675
  let main_v4296 : IVec S5x256x256 1 := cmpi .sgt main_v11 main_v4295
  let main_v4297 : IVec S5x256x256 1 := andi main_v4294 main_v4296
  let main_v4298 : FVec F S5x256x256 .f32 := broadcastInDim S5x256x256 ![0, 1, 2] bcast_S5x1x256_S5x256x256_0_1_2 main_v4287
  let main_v4299 : FVec F S5x256x256 .f32 := mulf main_v4292 main_v4298
  let main_v4300 : FVec F S5x256x256 .f32 := subf main_v4286 main_v4299
  let main_v4301 : FVec F S5x256x256 .f32 := select main_v4297 main_v4300 main_v4286
  let main_c_676 : IVec S_ 32 := constantI S_ 32 225#32
  let main_v4302 : IVec S5x256x256 32 := broadcastInDim S5x256x256 ![] bcast_S_S5x256x256 main_c_676
  let main_v4303 : IVec S5x256x256 1 := cmpi .eq main_v11 main_v4302
  let main_v4304 : IVec S5x256x256 1 := andi main_v4294 main_v4303
  let main_v4305 : FVec F S5x256x256 .f32 := select main_v4304 main_v4292 main_v4301
  let main_v4306 : FVec F S5x1x256 .f32 := (extractStridedSlice S5x1x256 ![0, 226, 0] · slices_S5x256x256_S5x1x256_0_226_0) main_v4305
  let main_v4307 : FVec F S5x256x1 .f32 := (extractStridedSlice S5x256x1 ![0, 0, 226] · slices_S5x256x256_S5x256x1_0_0_226) main_v4305
  let main_v4308 : FVec F S5x1x1 .f32 := (extractStridedSlice S5x1x1 ![0, 0, 226] · slices_S5x1x256_S5x1x1_0_0_226) main_v4306
  let main_v4309 : FVec F S5x256x1 .f32 := broadcastInDim S5x256x1 ![0, 1, 2] bcast_S5x1x1_S5x256x1_0_1_2 main_v4308
  let main_v4310 : FVec F S5x256x1 .f32 := Host.divf main_v4307 main_v4309
  let main_v4311 : FVec F S5x256x256 .f32 := broadcastInDim S5x256x256 ![0, 1, 2] bcast_S5x256x1_S5x256x256_0_1_2 main_v4310
  let main_c_677 : IVec S_ 32 := constantI S_ 32 226#32
  let main_v4312 : IVec S5x256x256 32 := broadcastInDim S5x256x256 ![] bcast_S_S5x256x256 main_c_677
  fn_part208 (F := F) main_arg0 main_v3 main_v7 main_v8 main_v10 main_v11 main_v4305 main_v4306 main_v4311 main_v4312

def fn_part206 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4267 : FVec F S5x256x256 .f32) (main_v4268 : FVec F S5x1x256 .f32) (main_v4269 : FVec F S5x256x1 .f32) (main_v4271 : FVec F S5x256x1 .f32) : IVec S9x256x256 1 × IVec S8x256x256 1 :=
  let main_v4272 : FVec F S5x256x1 .f32 := Host.divf main_v4269 main_v4271
  let main_v4273 : FVec F S5x256x256 .f32 := broadcastInDim S5x256x256 ![0, 1, 2] bcast_S5x256x1_S5x256x256_0_1_2 main_v4272
  let main_c_671 : IVec S_ 32 := constantI S_ 32 224#32
  let main_v4274 : IVec S5x256x256 32 := broadcastInDim S5x256x256 ![] bcast_S_S5x256x256 main_c_671
  let main_v4275 : IVec S5x256x256 1 := cmpi .sgt main_v10 main_v4274
  let main_c_672 : IVec S_ 32 := constantI S_ 32 224#32
  let main_v4276 : IVec S5x256x256 32 := broadcastInDim S5x256x256 ![] bcast_S_S5x256x256 main_c_672
  let main_v4277 : IVec S5x256x256 1 := cmpi .sgt main_v11 main_v4276
  let main_v4278 : IVec S5x256x256 1 := andi main_v4275 main_v4277
  let main_v4279 : FVec F S5x256x256 .f32 := broadcastInDim S5x256x256 ![0, 1, 2] bcast_S5x1x256_S5x256x256_0_1_2 main_v4268
  let main_v4280 : FVec F S5x256x256 .f32 := mulf main_v4273 main_v4279
  let main_v4281 : FVec F S5x256x256 .f32 := subf main_v4267 main_v4280
  let main_v4282 : FVec F S5x256x256 .f32 := select main_v4278 main_v4281 main_v4267
  let main_c_673 : IVec S_ 32 := constantI S_ 32 224#32
  let main_v4283 : IVec S5x256x256 32 := broadcastInDim S5x256x256 ![] bcast_S_S5x256x256 main_c_673
  let main_v4284 : IVec S5x256x256 1 := cmpi .eq main_v11 main_v4283
  let main_v4285 : IVec S5x256x256 1 := andi main_v4275 main_v4284
  let main_v4286 : FVec F S5x256x256 .f32 := select main_v4285 main_v4273 main_v4282
  let main_v4287 : FVec F S5x1x256 .f32 := (extractStridedSlice S5x1x256 ![0, 225, 0] · slices_S5x256x256_S5x1x256_0_225_0) main_v4286
  let main_v4288 : FVec F S5x256x1 .f32 := (extractStridedSlice S5x256x1 ![0, 0, 225] · slices_S5x256x256_S5x256x1_0_0_225) main_v4286
  let main_v4289 : FVec F S5x1x1 .f32 := (extractStridedSlice S5x1x1 ![0, 0, 225] · slices_S5x1x256_S5x1x1_0_0_225) main_v4287
  let main_v4290 : FVec F S5x256x1 .f32 := broadcastInDim S5x256x1 ![0, 1, 2] bcast_S5x1x1_S5x256x1_0_1_2 main_v4289
  let main_v4291 : FVec F S5x256x1 .f32 := Host.divf main_v4288 main_v4290
  let main_v4292 : FVec F S5x256x256 .f32 := broadcastInDim S5x256x256 ![0, 1, 2] bcast_S5x256x1_S5x256x256_0_1_2 main_v4291
  fn_part207 (F := F) main_arg0 main_v3 main_v7 main_v8 main_v10 main_v11 main_v4286 main_v4287 main_v4292

def fn_part205 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4248 : FVec F S5x256x256 .f32) (main_v4249 : FVec F S5x1x256 .f32) (main_v4250 : FVec F S5x256x1 .f32) : IVec S9x256x256 1 × IVec S8x256x256 1 :=
  let main_v4251 : FVec F S5x1x1 .f32 := (extractStridedSlice S5x1x1 ![0, 0, 223] · slices_S5x1x256_S5x1x1_0_0_223) main_v4249
  let main_v4252 : FVec F S5x256x1 .f32 := broadcastInDim S5x256x1 ![0, 1, 2] bcast_S5x1x1_S5x256x1_0_1_2 main_v4251
  let main_v4253 : FVec F S5x256x1 .f32 := Host.divf main_v4250 main_v4252
  let main_v4254 : FVec F S5x256x256 .f32 := broadcastInDim S5x256x256 ![0, 1, 2] bcast_S5x256x1_S5x256x256_0_1_2 main_v4253
  let main_c_668 : IVec S_ 32 := constantI S_ 32 223#32
  let main_v4255 : IVec S5x256x256 32 := broadcastInDim S5x256x256 ![] bcast_S_S5x256x256 main_c_668
  let main_v4256 : IVec S5x256x256 1 := cmpi .sgt main_v10 main_v4255
  let main_c_669 : IVec S_ 32 := constantI S_ 32 223#32
  let main_v4257 : IVec S5x256x256 32 := broadcastInDim S5x256x256 ![] bcast_S_S5x256x256 main_c_669
  let main_v4258 : IVec S5x256x256 1 := cmpi .sgt main_v11 main_v4257
  let main_v4259 : IVec S5x256x256 1 := andi main_v4256 main_v4258
  let main_v4260 : FVec F S5x256x256 .f32 := broadcastInDim S5x256x256 ![0, 1, 2] bcast_S5x1x256_S5x256x256_0_1_2 main_v4249
  let main_v4261 : FVec F S5x256x256 .f32 := mulf main_v4254 main_v4260
  let main_v4262 : FVec F S5x256x256 .f32 := subf main_v4248 main_v4261
  let main_v4263 : FVec F S5x256x256 .f32 := select main_v4259 main_v4262 main_v4248
  let main_c_670 : IVec S_ 32 := constantI S_ 32 223#32
  let main_v4264 : IVec S5x256x256 32 := broadcastInDim S5x256x256 ![] bcast_S_S5x256x256 main_c_670
  let main_v4265 : IVec S5x256x256 1 := cmpi .eq main_v11 main_v4264
  let main_v4266 : IVec S5x256x256 1 := andi main_v4256 main_v4265
  let main_v4267 : FVec F S5x256x256 .f32 := select main_v4266 main_v4254 main_v4263
  let main_v4268 : FVec F S5x1x256 .f32 := (extractStridedSlice S5x1x256 ![0, 224, 0] · slices_S5x256x256_S5x1x256_0_224_0) main_v4267
  let main_v4269 : FVec F S5x256x1 .f32 := (extractStridedSlice S5x256x1 ![0, 0, 224] · slices_S5x256x256_S5x256x1_0_0_224) main_v4267
  let main_v4270 : FVec F S5x1x1 .f32 := (extractStridedSlice S5x1x1 ![0, 0, 224] · slices_S5x1x256_S5x1x1_0_0_224) main_v4268
  let main_v4271 : FVec F S5x256x1 .f32 := broadcastInDim S5x256x1 ![0, 1, 2] bcast_S5x1x1_S5x256x1_0_1_2 main_v4270
  fn_part206 (F := F) main_arg0 main_v3 main_v7 main_v8 main_v10 main_v11 main_v4267 main_v4268 main_v4269 main_v4271

def fn_part204 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4229 : FVec F S5x256x256 .f32) : IVec S9x256x256 1 × IVec S8x256x256 1 :=
  let main_v4230 : FVec F S5x1x256 .f32 := (extractStridedSlice S5x1x256 ![0, 222, 0] · slices_S5x256x256_S5x1x256_0_222_0) main_v4229
  let main_v4231 : FVec F S5x256x1 .f32 := (extractStridedSlice S5x256x1 ![0, 0, 222] · slices_S5x256x256_S5x256x1_0_0_222) main_v4229
  let main_v4232 : FVec F S5x1x1 .f32 := (extractStridedSlice S5x1x1 ![0, 0, 222] · slices_S5x1x256_S5x1x1_0_0_222) main_v4230
  let main_v4233 : FVec F S5x256x1 .f32 := broadcastInDim S5x256x1 ![0, 1, 2] bcast_S5x1x1_S5x256x1_0_1_2 main_v4232
  let main_v4234 : FVec F S5x256x1 .f32 := Host.divf main_v4231 main_v4233
  let main_v4235 : FVec F S5x256x256 .f32 := broadcastInDim S5x256x256 ![0, 1, 2] bcast_S5x256x1_S5x256x256_0_1_2 main_v4234
  let main_c_665 : IVec S_ 32 := constantI S_ 32 222#32
  let main_v4236 : IVec S5x256x256 32 := broadcastInDim S5x256x256 ![] bcast_S_S5x256x256 main_c_665
  let main_v4237 : IVec S5x256x256 1 := cmpi .sgt main_v10 main_v4236
  let main_c_666 : IVec S_ 32 := constantI S_ 32 222#32
  let main_v4238 : IVec S5x256x256 32 := broadcastInDim S5x256x256 ![] bcast_S_S5x256x256 main_c_666
  let main_v4239 : IVec S5x256x256 1 := cmpi .sgt main_v11 main_v4238
  let main_v4240 : IVec S5x256x256 1 := andi main_v4237 main_v4239
  let main_v4241 : FVec F S5x256x256 .f32 := broadcastInDim S5x256x256 ![0, 1, 2] bcast_S5x1x256_S5x256x256_0_1_2 main_v4230
  let main_v4242 : FVec F S5x256x256 .f32 := mulf main_v4235 main_v4241
  let main_v4243 : FVec F S5x256x256 .f32 := subf main_v4229 main_v4242
  let main_v4244 : FVec F S5x256x256 .f32 := select main_v4240 main_v4243 main_v4229
  let main_c_667 : IVec S_ 32 := constantI S_ 32 222#32
  let main_v4245 : IVec S5x256x256 32 := broadcastInDim S5x256x256 ![] bcast_S_S5x256x256 main_c_667
  let main_v4246 : IVec S5x256x256 1 := cmpi .eq main_v11 main_v4245
  let main_v4247 : IVec S5x256x256 1 := andi main_v4237 main_v4246
  let main_v4248 : FVec F S5x256x256 .f32 := select main_v4247 main_v4235 main_v4244
  let main_v4249 : FVec F S5x1x256 .f32 := (extractStridedSlice S5x1x256 ![0, 223, 0] · slices_S5x256x256_S5x1x256_0_223_0) main_v4248
  let main_v4250 : FVec F S5x256x1 .f32 := (extractStridedSlice S5x256x1 ![0, 0, 223] · slices_S5x256x256_S5x256x1_0_0_223) main_v4248
  fn_part205 (F := F) main_arg0 main_v3 main_v7 main_v8 main_v10 main_v11 main_v4248 main_v4249 main_v4250

def fn_part203 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4197 : FVec F S5x256x256 .f32) (main_v4199 : IVec S5x256x256 1) (main_v4206 : FVec F S5x256x256 .f32) (main_v4208 : IVec S5x256x256 1) : IVec S9x256x256 1 × IVec S8x256x256 1 :=
  let main_v4209 : IVec S5x256x256 1 := andi main_v4199 main_v4208
  let main_v4210 : FVec F S5x256x256 .f32 := select main_v4209 main_v4197 main_v4206
  let main_v4211 : FVec F S5x1x256 .f32 := (extractStridedSlice S5x1x256 ![0, 221, 0] · slices_S5x256x256_S5x1x256_0_221_0) main_v4210
  let main_v4212 : FVec F S5x256x1 .f32 := (extractStridedSlice S5x256x1 ![0, 0, 221] · slices_S5x256x256_S5x256x1_0_0_221) main_v4210
  let main_v4213 : FVec F S5x1x1 .f32 := (extractStridedSlice S5x1x1 ![0, 0, 221] · slices_S5x1x256_S5x1x1_0_0_221) main_v4211
  let main_v4214 : FVec F S5x256x1 .f32 := broadcastInDim S5x256x1 ![0, 1, 2] bcast_S5x1x1_S5x256x1_0_1_2 main_v4213
  let main_v4215 : FVec F S5x256x1 .f32 := Host.divf main_v4212 main_v4214
  let main_v4216 : FVec F S5x256x256 .f32 := broadcastInDim S5x256x256 ![0, 1, 2] bcast_S5x256x1_S5x256x256_0_1_2 main_v4215
  let main_c_662 : IVec S_ 32 := constantI S_ 32 221#32
  let main_v4217 : IVec S5x256x256 32 := broadcastInDim S5x256x256 ![] bcast_S_S5x256x256 main_c_662
  let main_v4218 : IVec S5x256x256 1 := cmpi .sgt main_v10 main_v4217
  let main_c_663 : IVec S_ 32 := constantI S_ 32 221#32
  let main_v4219 : IVec S5x256x256 32 := broadcastInDim S5x256x256 ![] bcast_S_S5x256x256 main_c_663
  let main_v4220 : IVec S5x256x256 1 := cmpi .sgt main_v11 main_v4219
  let main_v4221 : IVec S5x256x256 1 := andi main_v4218 main_v4220
  let main_v4222 : FVec F S5x256x256 .f32 := broadcastInDim S5x256x256 ![0, 1, 2] bcast_S5x1x256_S5x256x256_0_1_2 main_v4211
  let main_v4223 : FVec F S5x256x256 .f32 := mulf main_v4216 main_v4222
  let main_v4224 : FVec F S5x256x256 .f32 := subf main_v4210 main_v4223
  let main_v4225 : FVec F S5x256x256 .f32 := select main_v4221 main_v4224 main_v4210
  let main_c_664 : IVec S_ 32 := constantI S_ 32 221#32
  let main_v4226 : IVec S5x256x256 32 := broadcastInDim S5x256x256 ![] bcast_S_S5x256x256 main_c_664
  let main_v4227 : IVec S5x256x256 1 := cmpi .eq main_v11 main_v4226
  let main_v4228 : IVec S5x256x256 1 := andi main_v4218 main_v4227
  let main_v4229 : FVec F S5x256x256 .f32 := select main_v4228 main_v4216 main_v4225
  fn_part204 (F := F) main_arg0 main_v3 main_v7 main_v8 main_v10 main_v11 main_v4229

def fn_part202 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4178 : FVec F S5x256x256 .f32) (main_v4180 : IVec S5x256x256 1) (main_v4187 : FVec F S5x256x256 .f32) (main_c_658 : IVec S_ 32) : IVec S9x256x256 1 × IVec S8x256x256 1 :=
  let main_v4188 : IVec S5x256x256 32 := broadcastInDim S5x256x256 ![] bcast_S_S5x256x256 main_c_658
  let main_v4189 : IVec S5x256x256 1 := cmpi .eq main_v11 main_v4188
  let main_v4190 : IVec S5x256x256 1 := andi main_v4180 main_v4189
  let main_v4191 : FVec F S5x256x256 .f32 := select main_v4190 main_v4178 main_v4187
  let main_v4192 : FVec F S5x1x256 .f32 := (extractStridedSlice S5x1x256 ![0, 220, 0] · slices_S5x256x256_S5x1x256_0_220_0) main_v4191
  let main_v4193 : FVec F S5x256x1 .f32 := (extractStridedSlice S5x256x1 ![0, 0, 220] · slices_S5x256x256_S5x256x1_0_0_220) main_v4191
  let main_v4194 : FVec F S5x1x1 .f32 := (extractStridedSlice S5x1x1 ![0, 0, 220] · slices_S5x1x256_S5x1x1_0_0_220) main_v4192
  let main_v4195 : FVec F S5x256x1 .f32 := broadcastInDim S5x256x1 ![0, 1, 2] bcast_S5x1x1_S5x256x1_0_1_2 main_v4194
  let main_v4196 : FVec F S5x256x1 .f32 := Host.divf main_v4193 main_v4195
  let main_v4197 : FVec F S5x256x256 .f32 := broadcastInDim S5x256x256 ![0, 1, 2] bcast_S5x256x1_S5x256x256_0_1_2 main_v4196
  let main_c_659 : IVec S_ 32 := constantI S_ 32 220#32
  let main_v4198 : IVec S5x256x256 32 := broadcastInDim S5x256x256 ![] bcast_S_S5x256x256 main_c_659
  let main_v4199 : IVec S5x256x256 1 := cmpi .sgt main_v10 main_v4198
  let main_c_660 : IVec S_ 32 := constantI S_ 32 220#32
  let main_v4200 : IVec S5x256x256 32 := broadcastInDim S5x256x256 ![] bcast_S_S5x256x256 main_c_660
  let main_v4201 : IVec S5x256x256 1 := cmpi .sgt main_v11 main_v4200
  let main_v4202 : IVec S5x256x256 1 := andi main_v4199 main_v4201
  let main_v4203 : FVec F S5x256x256 .f32 := broadcastInDim S5x256x256 ![0, 1, 2] bcast_S5x1x256_S5x256x256_0_1_2 main_v4192
  let main_v4204 : FVec F S5x256x256 .f32 := mulf main_v4197 main_v4203
  let main_v4205 : FVec F S5x256x256 .f32 := subf main_v4191 main_v4204
  let main_v4206 : FVec F S5x256x256 .f32 := select main_v4202 main_v4205 main_v4191
  let main_c_661 : IVec S_ 32 := constantI S_ 32 220#32
  let main_v4207 : IVec S5x256x256 32 := broadcastInDim S5x256x256 ![] bcast_S_S5x256x256 main_c_661
  let main_v4208 : IVec S5x256x256 1 := cmpi .eq main_v11 main_v4207
  fn_part203 (F := F) main_arg0 main_v3 main_v7 main_v8 main_v10 main_v11 main_v4197 main_v4199 main_v4206 main_v4208

def fn_part201 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4153 : FVec F S5x256x256 .f32) (main_v4159 : FVec F S5x256x256 .f32) (main_v4161 : IVec S5x256x256 1) (main_v4164 : IVec S5x256x256 1) (main_v4167 : FVec F S5x256x256 .f32) : IVec S9x256x256 1 × IVec S8x256x256 1 :=
  let main_v4168 : FVec F S5x256x256 .f32 := select main_v4164 main_v4167 main_v4153
  let main_c_655 : IVec S_ 32 := constantI S_ 32 218#32
  let main_v4169 : IVec S5x256x256 32 := broadcastInDim S5x256x256 ![] bcast_S_S5x256x256 main_c_655
  let main_v4170 : IVec S5x256x256 1 := cmpi .eq main_v11 main_v4169
  let main_v4171 : IVec S5x256x256 1 := andi main_v4161 main_v4170
  let main_v4172 : FVec F S5x256x256 .f32 := select main_v4171 main_v4159 main_v4168
  let main_v4173 : FVec F S5x1x256 .f32 := (extractStridedSlice S5x1x256 ![0, 219, 0] · slices_S5x256x256_S5x1x256_0_219_0) main_v4172
  let main_v4174 : FVec F S5x256x1 .f32 := (extractStridedSlice S5x256x1 ![0, 0, 219] · slices_S5x256x256_S5x256x1_0_0_219) main_v4172
  let main_v4175 : FVec F S5x1x1 .f32 := (extractStridedSlice S5x1x1 ![0, 0, 219] · slices_S5x1x256_S5x1x1_0_0_219) main_v4173
  let main_v4176 : FVec F S5x256x1 .f32 := broadcastInDim S5x256x1 ![0, 1, 2] bcast_S5x1x1_S5x256x1_0_1_2 main_v4175
  let main_v4177 : FVec F S5x256x1 .f32 := Host.divf main_v4174 main_v4176
  let main_v4178 : FVec F S5x256x256 .f32 := broadcastInDim S5x256x256 ![0, 1, 2] bcast_S5x256x1_S5x256x256_0_1_2 main_v4177
  let main_c_656 : IVec S_ 32 := constantI S_ 32 219#32
  let main_v4179 : IVec S5x256x256 32 := broadcastInDim S5x256x256 ![] bcast_S_S5x256x256 main_c_656
  let main_v4180 : IVec S5x256x256 1 := cmpi .sgt main_v10 main_v4179
  let main_c_657 : IVec S_ 32 := constantI S_ 32 219#32
  let main_v4181 : IVec S5x256x256 32 := broadcastInDim S5x256x256 ![] bcast_S_S5x256x256 main_c_657
  let main_v4182 : IVec S5x256x256 1 := cmpi .sgt main_v11 main_v4181
  let main_v4183 : IVec S5x256x256 1 := andi main_v4180 main_v4182
  let main_v4184 : FVec F S5x256x256 .f32 := broadcastInDim S5x256x256 ![0, 1, 2] bcast_S5x1x256_S5x256x256_0_1_2 main_v4173
  let main_v4185 : FVec F S5x256x256 .f32 := mulf main_v4178 main_v4184
  let main_v4186 : FVec F S5x256x256 .f32 := subf main_v4172 main_v4185
  let main_v4187 : FVec F S5x256x256 .f32 := select main_v4183 main_v4186 main_v4172
  let main_c_658 : IVec S_ 32 := constantI S_ 32 219#32
  fn_part202 (F := F) main_arg0 main_v3 main_v7 main_v8 main_v10 main_v11 main_v4178 main_v4180 main_v4187 main_c_658

def fn_part200 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4134 : FVec F S5x256x256 .f32) (main_v4140 : FVec F S5x256x256 .f32) (main_v4142 : IVec S5x256x256 1) (main_v4145 : IVec S5x256x256 1) (main_v4146 : FVec F S5x256x256 .f32) : IVec S9x256x256 1 × IVec S8x256x256 1 :=
  let main_v4147 : FVec F S5x256x256 .f32 := mulf main_v4140 main_v4146
  let main_v4148 : FVec F S5x256x256 .f32 := subf main_v4134 main_v4147
  let main_v4149 : FVec F S5x256x256 .f32 := select main_v4145 main_v4148 main_v4134
  let main_c_652 : IVec S_ 32 := constantI S_ 32 217#32
  let main_v4150 : IVec S5x256x256 32 := broadcastInDim S5x256x256 ![] bcast_S_S5x256x256 main_c_652
  let main_v4151 : IVec S5x256x256 1 := cmpi .eq main_v11 main_v4150
  let main_v4152 : IVec S5x256x256 1 := andi main_v4142 main_v4151
  let main_v4153 : FVec F S5x256x256 .f32 := select main_v4152 main_v4140 main_v4149
  let main_v4154 : FVec F S5x1x256 .f32 := (extractStridedSlice S5x1x256 ![0, 218, 0] · slices_S5x256x256_S5x1x256_0_218_0) main_v4153
  let main_v4155 : FVec F S5x256x1 .f32 := (extractStridedSlice S5x256x1 ![0, 0, 218] · slices_S5x256x256_S5x256x1_0_0_218) main_v4153
  let main_v4156 : FVec F S5x1x1 .f32 := (extractStridedSlice S5x1x1 ![0, 0, 218] · slices_S5x1x256_S5x1x1_0_0_218) main_v4154
  let main_v4157 : FVec F S5x256x1 .f32 := broadcastInDim S5x256x1 ![0, 1, 2] bcast_S5x1x1_S5x256x1_0_1_2 main_v4156
  let main_v4158 : FVec F S5x256x1 .f32 := Host.divf main_v4155 main_v4157
  let main_v4159 : FVec F S5x256x256 .f32 := broadcastInDim S5x256x256 ![0, 1, 2] bcast_S5x256x1_S5x256x256_0_1_2 main_v4158
  let main_c_653 : IVec S_ 32 := constantI S_ 32 218#32
  let main_v4160 : IVec S5x256x256 32 := broadcastInDim S5x256x256 ![] bcast_S_S5x256x256 main_c_653
  let main_v4161 : IVec S5x256x256 1 := cmpi .sgt main_v10 main_v4160
  let main_c_654 : IVec S_ 32 := constantI S_ 32 218#32
  let main_v4162 : IVec S5x256x256 32 := broadcastInDim S5x256x256 ![] bcast_S_S5x256x256 main_c_654
  let main_v4163 : IVec S5x256x256 1 := cmpi .sgt main_v11 main_v4162
  let main_v4164 : IVec S5x256x256 1 := andi main_v4161 main_v4163
  let main_v4165 : FVec F S5x256x256 .f32 := broadcastInDim S5x256x256 ![0, 1, 2] bcast_S5x1x256_S5x256x256_0_1_2 main_v4154
  let main_v4166 : FVec F S5x256x256 .f32 := mulf main_v4159 main_v4165
  let main_v4167 : FVec F S5x256x256 .f32 := subf main_v4153 main_v4166
  fn_part201 (F := F) main_arg0 main_v3 main_v7 main_v8 main_v10 main_v11 main_v4153 main_v4159 main_v4161 main_v4164 main_v4167

def fn_part199 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4115 : FVec F S5x256x256 .f32) (main_v4116 : FVec F S5x1x256 .f32) (main_v4121 : FVec F S5x256x256 .f32) (main_v4123 : IVec S5x256x256 1) (main_v4125 : IVec S5x256x256 1) : IVec S9x256x256 1 × IVec S8x256x256 1 :=
  let main_v4126 : IVec S5x256x256 1 := andi main_v4123 main_v4125
  let main_v4127 : FVec F S5x256x256 .f32 := broadcastInDim S5x256x256 ![0, 1, 2] bcast_S5x1x256_S5x256x256_0_1_2 main_v4116
  let main_v4128 : FVec F S5x256x256 .f32 := mulf main_v4121 main_v4127
  let main_v4129 : FVec F S5x256x256 .f32 := subf main_v4115 main_v4128
  let main_v4130 : FVec F S5x256x256 .f32 := select main_v4126 main_v4129 main_v4115
  let main_c_649 : IVec S_ 32 := constantI S_ 32 216#32
  let main_v4131 : IVec S5x256x256 32 := broadcastInDim S5x256x256 ![] bcast_S_S5x256x256 main_c_649
  let main_v4132 : IVec S5x256x256 1 := cmpi .eq main_v11 main_v4131
  let main_v4133 : IVec S5x256x256 1 := andi main_v4123 main_v4132
  let main_v4134 : FVec F S5x256x256 .f32 := select main_v4133 main_v4121 main_v4130
  let main_v4135 : FVec F S5x1x256 .f32 := (extractStridedSlice S5x1x256 ![0, 217, 0] · slices_S5x256x256_S5x1x256_0_217_0) main_v4134
  let main_v4136 : FVec F S5x256x1 .f32 := (extractStridedSlice S5x256x1 ![0, 0, 217] · slices_S5x256x256_S5x256x1_0_0_217) main_v4134
  let main_v4137 : FVec F S5x1x1 .f32 := (extractStridedSlice S5x1x1 ![0, 0, 217] · slices_S5x1x256_S5x1x1_0_0_217) main_v4135
  let main_v4138 : FVec F S5x256x1 .f32 := broadcastInDim S5x256x1 ![0, 1, 2] bcast_S5x1x1_S5x256x1_0_1_2 main_v4137
  let main_v4139 : FVec F S5x256x1 .f32 := Host.divf main_v4136 main_v4138
  let main_v4140 : FVec F S5x256x256 .f32 := broadcastInDim S5x256x256 ![0, 1, 2] bcast_S5x256x1_S5x256x256_0_1_2 main_v4139
  let main_c_650 : IVec S_ 32 := constantI S_ 32 217#32
  let main_v4141 : IVec S5x256x256 32 := broadcastInDim S5x256x256 ![] bcast_S_S5x256x256 main_c_650
  let main_v4142 : IVec S5x256x256 1 := cmpi .sgt main_v10 main_v4141
  let main_c_651 : IVec S_ 32 := constantI S_ 32 217#32
  let main_v4143 : IVec S5x256x256 32 := broadcastInDim S5x256x256 ![] bcast_S_S5x256x256 main_c_651
  let main_v4144 : IVec S5x256x256 1 := cmpi .sgt main_v11 main_v4143
  let main_v4145 : IVec S5x256x256 1 := andi main_v4142 main_v4144
  let main_v4146 : FVec F S5x256x256 .f32 := broadcastInDim S5x256x256 ![0, 1, 2] bcast_S5x1x256_S5x256x256_0_1_2 main_v4135
  fn_part200 (F := F) main_arg0 main_v3 main_v7 main_v8 main_v10 main_v11 main_v4134 main_v4140 main_v4142 main_v4145 main_v4146

def fn_part198 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4096 : FVec F S5x256x256 .f32) (main_v4097 : FVec F S5x1x256 .f32) (main_v4102 : FVec F S5x256x256 .f32) (main_v4104 : IVec S5x256x256 1) (main_c_645 : IVec S_ 32) : IVec S9x256x256 1 × IVec S8x256x256 1 :=
  let main_v4105 : IVec S5x256x256 32 := broadcastInDim S5x256x256 ![] bcast_S_S5x256x256 main_c_645
  let main_v4106 : IVec S5x256x256 1 := cmpi .sgt main_v11 main_v4105
  let main_v4107 : IVec S5x256x256 1 := andi main_v4104 main_v4106
  let main_v4108 : FVec F S5x256x256 .f32 := broadcastInDim S5x256x256 ![0, 1, 2] bcast_S5x1x256_S5x256x256_0_1_2 main_v4097
  let main_v4109 : FVec F S5x256x256 .f32 := mulf main_v4102 main_v4108
  let main_v4110 : FVec F S5x256x256 .f32 := subf main_v4096 main_v4109
  let main_v4111 : FVec F S5x256x256 .f32 := select main_v4107 main_v4110 main_v4096
  let main_c_646 : IVec S_ 32 := constantI S_ 32 215#32
  let main_v4112 : IVec S5x256x256 32 := broadcastInDim S5x256x256 ![] bcast_S_S5x256x256 main_c_646
  let main_v4113 : IVec S5x256x256 1 := cmpi .eq main_v11 main_v4112
  let main_v4114 : IVec S5x256x256 1 := andi main_v4104 main_v4113
  let main_v4115 : FVec F S5x256x256 .f32 := select main_v4114 main_v4102 main_v4111
  let main_v4116 : FVec F S5x1x256 .f32 := (extractStridedSlice S5x1x256 ![0, 216, 0] · slices_S5x256x256_S5x1x256_0_216_0) main_v4115
  let main_v4117 : FVec F S5x256x1 .f32 := (extractStridedSlice S5x256x1 ![0, 0, 216] · slices_S5x256x256_S5x256x1_0_0_216) main_v4115
  let main_v4118 : FVec F S5x1x1 .f32 := (extractStridedSlice S5x1x1 ![0, 0, 216] · slices_S5x1x256_S5x1x1_0_0_216) main_v4116
  let main_v4119 : FVec F S5x256x1 .f32 := broadcastInDim S5x256x1 ![0, 1, 2] bcast_S5x1x1_S5x256x1_0_1_2 main_v4118
  let main_v4120 : FVec F S5x256x1 .f32 := Host.divf main_v4117 main_v4119
  let main_v4121 : FVec F S5x256x256 .f32 := broadcastInDim S5x256x256 ![0, 1, 2] bcast_S5x256x1_S5x256x256_0_1_2 main_v4120
  let main_c_647 : IVec S_ 32 := constantI S_ 32 216#32
  let main_v4122 : IVec S5x256x256 32 := broadcastInDim S5x256x256 ![] bcast_S_S5x256x256 main_c_647
  let main_v4123 : IVec S5x256x256 1 := cmpi .sgt main_v10 main_v4122
  let main_c_648 : IVec S_ 32 := constantI S_ 32 216#32
  let main_v4124 : IVec S5x256x256 32 := broadcastInDim S5x256x256 ![] bcast_S_S5x256x256 main_c_648
  let main_v4125 : IVec S5x256x256 1 := cmpi .sgt main_v11 main_v4124
  fn_part199 (F := F) main_arg0 main_v3 main_v7 main_v8 main_v10 main_v11 main_v4115 main_v4116 main_v4121 main_v4123 main_v4125

def fn_part197 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4077 : FVec F S5x256x256 .f32) (main_v4078 : FVec F S5x1x256 .f32) (main_v4083 : FVec F S5x256x256 .f32) (main_v4084 : IVec S5x256x256 32) : IVec S9x256x256 1 × IVec S8x256x256 1 :=
  let main_v4085 : IVec S5x256x256 1 := cmpi .sgt main_v10 main_v4084
  let main_c_642 : IVec S_ 32 := constantI S_ 32 214#32
  let main_v4086 : IVec S5x256x256 32 := broadcastInDim S5x256x256 ![] bcast_S_S5x256x256 main_c_642
  let main_v4087 : IVec S5x256x256 1 := cmpi .sgt main_v11 main_v4086
  let main_v4088 : IVec S5x256x256 1 := andi main_v4085 main_v4087
  let main_v4089 : FVec F S5x256x256 .f32 := broadcastInDim S5x256x256 ![0, 1, 2] bcast_S5x1x256_S5x256x256_0_1_2 main_v4078
  let main_v4090 : FVec F S5x256x256 .f32 := mulf main_v4083 main_v4089
  let main_v4091 : FVec F S5x256x256 .f32 := subf main_v4077 main_v4090
  let main_v4092 : FVec F S5x256x256 .f32 := select main_v4088 main_v4091 main_v4077
  let main_c_643 : IVec S_ 32 := constantI S_ 32 214#32
  let main_v4093 : IVec S5x256x256 32 := broadcastInDim S5x256x256 ![] bcast_S_S5x256x256 main_c_643
  let main_v4094 : IVec S5x256x256 1 := cmpi .eq main_v11 main_v4093
  let main_v4095 : IVec S5x256x256 1 := andi main_v4085 main_v4094
  let main_v4096 : FVec F S5x256x256 .f32 := select main_v4095 main_v4083 main_v4092
  let main_v4097 : FVec F S5x1x256 .f32 := (extractStridedSlice S5x1x256 ![0, 215, 0] · slices_S5x256x256_S5x1x256_0_215_0) main_v4096
  let main_v4098 : FVec F S5x256x1 .f32 := (extractStridedSlice S5x256x1 ![0, 0, 215] · slices_S5x256x256_S5x256x1_0_0_215) main_v4096
  let main_v4099 : FVec F S5x1x1 .f32 := (extractStridedSlice S5x1x1 ![0, 0, 215] · slices_S5x1x256_S5x1x1_0_0_215) main_v4097
  let main_v4100 : FVec F S5x256x1 .f32 := broadcastInDim S5x256x1 ![0, 1, 2] bcast_S5x1x1_S5x256x1_0_1_2 main_v4099
  let main_v4101 : FVec F S5x256x1 .f32 := Host.divf main_v4098 main_v4100
  let main_v4102 : FVec F S5x256x256 .f32 := broadcastInDim S5x256x256 ![0, 1, 2] bcast_S5x256x1_S5x256x256_0_1_2 main_v4101
  let main_c_644 : IVec S_ 32 := constantI S_ 32 215#32
  let main_v4103 : IVec S5x256x256 32 := broadcastInDim S5x256x256 ![] bcast_S_S5x256x256 main_c_644
  let main_v4104 : IVec S5x256x256 1 := cmpi .sgt main_v10 main_v4103
  let main_c_645 : IVec S_ 32 := constantI S_ 32 215#32
  fn_part198 (F := F) main_arg0 main_v3 main_v7 main_v8 main_v10 main_v11 main_v4096 main_v4097 main_v4102 main_v4104 main_c_645

def fn_part196 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4058 : FVec F S5x256x256 .f32) (main_v4059 : FVec F S5x1x256 .f32) (main_v4064 : FVec F S5x256x256 .f32) : IVec S9x256x256 1 × IVec S8x256x256 1 :=
  let main_c_638 : IVec S_ 32 := constantI S_ 32 213#32
  let main_v4065 : IVec S5x256x256 32 := broadcastInDim S5x256x256 ![] bcast_S_S5x256x256 main_c_638
  let main_v4066 : IVec S5x256x256 1 := cmpi .sgt main_v10 main_v4065
  let main_c_639 : IVec S_ 32 := constantI S_ 32 213#32
  let main_v4067 : IVec S5x256x256 32 := broadcastInDim S5x256x256 ![] bcast_S_S5x256x256 main_c_639
  let main_v4068 : IVec S5x256x256 1 := cmpi .sgt main_v11 main_v4067
  let main_v4069 : IVec S5x256x256 1 := andi main_v4066 main_v4068
  let main_v4070 : FVec F S5x256x256 .f32 := broadcastInDim S5x256x256 ![0, 1, 2] bcast_S5x1x256_S5x256x256_0_1_2 main_v4059
  let main_v4071 : FVec F S5x256x256 .f32 := mulf main_v4064 main_v4070
  let main_v4072 : FVec F S5x256x256 .f32 := subf main_v4058 main_v4071
  let main_v4073 : FVec F S5x256x256 .f32 := select main_v4069 main_v4072 main_v4058
  let main_c_640 : IVec S_ 32 := constantI S_ 32 213#32
  let main_v4074 : IVec S5x256x256 32 := broadcastInDim S5x256x256 ![] bcast_S_S5x256x256 main_c_640
  let main_v4075 : IVec S5x256x256 1 := cmpi .eq main_v11 main_v4074
  let main_v4076 : IVec S5x256x256 1 := andi main_v4066 main_v4075
  let main_v4077 : FVec F S5x256x256 .f32 := select main_v4076 main_v4064 main_v4073
  let main_v4078 : FVec F S5x1x256 .f32 := (extractStridedSlice S5x1x256 ![0, 214, 0] · slices_S5x256x256_S5x1x256_0_214_0) main_v4077
  let main_v4079 : FVec F S5x256x1 .f32 := (extractStridedSlice S5x256x1 ![0, 0, 214] · slices_S5x256x256_S5x256x1_0_0_214) main_v4077
  let main_v4080 : FVec F S5x1x1 .f32 := (extractStridedSlice S5x1x1 ![0, 0, 214] · slices_S5x1x256_S5x1x1_0_0_214) main_v4078
  let main_v4081 : FVec F S5x256x1 .f32 := broadcastInDim S5x256x1 ![0, 1, 2] bcast_S5x1x1_S5x256x1_0_1_2 main_v4080
  let main_v4082 : FVec F S5x256x1 .f32 := Host.divf main_v4079 main_v4081
  let main_v4083 : FVec F S5x256x256 .f32 := broadcastInDim S5x256x256 ![0, 1, 2] bcast_S5x256x1_S5x256x256_0_1_2 main_v4082
  let main_c_641 : IVec S_ 32 := constantI S_ 32 214#32
  let main_v4084 : IVec S5x256x256 32 := broadcastInDim S5x256x256 ![] bcast_S_S5x256x256 main_c_641
  fn_part197 (F := F) main_arg0 main_v3 main_v7 main_v8 main_v10 main_v11 main_v4077 main_v4078 main_v4083 main_v4084

def fn_part195 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4039 : FVec F S5x256x256 .f32) (main_v4040 : FVec F S5x1x256 .f32) (main_v4041 : FVec F S5x256x1 .f32) (main_v4043 : FVec F S5x256x1 .f32) : IVec S9x256x256 1 × IVec S8x256x256 1 :=
  let main_v4044 : FVec F S5x256x1 .f32 := Host.divf main_v4041 main_v4043
  let main_v4045 : FVec F S5x256x256 .f32 := broadcastInDim S5x256x256 ![0, 1, 2] bcast_S5x256x1_S5x256x256_0_1_2 main_v4044
  let main_c_635 : IVec S_ 32 := constantI S_ 32 212#32
  let main_v4046 : IVec S5x256x256 32 := broadcastInDim S5x256x256 ![] bcast_S_S5x256x256 main_c_635
  let main_v4047 : IVec S5x256x256 1 := cmpi .sgt main_v10 main_v4046
  let main_c_636 : IVec S_ 32 := constantI S_ 32 212#32
  let main_v4048 : IVec S5x256x256 32 := broadcastInDim S5x256x256 ![] bcast_S_S5x256x256 main_c_636
  let main_v4049 : IVec S5x256x256 1 := cmpi .sgt main_v11 main_v4048
  let main_v4050 : IVec S5x256x256 1 := andi main_v4047 main_v4049
  let main_v4051 : FVec F S5x256x256 .f32 := broadcastInDim S5x256x256 ![0, 1, 2] bcast_S5x1x256_S5x256x256_0_1_2 main_v4040
  let main_v4052 : FVec F S5x256x256 .f32 := mulf main_v4045 main_v4051
  let main_v4053 : FVec F S5x256x256 .f32 := subf main_v4039 main_v4052
  let main_v4054 : FVec F S5x256x256 .f32 := select main_v4050 main_v4053 main_v4039
  let main_c_637 : IVec S_ 32 := constantI S_ 32 212#32
  let main_v4055 : IVec S5x256x256 32 := broadcastInDim S5x256x256 ![] bcast_S_S5x256x256 main_c_637
  let main_v4056 : IVec S5x256x256 1 := cmpi .eq main_v11 main_v4055
  let main_v4057 : IVec S5x256x256 1 := andi main_v4047 main_v4056
  let main_v4058 : FVec F S5x256x256 .f32 := select main_v4057 main_v4045 main_v4054
  let main_v4059 : FVec F S5x1x256 .f32 := (extractStridedSlice S5x1x256 ![0, 213, 0] · slices_S5x256x256_S5x1x256_0_213_0) main_v4058
  let main_v4060 : FVec F S5x256x1 .f32 := (extractStridedSlice S5x256x1 ![0, 0, 213] · slices_S5x256x256_S5x256x1_0_0_213) main_v4058
  let main_v4061 : FVec F S5x1x1 .f32 := (extractStridedSlice S5x1x1 ![0, 0, 213] · slices_S5x1x256_S5x1x1_0_0_213) main_v4059
  let main_v4062 : FVec F S5x256x1 .f32 := broadcastInDim S5x256x1 ![0, 1, 2] bcast_S5x1x1_S5x256x1_0_1_2 main_v4061
  let main_v4063 : FVec F S5x256x1 .f32 := Host.divf main_v4060 main_v4062
  let main_v4064 : FVec F S5x256x256 .f32 := broadcastInDim S5x256x256 ![0, 1, 2] bcast_S5x256x1_S5x256x256_0_1_2 main_v4063
  fn_part196 (F := F) main_arg0 main_v3 main_v7 main_v8 main_v10 main_v11 main_v4058 main_v4059 main_v4064

def fn_part194 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4020 : FVec F S5x256x256 .f32) (main_v4021 : FVec F S5x1x256 .f32) (main_v4022 : FVec F S5x256x1 .f32) : IVec S9x256x256 1 × IVec S8x256x256 1 :=
  let main_v4023 : FVec F S5x1x1 .f32 := (extractStridedSlice S5x1x1 ![0, 0, 211] · slices_S5x1x256_S5x1x1_0_0_211) main_v4021
  let main_v4024 : FVec F S5x256x1 .f32 := broadcastInDim S5x256x1 ![0, 1, 2] bcast_S5x1x1_S5x256x1_0_1_2 main_v4023
  let main_v4025 : FVec F S5x256x1 .f32 := Host.divf main_v4022 main_v4024
  let main_v4026 : FVec F S5x256x256 .f32 := broadcastInDim S5x256x256 ![0, 1, 2] bcast_S5x256x1_S5x256x256_0_1_2 main_v4025
  let main_c_632 : IVec S_ 32 := constantI S_ 32 211#32
  let main_v4027 : IVec S5x256x256 32 := broadcastInDim S5x256x256 ![] bcast_S_S5x256x256 main_c_632
  let main_v4028 : IVec S5x256x256 1 := cmpi .sgt main_v10 main_v4027
  let main_c_633 : IVec S_ 32 := constantI S_ 32 211#32
  let main_v4029 : IVec S5x256x256 32 := broadcastInDim S5x256x256 ![] bcast_S_S5x256x256 main_c_633
  let main_v4030 : IVec S5x256x256 1 := cmpi .sgt main_v11 main_v4029
  let main_v4031 : IVec S5x256x256 1 := andi main_v4028 main_v4030
  let main_v4032 : FVec F S5x256x256 .f32 := broadcastInDim S5x256x256 ![0, 1, 2] bcast_S5x1x256_S5x256x256_0_1_2 main_v4021
  let main_v4033 : FVec F S5x256x256 .f32 := mulf main_v4026 main_v4032
  let main_v4034 : FVec F S5x256x256 .f32 := subf main_v4020 main_v4033
  let main_v4035 : FVec F S5x256x256 .f32 := select main_v4031 main_v4034 main_v4020
  let main_c_634 : IVec S_ 32 := constantI S_ 32 211#32
  let main_v4036 : IVec S5x256x256 32 := broadcastInDim S5x256x256 ![] bcast_S_S5x256x256 main_c_634
  let main_v4037 : IVec S5x256x256 1 := cmpi .eq main_v11 main_v4036
  let main_v4038 : IVec S5x256x256 1 := andi main_v4028 main_v4037
  let main_v4039 : FVec F S5x256x256 .f32 := select main_v4038 main_v4026 main_v4035
  let main_v4040 : FVec F S5x1x256 .f32 := (extractStridedSlice S5x1x256 ![0, 212, 0] · slices_S5x256x256_S5x1x256_0_212_0) main_v4039
  let main_v4041 : FVec F S5x256x1 .f32 := (extractStridedSlice S5x256x1 ![0, 0, 212] · slices_S5x256x256_S5x256x1_0_0_212) main_v4039
  let main_v4042 : FVec F S5x1x1 .f32 := (extractStridedSlice S5x1x1 ![0, 0, 212] · slices_S5x1x256_S5x1x1_0_0_212) main_v4040
  let main_v4043 : FVec F S5x256x1 .f32 := broadcastInDim S5x256x1 ![0, 1, 2] bcast_S5x1x1_S5x256x1_0_1_2 main_v4042
  fn_part195 (F := F) main_arg0 main_v3 main_v7 main_v8 main_v10 main_v11 main_v4039 main_v4040 main_v4041 main_v4043

def fn_part193 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v4001 : FVec F S5x256x256 .f32) : IVec S9x256x256 1 × IVec S8x256x256 1 :=
  let main_v4002 : FVec F S5x1x256 .f32 := (extractStridedSlice S5x1x256 ![0, 210, 0] · slices_S5x256x256_S5x1x256_0_210_0) main_v4001
  let main_v4003 : FVec F S5x256x1 .f32 := (extractStridedSlice S5x256x1 ![0, 0, 210] · slices_S5x256x256_S5x256x1_0_0_210) main_v4001
  let main_v4004 : FVec F S5x1x1 .f32 := (extractStridedSlice S5x1x1 ![0, 0, 210] · slices_S5x1x256_S5x1x1_0_0_210) main_v4002
  let main_v4005 : FVec F S5x256x1 .f32 := broadcastInDim S5x256x1 ![0, 1, 2] bcast_S5x1x1_S5x256x1_0_1_2 main_v4004
  let main_v4006 : FVec F S5x256x1 .f32 := Host.divf main_v4003 main_v4005
  let main_v4007 : FVec F S5x256x256 .f32 := broadcastInDim S5x256x256 ![0, 1, 2] bcast_S5x256x1_S5x256x256_0_1_2 main_v4006
  let main_c_629 : IVec S_ 32 := constantI S_ 32 210#32
  let main_v4008 : IVec S5x256x256 32 := broadcastInDim S5x256x256 ![] bcast_S_S5x256x256 main_c_629
  let main_v4009 : IVec S5x256x256 1 := cmpi .sgt main_v10 main_v4008
  let main_c_630 : IVec S_ 32 := constantI S_ 32 210#32
  let main_v4010 : IVec S5x256x256 32 := broadcastInDim S5x256x256 ![] bcast_S_S5x256x256 main_c_630
  let main_v4011 : IVec S5x256x256 1 := cmpi .sgt main_v11 main_v4010
  let main_v4012 : IVec S5x256x256 1 := andi main_v4009 main_v4011
  let main_v4013 : FVec F S5x256x256 .f32 := broadcastInDim S5x256x256 ![0, 1, 2] bcast_S5x1x256_S5x256x256_0_1_2 main_v4002
  let main_v4014 : FVec F S5x256x256 .f32 := mulf main_v4007 main_v4013
  let main_v4015 : FVec F S5x256x256 .f32 := subf main_v4001 main_v4014
  let main_v4016 : FVec F S5x256x256 .f32 := select main_v4012 main_v4015 main_v4001
  let main_c_631 : IVec S_ 32 := constantI S_ 32 210#32
  let main_v4017 : IVec S5x256x256 32 := broadcastInDim S5x256x256 ![] bcast_S_S5x256x256 main_c_631
  let main_v4018 : IVec S5x256x256 1 := cmpi .eq main_v11 main_v4017
  let main_v4019 : IVec S5x256x256 1 := andi main_v4009 main_v4018
  let main_v4020 : FVec F S5x256x256 .f32 := select main_v4019 main_v4007 main_v4016
  let main_v4021 : FVec F S5x1x256 .f32 := (extractStridedSlice S5x1x256 ![0, 211, 0] · slices_S5x256x256_S5x1x256_0_211_0) main_v4020
  let main_v4022 : FVec F S5x256x1 .f32 := (extractStridedSlice S5x256x1 ![0, 0, 211] · slices_S5x256x256_S5x256x1_0_0_211) main_v4020
  fn_part194 (F := F) main_arg0 main_v3 main_v7 main_v8 main_v10 main_v11 main_v4020 main_v4021 main_v4022

def fn_part192 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3969 : FVec F S5x256x256 .f32) (main_v3971 : IVec S5x256x256 1) (main_v3978 : FVec F S5x256x256 .f32) (main_v3980 : IVec S5x256x256 1) : IVec S9x256x256 1 × IVec S8x256x256 1 :=
  let main_v3981 : IVec S5x256x256 1 := andi main_v3971 main_v3980
  let main_v3982 : FVec F S5x256x256 .f32 := select main_v3981 main_v3969 main_v3978
  let main_v3983 : FVec F S5x1x256 .f32 := (extractStridedSlice S5x1x256 ![0, 209, 0] · slices_S5x256x256_S5x1x256_0_209_0) main_v3982
  let main_v3984 : FVec F S5x256x1 .f32 := (extractStridedSlice S5x256x1 ![0, 0, 209] · slices_S5x256x256_S5x256x1_0_0_209) main_v3982
  let main_v3985 : FVec F S5x1x1 .f32 := (extractStridedSlice S5x1x1 ![0, 0, 209] · slices_S5x1x256_S5x1x1_0_0_209) main_v3983
  let main_v3986 : FVec F S5x256x1 .f32 := broadcastInDim S5x256x1 ![0, 1, 2] bcast_S5x1x1_S5x256x1_0_1_2 main_v3985
  let main_v3987 : FVec F S5x256x1 .f32 := Host.divf main_v3984 main_v3986
  let main_v3988 : FVec F S5x256x256 .f32 := broadcastInDim S5x256x256 ![0, 1, 2] bcast_S5x256x1_S5x256x256_0_1_2 main_v3987
  let main_c_626 : IVec S_ 32 := constantI S_ 32 209#32
  let main_v3989 : IVec S5x256x256 32 := broadcastInDim S5x256x256 ![] bcast_S_S5x256x256 main_c_626
  let main_v3990 : IVec S5x256x256 1 := cmpi .sgt main_v10 main_v3989
  let main_c_627 : IVec S_ 32 := constantI S_ 32 209#32
  let main_v3991 : IVec S5x256x256 32 := broadcastInDim S5x256x256 ![] bcast_S_S5x256x256 main_c_627
  let main_v3992 : IVec S5x256x256 1 := cmpi .sgt main_v11 main_v3991
  let main_v3993 : IVec S5x256x256 1 := andi main_v3990 main_v3992
  let main_v3994 : FVec F S5x256x256 .f32 := broadcastInDim S5x256x256 ![0, 1, 2] bcast_S5x1x256_S5x256x256_0_1_2 main_v3983
  let main_v3995 : FVec F S5x256x256 .f32 := mulf main_v3988 main_v3994
  let main_v3996 : FVec F S5x256x256 .f32 := subf main_v3982 main_v3995
  let main_v3997 : FVec F S5x256x256 .f32 := select main_v3993 main_v3996 main_v3982
  let main_c_628 : IVec S_ 32 := constantI S_ 32 209#32
  let main_v3998 : IVec S5x256x256 32 := broadcastInDim S5x256x256 ![] bcast_S_S5x256x256 main_c_628
  let main_v3999 : IVec S5x256x256 1 := cmpi .eq main_v11 main_v3998
  let main_v4000 : IVec S5x256x256 1 := andi main_v3990 main_v3999
  let main_v4001 : FVec F S5x256x256 .f32 := select main_v4000 main_v3988 main_v3997
  fn_part193 (F := F) main_arg0 main_v3 main_v7 main_v8 main_v10 main_v11 main_v4001

def fn_part191 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3950 : FVec F S5x256x256 .f32) (main_v3952 : IVec S5x256x256 1) (main_v3959 : FVec F S5x256x256 .f32) (main_c_622 : IVec S_ 32) : IVec S9x256x256 1 × IVec S8x256x256 1 :=
  let main_v3960 : IVec S5x256x256 32 := broadcastInDim S5x256x256 ![] bcast_S_S5x256x256 main_c_622
  let main_v3961 : IVec S5x256x256 1 := cmpi .eq main_v11 main_v3960
  let main_v3962 : IVec S5x256x256 1 := andi main_v3952 main_v3961
  let main_v3963 : FVec F S5x256x256 .f32 := select main_v3962 main_v3950 main_v3959
  let main_v3964 : FVec F S5x1x256 .f32 := (extractStridedSlice S5x1x256 ![0, 208, 0] · slices_S5x256x256_S5x1x256_0_208_0) main_v3963
  let main_v3965 : FVec F S5x256x1 .f32 := (extractStridedSlice S5x256x1 ![0, 0, 208] · slices_S5x256x256_S5x256x1_0_0_208) main_v3963
  let main_v3966 : FVec F S5x1x1 .f32 := (extractStridedSlice S5x1x1 ![0, 0, 208] · slices_S5x1x256_S5x1x1_0_0_208) main_v3964
  let main_v3967 : FVec F S5x256x1 .f32 := broadcastInDim S5x256x1 ![0, 1, 2] bcast_S5x1x1_S5x256x1_0_1_2 main_v3966
  let main_v3968 : FVec F S5x256x1 .f32 := Host.divf main_v3965 main_v3967
  let main_v3969 : FVec F S5x256x256 .f32 := broadcastInDim S5x256x256 ![0, 1, 2] bcast_S5x256x1_S5x256x256_0_1_2 main_v3968
  let main_c_623 : IVec S_ 32 := constantI S_ 32 208#32
  let main_v3970 : IVec S5x256x256 32 := broadcastInDim S5x256x256 ![] bcast_S_S5x256x256 main_c_623
  let main_v3971 : IVec S5x256x256 1 := cmpi .sgt main_v10 main_v3970
  let main_c_624 : IVec S_ 32 := constantI S_ 32 208#32
  let main_v3972 : IVec S5x256x256 32 := broadcastInDim S5x256x256 ![] bcast_S_S5x256x256 main_c_624
  let main_v3973 : IVec S5x256x256 1 := cmpi .sgt main_v11 main_v3972
  let main_v3974 : IVec S5x256x256 1 := andi main_v3971 main_v3973
  let main_v3975 : FVec F S5x256x256 .f32 := broadcastInDim S5x256x256 ![0, 1, 2] bcast_S5x1x256_S5x256x256_0_1_2 main_v3964
  let main_v3976 : FVec F S5x256x256 .f32 := mulf main_v3969 main_v3975
  let main_v3977 : FVec F S5x256x256 .f32 := subf main_v3963 main_v3976
  let main_v3978 : FVec F S5x256x256 .f32 := select main_v3974 main_v3977 main_v3963
  let main_c_625 : IVec S_ 32 := constantI S_ 32 208#32
  let main_v3979 : IVec S5x256x256 32 := broadcastInDim S5x256x256 ![] bcast_S_S5x256x256 main_c_625
  let main_v3980 : IVec S5x256x256 1 := cmpi .eq main_v11 main_v3979
  fn_part192 (F := F) main_arg0 main_v3 main_v7 main_v8 main_v10 main_v11 main_v3969 main_v3971 main_v3978 main_v3980

def fn_part190 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3925 : FVec F S5x256x256 .f32) (main_v3931 : FVec F S5x256x256 .f32) (main_v3933 : IVec S5x256x256 1) (main_v3936 : IVec S5x256x256 1) (main_v3939 : FVec F S5x256x256 .f32) : IVec S9x256x256 1 × IVec S8x256x256 1 :=
  let main_v3940 : FVec F S5x256x256 .f32 := select main_v3936 main_v3939 main_v3925
  let main_c_619 : IVec S_ 32 := constantI S_ 32 206#32
  let main_v3941 : IVec S5x256x256 32 := broadcastInDim S5x256x256 ![] bcast_S_S5x256x256 main_c_619
  let main_v3942 : IVec S5x256x256 1 := cmpi .eq main_v11 main_v3941
  let main_v3943 : IVec S5x256x256 1 := andi main_v3933 main_v3942
  let main_v3944 : FVec F S5x256x256 .f32 := select main_v3943 main_v3931 main_v3940
  let main_v3945 : FVec F S5x1x256 .f32 := (extractStridedSlice S5x1x256 ![0, 207, 0] · slices_S5x256x256_S5x1x256_0_207_0) main_v3944
  let main_v3946 : FVec F S5x256x1 .f32 := (extractStridedSlice S5x256x1 ![0, 0, 207] · slices_S5x256x256_S5x256x1_0_0_207) main_v3944
  let main_v3947 : FVec F S5x1x1 .f32 := (extractStridedSlice S5x1x1 ![0, 0, 207] · slices_S5x1x256_S5x1x1_0_0_207) main_v3945
  let main_v3948 : FVec F S5x256x1 .f32 := broadcastInDim S5x256x1 ![0, 1, 2] bcast_S5x1x1_S5x256x1_0_1_2 main_v3947
  let main_v3949 : FVec F S5x256x1 .f32 := Host.divf main_v3946 main_v3948
  let main_v3950 : FVec F S5x256x256 .f32 := broadcastInDim S5x256x256 ![0, 1, 2] bcast_S5x256x1_S5x256x256_0_1_2 main_v3949
  let main_c_620 : IVec S_ 32 := constantI S_ 32 207#32
  let main_v3951 : IVec S5x256x256 32 := broadcastInDim S5x256x256 ![] bcast_S_S5x256x256 main_c_620
  let main_v3952 : IVec S5x256x256 1 := cmpi .sgt main_v10 main_v3951
  let main_c_621 : IVec S_ 32 := constantI S_ 32 207#32
  let main_v3953 : IVec S5x256x256 32 := broadcastInDim S5x256x256 ![] bcast_S_S5x256x256 main_c_621
  let main_v3954 : IVec S5x256x256 1 := cmpi .sgt main_v11 main_v3953
  let main_v3955 : IVec S5x256x256 1 := andi main_v3952 main_v3954
  let main_v3956 : FVec F S5x256x256 .f32 := broadcastInDim S5x256x256 ![0, 1, 2] bcast_S5x1x256_S5x256x256_0_1_2 main_v3945
  let main_v3957 : FVec F S5x256x256 .f32 := mulf main_v3950 main_v3956
  let main_v3958 : FVec F S5x256x256 .f32 := subf main_v3944 main_v3957
  let main_v3959 : FVec F S5x256x256 .f32 := select main_v3955 main_v3958 main_v3944
  let main_c_622 : IVec S_ 32 := constantI S_ 32 207#32
  fn_part191 (F := F) main_arg0 main_v3 main_v7 main_v8 main_v10 main_v11 main_v3950 main_v3952 main_v3959 main_c_622

def fn_part189 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3906 : FVec F S5x256x256 .f32) (main_v3912 : FVec F S5x256x256 .f32) (main_v3914 : IVec S5x256x256 1) (main_v3917 : IVec S5x256x256 1) (main_v3918 : FVec F S5x256x256 .f32) : IVec S9x256x256 1 × IVec S8x256x256 1 :=
  let main_v3919 : FVec F S5x256x256 .f32 := mulf main_v3912 main_v3918
  let main_v3920 : FVec F S5x256x256 .f32 := subf main_v3906 main_v3919
  let main_v3921 : FVec F S5x256x256 .f32 := select main_v3917 main_v3920 main_v3906
  let main_c_616 : IVec S_ 32 := constantI S_ 32 205#32
  let main_v3922 : IVec S5x256x256 32 := broadcastInDim S5x256x256 ![] bcast_S_S5x256x256 main_c_616
  let main_v3923 : IVec S5x256x256 1 := cmpi .eq main_v11 main_v3922
  let main_v3924 : IVec S5x256x256 1 := andi main_v3914 main_v3923
  let main_v3925 : FVec F S5x256x256 .f32 := select main_v3924 main_v3912 main_v3921
  let main_v3926 : FVec F S5x1x256 .f32 := (extractStridedSlice S5x1x256 ![0, 206, 0] · slices_S5x256x256_S5x1x256_0_206_0) main_v3925
  let main_v3927 : FVec F S5x256x1 .f32 := (extractStridedSlice S5x256x1 ![0, 0, 206] · slices_S5x256x256_S5x256x1_0_0_206) main_v3925
  let main_v3928 : FVec F S5x1x1 .f32 := (extractStridedSlice S5x1x1 ![0, 0, 206] · slices_S5x1x256_S5x1x1_0_0_206) main_v3926
  let main_v3929 : FVec F S5x256x1 .f32 := broadcastInDim S5x256x1 ![0, 1, 2] bcast_S5x1x1_S5x256x1_0_1_2 main_v3928
  let main_v3930 : FVec F S5x256x1 .f32 := Host.divf main_v3927 main_v3929
  let main_v3931 : FVec F S5x256x256 .f32 := broadcastInDim S5x256x256 ![0, 1, 2] bcast_S5x256x1_S5x256x256_0_1_2 main_v3930
  let main_c_617 : IVec S_ 32 := constantI S_ 32 206#32
  let main_v3932 : IVec S5x256x256 32 := broadcastInDim S5x256x256 ![] bcast_S_S5x256x256 main_c_617
  let main_v3933 : IVec S5x256x256 1 := cmpi .sgt main_v10 main_v3932
  let main_c_618 : IVec S_ 32 := constantI S_ 32 206#32
  let main_v3934 : IVec S5x256x256 32 := broadcastInDim S5x256x256 ![] bcast_S_S5x256x256 main_c_618
  let main_v3935 : IVec S5x256x256 1 := cmpi .sgt main_v11 main_v3934
  let main_v3936 : IVec S5x256x256 1 := andi main_v3933 main_v3935
  let main_v3937 : FVec F S5x256x256 .f32 := broadcastInDim S5x256x256 ![0, 1, 2] bcast_S5x1x256_S5x256x256_0_1_2 main_v3926
  let main_v3938 : FVec F S5x256x256 .f32 := mulf main_v3931 main_v3937
  let main_v3939 : FVec F S5x256x256 .f32 := subf main_v3925 main_v3938
  fn_part190 (F := F) main_arg0 main_v3 main_v7 main_v8 main_v10 main_v11 main_v3925 main_v3931 main_v3933 main_v3936 main_v3939

def fn_part188 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3887 : FVec F S5x256x256 .f32) (main_v3888 : FVec F S5x1x256 .f32) (main_v3893 : FVec F S5x256x256 .f32) (main_v3895 : IVec S5x256x256 1) (main_v3897 : IVec S5x256x256 1) : IVec S9x256x256 1 × IVec S8x256x256 1 :=
  let main_v3898 : IVec S5x256x256 1 := andi main_v3895 main_v3897
  let main_v3899 : FVec F S5x256x256 .f32 := broadcastInDim S5x256x256 ![0, 1, 2] bcast_S5x1x256_S5x256x256_0_1_2 main_v3888
  let main_v3900 : FVec F S5x256x256 .f32 := mulf main_v3893 main_v3899
  let main_v3901 : FVec F S5x256x256 .f32 := subf main_v3887 main_v3900
  let main_v3902 : FVec F S5x256x256 .f32 := select main_v3898 main_v3901 main_v3887
  let main_c_613 : IVec S_ 32 := constantI S_ 32 204#32
  let main_v3903 : IVec S5x256x256 32 := broadcastInDim S5x256x256 ![] bcast_S_S5x256x256 main_c_613
  let main_v3904 : IVec S5x256x256 1 := cmpi .eq main_v11 main_v3903
  let main_v3905 : IVec S5x256x256 1 := andi main_v3895 main_v3904
  let main_v3906 : FVec F S5x256x256 .f32 := select main_v3905 main_v3893 main_v3902
  let main_v3907 : FVec F S5x1x256 .f32 := (extractStridedSlice S5x1x256 ![0, 205, 0] · slices_S5x256x256_S5x1x256_0_205_0) main_v3906
  let main_v3908 : FVec F S5x256x1 .f32 := (extractStridedSlice S5x256x1 ![0, 0, 205] · slices_S5x256x256_S5x256x1_0_0_205) main_v3906
  let main_v3909 : FVec F S5x1x1 .f32 := (extractStridedSlice S5x1x1 ![0, 0, 205] · slices_S5x1x256_S5x1x1_0_0_205) main_v3907
  let main_v3910 : FVec F S5x256x1 .f32 := broadcastInDim S5x256x1 ![0, 1, 2] bcast_S5x1x1_S5x256x1_0_1_2 main_v3909
  let main_v3911 : FVec F S5x256x1 .f32 := Host.divf main_v3908 main_v3910
  let main_v3912 : FVec F S5x256x256 .f32 := broadcastInDim S5x256x256 ![0, 1, 2] bcast_S5x256x1_S5x256x256_0_1_2 main_v3911
  let main_c_614 : IVec S_ 32 := constantI S_ 32 205#32
  let main_v3913 : IVec S5x256x256 32 := broadcastInDim S5x256x256 ![] bcast_S_S5x256x256 main_c_614
  let main_v3914 : IVec S5x256x256 1 := cmpi .sgt main_v10 main_v3913
  let main_c_615 : IVec S_ 32 := constantI S_ 32 205#32
  let main_v3915 : IVec S5x256x256 32 := broadcastInDim S5x256x256 ![] bcast_S_S5x256x256 main_c_615
  let main_v3916 : IVec S5x256x256 1 := cmpi .sgt main_v11 main_v3915
  let main_v3917 : IVec S5x256x256 1 := andi main_v3914 main_v3916
  let main_v3918 : FVec F S5x256x256 .f32 := broadcastInDim S5x256x256 ![0, 1, 2] bcast_S5x1x256_S5x256x256_0_1_2 main_v3907
  fn_part189 (F := F) main_arg0 main_v3 main_v7 main_v8 main_v10 main_v11 main_v3906 main_v3912 main_v3914 main_v3917 main_v3918

def fn_part187 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3868 : FVec F S5x256x256 .f32) (main_v3869 : FVec F S5x1x256 .f32) (main_v3874 : FVec F S5x256x256 .f32) (main_v3876 : IVec S5x256x256 1) (main_c_609 : IVec S_ 32) : IVec S9x256x256 1 × IVec S8x256x256 1 :=
  let main_v3877 : IVec S5x256x256 32 := broadcastInDim S5x256x256 ![] bcast_S_S5x256x256 main_c_609
  let main_v3878 : IVec S5x256x256 1 := cmpi .sgt main_v11 main_v3877
  let main_v3879 : IVec S5x256x256 1 := andi main_v3876 main_v3878
  let main_v3880 : FVec F S5x256x256 .f32 := broadcastInDim S5x256x256 ![0, 1, 2] bcast_S5x1x256_S5x256x256_0_1_2 main_v3869
  let main_v3881 : FVec F S5x256x256 .f32 := mulf main_v3874 main_v3880
  let main_v3882 : FVec F S5x256x256 .f32 := subf main_v3868 main_v3881
  let main_v3883 : FVec F S5x256x256 .f32 := select main_v3879 main_v3882 main_v3868
  let main_c_610 : IVec S_ 32 := constantI S_ 32 203#32
  let main_v3884 : IVec S5x256x256 32 := broadcastInDim S5x256x256 ![] bcast_S_S5x256x256 main_c_610
  let main_v3885 : IVec S5x256x256 1 := cmpi .eq main_v11 main_v3884
  let main_v3886 : IVec S5x256x256 1 := andi main_v3876 main_v3885
  let main_v3887 : FVec F S5x256x256 .f32 := select main_v3886 main_v3874 main_v3883
  let main_v3888 : FVec F S5x1x256 .f32 := (extractStridedSlice S5x1x256 ![0, 204, 0] · slices_S5x256x256_S5x1x256_0_204_0) main_v3887
  let main_v3889 : FVec F S5x256x1 .f32 := (extractStridedSlice S5x256x1 ![0, 0, 204] · slices_S5x256x256_S5x256x1_0_0_204) main_v3887
  let main_v3890 : FVec F S5x1x1 .f32 := (extractStridedSlice S5x1x1 ![0, 0, 204] · slices_S5x1x256_S5x1x1_0_0_204) main_v3888
  let main_v3891 : FVec F S5x256x1 .f32 := broadcastInDim S5x256x1 ![0, 1, 2] bcast_S5x1x1_S5x256x1_0_1_2 main_v3890
  let main_v3892 : FVec F S5x256x1 .f32 := Host.divf main_v3889 main_v3891
  let main_v3893 : FVec F S5x256x256 .f32 := broadcastInDim S5x256x256 ![0, 1, 2] bcast_S5x256x1_S5x256x256_0_1_2 main_v3892
  let main_c_611 : IVec S_ 32 := constantI S_ 32 204#32
  let main_v3894 : IVec S5x256x256 32 := broadcastInDim S5x256x256 ![] bcast_S_S5x256x256 main_c_611
  let main_v3895 : IVec S5x256x256 1 := cmpi .sgt main_v10 main_v3894
  let main_c_612 : IVec S_ 32 := constantI S_ 32 204#32
  let main_v3896 : IVec S5x256x256 32 := broadcastInDim S5x256x256 ![] bcast_S_S5x256x256 main_c_612
  let main_v3897 : IVec S5x256x256 1 := cmpi .sgt main_v11 main_v3896
  fn_part188 (F := F) main_arg0 main_v3 main_v7 main_v8 main_v10 main_v11 main_v3887 main_v3888 main_v3893 main_v3895 main_v3897

def fn_part186 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3849 : FVec F S5x256x256 .f32) (main_v3850 : FVec F S5x1x256 .f32) (main_v3855 : FVec F S5x256x256 .f32) (main_v3856 : IVec S5x256x256 32) : IVec S9x256x256 1 × IVec S8x256x256 1 :=
  let main_v3857 : IVec S5x256x256 1 := cmpi .sgt main_v10 main_v3856
  let main_c_606 : IVec S_ 32 := constantI S_ 32 202#32
  let main_v3858 : IVec S5x256x256 32 := broadcastInDim S5x256x256 ![] bcast_S_S5x256x256 main_c_606
  let main_v3859 : IVec S5x256x256 1 := cmpi .sgt main_v11 main_v3858
  let main_v3860 : IVec S5x256x256 1 := andi main_v3857 main_v3859
  let main_v3861 : FVec F S5x256x256 .f32 := broadcastInDim S5x256x256 ![0, 1, 2] bcast_S5x1x256_S5x256x256_0_1_2 main_v3850
  let main_v3862 : FVec F S5x256x256 .f32 := mulf main_v3855 main_v3861
  let main_v3863 : FVec F S5x256x256 .f32 := subf main_v3849 main_v3862
  let main_v3864 : FVec F S5x256x256 .f32 := select main_v3860 main_v3863 main_v3849
  let main_c_607 : IVec S_ 32 := constantI S_ 32 202#32
  let main_v3865 : IVec S5x256x256 32 := broadcastInDim S5x256x256 ![] bcast_S_S5x256x256 main_c_607
  let main_v3866 : IVec S5x256x256 1 := cmpi .eq main_v11 main_v3865
  let main_v3867 : IVec S5x256x256 1 := andi main_v3857 main_v3866
  let main_v3868 : FVec F S5x256x256 .f32 := select main_v3867 main_v3855 main_v3864
  let main_v3869 : FVec F S5x1x256 .f32 := (extractStridedSlice S5x1x256 ![0, 203, 0] · slices_S5x256x256_S5x1x256_0_203_0) main_v3868
  let main_v3870 : FVec F S5x256x1 .f32 := (extractStridedSlice S5x256x1 ![0, 0, 203] · slices_S5x256x256_S5x256x1_0_0_203) main_v3868
  let main_v3871 : FVec F S5x1x1 .f32 := (extractStridedSlice S5x1x1 ![0, 0, 203] · slices_S5x1x256_S5x1x1_0_0_203) main_v3869
  let main_v3872 : FVec F S5x256x1 .f32 := broadcastInDim S5x256x1 ![0, 1, 2] bcast_S5x1x1_S5x256x1_0_1_2 main_v3871
  let main_v3873 : FVec F S5x256x1 .f32 := Host.divf main_v3870 main_v3872
  let main_v3874 : FVec F S5x256x256 .f32 := broadcastInDim S5x256x256 ![0, 1, 2] bcast_S5x256x1_S5x256x256_0_1_2 main_v3873
  let main_c_608 : IVec S_ 32 := constantI S_ 32 203#32
  let main_v3875 : IVec S5x256x256 32 := broadcastInDim S5x256x256 ![] bcast_S_S5x256x256 main_c_608
  let main_v3876 : IVec S5x256x256 1 := cmpi .sgt main_v10 main_v3875
  let main_c_609 : IVec S_ 32 := constantI S_ 32 203#32
  fn_part187 (F := F) main_arg0 main_v3 main_v7 main_v8 main_v10 main_v11 main_v3868 main_v3869 main_v3874 main_v3876 main_c_609

def fn_part185 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3830 : FVec F S5x256x256 .f32) (main_v3831 : FVec F S5x1x256 .f32) (main_v3836 : FVec F S5x256x256 .f32) : IVec S9x256x256 1 × IVec S8x256x256 1 :=
  let main_c_602 : IVec S_ 32 := constantI S_ 32 201#32
  let main_v3837 : IVec S5x256x256 32 := broadcastInDim S5x256x256 ![] bcast_S_S5x256x256 main_c_602
  let main_v3838 : IVec S5x256x256 1 := cmpi .sgt main_v10 main_v3837
  let main_c_603 : IVec S_ 32 := constantI S_ 32 201#32
  let main_v3839 : IVec S5x256x256 32 := broadcastInDim S5x256x256 ![] bcast_S_S5x256x256 main_c_603
  let main_v3840 : IVec S5x256x256 1 := cmpi .sgt main_v11 main_v3839
  let main_v3841 : IVec S5x256x256 1 := andi main_v3838 main_v3840
  let main_v3842 : FVec F S5x256x256 .f32 := broadcastInDim S5x256x256 ![0, 1, 2] bcast_S5x1x256_S5x256x256_0_1_2 main_v3831
  let main_v3843 : FVec F S5x256x256 .f32 := mulf main_v3836 main_v3842
  let main_v3844 : FVec F S5x256x256 .f32 := subf main_v3830 main_v3843
  let main_v3845 : FVec F S5x256x256 .f32 := select main_v3841 main_v3844 main_v3830
  let main_c_604 : IVec S_ 32 := constantI S_ 32 201#32
  let main_v3846 : IVec S5x256x256 32 := broadcastInDim S5x256x256 ![] bcast_S_S5x256x256 main_c_604
  let main_v3847 : IVec S5x256x256 1 := cmpi .eq main_v11 main_v3846
  let main_v3848 : IVec S5x256x256 1 := andi main_v3838 main_v3847
  let main_v3849 : FVec F S5x256x256 .f32 := select main_v3848 main_v3836 main_v3845
  let main_v3850 : FVec F S5x1x256 .f32 := (extractStridedSlice S5x1x256 ![0, 202, 0] · slices_S5x256x256_S5x1x256_0_202_0) main_v3849
  let main_v3851 : FVec F S5x256x1 .f32 := (extractStridedSlice S5x256x1 ![0, 0, 202] · slices_S5x256x256_S5x256x1_0_0_202) main_v3849
  let main_v3852 : FVec F S5x1x1 .f32 := (extractStridedSlice S5x1x1 ![0, 0, 202] · slices_S5x1x256_S5x1x1_0_0_202) main_v3850
  let main_v3853 : FVec F S5x256x1 .f32 := broadcastInDim S5x256x1 ![0, 1, 2] bcast_S5x1x1_S5x256x1_0_1_2 main_v3852
  let main_v3854 : FVec F S5x256x1 .f32 := Host.divf main_v3851 main_v3853
  let main_v3855 : FVec F S5x256x256 .f32 := broadcastInDim S5x256x256 ![0, 1, 2] bcast_S5x256x1_S5x256x256_0_1_2 main_v3854
  let main_c_605 : IVec S_ 32 := constantI S_ 32 202#32
  let main_v3856 : IVec S5x256x256 32 := broadcastInDim S5x256x256 ![] bcast_S_S5x256x256 main_c_605
  fn_part186 (F := F) main_arg0 main_v3 main_v7 main_v8 main_v10 main_v11 main_v3849 main_v3850 main_v3855 main_v3856

def fn_part184 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3811 : FVec F S5x256x256 .f32) (main_v3812 : FVec F S5x1x256 .f32) (main_v3813 : FVec F S5x256x1 .f32) (main_v3815 : FVec F S5x256x1 .f32) : IVec S9x256x256 1 × IVec S8x256x256 1 :=
  let main_v3816 : FVec F S5x256x1 .f32 := Host.divf main_v3813 main_v3815
  let main_v3817 : FVec F S5x256x256 .f32 := broadcastInDim S5x256x256 ![0, 1, 2] bcast_S5x256x1_S5x256x256_0_1_2 main_v3816
  let main_c_599 : IVec S_ 32 := constantI S_ 32 200#32
  let main_v3818 : IVec S5x256x256 32 := broadcastInDim S5x256x256 ![] bcast_S_S5x256x256 main_c_599
  let main_v3819 : IVec S5x256x256 1 := cmpi .sgt main_v10 main_v3818
  let main_c_600 : IVec S_ 32 := constantI S_ 32 200#32
  let main_v3820 : IVec S5x256x256 32 := broadcastInDim S5x256x256 ![] bcast_S_S5x256x256 main_c_600
  let main_v3821 : IVec S5x256x256 1 := cmpi .sgt main_v11 main_v3820
  let main_v3822 : IVec S5x256x256 1 := andi main_v3819 main_v3821
  let main_v3823 : FVec F S5x256x256 .f32 := broadcastInDim S5x256x256 ![0, 1, 2] bcast_S5x1x256_S5x256x256_0_1_2 main_v3812
  let main_v3824 : FVec F S5x256x256 .f32 := mulf main_v3817 main_v3823
  let main_v3825 : FVec F S5x256x256 .f32 := subf main_v3811 main_v3824
  let main_v3826 : FVec F S5x256x256 .f32 := select main_v3822 main_v3825 main_v3811
  let main_c_601 : IVec S_ 32 := constantI S_ 32 200#32
  let main_v3827 : IVec S5x256x256 32 := broadcastInDim S5x256x256 ![] bcast_S_S5x256x256 main_c_601
  let main_v3828 : IVec S5x256x256 1 := cmpi .eq main_v11 main_v3827
  let main_v3829 : IVec S5x256x256 1 := andi main_v3819 main_v3828
  let main_v3830 : FVec F S5x256x256 .f32 := select main_v3829 main_v3817 main_v3826
  let main_v3831 : FVec F S5x1x256 .f32 := (extractStridedSlice S5x1x256 ![0, 201, 0] · slices_S5x256x256_S5x1x256_0_201_0) main_v3830
  let main_v3832 : FVec F S5x256x1 .f32 := (extractStridedSlice S5x256x1 ![0, 0, 201] · slices_S5x256x256_S5x256x1_0_0_201) main_v3830
  let main_v3833 : FVec F S5x1x1 .f32 := (extractStridedSlice S5x1x1 ![0, 0, 201] · slices_S5x1x256_S5x1x1_0_0_201) main_v3831
  let main_v3834 : FVec F S5x256x1 .f32 := broadcastInDim S5x256x1 ![0, 1, 2] bcast_S5x1x1_S5x256x1_0_1_2 main_v3833
  let main_v3835 : FVec F S5x256x1 .f32 := Host.divf main_v3832 main_v3834
  let main_v3836 : FVec F S5x256x256 .f32 := broadcastInDim S5x256x256 ![0, 1, 2] bcast_S5x256x1_S5x256x256_0_1_2 main_v3835
  fn_part185 (F := F) main_arg0 main_v3 main_v7 main_v8 main_v10 main_v11 main_v3830 main_v3831 main_v3836

def fn_part183 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3792 : FVec F S5x256x256 .f32) (main_v3793 : FVec F S5x1x256 .f32) (main_v3794 : FVec F S5x256x1 .f32) : IVec S9x256x256 1 × IVec S8x256x256 1 :=
  let main_v3795 : FVec F S5x1x1 .f32 := (extractStridedSlice S5x1x1 ![0, 0, 199] · slices_S5x1x256_S5x1x1_0_0_199) main_v3793
  let main_v3796 : FVec F S5x256x1 .f32 := broadcastInDim S5x256x1 ![0, 1, 2] bcast_S5x1x1_S5x256x1_0_1_2 main_v3795
  let main_v3797 : FVec F S5x256x1 .f32 := Host.divf main_v3794 main_v3796
  let main_v3798 : FVec F S5x256x256 .f32 := broadcastInDim S5x256x256 ![0, 1, 2] bcast_S5x256x1_S5x256x256_0_1_2 main_v3797
  let main_c_596 : IVec S_ 32 := constantI S_ 32 199#32
  let main_v3799 : IVec S5x256x256 32 := broadcastInDim S5x256x256 ![] bcast_S_S5x256x256 main_c_596
  let main_v3800 : IVec S5x256x256 1 := cmpi .sgt main_v10 main_v3799
  let main_c_597 : IVec S_ 32 := constantI S_ 32 199#32
  let main_v3801 : IVec S5x256x256 32 := broadcastInDim S5x256x256 ![] bcast_S_S5x256x256 main_c_597
  let main_v3802 : IVec S5x256x256 1 := cmpi .sgt main_v11 main_v3801
  let main_v3803 : IVec S5x256x256 1 := andi main_v3800 main_v3802
  let main_v3804 : FVec F S5x256x256 .f32 := broadcastInDim S5x256x256 ![0, 1, 2] bcast_S5x1x256_S5x256x256_0_1_2 main_v3793
  let main_v3805 : FVec F S5x256x256 .f32 := mulf main_v3798 main_v3804
  let main_v3806 : FVec F S5x256x256 .f32 := subf main_v3792 main_v3805
  let main_v3807 : FVec F S5x256x256 .f32 := select main_v3803 main_v3806 main_v3792
  let main_c_598 : IVec S_ 32 := constantI S_ 32 199#32
  let main_v3808 : IVec S5x256x256 32 := broadcastInDim S5x256x256 ![] bcast_S_S5x256x256 main_c_598
  let main_v3809 : IVec S5x256x256 1 := cmpi .eq main_v11 main_v3808
  let main_v3810 : IVec S5x256x256 1 := andi main_v3800 main_v3809
  let main_v3811 : FVec F S5x256x256 .f32 := select main_v3810 main_v3798 main_v3807
  let main_v3812 : FVec F S5x1x256 .f32 := (extractStridedSlice S5x1x256 ![0, 200, 0] · slices_S5x256x256_S5x1x256_0_200_0) main_v3811
  let main_v3813 : FVec F S5x256x1 .f32 := (extractStridedSlice S5x256x1 ![0, 0, 200] · slices_S5x256x256_S5x256x1_0_0_200) main_v3811
  let main_v3814 : FVec F S5x1x1 .f32 := (extractStridedSlice S5x1x1 ![0, 0, 200] · slices_S5x1x256_S5x1x1_0_0_200) main_v3812
  let main_v3815 : FVec F S5x256x1 .f32 := broadcastInDim S5x256x1 ![0, 1, 2] bcast_S5x1x1_S5x256x1_0_1_2 main_v3814
  fn_part184 (F := F) main_arg0 main_v3 main_v7 main_v8 main_v10 main_v11 main_v3811 main_v3812 main_v3813 main_v3815

def fn_part182 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3773 : FVec F S5x256x256 .f32) : IVec S9x256x256 1 × IVec S8x256x256 1 :=
  let main_v3774 : FVec F S5x1x256 .f32 := (extractStridedSlice S5x1x256 ![0, 198, 0] · slices_S5x256x256_S5x1x256_0_198_0) main_v3773
  let main_v3775 : FVec F S5x256x1 .f32 := (extractStridedSlice S5x256x1 ![0, 0, 198] · slices_S5x256x256_S5x256x1_0_0_198) main_v3773
  let main_v3776 : FVec F S5x1x1 .f32 := (extractStridedSlice S5x1x1 ![0, 0, 198] · slices_S5x1x256_S5x1x1_0_0_198) main_v3774
  let main_v3777 : FVec F S5x256x1 .f32 := broadcastInDim S5x256x1 ![0, 1, 2] bcast_S5x1x1_S5x256x1_0_1_2 main_v3776
  let main_v3778 : FVec F S5x256x1 .f32 := Host.divf main_v3775 main_v3777
  let main_v3779 : FVec F S5x256x256 .f32 := broadcastInDim S5x256x256 ![0, 1, 2] bcast_S5x256x1_S5x256x256_0_1_2 main_v3778
  let main_c_593 : IVec S_ 32 := constantI S_ 32 198#32
  let main_v3780 : IVec S5x256x256 32 := broadcastInDim S5x256x256 ![] bcast_S_S5x256x256 main_c_593
  let main_v3781 : IVec S5x256x256 1 := cmpi .sgt main_v10 main_v3780
  let main_c_594 : IVec S_ 32 := constantI S_ 32 198#32
  let main_v3782 : IVec S5x256x256 32 := broadcastInDim S5x256x256 ![] bcast_S_S5x256x256 main_c_594
  let main_v3783 : IVec S5x256x256 1 := cmpi .sgt main_v11 main_v3782
  let main_v3784 : IVec S5x256x256 1 := andi main_v3781 main_v3783
  let main_v3785 : FVec F S5x256x256 .f32 := broadcastInDim S5x256x256 ![0, 1, 2] bcast_S5x1x256_S5x256x256_0_1_2 main_v3774
  let main_v3786 : FVec F S5x256x256 .f32 := mulf main_v3779 main_v3785
  let main_v3787 : FVec F S5x256x256 .f32 := subf main_v3773 main_v3786
  let main_v3788 : FVec F S5x256x256 .f32 := select main_v3784 main_v3787 main_v3773
  let main_c_595 : IVec S_ 32 := constantI S_ 32 198#32
  let main_v3789 : IVec S5x256x256 32 := broadcastInDim S5x256x256 ![] bcast_S_S5x256x256 main_c_595
  let main_v3790 : IVec S5x256x256 1 := cmpi .eq main_v11 main_v3789
  let main_v3791 : IVec S5x256x256 1 := andi main_v3781 main_v3790
  let main_v3792 : FVec F S5x256x256 .f32 := select main_v3791 main_v3779 main_v3788
  let main_v3793 : FVec F S5x1x256 .f32 := (extractStridedSlice S5x1x256 ![0, 199, 0] · slices_S5x256x256_S5x1x256_0_199_0) main_v3792
  let main_v3794 : FVec F S5x256x1 .f32 := (extractStridedSlice S5x256x1 ![0, 0, 199] · slices_S5x256x256_S5x256x1_0_0_199) main_v3792
  fn_part183 (F := F) main_arg0 main_v3 main_v7 main_v8 main_v10 main_v11 main_v3792 main_v3793 main_v3794

def fn_part181 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3741 : FVec F S5x256x256 .f32) (main_v3743 : IVec S5x256x256 1) (main_v3750 : FVec F S5x256x256 .f32) (main_v3752 : IVec S5x256x256 1) : IVec S9x256x256 1 × IVec S8x256x256 1 :=
  let main_v3753 : IVec S5x256x256 1 := andi main_v3743 main_v3752
  let main_v3754 : FVec F S5x256x256 .f32 := select main_v3753 main_v3741 main_v3750
  let main_v3755 : FVec F S5x1x256 .f32 := (extractStridedSlice S5x1x256 ![0, 197, 0] · slices_S5x256x256_S5x1x256_0_197_0) main_v3754
  let main_v3756 : FVec F S5x256x1 .f32 := (extractStridedSlice S5x256x1 ![0, 0, 197] · slices_S5x256x256_S5x256x1_0_0_197) main_v3754
  let main_v3757 : FVec F S5x1x1 .f32 := (extractStridedSlice S5x1x1 ![0, 0, 197] · slices_S5x1x256_S5x1x1_0_0_197) main_v3755
  let main_v3758 : FVec F S5x256x1 .f32 := broadcastInDim S5x256x1 ![0, 1, 2] bcast_S5x1x1_S5x256x1_0_1_2 main_v3757
  let main_v3759 : FVec F S5x256x1 .f32 := Host.divf main_v3756 main_v3758
  let main_v3760 : FVec F S5x256x256 .f32 := broadcastInDim S5x256x256 ![0, 1, 2] bcast_S5x256x1_S5x256x256_0_1_2 main_v3759
  let main_c_590 : IVec S_ 32 := constantI S_ 32 197#32
  let main_v3761 : IVec S5x256x256 32 := broadcastInDim S5x256x256 ![] bcast_S_S5x256x256 main_c_590
  let main_v3762 : IVec S5x256x256 1 := cmpi .sgt main_v10 main_v3761
  let main_c_591 : IVec S_ 32 := constantI S_ 32 197#32
  let main_v3763 : IVec S5x256x256 32 := broadcastInDim S5x256x256 ![] bcast_S_S5x256x256 main_c_591
  let main_v3764 : IVec S5x256x256 1 := cmpi .sgt main_v11 main_v3763
  let main_v3765 : IVec S5x256x256 1 := andi main_v3762 main_v3764
  let main_v3766 : FVec F S5x256x256 .f32 := broadcastInDim S5x256x256 ![0, 1, 2] bcast_S5x1x256_S5x256x256_0_1_2 main_v3755
  let main_v3767 : FVec F S5x256x256 .f32 := mulf main_v3760 main_v3766
  let main_v3768 : FVec F S5x256x256 .f32 := subf main_v3754 main_v3767
  let main_v3769 : FVec F S5x256x256 .f32 := select main_v3765 main_v3768 main_v3754
  let main_c_592 : IVec S_ 32 := constantI S_ 32 197#32
  let main_v3770 : IVec S5x256x256 32 := broadcastInDim S5x256x256 ![] bcast_S_S5x256x256 main_c_592
  let main_v3771 : IVec S5x256x256 1 := cmpi .eq main_v11 main_v3770
  let main_v3772 : IVec S5x256x256 1 := andi main_v3762 main_v3771
  let main_v3773 : FVec F S5x256x256 .f32 := select main_v3772 main_v3760 main_v3769
  fn_part182 (F := F) main_arg0 main_v3 main_v7 main_v8 main_v10 main_v11 main_v3773

def fn_part180 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3722 : FVec F S5x256x256 .f32) (main_v3724 : IVec S5x256x256 1) (main_v3731 : FVec F S5x256x256 .f32) (main_c_586 : IVec S_ 32) : IVec S9x256x256 1 × IVec S8x256x256 1 :=
  let main_v3732 : IVec S5x256x256 32 := broadcastInDim S5x256x256 ![] bcast_S_S5x256x256 main_c_586
  let main_v3733 : IVec S5x256x256 1 := cmpi .eq main_v11 main_v3732
  let main_v3734 : IVec S5x256x256 1 := andi main_v3724 main_v3733
  let main_v3735 : FVec F S5x256x256 .f32 := select main_v3734 main_v3722 main_v3731
  let main_v3736 : FVec F S5x1x256 .f32 := (extractStridedSlice S5x1x256 ![0, 196, 0] · slices_S5x256x256_S5x1x256_0_196_0) main_v3735
  let main_v3737 : FVec F S5x256x1 .f32 := (extractStridedSlice S5x256x1 ![0, 0, 196] · slices_S5x256x256_S5x256x1_0_0_196) main_v3735
  let main_v3738 : FVec F S5x1x1 .f32 := (extractStridedSlice S5x1x1 ![0, 0, 196] · slices_S5x1x256_S5x1x1_0_0_196) main_v3736
  let main_v3739 : FVec F S5x256x1 .f32 := broadcastInDim S5x256x1 ![0, 1, 2] bcast_S5x1x1_S5x256x1_0_1_2 main_v3738
  let main_v3740 : FVec F S5x256x1 .f32 := Host.divf main_v3737 main_v3739
  let main_v3741 : FVec F S5x256x256 .f32 := broadcastInDim S5x256x256 ![0, 1, 2] bcast_S5x256x1_S5x256x256_0_1_2 main_v3740
  let main_c_587 : IVec S_ 32 := constantI S_ 32 196#32
  let main_v3742 : IVec S5x256x256 32 := broadcastInDim S5x256x256 ![] bcast_S_S5x256x256 main_c_587
  let main_v3743 : IVec S5x256x256 1 := cmpi .sgt main_v10 main_v3742
  let main_c_588 : IVec S_ 32 := constantI S_ 32 196#32
  let main_v3744 : IVec S5x256x256 32 := broadcastInDim S5x256x256 ![] bcast_S_S5x256x256 main_c_588
  let main_v3745 : IVec S5x256x256 1 := cmpi .sgt main_v11 main_v3744
  let main_v3746 : IVec S5x256x256 1 := andi main_v3743 main_v3745
  let main_v3747 : FVec F S5x256x256 .f32 := broadcastInDim S5x256x256 ![0, 1, 2] bcast_S5x1x256_S5x256x256_0_1_2 main_v3736
  let main_v3748 : FVec F S5x256x256 .f32 := mulf main_v3741 main_v3747
  let main_v3749 : FVec F S5x256x256 .f32 := subf main_v3735 main_v3748
  let main_v3750 : FVec F S5x256x256 .f32 := select main_v3746 main_v3749 main_v3735
  let main_c_589 : IVec S_ 32 := constantI S_ 32 196#32
  let main_v3751 : IVec S5x256x256 32 := broadcastInDim S5x256x256 ![] bcast_S_S5x256x256 main_c_589
  let main_v3752 : IVec S5x256x256 1 := cmpi .eq main_v11 main_v3751
  fn_part181 (F := F) main_arg0 main_v3 main_v7 main_v8 main_v10 main_v11 main_v3741 main_v3743 main_v3750 main_v3752

def fn_part179 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3697 : FVec F S5x256x256 .f32) (main_v3703 : FVec F S5x256x256 .f32) (main_v3705 : IVec S5x256x256 1) (main_v3708 : IVec S5x256x256 1) (main_v3711 : FVec F S5x256x256 .f32) : IVec S9x256x256 1 × IVec S8x256x256 1 :=
  let main_v3712 : FVec F S5x256x256 .f32 := select main_v3708 main_v3711 main_v3697
  let main_c_583 : IVec S_ 32 := constantI S_ 32 194#32
  let main_v3713 : IVec S5x256x256 32 := broadcastInDim S5x256x256 ![] bcast_S_S5x256x256 main_c_583
  let main_v3714 : IVec S5x256x256 1 := cmpi .eq main_v11 main_v3713
  let main_v3715 : IVec S5x256x256 1 := andi main_v3705 main_v3714
  let main_v3716 : FVec F S5x256x256 .f32 := select main_v3715 main_v3703 main_v3712
  let main_v3717 : FVec F S5x1x256 .f32 := (extractStridedSlice S5x1x256 ![0, 195, 0] · slices_S5x256x256_S5x1x256_0_195_0) main_v3716
  let main_v3718 : FVec F S5x256x1 .f32 := (extractStridedSlice S5x256x1 ![0, 0, 195] · slices_S5x256x256_S5x256x1_0_0_195) main_v3716
  let main_v3719 : FVec F S5x1x1 .f32 := (extractStridedSlice S5x1x1 ![0, 0, 195] · slices_S5x1x256_S5x1x1_0_0_195) main_v3717
  let main_v3720 : FVec F S5x256x1 .f32 := broadcastInDim S5x256x1 ![0, 1, 2] bcast_S5x1x1_S5x256x1_0_1_2 main_v3719
  let main_v3721 : FVec F S5x256x1 .f32 := Host.divf main_v3718 main_v3720
  let main_v3722 : FVec F S5x256x256 .f32 := broadcastInDim S5x256x256 ![0, 1, 2] bcast_S5x256x1_S5x256x256_0_1_2 main_v3721
  let main_c_584 : IVec S_ 32 := constantI S_ 32 195#32
  let main_v3723 : IVec S5x256x256 32 := broadcastInDim S5x256x256 ![] bcast_S_S5x256x256 main_c_584
  let main_v3724 : IVec S5x256x256 1 := cmpi .sgt main_v10 main_v3723
  let main_c_585 : IVec S_ 32 := constantI S_ 32 195#32
  let main_v3725 : IVec S5x256x256 32 := broadcastInDim S5x256x256 ![] bcast_S_S5x256x256 main_c_585
  let main_v3726 : IVec S5x256x256 1 := cmpi .sgt main_v11 main_v3725
  let main_v3727 : IVec S5x256x256 1 := andi main_v3724 main_v3726
  let main_v3728 : FVec F S5x256x256 .f32 := broadcastInDim S5x256x256 ![0, 1, 2] bcast_S5x1x256_S5x256x256_0_1_2 main_v3717
  let main_v3729 : FVec F S5x256x256 .f32 := mulf main_v3722 main_v3728
  let main_v3730 : FVec F S5x256x256 .f32 := subf main_v3716 main_v3729
  let main_v3731 : FVec F S5x256x256 .f32 := select main_v3727 main_v3730 main_v3716
  let main_c_586 : IVec S_ 32 := constantI S_ 32 195#32
  fn_part180 (F := F) main_arg0 main_v3 main_v7 main_v8 main_v10 main_v11 main_v3722 main_v3724 main_v3731 main_c_586

def fn_part178 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3678 : FVec F S5x256x256 .f32) (main_v3684 : FVec F S5x256x256 .f32) (main_v3686 : IVec S5x256x256 1) (main_v3689 : IVec S5x256x256 1) (main_v3690 : FVec F S5x256x256 .f32) : IVec S9x256x256 1 × IVec S8x256x256 1 :=
  let main_v3691 : FVec F S5x256x256 .f32 := mulf main_v3684 main_v3690
  let main_v3692 : FVec F S5x256x256 .f32 := subf main_v3678 main_v3691
  let main_v3693 : FVec F S5x256x256 .f32 := select main_v3689 main_v3692 main_v3678
  let main_c_580 : IVec S_ 32 := constantI S_ 32 193#32
  let main_v3694 : IVec S5x256x256 32 := broadcastInDim S5x256x256 ![] bcast_S_S5x256x256 main_c_580
  let main_v3695 : IVec S5x256x256 1 := cmpi .eq main_v11 main_v3694
  let main_v3696 : IVec S5x256x256 1 := andi main_v3686 main_v3695
  let main_v3697 : FVec F S5x256x256 .f32 := select main_v3696 main_v3684 main_v3693
  let main_v3698 : FVec F S5x1x256 .f32 := (extractStridedSlice S5x1x256 ![0, 194, 0] · slices_S5x256x256_S5x1x256_0_194_0) main_v3697
  let main_v3699 : FVec F S5x256x1 .f32 := (extractStridedSlice S5x256x1 ![0, 0, 194] · slices_S5x256x256_S5x256x1_0_0_194) main_v3697
  let main_v3700 : FVec F S5x1x1 .f32 := (extractStridedSlice S5x1x1 ![0, 0, 194] · slices_S5x1x256_S5x1x1_0_0_194) main_v3698
  let main_v3701 : FVec F S5x256x1 .f32 := broadcastInDim S5x256x1 ![0, 1, 2] bcast_S5x1x1_S5x256x1_0_1_2 main_v3700
  let main_v3702 : FVec F S5x256x1 .f32 := Host.divf main_v3699 main_v3701
  let main_v3703 : FVec F S5x256x256 .f32 := broadcastInDim S5x256x256 ![0, 1, 2] bcast_S5x256x1_S5x256x256_0_1_2 main_v3702
  let main_c_581 : IVec S_ 32 := constantI S_ 32 194#32
  let main_v3704 : IVec S5x256x256 32 := broadcastInDim S5x256x256 ![] bcast_S_S5x256x256 main_c_581
  let main_v3705 : IVec S5x256x256 1 := cmpi .sgt main_v10 main_v3704
  let main_c_582 : IVec S_ 32 := constantI S_ 32 194#32
  let main_v3706 : IVec S5x256x256 32 := broadcastInDim S5x256x256 ![] bcast_S_S5x256x256 main_c_582
  let main_v3707 : IVec S5x256x256 1 := cmpi .sgt main_v11 main_v3706
  let main_v3708 : IVec S5x256x256 1 := andi main_v3705 main_v3707
  let main_v3709 : FVec F S5x256x256 .f32 := broadcastInDim S5x256x256 ![0, 1, 2] bcast_S5x1x256_S5x256x256_0_1_2 main_v3698
  let main_v3710 : FVec F S5x256x256 .f32 := mulf main_v3703 main_v3709
  let main_v3711 : FVec F S5x256x256 .f32 := subf main_v3697 main_v3710
  fn_part179 (F := F) main_arg0 main_v3 main_v7 main_v8 main_v10 main_v11 main_v3697 main_v3703 main_v3705 main_v3708 main_v3711

def fn_part177 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3659 : FVec F S5x256x256 .f32) (main_v3660 : FVec F S5x1x256 .f32) (main_v3665 : FVec F S5x256x256 .f32) (main_v3667 : IVec S5x256x256 1) (main_v3669 : IVec S5x256x256 1) : IVec S9x256x256 1 × IVec S8x256x256 1 :=
  let main_v3670 : IVec S5x256x256 1 := andi main_v3667 main_v3669
  let main_v3671 : FVec F S5x256x256 .f32 := broadcastInDim S5x256x256 ![0, 1, 2] bcast_S5x1x256_S5x256x256_0_1_2 main_v3660
  let main_v3672 : FVec F S5x256x256 .f32 := mulf main_v3665 main_v3671
  let main_v3673 : FVec F S5x256x256 .f32 := subf main_v3659 main_v3672
  let main_v3674 : FVec F S5x256x256 .f32 := select main_v3670 main_v3673 main_v3659
  let main_c_577 : IVec S_ 32 := constantI S_ 32 192#32
  let main_v3675 : IVec S5x256x256 32 := broadcastInDim S5x256x256 ![] bcast_S_S5x256x256 main_c_577
  let main_v3676 : IVec S5x256x256 1 := cmpi .eq main_v11 main_v3675
  let main_v3677 : IVec S5x256x256 1 := andi main_v3667 main_v3676
  let main_v3678 : FVec F S5x256x256 .f32 := select main_v3677 main_v3665 main_v3674
  let main_v3679 : FVec F S5x1x256 .f32 := (extractStridedSlice S5x1x256 ![0, 193, 0] · slices_S5x256x256_S5x1x256_0_193_0) main_v3678
  let main_v3680 : FVec F S5x256x1 .f32 := (extractStridedSlice S5x256x1 ![0, 0, 193] · slices_S5x256x256_S5x256x1_0_0_193) main_v3678
  let main_v3681 : FVec F S5x1x1 .f32 := (extractStridedSlice S5x1x1 ![0, 0, 193] · slices_S5x1x256_S5x1x1_0_0_193) main_v3679
  let main_v3682 : FVec F S5x256x1 .f32 := broadcastInDim S5x256x1 ![0, 1, 2] bcast_S5x1x1_S5x256x1_0_1_2 main_v3681
  let main_v3683 : FVec F S5x256x1 .f32 := Host.divf main_v3680 main_v3682
  let main_v3684 : FVec F S5x256x256 .f32 := broadcastInDim S5x256x256 ![0, 1, 2] bcast_S5x256x1_S5x256x256_0_1_2 main_v3683
  let main_c_578 : IVec S_ 32 := constantI S_ 32 193#32
  let main_v3685 : IVec S5x256x256 32 := broadcastInDim S5x256x256 ![] bcast_S_S5x256x256 main_c_578
  let main_v3686 : IVec S5x256x256 1 := cmpi .sgt main_v10 main_v3685
  let main_c_579 : IVec S_ 32 := constantI S_ 32 193#32
  let main_v3687 : IVec S5x256x256 32 := broadcastInDim S5x256x256 ![] bcast_S_S5x256x256 main_c_579
  let main_v3688 : IVec S5x256x256 1 := cmpi .sgt main_v11 main_v3687
  let main_v3689 : IVec S5x256x256 1 := andi main_v3686 main_v3688
  let main_v3690 : FVec F S5x256x256 .f32 := broadcastInDim S5x256x256 ![0, 1, 2] bcast_S5x1x256_S5x256x256_0_1_2 main_v3679
  fn_part178 (F := F) main_arg0 main_v3 main_v7 main_v8 main_v10 main_v11 main_v3678 main_v3684 main_v3686 main_v3689 main_v3690

def fn_part176 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3640 : FVec F S5x256x256 .f32) (main_v3641 : FVec F S5x1x256 .f32) (main_v3646 : FVec F S5x256x256 .f32) (main_v3648 : IVec S5x256x256 1) (main_c_573 : IVec S_ 32) : IVec S9x256x256 1 × IVec S8x256x256 1 :=
  let main_v3649 : IVec S5x256x256 32 := broadcastInDim S5x256x256 ![] bcast_S_S5x256x256 main_c_573
  let main_v3650 : IVec S5x256x256 1 := cmpi .sgt main_v11 main_v3649
  let main_v3651 : IVec S5x256x256 1 := andi main_v3648 main_v3650
  let main_v3652 : FVec F S5x256x256 .f32 := broadcastInDim S5x256x256 ![0, 1, 2] bcast_S5x1x256_S5x256x256_0_1_2 main_v3641
  let main_v3653 : FVec F S5x256x256 .f32 := mulf main_v3646 main_v3652
  let main_v3654 : FVec F S5x256x256 .f32 := subf main_v3640 main_v3653
  let main_v3655 : FVec F S5x256x256 .f32 := select main_v3651 main_v3654 main_v3640
  let main_c_574 : IVec S_ 32 := constantI S_ 32 191#32
  let main_v3656 : IVec S5x256x256 32 := broadcastInDim S5x256x256 ![] bcast_S_S5x256x256 main_c_574
  let main_v3657 : IVec S5x256x256 1 := cmpi .eq main_v11 main_v3656
  let main_v3658 : IVec S5x256x256 1 := andi main_v3648 main_v3657
  let main_v3659 : FVec F S5x256x256 .f32 := select main_v3658 main_v3646 main_v3655
  let main_v3660 : FVec F S5x1x256 .f32 := (extractStridedSlice S5x1x256 ![0, 192, 0] · slices_S5x256x256_S5x1x256_0_192_0) main_v3659
  let main_v3661 : FVec F S5x256x1 .f32 := (extractStridedSlice S5x256x1 ![0, 0, 192] · slices_S5x256x256_S5x256x1_0_0_192) main_v3659
  let main_v3662 : FVec F S5x1x1 .f32 := (extractStridedSlice S5x1x1 ![0, 0, 192] · slices_S5x1x256_S5x1x1_0_0_192) main_v3660
  let main_v3663 : FVec F S5x256x1 .f32 := broadcastInDim S5x256x1 ![0, 1, 2] bcast_S5x1x1_S5x256x1_0_1_2 main_v3662
  let main_v3664 : FVec F S5x256x1 .f32 := Host.divf main_v3661 main_v3663
  let main_v3665 : FVec F S5x256x256 .f32 := broadcastInDim S5x256x256 ![0, 1, 2] bcast_S5x256x1_S5x256x256_0_1_2 main_v3664
  let main_c_575 : IVec S_ 32 := constantI S_ 32 192#32
  let main_v3666 : IVec S5x256x256 32 := broadcastInDim S5x256x256 ![] bcast_S_S5x256x256 main_c_575
  let main_v3667 : IVec S5x256x256 1 := cmpi .sgt main_v10 main_v3666
  let main_c_576 : IVec S_ 32 := constantI S_ 32 192#32
  let main_v3668 : IVec S5x256x256 32 := broadcastInDim S5x256x256 ![] bcast_S_S5x256x256 main_c_576
  let main_v3669 : IVec S5x256x256 1 := cmpi .sgt main_v11 main_v3668
  fn_part177 (F := F) main_arg0 main_v3 main_v7 main_v8 main_v10 main_v11 main_v3659 main_v3660 main_v3665 main_v3667 main_v3669

def fn_part175 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3621 : FVec F S5x256x256 .f32) (main_v3622 : FVec F S5x1x256 .f32) (main_v3627 : FVec F S5x256x256 .f32) (main_v3628 : IVec S5x256x256 32) : IVec S9x256x256 1 × IVec S8x256x256 1 :=
  let main_v3629 : IVec S5x256x256 1 := cmpi .sgt main_v10 main_v3628
  let main_c_570 : IVec S_ 32 := constantI S_ 32 190#32
  let main_v3630 : IVec S5x256x256 32 := broadcastInDim S5x256x256 ![] bcast_S_S5x256x256 main_c_570
  let main_v3631 : IVec S5x256x256 1 := cmpi .sgt main_v11 main_v3630
  let main_v3632 : IVec S5x256x256 1 := andi main_v3629 main_v3631
  let main_v3633 : FVec F S5x256x256 .f32 := broadcastInDim S5x256x256 ![0, 1, 2] bcast_S5x1x256_S5x256x256_0_1_2 main_v3622
  let main_v3634 : FVec F S5x256x256 .f32 := mulf main_v3627 main_v3633
  let main_v3635 : FVec F S5x256x256 .f32 := subf main_v3621 main_v3634
  let main_v3636 : FVec F S5x256x256 .f32 := select main_v3632 main_v3635 main_v3621
  let main_c_571 : IVec S_ 32 := constantI S_ 32 190#32
  let main_v3637 : IVec S5x256x256 32 := broadcastInDim S5x256x256 ![] bcast_S_S5x256x256 main_c_571
  let main_v3638 : IVec S5x256x256 1 := cmpi .eq main_v11 main_v3637
  let main_v3639 : IVec S5x256x256 1 := andi main_v3629 main_v3638
  let main_v3640 : FVec F S5x256x256 .f32 := select main_v3639 main_v3627 main_v3636
  let main_v3641 : FVec F S5x1x256 .f32 := (extractStridedSlice S5x1x256 ![0, 191, 0] · slices_S5x256x256_S5x1x256_0_191_0) main_v3640
  let main_v3642 : FVec F S5x256x1 .f32 := (extractStridedSlice S5x256x1 ![0, 0, 191] · slices_S5x256x256_S5x256x1_0_0_191) main_v3640
  let main_v3643 : FVec F S5x1x1 .f32 := (extractStridedSlice S5x1x1 ![0, 0, 191] · slices_S5x1x256_S5x1x1_0_0_191) main_v3641
  let main_v3644 : FVec F S5x256x1 .f32 := broadcastInDim S5x256x1 ![0, 1, 2] bcast_S5x1x1_S5x256x1_0_1_2 main_v3643
  let main_v3645 : FVec F S5x256x1 .f32 := Host.divf main_v3642 main_v3644
  let main_v3646 : FVec F S5x256x256 .f32 := broadcastInDim S5x256x256 ![0, 1, 2] bcast_S5x256x1_S5x256x256_0_1_2 main_v3645
  let main_c_572 : IVec S_ 32 := constantI S_ 32 191#32
  let main_v3647 : IVec S5x256x256 32 := broadcastInDim S5x256x256 ![] bcast_S_S5x256x256 main_c_572
  let main_v3648 : IVec S5x256x256 1 := cmpi .sgt main_v10 main_v3647
  let main_c_573 : IVec S_ 32 := constantI S_ 32 191#32
  fn_part176 (F := F) main_arg0 main_v3 main_v7 main_v8 main_v10 main_v11 main_v3640 main_v3641 main_v3646 main_v3648 main_c_573

def fn_part174 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3602 : FVec F S5x256x256 .f32) (main_v3603 : FVec F S5x1x256 .f32) (main_v3608 : FVec F S5x256x256 .f32) : IVec S9x256x256 1 × IVec S8x256x256 1 :=
  let main_c_566 : IVec S_ 32 := constantI S_ 32 189#32
  let main_v3609 : IVec S5x256x256 32 := broadcastInDim S5x256x256 ![] bcast_S_S5x256x256 main_c_566
  let main_v3610 : IVec S5x256x256 1 := cmpi .sgt main_v10 main_v3609
  let main_c_567 : IVec S_ 32 := constantI S_ 32 189#32
  let main_v3611 : IVec S5x256x256 32 := broadcastInDim S5x256x256 ![] bcast_S_S5x256x256 main_c_567
  let main_v3612 : IVec S5x256x256 1 := cmpi .sgt main_v11 main_v3611
  let main_v3613 : IVec S5x256x256 1 := andi main_v3610 main_v3612
  let main_v3614 : FVec F S5x256x256 .f32 := broadcastInDim S5x256x256 ![0, 1, 2] bcast_S5x1x256_S5x256x256_0_1_2 main_v3603
  let main_v3615 : FVec F S5x256x256 .f32 := mulf main_v3608 main_v3614
  let main_v3616 : FVec F S5x256x256 .f32 := subf main_v3602 main_v3615
  let main_v3617 : FVec F S5x256x256 .f32 := select main_v3613 main_v3616 main_v3602
  let main_c_568 : IVec S_ 32 := constantI S_ 32 189#32
  let main_v3618 : IVec S5x256x256 32 := broadcastInDim S5x256x256 ![] bcast_S_S5x256x256 main_c_568
  let main_v3619 : IVec S5x256x256 1 := cmpi .eq main_v11 main_v3618
  let main_v3620 : IVec S5x256x256 1 := andi main_v3610 main_v3619
  let main_v3621 : FVec F S5x256x256 .f32 := select main_v3620 main_v3608 main_v3617
  let main_v3622 : FVec F S5x1x256 .f32 := (extractStridedSlice S5x1x256 ![0, 190, 0] · slices_S5x256x256_S5x1x256_0_190_0) main_v3621
  let main_v3623 : FVec F S5x256x1 .f32 := (extractStridedSlice S5x256x1 ![0, 0, 190] · slices_S5x256x256_S5x256x1_0_0_190) main_v3621
  let main_v3624 : FVec F S5x1x1 .f32 := (extractStridedSlice S5x1x1 ![0, 0, 190] · slices_S5x1x256_S5x1x1_0_0_190) main_v3622
  let main_v3625 : FVec F S5x256x1 .f32 := broadcastInDim S5x256x1 ![0, 1, 2] bcast_S5x1x1_S5x256x1_0_1_2 main_v3624
  let main_v3626 : FVec F S5x256x1 .f32 := Host.divf main_v3623 main_v3625
  let main_v3627 : FVec F S5x256x256 .f32 := broadcastInDim S5x256x256 ![0, 1, 2] bcast_S5x256x1_S5x256x256_0_1_2 main_v3626
  let main_c_569 : IVec S_ 32 := constantI S_ 32 190#32
  let main_v3628 : IVec S5x256x256 32 := broadcastInDim S5x256x256 ![] bcast_S_S5x256x256 main_c_569
  fn_part175 (F := F) main_arg0 main_v3 main_v7 main_v8 main_v10 main_v11 main_v3621 main_v3622 main_v3627 main_v3628

def fn_part173 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3583 : FVec F S5x256x256 .f32) (main_v3584 : FVec F S5x1x256 .f32) (main_v3585 : FVec F S5x256x1 .f32) (main_v3587 : FVec F S5x256x1 .f32) : IVec S9x256x256 1 × IVec S8x256x256 1 :=
  let main_v3588 : FVec F S5x256x1 .f32 := Host.divf main_v3585 main_v3587
  let main_v3589 : FVec F S5x256x256 .f32 := broadcastInDim S5x256x256 ![0, 1, 2] bcast_S5x256x1_S5x256x256_0_1_2 main_v3588
  let main_c_563 : IVec S_ 32 := constantI S_ 32 188#32
  let main_v3590 : IVec S5x256x256 32 := broadcastInDim S5x256x256 ![] bcast_S_S5x256x256 main_c_563
  let main_v3591 : IVec S5x256x256 1 := cmpi .sgt main_v10 main_v3590
  let main_c_564 : IVec S_ 32 := constantI S_ 32 188#32
  let main_v3592 : IVec S5x256x256 32 := broadcastInDim S5x256x256 ![] bcast_S_S5x256x256 main_c_564
  let main_v3593 : IVec S5x256x256 1 := cmpi .sgt main_v11 main_v3592
  let main_v3594 : IVec S5x256x256 1 := andi main_v3591 main_v3593
  let main_v3595 : FVec F S5x256x256 .f32 := broadcastInDim S5x256x256 ![0, 1, 2] bcast_S5x1x256_S5x256x256_0_1_2 main_v3584
  let main_v3596 : FVec F S5x256x256 .f32 := mulf main_v3589 main_v3595
  let main_v3597 : FVec F S5x256x256 .f32 := subf main_v3583 main_v3596
  let main_v3598 : FVec F S5x256x256 .f32 := select main_v3594 main_v3597 main_v3583
  let main_c_565 : IVec S_ 32 := constantI S_ 32 188#32
  let main_v3599 : IVec S5x256x256 32 := broadcastInDim S5x256x256 ![] bcast_S_S5x256x256 main_c_565
  let main_v3600 : IVec S5x256x256 1 := cmpi .eq main_v11 main_v3599
  let main_v3601 : IVec S5x256x256 1 := andi main_v3591 main_v3600
  let main_v3602 : FVec F S5x256x256 .f32 := select main_v3601 main_v3589 main_v3598
  let main_v3603 : FVec F S5x1x256 .f32 := (extractStridedSlice S5x1x256 ![0, 189, 0] · slices_S5x256x256_S5x1x256_0_189_0) main_v3602
  let main_v3604 : FVec F S5x256x1 .f32 := (extractStridedSlice S5x256x1 ![0, 0, 189] · slices_S5x256x256_S5x256x1_0_0_189) main_v3602
  let main_v3605 : FVec F S5x1x1 .f32 := (extractStridedSlice S5x1x1 ![0, 0, 189] · slices_S5x1x256_S5x1x1_0_0_189) main_v3603
  let main_v3606 : FVec F S5x256x1 .f32 := broadcastInDim S5x256x1 ![0, 1, 2] bcast_S5x1x1_S5x256x1_0_1_2 main_v3605
  let main_v3607 : FVec F S5x256x1 .f32 := Host.divf main_v3604 main_v3606
  let main_v3608 : FVec F S5x256x256 .f32 := broadcastInDim S5x256x256 ![0, 1, 2] bcast_S5x256x1_S5x256x256_0_1_2 main_v3607
  fn_part174 (F := F) main_arg0 main_v3 main_v7 main_v8 main_v10 main_v11 main_v3602 main_v3603 main_v3608

def fn_part172 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3564 : FVec F S5x256x256 .f32) (main_v3565 : FVec F S5x1x256 .f32) (main_v3566 : FVec F S5x256x1 .f32) : IVec S9x256x256 1 × IVec S8x256x256 1 :=
  let main_v3567 : FVec F S5x1x1 .f32 := (extractStridedSlice S5x1x1 ![0, 0, 187] · slices_S5x1x256_S5x1x1_0_0_187) main_v3565
  let main_v3568 : FVec F S5x256x1 .f32 := broadcastInDim S5x256x1 ![0, 1, 2] bcast_S5x1x1_S5x256x1_0_1_2 main_v3567
  let main_v3569 : FVec F S5x256x1 .f32 := Host.divf main_v3566 main_v3568
  let main_v3570 : FVec F S5x256x256 .f32 := broadcastInDim S5x256x256 ![0, 1, 2] bcast_S5x256x1_S5x256x256_0_1_2 main_v3569
  let main_c_560 : IVec S_ 32 := constantI S_ 32 187#32
  let main_v3571 : IVec S5x256x256 32 := broadcastInDim S5x256x256 ![] bcast_S_S5x256x256 main_c_560
  let main_v3572 : IVec S5x256x256 1 := cmpi .sgt main_v10 main_v3571
  let main_c_561 : IVec S_ 32 := constantI S_ 32 187#32
  let main_v3573 : IVec S5x256x256 32 := broadcastInDim S5x256x256 ![] bcast_S_S5x256x256 main_c_561
  let main_v3574 : IVec S5x256x256 1 := cmpi .sgt main_v11 main_v3573
  let main_v3575 : IVec S5x256x256 1 := andi main_v3572 main_v3574
  let main_v3576 : FVec F S5x256x256 .f32 := broadcastInDim S5x256x256 ![0, 1, 2] bcast_S5x1x256_S5x256x256_0_1_2 main_v3565
  let main_v3577 : FVec F S5x256x256 .f32 := mulf main_v3570 main_v3576
  let main_v3578 : FVec F S5x256x256 .f32 := subf main_v3564 main_v3577
  let main_v3579 : FVec F S5x256x256 .f32 := select main_v3575 main_v3578 main_v3564
  let main_c_562 : IVec S_ 32 := constantI S_ 32 187#32
  let main_v3580 : IVec S5x256x256 32 := broadcastInDim S5x256x256 ![] bcast_S_S5x256x256 main_c_562
  let main_v3581 : IVec S5x256x256 1 := cmpi .eq main_v11 main_v3580
  let main_v3582 : IVec S5x256x256 1 := andi main_v3572 main_v3581
  let main_v3583 : FVec F S5x256x256 .f32 := select main_v3582 main_v3570 main_v3579
  let main_v3584 : FVec F S5x1x256 .f32 := (extractStridedSlice S5x1x256 ![0, 188, 0] · slices_S5x256x256_S5x1x256_0_188_0) main_v3583
  let main_v3585 : FVec F S5x256x1 .f32 := (extractStridedSlice S5x256x1 ![0, 0, 188] · slices_S5x256x256_S5x256x1_0_0_188) main_v3583
  let main_v3586 : FVec F S5x1x1 .f32 := (extractStridedSlice S5x1x1 ![0, 0, 188] · slices_S5x1x256_S5x1x1_0_0_188) main_v3584
  let main_v3587 : FVec F S5x256x1 .f32 := broadcastInDim S5x256x1 ![0, 1, 2] bcast_S5x1x1_S5x256x1_0_1_2 main_v3586
  fn_part173 (F := F) main_arg0 main_v3 main_v7 main_v8 main_v10 main_v11 main_v3583 main_v3584 main_v3585 main_v3587

def fn_part171 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3545 : FVec F S5x256x256 .f32) : IVec S9x256x256 1 × IVec S8x256x256 1 :=
  let main_v3546 : FVec F S5x1x256 .f32 := (extractStridedSlice S5x1x256 ![0, 186, 0] · slices_S5x256x256_S5x1x256_0_186_0) main_v3545
  let main_v3547 : FVec F S5x256x1 .f32 := (extractStridedSlice S5x256x1 ![0, 0, 186] · slices_S5x256x256_S5x256x1_0_0_186) main_v3545
  let main_v3548 : FVec F S5x1x1 .f32 := (extractStridedSlice S5x1x1 ![0, 0, 186] · slices_S5x1x256_S5x1x1_0_0_186) main_v3546
  let main_v3549 : FVec F S5x256x1 .f32 := broadcastInDim S5x256x1 ![0, 1, 2] bcast_S5x1x1_S5x256x1_0_1_2 main_v3548
  let main_v3550 : FVec F S5x256x1 .f32 := Host.divf main_v3547 main_v3549
  let main_v3551 : FVec F S5x256x256 .f32 := broadcastInDim S5x256x256 ![0, 1, 2] bcast_S5x256x1_S5x256x256_0_1_2 main_v3550
  let main_c_557 : IVec S_ 32 := constantI S_ 32 186#32
  let main_v3552 : IVec S5x256x256 32 := broadcastInDim S5x256x256 ![] bcast_S_S5x256x256 main_c_557
  let main_v3553 : IVec S5x256x256 1 := cmpi .sgt main_v10 main_v3552
  let main_c_558 : IVec S_ 32 := constantI S_ 32 186#32
  let main_v3554 : IVec S5x256x256 32 := broadcastInDim S5x256x256 ![] bcast_S_S5x256x256 main_c_558
  let main_v3555 : IVec S5x256x256 1 := cmpi .sgt main_v11 main_v3554
  let main_v3556 : IVec S5x256x256 1 := andi main_v3553 main_v3555
  let main_v3557 : FVec F S5x256x256 .f32 := broadcastInDim S5x256x256 ![0, 1, 2] bcast_S5x1x256_S5x256x256_0_1_2 main_v3546
  let main_v3558 : FVec F S5x256x256 .f32 := mulf main_v3551 main_v3557
  let main_v3559 : FVec F S5x256x256 .f32 := subf main_v3545 main_v3558
  let main_v3560 : FVec F S5x256x256 .f32 := select main_v3556 main_v3559 main_v3545
  let main_c_559 : IVec S_ 32 := constantI S_ 32 186#32
  let main_v3561 : IVec S5x256x256 32 := broadcastInDim S5x256x256 ![] bcast_S_S5x256x256 main_c_559
  let main_v3562 : IVec S5x256x256 1 := cmpi .eq main_v11 main_v3561
  let main_v3563 : IVec S5x256x256 1 := andi main_v3553 main_v3562
  let main_v3564 : FVec F S5x256x256 .f32 := select main_v3563 main_v3551 main_v3560
  let main_v3565 : FVec F S5x1x256 .f32 := (extractStridedSlice S5x1x256 ![0, 187, 0] · slices_S5x256x256_S5x1x256_0_187_0) main_v3564
  let main_v3566 : FVec F S5x256x1 .f32 := (extractStridedSlice S5x256x1 ![0, 0, 187] · slices_S5x256x256_S5x256x1_0_0_187) main_v3564
  fn_part172 (F := F) main_arg0 main_v3 main_v7 main_v8 main_v10 main_v11 main_v3564 main_v3565 main_v3566

def fn_part170 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3513 : FVec F S5x256x256 .f32) (main_v3515 : IVec S5x256x256 1) (main_v3522 : FVec F S5x256x256 .f32) (main_v3524 : IVec S5x256x256 1) : IVec S9x256x256 1 × IVec S8x256x256 1 :=
  let main_v3525 : IVec S5x256x256 1 := andi main_v3515 main_v3524
  let main_v3526 : FVec F S5x256x256 .f32 := select main_v3525 main_v3513 main_v3522
  let main_v3527 : FVec F S5x1x256 .f32 := (extractStridedSlice S5x1x256 ![0, 185, 0] · slices_S5x256x256_S5x1x256_0_185_0) main_v3526
  let main_v3528 : FVec F S5x256x1 .f32 := (extractStridedSlice S5x256x1 ![0, 0, 185] · slices_S5x256x256_S5x256x1_0_0_185) main_v3526
  let main_v3529 : FVec F S5x1x1 .f32 := (extractStridedSlice S5x1x1 ![0, 0, 185] · slices_S5x1x256_S5x1x1_0_0_185) main_v3527
  let main_v3530 : FVec F S5x256x1 .f32 := broadcastInDim S5x256x1 ![0, 1, 2] bcast_S5x1x1_S5x256x1_0_1_2 main_v3529
  let main_v3531 : FVec F S5x256x1 .f32 := Host.divf main_v3528 main_v3530
  let main_v3532 : FVec F S5x256x256 .f32 := broadcastInDim S5x256x256 ![0, 1, 2] bcast_S5x256x1_S5x256x256_0_1_2 main_v3531
  let main_c_554 : IVec S_ 32 := constantI S_ 32 185#32
  let main_v3533 : IVec S5x256x256 32 := broadcastInDim S5x256x256 ![] bcast_S_S5x256x256 main_c_554
  let main_v3534 : IVec S5x256x256 1 := cmpi .sgt main_v10 main_v3533
  let main_c_555 : IVec S_ 32 := constantI S_ 32 185#32
  let main_v3535 : IVec S5x256x256 32 := broadcastInDim S5x256x256 ![] bcast_S_S5x256x256 main_c_555
  let main_v3536 : IVec S5x256x256 1 := cmpi .sgt main_v11 main_v3535
  let main_v3537 : IVec S5x256x256 1 := andi main_v3534 main_v3536
  let main_v3538 : FVec F S5x256x256 .f32 := broadcastInDim S5x256x256 ![0, 1, 2] bcast_S5x1x256_S5x256x256_0_1_2 main_v3527
  let main_v3539 : FVec F S5x256x256 .f32 := mulf main_v3532 main_v3538
  let main_v3540 : FVec F S5x256x256 .f32 := subf main_v3526 main_v3539
  let main_v3541 : FVec F S5x256x256 .f32 := select main_v3537 main_v3540 main_v3526
  let main_c_556 : IVec S_ 32 := constantI S_ 32 185#32
  let main_v3542 : IVec S5x256x256 32 := broadcastInDim S5x256x256 ![] bcast_S_S5x256x256 main_c_556
  let main_v3543 : IVec S5x256x256 1 := cmpi .eq main_v11 main_v3542
  let main_v3544 : IVec S5x256x256 1 := andi main_v3534 main_v3543
  let main_v3545 : FVec F S5x256x256 .f32 := select main_v3544 main_v3532 main_v3541
  fn_part171 (F := F) main_arg0 main_v3 main_v7 main_v8 main_v10 main_v11 main_v3545

def fn_part169 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3494 : FVec F S5x256x256 .f32) (main_v3496 : IVec S5x256x256 1) (main_v3503 : FVec F S5x256x256 .f32) (main_c_550 : IVec S_ 32) : IVec S9x256x256 1 × IVec S8x256x256 1 :=
  let main_v3504 : IVec S5x256x256 32 := broadcastInDim S5x256x256 ![] bcast_S_S5x256x256 main_c_550
  let main_v3505 : IVec S5x256x256 1 := cmpi .eq main_v11 main_v3504
  let main_v3506 : IVec S5x256x256 1 := andi main_v3496 main_v3505
  let main_v3507 : FVec F S5x256x256 .f32 := select main_v3506 main_v3494 main_v3503
  let main_v3508 : FVec F S5x1x256 .f32 := (extractStridedSlice S5x1x256 ![0, 184, 0] · slices_S5x256x256_S5x1x256_0_184_0) main_v3507
  let main_v3509 : FVec F S5x256x1 .f32 := (extractStridedSlice S5x256x1 ![0, 0, 184] · slices_S5x256x256_S5x256x1_0_0_184) main_v3507
  let main_v3510 : FVec F S5x1x1 .f32 := (extractStridedSlice S5x1x1 ![0, 0, 184] · slices_S5x1x256_S5x1x1_0_0_184) main_v3508
  let main_v3511 : FVec F S5x256x1 .f32 := broadcastInDim S5x256x1 ![0, 1, 2] bcast_S5x1x1_S5x256x1_0_1_2 main_v3510
  let main_v3512 : FVec F S5x256x1 .f32 := Host.divf main_v3509 main_v3511
  let main_v3513 : FVec F S5x256x256 .f32 := broadcastInDim S5x256x256 ![0, 1, 2] bcast_S5x256x1_S5x256x256_0_1_2 main_v3512
  let main_c_551 : IVec S_ 32 := constantI S_ 32 184#32
  let main_v3514 : IVec S5x256x256 32 := broadcastInDim S5x256x256 ![] bcast_S_S5x256x256 main_c_551
  let main_v3515 : IVec S5x256x256 1 := cmpi .sgt main_v10 main_v3514
  let main_c_552 : IVec S_ 32 := constantI S_ 32 184#32
  let main_v3516 : IVec S5x256x256 32 := broadcastInDim S5x256x256 ![] bcast_S_S5x256x256 main_c_552
  let main_v3517 : IVec S5x256x256 1 := cmpi .sgt main_v11 main_v3516
  let main_v3518 : IVec S5x256x256 1 := andi main_v3515 main_v3517
  let main_v3519 : FVec F S5x256x256 .f32 := broadcastInDim S5x256x256 ![0, 1, 2] bcast_S5x1x256_S5x256x256_0_1_2 main_v3508
  let main_v3520 : FVec F S5x256x256 .f32 := mulf main_v3513 main_v3519
  let main_v3521 : FVec F S5x256x256 .f32 := subf main_v3507 main_v3520
  let main_v3522 : FVec F S5x256x256 .f32 := select main_v3518 main_v3521 main_v3507
  let main_c_553 : IVec S_ 32 := constantI S_ 32 184#32
  let main_v3523 : IVec S5x256x256 32 := broadcastInDim S5x256x256 ![] bcast_S_S5x256x256 main_c_553
  let main_v3524 : IVec S5x256x256 1 := cmpi .eq main_v11 main_v3523
  fn_part170 (F := F) main_arg0 main_v3 main_v7 main_v8 main_v10 main_v11 main_v3513 main_v3515 main_v3522 main_v3524

def fn_part168 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3469 : FVec F S5x256x256 .f32) (main_v3475 : FVec F S5x256x256 .f32) (main_v3477 : IVec S5x256x256 1) (main_v3480 : IVec S5x256x256 1) (main_v3483 : FVec F S5x256x256 .f32) : IVec S9x256x256 1 × IVec S8x256x256 1 :=
  let main_v3484 : FVec F S5x256x256 .f32 := select main_v3480 main_v3483 main_v3469
  let main_c_547 : IVec S_ 32 := constantI S_ 32 182#32
  let main_v3485 : IVec S5x256x256 32 := broadcastInDim S5x256x256 ![] bcast_S_S5x256x256 main_c_547
  let main_v3486 : IVec S5x256x256 1 := cmpi .eq main_v11 main_v3485
  let main_v3487 : IVec S5x256x256 1 := andi main_v3477 main_v3486
  let main_v3488 : FVec F S5x256x256 .f32 := select main_v3487 main_v3475 main_v3484
  let main_v3489 : FVec F S5x1x256 .f32 := (extractStridedSlice S5x1x256 ![0, 183, 0] · slices_S5x256x256_S5x1x256_0_183_0) main_v3488
  let main_v3490 : FVec F S5x256x1 .f32 := (extractStridedSlice S5x256x1 ![0, 0, 183] · slices_S5x256x256_S5x256x1_0_0_183) main_v3488
  let main_v3491 : FVec F S5x1x1 .f32 := (extractStridedSlice S5x1x1 ![0, 0, 183] · slices_S5x1x256_S5x1x1_0_0_183) main_v3489
  let main_v3492 : FVec F S5x256x1 .f32 := broadcastInDim S5x256x1 ![0, 1, 2] bcast_S5x1x1_S5x256x1_0_1_2 main_v3491
  let main_v3493 : FVec F S5x256x1 .f32 := Host.divf main_v3490 main_v3492
  let main_v3494 : FVec F S5x256x256 .f32 := broadcastInDim S5x256x256 ![0, 1, 2] bcast_S5x256x1_S5x256x256_0_1_2 main_v3493
  let main_c_548 : IVec S_ 32 := constantI S_ 32 183#32
  let main_v3495 : IVec S5x256x256 32 := broadcastInDim S5x256x256 ![] bcast_S_S5x256x256 main_c_548
  let main_v3496 : IVec S5x256x256 1 := cmpi .sgt main_v10 main_v3495
  let main_c_549 : IVec S_ 32 := constantI S_ 32 183#32
  let main_v3497 : IVec S5x256x256 32 := broadcastInDim S5x256x256 ![] bcast_S_S5x256x256 main_c_549
  let main_v3498 : IVec S5x256x256 1 := cmpi .sgt main_v11 main_v3497
  let main_v3499 : IVec S5x256x256 1 := andi main_v3496 main_v3498
  let main_v3500 : FVec F S5x256x256 .f32 := broadcastInDim S5x256x256 ![0, 1, 2] bcast_S5x1x256_S5x256x256_0_1_2 main_v3489
  let main_v3501 : FVec F S5x256x256 .f32 := mulf main_v3494 main_v3500
  let main_v3502 : FVec F S5x256x256 .f32 := subf main_v3488 main_v3501
  let main_v3503 : FVec F S5x256x256 .f32 := select main_v3499 main_v3502 main_v3488
  let main_c_550 : IVec S_ 32 := constantI S_ 32 183#32
  fn_part169 (F := F) main_arg0 main_v3 main_v7 main_v8 main_v10 main_v11 main_v3494 main_v3496 main_v3503 main_c_550

def fn_part167 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3450 : FVec F S5x256x256 .f32) (main_v3456 : FVec F S5x256x256 .f32) (main_v3458 : IVec S5x256x256 1) (main_v3461 : IVec S5x256x256 1) (main_v3462 : FVec F S5x256x256 .f32) : IVec S9x256x256 1 × IVec S8x256x256 1 :=
  let main_v3463 : FVec F S5x256x256 .f32 := mulf main_v3456 main_v3462
  let main_v3464 : FVec F S5x256x256 .f32 := subf main_v3450 main_v3463
  let main_v3465 : FVec F S5x256x256 .f32 := select main_v3461 main_v3464 main_v3450
  let main_c_544 : IVec S_ 32 := constantI S_ 32 181#32
  let main_v3466 : IVec S5x256x256 32 := broadcastInDim S5x256x256 ![] bcast_S_S5x256x256 main_c_544
  let main_v3467 : IVec S5x256x256 1 := cmpi .eq main_v11 main_v3466
  let main_v3468 : IVec S5x256x256 1 := andi main_v3458 main_v3467
  let main_v3469 : FVec F S5x256x256 .f32 := select main_v3468 main_v3456 main_v3465
  let main_v3470 : FVec F S5x1x256 .f32 := (extractStridedSlice S5x1x256 ![0, 182, 0] · slices_S5x256x256_S5x1x256_0_182_0) main_v3469
  let main_v3471 : FVec F S5x256x1 .f32 := (extractStridedSlice S5x256x1 ![0, 0, 182] · slices_S5x256x256_S5x256x1_0_0_182) main_v3469
  let main_v3472 : FVec F S5x1x1 .f32 := (extractStridedSlice S5x1x1 ![0, 0, 182] · slices_S5x1x256_S5x1x1_0_0_182) main_v3470
  let main_v3473 : FVec F S5x256x1 .f32 := broadcastInDim S5x256x1 ![0, 1, 2] bcast_S5x1x1_S5x256x1_0_1_2 main_v3472
  let main_v3474 : FVec F S5x256x1 .f32 := Host.divf main_v3471 main_v3473
  let main_v3475 : FVec F S5x256x256 .f32 := broadcastInDim S5x256x256 ![0, 1, 2] bcast_S5x256x1_S5x256x256_0_1_2 main_v3474
  let main_c_545 : IVec S_ 32 := constantI S_ 32 182#32
  let main_v3476 : IVec S5x256x256 32 := broadcastInDim S5x256x256 ![] bcast_S_S5x256x256 main_c_545
  let main_v3477 : IVec S5x256x256 1 := cmpi .sgt main_v10 main_v3476
  let main_c_546 : IVec S_ 32 := constantI S_ 32 182#32
  let main_v3478 : IVec S5x256x256 32 := broadcastInDim S5x256x256 ![] bcast_S_S5x256x256 main_c_546
  let main_v3479 : IVec S5x256x256 1 := cmpi .sgt main_v11 main_v3478
  let main_v3480 : IVec S5x256x256 1 := andi main_v3477 main_v3479
  let main_v3481 : FVec F S5x256x256 .f32 := broadcastInDim S5x256x256 ![0, 1, 2] bcast_S5x1x256_S5x256x256_0_1_2 main_v3470
  let main_v3482 : FVec F S5x256x256 .f32 := mulf main_v3475 main_v3481
  let main_v3483 : FVec F S5x256x256 .f32 := subf main_v3469 main_v3482
  fn_part168 (F := F) main_arg0 main_v3 main_v7 main_v8 main_v10 main_v11 main_v3469 main_v3475 main_v3477 main_v3480 main_v3483

def fn_part166 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3431 : FVec F S5x256x256 .f32) (main_v3432 : FVec F S5x1x256 .f32) (main_v3437 : FVec F S5x256x256 .f32) (main_v3439 : IVec S5x256x256 1) (main_v3441 : IVec S5x256x256 1) : IVec S9x256x256 1 × IVec S8x256x256 1 :=
  let main_v3442 : IVec S5x256x256 1 := andi main_v3439 main_v3441
  let main_v3443 : FVec F S5x256x256 .f32 := broadcastInDim S5x256x256 ![0, 1, 2] bcast_S5x1x256_S5x256x256_0_1_2 main_v3432
  let main_v3444 : FVec F S5x256x256 .f32 := mulf main_v3437 main_v3443
  let main_v3445 : FVec F S5x256x256 .f32 := subf main_v3431 main_v3444
  let main_v3446 : FVec F S5x256x256 .f32 := select main_v3442 main_v3445 main_v3431
  let main_c_541 : IVec S_ 32 := constantI S_ 32 180#32
  let main_v3447 : IVec S5x256x256 32 := broadcastInDim S5x256x256 ![] bcast_S_S5x256x256 main_c_541
  let main_v3448 : IVec S5x256x256 1 := cmpi .eq main_v11 main_v3447
  let main_v3449 : IVec S5x256x256 1 := andi main_v3439 main_v3448
  let main_v3450 : FVec F S5x256x256 .f32 := select main_v3449 main_v3437 main_v3446
  let main_v3451 : FVec F S5x1x256 .f32 := (extractStridedSlice S5x1x256 ![0, 181, 0] · slices_S5x256x256_S5x1x256_0_181_0) main_v3450
  let main_v3452 : FVec F S5x256x1 .f32 := (extractStridedSlice S5x256x1 ![0, 0, 181] · slices_S5x256x256_S5x256x1_0_0_181) main_v3450
  let main_v3453 : FVec F S5x1x1 .f32 := (extractStridedSlice S5x1x1 ![0, 0, 181] · slices_S5x1x256_S5x1x1_0_0_181) main_v3451
  let main_v3454 : FVec F S5x256x1 .f32 := broadcastInDim S5x256x1 ![0, 1, 2] bcast_S5x1x1_S5x256x1_0_1_2 main_v3453
  let main_v3455 : FVec F S5x256x1 .f32 := Host.divf main_v3452 main_v3454
  let main_v3456 : FVec F S5x256x256 .f32 := broadcastInDim S5x256x256 ![0, 1, 2] bcast_S5x256x1_S5x256x256_0_1_2 main_v3455
  let main_c_542 : IVec S_ 32 := constantI S_ 32 181#32
  let main_v3457 : IVec S5x256x256 32 := broadcastInDim S5x256x256 ![] bcast_S_S5x256x256 main_c_542
  let main_v3458 : IVec S5x256x256 1 := cmpi .sgt main_v10 main_v3457
  let main_c_543 : IVec S_ 32 := constantI S_ 32 181#32
  let main_v3459 : IVec S5x256x256 32 := broadcastInDim S5x256x256 ![] bcast_S_S5x256x256 main_c_543
  let main_v3460 : IVec S5x256x256 1 := cmpi .sgt main_v11 main_v3459
  let main_v3461 : IVec S5x256x256 1 := andi main_v3458 main_v3460
  let main_v3462 : FVec F S5x256x256 .f32 := broadcastInDim S5x256x256 ![0, 1, 2] bcast_S5x1x256_S5x256x256_0_1_2 main_v3451
  fn_part167 (F := F) main_arg0 main_v3 main_v7 main_v8 main_v10 main_v11 main_v3450 main_v3456 main_v3458 main_v3461 main_v3462

def fn_part165 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3412 : FVec F S5x256x256 .f32) (main_v3413 : FVec F S5x1x256 .f32) (main_v3418 : FVec F S5x256x256 .f32) (main_v3420 : IVec S5x256x256 1) (main_c_537 : IVec S_ 32) : IVec S9x256x256 1 × IVec S8x256x256 1 :=
  let main_v3421 : IVec S5x256x256 32 := broadcastInDim S5x256x256 ![] bcast_S_S5x256x256 main_c_537
  let main_v3422 : IVec S5x256x256 1 := cmpi .sgt main_v11 main_v3421
  let main_v3423 : IVec S5x256x256 1 := andi main_v3420 main_v3422
  let main_v3424 : FVec F S5x256x256 .f32 := broadcastInDim S5x256x256 ![0, 1, 2] bcast_S5x1x256_S5x256x256_0_1_2 main_v3413
  let main_v3425 : FVec F S5x256x256 .f32 := mulf main_v3418 main_v3424
  let main_v3426 : FVec F S5x256x256 .f32 := subf main_v3412 main_v3425
  let main_v3427 : FVec F S5x256x256 .f32 := select main_v3423 main_v3426 main_v3412
  let main_c_538 : IVec S_ 32 := constantI S_ 32 179#32
  let main_v3428 : IVec S5x256x256 32 := broadcastInDim S5x256x256 ![] bcast_S_S5x256x256 main_c_538
  let main_v3429 : IVec S5x256x256 1 := cmpi .eq main_v11 main_v3428
  let main_v3430 : IVec S5x256x256 1 := andi main_v3420 main_v3429
  let main_v3431 : FVec F S5x256x256 .f32 := select main_v3430 main_v3418 main_v3427
  let main_v3432 : FVec F S5x1x256 .f32 := (extractStridedSlice S5x1x256 ![0, 180, 0] · slices_S5x256x256_S5x1x256_0_180_0) main_v3431
  let main_v3433 : FVec F S5x256x1 .f32 := (extractStridedSlice S5x256x1 ![0, 0, 180] · slices_S5x256x256_S5x256x1_0_0_180) main_v3431
  let main_v3434 : FVec F S5x1x1 .f32 := (extractStridedSlice S5x1x1 ![0, 0, 180] · slices_S5x1x256_S5x1x1_0_0_180) main_v3432
  let main_v3435 : FVec F S5x256x1 .f32 := broadcastInDim S5x256x1 ![0, 1, 2] bcast_S5x1x1_S5x256x1_0_1_2 main_v3434
  let main_v3436 : FVec F S5x256x1 .f32 := Host.divf main_v3433 main_v3435
  let main_v3437 : FVec F S5x256x256 .f32 := broadcastInDim S5x256x256 ![0, 1, 2] bcast_S5x256x1_S5x256x256_0_1_2 main_v3436
  let main_c_539 : IVec S_ 32 := constantI S_ 32 180#32
  let main_v3438 : IVec S5x256x256 32 := broadcastInDim S5x256x256 ![] bcast_S_S5x256x256 main_c_539
  let main_v3439 : IVec S5x256x256 1 := cmpi .sgt main_v10 main_v3438
  let main_c_540 : IVec S_ 32 := constantI S_ 32 180#32
  let main_v3440 : IVec S5x256x256 32 := broadcastInDim S5x256x256 ![] bcast_S_S5x256x256 main_c_540
  let main_v3441 : IVec S5x256x256 1 := cmpi .sgt main_v11 main_v3440
  fn_part166 (F := F) main_arg0 main_v3 main_v7 main_v8 main_v10 main_v11 main_v3431 main_v3432 main_v3437 main_v3439 main_v3441

def fn_part164 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3393 : FVec F S5x256x256 .f32) (main_v3394 : FVec F S5x1x256 .f32) (main_v3399 : FVec F S5x256x256 .f32) (main_v3400 : IVec S5x256x256 32) : IVec S9x256x256 1 × IVec S8x256x256 1 :=
  let main_v3401 : IVec S5x256x256 1 := cmpi .sgt main_v10 main_v3400
  let main_c_534 : IVec S_ 32 := constantI S_ 32 178#32
  let main_v3402 : IVec S5x256x256 32 := broadcastInDim S5x256x256 ![] bcast_S_S5x256x256 main_c_534
  let main_v3403 : IVec S5x256x256 1 := cmpi .sgt main_v11 main_v3402
  let main_v3404 : IVec S5x256x256 1 := andi main_v3401 main_v3403
  let main_v3405 : FVec F S5x256x256 .f32 := broadcastInDim S5x256x256 ![0, 1, 2] bcast_S5x1x256_S5x256x256_0_1_2 main_v3394
  let main_v3406 : FVec F S5x256x256 .f32 := mulf main_v3399 main_v3405
  let main_v3407 : FVec F S5x256x256 .f32 := subf main_v3393 main_v3406
  let main_v3408 : FVec F S5x256x256 .f32 := select main_v3404 main_v3407 main_v3393
  let main_c_535 : IVec S_ 32 := constantI S_ 32 178#32
  let main_v3409 : IVec S5x256x256 32 := broadcastInDim S5x256x256 ![] bcast_S_S5x256x256 main_c_535
  let main_v3410 : IVec S5x256x256 1 := cmpi .eq main_v11 main_v3409
  let main_v3411 : IVec S5x256x256 1 := andi main_v3401 main_v3410
  let main_v3412 : FVec F S5x256x256 .f32 := select main_v3411 main_v3399 main_v3408
  let main_v3413 : FVec F S5x1x256 .f32 := (extractStridedSlice S5x1x256 ![0, 179, 0] · slices_S5x256x256_S5x1x256_0_179_0) main_v3412
  let main_v3414 : FVec F S5x256x1 .f32 := (extractStridedSlice S5x256x1 ![0, 0, 179] · slices_S5x256x256_S5x256x1_0_0_179) main_v3412
  let main_v3415 : FVec F S5x1x1 .f32 := (extractStridedSlice S5x1x1 ![0, 0, 179] · slices_S5x1x256_S5x1x1_0_0_179) main_v3413
  let main_v3416 : FVec F S5x256x1 .f32 := broadcastInDim S5x256x1 ![0, 1, 2] bcast_S5x1x1_S5x256x1_0_1_2 main_v3415
  let main_v3417 : FVec F S5x256x1 .f32 := Host.divf main_v3414 main_v3416
  let main_v3418 : FVec F S5x256x256 .f32 := broadcastInDim S5x256x256 ![0, 1, 2] bcast_S5x256x1_S5x256x256_0_1_2 main_v3417
  let main_c_536 : IVec S_ 32 := constantI S_ 32 179#32
  let main_v3419 : IVec S5x256x256 32 := broadcastInDim S5x256x256 ![] bcast_S_S5x256x256 main_c_536
  let main_v3420 : IVec S5x256x256 1 := cmpi .sgt main_v10 main_v3419
  let main_c_537 : IVec S_ 32 := constantI S_ 32 179#32
  fn_part165 (F := F) main_arg0 main_v3 main_v7 main_v8 main_v10 main_v11 main_v3412 main_v3413 main_v3418 main_v3420 main_c_537

def fn_part163 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3374 : FVec F S5x256x256 .f32) (main_v3375 : FVec F S5x1x256 .f32) (main_v3380 : FVec F S5x256x256 .f32) : IVec S9x256x256 1 × IVec S8x256x256 1 :=
  let main_c_530 : IVec S_ 32 := constantI S_ 32 177#32
  let main_v3381 : IVec S5x256x256 32 := broadcastInDim S5x256x256 ![] bcast_S_S5x256x256 main_c_530
  let main_v3382 : IVec S5x256x256 1 := cmpi .sgt main_v10 main_v3381
  let main_c_531 : IVec S_ 32 := constantI S_ 32 177#32
  let main_v3383 : IVec S5x256x256 32 := broadcastInDim S5x256x256 ![] bcast_S_S5x256x256 main_c_531
  let main_v3384 : IVec S5x256x256 1 := cmpi .sgt main_v11 main_v3383
  let main_v3385 : IVec S5x256x256 1 := andi main_v3382 main_v3384
  let main_v3386 : FVec F S5x256x256 .f32 := broadcastInDim S5x256x256 ![0, 1, 2] bcast_S5x1x256_S5x256x256_0_1_2 main_v3375
  let main_v3387 : FVec F S5x256x256 .f32 := mulf main_v3380 main_v3386
  let main_v3388 : FVec F S5x256x256 .f32 := subf main_v3374 main_v3387
  let main_v3389 : FVec F S5x256x256 .f32 := select main_v3385 main_v3388 main_v3374
  let main_c_532 : IVec S_ 32 := constantI S_ 32 177#32
  let main_v3390 : IVec S5x256x256 32 := broadcastInDim S5x256x256 ![] bcast_S_S5x256x256 main_c_532
  let main_v3391 : IVec S5x256x256 1 := cmpi .eq main_v11 main_v3390
  let main_v3392 : IVec S5x256x256 1 := andi main_v3382 main_v3391
  let main_v3393 : FVec F S5x256x256 .f32 := select main_v3392 main_v3380 main_v3389
  let main_v3394 : FVec F S5x1x256 .f32 := (extractStridedSlice S5x1x256 ![0, 178, 0] · slices_S5x256x256_S5x1x256_0_178_0) main_v3393
  let main_v3395 : FVec F S5x256x1 .f32 := (extractStridedSlice S5x256x1 ![0, 0, 178] · slices_S5x256x256_S5x256x1_0_0_178) main_v3393
  let main_v3396 : FVec F S5x1x1 .f32 := (extractStridedSlice S5x1x1 ![0, 0, 178] · slices_S5x1x256_S5x1x1_0_0_178) main_v3394
  let main_v3397 : FVec F S5x256x1 .f32 := broadcastInDim S5x256x1 ![0, 1, 2] bcast_S5x1x1_S5x256x1_0_1_2 main_v3396
  let main_v3398 : FVec F S5x256x1 .f32 := Host.divf main_v3395 main_v3397
  let main_v3399 : FVec F S5x256x256 .f32 := broadcastInDim S5x256x256 ![0, 1, 2] bcast_S5x256x1_S5x256x256_0_1_2 main_v3398
  let main_c_533 : IVec S_ 32 := constantI S_ 32 178#32
  let main_v3400 : IVec S5x256x256 32 := broadcastInDim S5x256x256 ![] bcast_S_S5x256x256 main_c_533
  fn_part164 (F := F) main_arg0 main_v3 main_v7 main_v8 main_v10 main_v11 main_v3393 main_v3394 main_v3399 main_v3400

def fn_part162 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3355 : FVec F S5x256x256 .f32) (main_v3356 : FVec F S5x1x256 .f32) (main_v3357 : FVec F S5x256x1 .f32) (main_v3359 : FVec F S5x256x1 .f32) : IVec S9x256x256 1 × IVec S8x256x256 1 :=
  let main_v3360 : FVec F S5x256x1 .f32 := Host.divf main_v3357 main_v3359
  let main_v3361 : FVec F S5x256x256 .f32 := broadcastInDim S5x256x256 ![0, 1, 2] bcast_S5x256x1_S5x256x256_0_1_2 main_v3360
  let main_c_527 : IVec S_ 32 := constantI S_ 32 176#32
  let main_v3362 : IVec S5x256x256 32 := broadcastInDim S5x256x256 ![] bcast_S_S5x256x256 main_c_527
  let main_v3363 : IVec S5x256x256 1 := cmpi .sgt main_v10 main_v3362
  let main_c_528 : IVec S_ 32 := constantI S_ 32 176#32
  let main_v3364 : IVec S5x256x256 32 := broadcastInDim S5x256x256 ![] bcast_S_S5x256x256 main_c_528
  let main_v3365 : IVec S5x256x256 1 := cmpi .sgt main_v11 main_v3364
  let main_v3366 : IVec S5x256x256 1 := andi main_v3363 main_v3365
  let main_v3367 : FVec F S5x256x256 .f32 := broadcastInDim S5x256x256 ![0, 1, 2] bcast_S5x1x256_S5x256x256_0_1_2 main_v3356
  let main_v3368 : FVec F S5x256x256 .f32 := mulf main_v3361 main_v3367
  let main_v3369 : FVec F S5x256x256 .f32 := subf main_v3355 main_v3368
  let main_v3370 : FVec F S5x256x256 .f32 := select main_v3366 main_v3369 main_v3355
  let main_c_529 : IVec S_ 32 := constantI S_ 32 176#32
  let main_v3371 : IVec S5x256x256 32 := broadcastInDim S5x256x256 ![] bcast_S_S5x256x256 main_c_529
  let main_v3372 : IVec S5x256x256 1 := cmpi .eq main_v11 main_v3371
  let main_v3373 : IVec S5x256x256 1 := andi main_v3363 main_v3372
  let main_v3374 : FVec F S5x256x256 .f32 := select main_v3373 main_v3361 main_v3370
  let main_v3375 : FVec F S5x1x256 .f32 := (extractStridedSlice S5x1x256 ![0, 177, 0] · slices_S5x256x256_S5x1x256_0_177_0) main_v3374
  let main_v3376 : FVec F S5x256x1 .f32 := (extractStridedSlice S5x256x1 ![0, 0, 177] · slices_S5x256x256_S5x256x1_0_0_177) main_v3374
  let main_v3377 : FVec F S5x1x1 .f32 := (extractStridedSlice S5x1x1 ![0, 0, 177] · slices_S5x1x256_S5x1x1_0_0_177) main_v3375
  let main_v3378 : FVec F S5x256x1 .f32 := broadcastInDim S5x256x1 ![0, 1, 2] bcast_S5x1x1_S5x256x1_0_1_2 main_v3377
  let main_v3379 : FVec F S5x256x1 .f32 := Host.divf main_v3376 main_v3378
  let main_v3380 : FVec F S5x256x256 .f32 := broadcastInDim S5x256x256 ![0, 1, 2] bcast_S5x256x1_S5x256x256_0_1_2 main_v3379
  fn_part163 (F := F) main_arg0 main_v3 main_v7 main_v8 main_v10 main_v11 main_v3374 main_v3375 main_v3380

def fn_part161 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3336 : FVec F S5x256x256 .f32) (main_v3337 : FVec F S5x1x256 .f32) (main_v3338 : FVec F S5x256x1 .f32) : IVec S9x256x256 1 × IVec S8x256x256 1 :=
  let main_v3339 : FVec F S5x1x1 .f32 := (extractStridedSlice S5x1x1 ![0, 0, 175] · slices_S5x1x256_S5x1x1_0_0_175) main_v3337
  let main_v3340 : FVec F S5x256x1 .f32 := broadcastInDim S5x256x1 ![0, 1, 2] bcast_S5x1x1_S5x256x1_0_1_2 main_v3339
  let main_v3341 : FVec F S5x256x1 .f32 := Host.divf main_v3338 main_v3340
  let main_v3342 : FVec F S5x256x256 .f32 := broadcastInDim S5x256x256 ![0, 1, 2] bcast_S5x256x1_S5x256x256_0_1_2 main_v3341
  let main_c_524 : IVec S_ 32 := constantI S_ 32 175#32
  let main_v3343 : IVec S5x256x256 32 := broadcastInDim S5x256x256 ![] bcast_S_S5x256x256 main_c_524
  let main_v3344 : IVec S5x256x256 1 := cmpi .sgt main_v10 main_v3343
  let main_c_525 : IVec S_ 32 := constantI S_ 32 175#32
  let main_v3345 : IVec S5x256x256 32 := broadcastInDim S5x256x256 ![] bcast_S_S5x256x256 main_c_525
  let main_v3346 : IVec S5x256x256 1 := cmpi .sgt main_v11 main_v3345
  let main_v3347 : IVec S5x256x256 1 := andi main_v3344 main_v3346
  let main_v3348 : FVec F S5x256x256 .f32 := broadcastInDim S5x256x256 ![0, 1, 2] bcast_S5x1x256_S5x256x256_0_1_2 main_v3337
  let main_v3349 : FVec F S5x256x256 .f32 := mulf main_v3342 main_v3348
  let main_v3350 : FVec F S5x256x256 .f32 := subf main_v3336 main_v3349
  let main_v3351 : FVec F S5x256x256 .f32 := select main_v3347 main_v3350 main_v3336
  let main_c_526 : IVec S_ 32 := constantI S_ 32 175#32
  let main_v3352 : IVec S5x256x256 32 := broadcastInDim S5x256x256 ![] bcast_S_S5x256x256 main_c_526
  let main_v3353 : IVec S5x256x256 1 := cmpi .eq main_v11 main_v3352
  let main_v3354 : IVec S5x256x256 1 := andi main_v3344 main_v3353
  let main_v3355 : FVec F S5x256x256 .f32 := select main_v3354 main_v3342 main_v3351
  let main_v3356 : FVec F S5x1x256 .f32 := (extractStridedSlice S5x1x256 ![0, 176, 0] · slices_S5x256x256_S5x1x256_0_176_0) main_v3355
  let main_v3357 : FVec F S5x256x1 .f32 := (extractStridedSlice S5x256x1 ![0, 0, 176] · slices_S5x256x256_S5x256x1_0_0_176) main_v3355
  let main_v3358 : FVec F S5x1x1 .f32 := (extractStridedSlice S5x1x1 ![0, 0, 176] · slices_S5x1x256_S5x1x1_0_0_176) main_v3356
  let main_v3359 : FVec F S5x256x1 .f32 := broadcastInDim S5x256x1 ![0, 1, 2] bcast_S5x1x1_S5x256x1_0_1_2 main_v3358
  fn_part162 (F := F) main_arg0 main_v3 main_v7 main_v8 main_v10 main_v11 main_v3355 main_v3356 main_v3357 main_v3359

def fn_part160 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3317 : FVec F S5x256x256 .f32) : IVec S9x256x256 1 × IVec S8x256x256 1 :=
  let main_v3318 : FVec F S5x1x256 .f32 := (extractStridedSlice S5x1x256 ![0, 174, 0] · slices_S5x256x256_S5x1x256_0_174_0) main_v3317
  let main_v3319 : FVec F S5x256x1 .f32 := (extractStridedSlice S5x256x1 ![0, 0, 174] · slices_S5x256x256_S5x256x1_0_0_174) main_v3317
  let main_v3320 : FVec F S5x1x1 .f32 := (extractStridedSlice S5x1x1 ![0, 0, 174] · slices_S5x1x256_S5x1x1_0_0_174) main_v3318
  let main_v3321 : FVec F S5x256x1 .f32 := broadcastInDim S5x256x1 ![0, 1, 2] bcast_S5x1x1_S5x256x1_0_1_2 main_v3320
  let main_v3322 : FVec F S5x256x1 .f32 := Host.divf main_v3319 main_v3321
  let main_v3323 : FVec F S5x256x256 .f32 := broadcastInDim S5x256x256 ![0, 1, 2] bcast_S5x256x1_S5x256x256_0_1_2 main_v3322
  let main_c_521 : IVec S_ 32 := constantI S_ 32 174#32
  let main_v3324 : IVec S5x256x256 32 := broadcastInDim S5x256x256 ![] bcast_S_S5x256x256 main_c_521
  let main_v3325 : IVec S5x256x256 1 := cmpi .sgt main_v10 main_v3324
  let main_c_522 : IVec S_ 32 := constantI S_ 32 174#32
  let main_v3326 : IVec S5x256x256 32 := broadcastInDim S5x256x256 ![] bcast_S_S5x256x256 main_c_522
  let main_v3327 : IVec S5x256x256 1 := cmpi .sgt main_v11 main_v3326
  let main_v3328 : IVec S5x256x256 1 := andi main_v3325 main_v3327
  let main_v3329 : FVec F S5x256x256 .f32 := broadcastInDim S5x256x256 ![0, 1, 2] bcast_S5x1x256_S5x256x256_0_1_2 main_v3318
  let main_v3330 : FVec F S5x256x256 .f32 := mulf main_v3323 main_v3329
  let main_v3331 : FVec F S5x256x256 .f32 := subf main_v3317 main_v3330
  let main_v3332 : FVec F S5x256x256 .f32 := select main_v3328 main_v3331 main_v3317
  let main_c_523 : IVec S_ 32 := constantI S_ 32 174#32
  let main_v3333 : IVec S5x256x256 32 := broadcastInDim S5x256x256 ![] bcast_S_S5x256x256 main_c_523
  let main_v3334 : IVec S5x256x256 1 := cmpi .eq main_v11 main_v3333
  let main_v3335 : IVec S5x256x256 1 := andi main_v3325 main_v3334
  let main_v3336 : FVec F S5x256x256 .f32 := select main_v3335 main_v3323 main_v3332
  let main_v3337 : FVec F S5x1x256 .f32 := (extractStridedSlice S5x1x256 ![0, 175, 0] · slices_S5x256x256_S5x1x256_0_175_0) main_v3336
  let main_v3338 : FVec F S5x256x1 .f32 := (extractStridedSlice S5x256x1 ![0, 0, 175] · slices_S5x256x256_S5x256x1_0_0_175) main_v3336
  fn_part161 (F := F) main_arg0 main_v3 main_v7 main_v8 main_v10 main_v11 main_v3336 main_v3337 main_v3338

def fn_part159 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3285 : FVec F S5x256x256 .f32) (main_v3287 : IVec S5x256x256 1) (main_v3294 : FVec F S5x256x256 .f32) (main_v3296 : IVec S5x256x256 1) : IVec S9x256x256 1 × IVec S8x256x256 1 :=
  let main_v3297 : IVec S5x256x256 1 := andi main_v3287 main_v3296
  let main_v3298 : FVec F S5x256x256 .f32 := select main_v3297 main_v3285 main_v3294
  let main_v3299 : FVec F S5x1x256 .f32 := (extractStridedSlice S5x1x256 ![0, 173, 0] · slices_S5x256x256_S5x1x256_0_173_0) main_v3298
  let main_v3300 : FVec F S5x256x1 .f32 := (extractStridedSlice S5x256x1 ![0, 0, 173] · slices_S5x256x256_S5x256x1_0_0_173) main_v3298
  let main_v3301 : FVec F S5x1x1 .f32 := (extractStridedSlice S5x1x1 ![0, 0, 173] · slices_S5x1x256_S5x1x1_0_0_173) main_v3299
  let main_v3302 : FVec F S5x256x1 .f32 := broadcastInDim S5x256x1 ![0, 1, 2] bcast_S5x1x1_S5x256x1_0_1_2 main_v3301
  let main_v3303 : FVec F S5x256x1 .f32 := Host.divf main_v3300 main_v3302
  let main_v3304 : FVec F S5x256x256 .f32 := broadcastInDim S5x256x256 ![0, 1, 2] bcast_S5x256x1_S5x256x256_0_1_2 main_v3303
  let main_c_518 : IVec S_ 32 := constantI S_ 32 173#32
  let main_v3305 : IVec S5x256x256 32 := broadcastInDim S5x256x256 ![] bcast_S_S5x256x256 main_c_518
  let main_v3306 : IVec S5x256x256 1 := cmpi .sgt main_v10 main_v3305
  let main_c_519 : IVec S_ 32 := constantI S_ 32 173#32
  let main_v3307 : IVec S5x256x256 32 := broadcastInDim S5x256x256 ![] bcast_S_S5x256x256 main_c_519
  let main_v3308 : IVec S5x256x256 1 := cmpi .sgt main_v11 main_v3307
  let main_v3309 : IVec S5x256x256 1 := andi main_v3306 main_v3308
  let main_v3310 : FVec F S5x256x256 .f32 := broadcastInDim S5x256x256 ![0, 1, 2] bcast_S5x1x256_S5x256x256_0_1_2 main_v3299
  let main_v3311 : FVec F S5x256x256 .f32 := mulf main_v3304 main_v3310
  let main_v3312 : FVec F S5x256x256 .f32 := subf main_v3298 main_v3311
  let main_v3313 : FVec F S5x256x256 .f32 := select main_v3309 main_v3312 main_v3298
  let main_c_520 : IVec S_ 32 := constantI S_ 32 173#32
  let main_v3314 : IVec S5x256x256 32 := broadcastInDim S5x256x256 ![] bcast_S_S5x256x256 main_c_520
  let main_v3315 : IVec S5x256x256 1 := cmpi .eq main_v11 main_v3314
  let main_v3316 : IVec S5x256x256 1 := andi main_v3306 main_v3315
  let main_v3317 : FVec F S5x256x256 .f32 := select main_v3316 main_v3304 main_v3313
  fn_part160 (F := F) main_arg0 main_v3 main_v7 main_v8 main_v10 main_v11 main_v3317

def fn_part158 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3266 : FVec F S5x256x256 .f32) (main_v3268 : IVec S5x256x256 1) (main_v3275 : FVec F S5x256x256 .f32) (main_c_514 : IVec S_ 32) : IVec S9x256x256 1 × IVec S8x256x256 1 :=
  let main_v3276 : IVec S5x256x256 32 := broadcastInDim S5x256x256 ![] bcast_S_S5x256x256 main_c_514
  let main_v3277 : IVec S5x256x256 1 := cmpi .eq main_v11 main_v3276
  let main_v3278 : IVec S5x256x256 1 := andi main_v3268 main_v3277
  let main_v3279 : FVec F S5x256x256 .f32 := select main_v3278 main_v3266 main_v3275
  let main_v3280 : FVec F S5x1x256 .f32 := (extractStridedSlice S5x1x256 ![0, 172, 0] · slices_S5x256x256_S5x1x256_0_172_0) main_v3279
  let main_v3281 : FVec F S5x256x1 .f32 := (extractStridedSlice S5x256x1 ![0, 0, 172] · slices_S5x256x256_S5x256x1_0_0_172) main_v3279
  let main_v3282 : FVec F S5x1x1 .f32 := (extractStridedSlice S5x1x1 ![0, 0, 172] · slices_S5x1x256_S5x1x1_0_0_172) main_v3280
  let main_v3283 : FVec F S5x256x1 .f32 := broadcastInDim S5x256x1 ![0, 1, 2] bcast_S5x1x1_S5x256x1_0_1_2 main_v3282
  let main_v3284 : FVec F S5x256x1 .f32 := Host.divf main_v3281 main_v3283
  let main_v3285 : FVec F S5x256x256 .f32 := broadcastInDim S5x256x256 ![0, 1, 2] bcast_S5x256x1_S5x256x256_0_1_2 main_v3284
  let main_c_515 : IVec S_ 32 := constantI S_ 32 172#32
  let main_v3286 : IVec S5x256x256 32 := broadcastInDim S5x256x256 ![] bcast_S_S5x256x256 main_c_515
  let main_v3287 : IVec S5x256x256 1 := cmpi .sgt main_v10 main_v3286
  let main_c_516 : IVec S_ 32 := constantI S_ 32 172#32
  let main_v3288 : IVec S5x256x256 32 := broadcastInDim S5x256x256 ![] bcast_S_S5x256x256 main_c_516
  let main_v3289 : IVec S5x256x256 1 := cmpi .sgt main_v11 main_v3288
  let main_v3290 : IVec S5x256x256 1 := andi main_v3287 main_v3289
  let main_v3291 : FVec F S5x256x256 .f32 := broadcastInDim S5x256x256 ![0, 1, 2] bcast_S5x1x256_S5x256x256_0_1_2 main_v3280
  let main_v3292 : FVec F S5x256x256 .f32 := mulf main_v3285 main_v3291
  let main_v3293 : FVec F S5x256x256 .f32 := subf main_v3279 main_v3292
  let main_v3294 : FVec F S5x256x256 .f32 := select main_v3290 main_v3293 main_v3279
  let main_c_517 : IVec S_ 32 := constantI S_ 32 172#32
  let main_v3295 : IVec S5x256x256 32 := broadcastInDim S5x256x256 ![] bcast_S_S5x256x256 main_c_517
  let main_v3296 : IVec S5x256x256 1 := cmpi .eq main_v11 main_v3295
  fn_part159 (F := F) main_arg0 main_v3 main_v7 main_v8 main_v10 main_v11 main_v3285 main_v3287 main_v3294 main_v3296

def fn_part157 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3241 : FVec F S5x256x256 .f32) (main_v3247 : FVec F S5x256x256 .f32) (main_v3249 : IVec S5x256x256 1) (main_v3252 : IVec S5x256x256 1) (main_v3255 : FVec F S5x256x256 .f32) : IVec S9x256x256 1 × IVec S8x256x256 1 :=
  let main_v3256 : FVec F S5x256x256 .f32 := select main_v3252 main_v3255 main_v3241
  let main_c_511 : IVec S_ 32 := constantI S_ 32 170#32
  let main_v3257 : IVec S5x256x256 32 := broadcastInDim S5x256x256 ![] bcast_S_S5x256x256 main_c_511
  let main_v3258 : IVec S5x256x256 1 := cmpi .eq main_v11 main_v3257
  let main_v3259 : IVec S5x256x256 1 := andi main_v3249 main_v3258
  let main_v3260 : FVec F S5x256x256 .f32 := select main_v3259 main_v3247 main_v3256
  let main_v3261 : FVec F S5x1x256 .f32 := (extractStridedSlice S5x1x256 ![0, 171, 0] · slices_S5x256x256_S5x1x256_0_171_0) main_v3260
  let main_v3262 : FVec F S5x256x1 .f32 := (extractStridedSlice S5x256x1 ![0, 0, 171] · slices_S5x256x256_S5x256x1_0_0_171) main_v3260
  let main_v3263 : FVec F S5x1x1 .f32 := (extractStridedSlice S5x1x1 ![0, 0, 171] · slices_S5x1x256_S5x1x1_0_0_171) main_v3261
  let main_v3264 : FVec F S5x256x1 .f32 := broadcastInDim S5x256x1 ![0, 1, 2] bcast_S5x1x1_S5x256x1_0_1_2 main_v3263
  let main_v3265 : FVec F S5x256x1 .f32 := Host.divf main_v3262 main_v3264
  let main_v3266 : FVec F S5x256x256 .f32 := broadcastInDim S5x256x256 ![0, 1, 2] bcast_S5x256x1_S5x256x256_0_1_2 main_v3265
  let main_c_512 : IVec S_ 32 := constantI S_ 32 171#32
  let main_v3267 : IVec S5x256x256 32 := broadcastInDim S5x256x256 ![] bcast_S_S5x256x256 main_c_512
  let main_v3268 : IVec S5x256x256 1 := cmpi .sgt main_v10 main_v3267
  let main_c_513 : IVec S_ 32 := constantI S_ 32 171#32
  let main_v3269 : IVec S5x256x256 32 := broadcastInDim S5x256x256 ![] bcast_S_S5x256x256 main_c_513
  let main_v3270 : IVec S5x256x256 1 := cmpi .sgt main_v11 main_v3269
  let main_v3271 : IVec S5x256x256 1 := andi main_v3268 main_v3270
  let main_v3272 : FVec F S5x256x256 .f32 := broadcastInDim S5x256x256 ![0, 1, 2] bcast_S5x1x256_S5x256x256_0_1_2 main_v3261
  let main_v3273 : FVec F S5x256x256 .f32 := mulf main_v3266 main_v3272
  let main_v3274 : FVec F S5x256x256 .f32 := subf main_v3260 main_v3273
  let main_v3275 : FVec F S5x256x256 .f32 := select main_v3271 main_v3274 main_v3260
  let main_c_514 : IVec S_ 32 := constantI S_ 32 171#32
  fn_part158 (F := F) main_arg0 main_v3 main_v7 main_v8 main_v10 main_v11 main_v3266 main_v3268 main_v3275 main_c_514

def fn_part156 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3222 : FVec F S5x256x256 .f32) (main_v3228 : FVec F S5x256x256 .f32) (main_v3230 : IVec S5x256x256 1) (main_v3233 : IVec S5x256x256 1) (main_v3234 : FVec F S5x256x256 .f32) : IVec S9x256x256 1 × IVec S8x256x256 1 :=
  let main_v3235 : FVec F S5x256x256 .f32 := mulf main_v3228 main_v3234
  let main_v3236 : FVec F S5x256x256 .f32 := subf main_v3222 main_v3235
  let main_v3237 : FVec F S5x256x256 .f32 := select main_v3233 main_v3236 main_v3222
  let main_c_508 : IVec S_ 32 := constantI S_ 32 169#32
  let main_v3238 : IVec S5x256x256 32 := broadcastInDim S5x256x256 ![] bcast_S_S5x256x256 main_c_508
  let main_v3239 : IVec S5x256x256 1 := cmpi .eq main_v11 main_v3238
  let main_v3240 : IVec S5x256x256 1 := andi main_v3230 main_v3239
  let main_v3241 : FVec F S5x256x256 .f32 := select main_v3240 main_v3228 main_v3237
  let main_v3242 : FVec F S5x1x256 .f32 := (extractStridedSlice S5x1x256 ![0, 170, 0] · slices_S5x256x256_S5x1x256_0_170_0) main_v3241
  let main_v3243 : FVec F S5x256x1 .f32 := (extractStridedSlice S5x256x1 ![0, 0, 170] · slices_S5x256x256_S5x256x1_0_0_170) main_v3241
  let main_v3244 : FVec F S5x1x1 .f32 := (extractStridedSlice S5x1x1 ![0, 0, 170] · slices_S5x1x256_S5x1x1_0_0_170) main_v3242
  let main_v3245 : FVec F S5x256x1 .f32 := broadcastInDim S5x256x1 ![0, 1, 2] bcast_S5x1x1_S5x256x1_0_1_2 main_v3244
  let main_v3246 : FVec F S5x256x1 .f32 := Host.divf main_v3243 main_v3245
  let main_v3247 : FVec F S5x256x256 .f32 := broadcastInDim S5x256x256 ![0, 1, 2] bcast_S5x256x1_S5x256x256_0_1_2 main_v3246
  let main_c_509 : IVec S_ 32 := constantI S_ 32 170#32
  let main_v3248 : IVec S5x256x256 32 := broadcastInDim S5x256x256 ![] bcast_S_S5x256x256 main_c_509
  let main_v3249 : IVec S5x256x256 1 := cmpi .sgt main_v10 main_v3248
  let main_c_510 : IVec S_ 32 := constantI S_ 32 170#32
  let main_v3250 : IVec S5x256x256 32 := broadcastInDim S5x256x256 ![] bcast_S_S5x256x256 main_c_510
  let main_v3251 : IVec S5x256x256 1 := cmpi .sgt main_v11 main_v3250
  let main_v3252 : IVec S5x256x256 1 := andi main_v3249 main_v3251
  let main_v3253 : FVec F S5x256x256 .f32 := broadcastInDim S5x256x256 ![0, 1, 2] bcast_S5x1x256_S5x256x256_0_1_2 main_v3242
  let main_v3254 : FVec F S5x256x256 .f32 := mulf main_v3247 main_v3253
  let main_v3255 : FVec F S5x256x256 .f32 := subf main_v3241 main_v3254
  fn_part157 (F := F) main_arg0 main_v3 main_v7 main_v8 main_v10 main_v11 main_v3241 main_v3247 main_v3249 main_v3252 main_v3255

def fn_part155 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3203 : FVec F S5x256x256 .f32) (main_v3204 : FVec F S5x1x256 .f32) (main_v3209 : FVec F S5x256x256 .f32) (main_v3211 : IVec S5x256x256 1) (main_v3213 : IVec S5x256x256 1) : IVec S9x256x256 1 × IVec S8x256x256 1 :=
  let main_v3214 : IVec S5x256x256 1 := andi main_v3211 main_v3213
  let main_v3215 : FVec F S5x256x256 .f32 := broadcastInDim S5x256x256 ![0, 1, 2] bcast_S5x1x256_S5x256x256_0_1_2 main_v3204
  let main_v3216 : FVec F S5x256x256 .f32 := mulf main_v3209 main_v3215
  let main_v3217 : FVec F S5x256x256 .f32 := subf main_v3203 main_v3216
  let main_v3218 : FVec F S5x256x256 .f32 := select main_v3214 main_v3217 main_v3203
  let main_c_505 : IVec S_ 32 := constantI S_ 32 168#32
  let main_v3219 : IVec S5x256x256 32 := broadcastInDim S5x256x256 ![] bcast_S_S5x256x256 main_c_505
  let main_v3220 : IVec S5x256x256 1 := cmpi .eq main_v11 main_v3219
  let main_v3221 : IVec S5x256x256 1 := andi main_v3211 main_v3220
  let main_v3222 : FVec F S5x256x256 .f32 := select main_v3221 main_v3209 main_v3218
  let main_v3223 : FVec F S5x1x256 .f32 := (extractStridedSlice S5x1x256 ![0, 169, 0] · slices_S5x256x256_S5x1x256_0_169_0) main_v3222
  let main_v3224 : FVec F S5x256x1 .f32 := (extractStridedSlice S5x256x1 ![0, 0, 169] · slices_S5x256x256_S5x256x1_0_0_169) main_v3222
  let main_v3225 : FVec F S5x1x1 .f32 := (extractStridedSlice S5x1x1 ![0, 0, 169] · slices_S5x1x256_S5x1x1_0_0_169) main_v3223
  let main_v3226 : FVec F S5x256x1 .f32 := broadcastInDim S5x256x1 ![0, 1, 2] bcast_S5x1x1_S5x256x1_0_1_2 main_v3225
  let main_v3227 : FVec F S5x256x1 .f32 := Host.divf main_v3224 main_v3226
  let main_v3228 : FVec F S5x256x256 .f32 := broadcastInDim S5x256x256 ![0, 1, 2] bcast_S5x256x1_S5x256x256_0_1_2 main_v3227
  let main_c_506 : IVec S_ 32 := constantI S_ 32 169#32
  let main_v3229 : IVec S5x256x256 32 := broadcastInDim S5x256x256 ![] bcast_S_S5x256x256 main_c_506
  let main_v3230 : IVec S5x256x256 1 := cmpi .sgt main_v10 main_v3229
  let main_c_507 : IVec S_ 32 := constantI S_ 32 169#32
  let main_v3231 : IVec S5x256x256 32 := broadcastInDim S5x256x256 ![] bcast_S_S5x256x256 main_c_507
  let main_v3232 : IVec S5x256x256 1 := cmpi .sgt main_v11 main_v3231
  let main_v3233 : IVec S5x256x256 1 := andi main_v3230 main_v3232
  let main_v3234 : FVec F S5x256x256 .f32 := broadcastInDim S5x256x256 ![0, 1, 2] bcast_S5x1x256_S5x256x256_0_1_2 main_v3223
  fn_part156 (F := F) main_arg0 main_v3 main_v7 main_v8 main_v10 main_v11 main_v3222 main_v3228 main_v3230 main_v3233 main_v3234

def fn_part154 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3184 : FVec F S5x256x256 .f32) (main_v3185 : FVec F S5x1x256 .f32) (main_v3190 : FVec F S5x256x256 .f32) (main_v3192 : IVec S5x256x256 1) (main_c_501 : IVec S_ 32) : IVec S9x256x256 1 × IVec S8x256x256 1 :=
  let main_v3193 : IVec S5x256x256 32 := broadcastInDim S5x256x256 ![] bcast_S_S5x256x256 main_c_501
  let main_v3194 : IVec S5x256x256 1 := cmpi .sgt main_v11 main_v3193
  let main_v3195 : IVec S5x256x256 1 := andi main_v3192 main_v3194
  let main_v3196 : FVec F S5x256x256 .f32 := broadcastInDim S5x256x256 ![0, 1, 2] bcast_S5x1x256_S5x256x256_0_1_2 main_v3185
  let main_v3197 : FVec F S5x256x256 .f32 := mulf main_v3190 main_v3196
  let main_v3198 : FVec F S5x256x256 .f32 := subf main_v3184 main_v3197
  let main_v3199 : FVec F S5x256x256 .f32 := select main_v3195 main_v3198 main_v3184
  let main_c_502 : IVec S_ 32 := constantI S_ 32 167#32
  let main_v3200 : IVec S5x256x256 32 := broadcastInDim S5x256x256 ![] bcast_S_S5x256x256 main_c_502
  let main_v3201 : IVec S5x256x256 1 := cmpi .eq main_v11 main_v3200
  let main_v3202 : IVec S5x256x256 1 := andi main_v3192 main_v3201
  let main_v3203 : FVec F S5x256x256 .f32 := select main_v3202 main_v3190 main_v3199
  let main_v3204 : FVec F S5x1x256 .f32 := (extractStridedSlice S5x1x256 ![0, 168, 0] · slices_S5x256x256_S5x1x256_0_168_0) main_v3203
  let main_v3205 : FVec F S5x256x1 .f32 := (extractStridedSlice S5x256x1 ![0, 0, 168] · slices_S5x256x256_S5x256x1_0_0_168) main_v3203
  let main_v3206 : FVec F S5x1x1 .f32 := (extractStridedSlice S5x1x1 ![0, 0, 168] · slices_S5x1x256_S5x1x1_0_0_168) main_v3204
  let main_v3207 : FVec F S5x256x1 .f32 := broadcastInDim S5x256x1 ![0, 1, 2] bcast_S5x1x1_S5x256x1_0_1_2 main_v3206
  let main_v3208 : FVec F S5x256x1 .f32 := Host.divf main_v3205 main_v3207
  let main_v3209 : FVec F S5x256x256 .f32 := broadcastInDim S5x256x256 ![0, 1, 2] bcast_S5x256x1_S5x256x256_0_1_2 main_v3208
  let main_c_503 : IVec S_ 32 := constantI S_ 32 168#32
  let main_v3210 : IVec S5x256x256 32 := broadcastInDim S5x256x256 ![] bcast_S_S5x256x256 main_c_503
  let main_v3211 : IVec S5x256x256 1 := cmpi .sgt main_v10 main_v3210
  let main_c_504 : IVec S_ 32 := constantI S_ 32 168#32
  let main_v3212 : IVec S5x256x256 32 := broadcastInDim S5x256x256 ![] bcast_S_S5x256x256 main_c_504
  let main_v3213 : IVec S5x256x256 1 := cmpi .sgt main_v11 main_v3212
  fn_part155 (F := F) main_arg0 main_v3 main_v7 main_v8 main_v10 main_v11 main_v3203 main_v3204 main_v3209 main_v3211 main_v3213

def fn_part153 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3165 : FVec F S5x256x256 .f32) (main_v3166 : FVec F S5x1x256 .f32) (main_v3171 : FVec F S5x256x256 .f32) (main_v3172 : IVec S5x256x256 32) : IVec S9x256x256 1 × IVec S8x256x256 1 :=
  let main_v3173 : IVec S5x256x256 1 := cmpi .sgt main_v10 main_v3172
  let main_c_498 : IVec S_ 32 := constantI S_ 32 166#32
  let main_v3174 : IVec S5x256x256 32 := broadcastInDim S5x256x256 ![] bcast_S_S5x256x256 main_c_498
  let main_v3175 : IVec S5x256x256 1 := cmpi .sgt main_v11 main_v3174
  let main_v3176 : IVec S5x256x256 1 := andi main_v3173 main_v3175
  let main_v3177 : FVec F S5x256x256 .f32 := broadcastInDim S5x256x256 ![0, 1, 2] bcast_S5x1x256_S5x256x256_0_1_2 main_v3166
  let main_v3178 : FVec F S5x256x256 .f32 := mulf main_v3171 main_v3177
  let main_v3179 : FVec F S5x256x256 .f32 := subf main_v3165 main_v3178
  let main_v3180 : FVec F S5x256x256 .f32 := select main_v3176 main_v3179 main_v3165
  let main_c_499 : IVec S_ 32 := constantI S_ 32 166#32
  let main_v3181 : IVec S5x256x256 32 := broadcastInDim S5x256x256 ![] bcast_S_S5x256x256 main_c_499
  let main_v3182 : IVec S5x256x256 1 := cmpi .eq main_v11 main_v3181
  let main_v3183 : IVec S5x256x256 1 := andi main_v3173 main_v3182
  let main_v3184 : FVec F S5x256x256 .f32 := select main_v3183 main_v3171 main_v3180
  let main_v3185 : FVec F S5x1x256 .f32 := (extractStridedSlice S5x1x256 ![0, 167, 0] · slices_S5x256x256_S5x1x256_0_167_0) main_v3184
  let main_v3186 : FVec F S5x256x1 .f32 := (extractStridedSlice S5x256x1 ![0, 0, 167] · slices_S5x256x256_S5x256x1_0_0_167) main_v3184
  let main_v3187 : FVec F S5x1x1 .f32 := (extractStridedSlice S5x1x1 ![0, 0, 167] · slices_S5x1x256_S5x1x1_0_0_167) main_v3185
  let main_v3188 : FVec F S5x256x1 .f32 := broadcastInDim S5x256x1 ![0, 1, 2] bcast_S5x1x1_S5x256x1_0_1_2 main_v3187
  let main_v3189 : FVec F S5x256x1 .f32 := Host.divf main_v3186 main_v3188
  let main_v3190 : FVec F S5x256x256 .f32 := broadcastInDim S5x256x256 ![0, 1, 2] bcast_S5x256x1_S5x256x256_0_1_2 main_v3189
  let main_c_500 : IVec S_ 32 := constantI S_ 32 167#32
  let main_v3191 : IVec S5x256x256 32 := broadcastInDim S5x256x256 ![] bcast_S_S5x256x256 main_c_500
  let main_v3192 : IVec S5x256x256 1 := cmpi .sgt main_v10 main_v3191
  let main_c_501 : IVec S_ 32 := constantI S_ 32 167#32
  fn_part154 (F := F) main_arg0 main_v3 main_v7 main_v8 main_v10 main_v11 main_v3184 main_v3185 main_v3190 main_v3192 main_c_501

def fn_part152 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3146 : FVec F S5x256x256 .f32) (main_v3147 : FVec F S5x1x256 .f32) (main_v3152 : FVec F S5x256x256 .f32) : IVec S9x256x256 1 × IVec S8x256x256 1 :=
  let main_c_494 : IVec S_ 32 := constantI S_ 32 165#32
  let main_v3153 : IVec S5x256x256 32 := broadcastInDim S5x256x256 ![] bcast_S_S5x256x256 main_c_494
  let main_v3154 : IVec S5x256x256 1 := cmpi .sgt main_v10 main_v3153
  let main_c_495 : IVec S_ 32 := constantI S_ 32 165#32
  let main_v3155 : IVec S5x256x256 32 := broadcastInDim S5x256x256 ![] bcast_S_S5x256x256 main_c_495
  let main_v3156 : IVec S5x256x256 1 := cmpi .sgt main_v11 main_v3155
  let main_v3157 : IVec S5x256x256 1 := andi main_v3154 main_v3156
  let main_v3158 : FVec F S5x256x256 .f32 := broadcastInDim S5x256x256 ![0, 1, 2] bcast_S5x1x256_S5x256x256_0_1_2 main_v3147
  let main_v3159 : FVec F S5x256x256 .f32 := mulf main_v3152 main_v3158
  let main_v3160 : FVec F S5x256x256 .f32 := subf main_v3146 main_v3159
  let main_v3161 : FVec F S5x256x256 .f32 := select main_v3157 main_v3160 main_v3146
  let main_c_496 : IVec S_ 32 := constantI S_ 32 165#32
  let main_v3162 : IVec S5x256x256 32 := broadcastInDim S5x256x256 ![] bcast_S_S5x256x256 main_c_496
  let main_v3163 : IVec S5x256x256 1 := cmpi .eq main_v11 main_v3162
  let main_v3164 : IVec S5x256x256 1 := andi main_v3154 main_v3163
  let main_v3165 : FVec F S5x256x256 .f32 := select main_v3164 main_v3152 main_v3161
  let main_v3166 : FVec F S5x1x256 .f32 := (extractStridedSlice S5x1x256 ![0, 166, 0] · slices_S5x256x256_S5x1x256_0_166_0) main_v3165
  let main_v3167 : FVec F S5x256x1 .f32 := (extractStridedSlice S5x256x1 ![0, 0, 166] · slices_S5x256x256_S5x256x1_0_0_166) main_v3165
  let main_v3168 : FVec F S5x1x1 .f32 := (extractStridedSlice S5x1x1 ![0, 0, 166] · slices_S5x1x256_S5x1x1_0_0_166) main_v3166
  let main_v3169 : FVec F S5x256x1 .f32 := broadcastInDim S5x256x1 ![0, 1, 2] bcast_S5x1x1_S5x256x1_0_1_2 main_v3168
  let main_v3170 : FVec F S5x256x1 .f32 := Host.divf main_v3167 main_v3169
  let main_v3171 : FVec F S5x256x256 .f32 := broadcastInDim S5x256x256 ![0, 1, 2] bcast_S5x256x1_S5x256x256_0_1_2 main_v3170
  let main_c_497 : IVec S_ 32 := constantI S_ 32 166#32
  let main_v3172 : IVec S5x256x256 32 := broadcastInDim S5x256x256 ![] bcast_S_S5x256x256 main_c_497
  fn_part153 (F := F) main_arg0 main_v3 main_v7 main_v8 main_v10 main_v11 main_v3165 main_v3166 main_v3171 main_v3172

def fn_part151 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3127 : FVec F S5x256x256 .f32) (main_v3128 : FVec F S5x1x256 .f32) (main_v3129 : FVec F S5x256x1 .f32) (main_v3131 : FVec F S5x256x1 .f32) : IVec S9x256x256 1 × IVec S8x256x256 1 :=
  let main_v3132 : FVec F S5x256x1 .f32 := Host.divf main_v3129 main_v3131
  let main_v3133 : FVec F S5x256x256 .f32 := broadcastInDim S5x256x256 ![0, 1, 2] bcast_S5x256x1_S5x256x256_0_1_2 main_v3132
  let main_c_491 : IVec S_ 32 := constantI S_ 32 164#32
  let main_v3134 : IVec S5x256x256 32 := broadcastInDim S5x256x256 ![] bcast_S_S5x256x256 main_c_491
  let main_v3135 : IVec S5x256x256 1 := cmpi .sgt main_v10 main_v3134
  let main_c_492 : IVec S_ 32 := constantI S_ 32 164#32
  let main_v3136 : IVec S5x256x256 32 := broadcastInDim S5x256x256 ![] bcast_S_S5x256x256 main_c_492
  let main_v3137 : IVec S5x256x256 1 := cmpi .sgt main_v11 main_v3136
  let main_v3138 : IVec S5x256x256 1 := andi main_v3135 main_v3137
  let main_v3139 : FVec F S5x256x256 .f32 := broadcastInDim S5x256x256 ![0, 1, 2] bcast_S5x1x256_S5x256x256_0_1_2 main_v3128
  let main_v3140 : FVec F S5x256x256 .f32 := mulf main_v3133 main_v3139
  let main_v3141 : FVec F S5x256x256 .f32 := subf main_v3127 main_v3140
  let main_v3142 : FVec F S5x256x256 .f32 := select main_v3138 main_v3141 main_v3127
  let main_c_493 : IVec S_ 32 := constantI S_ 32 164#32
  let main_v3143 : IVec S5x256x256 32 := broadcastInDim S5x256x256 ![] bcast_S_S5x256x256 main_c_493
  let main_v3144 : IVec S5x256x256 1 := cmpi .eq main_v11 main_v3143
  let main_v3145 : IVec S5x256x256 1 := andi main_v3135 main_v3144
  let main_v3146 : FVec F S5x256x256 .f32 := select main_v3145 main_v3133 main_v3142
  let main_v3147 : FVec F S5x1x256 .f32 := (extractStridedSlice S5x1x256 ![0, 165, 0] · slices_S5x256x256_S5x1x256_0_165_0) main_v3146
  let main_v3148 : FVec F S5x256x1 .f32 := (extractStridedSlice S5x256x1 ![0, 0, 165] · slices_S5x256x256_S5x256x1_0_0_165) main_v3146
  let main_v3149 : FVec F S5x1x1 .f32 := (extractStridedSlice S5x1x1 ![0, 0, 165] · slices_S5x1x256_S5x1x1_0_0_165) main_v3147
  let main_v3150 : FVec F S5x256x1 .f32 := broadcastInDim S5x256x1 ![0, 1, 2] bcast_S5x1x1_S5x256x1_0_1_2 main_v3149
  let main_v3151 : FVec F S5x256x1 .f32 := Host.divf main_v3148 main_v3150
  let main_v3152 : FVec F S5x256x256 .f32 := broadcastInDim S5x256x256 ![0, 1, 2] bcast_S5x256x1_S5x256x256_0_1_2 main_v3151
  fn_part152 (F := F) main_arg0 main_v3 main_v7 main_v8 main_v10 main_v11 main_v3146 main_v3147 main_v3152

def fn_part150 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3108 : FVec F S5x256x256 .f32) (main_v3109 : FVec F S5x1x256 .f32) (main_v3110 : FVec F S5x256x1 .f32) : IVec S9x256x256 1 × IVec S8x256x256 1 :=
  let main_v3111 : FVec F S5x1x1 .f32 := (extractStridedSlice S5x1x1 ![0, 0, 163] · slices_S5x1x256_S5x1x1_0_0_163) main_v3109
  let main_v3112 : FVec F S5x256x1 .f32 := broadcastInDim S5x256x1 ![0, 1, 2] bcast_S5x1x1_S5x256x1_0_1_2 main_v3111
  let main_v3113 : FVec F S5x256x1 .f32 := Host.divf main_v3110 main_v3112
  let main_v3114 : FVec F S5x256x256 .f32 := broadcastInDim S5x256x256 ![0, 1, 2] bcast_S5x256x1_S5x256x256_0_1_2 main_v3113
  let main_c_488 : IVec S_ 32 := constantI S_ 32 163#32
  let main_v3115 : IVec S5x256x256 32 := broadcastInDim S5x256x256 ![] bcast_S_S5x256x256 main_c_488
  let main_v3116 : IVec S5x256x256 1 := cmpi .sgt main_v10 main_v3115
  let main_c_489 : IVec S_ 32 := constantI S_ 32 163#32
  let main_v3117 : IVec S5x256x256 32 := broadcastInDim S5x256x256 ![] bcast_S_S5x256x256 main_c_489
  let main_v3118 : IVec S5x256x256 1 := cmpi .sgt main_v11 main_v3117
  let main_v3119 : IVec S5x256x256 1 := andi main_v3116 main_v3118
  let main_v3120 : FVec F S5x256x256 .f32 := broadcastInDim S5x256x256 ![0, 1, 2] bcast_S5x1x256_S5x256x256_0_1_2 main_v3109
  let main_v3121 : FVec F S5x256x256 .f32 := mulf main_v3114 main_v3120
  let main_v3122 : FVec F S5x256x256 .f32 := subf main_v3108 main_v3121
  let main_v3123 : FVec F S5x256x256 .f32 := select main_v3119 main_v3122 main_v3108
  let main_c_490 : IVec S_ 32 := constantI S_ 32 163#32
  let main_v3124 : IVec S5x256x256 32 := broadcastInDim S5x256x256 ![] bcast_S_S5x256x256 main_c_490
  let main_v3125 : IVec S5x256x256 1 := cmpi .eq main_v11 main_v3124
  let main_v3126 : IVec S5x256x256 1 := andi main_v3116 main_v3125
  let main_v3127 : FVec F S5x256x256 .f32 := select main_v3126 main_v3114 main_v3123
  let main_v3128 : FVec F S5x1x256 .f32 := (extractStridedSlice S5x1x256 ![0, 164, 0] · slices_S5x256x256_S5x1x256_0_164_0) main_v3127
  let main_v3129 : FVec F S5x256x1 .f32 := (extractStridedSlice S5x256x1 ![0, 0, 164] · slices_S5x256x256_S5x256x1_0_0_164) main_v3127
  let main_v3130 : FVec F S5x1x1 .f32 := (extractStridedSlice S5x1x1 ![0, 0, 164] · slices_S5x1x256_S5x1x1_0_0_164) main_v3128
  let main_v3131 : FVec F S5x256x1 .f32 := broadcastInDim S5x256x1 ![0, 1, 2] bcast_S5x1x1_S5x256x1_0_1_2 main_v3130
  fn_part151 (F := F) main_arg0 main_v3 main_v7 main_v8 main_v10 main_v11 main_v3127 main_v3128 main_v3129 main_v3131

def fn_part149 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3089 : FVec F S5x256x256 .f32) : IVec S9x256x256 1 × IVec S8x256x256 1 :=
  let main_v3090 : FVec F S5x1x256 .f32 := (extractStridedSlice S5x1x256 ![0, 162, 0] · slices_S5x256x256_S5x1x256_0_162_0) main_v3089
  let main_v3091 : FVec F S5x256x1 .f32 := (extractStridedSlice S5x256x1 ![0, 0, 162] · slices_S5x256x256_S5x256x1_0_0_162) main_v3089
  let main_v3092 : FVec F S5x1x1 .f32 := (extractStridedSlice S5x1x1 ![0, 0, 162] · slices_S5x1x256_S5x1x1_0_0_162) main_v3090
  let main_v3093 : FVec F S5x256x1 .f32 := broadcastInDim S5x256x1 ![0, 1, 2] bcast_S5x1x1_S5x256x1_0_1_2 main_v3092
  let main_v3094 : FVec F S5x256x1 .f32 := Host.divf main_v3091 main_v3093
  let main_v3095 : FVec F S5x256x256 .f32 := broadcastInDim S5x256x256 ![0, 1, 2] bcast_S5x256x1_S5x256x256_0_1_2 main_v3094
  let main_c_485 : IVec S_ 32 := constantI S_ 32 162#32
  let main_v3096 : IVec S5x256x256 32 := broadcastInDim S5x256x256 ![] bcast_S_S5x256x256 main_c_485
  let main_v3097 : IVec S5x256x256 1 := cmpi .sgt main_v10 main_v3096
  let main_c_486 : IVec S_ 32 := constantI S_ 32 162#32
  let main_v3098 : IVec S5x256x256 32 := broadcastInDim S5x256x256 ![] bcast_S_S5x256x256 main_c_486
  let main_v3099 : IVec S5x256x256 1 := cmpi .sgt main_v11 main_v3098
  let main_v3100 : IVec S5x256x256 1 := andi main_v3097 main_v3099
  let main_v3101 : FVec F S5x256x256 .f32 := broadcastInDim S5x256x256 ![0, 1, 2] bcast_S5x1x256_S5x256x256_0_1_2 main_v3090
  let main_v3102 : FVec F S5x256x256 .f32 := mulf main_v3095 main_v3101
  let main_v3103 : FVec F S5x256x256 .f32 := subf main_v3089 main_v3102
  let main_v3104 : FVec F S5x256x256 .f32 := select main_v3100 main_v3103 main_v3089
  let main_c_487 : IVec S_ 32 := constantI S_ 32 162#32
  let main_v3105 : IVec S5x256x256 32 := broadcastInDim S5x256x256 ![] bcast_S_S5x256x256 main_c_487
  let main_v3106 : IVec S5x256x256 1 := cmpi .eq main_v11 main_v3105
  let main_v3107 : IVec S5x256x256 1 := andi main_v3097 main_v3106
  let main_v3108 : FVec F S5x256x256 .f32 := select main_v3107 main_v3095 main_v3104
  let main_v3109 : FVec F S5x1x256 .f32 := (extractStridedSlice S5x1x256 ![0, 163, 0] · slices_S5x256x256_S5x1x256_0_163_0) main_v3108
  let main_v3110 : FVec F S5x256x1 .f32 := (extractStridedSlice S5x256x1 ![0, 0, 163] · slices_S5x256x256_S5x256x1_0_0_163) main_v3108
  fn_part150 (F := F) main_arg0 main_v3 main_v7 main_v8 main_v10 main_v11 main_v3108 main_v3109 main_v3110

def fn_part148 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3057 : FVec F S5x256x256 .f32) (main_v3059 : IVec S5x256x256 1) (main_v3066 : FVec F S5x256x256 .f32) (main_v3068 : IVec S5x256x256 1) : IVec S9x256x256 1 × IVec S8x256x256 1 :=
  let main_v3069 : IVec S5x256x256 1 := andi main_v3059 main_v3068
  let main_v3070 : FVec F S5x256x256 .f32 := select main_v3069 main_v3057 main_v3066
  let main_v3071 : FVec F S5x1x256 .f32 := (extractStridedSlice S5x1x256 ![0, 161, 0] · slices_S5x256x256_S5x1x256_0_161_0) main_v3070
  let main_v3072 : FVec F S5x256x1 .f32 := (extractStridedSlice S5x256x1 ![0, 0, 161] · slices_S5x256x256_S5x256x1_0_0_161) main_v3070
  let main_v3073 : FVec F S5x1x1 .f32 := (extractStridedSlice S5x1x1 ![0, 0, 161] · slices_S5x1x256_S5x1x1_0_0_161) main_v3071
  let main_v3074 : FVec F S5x256x1 .f32 := broadcastInDim S5x256x1 ![0, 1, 2] bcast_S5x1x1_S5x256x1_0_1_2 main_v3073
  let main_v3075 : FVec F S5x256x1 .f32 := Host.divf main_v3072 main_v3074
  let main_v3076 : FVec F S5x256x256 .f32 := broadcastInDim S5x256x256 ![0, 1, 2] bcast_S5x256x1_S5x256x256_0_1_2 main_v3075
  let main_c_482 : IVec S_ 32 := constantI S_ 32 161#32
  let main_v3077 : IVec S5x256x256 32 := broadcastInDim S5x256x256 ![] bcast_S_S5x256x256 main_c_482
  let main_v3078 : IVec S5x256x256 1 := cmpi .sgt main_v10 main_v3077
  let main_c_483 : IVec S_ 32 := constantI S_ 32 161#32
  let main_v3079 : IVec S5x256x256 32 := broadcastInDim S5x256x256 ![] bcast_S_S5x256x256 main_c_483
  let main_v3080 : IVec S5x256x256 1 := cmpi .sgt main_v11 main_v3079
  let main_v3081 : IVec S5x256x256 1 := andi main_v3078 main_v3080
  let main_v3082 : FVec F S5x256x256 .f32 := broadcastInDim S5x256x256 ![0, 1, 2] bcast_S5x1x256_S5x256x256_0_1_2 main_v3071
  let main_v3083 : FVec F S5x256x256 .f32 := mulf main_v3076 main_v3082
  let main_v3084 : FVec F S5x256x256 .f32 := subf main_v3070 main_v3083
  let main_v3085 : FVec F S5x256x256 .f32 := select main_v3081 main_v3084 main_v3070
  let main_c_484 : IVec S_ 32 := constantI S_ 32 161#32
  let main_v3086 : IVec S5x256x256 32 := broadcastInDim S5x256x256 ![] bcast_S_S5x256x256 main_c_484
  let main_v3087 : IVec S5x256x256 1 := cmpi .eq main_v11 main_v3086
  let main_v3088 : IVec S5x256x256 1 := andi main_v3078 main_v3087
  let main_v3089 : FVec F S5x256x256 .f32 := select main_v3088 main_v3076 main_v3085
  fn_part149 (F := F) main_arg0 main_v3 main_v7 main_v8 main_v10 main_v11 main_v3089

def fn_part147 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3038 : FVec F S5x256x256 .f32) (main_v3040 : IVec S5x256x256 1) (main_v3047 : FVec F S5x256x256 .f32) (main_c_478 : IVec S_ 32) : IVec S9x256x256 1 × IVec S8x256x256 1 :=
  let main_v3048 : IVec S5x256x256 32 := broadcastInDim S5x256x256 ![] bcast_S_S5x256x256 main_c_478
  let main_v3049 : IVec S5x256x256 1 := cmpi .eq main_v11 main_v3048
  let main_v3050 : IVec S5x256x256 1 := andi main_v3040 main_v3049
  let main_v3051 : FVec F S5x256x256 .f32 := select main_v3050 main_v3038 main_v3047
  let main_v3052 : FVec F S5x1x256 .f32 := (extractStridedSlice S5x1x256 ![0, 160, 0] · slices_S5x256x256_S5x1x256_0_160_0) main_v3051
  let main_v3053 : FVec F S5x256x1 .f32 := (extractStridedSlice S5x256x1 ![0, 0, 160] · slices_S5x256x256_S5x256x1_0_0_160) main_v3051
  let main_v3054 : FVec F S5x1x1 .f32 := (extractStridedSlice S5x1x1 ![0, 0, 160] · slices_S5x1x256_S5x1x1_0_0_160) main_v3052
  let main_v3055 : FVec F S5x256x1 .f32 := broadcastInDim S5x256x1 ![0, 1, 2] bcast_S5x1x1_S5x256x1_0_1_2 main_v3054
  let main_v3056 : FVec F S5x256x1 .f32 := Host.divf main_v3053 main_v3055
  let main_v3057 : FVec F S5x256x256 .f32 := broadcastInDim S5x256x256 ![0, 1, 2] bcast_S5x256x1_S5x256x256_0_1_2 main_v3056
  let main_c_479 : IVec S_ 32 := constantI S_ 32 160#32
  let main_v3058 : IVec S5x256x256 32 := broadcastInDim S5x256x256 ![] bcast_S_S5x256x256 main_c_479
  let main_v3059 : IVec S5x256x256 1 := cmpi .sgt main_v10 main_v3058
  let main_c_480 : IVec S_ 32 := constantI S_ 32 160#32
  let main_v3060 : IVec S5x256x256 32 := broadcastInDim S5x256x256 ![] bcast_S_S5x256x256 main_c_480
  let main_v3061 : IVec S5x256x256 1 := cmpi .sgt main_v11 main_v3060
  let main_v3062 : IVec S5x256x256 1 := andi main_v3059 main_v3061
  let main_v3063 : FVec F S5x256x256 .f32 := broadcastInDim S5x256x256 ![0, 1, 2] bcast_S5x1x256_S5x256x256_0_1_2 main_v3052
  let main_v3064 : FVec F S5x256x256 .f32 := mulf main_v3057 main_v3063
  let main_v3065 : FVec F S5x256x256 .f32 := subf main_v3051 main_v3064
  let main_v3066 : FVec F S5x256x256 .f32 := select main_v3062 main_v3065 main_v3051
  let main_c_481 : IVec S_ 32 := constantI S_ 32 160#32
  let main_v3067 : IVec S5x256x256 32 := broadcastInDim S5x256x256 ![] bcast_S_S5x256x256 main_c_481
  let main_v3068 : IVec S5x256x256 1 := cmpi .eq main_v11 main_v3067
  fn_part148 (F := F) main_arg0 main_v3 main_v7 main_v8 main_v10 main_v11 main_v3057 main_v3059 main_v3066 main_v3068

def fn_part146 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v3013 : FVec F S5x256x256 .f32) (main_v3019 : FVec F S5x256x256 .f32) (main_v3021 : IVec S5x256x256 1) (main_v3024 : IVec S5x256x256 1) (main_v3027 : FVec F S5x256x256 .f32) : IVec S9x256x256 1 × IVec S8x256x256 1 :=
  let main_v3028 : FVec F S5x256x256 .f32 := select main_v3024 main_v3027 main_v3013
  let main_c_475 : IVec S_ 32 := constantI S_ 32 158#32
  let main_v3029 : IVec S5x256x256 32 := broadcastInDim S5x256x256 ![] bcast_S_S5x256x256 main_c_475
  let main_v3030 : IVec S5x256x256 1 := cmpi .eq main_v11 main_v3029
  let main_v3031 : IVec S5x256x256 1 := andi main_v3021 main_v3030
  let main_v3032 : FVec F S5x256x256 .f32 := select main_v3031 main_v3019 main_v3028
  let main_v3033 : FVec F S5x1x256 .f32 := (extractStridedSlice S5x1x256 ![0, 159, 0] · slices_S5x256x256_S5x1x256_0_159_0) main_v3032
  let main_v3034 : FVec F S5x256x1 .f32 := (extractStridedSlice S5x256x1 ![0, 0, 159] · slices_S5x256x256_S5x256x1_0_0_159) main_v3032
  let main_v3035 : FVec F S5x1x1 .f32 := (extractStridedSlice S5x1x1 ![0, 0, 159] · slices_S5x1x256_S5x1x1_0_0_159) main_v3033
  let main_v3036 : FVec F S5x256x1 .f32 := broadcastInDim S5x256x1 ![0, 1, 2] bcast_S5x1x1_S5x256x1_0_1_2 main_v3035
  let main_v3037 : FVec F S5x256x1 .f32 := Host.divf main_v3034 main_v3036
  let main_v3038 : FVec F S5x256x256 .f32 := broadcastInDim S5x256x256 ![0, 1, 2] bcast_S5x256x1_S5x256x256_0_1_2 main_v3037
  let main_c_476 : IVec S_ 32 := constantI S_ 32 159#32
  let main_v3039 : IVec S5x256x256 32 := broadcastInDim S5x256x256 ![] bcast_S_S5x256x256 main_c_476
  let main_v3040 : IVec S5x256x256 1 := cmpi .sgt main_v10 main_v3039
  let main_c_477 : IVec S_ 32 := constantI S_ 32 159#32
  let main_v3041 : IVec S5x256x256 32 := broadcastInDim S5x256x256 ![] bcast_S_S5x256x256 main_c_477
  let main_v3042 : IVec S5x256x256 1 := cmpi .sgt main_v11 main_v3041
  let main_v3043 : IVec S5x256x256 1 := andi main_v3040 main_v3042
  let main_v3044 : FVec F S5x256x256 .f32 := broadcastInDim S5x256x256 ![0, 1, 2] bcast_S5x1x256_S5x256x256_0_1_2 main_v3033
  let main_v3045 : FVec F S5x256x256 .f32 := mulf main_v3038 main_v3044
  let main_v3046 : FVec F S5x256x256 .f32 := subf main_v3032 main_v3045
  let main_v3047 : FVec F S5x256x256 .f32 := select main_v3043 main_v3046 main_v3032
  let main_c_478 : IVec S_ 32 := constantI S_ 32 159#32
  fn_part147 (F := F) main_arg0 main_v3 main_v7 main_v8 main_v10 main_v11 main_v3038 main_v3040 main_v3047 main_c_478

def fn_part145 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2994 : FVec F S5x256x256 .f32) (main_v3000 : FVec F S5x256x256 .f32) (main_v3002 : IVec S5x256x256 1) (main_v3005 : IVec S5x256x256 1) (main_v3006 : FVec F S5x256x256 .f32) : IVec S9x256x256 1 × IVec S8x256x256 1 :=
  let main_v3007 : FVec F S5x256x256 .f32 := mulf main_v3000 main_v3006
  let main_v3008 : FVec F S5x256x256 .f32 := subf main_v2994 main_v3007
  let main_v3009 : FVec F S5x256x256 .f32 := select main_v3005 main_v3008 main_v2994
  let main_c_472 : IVec S_ 32 := constantI S_ 32 157#32
  let main_v3010 : IVec S5x256x256 32 := broadcastInDim S5x256x256 ![] bcast_S_S5x256x256 main_c_472
  let main_v3011 : IVec S5x256x256 1 := cmpi .eq main_v11 main_v3010
  let main_v3012 : IVec S5x256x256 1 := andi main_v3002 main_v3011
  let main_v3013 : FVec F S5x256x256 .f32 := select main_v3012 main_v3000 main_v3009
  let main_v3014 : FVec F S5x1x256 .f32 := (extractStridedSlice S5x1x256 ![0, 158, 0] · slices_S5x256x256_S5x1x256_0_158_0) main_v3013
  let main_v3015 : FVec F S5x256x1 .f32 := (extractStridedSlice S5x256x1 ![0, 0, 158] · slices_S5x256x256_S5x256x1_0_0_158) main_v3013
  let main_v3016 : FVec F S5x1x1 .f32 := (extractStridedSlice S5x1x1 ![0, 0, 158] · slices_S5x1x256_S5x1x1_0_0_158) main_v3014
  let main_v3017 : FVec F S5x256x1 .f32 := broadcastInDim S5x256x1 ![0, 1, 2] bcast_S5x1x1_S5x256x1_0_1_2 main_v3016
  let main_v3018 : FVec F S5x256x1 .f32 := Host.divf main_v3015 main_v3017
  let main_v3019 : FVec F S5x256x256 .f32 := broadcastInDim S5x256x256 ![0, 1, 2] bcast_S5x256x1_S5x256x256_0_1_2 main_v3018
  let main_c_473 : IVec S_ 32 := constantI S_ 32 158#32
  let main_v3020 : IVec S5x256x256 32 := broadcastInDim S5x256x256 ![] bcast_S_S5x256x256 main_c_473
  let main_v3021 : IVec S5x256x256 1 := cmpi .sgt main_v10 main_v3020
  let main_c_474 : IVec S_ 32 := constantI S_ 32 158#32
  let main_v3022 : IVec S5x256x256 32 := broadcastInDim S5x256x256 ![] bcast_S_S5x256x256 main_c_474
  let main_v3023 : IVec S5x256x256 1 := cmpi .sgt main_v11 main_v3022
  let main_v3024 : IVec S5x256x256 1 := andi main_v3021 main_v3023
  let main_v3025 : FVec F S5x256x256 .f32 := broadcastInDim S5x256x256 ![0, 1, 2] bcast_S5x1x256_S5x256x256_0_1_2 main_v3014
  let main_v3026 : FVec F S5x256x256 .f32 := mulf main_v3019 main_v3025
  let main_v3027 : FVec F S5x256x256 .f32 := subf main_v3013 main_v3026
  fn_part146 (F := F) main_arg0 main_v3 main_v7 main_v8 main_v10 main_v11 main_v3013 main_v3019 main_v3021 main_v3024 main_v3027

def fn_part144 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2975 : FVec F S5x256x256 .f32) (main_v2976 : FVec F S5x1x256 .f32) (main_v2981 : FVec F S5x256x256 .f32) (main_v2983 : IVec S5x256x256 1) (main_v2985 : IVec S5x256x256 1) : IVec S9x256x256 1 × IVec S8x256x256 1 :=
  let main_v2986 : IVec S5x256x256 1 := andi main_v2983 main_v2985
  let main_v2987 : FVec F S5x256x256 .f32 := broadcastInDim S5x256x256 ![0, 1, 2] bcast_S5x1x256_S5x256x256_0_1_2 main_v2976
  let main_v2988 : FVec F S5x256x256 .f32 := mulf main_v2981 main_v2987
  let main_v2989 : FVec F S5x256x256 .f32 := subf main_v2975 main_v2988
  let main_v2990 : FVec F S5x256x256 .f32 := select main_v2986 main_v2989 main_v2975
  let main_c_469 : IVec S_ 32 := constantI S_ 32 156#32
  let main_v2991 : IVec S5x256x256 32 := broadcastInDim S5x256x256 ![] bcast_S_S5x256x256 main_c_469
  let main_v2992 : IVec S5x256x256 1 := cmpi .eq main_v11 main_v2991
  let main_v2993 : IVec S5x256x256 1 := andi main_v2983 main_v2992
  let main_v2994 : FVec F S5x256x256 .f32 := select main_v2993 main_v2981 main_v2990
  let main_v2995 : FVec F S5x1x256 .f32 := (extractStridedSlice S5x1x256 ![0, 157, 0] · slices_S5x256x256_S5x1x256_0_157_0) main_v2994
  let main_v2996 : FVec F S5x256x1 .f32 := (extractStridedSlice S5x256x1 ![0, 0, 157] · slices_S5x256x256_S5x256x1_0_0_157) main_v2994
  let main_v2997 : FVec F S5x1x1 .f32 := (extractStridedSlice S5x1x1 ![0, 0, 157] · slices_S5x1x256_S5x1x1_0_0_157) main_v2995
  let main_v2998 : FVec F S5x256x1 .f32 := broadcastInDim S5x256x1 ![0, 1, 2] bcast_S5x1x1_S5x256x1_0_1_2 main_v2997
  let main_v2999 : FVec F S5x256x1 .f32 := Host.divf main_v2996 main_v2998
  let main_v3000 : FVec F S5x256x256 .f32 := broadcastInDim S5x256x256 ![0, 1, 2] bcast_S5x256x1_S5x256x256_0_1_2 main_v2999
  let main_c_470 : IVec S_ 32 := constantI S_ 32 157#32
  let main_v3001 : IVec S5x256x256 32 := broadcastInDim S5x256x256 ![] bcast_S_S5x256x256 main_c_470
  let main_v3002 : IVec S5x256x256 1 := cmpi .sgt main_v10 main_v3001
  let main_c_471 : IVec S_ 32 := constantI S_ 32 157#32
  let main_v3003 : IVec S5x256x256 32 := broadcastInDim S5x256x256 ![] bcast_S_S5x256x256 main_c_471
  let main_v3004 : IVec S5x256x256 1 := cmpi .sgt main_v11 main_v3003
  let main_v3005 : IVec S5x256x256 1 := andi main_v3002 main_v3004
  let main_v3006 : FVec F S5x256x256 .f32 := broadcastInDim S5x256x256 ![0, 1, 2] bcast_S5x1x256_S5x256x256_0_1_2 main_v2995
  fn_part145 (F := F) main_arg0 main_v3 main_v7 main_v8 main_v10 main_v11 main_v2994 main_v3000 main_v3002 main_v3005 main_v3006

def fn_part143 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2956 : FVec F S5x256x256 .f32) (main_v2957 : FVec F S5x1x256 .f32) (main_v2962 : FVec F S5x256x256 .f32) (main_v2964 : IVec S5x256x256 1) (main_c_465 : IVec S_ 32) : IVec S9x256x256 1 × IVec S8x256x256 1 :=
  let main_v2965 : IVec S5x256x256 32 := broadcastInDim S5x256x256 ![] bcast_S_S5x256x256 main_c_465
  let main_v2966 : IVec S5x256x256 1 := cmpi .sgt main_v11 main_v2965
  let main_v2967 : IVec S5x256x256 1 := andi main_v2964 main_v2966
  let main_v2968 : FVec F S5x256x256 .f32 := broadcastInDim S5x256x256 ![0, 1, 2] bcast_S5x1x256_S5x256x256_0_1_2 main_v2957
  let main_v2969 : FVec F S5x256x256 .f32 := mulf main_v2962 main_v2968
  let main_v2970 : FVec F S5x256x256 .f32 := subf main_v2956 main_v2969
  let main_v2971 : FVec F S5x256x256 .f32 := select main_v2967 main_v2970 main_v2956
  let main_c_466 : IVec S_ 32 := constantI S_ 32 155#32
  let main_v2972 : IVec S5x256x256 32 := broadcastInDim S5x256x256 ![] bcast_S_S5x256x256 main_c_466
  let main_v2973 : IVec S5x256x256 1 := cmpi .eq main_v11 main_v2972
  let main_v2974 : IVec S5x256x256 1 := andi main_v2964 main_v2973
  let main_v2975 : FVec F S5x256x256 .f32 := select main_v2974 main_v2962 main_v2971
  let main_v2976 : FVec F S5x1x256 .f32 := (extractStridedSlice S5x1x256 ![0, 156, 0] · slices_S5x256x256_S5x1x256_0_156_0) main_v2975
  let main_v2977 : FVec F S5x256x1 .f32 := (extractStridedSlice S5x256x1 ![0, 0, 156] · slices_S5x256x256_S5x256x1_0_0_156) main_v2975
  let main_v2978 : FVec F S5x1x1 .f32 := (extractStridedSlice S5x1x1 ![0, 0, 156] · slices_S5x1x256_S5x1x1_0_0_156) main_v2976
  let main_v2979 : FVec F S5x256x1 .f32 := broadcastInDim S5x256x1 ![0, 1, 2] bcast_S5x1x1_S5x256x1_0_1_2 main_v2978
  let main_v2980 : FVec F S5x256x1 .f32 := Host.divf main_v2977 main_v2979
  let main_v2981 : FVec F S5x256x256 .f32 := broadcastInDim S5x256x256 ![0, 1, 2] bcast_S5x256x1_S5x256x256_0_1_2 main_v2980
  let main_c_467 : IVec S_ 32 := constantI S_ 32 156#32
  let main_v2982 : IVec S5x256x256 32 := broadcastInDim S5x256x256 ![] bcast_S_S5x256x256 main_c_467
  let main_v2983 : IVec S5x256x256 1 := cmpi .sgt main_v10 main_v2982
  let main_c_468 : IVec S_ 32 := constantI S_ 32 156#32
  let main_v2984 : IVec S5x256x256 32 := broadcastInDim S5x256x256 ![] bcast_S_S5x256x256 main_c_468
  let main_v2985 : IVec S5x256x256 1 := cmpi .sgt main_v11 main_v2984
  fn_part144 (F := F) main_arg0 main_v3 main_v7 main_v8 main_v10 main_v11 main_v2975 main_v2976 main_v2981 main_v2983 main_v2985

def fn_part142 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2937 : FVec F S5x256x256 .f32) (main_v2938 : FVec F S5x1x256 .f32) (main_v2943 : FVec F S5x256x256 .f32) (main_v2944 : IVec S5x256x256 32) : IVec S9x256x256 1 × IVec S8x256x256 1 :=
  let main_v2945 : IVec S5x256x256 1 := cmpi .sgt main_v10 main_v2944
  let main_c_462 : IVec S_ 32 := constantI S_ 32 154#32
  let main_v2946 : IVec S5x256x256 32 := broadcastInDim S5x256x256 ![] bcast_S_S5x256x256 main_c_462
  let main_v2947 : IVec S5x256x256 1 := cmpi .sgt main_v11 main_v2946
  let main_v2948 : IVec S5x256x256 1 := andi main_v2945 main_v2947
  let main_v2949 : FVec F S5x256x256 .f32 := broadcastInDim S5x256x256 ![0, 1, 2] bcast_S5x1x256_S5x256x256_0_1_2 main_v2938
  let main_v2950 : FVec F S5x256x256 .f32 := mulf main_v2943 main_v2949
  let main_v2951 : FVec F S5x256x256 .f32 := subf main_v2937 main_v2950
  let main_v2952 : FVec F S5x256x256 .f32 := select main_v2948 main_v2951 main_v2937
  let main_c_463 : IVec S_ 32 := constantI S_ 32 154#32
  let main_v2953 : IVec S5x256x256 32 := broadcastInDim S5x256x256 ![] bcast_S_S5x256x256 main_c_463
  let main_v2954 : IVec S5x256x256 1 := cmpi .eq main_v11 main_v2953
  let main_v2955 : IVec S5x256x256 1 := andi main_v2945 main_v2954
  let main_v2956 : FVec F S5x256x256 .f32 := select main_v2955 main_v2943 main_v2952
  let main_v2957 : FVec F S5x1x256 .f32 := (extractStridedSlice S5x1x256 ![0, 155, 0] · slices_S5x256x256_S5x1x256_0_155_0) main_v2956
  let main_v2958 : FVec F S5x256x1 .f32 := (extractStridedSlice S5x256x1 ![0, 0, 155] · slices_S5x256x256_S5x256x1_0_0_155) main_v2956
  let main_v2959 : FVec F S5x1x1 .f32 := (extractStridedSlice S5x1x1 ![0, 0, 155] · slices_S5x1x256_S5x1x1_0_0_155) main_v2957
  let main_v2960 : FVec F S5x256x1 .f32 := broadcastInDim S5x256x1 ![0, 1, 2] bcast_S5x1x1_S5x256x1_0_1_2 main_v2959
  let main_v2961 : FVec F S5x256x1 .f32 := Host.divf main_v2958 main_v2960
  let main_v2962 : FVec F S5x256x256 .f32 := broadcastInDim S5x256x256 ![0, 1, 2] bcast_S5x256x1_S5x256x256_0_1_2 main_v2961
  let main_c_464 : IVec S_ 32 := constantI S_ 32 155#32
  let main_v2963 : IVec S5x256x256 32 := broadcastInDim S5x256x256 ![] bcast_S_S5x256x256 main_c_464
  let main_v2964 : IVec S5x256x256 1 := cmpi .sgt main_v10 main_v2963
  let main_c_465 : IVec S_ 32 := constantI S_ 32 155#32
  fn_part143 (F := F) main_arg0 main_v3 main_v7 main_v8 main_v10 main_v11 main_v2956 main_v2957 main_v2962 main_v2964 main_c_465

def fn_part141 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2918 : FVec F S5x256x256 .f32) (main_v2919 : FVec F S5x1x256 .f32) (main_v2924 : FVec F S5x256x256 .f32) : IVec S9x256x256 1 × IVec S8x256x256 1 :=
  let main_c_458 : IVec S_ 32 := constantI S_ 32 153#32
  let main_v2925 : IVec S5x256x256 32 := broadcastInDim S5x256x256 ![] bcast_S_S5x256x256 main_c_458
  let main_v2926 : IVec S5x256x256 1 := cmpi .sgt main_v10 main_v2925
  let main_c_459 : IVec S_ 32 := constantI S_ 32 153#32
  let main_v2927 : IVec S5x256x256 32 := broadcastInDim S5x256x256 ![] bcast_S_S5x256x256 main_c_459
  let main_v2928 : IVec S5x256x256 1 := cmpi .sgt main_v11 main_v2927
  let main_v2929 : IVec S5x256x256 1 := andi main_v2926 main_v2928
  let main_v2930 : FVec F S5x256x256 .f32 := broadcastInDim S5x256x256 ![0, 1, 2] bcast_S5x1x256_S5x256x256_0_1_2 main_v2919
  let main_v2931 : FVec F S5x256x256 .f32 := mulf main_v2924 main_v2930
  let main_v2932 : FVec F S5x256x256 .f32 := subf main_v2918 main_v2931
  let main_v2933 : FVec F S5x256x256 .f32 := select main_v2929 main_v2932 main_v2918
  let main_c_460 : IVec S_ 32 := constantI S_ 32 153#32
  let main_v2934 : IVec S5x256x256 32 := broadcastInDim S5x256x256 ![] bcast_S_S5x256x256 main_c_460
  let main_v2935 : IVec S5x256x256 1 := cmpi .eq main_v11 main_v2934
  let main_v2936 : IVec S5x256x256 1 := andi main_v2926 main_v2935
  let main_v2937 : FVec F S5x256x256 .f32 := select main_v2936 main_v2924 main_v2933
  let main_v2938 : FVec F S5x1x256 .f32 := (extractStridedSlice S5x1x256 ![0, 154, 0] · slices_S5x256x256_S5x1x256_0_154_0) main_v2937
  let main_v2939 : FVec F S5x256x1 .f32 := (extractStridedSlice S5x256x1 ![0, 0, 154] · slices_S5x256x256_S5x256x1_0_0_154) main_v2937
  let main_v2940 : FVec F S5x1x1 .f32 := (extractStridedSlice S5x1x1 ![0, 0, 154] · slices_S5x1x256_S5x1x1_0_0_154) main_v2938
  let main_v2941 : FVec F S5x256x1 .f32 := broadcastInDim S5x256x1 ![0, 1, 2] bcast_S5x1x1_S5x256x1_0_1_2 main_v2940
  let main_v2942 : FVec F S5x256x1 .f32 := Host.divf main_v2939 main_v2941
  let main_v2943 : FVec F S5x256x256 .f32 := broadcastInDim S5x256x256 ![0, 1, 2] bcast_S5x256x1_S5x256x256_0_1_2 main_v2942
  let main_c_461 : IVec S_ 32 := constantI S_ 32 154#32
  let main_v2944 : IVec S5x256x256 32 := broadcastInDim S5x256x256 ![] bcast_S_S5x256x256 main_c_461
  fn_part142 (F := F) main_arg0 main_v3 main_v7 main_v8 main_v10 main_v11 main_v2937 main_v2938 main_v2943 main_v2944

def fn_part140 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2899 : FVec F S5x256x256 .f32) (main_v2900 : FVec F S5x1x256 .f32) (main_v2901 : FVec F S5x256x1 .f32) (main_v2903 : FVec F S5x256x1 .f32) : IVec S9x256x256 1 × IVec S8x256x256 1 :=
  let main_v2904 : FVec F S5x256x1 .f32 := Host.divf main_v2901 main_v2903
  let main_v2905 : FVec F S5x256x256 .f32 := broadcastInDim S5x256x256 ![0, 1, 2] bcast_S5x256x1_S5x256x256_0_1_2 main_v2904
  let main_c_455 : IVec S_ 32 := constantI S_ 32 152#32
  let main_v2906 : IVec S5x256x256 32 := broadcastInDim S5x256x256 ![] bcast_S_S5x256x256 main_c_455
  let main_v2907 : IVec S5x256x256 1 := cmpi .sgt main_v10 main_v2906
  let main_c_456 : IVec S_ 32 := constantI S_ 32 152#32
  let main_v2908 : IVec S5x256x256 32 := broadcastInDim S5x256x256 ![] bcast_S_S5x256x256 main_c_456
  let main_v2909 : IVec S5x256x256 1 := cmpi .sgt main_v11 main_v2908
  let main_v2910 : IVec S5x256x256 1 := andi main_v2907 main_v2909
  let main_v2911 : FVec F S5x256x256 .f32 := broadcastInDim S5x256x256 ![0, 1, 2] bcast_S5x1x256_S5x256x256_0_1_2 main_v2900
  let main_v2912 : FVec F S5x256x256 .f32 := mulf main_v2905 main_v2911
  let main_v2913 : FVec F S5x256x256 .f32 := subf main_v2899 main_v2912
  let main_v2914 : FVec F S5x256x256 .f32 := select main_v2910 main_v2913 main_v2899
  let main_c_457 : IVec S_ 32 := constantI S_ 32 152#32
  let main_v2915 : IVec S5x256x256 32 := broadcastInDim S5x256x256 ![] bcast_S_S5x256x256 main_c_457
  let main_v2916 : IVec S5x256x256 1 := cmpi .eq main_v11 main_v2915
  let main_v2917 : IVec S5x256x256 1 := andi main_v2907 main_v2916
  let main_v2918 : FVec F S5x256x256 .f32 := select main_v2917 main_v2905 main_v2914
  let main_v2919 : FVec F S5x1x256 .f32 := (extractStridedSlice S5x1x256 ![0, 153, 0] · slices_S5x256x256_S5x1x256_0_153_0) main_v2918
  let main_v2920 : FVec F S5x256x1 .f32 := (extractStridedSlice S5x256x1 ![0, 0, 153] · slices_S5x256x256_S5x256x1_0_0_153) main_v2918
  let main_v2921 : FVec F S5x1x1 .f32 := (extractStridedSlice S5x1x1 ![0, 0, 153] · slices_S5x1x256_S5x1x1_0_0_153) main_v2919
  let main_v2922 : FVec F S5x256x1 .f32 := broadcastInDim S5x256x1 ![0, 1, 2] bcast_S5x1x1_S5x256x1_0_1_2 main_v2921
  let main_v2923 : FVec F S5x256x1 .f32 := Host.divf main_v2920 main_v2922
  let main_v2924 : FVec F S5x256x256 .f32 := broadcastInDim S5x256x256 ![0, 1, 2] bcast_S5x256x1_S5x256x256_0_1_2 main_v2923
  fn_part141 (F := F) main_arg0 main_v3 main_v7 main_v8 main_v10 main_v11 main_v2918 main_v2919 main_v2924

def fn_part139 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2880 : FVec F S5x256x256 .f32) (main_v2881 : FVec F S5x1x256 .f32) (main_v2882 : FVec F S5x256x1 .f32) : IVec S9x256x256 1 × IVec S8x256x256 1 :=
  let main_v2883 : FVec F S5x1x1 .f32 := (extractStridedSlice S5x1x1 ![0, 0, 151] · slices_S5x1x256_S5x1x1_0_0_151) main_v2881
  let main_v2884 : FVec F S5x256x1 .f32 := broadcastInDim S5x256x1 ![0, 1, 2] bcast_S5x1x1_S5x256x1_0_1_2 main_v2883
  let main_v2885 : FVec F S5x256x1 .f32 := Host.divf main_v2882 main_v2884
  let main_v2886 : FVec F S5x256x256 .f32 := broadcastInDim S5x256x256 ![0, 1, 2] bcast_S5x256x1_S5x256x256_0_1_2 main_v2885
  let main_c_452 : IVec S_ 32 := constantI S_ 32 151#32
  let main_v2887 : IVec S5x256x256 32 := broadcastInDim S5x256x256 ![] bcast_S_S5x256x256 main_c_452
  let main_v2888 : IVec S5x256x256 1 := cmpi .sgt main_v10 main_v2887
  let main_c_453 : IVec S_ 32 := constantI S_ 32 151#32
  let main_v2889 : IVec S5x256x256 32 := broadcastInDim S5x256x256 ![] bcast_S_S5x256x256 main_c_453
  let main_v2890 : IVec S5x256x256 1 := cmpi .sgt main_v11 main_v2889
  let main_v2891 : IVec S5x256x256 1 := andi main_v2888 main_v2890
  let main_v2892 : FVec F S5x256x256 .f32 := broadcastInDim S5x256x256 ![0, 1, 2] bcast_S5x1x256_S5x256x256_0_1_2 main_v2881
  let main_v2893 : FVec F S5x256x256 .f32 := mulf main_v2886 main_v2892
  let main_v2894 : FVec F S5x256x256 .f32 := subf main_v2880 main_v2893
  let main_v2895 : FVec F S5x256x256 .f32 := select main_v2891 main_v2894 main_v2880
  let main_c_454 : IVec S_ 32 := constantI S_ 32 151#32
  let main_v2896 : IVec S5x256x256 32 := broadcastInDim S5x256x256 ![] bcast_S_S5x256x256 main_c_454
  let main_v2897 : IVec S5x256x256 1 := cmpi .eq main_v11 main_v2896
  let main_v2898 : IVec S5x256x256 1 := andi main_v2888 main_v2897
  let main_v2899 : FVec F S5x256x256 .f32 := select main_v2898 main_v2886 main_v2895
  let main_v2900 : FVec F S5x1x256 .f32 := (extractStridedSlice S5x1x256 ![0, 152, 0] · slices_S5x256x256_S5x1x256_0_152_0) main_v2899
  let main_v2901 : FVec F S5x256x1 .f32 := (extractStridedSlice S5x256x1 ![0, 0, 152] · slices_S5x256x256_S5x256x1_0_0_152) main_v2899
  let main_v2902 : FVec F S5x1x1 .f32 := (extractStridedSlice S5x1x1 ![0, 0, 152] · slices_S5x1x256_S5x1x1_0_0_152) main_v2900
  let main_v2903 : FVec F S5x256x1 .f32 := broadcastInDim S5x256x1 ![0, 1, 2] bcast_S5x1x1_S5x256x1_0_1_2 main_v2902
  fn_part140 (F := F) main_arg0 main_v3 main_v7 main_v8 main_v10 main_v11 main_v2899 main_v2900 main_v2901 main_v2903

def fn_part138 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2861 : FVec F S5x256x256 .f32) : IVec S9x256x256 1 × IVec S8x256x256 1 :=
  let main_v2862 : FVec F S5x1x256 .f32 := (extractStridedSlice S5x1x256 ![0, 150, 0] · slices_S5x256x256_S5x1x256_0_150_0) main_v2861
  let main_v2863 : FVec F S5x256x1 .f32 := (extractStridedSlice S5x256x1 ![0, 0, 150] · slices_S5x256x256_S5x256x1_0_0_150) main_v2861
  let main_v2864 : FVec F S5x1x1 .f32 := (extractStridedSlice S5x1x1 ![0, 0, 150] · slices_S5x1x256_S5x1x1_0_0_150) main_v2862
  let main_v2865 : FVec F S5x256x1 .f32 := broadcastInDim S5x256x1 ![0, 1, 2] bcast_S5x1x1_S5x256x1_0_1_2 main_v2864
  let main_v2866 : FVec F S5x256x1 .f32 := Host.divf main_v2863 main_v2865
  let main_v2867 : FVec F S5x256x256 .f32 := broadcastInDim S5x256x256 ![0, 1, 2] bcast_S5x256x1_S5x256x256_0_1_2 main_v2866
  let main_c_449 : IVec S_ 32 := constantI S_ 32 150#32
  let main_v2868 : IVec S5x256x256 32 := broadcastInDim S5x256x256 ![] bcast_S_S5x256x256 main_c_449
  let main_v2869 : IVec S5x256x256 1 := cmpi .sgt main_v10 main_v2868
  let main_c_450 : IVec S_ 32 := constantI S_ 32 150#32
  let main_v2870 : IVec S5x256x256 32 := broadcastInDim S5x256x256 ![] bcast_S_S5x256x256 main_c_450
  let main_v2871 : IVec S5x256x256 1 := cmpi .sgt main_v11 main_v2870
  let main_v2872 : IVec S5x256x256 1 := andi main_v2869 main_v2871
  let main_v2873 : FVec F S5x256x256 .f32 := broadcastInDim S5x256x256 ![0, 1, 2] bcast_S5x1x256_S5x256x256_0_1_2 main_v2862
  let main_v2874 : FVec F S5x256x256 .f32 := mulf main_v2867 main_v2873
  let main_v2875 : FVec F S5x256x256 .f32 := subf main_v2861 main_v2874
  let main_v2876 : FVec F S5x256x256 .f32 := select main_v2872 main_v2875 main_v2861
  let main_c_451 : IVec S_ 32 := constantI S_ 32 150#32
  let main_v2877 : IVec S5x256x256 32 := broadcastInDim S5x256x256 ![] bcast_S_S5x256x256 main_c_451
  let main_v2878 : IVec S5x256x256 1 := cmpi .eq main_v11 main_v2877
  let main_v2879 : IVec S5x256x256 1 := andi main_v2869 main_v2878
  let main_v2880 : FVec F S5x256x256 .f32 := select main_v2879 main_v2867 main_v2876
  let main_v2881 : FVec F S5x1x256 .f32 := (extractStridedSlice S5x1x256 ![0, 151, 0] · slices_S5x256x256_S5x1x256_0_151_0) main_v2880
  let main_v2882 : FVec F S5x256x1 .f32 := (extractStridedSlice S5x256x1 ![0, 0, 151] · slices_S5x256x256_S5x256x1_0_0_151) main_v2880
  fn_part139 (F := F) main_arg0 main_v3 main_v7 main_v8 main_v10 main_v11 main_v2880 main_v2881 main_v2882

def fn_part137 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2829 : FVec F S5x256x256 .f32) (main_v2831 : IVec S5x256x256 1) (main_v2838 : FVec F S5x256x256 .f32) (main_v2840 : IVec S5x256x256 1) : IVec S9x256x256 1 × IVec S8x256x256 1 :=
  let main_v2841 : IVec S5x256x256 1 := andi main_v2831 main_v2840
  let main_v2842 : FVec F S5x256x256 .f32 := select main_v2841 main_v2829 main_v2838
  let main_v2843 : FVec F S5x1x256 .f32 := (extractStridedSlice S5x1x256 ![0, 149, 0] · slices_S5x256x256_S5x1x256_0_149_0) main_v2842
  let main_v2844 : FVec F S5x256x1 .f32 := (extractStridedSlice S5x256x1 ![0, 0, 149] · slices_S5x256x256_S5x256x1_0_0_149) main_v2842
  let main_v2845 : FVec F S5x1x1 .f32 := (extractStridedSlice S5x1x1 ![0, 0, 149] · slices_S5x1x256_S5x1x1_0_0_149) main_v2843
  let main_v2846 : FVec F S5x256x1 .f32 := broadcastInDim S5x256x1 ![0, 1, 2] bcast_S5x1x1_S5x256x1_0_1_2 main_v2845
  let main_v2847 : FVec F S5x256x1 .f32 := Host.divf main_v2844 main_v2846
  let main_v2848 : FVec F S5x256x256 .f32 := broadcastInDim S5x256x256 ![0, 1, 2] bcast_S5x256x1_S5x256x256_0_1_2 main_v2847
  let main_c_446 : IVec S_ 32 := constantI S_ 32 149#32
  let main_v2849 : IVec S5x256x256 32 := broadcastInDim S5x256x256 ![] bcast_S_S5x256x256 main_c_446
  let main_v2850 : IVec S5x256x256 1 := cmpi .sgt main_v10 main_v2849
  let main_c_447 : IVec S_ 32 := constantI S_ 32 149#32
  let main_v2851 : IVec S5x256x256 32 := broadcastInDim S5x256x256 ![] bcast_S_S5x256x256 main_c_447
  let main_v2852 : IVec S5x256x256 1 := cmpi .sgt main_v11 main_v2851
  let main_v2853 : IVec S5x256x256 1 := andi main_v2850 main_v2852
  let main_v2854 : FVec F S5x256x256 .f32 := broadcastInDim S5x256x256 ![0, 1, 2] bcast_S5x1x256_S5x256x256_0_1_2 main_v2843
  let main_v2855 : FVec F S5x256x256 .f32 := mulf main_v2848 main_v2854
  let main_v2856 : FVec F S5x256x256 .f32 := subf main_v2842 main_v2855
  let main_v2857 : FVec F S5x256x256 .f32 := select main_v2853 main_v2856 main_v2842
  let main_c_448 : IVec S_ 32 := constantI S_ 32 149#32
  let main_v2858 : IVec S5x256x256 32 := broadcastInDim S5x256x256 ![] bcast_S_S5x256x256 main_c_448
  let main_v2859 : IVec S5x256x256 1 := cmpi .eq main_v11 main_v2858
  let main_v2860 : IVec S5x256x256 1 := andi main_v2850 main_v2859
  let main_v2861 : FVec F S5x256x256 .f32 := select main_v2860 main_v2848 main_v2857
  fn_part138 (F := F) main_arg0 main_v3 main_v7 main_v8 main_v10 main_v11 main_v2861

def fn_part136 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2810 : FVec F S5x256x256 .f32) (main_v2812 : IVec S5x256x256 1) (main_v2819 : FVec F S5x256x256 .f32) (main_c_442 : IVec S_ 32) : IVec S9x256x256 1 × IVec S8x256x256 1 :=
  let main_v2820 : IVec S5x256x256 32 := broadcastInDim S5x256x256 ![] bcast_S_S5x256x256 main_c_442
  let main_v2821 : IVec S5x256x256 1 := cmpi .eq main_v11 main_v2820
  let main_v2822 : IVec S5x256x256 1 := andi main_v2812 main_v2821
  let main_v2823 : FVec F S5x256x256 .f32 := select main_v2822 main_v2810 main_v2819
  let main_v2824 : FVec F S5x1x256 .f32 := (extractStridedSlice S5x1x256 ![0, 148, 0] · slices_S5x256x256_S5x1x256_0_148_0) main_v2823
  let main_v2825 : FVec F S5x256x1 .f32 := (extractStridedSlice S5x256x1 ![0, 0, 148] · slices_S5x256x256_S5x256x1_0_0_148) main_v2823
  let main_v2826 : FVec F S5x1x1 .f32 := (extractStridedSlice S5x1x1 ![0, 0, 148] · slices_S5x1x256_S5x1x1_0_0_148) main_v2824
  let main_v2827 : FVec F S5x256x1 .f32 := broadcastInDim S5x256x1 ![0, 1, 2] bcast_S5x1x1_S5x256x1_0_1_2 main_v2826
  let main_v2828 : FVec F S5x256x1 .f32 := Host.divf main_v2825 main_v2827
  let main_v2829 : FVec F S5x256x256 .f32 := broadcastInDim S5x256x256 ![0, 1, 2] bcast_S5x256x1_S5x256x256_0_1_2 main_v2828
  let main_c_443 : IVec S_ 32 := constantI S_ 32 148#32
  let main_v2830 : IVec S5x256x256 32 := broadcastInDim S5x256x256 ![] bcast_S_S5x256x256 main_c_443
  let main_v2831 : IVec S5x256x256 1 := cmpi .sgt main_v10 main_v2830
  let main_c_444 : IVec S_ 32 := constantI S_ 32 148#32
  let main_v2832 : IVec S5x256x256 32 := broadcastInDim S5x256x256 ![] bcast_S_S5x256x256 main_c_444
  let main_v2833 : IVec S5x256x256 1 := cmpi .sgt main_v11 main_v2832
  let main_v2834 : IVec S5x256x256 1 := andi main_v2831 main_v2833
  let main_v2835 : FVec F S5x256x256 .f32 := broadcastInDim S5x256x256 ![0, 1, 2] bcast_S5x1x256_S5x256x256_0_1_2 main_v2824
  let main_v2836 : FVec F S5x256x256 .f32 := mulf main_v2829 main_v2835
  let main_v2837 : FVec F S5x256x256 .f32 := subf main_v2823 main_v2836
  let main_v2838 : FVec F S5x256x256 .f32 := select main_v2834 main_v2837 main_v2823
  let main_c_445 : IVec S_ 32 := constantI S_ 32 148#32
  let main_v2839 : IVec S5x256x256 32 := broadcastInDim S5x256x256 ![] bcast_S_S5x256x256 main_c_445
  let main_v2840 : IVec S5x256x256 1 := cmpi .eq main_v11 main_v2839
  fn_part137 (F := F) main_arg0 main_v3 main_v7 main_v8 main_v10 main_v11 main_v2829 main_v2831 main_v2838 main_v2840

def fn_part135 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2785 : FVec F S5x256x256 .f32) (main_v2791 : FVec F S5x256x256 .f32) (main_v2793 : IVec S5x256x256 1) (main_v2796 : IVec S5x256x256 1) (main_v2799 : FVec F S5x256x256 .f32) : IVec S9x256x256 1 × IVec S8x256x256 1 :=
  let main_v2800 : FVec F S5x256x256 .f32 := select main_v2796 main_v2799 main_v2785
  let main_c_439 : IVec S_ 32 := constantI S_ 32 146#32
  let main_v2801 : IVec S5x256x256 32 := broadcastInDim S5x256x256 ![] bcast_S_S5x256x256 main_c_439
  let main_v2802 : IVec S5x256x256 1 := cmpi .eq main_v11 main_v2801
  let main_v2803 : IVec S5x256x256 1 := andi main_v2793 main_v2802
  let main_v2804 : FVec F S5x256x256 .f32 := select main_v2803 main_v2791 main_v2800
  let main_v2805 : FVec F S5x1x256 .f32 := (extractStridedSlice S5x1x256 ![0, 147, 0] · slices_S5x256x256_S5x1x256_0_147_0) main_v2804
  let main_v2806 : FVec F S5x256x1 .f32 := (extractStridedSlice S5x256x1 ![0, 0, 147] · slices_S5x256x256_S5x256x1_0_0_147) main_v2804
  let main_v2807 : FVec F S5x1x1 .f32 := (extractStridedSlice S5x1x1 ![0, 0, 147] · slices_S5x1x256_S5x1x1_0_0_147) main_v2805
  let main_v2808 : FVec F S5x256x1 .f32 := broadcastInDim S5x256x1 ![0, 1, 2] bcast_S5x1x1_S5x256x1_0_1_2 main_v2807
  let main_v2809 : FVec F S5x256x1 .f32 := Host.divf main_v2806 main_v2808
  let main_v2810 : FVec F S5x256x256 .f32 := broadcastInDim S5x256x256 ![0, 1, 2] bcast_S5x256x1_S5x256x256_0_1_2 main_v2809
  let main_c_440 : IVec S_ 32 := constantI S_ 32 147#32
  let main_v2811 : IVec S5x256x256 32 := broadcastInDim S5x256x256 ![] bcast_S_S5x256x256 main_c_440
  let main_v2812 : IVec S5x256x256 1 := cmpi .sgt main_v10 main_v2811
  let main_c_441 : IVec S_ 32 := constantI S_ 32 147#32
  let main_v2813 : IVec S5x256x256 32 := broadcastInDim S5x256x256 ![] bcast_S_S5x256x256 main_c_441
  let main_v2814 : IVec S5x256x256 1 := cmpi .sgt main_v11 main_v2813
  let main_v2815 : IVec S5x256x256 1 := andi main_v2812 main_v2814
  let main_v2816 : FVec F S5x256x256 .f32 := broadcastInDim S5x256x256 ![0, 1, 2] bcast_S5x1x256_S5x256x256_0_1_2 main_v2805
  let main_v2817 : FVec F S5x256x256 .f32 := mulf main_v2810 main_v2816
  let main_v2818 : FVec F S5x256x256 .f32 := subf main_v2804 main_v2817
  let main_v2819 : FVec F S5x256x256 .f32 := select main_v2815 main_v2818 main_v2804
  let main_c_442 : IVec S_ 32 := constantI S_ 32 147#32
  fn_part136 (F := F) main_arg0 main_v3 main_v7 main_v8 main_v10 main_v11 main_v2810 main_v2812 main_v2819 main_c_442

def fn_part134 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2766 : FVec F S5x256x256 .f32) (main_v2772 : FVec F S5x256x256 .f32) (main_v2774 : IVec S5x256x256 1) (main_v2777 : IVec S5x256x256 1) (main_v2778 : FVec F S5x256x256 .f32) : IVec S9x256x256 1 × IVec S8x256x256 1 :=
  let main_v2779 : FVec F S5x256x256 .f32 := mulf main_v2772 main_v2778
  let main_v2780 : FVec F S5x256x256 .f32 := subf main_v2766 main_v2779
  let main_v2781 : FVec F S5x256x256 .f32 := select main_v2777 main_v2780 main_v2766
  let main_c_436 : IVec S_ 32 := constantI S_ 32 145#32
  let main_v2782 : IVec S5x256x256 32 := broadcastInDim S5x256x256 ![] bcast_S_S5x256x256 main_c_436
  let main_v2783 : IVec S5x256x256 1 := cmpi .eq main_v11 main_v2782
  let main_v2784 : IVec S5x256x256 1 := andi main_v2774 main_v2783
  let main_v2785 : FVec F S5x256x256 .f32 := select main_v2784 main_v2772 main_v2781
  let main_v2786 : FVec F S5x1x256 .f32 := (extractStridedSlice S5x1x256 ![0, 146, 0] · slices_S5x256x256_S5x1x256_0_146_0) main_v2785
  let main_v2787 : FVec F S5x256x1 .f32 := (extractStridedSlice S5x256x1 ![0, 0, 146] · slices_S5x256x256_S5x256x1_0_0_146) main_v2785
  let main_v2788 : FVec F S5x1x1 .f32 := (extractStridedSlice S5x1x1 ![0, 0, 146] · slices_S5x1x256_S5x1x1_0_0_146) main_v2786
  let main_v2789 : FVec F S5x256x1 .f32 := broadcastInDim S5x256x1 ![0, 1, 2] bcast_S5x1x1_S5x256x1_0_1_2 main_v2788
  let main_v2790 : FVec F S5x256x1 .f32 := Host.divf main_v2787 main_v2789
  let main_v2791 : FVec F S5x256x256 .f32 := broadcastInDim S5x256x256 ![0, 1, 2] bcast_S5x256x1_S5x256x256_0_1_2 main_v2790
  let main_c_437 : IVec S_ 32 := constantI S_ 32 146#32
  let main_v2792 : IVec S5x256x256 32 := broadcastInDim S5x256x256 ![] bcast_S_S5x256x256 main_c_437
  let main_v2793 : IVec S5x256x256 1 := cmpi .sgt main_v10 main_v2792
  let main_c_438 : IVec S_ 32 := constantI S_ 32 146#32
  let main_v2794 : IVec S5x256x256 32 := broadcastInDim S5x256x256 ![] bcast_S_S5x256x256 main_c_438
  let main_v2795 : IVec S5x256x256 1 := cmpi .sgt main_v11 main_v2794
  let main_v2796 : IVec S5x256x256 1 := andi main_v2793 main_v2795
  let main_v2797 : FVec F S5x256x256 .f32 := broadcastInDim S5x256x256 ![0, 1, 2] bcast_S5x1x256_S5x256x256_0_1_2 main_v2786
  let main_v2798 : FVec F S5x256x256 .f32 := mulf main_v2791 main_v2797
  let main_v2799 : FVec F S5x256x256 .f32 := subf main_v2785 main_v2798
  fn_part135 (F := F) main_arg0 main_v3 main_v7 main_v8 main_v10 main_v11 main_v2785 main_v2791 main_v2793 main_v2796 main_v2799

def fn_part133 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2747 : FVec F S5x256x256 .f32) (main_v2748 : FVec F S5x1x256 .f32) (main_v2753 : FVec F S5x256x256 .f32) (main_v2755 : IVec S5x256x256 1) (main_v2757 : IVec S5x256x256 1) : IVec S9x256x256 1 × IVec S8x256x256 1 :=
  let main_v2758 : IVec S5x256x256 1 := andi main_v2755 main_v2757
  let main_v2759 : FVec F S5x256x256 .f32 := broadcastInDim S5x256x256 ![0, 1, 2] bcast_S5x1x256_S5x256x256_0_1_2 main_v2748
  let main_v2760 : FVec F S5x256x256 .f32 := mulf main_v2753 main_v2759
  let main_v2761 : FVec F S5x256x256 .f32 := subf main_v2747 main_v2760
  let main_v2762 : FVec F S5x256x256 .f32 := select main_v2758 main_v2761 main_v2747
  let main_c_433 : IVec S_ 32 := constantI S_ 32 144#32
  let main_v2763 : IVec S5x256x256 32 := broadcastInDim S5x256x256 ![] bcast_S_S5x256x256 main_c_433
  let main_v2764 : IVec S5x256x256 1 := cmpi .eq main_v11 main_v2763
  let main_v2765 : IVec S5x256x256 1 := andi main_v2755 main_v2764
  let main_v2766 : FVec F S5x256x256 .f32 := select main_v2765 main_v2753 main_v2762
  let main_v2767 : FVec F S5x1x256 .f32 := (extractStridedSlice S5x1x256 ![0, 145, 0] · slices_S5x256x256_S5x1x256_0_145_0) main_v2766
  let main_v2768 : FVec F S5x256x1 .f32 := (extractStridedSlice S5x256x1 ![0, 0, 145] · slices_S5x256x256_S5x256x1_0_0_145) main_v2766
  let main_v2769 : FVec F S5x1x1 .f32 := (extractStridedSlice S5x1x1 ![0, 0, 145] · slices_S5x1x256_S5x1x1_0_0_145) main_v2767
  let main_v2770 : FVec F S5x256x1 .f32 := broadcastInDim S5x256x1 ![0, 1, 2] bcast_S5x1x1_S5x256x1_0_1_2 main_v2769
  let main_v2771 : FVec F S5x256x1 .f32 := Host.divf main_v2768 main_v2770
  let main_v2772 : FVec F S5x256x256 .f32 := broadcastInDim S5x256x256 ![0, 1, 2] bcast_S5x256x1_S5x256x256_0_1_2 main_v2771
  let main_c_434 : IVec S_ 32 := constantI S_ 32 145#32
  let main_v2773 : IVec S5x256x256 32 := broadcastInDim S5x256x256 ![] bcast_S_S5x256x256 main_c_434
  let main_v2774 : IVec S5x256x256 1 := cmpi .sgt main_v10 main_v2773
  let main_c_435 : IVec S_ 32 := constantI S_ 32 145#32
  let main_v2775 : IVec S5x256x256 32 := broadcastInDim S5x256x256 ![] bcast_S_S5x256x256 main_c_435
  let main_v2776 : IVec S5x256x256 1 := cmpi .sgt main_v11 main_v2775
  let main_v2777 : IVec S5x256x256 1 := andi main_v2774 main_v2776
  let main_v2778 : FVec F S5x256x256 .f32 := broadcastInDim S5x256x256 ![0, 1, 2] bcast_S5x1x256_S5x256x256_0_1_2 main_v2767
  fn_part134 (F := F) main_arg0 main_v3 main_v7 main_v8 main_v10 main_v11 main_v2766 main_v2772 main_v2774 main_v2777 main_v2778

def fn_part132 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2728 : FVec F S5x256x256 .f32) (main_v2729 : FVec F S5x1x256 .f32) (main_v2734 : FVec F S5x256x256 .f32) (main_v2736 : IVec S5x256x256 1) (main_c_429 : IVec S_ 32) : IVec S9x256x256 1 × IVec S8x256x256 1 :=
  let main_v2737 : IVec S5x256x256 32 := broadcastInDim S5x256x256 ![] bcast_S_S5x256x256 main_c_429
  let main_v2738 : IVec S5x256x256 1 := cmpi .sgt main_v11 main_v2737
  let main_v2739 : IVec S5x256x256 1 := andi main_v2736 main_v2738
  let main_v2740 : FVec F S5x256x256 .f32 := broadcastInDim S5x256x256 ![0, 1, 2] bcast_S5x1x256_S5x256x256_0_1_2 main_v2729
  let main_v2741 : FVec F S5x256x256 .f32 := mulf main_v2734 main_v2740
  let main_v2742 : FVec F S5x256x256 .f32 := subf main_v2728 main_v2741
  let main_v2743 : FVec F S5x256x256 .f32 := select main_v2739 main_v2742 main_v2728
  let main_c_430 : IVec S_ 32 := constantI S_ 32 143#32
  let main_v2744 : IVec S5x256x256 32 := broadcastInDim S5x256x256 ![] bcast_S_S5x256x256 main_c_430
  let main_v2745 : IVec S5x256x256 1 := cmpi .eq main_v11 main_v2744
  let main_v2746 : IVec S5x256x256 1 := andi main_v2736 main_v2745
  let main_v2747 : FVec F S5x256x256 .f32 := select main_v2746 main_v2734 main_v2743
  let main_v2748 : FVec F S5x1x256 .f32 := (extractStridedSlice S5x1x256 ![0, 144, 0] · slices_S5x256x256_S5x1x256_0_144_0) main_v2747
  let main_v2749 : FVec F S5x256x1 .f32 := (extractStridedSlice S5x256x1 ![0, 0, 144] · slices_S5x256x256_S5x256x1_0_0_144) main_v2747
  let main_v2750 : FVec F S5x1x1 .f32 := (extractStridedSlice S5x1x1 ![0, 0, 144] · slices_S5x1x256_S5x1x1_0_0_144) main_v2748
  let main_v2751 : FVec F S5x256x1 .f32 := broadcastInDim S5x256x1 ![0, 1, 2] bcast_S5x1x1_S5x256x1_0_1_2 main_v2750
  let main_v2752 : FVec F S5x256x1 .f32 := Host.divf main_v2749 main_v2751
  let main_v2753 : FVec F S5x256x256 .f32 := broadcastInDim S5x256x256 ![0, 1, 2] bcast_S5x256x1_S5x256x256_0_1_2 main_v2752
  let main_c_431 : IVec S_ 32 := constantI S_ 32 144#32
  let main_v2754 : IVec S5x256x256 32 := broadcastInDim S5x256x256 ![] bcast_S_S5x256x256 main_c_431
  let main_v2755 : IVec S5x256x256 1 := cmpi .sgt main_v10 main_v2754
  let main_c_432 : IVec S_ 32 := constantI S_ 32 144#32
  let main_v2756 : IVec S5x256x256 32 := broadcastInDim S5x256x256 ![] bcast_S_S5x256x256 main_c_432
  let main_v2757 : IVec S5x256x256 1 := cmpi .sgt main_v11 main_v2756
  fn_part133 (F := F) main_arg0 main_v3 main_v7 main_v8 main_v10 main_v11 main_v2747 main_v2748 main_v2753 main_v2755 main_v2757

def fn_part131 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2709 : FVec F S5x256x256 .f32) (main_v2710 : FVec F S5x1x256 .f32) (main_v2715 : FVec F S5x256x256 .f32) (main_v2716 : IVec S5x256x256 32) : IVec S9x256x256 1 × IVec S8x256x256 1 :=
  let main_v2717 : IVec S5x256x256 1 := cmpi .sgt main_v10 main_v2716
  let main_c_426 : IVec S_ 32 := constantI S_ 32 142#32
  let main_v2718 : IVec S5x256x256 32 := broadcastInDim S5x256x256 ![] bcast_S_S5x256x256 main_c_426
  let main_v2719 : IVec S5x256x256 1 := cmpi .sgt main_v11 main_v2718
  let main_v2720 : IVec S5x256x256 1 := andi main_v2717 main_v2719
  let main_v2721 : FVec F S5x256x256 .f32 := broadcastInDim S5x256x256 ![0, 1, 2] bcast_S5x1x256_S5x256x256_0_1_2 main_v2710
  let main_v2722 : FVec F S5x256x256 .f32 := mulf main_v2715 main_v2721
  let main_v2723 : FVec F S5x256x256 .f32 := subf main_v2709 main_v2722
  let main_v2724 : FVec F S5x256x256 .f32 := select main_v2720 main_v2723 main_v2709
  let main_c_427 : IVec S_ 32 := constantI S_ 32 142#32
  let main_v2725 : IVec S5x256x256 32 := broadcastInDim S5x256x256 ![] bcast_S_S5x256x256 main_c_427
  let main_v2726 : IVec S5x256x256 1 := cmpi .eq main_v11 main_v2725
  let main_v2727 : IVec S5x256x256 1 := andi main_v2717 main_v2726
  let main_v2728 : FVec F S5x256x256 .f32 := select main_v2727 main_v2715 main_v2724
  let main_v2729 : FVec F S5x1x256 .f32 := (extractStridedSlice S5x1x256 ![0, 143, 0] · slices_S5x256x256_S5x1x256_0_143_0) main_v2728
  let main_v2730 : FVec F S5x256x1 .f32 := (extractStridedSlice S5x256x1 ![0, 0, 143] · slices_S5x256x256_S5x256x1_0_0_143) main_v2728
  let main_v2731 : FVec F S5x1x1 .f32 := (extractStridedSlice S5x1x1 ![0, 0, 143] · slices_S5x1x256_S5x1x1_0_0_143) main_v2729
  let main_v2732 : FVec F S5x256x1 .f32 := broadcastInDim S5x256x1 ![0, 1, 2] bcast_S5x1x1_S5x256x1_0_1_2 main_v2731
  let main_v2733 : FVec F S5x256x1 .f32 := Host.divf main_v2730 main_v2732
  let main_v2734 : FVec F S5x256x256 .f32 := broadcastInDim S5x256x256 ![0, 1, 2] bcast_S5x256x1_S5x256x256_0_1_2 main_v2733
  let main_c_428 : IVec S_ 32 := constantI S_ 32 143#32
  let main_v2735 : IVec S5x256x256 32 := broadcastInDim S5x256x256 ![] bcast_S_S5x256x256 main_c_428
  let main_v2736 : IVec S5x256x256 1 := cmpi .sgt main_v10 main_v2735
  let main_c_429 : IVec S_ 32 := constantI S_ 32 143#32
  fn_part132 (F := F) main_arg0 main_v3 main_v7 main_v8 main_v10 main_v11 main_v2728 main_v2729 main_v2734 main_v2736 main_c_429

def fn_part130 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2690 : FVec F S5x256x256 .f32) (main_v2691 : FVec F S5x1x256 .f32) (main_v2696 : FVec F S5x256x256 .f32) : IVec S9x256x256 1 × IVec S8x256x256 1 :=
  let main_c_422 : IVec S_ 32 := constantI S_ 32 141#32
  let main_v2697 : IVec S5x256x256 32 := broadcastInDim S5x256x256 ![] bcast_S_S5x256x256 main_c_422
  let main_v2698 : IVec S5x256x256 1 := cmpi .sgt main_v10 main_v2697
  let main_c_423 : IVec S_ 32 := constantI S_ 32 141#32
  let main_v2699 : IVec S5x256x256 32 := broadcastInDim S5x256x256 ![] bcast_S_S5x256x256 main_c_423
  let main_v2700 : IVec S5x256x256 1 := cmpi .sgt main_v11 main_v2699
  let main_v2701 : IVec S5x256x256 1 := andi main_v2698 main_v2700
  let main_v2702 : FVec F S5x256x256 .f32 := broadcastInDim S5x256x256 ![0, 1, 2] bcast_S5x1x256_S5x256x256_0_1_2 main_v2691
  let main_v2703 : FVec F S5x256x256 .f32 := mulf main_v2696 main_v2702
  let main_v2704 : FVec F S5x256x256 .f32 := subf main_v2690 main_v2703
  let main_v2705 : FVec F S5x256x256 .f32 := select main_v2701 main_v2704 main_v2690
  let main_c_424 : IVec S_ 32 := constantI S_ 32 141#32
  let main_v2706 : IVec S5x256x256 32 := broadcastInDim S5x256x256 ![] bcast_S_S5x256x256 main_c_424
  let main_v2707 : IVec S5x256x256 1 := cmpi .eq main_v11 main_v2706
  let main_v2708 : IVec S5x256x256 1 := andi main_v2698 main_v2707
  let main_v2709 : FVec F S5x256x256 .f32 := select main_v2708 main_v2696 main_v2705
  let main_v2710 : FVec F S5x1x256 .f32 := (extractStridedSlice S5x1x256 ![0, 142, 0] · slices_S5x256x256_S5x1x256_0_142_0) main_v2709
  let main_v2711 : FVec F S5x256x1 .f32 := (extractStridedSlice S5x256x1 ![0, 0, 142] · slices_S5x256x256_S5x256x1_0_0_142) main_v2709
  let main_v2712 : FVec F S5x1x1 .f32 := (extractStridedSlice S5x1x1 ![0, 0, 142] · slices_S5x1x256_S5x1x1_0_0_142) main_v2710
  let main_v2713 : FVec F S5x256x1 .f32 := broadcastInDim S5x256x1 ![0, 1, 2] bcast_S5x1x1_S5x256x1_0_1_2 main_v2712
  let main_v2714 : FVec F S5x256x1 .f32 := Host.divf main_v2711 main_v2713
  let main_v2715 : FVec F S5x256x256 .f32 := broadcastInDim S5x256x256 ![0, 1, 2] bcast_S5x256x1_S5x256x256_0_1_2 main_v2714
  let main_c_425 : IVec S_ 32 := constantI S_ 32 142#32
  let main_v2716 : IVec S5x256x256 32 := broadcastInDim S5x256x256 ![] bcast_S_S5x256x256 main_c_425
  fn_part131 (F := F) main_arg0 main_v3 main_v7 main_v8 main_v10 main_v11 main_v2709 main_v2710 main_v2715 main_v2716

def fn_part129 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2671 : FVec F S5x256x256 .f32) (main_v2672 : FVec F S5x1x256 .f32) (main_v2673 : FVec F S5x256x1 .f32) (main_v2675 : FVec F S5x256x1 .f32) : IVec S9x256x256 1 × IVec S8x256x256 1 :=
  let main_v2676 : FVec F S5x256x1 .f32 := Host.divf main_v2673 main_v2675
  let main_v2677 : FVec F S5x256x256 .f32 := broadcastInDim S5x256x256 ![0, 1, 2] bcast_S5x256x1_S5x256x256_0_1_2 main_v2676
  let main_c_419 : IVec S_ 32 := constantI S_ 32 140#32
  let main_v2678 : IVec S5x256x256 32 := broadcastInDim S5x256x256 ![] bcast_S_S5x256x256 main_c_419
  let main_v2679 : IVec S5x256x256 1 := cmpi .sgt main_v10 main_v2678
  let main_c_420 : IVec S_ 32 := constantI S_ 32 140#32
  let main_v2680 : IVec S5x256x256 32 := broadcastInDim S5x256x256 ![] bcast_S_S5x256x256 main_c_420
  let main_v2681 : IVec S5x256x256 1 := cmpi .sgt main_v11 main_v2680
  let main_v2682 : IVec S5x256x256 1 := andi main_v2679 main_v2681
  let main_v2683 : FVec F S5x256x256 .f32 := broadcastInDim S5x256x256 ![0, 1, 2] bcast_S5x1x256_S5x256x256_0_1_2 main_v2672
  let main_v2684 : FVec F S5x256x256 .f32 := mulf main_v2677 main_v2683
  let main_v2685 : FVec F S5x256x256 .f32 := subf main_v2671 main_v2684
  let main_v2686 : FVec F S5x256x256 .f32 := select main_v2682 main_v2685 main_v2671
  let main_c_421 : IVec S_ 32 := constantI S_ 32 140#32
  let main_v2687 : IVec S5x256x256 32 := broadcastInDim S5x256x256 ![] bcast_S_S5x256x256 main_c_421
  let main_v2688 : IVec S5x256x256 1 := cmpi .eq main_v11 main_v2687
  let main_v2689 : IVec S5x256x256 1 := andi main_v2679 main_v2688
  let main_v2690 : FVec F S5x256x256 .f32 := select main_v2689 main_v2677 main_v2686
  let main_v2691 : FVec F S5x1x256 .f32 := (extractStridedSlice S5x1x256 ![0, 141, 0] · slices_S5x256x256_S5x1x256_0_141_0) main_v2690
  let main_v2692 : FVec F S5x256x1 .f32 := (extractStridedSlice S5x256x1 ![0, 0, 141] · slices_S5x256x256_S5x256x1_0_0_141) main_v2690
  let main_v2693 : FVec F S5x1x1 .f32 := (extractStridedSlice S5x1x1 ![0, 0, 141] · slices_S5x1x256_S5x1x1_0_0_141) main_v2691
  let main_v2694 : FVec F S5x256x1 .f32 := broadcastInDim S5x256x1 ![0, 1, 2] bcast_S5x1x1_S5x256x1_0_1_2 main_v2693
  let main_v2695 : FVec F S5x256x1 .f32 := Host.divf main_v2692 main_v2694
  let main_v2696 : FVec F S5x256x256 .f32 := broadcastInDim S5x256x256 ![0, 1, 2] bcast_S5x256x1_S5x256x256_0_1_2 main_v2695
  fn_part130 (F := F) main_arg0 main_v3 main_v7 main_v8 main_v10 main_v11 main_v2690 main_v2691 main_v2696

def fn_part128 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2652 : FVec F S5x256x256 .f32) (main_v2653 : FVec F S5x1x256 .f32) (main_v2654 : FVec F S5x256x1 .f32) : IVec S9x256x256 1 × IVec S8x256x256 1 :=
  let main_v2655 : FVec F S5x1x1 .f32 := (extractStridedSlice S5x1x1 ![0, 0, 139] · slices_S5x1x256_S5x1x1_0_0_139) main_v2653
  let main_v2656 : FVec F S5x256x1 .f32 := broadcastInDim S5x256x1 ![0, 1, 2] bcast_S5x1x1_S5x256x1_0_1_2 main_v2655
  let main_v2657 : FVec F S5x256x1 .f32 := Host.divf main_v2654 main_v2656
  let main_v2658 : FVec F S5x256x256 .f32 := broadcastInDim S5x256x256 ![0, 1, 2] bcast_S5x256x1_S5x256x256_0_1_2 main_v2657
  let main_c_416 : IVec S_ 32 := constantI S_ 32 139#32
  let main_v2659 : IVec S5x256x256 32 := broadcastInDim S5x256x256 ![] bcast_S_S5x256x256 main_c_416
  let main_v2660 : IVec S5x256x256 1 := cmpi .sgt main_v10 main_v2659
  let main_c_417 : IVec S_ 32 := constantI S_ 32 139#32
  let main_v2661 : IVec S5x256x256 32 := broadcastInDim S5x256x256 ![] bcast_S_S5x256x256 main_c_417
  let main_v2662 : IVec S5x256x256 1 := cmpi .sgt main_v11 main_v2661
  let main_v2663 : IVec S5x256x256 1 := andi main_v2660 main_v2662
  let main_v2664 : FVec F S5x256x256 .f32 := broadcastInDim S5x256x256 ![0, 1, 2] bcast_S5x1x256_S5x256x256_0_1_2 main_v2653
  let main_v2665 : FVec F S5x256x256 .f32 := mulf main_v2658 main_v2664
  let main_v2666 : FVec F S5x256x256 .f32 := subf main_v2652 main_v2665
  let main_v2667 : FVec F S5x256x256 .f32 := select main_v2663 main_v2666 main_v2652
  let main_c_418 : IVec S_ 32 := constantI S_ 32 139#32
  let main_v2668 : IVec S5x256x256 32 := broadcastInDim S5x256x256 ![] bcast_S_S5x256x256 main_c_418
  let main_v2669 : IVec S5x256x256 1 := cmpi .eq main_v11 main_v2668
  let main_v2670 : IVec S5x256x256 1 := andi main_v2660 main_v2669
  let main_v2671 : FVec F S5x256x256 .f32 := select main_v2670 main_v2658 main_v2667
  let main_v2672 : FVec F S5x1x256 .f32 := (extractStridedSlice S5x1x256 ![0, 140, 0] · slices_S5x256x256_S5x1x256_0_140_0) main_v2671
  let main_v2673 : FVec F S5x256x1 .f32 := (extractStridedSlice S5x256x1 ![0, 0, 140] · slices_S5x256x256_S5x256x1_0_0_140) main_v2671
  let main_v2674 : FVec F S5x1x1 .f32 := (extractStridedSlice S5x1x1 ![0, 0, 140] · slices_S5x1x256_S5x1x1_0_0_140) main_v2672
  let main_v2675 : FVec F S5x256x1 .f32 := broadcastInDim S5x256x1 ![0, 1, 2] bcast_S5x1x1_S5x256x1_0_1_2 main_v2674
  fn_part129 (F := F) main_arg0 main_v3 main_v7 main_v8 main_v10 main_v11 main_v2671 main_v2672 main_v2673 main_v2675

def fn_part127 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2633 : FVec F S5x256x256 .f32) : IVec S9x256x256 1 × IVec S8x256x256 1 :=
  let main_v2634 : FVec F S5x1x256 .f32 := (extractStridedSlice S5x1x256 ![0, 138, 0] · slices_S5x256x256_S5x1x256_0_138_0) main_v2633
  let main_v2635 : FVec F S5x256x1 .f32 := (extractStridedSlice S5x256x1 ![0, 0, 138] · slices_S5x256x256_S5x256x1_0_0_138) main_v2633
  let main_v2636 : FVec F S5x1x1 .f32 := (extractStridedSlice S5x1x1 ![0, 0, 138] · slices_S5x1x256_S5x1x1_0_0_138) main_v2634
  let main_v2637 : FVec F S5x256x1 .f32 := broadcastInDim S5x256x1 ![0, 1, 2] bcast_S5x1x1_S5x256x1_0_1_2 main_v2636
  let main_v2638 : FVec F S5x256x1 .f32 := Host.divf main_v2635 main_v2637
  let main_v2639 : FVec F S5x256x256 .f32 := broadcastInDim S5x256x256 ![0, 1, 2] bcast_S5x256x1_S5x256x256_0_1_2 main_v2638
  let main_c_413 : IVec S_ 32 := constantI S_ 32 138#32
  let main_v2640 : IVec S5x256x256 32 := broadcastInDim S5x256x256 ![] bcast_S_S5x256x256 main_c_413
  let main_v2641 : IVec S5x256x256 1 := cmpi .sgt main_v10 main_v2640
  let main_c_414 : IVec S_ 32 := constantI S_ 32 138#32
  let main_v2642 : IVec S5x256x256 32 := broadcastInDim S5x256x256 ![] bcast_S_S5x256x256 main_c_414
  let main_v2643 : IVec S5x256x256 1 := cmpi .sgt main_v11 main_v2642
  let main_v2644 : IVec S5x256x256 1 := andi main_v2641 main_v2643
  let main_v2645 : FVec F S5x256x256 .f32 := broadcastInDim S5x256x256 ![0, 1, 2] bcast_S5x1x256_S5x256x256_0_1_2 main_v2634
  let main_v2646 : FVec F S5x256x256 .f32 := mulf main_v2639 main_v2645
  let main_v2647 : FVec F S5x256x256 .f32 := subf main_v2633 main_v2646
  let main_v2648 : FVec F S5x256x256 .f32 := select main_v2644 main_v2647 main_v2633
  let main_c_415 : IVec S_ 32 := constantI S_ 32 138#32
  let main_v2649 : IVec S5x256x256 32 := broadcastInDim S5x256x256 ![] bcast_S_S5x256x256 main_c_415
  let main_v2650 : IVec S5x256x256 1 := cmpi .eq main_v11 main_v2649
  let main_v2651 : IVec S5x256x256 1 := andi main_v2641 main_v2650
  let main_v2652 : FVec F S5x256x256 .f32 := select main_v2651 main_v2639 main_v2648
  let main_v2653 : FVec F S5x1x256 .f32 := (extractStridedSlice S5x1x256 ![0, 139, 0] · slices_S5x256x256_S5x1x256_0_139_0) main_v2652
  let main_v2654 : FVec F S5x256x1 .f32 := (extractStridedSlice S5x256x1 ![0, 0, 139] · slices_S5x256x256_S5x256x1_0_0_139) main_v2652
  fn_part128 (F := F) main_arg0 main_v3 main_v7 main_v8 main_v10 main_v11 main_v2652 main_v2653 main_v2654

def fn_part126 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2601 : FVec F S5x256x256 .f32) (main_v2603 : IVec S5x256x256 1) (main_v2610 : FVec F S5x256x256 .f32) (main_v2612 : IVec S5x256x256 1) : IVec S9x256x256 1 × IVec S8x256x256 1 :=
  let main_v2613 : IVec S5x256x256 1 := andi main_v2603 main_v2612
  let main_v2614 : FVec F S5x256x256 .f32 := select main_v2613 main_v2601 main_v2610
  let main_v2615 : FVec F S5x1x256 .f32 := (extractStridedSlice S5x1x256 ![0, 137, 0] · slices_S5x256x256_S5x1x256_0_137_0) main_v2614
  let main_v2616 : FVec F S5x256x1 .f32 := (extractStridedSlice S5x256x1 ![0, 0, 137] · slices_S5x256x256_S5x256x1_0_0_137) main_v2614
  let main_v2617 : FVec F S5x1x1 .f32 := (extractStridedSlice S5x1x1 ![0, 0, 137] · slices_S5x1x256_S5x1x1_0_0_137) main_v2615
  let main_v2618 : FVec F S5x256x1 .f32 := broadcastInDim S5x256x1 ![0, 1, 2] bcast_S5x1x1_S5x256x1_0_1_2 main_v2617
  let main_v2619 : FVec F S5x256x1 .f32 := Host.divf main_v2616 main_v2618
  let main_v2620 : FVec F S5x256x256 .f32 := broadcastInDim S5x256x256 ![0, 1, 2] bcast_S5x256x1_S5x256x256_0_1_2 main_v2619
  let main_c_410 : IVec S_ 32 := constantI S_ 32 137#32
  let main_v2621 : IVec S5x256x256 32 := broadcastInDim S5x256x256 ![] bcast_S_S5x256x256 main_c_410
  let main_v2622 : IVec S5x256x256 1 := cmpi .sgt main_v10 main_v2621
  let main_c_411 : IVec S_ 32 := constantI S_ 32 137#32
  let main_v2623 : IVec S5x256x256 32 := broadcastInDim S5x256x256 ![] bcast_S_S5x256x256 main_c_411
  let main_v2624 : IVec S5x256x256 1 := cmpi .sgt main_v11 main_v2623
  let main_v2625 : IVec S5x256x256 1 := andi main_v2622 main_v2624
  let main_v2626 : FVec F S5x256x256 .f32 := broadcastInDim S5x256x256 ![0, 1, 2] bcast_S5x1x256_S5x256x256_0_1_2 main_v2615
  let main_v2627 : FVec F S5x256x256 .f32 := mulf main_v2620 main_v2626
  let main_v2628 : FVec F S5x256x256 .f32 := subf main_v2614 main_v2627
  let main_v2629 : FVec F S5x256x256 .f32 := select main_v2625 main_v2628 main_v2614
  let main_c_412 : IVec S_ 32 := constantI S_ 32 137#32
  let main_v2630 : IVec S5x256x256 32 := broadcastInDim S5x256x256 ![] bcast_S_S5x256x256 main_c_412
  let main_v2631 : IVec S5x256x256 1 := cmpi .eq main_v11 main_v2630
  let main_v2632 : IVec S5x256x256 1 := andi main_v2622 main_v2631
  let main_v2633 : FVec F S5x256x256 .f32 := select main_v2632 main_v2620 main_v2629
  fn_part127 (F := F) main_arg0 main_v3 main_v7 main_v8 main_v10 main_v11 main_v2633

def fn_part125 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2582 : FVec F S5x256x256 .f32) (main_v2584 : IVec S5x256x256 1) (main_v2591 : FVec F S5x256x256 .f32) (main_c_406 : IVec S_ 32) : IVec S9x256x256 1 × IVec S8x256x256 1 :=
  let main_v2592 : IVec S5x256x256 32 := broadcastInDim S5x256x256 ![] bcast_S_S5x256x256 main_c_406
  let main_v2593 : IVec S5x256x256 1 := cmpi .eq main_v11 main_v2592
  let main_v2594 : IVec S5x256x256 1 := andi main_v2584 main_v2593
  let main_v2595 : FVec F S5x256x256 .f32 := select main_v2594 main_v2582 main_v2591
  let main_v2596 : FVec F S5x1x256 .f32 := (extractStridedSlice S5x1x256 ![0, 136, 0] · slices_S5x256x256_S5x1x256_0_136_0) main_v2595
  let main_v2597 : FVec F S5x256x1 .f32 := (extractStridedSlice S5x256x1 ![0, 0, 136] · slices_S5x256x256_S5x256x1_0_0_136) main_v2595
  let main_v2598 : FVec F S5x1x1 .f32 := (extractStridedSlice S5x1x1 ![0, 0, 136] · slices_S5x1x256_S5x1x1_0_0_136) main_v2596
  let main_v2599 : FVec F S5x256x1 .f32 := broadcastInDim S5x256x1 ![0, 1, 2] bcast_S5x1x1_S5x256x1_0_1_2 main_v2598
  let main_v2600 : FVec F S5x256x1 .f32 := Host.divf main_v2597 main_v2599
  let main_v2601 : FVec F S5x256x256 .f32 := broadcastInDim S5x256x256 ![0, 1, 2] bcast_S5x256x1_S5x256x256_0_1_2 main_v2600
  let main_c_407 : IVec S_ 32 := constantI S_ 32 136#32
  let main_v2602 : IVec S5x256x256 32 := broadcastInDim S5x256x256 ![] bcast_S_S5x256x256 main_c_407
  let main_v2603 : IVec S5x256x256 1 := cmpi .sgt main_v10 main_v2602
  let main_c_408 : IVec S_ 32 := constantI S_ 32 136#32
  let main_v2604 : IVec S5x256x256 32 := broadcastInDim S5x256x256 ![] bcast_S_S5x256x256 main_c_408
  let main_v2605 : IVec S5x256x256 1 := cmpi .sgt main_v11 main_v2604
  let main_v2606 : IVec S5x256x256 1 := andi main_v2603 main_v2605
  let main_v2607 : FVec F S5x256x256 .f32 := broadcastInDim S5x256x256 ![0, 1, 2] bcast_S5x1x256_S5x256x256_0_1_2 main_v2596
  let main_v2608 : FVec F S5x256x256 .f32 := mulf main_v2601 main_v2607
  let main_v2609 : FVec F S5x256x256 .f32 := subf main_v2595 main_v2608
  let main_v2610 : FVec F S5x256x256 .f32 := select main_v2606 main_v2609 main_v2595
  let main_c_409 : IVec S_ 32 := constantI S_ 32 136#32
  let main_v2611 : IVec S5x256x256 32 := broadcastInDim S5x256x256 ![] bcast_S_S5x256x256 main_c_409
  let main_v2612 : IVec S5x256x256 1 := cmpi .eq main_v11 main_v2611
  fn_part126 (F := F) main_arg0 main_v3 main_v7 main_v8 main_v10 main_v11 main_v2601 main_v2603 main_v2610 main_v2612

def fn_part124 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2557 : FVec F S5x256x256 .f32) (main_v2563 : FVec F S5x256x256 .f32) (main_v2565 : IVec S5x256x256 1) (main_v2568 : IVec S5x256x256 1) (main_v2571 : FVec F S5x256x256 .f32) : IVec S9x256x256 1 × IVec S8x256x256 1 :=
  let main_v2572 : FVec F S5x256x256 .f32 := select main_v2568 main_v2571 main_v2557
  let main_c_403 : IVec S_ 32 := constantI S_ 32 134#32
  let main_v2573 : IVec S5x256x256 32 := broadcastInDim S5x256x256 ![] bcast_S_S5x256x256 main_c_403
  let main_v2574 : IVec S5x256x256 1 := cmpi .eq main_v11 main_v2573
  let main_v2575 : IVec S5x256x256 1 := andi main_v2565 main_v2574
  let main_v2576 : FVec F S5x256x256 .f32 := select main_v2575 main_v2563 main_v2572
  let main_v2577 : FVec F S5x1x256 .f32 := (extractStridedSlice S5x1x256 ![0, 135, 0] · slices_S5x256x256_S5x1x256_0_135_0) main_v2576
  let main_v2578 : FVec F S5x256x1 .f32 := (extractStridedSlice S5x256x1 ![0, 0, 135] · slices_S5x256x256_S5x256x1_0_0_135) main_v2576
  let main_v2579 : FVec F S5x1x1 .f32 := (extractStridedSlice S5x1x1 ![0, 0, 135] · slices_S5x1x256_S5x1x1_0_0_135) main_v2577
  let main_v2580 : FVec F S5x256x1 .f32 := broadcastInDim S5x256x1 ![0, 1, 2] bcast_S5x1x1_S5x256x1_0_1_2 main_v2579
  let main_v2581 : FVec F S5x256x1 .f32 := Host.divf main_v2578 main_v2580
  let main_v2582 : FVec F S5x256x256 .f32 := broadcastInDim S5x256x256 ![0, 1, 2] bcast_S5x256x1_S5x256x256_0_1_2 main_v2581
  let main_c_404 : IVec S_ 32 := constantI S_ 32 135#32
  let main_v2583 : IVec S5x256x256 32 := broadcastInDim S5x256x256 ![] bcast_S_S5x256x256 main_c_404
  let main_v2584 : IVec S5x256x256 1 := cmpi .sgt main_v10 main_v2583
  let main_c_405 : IVec S_ 32 := constantI S_ 32 135#32
  let main_v2585 : IVec S5x256x256 32 := broadcastInDim S5x256x256 ![] bcast_S_S5x256x256 main_c_405
  let main_v2586 : IVec S5x256x256 1 := cmpi .sgt main_v11 main_v2585
  let main_v2587 : IVec S5x256x256 1 := andi main_v2584 main_v2586
  let main_v2588 : FVec F S5x256x256 .f32 := broadcastInDim S5x256x256 ![0, 1, 2] bcast_S5x1x256_S5x256x256_0_1_2 main_v2577
  let main_v2589 : FVec F S5x256x256 .f32 := mulf main_v2582 main_v2588
  let main_v2590 : FVec F S5x256x256 .f32 := subf main_v2576 main_v2589
  let main_v2591 : FVec F S5x256x256 .f32 := select main_v2587 main_v2590 main_v2576
  let main_c_406 : IVec S_ 32 := constantI S_ 32 135#32
  fn_part125 (F := F) main_arg0 main_v3 main_v7 main_v8 main_v10 main_v11 main_v2582 main_v2584 main_v2591 main_c_406

def fn_part123 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2538 : FVec F S5x256x256 .f32) (main_v2544 : FVec F S5x256x256 .f32) (main_v2546 : IVec S5x256x256 1) (main_v2549 : IVec S5x256x256 1) (main_v2550 : FVec F S5x256x256 .f32) : IVec S9x256x256 1 × IVec S8x256x256 1 :=
  let main_v2551 : FVec F S5x256x256 .f32 := mulf main_v2544 main_v2550
  let main_v2552 : FVec F S5x256x256 .f32 := subf main_v2538 main_v2551
  let main_v2553 : FVec F S5x256x256 .f32 := select main_v2549 main_v2552 main_v2538
  let main_c_400 : IVec S_ 32 := constantI S_ 32 133#32
  let main_v2554 : IVec S5x256x256 32 := broadcastInDim S5x256x256 ![] bcast_S_S5x256x256 main_c_400
  let main_v2555 : IVec S5x256x256 1 := cmpi .eq main_v11 main_v2554
  let main_v2556 : IVec S5x256x256 1 := andi main_v2546 main_v2555
  let main_v2557 : FVec F S5x256x256 .f32 := select main_v2556 main_v2544 main_v2553
  let main_v2558 : FVec F S5x1x256 .f32 := (extractStridedSlice S5x1x256 ![0, 134, 0] · slices_S5x256x256_S5x1x256_0_134_0) main_v2557
  let main_v2559 : FVec F S5x256x1 .f32 := (extractStridedSlice S5x256x1 ![0, 0, 134] · slices_S5x256x256_S5x256x1_0_0_134) main_v2557
  let main_v2560 : FVec F S5x1x1 .f32 := (extractStridedSlice S5x1x1 ![0, 0, 134] · slices_S5x1x256_S5x1x1_0_0_134) main_v2558
  let main_v2561 : FVec F S5x256x1 .f32 := broadcastInDim S5x256x1 ![0, 1, 2] bcast_S5x1x1_S5x256x1_0_1_2 main_v2560
  let main_v2562 : FVec F S5x256x1 .f32 := Host.divf main_v2559 main_v2561
  let main_v2563 : FVec F S5x256x256 .f32 := broadcastInDim S5x256x256 ![0, 1, 2] bcast_S5x256x1_S5x256x256_0_1_2 main_v2562
  let main_c_401 : IVec S_ 32 := constantI S_ 32 134#32
  let main_v2564 : IVec S5x256x256 32 := broadcastInDim S5x256x256 ![] bcast_S_S5x256x256 main_c_401
  let main_v2565 : IVec S5x256x256 1 := cmpi .sgt main_v10 main_v2564
  let main_c_402 : IVec S_ 32 := constantI S_ 32 134#32
  let main_v2566 : IVec S5x256x256 32 := broadcastInDim S5x256x256 ![] bcast_S_S5x256x256 main_c_402
  let main_v2567 : IVec S5x256x256 1 := cmpi .sgt main_v11 main_v2566
  let main_v2568 : IVec S5x256x256 1 := andi main_v2565 main_v2567
  let main_v2569 : FVec F S5x256x256 .f32 := broadcastInDim S5x256x256 ![0, 1, 2] bcast_S5x1x256_S5x256x256_0_1_2 main_v2558
  let main_v2570 : FVec F S5x256x256 .f32 := mulf main_v2563 main_v2569
  let main_v2571 : FVec F S5x256x256 .f32 := subf main_v2557 main_v2570
  fn_part124 (F := F) main_arg0 main_v3 main_v7 main_v8 main_v10 main_v11 main_v2557 main_v2563 main_v2565 main_v2568 main_v2571

def fn_part122 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2519 : FVec F S5x256x256 .f32) (main_v2520 : FVec F S5x1x256 .f32) (main_v2525 : FVec F S5x256x256 .f32) (main_v2527 : IVec S5x256x256 1) (main_v2529 : IVec S5x256x256 1) : IVec S9x256x256 1 × IVec S8x256x256 1 :=
  let main_v2530 : IVec S5x256x256 1 := andi main_v2527 main_v2529
  let main_v2531 : FVec F S5x256x256 .f32 := broadcastInDim S5x256x256 ![0, 1, 2] bcast_S5x1x256_S5x256x256_0_1_2 main_v2520
  let main_v2532 : FVec F S5x256x256 .f32 := mulf main_v2525 main_v2531
  let main_v2533 : FVec F S5x256x256 .f32 := subf main_v2519 main_v2532
  let main_v2534 : FVec F S5x256x256 .f32 := select main_v2530 main_v2533 main_v2519
  let main_c_397 : IVec S_ 32 := constantI S_ 32 132#32
  let main_v2535 : IVec S5x256x256 32 := broadcastInDim S5x256x256 ![] bcast_S_S5x256x256 main_c_397
  let main_v2536 : IVec S5x256x256 1 := cmpi .eq main_v11 main_v2535
  let main_v2537 : IVec S5x256x256 1 := andi main_v2527 main_v2536
  let main_v2538 : FVec F S5x256x256 .f32 := select main_v2537 main_v2525 main_v2534
  let main_v2539 : FVec F S5x1x256 .f32 := (extractStridedSlice S5x1x256 ![0, 133, 0] · slices_S5x256x256_S5x1x256_0_133_0) main_v2538
  let main_v2540 : FVec F S5x256x1 .f32 := (extractStridedSlice S5x256x1 ![0, 0, 133] · slices_S5x256x256_S5x256x1_0_0_133) main_v2538
  let main_v2541 : FVec F S5x1x1 .f32 := (extractStridedSlice S5x1x1 ![0, 0, 133] · slices_S5x1x256_S5x1x1_0_0_133) main_v2539
  let main_v2542 : FVec F S5x256x1 .f32 := broadcastInDim S5x256x1 ![0, 1, 2] bcast_S5x1x1_S5x256x1_0_1_2 main_v2541
  let main_v2543 : FVec F S5x256x1 .f32 := Host.divf main_v2540 main_v2542
  let main_v2544 : FVec F S5x256x256 .f32 := broadcastInDim S5x256x256 ![0, 1, 2] bcast_S5x256x1_S5x256x256_0_1_2 main_v2543
  let main_c_398 : IVec S_ 32 := constantI S_ 32 133#32
  let main_v2545 : IVec S5x256x256 32 := broadcastInDim S5x256x256 ![] bcast_S_S5x256x256 main_c_398
  let main_v2546 : IVec S5x256x256 1 := cmpi .sgt main_v10 main_v2545
  let main_c_399 : IVec S_ 32 := constantI S_ 32 133#32
  let main_v2547 : IVec S5x256x256 32 := broadcastInDim S5x256x256 ![] bcast_S_S5x256x256 main_c_399
  let main_v2548 : IVec S5x256x256 1 := cmpi .sgt main_v11 main_v2547
  let main_v2549 : IVec S5x256x256 1 := andi main_v2546 main_v2548
  let main_v2550 : FVec F S5x256x256 .f32 := broadcastInDim S5x256x256 ![0, 1, 2] bcast_S5x1x256_S5x256x256_0_1_2 main_v2539
  fn_part123 (F := F) main_arg0 main_v3 main_v7 main_v8 main_v10 main_v11 main_v2538 main_v2544 main_v2546 main_v2549 main_v2550

def fn_part121 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2500 : FVec F S5x256x256 .f32) (main_v2501 : FVec F S5x1x256 .f32) (main_v2506 : FVec F S5x256x256 .f32) (main_v2508 : IVec S5x256x256 1) (main_c_393 : IVec S_ 32) : IVec S9x256x256 1 × IVec S8x256x256 1 :=
  let main_v2509 : IVec S5x256x256 32 := broadcastInDim S5x256x256 ![] bcast_S_S5x256x256 main_c_393
  let main_v2510 : IVec S5x256x256 1 := cmpi .sgt main_v11 main_v2509
  let main_v2511 : IVec S5x256x256 1 := andi main_v2508 main_v2510
  let main_v2512 : FVec F S5x256x256 .f32 := broadcastInDim S5x256x256 ![0, 1, 2] bcast_S5x1x256_S5x256x256_0_1_2 main_v2501
  let main_v2513 : FVec F S5x256x256 .f32 := mulf main_v2506 main_v2512
  let main_v2514 : FVec F S5x256x256 .f32 := subf main_v2500 main_v2513
  let main_v2515 : FVec F S5x256x256 .f32 := select main_v2511 main_v2514 main_v2500
  let main_c_394 : IVec S_ 32 := constantI S_ 32 131#32
  let main_v2516 : IVec S5x256x256 32 := broadcastInDim S5x256x256 ![] bcast_S_S5x256x256 main_c_394
  let main_v2517 : IVec S5x256x256 1 := cmpi .eq main_v11 main_v2516
  let main_v2518 : IVec S5x256x256 1 := andi main_v2508 main_v2517
  let main_v2519 : FVec F S5x256x256 .f32 := select main_v2518 main_v2506 main_v2515
  let main_v2520 : FVec F S5x1x256 .f32 := (extractStridedSlice S5x1x256 ![0, 132, 0] · slices_S5x256x256_S5x1x256_0_132_0) main_v2519
  let main_v2521 : FVec F S5x256x1 .f32 := (extractStridedSlice S5x256x1 ![0, 0, 132] · slices_S5x256x256_S5x256x1_0_0_132) main_v2519
  let main_v2522 : FVec F S5x1x1 .f32 := (extractStridedSlice S5x1x1 ![0, 0, 132] · slices_S5x1x256_S5x1x1_0_0_132) main_v2520
  let main_v2523 : FVec F S5x256x1 .f32 := broadcastInDim S5x256x1 ![0, 1, 2] bcast_S5x1x1_S5x256x1_0_1_2 main_v2522
  let main_v2524 : FVec F S5x256x1 .f32 := Host.divf main_v2521 main_v2523
  let main_v2525 : FVec F S5x256x256 .f32 := broadcastInDim S5x256x256 ![0, 1, 2] bcast_S5x256x1_S5x256x256_0_1_2 main_v2524
  let main_c_395 : IVec S_ 32 := constantI S_ 32 132#32
  let main_v2526 : IVec S5x256x256 32 := broadcastInDim S5x256x256 ![] bcast_S_S5x256x256 main_c_395
  let main_v2527 : IVec S5x256x256 1 := cmpi .sgt main_v10 main_v2526
  let main_c_396 : IVec S_ 32 := constantI S_ 32 132#32
  let main_v2528 : IVec S5x256x256 32 := broadcastInDim S5x256x256 ![] bcast_S_S5x256x256 main_c_396
  let main_v2529 : IVec S5x256x256 1 := cmpi .sgt main_v11 main_v2528
  fn_part122 (F := F) main_arg0 main_v3 main_v7 main_v8 main_v10 main_v11 main_v2519 main_v2520 main_v2525 main_v2527 main_v2529

def fn_part120 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2481 : FVec F S5x256x256 .f32) (main_v2482 : FVec F S5x1x256 .f32) (main_v2487 : FVec F S5x256x256 .f32) (main_v2488 : IVec S5x256x256 32) : IVec S9x256x256 1 × IVec S8x256x256 1 :=
  let main_v2489 : IVec S5x256x256 1 := cmpi .sgt main_v10 main_v2488
  let main_c_390 : IVec S_ 32 := constantI S_ 32 130#32
  let main_v2490 : IVec S5x256x256 32 := broadcastInDim S5x256x256 ![] bcast_S_S5x256x256 main_c_390
  let main_v2491 : IVec S5x256x256 1 := cmpi .sgt main_v11 main_v2490
  let main_v2492 : IVec S5x256x256 1 := andi main_v2489 main_v2491
  let main_v2493 : FVec F S5x256x256 .f32 := broadcastInDim S5x256x256 ![0, 1, 2] bcast_S5x1x256_S5x256x256_0_1_2 main_v2482
  let main_v2494 : FVec F S5x256x256 .f32 := mulf main_v2487 main_v2493
  let main_v2495 : FVec F S5x256x256 .f32 := subf main_v2481 main_v2494
  let main_v2496 : FVec F S5x256x256 .f32 := select main_v2492 main_v2495 main_v2481
  let main_c_391 : IVec S_ 32 := constantI S_ 32 130#32
  let main_v2497 : IVec S5x256x256 32 := broadcastInDim S5x256x256 ![] bcast_S_S5x256x256 main_c_391
  let main_v2498 : IVec S5x256x256 1 := cmpi .eq main_v11 main_v2497
  let main_v2499 : IVec S5x256x256 1 := andi main_v2489 main_v2498
  let main_v2500 : FVec F S5x256x256 .f32 := select main_v2499 main_v2487 main_v2496
  let main_v2501 : FVec F S5x1x256 .f32 := (extractStridedSlice S5x1x256 ![0, 131, 0] · slices_S5x256x256_S5x1x256_0_131_0) main_v2500
  let main_v2502 : FVec F S5x256x1 .f32 := (extractStridedSlice S5x256x1 ![0, 0, 131] · slices_S5x256x256_S5x256x1_0_0_131) main_v2500
  let main_v2503 : FVec F S5x1x1 .f32 := (extractStridedSlice S5x1x1 ![0, 0, 131] · slices_S5x1x256_S5x1x1_0_0_131) main_v2501
  let main_v2504 : FVec F S5x256x1 .f32 := broadcastInDim S5x256x1 ![0, 1, 2] bcast_S5x1x1_S5x256x1_0_1_2 main_v2503
  let main_v2505 : FVec F S5x256x1 .f32 := Host.divf main_v2502 main_v2504
  let main_v2506 : FVec F S5x256x256 .f32 := broadcastInDim S5x256x256 ![0, 1, 2] bcast_S5x256x1_S5x256x256_0_1_2 main_v2505
  let main_c_392 : IVec S_ 32 := constantI S_ 32 131#32
  let main_v2507 : IVec S5x256x256 32 := broadcastInDim S5x256x256 ![] bcast_S_S5x256x256 main_c_392
  let main_v2508 : IVec S5x256x256 1 := cmpi .sgt main_v10 main_v2507
  let main_c_393 : IVec S_ 32 := constantI S_ 32 131#32
  fn_part121 (F := F) main_arg0 main_v3 main_v7 main_v8 main_v10 main_v11 main_v2500 main_v2501 main_v2506 main_v2508 main_c_393

def fn_part119 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2462 : FVec F S5x256x256 .f32) (main_v2463 : FVec F S5x1x256 .f32) (main_v2468 : FVec F S5x256x256 .f32) : IVec S9x256x256 1 × IVec S8x256x256 1 :=
  let main_c_386 : IVec S_ 32 := constantI S_ 32 129#32
  let main_v2469 : IVec S5x256x256 32 := broadcastInDim S5x256x256 ![] bcast_S_S5x256x256 main_c_386
  let main_v2470 : IVec S5x256x256 1 := cmpi .sgt main_v10 main_v2469
  let main_c_387 : IVec S_ 32 := constantI S_ 32 129#32
  let main_v2471 : IVec S5x256x256 32 := broadcastInDim S5x256x256 ![] bcast_S_S5x256x256 main_c_387
  let main_v2472 : IVec S5x256x256 1 := cmpi .sgt main_v11 main_v2471
  let main_v2473 : IVec S5x256x256 1 := andi main_v2470 main_v2472
  let main_v2474 : FVec F S5x256x256 .f32 := broadcastInDim S5x256x256 ![0, 1, 2] bcast_S5x1x256_S5x256x256_0_1_2 main_v2463
  let main_v2475 : FVec F S5x256x256 .f32 := mulf main_v2468 main_v2474
  let main_v2476 : FVec F S5x256x256 .f32 := subf main_v2462 main_v2475
  let main_v2477 : FVec F S5x256x256 .f32 := select main_v2473 main_v2476 main_v2462
  let main_c_388 : IVec S_ 32 := constantI S_ 32 129#32
  let main_v2478 : IVec S5x256x256 32 := broadcastInDim S5x256x256 ![] bcast_S_S5x256x256 main_c_388
  let main_v2479 : IVec S5x256x256 1 := cmpi .eq main_v11 main_v2478
  let main_v2480 : IVec S5x256x256 1 := andi main_v2470 main_v2479
  let main_v2481 : FVec F S5x256x256 .f32 := select main_v2480 main_v2468 main_v2477
  let main_v2482 : FVec F S5x1x256 .f32 := (extractStridedSlice S5x1x256 ![0, 130, 0] · slices_S5x256x256_S5x1x256_0_130_0) main_v2481
  let main_v2483 : FVec F S5x256x1 .f32 := (extractStridedSlice S5x256x1 ![0, 0, 130] · slices_S5x256x256_S5x256x1_0_0_130) main_v2481
  let main_v2484 : FVec F S5x1x1 .f32 := (extractStridedSlice S5x1x1 ![0, 0, 130] · slices_S5x1x256_S5x1x1_0_0_130) main_v2482
  let main_v2485 : FVec F S5x256x1 .f32 := broadcastInDim S5x256x1 ![0, 1, 2] bcast_S5x1x1_S5x256x1_0_1_2 main_v2484
  let main_v2486 : FVec F S5x256x1 .f32 := Host.divf main_v2483 main_v2485
  let main_v2487 : FVec F S5x256x256 .f32 := broadcastInDim S5x256x256 ![0, 1, 2] bcast_S5x256x1_S5x256x256_0_1_2 main_v2486
  let main_c_389 : IVec S_ 32 := constantI S_ 32 130#32
  let main_v2488 : IVec S5x256x256 32 := broadcastInDim S5x256x256 ![] bcast_S_S5x256x256 main_c_389
  fn_part120 (F := F) main_arg0 main_v3 main_v7 main_v8 main_v10 main_v11 main_v2481 main_v2482 main_v2487 main_v2488

def fn_part118 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2443 : FVec F S5x256x256 .f32) (main_v2444 : FVec F S5x1x256 .f32) (main_v2445 : FVec F S5x256x1 .f32) (main_v2447 : FVec F S5x256x1 .f32) : IVec S9x256x256 1 × IVec S8x256x256 1 :=
  let main_v2448 : FVec F S5x256x1 .f32 := Host.divf main_v2445 main_v2447
  let main_v2449 : FVec F S5x256x256 .f32 := broadcastInDim S5x256x256 ![0, 1, 2] bcast_S5x256x1_S5x256x256_0_1_2 main_v2448
  let main_c_383 : IVec S_ 32 := constantI S_ 32 128#32
  let main_v2450 : IVec S5x256x256 32 := broadcastInDim S5x256x256 ![] bcast_S_S5x256x256 main_c_383
  let main_v2451 : IVec S5x256x256 1 := cmpi .sgt main_v10 main_v2450
  let main_c_384 : IVec S_ 32 := constantI S_ 32 128#32
  let main_v2452 : IVec S5x256x256 32 := broadcastInDim S5x256x256 ![] bcast_S_S5x256x256 main_c_384
  let main_v2453 : IVec S5x256x256 1 := cmpi .sgt main_v11 main_v2452
  let main_v2454 : IVec S5x256x256 1 := andi main_v2451 main_v2453
  let main_v2455 : FVec F S5x256x256 .f32 := broadcastInDim S5x256x256 ![0, 1, 2] bcast_S5x1x256_S5x256x256_0_1_2 main_v2444
  let main_v2456 : FVec F S5x256x256 .f32 := mulf main_v2449 main_v2455
  let main_v2457 : FVec F S5x256x256 .f32 := subf main_v2443 main_v2456
  let main_v2458 : FVec F S5x256x256 .f32 := select main_v2454 main_v2457 main_v2443
  let main_c_385 : IVec S_ 32 := constantI S_ 32 128#32
  let main_v2459 : IVec S5x256x256 32 := broadcastInDim S5x256x256 ![] bcast_S_S5x256x256 main_c_385
  let main_v2460 : IVec S5x256x256 1 := cmpi .eq main_v11 main_v2459
  let main_v2461 : IVec S5x256x256 1 := andi main_v2451 main_v2460
  let main_v2462 : FVec F S5x256x256 .f32 := select main_v2461 main_v2449 main_v2458
  let main_v2463 : FVec F S5x1x256 .f32 := (extractStridedSlice S5x1x256 ![0, 129, 0] · slices_S5x256x256_S5x1x256_0_129_0) main_v2462
  let main_v2464 : FVec F S5x256x1 .f32 := (extractStridedSlice S5x256x1 ![0, 0, 129] · slices_S5x256x256_S5x256x1_0_0_129) main_v2462
  let main_v2465 : FVec F S5x1x1 .f32 := (extractStridedSlice S5x1x1 ![0, 0, 129] · slices_S5x1x256_S5x1x1_0_0_129) main_v2463
  let main_v2466 : FVec F S5x256x1 .f32 := broadcastInDim S5x256x1 ![0, 1, 2] bcast_S5x1x1_S5x256x1_0_1_2 main_v2465
  let main_v2467 : FVec F S5x256x1 .f32 := Host.divf main_v2464 main_v2466
  let main_v2468 : FVec F S5x256x256 .f32 := broadcastInDim S5x256x256 ![0, 1, 2] bcast_S5x256x1_S5x256x256_0_1_2 main_v2467
  fn_part119 (F := F) main_arg0 main_v3 main_v7 main_v8 main_v10 main_v11 main_v2462 main_v2463 main_v2468

def fn_part117 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2424 : FVec F S5x256x256 .f32) (main_v2425 : FVec F S5x1x256 .f32) (main_v2426 : FVec F S5x256x1 .f32) : IVec S9x256x256 1 × IVec S8x256x256 1 :=
  let main_v2427 : FVec F S5x1x1 .f32 := (extractStridedSlice S5x1x1 ![0, 0, 127] · slices_S5x1x256_S5x1x1_0_0_127) main_v2425
  let main_v2428 : FVec F S5x256x1 .f32 := broadcastInDim S5x256x1 ![0, 1, 2] bcast_S5x1x1_S5x256x1_0_1_2 main_v2427
  let main_v2429 : FVec F S5x256x1 .f32 := Host.divf main_v2426 main_v2428
  let main_v2430 : FVec F S5x256x256 .f32 := broadcastInDim S5x256x256 ![0, 1, 2] bcast_S5x256x1_S5x256x256_0_1_2 main_v2429
  let main_c_380 : IVec S_ 32 := constantI S_ 32 127#32
  let main_v2431 : IVec S5x256x256 32 := broadcastInDim S5x256x256 ![] bcast_S_S5x256x256 main_c_380
  let main_v2432 : IVec S5x256x256 1 := cmpi .sgt main_v10 main_v2431
  let main_c_381 : IVec S_ 32 := constantI S_ 32 127#32
  let main_v2433 : IVec S5x256x256 32 := broadcastInDim S5x256x256 ![] bcast_S_S5x256x256 main_c_381
  let main_v2434 : IVec S5x256x256 1 := cmpi .sgt main_v11 main_v2433
  let main_v2435 : IVec S5x256x256 1 := andi main_v2432 main_v2434
  let main_v2436 : FVec F S5x256x256 .f32 := broadcastInDim S5x256x256 ![0, 1, 2] bcast_S5x1x256_S5x256x256_0_1_2 main_v2425
  let main_v2437 : FVec F S5x256x256 .f32 := mulf main_v2430 main_v2436
  let main_v2438 : FVec F S5x256x256 .f32 := subf main_v2424 main_v2437
  let main_v2439 : FVec F S5x256x256 .f32 := select main_v2435 main_v2438 main_v2424
  let main_c_382 : IVec S_ 32 := constantI S_ 32 127#32
  let main_v2440 : IVec S5x256x256 32 := broadcastInDim S5x256x256 ![] bcast_S_S5x256x256 main_c_382
  let main_v2441 : IVec S5x256x256 1 := cmpi .eq main_v11 main_v2440
  let main_v2442 : IVec S5x256x256 1 := andi main_v2432 main_v2441
  let main_v2443 : FVec F S5x256x256 .f32 := select main_v2442 main_v2430 main_v2439
  let main_v2444 : FVec F S5x1x256 .f32 := (extractStridedSlice S5x1x256 ![0, 128, 0] · slices_S5x256x256_S5x1x256_0_128_0) main_v2443
  let main_v2445 : FVec F S5x256x1 .f32 := (extractStridedSlice S5x256x1 ![0, 0, 128] · slices_S5x256x256_S5x256x1_0_0_128) main_v2443
  let main_v2446 : FVec F S5x1x1 .f32 := (extractStridedSlice S5x1x1 ![0, 0, 128] · slices_S5x1x256_S5x1x1_0_0_128) main_v2444
  let main_v2447 : FVec F S5x256x1 .f32 := broadcastInDim S5x256x1 ![0, 1, 2] bcast_S5x1x1_S5x256x1_0_1_2 main_v2446
  fn_part118 (F := F) main_arg0 main_v3 main_v7 main_v8 main_v10 main_v11 main_v2443 main_v2444 main_v2445 main_v2447

def fn_part116 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2405 : FVec F S5x256x256 .f32) : IVec S9x256x256 1 × IVec S8x256x256 1 :=
  let main_v2406 : FVec F S5x1x256 .f32 := (extractStridedSlice S5x1x256 ![0, 126, 0] · slices_S5x256x256_S5x1x256_0_126_0) main_v2405
  let main_v2407 : FVec F S5x256x1 .f32 := (extractStridedSlice S5x256x1 ![0, 0, 126] · slices_S5x256x256_S5x256x1_0_0_126) main_v2405
  let main_v2408 : FVec F S5x1x1 .f32 := (extractStridedSlice S5x1x1 ![0, 0, 126] · slices_S5x1x256_S5x1x1_0_0_126) main_v2406
  let main_v2409 : FVec F S5x256x1 .f32 := broadcastInDim S5x256x1 ![0, 1, 2] bcast_S5x1x1_S5x256x1_0_1_2 main_v2408
  let main_v2410 : FVec F S5x256x1 .f32 := Host.divf main_v2407 main_v2409
  let main_v2411 : FVec F S5x256x256 .f32 := broadcastInDim S5x256x256 ![0, 1, 2] bcast_S5x256x1_S5x256x256_0_1_2 main_v2410
  let main_c_377 : IVec S_ 32 := constantI S_ 32 126#32
  let main_v2412 : IVec S5x256x256 32 := broadcastInDim S5x256x256 ![] bcast_S_S5x256x256 main_c_377
  let main_v2413 : IVec S5x256x256 1 := cmpi .sgt main_v10 main_v2412
  let main_c_378 : IVec S_ 32 := constantI S_ 32 126#32
  let main_v2414 : IVec S5x256x256 32 := broadcastInDim S5x256x256 ![] bcast_S_S5x256x256 main_c_378
  let main_v2415 : IVec S5x256x256 1 := cmpi .sgt main_v11 main_v2414
  let main_v2416 : IVec S5x256x256 1 := andi main_v2413 main_v2415
  let main_v2417 : FVec F S5x256x256 .f32 := broadcastInDim S5x256x256 ![0, 1, 2] bcast_S5x1x256_S5x256x256_0_1_2 main_v2406
  let main_v2418 : FVec F S5x256x256 .f32 := mulf main_v2411 main_v2417
  let main_v2419 : FVec F S5x256x256 .f32 := subf main_v2405 main_v2418
  let main_v2420 : FVec F S5x256x256 .f32 := select main_v2416 main_v2419 main_v2405
  let main_c_379 : IVec S_ 32 := constantI S_ 32 126#32
  let main_v2421 : IVec S5x256x256 32 := broadcastInDim S5x256x256 ![] bcast_S_S5x256x256 main_c_379
  let main_v2422 : IVec S5x256x256 1 := cmpi .eq main_v11 main_v2421
  let main_v2423 : IVec S5x256x256 1 := andi main_v2413 main_v2422
  let main_v2424 : FVec F S5x256x256 .f32 := select main_v2423 main_v2411 main_v2420
  let main_v2425 : FVec F S5x1x256 .f32 := (extractStridedSlice S5x1x256 ![0, 127, 0] · slices_S5x256x256_S5x1x256_0_127_0) main_v2424
  let main_v2426 : FVec F S5x256x1 .f32 := (extractStridedSlice S5x256x1 ![0, 0, 127] · slices_S5x256x256_S5x256x1_0_0_127) main_v2424
  fn_part117 (F := F) main_arg0 main_v3 main_v7 main_v8 main_v10 main_v11 main_v2424 main_v2425 main_v2426

def fn_part115 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2373 : FVec F S5x256x256 .f32) (main_v2375 : IVec S5x256x256 1) (main_v2382 : FVec F S5x256x256 .f32) (main_v2384 : IVec S5x256x256 1) : IVec S9x256x256 1 × IVec S8x256x256 1 :=
  let main_v2385 : IVec S5x256x256 1 := andi main_v2375 main_v2384
  let main_v2386 : FVec F S5x256x256 .f32 := select main_v2385 main_v2373 main_v2382
  let main_v2387 : FVec F S5x1x256 .f32 := (extractStridedSlice S5x1x256 ![0, 125, 0] · slices_S5x256x256_S5x1x256_0_125_0) main_v2386
  let main_v2388 : FVec F S5x256x1 .f32 := (extractStridedSlice S5x256x1 ![0, 0, 125] · slices_S5x256x256_S5x256x1_0_0_125) main_v2386
  let main_v2389 : FVec F S5x1x1 .f32 := (extractStridedSlice S5x1x1 ![0, 0, 125] · slices_S5x1x256_S5x1x1_0_0_125) main_v2387
  let main_v2390 : FVec F S5x256x1 .f32 := broadcastInDim S5x256x1 ![0, 1, 2] bcast_S5x1x1_S5x256x1_0_1_2 main_v2389
  let main_v2391 : FVec F S5x256x1 .f32 := Host.divf main_v2388 main_v2390
  let main_v2392 : FVec F S5x256x256 .f32 := broadcastInDim S5x256x256 ![0, 1, 2] bcast_S5x256x1_S5x256x256_0_1_2 main_v2391
  let main_c_374 : IVec S_ 32 := constantI S_ 32 125#32
  let main_v2393 : IVec S5x256x256 32 := broadcastInDim S5x256x256 ![] bcast_S_S5x256x256 main_c_374
  let main_v2394 : IVec S5x256x256 1 := cmpi .sgt main_v10 main_v2393
  let main_c_375 : IVec S_ 32 := constantI S_ 32 125#32
  let main_v2395 : IVec S5x256x256 32 := broadcastInDim S5x256x256 ![] bcast_S_S5x256x256 main_c_375
  let main_v2396 : IVec S5x256x256 1 := cmpi .sgt main_v11 main_v2395
  let main_v2397 : IVec S5x256x256 1 := andi main_v2394 main_v2396
  let main_v2398 : FVec F S5x256x256 .f32 := broadcastInDim S5x256x256 ![0, 1, 2] bcast_S5x1x256_S5x256x256_0_1_2 main_v2387
  let main_v2399 : FVec F S5x256x256 .f32 := mulf main_v2392 main_v2398
  let main_v2400 : FVec F S5x256x256 .f32 := subf main_v2386 main_v2399
  let main_v2401 : FVec F S5x256x256 .f32 := select main_v2397 main_v2400 main_v2386
  let main_c_376 : IVec S_ 32 := constantI S_ 32 125#32
  let main_v2402 : IVec S5x256x256 32 := broadcastInDim S5x256x256 ![] bcast_S_S5x256x256 main_c_376
  let main_v2403 : IVec S5x256x256 1 := cmpi .eq main_v11 main_v2402
  let main_v2404 : IVec S5x256x256 1 := andi main_v2394 main_v2403
  let main_v2405 : FVec F S5x256x256 .f32 := select main_v2404 main_v2392 main_v2401
  fn_part116 (F := F) main_arg0 main_v3 main_v7 main_v8 main_v10 main_v11 main_v2405

def fn_part114 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2354 : FVec F S5x256x256 .f32) (main_v2356 : IVec S5x256x256 1) (main_v2363 : FVec F S5x256x256 .f32) (main_c_370 : IVec S_ 32) : IVec S9x256x256 1 × IVec S8x256x256 1 :=
  let main_v2364 : IVec S5x256x256 32 := broadcastInDim S5x256x256 ![] bcast_S_S5x256x256 main_c_370
  let main_v2365 : IVec S5x256x256 1 := cmpi .eq main_v11 main_v2364
  let main_v2366 : IVec S5x256x256 1 := andi main_v2356 main_v2365
  let main_v2367 : FVec F S5x256x256 .f32 := select main_v2366 main_v2354 main_v2363
  let main_v2368 : FVec F S5x1x256 .f32 := (extractStridedSlice S5x1x256 ![0, 124, 0] · slices_S5x256x256_S5x1x256_0_124_0) main_v2367
  let main_v2369 : FVec F S5x256x1 .f32 := (extractStridedSlice S5x256x1 ![0, 0, 124] · slices_S5x256x256_S5x256x1_0_0_124) main_v2367
  let main_v2370 : FVec F S5x1x1 .f32 := (extractStridedSlice S5x1x1 ![0, 0, 124] · slices_S5x1x256_S5x1x1_0_0_124) main_v2368
  let main_v2371 : FVec F S5x256x1 .f32 := broadcastInDim S5x256x1 ![0, 1, 2] bcast_S5x1x1_S5x256x1_0_1_2 main_v2370
  let main_v2372 : FVec F S5x256x1 .f32 := Host.divf main_v2369 main_v2371
  let main_v2373 : FVec F S5x256x256 .f32 := broadcastInDim S5x256x256 ![0, 1, 2] bcast_S5x256x1_S5x256x256_0_1_2 main_v2372
  let main_c_371 : IVec S_ 32 := constantI S_ 32 124#32
  let main_v2374 : IVec S5x256x256 32 := broadcastInDim S5x256x256 ![] bcast_S_S5x256x256 main_c_371
  let main_v2375 : IVec S5x256x256 1 := cmpi .sgt main_v10 main_v2374
  let main_c_372 : IVec S_ 32 := constantI S_ 32 124#32
  let main_v2376 : IVec S5x256x256 32 := broadcastInDim S5x256x256 ![] bcast_S_S5x256x256 main_c_372
  let main_v2377 : IVec S5x256x256 1 := cmpi .sgt main_v11 main_v2376
  let main_v2378 : IVec S5x256x256 1 := andi main_v2375 main_v2377
  let main_v2379 : FVec F S5x256x256 .f32 := broadcastInDim S5x256x256 ![0, 1, 2] bcast_S5x1x256_S5x256x256_0_1_2 main_v2368
  let main_v2380 : FVec F S5x256x256 .f32 := mulf main_v2373 main_v2379
  let main_v2381 : FVec F S5x256x256 .f32 := subf main_v2367 main_v2380
  let main_v2382 : FVec F S5x256x256 .f32 := select main_v2378 main_v2381 main_v2367
  let main_c_373 : IVec S_ 32 := constantI S_ 32 124#32
  let main_v2383 : IVec S5x256x256 32 := broadcastInDim S5x256x256 ![] bcast_S_S5x256x256 main_c_373
  let main_v2384 : IVec S5x256x256 1 := cmpi .eq main_v11 main_v2383
  fn_part115 (F := F) main_arg0 main_v3 main_v7 main_v8 main_v10 main_v11 main_v2373 main_v2375 main_v2382 main_v2384

def fn_part113 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2329 : FVec F S5x256x256 .f32) (main_v2335 : FVec F S5x256x256 .f32) (main_v2337 : IVec S5x256x256 1) (main_v2340 : IVec S5x256x256 1) (main_v2343 : FVec F S5x256x256 .f32) : IVec S9x256x256 1 × IVec S8x256x256 1 :=
  let main_v2344 : FVec F S5x256x256 .f32 := select main_v2340 main_v2343 main_v2329
  let main_c_367 : IVec S_ 32 := constantI S_ 32 122#32
  let main_v2345 : IVec S5x256x256 32 := broadcastInDim S5x256x256 ![] bcast_S_S5x256x256 main_c_367
  let main_v2346 : IVec S5x256x256 1 := cmpi .eq main_v11 main_v2345
  let main_v2347 : IVec S5x256x256 1 := andi main_v2337 main_v2346
  let main_v2348 : FVec F S5x256x256 .f32 := select main_v2347 main_v2335 main_v2344
  let main_v2349 : FVec F S5x1x256 .f32 := (extractStridedSlice S5x1x256 ![0, 123, 0] · slices_S5x256x256_S5x1x256_0_123_0) main_v2348
  let main_v2350 : FVec F S5x256x1 .f32 := (extractStridedSlice S5x256x1 ![0, 0, 123] · slices_S5x256x256_S5x256x1_0_0_123) main_v2348
  let main_v2351 : FVec F S5x1x1 .f32 := (extractStridedSlice S5x1x1 ![0, 0, 123] · slices_S5x1x256_S5x1x1_0_0_123) main_v2349
  let main_v2352 : FVec F S5x256x1 .f32 := broadcastInDim S5x256x1 ![0, 1, 2] bcast_S5x1x1_S5x256x1_0_1_2 main_v2351
  let main_v2353 : FVec F S5x256x1 .f32 := Host.divf main_v2350 main_v2352
  let main_v2354 : FVec F S5x256x256 .f32 := broadcastInDim S5x256x256 ![0, 1, 2] bcast_S5x256x1_S5x256x256_0_1_2 main_v2353
  let main_c_368 : IVec S_ 32 := constantI S_ 32 123#32
  let main_v2355 : IVec S5x256x256 32 := broadcastInDim S5x256x256 ![] bcast_S_S5x256x256 main_c_368
  let main_v2356 : IVec S5x256x256 1 := cmpi .sgt main_v10 main_v2355
  let main_c_369 : IVec S_ 32 := constantI S_ 32 123#32
  let main_v2357 : IVec S5x256x256 32 := broadcastInDim S5x256x256 ![] bcast_S_S5x256x256 main_c_369
  let main_v2358 : IVec S5x256x256 1 := cmpi .sgt main_v11 main_v2357
  let main_v2359 : IVec S5x256x256 1 := andi main_v2356 main_v2358
  let main_v2360 : FVec F S5x256x256 .f32 := broadcastInDim S5x256x256 ![0, 1, 2] bcast_S5x1x256_S5x256x256_0_1_2 main_v2349
  let main_v2361 : FVec F S5x256x256 .f32 := mulf main_v2354 main_v2360
  let main_v2362 : FVec F S5x256x256 .f32 := subf main_v2348 main_v2361
  let main_v2363 : FVec F S5x256x256 .f32 := select main_v2359 main_v2362 main_v2348
  let main_c_370 : IVec S_ 32 := constantI S_ 32 123#32
  fn_part114 (F := F) main_arg0 main_v3 main_v7 main_v8 main_v10 main_v11 main_v2354 main_v2356 main_v2363 main_c_370

def fn_part112 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2310 : FVec F S5x256x256 .f32) (main_v2316 : FVec F S5x256x256 .f32) (main_v2318 : IVec S5x256x256 1) (main_v2321 : IVec S5x256x256 1) (main_v2322 : FVec F S5x256x256 .f32) : IVec S9x256x256 1 × IVec S8x256x256 1 :=
  let main_v2323 : FVec F S5x256x256 .f32 := mulf main_v2316 main_v2322
  let main_v2324 : FVec F S5x256x256 .f32 := subf main_v2310 main_v2323
  let main_v2325 : FVec F S5x256x256 .f32 := select main_v2321 main_v2324 main_v2310
  let main_c_364 : IVec S_ 32 := constantI S_ 32 121#32
  let main_v2326 : IVec S5x256x256 32 := broadcastInDim S5x256x256 ![] bcast_S_S5x256x256 main_c_364
  let main_v2327 : IVec S5x256x256 1 := cmpi .eq main_v11 main_v2326
  let main_v2328 : IVec S5x256x256 1 := andi main_v2318 main_v2327
  let main_v2329 : FVec F S5x256x256 .f32 := select main_v2328 main_v2316 main_v2325
  let main_v2330 : FVec F S5x1x256 .f32 := (extractStridedSlice S5x1x256 ![0, 122, 0] · slices_S5x256x256_S5x1x256_0_122_0) main_v2329
  let main_v2331 : FVec F S5x256x1 .f32 := (extractStridedSlice S5x256x1 ![0, 0, 122] · slices_S5x256x256_S5x256x1_0_0_122) main_v2329
  let main_v2332 : FVec F S5x1x1 .f32 := (extractStridedSlice S5x1x1 ![0, 0, 122] · slices_S5x1x256_S5x1x1_0_0_122) main_v2330
  let main_v2333 : FVec F S5x256x1 .f32 := broadcastInDim S5x256x1 ![0, 1, 2] bcast_S5x1x1_S5x256x1_0_1_2 main_v2332
  let main_v2334 : FVec F S5x256x1 .f32 := Host.divf main_v2331 main_v2333
  let main_v2335 : FVec F S5x256x256 .f32 := broadcastInDim S5x256x256 ![0, 1, 2] bcast_S5x256x1_S5x256x256_0_1_2 main_v2334
  let main_c_365 : IVec S_ 32 := constantI S_ 32 122#32
  let main_v2336 : IVec S5x256x256 32 := broadcastInDim S5x256x256 ![] bcast_S_S5x256x256 main_c_365
  let main_v2337 : IVec S5x256x256 1 := cmpi .sgt main_v10 main_v2336
  let main_c_366 : IVec S_ 32 := constantI S_ 32 122#32
  let main_v2338 : IVec S5x256x256 32 := broadcastInDim S5x256x256 ![] bcast_S_S5x256x256 main_c_366
  let main_v2339 : IVec S5x256x256 1 := cmpi .sgt main_v11 main_v2338
  let main_v2340 : IVec S5x256x256 1 := andi main_v2337 main_v2339
  let main_v2341 : FVec F S5x256x256 .f32 := broadcastInDim S5x256x256 ![0, 1, 2] bcast_S5x1x256_S5x256x256_0_1_2 main_v2330
  let main_v2342 : FVec F S5x256x256 .f32 := mulf main_v2335 main_v2341
  let main_v2343 : FVec F S5x256x256 .f32 := subf main_v2329 main_v2342
  fn_part113 (F := F) main_arg0 main_v3 main_v7 main_v8 main_v10 main_v11 main_v2329 main_v2335 main_v2337 main_v2340 main_v2343

def fn_part111 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2291 : FVec F S5x256x256 .f32) (main_v2292 : FVec F S5x1x256 .f32) (main_v2297 : FVec F S5x256x256 .f32) (main_v2299 : IVec S5x256x256 1) (main_v2301 : IVec S5x256x256 1) : IVec S9x256x256 1 × IVec S8x256x256 1 :=
  let main_v2302 : IVec S5x256x256 1 := andi main_v2299 main_v2301
  let main_v2303 : FVec F S5x256x256 .f32 := broadcastInDim S5x256x256 ![0, 1, 2] bcast_S5x1x256_S5x256x256_0_1_2 main_v2292
  let main_v2304 : FVec F S5x256x256 .f32 := mulf main_v2297 main_v2303
  let main_v2305 : FVec F S5x256x256 .f32 := subf main_v2291 main_v2304
  let main_v2306 : FVec F S5x256x256 .f32 := select main_v2302 main_v2305 main_v2291
  let main_c_361 : IVec S_ 32 := constantI S_ 32 120#32
  let main_v2307 : IVec S5x256x256 32 := broadcastInDim S5x256x256 ![] bcast_S_S5x256x256 main_c_361
  let main_v2308 : IVec S5x256x256 1 := cmpi .eq main_v11 main_v2307
  let main_v2309 : IVec S5x256x256 1 := andi main_v2299 main_v2308
  let main_v2310 : FVec F S5x256x256 .f32 := select main_v2309 main_v2297 main_v2306
  let main_v2311 : FVec F S5x1x256 .f32 := (extractStridedSlice S5x1x256 ![0, 121, 0] · slices_S5x256x256_S5x1x256_0_121_0) main_v2310
  let main_v2312 : FVec F S5x256x1 .f32 := (extractStridedSlice S5x256x1 ![0, 0, 121] · slices_S5x256x256_S5x256x1_0_0_121) main_v2310
  let main_v2313 : FVec F S5x1x1 .f32 := (extractStridedSlice S5x1x1 ![0, 0, 121] · slices_S5x1x256_S5x1x1_0_0_121) main_v2311
  let main_v2314 : FVec F S5x256x1 .f32 := broadcastInDim S5x256x1 ![0, 1, 2] bcast_S5x1x1_S5x256x1_0_1_2 main_v2313
  let main_v2315 : FVec F S5x256x1 .f32 := Host.divf main_v2312 main_v2314
  let main_v2316 : FVec F S5x256x256 .f32 := broadcastInDim S5x256x256 ![0, 1, 2] bcast_S5x256x1_S5x256x256_0_1_2 main_v2315
  let main_c_362 : IVec S_ 32 := constantI S_ 32 121#32
  let main_v2317 : IVec S5x256x256 32 := broadcastInDim S5x256x256 ![] bcast_S_S5x256x256 main_c_362
  let main_v2318 : IVec S5x256x256 1 := cmpi .sgt main_v10 main_v2317
  let main_c_363 : IVec S_ 32 := constantI S_ 32 121#32
  let main_v2319 : IVec S5x256x256 32 := broadcastInDim S5x256x256 ![] bcast_S_S5x256x256 main_c_363
  let main_v2320 : IVec S5x256x256 1 := cmpi .sgt main_v11 main_v2319
  let main_v2321 : IVec S5x256x256 1 := andi main_v2318 main_v2320
  let main_v2322 : FVec F S5x256x256 .f32 := broadcastInDim S5x256x256 ![0, 1, 2] bcast_S5x1x256_S5x256x256_0_1_2 main_v2311
  fn_part112 (F := F) main_arg0 main_v3 main_v7 main_v8 main_v10 main_v11 main_v2310 main_v2316 main_v2318 main_v2321 main_v2322

def fn_part110 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2272 : FVec F S5x256x256 .f32) (main_v2273 : FVec F S5x1x256 .f32) (main_v2278 : FVec F S5x256x256 .f32) (main_v2280 : IVec S5x256x256 1) (main_c_357 : IVec S_ 32) : IVec S9x256x256 1 × IVec S8x256x256 1 :=
  let main_v2281 : IVec S5x256x256 32 := broadcastInDim S5x256x256 ![] bcast_S_S5x256x256 main_c_357
  let main_v2282 : IVec S5x256x256 1 := cmpi .sgt main_v11 main_v2281
  let main_v2283 : IVec S5x256x256 1 := andi main_v2280 main_v2282
  let main_v2284 : FVec F S5x256x256 .f32 := broadcastInDim S5x256x256 ![0, 1, 2] bcast_S5x1x256_S5x256x256_0_1_2 main_v2273
  let main_v2285 : FVec F S5x256x256 .f32 := mulf main_v2278 main_v2284
  let main_v2286 : FVec F S5x256x256 .f32 := subf main_v2272 main_v2285
  let main_v2287 : FVec F S5x256x256 .f32 := select main_v2283 main_v2286 main_v2272
  let main_c_358 : IVec S_ 32 := constantI S_ 32 119#32
  let main_v2288 : IVec S5x256x256 32 := broadcastInDim S5x256x256 ![] bcast_S_S5x256x256 main_c_358
  let main_v2289 : IVec S5x256x256 1 := cmpi .eq main_v11 main_v2288
  let main_v2290 : IVec S5x256x256 1 := andi main_v2280 main_v2289
  let main_v2291 : FVec F S5x256x256 .f32 := select main_v2290 main_v2278 main_v2287
  let main_v2292 : FVec F S5x1x256 .f32 := (extractStridedSlice S5x1x256 ![0, 120, 0] · slices_S5x256x256_S5x1x256_0_120_0) main_v2291
  let main_v2293 : FVec F S5x256x1 .f32 := (extractStridedSlice S5x256x1 ![0, 0, 120] · slices_S5x256x256_S5x256x1_0_0_120) main_v2291
  let main_v2294 : FVec F S5x1x1 .f32 := (extractStridedSlice S5x1x1 ![0, 0, 120] · slices_S5x1x256_S5x1x1_0_0_120) main_v2292
  let main_v2295 : FVec F S5x256x1 .f32 := broadcastInDim S5x256x1 ![0, 1, 2] bcast_S5x1x1_S5x256x1_0_1_2 main_v2294
  let main_v2296 : FVec F S5x256x1 .f32 := Host.divf main_v2293 main_v2295
  let main_v2297 : FVec F S5x256x256 .f32 := broadcastInDim S5x256x256 ![0, 1, 2] bcast_S5x256x1_S5x256x256_0_1_2 main_v2296
  let main_c_359 : IVec S_ 32 := constantI S_ 32 120#32
  let main_v2298 : IVec S5x256x256 32 := broadcastInDim S5x256x256 ![] bcast_S_S5x256x256 main_c_359
  let main_v2299 : IVec S5x256x256 1 := cmpi .sgt main_v10 main_v2298
  let main_c_360 : IVec S_ 32 := constantI S_ 32 120#32
  let main_v2300 : IVec S5x256x256 32 := broadcastInDim S5x256x256 ![] bcast_S_S5x256x256 main_c_360
  let main_v2301 : IVec S5x256x256 1 := cmpi .sgt main_v11 main_v2300
  fn_part111 (F := F) main_arg0 main_v3 main_v7 main_v8 main_v10 main_v11 main_v2291 main_v2292 main_v2297 main_v2299 main_v2301

def fn_part109 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2253 : FVec F S5x256x256 .f32) (main_v2254 : FVec F S5x1x256 .f32) (main_v2259 : FVec F S5x256x256 .f32) (main_v2260 : IVec S5x256x256 32) : IVec S9x256x256 1 × IVec S8x256x256 1 :=
  let main_v2261 : IVec S5x256x256 1 := cmpi .sgt main_v10 main_v2260
  let main_c_354 : IVec S_ 32 := constantI S_ 32 118#32
  let main_v2262 : IVec S5x256x256 32 := broadcastInDim S5x256x256 ![] bcast_S_S5x256x256 main_c_354
  let main_v2263 : IVec S5x256x256 1 := cmpi .sgt main_v11 main_v2262
  let main_v2264 : IVec S5x256x256 1 := andi main_v2261 main_v2263
  let main_v2265 : FVec F S5x256x256 .f32 := broadcastInDim S5x256x256 ![0, 1, 2] bcast_S5x1x256_S5x256x256_0_1_2 main_v2254
  let main_v2266 : FVec F S5x256x256 .f32 := mulf main_v2259 main_v2265
  let main_v2267 : FVec F S5x256x256 .f32 := subf main_v2253 main_v2266
  let main_v2268 : FVec F S5x256x256 .f32 := select main_v2264 main_v2267 main_v2253
  let main_c_355 : IVec S_ 32 := constantI S_ 32 118#32
  let main_v2269 : IVec S5x256x256 32 := broadcastInDim S5x256x256 ![] bcast_S_S5x256x256 main_c_355
  let main_v2270 : IVec S5x256x256 1 := cmpi .eq main_v11 main_v2269
  let main_v2271 : IVec S5x256x256 1 := andi main_v2261 main_v2270
  let main_v2272 : FVec F S5x256x256 .f32 := select main_v2271 main_v2259 main_v2268
  let main_v2273 : FVec F S5x1x256 .f32 := (extractStridedSlice S5x1x256 ![0, 119, 0] · slices_S5x256x256_S5x1x256_0_119_0) main_v2272
  let main_v2274 : FVec F S5x256x1 .f32 := (extractStridedSlice S5x256x1 ![0, 0, 119] · slices_S5x256x256_S5x256x1_0_0_119) main_v2272
  let main_v2275 : FVec F S5x1x1 .f32 := (extractStridedSlice S5x1x1 ![0, 0, 119] · slices_S5x1x256_S5x1x1_0_0_119) main_v2273
  let main_v2276 : FVec F S5x256x1 .f32 := broadcastInDim S5x256x1 ![0, 1, 2] bcast_S5x1x1_S5x256x1_0_1_2 main_v2275
  let main_v2277 : FVec F S5x256x1 .f32 := Host.divf main_v2274 main_v2276
  let main_v2278 : FVec F S5x256x256 .f32 := broadcastInDim S5x256x256 ![0, 1, 2] bcast_S5x256x1_S5x256x256_0_1_2 main_v2277
  let main_c_356 : IVec S_ 32 := constantI S_ 32 119#32
  let main_v2279 : IVec S5x256x256 32 := broadcastInDim S5x256x256 ![] bcast_S_S5x256x256 main_c_356
  let main_v2280 : IVec S5x256x256 1 := cmpi .sgt main_v10 main_v2279
  let main_c_357 : IVec S_ 32 := constantI S_ 32 119#32
  fn_part110 (F := F) main_arg0 main_v3 main_v7 main_v8 main_v10 main_v11 main_v2272 main_v2273 main_v2278 main_v2280 main_c_357

def fn_part108 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2234 : FVec F S5x256x256 .f32) (main_v2235 : FVec F S5x1x256 .f32) (main_v2240 : FVec F S5x256x256 .f32) : IVec S9x256x256 1 × IVec S8x256x256 1 :=
  let main_c_350 : IVec S_ 32 := constantI S_ 32 117#32
  let main_v2241 : IVec S5x256x256 32 := broadcastInDim S5x256x256 ![] bcast_S_S5x256x256 main_c_350
  let main_v2242 : IVec S5x256x256 1 := cmpi .sgt main_v10 main_v2241
  let main_c_351 : IVec S_ 32 := constantI S_ 32 117#32
  let main_v2243 : IVec S5x256x256 32 := broadcastInDim S5x256x256 ![] bcast_S_S5x256x256 main_c_351
  let main_v2244 : IVec S5x256x256 1 := cmpi .sgt main_v11 main_v2243
  let main_v2245 : IVec S5x256x256 1 := andi main_v2242 main_v2244
  let main_v2246 : FVec F S5x256x256 .f32 := broadcastInDim S5x256x256 ![0, 1, 2] bcast_S5x1x256_S5x256x256_0_1_2 main_v2235
  let main_v2247 : FVec F S5x256x256 .f32 := mulf main_v2240 main_v2246
  let main_v2248 : FVec F S5x256x256 .f32 := subf main_v2234 main_v2247
  let main_v2249 : FVec F S5x256x256 .f32 := select main_v2245 main_v2248 main_v2234
  let main_c_352 : IVec S_ 32 := constantI S_ 32 117#32
  let main_v2250 : IVec S5x256x256 32 := broadcastInDim S5x256x256 ![] bcast_S_S5x256x256 main_c_352
  let main_v2251 : IVec S5x256x256 1 := cmpi .eq main_v11 main_v2250
  let main_v2252 : IVec S5x256x256 1 := andi main_v2242 main_v2251
  let main_v2253 : FVec F S5x256x256 .f32 := select main_v2252 main_v2240 main_v2249
  let main_v2254 : FVec F S5x1x256 .f32 := (extractStridedSlice S5x1x256 ![0, 118, 0] · slices_S5x256x256_S5x1x256_0_118_0) main_v2253
  let main_v2255 : FVec F S5x256x1 .f32 := (extractStridedSlice S5x256x1 ![0, 0, 118] · slices_S5x256x256_S5x256x1_0_0_118) main_v2253
  let main_v2256 : FVec F S5x1x1 .f32 := (extractStridedSlice S5x1x1 ![0, 0, 118] · slices_S5x1x256_S5x1x1_0_0_118) main_v2254
  let main_v2257 : FVec F S5x256x1 .f32 := broadcastInDim S5x256x1 ![0, 1, 2] bcast_S5x1x1_S5x256x1_0_1_2 main_v2256
  let main_v2258 : FVec F S5x256x1 .f32 := Host.divf main_v2255 main_v2257
  let main_v2259 : FVec F S5x256x256 .f32 := broadcastInDim S5x256x256 ![0, 1, 2] bcast_S5x256x1_S5x256x256_0_1_2 main_v2258
  let main_c_353 : IVec S_ 32 := constantI S_ 32 118#32
  let main_v2260 : IVec S5x256x256 32 := broadcastInDim S5x256x256 ![] bcast_S_S5x256x256 main_c_353
  fn_part109 (F := F) main_arg0 main_v3 main_v7 main_v8 main_v10 main_v11 main_v2253 main_v2254 main_v2259 main_v2260

def fn_part107 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2215 : FVec F S5x256x256 .f32) (main_v2216 : FVec F S5x1x256 .f32) (main_v2217 : FVec F S5x256x1 .f32) (main_v2219 : FVec F S5x256x1 .f32) : IVec S9x256x256 1 × IVec S8x256x256 1 :=
  let main_v2220 : FVec F S5x256x1 .f32 := Host.divf main_v2217 main_v2219
  let main_v2221 : FVec F S5x256x256 .f32 := broadcastInDim S5x256x256 ![0, 1, 2] bcast_S5x256x1_S5x256x256_0_1_2 main_v2220
  let main_c_347 : IVec S_ 32 := constantI S_ 32 116#32
  let main_v2222 : IVec S5x256x256 32 := broadcastInDim S5x256x256 ![] bcast_S_S5x256x256 main_c_347
  let main_v2223 : IVec S5x256x256 1 := cmpi .sgt main_v10 main_v2222
  let main_c_348 : IVec S_ 32 := constantI S_ 32 116#32
  let main_v2224 : IVec S5x256x256 32 := broadcastInDim S5x256x256 ![] bcast_S_S5x256x256 main_c_348
  let main_v2225 : IVec S5x256x256 1 := cmpi .sgt main_v11 main_v2224
  let main_v2226 : IVec S5x256x256 1 := andi main_v2223 main_v2225
  let main_v2227 : FVec F S5x256x256 .f32 := broadcastInDim S5x256x256 ![0, 1, 2] bcast_S5x1x256_S5x256x256_0_1_2 main_v2216
  let main_v2228 : FVec F S5x256x256 .f32 := mulf main_v2221 main_v2227
  let main_v2229 : FVec F S5x256x256 .f32 := subf main_v2215 main_v2228
  let main_v2230 : FVec F S5x256x256 .f32 := select main_v2226 main_v2229 main_v2215
  let main_c_349 : IVec S_ 32 := constantI S_ 32 116#32
  let main_v2231 : IVec S5x256x256 32 := broadcastInDim S5x256x256 ![] bcast_S_S5x256x256 main_c_349
  let main_v2232 : IVec S5x256x256 1 := cmpi .eq main_v11 main_v2231
  let main_v2233 : IVec S5x256x256 1 := andi main_v2223 main_v2232
  let main_v2234 : FVec F S5x256x256 .f32 := select main_v2233 main_v2221 main_v2230
  let main_v2235 : FVec F S5x1x256 .f32 := (extractStridedSlice S5x1x256 ![0, 117, 0] · slices_S5x256x256_S5x1x256_0_117_0) main_v2234
  let main_v2236 : FVec F S5x256x1 .f32 := (extractStridedSlice S5x256x1 ![0, 0, 117] · slices_S5x256x256_S5x256x1_0_0_117) main_v2234
  let main_v2237 : FVec F S5x1x1 .f32 := (extractStridedSlice S5x1x1 ![0, 0, 117] · slices_S5x1x256_S5x1x1_0_0_117) main_v2235
  let main_v2238 : FVec F S5x256x1 .f32 := broadcastInDim S5x256x1 ![0, 1, 2] bcast_S5x1x1_S5x256x1_0_1_2 main_v2237
  let main_v2239 : FVec F S5x256x1 .f32 := Host.divf main_v2236 main_v2238
  let main_v2240 : FVec F S5x256x256 .f32 := broadcastInDim S5x256x256 ![0, 1, 2] bcast_S5x256x1_S5x256x256_0_1_2 main_v2239
  fn_part108 (F := F) main_arg0 main_v3 main_v7 main_v8 main_v10 main_v11 main_v2234 main_v2235 main_v2240

def fn_part106 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2196 : FVec F S5x256x256 .f32) (main_v2197 : FVec F S5x1x256 .f32) (main_v2198 : FVec F S5x256x1 .f32) : IVec S9x256x256 1 × IVec S8x256x256 1 :=
  let main_v2199 : FVec F S5x1x1 .f32 := (extractStridedSlice S5x1x1 ![0, 0, 115] · slices_S5x1x256_S5x1x1_0_0_115) main_v2197
  let main_v2200 : FVec F S5x256x1 .f32 := broadcastInDim S5x256x1 ![0, 1, 2] bcast_S5x1x1_S5x256x1_0_1_2 main_v2199
  let main_v2201 : FVec F S5x256x1 .f32 := Host.divf main_v2198 main_v2200
  let main_v2202 : FVec F S5x256x256 .f32 := broadcastInDim S5x256x256 ![0, 1, 2] bcast_S5x256x1_S5x256x256_0_1_2 main_v2201
  let main_c_344 : IVec S_ 32 := constantI S_ 32 115#32
  let main_v2203 : IVec S5x256x256 32 := broadcastInDim S5x256x256 ![] bcast_S_S5x256x256 main_c_344
  let main_v2204 : IVec S5x256x256 1 := cmpi .sgt main_v10 main_v2203
  let main_c_345 : IVec S_ 32 := constantI S_ 32 115#32
  let main_v2205 : IVec S5x256x256 32 := broadcastInDim S5x256x256 ![] bcast_S_S5x256x256 main_c_345
  let main_v2206 : IVec S5x256x256 1 := cmpi .sgt main_v11 main_v2205
  let main_v2207 : IVec S5x256x256 1 := andi main_v2204 main_v2206
  let main_v2208 : FVec F S5x256x256 .f32 := broadcastInDim S5x256x256 ![0, 1, 2] bcast_S5x1x256_S5x256x256_0_1_2 main_v2197
  let main_v2209 : FVec F S5x256x256 .f32 := mulf main_v2202 main_v2208
  let main_v2210 : FVec F S5x256x256 .f32 := subf main_v2196 main_v2209
  let main_v2211 : FVec F S5x256x256 .f32 := select main_v2207 main_v2210 main_v2196
  let main_c_346 : IVec S_ 32 := constantI S_ 32 115#32
  let main_v2212 : IVec S5x256x256 32 := broadcastInDim S5x256x256 ![] bcast_S_S5x256x256 main_c_346
  let main_v2213 : IVec S5x256x256 1 := cmpi .eq main_v11 main_v2212
  let main_v2214 : IVec S5x256x256 1 := andi main_v2204 main_v2213
  let main_v2215 : FVec F S5x256x256 .f32 := select main_v2214 main_v2202 main_v2211
  let main_v2216 : FVec F S5x1x256 .f32 := (extractStridedSlice S5x1x256 ![0, 116, 0] · slices_S5x256x256_S5x1x256_0_116_0) main_v2215
  let main_v2217 : FVec F S5x256x1 .f32 := (extractStridedSlice S5x256x1 ![0, 0, 116] · slices_S5x256x256_S5x256x1_0_0_116) main_v2215
  let main_v2218 : FVec F S5x1x1 .f32 := (extractStridedSlice S5x1x1 ![0, 0, 116] · slices_S5x1x256_S5x1x1_0_0_116) main_v2216
  let main_v2219 : FVec F S5x256x1 .f32 := broadcastInDim S5x256x1 ![0, 1, 2] bcast_S5x1x1_S5x256x1_0_1_2 main_v2218
  fn_part107 (F := F) main_arg0 main_v3 main_v7 main_v8 main_v10 main_v11 main_v2215 main_v2216 main_v2217 main_v2219

def fn_part105 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2177 : FVec F S5x256x256 .f32) : IVec S9x256x256 1 × IVec S8x256x256 1 :=
  let main_v2178 : FVec F S5x1x256 .f32 := (extractStridedSlice S5x1x256 ![0, 114, 0] · slices_S5x256x256_S5x1x256_0_114_0) main_v2177
  let main_v2179 : FVec F S5x256x1 .f32 := (extractStridedSlice S5x256x1 ![0, 0, 114] · slices_S5x256x256_S5x256x1_0_0_114) main_v2177
  let main_v2180 : FVec F S5x1x1 .f32 := (extractStridedSlice S5x1x1 ![0, 0, 114] · slices_S5x1x256_S5x1x1_0_0_114) main_v2178
  let main_v2181 : FVec F S5x256x1 .f32 := broadcastInDim S5x256x1 ![0, 1, 2] bcast_S5x1x1_S5x256x1_0_1_2 main_v2180
  let main_v2182 : FVec F S5x256x1 .f32 := Host.divf main_v2179 main_v2181
  let main_v2183 : FVec F S5x256x256 .f32 := broadcastInDim S5x256x256 ![0, 1, 2] bcast_S5x256x1_S5x256x256_0_1_2 main_v2182
  let main_c_341 : IVec S_ 32 := constantI S_ 32 114#32
  let main_v2184 : IVec S5x256x256 32 := broadcastInDim S5x256x256 ![] bcast_S_S5x256x256 main_c_341
  let main_v2185 : IVec S5x256x256 1 := cmpi .sgt main_v10 main_v2184
  let main_c_342 : IVec S_ 32 := constantI S_ 32 114#32
  let main_v2186 : IVec S5x256x256 32 := broadcastInDim S5x256x256 ![] bcast_S_S5x256x256 main_c_342
  let main_v2187 : IVec S5x256x256 1 := cmpi .sgt main_v11 main_v2186
  let main_v2188 : IVec S5x256x256 1 := andi main_v2185 main_v2187
  let main_v2189 : FVec F S5x256x256 .f32 := broadcastInDim S5x256x256 ![0, 1, 2] bcast_S5x1x256_S5x256x256_0_1_2 main_v2178
  let main_v2190 : FVec F S5x256x256 .f32 := mulf main_v2183 main_v2189
  let main_v2191 : FVec F S5x256x256 .f32 := subf main_v2177 main_v2190
  let main_v2192 : FVec F S5x256x256 .f32 := select main_v2188 main_v2191 main_v2177
  let main_c_343 : IVec S_ 32 := constantI S_ 32 114#32
  let main_v2193 : IVec S5x256x256 32 := broadcastInDim S5x256x256 ![] bcast_S_S5x256x256 main_c_343
  let main_v2194 : IVec S5x256x256 1 := cmpi .eq main_v11 main_v2193
  let main_v2195 : IVec S5x256x256 1 := andi main_v2185 main_v2194
  let main_v2196 : FVec F S5x256x256 .f32 := select main_v2195 main_v2183 main_v2192
  let main_v2197 : FVec F S5x1x256 .f32 := (extractStridedSlice S5x1x256 ![0, 115, 0] · slices_S5x256x256_S5x1x256_0_115_0) main_v2196
  let main_v2198 : FVec F S5x256x1 .f32 := (extractStridedSlice S5x256x1 ![0, 0, 115] · slices_S5x256x256_S5x256x1_0_0_115) main_v2196
  fn_part106 (F := F) main_arg0 main_v3 main_v7 main_v8 main_v10 main_v11 main_v2196 main_v2197 main_v2198

def fn_part104 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2145 : FVec F S5x256x256 .f32) (main_v2147 : IVec S5x256x256 1) (main_v2154 : FVec F S5x256x256 .f32) (main_v2156 : IVec S5x256x256 1) : IVec S9x256x256 1 × IVec S8x256x256 1 :=
  let main_v2157 : IVec S5x256x256 1 := andi main_v2147 main_v2156
  let main_v2158 : FVec F S5x256x256 .f32 := select main_v2157 main_v2145 main_v2154
  let main_v2159 : FVec F S5x1x256 .f32 := (extractStridedSlice S5x1x256 ![0, 113, 0] · slices_S5x256x256_S5x1x256_0_113_0) main_v2158
  let main_v2160 : FVec F S5x256x1 .f32 := (extractStridedSlice S5x256x1 ![0, 0, 113] · slices_S5x256x256_S5x256x1_0_0_113) main_v2158
  let main_v2161 : FVec F S5x1x1 .f32 := (extractStridedSlice S5x1x1 ![0, 0, 113] · slices_S5x1x256_S5x1x1_0_0_113) main_v2159
  let main_v2162 : FVec F S5x256x1 .f32 := broadcastInDim S5x256x1 ![0, 1, 2] bcast_S5x1x1_S5x256x1_0_1_2 main_v2161
  let main_v2163 : FVec F S5x256x1 .f32 := Host.divf main_v2160 main_v2162
  let main_v2164 : FVec F S5x256x256 .f32 := broadcastInDim S5x256x256 ![0, 1, 2] bcast_S5x256x1_S5x256x256_0_1_2 main_v2163
  let main_c_338 : IVec S_ 32 := constantI S_ 32 113#32
  let main_v2165 : IVec S5x256x256 32 := broadcastInDim S5x256x256 ![] bcast_S_S5x256x256 main_c_338
  let main_v2166 : IVec S5x256x256 1 := cmpi .sgt main_v10 main_v2165
  let main_c_339 : IVec S_ 32 := constantI S_ 32 113#32
  let main_v2167 : IVec S5x256x256 32 := broadcastInDim S5x256x256 ![] bcast_S_S5x256x256 main_c_339
  let main_v2168 : IVec S5x256x256 1 := cmpi .sgt main_v11 main_v2167
  let main_v2169 : IVec S5x256x256 1 := andi main_v2166 main_v2168
  let main_v2170 : FVec F S5x256x256 .f32 := broadcastInDim S5x256x256 ![0, 1, 2] bcast_S5x1x256_S5x256x256_0_1_2 main_v2159
  let main_v2171 : FVec F S5x256x256 .f32 := mulf main_v2164 main_v2170
  let main_v2172 : FVec F S5x256x256 .f32 := subf main_v2158 main_v2171
  let main_v2173 : FVec F S5x256x256 .f32 := select main_v2169 main_v2172 main_v2158
  let main_c_340 : IVec S_ 32 := constantI S_ 32 113#32
  let main_v2174 : IVec S5x256x256 32 := broadcastInDim S5x256x256 ![] bcast_S_S5x256x256 main_c_340
  let main_v2175 : IVec S5x256x256 1 := cmpi .eq main_v11 main_v2174
  let main_v2176 : IVec S5x256x256 1 := andi main_v2166 main_v2175
  let main_v2177 : FVec F S5x256x256 .f32 := select main_v2176 main_v2164 main_v2173
  fn_part105 (F := F) main_arg0 main_v3 main_v7 main_v8 main_v10 main_v11 main_v2177

def fn_part103 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2126 : FVec F S5x256x256 .f32) (main_v2128 : IVec S5x256x256 1) (main_v2135 : FVec F S5x256x256 .f32) (main_c_334 : IVec S_ 32) : IVec S9x256x256 1 × IVec S8x256x256 1 :=
  let main_v2136 : IVec S5x256x256 32 := broadcastInDim S5x256x256 ![] bcast_S_S5x256x256 main_c_334
  let main_v2137 : IVec S5x256x256 1 := cmpi .eq main_v11 main_v2136
  let main_v2138 : IVec S5x256x256 1 := andi main_v2128 main_v2137
  let main_v2139 : FVec F S5x256x256 .f32 := select main_v2138 main_v2126 main_v2135
  let main_v2140 : FVec F S5x1x256 .f32 := (extractStridedSlice S5x1x256 ![0, 112, 0] · slices_S5x256x256_S5x1x256_0_112_0) main_v2139
  let main_v2141 : FVec F S5x256x1 .f32 := (extractStridedSlice S5x256x1 ![0, 0, 112] · slices_S5x256x256_S5x256x1_0_0_112) main_v2139
  let main_v2142 : FVec F S5x1x1 .f32 := (extractStridedSlice S5x1x1 ![0, 0, 112] · slices_S5x1x256_S5x1x1_0_0_112) main_v2140
  let main_v2143 : FVec F S5x256x1 .f32 := broadcastInDim S5x256x1 ![0, 1, 2] bcast_S5x1x1_S5x256x1_0_1_2 main_v2142
  let main_v2144 : FVec F S5x256x1 .f32 := Host.divf main_v2141 main_v2143
  let main_v2145 : FVec F S5x256x256 .f32 := broadcastInDim S5x256x256 ![0, 1, 2] bcast_S5x256x1_S5x256x256_0_1_2 main_v2144
  let main_c_335 : IVec S_ 32 := constantI S_ 32 112#32
  let main_v2146 : IVec S5x256x256 32 := broadcastInDim S5x256x256 ![] bcast_S_S5x256x256 main_c_335
  let main_v2147 : IVec S5x256x256 1 := cmpi .sgt main_v10 main_v2146
  let main_c_336 : IVec S_ 32 := constantI S_ 32 112#32
  let main_v2148 : IVec S5x256x256 32 := broadcastInDim S5x256x256 ![] bcast_S_S5x256x256 main_c_336
  let main_v2149 : IVec S5x256x256 1 := cmpi .sgt main_v11 main_v2148
  let main_v2150 : IVec S5x256x256 1 := andi main_v2147 main_v2149
  let main_v2151 : FVec F S5x256x256 .f32 := broadcastInDim S5x256x256 ![0, 1, 2] bcast_S5x1x256_S5x256x256_0_1_2 main_v2140
  let main_v2152 : FVec F S5x256x256 .f32 := mulf main_v2145 main_v2151
  let main_v2153 : FVec F S5x256x256 .f32 := subf main_v2139 main_v2152
  let main_v2154 : FVec F S5x256x256 .f32 := select main_v2150 main_v2153 main_v2139
  let main_c_337 : IVec S_ 32 := constantI S_ 32 112#32
  let main_v2155 : IVec S5x256x256 32 := broadcastInDim S5x256x256 ![] bcast_S_S5x256x256 main_c_337
  let main_v2156 : IVec S5x256x256 1 := cmpi .eq main_v11 main_v2155
  fn_part104 (F := F) main_arg0 main_v3 main_v7 main_v8 main_v10 main_v11 main_v2145 main_v2147 main_v2154 main_v2156

def fn_part102 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2101 : FVec F S5x256x256 .f32) (main_v2107 : FVec F S5x256x256 .f32) (main_v2109 : IVec S5x256x256 1) (main_v2112 : IVec S5x256x256 1) (main_v2115 : FVec F S5x256x256 .f32) : IVec S9x256x256 1 × IVec S8x256x256 1 :=
  let main_v2116 : FVec F S5x256x256 .f32 := select main_v2112 main_v2115 main_v2101
  let main_c_331 : IVec S_ 32 := constantI S_ 32 110#32
  let main_v2117 : IVec S5x256x256 32 := broadcastInDim S5x256x256 ![] bcast_S_S5x256x256 main_c_331
  let main_v2118 : IVec S5x256x256 1 := cmpi .eq main_v11 main_v2117
  let main_v2119 : IVec S5x256x256 1 := andi main_v2109 main_v2118
  let main_v2120 : FVec F S5x256x256 .f32 := select main_v2119 main_v2107 main_v2116
  let main_v2121 : FVec F S5x1x256 .f32 := (extractStridedSlice S5x1x256 ![0, 111, 0] · slices_S5x256x256_S5x1x256_0_111_0) main_v2120
  let main_v2122 : FVec F S5x256x1 .f32 := (extractStridedSlice S5x256x1 ![0, 0, 111] · slices_S5x256x256_S5x256x1_0_0_111) main_v2120
  let main_v2123 : FVec F S5x1x1 .f32 := (extractStridedSlice S5x1x1 ![0, 0, 111] · slices_S5x1x256_S5x1x1_0_0_111) main_v2121
  let main_v2124 : FVec F S5x256x1 .f32 := broadcastInDim S5x256x1 ![0, 1, 2] bcast_S5x1x1_S5x256x1_0_1_2 main_v2123
  let main_v2125 : FVec F S5x256x1 .f32 := Host.divf main_v2122 main_v2124
  let main_v2126 : FVec F S5x256x256 .f32 := broadcastInDim S5x256x256 ![0, 1, 2] bcast_S5x256x1_S5x256x256_0_1_2 main_v2125
  let main_c_332 : IVec S_ 32 := constantI S_ 32 111#32
  let main_v2127 : IVec S5x256x256 32 := broadcastInDim S5x256x256 ![] bcast_S_S5x256x256 main_c_332
  let main_v2128 : IVec S5x256x256 1 := cmpi .sgt main_v10 main_v2127
  let main_c_333 : IVec S_ 32 := constantI S_ 32 111#32
  let main_v2129 : IVec S5x256x256 32 := broadcastInDim S5x256x256 ![] bcast_S_S5x256x256 main_c_333
  let main_v2130 : IVec S5x256x256 1 := cmpi .sgt main_v11 main_v2129
  let main_v2131 : IVec S5x256x256 1 := andi main_v2128 main_v2130
  let main_v2132 : FVec F S5x256x256 .f32 := broadcastInDim S5x256x256 ![0, 1, 2] bcast_S5x1x256_S5x256x256_0_1_2 main_v2121
  let main_v2133 : FVec F S5x256x256 .f32 := mulf main_v2126 main_v2132
  let main_v2134 : FVec F S5x256x256 .f32 := subf main_v2120 main_v2133
  let main_v2135 : FVec F S5x256x256 .f32 := select main_v2131 main_v2134 main_v2120
  let main_c_334 : IVec S_ 32 := constantI S_ 32 111#32
  fn_part103 (F := F) main_arg0 main_v3 main_v7 main_v8 main_v10 main_v11 main_v2126 main_v2128 main_v2135 main_c_334

def fn_part101 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2082 : FVec F S5x256x256 .f32) (main_v2088 : FVec F S5x256x256 .f32) (main_v2090 : IVec S5x256x256 1) (main_v2093 : IVec S5x256x256 1) (main_v2094 : FVec F S5x256x256 .f32) : IVec S9x256x256 1 × IVec S8x256x256 1 :=
  let main_v2095 : FVec F S5x256x256 .f32 := mulf main_v2088 main_v2094
  let main_v2096 : FVec F S5x256x256 .f32 := subf main_v2082 main_v2095
  let main_v2097 : FVec F S5x256x256 .f32 := select main_v2093 main_v2096 main_v2082
  let main_c_328 : IVec S_ 32 := constantI S_ 32 109#32
  let main_v2098 : IVec S5x256x256 32 := broadcastInDim S5x256x256 ![] bcast_S_S5x256x256 main_c_328
  let main_v2099 : IVec S5x256x256 1 := cmpi .eq main_v11 main_v2098
  let main_v2100 : IVec S5x256x256 1 := andi main_v2090 main_v2099
  let main_v2101 : FVec F S5x256x256 .f32 := select main_v2100 main_v2088 main_v2097
  let main_v2102 : FVec F S5x1x256 .f32 := (extractStridedSlice S5x1x256 ![0, 110, 0] · slices_S5x256x256_S5x1x256_0_110_0) main_v2101
  let main_v2103 : FVec F S5x256x1 .f32 := (extractStridedSlice S5x256x1 ![0, 0, 110] · slices_S5x256x256_S5x256x1_0_0_110) main_v2101
  let main_v2104 : FVec F S5x1x1 .f32 := (extractStridedSlice S5x1x1 ![0, 0, 110] · slices_S5x1x256_S5x1x1_0_0_110) main_v2102
  let main_v2105 : FVec F S5x256x1 .f32 := broadcastInDim S5x256x1 ![0, 1, 2] bcast_S5x1x1_S5x256x1_0_1_2 main_v2104
  let main_v2106 : FVec F S5x256x1 .f32 := Host.divf main_v2103 main_v2105
  let main_v2107 : FVec F S5x256x256 .f32 := broadcastInDim S5x256x256 ![0, 1, 2] bcast_S5x256x1_S5x256x256_0_1_2 main_v2106
  let main_c_329 : IVec S_ 32 := constantI S_ 32 110#32
  let main_v2108 : IVec S5x256x256 32 := broadcastInDim S5x256x256 ![] bcast_S_S5x256x256 main_c_329
  let main_v2109 : IVec S5x256x256 1 := cmpi .sgt main_v10 main_v2108
  let main_c_330 : IVec S_ 32 := constantI S_ 32 110#32
  let main_v2110 : IVec S5x256x256 32 := broadcastInDim S5x256x256 ![] bcast_S_S5x256x256 main_c_330
  let main_v2111 : IVec S5x256x256 1 := cmpi .sgt main_v11 main_v2110
  let main_v2112 : IVec S5x256x256 1 := andi main_v2109 main_v2111
  let main_v2113 : FVec F S5x256x256 .f32 := broadcastInDim S5x256x256 ![0, 1, 2] bcast_S5x1x256_S5x256x256_0_1_2 main_v2102
  let main_v2114 : FVec F S5x256x256 .f32 := mulf main_v2107 main_v2113
  let main_v2115 : FVec F S5x256x256 .f32 := subf main_v2101 main_v2114
  fn_part102 (F := F) main_arg0 main_v3 main_v7 main_v8 main_v10 main_v11 main_v2101 main_v2107 main_v2109 main_v2112 main_v2115

def fn_part100 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2063 : FVec F S5x256x256 .f32) (main_v2064 : FVec F S5x1x256 .f32) (main_v2069 : FVec F S5x256x256 .f32) (main_v2071 : IVec S5x256x256 1) (main_v2073 : IVec S5x256x256 1) : IVec S9x256x256 1 × IVec S8x256x256 1 :=
  let main_v2074 : IVec S5x256x256 1 := andi main_v2071 main_v2073
  let main_v2075 : FVec F S5x256x256 .f32 := broadcastInDim S5x256x256 ![0, 1, 2] bcast_S5x1x256_S5x256x256_0_1_2 main_v2064
  let main_v2076 : FVec F S5x256x256 .f32 := mulf main_v2069 main_v2075
  let main_v2077 : FVec F S5x256x256 .f32 := subf main_v2063 main_v2076
  let main_v2078 : FVec F S5x256x256 .f32 := select main_v2074 main_v2077 main_v2063
  let main_c_325 : IVec S_ 32 := constantI S_ 32 108#32
  let main_v2079 : IVec S5x256x256 32 := broadcastInDim S5x256x256 ![] bcast_S_S5x256x256 main_c_325
  let main_v2080 : IVec S5x256x256 1 := cmpi .eq main_v11 main_v2079
  let main_v2081 : IVec S5x256x256 1 := andi main_v2071 main_v2080
  let main_v2082 : FVec F S5x256x256 .f32 := select main_v2081 main_v2069 main_v2078
  let main_v2083 : FVec F S5x1x256 .f32 := (extractStridedSlice S5x1x256 ![0, 109, 0] · slices_S5x256x256_S5x1x256_0_109_0) main_v2082
  let main_v2084 : FVec F S5x256x1 .f32 := (extractStridedSlice S5x256x1 ![0, 0, 109] · slices_S5x256x256_S5x256x1_0_0_109) main_v2082
  let main_v2085 : FVec F S5x1x1 .f32 := (extractStridedSlice S5x1x1 ![0, 0, 109] · slices_S5x1x256_S5x1x1_0_0_109) main_v2083
  let main_v2086 : FVec F S5x256x1 .f32 := broadcastInDim S5x256x1 ![0, 1, 2] bcast_S5x1x1_S5x256x1_0_1_2 main_v2085
  let main_v2087 : FVec F S5x256x1 .f32 := Host.divf main_v2084 main_v2086
  let main_v2088 : FVec F S5x256x256 .f32 := broadcastInDim S5x256x256 ![0, 1, 2] bcast_S5x256x1_S5x256x256_0_1_2 main_v2087
  let main_c_326 : IVec S_ 32 := constantI S_ 32 109#32
  let main_v2089 : IVec S5x256x256 32 := broadcastInDim S5x256x256 ![] bcast_S_S5x256x256 main_c_326
  let main_v2090 : IVec S5x256x256 1 := cmpi .sgt main_v10 main_v2089
  let main_c_327 : IVec S_ 32 := constantI S_ 32 109#32
  let main_v2091 : IVec S5x256x256 32 := broadcastInDim S5x256x256 ![] bcast_S_S5x256x256 main_c_327
  let main_v2092 : IVec S5x256x256 1 := cmpi .sgt main_v11 main_v2091
  let main_v2093 : IVec S5x256x256 1 := andi main_v2090 main_v2092
  let main_v2094 : FVec F S5x256x256 .f32 := broadcastInDim S5x256x256 ![0, 1, 2] bcast_S5x1x256_S5x256x256_0_1_2 main_v2083
  fn_part101 (F := F) main_arg0 main_v3 main_v7 main_v8 main_v10 main_v11 main_v2082 main_v2088 main_v2090 main_v2093 main_v2094

def fn_part99 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2044 : FVec F S5x256x256 .f32) (main_v2045 : FVec F S5x1x256 .f32) (main_v2050 : FVec F S5x256x256 .f32) (main_v2052 : IVec S5x256x256 1) (main_c_321 : IVec S_ 32) : IVec S9x256x256 1 × IVec S8x256x256 1 :=
  let main_v2053 : IVec S5x256x256 32 := broadcastInDim S5x256x256 ![] bcast_S_S5x256x256 main_c_321
  let main_v2054 : IVec S5x256x256 1 := cmpi .sgt main_v11 main_v2053
  let main_v2055 : IVec S5x256x256 1 := andi main_v2052 main_v2054
  let main_v2056 : FVec F S5x256x256 .f32 := broadcastInDim S5x256x256 ![0, 1, 2] bcast_S5x1x256_S5x256x256_0_1_2 main_v2045
  let main_v2057 : FVec F S5x256x256 .f32 := mulf main_v2050 main_v2056
  let main_v2058 : FVec F S5x256x256 .f32 := subf main_v2044 main_v2057
  let main_v2059 : FVec F S5x256x256 .f32 := select main_v2055 main_v2058 main_v2044
  let main_c_322 : IVec S_ 32 := constantI S_ 32 107#32
  let main_v2060 : IVec S5x256x256 32 := broadcastInDim S5x256x256 ![] bcast_S_S5x256x256 main_c_322
  let main_v2061 : IVec S5x256x256 1 := cmpi .eq main_v11 main_v2060
  let main_v2062 : IVec S5x256x256 1 := andi main_v2052 main_v2061
  let main_v2063 : FVec F S5x256x256 .f32 := select main_v2062 main_v2050 main_v2059
  let main_v2064 : FVec F S5x1x256 .f32 := (extractStridedSlice S5x1x256 ![0, 108, 0] · slices_S5x256x256_S5x1x256_0_108_0) main_v2063
  let main_v2065 : FVec F S5x256x1 .f32 := (extractStridedSlice S5x256x1 ![0, 0, 108] · slices_S5x256x256_S5x256x1_0_0_108) main_v2063
  let main_v2066 : FVec F S5x1x1 .f32 := (extractStridedSlice S5x1x1 ![0, 0, 108] · slices_S5x1x256_S5x1x1_0_0_108) main_v2064
  let main_v2067 : FVec F S5x256x1 .f32 := broadcastInDim S5x256x1 ![0, 1, 2] bcast_S5x1x1_S5x256x1_0_1_2 main_v2066
  let main_v2068 : FVec F S5x256x1 .f32 := Host.divf main_v2065 main_v2067
  let main_v2069 : FVec F S5x256x256 .f32 := broadcastInDim S5x256x256 ![0, 1, 2] bcast_S5x256x1_S5x256x256_0_1_2 main_v2068
  let main_c_323 : IVec S_ 32 := constantI S_ 32 108#32
  let main_v2070 : IVec S5x256x256 32 := broadcastInDim S5x256x256 ![] bcast_S_S5x256x256 main_c_323
  let main_v2071 : IVec S5x256x256 1 := cmpi .sgt main_v10 main_v2070
  let main_c_324 : IVec S_ 32 := constantI S_ 32 108#32
  let main_v2072 : IVec S5x256x256 32 := broadcastInDim S5x256x256 ![] bcast_S_S5x256x256 main_c_324
  let main_v2073 : IVec S5x256x256 1 := cmpi .sgt main_v11 main_v2072
  fn_part100 (F := F) main_arg0 main_v3 main_v7 main_v8 main_v10 main_v11 main_v2063 main_v2064 main_v2069 main_v2071 main_v2073

def fn_part98 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2025 : FVec F S5x256x256 .f32) (main_v2026 : FVec F S5x1x256 .f32) (main_v2031 : FVec F S5x256x256 .f32) (main_v2032 : IVec S5x256x256 32) : IVec S9x256x256 1 × IVec S8x256x256 1 :=
  let main_v2033 : IVec S5x256x256 1 := cmpi .sgt main_v10 main_v2032
  let main_c_318 : IVec S_ 32 := constantI S_ 32 106#32
  let main_v2034 : IVec S5x256x256 32 := broadcastInDim S5x256x256 ![] bcast_S_S5x256x256 main_c_318
  let main_v2035 : IVec S5x256x256 1 := cmpi .sgt main_v11 main_v2034
  let main_v2036 : IVec S5x256x256 1 := andi main_v2033 main_v2035
  let main_v2037 : FVec F S5x256x256 .f32 := broadcastInDim S5x256x256 ![0, 1, 2] bcast_S5x1x256_S5x256x256_0_1_2 main_v2026
  let main_v2038 : FVec F S5x256x256 .f32 := mulf main_v2031 main_v2037
  let main_v2039 : FVec F S5x256x256 .f32 := subf main_v2025 main_v2038
  let main_v2040 : FVec F S5x256x256 .f32 := select main_v2036 main_v2039 main_v2025
  let main_c_319 : IVec S_ 32 := constantI S_ 32 106#32
  let main_v2041 : IVec S5x256x256 32 := broadcastInDim S5x256x256 ![] bcast_S_S5x256x256 main_c_319
  let main_v2042 : IVec S5x256x256 1 := cmpi .eq main_v11 main_v2041
  let main_v2043 : IVec S5x256x256 1 := andi main_v2033 main_v2042
  let main_v2044 : FVec F S5x256x256 .f32 := select main_v2043 main_v2031 main_v2040
  let main_v2045 : FVec F S5x1x256 .f32 := (extractStridedSlice S5x1x256 ![0, 107, 0] · slices_S5x256x256_S5x1x256_0_107_0) main_v2044
  let main_v2046 : FVec F S5x256x1 .f32 := (extractStridedSlice S5x256x1 ![0, 0, 107] · slices_S5x256x256_S5x256x1_0_0_107) main_v2044
  let main_v2047 : FVec F S5x1x1 .f32 := (extractStridedSlice S5x1x1 ![0, 0, 107] · slices_S5x1x256_S5x1x1_0_0_107) main_v2045
  let main_v2048 : FVec F S5x256x1 .f32 := broadcastInDim S5x256x1 ![0, 1, 2] bcast_S5x1x1_S5x256x1_0_1_2 main_v2047
  let main_v2049 : FVec F S5x256x1 .f32 := Host.divf main_v2046 main_v2048
  let main_v2050 : FVec F S5x256x256 .f32 := broadcastInDim S5x256x256 ![0, 1, 2] bcast_S5x256x1_S5x256x256_0_1_2 main_v2049
  let main_c_320 : IVec S_ 32 := constantI S_ 32 107#32
  let main_v2051 : IVec S5x256x256 32 := broadcastInDim S5x256x256 ![] bcast_S_S5x256x256 main_c_320
  let main_v2052 : IVec S5x256x256 1 := cmpi .sgt main_v10 main_v2051
  let main_c_321 : IVec S_ 32 := constantI S_ 32 107#32
  fn_part99 (F := F) main_arg0 main_v3 main_v7 main_v8 main_v10 main_v11 main_v2044 main_v2045 main_v2050 main_v2052 main_c_321

def fn_part97 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v2006 : FVec F S5x256x256 .f32) (main_v2007 : FVec F S5x1x256 .f32) (main_v2012 : FVec F S5x256x256 .f32) : IVec S9x256x256 1 × IVec S8x256x256 1 :=
  let main_c_314 : IVec S_ 32 := constantI S_ 32 105#32
  let main_v2013 : IVec S5x256x256 32 := broadcastInDim S5x256x256 ![] bcast_S_S5x256x256 main_c_314
  let main_v2014 : IVec S5x256x256 1 := cmpi .sgt main_v10 main_v2013
  let main_c_315 : IVec S_ 32 := constantI S_ 32 105#32
  let main_v2015 : IVec S5x256x256 32 := broadcastInDim S5x256x256 ![] bcast_S_S5x256x256 main_c_315
  let main_v2016 : IVec S5x256x256 1 := cmpi .sgt main_v11 main_v2015
  let main_v2017 : IVec S5x256x256 1 := andi main_v2014 main_v2016
  let main_v2018 : FVec F S5x256x256 .f32 := broadcastInDim S5x256x256 ![0, 1, 2] bcast_S5x1x256_S5x256x256_0_1_2 main_v2007
  let main_v2019 : FVec F S5x256x256 .f32 := mulf main_v2012 main_v2018
  let main_v2020 : FVec F S5x256x256 .f32 := subf main_v2006 main_v2019
  let main_v2021 : FVec F S5x256x256 .f32 := select main_v2017 main_v2020 main_v2006
  let main_c_316 : IVec S_ 32 := constantI S_ 32 105#32
  let main_v2022 : IVec S5x256x256 32 := broadcastInDim S5x256x256 ![] bcast_S_S5x256x256 main_c_316
  let main_v2023 : IVec S5x256x256 1 := cmpi .eq main_v11 main_v2022
  let main_v2024 : IVec S5x256x256 1 := andi main_v2014 main_v2023
  let main_v2025 : FVec F S5x256x256 .f32 := select main_v2024 main_v2012 main_v2021
  let main_v2026 : FVec F S5x1x256 .f32 := (extractStridedSlice S5x1x256 ![0, 106, 0] · slices_S5x256x256_S5x1x256_0_106_0) main_v2025
  let main_v2027 : FVec F S5x256x1 .f32 := (extractStridedSlice S5x256x1 ![0, 0, 106] · slices_S5x256x256_S5x256x1_0_0_106) main_v2025
  let main_v2028 : FVec F S5x1x1 .f32 := (extractStridedSlice S5x1x1 ![0, 0, 106] · slices_S5x1x256_S5x1x1_0_0_106) main_v2026
  let main_v2029 : FVec F S5x256x1 .f32 := broadcastInDim S5x256x1 ![0, 1, 2] bcast_S5x1x1_S5x256x1_0_1_2 main_v2028
  let main_v2030 : FVec F S5x256x1 .f32 := Host.divf main_v2027 main_v2029
  let main_v2031 : FVec F S5x256x256 .f32 := broadcastInDim S5x256x256 ![0, 1, 2] bcast_S5x256x1_S5x256x256_0_1_2 main_v2030
  let main_c_317 : IVec S_ 32 := constantI S_ 32 106#32
  let main_v2032 : IVec S5x256x256 32 := broadcastInDim S5x256x256 ![] bcast_S_S5x256x256 main_c_317
  fn_part98 (F := F) main_arg0 main_v3 main_v7 main_v8 main_v10 main_v11 main_v2025 main_v2026 main_v2031 main_v2032

def fn_part96 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1987 : FVec F S5x256x256 .f32) (main_v1988 : FVec F S5x1x256 .f32) (main_v1989 : FVec F S5x256x1 .f32) (main_v1991 : FVec F S5x256x1 .f32) : IVec S9x256x256 1 × IVec S8x256x256 1 :=
  let main_v1992 : FVec F S5x256x1 .f32 := Host.divf main_v1989 main_v1991
  let main_v1993 : FVec F S5x256x256 .f32 := broadcastInDim S5x256x256 ![0, 1, 2] bcast_S5x256x1_S5x256x256_0_1_2 main_v1992
  let main_c_311 : IVec S_ 32 := constantI S_ 32 104#32
  let main_v1994 : IVec S5x256x256 32 := broadcastInDim S5x256x256 ![] bcast_S_S5x256x256 main_c_311
  let main_v1995 : IVec S5x256x256 1 := cmpi .sgt main_v10 main_v1994
  let main_c_312 : IVec S_ 32 := constantI S_ 32 104#32
  let main_v1996 : IVec S5x256x256 32 := broadcastInDim S5x256x256 ![] bcast_S_S5x256x256 main_c_312
  let main_v1997 : IVec S5x256x256 1 := cmpi .sgt main_v11 main_v1996
  let main_v1998 : IVec S5x256x256 1 := andi main_v1995 main_v1997
  let main_v1999 : FVec F S5x256x256 .f32 := broadcastInDim S5x256x256 ![0, 1, 2] bcast_S5x1x256_S5x256x256_0_1_2 main_v1988
  let main_v2000 : FVec F S5x256x256 .f32 := mulf main_v1993 main_v1999
  let main_v2001 : FVec F S5x256x256 .f32 := subf main_v1987 main_v2000
  let main_v2002 : FVec F S5x256x256 .f32 := select main_v1998 main_v2001 main_v1987
  let main_c_313 : IVec S_ 32 := constantI S_ 32 104#32
  let main_v2003 : IVec S5x256x256 32 := broadcastInDim S5x256x256 ![] bcast_S_S5x256x256 main_c_313
  let main_v2004 : IVec S5x256x256 1 := cmpi .eq main_v11 main_v2003
  let main_v2005 : IVec S5x256x256 1 := andi main_v1995 main_v2004
  let main_v2006 : FVec F S5x256x256 .f32 := select main_v2005 main_v1993 main_v2002
  let main_v2007 : FVec F S5x1x256 .f32 := (extractStridedSlice S5x1x256 ![0, 105, 0] · slices_S5x256x256_S5x1x256_0_105_0) main_v2006
  let main_v2008 : FVec F S5x256x1 .f32 := (extractStridedSlice S5x256x1 ![0, 0, 105] · slices_S5x256x256_S5x256x1_0_0_105) main_v2006
  let main_v2009 : FVec F S5x1x1 .f32 := (extractStridedSlice S5x1x1 ![0, 0, 105] · slices_S5x1x256_S5x1x1_0_0_105) main_v2007
  let main_v2010 : FVec F S5x256x1 .f32 := broadcastInDim S5x256x1 ![0, 1, 2] bcast_S5x1x1_S5x256x1_0_1_2 main_v2009
  let main_v2011 : FVec F S5x256x1 .f32 := Host.divf main_v2008 main_v2010
  let main_v2012 : FVec F S5x256x256 .f32 := broadcastInDim S5x256x256 ![0, 1, 2] bcast_S5x256x1_S5x256x256_0_1_2 main_v2011
  fn_part97 (F := F) main_arg0 main_v3 main_v7 main_v8 main_v10 main_v11 main_v2006 main_v2007 main_v2012

def fn_part95 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1968 : FVec F S5x256x256 .f32) (main_v1969 : FVec F S5x1x256 .f32) (main_v1970 : FVec F S5x256x1 .f32) : IVec S9x256x256 1 × IVec S8x256x256 1 :=
  let main_v1971 : FVec F S5x1x1 .f32 := (extractStridedSlice S5x1x1 ![0, 0, 103] · slices_S5x1x256_S5x1x1_0_0_103) main_v1969
  let main_v1972 : FVec F S5x256x1 .f32 := broadcastInDim S5x256x1 ![0, 1, 2] bcast_S5x1x1_S5x256x1_0_1_2 main_v1971
  let main_v1973 : FVec F S5x256x1 .f32 := Host.divf main_v1970 main_v1972
  let main_v1974 : FVec F S5x256x256 .f32 := broadcastInDim S5x256x256 ![0, 1, 2] bcast_S5x256x1_S5x256x256_0_1_2 main_v1973
  let main_c_308 : IVec S_ 32 := constantI S_ 32 103#32
  let main_v1975 : IVec S5x256x256 32 := broadcastInDim S5x256x256 ![] bcast_S_S5x256x256 main_c_308
  let main_v1976 : IVec S5x256x256 1 := cmpi .sgt main_v10 main_v1975
  let main_c_309 : IVec S_ 32 := constantI S_ 32 103#32
  let main_v1977 : IVec S5x256x256 32 := broadcastInDim S5x256x256 ![] bcast_S_S5x256x256 main_c_309
  let main_v1978 : IVec S5x256x256 1 := cmpi .sgt main_v11 main_v1977
  let main_v1979 : IVec S5x256x256 1 := andi main_v1976 main_v1978
  let main_v1980 : FVec F S5x256x256 .f32 := broadcastInDim S5x256x256 ![0, 1, 2] bcast_S5x1x256_S5x256x256_0_1_2 main_v1969
  let main_v1981 : FVec F S5x256x256 .f32 := mulf main_v1974 main_v1980
  let main_v1982 : FVec F S5x256x256 .f32 := subf main_v1968 main_v1981
  let main_v1983 : FVec F S5x256x256 .f32 := select main_v1979 main_v1982 main_v1968
  let main_c_310 : IVec S_ 32 := constantI S_ 32 103#32
  let main_v1984 : IVec S5x256x256 32 := broadcastInDim S5x256x256 ![] bcast_S_S5x256x256 main_c_310
  let main_v1985 : IVec S5x256x256 1 := cmpi .eq main_v11 main_v1984
  let main_v1986 : IVec S5x256x256 1 := andi main_v1976 main_v1985
  let main_v1987 : FVec F S5x256x256 .f32 := select main_v1986 main_v1974 main_v1983
  let main_v1988 : FVec F S5x1x256 .f32 := (extractStridedSlice S5x1x256 ![0, 104, 0] · slices_S5x256x256_S5x1x256_0_104_0) main_v1987
  let main_v1989 : FVec F S5x256x1 .f32 := (extractStridedSlice S5x256x1 ![0, 0, 104] · slices_S5x256x256_S5x256x1_0_0_104) main_v1987
  let main_v1990 : FVec F S5x1x1 .f32 := (extractStridedSlice S5x1x1 ![0, 0, 104] · slices_S5x1x256_S5x1x1_0_0_104) main_v1988
  let main_v1991 : FVec F S5x256x1 .f32 := broadcastInDim S5x256x1 ![0, 1, 2] bcast_S5x1x1_S5x256x1_0_1_2 main_v1990
  fn_part96 (F := F) main_arg0 main_v3 main_v7 main_v8 main_v10 main_v11 main_v1987 main_v1988 main_v1989 main_v1991

def fn_part94 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1949 : FVec F S5x256x256 .f32) : IVec S9x256x256 1 × IVec S8x256x256 1 :=
  let main_v1950 : FVec F S5x1x256 .f32 := (extractStridedSlice S5x1x256 ![0, 102, 0] · slices_S5x256x256_S5x1x256_0_102_0) main_v1949
  let main_v1951 : FVec F S5x256x1 .f32 := (extractStridedSlice S5x256x1 ![0, 0, 102] · slices_S5x256x256_S5x256x1_0_0_102) main_v1949
  let main_v1952 : FVec F S5x1x1 .f32 := (extractStridedSlice S5x1x1 ![0, 0, 102] · slices_S5x1x256_S5x1x1_0_0_102) main_v1950
  let main_v1953 : FVec F S5x256x1 .f32 := broadcastInDim S5x256x1 ![0, 1, 2] bcast_S5x1x1_S5x256x1_0_1_2 main_v1952
  let main_v1954 : FVec F S5x256x1 .f32 := Host.divf main_v1951 main_v1953
  let main_v1955 : FVec F S5x256x256 .f32 := broadcastInDim S5x256x256 ![0, 1, 2] bcast_S5x256x1_S5x256x256_0_1_2 main_v1954
  let main_c_305 : IVec S_ 32 := constantI S_ 32 102#32
  let main_v1956 : IVec S5x256x256 32 := broadcastInDim S5x256x256 ![] bcast_S_S5x256x256 main_c_305
  let main_v1957 : IVec S5x256x256 1 := cmpi .sgt main_v10 main_v1956
  let main_c_306 : IVec S_ 32 := constantI S_ 32 102#32
  let main_v1958 : IVec S5x256x256 32 := broadcastInDim S5x256x256 ![] bcast_S_S5x256x256 main_c_306
  let main_v1959 : IVec S5x256x256 1 := cmpi .sgt main_v11 main_v1958
  let main_v1960 : IVec S5x256x256 1 := andi main_v1957 main_v1959
  let main_v1961 : FVec F S5x256x256 .f32 := broadcastInDim S5x256x256 ![0, 1, 2] bcast_S5x1x256_S5x256x256_0_1_2 main_v1950
  let main_v1962 : FVec F S5x256x256 .f32 := mulf main_v1955 main_v1961
  let main_v1963 : FVec F S5x256x256 .f32 := subf main_v1949 main_v1962
  let main_v1964 : FVec F S5x256x256 .f32 := select main_v1960 main_v1963 main_v1949
  let main_c_307 : IVec S_ 32 := constantI S_ 32 102#32
  let main_v1965 : IVec S5x256x256 32 := broadcastInDim S5x256x256 ![] bcast_S_S5x256x256 main_c_307
  let main_v1966 : IVec S5x256x256 1 := cmpi .eq main_v11 main_v1965
  let main_v1967 : IVec S5x256x256 1 := andi main_v1957 main_v1966
  let main_v1968 : FVec F S5x256x256 .f32 := select main_v1967 main_v1955 main_v1964
  let main_v1969 : FVec F S5x1x256 .f32 := (extractStridedSlice S5x1x256 ![0, 103, 0] · slices_S5x256x256_S5x1x256_0_103_0) main_v1968
  let main_v1970 : FVec F S5x256x1 .f32 := (extractStridedSlice S5x256x1 ![0, 0, 103] · slices_S5x256x256_S5x256x1_0_0_103) main_v1968
  fn_part95 (F := F) main_arg0 main_v3 main_v7 main_v8 main_v10 main_v11 main_v1968 main_v1969 main_v1970

def fn_part93 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1917 : FVec F S5x256x256 .f32) (main_v1919 : IVec S5x256x256 1) (main_v1926 : FVec F S5x256x256 .f32) (main_v1928 : IVec S5x256x256 1) : IVec S9x256x256 1 × IVec S8x256x256 1 :=
  let main_v1929 : IVec S5x256x256 1 := andi main_v1919 main_v1928
  let main_v1930 : FVec F S5x256x256 .f32 := select main_v1929 main_v1917 main_v1926
  let main_v1931 : FVec F S5x1x256 .f32 := (extractStridedSlice S5x1x256 ![0, 101, 0] · slices_S5x256x256_S5x1x256_0_101_0) main_v1930
  let main_v1932 : FVec F S5x256x1 .f32 := (extractStridedSlice S5x256x1 ![0, 0, 101] · slices_S5x256x256_S5x256x1_0_0_101) main_v1930
  let main_v1933 : FVec F S5x1x1 .f32 := (extractStridedSlice S5x1x1 ![0, 0, 101] · slices_S5x1x256_S5x1x1_0_0_101) main_v1931
  let main_v1934 : FVec F S5x256x1 .f32 := broadcastInDim S5x256x1 ![0, 1, 2] bcast_S5x1x1_S5x256x1_0_1_2 main_v1933
  let main_v1935 : FVec F S5x256x1 .f32 := Host.divf main_v1932 main_v1934
  let main_v1936 : FVec F S5x256x256 .f32 := broadcastInDim S5x256x256 ![0, 1, 2] bcast_S5x256x1_S5x256x256_0_1_2 main_v1935
  let main_c_302 : IVec S_ 32 := constantI S_ 32 101#32
  let main_v1937 : IVec S5x256x256 32 := broadcastInDim S5x256x256 ![] bcast_S_S5x256x256 main_c_302
  let main_v1938 : IVec S5x256x256 1 := cmpi .sgt main_v10 main_v1937
  let main_c_303 : IVec S_ 32 := constantI S_ 32 101#32
  let main_v1939 : IVec S5x256x256 32 := broadcastInDim S5x256x256 ![] bcast_S_S5x256x256 main_c_303
  let main_v1940 : IVec S5x256x256 1 := cmpi .sgt main_v11 main_v1939
  let main_v1941 : IVec S5x256x256 1 := andi main_v1938 main_v1940
  let main_v1942 : FVec F S5x256x256 .f32 := broadcastInDim S5x256x256 ![0, 1, 2] bcast_S5x1x256_S5x256x256_0_1_2 main_v1931
  let main_v1943 : FVec F S5x256x256 .f32 := mulf main_v1936 main_v1942
  let main_v1944 : FVec F S5x256x256 .f32 := subf main_v1930 main_v1943
  let main_v1945 : FVec F S5x256x256 .f32 := select main_v1941 main_v1944 main_v1930
  let main_c_304 : IVec S_ 32 := constantI S_ 32 101#32
  let main_v1946 : IVec S5x256x256 32 := broadcastInDim S5x256x256 ![] bcast_S_S5x256x256 main_c_304
  let main_v1947 : IVec S5x256x256 1 := cmpi .eq main_v11 main_v1946
  let main_v1948 : IVec S5x256x256 1 := andi main_v1938 main_v1947
  let main_v1949 : FVec F S5x256x256 .f32 := select main_v1948 main_v1936 main_v1945
  fn_part94 (F := F) main_arg0 main_v3 main_v7 main_v8 main_v10 main_v11 main_v1949

def fn_part92 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1898 : FVec F S5x256x256 .f32) (main_v1900 : IVec S5x256x256 1) (main_v1907 : FVec F S5x256x256 .f32) (main_c_298 : IVec S_ 32) : IVec S9x256x256 1 × IVec S8x256x256 1 :=
  let main_v1908 : IVec S5x256x256 32 := broadcastInDim S5x256x256 ![] bcast_S_S5x256x256 main_c_298
  let main_v1909 : IVec S5x256x256 1 := cmpi .eq main_v11 main_v1908
  let main_v1910 : IVec S5x256x256 1 := andi main_v1900 main_v1909
  let main_v1911 : FVec F S5x256x256 .f32 := select main_v1910 main_v1898 main_v1907
  let main_v1912 : FVec F S5x1x256 .f32 := (extractStridedSlice S5x1x256 ![0, 100, 0] · slices_S5x256x256_S5x1x256_0_100_0) main_v1911
  let main_v1913 : FVec F S5x256x1 .f32 := (extractStridedSlice S5x256x1 ![0, 0, 100] · slices_S5x256x256_S5x256x1_0_0_100) main_v1911
  let main_v1914 : FVec F S5x1x1 .f32 := (extractStridedSlice S5x1x1 ![0, 0, 100] · slices_S5x1x256_S5x1x1_0_0_100) main_v1912
  let main_v1915 : FVec F S5x256x1 .f32 := broadcastInDim S5x256x1 ![0, 1, 2] bcast_S5x1x1_S5x256x1_0_1_2 main_v1914
  let main_v1916 : FVec F S5x256x1 .f32 := Host.divf main_v1913 main_v1915
  let main_v1917 : FVec F S5x256x256 .f32 := broadcastInDim S5x256x256 ![0, 1, 2] bcast_S5x256x1_S5x256x256_0_1_2 main_v1916
  let main_c_299 : IVec S_ 32 := constantI S_ 32 100#32
  let main_v1918 : IVec S5x256x256 32 := broadcastInDim S5x256x256 ![] bcast_S_S5x256x256 main_c_299
  let main_v1919 : IVec S5x256x256 1 := cmpi .sgt main_v10 main_v1918
  let main_c_300 : IVec S_ 32 := constantI S_ 32 100#32
  let main_v1920 : IVec S5x256x256 32 := broadcastInDim S5x256x256 ![] bcast_S_S5x256x256 main_c_300
  let main_v1921 : IVec S5x256x256 1 := cmpi .sgt main_v11 main_v1920
  let main_v1922 : IVec S5x256x256 1 := andi main_v1919 main_v1921
  let main_v1923 : FVec F S5x256x256 .f32 := broadcastInDim S5x256x256 ![0, 1, 2] bcast_S5x1x256_S5x256x256_0_1_2 main_v1912
  let main_v1924 : FVec F S5x256x256 .f32 := mulf main_v1917 main_v1923
  let main_v1925 : FVec F S5x256x256 .f32 := subf main_v1911 main_v1924
  let main_v1926 : FVec F S5x256x256 .f32 := select main_v1922 main_v1925 main_v1911
  let main_c_301 : IVec S_ 32 := constantI S_ 32 100#32
  let main_v1927 : IVec S5x256x256 32 := broadcastInDim S5x256x256 ![] bcast_S_S5x256x256 main_c_301
  let main_v1928 : IVec S5x256x256 1 := cmpi .eq main_v11 main_v1927
  fn_part93 (F := F) main_arg0 main_v3 main_v7 main_v8 main_v10 main_v11 main_v1917 main_v1919 main_v1926 main_v1928

def fn_part91 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1873 : FVec F S5x256x256 .f32) (main_v1879 : FVec F S5x256x256 .f32) (main_v1881 : IVec S5x256x256 1) (main_v1884 : IVec S5x256x256 1) (main_v1887 : FVec F S5x256x256 .f32) : IVec S9x256x256 1 × IVec S8x256x256 1 :=
  let main_v1888 : FVec F S5x256x256 .f32 := select main_v1884 main_v1887 main_v1873
  let main_c_295 : IVec S_ 32 := constantI S_ 32 98#32
  let main_v1889 : IVec S5x256x256 32 := broadcastInDim S5x256x256 ![] bcast_S_S5x256x256 main_c_295
  let main_v1890 : IVec S5x256x256 1 := cmpi .eq main_v11 main_v1889
  let main_v1891 : IVec S5x256x256 1 := andi main_v1881 main_v1890
  let main_v1892 : FVec F S5x256x256 .f32 := select main_v1891 main_v1879 main_v1888
  let main_v1893 : FVec F S5x1x256 .f32 := (extractStridedSlice S5x1x256 ![0, 99, 0] · slices_S5x256x256_S5x1x256_0_99_0) main_v1892
  let main_v1894 : FVec F S5x256x1 .f32 := (extractStridedSlice S5x256x1 ![0, 0, 99] · slices_S5x256x256_S5x256x1_0_0_99) main_v1892
  let main_v1895 : FVec F S5x1x1 .f32 := (extractStridedSlice S5x1x1 ![0, 0, 99] · slices_S5x1x256_S5x1x1_0_0_99) main_v1893
  let main_v1896 : FVec F S5x256x1 .f32 := broadcastInDim S5x256x1 ![0, 1, 2] bcast_S5x1x1_S5x256x1_0_1_2 main_v1895
  let main_v1897 : FVec F S5x256x1 .f32 := Host.divf main_v1894 main_v1896
  let main_v1898 : FVec F S5x256x256 .f32 := broadcastInDim S5x256x256 ![0, 1, 2] bcast_S5x256x1_S5x256x256_0_1_2 main_v1897
  let main_c_296 : IVec S_ 32 := constantI S_ 32 99#32
  let main_v1899 : IVec S5x256x256 32 := broadcastInDim S5x256x256 ![] bcast_S_S5x256x256 main_c_296
  let main_v1900 : IVec S5x256x256 1 := cmpi .sgt main_v10 main_v1899
  let main_c_297 : IVec S_ 32 := constantI S_ 32 99#32
  let main_v1901 : IVec S5x256x256 32 := broadcastInDim S5x256x256 ![] bcast_S_S5x256x256 main_c_297
  let main_v1902 : IVec S5x256x256 1 := cmpi .sgt main_v11 main_v1901
  let main_v1903 : IVec S5x256x256 1 := andi main_v1900 main_v1902
  let main_v1904 : FVec F S5x256x256 .f32 := broadcastInDim S5x256x256 ![0, 1, 2] bcast_S5x1x256_S5x256x256_0_1_2 main_v1893
  let main_v1905 : FVec F S5x256x256 .f32 := mulf main_v1898 main_v1904
  let main_v1906 : FVec F S5x256x256 .f32 := subf main_v1892 main_v1905
  let main_v1907 : FVec F S5x256x256 .f32 := select main_v1903 main_v1906 main_v1892
  let main_c_298 : IVec S_ 32 := constantI S_ 32 99#32
  fn_part92 (F := F) main_arg0 main_v3 main_v7 main_v8 main_v10 main_v11 main_v1898 main_v1900 main_v1907 main_c_298

def fn_part90 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1854 : FVec F S5x256x256 .f32) (main_v1860 : FVec F S5x256x256 .f32) (main_v1862 : IVec S5x256x256 1) (main_v1865 : IVec S5x256x256 1) (main_v1866 : FVec F S5x256x256 .f32) : IVec S9x256x256 1 × IVec S8x256x256 1 :=
  let main_v1867 : FVec F S5x256x256 .f32 := mulf main_v1860 main_v1866
  let main_v1868 : FVec F S5x256x256 .f32 := subf main_v1854 main_v1867
  let main_v1869 : FVec F S5x256x256 .f32 := select main_v1865 main_v1868 main_v1854
  let main_c_292 : IVec S_ 32 := constantI S_ 32 97#32
  let main_v1870 : IVec S5x256x256 32 := broadcastInDim S5x256x256 ![] bcast_S_S5x256x256 main_c_292
  let main_v1871 : IVec S5x256x256 1 := cmpi .eq main_v11 main_v1870
  let main_v1872 : IVec S5x256x256 1 := andi main_v1862 main_v1871
  let main_v1873 : FVec F S5x256x256 .f32 := select main_v1872 main_v1860 main_v1869
  let main_v1874 : FVec F S5x1x256 .f32 := (extractStridedSlice S5x1x256 ![0, 98, 0] · slices_S5x256x256_S5x1x256_0_98_0) main_v1873
  let main_v1875 : FVec F S5x256x1 .f32 := (extractStridedSlice S5x256x1 ![0, 0, 98] · slices_S5x256x256_S5x256x1_0_0_98) main_v1873
  let main_v1876 : FVec F S5x1x1 .f32 := (extractStridedSlice S5x1x1 ![0, 0, 98] · slices_S5x1x256_S5x1x1_0_0_98) main_v1874
  let main_v1877 : FVec F S5x256x1 .f32 := broadcastInDim S5x256x1 ![0, 1, 2] bcast_S5x1x1_S5x256x1_0_1_2 main_v1876
  let main_v1878 : FVec F S5x256x1 .f32 := Host.divf main_v1875 main_v1877
  let main_v1879 : FVec F S5x256x256 .f32 := broadcastInDim S5x256x256 ![0, 1, 2] bcast_S5x256x1_S5x256x256_0_1_2 main_v1878
  let main_c_293 : IVec S_ 32 := constantI S_ 32 98#32
  let main_v1880 : IVec S5x256x256 32 := broadcastInDim S5x256x256 ![] bcast_S_S5x256x256 main_c_293
  let main_v1881 : IVec S5x256x256 1 := cmpi .sgt main_v10 main_v1880
  let main_c_294 : IVec S_ 32 := constantI S_ 32 98#32
  let main_v1882 : IVec S5x256x256 32 := broadcastInDim S5x256x256 ![] bcast_S_S5x256x256 main_c_294
  let main_v1883 : IVec S5x256x256 1 := cmpi .sgt main_v11 main_v1882
  let main_v1884 : IVec S5x256x256 1 := andi main_v1881 main_v1883
  let main_v1885 : FVec F S5x256x256 .f32 := broadcastInDim S5x256x256 ![0, 1, 2] bcast_S5x1x256_S5x256x256_0_1_2 main_v1874
  let main_v1886 : FVec F S5x256x256 .f32 := mulf main_v1879 main_v1885
  let main_v1887 : FVec F S5x256x256 .f32 := subf main_v1873 main_v1886
  fn_part91 (F := F) main_arg0 main_v3 main_v7 main_v8 main_v10 main_v11 main_v1873 main_v1879 main_v1881 main_v1884 main_v1887

def fn_part89 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1835 : FVec F S5x256x256 .f32) (main_v1836 : FVec F S5x1x256 .f32) (main_v1841 : FVec F S5x256x256 .f32) (main_v1843 : IVec S5x256x256 1) (main_v1845 : IVec S5x256x256 1) : IVec S9x256x256 1 × IVec S8x256x256 1 :=
  let main_v1846 : IVec S5x256x256 1 := andi main_v1843 main_v1845
  let main_v1847 : FVec F S5x256x256 .f32 := broadcastInDim S5x256x256 ![0, 1, 2] bcast_S5x1x256_S5x256x256_0_1_2 main_v1836
  let main_v1848 : FVec F S5x256x256 .f32 := mulf main_v1841 main_v1847
  let main_v1849 : FVec F S5x256x256 .f32 := subf main_v1835 main_v1848
  let main_v1850 : FVec F S5x256x256 .f32 := select main_v1846 main_v1849 main_v1835
  let main_c_289 : IVec S_ 32 := constantI S_ 32 96#32
  let main_v1851 : IVec S5x256x256 32 := broadcastInDim S5x256x256 ![] bcast_S_S5x256x256 main_c_289
  let main_v1852 : IVec S5x256x256 1 := cmpi .eq main_v11 main_v1851
  let main_v1853 : IVec S5x256x256 1 := andi main_v1843 main_v1852
  let main_v1854 : FVec F S5x256x256 .f32 := select main_v1853 main_v1841 main_v1850
  let main_v1855 : FVec F S5x1x256 .f32 := (extractStridedSlice S5x1x256 ![0, 97, 0] · slices_S5x256x256_S5x1x256_0_97_0) main_v1854
  let main_v1856 : FVec F S5x256x1 .f32 := (extractStridedSlice S5x256x1 ![0, 0, 97] · slices_S5x256x256_S5x256x1_0_0_97) main_v1854
  let main_v1857 : FVec F S5x1x1 .f32 := (extractStridedSlice S5x1x1 ![0, 0, 97] · slices_S5x1x256_S5x1x1_0_0_97) main_v1855
  let main_v1858 : FVec F S5x256x1 .f32 := broadcastInDim S5x256x1 ![0, 1, 2] bcast_S5x1x1_S5x256x1_0_1_2 main_v1857
  let main_v1859 : FVec F S5x256x1 .f32 := Host.divf main_v1856 main_v1858
  let main_v1860 : FVec F S5x256x256 .f32 := broadcastInDim S5x256x256 ![0, 1, 2] bcast_S5x256x1_S5x256x256_0_1_2 main_v1859
  let main_c_290 : IVec S_ 32 := constantI S_ 32 97#32
  let main_v1861 : IVec S5x256x256 32 := broadcastInDim S5x256x256 ![] bcast_S_S5x256x256 main_c_290
  let main_v1862 : IVec S5x256x256 1 := cmpi .sgt main_v10 main_v1861
  let main_c_291 : IVec S_ 32 := constantI S_ 32 97#32
  let main_v1863 : IVec S5x256x256 32 := broadcastInDim S5x256x256 ![] bcast_S_S5x256x256 main_c_291
  let main_v1864 : IVec S5x256x256 1 := cmpi .sgt main_v11 main_v1863
  let main_v1865 : IVec S5x256x256 1 := andi main_v1862 main_v1864
  let main_v1866 : FVec F S5x256x256 .f32 := broadcastInDim S5x256x256 ![0, 1, 2] bcast_S5x1x256_S5x256x256_0_1_2 main_v1855
  fn_part90 (F := F) main_arg0 main_v3 main_v7 main_v8 main_v10 main_v11 main_v1854 main_v1860 main_v1862 main_v1865 main_v1866

def fn_part88 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1816 : FVec F S5x256x256 .f32) (main_v1817 : FVec F S5x1x256 .f32) (main_v1822 : FVec F S5x256x256 .f32) (main_v1824 : IVec S5x256x256 1) (main_c_285 : IVec S_ 32) : IVec S9x256x256 1 × IVec S8x256x256 1 :=
  let main_v1825 : IVec S5x256x256 32 := broadcastInDim S5x256x256 ![] bcast_S_S5x256x256 main_c_285
  let main_v1826 : IVec S5x256x256 1 := cmpi .sgt main_v11 main_v1825
  let main_v1827 : IVec S5x256x256 1 := andi main_v1824 main_v1826
  let main_v1828 : FVec F S5x256x256 .f32 := broadcastInDim S5x256x256 ![0, 1, 2] bcast_S5x1x256_S5x256x256_0_1_2 main_v1817
  let main_v1829 : FVec F S5x256x256 .f32 := mulf main_v1822 main_v1828
  let main_v1830 : FVec F S5x256x256 .f32 := subf main_v1816 main_v1829
  let main_v1831 : FVec F S5x256x256 .f32 := select main_v1827 main_v1830 main_v1816
  let main_c_286 : IVec S_ 32 := constantI S_ 32 95#32
  let main_v1832 : IVec S5x256x256 32 := broadcastInDim S5x256x256 ![] bcast_S_S5x256x256 main_c_286
  let main_v1833 : IVec S5x256x256 1 := cmpi .eq main_v11 main_v1832
  let main_v1834 : IVec S5x256x256 1 := andi main_v1824 main_v1833
  let main_v1835 : FVec F S5x256x256 .f32 := select main_v1834 main_v1822 main_v1831
  let main_v1836 : FVec F S5x1x256 .f32 := (extractStridedSlice S5x1x256 ![0, 96, 0] · slices_S5x256x256_S5x1x256_0_96_0) main_v1835
  let main_v1837 : FVec F S5x256x1 .f32 := (extractStridedSlice S5x256x1 ![0, 0, 96] · slices_S5x256x256_S5x256x1_0_0_96) main_v1835
  let main_v1838 : FVec F S5x1x1 .f32 := (extractStridedSlice S5x1x1 ![0, 0, 96] · slices_S5x1x256_S5x1x1_0_0_96) main_v1836
  let main_v1839 : FVec F S5x256x1 .f32 := broadcastInDim S5x256x1 ![0, 1, 2] bcast_S5x1x1_S5x256x1_0_1_2 main_v1838
  let main_v1840 : FVec F S5x256x1 .f32 := Host.divf main_v1837 main_v1839
  let main_v1841 : FVec F S5x256x256 .f32 := broadcastInDim S5x256x256 ![0, 1, 2] bcast_S5x256x1_S5x256x256_0_1_2 main_v1840
  let main_c_287 : IVec S_ 32 := constantI S_ 32 96#32
  let main_v1842 : IVec S5x256x256 32 := broadcastInDim S5x256x256 ![] bcast_S_S5x256x256 main_c_287
  let main_v1843 : IVec S5x256x256 1 := cmpi .sgt main_v10 main_v1842
  let main_c_288 : IVec S_ 32 := constantI S_ 32 96#32
  let main_v1844 : IVec S5x256x256 32 := broadcastInDim S5x256x256 ![] bcast_S_S5x256x256 main_c_288
  let main_v1845 : IVec S5x256x256 1 := cmpi .sgt main_v11 main_v1844
  fn_part89 (F := F) main_arg0 main_v3 main_v7 main_v8 main_v10 main_v11 main_v1835 main_v1836 main_v1841 main_v1843 main_v1845

def fn_part87 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1797 : FVec F S5x256x256 .f32) (main_v1798 : FVec F S5x1x256 .f32) (main_v1803 : FVec F S5x256x256 .f32) (main_v1804 : IVec S5x256x256 32) : IVec S9x256x256 1 × IVec S8x256x256 1 :=
  let main_v1805 : IVec S5x256x256 1 := cmpi .sgt main_v10 main_v1804
  let main_c_282 : IVec S_ 32 := constantI S_ 32 94#32
  let main_v1806 : IVec S5x256x256 32 := broadcastInDim S5x256x256 ![] bcast_S_S5x256x256 main_c_282
  let main_v1807 : IVec S5x256x256 1 := cmpi .sgt main_v11 main_v1806
  let main_v1808 : IVec S5x256x256 1 := andi main_v1805 main_v1807
  let main_v1809 : FVec F S5x256x256 .f32 := broadcastInDim S5x256x256 ![0, 1, 2] bcast_S5x1x256_S5x256x256_0_1_2 main_v1798
  let main_v1810 : FVec F S5x256x256 .f32 := mulf main_v1803 main_v1809
  let main_v1811 : FVec F S5x256x256 .f32 := subf main_v1797 main_v1810
  let main_v1812 : FVec F S5x256x256 .f32 := select main_v1808 main_v1811 main_v1797
  let main_c_283 : IVec S_ 32 := constantI S_ 32 94#32
  let main_v1813 : IVec S5x256x256 32 := broadcastInDim S5x256x256 ![] bcast_S_S5x256x256 main_c_283
  let main_v1814 : IVec S5x256x256 1 := cmpi .eq main_v11 main_v1813
  let main_v1815 : IVec S5x256x256 1 := andi main_v1805 main_v1814
  let main_v1816 : FVec F S5x256x256 .f32 := select main_v1815 main_v1803 main_v1812
  let main_v1817 : FVec F S5x1x256 .f32 := (extractStridedSlice S5x1x256 ![0, 95, 0] · slices_S5x256x256_S5x1x256_0_95_0) main_v1816
  let main_v1818 : FVec F S5x256x1 .f32 := (extractStridedSlice S5x256x1 ![0, 0, 95] · slices_S5x256x256_S5x256x1_0_0_95) main_v1816
  let main_v1819 : FVec F S5x1x1 .f32 := (extractStridedSlice S5x1x1 ![0, 0, 95] · slices_S5x1x256_S5x1x1_0_0_95) main_v1817
  let main_v1820 : FVec F S5x256x1 .f32 := broadcastInDim S5x256x1 ![0, 1, 2] bcast_S5x1x1_S5x256x1_0_1_2 main_v1819
  let main_v1821 : FVec F S5x256x1 .f32 := Host.divf main_v1818 main_v1820
  let main_v1822 : FVec F S5x256x256 .f32 := broadcastInDim S5x256x256 ![0, 1, 2] bcast_S5x256x1_S5x256x256_0_1_2 main_v1821
  let main_c_284 : IVec S_ 32 := constantI S_ 32 95#32
  let main_v1823 : IVec S5x256x256 32 := broadcastInDim S5x256x256 ![] bcast_S_S5x256x256 main_c_284
  let main_v1824 : IVec S5x256x256 1 := cmpi .sgt main_v10 main_v1823
  let main_c_285 : IVec S_ 32 := constantI S_ 32 95#32
  fn_part88 (F := F) main_arg0 main_v3 main_v7 main_v8 main_v10 main_v11 main_v1816 main_v1817 main_v1822 main_v1824 main_c_285

def fn_part86 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1778 : FVec F S5x256x256 .f32) (main_v1779 : FVec F S5x1x256 .f32) (main_v1784 : FVec F S5x256x256 .f32) : IVec S9x256x256 1 × IVec S8x256x256 1 :=
  let main_c_278 : IVec S_ 32 := constantI S_ 32 93#32
  let main_v1785 : IVec S5x256x256 32 := broadcastInDim S5x256x256 ![] bcast_S_S5x256x256 main_c_278
  let main_v1786 : IVec S5x256x256 1 := cmpi .sgt main_v10 main_v1785
  let main_c_279 : IVec S_ 32 := constantI S_ 32 93#32
  let main_v1787 : IVec S5x256x256 32 := broadcastInDim S5x256x256 ![] bcast_S_S5x256x256 main_c_279
  let main_v1788 : IVec S5x256x256 1 := cmpi .sgt main_v11 main_v1787
  let main_v1789 : IVec S5x256x256 1 := andi main_v1786 main_v1788
  let main_v1790 : FVec F S5x256x256 .f32 := broadcastInDim S5x256x256 ![0, 1, 2] bcast_S5x1x256_S5x256x256_0_1_2 main_v1779
  let main_v1791 : FVec F S5x256x256 .f32 := mulf main_v1784 main_v1790
  let main_v1792 : FVec F S5x256x256 .f32 := subf main_v1778 main_v1791
  let main_v1793 : FVec F S5x256x256 .f32 := select main_v1789 main_v1792 main_v1778
  let main_c_280 : IVec S_ 32 := constantI S_ 32 93#32
  let main_v1794 : IVec S5x256x256 32 := broadcastInDim S5x256x256 ![] bcast_S_S5x256x256 main_c_280
  let main_v1795 : IVec S5x256x256 1 := cmpi .eq main_v11 main_v1794
  let main_v1796 : IVec S5x256x256 1 := andi main_v1786 main_v1795
  let main_v1797 : FVec F S5x256x256 .f32 := select main_v1796 main_v1784 main_v1793
  let main_v1798 : FVec F S5x1x256 .f32 := (extractStridedSlice S5x1x256 ![0, 94, 0] · slices_S5x256x256_S5x1x256_0_94_0) main_v1797
  let main_v1799 : FVec F S5x256x1 .f32 := (extractStridedSlice S5x256x1 ![0, 0, 94] · slices_S5x256x256_S5x256x1_0_0_94) main_v1797
  let main_v1800 : FVec F S5x1x1 .f32 := (extractStridedSlice S5x1x1 ![0, 0, 94] · slices_S5x1x256_S5x1x1_0_0_94) main_v1798
  let main_v1801 : FVec F S5x256x1 .f32 := broadcastInDim S5x256x1 ![0, 1, 2] bcast_S5x1x1_S5x256x1_0_1_2 main_v1800
  let main_v1802 : FVec F S5x256x1 .f32 := Host.divf main_v1799 main_v1801
  let main_v1803 : FVec F S5x256x256 .f32 := broadcastInDim S5x256x256 ![0, 1, 2] bcast_S5x256x1_S5x256x256_0_1_2 main_v1802
  let main_c_281 : IVec S_ 32 := constantI S_ 32 94#32
  let main_v1804 : IVec S5x256x256 32 := broadcastInDim S5x256x256 ![] bcast_S_S5x256x256 main_c_281
  fn_part87 (F := F) main_arg0 main_v3 main_v7 main_v8 main_v10 main_v11 main_v1797 main_v1798 main_v1803 main_v1804

def fn_part85 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1759 : FVec F S5x256x256 .f32) (main_v1760 : FVec F S5x1x256 .f32) (main_v1761 : FVec F S5x256x1 .f32) (main_v1763 : FVec F S5x256x1 .f32) : IVec S9x256x256 1 × IVec S8x256x256 1 :=
  let main_v1764 : FVec F S5x256x1 .f32 := Host.divf main_v1761 main_v1763
  let main_v1765 : FVec F S5x256x256 .f32 := broadcastInDim S5x256x256 ![0, 1, 2] bcast_S5x256x1_S5x256x256_0_1_2 main_v1764
  let main_c_275 : IVec S_ 32 := constantI S_ 32 92#32
  let main_v1766 : IVec S5x256x256 32 := broadcastInDim S5x256x256 ![] bcast_S_S5x256x256 main_c_275
  let main_v1767 : IVec S5x256x256 1 := cmpi .sgt main_v10 main_v1766
  let main_c_276 : IVec S_ 32 := constantI S_ 32 92#32
  let main_v1768 : IVec S5x256x256 32 := broadcastInDim S5x256x256 ![] bcast_S_S5x256x256 main_c_276
  let main_v1769 : IVec S5x256x256 1 := cmpi .sgt main_v11 main_v1768
  let main_v1770 : IVec S5x256x256 1 := andi main_v1767 main_v1769
  let main_v1771 : FVec F S5x256x256 .f32 := broadcastInDim S5x256x256 ![0, 1, 2] bcast_S5x1x256_S5x256x256_0_1_2 main_v1760
  let main_v1772 : FVec F S5x256x256 .f32 := mulf main_v1765 main_v1771
  let main_v1773 : FVec F S5x256x256 .f32 := subf main_v1759 main_v1772
  let main_v1774 : FVec F S5x256x256 .f32 := select main_v1770 main_v1773 main_v1759
  let main_c_277 : IVec S_ 32 := constantI S_ 32 92#32
  let main_v1775 : IVec S5x256x256 32 := broadcastInDim S5x256x256 ![] bcast_S_S5x256x256 main_c_277
  let main_v1776 : IVec S5x256x256 1 := cmpi .eq main_v11 main_v1775
  let main_v1777 : IVec S5x256x256 1 := andi main_v1767 main_v1776
  let main_v1778 : FVec F S5x256x256 .f32 := select main_v1777 main_v1765 main_v1774
  let main_v1779 : FVec F S5x1x256 .f32 := (extractStridedSlice S5x1x256 ![0, 93, 0] · slices_S5x256x256_S5x1x256_0_93_0) main_v1778
  let main_v1780 : FVec F S5x256x1 .f32 := (extractStridedSlice S5x256x1 ![0, 0, 93] · slices_S5x256x256_S5x256x1_0_0_93) main_v1778
  let main_v1781 : FVec F S5x1x1 .f32 := (extractStridedSlice S5x1x1 ![0, 0, 93] · slices_S5x1x256_S5x1x1_0_0_93) main_v1779
  let main_v1782 : FVec F S5x256x1 .f32 := broadcastInDim S5x256x1 ![0, 1, 2] bcast_S5x1x1_S5x256x1_0_1_2 main_v1781
  let main_v1783 : FVec F S5x256x1 .f32 := Host.divf main_v1780 main_v1782
  let main_v1784 : FVec F S5x256x256 .f32 := broadcastInDim S5x256x256 ![0, 1, 2] bcast_S5x256x1_S5x256x256_0_1_2 main_v1783
  fn_part86 (F := F) main_arg0 main_v3 main_v7 main_v8 main_v10 main_v11 main_v1778 main_v1779 main_v1784

def fn_part84 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1740 : FVec F S5x256x256 .f32) (main_v1741 : FVec F S5x1x256 .f32) (main_v1742 : FVec F S5x256x1 .f32) : IVec S9x256x256 1 × IVec S8x256x256 1 :=
  let main_v1743 : FVec F S5x1x1 .f32 := (extractStridedSlice S5x1x1 ![0, 0, 91] · slices_S5x1x256_S5x1x1_0_0_91) main_v1741
  let main_v1744 : FVec F S5x256x1 .f32 := broadcastInDim S5x256x1 ![0, 1, 2] bcast_S5x1x1_S5x256x1_0_1_2 main_v1743
  let main_v1745 : FVec F S5x256x1 .f32 := Host.divf main_v1742 main_v1744
  let main_v1746 : FVec F S5x256x256 .f32 := broadcastInDim S5x256x256 ![0, 1, 2] bcast_S5x256x1_S5x256x256_0_1_2 main_v1745
  let main_c_272 : IVec S_ 32 := constantI S_ 32 91#32
  let main_v1747 : IVec S5x256x256 32 := broadcastInDim S5x256x256 ![] bcast_S_S5x256x256 main_c_272
  let main_v1748 : IVec S5x256x256 1 := cmpi .sgt main_v10 main_v1747
  let main_c_273 : IVec S_ 32 := constantI S_ 32 91#32
  let main_v1749 : IVec S5x256x256 32 := broadcastInDim S5x256x256 ![] bcast_S_S5x256x256 main_c_273
  let main_v1750 : IVec S5x256x256 1 := cmpi .sgt main_v11 main_v1749
  let main_v1751 : IVec S5x256x256 1 := andi main_v1748 main_v1750
  let main_v1752 : FVec F S5x256x256 .f32 := broadcastInDim S5x256x256 ![0, 1, 2] bcast_S5x1x256_S5x256x256_0_1_2 main_v1741
  let main_v1753 : FVec F S5x256x256 .f32 := mulf main_v1746 main_v1752
  let main_v1754 : FVec F S5x256x256 .f32 := subf main_v1740 main_v1753
  let main_v1755 : FVec F S5x256x256 .f32 := select main_v1751 main_v1754 main_v1740
  let main_c_274 : IVec S_ 32 := constantI S_ 32 91#32
  let main_v1756 : IVec S5x256x256 32 := broadcastInDim S5x256x256 ![] bcast_S_S5x256x256 main_c_274
  let main_v1757 : IVec S5x256x256 1 := cmpi .eq main_v11 main_v1756
  let main_v1758 : IVec S5x256x256 1 := andi main_v1748 main_v1757
  let main_v1759 : FVec F S5x256x256 .f32 := select main_v1758 main_v1746 main_v1755
  let main_v1760 : FVec F S5x1x256 .f32 := (extractStridedSlice S5x1x256 ![0, 92, 0] · slices_S5x256x256_S5x1x256_0_92_0) main_v1759
  let main_v1761 : FVec F S5x256x1 .f32 := (extractStridedSlice S5x256x1 ![0, 0, 92] · slices_S5x256x256_S5x256x1_0_0_92) main_v1759
  let main_v1762 : FVec F S5x1x1 .f32 := (extractStridedSlice S5x1x1 ![0, 0, 92] · slices_S5x1x256_S5x1x1_0_0_92) main_v1760
  let main_v1763 : FVec F S5x256x1 .f32 := broadcastInDim S5x256x1 ![0, 1, 2] bcast_S5x1x1_S5x256x1_0_1_2 main_v1762
  fn_part85 (F := F) main_arg0 main_v3 main_v7 main_v8 main_v10 main_v11 main_v1759 main_v1760 main_v1761 main_v1763

def fn_part83 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1721 : FVec F S5x256x256 .f32) : IVec S9x256x256 1 × IVec S8x256x256 1 :=
  let main_v1722 : FVec F S5x1x256 .f32 := (extractStridedSlice S5x1x256 ![0, 90, 0] · slices_S5x256x256_S5x1x256_0_90_0) main_v1721
  let main_v1723 : FVec F S5x256x1 .f32 := (extractStridedSlice S5x256x1 ![0, 0, 90] · slices_S5x256x256_S5x256x1_0_0_90) main_v1721
  let main_v1724 : FVec F S5x1x1 .f32 := (extractStridedSlice S5x1x1 ![0, 0, 90] · slices_S5x1x256_S5x1x1_0_0_90) main_v1722
  let main_v1725 : FVec F S5x256x1 .f32 := broadcastInDim S5x256x1 ![0, 1, 2] bcast_S5x1x1_S5x256x1_0_1_2 main_v1724
  let main_v1726 : FVec F S5x256x1 .f32 := Host.divf main_v1723 main_v1725
  let main_v1727 : FVec F S5x256x256 .f32 := broadcastInDim S5x256x256 ![0, 1, 2] bcast_S5x256x1_S5x256x256_0_1_2 main_v1726
  let main_c_269 : IVec S_ 32 := constantI S_ 32 90#32
  let main_v1728 : IVec S5x256x256 32 := broadcastInDim S5x256x256 ![] bcast_S_S5x256x256 main_c_269
  let main_v1729 : IVec S5x256x256 1 := cmpi .sgt main_v10 main_v1728
  let main_c_270 : IVec S_ 32 := constantI S_ 32 90#32
  let main_v1730 : IVec S5x256x256 32 := broadcastInDim S5x256x256 ![] bcast_S_S5x256x256 main_c_270
  let main_v1731 : IVec S5x256x256 1 := cmpi .sgt main_v11 main_v1730
  let main_v1732 : IVec S5x256x256 1 := andi main_v1729 main_v1731
  let main_v1733 : FVec F S5x256x256 .f32 := broadcastInDim S5x256x256 ![0, 1, 2] bcast_S5x1x256_S5x256x256_0_1_2 main_v1722
  let main_v1734 : FVec F S5x256x256 .f32 := mulf main_v1727 main_v1733
  let main_v1735 : FVec F S5x256x256 .f32 := subf main_v1721 main_v1734
  let main_v1736 : FVec F S5x256x256 .f32 := select main_v1732 main_v1735 main_v1721
  let main_c_271 : IVec S_ 32 := constantI S_ 32 90#32
  let main_v1737 : IVec S5x256x256 32 := broadcastInDim S5x256x256 ![] bcast_S_S5x256x256 main_c_271
  let main_v1738 : IVec S5x256x256 1 := cmpi .eq main_v11 main_v1737
  let main_v1739 : IVec S5x256x256 1 := andi main_v1729 main_v1738
  let main_v1740 : FVec F S5x256x256 .f32 := select main_v1739 main_v1727 main_v1736
  let main_v1741 : FVec F S5x1x256 .f32 := (extractStridedSlice S5x1x256 ![0, 91, 0] · slices_S5x256x256_S5x1x256_0_91_0) main_v1740
  let main_v1742 : FVec F S5x256x1 .f32 := (extractStridedSlice S5x256x1 ![0, 0, 91] · slices_S5x256x256_S5x256x1_0_0_91) main_v1740
  fn_part84 (F := F) main_arg0 main_v3 main_v7 main_v8 main_v10 main_v11 main_v1740 main_v1741 main_v1742

def fn_part82 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1689 : FVec F S5x256x256 .f32) (main_v1691 : IVec S5x256x256 1) (main_v1698 : FVec F S5x256x256 .f32) (main_v1700 : IVec S5x256x256 1) : IVec S9x256x256 1 × IVec S8x256x256 1 :=
  let main_v1701 : IVec S5x256x256 1 := andi main_v1691 main_v1700
  let main_v1702 : FVec F S5x256x256 .f32 := select main_v1701 main_v1689 main_v1698
  let main_v1703 : FVec F S5x1x256 .f32 := (extractStridedSlice S5x1x256 ![0, 89, 0] · slices_S5x256x256_S5x1x256_0_89_0) main_v1702
  let main_v1704 : FVec F S5x256x1 .f32 := (extractStridedSlice S5x256x1 ![0, 0, 89] · slices_S5x256x256_S5x256x1_0_0_89) main_v1702
  let main_v1705 : FVec F S5x1x1 .f32 := (extractStridedSlice S5x1x1 ![0, 0, 89] · slices_S5x1x256_S5x1x1_0_0_89) main_v1703
  let main_v1706 : FVec F S5x256x1 .f32 := broadcastInDim S5x256x1 ![0, 1, 2] bcast_S5x1x1_S5x256x1_0_1_2 main_v1705
  let main_v1707 : FVec F S5x256x1 .f32 := Host.divf main_v1704 main_v1706
  let main_v1708 : FVec F S5x256x256 .f32 := broadcastInDim S5x256x256 ![0, 1, 2] bcast_S5x256x1_S5x256x256_0_1_2 main_v1707
  let main_c_266 : IVec S_ 32 := constantI S_ 32 89#32
  let main_v1709 : IVec S5x256x256 32 := broadcastInDim S5x256x256 ![] bcast_S_S5x256x256 main_c_266
  let main_v1710 : IVec S5x256x256 1 := cmpi .sgt main_v10 main_v1709
  let main_c_267 : IVec S_ 32 := constantI S_ 32 89#32
  let main_v1711 : IVec S5x256x256 32 := broadcastInDim S5x256x256 ![] bcast_S_S5x256x256 main_c_267
  let main_v1712 : IVec S5x256x256 1 := cmpi .sgt main_v11 main_v1711
  let main_v1713 : IVec S5x256x256 1 := andi main_v1710 main_v1712
  let main_v1714 : FVec F S5x256x256 .f32 := broadcastInDim S5x256x256 ![0, 1, 2] bcast_S5x1x256_S5x256x256_0_1_2 main_v1703
  let main_v1715 : FVec F S5x256x256 .f32 := mulf main_v1708 main_v1714
  let main_v1716 : FVec F S5x256x256 .f32 := subf main_v1702 main_v1715
  let main_v1717 : FVec F S5x256x256 .f32 := select main_v1713 main_v1716 main_v1702
  let main_c_268 : IVec S_ 32 := constantI S_ 32 89#32
  let main_v1718 : IVec S5x256x256 32 := broadcastInDim S5x256x256 ![] bcast_S_S5x256x256 main_c_268
  let main_v1719 : IVec S5x256x256 1 := cmpi .eq main_v11 main_v1718
  let main_v1720 : IVec S5x256x256 1 := andi main_v1710 main_v1719
  let main_v1721 : FVec F S5x256x256 .f32 := select main_v1720 main_v1708 main_v1717
  fn_part83 (F := F) main_arg0 main_v3 main_v7 main_v8 main_v10 main_v11 main_v1721

def fn_part81 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1670 : FVec F S5x256x256 .f32) (main_v1672 : IVec S5x256x256 1) (main_v1679 : FVec F S5x256x256 .f32) (main_c_262 : IVec S_ 32) : IVec S9x256x256 1 × IVec S8x256x256 1 :=
  let main_v1680 : IVec S5x256x256 32 := broadcastInDim S5x256x256 ![] bcast_S_S5x256x256 main_c_262
  let main_v1681 : IVec S5x256x256 1 := cmpi .eq main_v11 main_v1680
  let main_v1682 : IVec S5x256x256 1 := andi main_v1672 main_v1681
  let main_v1683 : FVec F S5x256x256 .f32 := select main_v1682 main_v1670 main_v1679
  let main_v1684 : FVec F S5x1x256 .f32 := (extractStridedSlice S5x1x256 ![0, 88, 0] · slices_S5x256x256_S5x1x256_0_88_0) main_v1683
  let main_v1685 : FVec F S5x256x1 .f32 := (extractStridedSlice S5x256x1 ![0, 0, 88] · slices_S5x256x256_S5x256x1_0_0_88) main_v1683
  let main_v1686 : FVec F S5x1x1 .f32 := (extractStridedSlice S5x1x1 ![0, 0, 88] · slices_S5x1x256_S5x1x1_0_0_88) main_v1684
  let main_v1687 : FVec F S5x256x1 .f32 := broadcastInDim S5x256x1 ![0, 1, 2] bcast_S5x1x1_S5x256x1_0_1_2 main_v1686
  let main_v1688 : FVec F S5x256x1 .f32 := Host.divf main_v1685 main_v1687
  let main_v1689 : FVec F S5x256x256 .f32 := broadcastInDim S5x256x256 ![0, 1, 2] bcast_S5x256x1_S5x256x256_0_1_2 main_v1688
  let main_c_263 : IVec S_ 32 := constantI S_ 32 88#32
  let main_v1690 : IVec S5x256x256 32 := broadcastInDim S5x256x256 ![] bcast_S_S5x256x256 main_c_263
  let main_v1691 : IVec S5x256x256 1 := cmpi .sgt main_v10 main_v1690
  let main_c_264 : IVec S_ 32 := constantI S_ 32 88#32
  let main_v1692 : IVec S5x256x256 32 := broadcastInDim S5x256x256 ![] bcast_S_S5x256x256 main_c_264
  let main_v1693 : IVec S5x256x256 1 := cmpi .sgt main_v11 main_v1692
  let main_v1694 : IVec S5x256x256 1 := andi main_v1691 main_v1693
  let main_v1695 : FVec F S5x256x256 .f32 := broadcastInDim S5x256x256 ![0, 1, 2] bcast_S5x1x256_S5x256x256_0_1_2 main_v1684
  let main_v1696 : FVec F S5x256x256 .f32 := mulf main_v1689 main_v1695
  let main_v1697 : FVec F S5x256x256 .f32 := subf main_v1683 main_v1696
  let main_v1698 : FVec F S5x256x256 .f32 := select main_v1694 main_v1697 main_v1683
  let main_c_265 : IVec S_ 32 := constantI S_ 32 88#32
  let main_v1699 : IVec S5x256x256 32 := broadcastInDim S5x256x256 ![] bcast_S_S5x256x256 main_c_265
  let main_v1700 : IVec S5x256x256 1 := cmpi .eq main_v11 main_v1699
  fn_part82 (F := F) main_arg0 main_v3 main_v7 main_v8 main_v10 main_v11 main_v1689 main_v1691 main_v1698 main_v1700

def fn_part80 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1645 : FVec F S5x256x256 .f32) (main_v1651 : FVec F S5x256x256 .f32) (main_v1653 : IVec S5x256x256 1) (main_v1656 : IVec S5x256x256 1) (main_v1659 : FVec F S5x256x256 .f32) : IVec S9x256x256 1 × IVec S8x256x256 1 :=
  let main_v1660 : FVec F S5x256x256 .f32 := select main_v1656 main_v1659 main_v1645
  let main_c_259 : IVec S_ 32 := constantI S_ 32 86#32
  let main_v1661 : IVec S5x256x256 32 := broadcastInDim S5x256x256 ![] bcast_S_S5x256x256 main_c_259
  let main_v1662 : IVec S5x256x256 1 := cmpi .eq main_v11 main_v1661
  let main_v1663 : IVec S5x256x256 1 := andi main_v1653 main_v1662
  let main_v1664 : FVec F S5x256x256 .f32 := select main_v1663 main_v1651 main_v1660
  let main_v1665 : FVec F S5x1x256 .f32 := (extractStridedSlice S5x1x256 ![0, 87, 0] · slices_S5x256x256_S5x1x256_0_87_0) main_v1664
  let main_v1666 : FVec F S5x256x1 .f32 := (extractStridedSlice S5x256x1 ![0, 0, 87] · slices_S5x256x256_S5x256x1_0_0_87) main_v1664
  let main_v1667 : FVec F S5x1x1 .f32 := (extractStridedSlice S5x1x1 ![0, 0, 87] · slices_S5x1x256_S5x1x1_0_0_87) main_v1665
  let main_v1668 : FVec F S5x256x1 .f32 := broadcastInDim S5x256x1 ![0, 1, 2] bcast_S5x1x1_S5x256x1_0_1_2 main_v1667
  let main_v1669 : FVec F S5x256x1 .f32 := Host.divf main_v1666 main_v1668
  let main_v1670 : FVec F S5x256x256 .f32 := broadcastInDim S5x256x256 ![0, 1, 2] bcast_S5x256x1_S5x256x256_0_1_2 main_v1669
  let main_c_260 : IVec S_ 32 := constantI S_ 32 87#32
  let main_v1671 : IVec S5x256x256 32 := broadcastInDim S5x256x256 ![] bcast_S_S5x256x256 main_c_260
  let main_v1672 : IVec S5x256x256 1 := cmpi .sgt main_v10 main_v1671
  let main_c_261 : IVec S_ 32 := constantI S_ 32 87#32
  let main_v1673 : IVec S5x256x256 32 := broadcastInDim S5x256x256 ![] bcast_S_S5x256x256 main_c_261
  let main_v1674 : IVec S5x256x256 1 := cmpi .sgt main_v11 main_v1673
  let main_v1675 : IVec S5x256x256 1 := andi main_v1672 main_v1674
  let main_v1676 : FVec F S5x256x256 .f32 := broadcastInDim S5x256x256 ![0, 1, 2] bcast_S5x1x256_S5x256x256_0_1_2 main_v1665
  let main_v1677 : FVec F S5x256x256 .f32 := mulf main_v1670 main_v1676
  let main_v1678 : FVec F S5x256x256 .f32 := subf main_v1664 main_v1677
  let main_v1679 : FVec F S5x256x256 .f32 := select main_v1675 main_v1678 main_v1664
  let main_c_262 : IVec S_ 32 := constantI S_ 32 87#32
  fn_part81 (F := F) main_arg0 main_v3 main_v7 main_v8 main_v10 main_v11 main_v1670 main_v1672 main_v1679 main_c_262

def fn_part79 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1626 : FVec F S5x256x256 .f32) (main_v1632 : FVec F S5x256x256 .f32) (main_v1634 : IVec S5x256x256 1) (main_v1637 : IVec S5x256x256 1) (main_v1638 : FVec F S5x256x256 .f32) : IVec S9x256x256 1 × IVec S8x256x256 1 :=
  let main_v1639 : FVec F S5x256x256 .f32 := mulf main_v1632 main_v1638
  let main_v1640 : FVec F S5x256x256 .f32 := subf main_v1626 main_v1639
  let main_v1641 : FVec F S5x256x256 .f32 := select main_v1637 main_v1640 main_v1626
  let main_c_256 : IVec S_ 32 := constantI S_ 32 85#32
  let main_v1642 : IVec S5x256x256 32 := broadcastInDim S5x256x256 ![] bcast_S_S5x256x256 main_c_256
  let main_v1643 : IVec S5x256x256 1 := cmpi .eq main_v11 main_v1642
  let main_v1644 : IVec S5x256x256 1 := andi main_v1634 main_v1643
  let main_v1645 : FVec F S5x256x256 .f32 := select main_v1644 main_v1632 main_v1641
  let main_v1646 : FVec F S5x1x256 .f32 := (extractStridedSlice S5x1x256 ![0, 86, 0] · slices_S5x256x256_S5x1x256_0_86_0) main_v1645
  let main_v1647 : FVec F S5x256x1 .f32 := (extractStridedSlice S5x256x1 ![0, 0, 86] · slices_S5x256x256_S5x256x1_0_0_86) main_v1645
  let main_v1648 : FVec F S5x1x1 .f32 := (extractStridedSlice S5x1x1 ![0, 0, 86] · slices_S5x1x256_S5x1x1_0_0_86) main_v1646
  let main_v1649 : FVec F S5x256x1 .f32 := broadcastInDim S5x256x1 ![0, 1, 2] bcast_S5x1x1_S5x256x1_0_1_2 main_v1648
  let main_v1650 : FVec F S5x256x1 .f32 := Host.divf main_v1647 main_v1649
  let main_v1651 : FVec F S5x256x256 .f32 := broadcastInDim S5x256x256 ![0, 1, 2] bcast_S5x256x1_S5x256x256_0_1_2 main_v1650
  let main_c_257 : IVec S_ 32 := constantI S_ 32 86#32
  let main_v1652 : IVec S5x256x256 32 := broadcastInDim S5x256x256 ![] bcast_S_S5x256x256 main_c_257
  let main_v1653 : IVec S5x256x256 1 := cmpi .sgt main_v10 main_v1652
  let main_c_258 : IVec S_ 32 := constantI S_ 32 86#32
  let main_v1654 : IVec S5x256x256 32 := broadcastInDim S5x256x256 ![] bcast_S_S5x256x256 main_c_258
  let main_v1655 : IVec S5x256x256 1 := cmpi .sgt main_v11 main_v1654
  let main_v1656 : IVec S5x256x256 1 := andi main_v1653 main_v1655
  let main_v1657 : FVec F S5x256x256 .f32 := broadcastInDim S5x256x256 ![0, 1, 2] bcast_S5x1x256_S5x256x256_0_1_2 main_v1646
  let main_v1658 : FVec F S5x256x256 .f32 := mulf main_v1651 main_v1657
  let main_v1659 : FVec F S5x256x256 .f32 := subf main_v1645 main_v1658
  fn_part80 (F := F) main_arg0 main_v3 main_v7 main_v8 main_v10 main_v11 main_v1645 main_v1651 main_v1653 main_v1656 main_v1659

def fn_part78 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1607 : FVec F S5x256x256 .f32) (main_v1608 : FVec F S5x1x256 .f32) (main_v1613 : FVec F S5x256x256 .f32) (main_v1615 : IVec S5x256x256 1) (main_v1617 : IVec S5x256x256 1) : IVec S9x256x256 1 × IVec S8x256x256 1 :=
  let main_v1618 : IVec S5x256x256 1 := andi main_v1615 main_v1617
  let main_v1619 : FVec F S5x256x256 .f32 := broadcastInDim S5x256x256 ![0, 1, 2] bcast_S5x1x256_S5x256x256_0_1_2 main_v1608
  let main_v1620 : FVec F S5x256x256 .f32 := mulf main_v1613 main_v1619
  let main_v1621 : FVec F S5x256x256 .f32 := subf main_v1607 main_v1620
  let main_v1622 : FVec F S5x256x256 .f32 := select main_v1618 main_v1621 main_v1607
  let main_c_253 : IVec S_ 32 := constantI S_ 32 84#32
  let main_v1623 : IVec S5x256x256 32 := broadcastInDim S5x256x256 ![] bcast_S_S5x256x256 main_c_253
  let main_v1624 : IVec S5x256x256 1 := cmpi .eq main_v11 main_v1623
  let main_v1625 : IVec S5x256x256 1 := andi main_v1615 main_v1624
  let main_v1626 : FVec F S5x256x256 .f32 := select main_v1625 main_v1613 main_v1622
  let main_v1627 : FVec F S5x1x256 .f32 := (extractStridedSlice S5x1x256 ![0, 85, 0] · slices_S5x256x256_S5x1x256_0_85_0) main_v1626
  let main_v1628 : FVec F S5x256x1 .f32 := (extractStridedSlice S5x256x1 ![0, 0, 85] · slices_S5x256x256_S5x256x1_0_0_85) main_v1626
  let main_v1629 : FVec F S5x1x1 .f32 := (extractStridedSlice S5x1x1 ![0, 0, 85] · slices_S5x1x256_S5x1x1_0_0_85) main_v1627
  let main_v1630 : FVec F S5x256x1 .f32 := broadcastInDim S5x256x1 ![0, 1, 2] bcast_S5x1x1_S5x256x1_0_1_2 main_v1629
  let main_v1631 : FVec F S5x256x1 .f32 := Host.divf main_v1628 main_v1630
  let main_v1632 : FVec F S5x256x256 .f32 := broadcastInDim S5x256x256 ![0, 1, 2] bcast_S5x256x1_S5x256x256_0_1_2 main_v1631
  let main_c_254 : IVec S_ 32 := constantI S_ 32 85#32
  let main_v1633 : IVec S5x256x256 32 := broadcastInDim S5x256x256 ![] bcast_S_S5x256x256 main_c_254
  let main_v1634 : IVec S5x256x256 1 := cmpi .sgt main_v10 main_v1633
  let main_c_255 : IVec S_ 32 := constantI S_ 32 85#32
  let main_v1635 : IVec S5x256x256 32 := broadcastInDim S5x256x256 ![] bcast_S_S5x256x256 main_c_255
  let main_v1636 : IVec S5x256x256 1 := cmpi .sgt main_v11 main_v1635
  let main_v1637 : IVec S5x256x256 1 := andi main_v1634 main_v1636
  let main_v1638 : FVec F S5x256x256 .f32 := broadcastInDim S5x256x256 ![0, 1, 2] bcast_S5x1x256_S5x256x256_0_1_2 main_v1627
  fn_part79 (F := F) main_arg0 main_v3 main_v7 main_v8 main_v10 main_v11 main_v1626 main_v1632 main_v1634 main_v1637 main_v1638

def fn_part77 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1588 : FVec F S5x256x256 .f32) (main_v1589 : FVec F S5x1x256 .f32) (main_v1594 : FVec F S5x256x256 .f32) (main_v1596 : IVec S5x256x256 1) (main_c_249 : IVec S_ 32) : IVec S9x256x256 1 × IVec S8x256x256 1 :=
  let main_v1597 : IVec S5x256x256 32 := broadcastInDim S5x256x256 ![] bcast_S_S5x256x256 main_c_249
  let main_v1598 : IVec S5x256x256 1 := cmpi .sgt main_v11 main_v1597
  let main_v1599 : IVec S5x256x256 1 := andi main_v1596 main_v1598
  let main_v1600 : FVec F S5x256x256 .f32 := broadcastInDim S5x256x256 ![0, 1, 2] bcast_S5x1x256_S5x256x256_0_1_2 main_v1589
  let main_v1601 : FVec F S5x256x256 .f32 := mulf main_v1594 main_v1600
  let main_v1602 : FVec F S5x256x256 .f32 := subf main_v1588 main_v1601
  let main_v1603 : FVec F S5x256x256 .f32 := select main_v1599 main_v1602 main_v1588
  let main_c_250 : IVec S_ 32 := constantI S_ 32 83#32
  let main_v1604 : IVec S5x256x256 32 := broadcastInDim S5x256x256 ![] bcast_S_S5x256x256 main_c_250
  let main_v1605 : IVec S5x256x256 1 := cmpi .eq main_v11 main_v1604
  let main_v1606 : IVec S5x256x256 1 := andi main_v1596 main_v1605
  let main_v1607 : FVec F S5x256x256 .f32 := select main_v1606 main_v1594 main_v1603
  let main_v1608 : FVec F S5x1x256 .f32 := (extractStridedSlice S5x1x256 ![0, 84, 0] · slices_S5x256x256_S5x1x256_0_84_0) main_v1607
  let main_v1609 : FVec F S5x256x1 .f32 := (extractStridedSlice S5x256x1 ![0, 0, 84] · slices_S5x256x256_S5x256x1_0_0_84) main_v1607
  let main_v1610 : FVec F S5x1x1 .f32 := (extractStridedSlice S5x1x1 ![0, 0, 84] · slices_S5x1x256_S5x1x1_0_0_84) main_v1608
  let main_v1611 : FVec F S5x256x1 .f32 := broadcastInDim S5x256x1 ![0, 1, 2] bcast_S5x1x1_S5x256x1_0_1_2 main_v1610
  let main_v1612 : FVec F S5x256x1 .f32 := Host.divf main_v1609 main_v1611
  let main_v1613 : FVec F S5x256x256 .f32 := broadcastInDim S5x256x256 ![0, 1, 2] bcast_S5x256x1_S5x256x256_0_1_2 main_v1612
  let main_c_251 : IVec S_ 32 := constantI S_ 32 84#32
  let main_v1614 : IVec S5x256x256 32 := broadcastInDim S5x256x256 ![] bcast_S_S5x256x256 main_c_251
  let main_v1615 : IVec S5x256x256 1 := cmpi .sgt main_v10 main_v1614
  let main_c_252 : IVec S_ 32 := constantI S_ 32 84#32
  let main_v1616 : IVec S5x256x256 32 := broadcastInDim S5x256x256 ![] bcast_S_S5x256x256 main_c_252
  let main_v1617 : IVec S5x256x256 1 := cmpi .sgt main_v11 main_v1616
  fn_part78 (F := F) main_arg0 main_v3 main_v7 main_v8 main_v10 main_v11 main_v1607 main_v1608 main_v1613 main_v1615 main_v1617

def fn_part76 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1569 : FVec F S5x256x256 .f32) (main_v1570 : FVec F S5x1x256 .f32) (main_v1575 : FVec F S5x256x256 .f32) (main_v1576 : IVec S5x256x256 32) : IVec S9x256x256 1 × IVec S8x256x256 1 :=
  let main_v1577 : IVec S5x256x256 1 := cmpi .sgt main_v10 main_v1576
  let main_c_246 : IVec S_ 32 := constantI S_ 32 82#32
  let main_v1578 : IVec S5x256x256 32 := broadcastInDim S5x256x256 ![] bcast_S_S5x256x256 main_c_246
  let main_v1579 : IVec S5x256x256 1 := cmpi .sgt main_v11 main_v1578
  let main_v1580 : IVec S5x256x256 1 := andi main_v1577 main_v1579
  let main_v1581 : FVec F S5x256x256 .f32 := broadcastInDim S5x256x256 ![0, 1, 2] bcast_S5x1x256_S5x256x256_0_1_2 main_v1570
  let main_v1582 : FVec F S5x256x256 .f32 := mulf main_v1575 main_v1581
  let main_v1583 : FVec F S5x256x256 .f32 := subf main_v1569 main_v1582
  let main_v1584 : FVec F S5x256x256 .f32 := select main_v1580 main_v1583 main_v1569
  let main_c_247 : IVec S_ 32 := constantI S_ 32 82#32
  let main_v1585 : IVec S5x256x256 32 := broadcastInDim S5x256x256 ![] bcast_S_S5x256x256 main_c_247
  let main_v1586 : IVec S5x256x256 1 := cmpi .eq main_v11 main_v1585
  let main_v1587 : IVec S5x256x256 1 := andi main_v1577 main_v1586
  let main_v1588 : FVec F S5x256x256 .f32 := select main_v1587 main_v1575 main_v1584
  let main_v1589 : FVec F S5x1x256 .f32 := (extractStridedSlice S5x1x256 ![0, 83, 0] · slices_S5x256x256_S5x1x256_0_83_0) main_v1588
  let main_v1590 : FVec F S5x256x1 .f32 := (extractStridedSlice S5x256x1 ![0, 0, 83] · slices_S5x256x256_S5x256x1_0_0_83) main_v1588
  let main_v1591 : FVec F S5x1x1 .f32 := (extractStridedSlice S5x1x1 ![0, 0, 83] · slices_S5x1x256_S5x1x1_0_0_83) main_v1589
  let main_v1592 : FVec F S5x256x1 .f32 := broadcastInDim S5x256x1 ![0, 1, 2] bcast_S5x1x1_S5x256x1_0_1_2 main_v1591
  let main_v1593 : FVec F S5x256x1 .f32 := Host.divf main_v1590 main_v1592
  let main_v1594 : FVec F S5x256x256 .f32 := broadcastInDim S5x256x256 ![0, 1, 2] bcast_S5x256x1_S5x256x256_0_1_2 main_v1593
  let main_c_248 : IVec S_ 32 := constantI S_ 32 83#32
  let main_v1595 : IVec S5x256x256 32 := broadcastInDim S5x256x256 ![] bcast_S_S5x256x256 main_c_248
  let main_v1596 : IVec S5x256x256 1 := cmpi .sgt main_v10 main_v1595
  let main_c_249 : IVec S_ 32 := constantI S_ 32 83#32
  fn_part77 (F := F) main_arg0 main_v3 main_v7 main_v8 main_v10 main_v11 main_v1588 main_v1589 main_v1594 main_v1596 main_c_249

def fn_part75 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1550 : FVec F S5x256x256 .f32) (main_v1551 : FVec F S5x1x256 .f32) (main_v1556 : FVec F S5x256x256 .f32) : IVec S9x256x256 1 × IVec S8x256x256 1 :=
  let main_c_242 : IVec S_ 32 := constantI S_ 32 81#32
  let main_v1557 : IVec S5x256x256 32 := broadcastInDim S5x256x256 ![] bcast_S_S5x256x256 main_c_242
  let main_v1558 : IVec S5x256x256 1 := cmpi .sgt main_v10 main_v1557
  let main_c_243 : IVec S_ 32 := constantI S_ 32 81#32
  let main_v1559 : IVec S5x256x256 32 := broadcastInDim S5x256x256 ![] bcast_S_S5x256x256 main_c_243
  let main_v1560 : IVec S5x256x256 1 := cmpi .sgt main_v11 main_v1559
  let main_v1561 : IVec S5x256x256 1 := andi main_v1558 main_v1560
  let main_v1562 : FVec F S5x256x256 .f32 := broadcastInDim S5x256x256 ![0, 1, 2] bcast_S5x1x256_S5x256x256_0_1_2 main_v1551
  let main_v1563 : FVec F S5x256x256 .f32 := mulf main_v1556 main_v1562
  let main_v1564 : FVec F S5x256x256 .f32 := subf main_v1550 main_v1563
  let main_v1565 : FVec F S5x256x256 .f32 := select main_v1561 main_v1564 main_v1550
  let main_c_244 : IVec S_ 32 := constantI S_ 32 81#32
  let main_v1566 : IVec S5x256x256 32 := broadcastInDim S5x256x256 ![] bcast_S_S5x256x256 main_c_244
  let main_v1567 : IVec S5x256x256 1 := cmpi .eq main_v11 main_v1566
  let main_v1568 : IVec S5x256x256 1 := andi main_v1558 main_v1567
  let main_v1569 : FVec F S5x256x256 .f32 := select main_v1568 main_v1556 main_v1565
  let main_v1570 : FVec F S5x1x256 .f32 := (extractStridedSlice S5x1x256 ![0, 82, 0] · slices_S5x256x256_S5x1x256_0_82_0) main_v1569
  let main_v1571 : FVec F S5x256x1 .f32 := (extractStridedSlice S5x256x1 ![0, 0, 82] · slices_S5x256x256_S5x256x1_0_0_82) main_v1569
  let main_v1572 : FVec F S5x1x1 .f32 := (extractStridedSlice S5x1x1 ![0, 0, 82] · slices_S5x1x256_S5x1x1_0_0_82) main_v1570
  let main_v1573 : FVec F S5x256x1 .f32 := broadcastInDim S5x256x1 ![0, 1, 2] bcast_S5x1x1_S5x256x1_0_1_2 main_v1572
  let main_v1574 : FVec F S5x256x1 .f32 := Host.divf main_v1571 main_v1573
  let main_v1575 : FVec F S5x256x256 .f32 := broadcastInDim S5x256x256 ![0, 1, 2] bcast_S5x256x1_S5x256x256_0_1_2 main_v1574
  let main_c_245 : IVec S_ 32 := constantI S_ 32 82#32
  let main_v1576 : IVec S5x256x256 32 := broadcastInDim S5x256x256 ![] bcast_S_S5x256x256 main_c_245
  fn_part76 (F := F) main_arg0 main_v3 main_v7 main_v8 main_v10 main_v11 main_v1569 main_v1570 main_v1575 main_v1576

def fn_part74 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1531 : FVec F S5x256x256 .f32) (main_v1532 : FVec F S5x1x256 .f32) (main_v1533 : FVec F S5x256x1 .f32) (main_v1535 : FVec F S5x256x1 .f32) : IVec S9x256x256 1 × IVec S8x256x256 1 :=
  let main_v1536 : FVec F S5x256x1 .f32 := Host.divf main_v1533 main_v1535
  let main_v1537 : FVec F S5x256x256 .f32 := broadcastInDim S5x256x256 ![0, 1, 2] bcast_S5x256x1_S5x256x256_0_1_2 main_v1536
  let main_c_239 : IVec S_ 32 := constantI S_ 32 80#32
  let main_v1538 : IVec S5x256x256 32 := broadcastInDim S5x256x256 ![] bcast_S_S5x256x256 main_c_239
  let main_v1539 : IVec S5x256x256 1 := cmpi .sgt main_v10 main_v1538
  let main_c_240 : IVec S_ 32 := constantI S_ 32 80#32
  let main_v1540 : IVec S5x256x256 32 := broadcastInDim S5x256x256 ![] bcast_S_S5x256x256 main_c_240
  let main_v1541 : IVec S5x256x256 1 := cmpi .sgt main_v11 main_v1540
  let main_v1542 : IVec S5x256x256 1 := andi main_v1539 main_v1541
  let main_v1543 : FVec F S5x256x256 .f32 := broadcastInDim S5x256x256 ![0, 1, 2] bcast_S5x1x256_S5x256x256_0_1_2 main_v1532
  let main_v1544 : FVec F S5x256x256 .f32 := mulf main_v1537 main_v1543
  let main_v1545 : FVec F S5x256x256 .f32 := subf main_v1531 main_v1544
  let main_v1546 : FVec F S5x256x256 .f32 := select main_v1542 main_v1545 main_v1531
  let main_c_241 : IVec S_ 32 := constantI S_ 32 80#32
  let main_v1547 : IVec S5x256x256 32 := broadcastInDim S5x256x256 ![] bcast_S_S5x256x256 main_c_241
  let main_v1548 : IVec S5x256x256 1 := cmpi .eq main_v11 main_v1547
  let main_v1549 : IVec S5x256x256 1 := andi main_v1539 main_v1548
  let main_v1550 : FVec F S5x256x256 .f32 := select main_v1549 main_v1537 main_v1546
  let main_v1551 : FVec F S5x1x256 .f32 := (extractStridedSlice S5x1x256 ![0, 81, 0] · slices_S5x256x256_S5x1x256_0_81_0) main_v1550
  let main_v1552 : FVec F S5x256x1 .f32 := (extractStridedSlice S5x256x1 ![0, 0, 81] · slices_S5x256x256_S5x256x1_0_0_81) main_v1550
  let main_v1553 : FVec F S5x1x1 .f32 := (extractStridedSlice S5x1x1 ![0, 0, 81] · slices_S5x1x256_S5x1x1_0_0_81) main_v1551
  let main_v1554 : FVec F S5x256x1 .f32 := broadcastInDim S5x256x1 ![0, 1, 2] bcast_S5x1x1_S5x256x1_0_1_2 main_v1553
  let main_v1555 : FVec F S5x256x1 .f32 := Host.divf main_v1552 main_v1554
  let main_v1556 : FVec F S5x256x256 .f32 := broadcastInDim S5x256x256 ![0, 1, 2] bcast_S5x256x1_S5x256x256_0_1_2 main_v1555
  fn_part75 (F := F) main_arg0 main_v3 main_v7 main_v8 main_v10 main_v11 main_v1550 main_v1551 main_v1556

def fn_part73 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1512 : FVec F S5x256x256 .f32) (main_v1513 : FVec F S5x1x256 .f32) (main_v1514 : FVec F S5x256x1 .f32) : IVec S9x256x256 1 × IVec S8x256x256 1 :=
  let main_v1515 : FVec F S5x1x1 .f32 := (extractStridedSlice S5x1x1 ![0, 0, 79] · slices_S5x1x256_S5x1x1_0_0_79) main_v1513
  let main_v1516 : FVec F S5x256x1 .f32 := broadcastInDim S5x256x1 ![0, 1, 2] bcast_S5x1x1_S5x256x1_0_1_2 main_v1515
  let main_v1517 : FVec F S5x256x1 .f32 := Host.divf main_v1514 main_v1516
  let main_v1518 : FVec F S5x256x256 .f32 := broadcastInDim S5x256x256 ![0, 1, 2] bcast_S5x256x1_S5x256x256_0_1_2 main_v1517
  let main_c_236 : IVec S_ 32 := constantI S_ 32 79#32
  let main_v1519 : IVec S5x256x256 32 := broadcastInDim S5x256x256 ![] bcast_S_S5x256x256 main_c_236
  let main_v1520 : IVec S5x256x256 1 := cmpi .sgt main_v10 main_v1519
  let main_c_237 : IVec S_ 32 := constantI S_ 32 79#32
  let main_v1521 : IVec S5x256x256 32 := broadcastInDim S5x256x256 ![] bcast_S_S5x256x256 main_c_237
  let main_v1522 : IVec S5x256x256 1 := cmpi .sgt main_v11 main_v1521
  let main_v1523 : IVec S5x256x256 1 := andi main_v1520 main_v1522
  let main_v1524 : FVec F S5x256x256 .f32 := broadcastInDim S5x256x256 ![0, 1, 2] bcast_S5x1x256_S5x256x256_0_1_2 main_v1513
  let main_v1525 : FVec F S5x256x256 .f32 := mulf main_v1518 main_v1524
  let main_v1526 : FVec F S5x256x256 .f32 := subf main_v1512 main_v1525
  let main_v1527 : FVec F S5x256x256 .f32 := select main_v1523 main_v1526 main_v1512
  let main_c_238 : IVec S_ 32 := constantI S_ 32 79#32
  let main_v1528 : IVec S5x256x256 32 := broadcastInDim S5x256x256 ![] bcast_S_S5x256x256 main_c_238
  let main_v1529 : IVec S5x256x256 1 := cmpi .eq main_v11 main_v1528
  let main_v1530 : IVec S5x256x256 1 := andi main_v1520 main_v1529
  let main_v1531 : FVec F S5x256x256 .f32 := select main_v1530 main_v1518 main_v1527
  let main_v1532 : FVec F S5x1x256 .f32 := (extractStridedSlice S5x1x256 ![0, 80, 0] · slices_S5x256x256_S5x1x256_0_80_0) main_v1531
  let main_v1533 : FVec F S5x256x1 .f32 := (extractStridedSlice S5x256x1 ![0, 0, 80] · slices_S5x256x256_S5x256x1_0_0_80) main_v1531
  let main_v1534 : FVec F S5x1x1 .f32 := (extractStridedSlice S5x1x1 ![0, 0, 80] · slices_S5x1x256_S5x1x1_0_0_80) main_v1532
  let main_v1535 : FVec F S5x256x1 .f32 := broadcastInDim S5x256x1 ![0, 1, 2] bcast_S5x1x1_S5x256x1_0_1_2 main_v1534
  fn_part74 (F := F) main_arg0 main_v3 main_v7 main_v8 main_v10 main_v11 main_v1531 main_v1532 main_v1533 main_v1535

def fn_part72 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1493 : FVec F S5x256x256 .f32) : IVec S9x256x256 1 × IVec S8x256x256 1 :=
  let main_v1494 : FVec F S5x1x256 .f32 := (extractStridedSlice S5x1x256 ![0, 78, 0] · slices_S5x256x256_S5x1x256_0_78_0) main_v1493
  let main_v1495 : FVec F S5x256x1 .f32 := (extractStridedSlice S5x256x1 ![0, 0, 78] · slices_S5x256x256_S5x256x1_0_0_78) main_v1493
  let main_v1496 : FVec F S5x1x1 .f32 := (extractStridedSlice S5x1x1 ![0, 0, 78] · slices_S5x1x256_S5x1x1_0_0_78) main_v1494
  let main_v1497 : FVec F S5x256x1 .f32 := broadcastInDim S5x256x1 ![0, 1, 2] bcast_S5x1x1_S5x256x1_0_1_2 main_v1496
  let main_v1498 : FVec F S5x256x1 .f32 := Host.divf main_v1495 main_v1497
  let main_v1499 : FVec F S5x256x256 .f32 := broadcastInDim S5x256x256 ![0, 1, 2] bcast_S5x256x1_S5x256x256_0_1_2 main_v1498
  let main_c_233 : IVec S_ 32 := constantI S_ 32 78#32
  let main_v1500 : IVec S5x256x256 32 := broadcastInDim S5x256x256 ![] bcast_S_S5x256x256 main_c_233
  let main_v1501 : IVec S5x256x256 1 := cmpi .sgt main_v10 main_v1500
  let main_c_234 : IVec S_ 32 := constantI S_ 32 78#32
  let main_v1502 : IVec S5x256x256 32 := broadcastInDim S5x256x256 ![] bcast_S_S5x256x256 main_c_234
  let main_v1503 : IVec S5x256x256 1 := cmpi .sgt main_v11 main_v1502
  let main_v1504 : IVec S5x256x256 1 := andi main_v1501 main_v1503
  let main_v1505 : FVec F S5x256x256 .f32 := broadcastInDim S5x256x256 ![0, 1, 2] bcast_S5x1x256_S5x256x256_0_1_2 main_v1494
  let main_v1506 : FVec F S5x256x256 .f32 := mulf main_v1499 main_v1505
  let main_v1507 : FVec F S5x256x256 .f32 := subf main_v1493 main_v1506
  let main_v1508 : FVec F S5x256x256 .f32 := select main_v1504 main_v1507 main_v1493
  let main_c_235 : IVec S_ 32 := constantI S_ 32 78#32
  let main_v1509 : IVec S5x256x256 32 := broadcastInDim S5x256x256 ![] bcast_S_S5x256x256 main_c_235
  let main_v1510 : IVec S5x256x256 1 := cmpi .eq main_v11 main_v1509
  let main_v1511 : IVec S5x256x256 1 := andi main_v1501 main_v1510
  let main_v1512 : FVec F S5x256x256 .f32 := select main_v1511 main_v1499 main_v1508
  let main_v1513 : FVec F S5x1x256 .f32 := (extractStridedSlice S5x1x256 ![0, 79, 0] · slices_S5x256x256_S5x1x256_0_79_0) main_v1512
  let main_v1514 : FVec F S5x256x1 .f32 := (extractStridedSlice S5x256x1 ![0, 0, 79] · slices_S5x256x256_S5x256x1_0_0_79) main_v1512
  fn_part73 (F := F) main_arg0 main_v3 main_v7 main_v8 main_v10 main_v11 main_v1512 main_v1513 main_v1514

def fn_part71 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1461 : FVec F S5x256x256 .f32) (main_v1463 : IVec S5x256x256 1) (main_v1470 : FVec F S5x256x256 .f32) (main_v1472 : IVec S5x256x256 1) : IVec S9x256x256 1 × IVec S8x256x256 1 :=
  let main_v1473 : IVec S5x256x256 1 := andi main_v1463 main_v1472
  let main_v1474 : FVec F S5x256x256 .f32 := select main_v1473 main_v1461 main_v1470
  let main_v1475 : FVec F S5x1x256 .f32 := (extractStridedSlice S5x1x256 ![0, 77, 0] · slices_S5x256x256_S5x1x256_0_77_0) main_v1474
  let main_v1476 : FVec F S5x256x1 .f32 := (extractStridedSlice S5x256x1 ![0, 0, 77] · slices_S5x256x256_S5x256x1_0_0_77) main_v1474
  let main_v1477 : FVec F S5x1x1 .f32 := (extractStridedSlice S5x1x1 ![0, 0, 77] · slices_S5x1x256_S5x1x1_0_0_77) main_v1475
  let main_v1478 : FVec F S5x256x1 .f32 := broadcastInDim S5x256x1 ![0, 1, 2] bcast_S5x1x1_S5x256x1_0_1_2 main_v1477
  let main_v1479 : FVec F S5x256x1 .f32 := Host.divf main_v1476 main_v1478
  let main_v1480 : FVec F S5x256x256 .f32 := broadcastInDim S5x256x256 ![0, 1, 2] bcast_S5x256x1_S5x256x256_0_1_2 main_v1479
  let main_c_230 : IVec S_ 32 := constantI S_ 32 77#32
  let main_v1481 : IVec S5x256x256 32 := broadcastInDim S5x256x256 ![] bcast_S_S5x256x256 main_c_230
  let main_v1482 : IVec S5x256x256 1 := cmpi .sgt main_v10 main_v1481
  let main_c_231 : IVec S_ 32 := constantI S_ 32 77#32
  let main_v1483 : IVec S5x256x256 32 := broadcastInDim S5x256x256 ![] bcast_S_S5x256x256 main_c_231
  let main_v1484 : IVec S5x256x256 1 := cmpi .sgt main_v11 main_v1483
  let main_v1485 : IVec S5x256x256 1 := andi main_v1482 main_v1484
  let main_v1486 : FVec F S5x256x256 .f32 := broadcastInDim S5x256x256 ![0, 1, 2] bcast_S5x1x256_S5x256x256_0_1_2 main_v1475
  let main_v1487 : FVec F S5x256x256 .f32 := mulf main_v1480 main_v1486
  let main_v1488 : FVec F S5x256x256 .f32 := subf main_v1474 main_v1487
  let main_v1489 : FVec F S5x256x256 .f32 := select main_v1485 main_v1488 main_v1474
  let main_c_232 : IVec S_ 32 := constantI S_ 32 77#32
  let main_v1490 : IVec S5x256x256 32 := broadcastInDim S5x256x256 ![] bcast_S_S5x256x256 main_c_232
  let main_v1491 : IVec S5x256x256 1 := cmpi .eq main_v11 main_v1490
  let main_v1492 : IVec S5x256x256 1 := andi main_v1482 main_v1491
  let main_v1493 : FVec F S5x256x256 .f32 := select main_v1492 main_v1480 main_v1489
  fn_part72 (F := F) main_arg0 main_v3 main_v7 main_v8 main_v10 main_v11 main_v1493

def fn_part70 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1442 : FVec F S5x256x256 .f32) (main_v1444 : IVec S5x256x256 1) (main_v1451 : FVec F S5x256x256 .f32) (main_c_226 : IVec S_ 32) : IVec S9x256x256 1 × IVec S8x256x256 1 :=
  let main_v1452 : IVec S5x256x256 32 := broadcastInDim S5x256x256 ![] bcast_S_S5x256x256 main_c_226
  let main_v1453 : IVec S5x256x256 1 := cmpi .eq main_v11 main_v1452
  let main_v1454 : IVec S5x256x256 1 := andi main_v1444 main_v1453
  let main_v1455 : FVec F S5x256x256 .f32 := select main_v1454 main_v1442 main_v1451
  let main_v1456 : FVec F S5x1x256 .f32 := (extractStridedSlice S5x1x256 ![0, 76, 0] · slices_S5x256x256_S5x1x256_0_76_0) main_v1455
  let main_v1457 : FVec F S5x256x1 .f32 := (extractStridedSlice S5x256x1 ![0, 0, 76] · slices_S5x256x256_S5x256x1_0_0_76) main_v1455
  let main_v1458 : FVec F S5x1x1 .f32 := (extractStridedSlice S5x1x1 ![0, 0, 76] · slices_S5x1x256_S5x1x1_0_0_76) main_v1456
  let main_v1459 : FVec F S5x256x1 .f32 := broadcastInDim S5x256x1 ![0, 1, 2] bcast_S5x1x1_S5x256x1_0_1_2 main_v1458
  let main_v1460 : FVec F S5x256x1 .f32 := Host.divf main_v1457 main_v1459
  let main_v1461 : FVec F S5x256x256 .f32 := broadcastInDim S5x256x256 ![0, 1, 2] bcast_S5x256x1_S5x256x256_0_1_2 main_v1460
  let main_c_227 : IVec S_ 32 := constantI S_ 32 76#32
  let main_v1462 : IVec S5x256x256 32 := broadcastInDim S5x256x256 ![] bcast_S_S5x256x256 main_c_227
  let main_v1463 : IVec S5x256x256 1 := cmpi .sgt main_v10 main_v1462
  let main_c_228 : IVec S_ 32 := constantI S_ 32 76#32
  let main_v1464 : IVec S5x256x256 32 := broadcastInDim S5x256x256 ![] bcast_S_S5x256x256 main_c_228
  let main_v1465 : IVec S5x256x256 1 := cmpi .sgt main_v11 main_v1464
  let main_v1466 : IVec S5x256x256 1 := andi main_v1463 main_v1465
  let main_v1467 : FVec F S5x256x256 .f32 := broadcastInDim S5x256x256 ![0, 1, 2] bcast_S5x1x256_S5x256x256_0_1_2 main_v1456
  let main_v1468 : FVec F S5x256x256 .f32 := mulf main_v1461 main_v1467
  let main_v1469 : FVec F S5x256x256 .f32 := subf main_v1455 main_v1468
  let main_v1470 : FVec F S5x256x256 .f32 := select main_v1466 main_v1469 main_v1455
  let main_c_229 : IVec S_ 32 := constantI S_ 32 76#32
  let main_v1471 : IVec S5x256x256 32 := broadcastInDim S5x256x256 ![] bcast_S_S5x256x256 main_c_229
  let main_v1472 : IVec S5x256x256 1 := cmpi .eq main_v11 main_v1471
  fn_part71 (F := F) main_arg0 main_v3 main_v7 main_v8 main_v10 main_v11 main_v1461 main_v1463 main_v1470 main_v1472

def fn_part69 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1417 : FVec F S5x256x256 .f32) (main_v1423 : FVec F S5x256x256 .f32) (main_v1425 : IVec S5x256x256 1) (main_v1428 : IVec S5x256x256 1) (main_v1431 : FVec F S5x256x256 .f32) : IVec S9x256x256 1 × IVec S8x256x256 1 :=
  let main_v1432 : FVec F S5x256x256 .f32 := select main_v1428 main_v1431 main_v1417
  let main_c_223 : IVec S_ 32 := constantI S_ 32 74#32
  let main_v1433 : IVec S5x256x256 32 := broadcastInDim S5x256x256 ![] bcast_S_S5x256x256 main_c_223
  let main_v1434 : IVec S5x256x256 1 := cmpi .eq main_v11 main_v1433
  let main_v1435 : IVec S5x256x256 1 := andi main_v1425 main_v1434
  let main_v1436 : FVec F S5x256x256 .f32 := select main_v1435 main_v1423 main_v1432
  let main_v1437 : FVec F S5x1x256 .f32 := (extractStridedSlice S5x1x256 ![0, 75, 0] · slices_S5x256x256_S5x1x256_0_75_0) main_v1436
  let main_v1438 : FVec F S5x256x1 .f32 := (extractStridedSlice S5x256x1 ![0, 0, 75] · slices_S5x256x256_S5x256x1_0_0_75) main_v1436
  let main_v1439 : FVec F S5x1x1 .f32 := (extractStridedSlice S5x1x1 ![0, 0, 75] · slices_S5x1x256_S5x1x1_0_0_75) main_v1437
  let main_v1440 : FVec F S5x256x1 .f32 := broadcastInDim S5x256x1 ![0, 1, 2] bcast_S5x1x1_S5x256x1_0_1_2 main_v1439
  let main_v1441 : FVec F S5x256x1 .f32 := Host.divf main_v1438 main_v1440
  let main_v1442 : FVec F S5x256x256 .f32 := broadcastInDim S5x256x256 ![0, 1, 2] bcast_S5x256x1_S5x256x256_0_1_2 main_v1441
  let main_c_224 : IVec S_ 32 := constantI S_ 32 75#32
  let main_v1443 : IVec S5x256x256 32 := broadcastInDim S5x256x256 ![] bcast_S_S5x256x256 main_c_224
  let main_v1444 : IVec S5x256x256 1 := cmpi .sgt main_v10 main_v1443
  let main_c_225 : IVec S_ 32 := constantI S_ 32 75#32
  let main_v1445 : IVec S5x256x256 32 := broadcastInDim S5x256x256 ![] bcast_S_S5x256x256 main_c_225
  let main_v1446 : IVec S5x256x256 1 := cmpi .sgt main_v11 main_v1445
  let main_v1447 : IVec S5x256x256 1 := andi main_v1444 main_v1446
  let main_v1448 : FVec F S5x256x256 .f32 := broadcastInDim S5x256x256 ![0, 1, 2] bcast_S5x1x256_S5x256x256_0_1_2 main_v1437
  let main_v1449 : FVec F S5x256x256 .f32 := mulf main_v1442 main_v1448
  let main_v1450 : FVec F S5x256x256 .f32 := subf main_v1436 main_v1449
  let main_v1451 : FVec F S5x256x256 .f32 := select main_v1447 main_v1450 main_v1436
  let main_c_226 : IVec S_ 32 := constantI S_ 32 75#32
  fn_part70 (F := F) main_arg0 main_v3 main_v7 main_v8 main_v10 main_v11 main_v1442 main_v1444 main_v1451 main_c_226

def fn_part68 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1398 : FVec F S5x256x256 .f32) (main_v1404 : FVec F S5x256x256 .f32) (main_v1406 : IVec S5x256x256 1) (main_v1409 : IVec S5x256x256 1) (main_v1410 : FVec F S5x256x256 .f32) : IVec S9x256x256 1 × IVec S8x256x256 1 :=
  let main_v1411 : FVec F S5x256x256 .f32 := mulf main_v1404 main_v1410
  let main_v1412 : FVec F S5x256x256 .f32 := subf main_v1398 main_v1411
  let main_v1413 : FVec F S5x256x256 .f32 := select main_v1409 main_v1412 main_v1398
  let main_c_220 : IVec S_ 32 := constantI S_ 32 73#32
  let main_v1414 : IVec S5x256x256 32 := broadcastInDim S5x256x256 ![] bcast_S_S5x256x256 main_c_220
  let main_v1415 : IVec S5x256x256 1 := cmpi .eq main_v11 main_v1414
  let main_v1416 : IVec S5x256x256 1 := andi main_v1406 main_v1415
  let main_v1417 : FVec F S5x256x256 .f32 := select main_v1416 main_v1404 main_v1413
  let main_v1418 : FVec F S5x1x256 .f32 := (extractStridedSlice S5x1x256 ![0, 74, 0] · slices_S5x256x256_S5x1x256_0_74_0) main_v1417
  let main_v1419 : FVec F S5x256x1 .f32 := (extractStridedSlice S5x256x1 ![0, 0, 74] · slices_S5x256x256_S5x256x1_0_0_74) main_v1417
  let main_v1420 : FVec F S5x1x1 .f32 := (extractStridedSlice S5x1x1 ![0, 0, 74] · slices_S5x1x256_S5x1x1_0_0_74) main_v1418
  let main_v1421 : FVec F S5x256x1 .f32 := broadcastInDim S5x256x1 ![0, 1, 2] bcast_S5x1x1_S5x256x1_0_1_2 main_v1420
  let main_v1422 : FVec F S5x256x1 .f32 := Host.divf main_v1419 main_v1421
  let main_v1423 : FVec F S5x256x256 .f32 := broadcastInDim S5x256x256 ![0, 1, 2] bcast_S5x256x1_S5x256x256_0_1_2 main_v1422
  let main_c_221 : IVec S_ 32 := constantI S_ 32 74#32
  let main_v1424 : IVec S5x256x256 32 := broadcastInDim S5x256x256 ![] bcast_S_S5x256x256 main_c_221
  let main_v1425 : IVec S5x256x256 1 := cmpi .sgt main_v10 main_v1424
  let main_c_222 : IVec S_ 32 := constantI S_ 32 74#32
  let main_v1426 : IVec S5x256x256 32 := broadcastInDim S5x256x256 ![] bcast_S_S5x256x256 main_c_222
  let main_v1427 : IVec S5x256x256 1 := cmpi .sgt main_v11 main_v1426
  let main_v1428 : IVec S5x256x256 1 := andi main_v1425 main_v1427
  let main_v1429 : FVec F S5x256x256 .f32 := broadcastInDim S5x256x256 ![0, 1, 2] bcast_S5x1x256_S5x256x256_0_1_2 main_v1418
  let main_v1430 : FVec F S5x256x256 .f32 := mulf main_v1423 main_v1429
  let main_v1431 : FVec F S5x256x256 .f32 := subf main_v1417 main_v1430
  fn_part69 (F := F) main_arg0 main_v3 main_v7 main_v8 main_v10 main_v11 main_v1417 main_v1423 main_v1425 main_v1428 main_v1431

def fn_part67 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1379 : FVec F S5x256x256 .f32) (main_v1380 : FVec F S5x1x256 .f32) (main_v1385 : FVec F S5x256x256 .f32) (main_v1387 : IVec S5x256x256 1) (main_v1389 : IVec S5x256x256 1) : IVec S9x256x256 1 × IVec S8x256x256 1 :=
  let main_v1390 : IVec S5x256x256 1 := andi main_v1387 main_v1389
  let main_v1391 : FVec F S5x256x256 .f32 := broadcastInDim S5x256x256 ![0, 1, 2] bcast_S5x1x256_S5x256x256_0_1_2 main_v1380
  let main_v1392 : FVec F S5x256x256 .f32 := mulf main_v1385 main_v1391
  let main_v1393 : FVec F S5x256x256 .f32 := subf main_v1379 main_v1392
  let main_v1394 : FVec F S5x256x256 .f32 := select main_v1390 main_v1393 main_v1379
  let main_c_217 : IVec S_ 32 := constantI S_ 32 72#32
  let main_v1395 : IVec S5x256x256 32 := broadcastInDim S5x256x256 ![] bcast_S_S5x256x256 main_c_217
  let main_v1396 : IVec S5x256x256 1 := cmpi .eq main_v11 main_v1395
  let main_v1397 : IVec S5x256x256 1 := andi main_v1387 main_v1396
  let main_v1398 : FVec F S5x256x256 .f32 := select main_v1397 main_v1385 main_v1394
  let main_v1399 : FVec F S5x1x256 .f32 := (extractStridedSlice S5x1x256 ![0, 73, 0] · slices_S5x256x256_S5x1x256_0_73_0) main_v1398
  let main_v1400 : FVec F S5x256x1 .f32 := (extractStridedSlice S5x256x1 ![0, 0, 73] · slices_S5x256x256_S5x256x1_0_0_73) main_v1398
  let main_v1401 : FVec F S5x1x1 .f32 := (extractStridedSlice S5x1x1 ![0, 0, 73] · slices_S5x1x256_S5x1x1_0_0_73) main_v1399
  let main_v1402 : FVec F S5x256x1 .f32 := broadcastInDim S5x256x1 ![0, 1, 2] bcast_S5x1x1_S5x256x1_0_1_2 main_v1401
  let main_v1403 : FVec F S5x256x1 .f32 := Host.divf main_v1400 main_v1402
  let main_v1404 : FVec F S5x256x256 .f32 := broadcastInDim S5x256x256 ![0, 1, 2] bcast_S5x256x1_S5x256x256_0_1_2 main_v1403
  let main_c_218 : IVec S_ 32 := constantI S_ 32 73#32
  let main_v1405 : IVec S5x256x256 32 := broadcastInDim S5x256x256 ![] bcast_S_S5x256x256 main_c_218
  let main_v1406 : IVec S5x256x256 1 := cmpi .sgt main_v10 main_v1405
  let main_c_219 : IVec S_ 32 := constantI S_ 32 73#32
  let main_v1407 : IVec S5x256x256 32 := broadcastInDim S5x256x256 ![] bcast_S_S5x256x256 main_c_219
  let main_v1408 : IVec S5x256x256 1 := cmpi .sgt main_v11 main_v1407
  let main_v1409 : IVec S5x256x256 1 := andi main_v1406 main_v1408
  let main_v1410 : FVec F S5x256x256 .f32 := broadcastInDim S5x256x256 ![0, 1, 2] bcast_S5x1x256_S5x256x256_0_1_2 main_v1399
  fn_part68 (F := F) main_arg0 main_v3 main_v7 main_v8 main_v10 main_v11 main_v1398 main_v1404 main_v1406 main_v1409 main_v1410

def fn_part66 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1360 : FVec F S5x256x256 .f32) (main_v1361 : FVec F S5x1x256 .f32) (main_v1366 : FVec F S5x256x256 .f32) (main_v1368 : IVec S5x256x256 1) (main_c_213 : IVec S_ 32) : IVec S9x256x256 1 × IVec S8x256x256 1 :=
  let main_v1369 : IVec S5x256x256 32 := broadcastInDim S5x256x256 ![] bcast_S_S5x256x256 main_c_213
  let main_v1370 : IVec S5x256x256 1 := cmpi .sgt main_v11 main_v1369
  let main_v1371 : IVec S5x256x256 1 := andi main_v1368 main_v1370
  let main_v1372 : FVec F S5x256x256 .f32 := broadcastInDim S5x256x256 ![0, 1, 2] bcast_S5x1x256_S5x256x256_0_1_2 main_v1361
  let main_v1373 : FVec F S5x256x256 .f32 := mulf main_v1366 main_v1372
  let main_v1374 : FVec F S5x256x256 .f32 := subf main_v1360 main_v1373
  let main_v1375 : FVec F S5x256x256 .f32 := select main_v1371 main_v1374 main_v1360
  let main_c_214 : IVec S_ 32 := constantI S_ 32 71#32
  let main_v1376 : IVec S5x256x256 32 := broadcastInDim S5x256x256 ![] bcast_S_S5x256x256 main_c_214
  let main_v1377 : IVec S5x256x256 1 := cmpi .eq main_v11 main_v1376
  let main_v1378 : IVec S5x256x256 1 := andi main_v1368 main_v1377
  let main_v1379 : FVec F S5x256x256 .f32 := select main_v1378 main_v1366 main_v1375
  let main_v1380 : FVec F S5x1x256 .f32 := (extractStridedSlice S5x1x256 ![0, 72, 0] · slices_S5x256x256_S5x1x256_0_72_0) main_v1379
  let main_v1381 : FVec F S5x256x1 .f32 := (extractStridedSlice S5x256x1 ![0, 0, 72] · slices_S5x256x256_S5x256x1_0_0_72) main_v1379
  let main_v1382 : FVec F S5x1x1 .f32 := (extractStridedSlice S5x1x1 ![0, 0, 72] · slices_S5x1x256_S5x1x1_0_0_72) main_v1380
  let main_v1383 : FVec F S5x256x1 .f32 := broadcastInDim S5x256x1 ![0, 1, 2] bcast_S5x1x1_S5x256x1_0_1_2 main_v1382
  let main_v1384 : FVec F S5x256x1 .f32 := Host.divf main_v1381 main_v1383
  let main_v1385 : FVec F S5x256x256 .f32 := broadcastInDim S5x256x256 ![0, 1, 2] bcast_S5x256x1_S5x256x256_0_1_2 main_v1384
  let main_c_215 : IVec S_ 32 := constantI S_ 32 72#32
  let main_v1386 : IVec S5x256x256 32 := broadcastInDim S5x256x256 ![] bcast_S_S5x256x256 main_c_215
  let main_v1387 : IVec S5x256x256 1 := cmpi .sgt main_v10 main_v1386
  let main_c_216 : IVec S_ 32 := constantI S_ 32 72#32
  let main_v1388 : IVec S5x256x256 32 := broadcastInDim S5x256x256 ![] bcast_S_S5x256x256 main_c_216
  let main_v1389 : IVec S5x256x256 1 := cmpi .sgt main_v11 main_v1388
  fn_part67 (F := F) main_arg0 main_v3 main_v7 main_v8 main_v10 main_v11 main_v1379 main_v1380 main_v1385 main_v1387 main_v1389

def fn_part65 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1341 : FVec F S5x256x256 .f32) (main_v1342 : FVec F S5x1x256 .f32) (main_v1347 : FVec F S5x256x256 .f32) (main_v1348 : IVec S5x256x256 32) : IVec S9x256x256 1 × IVec S8x256x256 1 :=
  let main_v1349 : IVec S5x256x256 1 := cmpi .sgt main_v10 main_v1348
  let main_c_210 : IVec S_ 32 := constantI S_ 32 70#32
  let main_v1350 : IVec S5x256x256 32 := broadcastInDim S5x256x256 ![] bcast_S_S5x256x256 main_c_210
  let main_v1351 : IVec S5x256x256 1 := cmpi .sgt main_v11 main_v1350
  let main_v1352 : IVec S5x256x256 1 := andi main_v1349 main_v1351
  let main_v1353 : FVec F S5x256x256 .f32 := broadcastInDim S5x256x256 ![0, 1, 2] bcast_S5x1x256_S5x256x256_0_1_2 main_v1342
  let main_v1354 : FVec F S5x256x256 .f32 := mulf main_v1347 main_v1353
  let main_v1355 : FVec F S5x256x256 .f32 := subf main_v1341 main_v1354
  let main_v1356 : FVec F S5x256x256 .f32 := select main_v1352 main_v1355 main_v1341
  let main_c_211 : IVec S_ 32 := constantI S_ 32 70#32
  let main_v1357 : IVec S5x256x256 32 := broadcastInDim S5x256x256 ![] bcast_S_S5x256x256 main_c_211
  let main_v1358 : IVec S5x256x256 1 := cmpi .eq main_v11 main_v1357
  let main_v1359 : IVec S5x256x256 1 := andi main_v1349 main_v1358
  let main_v1360 : FVec F S5x256x256 .f32 := select main_v1359 main_v1347 main_v1356
  let main_v1361 : FVec F S5x1x256 .f32 := (extractStridedSlice S5x1x256 ![0, 71, 0] · slices_S5x256x256_S5x1x256_0_71_0) main_v1360
  let main_v1362 : FVec F S5x256x1 .f32 := (extractStridedSlice S5x256x1 ![0, 0, 71] · slices_S5x256x256_S5x256x1_0_0_71) main_v1360
  let main_v1363 : FVec F S5x1x1 .f32 := (extractStridedSlice S5x1x1 ![0, 0, 71] · slices_S5x1x256_S5x1x1_0_0_71) main_v1361
  let main_v1364 : FVec F S5x256x1 .f32 := broadcastInDim S5x256x1 ![0, 1, 2] bcast_S5x1x1_S5x256x1_0_1_2 main_v1363
  let main_v1365 : FVec F S5x256x1 .f32 := Host.divf main_v1362 main_v1364
  let main_v1366 : FVec F S5x256x256 .f32 := broadcastInDim S5x256x256 ![0, 1, 2] bcast_S5x256x1_S5x256x256_0_1_2 main_v1365
  let main_c_212 : IVec S_ 32 := constantI S_ 32 71#32
  let main_v1367 : IVec S5x256x256 32 := broadcastInDim S5x256x256 ![] bcast_S_S5x256x256 main_c_212
  let main_v1368 : IVec S5x256x256 1 := cmpi .sgt main_v10 main_v1367
  let main_c_213 : IVec S_ 32 := constantI S_ 32 71#32
  fn_part66 (F := F) main_arg0 main_v3 main_v7 main_v8 main_v10 main_v11 main_v1360 main_v1361 main_v1366 main_v1368 main_c_213

def fn_part64 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1322 : FVec F S5x256x256 .f32) (main_v1323 : FVec F S5x1x256 .f32) (main_v1328 : FVec F S5x256x256 .f32) : IVec S9x256x256 1 × IVec S8x256x256 1 :=
  let main_c_206 : IVec S_ 32 := constantI S_ 32 69#32
  let main_v1329 : IVec S5x256x256 32 := broadcastInDim S5x256x256 ![] bcast_S_S5x256x256 main_c_206
  let main_v1330 : IVec S5x256x256 1 := cmpi .sgt main_v10 main_v1329
  let main_c_207 : IVec S_ 32 := constantI S_ 32 69#32
  let main_v1331 : IVec S5x256x256 32 := broadcastInDim S5x256x256 ![] bcast_S_S5x256x256 main_c_207
  let main_v1332 : IVec S5x256x256 1 := cmpi .sgt main_v11 main_v1331
  let main_v1333 : IVec S5x256x256 1 := andi main_v1330 main_v1332
  let main_v1334 : FVec F S5x256x256 .f32 := broadcastInDim S5x256x256 ![0, 1, 2] bcast_S5x1x256_S5x256x256_0_1_2 main_v1323
  let main_v1335 : FVec F S5x256x256 .f32 := mulf main_v1328 main_v1334
  let main_v1336 : FVec F S5x256x256 .f32 := subf main_v1322 main_v1335
  let main_v1337 : FVec F S5x256x256 .f32 := select main_v1333 main_v1336 main_v1322
  let main_c_208 : IVec S_ 32 := constantI S_ 32 69#32
  let main_v1338 : IVec S5x256x256 32 := broadcastInDim S5x256x256 ![] bcast_S_S5x256x256 main_c_208
  let main_v1339 : IVec S5x256x256 1 := cmpi .eq main_v11 main_v1338
  let main_v1340 : IVec S5x256x256 1 := andi main_v1330 main_v1339
  let main_v1341 : FVec F S5x256x256 .f32 := select main_v1340 main_v1328 main_v1337
  let main_v1342 : FVec F S5x1x256 .f32 := (extractStridedSlice S5x1x256 ![0, 70, 0] · slices_S5x256x256_S5x1x256_0_70_0) main_v1341
  let main_v1343 : FVec F S5x256x1 .f32 := (extractStridedSlice S5x256x1 ![0, 0, 70] · slices_S5x256x256_S5x256x1_0_0_70) main_v1341
  let main_v1344 : FVec F S5x1x1 .f32 := (extractStridedSlice S5x1x1 ![0, 0, 70] · slices_S5x1x256_S5x1x1_0_0_70) main_v1342
  let main_v1345 : FVec F S5x256x1 .f32 := broadcastInDim S5x256x1 ![0, 1, 2] bcast_S5x1x1_S5x256x1_0_1_2 main_v1344
  let main_v1346 : FVec F S5x256x1 .f32 := Host.divf main_v1343 main_v1345
  let main_v1347 : FVec F S5x256x256 .f32 := broadcastInDim S5x256x256 ![0, 1, 2] bcast_S5x256x1_S5x256x256_0_1_2 main_v1346
  let main_c_209 : IVec S_ 32 := constantI S_ 32 70#32
  let main_v1348 : IVec S5x256x256 32 := broadcastInDim S5x256x256 ![] bcast_S_S5x256x256 main_c_209
  fn_part65 (F := F) main_arg0 main_v3 main_v7 main_v8 main_v10 main_v11 main_v1341 main_v1342 main_v1347 main_v1348

def fn_part63 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1303 : FVec F S5x256x256 .f32) (main_v1304 : FVec F S5x1x256 .f32) (main_v1305 : FVec F S5x256x1 .f32) (main_v1307 : FVec F S5x256x1 .f32) : IVec S9x256x256 1 × IVec S8x256x256 1 :=
  let main_v1308 : FVec F S5x256x1 .f32 := Host.divf main_v1305 main_v1307
  let main_v1309 : FVec F S5x256x256 .f32 := broadcastInDim S5x256x256 ![0, 1, 2] bcast_S5x256x1_S5x256x256_0_1_2 main_v1308
  let main_c_203 : IVec S_ 32 := constantI S_ 32 68#32
  let main_v1310 : IVec S5x256x256 32 := broadcastInDim S5x256x256 ![] bcast_S_S5x256x256 main_c_203
  let main_v1311 : IVec S5x256x256 1 := cmpi .sgt main_v10 main_v1310
  let main_c_204 : IVec S_ 32 := constantI S_ 32 68#32
  let main_v1312 : IVec S5x256x256 32 := broadcastInDim S5x256x256 ![] bcast_S_S5x256x256 main_c_204
  let main_v1313 : IVec S5x256x256 1 := cmpi .sgt main_v11 main_v1312
  let main_v1314 : IVec S5x256x256 1 := andi main_v1311 main_v1313
  let main_v1315 : FVec F S5x256x256 .f32 := broadcastInDim S5x256x256 ![0, 1, 2] bcast_S5x1x256_S5x256x256_0_1_2 main_v1304
  let main_v1316 : FVec F S5x256x256 .f32 := mulf main_v1309 main_v1315
  let main_v1317 : FVec F S5x256x256 .f32 := subf main_v1303 main_v1316
  let main_v1318 : FVec F S5x256x256 .f32 := select main_v1314 main_v1317 main_v1303
  let main_c_205 : IVec S_ 32 := constantI S_ 32 68#32
  let main_v1319 : IVec S5x256x256 32 := broadcastInDim S5x256x256 ![] bcast_S_S5x256x256 main_c_205
  let main_v1320 : IVec S5x256x256 1 := cmpi .eq main_v11 main_v1319
  let main_v1321 : IVec S5x256x256 1 := andi main_v1311 main_v1320
  let main_v1322 : FVec F S5x256x256 .f32 := select main_v1321 main_v1309 main_v1318
  let main_v1323 : FVec F S5x1x256 .f32 := (extractStridedSlice S5x1x256 ![0, 69, 0] · slices_S5x256x256_S5x1x256_0_69_0) main_v1322
  let main_v1324 : FVec F S5x256x1 .f32 := (extractStridedSlice S5x256x1 ![0, 0, 69] · slices_S5x256x256_S5x256x1_0_0_69) main_v1322
  let main_v1325 : FVec F S5x1x1 .f32 := (extractStridedSlice S5x1x1 ![0, 0, 69] · slices_S5x1x256_S5x1x1_0_0_69) main_v1323
  let main_v1326 : FVec F S5x256x1 .f32 := broadcastInDim S5x256x1 ![0, 1, 2] bcast_S5x1x1_S5x256x1_0_1_2 main_v1325
  let main_v1327 : FVec F S5x256x1 .f32 := Host.divf main_v1324 main_v1326
  let main_v1328 : FVec F S5x256x256 .f32 := broadcastInDim S5x256x256 ![0, 1, 2] bcast_S5x256x1_S5x256x256_0_1_2 main_v1327
  fn_part64 (F := F) main_arg0 main_v3 main_v7 main_v8 main_v10 main_v11 main_v1322 main_v1323 main_v1328

def fn_part62 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1284 : FVec F S5x256x256 .f32) (main_v1285 : FVec F S5x1x256 .f32) (main_v1286 : FVec F S5x256x1 .f32) : IVec S9x256x256 1 × IVec S8x256x256 1 :=
  let main_v1287 : FVec F S5x1x1 .f32 := (extractStridedSlice S5x1x1 ![0, 0, 67] · slices_S5x1x256_S5x1x1_0_0_67) main_v1285
  let main_v1288 : FVec F S5x256x1 .f32 := broadcastInDim S5x256x1 ![0, 1, 2] bcast_S5x1x1_S5x256x1_0_1_2 main_v1287
  let main_v1289 : FVec F S5x256x1 .f32 := Host.divf main_v1286 main_v1288
  let main_v1290 : FVec F S5x256x256 .f32 := broadcastInDim S5x256x256 ![0, 1, 2] bcast_S5x256x1_S5x256x256_0_1_2 main_v1289
  let main_c_200 : IVec S_ 32 := constantI S_ 32 67#32
  let main_v1291 : IVec S5x256x256 32 := broadcastInDim S5x256x256 ![] bcast_S_S5x256x256 main_c_200
  let main_v1292 : IVec S5x256x256 1 := cmpi .sgt main_v10 main_v1291
  let main_c_201 : IVec S_ 32 := constantI S_ 32 67#32
  let main_v1293 : IVec S5x256x256 32 := broadcastInDim S5x256x256 ![] bcast_S_S5x256x256 main_c_201
  let main_v1294 : IVec S5x256x256 1 := cmpi .sgt main_v11 main_v1293
  let main_v1295 : IVec S5x256x256 1 := andi main_v1292 main_v1294
  let main_v1296 : FVec F S5x256x256 .f32 := broadcastInDim S5x256x256 ![0, 1, 2] bcast_S5x1x256_S5x256x256_0_1_2 main_v1285
  let main_v1297 : FVec F S5x256x256 .f32 := mulf main_v1290 main_v1296
  let main_v1298 : FVec F S5x256x256 .f32 := subf main_v1284 main_v1297
  let main_v1299 : FVec F S5x256x256 .f32 := select main_v1295 main_v1298 main_v1284
  let main_c_202 : IVec S_ 32 := constantI S_ 32 67#32
  let main_v1300 : IVec S5x256x256 32 := broadcastInDim S5x256x256 ![] bcast_S_S5x256x256 main_c_202
  let main_v1301 : IVec S5x256x256 1 := cmpi .eq main_v11 main_v1300
  let main_v1302 : IVec S5x256x256 1 := andi main_v1292 main_v1301
  let main_v1303 : FVec F S5x256x256 .f32 := select main_v1302 main_v1290 main_v1299
  let main_v1304 : FVec F S5x1x256 .f32 := (extractStridedSlice S5x1x256 ![0, 68, 0] · slices_S5x256x256_S5x1x256_0_68_0) main_v1303
  let main_v1305 : FVec F S5x256x1 .f32 := (extractStridedSlice S5x256x1 ![0, 0, 68] · slices_S5x256x256_S5x256x1_0_0_68) main_v1303
  let main_v1306 : FVec F S5x1x1 .f32 := (extractStridedSlice S5x1x1 ![0, 0, 68] · slices_S5x1x256_S5x1x1_0_0_68) main_v1304
  let main_v1307 : FVec F S5x256x1 .f32 := broadcastInDim S5x256x1 ![0, 1, 2] bcast_S5x1x1_S5x256x1_0_1_2 main_v1306
  fn_part63 (F := F) main_arg0 main_v3 main_v7 main_v8 main_v10 main_v11 main_v1303 main_v1304 main_v1305 main_v1307

def fn_part61 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1265 : FVec F S5x256x256 .f32) : IVec S9x256x256 1 × IVec S8x256x256 1 :=
  let main_v1266 : FVec F S5x1x256 .f32 := (extractStridedSlice S5x1x256 ![0, 66, 0] · slices_S5x256x256_S5x1x256_0_66_0) main_v1265
  let main_v1267 : FVec F S5x256x1 .f32 := (extractStridedSlice S5x256x1 ![0, 0, 66] · slices_S5x256x256_S5x256x1_0_0_66) main_v1265
  let main_v1268 : FVec F S5x1x1 .f32 := (extractStridedSlice S5x1x1 ![0, 0, 66] · slices_S5x1x256_S5x1x1_0_0_66) main_v1266
  let main_v1269 : FVec F S5x256x1 .f32 := broadcastInDim S5x256x1 ![0, 1, 2] bcast_S5x1x1_S5x256x1_0_1_2 main_v1268
  let main_v1270 : FVec F S5x256x1 .f32 := Host.divf main_v1267 main_v1269
  let main_v1271 : FVec F S5x256x256 .f32 := broadcastInDim S5x256x256 ![0, 1, 2] bcast_S5x256x1_S5x256x256_0_1_2 main_v1270
  let main_c_197 : IVec S_ 32 := constantI S_ 32 66#32
  let main_v1272 : IVec S5x256x256 32 := broadcastInDim S5x256x256 ![] bcast_S_S5x256x256 main_c_197
  let main_v1273 : IVec S5x256x256 1 := cmpi .sgt main_v10 main_v1272
  let main_c_198 : IVec S_ 32 := constantI S_ 32 66#32
  let main_v1274 : IVec S5x256x256 32 := broadcastInDim S5x256x256 ![] bcast_S_S5x256x256 main_c_198
  let main_v1275 : IVec S5x256x256 1 := cmpi .sgt main_v11 main_v1274
  let main_v1276 : IVec S5x256x256 1 := andi main_v1273 main_v1275
  let main_v1277 : FVec F S5x256x256 .f32 := broadcastInDim S5x256x256 ![0, 1, 2] bcast_S5x1x256_S5x256x256_0_1_2 main_v1266
  let main_v1278 : FVec F S5x256x256 .f32 := mulf main_v1271 main_v1277
  let main_v1279 : FVec F S5x256x256 .f32 := subf main_v1265 main_v1278
  let main_v1280 : FVec F S5x256x256 .f32 := select main_v1276 main_v1279 main_v1265
  let main_c_199 : IVec S_ 32 := constantI S_ 32 66#32
  let main_v1281 : IVec S5x256x256 32 := broadcastInDim S5x256x256 ![] bcast_S_S5x256x256 main_c_199
  let main_v1282 : IVec S5x256x256 1 := cmpi .eq main_v11 main_v1281
  let main_v1283 : IVec S5x256x256 1 := andi main_v1273 main_v1282
  let main_v1284 : FVec F S5x256x256 .f32 := select main_v1283 main_v1271 main_v1280
  let main_v1285 : FVec F S5x1x256 .f32 := (extractStridedSlice S5x1x256 ![0, 67, 0] · slices_S5x256x256_S5x1x256_0_67_0) main_v1284
  let main_v1286 : FVec F S5x256x1 .f32 := (extractStridedSlice S5x256x1 ![0, 0, 67] · slices_S5x256x256_S5x256x1_0_0_67) main_v1284
  fn_part62 (F := F) main_arg0 main_v3 main_v7 main_v8 main_v10 main_v11 main_v1284 main_v1285 main_v1286

def fn_part60 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1233 : FVec F S5x256x256 .f32) (main_v1235 : IVec S5x256x256 1) (main_v1242 : FVec F S5x256x256 .f32) (main_v1244 : IVec S5x256x256 1) : IVec S9x256x256 1 × IVec S8x256x256 1 :=
  let main_v1245 : IVec S5x256x256 1 := andi main_v1235 main_v1244
  let main_v1246 : FVec F S5x256x256 .f32 := select main_v1245 main_v1233 main_v1242
  let main_v1247 : FVec F S5x1x256 .f32 := (extractStridedSlice S5x1x256 ![0, 65, 0] · slices_S5x256x256_S5x1x256_0_65_0) main_v1246
  let main_v1248 : FVec F S5x256x1 .f32 := (extractStridedSlice S5x256x1 ![0, 0, 65] · slices_S5x256x256_S5x256x1_0_0_65) main_v1246
  let main_v1249 : FVec F S5x1x1 .f32 := (extractStridedSlice S5x1x1 ![0, 0, 65] · slices_S5x1x256_S5x1x1_0_0_65) main_v1247
  let main_v1250 : FVec F S5x256x1 .f32 := broadcastInDim S5x256x1 ![0, 1, 2] bcast_S5x1x1_S5x256x1_0_1_2 main_v1249
  let main_v1251 : FVec F S5x256x1 .f32 := Host.divf main_v1248 main_v1250
  let main_v1252 : FVec F S5x256x256 .f32 := broadcastInDim S5x256x256 ![0, 1, 2] bcast_S5x256x1_S5x256x256_0_1_2 main_v1251
  let main_c_194 : IVec S_ 32 := constantI S_ 32 65#32
  let main_v1253 : IVec S5x256x256 32 := broadcastInDim S5x256x256 ![] bcast_S_S5x256x256 main_c_194
  let main_v1254 : IVec S5x256x256 1 := cmpi .sgt main_v10 main_v1253
  let main_c_195 : IVec S_ 32 := constantI S_ 32 65#32
  let main_v1255 : IVec S5x256x256 32 := broadcastInDim S5x256x256 ![] bcast_S_S5x256x256 main_c_195
  let main_v1256 : IVec S5x256x256 1 := cmpi .sgt main_v11 main_v1255
  let main_v1257 : IVec S5x256x256 1 := andi main_v1254 main_v1256
  let main_v1258 : FVec F S5x256x256 .f32 := broadcastInDim S5x256x256 ![0, 1, 2] bcast_S5x1x256_S5x256x256_0_1_2 main_v1247
  let main_v1259 : FVec F S5x256x256 .f32 := mulf main_v1252 main_v1258
  let main_v1260 : FVec F S5x256x256 .f32 := subf main_v1246 main_v1259
  let main_v1261 : FVec F S5x256x256 .f32 := select main_v1257 main_v1260 main_v1246
  let main_c_196 : IVec S_ 32 := constantI S_ 32 65#32
  let main_v1262 : IVec S5x256x256 32 := broadcastInDim S5x256x256 ![] bcast_S_S5x256x256 main_c_196
  let main_v1263 : IVec S5x256x256 1 := cmpi .eq main_v11 main_v1262
  let main_v1264 : IVec S5x256x256 1 := andi main_v1254 main_v1263
  let main_v1265 : FVec F S5x256x256 .f32 := select main_v1264 main_v1252 main_v1261
  fn_part61 (F := F) main_arg0 main_v3 main_v7 main_v8 main_v10 main_v11 main_v1265

def fn_part59 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1214 : FVec F S5x256x256 .f32) (main_v1216 : IVec S5x256x256 1) (main_v1223 : FVec F S5x256x256 .f32) (main_c_190 : IVec S_ 32) : IVec S9x256x256 1 × IVec S8x256x256 1 :=
  let main_v1224 : IVec S5x256x256 32 := broadcastInDim S5x256x256 ![] bcast_S_S5x256x256 main_c_190
  let main_v1225 : IVec S5x256x256 1 := cmpi .eq main_v11 main_v1224
  let main_v1226 : IVec S5x256x256 1 := andi main_v1216 main_v1225
  let main_v1227 : FVec F S5x256x256 .f32 := select main_v1226 main_v1214 main_v1223
  let main_v1228 : FVec F S5x1x256 .f32 := (extractStridedSlice S5x1x256 ![0, 64, 0] · slices_S5x256x256_S5x1x256_0_64_0) main_v1227
  let main_v1229 : FVec F S5x256x1 .f32 := (extractStridedSlice S5x256x1 ![0, 0, 64] · slices_S5x256x256_S5x256x1_0_0_64) main_v1227
  let main_v1230 : FVec F S5x1x1 .f32 := (extractStridedSlice S5x1x1 ![0, 0, 64] · slices_S5x1x256_S5x1x1_0_0_64) main_v1228
  let main_v1231 : FVec F S5x256x1 .f32 := broadcastInDim S5x256x1 ![0, 1, 2] bcast_S5x1x1_S5x256x1_0_1_2 main_v1230
  let main_v1232 : FVec F S5x256x1 .f32 := Host.divf main_v1229 main_v1231
  let main_v1233 : FVec F S5x256x256 .f32 := broadcastInDim S5x256x256 ![0, 1, 2] bcast_S5x256x1_S5x256x256_0_1_2 main_v1232
  let main_c_191 : IVec S_ 32 := constantI S_ 32 64#32
  let main_v1234 : IVec S5x256x256 32 := broadcastInDim S5x256x256 ![] bcast_S_S5x256x256 main_c_191
  let main_v1235 : IVec S5x256x256 1 := cmpi .sgt main_v10 main_v1234
  let main_c_192 : IVec S_ 32 := constantI S_ 32 64#32
  let main_v1236 : IVec S5x256x256 32 := broadcastInDim S5x256x256 ![] bcast_S_S5x256x256 main_c_192
  let main_v1237 : IVec S5x256x256 1 := cmpi .sgt main_v11 main_v1236
  let main_v1238 : IVec S5x256x256 1 := andi main_v1235 main_v1237
  let main_v1239 : FVec F S5x256x256 .f32 := broadcastInDim S5x256x256 ![0, 1, 2] bcast_S5x1x256_S5x256x256_0_1_2 main_v1228
  let main_v1240 : FVec F S5x256x256 .f32 := mulf main_v1233 main_v1239
  let main_v1241 : FVec F S5x256x256 .f32 := subf main_v1227 main_v1240
  let main_v1242 : FVec F S5x256x256 .f32 := select main_v1238 main_v1241 main_v1227
  let main_c_193 : IVec S_ 32 := constantI S_ 32 64#32
  let main_v1243 : IVec S5x256x256 32 := broadcastInDim S5x256x256 ![] bcast_S_S5x256x256 main_c_193
  let main_v1244 : IVec S5x256x256 1 := cmpi .eq main_v11 main_v1243
  fn_part60 (F := F) main_arg0 main_v3 main_v7 main_v8 main_v10 main_v11 main_v1233 main_v1235 main_v1242 main_v1244

def fn_part58 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1189 : FVec F S5x256x256 .f32) (main_v1195 : FVec F S5x256x256 .f32) (main_v1197 : IVec S5x256x256 1) (main_v1200 : IVec S5x256x256 1) (main_v1203 : FVec F S5x256x256 .f32) : IVec S9x256x256 1 × IVec S8x256x256 1 :=
  let main_v1204 : FVec F S5x256x256 .f32 := select main_v1200 main_v1203 main_v1189
  let main_c_187 : IVec S_ 32 := constantI S_ 32 62#32
  let main_v1205 : IVec S5x256x256 32 := broadcastInDim S5x256x256 ![] bcast_S_S5x256x256 main_c_187
  let main_v1206 : IVec S5x256x256 1 := cmpi .eq main_v11 main_v1205
  let main_v1207 : IVec S5x256x256 1 := andi main_v1197 main_v1206
  let main_v1208 : FVec F S5x256x256 .f32 := select main_v1207 main_v1195 main_v1204
  let main_v1209 : FVec F S5x1x256 .f32 := (extractStridedSlice S5x1x256 ![0, 63, 0] · slices_S5x256x256_S5x1x256_0_63_0) main_v1208
  let main_v1210 : FVec F S5x256x1 .f32 := (extractStridedSlice S5x256x1 ![0, 0, 63] · slices_S5x256x256_S5x256x1_0_0_63) main_v1208
  let main_v1211 : FVec F S5x1x1 .f32 := (extractStridedSlice S5x1x1 ![0, 0, 63] · slices_S5x1x256_S5x1x1_0_0_63) main_v1209
  let main_v1212 : FVec F S5x256x1 .f32 := broadcastInDim S5x256x1 ![0, 1, 2] bcast_S5x1x1_S5x256x1_0_1_2 main_v1211
  let main_v1213 : FVec F S5x256x1 .f32 := Host.divf main_v1210 main_v1212
  let main_v1214 : FVec F S5x256x256 .f32 := broadcastInDim S5x256x256 ![0, 1, 2] bcast_S5x256x1_S5x256x256_0_1_2 main_v1213
  let main_c_188 : IVec S_ 32 := constantI S_ 32 63#32
  let main_v1215 : IVec S5x256x256 32 := broadcastInDim S5x256x256 ![] bcast_S_S5x256x256 main_c_188
  let main_v1216 : IVec S5x256x256 1 := cmpi .sgt main_v10 main_v1215
  let main_c_189 : IVec S_ 32 := constantI S_ 32 63#32
  let main_v1217 : IVec S5x256x256 32 := broadcastInDim S5x256x256 ![] bcast_S_S5x256x256 main_c_189
  let main_v1218 : IVec S5x256x256 1 := cmpi .sgt main_v11 main_v1217
  let main_v1219 : IVec S5x256x256 1 := andi main_v1216 main_v1218
  let main_v1220 : FVec F S5x256x256 .f32 := broadcastInDim S5x256x256 ![0, 1, 2] bcast_S5x1x256_S5x256x256_0_1_2 main_v1209
  let main_v1221 : FVec F S5x256x256 .f32 := mulf main_v1214 main_v1220
  let main_v1222 : FVec F S5x256x256 .f32 := subf main_v1208 main_v1221
  let main_v1223 : FVec F S5x256x256 .f32 := select main_v1219 main_v1222 main_v1208
  let main_c_190 : IVec S_ 32 := constantI S_ 32 63#32
  fn_part59 (F := F) main_arg0 main_v3 main_v7 main_v8 main_v10 main_v11 main_v1214 main_v1216 main_v1223 main_c_190

def fn_part57 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1170 : FVec F S5x256x256 .f32) (main_v1176 : FVec F S5x256x256 .f32) (main_v1178 : IVec S5x256x256 1) (main_v1181 : IVec S5x256x256 1) (main_v1182 : FVec F S5x256x256 .f32) : IVec S9x256x256 1 × IVec S8x256x256 1 :=
  let main_v1183 : FVec F S5x256x256 .f32 := mulf main_v1176 main_v1182
  let main_v1184 : FVec F S5x256x256 .f32 := subf main_v1170 main_v1183
  let main_v1185 : FVec F S5x256x256 .f32 := select main_v1181 main_v1184 main_v1170
  let main_c_184 : IVec S_ 32 := constantI S_ 32 61#32
  let main_v1186 : IVec S5x256x256 32 := broadcastInDim S5x256x256 ![] bcast_S_S5x256x256 main_c_184
  let main_v1187 : IVec S5x256x256 1 := cmpi .eq main_v11 main_v1186
  let main_v1188 : IVec S5x256x256 1 := andi main_v1178 main_v1187
  let main_v1189 : FVec F S5x256x256 .f32 := select main_v1188 main_v1176 main_v1185
  let main_v1190 : FVec F S5x1x256 .f32 := (extractStridedSlice S5x1x256 ![0, 62, 0] · slices_S5x256x256_S5x1x256_0_62_0) main_v1189
  let main_v1191 : FVec F S5x256x1 .f32 := (extractStridedSlice S5x256x1 ![0, 0, 62] · slices_S5x256x256_S5x256x1_0_0_62) main_v1189
  let main_v1192 : FVec F S5x1x1 .f32 := (extractStridedSlice S5x1x1 ![0, 0, 62] · slices_S5x1x256_S5x1x1_0_0_62) main_v1190
  let main_v1193 : FVec F S5x256x1 .f32 := broadcastInDim S5x256x1 ![0, 1, 2] bcast_S5x1x1_S5x256x1_0_1_2 main_v1192
  let main_v1194 : FVec F S5x256x1 .f32 := Host.divf main_v1191 main_v1193
  let main_v1195 : FVec F S5x256x256 .f32 := broadcastInDim S5x256x256 ![0, 1, 2] bcast_S5x256x1_S5x256x256_0_1_2 main_v1194
  let main_c_185 : IVec S_ 32 := constantI S_ 32 62#32
  let main_v1196 : IVec S5x256x256 32 := broadcastInDim S5x256x256 ![] bcast_S_S5x256x256 main_c_185
  let main_v1197 : IVec S5x256x256 1 := cmpi .sgt main_v10 main_v1196
  let main_c_186 : IVec S_ 32 := constantI S_ 32 62#32
  let main_v1198 : IVec S5x256x256 32 := broadcastInDim S5x256x256 ![] bcast_S_S5x256x256 main_c_186
  let main_v1199 : IVec S5x256x256 1 := cmpi .sgt main_v11 main_v1198
  let main_v1200 : IVec S5x256x256 1 := andi main_v1197 main_v1199
  let main_v1201 : FVec F S5x256x256 .f32 := broadcastInDim S5x256x256 ![0, 1, 2] bcast_S5x1x256_S5x256x256_0_1_2 main_v1190
  let main_v1202 : FVec F S5x256x256 .f32 := mulf main_v1195 main_v1201
  let main_v1203 : FVec F S5x256x256 .f32 := subf main_v1189 main_v1202
  fn_part58 (F := F) main_arg0 main_v3 main_v7 main_v8 main_v10 main_v11 main_v1189 main_v1195 main_v1197 main_v1200 main_v1203

def fn_part56 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1151 : FVec F S5x256x256 .f32) (main_v1152 : FVec F S5x1x256 .f32) (main_v1157 : FVec F S5x256x256 .f32) (main_v1159 : IVec S5x256x256 1) (main_v1161 : IVec S5x256x256 1) : IVec S9x256x256 1 × IVec S8x256x256 1 :=
  let main_v1162 : IVec S5x256x256 1 := andi main_v1159 main_v1161
  let main_v1163 : FVec F S5x256x256 .f32 := broadcastInDim S5x256x256 ![0, 1, 2] bcast_S5x1x256_S5x256x256_0_1_2 main_v1152
  let main_v1164 : FVec F S5x256x256 .f32 := mulf main_v1157 main_v1163
  let main_v1165 : FVec F S5x256x256 .f32 := subf main_v1151 main_v1164
  let main_v1166 : FVec F S5x256x256 .f32 := select main_v1162 main_v1165 main_v1151
  let main_c_181 : IVec S_ 32 := constantI S_ 32 60#32
  let main_v1167 : IVec S5x256x256 32 := broadcastInDim S5x256x256 ![] bcast_S_S5x256x256 main_c_181
  let main_v1168 : IVec S5x256x256 1 := cmpi .eq main_v11 main_v1167
  let main_v1169 : IVec S5x256x256 1 := andi main_v1159 main_v1168
  let main_v1170 : FVec F S5x256x256 .f32 := select main_v1169 main_v1157 main_v1166
  let main_v1171 : FVec F S5x1x256 .f32 := (extractStridedSlice S5x1x256 ![0, 61, 0] · slices_S5x256x256_S5x1x256_0_61_0) main_v1170
  let main_v1172 : FVec F S5x256x1 .f32 := (extractStridedSlice S5x256x1 ![0, 0, 61] · slices_S5x256x256_S5x256x1_0_0_61) main_v1170
  let main_v1173 : FVec F S5x1x1 .f32 := (extractStridedSlice S5x1x1 ![0, 0, 61] · slices_S5x1x256_S5x1x1_0_0_61) main_v1171
  let main_v1174 : FVec F S5x256x1 .f32 := broadcastInDim S5x256x1 ![0, 1, 2] bcast_S5x1x1_S5x256x1_0_1_2 main_v1173
  let main_v1175 : FVec F S5x256x1 .f32 := Host.divf main_v1172 main_v1174
  let main_v1176 : FVec F S5x256x256 .f32 := broadcastInDim S5x256x256 ![0, 1, 2] bcast_S5x256x1_S5x256x256_0_1_2 main_v1175
  let main_c_182 : IVec S_ 32 := constantI S_ 32 61#32
  let main_v1177 : IVec S5x256x256 32 := broadcastInDim S5x256x256 ![] bcast_S_S5x256x256 main_c_182
  let main_v1178 : IVec S5x256x256 1 := cmpi .sgt main_v10 main_v1177
  let main_c_183 : IVec S_ 32 := constantI S_ 32 61#32
  let main_v1179 : IVec S5x256x256 32 := broadcastInDim S5x256x256 ![] bcast_S_S5x256x256 main_c_183
  let main_v1180 : IVec S5x256x256 1 := cmpi .sgt main_v11 main_v1179
  let main_v1181 : IVec S5x256x256 1 := andi main_v1178 main_v1180
  let main_v1182 : FVec F S5x256x256 .f32 := broadcastInDim S5x256x256 ![0, 1, 2] bcast_S5x1x256_S5x256x256_0_1_2 main_v1171
  fn_part57 (F := F) main_arg0 main_v3 main_v7 main_v8 main_v10 main_v11 main_v1170 main_v1176 main_v1178 main_v1181 main_v1182

def fn_part55 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1132 : FVec F S5x256x256 .f32) (main_v1133 : FVec F S5x1x256 .f32) (main_v1138 : FVec F S5x256x256 .f32) (main_v1140 : IVec S5x256x256 1) (main_c_177 : IVec S_ 32) : IVec S9x256x256 1 × IVec S8x256x256 1 :=
  let main_v1141 : IVec S5x256x256 32 := broadcastInDim S5x256x256 ![] bcast_S_S5x256x256 main_c_177
  let main_v1142 : IVec S5x256x256 1 := cmpi .sgt main_v11 main_v1141
  let main_v1143 : IVec S5x256x256 1 := andi main_v1140 main_v1142
  let main_v1144 : FVec F S5x256x256 .f32 := broadcastInDim S5x256x256 ![0, 1, 2] bcast_S5x1x256_S5x256x256_0_1_2 main_v1133
  let main_v1145 : FVec F S5x256x256 .f32 := mulf main_v1138 main_v1144
  let main_v1146 : FVec F S5x256x256 .f32 := subf main_v1132 main_v1145
  let main_v1147 : FVec F S5x256x256 .f32 := select main_v1143 main_v1146 main_v1132
  let main_c_178 : IVec S_ 32 := constantI S_ 32 59#32
  let main_v1148 : IVec S5x256x256 32 := broadcastInDim S5x256x256 ![] bcast_S_S5x256x256 main_c_178
  let main_v1149 : IVec S5x256x256 1 := cmpi .eq main_v11 main_v1148
  let main_v1150 : IVec S5x256x256 1 := andi main_v1140 main_v1149
  let main_v1151 : FVec F S5x256x256 .f32 := select main_v1150 main_v1138 main_v1147
  let main_v1152 : FVec F S5x1x256 .f32 := (extractStridedSlice S5x1x256 ![0, 60, 0] · slices_S5x256x256_S5x1x256_0_60_0) main_v1151
  let main_v1153 : FVec F S5x256x1 .f32 := (extractStridedSlice S5x256x1 ![0, 0, 60] · slices_S5x256x256_S5x256x1_0_0_60) main_v1151
  let main_v1154 : FVec F S5x1x1 .f32 := (extractStridedSlice S5x1x1 ![0, 0, 60] · slices_S5x1x256_S5x1x1_0_0_60) main_v1152
  let main_v1155 : FVec F S5x256x1 .f32 := broadcastInDim S5x256x1 ![0, 1, 2] bcast_S5x1x1_S5x256x1_0_1_2 main_v1154
  let main_v1156 : FVec F S5x256x1 .f32 := Host.divf main_v1153 main_v1155
  let main_v1157 : FVec F S5x256x256 .f32 := broadcastInDim S5x256x256 ![0, 1, 2] bcast_S5x256x1_S5x256x256_0_1_2 main_v1156
  let main_c_179 : IVec S_ 32 := constantI S_ 32 60#32
  let main_v1158 : IVec S5x256x256 32 := broadcastInDim S5x256x256 ![] bcast_S_S5x256x256 main_c_179
  let main_v1159 : IVec S5x256x256 1 := cmpi .sgt main_v10 main_v1158
  let main_c_180 : IVec S_ 32 := constantI S_ 32 60#32
  let main_v1160 : IVec S5x256x256 32 := broadcastInDim S5x256x256 ![] bcast_S_S5x256x256 main_c_180
  let main_v1161 : IVec S5x256x256 1 := cmpi .sgt main_v11 main_v1160
  fn_part56 (F := F) main_arg0 main_v3 main_v7 main_v8 main_v10 main_v11 main_v1151 main_v1152 main_v1157 main_v1159 main_v1161

def fn_part54 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1113 : FVec F S5x256x256 .f32) (main_v1114 : FVec F S5x1x256 .f32) (main_v1119 : FVec F S5x256x256 .f32) (main_v1120 : IVec S5x256x256 32) : IVec S9x256x256 1 × IVec S8x256x256 1 :=
  let main_v1121 : IVec S5x256x256 1 := cmpi .sgt main_v10 main_v1120
  let main_c_174 : IVec S_ 32 := constantI S_ 32 58#32
  let main_v1122 : IVec S5x256x256 32 := broadcastInDim S5x256x256 ![] bcast_S_S5x256x256 main_c_174
  let main_v1123 : IVec S5x256x256 1 := cmpi .sgt main_v11 main_v1122
  let main_v1124 : IVec S5x256x256 1 := andi main_v1121 main_v1123
  let main_v1125 : FVec F S5x256x256 .f32 := broadcastInDim S5x256x256 ![0, 1, 2] bcast_S5x1x256_S5x256x256_0_1_2 main_v1114
  let main_v1126 : FVec F S5x256x256 .f32 := mulf main_v1119 main_v1125
  let main_v1127 : FVec F S5x256x256 .f32 := subf main_v1113 main_v1126
  let main_v1128 : FVec F S5x256x256 .f32 := select main_v1124 main_v1127 main_v1113
  let main_c_175 : IVec S_ 32 := constantI S_ 32 58#32
  let main_v1129 : IVec S5x256x256 32 := broadcastInDim S5x256x256 ![] bcast_S_S5x256x256 main_c_175
  let main_v1130 : IVec S5x256x256 1 := cmpi .eq main_v11 main_v1129
  let main_v1131 : IVec S5x256x256 1 := andi main_v1121 main_v1130
  let main_v1132 : FVec F S5x256x256 .f32 := select main_v1131 main_v1119 main_v1128
  let main_v1133 : FVec F S5x1x256 .f32 := (extractStridedSlice S5x1x256 ![0, 59, 0] · slices_S5x256x256_S5x1x256_0_59_0) main_v1132
  let main_v1134 : FVec F S5x256x1 .f32 := (extractStridedSlice S5x256x1 ![0, 0, 59] · slices_S5x256x256_S5x256x1_0_0_59) main_v1132
  let main_v1135 : FVec F S5x1x1 .f32 := (extractStridedSlice S5x1x1 ![0, 0, 59] · slices_S5x1x256_S5x1x1_0_0_59) main_v1133
  let main_v1136 : FVec F S5x256x1 .f32 := broadcastInDim S5x256x1 ![0, 1, 2] bcast_S5x1x1_S5x256x1_0_1_2 main_v1135
  let main_v1137 : FVec F S5x256x1 .f32 := Host.divf main_v1134 main_v1136
  let main_v1138 : FVec F S5x256x256 .f32 := broadcastInDim S5x256x256 ![0, 1, 2] bcast_S5x256x1_S5x256x256_0_1_2 main_v1137
  let main_c_176 : IVec S_ 32 := constantI S_ 32 59#32
  let main_v1139 : IVec S5x256x256 32 := broadcastInDim S5x256x256 ![] bcast_S_S5x256x256 main_c_176
  let main_v1140 : IVec S5x256x256 1 := cmpi .sgt main_v10 main_v1139
  let main_c_177 : IVec S_ 32 := constantI S_ 32 59#32
  fn_part55 (F := F) main_arg0 main_v3 main_v7 main_v8 main_v10 main_v11 main_v1132 main_v1133 main_v1138 main_v1140 main_c_177

def fn_part53 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1094 : FVec F S5x256x256 .f32) (main_v1095 : FVec F S5x1x256 .f32) (main_v1100 : FVec F S5x256x256 .f32) : IVec S9x256x256 1 × IVec S8x256x256 1 :=
  let main_c_170 : IVec S_ 32 := constantI S_ 32 57#32
  let main_v1101 : IVec S5x256x256 32 := broadcastInDim S5x256x256 ![] bcast_S_S5x256x256 main_c_170
  let main_v1102 : IVec S5x256x256 1 := cmpi .sgt main_v10 main_v1101
  let main_c_171 : IVec S_ 32 := constantI S_ 32 57#32
  let main_v1103 : IVec S5x256x256 32 := broadcastInDim S5x256x256 ![] bcast_S_S5x256x256 main_c_171
  let main_v1104 : IVec S5x256x256 1 := cmpi .sgt main_v11 main_v1103
  let main_v1105 : IVec S5x256x256 1 := andi main_v1102 main_v1104
  let main_v1106 : FVec F S5x256x256 .f32 := broadcastInDim S5x256x256 ![0, 1, 2] bcast_S5x1x256_S5x256x256_0_1_2 main_v1095
  let main_v1107 : FVec F S5x256x256 .f32 := mulf main_v1100 main_v1106
  let main_v1108 : FVec F S5x256x256 .f32 := subf main_v1094 main_v1107
  let main_v1109 : FVec F S5x256x256 .f32 := select main_v1105 main_v1108 main_v1094
  let main_c_172 : IVec S_ 32 := constantI S_ 32 57#32
  let main_v1110 : IVec S5x256x256 32 := broadcastInDim S5x256x256 ![] bcast_S_S5x256x256 main_c_172
  let main_v1111 : IVec S5x256x256 1 := cmpi .eq main_v11 main_v1110
  let main_v1112 : IVec S5x256x256 1 := andi main_v1102 main_v1111
  let main_v1113 : FVec F S5x256x256 .f32 := select main_v1112 main_v1100 main_v1109
  let main_v1114 : FVec F S5x1x256 .f32 := (extractStridedSlice S5x1x256 ![0, 58, 0] · slices_S5x256x256_S5x1x256_0_58_0) main_v1113
  let main_v1115 : FVec F S5x256x1 .f32 := (extractStridedSlice S5x256x1 ![0, 0, 58] · slices_S5x256x256_S5x256x1_0_0_58) main_v1113
  let main_v1116 : FVec F S5x1x1 .f32 := (extractStridedSlice S5x1x1 ![0, 0, 58] · slices_S5x1x256_S5x1x1_0_0_58) main_v1114
  let main_v1117 : FVec F S5x256x1 .f32 := broadcastInDim S5x256x1 ![0, 1, 2] bcast_S5x1x1_S5x256x1_0_1_2 main_v1116
  let main_v1118 : FVec F S5x256x1 .f32 := Host.divf main_v1115 main_v1117
  let main_v1119 : FVec F S5x256x256 .f32 := broadcastInDim S5x256x256 ![0, 1, 2] bcast_S5x256x1_S5x256x256_0_1_2 main_v1118
  let main_c_173 : IVec S_ 32 := constantI S_ 32 58#32
  let main_v1120 : IVec S5x256x256 32 := broadcastInDim S5x256x256 ![] bcast_S_S5x256x256 main_c_173
  fn_part54 (F := F) main_arg0 main_v3 main_v7 main_v8 main_v10 main_v11 main_v1113 main_v1114 main_v1119 main_v1120

def fn_part52 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1075 : FVec F S5x256x256 .f32) (main_v1076 : FVec F S5x1x256 .f32) (main_v1077 : FVec F S5x256x1 .f32) (main_v1079 : FVec F S5x256x1 .f32) : IVec S9x256x256 1 × IVec S8x256x256 1 :=
  let main_v1080 : FVec F S5x256x1 .f32 := Host.divf main_v1077 main_v1079
  let main_v1081 : FVec F S5x256x256 .f32 := broadcastInDim S5x256x256 ![0, 1, 2] bcast_S5x256x1_S5x256x256_0_1_2 main_v1080
  let main_c_167 : IVec S_ 32 := constantI S_ 32 56#32
  let main_v1082 : IVec S5x256x256 32 := broadcastInDim S5x256x256 ![] bcast_S_S5x256x256 main_c_167
  let main_v1083 : IVec S5x256x256 1 := cmpi .sgt main_v10 main_v1082
  let main_c_168 : IVec S_ 32 := constantI S_ 32 56#32
  let main_v1084 : IVec S5x256x256 32 := broadcastInDim S5x256x256 ![] bcast_S_S5x256x256 main_c_168
  let main_v1085 : IVec S5x256x256 1 := cmpi .sgt main_v11 main_v1084
  let main_v1086 : IVec S5x256x256 1 := andi main_v1083 main_v1085
  let main_v1087 : FVec F S5x256x256 .f32 := broadcastInDim S5x256x256 ![0, 1, 2] bcast_S5x1x256_S5x256x256_0_1_2 main_v1076
  let main_v1088 : FVec F S5x256x256 .f32 := mulf main_v1081 main_v1087
  let main_v1089 : FVec F S5x256x256 .f32 := subf main_v1075 main_v1088
  let main_v1090 : FVec F S5x256x256 .f32 := select main_v1086 main_v1089 main_v1075
  let main_c_169 : IVec S_ 32 := constantI S_ 32 56#32
  let main_v1091 : IVec S5x256x256 32 := broadcastInDim S5x256x256 ![] bcast_S_S5x256x256 main_c_169
  let main_v1092 : IVec S5x256x256 1 := cmpi .eq main_v11 main_v1091
  let main_v1093 : IVec S5x256x256 1 := andi main_v1083 main_v1092
  let main_v1094 : FVec F S5x256x256 .f32 := select main_v1093 main_v1081 main_v1090
  let main_v1095 : FVec F S5x1x256 .f32 := (extractStridedSlice S5x1x256 ![0, 57, 0] · slices_S5x256x256_S5x1x256_0_57_0) main_v1094
  let main_v1096 : FVec F S5x256x1 .f32 := (extractStridedSlice S5x256x1 ![0, 0, 57] · slices_S5x256x256_S5x256x1_0_0_57) main_v1094
  let main_v1097 : FVec F S5x1x1 .f32 := (extractStridedSlice S5x1x1 ![0, 0, 57] · slices_S5x1x256_S5x1x1_0_0_57) main_v1095
  let main_v1098 : FVec F S5x256x1 .f32 := broadcastInDim S5x256x1 ![0, 1, 2] bcast_S5x1x1_S5x256x1_0_1_2 main_v1097
  let main_v1099 : FVec F S5x256x1 .f32 := Host.divf main_v1096 main_v1098
  let main_v1100 : FVec F S5x256x256 .f32 := broadcastInDim S5x256x256 ![0, 1, 2] bcast_S5x256x1_S5x256x256_0_1_2 main_v1099
  fn_part53 (F := F) main_arg0 main_v3 main_v7 main_v8 main_v10 main_v11 main_v1094 main_v1095 main_v1100

def fn_part51 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1056 : FVec F S5x256x256 .f32) (main_v1057 : FVec F S5x1x256 .f32) (main_v1058 : FVec F S5x256x1 .f32) : IVec S9x256x256 1 × IVec S8x256x256 1 :=
  let main_v1059 : FVec F S5x1x1 .f32 := (extractStridedSlice S5x1x1 ![0, 0, 55] · slices_S5x1x256_S5x1x1_0_0_55) main_v1057
  let main_v1060 : FVec F S5x256x1 .f32 := broadcastInDim S5x256x1 ![0, 1, 2] bcast_S5x1x1_S5x256x1_0_1_2 main_v1059
  let main_v1061 : FVec F S5x256x1 .f32 := Host.divf main_v1058 main_v1060
  let main_v1062 : FVec F S5x256x256 .f32 := broadcastInDim S5x256x256 ![0, 1, 2] bcast_S5x256x1_S5x256x256_0_1_2 main_v1061
  let main_c_164 : IVec S_ 32 := constantI S_ 32 55#32
  let main_v1063 : IVec S5x256x256 32 := broadcastInDim S5x256x256 ![] bcast_S_S5x256x256 main_c_164
  let main_v1064 : IVec S5x256x256 1 := cmpi .sgt main_v10 main_v1063
  let main_c_165 : IVec S_ 32 := constantI S_ 32 55#32
  let main_v1065 : IVec S5x256x256 32 := broadcastInDim S5x256x256 ![] bcast_S_S5x256x256 main_c_165
  let main_v1066 : IVec S5x256x256 1 := cmpi .sgt main_v11 main_v1065
  let main_v1067 : IVec S5x256x256 1 := andi main_v1064 main_v1066
  let main_v1068 : FVec F S5x256x256 .f32 := broadcastInDim S5x256x256 ![0, 1, 2] bcast_S5x1x256_S5x256x256_0_1_2 main_v1057
  let main_v1069 : FVec F S5x256x256 .f32 := mulf main_v1062 main_v1068
  let main_v1070 : FVec F S5x256x256 .f32 := subf main_v1056 main_v1069
  let main_v1071 : FVec F S5x256x256 .f32 := select main_v1067 main_v1070 main_v1056
  let main_c_166 : IVec S_ 32 := constantI S_ 32 55#32
  let main_v1072 : IVec S5x256x256 32 := broadcastInDim S5x256x256 ![] bcast_S_S5x256x256 main_c_166
  let main_v1073 : IVec S5x256x256 1 := cmpi .eq main_v11 main_v1072
  let main_v1074 : IVec S5x256x256 1 := andi main_v1064 main_v1073
  let main_v1075 : FVec F S5x256x256 .f32 := select main_v1074 main_v1062 main_v1071
  let main_v1076 : FVec F S5x1x256 .f32 := (extractStridedSlice S5x1x256 ![0, 56, 0] · slices_S5x256x256_S5x1x256_0_56_0) main_v1075
  let main_v1077 : FVec F S5x256x1 .f32 := (extractStridedSlice S5x256x1 ![0, 0, 56] · slices_S5x256x256_S5x256x1_0_0_56) main_v1075
  let main_v1078 : FVec F S5x1x1 .f32 := (extractStridedSlice S5x1x1 ![0, 0, 56] · slices_S5x1x256_S5x1x1_0_0_56) main_v1076
  let main_v1079 : FVec F S5x256x1 .f32 := broadcastInDim S5x256x1 ![0, 1, 2] bcast_S5x1x1_S5x256x1_0_1_2 main_v1078
  fn_part52 (F := F) main_arg0 main_v3 main_v7 main_v8 main_v10 main_v11 main_v1075 main_v1076 main_v1077 main_v1079

def fn_part50 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1037 : FVec F S5x256x256 .f32) : IVec S9x256x256 1 × IVec S8x256x256 1 :=
  let main_v1038 : FVec F S5x1x256 .f32 := (extractStridedSlice S5x1x256 ![0, 54, 0] · slices_S5x256x256_S5x1x256_0_54_0) main_v1037
  let main_v1039 : FVec F S5x256x1 .f32 := (extractStridedSlice S5x256x1 ![0, 0, 54] · slices_S5x256x256_S5x256x1_0_0_54) main_v1037
  let main_v1040 : FVec F S5x1x1 .f32 := (extractStridedSlice S5x1x1 ![0, 0, 54] · slices_S5x1x256_S5x1x1_0_0_54) main_v1038
  let main_v1041 : FVec F S5x256x1 .f32 := broadcastInDim S5x256x1 ![0, 1, 2] bcast_S5x1x1_S5x256x1_0_1_2 main_v1040
  let main_v1042 : FVec F S5x256x1 .f32 := Host.divf main_v1039 main_v1041
  let main_v1043 : FVec F S5x256x256 .f32 := broadcastInDim S5x256x256 ![0, 1, 2] bcast_S5x256x1_S5x256x256_0_1_2 main_v1042
  let main_c_161 : IVec S_ 32 := constantI S_ 32 54#32
  let main_v1044 : IVec S5x256x256 32 := broadcastInDim S5x256x256 ![] bcast_S_S5x256x256 main_c_161
  let main_v1045 : IVec S5x256x256 1 := cmpi .sgt main_v10 main_v1044
  let main_c_162 : IVec S_ 32 := constantI S_ 32 54#32
  let main_v1046 : IVec S5x256x256 32 := broadcastInDim S5x256x256 ![] bcast_S_S5x256x256 main_c_162
  let main_v1047 : IVec S5x256x256 1 := cmpi .sgt main_v11 main_v1046
  let main_v1048 : IVec S5x256x256 1 := andi main_v1045 main_v1047
  let main_v1049 : FVec F S5x256x256 .f32 := broadcastInDim S5x256x256 ![0, 1, 2] bcast_S5x1x256_S5x256x256_0_1_2 main_v1038
  let main_v1050 : FVec F S5x256x256 .f32 := mulf main_v1043 main_v1049
  let main_v1051 : FVec F S5x256x256 .f32 := subf main_v1037 main_v1050
  let main_v1052 : FVec F S5x256x256 .f32 := select main_v1048 main_v1051 main_v1037
  let main_c_163 : IVec S_ 32 := constantI S_ 32 54#32
  let main_v1053 : IVec S5x256x256 32 := broadcastInDim S5x256x256 ![] bcast_S_S5x256x256 main_c_163
  let main_v1054 : IVec S5x256x256 1 := cmpi .eq main_v11 main_v1053
  let main_v1055 : IVec S5x256x256 1 := andi main_v1045 main_v1054
  let main_v1056 : FVec F S5x256x256 .f32 := select main_v1055 main_v1043 main_v1052
  let main_v1057 : FVec F S5x1x256 .f32 := (extractStridedSlice S5x1x256 ![0, 55, 0] · slices_S5x256x256_S5x1x256_0_55_0) main_v1056
  let main_v1058 : FVec F S5x256x1 .f32 := (extractStridedSlice S5x256x1 ![0, 0, 55] · slices_S5x256x256_S5x256x1_0_0_55) main_v1056
  fn_part51 (F := F) main_arg0 main_v3 main_v7 main_v8 main_v10 main_v11 main_v1056 main_v1057 main_v1058

def fn_part49 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v1005 : FVec F S5x256x256 .f32) (main_v1007 : IVec S5x256x256 1) (main_v1014 : FVec F S5x256x256 .f32) (main_v1016 : IVec S5x256x256 1) : IVec S9x256x256 1 × IVec S8x256x256 1 :=
  let main_v1017 : IVec S5x256x256 1 := andi main_v1007 main_v1016
  let main_v1018 : FVec F S5x256x256 .f32 := select main_v1017 main_v1005 main_v1014
  let main_v1019 : FVec F S5x1x256 .f32 := (extractStridedSlice S5x1x256 ![0, 53, 0] · slices_S5x256x256_S5x1x256_0_53_0) main_v1018
  let main_v1020 : FVec F S5x256x1 .f32 := (extractStridedSlice S5x256x1 ![0, 0, 53] · slices_S5x256x256_S5x256x1_0_0_53) main_v1018
  let main_v1021 : FVec F S5x1x1 .f32 := (extractStridedSlice S5x1x1 ![0, 0, 53] · slices_S5x1x256_S5x1x1_0_0_53) main_v1019
  let main_v1022 : FVec F S5x256x1 .f32 := broadcastInDim S5x256x1 ![0, 1, 2] bcast_S5x1x1_S5x256x1_0_1_2 main_v1021
  let main_v1023 : FVec F S5x256x1 .f32 := Host.divf main_v1020 main_v1022
  let main_v1024 : FVec F S5x256x256 .f32 := broadcastInDim S5x256x256 ![0, 1, 2] bcast_S5x256x1_S5x256x256_0_1_2 main_v1023
  let main_c_158 : IVec S_ 32 := constantI S_ 32 53#32
  let main_v1025 : IVec S5x256x256 32 := broadcastInDim S5x256x256 ![] bcast_S_S5x256x256 main_c_158
  let main_v1026 : IVec S5x256x256 1 := cmpi .sgt main_v10 main_v1025
  let main_c_159 : IVec S_ 32 := constantI S_ 32 53#32
  let main_v1027 : IVec S5x256x256 32 := broadcastInDim S5x256x256 ![] bcast_S_S5x256x256 main_c_159
  let main_v1028 : IVec S5x256x256 1 := cmpi .sgt main_v11 main_v1027
  let main_v1029 : IVec S5x256x256 1 := andi main_v1026 main_v1028
  let main_v1030 : FVec F S5x256x256 .f32 := broadcastInDim S5x256x256 ![0, 1, 2] bcast_S5x1x256_S5x256x256_0_1_2 main_v1019
  let main_v1031 : FVec F S5x256x256 .f32 := mulf main_v1024 main_v1030
  let main_v1032 : FVec F S5x256x256 .f32 := subf main_v1018 main_v1031
  let main_v1033 : FVec F S5x256x256 .f32 := select main_v1029 main_v1032 main_v1018
  let main_c_160 : IVec S_ 32 := constantI S_ 32 53#32
  let main_v1034 : IVec S5x256x256 32 := broadcastInDim S5x256x256 ![] bcast_S_S5x256x256 main_c_160
  let main_v1035 : IVec S5x256x256 1 := cmpi .eq main_v11 main_v1034
  let main_v1036 : IVec S5x256x256 1 := andi main_v1026 main_v1035
  let main_v1037 : FVec F S5x256x256 .f32 := select main_v1036 main_v1024 main_v1033
  fn_part50 (F := F) main_arg0 main_v3 main_v7 main_v8 main_v10 main_v11 main_v1037

def fn_part48 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v986 : FVec F S5x256x256 .f32) (main_v988 : IVec S5x256x256 1) (main_v995 : FVec F S5x256x256 .f32) (main_c_154 : IVec S_ 32) : IVec S9x256x256 1 × IVec S8x256x256 1 :=
  let main_v996 : IVec S5x256x256 32 := broadcastInDim S5x256x256 ![] bcast_S_S5x256x256 main_c_154
  let main_v997 : IVec S5x256x256 1 := cmpi .eq main_v11 main_v996
  let main_v998 : IVec S5x256x256 1 := andi main_v988 main_v997
  let main_v999 : FVec F S5x256x256 .f32 := select main_v998 main_v986 main_v995
  let main_v1000 : FVec F S5x1x256 .f32 := (extractStridedSlice S5x1x256 ![0, 52, 0] · slices_S5x256x256_S5x1x256_0_52_0) main_v999
  let main_v1001 : FVec F S5x256x1 .f32 := (extractStridedSlice S5x256x1 ![0, 0, 52] · slices_S5x256x256_S5x256x1_0_0_52) main_v999
  let main_v1002 : FVec F S5x1x1 .f32 := (extractStridedSlice S5x1x1 ![0, 0, 52] · slices_S5x1x256_S5x1x1_0_0_52) main_v1000
  let main_v1003 : FVec F S5x256x1 .f32 := broadcastInDim S5x256x1 ![0, 1, 2] bcast_S5x1x1_S5x256x1_0_1_2 main_v1002
  let main_v1004 : FVec F S5x256x1 .f32 := Host.divf main_v1001 main_v1003
  let main_v1005 : FVec F S5x256x256 .f32 := broadcastInDim S5x256x256 ![0, 1, 2] bcast_S5x256x1_S5x256x256_0_1_2 main_v1004
  let main_c_155 : IVec S_ 32 := constantI S_ 32 52#32
  let main_v1006 : IVec S5x256x256 32 := broadcastInDim S5x256x256 ![] bcast_S_S5x256x256 main_c_155
  let main_v1007 : IVec S5x256x256 1 := cmpi .sgt main_v10 main_v1006
  let main_c_156 : IVec S_ 32 := constantI S_ 32 52#32
  let main_v1008 : IVec S5x256x256 32 := broadcastInDim S5x256x256 ![] bcast_S_S5x256x256 main_c_156
  let main_v1009 : IVec S5x256x256 1 := cmpi .sgt main_v11 main_v1008
  let main_v1010 : IVec S5x256x256 1 := andi main_v1007 main_v1009
  let main_v1011 : FVec F S5x256x256 .f32 := broadcastInDim S5x256x256 ![0, 1, 2] bcast_S5x1x256_S5x256x256_0_1_2 main_v1000
  let main_v1012 : FVec F S5x256x256 .f32 := mulf main_v1005 main_v1011
  let main_v1013 : FVec F S5x256x256 .f32 := subf main_v999 main_v1012
  let main_v1014 : FVec F S5x256x256 .f32 := select main_v1010 main_v1013 main_v999
  let main_c_157 : IVec S_ 32 := constantI S_ 32 52#32
  let main_v1015 : IVec S5x256x256 32 := broadcastInDim S5x256x256 ![] bcast_S_S5x256x256 main_c_157
  let main_v1016 : IVec S5x256x256 1 := cmpi .eq main_v11 main_v1015
  fn_part49 (F := F) main_arg0 main_v3 main_v7 main_v8 main_v10 main_v11 main_v1005 main_v1007 main_v1014 main_v1016

def fn_part47 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v961 : FVec F S5x256x256 .f32) (main_v967 : FVec F S5x256x256 .f32) (main_v969 : IVec S5x256x256 1) (main_v972 : IVec S5x256x256 1) (main_v975 : FVec F S5x256x256 .f32) : IVec S9x256x256 1 × IVec S8x256x256 1 :=
  let main_v976 : FVec F S5x256x256 .f32 := select main_v972 main_v975 main_v961
  let main_c_151 : IVec S_ 32 := constantI S_ 32 50#32
  let main_v977 : IVec S5x256x256 32 := broadcastInDim S5x256x256 ![] bcast_S_S5x256x256 main_c_151
  let main_v978 : IVec S5x256x256 1 := cmpi .eq main_v11 main_v977
  let main_v979 : IVec S5x256x256 1 := andi main_v969 main_v978
  let main_v980 : FVec F S5x256x256 .f32 := select main_v979 main_v967 main_v976
  let main_v981 : FVec F S5x1x256 .f32 := (extractStridedSlice S5x1x256 ![0, 51, 0] · slices_S5x256x256_S5x1x256_0_51_0) main_v980
  let main_v982 : FVec F S5x256x1 .f32 := (extractStridedSlice S5x256x1 ![0, 0, 51] · slices_S5x256x256_S5x256x1_0_0_51) main_v980
  let main_v983 : FVec F S5x1x1 .f32 := (extractStridedSlice S5x1x1 ![0, 0, 51] · slices_S5x1x256_S5x1x1_0_0_51) main_v981
  let main_v984 : FVec F S5x256x1 .f32 := broadcastInDim S5x256x1 ![0, 1, 2] bcast_S5x1x1_S5x256x1_0_1_2 main_v983
  let main_v985 : FVec F S5x256x1 .f32 := Host.divf main_v982 main_v984
  let main_v986 : FVec F S5x256x256 .f32 := broadcastInDim S5x256x256 ![0, 1, 2] bcast_S5x256x1_S5x256x256_0_1_2 main_v985
  let main_c_152 : IVec S_ 32 := constantI S_ 32 51#32
  let main_v987 : IVec S5x256x256 32 := broadcastInDim S5x256x256 ![] bcast_S_S5x256x256 main_c_152
  let main_v988 : IVec S5x256x256 1 := cmpi .sgt main_v10 main_v987
  let main_c_153 : IVec S_ 32 := constantI S_ 32 51#32
  let main_v989 : IVec S5x256x256 32 := broadcastInDim S5x256x256 ![] bcast_S_S5x256x256 main_c_153
  let main_v990 : IVec S5x256x256 1 := cmpi .sgt main_v11 main_v989
  let main_v991 : IVec S5x256x256 1 := andi main_v988 main_v990
  let main_v992 : FVec F S5x256x256 .f32 := broadcastInDim S5x256x256 ![0, 1, 2] bcast_S5x1x256_S5x256x256_0_1_2 main_v981
  let main_v993 : FVec F S5x256x256 .f32 := mulf main_v986 main_v992
  let main_v994 : FVec F S5x256x256 .f32 := subf main_v980 main_v993
  let main_v995 : FVec F S5x256x256 .f32 := select main_v991 main_v994 main_v980
  let main_c_154 : IVec S_ 32 := constantI S_ 32 51#32
  fn_part48 (F := F) main_arg0 main_v3 main_v7 main_v8 main_v10 main_v11 main_v986 main_v988 main_v995 main_c_154

def fn_part46 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v942 : FVec F S5x256x256 .f32) (main_v948 : FVec F S5x256x256 .f32) (main_v950 : IVec S5x256x256 1) (main_v953 : IVec S5x256x256 1) (main_v954 : FVec F S5x256x256 .f32) : IVec S9x256x256 1 × IVec S8x256x256 1 :=
  let main_v955 : FVec F S5x256x256 .f32 := mulf main_v948 main_v954
  let main_v956 : FVec F S5x256x256 .f32 := subf main_v942 main_v955
  let main_v957 : FVec F S5x256x256 .f32 := select main_v953 main_v956 main_v942
  let main_c_148 : IVec S_ 32 := constantI S_ 32 49#32
  let main_v958 : IVec S5x256x256 32 := broadcastInDim S5x256x256 ![] bcast_S_S5x256x256 main_c_148
  let main_v959 : IVec S5x256x256 1 := cmpi .eq main_v11 main_v958
  let main_v960 : IVec S5x256x256 1 := andi main_v950 main_v959
  let main_v961 : FVec F S5x256x256 .f32 := select main_v960 main_v948 main_v957
  let main_v962 : FVec F S5x1x256 .f32 := (extractStridedSlice S5x1x256 ![0, 50, 0] · slices_S5x256x256_S5x1x256_0_50_0) main_v961
  let main_v963 : FVec F S5x256x1 .f32 := (extractStridedSlice S5x256x1 ![0, 0, 50] · slices_S5x256x256_S5x256x1_0_0_50) main_v961
  let main_v964 : FVec F S5x1x1 .f32 := (extractStridedSlice S5x1x1 ![0, 0, 50] · slices_S5x1x256_S5x1x1_0_0_50) main_v962
  let main_v965 : FVec F S5x256x1 .f32 := broadcastInDim S5x256x1 ![0, 1, 2] bcast_S5x1x1_S5x256x1_0_1_2 main_v964
  let main_v966 : FVec F S5x256x1 .f32 := Host.divf main_v963 main_v965
  let main_v967 : FVec F S5x256x256 .f32 := broadcastInDim S5x256x256 ![0, 1, 2] bcast_S5x256x1_S5x256x256_0_1_2 main_v966
  let main_c_149 : IVec S_ 32 := constantI S_ 32 50#32
  let main_v968 : IVec S5x256x256 32 := broadcastInDim S5x256x256 ![] bcast_S_S5x256x256 main_c_149
  let main_v969 : IVec S5x256x256 1 := cmpi .sgt main_v10 main_v968
  let main_c_150 : IVec S_ 32 := constantI S_ 32 50#32
  let main_v970 : IVec S5x256x256 32 := broadcastInDim S5x256x256 ![] bcast_S_S5x256x256 main_c_150
  let main_v971 : IVec S5x256x256 1 := cmpi .sgt main_v11 main_v970
  let main_v972 : IVec S5x256x256 1 := andi main_v969 main_v971
  let main_v973 : FVec F S5x256x256 .f32 := broadcastInDim S5x256x256 ![0, 1, 2] bcast_S5x1x256_S5x256x256_0_1_2 main_v962
  let main_v974 : FVec F S5x256x256 .f32 := mulf main_v967 main_v973
  let main_v975 : FVec F S5x256x256 .f32 := subf main_v961 main_v974
  fn_part47 (F := F) main_arg0 main_v3 main_v7 main_v8 main_v10 main_v11 main_v961 main_v967 main_v969 main_v972 main_v975

def fn_part45 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v923 : FVec F S5x256x256 .f32) (main_v924 : FVec F S5x1x256 .f32) (main_v929 : FVec F S5x256x256 .f32) (main_v931 : IVec S5x256x256 1) (main_v933 : IVec S5x256x256 1) : IVec S9x256x256 1 × IVec S8x256x256 1 :=
  let main_v934 : IVec S5x256x256 1 := andi main_v931 main_v933
  let main_v935 : FVec F S5x256x256 .f32 := broadcastInDim S5x256x256 ![0, 1, 2] bcast_S5x1x256_S5x256x256_0_1_2 main_v924
  let main_v936 : FVec F S5x256x256 .f32 := mulf main_v929 main_v935
  let main_v937 : FVec F S5x256x256 .f32 := subf main_v923 main_v936
  let main_v938 : FVec F S5x256x256 .f32 := select main_v934 main_v937 main_v923
  let main_c_145 : IVec S_ 32 := constantI S_ 32 48#32
  let main_v939 : IVec S5x256x256 32 := broadcastInDim S5x256x256 ![] bcast_S_S5x256x256 main_c_145
  let main_v940 : IVec S5x256x256 1 := cmpi .eq main_v11 main_v939
  let main_v941 : IVec S5x256x256 1 := andi main_v931 main_v940
  let main_v942 : FVec F S5x256x256 .f32 := select main_v941 main_v929 main_v938
  let main_v943 : FVec F S5x1x256 .f32 := (extractStridedSlice S5x1x256 ![0, 49, 0] · slices_S5x256x256_S5x1x256_0_49_0) main_v942
  let main_v944 : FVec F S5x256x1 .f32 := (extractStridedSlice S5x256x1 ![0, 0, 49] · slices_S5x256x256_S5x256x1_0_0_49) main_v942
  let main_v945 : FVec F S5x1x1 .f32 := (extractStridedSlice S5x1x1 ![0, 0, 49] · slices_S5x1x256_S5x1x1_0_0_49) main_v943
  let main_v946 : FVec F S5x256x1 .f32 := broadcastInDim S5x256x1 ![0, 1, 2] bcast_S5x1x1_S5x256x1_0_1_2 main_v945
  let main_v947 : FVec F S5x256x1 .f32 := Host.divf main_v944 main_v946
  let main_v948 : FVec F S5x256x256 .f32 := broadcastInDim S5x256x256 ![0, 1, 2] bcast_S5x256x1_S5x256x256_0_1_2 main_v947
  let main_c_146 : IVec S_ 32 := constantI S_ 32 49#32
  let main_v949 : IVec S5x256x256 32 := broadcastInDim S5x256x256 ![] bcast_S_S5x256x256 main_c_146
  let main_v950 : IVec S5x256x256 1 := cmpi .sgt main_v10 main_v949
  let main_c_147 : IVec S_ 32 := constantI S_ 32 49#32
  let main_v951 : IVec S5x256x256 32 := broadcastInDim S5x256x256 ![] bcast_S_S5x256x256 main_c_147
  let main_v952 : IVec S5x256x256 1 := cmpi .sgt main_v11 main_v951
  let main_v953 : IVec S5x256x256 1 := andi main_v950 main_v952
  let main_v954 : FVec F S5x256x256 .f32 := broadcastInDim S5x256x256 ![0, 1, 2] bcast_S5x1x256_S5x256x256_0_1_2 main_v943
  fn_part46 (F := F) main_arg0 main_v3 main_v7 main_v8 main_v10 main_v11 main_v942 main_v948 main_v950 main_v953 main_v954

def fn_part44 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v904 : FVec F S5x256x256 .f32) (main_v905 : FVec F S5x1x256 .f32) (main_v910 : FVec F S5x256x256 .f32) (main_v912 : IVec S5x256x256 1) (main_c_141 : IVec S_ 32) : IVec S9x256x256 1 × IVec S8x256x256 1 :=
  let main_v913 : IVec S5x256x256 32 := broadcastInDim S5x256x256 ![] bcast_S_S5x256x256 main_c_141
  let main_v914 : IVec S5x256x256 1 := cmpi .sgt main_v11 main_v913
  let main_v915 : IVec S5x256x256 1 := andi main_v912 main_v914
  let main_v916 : FVec F S5x256x256 .f32 := broadcastInDim S5x256x256 ![0, 1, 2] bcast_S5x1x256_S5x256x256_0_1_2 main_v905
  let main_v917 : FVec F S5x256x256 .f32 := mulf main_v910 main_v916
  let main_v918 : FVec F S5x256x256 .f32 := subf main_v904 main_v917
  let main_v919 : FVec F S5x256x256 .f32 := select main_v915 main_v918 main_v904
  let main_c_142 : IVec S_ 32 := constantI S_ 32 47#32
  let main_v920 : IVec S5x256x256 32 := broadcastInDim S5x256x256 ![] bcast_S_S5x256x256 main_c_142
  let main_v921 : IVec S5x256x256 1 := cmpi .eq main_v11 main_v920
  let main_v922 : IVec S5x256x256 1 := andi main_v912 main_v921
  let main_v923 : FVec F S5x256x256 .f32 := select main_v922 main_v910 main_v919
  let main_v924 : FVec F S5x1x256 .f32 := (extractStridedSlice S5x1x256 ![0, 48, 0] · slices_S5x256x256_S5x1x256_0_48_0) main_v923
  let main_v925 : FVec F S5x256x1 .f32 := (extractStridedSlice S5x256x1 ![0, 0, 48] · slices_S5x256x256_S5x256x1_0_0_48) main_v923
  let main_v926 : FVec F S5x1x1 .f32 := (extractStridedSlice S5x1x1 ![0, 0, 48] · slices_S5x1x256_S5x1x1_0_0_48) main_v924
  let main_v927 : FVec F S5x256x1 .f32 := broadcastInDim S5x256x1 ![0, 1, 2] bcast_S5x1x1_S5x256x1_0_1_2 main_v926
  let main_v928 : FVec F S5x256x1 .f32 := Host.divf main_v925 main_v927
  let main_v929 : FVec F S5x256x256 .f32 := broadcastInDim S5x256x256 ![0, 1, 2] bcast_S5x256x1_S5x256x256_0_1_2 main_v928
  let main_c_143 : IVec S_ 32 := constantI S_ 32 48#32
  let main_v930 : IVec S5x256x256 32 := broadcastInDim S5x256x256 ![] bcast_S_S5x256x256 main_c_143
  let main_v931 : IVec S5x256x256 1 := cmpi .sgt main_v10 main_v930
  let main_c_144 : IVec S_ 32 := constantI S_ 32 48#32
  let main_v932 : IVec S5x256x256 32 := broadcastInDim S5x256x256 ![] bcast_S_S5x256x256 main_c_144
  let main_v933 : IVec S5x256x256 1 := cmpi .sgt main_v11 main_v932
  fn_part45 (F := F) main_arg0 main_v3 main_v7 main_v8 main_v10 main_v11 main_v923 main_v924 main_v929 main_v931 main_v933

def fn_part43 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v885 : FVec F S5x256x256 .f32) (main_v886 : FVec F S5x1x256 .f32) (main_v891 : FVec F S5x256x256 .f32) (main_v892 : IVec S5x256x256 32) : IVec S9x256x256 1 × IVec S8x256x256 1 :=
  let main_v893 : IVec S5x256x256 1 := cmpi .sgt main_v10 main_v892
  let main_c_138 : IVec S_ 32 := constantI S_ 32 46#32
  let main_v894 : IVec S5x256x256 32 := broadcastInDim S5x256x256 ![] bcast_S_S5x256x256 main_c_138
  let main_v895 : IVec S5x256x256 1 := cmpi .sgt main_v11 main_v894
  let main_v896 : IVec S5x256x256 1 := andi main_v893 main_v895
  let main_v897 : FVec F S5x256x256 .f32 := broadcastInDim S5x256x256 ![0, 1, 2] bcast_S5x1x256_S5x256x256_0_1_2 main_v886
  let main_v898 : FVec F S5x256x256 .f32 := mulf main_v891 main_v897
  let main_v899 : FVec F S5x256x256 .f32 := subf main_v885 main_v898
  let main_v900 : FVec F S5x256x256 .f32 := select main_v896 main_v899 main_v885
  let main_c_139 : IVec S_ 32 := constantI S_ 32 46#32
  let main_v901 : IVec S5x256x256 32 := broadcastInDim S5x256x256 ![] bcast_S_S5x256x256 main_c_139
  let main_v902 : IVec S5x256x256 1 := cmpi .eq main_v11 main_v901
  let main_v903 : IVec S5x256x256 1 := andi main_v893 main_v902
  let main_v904 : FVec F S5x256x256 .f32 := select main_v903 main_v891 main_v900
  let main_v905 : FVec F S5x1x256 .f32 := (extractStridedSlice S5x1x256 ![0, 47, 0] · slices_S5x256x256_S5x1x256_0_47_0) main_v904
  let main_v906 : FVec F S5x256x1 .f32 := (extractStridedSlice S5x256x1 ![0, 0, 47] · slices_S5x256x256_S5x256x1_0_0_47) main_v904
  let main_v907 : FVec F S5x1x1 .f32 := (extractStridedSlice S5x1x1 ![0, 0, 47] · slices_S5x1x256_S5x1x1_0_0_47) main_v905
  let main_v908 : FVec F S5x256x1 .f32 := broadcastInDim S5x256x1 ![0, 1, 2] bcast_S5x1x1_S5x256x1_0_1_2 main_v907
  let main_v909 : FVec F S5x256x1 .f32 := Host.divf main_v906 main_v908
  let main_v910 : FVec F S5x256x256 .f32 := broadcastInDim S5x256x256 ![0, 1, 2] bcast_S5x256x1_S5x256x256_0_1_2 main_v909
  let main_c_140 : IVec S_ 32 := constantI S_ 32 47#32
  let main_v911 : IVec S5x256x256 32 := broadcastInDim S5x256x256 ![] bcast_S_S5x256x256 main_c_140
  let main_v912 : IVec S5x256x256 1 := cmpi .sgt main_v10 main_v911
  let main_c_141 : IVec S_ 32 := constantI S_ 32 47#32
  fn_part44 (F := F) main_arg0 main_v3 main_v7 main_v8 main_v10 main_v11 main_v904 main_v905 main_v910 main_v912 main_c_141

def fn_part42 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v866 : FVec F S5x256x256 .f32) (main_v867 : FVec F S5x1x256 .f32) (main_v872 : FVec F S5x256x256 .f32) : IVec S9x256x256 1 × IVec S8x256x256 1 :=
  let main_c_134 : IVec S_ 32 := constantI S_ 32 45#32
  let main_v873 : IVec S5x256x256 32 := broadcastInDim S5x256x256 ![] bcast_S_S5x256x256 main_c_134
  let main_v874 : IVec S5x256x256 1 := cmpi .sgt main_v10 main_v873
  let main_c_135 : IVec S_ 32 := constantI S_ 32 45#32
  let main_v875 : IVec S5x256x256 32 := broadcastInDim S5x256x256 ![] bcast_S_S5x256x256 main_c_135
  let main_v876 : IVec S5x256x256 1 := cmpi .sgt main_v11 main_v875
  let main_v877 : IVec S5x256x256 1 := andi main_v874 main_v876
  let main_v878 : FVec F S5x256x256 .f32 := broadcastInDim S5x256x256 ![0, 1, 2] bcast_S5x1x256_S5x256x256_0_1_2 main_v867
  let main_v879 : FVec F S5x256x256 .f32 := mulf main_v872 main_v878
  let main_v880 : FVec F S5x256x256 .f32 := subf main_v866 main_v879
  let main_v881 : FVec F S5x256x256 .f32 := select main_v877 main_v880 main_v866
  let main_c_136 : IVec S_ 32 := constantI S_ 32 45#32
  let main_v882 : IVec S5x256x256 32 := broadcastInDim S5x256x256 ![] bcast_S_S5x256x256 main_c_136
  let main_v883 : IVec S5x256x256 1 := cmpi .eq main_v11 main_v882
  let main_v884 : IVec S5x256x256 1 := andi main_v874 main_v883
  let main_v885 : FVec F S5x256x256 .f32 := select main_v884 main_v872 main_v881
  let main_v886 : FVec F S5x1x256 .f32 := (extractStridedSlice S5x1x256 ![0, 46, 0] · slices_S5x256x256_S5x1x256_0_46_0) main_v885
  let main_v887 : FVec F S5x256x1 .f32 := (extractStridedSlice S5x256x1 ![0, 0, 46] · slices_S5x256x256_S5x256x1_0_0_46) main_v885
  let main_v888 : FVec F S5x1x1 .f32 := (extractStridedSlice S5x1x1 ![0, 0, 46] · slices_S5x1x256_S5x1x1_0_0_46) main_v886
  let main_v889 : FVec F S5x256x1 .f32 := broadcastInDim S5x256x1 ![0, 1, 2] bcast_S5x1x1_S5x256x1_0_1_2 main_v888
  let main_v890 : FVec F S5x256x1 .f32 := Host.divf main_v887 main_v889
  let main_v891 : FVec F S5x256x256 .f32 := broadcastInDim S5x256x256 ![0, 1, 2] bcast_S5x256x1_S5x256x256_0_1_2 main_v890
  let main_c_137 : IVec S_ 32 := constantI S_ 32 46#32
  let main_v892 : IVec S5x256x256 32 := broadcastInDim S5x256x256 ![] bcast_S_S5x256x256 main_c_137
  fn_part43 (F := F) main_arg0 main_v3 main_v7 main_v8 main_v10 main_v11 main_v885 main_v886 main_v891 main_v892

def fn_part41 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v847 : FVec F S5x256x256 .f32) (main_v848 : FVec F S5x1x256 .f32) (main_v849 : FVec F S5x256x1 .f32) (main_v851 : FVec F S5x256x1 .f32) : IVec S9x256x256 1 × IVec S8x256x256 1 :=
  let main_v852 : FVec F S5x256x1 .f32 := Host.divf main_v849 main_v851
  let main_v853 : FVec F S5x256x256 .f32 := broadcastInDim S5x256x256 ![0, 1, 2] bcast_S5x256x1_S5x256x256_0_1_2 main_v852
  let main_c_131 : IVec S_ 32 := constantI S_ 32 44#32
  let main_v854 : IVec S5x256x256 32 := broadcastInDim S5x256x256 ![] bcast_S_S5x256x256 main_c_131
  let main_v855 : IVec S5x256x256 1 := cmpi .sgt main_v10 main_v854
  let main_c_132 : IVec S_ 32 := constantI S_ 32 44#32
  let main_v856 : IVec S5x256x256 32 := broadcastInDim S5x256x256 ![] bcast_S_S5x256x256 main_c_132
  let main_v857 : IVec S5x256x256 1 := cmpi .sgt main_v11 main_v856
  let main_v858 : IVec S5x256x256 1 := andi main_v855 main_v857
  let main_v859 : FVec F S5x256x256 .f32 := broadcastInDim S5x256x256 ![0, 1, 2] bcast_S5x1x256_S5x256x256_0_1_2 main_v848
  let main_v860 : FVec F S5x256x256 .f32 := mulf main_v853 main_v859
  let main_v861 : FVec F S5x256x256 .f32 := subf main_v847 main_v860
  let main_v862 : FVec F S5x256x256 .f32 := select main_v858 main_v861 main_v847
  let main_c_133 : IVec S_ 32 := constantI S_ 32 44#32
  let main_v863 : IVec S5x256x256 32 := broadcastInDim S5x256x256 ![] bcast_S_S5x256x256 main_c_133
  let main_v864 : IVec S5x256x256 1 := cmpi .eq main_v11 main_v863
  let main_v865 : IVec S5x256x256 1 := andi main_v855 main_v864
  let main_v866 : FVec F S5x256x256 .f32 := select main_v865 main_v853 main_v862
  let main_v867 : FVec F S5x1x256 .f32 := (extractStridedSlice S5x1x256 ![0, 45, 0] · slices_S5x256x256_S5x1x256_0_45_0) main_v866
  let main_v868 : FVec F S5x256x1 .f32 := (extractStridedSlice S5x256x1 ![0, 0, 45] · slices_S5x256x256_S5x256x1_0_0_45) main_v866
  let main_v869 : FVec F S5x1x1 .f32 := (extractStridedSlice S5x1x1 ![0, 0, 45] · slices_S5x1x256_S5x1x1_0_0_45) main_v867
  let main_v870 : FVec F S5x256x1 .f32 := broadcastInDim S5x256x1 ![0, 1, 2] bcast_S5x1x1_S5x256x1_0_1_2 main_v869
  let main_v871 : FVec F S5x256x1 .f32 := Host.divf main_v868 main_v870
  let main_v872 : FVec F S5x256x256 .f32 := broadcastInDim S5x256x256 ![0, 1, 2] bcast_S5x256x1_S5x256x256_0_1_2 main_v871
  fn_part42 (F := F) main_arg0 main_v3 main_v7 main_v8 main_v10 main_v11 main_v866 main_v867 main_v872

def fn_part40 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v828 : FVec F S5x256x256 .f32) (main_v829 : FVec F S5x1x256 .f32) (main_v830 : FVec F S5x256x1 .f32) : IVec S9x256x256 1 × IVec S8x256x256 1 :=
  let main_v831 : FVec F S5x1x1 .f32 := (extractStridedSlice S5x1x1 ![0, 0, 43] · slices_S5x1x256_S5x1x1_0_0_43) main_v829
  let main_v832 : FVec F S5x256x1 .f32 := broadcastInDim S5x256x1 ![0, 1, 2] bcast_S5x1x1_S5x256x1_0_1_2 main_v831
  let main_v833 : FVec F S5x256x1 .f32 := Host.divf main_v830 main_v832
  let main_v834 : FVec F S5x256x256 .f32 := broadcastInDim S5x256x256 ![0, 1, 2] bcast_S5x256x1_S5x256x256_0_1_2 main_v833
  let main_c_128 : IVec S_ 32 := constantI S_ 32 43#32
  let main_v835 : IVec S5x256x256 32 := broadcastInDim S5x256x256 ![] bcast_S_S5x256x256 main_c_128
  let main_v836 : IVec S5x256x256 1 := cmpi .sgt main_v10 main_v835
  let main_c_129 : IVec S_ 32 := constantI S_ 32 43#32
  let main_v837 : IVec S5x256x256 32 := broadcastInDim S5x256x256 ![] bcast_S_S5x256x256 main_c_129
  let main_v838 : IVec S5x256x256 1 := cmpi .sgt main_v11 main_v837
  let main_v839 : IVec S5x256x256 1 := andi main_v836 main_v838
  let main_v840 : FVec F S5x256x256 .f32 := broadcastInDim S5x256x256 ![0, 1, 2] bcast_S5x1x256_S5x256x256_0_1_2 main_v829
  let main_v841 : FVec F S5x256x256 .f32 := mulf main_v834 main_v840
  let main_v842 : FVec F S5x256x256 .f32 := subf main_v828 main_v841
  let main_v843 : FVec F S5x256x256 .f32 := select main_v839 main_v842 main_v828
  let main_c_130 : IVec S_ 32 := constantI S_ 32 43#32
  let main_v844 : IVec S5x256x256 32 := broadcastInDim S5x256x256 ![] bcast_S_S5x256x256 main_c_130
  let main_v845 : IVec S5x256x256 1 := cmpi .eq main_v11 main_v844
  let main_v846 : IVec S5x256x256 1 := andi main_v836 main_v845
  let main_v847 : FVec F S5x256x256 .f32 := select main_v846 main_v834 main_v843
  let main_v848 : FVec F S5x1x256 .f32 := (extractStridedSlice S5x1x256 ![0, 44, 0] · slices_S5x256x256_S5x1x256_0_44_0) main_v847
  let main_v849 : FVec F S5x256x1 .f32 := (extractStridedSlice S5x256x1 ![0, 0, 44] · slices_S5x256x256_S5x256x1_0_0_44) main_v847
  let main_v850 : FVec F S5x1x1 .f32 := (extractStridedSlice S5x1x1 ![0, 0, 44] · slices_S5x1x256_S5x1x1_0_0_44) main_v848
  let main_v851 : FVec F S5x256x1 .f32 := broadcastInDim S5x256x1 ![0, 1, 2] bcast_S5x1x1_S5x256x1_0_1_2 main_v850
  fn_part41 (F := F) main_arg0 main_v3 main_v7 main_v8 main_v10 main_v11 main_v847 main_v848 main_v849 main_v851

def fn_part39 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v809 : FVec F S5x256x256 .f32) : IVec S9x256x256 1 × IVec S8x256x256 1 :=
  let main_v810 : FVec F S5x1x256 .f32 := (extractStridedSlice S5x1x256 ![0, 42, 0] · slices_S5x256x256_S5x1x256_0_42_0) main_v809
  let main_v811 : FVec F S5x256x1 .f32 := (extractStridedSlice S5x256x1 ![0, 0, 42] · slices_S5x256x256_S5x256x1_0_0_42) main_v809
  let main_v812 : FVec F S5x1x1 .f32 := (extractStridedSlice S5x1x1 ![0, 0, 42] · slices_S5x1x256_S5x1x1_0_0_42) main_v810
  let main_v813 : FVec F S5x256x1 .f32 := broadcastInDim S5x256x1 ![0, 1, 2] bcast_S5x1x1_S5x256x1_0_1_2 main_v812
  let main_v814 : FVec F S5x256x1 .f32 := Host.divf main_v811 main_v813
  let main_v815 : FVec F S5x256x256 .f32 := broadcastInDim S5x256x256 ![0, 1, 2] bcast_S5x256x1_S5x256x256_0_1_2 main_v814
  let main_c_125 : IVec S_ 32 := constantI S_ 32 42#32
  let main_v816 : IVec S5x256x256 32 := broadcastInDim S5x256x256 ![] bcast_S_S5x256x256 main_c_125
  let main_v817 : IVec S5x256x256 1 := cmpi .sgt main_v10 main_v816
  let main_c_126 : IVec S_ 32 := constantI S_ 32 42#32
  let main_v818 : IVec S5x256x256 32 := broadcastInDim S5x256x256 ![] bcast_S_S5x256x256 main_c_126
  let main_v819 : IVec S5x256x256 1 := cmpi .sgt main_v11 main_v818
  let main_v820 : IVec S5x256x256 1 := andi main_v817 main_v819
  let main_v821 : FVec F S5x256x256 .f32 := broadcastInDim S5x256x256 ![0, 1, 2] bcast_S5x1x256_S5x256x256_0_1_2 main_v810
  let main_v822 : FVec F S5x256x256 .f32 := mulf main_v815 main_v821
  let main_v823 : FVec F S5x256x256 .f32 := subf main_v809 main_v822
  let main_v824 : FVec F S5x256x256 .f32 := select main_v820 main_v823 main_v809
  let main_c_127 : IVec S_ 32 := constantI S_ 32 42#32
  let main_v825 : IVec S5x256x256 32 := broadcastInDim S5x256x256 ![] bcast_S_S5x256x256 main_c_127
  let main_v826 : IVec S5x256x256 1 := cmpi .eq main_v11 main_v825
  let main_v827 : IVec S5x256x256 1 := andi main_v817 main_v826
  let main_v828 : FVec F S5x256x256 .f32 := select main_v827 main_v815 main_v824
  let main_v829 : FVec F S5x1x256 .f32 := (extractStridedSlice S5x1x256 ![0, 43, 0] · slices_S5x256x256_S5x1x256_0_43_0) main_v828
  let main_v830 : FVec F S5x256x1 .f32 := (extractStridedSlice S5x256x1 ![0, 0, 43] · slices_S5x256x256_S5x256x1_0_0_43) main_v828
  fn_part40 (F := F) main_arg0 main_v3 main_v7 main_v8 main_v10 main_v11 main_v828 main_v829 main_v830

def fn_part38 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v777 : FVec F S5x256x256 .f32) (main_v779 : IVec S5x256x256 1) (main_v786 : FVec F S5x256x256 .f32) (main_v788 : IVec S5x256x256 1) : IVec S9x256x256 1 × IVec S8x256x256 1 :=
  let main_v789 : IVec S5x256x256 1 := andi main_v779 main_v788
  let main_v790 : FVec F S5x256x256 .f32 := select main_v789 main_v777 main_v786
  let main_v791 : FVec F S5x1x256 .f32 := (extractStridedSlice S5x1x256 ![0, 41, 0] · slices_S5x256x256_S5x1x256_0_41_0) main_v790
  let main_v792 : FVec F S5x256x1 .f32 := (extractStridedSlice S5x256x1 ![0, 0, 41] · slices_S5x256x256_S5x256x1_0_0_41) main_v790
  let main_v793 : FVec F S5x1x1 .f32 := (extractStridedSlice S5x1x1 ![0, 0, 41] · slices_S5x1x256_S5x1x1_0_0_41) main_v791
  let main_v794 : FVec F S5x256x1 .f32 := broadcastInDim S5x256x1 ![0, 1, 2] bcast_S5x1x1_S5x256x1_0_1_2 main_v793
  let main_v795 : FVec F S5x256x1 .f32 := Host.divf main_v792 main_v794
  let main_v796 : FVec F S5x256x256 .f32 := broadcastInDim S5x256x256 ![0, 1, 2] bcast_S5x256x1_S5x256x256_0_1_2 main_v795
  let main_c_122 : IVec S_ 32 := constantI S_ 32 41#32
  let main_v797 : IVec S5x256x256 32 := broadcastInDim S5x256x256 ![] bcast_S_S5x256x256 main_c_122
  let main_v798 : IVec S5x256x256 1 := cmpi .sgt main_v10 main_v797
  let main_c_123 : IVec S_ 32 := constantI S_ 32 41#32
  let main_v799 : IVec S5x256x256 32 := broadcastInDim S5x256x256 ![] bcast_S_S5x256x256 main_c_123
  let main_v800 : IVec S5x256x256 1 := cmpi .sgt main_v11 main_v799
  let main_v801 : IVec S5x256x256 1 := andi main_v798 main_v800
  let main_v802 : FVec F S5x256x256 .f32 := broadcastInDim S5x256x256 ![0, 1, 2] bcast_S5x1x256_S5x256x256_0_1_2 main_v791
  let main_v803 : FVec F S5x256x256 .f32 := mulf main_v796 main_v802
  let main_v804 : FVec F S5x256x256 .f32 := subf main_v790 main_v803
  let main_v805 : FVec F S5x256x256 .f32 := select main_v801 main_v804 main_v790
  let main_c_124 : IVec S_ 32 := constantI S_ 32 41#32
  let main_v806 : IVec S5x256x256 32 := broadcastInDim S5x256x256 ![] bcast_S_S5x256x256 main_c_124
  let main_v807 : IVec S5x256x256 1 := cmpi .eq main_v11 main_v806
  let main_v808 : IVec S5x256x256 1 := andi main_v798 main_v807
  let main_v809 : FVec F S5x256x256 .f32 := select main_v808 main_v796 main_v805
  fn_part39 (F := F) main_arg0 main_v3 main_v7 main_v8 main_v10 main_v11 main_v809

def fn_part37 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v758 : FVec F S5x256x256 .f32) (main_v760 : IVec S5x256x256 1) (main_v767 : FVec F S5x256x256 .f32) (main_c_118 : IVec S_ 32) : IVec S9x256x256 1 × IVec S8x256x256 1 :=
  let main_v768 : IVec S5x256x256 32 := broadcastInDim S5x256x256 ![] bcast_S_S5x256x256 main_c_118
  let main_v769 : IVec S5x256x256 1 := cmpi .eq main_v11 main_v768
  let main_v770 : IVec S5x256x256 1 := andi main_v760 main_v769
  let main_v771 : FVec F S5x256x256 .f32 := select main_v770 main_v758 main_v767
  let main_v772 : FVec F S5x1x256 .f32 := (extractStridedSlice S5x1x256 ![0, 40, 0] · slices_S5x256x256_S5x1x256_0_40_0) main_v771
  let main_v773 : FVec F S5x256x1 .f32 := (extractStridedSlice S5x256x1 ![0, 0, 40] · slices_S5x256x256_S5x256x1_0_0_40) main_v771
  let main_v774 : FVec F S5x1x1 .f32 := (extractStridedSlice S5x1x1 ![0, 0, 40] · slices_S5x1x256_S5x1x1_0_0_40) main_v772
  let main_v775 : FVec F S5x256x1 .f32 := broadcastInDim S5x256x1 ![0, 1, 2] bcast_S5x1x1_S5x256x1_0_1_2 main_v774
  let main_v776 : FVec F S5x256x1 .f32 := Host.divf main_v773 main_v775
  let main_v777 : FVec F S5x256x256 .f32 := broadcastInDim S5x256x256 ![0, 1, 2] bcast_S5x256x1_S5x256x256_0_1_2 main_v776
  let main_c_119 : IVec S_ 32 := constantI S_ 32 40#32
  let main_v778 : IVec S5x256x256 32 := broadcastInDim S5x256x256 ![] bcast_S_S5x256x256 main_c_119
  let main_v779 : IVec S5x256x256 1 := cmpi .sgt main_v10 main_v778
  let main_c_120 : IVec S_ 32 := constantI S_ 32 40#32
  let main_v780 : IVec S5x256x256 32 := broadcastInDim S5x256x256 ![] bcast_S_S5x256x256 main_c_120
  let main_v781 : IVec S5x256x256 1 := cmpi .sgt main_v11 main_v780
  let main_v782 : IVec S5x256x256 1 := andi main_v779 main_v781
  let main_v783 : FVec F S5x256x256 .f32 := broadcastInDim S5x256x256 ![0, 1, 2] bcast_S5x1x256_S5x256x256_0_1_2 main_v772
  let main_v784 : FVec F S5x256x256 .f32 := mulf main_v777 main_v783
  let main_v785 : FVec F S5x256x256 .f32 := subf main_v771 main_v784
  let main_v786 : FVec F S5x256x256 .f32 := select main_v782 main_v785 main_v771
  let main_c_121 : IVec S_ 32 := constantI S_ 32 40#32
  let main_v787 : IVec S5x256x256 32 := broadcastInDim S5x256x256 ![] bcast_S_S5x256x256 main_c_121
  let main_v788 : IVec S5x256x256 1 := cmpi .eq main_v11 main_v787
  fn_part38 (F := F) main_arg0 main_v3 main_v7 main_v8 main_v10 main_v11 main_v777 main_v779 main_v786 main_v788

def fn_part36 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v733 : FVec F S5x256x256 .f32) (main_v739 : FVec F S5x256x256 .f32) (main_v741 : IVec S5x256x256 1) (main_v744 : IVec S5x256x256 1) (main_v747 : FVec F S5x256x256 .f32) : IVec S9x256x256 1 × IVec S8x256x256 1 :=
  let main_v748 : FVec F S5x256x256 .f32 := select main_v744 main_v747 main_v733
  let main_c_115 : IVec S_ 32 := constantI S_ 32 38#32
  let main_v749 : IVec S5x256x256 32 := broadcastInDim S5x256x256 ![] bcast_S_S5x256x256 main_c_115
  let main_v750 : IVec S5x256x256 1 := cmpi .eq main_v11 main_v749
  let main_v751 : IVec S5x256x256 1 := andi main_v741 main_v750
  let main_v752 : FVec F S5x256x256 .f32 := select main_v751 main_v739 main_v748
  let main_v753 : FVec F S5x1x256 .f32 := (extractStridedSlice S5x1x256 ![0, 39, 0] · slices_S5x256x256_S5x1x256_0_39_0) main_v752
  let main_v754 : FVec F S5x256x1 .f32 := (extractStridedSlice S5x256x1 ![0, 0, 39] · slices_S5x256x256_S5x256x1_0_0_39) main_v752
  let main_v755 : FVec F S5x1x1 .f32 := (extractStridedSlice S5x1x1 ![0, 0, 39] · slices_S5x1x256_S5x1x1_0_0_39) main_v753
  let main_v756 : FVec F S5x256x1 .f32 := broadcastInDim S5x256x1 ![0, 1, 2] bcast_S5x1x1_S5x256x1_0_1_2 main_v755
  let main_v757 : FVec F S5x256x1 .f32 := Host.divf main_v754 main_v756
  let main_v758 : FVec F S5x256x256 .f32 := broadcastInDim S5x256x256 ![0, 1, 2] bcast_S5x256x1_S5x256x256_0_1_2 main_v757
  let main_c_116 : IVec S_ 32 := constantI S_ 32 39#32
  let main_v759 : IVec S5x256x256 32 := broadcastInDim S5x256x256 ![] bcast_S_S5x256x256 main_c_116
  let main_v760 : IVec S5x256x256 1 := cmpi .sgt main_v10 main_v759
  let main_c_117 : IVec S_ 32 := constantI S_ 32 39#32
  let main_v761 : IVec S5x256x256 32 := broadcastInDim S5x256x256 ![] bcast_S_S5x256x256 main_c_117
  let main_v762 : IVec S5x256x256 1 := cmpi .sgt main_v11 main_v761
  let main_v763 : IVec S5x256x256 1 := andi main_v760 main_v762
  let main_v764 : FVec F S5x256x256 .f32 := broadcastInDim S5x256x256 ![0, 1, 2] bcast_S5x1x256_S5x256x256_0_1_2 main_v753
  let main_v765 : FVec F S5x256x256 .f32 := mulf main_v758 main_v764
  let main_v766 : FVec F S5x256x256 .f32 := subf main_v752 main_v765
  let main_v767 : FVec F S5x256x256 .f32 := select main_v763 main_v766 main_v752
  let main_c_118 : IVec S_ 32 := constantI S_ 32 39#32
  fn_part37 (F := F) main_arg0 main_v3 main_v7 main_v8 main_v10 main_v11 main_v758 main_v760 main_v767 main_c_118

def fn_part35 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v714 : FVec F S5x256x256 .f32) (main_v720 : FVec F S5x256x256 .f32) (main_v722 : IVec S5x256x256 1) (main_v725 : IVec S5x256x256 1) (main_v726 : FVec F S5x256x256 .f32) : IVec S9x256x256 1 × IVec S8x256x256 1 :=
  let main_v727 : FVec F S5x256x256 .f32 := mulf main_v720 main_v726
  let main_v728 : FVec F S5x256x256 .f32 := subf main_v714 main_v727
  let main_v729 : FVec F S5x256x256 .f32 := select main_v725 main_v728 main_v714
  let main_c_112 : IVec S_ 32 := constantI S_ 32 37#32
  let main_v730 : IVec S5x256x256 32 := broadcastInDim S5x256x256 ![] bcast_S_S5x256x256 main_c_112
  let main_v731 : IVec S5x256x256 1 := cmpi .eq main_v11 main_v730
  let main_v732 : IVec S5x256x256 1 := andi main_v722 main_v731
  let main_v733 : FVec F S5x256x256 .f32 := select main_v732 main_v720 main_v729
  let main_v734 : FVec F S5x1x256 .f32 := (extractStridedSlice S5x1x256 ![0, 38, 0] · slices_S5x256x256_S5x1x256_0_38_0) main_v733
  let main_v735 : FVec F S5x256x1 .f32 := (extractStridedSlice S5x256x1 ![0, 0, 38] · slices_S5x256x256_S5x256x1_0_0_38) main_v733
  let main_v736 : FVec F S5x1x1 .f32 := (extractStridedSlice S5x1x1 ![0, 0, 38] · slices_S5x1x256_S5x1x1_0_0_38) main_v734
  let main_v737 : FVec F S5x256x1 .f32 := broadcastInDim S5x256x1 ![0, 1, 2] bcast_S5x1x1_S5x256x1_0_1_2 main_v736
  let main_v738 : FVec F S5x256x1 .f32 := Host.divf main_v735 main_v737
  let main_v739 : FVec F S5x256x256 .f32 := broadcastInDim S5x256x256 ![0, 1, 2] bcast_S5x256x1_S5x256x256_0_1_2 main_v738
  let main_c_113 : IVec S_ 32 := constantI S_ 32 38#32
  let main_v740 : IVec S5x256x256 32 := broadcastInDim S5x256x256 ![] bcast_S_S5x256x256 main_c_113
  let main_v741 : IVec S5x256x256 1 := cmpi .sgt main_v10 main_v740
  let main_c_114 : IVec S_ 32 := constantI S_ 32 38#32
  let main_v742 : IVec S5x256x256 32 := broadcastInDim S5x256x256 ![] bcast_S_S5x256x256 main_c_114
  let main_v743 : IVec S5x256x256 1 := cmpi .sgt main_v11 main_v742
  let main_v744 : IVec S5x256x256 1 := andi main_v741 main_v743
  let main_v745 : FVec F S5x256x256 .f32 := broadcastInDim S5x256x256 ![0, 1, 2] bcast_S5x1x256_S5x256x256_0_1_2 main_v734
  let main_v746 : FVec F S5x256x256 .f32 := mulf main_v739 main_v745
  let main_v747 : FVec F S5x256x256 .f32 := subf main_v733 main_v746
  fn_part36 (F := F) main_arg0 main_v3 main_v7 main_v8 main_v10 main_v11 main_v733 main_v739 main_v741 main_v744 main_v747

def fn_part34 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v695 : FVec F S5x256x256 .f32) (main_v696 : FVec F S5x1x256 .f32) (main_v701 : FVec F S5x256x256 .f32) (main_v703 : IVec S5x256x256 1) (main_v705 : IVec S5x256x256 1) : IVec S9x256x256 1 × IVec S8x256x256 1 :=
  let main_v706 : IVec S5x256x256 1 := andi main_v703 main_v705
  let main_v707 : FVec F S5x256x256 .f32 := broadcastInDim S5x256x256 ![0, 1, 2] bcast_S5x1x256_S5x256x256_0_1_2 main_v696
  let main_v708 : FVec F S5x256x256 .f32 := mulf main_v701 main_v707
  let main_v709 : FVec F S5x256x256 .f32 := subf main_v695 main_v708
  let main_v710 : FVec F S5x256x256 .f32 := select main_v706 main_v709 main_v695
  let main_c_109 : IVec S_ 32 := constantI S_ 32 36#32
  let main_v711 : IVec S5x256x256 32 := broadcastInDim S5x256x256 ![] bcast_S_S5x256x256 main_c_109
  let main_v712 : IVec S5x256x256 1 := cmpi .eq main_v11 main_v711
  let main_v713 : IVec S5x256x256 1 := andi main_v703 main_v712
  let main_v714 : FVec F S5x256x256 .f32 := select main_v713 main_v701 main_v710
  let main_v715 : FVec F S5x1x256 .f32 := (extractStridedSlice S5x1x256 ![0, 37, 0] · slices_S5x256x256_S5x1x256_0_37_0) main_v714
  let main_v716 : FVec F S5x256x1 .f32 := (extractStridedSlice S5x256x1 ![0, 0, 37] · slices_S5x256x256_S5x256x1_0_0_37) main_v714
  let main_v717 : FVec F S5x1x1 .f32 := (extractStridedSlice S5x1x1 ![0, 0, 37] · slices_S5x1x256_S5x1x1_0_0_37) main_v715
  let main_v718 : FVec F S5x256x1 .f32 := broadcastInDim S5x256x1 ![0, 1, 2] bcast_S5x1x1_S5x256x1_0_1_2 main_v717
  let main_v719 : FVec F S5x256x1 .f32 := Host.divf main_v716 main_v718
  let main_v720 : FVec F S5x256x256 .f32 := broadcastInDim S5x256x256 ![0, 1, 2] bcast_S5x256x1_S5x256x256_0_1_2 main_v719
  let main_c_110 : IVec S_ 32 := constantI S_ 32 37#32
  let main_v721 : IVec S5x256x256 32 := broadcastInDim S5x256x256 ![] bcast_S_S5x256x256 main_c_110
  let main_v722 : IVec S5x256x256 1 := cmpi .sgt main_v10 main_v721
  let main_c_111 : IVec S_ 32 := constantI S_ 32 37#32
  let main_v723 : IVec S5x256x256 32 := broadcastInDim S5x256x256 ![] bcast_S_S5x256x256 main_c_111
  let main_v724 : IVec S5x256x256 1 := cmpi .sgt main_v11 main_v723
  let main_v725 : IVec S5x256x256 1 := andi main_v722 main_v724
  let main_v726 : FVec F S5x256x256 .f32 := broadcastInDim S5x256x256 ![0, 1, 2] bcast_S5x1x256_S5x256x256_0_1_2 main_v715
  fn_part35 (F := F) main_arg0 main_v3 main_v7 main_v8 main_v10 main_v11 main_v714 main_v720 main_v722 main_v725 main_v726

def fn_part33 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v676 : FVec F S5x256x256 .f32) (main_v677 : FVec F S5x1x256 .f32) (main_v682 : FVec F S5x256x256 .f32) (main_v684 : IVec S5x256x256 1) (main_c_105 : IVec S_ 32) : IVec S9x256x256 1 × IVec S8x256x256 1 :=
  let main_v685 : IVec S5x256x256 32 := broadcastInDim S5x256x256 ![] bcast_S_S5x256x256 main_c_105
  let main_v686 : IVec S5x256x256 1 := cmpi .sgt main_v11 main_v685
  let main_v687 : IVec S5x256x256 1 := andi main_v684 main_v686
  let main_v688 : FVec F S5x256x256 .f32 := broadcastInDim S5x256x256 ![0, 1, 2] bcast_S5x1x256_S5x256x256_0_1_2 main_v677
  let main_v689 : FVec F S5x256x256 .f32 := mulf main_v682 main_v688
  let main_v690 : FVec F S5x256x256 .f32 := subf main_v676 main_v689
  let main_v691 : FVec F S5x256x256 .f32 := select main_v687 main_v690 main_v676
  let main_c_106 : IVec S_ 32 := constantI S_ 32 35#32
  let main_v692 : IVec S5x256x256 32 := broadcastInDim S5x256x256 ![] bcast_S_S5x256x256 main_c_106
  let main_v693 : IVec S5x256x256 1 := cmpi .eq main_v11 main_v692
  let main_v694 : IVec S5x256x256 1 := andi main_v684 main_v693
  let main_v695 : FVec F S5x256x256 .f32 := select main_v694 main_v682 main_v691
  let main_v696 : FVec F S5x1x256 .f32 := (extractStridedSlice S5x1x256 ![0, 36, 0] · slices_S5x256x256_S5x1x256_0_36_0) main_v695
  let main_v697 : FVec F S5x256x1 .f32 := (extractStridedSlice S5x256x1 ![0, 0, 36] · slices_S5x256x256_S5x256x1_0_0_36) main_v695
  let main_v698 : FVec F S5x1x1 .f32 := (extractStridedSlice S5x1x1 ![0, 0, 36] · slices_S5x1x256_S5x1x1_0_0_36) main_v696
  let main_v699 : FVec F S5x256x1 .f32 := broadcastInDim S5x256x1 ![0, 1, 2] bcast_S5x1x1_S5x256x1_0_1_2 main_v698
  let main_v700 : FVec F S5x256x1 .f32 := Host.divf main_v697 main_v699
  let main_v701 : FVec F S5x256x256 .f32 := broadcastInDim S5x256x256 ![0, 1, 2] bcast_S5x256x1_S5x256x256_0_1_2 main_v700
  let main_c_107 : IVec S_ 32 := constantI S_ 32 36#32
  let main_v702 : IVec S5x256x256 32 := broadcastInDim S5x256x256 ![] bcast_S_S5x256x256 main_c_107
  let main_v703 : IVec S5x256x256 1 := cmpi .sgt main_v10 main_v702
  let main_c_108 : IVec S_ 32 := constantI S_ 32 36#32
  let main_v704 : IVec S5x256x256 32 := broadcastInDim S5x256x256 ![] bcast_S_S5x256x256 main_c_108
  let main_v705 : IVec S5x256x256 1 := cmpi .sgt main_v11 main_v704
  fn_part34 (F := F) main_arg0 main_v3 main_v7 main_v8 main_v10 main_v11 main_v695 main_v696 main_v701 main_v703 main_v705

def fn_part32 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v657 : FVec F S5x256x256 .f32) (main_v658 : FVec F S5x1x256 .f32) (main_v663 : FVec F S5x256x256 .f32) (main_v664 : IVec S5x256x256 32) : IVec S9x256x256 1 × IVec S8x256x256 1 :=
  let main_v665 : IVec S5x256x256 1 := cmpi .sgt main_v10 main_v664
  let main_c_102 : IVec S_ 32 := constantI S_ 32 34#32
  let main_v666 : IVec S5x256x256 32 := broadcastInDim S5x256x256 ![] bcast_S_S5x256x256 main_c_102
  let main_v667 : IVec S5x256x256 1 := cmpi .sgt main_v11 main_v666
  let main_v668 : IVec S5x256x256 1 := andi main_v665 main_v667
  let main_v669 : FVec F S5x256x256 .f32 := broadcastInDim S5x256x256 ![0, 1, 2] bcast_S5x1x256_S5x256x256_0_1_2 main_v658
  let main_v670 : FVec F S5x256x256 .f32 := mulf main_v663 main_v669
  let main_v671 : FVec F S5x256x256 .f32 := subf main_v657 main_v670
  let main_v672 : FVec F S5x256x256 .f32 := select main_v668 main_v671 main_v657
  let main_c_103 : IVec S_ 32 := constantI S_ 32 34#32
  let main_v673 : IVec S5x256x256 32 := broadcastInDim S5x256x256 ![] bcast_S_S5x256x256 main_c_103
  let main_v674 : IVec S5x256x256 1 := cmpi .eq main_v11 main_v673
  let main_v675 : IVec S5x256x256 1 := andi main_v665 main_v674
  let main_v676 : FVec F S5x256x256 .f32 := select main_v675 main_v663 main_v672
  let main_v677 : FVec F S5x1x256 .f32 := (extractStridedSlice S5x1x256 ![0, 35, 0] · slices_S5x256x256_S5x1x256_0_35_0) main_v676
  let main_v678 : FVec F S5x256x1 .f32 := (extractStridedSlice S5x256x1 ![0, 0, 35] · slices_S5x256x256_S5x256x1_0_0_35) main_v676
  let main_v679 : FVec F S5x1x1 .f32 := (extractStridedSlice S5x1x1 ![0, 0, 35] · slices_S5x1x256_S5x1x1_0_0_35) main_v677
  let main_v680 : FVec F S5x256x1 .f32 := broadcastInDim S5x256x1 ![0, 1, 2] bcast_S5x1x1_S5x256x1_0_1_2 main_v679
  let main_v681 : FVec F S5x256x1 .f32 := Host.divf main_v678 main_v680
  let main_v682 : FVec F S5x256x256 .f32 := broadcastInDim S5x256x256 ![0, 1, 2] bcast_S5x256x1_S5x256x256_0_1_2 main_v681
  let main_c_104 : IVec S_ 32 := constantI S_ 32 35#32
  let main_v683 : IVec S5x256x256 32 := broadcastInDim S5x256x256 ![] bcast_S_S5x256x256 main_c_104
  let main_v684 : IVec S5x256x256 1 := cmpi .sgt main_v10 main_v683
  let main_c_105 : IVec S_ 32 := constantI S_ 32 35#32
  fn_part33 (F := F) main_arg0 main_v3 main_v7 main_v8 main_v10 main_v11 main_v676 main_v677 main_v682 main_v684 main_c_105

def fn_part31 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v638 : FVec F S5x256x256 .f32) (main_v639 : FVec F S5x1x256 .f32) (main_v644 : FVec F S5x256x256 .f32) : IVec S9x256x256 1 × IVec S8x256x256 1 :=
  let main_c_98 : IVec S_ 32 := constantI S_ 32 33#32
  let main_v645 : IVec S5x256x256 32 := broadcastInDim S5x256x256 ![] bcast_S_S5x256x256 main_c_98
  let main_v646 : IVec S5x256x256 1 := cmpi .sgt main_v10 main_v645
  let main_c_99 : IVec S_ 32 := constantI S_ 32 33#32
  let main_v647 : IVec S5x256x256 32 := broadcastInDim S5x256x256 ![] bcast_S_S5x256x256 main_c_99
  let main_v648 : IVec S5x256x256 1 := cmpi .sgt main_v11 main_v647
  let main_v649 : IVec S5x256x256 1 := andi main_v646 main_v648
  let main_v650 : FVec F S5x256x256 .f32 := broadcastInDim S5x256x256 ![0, 1, 2] bcast_S5x1x256_S5x256x256_0_1_2 main_v639
  let main_v651 : FVec F S5x256x256 .f32 := mulf main_v644 main_v650
  let main_v652 : FVec F S5x256x256 .f32 := subf main_v638 main_v651
  let main_v653 : FVec F S5x256x256 .f32 := select main_v649 main_v652 main_v638
  let main_c_100 : IVec S_ 32 := constantI S_ 32 33#32
  let main_v654 : IVec S5x256x256 32 := broadcastInDim S5x256x256 ![] bcast_S_S5x256x256 main_c_100
  let main_v655 : IVec S5x256x256 1 := cmpi .eq main_v11 main_v654
  let main_v656 : IVec S5x256x256 1 := andi main_v646 main_v655
  let main_v657 : FVec F S5x256x256 .f32 := select main_v656 main_v644 main_v653
  let main_v658 : FVec F S5x1x256 .f32 := (extractStridedSlice S5x1x256 ![0, 34, 0] · slices_S5x256x256_S5x1x256_0_34_0) main_v657
  let main_v659 : FVec F S5x256x1 .f32 := (extractStridedSlice S5x256x1 ![0, 0, 34] · slices_S5x256x256_S5x256x1_0_0_34) main_v657
  let main_v660 : FVec F S5x1x1 .f32 := (extractStridedSlice S5x1x1 ![0, 0, 34] · slices_S5x1x256_S5x1x1_0_0_34) main_v658
  let main_v661 : FVec F S5x256x1 .f32 := broadcastInDim S5x256x1 ![0, 1, 2] bcast_S5x1x1_S5x256x1_0_1_2 main_v660
  let main_v662 : FVec F S5x256x1 .f32 := Host.divf main_v659 main_v661
  let main_v663 : FVec F S5x256x256 .f32 := broadcastInDim S5x256x256 ![0, 1, 2] bcast_S5x256x1_S5x256x256_0_1_2 main_v662
  let main_c_101 : IVec S_ 32 := constantI S_ 32 34#32
  let main_v664 : IVec S5x256x256 32 := broadcastInDim S5x256x256 ![] bcast_S_S5x256x256 main_c_101
  fn_part32 (F := F) main_arg0 main_v3 main_v7 main_v8 main_v10 main_v11 main_v657 main_v658 main_v663 main_v664

def fn_part30 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v619 : FVec F S5x256x256 .f32) (main_v620 : FVec F S5x1x256 .f32) (main_v621 : FVec F S5x256x1 .f32) (main_v623 : FVec F S5x256x1 .f32) : IVec S9x256x256 1 × IVec S8x256x256 1 :=
  let main_v624 : FVec F S5x256x1 .f32 := Host.divf main_v621 main_v623
  let main_v625 : FVec F S5x256x256 .f32 := broadcastInDim S5x256x256 ![0, 1, 2] bcast_S5x256x1_S5x256x256_0_1_2 main_v624
  let main_c_95 : IVec S_ 32 := constantI S_ 32 32#32
  let main_v626 : IVec S5x256x256 32 := broadcastInDim S5x256x256 ![] bcast_S_S5x256x256 main_c_95
  let main_v627 : IVec S5x256x256 1 := cmpi .sgt main_v10 main_v626
  let main_c_96 : IVec S_ 32 := constantI S_ 32 32#32
  let main_v628 : IVec S5x256x256 32 := broadcastInDim S5x256x256 ![] bcast_S_S5x256x256 main_c_96
  let main_v629 : IVec S5x256x256 1 := cmpi .sgt main_v11 main_v628
  let main_v630 : IVec S5x256x256 1 := andi main_v627 main_v629
  let main_v631 : FVec F S5x256x256 .f32 := broadcastInDim S5x256x256 ![0, 1, 2] bcast_S5x1x256_S5x256x256_0_1_2 main_v620
  let main_v632 : FVec F S5x256x256 .f32 := mulf main_v625 main_v631
  let main_v633 : FVec F S5x256x256 .f32 := subf main_v619 main_v632
  let main_v634 : FVec F S5x256x256 .f32 := select main_v630 main_v633 main_v619
  let main_c_97 : IVec S_ 32 := constantI S_ 32 32#32
  let main_v635 : IVec S5x256x256 32 := broadcastInDim S5x256x256 ![] bcast_S_S5x256x256 main_c_97
  let main_v636 : IVec S5x256x256 1 := cmpi .eq main_v11 main_v635
  let main_v637 : IVec S5x256x256 1 := andi main_v627 main_v636
  let main_v638 : FVec F S5x256x256 .f32 := select main_v637 main_v625 main_v634
  let main_v639 : FVec F S5x1x256 .f32 := (extractStridedSlice S5x1x256 ![0, 33, 0] · slices_S5x256x256_S5x1x256_0_33_0) main_v638
  let main_v640 : FVec F S5x256x1 .f32 := (extractStridedSlice S5x256x1 ![0, 0, 33] · slices_S5x256x256_S5x256x1_0_0_33) main_v638
  let main_v641 : FVec F S5x1x1 .f32 := (extractStridedSlice S5x1x1 ![0, 0, 33] · slices_S5x1x256_S5x1x1_0_0_33) main_v639
  let main_v642 : FVec F S5x256x1 .f32 := broadcastInDim S5x256x1 ![0, 1, 2] bcast_S5x1x1_S5x256x1_0_1_2 main_v641
  let main_v643 : FVec F S5x256x1 .f32 := Host.divf main_v640 main_v642
  let main_v644 : FVec F S5x256x256 .f32 := broadcastInDim S5x256x256 ![0, 1, 2] bcast_S5x256x1_S5x256x256_0_1_2 main_v643
  fn_part31 (F := F) main_arg0 main_v3 main_v7 main_v8 main_v10 main_v11 main_v638 main_v639 main_v644

def fn_part29 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v600 : FVec F S5x256x256 .f32) (main_v601 : FVec F S5x1x256 .f32) (main_v602 : FVec F S5x256x1 .f32) : IVec S9x256x256 1 × IVec S8x256x256 1 :=
  let main_v603 : FVec F S5x1x1 .f32 := (extractStridedSlice S5x1x1 ![0, 0, 31] · slices_S5x1x256_S5x1x1_0_0_31) main_v601
  let main_v604 : FVec F S5x256x1 .f32 := broadcastInDim S5x256x1 ![0, 1, 2] bcast_S5x1x1_S5x256x1_0_1_2 main_v603
  let main_v605 : FVec F S5x256x1 .f32 := Host.divf main_v602 main_v604
  let main_v606 : FVec F S5x256x256 .f32 := broadcastInDim S5x256x256 ![0, 1, 2] bcast_S5x256x1_S5x256x256_0_1_2 main_v605
  let main_c_92 : IVec S_ 32 := constantI S_ 32 31#32
  let main_v607 : IVec S5x256x256 32 := broadcastInDim S5x256x256 ![] bcast_S_S5x256x256 main_c_92
  let main_v608 : IVec S5x256x256 1 := cmpi .sgt main_v10 main_v607
  let main_c_93 : IVec S_ 32 := constantI S_ 32 31#32
  let main_v609 : IVec S5x256x256 32 := broadcastInDim S5x256x256 ![] bcast_S_S5x256x256 main_c_93
  let main_v610 : IVec S5x256x256 1 := cmpi .sgt main_v11 main_v609
  let main_v611 : IVec S5x256x256 1 := andi main_v608 main_v610
  let main_v612 : FVec F S5x256x256 .f32 := broadcastInDim S5x256x256 ![0, 1, 2] bcast_S5x1x256_S5x256x256_0_1_2 main_v601
  let main_v613 : FVec F S5x256x256 .f32 := mulf main_v606 main_v612
  let main_v614 : FVec F S5x256x256 .f32 := subf main_v600 main_v613
  let main_v615 : FVec F S5x256x256 .f32 := select main_v611 main_v614 main_v600
  let main_c_94 : IVec S_ 32 := constantI S_ 32 31#32
  let main_v616 : IVec S5x256x256 32 := broadcastInDim S5x256x256 ![] bcast_S_S5x256x256 main_c_94
  let main_v617 : IVec S5x256x256 1 := cmpi .eq main_v11 main_v616
  let main_v618 : IVec S5x256x256 1 := andi main_v608 main_v617
  let main_v619 : FVec F S5x256x256 .f32 := select main_v618 main_v606 main_v615
  let main_v620 : FVec F S5x1x256 .f32 := (extractStridedSlice S5x1x256 ![0, 32, 0] · slices_S5x256x256_S5x1x256_0_32_0) main_v619
  let main_v621 : FVec F S5x256x1 .f32 := (extractStridedSlice S5x256x1 ![0, 0, 32] · slices_S5x256x256_S5x256x1_0_0_32) main_v619
  let main_v622 : FVec F S5x1x1 .f32 := (extractStridedSlice S5x1x1 ![0, 0, 32] · slices_S5x1x256_S5x1x1_0_0_32) main_v620
  let main_v623 : FVec F S5x256x1 .f32 := broadcastInDim S5x256x1 ![0, 1, 2] bcast_S5x1x1_S5x256x1_0_1_2 main_v622
  fn_part30 (F := F) main_arg0 main_v3 main_v7 main_v8 main_v10 main_v11 main_v619 main_v620 main_v621 main_v623

def fn_part28 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v581 : FVec F S5x256x256 .f32) : IVec S9x256x256 1 × IVec S8x256x256 1 :=
  let main_v582 : FVec F S5x1x256 .f32 := (extractStridedSlice S5x1x256 ![0, 30, 0] · slices_S5x256x256_S5x1x256_0_30_0) main_v581
  let main_v583 : FVec F S5x256x1 .f32 := (extractStridedSlice S5x256x1 ![0, 0, 30] · slices_S5x256x256_S5x256x1_0_0_30) main_v581
  let main_v584 : FVec F S5x1x1 .f32 := (extractStridedSlice S5x1x1 ![0, 0, 30] · slices_S5x1x256_S5x1x1_0_0_30) main_v582
  let main_v585 : FVec F S5x256x1 .f32 := broadcastInDim S5x256x1 ![0, 1, 2] bcast_S5x1x1_S5x256x1_0_1_2 main_v584
  let main_v586 : FVec F S5x256x1 .f32 := Host.divf main_v583 main_v585
  let main_v587 : FVec F S5x256x256 .f32 := broadcastInDim S5x256x256 ![0, 1, 2] bcast_S5x256x1_S5x256x256_0_1_2 main_v586
  let main_c_89 : IVec S_ 32 := constantI S_ 32 30#32
  let main_v588 : IVec S5x256x256 32 := broadcastInDim S5x256x256 ![] bcast_S_S5x256x256 main_c_89
  let main_v589 : IVec S5x256x256 1 := cmpi .sgt main_v10 main_v588
  let main_c_90 : IVec S_ 32 := constantI S_ 32 30#32
  let main_v590 : IVec S5x256x256 32 := broadcastInDim S5x256x256 ![] bcast_S_S5x256x256 main_c_90
  let main_v591 : IVec S5x256x256 1 := cmpi .sgt main_v11 main_v590
  let main_v592 : IVec S5x256x256 1 := andi main_v589 main_v591
  let main_v593 : FVec F S5x256x256 .f32 := broadcastInDim S5x256x256 ![0, 1, 2] bcast_S5x1x256_S5x256x256_0_1_2 main_v582
  let main_v594 : FVec F S5x256x256 .f32 := mulf main_v587 main_v593
  let main_v595 : FVec F S5x256x256 .f32 := subf main_v581 main_v594
  let main_v596 : FVec F S5x256x256 .f32 := select main_v592 main_v595 main_v581
  let main_c_91 : IVec S_ 32 := constantI S_ 32 30#32
  let main_v597 : IVec S5x256x256 32 := broadcastInDim S5x256x256 ![] bcast_S_S5x256x256 main_c_91
  let main_v598 : IVec S5x256x256 1 := cmpi .eq main_v11 main_v597
  let main_v599 : IVec S5x256x256 1 := andi main_v589 main_v598
  let main_v600 : FVec F S5x256x256 .f32 := select main_v599 main_v587 main_v596
  let main_v601 : FVec F S5x1x256 .f32 := (extractStridedSlice S5x1x256 ![0, 31, 0] · slices_S5x256x256_S5x1x256_0_31_0) main_v600
  let main_v602 : FVec F S5x256x1 .f32 := (extractStridedSlice S5x256x1 ![0, 0, 31] · slices_S5x256x256_S5x256x1_0_0_31) main_v600
  fn_part29 (F := F) main_arg0 main_v3 main_v7 main_v8 main_v10 main_v11 main_v600 main_v601 main_v602

def fn_part27 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v549 : FVec F S5x256x256 .f32) (main_v551 : IVec S5x256x256 1) (main_v558 : FVec F S5x256x256 .f32) (main_v560 : IVec S5x256x256 1) : IVec S9x256x256 1 × IVec S8x256x256 1 :=
  let main_v561 : IVec S5x256x256 1 := andi main_v551 main_v560
  let main_v562 : FVec F S5x256x256 .f32 := select main_v561 main_v549 main_v558
  let main_v563 : FVec F S5x1x256 .f32 := (extractStridedSlice S5x1x256 ![0, 29, 0] · slices_S5x256x256_S5x1x256_0_29_0) main_v562
  let main_v564 : FVec F S5x256x1 .f32 := (extractStridedSlice S5x256x1 ![0, 0, 29] · slices_S5x256x256_S5x256x1_0_0_29) main_v562
  let main_v565 : FVec F S5x1x1 .f32 := (extractStridedSlice S5x1x1 ![0, 0, 29] · slices_S5x1x256_S5x1x1_0_0_29) main_v563
  let main_v566 : FVec F S5x256x1 .f32 := broadcastInDim S5x256x1 ![0, 1, 2] bcast_S5x1x1_S5x256x1_0_1_2 main_v565
  let main_v567 : FVec F S5x256x1 .f32 := Host.divf main_v564 main_v566
  let main_v568 : FVec F S5x256x256 .f32 := broadcastInDim S5x256x256 ![0, 1, 2] bcast_S5x256x1_S5x256x256_0_1_2 main_v567
  let main_c_86 : IVec S_ 32 := constantI S_ 32 29#32
  let main_v569 : IVec S5x256x256 32 := broadcastInDim S5x256x256 ![] bcast_S_S5x256x256 main_c_86
  let main_v570 : IVec S5x256x256 1 := cmpi .sgt main_v10 main_v569
  let main_c_87 : IVec S_ 32 := constantI S_ 32 29#32
  let main_v571 : IVec S5x256x256 32 := broadcastInDim S5x256x256 ![] bcast_S_S5x256x256 main_c_87
  let main_v572 : IVec S5x256x256 1 := cmpi .sgt main_v11 main_v571
  let main_v573 : IVec S5x256x256 1 := andi main_v570 main_v572
  let main_v574 : FVec F S5x256x256 .f32 := broadcastInDim S5x256x256 ![0, 1, 2] bcast_S5x1x256_S5x256x256_0_1_2 main_v563
  let main_v575 : FVec F S5x256x256 .f32 := mulf main_v568 main_v574
  let main_v576 : FVec F S5x256x256 .f32 := subf main_v562 main_v575
  let main_v577 : FVec F S5x256x256 .f32 := select main_v573 main_v576 main_v562
  let main_c_88 : IVec S_ 32 := constantI S_ 32 29#32
  let main_v578 : IVec S5x256x256 32 := broadcastInDim S5x256x256 ![] bcast_S_S5x256x256 main_c_88
  let main_v579 : IVec S5x256x256 1 := cmpi .eq main_v11 main_v578
  let main_v580 : IVec S5x256x256 1 := andi main_v570 main_v579
  let main_v581 : FVec F S5x256x256 .f32 := select main_v580 main_v568 main_v577
  fn_part28 (F := F) main_arg0 main_v3 main_v7 main_v8 main_v10 main_v11 main_v581

def fn_part26 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v530 : FVec F S5x256x256 .f32) (main_v532 : IVec S5x256x256 1) (main_v539 : FVec F S5x256x256 .f32) (main_c_82 : IVec S_ 32) : IVec S9x256x256 1 × IVec S8x256x256 1 :=
  let main_v540 : IVec S5x256x256 32 := broadcastInDim S5x256x256 ![] bcast_S_S5x256x256 main_c_82
  let main_v541 : IVec S5x256x256 1 := cmpi .eq main_v11 main_v540
  let main_v542 : IVec S5x256x256 1 := andi main_v532 main_v541
  let main_v543 : FVec F S5x256x256 .f32 := select main_v542 main_v530 main_v539
  let main_v544 : FVec F S5x1x256 .f32 := (extractStridedSlice S5x1x256 ![0, 28, 0] · slices_S5x256x256_S5x1x256_0_28_0) main_v543
  let main_v545 : FVec F S5x256x1 .f32 := (extractStridedSlice S5x256x1 ![0, 0, 28] · slices_S5x256x256_S5x256x1_0_0_28) main_v543
  let main_v546 : FVec F S5x1x1 .f32 := (extractStridedSlice S5x1x1 ![0, 0, 28] · slices_S5x1x256_S5x1x1_0_0_28) main_v544
  let main_v547 : FVec F S5x256x1 .f32 := broadcastInDim S5x256x1 ![0, 1, 2] bcast_S5x1x1_S5x256x1_0_1_2 main_v546
  let main_v548 : FVec F S5x256x1 .f32 := Host.divf main_v545 main_v547
  let main_v549 : FVec F S5x256x256 .f32 := broadcastInDim S5x256x256 ![0, 1, 2] bcast_S5x256x1_S5x256x256_0_1_2 main_v548
  let main_c_83 : IVec S_ 32 := constantI S_ 32 28#32
  let main_v550 : IVec S5x256x256 32 := broadcastInDim S5x256x256 ![] bcast_S_S5x256x256 main_c_83
  let main_v551 : IVec S5x256x256 1 := cmpi .sgt main_v10 main_v550
  let main_c_84 : IVec S_ 32 := constantI S_ 32 28#32
  let main_v552 : IVec S5x256x256 32 := broadcastInDim S5x256x256 ![] bcast_S_S5x256x256 main_c_84
  let main_v553 : IVec S5x256x256 1 := cmpi .sgt main_v11 main_v552
  let main_v554 : IVec S5x256x256 1 := andi main_v551 main_v553
  let main_v555 : FVec F S5x256x256 .f32 := broadcastInDim S5x256x256 ![0, 1, 2] bcast_S5x1x256_S5x256x256_0_1_2 main_v544
  let main_v556 : FVec F S5x256x256 .f32 := mulf main_v549 main_v555
  let main_v557 : FVec F S5x256x256 .f32 := subf main_v543 main_v556
  let main_v558 : FVec F S5x256x256 .f32 := select main_v554 main_v557 main_v543
  let main_c_85 : IVec S_ 32 := constantI S_ 32 28#32
  let main_v559 : IVec S5x256x256 32 := broadcastInDim S5x256x256 ![] bcast_S_S5x256x256 main_c_85
  let main_v560 : IVec S5x256x256 1 := cmpi .eq main_v11 main_v559
  fn_part27 (F := F) main_arg0 main_v3 main_v7 main_v8 main_v10 main_v11 main_v549 main_v551 main_v558 main_v560

def fn_part25 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v505 : FVec F S5x256x256 .f32) (main_v511 : FVec F S5x256x256 .f32) (main_v513 : IVec S5x256x256 1) (main_v516 : IVec S5x256x256 1) (main_v519 : FVec F S5x256x256 .f32) : IVec S9x256x256 1 × IVec S8x256x256 1 :=
  let main_v520 : FVec F S5x256x256 .f32 := select main_v516 main_v519 main_v505
  let main_c_79 : IVec S_ 32 := constantI S_ 32 26#32
  let main_v521 : IVec S5x256x256 32 := broadcastInDim S5x256x256 ![] bcast_S_S5x256x256 main_c_79
  let main_v522 : IVec S5x256x256 1 := cmpi .eq main_v11 main_v521
  let main_v523 : IVec S5x256x256 1 := andi main_v513 main_v522
  let main_v524 : FVec F S5x256x256 .f32 := select main_v523 main_v511 main_v520
  let main_v525 : FVec F S5x1x256 .f32 := (extractStridedSlice S5x1x256 ![0, 27, 0] · slices_S5x256x256_S5x1x256_0_27_0) main_v524
  let main_v526 : FVec F S5x256x1 .f32 := (extractStridedSlice S5x256x1 ![0, 0, 27] · slices_S5x256x256_S5x256x1_0_0_27) main_v524
  let main_v527 : FVec F S5x1x1 .f32 := (extractStridedSlice S5x1x1 ![0, 0, 27] · slices_S5x1x256_S5x1x1_0_0_27) main_v525
  let main_v528 : FVec F S5x256x1 .f32 := broadcastInDim S5x256x1 ![0, 1, 2] bcast_S5x1x1_S5x256x1_0_1_2 main_v527
  let main_v529 : FVec F S5x256x1 .f32 := Host.divf main_v526 main_v528
  let main_v530 : FVec F S5x256x256 .f32 := broadcastInDim S5x256x256 ![0, 1, 2] bcast_S5x256x1_S5x256x256_0_1_2 main_v529
  let main_c_80 : IVec S_ 32 := constantI S_ 32 27#32
  let main_v531 : IVec S5x256x256 32 := broadcastInDim S5x256x256 ![] bcast_S_S5x256x256 main_c_80
  let main_v532 : IVec S5x256x256 1 := cmpi .sgt main_v10 main_v531
  let main_c_81 : IVec S_ 32 := constantI S_ 32 27#32
  let main_v533 : IVec S5x256x256 32 := broadcastInDim S5x256x256 ![] bcast_S_S5x256x256 main_c_81
  let main_v534 : IVec S5x256x256 1 := cmpi .sgt main_v11 main_v533
  let main_v535 : IVec S5x256x256 1 := andi main_v532 main_v534
  let main_v536 : FVec F S5x256x256 .f32 := broadcastInDim S5x256x256 ![0, 1, 2] bcast_S5x1x256_S5x256x256_0_1_2 main_v525
  let main_v537 : FVec F S5x256x256 .f32 := mulf main_v530 main_v536
  let main_v538 : FVec F S5x256x256 .f32 := subf main_v524 main_v537
  let main_v539 : FVec F S5x256x256 .f32 := select main_v535 main_v538 main_v524
  let main_c_82 : IVec S_ 32 := constantI S_ 32 27#32
  fn_part26 (F := F) main_arg0 main_v3 main_v7 main_v8 main_v10 main_v11 main_v530 main_v532 main_v539 main_c_82

def fn_part24 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v486 : FVec F S5x256x256 .f32) (main_v492 : FVec F S5x256x256 .f32) (main_v494 : IVec S5x256x256 1) (main_v497 : IVec S5x256x256 1) (main_v498 : FVec F S5x256x256 .f32) : IVec S9x256x256 1 × IVec S8x256x256 1 :=
  let main_v499 : FVec F S5x256x256 .f32 := mulf main_v492 main_v498
  let main_v500 : FVec F S5x256x256 .f32 := subf main_v486 main_v499
  let main_v501 : FVec F S5x256x256 .f32 := select main_v497 main_v500 main_v486
  let main_c_76 : IVec S_ 32 := constantI S_ 32 25#32
  let main_v502 : IVec S5x256x256 32 := broadcastInDim S5x256x256 ![] bcast_S_S5x256x256 main_c_76
  let main_v503 : IVec S5x256x256 1 := cmpi .eq main_v11 main_v502
  let main_v504 : IVec S5x256x256 1 := andi main_v494 main_v503
  let main_v505 : FVec F S5x256x256 .f32 := select main_v504 main_v492 main_v501
  let main_v506 : FVec F S5x1x256 .f32 := (extractStridedSlice S5x1x256 ![0, 26, 0] · slices_S5x256x256_S5x1x256_0_26_0) main_v505
  let main_v507 : FVec F S5x256x1 .f32 := (extractStridedSlice S5x256x1 ![0, 0, 26] · slices_S5x256x256_S5x256x1_0_0_26) main_v505
  let main_v508 : FVec F S5x1x1 .f32 := (extractStridedSlice S5x1x1 ![0, 0, 26] · slices_S5x1x256_S5x1x1_0_0_26) main_v506
  let main_v509 : FVec F S5x256x1 .f32 := broadcastInDim S5x256x1 ![0, 1, 2] bcast_S5x1x1_S5x256x1_0_1_2 main_v508
  let main_v510 : FVec F S5x256x1 .f32 := Host.divf main_v507 main_v509
  let main_v511 : FVec F S5x256x256 .f32 := broadcastInDim S5x256x256 ![0, 1, 2] bcast_S5x256x1_S5x256x256_0_1_2 main_v510
  let main_c_77 : IVec S_ 32 := constantI S_ 32 26#32
  let main_v512 : IVec S5x256x256 32 := broadcastInDim S5x256x256 ![] bcast_S_S5x256x256 main_c_77
  let main_v513 : IVec S5x256x256 1 := cmpi .sgt main_v10 main_v512
  let main_c_78 : IVec S_ 32 := constantI S_ 32 26#32
  let main_v514 : IVec S5x256x256 32 := broadcastInDim S5x256x256 ![] bcast_S_S5x256x256 main_c_78
  let main_v515 : IVec S5x256x256 1 := cmpi .sgt main_v11 main_v514
  let main_v516 : IVec S5x256x256 1 := andi main_v513 main_v515
  let main_v517 : FVec F S5x256x256 .f32 := broadcastInDim S5x256x256 ![0, 1, 2] bcast_S5x1x256_S5x256x256_0_1_2 main_v506
  let main_v518 : FVec F S5x256x256 .f32 := mulf main_v511 main_v517
  let main_v519 : FVec F S5x256x256 .f32 := subf main_v505 main_v518
  fn_part25 (F := F) main_arg0 main_v3 main_v7 main_v8 main_v10 main_v11 main_v505 main_v511 main_v513 main_v516 main_v519

def fn_part23 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v467 : FVec F S5x256x256 .f32) (main_v468 : FVec F S5x1x256 .f32) (main_v473 : FVec F S5x256x256 .f32) (main_v475 : IVec S5x256x256 1) (main_v477 : IVec S5x256x256 1) : IVec S9x256x256 1 × IVec S8x256x256 1 :=
  let main_v478 : IVec S5x256x256 1 := andi main_v475 main_v477
  let main_v479 : FVec F S5x256x256 .f32 := broadcastInDim S5x256x256 ![0, 1, 2] bcast_S5x1x256_S5x256x256_0_1_2 main_v468
  let main_v480 : FVec F S5x256x256 .f32 := mulf main_v473 main_v479
  let main_v481 : FVec F S5x256x256 .f32 := subf main_v467 main_v480
  let main_v482 : FVec F S5x256x256 .f32 := select main_v478 main_v481 main_v467
  let main_c_73 : IVec S_ 32 := constantI S_ 32 24#32
  let main_v483 : IVec S5x256x256 32 := broadcastInDim S5x256x256 ![] bcast_S_S5x256x256 main_c_73
  let main_v484 : IVec S5x256x256 1 := cmpi .eq main_v11 main_v483
  let main_v485 : IVec S5x256x256 1 := andi main_v475 main_v484
  let main_v486 : FVec F S5x256x256 .f32 := select main_v485 main_v473 main_v482
  let main_v487 : FVec F S5x1x256 .f32 := (extractStridedSlice S5x1x256 ![0, 25, 0] · slices_S5x256x256_S5x1x256_0_25_0) main_v486
  let main_v488 : FVec F S5x256x1 .f32 := (extractStridedSlice S5x256x1 ![0, 0, 25] · slices_S5x256x256_S5x256x1_0_0_25) main_v486
  let main_v489 : FVec F S5x1x1 .f32 := (extractStridedSlice S5x1x1 ![0, 0, 25] · slices_S5x1x256_S5x1x1_0_0_25) main_v487
  let main_v490 : FVec F S5x256x1 .f32 := broadcastInDim S5x256x1 ![0, 1, 2] bcast_S5x1x1_S5x256x1_0_1_2 main_v489
  let main_v491 : FVec F S5x256x1 .f32 := Host.divf main_v488 main_v490
  let main_v492 : FVec F S5x256x256 .f32 := broadcastInDim S5x256x256 ![0, 1, 2] bcast_S5x256x1_S5x256x256_0_1_2 main_v491
  let main_c_74 : IVec S_ 32 := constantI S_ 32 25#32
  let main_v493 : IVec S5x256x256 32 := broadcastInDim S5x256x256 ![] bcast_S_S5x256x256 main_c_74
  let main_v494 : IVec S5x256x256 1 := cmpi .sgt main_v10 main_v493
  let main_c_75 : IVec S_ 32 := constantI S_ 32 25#32
  let main_v495 : IVec S5x256x256 32 := broadcastInDim S5x256x256 ![] bcast_S_S5x256x256 main_c_75
  let main_v496 : IVec S5x256x256 1 := cmpi .sgt main_v11 main_v495
  let main_v497 : IVec S5x256x256 1 := andi main_v494 main_v496
  let main_v498 : FVec F S5x256x256 .f32 := broadcastInDim S5x256x256 ![0, 1, 2] bcast_S5x1x256_S5x256x256_0_1_2 main_v487
  fn_part24 (F := F) main_arg0 main_v3 main_v7 main_v8 main_v10 main_v11 main_v486 main_v492 main_v494 main_v497 main_v498

def fn_part22 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v448 : FVec F S5x256x256 .f32) (main_v449 : FVec F S5x1x256 .f32) (main_v454 : FVec F S5x256x256 .f32) (main_v456 : IVec S5x256x256 1) (main_c_69 : IVec S_ 32) : IVec S9x256x256 1 × IVec S8x256x256 1 :=
  let main_v457 : IVec S5x256x256 32 := broadcastInDim S5x256x256 ![] bcast_S_S5x256x256 main_c_69
  let main_v458 : IVec S5x256x256 1 := cmpi .sgt main_v11 main_v457
  let main_v459 : IVec S5x256x256 1 := andi main_v456 main_v458
  let main_v460 : FVec F S5x256x256 .f32 := broadcastInDim S5x256x256 ![0, 1, 2] bcast_S5x1x256_S5x256x256_0_1_2 main_v449
  let main_v461 : FVec F S5x256x256 .f32 := mulf main_v454 main_v460
  let main_v462 : FVec F S5x256x256 .f32 := subf main_v448 main_v461
  let main_v463 : FVec F S5x256x256 .f32 := select main_v459 main_v462 main_v448
  let main_c_70 : IVec S_ 32 := constantI S_ 32 23#32
  let main_v464 : IVec S5x256x256 32 := broadcastInDim S5x256x256 ![] bcast_S_S5x256x256 main_c_70
  let main_v465 : IVec S5x256x256 1 := cmpi .eq main_v11 main_v464
  let main_v466 : IVec S5x256x256 1 := andi main_v456 main_v465
  let main_v467 : FVec F S5x256x256 .f32 := select main_v466 main_v454 main_v463
  let main_v468 : FVec F S5x1x256 .f32 := (extractStridedSlice S5x1x256 ![0, 24, 0] · slices_S5x256x256_S5x1x256_0_24_0) main_v467
  let main_v469 : FVec F S5x256x1 .f32 := (extractStridedSlice S5x256x1 ![0, 0, 24] · slices_S5x256x256_S5x256x1_0_0_24) main_v467
  let main_v470 : FVec F S5x1x1 .f32 := (extractStridedSlice S5x1x1 ![0, 0, 24] · slices_S5x1x256_S5x1x1_0_0_24) main_v468
  let main_v471 : FVec F S5x256x1 .f32 := broadcastInDim S5x256x1 ![0, 1, 2] bcast_S5x1x1_S5x256x1_0_1_2 main_v470
  let main_v472 : FVec F S5x256x1 .f32 := Host.divf main_v469 main_v471
  let main_v473 : FVec F S5x256x256 .f32 := broadcastInDim S5x256x256 ![0, 1, 2] bcast_S5x256x1_S5x256x256_0_1_2 main_v472
  let main_c_71 : IVec S_ 32 := constantI S_ 32 24#32
  let main_v474 : IVec S5x256x256 32 := broadcastInDim S5x256x256 ![] bcast_S_S5x256x256 main_c_71
  let main_v475 : IVec S5x256x256 1 := cmpi .sgt main_v10 main_v474
  let main_c_72 : IVec S_ 32 := constantI S_ 32 24#32
  let main_v476 : IVec S5x256x256 32 := broadcastInDim S5x256x256 ![] bcast_S_S5x256x256 main_c_72
  let main_v477 : IVec S5x256x256 1 := cmpi .sgt main_v11 main_v476
  fn_part23 (F := F) main_arg0 main_v3 main_v7 main_v8 main_v10 main_v11 main_v467 main_v468 main_v473 main_v475 main_v477

def fn_part21 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v429 : FVec F S5x256x256 .f32) (main_v430 : FVec F S5x1x256 .f32) (main_v435 : FVec F S5x256x256 .f32) (main_v436 : IVec S5x256x256 32) : IVec S9x256x256 1 × IVec S8x256x256 1 :=
  let main_v437 : IVec S5x256x256 1 := cmpi .sgt main_v10 main_v436
  let main_c_66 : IVec S_ 32 := constantI S_ 32 22#32
  let main_v438 : IVec S5x256x256 32 := broadcastInDim S5x256x256 ![] bcast_S_S5x256x256 main_c_66
  let main_v439 : IVec S5x256x256 1 := cmpi .sgt main_v11 main_v438
  let main_v440 : IVec S5x256x256 1 := andi main_v437 main_v439
  let main_v441 : FVec F S5x256x256 .f32 := broadcastInDim S5x256x256 ![0, 1, 2] bcast_S5x1x256_S5x256x256_0_1_2 main_v430
  let main_v442 : FVec F S5x256x256 .f32 := mulf main_v435 main_v441
  let main_v443 : FVec F S5x256x256 .f32 := subf main_v429 main_v442
  let main_v444 : FVec F S5x256x256 .f32 := select main_v440 main_v443 main_v429
  let main_c_67 : IVec S_ 32 := constantI S_ 32 22#32
  let main_v445 : IVec S5x256x256 32 := broadcastInDim S5x256x256 ![] bcast_S_S5x256x256 main_c_67
  let main_v446 : IVec S5x256x256 1 := cmpi .eq main_v11 main_v445
  let main_v447 : IVec S5x256x256 1 := andi main_v437 main_v446
  let main_v448 : FVec F S5x256x256 .f32 := select main_v447 main_v435 main_v444
  let main_v449 : FVec F S5x1x256 .f32 := (extractStridedSlice S5x1x256 ![0, 23, 0] · slices_S5x256x256_S5x1x256_0_23_0) main_v448
  let main_v450 : FVec F S5x256x1 .f32 := (extractStridedSlice S5x256x1 ![0, 0, 23] · slices_S5x256x256_S5x256x1_0_0_23) main_v448
  let main_v451 : FVec F S5x1x1 .f32 := (extractStridedSlice S5x1x1 ![0, 0, 23] · slices_S5x1x256_S5x1x1_0_0_23) main_v449
  let main_v452 : FVec F S5x256x1 .f32 := broadcastInDim S5x256x1 ![0, 1, 2] bcast_S5x1x1_S5x256x1_0_1_2 main_v451
  let main_v453 : FVec F S5x256x1 .f32 := Host.divf main_v450 main_v452
  let main_v454 : FVec F S5x256x256 .f32 := broadcastInDim S5x256x256 ![0, 1, 2] bcast_S5x256x1_S5x256x256_0_1_2 main_v453
  let main_c_68 : IVec S_ 32 := constantI S_ 32 23#32
  let main_v455 : IVec S5x256x256 32 := broadcastInDim S5x256x256 ![] bcast_S_S5x256x256 main_c_68
  let main_v456 : IVec S5x256x256 1 := cmpi .sgt main_v10 main_v455
  let main_c_69 : IVec S_ 32 := constantI S_ 32 23#32
  fn_part22 (F := F) main_arg0 main_v3 main_v7 main_v8 main_v10 main_v11 main_v448 main_v449 main_v454 main_v456 main_c_69

def fn_part20 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v410 : FVec F S5x256x256 .f32) (main_v411 : FVec F S5x1x256 .f32) (main_v416 : FVec F S5x256x256 .f32) : IVec S9x256x256 1 × IVec S8x256x256 1 :=
  let main_c_62 : IVec S_ 32 := constantI S_ 32 21#32
  let main_v417 : IVec S5x256x256 32 := broadcastInDim S5x256x256 ![] bcast_S_S5x256x256 main_c_62
  let main_v418 : IVec S5x256x256 1 := cmpi .sgt main_v10 main_v417
  let main_c_63 : IVec S_ 32 := constantI S_ 32 21#32
  let main_v419 : IVec S5x256x256 32 := broadcastInDim S5x256x256 ![] bcast_S_S5x256x256 main_c_63
  let main_v420 : IVec S5x256x256 1 := cmpi .sgt main_v11 main_v419
  let main_v421 : IVec S5x256x256 1 := andi main_v418 main_v420
  let main_v422 : FVec F S5x256x256 .f32 := broadcastInDim S5x256x256 ![0, 1, 2] bcast_S5x1x256_S5x256x256_0_1_2 main_v411
  let main_v423 : FVec F S5x256x256 .f32 := mulf main_v416 main_v422
  let main_v424 : FVec F S5x256x256 .f32 := subf main_v410 main_v423
  let main_v425 : FVec F S5x256x256 .f32 := select main_v421 main_v424 main_v410
  let main_c_64 : IVec S_ 32 := constantI S_ 32 21#32
  let main_v426 : IVec S5x256x256 32 := broadcastInDim S5x256x256 ![] bcast_S_S5x256x256 main_c_64
  let main_v427 : IVec S5x256x256 1 := cmpi .eq main_v11 main_v426
  let main_v428 : IVec S5x256x256 1 := andi main_v418 main_v427
  let main_v429 : FVec F S5x256x256 .f32 := select main_v428 main_v416 main_v425
  let main_v430 : FVec F S5x1x256 .f32 := (extractStridedSlice S5x1x256 ![0, 22, 0] · slices_S5x256x256_S5x1x256_0_22_0) main_v429
  let main_v431 : FVec F S5x256x1 .f32 := (extractStridedSlice S5x256x1 ![0, 0, 22] · slices_S5x256x256_S5x256x1_0_0_22) main_v429
  let main_v432 : FVec F S5x1x1 .f32 := (extractStridedSlice S5x1x1 ![0, 0, 22] · slices_S5x1x256_S5x1x1_0_0_22) main_v430
  let main_v433 : FVec F S5x256x1 .f32 := broadcastInDim S5x256x1 ![0, 1, 2] bcast_S5x1x1_S5x256x1_0_1_2 main_v432
  let main_v434 : FVec F S5x256x1 .f32 := Host.divf main_v431 main_v433
  let main_v435 : FVec F S5x256x256 .f32 := broadcastInDim S5x256x256 ![0, 1, 2] bcast_S5x256x1_S5x256x256_0_1_2 main_v434
  let main_c_65 : IVec S_ 32 := constantI S_ 32 22#32
  let main_v436 : IVec S5x256x256 32 := broadcastInDim S5x256x256 ![] bcast_S_S5x256x256 main_c_65
  fn_part21 (F := F) main_arg0 main_v3 main_v7 main_v8 main_v10 main_v11 main_v429 main_v430 main_v435 main_v436

def fn_part19 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v391 : FVec F S5x256x256 .f32) (main_v392 : FVec F S5x1x256 .f32) (main_v393 : FVec F S5x256x1 .f32) (main_v395 : FVec F S5x256x1 .f32) : IVec S9x256x256 1 × IVec S8x256x256 1 :=
  let main_v396 : FVec F S5x256x1 .f32 := Host.divf main_v393 main_v395
  let main_v397 : FVec F S5x256x256 .f32 := broadcastInDim S5x256x256 ![0, 1, 2] bcast_S5x256x1_S5x256x256_0_1_2 main_v396
  let main_c_59 : IVec S_ 32 := constantI S_ 32 20#32
  let main_v398 : IVec S5x256x256 32 := broadcastInDim S5x256x256 ![] bcast_S_S5x256x256 main_c_59
  let main_v399 : IVec S5x256x256 1 := cmpi .sgt main_v10 main_v398
  let main_c_60 : IVec S_ 32 := constantI S_ 32 20#32
  let main_v400 : IVec S5x256x256 32 := broadcastInDim S5x256x256 ![] bcast_S_S5x256x256 main_c_60
  let main_v401 : IVec S5x256x256 1 := cmpi .sgt main_v11 main_v400
  let main_v402 : IVec S5x256x256 1 := andi main_v399 main_v401
  let main_v403 : FVec F S5x256x256 .f32 := broadcastInDim S5x256x256 ![0, 1, 2] bcast_S5x1x256_S5x256x256_0_1_2 main_v392
  let main_v404 : FVec F S5x256x256 .f32 := mulf main_v397 main_v403
  let main_v405 : FVec F S5x256x256 .f32 := subf main_v391 main_v404
  let main_v406 : FVec F S5x256x256 .f32 := select main_v402 main_v405 main_v391
  let main_c_61 : IVec S_ 32 := constantI S_ 32 20#32
  let main_v407 : IVec S5x256x256 32 := broadcastInDim S5x256x256 ![] bcast_S_S5x256x256 main_c_61
  let main_v408 : IVec S5x256x256 1 := cmpi .eq main_v11 main_v407
  let main_v409 : IVec S5x256x256 1 := andi main_v399 main_v408
  let main_v410 : FVec F S5x256x256 .f32 := select main_v409 main_v397 main_v406
  let main_v411 : FVec F S5x1x256 .f32 := (extractStridedSlice S5x1x256 ![0, 21, 0] · slices_S5x256x256_S5x1x256_0_21_0) main_v410
  let main_v412 : FVec F S5x256x1 .f32 := (extractStridedSlice S5x256x1 ![0, 0, 21] · slices_S5x256x256_S5x256x1_0_0_21) main_v410
  let main_v413 : FVec F S5x1x1 .f32 := (extractStridedSlice S5x1x1 ![0, 0, 21] · slices_S5x1x256_S5x1x1_0_0_21) main_v411
  let main_v414 : FVec F S5x256x1 .f32 := broadcastInDim S5x256x1 ![0, 1, 2] bcast_S5x1x1_S5x256x1_0_1_2 main_v413
  let main_v415 : FVec F S5x256x1 .f32 := Host.divf main_v412 main_v414
  let main_v416 : FVec F S5x256x256 .f32 := broadcastInDim S5x256x256 ![0, 1, 2] bcast_S5x256x1_S5x256x256_0_1_2 main_v415
  fn_part20 (F := F) main_arg0 main_v3 main_v7 main_v8 main_v10 main_v11 main_v410 main_v411 main_v416

def fn_part18 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v372 : FVec F S5x256x256 .f32) (main_v373 : FVec F S5x1x256 .f32) (main_v374 : FVec F S5x256x1 .f32) : IVec S9x256x256 1 × IVec S8x256x256 1 :=
  let main_v375 : FVec F S5x1x1 .f32 := (extractStridedSlice S5x1x1 ![0, 0, 19] · slices_S5x1x256_S5x1x1_0_0_19) main_v373
  let main_v376 : FVec F S5x256x1 .f32 := broadcastInDim S5x256x1 ![0, 1, 2] bcast_S5x1x1_S5x256x1_0_1_2 main_v375
  let main_v377 : FVec F S5x256x1 .f32 := Host.divf main_v374 main_v376
  let main_v378 : FVec F S5x256x256 .f32 := broadcastInDim S5x256x256 ![0, 1, 2] bcast_S5x256x1_S5x256x256_0_1_2 main_v377
  let main_c_56 : IVec S_ 32 := constantI S_ 32 19#32
  let main_v379 : IVec S5x256x256 32 := broadcastInDim S5x256x256 ![] bcast_S_S5x256x256 main_c_56
  let main_v380 : IVec S5x256x256 1 := cmpi .sgt main_v10 main_v379
  let main_c_57 : IVec S_ 32 := constantI S_ 32 19#32
  let main_v381 : IVec S5x256x256 32 := broadcastInDim S5x256x256 ![] bcast_S_S5x256x256 main_c_57
  let main_v382 : IVec S5x256x256 1 := cmpi .sgt main_v11 main_v381
  let main_v383 : IVec S5x256x256 1 := andi main_v380 main_v382
  let main_v384 : FVec F S5x256x256 .f32 := broadcastInDim S5x256x256 ![0, 1, 2] bcast_S5x1x256_S5x256x256_0_1_2 main_v373
  let main_v385 : FVec F S5x256x256 .f32 := mulf main_v378 main_v384
  let main_v386 : FVec F S5x256x256 .f32 := subf main_v372 main_v385
  let main_v387 : FVec F S5x256x256 .f32 := select main_v383 main_v386 main_v372
  let main_c_58 : IVec S_ 32 := constantI S_ 32 19#32
  let main_v388 : IVec S5x256x256 32 := broadcastInDim S5x256x256 ![] bcast_S_S5x256x256 main_c_58
  let main_v389 : IVec S5x256x256 1 := cmpi .eq main_v11 main_v388
  let main_v390 : IVec S5x256x256 1 := andi main_v380 main_v389
  let main_v391 : FVec F S5x256x256 .f32 := select main_v390 main_v378 main_v387
  let main_v392 : FVec F S5x1x256 .f32 := (extractStridedSlice S5x1x256 ![0, 20, 0] · slices_S5x256x256_S5x1x256_0_20_0) main_v391
  let main_v393 : FVec F S5x256x1 .f32 := (extractStridedSlice S5x256x1 ![0, 0, 20] · slices_S5x256x256_S5x256x1_0_0_20) main_v391
  let main_v394 : FVec F S5x1x1 .f32 := (extractStridedSlice S5x1x1 ![0, 0, 20] · slices_S5x1x256_S5x1x1_0_0_20) main_v392
  let main_v395 : FVec F S5x256x1 .f32 := broadcastInDim S5x256x1 ![0, 1, 2] bcast_S5x1x1_S5x256x1_0_1_2 main_v394
  fn_part19 (F := F) main_arg0 main_v3 main_v7 main_v8 main_v10 main_v11 main_v391 main_v392 main_v393 main_v395

def fn_part17 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v353 : FVec F S5x256x256 .f32) : IVec S9x256x256 1 × IVec S8x256x256 1 :=
  let main_v354 : FVec F S5x1x256 .f32 := (extractStridedSlice S5x1x256 ![0, 18, 0] · slices_S5x256x256_S5x1x256_0_18_0) main_v353
  let main_v355 : FVec F S5x256x1 .f32 := (extractStridedSlice S5x256x1 ![0, 0, 18] · slices_S5x256x256_S5x256x1_0_0_18) main_v353
  let main_v356 : FVec F S5x1x1 .f32 := (extractStridedSlice S5x1x1 ![0, 0, 18] · slices_S5x1x256_S5x1x1_0_0_18) main_v354
  let main_v357 : FVec F S5x256x1 .f32 := broadcastInDim S5x256x1 ![0, 1, 2] bcast_S5x1x1_S5x256x1_0_1_2 main_v356
  let main_v358 : FVec F S5x256x1 .f32 := Host.divf main_v355 main_v357
  let main_v359 : FVec F S5x256x256 .f32 := broadcastInDim S5x256x256 ![0, 1, 2] bcast_S5x256x1_S5x256x256_0_1_2 main_v358
  let main_c_53 : IVec S_ 32 := constantI S_ 32 18#32
  let main_v360 : IVec S5x256x256 32 := broadcastInDim S5x256x256 ![] bcast_S_S5x256x256 main_c_53
  let main_v361 : IVec S5x256x256 1 := cmpi .sgt main_v10 main_v360
  let main_c_54 : IVec S_ 32 := constantI S_ 32 18#32
  let main_v362 : IVec S5x256x256 32 := broadcastInDim S5x256x256 ![] bcast_S_S5x256x256 main_c_54
  let main_v363 : IVec S5x256x256 1 := cmpi .sgt main_v11 main_v362
  let main_v364 : IVec S5x256x256 1 := andi main_v361 main_v363
  let main_v365 : FVec F S5x256x256 .f32 := broadcastInDim S5x256x256 ![0, 1, 2] bcast_S5x1x256_S5x256x256_0_1_2 main_v354
  let main_v366 : FVec F S5x256x256 .f32 := mulf main_v359 main_v365
  let main_v367 : FVec F S5x256x256 .f32 := subf main_v353 main_v366
  let main_v368 : FVec F S5x256x256 .f32 := select main_v364 main_v367 main_v353
  let main_c_55 : IVec S_ 32 := constantI S_ 32 18#32
  let main_v369 : IVec S5x256x256 32 := broadcastInDim S5x256x256 ![] bcast_S_S5x256x256 main_c_55
  let main_v370 : IVec S5x256x256 1 := cmpi .eq main_v11 main_v369
  let main_v371 : IVec S5x256x256 1 := andi main_v361 main_v370
  let main_v372 : FVec F S5x256x256 .f32 := select main_v371 main_v359 main_v368
  let main_v373 : FVec F S5x1x256 .f32 := (extractStridedSlice S5x1x256 ![0, 19, 0] · slices_S5x256x256_S5x1x256_0_19_0) main_v372
  let main_v374 : FVec F S5x256x1 .f32 := (extractStridedSlice S5x256x1 ![0, 0, 19] · slices_S5x256x256_S5x256x1_0_0_19) main_v372
  fn_part18 (F := F) main_arg0 main_v3 main_v7 main_v8 main_v10 main_v11 main_v372 main_v373 main_v374

def fn_part16 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v321 : FVec F S5x256x256 .f32) (main_v323 : IVec S5x256x256 1) (main_v330 : FVec F S5x256x256 .f32) (main_v332 : IVec S5x256x256 1) : IVec S9x256x256 1 × IVec S8x256x256 1 :=
  let main_v333 : IVec S5x256x256 1 := andi main_v323 main_v332
  let main_v334 : FVec F S5x256x256 .f32 := select main_v333 main_v321 main_v330
  let main_v335 : FVec F S5x1x256 .f32 := (extractStridedSlice S5x1x256 ![0, 17, 0] · slices_S5x256x256_S5x1x256_0_17_0) main_v334
  let main_v336 : FVec F S5x256x1 .f32 := (extractStridedSlice S5x256x1 ![0, 0, 17] · slices_S5x256x256_S5x256x1_0_0_17) main_v334
  let main_v337 : FVec F S5x1x1 .f32 := (extractStridedSlice S5x1x1 ![0, 0, 17] · slices_S5x1x256_S5x1x1_0_0_17) main_v335
  let main_v338 : FVec F S5x256x1 .f32 := broadcastInDim S5x256x1 ![0, 1, 2] bcast_S5x1x1_S5x256x1_0_1_2 main_v337
  let main_v339 : FVec F S5x256x1 .f32 := Host.divf main_v336 main_v338
  let main_v340 : FVec F S5x256x256 .f32 := broadcastInDim S5x256x256 ![0, 1, 2] bcast_S5x256x1_S5x256x256_0_1_2 main_v339
  let main_c_50 : IVec S_ 32 := constantI S_ 32 17#32
  let main_v341 : IVec S5x256x256 32 := broadcastInDim S5x256x256 ![] bcast_S_S5x256x256 main_c_50
  let main_v342 : IVec S5x256x256 1 := cmpi .sgt main_v10 main_v341
  let main_c_51 : IVec S_ 32 := constantI S_ 32 17#32
  let main_v343 : IVec S5x256x256 32 := broadcastInDim S5x256x256 ![] bcast_S_S5x256x256 main_c_51
  let main_v344 : IVec S5x256x256 1 := cmpi .sgt main_v11 main_v343
  let main_v345 : IVec S5x256x256 1 := andi main_v342 main_v344
  let main_v346 : FVec F S5x256x256 .f32 := broadcastInDim S5x256x256 ![0, 1, 2] bcast_S5x1x256_S5x256x256_0_1_2 main_v335
  let main_v347 : FVec F S5x256x256 .f32 := mulf main_v340 main_v346
  let main_v348 : FVec F S5x256x256 .f32 := subf main_v334 main_v347
  let main_v349 : FVec F S5x256x256 .f32 := select main_v345 main_v348 main_v334
  let main_c_52 : IVec S_ 32 := constantI S_ 32 17#32
  let main_v350 : IVec S5x256x256 32 := broadcastInDim S5x256x256 ![] bcast_S_S5x256x256 main_c_52
  let main_v351 : IVec S5x256x256 1 := cmpi .eq main_v11 main_v350
  let main_v352 : IVec S5x256x256 1 := andi main_v342 main_v351
  let main_v353 : FVec F S5x256x256 .f32 := select main_v352 main_v340 main_v349
  fn_part17 (F := F) main_arg0 main_v3 main_v7 main_v8 main_v10 main_v11 main_v353

def fn_part15 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v302 : FVec F S5x256x256 .f32) (main_v304 : IVec S5x256x256 1) (main_v311 : FVec F S5x256x256 .f32) (main_c_46 : IVec S_ 32) : IVec S9x256x256 1 × IVec S8x256x256 1 :=
  let main_v312 : IVec S5x256x256 32 := broadcastInDim S5x256x256 ![] bcast_S_S5x256x256 main_c_46
  let main_v313 : IVec S5x256x256 1 := cmpi .eq main_v11 main_v312
  let main_v314 : IVec S5x256x256 1 := andi main_v304 main_v313
  let main_v315 : FVec F S5x256x256 .f32 := select main_v314 main_v302 main_v311
  let main_v316 : FVec F S5x1x256 .f32 := (extractStridedSlice S5x1x256 ![0, 16, 0] · slices_S5x256x256_S5x1x256_0_16_0) main_v315
  let main_v317 : FVec F S5x256x1 .f32 := (extractStridedSlice S5x256x1 ![0, 0, 16] · slices_S5x256x256_S5x256x1_0_0_16) main_v315
  let main_v318 : FVec F S5x1x1 .f32 := (extractStridedSlice S5x1x1 ![0, 0, 16] · slices_S5x1x256_S5x1x1_0_0_16) main_v316
  let main_v319 : FVec F S5x256x1 .f32 := broadcastInDim S5x256x1 ![0, 1, 2] bcast_S5x1x1_S5x256x1_0_1_2 main_v318
  let main_v320 : FVec F S5x256x1 .f32 := Host.divf main_v317 main_v319
  let main_v321 : FVec F S5x256x256 .f32 := broadcastInDim S5x256x256 ![0, 1, 2] bcast_S5x256x1_S5x256x256_0_1_2 main_v320
  let main_c_47 : IVec S_ 32 := constantI S_ 32 16#32
  let main_v322 : IVec S5x256x256 32 := broadcastInDim S5x256x256 ![] bcast_S_S5x256x256 main_c_47
  let main_v323 : IVec S5x256x256 1 := cmpi .sgt main_v10 main_v322
  let main_c_48 : IVec S_ 32 := constantI S_ 32 16#32
  let main_v324 : IVec S5x256x256 32 := broadcastInDim S5x256x256 ![] bcast_S_S5x256x256 main_c_48
  let main_v325 : IVec S5x256x256 1 := cmpi .sgt main_v11 main_v324
  let main_v326 : IVec S5x256x256 1 := andi main_v323 main_v325
  let main_v327 : FVec F S5x256x256 .f32 := broadcastInDim S5x256x256 ![0, 1, 2] bcast_S5x1x256_S5x256x256_0_1_2 main_v316
  let main_v328 : FVec F S5x256x256 .f32 := mulf main_v321 main_v327
  let main_v329 : FVec F S5x256x256 .f32 := subf main_v315 main_v328
  let main_v330 : FVec F S5x256x256 .f32 := select main_v326 main_v329 main_v315
  let main_c_49 : IVec S_ 32 := constantI S_ 32 16#32
  let main_v331 : IVec S5x256x256 32 := broadcastInDim S5x256x256 ![] bcast_S_S5x256x256 main_c_49
  let main_v332 : IVec S5x256x256 1 := cmpi .eq main_v11 main_v331
  fn_part16 (F := F) main_arg0 main_v3 main_v7 main_v8 main_v10 main_v11 main_v321 main_v323 main_v330 main_v332

def fn_part14 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v277 : FVec F S5x256x256 .f32) (main_v283 : FVec F S5x256x256 .f32) (main_v285 : IVec S5x256x256 1) (main_v288 : IVec S5x256x256 1) (main_v291 : FVec F S5x256x256 .f32) : IVec S9x256x256 1 × IVec S8x256x256 1 :=
  let main_v292 : FVec F S5x256x256 .f32 := select main_v288 main_v291 main_v277
  let main_c_43 : IVec S_ 32 := constantI S_ 32 14#32
  let main_v293 : IVec S5x256x256 32 := broadcastInDim S5x256x256 ![] bcast_S_S5x256x256 main_c_43
  let main_v294 : IVec S5x256x256 1 := cmpi .eq main_v11 main_v293
  let main_v295 : IVec S5x256x256 1 := andi main_v285 main_v294
  let main_v296 : FVec F S5x256x256 .f32 := select main_v295 main_v283 main_v292
  let main_v297 : FVec F S5x1x256 .f32 := (extractStridedSlice S5x1x256 ![0, 15, 0] · slices_S5x256x256_S5x1x256_0_15_0) main_v296
  let main_v298 : FVec F S5x256x1 .f32 := (extractStridedSlice S5x256x1 ![0, 0, 15] · slices_S5x256x256_S5x256x1_0_0_15) main_v296
  let main_v299 : FVec F S5x1x1 .f32 := (extractStridedSlice S5x1x1 ![0, 0, 15] · slices_S5x1x256_S5x1x1_0_0_15) main_v297
  let main_v300 : FVec F S5x256x1 .f32 := broadcastInDim S5x256x1 ![0, 1, 2] bcast_S5x1x1_S5x256x1_0_1_2 main_v299
  let main_v301 : FVec F S5x256x1 .f32 := Host.divf main_v298 main_v300
  let main_v302 : FVec F S5x256x256 .f32 := broadcastInDim S5x256x256 ![0, 1, 2] bcast_S5x256x1_S5x256x256_0_1_2 main_v301
  let main_c_44 : IVec S_ 32 := constantI S_ 32 15#32
  let main_v303 : IVec S5x256x256 32 := broadcastInDim S5x256x256 ![] bcast_S_S5x256x256 main_c_44
  let main_v304 : IVec S5x256x256 1 := cmpi .sgt main_v10 main_v303
  let main_c_45 : IVec S_ 32 := constantI S_ 32 15#32
  let main_v305 : IVec S5x256x256 32 := broadcastInDim S5x256x256 ![] bcast_S_S5x256x256 main_c_45
  let main_v306 : IVec S5x256x256 1 := cmpi .sgt main_v11 main_v305
  let main_v307 : IVec S5x256x256 1 := andi main_v304 main_v306
  let main_v308 : FVec F S5x256x256 .f32 := broadcastInDim S5x256x256 ![0, 1, 2] bcast_S5x1x256_S5x256x256_0_1_2 main_v297
  let main_v309 : FVec F S5x256x256 .f32 := mulf main_v302 main_v308
  let main_v310 : FVec F S5x256x256 .f32 := subf main_v296 main_v309
  let main_v311 : FVec F S5x256x256 .f32 := select main_v307 main_v310 main_v296
  let main_c_46 : IVec S_ 32 := constantI S_ 32 15#32
  fn_part15 (F := F) main_arg0 main_v3 main_v7 main_v8 main_v10 main_v11 main_v302 main_v304 main_v311 main_c_46

def fn_part13 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v258 : FVec F S5x256x256 .f32) (main_v264 : FVec F S5x256x256 .f32) (main_v266 : IVec S5x256x256 1) (main_v269 : IVec S5x256x256 1) (main_v270 : FVec F S5x256x256 .f32) : IVec S9x256x256 1 × IVec S8x256x256 1 :=
  let main_v271 : FVec F S5x256x256 .f32 := mulf main_v264 main_v270
  let main_v272 : FVec F S5x256x256 .f32 := subf main_v258 main_v271
  let main_v273 : FVec F S5x256x256 .f32 := select main_v269 main_v272 main_v258
  let main_c_40 : IVec S_ 32 := constantI S_ 32 13#32
  let main_v274 : IVec S5x256x256 32 := broadcastInDim S5x256x256 ![] bcast_S_S5x256x256 main_c_40
  let main_v275 : IVec S5x256x256 1 := cmpi .eq main_v11 main_v274
  let main_v276 : IVec S5x256x256 1 := andi main_v266 main_v275
  let main_v277 : FVec F S5x256x256 .f32 := select main_v276 main_v264 main_v273
  let main_v278 : FVec F S5x1x256 .f32 := (extractStridedSlice S5x1x256 ![0, 14, 0] · slices_S5x256x256_S5x1x256_0_14_0) main_v277
  let main_v279 : FVec F S5x256x1 .f32 := (extractStridedSlice S5x256x1 ![0, 0, 14] · slices_S5x256x256_S5x256x1_0_0_14) main_v277
  let main_v280 : FVec F S5x1x1 .f32 := (extractStridedSlice S5x1x1 ![0, 0, 14] · slices_S5x1x256_S5x1x1_0_0_14) main_v278
  let main_v281 : FVec F S5x256x1 .f32 := broadcastInDim S5x256x1 ![0, 1, 2] bcast_S5x1x1_S5x256x1_0_1_2 main_v280
  let main_v282 : FVec F S5x256x1 .f32 := Host.divf main_v279 main_v281
  let main_v283 : FVec F S5x256x256 .f32 := broadcastInDim S5x256x256 ![0, 1, 2] bcast_S5x256x1_S5x256x256_0_1_2 main_v282
  let main_c_41 : IVec S_ 32 := constantI S_ 32 14#32
  let main_v284 : IVec S5x256x256 32 := broadcastInDim S5x256x256 ![] bcast_S_S5x256x256 main_c_41
  let main_v285 : IVec S5x256x256 1 := cmpi .sgt main_v10 main_v284
  let main_c_42 : IVec S_ 32 := constantI S_ 32 14#32
  let main_v286 : IVec S5x256x256 32 := broadcastInDim S5x256x256 ![] bcast_S_S5x256x256 main_c_42
  let main_v287 : IVec S5x256x256 1 := cmpi .sgt main_v11 main_v286
  let main_v288 : IVec S5x256x256 1 := andi main_v285 main_v287
  let main_v289 : FVec F S5x256x256 .f32 := broadcastInDim S5x256x256 ![0, 1, 2] bcast_S5x1x256_S5x256x256_0_1_2 main_v278
  let main_v290 : FVec F S5x256x256 .f32 := mulf main_v283 main_v289
  let main_v291 : FVec F S5x256x256 .f32 := subf main_v277 main_v290
  fn_part14 (F := F) main_arg0 main_v3 main_v7 main_v8 main_v10 main_v11 main_v277 main_v283 main_v285 main_v288 main_v291

def fn_part12 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v239 : FVec F S5x256x256 .f32) (main_v240 : FVec F S5x1x256 .f32) (main_v245 : FVec F S5x256x256 .f32) (main_v247 : IVec S5x256x256 1) (main_v249 : IVec S5x256x256 1) : IVec S9x256x256 1 × IVec S8x256x256 1 :=
  let main_v250 : IVec S5x256x256 1 := andi main_v247 main_v249
  let main_v251 : FVec F S5x256x256 .f32 := broadcastInDim S5x256x256 ![0, 1, 2] bcast_S5x1x256_S5x256x256_0_1_2 main_v240
  let main_v252 : FVec F S5x256x256 .f32 := mulf main_v245 main_v251
  let main_v253 : FVec F S5x256x256 .f32 := subf main_v239 main_v252
  let main_v254 : FVec F S5x256x256 .f32 := select main_v250 main_v253 main_v239
  let main_c_37 : IVec S_ 32 := constantI S_ 32 12#32
  let main_v255 : IVec S5x256x256 32 := broadcastInDim S5x256x256 ![] bcast_S_S5x256x256 main_c_37
  let main_v256 : IVec S5x256x256 1 := cmpi .eq main_v11 main_v255
  let main_v257 : IVec S5x256x256 1 := andi main_v247 main_v256
  let main_v258 : FVec F S5x256x256 .f32 := select main_v257 main_v245 main_v254
  let main_v259 : FVec F S5x1x256 .f32 := (extractStridedSlice S5x1x256 ![0, 13, 0] · slices_S5x256x256_S5x1x256_0_13_0) main_v258
  let main_v260 : FVec F S5x256x1 .f32 := (extractStridedSlice S5x256x1 ![0, 0, 13] · slices_S5x256x256_S5x256x1_0_0_13) main_v258
  let main_v261 : FVec F S5x1x1 .f32 := (extractStridedSlice S5x1x1 ![0, 0, 13] · slices_S5x1x256_S5x1x1_0_0_13) main_v259
  let main_v262 : FVec F S5x256x1 .f32 := broadcastInDim S5x256x1 ![0, 1, 2] bcast_S5x1x1_S5x256x1_0_1_2 main_v261
  let main_v263 : FVec F S5x256x1 .f32 := Host.divf main_v260 main_v262
  let main_v264 : FVec F S5x256x256 .f32 := broadcastInDim S5x256x256 ![0, 1, 2] bcast_S5x256x1_S5x256x256_0_1_2 main_v263
  let main_c_38 : IVec S_ 32 := constantI S_ 32 13#32
  let main_v265 : IVec S5x256x256 32 := broadcastInDim S5x256x256 ![] bcast_S_S5x256x256 main_c_38
  let main_v266 : IVec S5x256x256 1 := cmpi .sgt main_v10 main_v265
  let main_c_39 : IVec S_ 32 := constantI S_ 32 13#32
  let main_v267 : IVec S5x256x256 32 := broadcastInDim S5x256x256 ![] bcast_S_S5x256x256 main_c_39
  let main_v268 : IVec S5x256x256 1 := cmpi .sgt main_v11 main_v267
  let main_v269 : IVec S5x256x256 1 := andi main_v266 main_v268
  let main_v270 : FVec F S5x256x256 .f32 := broadcastInDim S5x256x256 ![0, 1, 2] bcast_S5x1x256_S5x256x256_0_1_2 main_v259
  fn_part13 (F := F) main_arg0 main_v3 main_v7 main_v8 main_v10 main_v11 main_v258 main_v264 main_v266 main_v269 main_v270

def fn_part11 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v220 : FVec F S5x256x256 .f32) (main_v221 : FVec F S5x1x256 .f32) (main_v226 : FVec F S5x256x256 .f32) (main_v228 : IVec S5x256x256 1) (main_c_33 : IVec S_ 32) : IVec S9x256x256 1 × IVec S8x256x256 1 :=
  let main_v229 : IVec S5x256x256 32 := broadcastInDim S5x256x256 ![] bcast_S_S5x256x256 main_c_33
  let main_v230 : IVec S5x256x256 1 := cmpi .sgt main_v11 main_v229
  let main_v231 : IVec S5x256x256 1 := andi main_v228 main_v230
  let main_v232 : FVec F S5x256x256 .f32 := broadcastInDim S5x256x256 ![0, 1, 2] bcast_S5x1x256_S5x256x256_0_1_2 main_v221
  let main_v233 : FVec F S5x256x256 .f32 := mulf main_v226 main_v232
  let main_v234 : FVec F S5x256x256 .f32 := subf main_v220 main_v233
  let main_v235 : FVec F S5x256x256 .f32 := select main_v231 main_v234 main_v220
  let main_c_34 : IVec S_ 32 := constantI S_ 32 11#32
  let main_v236 : IVec S5x256x256 32 := broadcastInDim S5x256x256 ![] bcast_S_S5x256x256 main_c_34
  let main_v237 : IVec S5x256x256 1 := cmpi .eq main_v11 main_v236
  let main_v238 : IVec S5x256x256 1 := andi main_v228 main_v237
  let main_v239 : FVec F S5x256x256 .f32 := select main_v238 main_v226 main_v235
  let main_v240 : FVec F S5x1x256 .f32 := (extractStridedSlice S5x1x256 ![0, 12, 0] · slices_S5x256x256_S5x1x256_0_12_0) main_v239
  let main_v241 : FVec F S5x256x1 .f32 := (extractStridedSlice S5x256x1 ![0, 0, 12] · slices_S5x256x256_S5x256x1_0_0_12) main_v239
  let main_v242 : FVec F S5x1x1 .f32 := (extractStridedSlice S5x1x1 ![0, 0, 12] · slices_S5x1x256_S5x1x1_0_0_12) main_v240
  let main_v243 : FVec F S5x256x1 .f32 := broadcastInDim S5x256x1 ![0, 1, 2] bcast_S5x1x1_S5x256x1_0_1_2 main_v242
  let main_v244 : FVec F S5x256x1 .f32 := Host.divf main_v241 main_v243
  let main_v245 : FVec F S5x256x256 .f32 := broadcastInDim S5x256x256 ![0, 1, 2] bcast_S5x256x1_S5x256x256_0_1_2 main_v244
  let main_c_35 : IVec S_ 32 := constantI S_ 32 12#32
  let main_v246 : IVec S5x256x256 32 := broadcastInDim S5x256x256 ![] bcast_S_S5x256x256 main_c_35
  let main_v247 : IVec S5x256x256 1 := cmpi .sgt main_v10 main_v246
  let main_c_36 : IVec S_ 32 := constantI S_ 32 12#32
  let main_v248 : IVec S5x256x256 32 := broadcastInDim S5x256x256 ![] bcast_S_S5x256x256 main_c_36
  let main_v249 : IVec S5x256x256 1 := cmpi .sgt main_v11 main_v248
  fn_part12 (F := F) main_arg0 main_v3 main_v7 main_v8 main_v10 main_v11 main_v239 main_v240 main_v245 main_v247 main_v249

def fn_part10 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v201 : FVec F S5x256x256 .f32) (main_v202 : FVec F S5x1x256 .f32) (main_v207 : FVec F S5x256x256 .f32) (main_v208 : IVec S5x256x256 32) : IVec S9x256x256 1 × IVec S8x256x256 1 :=
  let main_v209 : IVec S5x256x256 1 := cmpi .sgt main_v10 main_v208
  let main_c_30 : IVec S_ 32 := constantI S_ 32 10#32
  let main_v210 : IVec S5x256x256 32 := broadcastInDim S5x256x256 ![] bcast_S_S5x256x256 main_c_30
  let main_v211 : IVec S5x256x256 1 := cmpi .sgt main_v11 main_v210
  let main_v212 : IVec S5x256x256 1 := andi main_v209 main_v211
  let main_v213 : FVec F S5x256x256 .f32 := broadcastInDim S5x256x256 ![0, 1, 2] bcast_S5x1x256_S5x256x256_0_1_2 main_v202
  let main_v214 : FVec F S5x256x256 .f32 := mulf main_v207 main_v213
  let main_v215 : FVec F S5x256x256 .f32 := subf main_v201 main_v214
  let main_v216 : FVec F S5x256x256 .f32 := select main_v212 main_v215 main_v201
  let main_c_31 : IVec S_ 32 := constantI S_ 32 10#32
  let main_v217 : IVec S5x256x256 32 := broadcastInDim S5x256x256 ![] bcast_S_S5x256x256 main_c_31
  let main_v218 : IVec S5x256x256 1 := cmpi .eq main_v11 main_v217
  let main_v219 : IVec S5x256x256 1 := andi main_v209 main_v218
  let main_v220 : FVec F S5x256x256 .f32 := select main_v219 main_v207 main_v216
  let main_v221 : FVec F S5x1x256 .f32 := (extractStridedSlice S5x1x256 ![0, 11, 0] · slices_S5x256x256_S5x1x256_0_11_0) main_v220
  let main_v222 : FVec F S5x256x1 .f32 := (extractStridedSlice S5x256x1 ![0, 0, 11] · slices_S5x256x256_S5x256x1_0_0_11) main_v220
  let main_v223 : FVec F S5x1x1 .f32 := (extractStridedSlice S5x1x1 ![0, 0, 11] · slices_S5x1x256_S5x1x1_0_0_11) main_v221
  let main_v224 : FVec F S5x256x1 .f32 := broadcastInDim S5x256x1 ![0, 1, 2] bcast_S5x1x1_S5x256x1_0_1_2 main_v223
  let main_v225 : FVec F S5x256x1 .f32 := Host.divf main_v222 main_v224
  let main_v226 : FVec F S5x256x256 .f32 := broadcastInDim S5x256x256 ![0, 1, 2] bcast_S5x256x1_S5x256x256_0_1_2 main_v225
  let main_c_32 : IVec S_ 32 := constantI S_ 32 11#32
  let main_v227 : IVec S5x256x256 32 := broadcastInDim S5x256x256 ![] bcast_S_S5x256x256 main_c_32
  let main_v228 : IVec S5x256x256 1 := cmpi .sgt main_v10 main_v227
  let main_c_33 : IVec S_ 32 := constantI S_ 32 11#32
  fn_part11 (F := F) main_arg0 main_v3 main_v7 main_v8 main_v10 main_v11 main_v220 main_v221 main_v226 main_v228 main_c_33

def fn_part9 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v182 : FVec F S5x256x256 .f32) (main_v183 : FVec F S5x1x256 .f32) (main_v188 : FVec F S5x256x256 .f32) : IVec S9x256x256 1 × IVec S8x256x256 1 :=
  let main_c_26 : IVec S_ 32 := constantI S_ 32 9#32
  let main_v189 : IVec S5x256x256 32 := broadcastInDim S5x256x256 ![] bcast_S_S5x256x256 main_c_26
  let main_v190 : IVec S5x256x256 1 := cmpi .sgt main_v10 main_v189
  let main_c_27 : IVec S_ 32 := constantI S_ 32 9#32
  let main_v191 : IVec S5x256x256 32 := broadcastInDim S5x256x256 ![] bcast_S_S5x256x256 main_c_27
  let main_v192 : IVec S5x256x256 1 := cmpi .sgt main_v11 main_v191
  let main_v193 : IVec S5x256x256 1 := andi main_v190 main_v192
  let main_v194 : FVec F S5x256x256 .f32 := broadcastInDim S5x256x256 ![0, 1, 2] bcast_S5x1x256_S5x256x256_0_1_2 main_v183
  let main_v195 : FVec F S5x256x256 .f32 := mulf main_v188 main_v194
  let main_v196 : FVec F S5x256x256 .f32 := subf main_v182 main_v195
  let main_v197 : FVec F S5x256x256 .f32 := select main_v193 main_v196 main_v182
  let main_c_28 : IVec S_ 32 := constantI S_ 32 9#32
  let main_v198 : IVec S5x256x256 32 := broadcastInDim S5x256x256 ![] bcast_S_S5x256x256 main_c_28
  let main_v199 : IVec S5x256x256 1 := cmpi .eq main_v11 main_v198
  let main_v200 : IVec S5x256x256 1 := andi main_v190 main_v199
  let main_v201 : FVec F S5x256x256 .f32 := select main_v200 main_v188 main_v197
  let main_v202 : FVec F S5x1x256 .f32 := (extractStridedSlice S5x1x256 ![0, 10, 0] · slices_S5x256x256_S5x1x256_0_10_0) main_v201
  let main_v203 : FVec F S5x256x1 .f32 := (extractStridedSlice S5x256x1 ![0, 0, 10] · slices_S5x256x256_S5x256x1_0_0_10) main_v201
  let main_v204 : FVec F S5x1x1 .f32 := (extractStridedSlice S5x1x1 ![0, 0, 10] · slices_S5x1x256_S5x1x1_0_0_10) main_v202
  let main_v205 : FVec F S5x256x1 .f32 := broadcastInDim S5x256x1 ![0, 1, 2] bcast_S5x1x1_S5x256x1_0_1_2 main_v204
  let main_v206 : FVec F S5x256x1 .f32 := Host.divf main_v203 main_v205
  let main_v207 : FVec F S5x256x256 .f32 := broadcastInDim S5x256x256 ![0, 1, 2] bcast_S5x256x1_S5x256x256_0_1_2 main_v206
  let main_c_29 : IVec S_ 32 := constantI S_ 32 10#32
  let main_v208 : IVec S5x256x256 32 := broadcastInDim S5x256x256 ![] bcast_S_S5x256x256 main_c_29
  fn_part10 (F := F) main_arg0 main_v3 main_v7 main_v8 main_v10 main_v11 main_v201 main_v202 main_v207 main_v208

def fn_part8 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v163 : FVec F S5x256x256 .f32) (main_v164 : FVec F S5x1x256 .f32) (main_v165 : FVec F S5x256x1 .f32) (main_v167 : FVec F S5x256x1 .f32) : IVec S9x256x256 1 × IVec S8x256x256 1 :=
  let main_v168 : FVec F S5x256x1 .f32 := Host.divf main_v165 main_v167
  let main_v169 : FVec F S5x256x256 .f32 := broadcastInDim S5x256x256 ![0, 1, 2] bcast_S5x256x1_S5x256x256_0_1_2 main_v168
  let main_c_23 : IVec S_ 32 := constantI S_ 32 8#32
  let main_v170 : IVec S5x256x256 32 := broadcastInDim S5x256x256 ![] bcast_S_S5x256x256 main_c_23
  let main_v171 : IVec S5x256x256 1 := cmpi .sgt main_v10 main_v170
  let main_c_24 : IVec S_ 32 := constantI S_ 32 8#32
  let main_v172 : IVec S5x256x256 32 := broadcastInDim S5x256x256 ![] bcast_S_S5x256x256 main_c_24
  let main_v173 : IVec S5x256x256 1 := cmpi .sgt main_v11 main_v172
  let main_v174 : IVec S5x256x256 1 := andi main_v171 main_v173
  let main_v175 : FVec F S5x256x256 .f32 := broadcastInDim S5x256x256 ![0, 1, 2] bcast_S5x1x256_S5x256x256_0_1_2 main_v164
  let main_v176 : FVec F S5x256x256 .f32 := mulf main_v169 main_v175
  let main_v177 : FVec F S5x256x256 .f32 := subf main_v163 main_v176
  let main_v178 : FVec F S5x256x256 .f32 := select main_v174 main_v177 main_v163
  let main_c_25 : IVec S_ 32 := constantI S_ 32 8#32
  let main_v179 : IVec S5x256x256 32 := broadcastInDim S5x256x256 ![] bcast_S_S5x256x256 main_c_25
  let main_v180 : IVec S5x256x256 1 := cmpi .eq main_v11 main_v179
  let main_v181 : IVec S5x256x256 1 := andi main_v171 main_v180
  let main_v182 : FVec F S5x256x256 .f32 := select main_v181 main_v169 main_v178
  let main_v183 : FVec F S5x1x256 .f32 := (extractStridedSlice S5x1x256 ![0, 9, 0] · slices_S5x256x256_S5x1x256_0_9_0) main_v182
  let main_v184 : FVec F S5x256x1 .f32 := (extractStridedSlice S5x256x1 ![0, 0, 9] · slices_S5x256x256_S5x256x1_0_0_9) main_v182
  let main_v185 : FVec F S5x1x1 .f32 := (extractStridedSlice S5x1x1 ![0, 0, 9] · slices_S5x1x256_S5x1x1_0_0_9) main_v183
  let main_v186 : FVec F S5x256x1 .f32 := broadcastInDim S5x256x1 ![0, 1, 2] bcast_S5x1x1_S5x256x1_0_1_2 main_v185
  let main_v187 : FVec F S5x256x1 .f32 := Host.divf main_v184 main_v186
  let main_v188 : FVec F S5x256x256 .f32 := broadcastInDim S5x256x256 ![0, 1, 2] bcast_S5x256x1_S5x256x256_0_1_2 main_v187
  fn_part9 (F := F) main_arg0 main_v3 main_v7 main_v8 main_v10 main_v11 main_v182 main_v183 main_v188

def fn_part7 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v144 : FVec F S5x256x256 .f32) (main_v145 : FVec F S5x1x256 .f32) (main_v146 : FVec F S5x256x1 .f32) : IVec S9x256x256 1 × IVec S8x256x256 1 :=
  let main_v147 : FVec F S5x1x1 .f32 := (extractStridedSlice S5x1x1 ![0, 0, 7] · slices_S5x1x256_S5x1x1_0_0_7) main_v145
  let main_v148 : FVec F S5x256x1 .f32 := broadcastInDim S5x256x1 ![0, 1, 2] bcast_S5x1x1_S5x256x1_0_1_2 main_v147
  let main_v149 : FVec F S5x256x1 .f32 := Host.divf main_v146 main_v148
  let main_v150 : FVec F S5x256x256 .f32 := broadcastInDim S5x256x256 ![0, 1, 2] bcast_S5x256x1_S5x256x256_0_1_2 main_v149
  let main_c_20 : IVec S_ 32 := constantI S_ 32 7#32
  let main_v151 : IVec S5x256x256 32 := broadcastInDim S5x256x256 ![] bcast_S_S5x256x256 main_c_20
  let main_v152 : IVec S5x256x256 1 := cmpi .sgt main_v10 main_v151
  let main_c_21 : IVec S_ 32 := constantI S_ 32 7#32
  let main_v153 : IVec S5x256x256 32 := broadcastInDim S5x256x256 ![] bcast_S_S5x256x256 main_c_21
  let main_v154 : IVec S5x256x256 1 := cmpi .sgt main_v11 main_v153
  let main_v155 : IVec S5x256x256 1 := andi main_v152 main_v154
  let main_v156 : FVec F S5x256x256 .f32 := broadcastInDim S5x256x256 ![0, 1, 2] bcast_S5x1x256_S5x256x256_0_1_2 main_v145
  let main_v157 : FVec F S5x256x256 .f32 := mulf main_v150 main_v156
  let main_v158 : FVec F S5x256x256 .f32 := subf main_v144 main_v157
  let main_v159 : FVec F S5x256x256 .f32 := select main_v155 main_v158 main_v144
  let main_c_22 : IVec S_ 32 := constantI S_ 32 7#32
  let main_v160 : IVec S5x256x256 32 := broadcastInDim S5x256x256 ![] bcast_S_S5x256x256 main_c_22
  let main_v161 : IVec S5x256x256 1 := cmpi .eq main_v11 main_v160
  let main_v162 : IVec S5x256x256 1 := andi main_v152 main_v161
  let main_v163 : FVec F S5x256x256 .f32 := select main_v162 main_v150 main_v159
  let main_v164 : FVec F S5x1x256 .f32 := (extractStridedSlice S5x1x256 ![0, 8, 0] · slices_S5x256x256_S5x1x256_0_8_0) main_v163
  let main_v165 : FVec F S5x256x1 .f32 := (extractStridedSlice S5x256x1 ![0, 0, 8] · slices_S5x256x256_S5x256x1_0_0_8) main_v163
  let main_v166 : FVec F S5x1x1 .f32 := (extractStridedSlice S5x1x1 ![0, 0, 8] · slices_S5x1x256_S5x1x1_0_0_8) main_v164
  let main_v167 : FVec F S5x256x1 .f32 := broadcastInDim S5x256x1 ![0, 1, 2] bcast_S5x1x1_S5x256x1_0_1_2 main_v166
  fn_part8 (F := F) main_arg0 main_v3 main_v7 main_v8 main_v10 main_v11 main_v163 main_v164 main_v165 main_v167

def fn_part6 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v125 : FVec F S5x256x256 .f32) : IVec S9x256x256 1 × IVec S8x256x256 1 :=
  let main_v126 : FVec F S5x1x256 .f32 := (extractStridedSlice S5x1x256 ![0, 6, 0] · slices_S5x256x256_S5x1x256_0_6_0) main_v125
  let main_v127 : FVec F S5x256x1 .f32 := (extractStridedSlice S5x256x1 ![0, 0, 6] · slices_S5x256x256_S5x256x1_0_0_6) main_v125
  let main_v128 : FVec F S5x1x1 .f32 := (extractStridedSlice S5x1x1 ![0, 0, 6] · slices_S5x1x256_S5x1x1_0_0_6) main_v126
  let main_v129 : FVec F S5x256x1 .f32 := broadcastInDim S5x256x1 ![0, 1, 2] bcast_S5x1x1_S5x256x1_0_1_2 main_v128
  let main_v130 : FVec F S5x256x1 .f32 := Host.divf main_v127 main_v129
  let main_v131 : FVec F S5x256x256 .f32 := broadcastInDim S5x256x256 ![0, 1, 2] bcast_S5x256x1_S5x256x256_0_1_2 main_v130
  let main_c_17 : IVec S_ 32 := constantI S_ 32 6#32
  let main_v132 : IVec S5x256x256 32 := broadcastInDim S5x256x256 ![] bcast_S_S5x256x256 main_c_17
  let main_v133 : IVec S5x256x256 1 := cmpi .sgt main_v10 main_v132
  let main_c_18 : IVec S_ 32 := constantI S_ 32 6#32
  let main_v134 : IVec S5x256x256 32 := broadcastInDim S5x256x256 ![] bcast_S_S5x256x256 main_c_18
  let main_v135 : IVec S5x256x256 1 := cmpi .sgt main_v11 main_v134
  let main_v136 : IVec S5x256x256 1 := andi main_v133 main_v135
  let main_v137 : FVec F S5x256x256 .f32 := broadcastInDim S5x256x256 ![0, 1, 2] bcast_S5x1x256_S5x256x256_0_1_2 main_v126
  let main_v138 : FVec F S5x256x256 .f32 := mulf main_v131 main_v137
  let main_v139 : FVec F S5x256x256 .f32 := subf main_v125 main_v138
  let main_v140 : FVec F S5x256x256 .f32 := select main_v136 main_v139 main_v125
  let main_c_19 : IVec S_ 32 := constantI S_ 32 6#32
  let main_v141 : IVec S5x256x256 32 := broadcastInDim S5x256x256 ![] bcast_S_S5x256x256 main_c_19
  let main_v142 : IVec S5x256x256 1 := cmpi .eq main_v11 main_v141
  let main_v143 : IVec S5x256x256 1 := andi main_v133 main_v142
  let main_v144 : FVec F S5x256x256 .f32 := select main_v143 main_v131 main_v140
  let main_v145 : FVec F S5x1x256 .f32 := (extractStridedSlice S5x1x256 ![0, 7, 0] · slices_S5x256x256_S5x1x256_0_7_0) main_v144
  let main_v146 : FVec F S5x256x1 .f32 := (extractStridedSlice S5x256x1 ![0, 0, 7] · slices_S5x256x256_S5x256x1_0_0_7) main_v144
  fn_part7 (F := F) main_arg0 main_v3 main_v7 main_v8 main_v10 main_v11 main_v144 main_v145 main_v146

def fn_part5 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v93 : FVec F S5x256x256 .f32) (main_v95 : IVec S5x256x256 1) (main_v102 : FVec F S5x256x256 .f32) (main_v104 : IVec S5x256x256 1) : IVec S9x256x256 1 × IVec S8x256x256 1 :=
  let main_v105 : IVec S5x256x256 1 := andi main_v95 main_v104
  let main_v106 : FVec F S5x256x256 .f32 := select main_v105 main_v93 main_v102
  let main_v107 : FVec F S5x1x256 .f32 := (extractStridedSlice S5x1x256 ![0, 5, 0] · slices_S5x256x256_S5x1x256_0_5_0) main_v106
  let main_v108 : FVec F S5x256x1 .f32 := (extractStridedSlice S5x256x1 ![0, 0, 5] · slices_S5x256x256_S5x256x1_0_0_5) main_v106
  let main_v109 : FVec F S5x1x1 .f32 := (extractStridedSlice S5x1x1 ![0, 0, 5] · slices_S5x1x256_S5x1x1_0_0_5) main_v107
  let main_v110 : FVec F S5x256x1 .f32 := broadcastInDim S5x256x1 ![0, 1, 2] bcast_S5x1x1_S5x256x1_0_1_2 main_v109
  let main_v111 : FVec F S5x256x1 .f32 := Host.divf main_v108 main_v110
  let main_v112 : FVec F S5x256x256 .f32 := broadcastInDim S5x256x256 ![0, 1, 2] bcast_S5x256x1_S5x256x256_0_1_2 main_v111
  let main_c_14 : IVec S_ 32 := constantI S_ 32 5#32
  let main_v113 : IVec S5x256x256 32 := broadcastInDim S5x256x256 ![] bcast_S_S5x256x256 main_c_14
  let main_v114 : IVec S5x256x256 1 := cmpi .sgt main_v10 main_v113
  let main_c_15 : IVec S_ 32 := constantI S_ 32 5#32
  let main_v115 : IVec S5x256x256 32 := broadcastInDim S5x256x256 ![] bcast_S_S5x256x256 main_c_15
  let main_v116 : IVec S5x256x256 1 := cmpi .sgt main_v11 main_v115
  let main_v117 : IVec S5x256x256 1 := andi main_v114 main_v116
  let main_v118 : FVec F S5x256x256 .f32 := broadcastInDim S5x256x256 ![0, 1, 2] bcast_S5x1x256_S5x256x256_0_1_2 main_v107
  let main_v119 : FVec F S5x256x256 .f32 := mulf main_v112 main_v118
  let main_v120 : FVec F S5x256x256 .f32 := subf main_v106 main_v119
  let main_v121 : FVec F S5x256x256 .f32 := select main_v117 main_v120 main_v106
  let main_c_16 : IVec S_ 32 := constantI S_ 32 5#32
  let main_v122 : IVec S5x256x256 32 := broadcastInDim S5x256x256 ![] bcast_S_S5x256x256 main_c_16
  let main_v123 : IVec S5x256x256 1 := cmpi .eq main_v11 main_v122
  let main_v124 : IVec S5x256x256 1 := andi main_v114 main_v123
  let main_v125 : FVec F S5x256x256 .f32 := select main_v124 main_v112 main_v121
  fn_part6 (F := F) main_arg0 main_v3 main_v7 main_v8 main_v10 main_v11 main_v125

def fn_part4 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v74 : FVec F S5x256x256 .f32) (main_v76 : IVec S5x256x256 1) (main_v83 : FVec F S5x256x256 .f32) (main_c_10 : IVec S_ 32) : IVec S9x256x256 1 × IVec S8x256x256 1 :=
  let main_v84 : IVec S5x256x256 32 := broadcastInDim S5x256x256 ![] bcast_S_S5x256x256 main_c_10
  let main_v85 : IVec S5x256x256 1 := cmpi .eq main_v11 main_v84
  let main_v86 : IVec S5x256x256 1 := andi main_v76 main_v85
  let main_v87 : FVec F S5x256x256 .f32 := select main_v86 main_v74 main_v83
  let main_v88 : FVec F S5x1x256 .f32 := (extractStridedSlice S5x1x256 ![0, 4, 0] · slices_S5x256x256_S5x1x256_0_4_0) main_v87
  let main_v89 : FVec F S5x256x1 .f32 := (extractStridedSlice S5x256x1 ![0, 0, 4] · slices_S5x256x256_S5x256x1_0_0_4) main_v87
  let main_v90 : FVec F S5x1x1 .f32 := (extractStridedSlice S5x1x1 ![0, 0, 4] · slices_S5x1x256_S5x1x1_0_0_4) main_v88
  let main_v91 : FVec F S5x256x1 .f32 := broadcastInDim S5x256x1 ![0, 1, 2] bcast_S5x1x1_S5x256x1_0_1_2 main_v90
  let main_v92 : FVec F S5x256x1 .f32 := Host.divf main_v89 main_v91
  let main_v93 : FVec F S5x256x256 .f32 := broadcastInDim S5x256x256 ![0, 1, 2] bcast_S5x256x1_S5x256x256_0_1_2 main_v92
  let main_c_11 : IVec S_ 32 := constantI S_ 32 4#32
  let main_v94 : IVec S5x256x256 32 := broadcastInDim S5x256x256 ![] bcast_S_S5x256x256 main_c_11
  let main_v95 : IVec S5x256x256 1 := cmpi .sgt main_v10 main_v94
  let main_c_12 : IVec S_ 32 := constantI S_ 32 4#32
  let main_v96 : IVec S5x256x256 32 := broadcastInDim S5x256x256 ![] bcast_S_S5x256x256 main_c_12
  let main_v97 : IVec S5x256x256 1 := cmpi .sgt main_v11 main_v96
  let main_v98 : IVec S5x256x256 1 := andi main_v95 main_v97
  let main_v99 : FVec F S5x256x256 .f32 := broadcastInDim S5x256x256 ![0, 1, 2] bcast_S5x1x256_S5x256x256_0_1_2 main_v88
  let main_v100 : FVec F S5x256x256 .f32 := mulf main_v93 main_v99
  let main_v101 : FVec F S5x256x256 .f32 := subf main_v87 main_v100
  let main_v102 : FVec F S5x256x256 .f32 := select main_v98 main_v101 main_v87
  let main_c_13 : IVec S_ 32 := constantI S_ 32 4#32
  let main_v103 : IVec S5x256x256 32 := broadcastInDim S5x256x256 ![] bcast_S_S5x256x256 main_c_13
  let main_v104 : IVec S5x256x256 1 := cmpi .eq main_v11 main_v103
  fn_part5 (F := F) main_arg0 main_v3 main_v7 main_v8 main_v10 main_v11 main_v93 main_v95 main_v102 main_v104

def fn_part3 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v49 : FVec F S5x256x256 .f32) (main_v55 : FVec F S5x256x256 .f32) (main_v57 : IVec S5x256x256 1) (main_v60 : IVec S5x256x256 1) (main_v63 : FVec F S5x256x256 .f32) : IVec S9x256x256 1 × IVec S8x256x256 1 :=
  let main_v64 : FVec F S5x256x256 .f32 := select main_v60 main_v63 main_v49
  let main_c_7 : IVec S_ 32 := constantI S_ 32 2#32
  let main_v65 : IVec S5x256x256 32 := broadcastInDim S5x256x256 ![] bcast_S_S5x256x256 main_c_7
  let main_v66 : IVec S5x256x256 1 := cmpi .eq main_v11 main_v65
  let main_v67 : IVec S5x256x256 1 := andi main_v57 main_v66
  let main_v68 : FVec F S5x256x256 .f32 := select main_v67 main_v55 main_v64
  let main_v69 : FVec F S5x1x256 .f32 := (extractStridedSlice S5x1x256 ![0, 3, 0] · slices_S5x256x256_S5x1x256_0_3_0) main_v68
  let main_v70 : FVec F S5x256x1 .f32 := (extractStridedSlice S5x256x1 ![0, 0, 3] · slices_S5x256x256_S5x256x1_0_0_3) main_v68
  let main_v71 : FVec F S5x1x1 .f32 := (extractStridedSlice S5x1x1 ![0, 0, 3] · slices_S5x1x256_S5x1x1_0_0_3) main_v69
  let main_v72 : FVec F S5x256x1 .f32 := broadcastInDim S5x256x1 ![0, 1, 2] bcast_S5x1x1_S5x256x1_0_1_2 main_v71
  let main_v73 : FVec F S5x256x1 .f32 := Host.divf main_v70 main_v72
  let main_v74 : FVec F S5x256x256 .f32 := broadcastInDim S5x256x256 ![0, 1, 2] bcast_S5x256x1_S5x256x256_0_1_2 main_v73
  let main_c_8 : IVec S_ 32 := constantI S_ 32 3#32
  let main_v75 : IVec S5x256x256 32 := broadcastInDim S5x256x256 ![] bcast_S_S5x256x256 main_c_8
  let main_v76 : IVec S5x256x256 1 := cmpi .sgt main_v10 main_v75
  let main_c_9 : IVec S_ 32 := constantI S_ 32 3#32
  let main_v77 : IVec S5x256x256 32 := broadcastInDim S5x256x256 ![] bcast_S_S5x256x256 main_c_9
  let main_v78 : IVec S5x256x256 1 := cmpi .sgt main_v11 main_v77
  let main_v79 : IVec S5x256x256 1 := andi main_v76 main_v78
  let main_v80 : FVec F S5x256x256 .f32 := broadcastInDim S5x256x256 ![0, 1, 2] bcast_S5x1x256_S5x256x256_0_1_2 main_v69
  let main_v81 : FVec F S5x256x256 .f32 := mulf main_v74 main_v80
  let main_v82 : FVec F S5x256x256 .f32 := subf main_v68 main_v81
  let main_v83 : FVec F S5x256x256 .f32 := select main_v79 main_v82 main_v68
  let main_c_10 : IVec S_ 32 := constantI S_ 32 3#32
  fn_part4 (F := F) main_arg0 main_v3 main_v7 main_v8 main_v10 main_v11 main_v74 main_v76 main_v83 main_c_10

def fn_part2 {F : FTy → Type} [FloatOps F] (main_arg0 : FVec F S9x256x256 .f32) (main_v3 : FVec F S1x256x256 .f32) (main_v7 : FVec F S1x256x256 .f32) (main_v8 : FVec F S1x256x256 .f32) (main_v10 : IVec S5x256x256 32) (main_v11 : IVec S5x256x256 32) (main_v30 : FVec F S5x256x256 .f32) (main_v36 : FVec F S5x256x256 .f32) (main_v38 : IVec S5x256x256 1) (main_v41 : IVec S5x256x256 1) (main_v42 : FVec F S5x256x256 .f32) : IVec S9x256x256 1 × IVec S8x256x256 1 :=
  let main_v43 : FVec F S5x256x256 .f32 := mulf main_v36 main_v42
  let main_v44 : FVec F S5x256x256 .f32 := subf main_v30 main_v43
  let main_v45 : FVec F S5x256x256 .f32 := select main_v41 main_v44 main_v30
  let main_c_4 : IVec S_ 32 := constantI S_ 32 1#32
  let main_v46 : IVec S5x256x256 32 := broadcastInDim S5x256x256 ![] bcast_S_S5x256x256 main_c_4
  let main_v47 : IVec S5x256x256 1 := cmpi .eq main_v11 main_v46
  let main_v48 : IVec S5x256x256 1 := andi main_v38 main_v47
  let main_v49 : FVec F S5x256x256 .f32 := select main_v48 main_v36 main_v45
  let main_v50 : FVec F S5x1x256 .f32 := (extractStridedSlice S5x1x256 ![0, 2, 0] · slices_S5x256x256_S5x1x256_0_2_0) main_v49
  let main_v51 : FVec F S5x256x1 .f32 := (extractStridedSlice S5x256x1 ![0, 0, 2] · slices_S5x256x256_S5x256x1_0_0_2) main_v49
  let main_v52 : FVec F S5x1x1 .f32 := (extractStridedSlice S5x1x1 ![0, 0, 2] · slices_S5x1x256_S5x1x1_0_0_2) main_v50
  let main_v53 : FVec F S5x256x1 .f32 := broadcastInDim S5x256x1 ![0, 1, 2] bcast_S5x1x1_S5x256x1_0_1_2 main_v52
  let main_v54 : FVec F S5x256x1 .f32 := Host.divf main_v51 main_v53
  let main_v55 : FVec F S5x256x256 .f32 := broadcastInDim S5x256x256 ![0, 1, 2] bcast_S5x256x1_S5x256x256_0_1_2 main_v54
  let main_c_5 : IVec S_ 32 := constantI S_ 32 2#32
  let main_v56 : IVec S5x256x256 32 := broadcastInDim S5x256x256 ![] bcast_S_S5x256x256 main_c_5
  let main_v57 : IVec S5x256x256 1 := cmpi .sgt main_v10 main_v56
  let main_c_6 : IVec S_ 32 := constantI S_ 32 2#32
  let main_v58 : IVec S5x256x256 32 := broadcastInDim S5x256x256 ![] bcast_S_S5x256x256 main_c_6
  let main_v59 : IVec S5x256x256 1 := cmpi .sgt main_v11 main_v58
  let main_v60 : IVec S5x256x256 1 := andi main_v57 main_v59
  let main_v61 : FVec F S5x256x256 .f32 := broadcastInDim S5x256x256 ![0, 1, 2] bcast_S5x1x256_S5x256x256_0_1_2 main_v50
  let main_v62 : FVec F S5x256x256 .f32 := mulf main_v55 main_v61
  let main_v63 : FVec F S5x256x256 .f32 := subf main_v49 main_v62
  fn_part3 (F := F) main_arg0 main_v3 main_v7 main_v8 main_v10 main_v11 main_v49 main_v55 main_v57 main_v60 main_v63

def fn_part1 {F : FTy → Type} [FloatOps F] (main_arg0 : FVec F S9x256x256 .f32) (main_v3 : FVec F S1x256x256 .f32) (main_v7 : FVec F S1x256x256 .f32) (main_v8 : FVec F S1x256x256 .f32) (main_v9 : FVec F S5x256x256 .f32) (main_v10 : IVec S5x256x256 32) (main_v11 : IVec S5x256x256 32) (main_v12 : FVec F S5x1x256 .f32) (main_v17 : FVec F S5x256x256 .f32) (main_v19 : IVec S5x256x256 1) (main_v21 : IVec S5x256x256 1) : IVec S9x256x256 1 × IVec S8x256x256 1 :=
  let main_v22 : IVec S5x256x256 1 := andi main_v19 main_v21
  let main_v23 : FVec F S5x256x256 .f32 := broadcastInDim S5x256x256 ![0, 1, 2] bcast_S5x1x256_S5x256x256_0_1_2 main_v12
  let main_v24 : FVec F S5x256x256 .f32 := mulf main_v17 main_v23
  let main_v25 : FVec F S5x256x256 .f32 := subf main_v9 main_v24
  let main_v26 : FVec F S5x256x256 .f32 := select main_v22 main_v25 main_v9
  let main_c_1 : IVec S_ 32 := constantI S_ 32 0#32
  let main_v27 : IVec S5x256x256 32 := broadcastInDim S5x256x256 ![] bcast_S_S5x256x256 main_c_1
  let main_v28 : IVec S5x256x256 1 := cmpi .eq main_v11 main_v27
  let main_v29 : IVec S5x256x256 1 := andi main_v19 main_v28
  let main_v30 : FVec F S5x256x256 .f32 := select main_v29 main_v17 main_v26
  let main_v31 : FVec F S5x1x256 .f32 := (extractStridedSlice S5x1x256 ![0, 1, 0] · slices_S5x256x256_S5x1x256_0_1_0) main_v30
  let main_v32 : FVec F S5x256x1 .f32 := (extractStridedSlice S5x256x1 ![0, 0, 1] · slices_S5x256x256_S5x256x1_0_0_1) main_v30
  let main_v33 : FVec F S5x1x1 .f32 := (extractStridedSlice S5x1x1 ![0, 0, 1] · slices_S5x1x256_S5x1x1_0_0_1) main_v31
  let main_v34 : FVec F S5x256x1 .f32 := broadcastInDim S5x256x1 ![0, 1, 2] bcast_S5x1x1_S5x256x1_0_1_2 main_v33
  let main_v35 : FVec F S5x256x1 .f32 := Host.divf main_v32 main_v34
  let main_v36 : FVec F S5x256x256 .f32 := broadcastInDim S5x256x256 ![0, 1, 2] bcast_S5x256x1_S5x256x256_0_1_2 main_v35
  let main_c_2 : IVec S_ 32 := constantI S_ 32 1#32
  let main_v37 : IVec S5x256x256 32 := broadcastInDim S5x256x256 ![] bcast_S_S5x256x256 main_c_2
  let main_v38 : IVec S5x256x256 1 := cmpi .sgt main_v10 main_v37
  let main_c_3 : IVec S_ 32 := constantI S_ 32 1#32
  let main_v39 : IVec S5x256x256 32 := broadcastInDim S5x256x256 ![] bcast_S_S5x256x256 main_c_3
  let main_v40 : IVec S5x256x256 1 := cmpi .sgt main_v11 main_v39
  let main_v41 : IVec S5x256x256 1 := andi main_v38 main_v40
  let main_v42 : FVec F S5x256x256 .f32 := broadcastInDim S5x256x256 ![0, 1, 2] bcast_S5x1x256_S5x256x256_0_1_2 main_v31
  fn_part2 (F := F) main_arg0 main_v3 main_v7 main_v8 main_v10 main_v11 main_v30 main_v36 main_v38 main_v41 main_v42

def fn {F : FTy → Type} [FloatOps F] (main_arg0 : FVec F S9x256x256 .f32) : IVec S9x256x256 1 × IVec S8x256x256 1 :=
  let main_v0 : FVec F S1x256x256 .f32 := (extractStridedSlice S1x256x256 ![0, 0, 0] · slices_S9x256x256_S1x256x256_0_0_0) main_arg0
  let main_v1 : FVec F S1x256x256 .f32 := (extractStridedSlice S1x256x256 ![1, 0, 0] · slices_S9x256x256_S1x256x256_1_0_0) main_arg0
  let main_v2 : FVec F S1x256x256 .f32 := (extractStridedSlice S1x256x256 ![2, 0, 0] · slices_S9x256x256_S1x256x256_2_0_0) main_arg0
  let main_v3 : FVec F S1x256x256 .f32 := (extractStridedSlice S1x256x256 ![3, 0, 0] · slices_S9x256x256_S1x256x256_3_0_0) main_arg0
  let main_v4 : FVec F S1x256x256 .f32 := (extractStridedSlice S1x256x256 ![4, 0, 0] · slices_S9x256x256_S1x256x256_4_0_0) main_arg0
  let main_v5 : FVec F S1x256x256 .f32 := (extractStridedSlice S1x256x256 ![5, 0, 0] · slices_S9x256x256_S1x256x256_5_0_0) main_arg0
  let main_v6 : FVec F S1x256x256 .f32 := (extractStridedSlice S1x256x256 ![6, 0, 0] · slices_S9x256x256_S1x256x256_6_0_0) main_arg0
  let main_v7 : FVec F S1x256x256 .f32 := (extractStridedSlice S1x256x256 ![7, 0, 0] · slices_S9x256x256_S1x256x256_7_0_0) main_arg0
  let main_v8 : FVec F S1x256x256 .f32 := (extractStridedSlice S1x256x256 ![8, 0, 0] · slices_S9x256x256_S1x256x256_8_0_0) main_arg0
  let main_v9 : FVec F S5x256x256 .f32 := concatenate S5x256x256 0 [⟨S1x256x256, main_v0⟩, ⟨S1x256x256, main_v1⟩, ⟨S1x256x256, main_v2⟩, ⟨S1x256x256, main_v5⟩, ⟨S1x256x256, main_v6⟩] concatenates_S1x256x256_S1x256x256_S1x256x256_S1x256x256_S1x256x256_S5x256x256_d0
  let main_v10 : IVec S5x256x256 32 := iotaInDim S5x256x256 32 1
  let main_v11 : IVec S5x256x256 32 := iotaInDim S5x256x256 32 2
  let main_v12 : FVec F S5x1x256 .f32 := (extractStridedSlice S5x1x256 ![0, 0, 0] · slices_S5x256x256_S5x1x256_0_0_0) main_v9
  let main_v13 : FVec F S5x256x1 .f32 := (extractStridedSlice S5x256x1 ![0, 0, 0] · slices_S5x256x256_S5x256x1_0_0_0) main_v9
  let main_v14 : FVec F S5x1x1 .f32 := (extractStridedSlice S5x1x1 ![0, 0, 0] · slices_S5x1x256_S5x1x1_0_0_0) main_v12
  let main_v15 : FVec F S5x256x1 .f32 := broadcastInDim S5x256x1 ![0, 1, 2] bcast_S5x1x1_S5x256x1_0_1_2 main_v14
  let main_v16 : FVec F S5x256x1 .f32 := Host.divf main_v13 main_v15
  let main_v17 : FVec F S5x256x256 .f32 := broadcastInDim S5x256x256 ![0, 1, 2] bcast_S5x256x1_S5x256x256_0_1_2 main_v16
  let main_c : IVec S_ 32 := constantI S_ 32 0#32
  let main_v18 : IVec S5x256x256 32 := broadcastInDim S5x256x256 ![] bcast_S_S5x256x256 main_c
  let main_v19 : IVec S5x256x256 1 := cmpi .sgt main_v10 main_v18
  let main_c_0 : IVec S_ 32 := constantI S_ 32 0#32
  let main_v20 : IVec S5x256x256 32 := broadcastInDim S5x256x256 ![] bcast_S_S5x256x256 main_c_0
  let main_v21 : IVec S5x256x256 1 := cmpi .sgt main_v11 main_v20
  fn_part1 (F := F) main_arg0 main_v3 main_v7 main_v8 main_v9 main_v10 main_v11 main_v12 main_v17 main_v19 main_v21
-- ==== Kernel.lean ====
abbrev S9x256x256 : Shape := ⟨3, ![9, 256, 256]⟩
abbrev S5x256x256 : Shape := ⟨3, ![5, 256, 256]⟩
abbrev S256x256 : Shape := ⟨2, ![256, 256]⟩
abbrev S1x256x256 : Shape := ⟨3, ![1, 256, 256]⟩
abbrev S1x64x64 : Shape := ⟨3, ![1, 64, 64]⟩
abbrev S256x64 : Shape := ⟨2, ![256, 64]⟩
abbrev S64x256 : Shape := ⟨2, ![64, 256]⟩
abbrev S1x1x256 : Shape := ⟨3, ![1, 1, 256]⟩
abbrev S5x64x256 : Shape := ⟨3, ![5, 64, 256]⟩
abbrev S5x256x64 : Shape := ⟨3, ![5, 256, 64]⟩
abbrev S5x64x64 : Shape := ⟨3, ![5, 64, 64]⟩
abbrev S1x64x1 : Shape := ⟨3, ![1, 64, 1]⟩
abbrev S1x1x64 : Shape := ⟨3, ![1, 1, 64]⟩
abbrev S5x1x1 : Shape := ⟨3, ![5, 1, 1]⟩
abbrev S5x64x1 : Shape := ⟨3, ![5, 64, 1]⟩
abbrev S5x1x64 : Shape := ⟨3, ![5, 1, 64]⟩
abbrev S1x256x1 : Shape := ⟨3, ![1, 256, 1]⟩
abbrev S1x256x64 : Shape := ⟨3, ![1, 256, 64]⟩
abbrev S5x192x256 : Shape := ⟨3, ![5, 192, 256]⟩
abbrev S5x192x64 : Shape := ⟨3, ![5, 192, 64]⟩
abbrev S1x192x1 : Shape := ⟨3, ![1, 192, 1]⟩
abbrev S192x64 : Shape := ⟨2, ![192, 64]⟩
abbrev S1x192x64 : Shape := ⟨3, ![1, 192, 64]⟩
abbrev S128x64 : Shape := ⟨2, ![128, 64]⟩
abbrev S64x128 : Shape := ⟨2, ![64, 128]⟩
abbrev S1x1x128 : Shape := ⟨3, ![1, 1, 128]⟩
abbrev S5x128x128 : Shape := ⟨3, ![5, 128, 128]⟩
abbrev S5x64x128 : Shape := ⟨3, ![5, 64, 128]⟩
abbrev S5x128x64 : Shape := ⟨3, ![5, 128, 64]⟩
abbrev S1x128x1 : Shape := ⟨3, ![1, 128, 1]⟩
abbrev S1x128x64 : Shape := ⟨3, ![1, 128, 64]⟩
abbrev S64x64 : Shape := ⟨2, ![64, 64]⟩
abbrev S1x1x1 : Shape := ⟨3, ![1, 1, 1]⟩
abbrev S1x1 : Shape := ⟨2, ![1, 1]⟩
abbrev S2x256x256 : Shape := ⟨3, ![2, 256, 256]⟩
abbrev S2x64x256 : Shape := ⟨3, ![2, 64, 256]⟩
abbrev S2x256x64 : Shape := ⟨3, ![2, 256, 64]⟩
abbrev S2x64x64 : Shape := ⟨3, ![2, 64, 64]⟩
abbrev S2x1x1 : Shape := ⟨3, ![2, 1, 1]⟩
abbrev S2x64x1 : Shape := ⟨3, ![2, 64, 1]⟩
abbrev S2x1x64 : Shape := ⟨3, ![2, 1, 64]⟩
abbrev S2x192x256 : Shape := ⟨3, ![2, 192, 256]⟩
abbrev S2x192x64 : Shape := ⟨3, ![2, 192, 64]⟩
abbrev S2x128x128 : Shape := ⟨3, ![2, 128, 128]⟩
abbrev S2x64x128 : Shape := ⟨3, ![2, 64, 128]⟩
abbrev S2x128x64 : Shape := ⟨3, ![2, 128, 64]⟩
abbrev S1x64x256 : Shape := ⟨3, ![1, 64, 256]⟩
abbrev S1x192x256 : Shape := ⟨3, ![1, 192, 256]⟩
abbrev S1x128x128 : Shape := ⟨3, ![1, 128, 128]⟩
abbrev S1x64x128 : Shape := ⟨3, ![1, 64, 128]⟩

abbrev nBuf : Space → Nat
  | .hbm => 2
  | .vmem => 3
  | .smem => 0
  | _ => 0

abbrev bufTy : (tb : Table) → Fin (tcTables nBuf tb) → BufTy
  | .hbm, ⟨0, _⟩ => ⟨S9x256x256, .f32⟩
  | .hbm, ⟨1, _⟩ => ⟨S9x256x256, .f32⟩
  | .local _ .vmem, ⟨0, _⟩ => ⟨S9x256x256, .f32⟩
  | .local _ .vmem, ⟨1, _⟩ => ⟨S9x256x256, .f32⟩
  | .local _ .vmem, ⟨2, _⟩ => ⟨S5x256x256, .f32⟩
  | _, _ => ⟨S9x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (c0_i32_29 : BitVec 32) : Fin 3 → Nat :=
  let c0_30 : Index := 0#32
  let c0_i32 : BitVec 32 := 0#32
  let c64_i32_28 : BitVec 32 := 64#32
  let v47 : BitVec 32 := Scalar.muli c0_i32 c64_i32_28
  let v48 : BitVec 32 := Scalar.addi c0_i32_29 v47
  let v49 : Index := Scalar.indexCast v48
  let c0_31 : Index := 0#32
  ![0, v49.toNat, 0]
def k0_off2 (c0_i32_2022 : BitVec 32) : Fin 3 → Nat :=
  let c0_2023 : Index := 0#32
  let c0_i32_2014 : BitVec 32 := 0#32
  let c64_i32_2021 : BitVec 32 := 64#32
  let v9146 : BitVec 32 := Scalar.muli c0_i32_2014 c64_i32_2021
  let v9147 : BitVec 32 := Scalar.addi c0_i32_2022 v9146
  let v9148 : Index := Scalar.indexCast v9147
  let c0_2024 : Index := 0#32
  ![0, v9148.toNat, 0]
def k0_off3 (c0_i32_4031 : BitVec 32) : Fin 3 → Nat :=
  let c0_4032 : Index := 0#32
  let c0_i32_4023 : BitVec 32 := 0#32
  let c64_i32_4030 : BitVec 32 := 64#32
  let v18134 : BitVec 32 := Scalar.muli c0_i32_4023 c64_i32_4030
  let v18135 : BitVec 32 := Scalar.addi c0_i32_4031 v18134
  let v18136 : Index := Scalar.indexCast v18135
  let c0_4033 : Index := 0#32
  ![0, v18136.toNat, 0]
abbrev stage0_0 : Fin 1 → Memref sig .tc .vmem S9x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S9x256x256 : Shape := ⟨3, ![9, 256, 256]⟩
abbrev S_ : Shape := ⟨0, ![]⟩
abbrev S9x2x2 : Shape := ⟨3, ![9, 2, 2]⟩
abbrev S1x1x1 : Shape := ⟨3, ![1, 1, 1]⟩
abbrev S9x1x256 : Shape := ⟨3, ![9, 1, 256]⟩
abbrev S9x256x1 : Shape := ⟨3, ![9, 256, 1]⟩
abbrev S9x1x1 : Shape := ⟨3, ![9, 1, 1]⟩
abbrev S1x256x1 : Shape := ⟨3, ![1, 256, 1]⟩
abbrev S1x1x256 : Shape := ⟨3, ![1, 1, 256]⟩

abbrev nBuf : Space → Nat
  | .hbm => 306
  | .vmem => 0
  | .smem => 0
  | _ => 0

abbrev hbmTy0_0 (i : Nat) : BufTy := match i % 128 with
  | 0 => ⟨S9x256x256, .f32⟩
  | 1 => ⟨S_, .i32⟩
  | 2 => ⟨S_, .i32⟩
  | 3 => ⟨S_, .i32⟩
  | 4 => ⟨S_, .i32⟩
  | 5 => ⟨S9x256x256, .f32⟩
  | 6 => ⟨S_, .i32⟩
  | 7 => ⟨S_, .i1⟩
  | 8 => ⟨S_, .i32⟩
  | 9 => ⟨S_, .i32⟩
  | 10 => ⟨S9x2x2, .f32⟩
  | 11 => ⟨S_, .i32⟩
  | 12 => ⟨S_, .i1⟩
  | 13 => ⟨S9x2x2, .i1⟩
  | 14 => ⟨S9x2x2, .i32⟩
  | 15 => ⟨S9x2x2, .i32⟩
  | 16 => ⟨S9x2x2, .i32⟩
  | 17 => ⟨S1x1x1, .f32⟩
  | 18 => ⟨S_, .i32⟩
  | 19 => ⟨S9x2x2, .i32⟩
  | 20 => ⟨S9x2x2, .i1⟩
  | 21 => ⟨S_, .i32⟩
  | 22 => ⟨S9x2x2, .i32⟩
  | 23 => ⟨S9x2x2, .i1⟩
  | 24 => ⟨S9x2x2, .i1⟩
  | 25 => ⟨S_, .i32⟩
  | 26 => ⟨S9x2x2, .i32⟩
  | 27 => ⟨S9x2x2, .i1⟩
  | 28 => ⟨S9x2x2, .i1⟩
  | 29 => ⟨S9x2x2, .f32⟩
  | 30 => ⟨S9x2x2, .f32⟩
  | 31 => ⟨S9x2x2, .f32⟩
  | 32 => ⟨S1x1x1, .f32⟩
  | 33 => ⟨S_, .i32⟩
  | 34 => ⟨S9x2x2, .i32⟩
  | 35 => ⟨S9x2x2, .i1⟩
  | 36 => ⟨S_, .i32⟩
  | 37 => ⟨S9x2x2, .i32⟩
  | 38 => ⟨S9x2x2, .i1⟩
  | 39 => ⟨S9x2x2, .i1⟩
  | 40 => ⟨S_, .i32⟩
  | 41 => ⟨S9x2x2, .i32⟩
  | 42 => ⟨S9x2x2, .i1⟩
  | 43 => ⟨S9x2x2, .i1⟩
  | 44 => ⟨S9x2x2, .f32⟩
  | 45 => ⟨S9x2x2, .f32⟩
  | 46 => ⟨S9x2x2, .f32⟩
  | 47 => ⟨S1x1x1, .f32⟩
  | 48 => ⟨S_, .i32⟩
  | 49 => ⟨S9x2x2, .i32⟩
  | 50 => ⟨S9x2x2, .i1⟩
  | 51 => ⟨S_, .i32⟩
  | 52 => ⟨S9x2x2, .i32⟩
  | 53 => ⟨S9x2x2, .i1⟩
  | 54 => ⟨S9x2x2, .i1⟩
  | 55 => ⟨S_, .i32⟩
  | 56 => ⟨S9x2x2, .i32⟩
  | 57 => ⟨S9x2x2, .i1⟩
  | 58 => ⟨S9x2x2, .i1⟩
  | 59 => ⟨S9x2x2, .f32⟩
  | 60 => ⟨S9x2x2, .f32⟩
  | 61 => ⟨S9x2x2, .f32⟩
  | 62 => ⟨S1x1x1, .f32⟩
  | 63 => ⟨S_, .i32⟩
  | 64 => ⟨S9x2x2, .i32⟩
  | 65 => ⟨S9x2x2, .i1⟩
  | 66 => ⟨S_, .i32⟩
  | 67 => ⟨S9x2x2, .i32⟩
  | 68 => ⟨S9x2x2, .i1⟩
  | 69 => ⟨S9x2x2, .i1⟩
  | 70 => ⟨S_, .i32⟩
  | 71 => ⟨S9x2x2, .i32⟩
  | 72 => ⟨S9x2x2, .i1⟩
  | 73 => ⟨S9x2x2, .i1⟩
  | 74 => ⟨S9x2x2, .f32⟩
  | 75 => ⟨S9x2x2, .f32⟩
  | 76 => ⟨S9x2x2, .f32⟩
  | 77 => ⟨S1x1x1, .f32⟩
  | 78 => ⟨S_, .i32⟩
  | 79 => ⟨S9x2x2, .i32⟩
  | 80 => ⟨S9x2x2, .i1⟩
  | 81 => ⟨S_, .i32⟩
  | 82 => ⟨S9x2x2, .i32⟩
  | 83 => ⟨S9x2x2, .i1⟩
  | 84 => ⟨S9x2x2, .i1⟩
  | 85 => ⟨S_, .i32⟩
  | 86 => ⟨S9x2x2, .i32⟩
  | 87 => ⟨S9x2x2, .i1⟩
  | 88 => ⟨S9x2x2, .i1⟩
  | 89 => ⟨S9x2x2, .f32⟩
  | 90 => ⟨S9x2x2, .f32⟩
  | 91 => ⟨S9x2x2, .f32⟩
  | 92 => ⟨S1x1x1, .f32⟩
  | 93 => ⟨S_, .i32⟩
  | 94 => ⟨S9x2x2, .i32⟩
  | 95 => ⟨S9x2x2, .i1⟩
  | 96 => ⟨S_, .i32⟩
  | 97 => ⟨S9x2x2, .i32⟩
  | 98 => ⟨S9x2x2, .i1⟩
  | 99 => ⟨S9x2x2, .i1⟩
  | 100 => ⟨S_, .i32⟩
  | 101 => ⟨S9x2x2, .i32⟩
  | 102 => ⟨S9x2x2, .i1⟩
  | 103 => ⟨S9x2x2, .i1⟩
  | 104 => ⟨S9x2x2, .f32⟩
  | 105 => ⟨S9x2x2, .f32⟩
  | 106 => ⟨S9x2x2, .f32⟩
  | 107 => ⟨S1x1x1, .f32⟩
  | 108 => ⟨S_, .i32⟩
  | 109 => ⟨S9x2x2, .i32⟩
  | 110 => ⟨S9x2x2, .i1⟩
  | 111 => ⟨S_, .i32⟩
  | 112 => ⟨S9x2x2, .i32⟩
  | 113 => ⟨S9x2x2, .i1⟩
  | 114 => ⟨S9x2x2, .i1⟩
  | 115 => ⟨S_, .i32⟩
  | 116 => ⟨S9x2x2, .i32⟩
  | 117 => ⟨S9x2x2, .i1⟩
  | 118 => ⟨S9x2x2, .i1⟩
  | 119 => ⟨S9x2x2, .f32⟩
  | 120 => ⟨S9x2x2, .f32⟩
  | 121 => ⟨S9x2x2, .f32⟩
  | 122 => ⟨S1x1x1, .f32⟩
  | 123 => ⟨S_, .i32⟩
  | 124 => ⟨S9x2x2, .i32⟩
  | 125 => ⟨S9x2x2, .i1⟩
  | 126 => ⟨S_, .i32⟩
  | 127 => ⟨S9x2x2, .i32⟩
  | _ => ⟨S9x256x256, .f32⟩

abbrev hbmTy0_1 (i : Nat) : BufTy := match i % 128 with
  | 0 => ⟨S9x2x2, .i1⟩
  | 1 => ⟨S9x2x2, .i1⟩
  | 2 => ⟨S_, .i32⟩
  | 3 => ⟨S9x2x2, .i32⟩
  | 4 => ⟨S9x2x2, .i1⟩
  | 5 => ⟨S9x2x2, .i1⟩
  | 6 => ⟨S9x2x2, .f32⟩
  | 7 => ⟨S9x2x2, .f32⟩
  | 8 => ⟨S9x2x2, .f32⟩
  | 9 => ⟨S1x1x1, .f32⟩
  | 10 => ⟨S_, .i32⟩
  | 11 => ⟨S9x2x2, .i32⟩
  | 12 => ⟨S9x2x2, .i1⟩
  | 13 => ⟨S_, .i32⟩
  | 14 => ⟨S9x2x2, .i32⟩
  | 15 => ⟨S9x2x2, .i1⟩
  | 16 => ⟨S9x2x2, .i1⟩
  | 17 => ⟨S_, .i32⟩
  | 18 => ⟨S9x2x2, .i32⟩
  | 19 => ⟨S9x2x2, .i1⟩
  | 20 => ⟨S9x2x2, .i1⟩
  | 21 => ⟨S9x2x2, .f32⟩
  | 22 => ⟨S9x2x2, .f32⟩
  | 23 => ⟨S9x2x2, .f32⟩
  | 24 => ⟨S1x1x1, .f32⟩
  | 25 => ⟨S_, .i32⟩
  | 26 => ⟨S9x2x2, .i32⟩
  | 27 => ⟨S9x2x2, .i1⟩
  | 28 => ⟨S_, .i32⟩
  | 29 => ⟨S9x2x2, .i32⟩
  | 30 => ⟨S9x2x2, .i1⟩
  | 31 => ⟨S9x2x2, .i1⟩
  | 32 => ⟨S_, .i32⟩
  | 33 => ⟨S9x2x2, .i32⟩
  | 34 => ⟨S9x2x2, .i1⟩
  | 35 => ⟨S9x2x2, .i1⟩
  | 36 => ⟨S9x2x2, .f32⟩
  | 37 => ⟨S9x2x2, .f32⟩
  | 38 => ⟨S9x2x2, .f32⟩
  | 39 => ⟨S9x2x2, .f32⟩
  | 40 => ⟨S_, .i32⟩
  | 41 => ⟨S_, .i1⟩
  | 42 => ⟨S9x2x2, .i1⟩
  | 43 => ⟨S9x2x2, .i32⟩
  | 44 => ⟨S9x2x2, .i32⟩
  | 45 => ⟨S9x2x2, .i32⟩
  | 46 => ⟨S1x1x1, .f32⟩
  | 47 => ⟨S_, .i32⟩
  | 48 => ⟨S9x2x2, .i32⟩
  | 49 => ⟨S9x2x2, .i1⟩
  | 50 => ⟨S_, .i32⟩
  | 51 => ⟨S9x2x2, .i32⟩
  | 52 => ⟨S9x2x2, .i1⟩
  | 53 => ⟨S9x2x2, .i1⟩
  | 54 => ⟨S_, .i32⟩
  | 55 => ⟨S9x2x2, .i32⟩
  | 56 => ⟨S9x2x2, .i1⟩
  | 57 => ⟨S9x2x2, .i1⟩
  | 58 => ⟨S9x2x2, .f32⟩
  | 59 => ⟨S9x2x2, .f32⟩
  | 60 => ⟨S9x2x2, .f32⟩
  | 61 => ⟨S1x1x1, .f32⟩
  | 62 => ⟨S_, .i32⟩
  | 63 => ⟨S9x2x2, .i32⟩
  | 64 => ⟨S9x2x2, .i1⟩
  | 65 => ⟨S_, .i32⟩
  | 66 => ⟨S9x2x2, .i32⟩
  | 67 => ⟨S9x2x2, .i1⟩
  | 68 => ⟨S9x2x2, .i1⟩
  | 69 => ⟨S_, .i32⟩
  | 70 => ⟨S9x2x2, .i32⟩
  | 71 => ⟨S9x2x2, .i1⟩
  | 72 => ⟨S9x2x2, .i1⟩
  | 73 => ⟨S9x2x2, .f32⟩
  | 74 => ⟨S9x2x2, .f32⟩
  | 75 => ⟨S9x2x2, .f32⟩
  | 76 => ⟨S1x1x1, .f32⟩
  | 77 => ⟨S_, .i32⟩
  | 78 => ⟨S9x2x2, .i32⟩
  | 79 => ⟨S9x2x2, .i1⟩
  | 80 => ⟨S_, .i32⟩
  | 81 => ⟨S9x2x2, .i32⟩
  | 82 => ⟨S9x2x2, .i1⟩
  | 83 => ⟨S9x2x2, .i1⟩
  | 84 => ⟨S_, .i32⟩
  | 85 => ⟨S9x2x2, .i32⟩
  | 86 => ⟨S9x2x2, .i1⟩
  | 87 => ⟨S9x2x2, .i1⟩
  | 88 => ⟨S9x2x2, .f32⟩
  | 89 => ⟨S9x2x2, .f32⟩
  | 90 => ⟨S9x2x2, .f32⟩
  | 91 => ⟨S9x2x2, .f32⟩
  | 92 => ⟨S_, .i32⟩
  | 93 => ⟨S_, .i32⟩
  | 94 => ⟨S_, .i32⟩
  | 95 => ⟨S9x256x256, .f32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S9x1x256, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S9x256x1, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S9x1x1, .f32⟩
  | 122 => ⟨S9x256x1, .f32⟩
  | 123 => ⟨S9x256x1, .f32⟩
  | 124 => ⟨S9x256x256, .f32⟩
  | 125 => ⟨S9x1x1, .i32⟩
  | 126 => ⟨S_, .i32⟩
  | 127 => ⟨S9x1x1, .i32⟩
  | _ => ⟨S9x256x256, .f32⟩

abbrev hbmTy0_2 (i : Nat) : BufTy := match i % 128 with
  | 0 => ⟨S_, .i32⟩
  | 1 => ⟨S9x1x1, .i32⟩
  | 2 => ⟨S9x1x1, .i1⟩
  | 3 => ⟨S_, .i32⟩
  | 4 => ⟨S9x1x1, .i32⟩
  | 5 => ⟨S9x1x1, .i1⟩
  | 6 => ⟨S9x1x1, .i1⟩
  | 7 => ⟨S_, .i32⟩
  | 8 => ⟨S9x1x1, .i32⟩
  | 9 => ⟨S9x1x1, .i32⟩
  | 10 => ⟨S_, .i32⟩
  | 11 => ⟨S9x1x1, .i32⟩
  | 12 => ⟨S9x1x1, .i1⟩
  | 13 => ⟨S_, .i32⟩
  | 14 => ⟨S9x1x1, .i32⟩
  | 15 => ⟨S9x1x1, .i32⟩
  | 16 => ⟨S_, .i32⟩
  | 17 => ⟨S9x1x1, .i32⟩
  | 18 => ⟨S9x1x1, .i1⟩
  | 19 => ⟨S_, .i32⟩
  | 20 => ⟨S9x1x1, .i32⟩
  | 21 => ⟨S9x1x1, .i32⟩
  | 22 => ⟨S_, .i32⟩
  | 23 => ⟨S_, .i32⟩
  | 24 => ⟨S9x1x1, .i32⟩
  | 25 => ⟨S9x1x1, .i1⟩
  | 26 => ⟨S1x256x1, .i32⟩
  | 27 => ⟨S1x256x1, .i32⟩
  | 28 => ⟨S1x256x1, .i1⟩
  | 29 => ⟨S9x256x1, .i1⟩
  | 30 => ⟨S9x256x1, .i1⟩
  | 31 => ⟨S9x256x1, .i1⟩
  | 32 => ⟨S1x1x256, .i32⟩
  | 33 => ⟨S1x1x256, .i32⟩
  | 34 => ⟨S1x1x256, .i1⟩
  | 35 => ⟨S9x256x256, .i1⟩
  | 36 => ⟨S9x256x256, .i1⟩
  | 37 => ⟨S9x256x256, .i1⟩
  | 38 => ⟨S9x256x256, .f32⟩
  | 39 => ⟨S9x256x256, .f32⟩
  | 40 => ⟨S9x256x256, .f32⟩
  | 41 => ⟨S9x256x256, .f32⟩
  | 42 => ⟨S1x1x256, .i32⟩
  | 43 => ⟨S1x1x256, .i1⟩
  | 44 => ⟨S9x256x256, .i1⟩
  | 45 => ⟨S9x256x256, .i1⟩
  | 46 => ⟨S9x256x256, .i1⟩
  | 47 => ⟨S9x256x256, .f32⟩
  | 48 => ⟨S_, .i32⟩
  | 49 => ⟨S_, .i32⟩
  | _ => ⟨S9x256x256, .f32⟩

abbrev hbmTy (i : Nat) : BufTy := match i / 128 with
  | 0 => hbmTy0_0 i
  | 1 => hbmTy0_1 i
  | 2 => hbmTy0_2 i
  | _ => ⟨S9x256x256, .f32⟩

abbrev bufTy : (tb : Table) → Fin (tcTables nBuf tb) → BufTy
  | .hbm, ⟨i, _⟩ => hbmTy i
  | _, _ => ⟨S9x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_while0c_c_3 : Ref sig .tc := ⟨.hbm, 6, rfl⟩
abbrev main_while0c_v1 : Ref sig .tc := ⟨.hbm, 7, rfl⟩
abbrev main_while0b_c_3 : Ref sig .tc := ⟨.hbm, 8, rfl⟩
abbrev main_while0b_v1 : Ref sig .tc := ⟨.hbm, 9, rfl⟩
abbrev main_while0b_v2 : Ref sig .tc := ⟨.hbm, 10, rfl⟩
abbrev main_while0b_c_4 : Ref sig .tc := ⟨.hbm, 11, rfl⟩
abbrev main_while0b_v3 : Ref sig .tc := ⟨.hbm, 12, rfl⟩
abbrev main_while0b_v4 : Ref sig .tc := ⟨.hbm, 13, rfl⟩
abbrev main_while0b_v5 : Ref sig .tc := ⟨.hbm, 14, rfl⟩
abbrev main_while0b_v6 : Ref sig .tc := ⟨.hbm, 15, rfl⟩
abbrev main_while0b_v7 : Ref sig .tc := ⟨.hbm, 16, rfl⟩
abbrev main_while0b_v8 : Ref sig .tc := ⟨.hbm, 17, rfl⟩
abbrev main_while0b_c_5 : Ref sig .tc := ⟨.hbm, 18, rfl⟩
abbrev main_while0b_v9 : Ref sig .tc := ⟨.hbm, 19, rfl⟩
abbrev main_while0b_v10 : Ref sig .tc := ⟨.hbm, 20, rfl⟩
abbrev main_while0b_c_6 : Ref sig .tc := ⟨.hbm, 21, rfl⟩
abbrev main_while0b_v11 : Ref sig .tc := ⟨.hbm, 22, rfl⟩
abbrev main_while0b_v12 : Ref sig .tc := ⟨.hbm, 23, rfl⟩
abbrev main_while0b_v13 : Ref sig .tc := ⟨.hbm, 24, rfl⟩
abbrev main_while0b_c_7 : Ref sig .tc := ⟨.hbm, 25, rfl⟩
abbrev main_while0b_v14 : Ref sig .tc := ⟨.hbm, 26, rfl⟩
abbrev main_while0b_v15 : Ref sig .tc := ⟨.hbm, 27, rfl⟩
abbrev main_while0b_v16 : Ref sig .tc := ⟨.hbm, 28, rfl⟩
abbrev main_while0b_v17 : Ref sig .tc := ⟨.hbm, 29, rfl⟩
abbrev main_while0b_v18 : Ref sig .tc := ⟨.hbm, 30, rfl⟩
abbrev main_while0b_v19 : Ref sig .tc := ⟨.hbm, 31, rfl⟩
abbrev main_while0b_v20 : Ref sig .tc := ⟨.hbm, 32, rfl⟩
abbrev main_while0b_c_8 : Ref sig .tc := ⟨.hbm, 33, rfl⟩
abbrev main_while0b_v21 : Ref sig .tc := ⟨.hbm, 34, rfl⟩
abbrev main_while0b_v22 : Ref sig .tc := ⟨.hbm, 35, rfl⟩
abbrev main_while0b_c_9 : Ref sig .tc := ⟨.hbm, 36, rfl⟩
abbrev main_while0b_v23 : Ref sig .tc := ⟨.hbm, 37, rfl⟩
abbrev main_while0b_v24 : Ref sig .tc := ⟨.hbm, 38, rfl⟩
abbrev main_while0b_v25 : Ref sig .tc := ⟨.hbm, 39, rfl⟩
abbrev main_while0b_c_10 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_v31 : Ref sig .tc := ⟨.hbm, 46, rfl⟩
abbrev main_while0b_v32 : Ref sig .tc := ⟨.hbm, 47, rfl⟩
abbrev main_while0b_c_11 : Ref sig .tc := ⟨.hbm, 48, rfl⟩
abbrev main_while0b_v33 : Ref sig .tc := ⟨.hbm, 49, rfl⟩
abbrev main_while0b_v34 : Ref sig .tc := ⟨.hbm, 50, rfl⟩
abbrev main_while0b_c_12 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_c_13 : Ref sig .tc := ⟨.hbm, 55, rfl⟩
abbrev main_while0b_v38 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_c_14 : Ref sig .tc := ⟨.hbm, 63, rfl⟩
abbrev main_while0b_v45 : Ref sig .tc := ⟨.hbm, 64, rfl⟩
abbrev main_while0b_v46 : Ref sig .tc := ⟨.hbm, 65, rfl⟩
abbrev main_while0b_c_15 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_c_16 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_v53 : Ref sig .tc := ⟨.hbm, 74, rfl⟩
abbrev main_while0b_v54 : Ref sig .tc := ⟨.hbm, 75, rfl⟩
abbrev main_while0b_v55 : Ref sig .tc := ⟨.hbm, 76, rfl⟩
abbrev main_while0b_v56 : Ref sig .tc := ⟨.hbm, 77, rfl⟩
abbrev main_while0b_c_17 : Ref sig .tc := ⟨.hbm, 78, rfl⟩
abbrev main_while0b_v57 : Ref sig .tc := ⟨.hbm, 79, rfl⟩
abbrev main_while0b_v58 : Ref sig .tc := ⟨.hbm, 80, rfl⟩
abbrev main_while0b_c_18 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_c_19 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_c_20 : Ref sig .tc := ⟨.hbm, 93, rfl⟩
abbrev main_while0b_v69 : Ref sig .tc := ⟨.hbm, 94, rfl⟩
abbrev main_while0b_v70 : Ref sig .tc := ⟨.hbm, 95, rfl⟩
abbrev main_while0b_c_21 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_c_22 : Ref sig .tc := ⟨.hbm, 100, rfl⟩
abbrev main_while0b_v74 : Ref sig .tc := ⟨.hbm, 101, rfl⟩
abbrev main_while0b_v75 : Ref sig .tc := ⟨.hbm, 102, rfl⟩
abbrev main_while0b_v76 : Ref sig .tc := ⟨.hbm, 103, rfl⟩
abbrev main_while0b_v77 : Ref sig .tc := ⟨.hbm, 104, rfl⟩
abbrev main_while0b_v78 : Ref sig .tc := ⟨.hbm, 105, rfl⟩
abbrev main_while0b_v79 : Ref sig .tc := ⟨.hbm, 106, rfl⟩
abbrev main_while0b_v80 : Ref sig .tc := ⟨.hbm, 107, rfl⟩
abbrev main_while0b_c_23 : Ref sig .tc := ⟨.hbm, 108, rfl⟩
abbrev main_while0b_v81 : Ref sig .tc := ⟨.hbm, 109, rfl⟩
abbrev main_while0b_v82 : Ref sig .tc := ⟨.hbm, 110, rfl⟩
abbrev main_while0b_c_24 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_c_25 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_c_26 : Ref sig .tc := ⟨.hbm, 123, rfl⟩
abbrev main_while0b_v93 : Ref sig .tc := ⟨.hbm, 124, rfl⟩
abbrev main_while0b_v94 : Ref sig .tc := ⟨.hbm, 125, rfl⟩
abbrev main_while0b_c_27 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_c_28 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_v101 : Ref sig .tc := ⟨.hbm, 134, rfl⟩
abbrev main_while0b_v102 : Ref sig .tc := ⟨.hbm, 135, rfl⟩
abbrev main_while0b_v103 : Ref sig .tc := ⟨.hbm, 136, rfl⟩
abbrev main_while0b_v104 : Ref sig .tc := ⟨.hbm, 137, rfl⟩
abbrev main_while0b_c_29 : Ref sig .tc := ⟨.hbm, 138, rfl⟩
abbrev main_while0b_v105 : Ref sig .tc := ⟨.hbm, 139, rfl⟩
abbrev main_while0b_v106 : Ref sig .tc := ⟨.hbm, 140, rfl⟩
abbrev main_while0b_c_30 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_c_31 : Ref sig .tc := ⟨.hbm, 145, rfl⟩
abbrev main_while0b_v110 : Ref sig .tc := ⟨.hbm, 146, rfl⟩
abbrev main_while0b_v111 : Ref sig .tc := ⟨.hbm, 147, rfl⟩
abbrev main_while0b_v112 : Ref sig .tc := ⟨.hbm, 148, rfl⟩
abbrev main_while0b_v113 : Ref sig .tc := ⟨.hbm, 149, rfl⟩
abbrev main_while0b_v114 : Ref sig .tc := ⟨.hbm, 150, rfl⟩
abbrev main_while0b_v115 : Ref sig .tc := ⟨.hbm, 151, rfl⟩
abbrev main_while0b_v116 : Ref sig .tc := ⟨.hbm, 152, rfl⟩
abbrev main_while0b_c_32 : Ref sig .tc := ⟨.hbm, 153, rfl⟩
abbrev main_while0b_v117 : Ref sig .tc := ⟨.hbm, 154, rfl⟩
abbrev main_while0b_v118 : Ref sig .tc := ⟨.hbm, 155, rfl⟩
abbrev main_while0b_c_33 : Ref sig .tc := ⟨.hbm, 156, rfl⟩
abbrev main_while0b_v119 : Ref sig .tc := ⟨.hbm, 157, rfl⟩
abbrev main_while0b_v120 : Ref sig .tc := ⟨.hbm, 158, rfl⟩
abbrev main_while0b_v121 : Ref sig .tc := ⟨.hbm, 159, rfl⟩
abbrev main_while0b_c_34 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_c_35 : Ref sig .tc := ⟨.hbm, 168, rfl⟩
abbrev main_while0b_v129 : Ref sig .tc := ⟨.hbm, 169, rfl⟩
abbrev main_while0b_v130 : Ref sig .tc := ⟨.hbm, 170, rfl⟩
abbrev main_while0b_v131 : Ref sig .tc := ⟨.hbm, 171, rfl⟩
abbrev main_while0b_v132 : Ref sig .tc := ⟨.hbm, 172, rfl⟩
abbrev main_while0b_v133 : Ref sig .tc := ⟨.hbm, 173, rfl⟩
abbrev main_while0b_v134 : Ref sig .tc := ⟨.hbm, 174, rfl⟩
abbrev main_while0b_c_36 : Ref sig .tc := ⟨.hbm, 175, rfl⟩
abbrev main_while0b_v135 : Ref sig .tc := ⟨.hbm, 176, rfl⟩
abbrev main_while0b_v136 : Ref sig .tc := ⟨.hbm, 177, rfl⟩
abbrev main_while0b_c_37 : Ref sig .tc := ⟨.hbm, 178, rfl⟩
abbrev main_while0b_v137 : Ref sig .tc := ⟨.hbm, 179, rfl⟩
abbrev main_while0b_v138 : Ref sig .tc := ⟨.hbm, 180, rfl⟩
abbrev main_while0b_v139 : Ref sig .tc := ⟨.hbm, 181, rfl⟩
abbrev main_while0b_c_38 : Ref sig .tc := ⟨.hbm, 182, rfl⟩
abbrev main_while0b_v140 : Ref sig .tc := ⟨.hbm, 183, rfl⟩
abbrev main_while0b_v141 : Ref sig .tc := ⟨.hbm, 184, rfl⟩
abbrev main_while0b_v142 : Ref sig .tc := ⟨.hbm, 185, rfl⟩
abbrev main_while0b_v143 : Ref sig .tc := ⟨.hbm, 186, rfl⟩
abbrev main_while0b_v144 : Ref sig .tc := ⟨.hbm, 187, rfl⟩
abbrev main_while0b_v145 : Ref sig .tc := ⟨.hbm, 188, rfl⟩
abbrev main_while0b_v146 : Ref sig .tc := ⟨.hbm, 189, rfl⟩
abbrev main_while0b_c_39 : Ref sig .tc := ⟨.hbm, 190, rfl⟩
abbrev main_while0b_v147 : Ref sig .tc := ⟨.hbm, 191, rfl⟩
abbrev main_while0b_v148 : Ref sig .tc := ⟨.hbm, 192, rfl⟩
abbrev main_while0b_c_40 : Ref sig .tc := ⟨.hbm, 193, rfl⟩
abbrev main_while0b_v149 : Ref sig .tc := ⟨.hbm, 194, rfl⟩
abbrev main_while0b_v150 : Ref sig .tc := ⟨.hbm, 195, rfl⟩
abbrev main_while0b_v151 : Ref sig .tc := ⟨.hbm, 196, rfl⟩
abbrev main_while0b_c_41 : Ref sig .tc := ⟨.hbm, 197, rfl⟩
abbrev main_while0b_v152 : Ref sig .tc := ⟨.hbm, 198, rfl⟩
abbrev main_while0b_v153 : Ref sig .tc := ⟨.hbm, 199, rfl⟩
abbrev main_while0b_v154 : Ref sig .tc := ⟨.hbm, 200, rfl⟩
abbrev main_while0b_v155 : Ref sig .tc := ⟨.hbm, 201, rfl⟩
abbrev main_while0b_v156 : Ref sig .tc := ⟨.hbm, 202, rfl⟩
abbrev main_while0b_v157 : Ref sig .tc := ⟨.hbm, 203, rfl⟩
abbrev main_while0b_v158 : Ref sig .tc := ⟨.hbm, 204, rfl⟩
abbrev main_while0b_c_42 : Ref sig .tc := ⟨.hbm, 205, rfl⟩
abbrev main_while0b_v159 : Ref sig .tc := ⟨.hbm, 206, rfl⟩
abbrev main_while0b_v160 : Ref sig .tc := ⟨.hbm, 207, rfl⟩
abbrev main_while0b_c_43 : Ref sig .tc := ⟨.hbm, 208, rfl⟩
abbrev main_while0b_v161 : Ref sig .tc := ⟨.hbm, 209, rfl⟩
abbrev main_while0b_v162 : Ref sig .tc := ⟨.hbm, 210, rfl⟩
abbrev main_while0b_v163 : Ref sig .tc := ⟨.hbm, 211, rfl⟩
abbrev main_while0b_c_44 : Ref sig .tc := ⟨.hbm, 212, rfl⟩
abbrev main_while0b_v164 : Ref sig .tc := ⟨.hbm, 213, rfl⟩
abbrev main_while0b_v165 : Ref sig .tc := ⟨.hbm, 214, rfl⟩
abbrev main_while0b_v166 : Ref sig .tc := ⟨.hbm, 215, rfl⟩
abbrev main_while0b_v167 : Ref sig .tc := ⟨.hbm, 216, rfl⟩
abbrev main_while0b_v168 : Ref sig .tc := ⟨.hbm, 217, rfl⟩
abbrev main_while0b_v169 : Ref sig .tc := ⟨.hbm, 218, rfl⟩
abbrev main_while0b_v170 : Ref sig .tc := ⟨.hbm, 219, rfl⟩
abbrev main_while0b_c_45 : Ref sig .tc := ⟨.hbm, 220, rfl⟩
abbrev main_while0b_c_46 : Ref sig .tc := ⟨.hbm, 221, rfl⟩
abbrev main_while0b_c_47 : Ref sig .tc := ⟨.hbm, 222, rfl⟩
abbrev main_while0b_v171 : Ref sig .tc := ⟨.hbm, 223, rfl⟩
abbrev main_while0b_c_48 : Ref sig .tc := ⟨.hbm, 224, rfl⟩
abbrev main_while0b_v172 : Ref sig .tc := ⟨.hbm, 225, rfl⟩
abbrev main_while0b_c_49 : Ref sig .tc := ⟨.hbm, 226, rfl⟩
abbrev main_while0b_v173 : Ref sig .tc := ⟨.hbm, 227, rfl⟩
abbrev main_while0b_c_50 : Ref sig .tc := ⟨.hbm, 228, rfl⟩
abbrev main_while0b_v174 : Ref sig .tc := ⟨.hbm, 229, rfl⟩
abbrev main_while0b_v175 : Ref sig .tc := ⟨.hbm, 230, rfl⟩
abbrev main_while0b_c_51 : Ref sig .tc := ⟨.hbm, 231, rfl⟩
abbrev main_while0b_c_52 : Ref sig .tc := ⟨.hbm, 232, rfl⟩
abbrev main_while0b_v176 : Ref sig .tc := ⟨.hbm, 233, rfl⟩
abbrev main_while0b_c_53 : Ref sig .tc := ⟨.hbm, 234, rfl⟩
abbrev main_while0b_v177 : Ref sig .tc := ⟨.hbm, 235, rfl⟩
abbrev main_while0b_c_54 : Ref sig .tc := ⟨.hbm, 236, rfl⟩
abbrev main_while0b_v178 : Ref sig .tc := ⟨.hbm, 237, rfl⟩
abbrev main_while0b_v179 : Ref sig .tc := ⟨.hbm, 238, rfl⟩
abbrev main_while0b_c_55 : Ref sig .tc := ⟨.hbm, 239, rfl⟩
abbrev main_while0b_c_56 : Ref sig .tc := ⟨.hbm, 240, rfl⟩
abbrev main_while0b_v180 : Ref sig .tc := ⟨.hbm, 241, rfl⟩
abbrev main_while0b_c_57 : Ref sig .tc := ⟨.hbm, 242, rfl⟩
abbrev main_while0b_v181 : Ref sig .tc := ⟨.hbm, 243, rfl⟩
abbrev main_while0b_c_58 : Ref sig .tc := ⟨.hbm, 244, rfl⟩
abbrev main_while0b_v182 : Ref sig .tc := ⟨.hbm, 245, rfl⟩
abbrev main_while0b_v183 : Ref sig .tc := ⟨.hbm, 246, rfl⟩
abbrev main_while0b_c_59 : Ref sig .tc := ⟨.hbm, 247, rfl⟩
abbrev main_while0b_c_60 : Ref sig .tc := ⟨.hbm, 248, rfl⟩
abbrev main_while0b_v184 : Ref sig .tc := ⟨.hbm, 249, rfl⟩
abbrev main_while0b_v185 : Ref sig .tc := ⟨.hbm, 250, rfl⟩
abbrev main_while0b_v186 : Ref sig .tc := ⟨.hbm, 251, rfl⟩
abbrev main_while0b_v187 : Ref sig .tc := ⟨.hbm, 252, rfl⟩
abbrev main_while0b_v188 : Ref sig .tc := ⟨.hbm, 253, rfl⟩
abbrev main_while0b_c_61 : Ref sig .tc := ⟨.hbm, 254, rfl⟩
abbrev main_while0b_v189 : Ref sig .tc := ⟨.hbm, 255, rfl⟩
abbrev main_while0b_c_62 : Ref sig .tc := ⟨.hbm, 256, rfl⟩
abbrev main_while0b_v190 : Ref sig .tc := ⟨.hbm, 257, rfl⟩
abbrev main_while0b_v191 : Ref sig .tc := ⟨.hbm, 258, rfl⟩
abbrev main_while0b_c_63 : Ref sig .tc := ⟨.hbm, 259, rfl⟩
abbrev main_while0b_v192 : Ref sig .tc := ⟨.hbm, 260, rfl⟩
abbrev main_while0b_v193 : Ref sig .tc := ⟨.hbm, 261, rfl⟩
abbrev main_while0b_v194 : Ref sig .tc := ⟨.hbm, 262, rfl⟩
abbrev main_while0b_c_64 : Ref sig .tc := ⟨.hbm, 263, rfl⟩
abbrev main_while0b_v195 : Ref sig .tc := ⟨.hbm, 264, rfl⟩
abbrev main_while0b_v196 : Ref sig .tc := ⟨.hbm, 265, rfl⟩
abbrev main_while0b_c_65 : Ref sig .tc := ⟨.hbm, 266, rfl⟩
abbrev main_while0b_v197 : Ref sig .tc := ⟨.hbm, 267, rfl⟩
abbrev main_while0b_v198 : Ref sig .tc := ⟨.hbm, 268, rfl⟩
abbrev main_while0b_c_66 : Ref sig .tc := ⟨.hbm, 269, rfl⟩
abbrev main_while0b_v199 : Ref sig .tc := ⟨.hbm, 270, rfl⟩
abbrev main_while0b_v200 : Ref sig .tc := ⟨.hbm, 271, rfl⟩
abbrev main_while0b_c_67 : Ref sig .tc := ⟨.hbm, 272, rfl⟩
abbrev main_while0b_v201 : Ref sig .tc := ⟨.hbm, 273, rfl⟩
abbrev main_while0b_v202 : Ref sig .tc := ⟨.hbm, 274, rfl⟩
abbrev main_while0b_c_68 : Ref sig .tc := ⟨.hbm, 275, rfl⟩
abbrev main_while0b_v203 : Ref sig .tc := ⟨.hbm, 276, rfl⟩
abbrev main_while0b_v204 : Ref sig .tc := ⟨.hbm, 277, rfl⟩
abbrev main_while0b_c_69 : Ref sig .tc := ⟨.hbm, 278, rfl⟩
abbrev main_while0b_v205 : Ref sig .tc := ⟨.hbm, 279, rfl⟩
abbrev main_while0b_v206 : Ref sig .tc := ⟨.hbm, 280, rfl⟩
abbrev main_while0b_v207 : Ref sig .tc := ⟨.hbm, 281, rfl⟩
abbrev main_while0b_v208 : Ref sig .tc := ⟨.hbm, 282, rfl⟩
abbrev main_while0b_v209 : Ref sig .tc := ⟨.hbm, 283, rfl⟩
abbrev main_while0b_v210 : Ref sig .tc := ⟨.hbm, 284, rfl⟩
abbrev main_while0b_v211 : Ref sig .tc := ⟨.hbm, 285, rfl⟩
abbrev main_while0b_v212 : Ref sig .tc := ⟨.hbm, 286, rfl⟩
abbrev main_while0b_v213 : Ref sig .tc := ⟨.hbm, 287, rfl⟩
abbrev main_while0b_v214 : Ref sig .tc := ⟨.hbm, 288, rfl⟩
abbrev main_while0b_v215 : Ref sig .tc := ⟨.hbm, 289, rfl⟩
abbrev main_while0b_v216 : Ref sig .tc := ⟨.hbm, 290, rfl⟩
abbrev main_while0b_v217 : Ref sig .tc := ⟨.hbm, 291, rfl⟩
abbrev main_while0b_v218 : Ref sig .tc := ⟨.hbm, 292, rfl⟩
abbrev main_while0b_v219 : Ref sig .tc := ⟨.hbm, 293, rfl⟩
abbrev main_while0b_v220 : Ref sig .tc := ⟨.hbm, 294, rfl⟩
abbrev main_while0b_v221 : Ref sig .tc := ⟨.hbm, 295, rfl⟩
abbrev main_while0b_v222 : Ref sig .tc := ⟨.hbm, 296, rfl⟩
abbrev main_while0b_v223 : Ref sig .tc := ⟨.hbm, 297, rfl⟩
abbrev main_while0b_v224 : Ref sig .tc := ⟨.hbm, 298, rfl⟩
abbrev main_while0b_v225 : Ref sig .tc := ⟨.hbm, 299, rfl⟩
abbrev main_while0b_v226 : Ref sig .tc := ⟨.hbm, 300, rfl⟩
abbrev main_while0b_v227 : Ref sig .tc := ⟨.hbm, 301, rfl⟩
abbrev main_while0b_v228 : Ref sig .tc := ⟨.hbm, 302, rfl⟩
abbrev main_while0b_v229 : Ref sig .tc := ⟨.hbm, 303, rfl⟩
abbrev main_while0b_c_70 : Ref sig .tc := ⟨.hbm, 304, rfl⟩
abbrev main_while0b_v230 : Ref sig .tc := ⟨.hbm, 305, rfl⟩

abbrev nD : Nat := 1
abbrev τ : Topo := Topo.v7x

variable {F : FTy → Type} [FloatOps F]

abbrev main_while0_count : Scf.Loop 32 := ⟨0#32, 768#32, 1#32⟩
-- ==== Proof.Body.lean ====
/- The kernel's body written once for each of its repeated pieces: a block step of the factorization as a function
   of the batch size and of the rectangle it updates, and the body as the twelve such steps between the copies and the
   corrections. -/
module

public import proofs.«01_k».proof.KernelIdeal
public import Idealize.ShloMosaic.Lib.ValueIdxCore
public import Idealize.ShloMosaic.Lib.Tactic

@[expose] public section

noncomputable section

namespace Cert.LU

open Idealize.ShloMosaic Idealize.SL.Sem Cert.KernelIdeal

variable {F : FTy → Type} [FloatOps F]

/-- The shapes of rank two and three. -/
abbrev T2 (a b : Nat) : Shape := ⟨2, ![a, b]⟩
abbrev T3 (a b c : Nat) : Shape := ⟨3, ![a, b, c]⟩

theorem sl3 {a b c a' b' c' o0 o1 o2 : Nat} (h0 : o0 + a' ≤ a) (h1 : o1 + b' ≤ b) (h2 : o2 + c' ≤ c) :
    (T3 a b c).Slices ![o0, o1, o2] (T3 a' b' c') :=
  ⟨rfl, fun i => match i with | ⟨0, _⟩ => h0 | ⟨1, _⟩ => h1 | ⟨2, _⟩ => h2⟩

theorem sl2 {a b a' b' o0 o1 : Nat} (h0 : o0 + a' ≤ a) (h1 : o1 + b' ≤ b) :
    (T2 a b).Slices ![o0, o1] (T2 a' b') :=
  ⟨rfl, fun i => match i with | ⟨0, _⟩ => h0 | ⟨1, _⟩ => h1⟩

theorem bc3 {a b c a' b' c' : Nat} (h0 : a = 1 ∨ a = a') (h1 : b = 1 ∨ b = b') (h2 : c = 1 ∨ c = c') :
    (T3 a b c).Broadcasts (T3 a' b' c') :=
  ⟨Nat.le_refl 3, fun i => match i with
    | ⟨0, _⟩ => h0.imp id fun h _ => h | ⟨1, _⟩ => h1.imp id fun h _ => h | ⟨2, _⟩ => h2.imp id fun h _ => h⟩

theorem io {s : Shape} (d : Fin s.rank) (h : 2 ≤ s.rank) : s.Iotas .tc 32 [d] :=
  ⟨List.nodup_singleton d, fun _ => ⟨.inr rfl, h⟩, fun h => absurd rfl h⟩

theorem inb3 {a b c a' b' c' o0 o1 o2 : Nat} (h0 : o0 + a' ≤ a) (h1 : o1 + b' ≤ b) (h2 : o2 + c' ≤ c) :
    ∀ i, (![o0, o1, o2] : Fin 3 → Nat) i + (T3 a' b' c').size i ≤ (T3 a b c).size i :=
  fun i => match i with | ⟨0, _⟩ => h0 | ⟨1, _⟩ => h1 | ⟨2, _⟩ => h2

theorem np3 {a b c : Nat} (h0 : 0 < a) (h1 : 0 < b) (h2 : 0 < c) : 0 < (T3 a b c).numel :=
  Shape.numel_pos fun i => match i with | ⟨0, _⟩ => h0 | ⟨1, _⟩ => h1 | ⟨2, _⟩ => h2

theorem perm021 : List.Perm ([0, 2, 1] : List (Fin 3)) [0, 1, 2] := by decide
theorem perm10 : List.Perm ([1, 0] : List (Fin 2)) [0, 1] := by decide
theorem sorted01 : List.Pairwise (· < ·) ([0, 1] : List (Fin 3)) := by decide

/-- A batched product: `B` products of `m×k` by `k×n`. -/
def dotB (B m k n : Nat) (hB : 0 < B) : DotDims (T3 B m k) (T3 B k n) (T3 B m n) where
  lhsContracting := [2]
  rhsContracting := [1]
  lhsNonContracting := [1]
  rhsNonContracting := [2]
  lhsBatch := [0]
  rhsBatch := [0]
  wf := ⟨rfl, by simp, rfl, by simpa using hB, by simp, by simp, List.Perm.refl [0, 1, 2], perm021,
    rfl, Nat.le_add_left 1 2, fun b => match b with | ⟨0, _⟩ => rfl | ⟨1, _⟩ => rfl | ⟨2, _⟩ => rfl⟩

/-- `B` products of `m×k` by one `k×n`. -/
def dotR (B m k n : Nat) : DotDims (T3 B m k) (T2 k n) (T3 B m n) where
  lhsContracting := [2]
  rhsContracting := [0]
  lhsNonContracting := [0, 1]
  rhsNonContracting := [1]
  lhsBatch := []
  rhsBatch := []
  wf := ⟨rfl, by simp, rfl, by simp, sorted01, by simp, List.Perm.refl [0, 1, 2], perm10,
    rfl, Nat.le_add_left 1 2, fun b => match b with | ⟨0, _⟩ => rfl | ⟨1, _⟩ => rfl | ⟨2, _⟩ => rfl⟩

/-- A vector of zeros, as a splat and as a constant, and the scalar one. -/
def zb (s : Shape) : FVec F s .f32 := broadcast s (Scalar.ofBits .f32 0x00000000#32)
def zc (s : Shape) : FVec F s .f32 := constant s .f32 0x00000000#32
def oneF : F .f32 := Scalar.ofBits .f32 0x3F800000#32

/-- An indicator as a float. -/
def ind {s : Shape} (x : IVec s 1) : FVec F s .f32 := sitofp .f32 (extui 32 x (by decide))

/-- How a mask and a float row of batch size one reach batch size `B`. -/
abbrev MaskB (B : Nat) := ∀ b c : Nat, IVec (T3 1 b c) 1 → IVec (T3 B b c) 1
abbrev FloatB (F : FTy → Type) [FloatOps F] (B : Nat) := ∀ b c : Nat, FVec F (T3 1 b c) .f32 → FVec F (T3 B b c) .f32

def maskB (B : Nat) : MaskB B := fun b c x =>
  broadcastTo (T3 B b c) (shapeCast (T3 1 b c) x rfl) (bc3 (.inl rfl) (.inr rfl) (.inr rfl))
def floatB (B : Nat) : FloatB F B := fun b c x => broadcastTo (T3 B b c) x (bc3 (.inl rfl) (.inr rfl) (.inr rfl))

section Block

variable (B : Nat) (bm : MaskB B) (bf : FloatB F B)

/-- The reciprocal of pivot `j`. -/
def rinv (S : FVec F (T3 B 64 64) .f32) (j : Nat) (hj : j < 64) : FVec F (T3 B 1 1) .f32 :=
  divf (broadcast (T3 B 1 1) oneF)
    (extractStridedSlice (T3 B 1 1) ![0, j, j] S (sl3 (by omega) hj hj))

/-- Step `j` on a corner. -/
def facStep (S : FVec F (T3 B 64 64) .f32) (j : Nat) (hj : j < 64) : FVec F (T3 B 64 64) .f32 :=
  subf S (mulf
    (broadcastTo (T3 B 64 64)
      (select (bm 64 1 (cmpi .sgt (iota .tc (T3 1 64 1) 32 [1] (io 1 (Nat.le_add_left 2 1))) (broadcast (T3 1 64 1) (BitVec.ofNat 32 j))))
        (mulf (extractStridedSlice (T3 B 64 1) ![0, 0, j] S (sl3 (by omega) (by omega) hj))
          (broadcastTo (T3 B 64 1) (rinv B S j hj) (bc3 (.inr rfl) (.inl rfl) (.inl rfl))))
        (zb (T3 B 64 1)))
      (bc3 (.inr rfl) (.inr rfl) (.inl rfl)))
    (broadcastTo (T3 B 64 64)
      (addf
        (select (bm 1 64 (cmpi .sgt (iota .tc (T3 1 1 64) 32 [2] (io 2 (Nat.le_add_left 2 1))) (broadcast (T3 1 1 64) (BitVec.ofNat 32 j))))
          (extractStridedSlice (T3 B 1 64) ![0, j, 0] S (sl3 (by omega) hj (by omega)))
          (zb (T3 B 1 64)))
        (mulf
          (broadcastTo (T3 B 1 64)
            (subf (extractStridedSlice (T3 B 1 1) ![0, j, j] S (sl3 (by omega) hj hj)) (broadcast (T3 B 1 1) oneF))
            (bc3 (.inr rfl) (.inl rfl) (.inl rfl)))
          (bf 1 64 (ind (cmpi .eq (iota .tc (T3 1 1 64) 32 [2] (io 2 (Nat.le_add_left 2 1))) (broadcast (T3 1 1 64) (BitVec.ofNat 32 j)))))))
      (bc3 (.inr rfl) (.inl rfl) (.inr rfl))))

/-- The first `n` steps on a corner. -/
def facIter (S : FVec F (T3 B 64 64) .f32) (n : Nat) : n ≤ 64 → FVec F (T3 B 64 64) .f32 :=
  Nat.rec (motive := fun n => n ≤ 64 → FVec F (T3 B 64 64) .f32) (fun _ => S)
    (fun n ih h => facStep B bm bf (ih (Nat.le_of_succ_le h)) n h) n

/-- The reciprocals of the last `m` pivots, in order. -/
def rdList (S : FVec F (T3 B 64 64) .f32) (m : Nat) : m ≤ 64 → List ((s : Shape) × (s.Idx → F .f32)) :=
  Nat.rec (motive := fun m => m ≤ 64 → List ((s : Shape) × (s.Idx → F .f32))) (fun _ => [])
    (fun m ih h => ⟨T3 B 1 1, rinv B (facIter B bm bf S (64 - (m + 1)) (Nat.sub_le _ _)) (64 - (m + 1)) (by omega)⟩
      :: ih (Nat.le_of_succ_le h)) m

theorem rdList_shapes (S : FVec F (T3 B 64 64) .f32) (m : Nat) (h : m ≤ 64) :
    (rdList B bm bf S m h).map (·.1) = List.replicate m (T3 B 1 1) := by
  induction m with
  | zero => rfl
  | succ m ih => exact congrArg (T3 B 1 1 :: ·) (ih _)

theorem rd_concatenates (S : FVec F (T3 B 64 64) .f32) :
    Shape.Concatenates ((rdList B bm bf S 64 (Nat.le_refl 64)).map (·.1)) (T3 B 64 1) 1 := by
  rw [rdList_shapes]
  refine ⟨by simp, fun s hs => ?_, ?_⟩
  · rw [List.eq_of_mem_replicate hs]
    exact ⟨rfl, fun b => match b with | ⟨0, _⟩ => fun _ => rfl | ⟨1, _⟩ => fun h => absurd rfl h | ⟨2, _⟩ => fun _ => rfl⟩
  · simp

/-- The reciprocals of the pivots as a column. -/
def rdCol (S : FVec F (T3 B 64 64) .f32) : FVec F (T3 B 64 1) .f32 :=
  concatenate (T3 B 64 1) 1 (rdList B bm bf S 64 (Nat.le_refl 64)) (rd_concatenates B bm bf S)

variable (hB : 0 < B)

def mm (x y : FVec F (T3 B 64 64) .f32) : FVec F (T3 B 64 64) .f32 := matmul (dotB B 64 64 64 hB) none x y (zc _)

/-- The inverse of the identity plus a nilpotent `T`, by repeated squaring; `n` doublings. -/
def neuPow (P : FVec F (T3 B 64 64) .f32) (n : Nat) : FVec F (T3 B 64 64) .f32 :=
  Nat.rec (motive := fun _ => FVec F (T3 B 64 64) .f32) P (fun _ p => mm B hB p p) n
def neuSum (eye P : FVec F (T3 B 64 64) .f32) (n : Nat) : FVec F (T3 B 64 64) .f32 :=
  Nat.rec (motive := fun _ => FVec F (T3 B 64 64) .f32) (addf eye P)
    (fun n o => mm B hB o (addf eye (neuPow B hB P (n + 1)))) n
def neumann (eye T : FVec F (T3 B 64 64) .f32) : FVec F (T3 B 64 64) .f32 :=
  neuSum B hB eye (subf (zb _) T) 5

/-- The strictly lower part of a factored corner, its upper part, and the inverses the block step multiplies by. -/
def invL (low eye S : FVec F (T3 B 64 64) .f32) : FVec F (T3 B 64 64) .f32 := neumann B hB eye (mulf S low)
def invU (upp eye S : FVec F (T3 B 64 64) .f32) (rd : FVec F (T3 B 64 1) .f32) : FVec F (T3 B 64 64) .f32 :=
  mulf
    (neumann B hB eye
      (subf (mulf (mulf S upp) (broadcastTo (T3 B 64 64) rd (bc3 (.inr rfl) (.inr rfl) (.inl rfl)))) eye))
    (broadcastTo (T3 B 64 64)
      (transpose (T3 B 1 64) [0, 2, 1] rd ⟨perm021, rfl, fun b => match b with | ⟨0, _⟩ => rfl | ⟨1, _⟩ => rfl | ⟨2, _⟩ => rfl⟩)
      (bc3 (.inr rfl) (.inl rfl) (.inr rfl)))

variable (MR MC : Nat) (c : BitVec 32)

/-- The first row of the corner within the rectangle, and its first column. -/
def krow : BitVec 32 := Scalar.muli 0#32 64#32
def kcol : BitVec 32 := Scalar.addi c (Scalar.muli 0#32 64#32)

/-- The column selector of the corner. -/
def selC : FVec F (T2 MC 64) .f32 :=
  ind (cmpi .eq (iota .tc (T2 MC 64) 32 [0] (io 0 (Nat.le_refl 2)))
    (addi (iota .tc (T2 MC 64) 32 [1] (io 1 (Nat.le_refl 2))) (broadcast (T2 MC 64) (kcol c))))
/-- The selector transposed. -/
def selCt : FVec F (T2 64 MC) .f32 :=
  ind (cmpi .eq (iota .tc (T2 64 MC) 32 [1] (io 1 (Nat.le_refl 2)))
    (addi (iota .tc (T2 64 MC) 32 [0] (io 0 (Nat.le_refl 2))) (broadcast (T2 64 MC) (kcol c))))
/-- The row selector of the corner. -/
def selR : FVec F (T2 MR 64) .f32 :=
  ind (cmpi .eq (iota .tc (T2 MR 64) 32 [0] (io 0 (Nat.le_refl 2)))
    (addi (iota .tc (T2 MR 64) 32 [1] (io 1 (Nat.le_refl 2))) (broadcast (T2 MR 64) krow)))

theorem selR_cast : (T2 MR 64).ShapeCasts (T3 1 MR 64) := by
  simp [Shape.ShapeCasts, Shape.numel, Fin.prod_univ_succ]

/-- The factored corner. -/
def corner (Rw : FVec F (T3 B 64 MC) .f32) : FVec F (T3 B 64 64) .f32 :=
  facIter B bm bf (matmul (dotR B 64 MC 64) none Rw (selC MC c) (zc _)) 64 (Nat.le_refl 64)

/-- The columns the block step multiplies by, and the rows. -/
def colsC (low upp eye : FVec F (T3 B 64 64) .f32) (A : FVec F (T3 B MR MC) .f32) (S : FVec F (T3 B 64 64) .f32)
    (rd : FVec F (T3 B 64 1) .f32) : FVec F (T3 B MR 64) .f32 :=
  addf (matmul (dotB B MR 64 64 hB) none (bf MR 64 (shapeCast (T3 1 MR 64) (selR MR) (selR_cast MR))) (mulf S low) (zc _))
    (select
      (broadcastTo (T3 B MR 64)
        (shapeCast (T3 1 MR 1)
          (cmpi .sge (iota .tc (T3 1 MR 1) 32 [1] (io 1 (Nat.le_add_left 2 1)))
            (broadcast (T3 1 MR 1) (Scalar.addi krow 64#32))) rfl)
        (bc3 (.inl rfl) (.inr rfl) (.inl rfl)))
      (matmul (dotB B MR 64 64 hB) none (matmul (dotR B MR MC 64) none A (selC MC c) (zc _)) (invU B hB upp eye S rd) (zc _))
      (zb _))

def rowsR (low upp eye : FVec F (T3 B 64 64) .f32) (Rw : FVec F (T3 B 64 MC) .f32) (S : FVec F (T3 B 64 64) .f32) :
    FVec F (T3 B 64 MC) .f32 :=
  addf
    (select
      (broadcastTo (T3 B 64 MC)
        (shapeCast (T3 1 1 MC)
          (cmpi .sge (iota .tc (T3 1 1 MC) 32 [2] (io 2 (Nat.le_add_left 2 1)))
            (broadcast (T3 1 1 MC) (Scalar.addi (kcol c) 64#32))) rfl)
        (bc3 (.inl rfl) (.inl rfl) (.inr rfl)))
      (matmul (dotB B 64 64 MC hB) none (invL B hB low eye S) Rw (zc _))
      (zb _))
    (matmul (dotR B 64 64 MC) none (subf (mulf S upp) eye) (selCt MC c) (zc _))

/-- The rectangle after the block step. -/
def blockVal (low upp eye : FVec F (T3 B 64 64) .f32) (A : FVec F (T3 B MR MC) .f32) (Rw : FVec F (T3 B 64 MC) .f32) :
    FVec F (T3 B MR MC) .f32 :=
  subf A (matmul (dotB B MR 64 MC hB) none
    (colsC B bf hB MR MC c low upp eye A (corner B bm bf MC c Rw) (rdCol B bm bf (matmul (dotR B 64 MC 64) none Rw (selC MC c) (zc _))))
    (rowsR B hB MC c low upp eye Rw (corner B bm bf MC c Rw)) (zc _))

end Block

/-- The masks of a layer's batch size. -/
def lowM : FVec F (T3 1 64 64) .f32 :=
  ind (cmpi .sgt (iota .tc (T3 1 64 64) 32 [1] (io 1 (Nat.le_add_left 2 1))) (iota .tc (T3 1 64 64) 32 [2] (io 2 (Nat.le_add_left 2 1))))
def uppM : FVec F (T3 1 64 64) .f32 :=
  ind (cmpi .sle (iota .tc (T3 1 64 64) 32 [1] (io 1 (Nat.le_add_left 2 1))) (iota .tc (T3 1 64 64) 32 [2] (io 2 (Nat.le_add_left 2 1))))
def eyeM : FVec F (T3 1 64 64) .f32 :=
  ind (cmpi .eq (iota .tc (T3 1 64 64) 32 [1] (io 1 (Nat.le_add_left 2 1))) (iota .tc (T3 1 64 64) 32 [2] (io 2 (Nat.le_add_left 2 1))))

variable [Facts]

/-- One block step: the rectangle and its rows are read, the rectangle is written. -/
def chunk (B : Nat) (bm : MaskB B) (bf : FloatB F B) (hB : 0 < B) (hB5 : B ≤ 5) (MR MC roff coff : Nat) (c : BitVec 32)
    (hR : roff + MR ≤ 256) (hR0 : roff + 64 ≤ 256) (hC : coff + MC ≤ 256) (hMR : 0 < MR) (hMC : 0 < MC)
    (rw : FVec F (T3 B 64 256) .f32 → FVec F (T3 B 64 MC) .f32)
    (arg2 : Memref sig .tc .vmem S5x256x256 .f32) : Prog (TpuEff nD τ sig (Elt F) Λ₀ .tc) PUnit := do
  let A : Vec F (T3 B MR MC) .f32 ← Prog.lift (.load arg2 (Rect.unit (s := S5x256x256) ![0, roff, coff] (T3 B MR MC).size
    (inb3 (by omega) hR hC)).toLoadRect (View.loadsAt_vmem (np3 hB hMR hMC)))
  let R0 : Vec F (T3 B 64 256) .f32 ← Prog.lift (.load arg2 (Rect.unit (s := S5x256x256) ![0, roff, 0] (T3 B 64 256).size
    (inb3 (by omega) hR0 (by omega))).toLoadRect (View.loadsAt_vmem (np3 hB (by omega) (by omega))))
  let _ : Vec F (T3 B MR MC) .f32 ← Prog.lift (.load arg2 (Rect.unit (s := S5x256x256) ![0, roff, coff] (T3 B MR MC).size
    (inb3 (by omega) hR hC)).toLoadRect (View.loadsAt_vmem (np3 hB hMR hMC)))
  Prog.lift (.store arg2 (Rect.unit (s := S5x256x256) ![0, roff, coff] (T3 B MR MC).size (inb3 (by omega) hR hC))
    (shapeCast (T3 B MR MC) (blockVal B bm bf hB MR MC c (bf 64 64 lowM) (bf 64 64 uppM) (bf 64 64 eyeM) A (rw R0)) rfl)
    Finset.univ (View.stores_vmem_bits_univ (np3 hB hMR hMC) rfl) (.inl rfl))

/-- The four block steps of a layer of batch size `B`. -/
def layer (B : Nat) (bm : MaskB B) (bf : FloatB F B) (hB : 0 < B) (hB5 : B ≤ 5)
    (arg2 : Memref sig .tc .vmem S5x256x256 .f32) : Prog (TpuEff nD τ sig (Elt F) Λ₀ .tc) PUnit := do
  chunk B bm bf hB hB5 256 256 0 0 0#32 (by omega) (by omega) (by omega) (by omega) (by omega) (fun x => x) arg2
  chunk B bm bf hB hB5 192 256 64 0 64#32 (by omega) (by omega) (by omega) (by omega) (by omega) (fun x => x) arg2
  chunk B bm bf hB hB5 128 128 128 128 0#32 (by omega) (by omega) (by omega) (by omega) (by omega)
    (fun x => extractStridedSlice (T3 B 64 128) ![0, 0, 128] x (sl3 (by omega) (by omega) (by omega))) arg2
  chunk B bm bf hB hB5 64 128 192 128 64#32 (by omega) (by omega) (by omega) (by omega) (by omega)
    (fun x => extractStridedSlice (T3 B 64 128) ![0, 0, 128] x (sl3 (by omega) (by omega) (by omega))) arg2

/-- One matrix copied from one array's matrix `i` to another's matrix `j`. -/
def rdMat {n : Nat} (r : Memref sig .tc .vmem (T3 n 256 256) .f32) (i : Nat) (hi : i < n) :
    Prog (TpuEff nD τ sig (Elt F) Λ₀ .tc) (Vec F (T3 1 256 256) .f32) :=
  Prog.lift (.load r (Rect.unit (s := T3 n 256 256) ![i, 0, 0] (T3 1 256 256).size
    (inb3 hi (Nat.le_refl _) (Nat.le_refl _))).toLoadRect (View.loadsAt_vmem (np3 (by omega) (by omega) (by omega))))
def sq : (T3 1 256 256).ShapeCasts (T2 256 256) := rfl
def unsq : (T2 256 256).ShapeCasts (T3 1 256 256) := rfl
def wrMat {n : Nat} (r : Memref sig .tc .vmem (T3 n 256 256) .f32) (j : Nat) (hj : j < n) (v : FVec F (T2 256 256) .f32) :
    Prog (TpuEff nD τ sig (Elt F) Λ₀ .tc) PUnit := do
  let _ ← rdMat r j hj
  Prog.lift (.store r (Rect.unit (s := T3 n 256 256) ![j, 0, 0] (T3 1 256 256).size
    (inb3 hj (Nat.le_refl _) (Nat.le_refl _))) (shapeCast (T3 1 256 256) v unsq)
    Finset.univ (View.stores_vmem_bits_univ (np3 (by omega) (by omega) (by omega)) rfl) (.inl rfl))
def cpMat {n n' : Nat} (a : Memref sig .tc .vmem (T3 n 256 256) .f32) (i : Nat) (hi : i < n)
    (b : Memref sig .tc .vmem (T3 n' 256 256) .f32) (j : Nat) (hj : j < n') :
    Prog (TpuEff nD τ sig (Elt F) Λ₀ .tc) PUnit := do
  let x ← rdMat a i hi
  wrMat b j hj (shapeCast (T2 256 256) x sq)

/-- A matrix holding one scalar at row `r` and column `s`. -/
def corrAt (x : FVec F (T2 1 1) .f32) (r s : BitVec 32) : FVec F (T2 256 256) .f32 :=
  mulf (broadcastTo (T2 256 256) x ⟨Nat.le_refl 2, fun i => match i with | ⟨0, _⟩ => .inl rfl | ⟨1, _⟩ => .inl rfl⟩)
    (ind (andi (cmpi .eq (iota .tc (T2 256 256) 32 [0] (io 0 (Nat.le_refl 2))) (broadcast (T2 256 256) r))
      (cmpi .eq (iota .tc (T2 256 256) 32 [1] (io 1 (Nat.le_refl 2))) (broadcast (T2 256 256) s))))
def at2 (x : FVec F (T2 256 256) .f32) (i j : Nat) (hi : i < 256) (hj : j < 256) : FVec F (T2 1 1) .f32 :=
  extractStridedSlice (T2 1 1) ![i, j] x (sl2 hi hj)
def sq2 (x : Vec F (T3 1 256 256) .f32) : FVec F (T2 256 256) .f32 := shapeCast (T2 256 256) x sq

def at1 (arg2 : Memref sig .tc .vmem S5x256x256 .f32) (i : Nat) (hi : i < 5) :
    Prog (TpuEff nD τ sig (Elt F) Λ₀ .tc) (Vec F (T3 1 1 1) .f32) :=
  Prog.lift (.load arg2 (Rect.unit (s := S5x256x256) ![i, 1, 1] (T3 1 1 1).size
    (inb3 hi (by omega) (by omega))).toLoadRect (View.loadsAt_vmem (np3 (by omega) (by omega) (by omega))))

def corr3 (x y : Vec F (T3 1 256 256) .f32) : FVec F (T2 256 256) .f32 :=
  addf (addf (addf
    (corrAt (addf (at2 (sq2 x) 1 1 (by omega) (by omega)) (at2 (sq2 y) 2 2 (by omega) (by omega))) 0#32 0#32)
    (corrAt (at2 (sq2 y) 2 3 (by omega) (by omega)) 0#32 1#32))
    (corrAt (at2 (sq2 y) 3 2 (by omega) (by omega)) 1#32 0#32))
    (corrAt (at2 (sq2 y) 3 3 (by omega) (by omega)) 1#32 1#32)
def corr7 (x y : Vec F (T3 1 256 256) .f32) : FVec F (T2 256 256) .f32 :=
  addf (addf (addf
    (corrAt (addf (at2 (sq2 x) 1 1 (by omega) (by omega)) (at2 (sq2 y) 3 3 (by omega) (by omega))) 0#32 0#32)
    (corrAt (at2 (sq2 y) 3 4 (by omega) (by omega)) 0#32 1#32))
    (corrAt (at2 (sq2 y) 4 3 (by omega) (by omega)) 1#32 0#32))
    (corrAt (at2 (sq2 y) 4 4 (by omega) (by omega)) 1#32 1#32)
def sq1 : (T3 1 1 1).ShapeCasts (T2 1 1) := rfl
def corr8 (x y z : Vec F (T3 1 1 1) .f32) : FVec F (T2 256 256) .f32 :=
  corrAt (addf (addf (shapeCast (T2 1 1) x sq1) (shapeCast (T2 1 1) y sq1)) (shapeCast (T2 1 1) z sq1)) 0#32 0#32

/-- The whole body. -/
def luBody (arg0 arg1 : Memref sig .tc .vmem S9x256x256 .f32) (arg2 : Memref sig .tc .vmem S5x256x256 .f32) :
    Prog (TpuEff nD τ sig (Elt F) Λ₀ .tc) PUnit := do
  cpMat arg0 0 (by omega) arg2 0 (by omega)
  cpMat arg0 1 (by omega) arg2 1 (by omega)
  cpMat arg0 2 (by omega) arg2 2 (by omega)
  cpMat arg0 5 (by omega) arg2 3 (by omega)
  cpMat arg0 6 (by omega) arg2 4 (by omega)
  layer 5 (maskB 5) (floatB 5) (by omega) (by omega) arg2
  cpMat arg2 0 (by omega) arg1 0 (by omega)
  cpMat arg2 1 (by omega) arg1 1 (by omega)
  cpMat arg2 2 (by omega) arg1 2 (by omega)
  cpMat arg2 3 (by omega) arg1 5 (by omega)
  cpMat arg2 4 (by omega) arg1 6 (by omega)
  cpMat arg0 4 (by omega) arg1 4 (by omega)
  let b0 ← at1 arg2 0 (by omega)
  let s1 ← rdMat arg2 1 (by omega)
  let s2 ← rdMat arg2 2 (by omega)
  let s3 ← rdMat arg2 3 (by omega)
  let s4 ← rdMat arg2 4 (by omega)
  let a3 ← rdMat arg0 3 (by omega)
  wrMat arg2 0 (by omega) (subf (sq2 a3) (corr3 s1 s2))
  let a7 ← rdMat arg0 7 (by omega)
  wrMat arg2 1 (by omega) (subf (sq2 a7) (corr7 s3 s4))
  layer 2 (maskB 2) (floatB 2) (by omega) (by omega) arg2
  cpMat arg2 0 (by omega) arg1 3 (by omega)
  cpMat arg2 1 (by omega) arg1 7 (by omega)
  let c0 ← at1 arg2 0 (by omega)
  let c1 ← at1 arg2 1 (by omega)
  let a8 ← rdMat arg0 8 (by omega)
  wrMat arg2 0 (by omega) (subf (sq2 a8) (corr8 b0 c0 c1))
  layer 1 (fun _ _ x => x) (fun _ _ x => x) (by omega) (by omega) arg2
  cpMat arg2 0 (by omega) arg1 8 (by omega)

end Cert.LU
-- ==== Proof.BodyEq.lean ====
/- The kernel's body is the body written block by block. -/
module

public import proofs.«01_k».proof.Proof.Body

@[expose] public section

namespace Cert.LU

open Idealize.ShloMosaic Idealize.SL.Sem Cert.KernelIdeal

variable {F : FTy → Type} [FloatOps F] [Facts]

set_option maxRecDepth 100000 in
theorem body_eq (arg0 : Memref sig .tc .vmem S9x256x256 .f32) (h0 : arg0.IsWhole)
    (arg1 : Memref sig .tc .vmem S9x256x256 .f32) (h1 : arg1.IsWhole)
    (arg2 : Memref sig .tc .vmem S5x256x256 .f32) (h2 : arg2.IsWhole) :
    cc0__lu_kernel (F := F) arg0 h0 arg1 h1 arg2 h2 = luBody arg0 arg1 arg2 := by
  sl_kernel_rfl

end Cert.LU
-- ==== Proof.KernelRun.lean ====
/- The kernel's run with its output named: what each block step leaves in the scratch array, and what the body leaves
   in the output block, as functions of the input block. -/
module

public import proofs.«01_k».proof.Proof.BodyEq
public import proofs.«01_k».proof.Proof.Gen.KernelIdeal.Frame
public import Idealize.ShloMosaic.Lib.WritesUnit
public import Idealize.ShloMosaic.Lib.Pipeline.FrameBody
public import Idealize.ShloMosaic.Lib.Pipeline.ValueKit
public import Idealize.ShloMosaic.Lib.Claim
public import Idealize.ShloMosaic.Lib.ValueLayout

@[expose] public section

noncomputable section

namespace Cert.LU

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Contents with a rectangle overwritten. -/
def ovw {s : Shape} {α : Type} (X : s.Idx → α) (off size : Fin s.rank → Nat)
    (w : ((a : Fin s.rank) → Fin (size a)) → α) : s.Idx → α := fun y =>
  if h : ∀ a, off a ≤ (y a).val ∧ (y a).val < off a + size a then
    w (Rect.unitLocal (s := s) (off := off) (size := size) y h)
  else X y

section Rules

variable {s : Shape} {e : EltTy} (c : Dev nD) {M : Memref sig .tc .vmem s e} {off size : Fin s.rank → Nat}
  {inb : ∀ a, off a + size a ≤ s.size a}

theorem wp_ld {X : s.Idx → Elt F e} {h : M.view.LoadsAt (Rect.unit off size inb).toLoadRect}
    {Q : ((Rect.unit off size inb).toLoadRect.shape.Idx → Elt F e) → sProp 𝕄} :
    iprop(owns (c : Thread nD τ) M fullShare X
      ∗ (owns (c : Thread nD τ) M fullShare X -∗ Q (fun x => X ((Rect.unit off size inb).toLoadRect.idx x))))
      ⊢ wp frame (wpE (defs₀ (F := F)) Variants.none c none) Set.univ
          (Prog.lift (.load M (Rect.unit off size inb).toLoadRect h)) Q := by
  iintro ⟨H, Hk⟩
  unfold owns
  icases H with ⟨%f, %hf, H⟩
  subst hf
  sl_exec
  rw [wp_ret, show M.view.readAt (Elt F) (Rect.unit off size inb).toLoadRect f
    = fun x => M.view.read (Elt F) f ((Rect.unit off size inb).toLoadRect.idx x) from rfl]
  imodintro
  iapply Hk
  iexists f
  isplitr; · ipureintro; rfl
  iexact H

theorem wp_st {X : s.Idx → Elt F e} {w : (Rect.unit off size inb).shape.Idx → Elt F e}
    {hx : (M.access (Rect.unit off size inb)).Stores Finset.univ}
    {hm : (Finset.univ : Finset (Rect.unit off size inb).shape.Idx) = Finset.univ ∨ ∀ a, (Rect.unit off size inb).stride a = 1}
    {Q : PUnit → sProp 𝕄} :
    iprop(owns (c : Thread nD τ) M fullShare X
      ∗ (owns (c : Thread nD τ) M fullShare (ovw X off size w) -∗ Q ⟨⟩))
      ⊢ wp frame (wpE (defs₀ (F := F)) Variants.none c none) Set.univ
          (Prog.lift (.store M (Rect.unit off size inb) w Finset.univ hx hm)) Q := by
  iintro ⟨H, Hk⟩
  unfold owns
  icases H with ⟨%f, %hf, H⟩
  subst hf
  sl_exec
  rw [wp_ret]
  imodintro
  iapply Hk
  iexists _
  isplitr
  swap; · iexact H
  ipureintro
  funext y
  exact View.read_writes_cons_unit _ f inb w [] y rfl

end Rules

/-! ## The pieces' values -/

abbrev V3 (F : FTy → Type) (n : Nat) := Vec F (T3 n 256 256) .f32

/-- A rectangle of an array. -/
def rdR {n : Nat} (X : V3 F n) (B MR MC o0 o1 o2 : Nat)
    (inb : ∀ a, (![o0, o1, o2] : Fin 3 → Nat) a + (T3 B MR MC).size a ≤ (T3 n 256 256).size a) : Vec F (T3 B MR MC) .f32 :=
  fun x => X ((Rect.unit (s := T3 n 256 256) ![o0, o1, o2] (T3 B MR MC).size inb).toLoadRect.idx x)

def getM {n : Nat} (X : V3 F n) (i : Nat) (hi : i < n) : Vec F (T3 1 256 256) .f32 :=
  rdR X 1 256 256 i 0 0 (inb3 hi (Nat.le_refl _) (Nat.le_refl _))
def putM {n : Nat} (X : V3 F n) (j : Nat) (v : FVec F (T2 256 256) .f32) : V3 F n :=
  ovw (s := T3 n 256 256) X ![j, 0, 0] (T3 1 256 256).size (shapeCast (T3 1 256 256) v unsq)

def chunkF (B : Nat) (bm : MaskB B) (bf : FloatB F B) (hB : 0 < B) (hB5 : B ≤ 5) (MR MC roff coff : Nat) (c : BitVec 32)
    (hR : roff + MR ≤ 256) (hR0 : roff + 64 ≤ 256) (hC : coff + MC ≤ 256)
    (rw : FVec F (T3 B 64 256) .f32 → FVec F (T3 B 64 MC) .f32) (X : V3 F 5) : V3 F 5 :=
  ovw (s := T3 5 256 256) X ![0, roff, coff] (T3 B MR MC).size
    (shapeCast (T3 B MR MC) (blockVal B bm bf hB MR MC c (bf 64 64 lowM) (bf 64 64 uppM) (bf 64 64 eyeM)
      (rdR X B MR MC 0 roff coff (inb3 (by omega) hR hC))
      (rw (rdR X B 64 256 0 roff 0 (inb3 (by omega) hR0 (by omega))))) rfl)

def layerF (B : Nat) (bm : MaskB B) (bf : FloatB F B) (hB : 0 < B) (hB5 : B ≤ 5) (X : V3 F 5) : V3 F 5 :=
  chunkF B bm bf hB hB5 64 128 192 128 64#32 (by omega) (by omega) (by omega)
    (fun x => extractStridedSlice (T3 B 64 128) ![0, 0, 128] x (sl3 (by omega) (by omega) (by omega)))
  (chunkF B bm bf hB hB5 128 128 128 128 0#32 (by omega) (by omega) (by omega)
    (fun x => extractStridedSlice (T3 B 64 128) ![0, 0, 128] x (sl3 (by omega) (by omega) (by omega)))
  (chunkF B bm bf hB hB5 192 256 64 0 64#32 (by omega) (by omega) (by omega) (fun x => x)
  (chunkF B bm bf hB hB5 256 256 0 0 0#32 (by omega) (by omega) (by omega) (fun x => x) X)))

section Pieces

variable (c : Dev nD)

theorem wp_rdMat {n : Nat} {M : Memref sig .tc .vmem (T3 n 256 256) .f32} {i : Nat} {hi : i < n} {X : V3 F n}
    {Q : Vec F (T3 1 256 256) .f32 → sProp 𝕄} :
    iprop(owns (c : Thread nD τ) M fullShare X ∗ (owns (c : Thread nD τ) M fullShare X -∗ Q (getM X i hi)))
      ⊢ wp frame (wpE (defs₀ (F := F)) Variants.none c none) Set.univ (rdMat M i hi) Q :=
  wp_ld c

theorem wp_wrMat {n : Nat} {M : Memref sig .tc .vmem (T3 n 256 256) .f32} {j : Nat} {hj : j < n} {X : V3 F n}
    {v : FVec F (T2 256 256) .f32} {Q : PUnit → sProp 𝕄} :
    iprop(owns (c : Thread nD τ) M fullShare X ∗ (owns (c : Thread nD τ) M fullShare (putM X j v) -∗ Q ⟨⟩))
      ⊢ wp frame (wpE (defs₀ (F := F)) Variants.none c none) Set.univ (wrMat M j hj v) Q := by
  unfold wrMat
  rw [wp_bind]
  iintro ⟨H, Hk⟩
  iapply (wp_rdMat c (X := X))
  isplitl [H]; · iexact H
  iintro H
  iapply (wp_st c (X := X))
  isplitl [H]; · iexact H
  iexact Hk

theorem wp_cpMat {n n' : Nat} {A : Memref sig .tc .vmem (T3 n 256 256) .f32} {M : Memref sig .tc .vmem (T3 n' 256 256) .f32}
    {i : Nat} {hi : i < n} {j : Nat} {hj : j < n'} {X : V3 F n} {Y : V3 F n'} {Q : PUnit → sProp 𝕄} :
    iprop(owns (c : Thread nD τ) A fullShare X ∗ owns (c : Thread nD τ) M fullShare Y
        ∗ (owns (c : Thread nD τ) A fullShare X -∗ owns (c : Thread nD τ) M fullShare (putM Y j (sq2 (getM X i hi))) -∗ Q ⟨⟩))
      ⊢ wp frame (wpE (defs₀ (F := F)) Variants.none c none) Set.univ (cpMat A i hi M j hj) Q := by
  unfold cpMat
  rw [wp_bind]
  iintro ⟨H, H', Hk⟩
  iapply (wp_rdMat c (X := X))
  isplitl [H]; · iexact H
  iintro H
  iapply (wp_wrMat c (X := Y))
  isplitl [H']; · iexact H'
  iintro H'
  iapply Hk $$ [H]
  · iexact H
  iexact H'

theorem wp_chunk {B : Nat} {bm : MaskB B} {bf : FloatB F B} {hB : 0 < B} {hB5 : B ≤ 5} {MR MC roff coff : Nat} {k : BitVec 32}
    {hR : roff + MR ≤ 256} {hR0 : roff + 64 ≤ 256} {hC : coff + MC ≤ 256} {hMR : 0 < MR} {hMC : 0 < MC}
    {rw : FVec F (T3 B 64 256) .f32 → FVec F (T3 B 64 MC) .f32} {M : Memref sig .tc .vmem S5x256x256 .f32} {X : V3 F 5}
    {Q : PUnit → sProp 𝕄} :
    iprop(owns (c : Thread nD τ) M fullShare X
        ∗ (owns (c : Thread nD τ) M fullShare (chunkF B bm bf hB hB5 MR MC roff coff k hR hR0 hC rw X) -∗ Q ⟨⟩))
      ⊢ wp frame (wpE (defs₀ (F := F)) Variants.none c none) Set.univ
          (chunk B bm bf hB hB5 MR MC roff coff k hR hR0 hC hMR hMC rw M) Q := by
  unfold chunk
  simp only [wp_bind]
  iintro ⟨H, Hk⟩
  iapply (wp_ld c (X := X))
  isplitl [H]; · iexact H
  iintro H
  iapply (wp_ld c (X := X))
  isplitl [H]; · iexact H
  iintro H
  iapply (wp_ld c (X := X))
  isplitl [H]; · iexact H
  iintro H
  iapply (wp_st c (X := X))
  isplitl [H]; · iexact H
  iexact Hk

theorem wp_layer {B : Nat} {bm : MaskB B} {bf : FloatB F B} {hB : 0 < B} {hB5 : B ≤ 5}
    {M : Memref sig .tc .vmem S5x256x256 .f32} {X : V3 F 5} {Q : PUnit → sProp 𝕄} :
    iprop(owns (c : Thread nD τ) M fullShare X
        ∗ (owns (c : Thread nD τ) M fullShare (layerF B bm bf hB hB5 X) -∗ Q ⟨⟩))
      ⊢ wp frame (wpE (defs₀ (F := F)) Variants.none c none) Set.univ (layer B bm bf hB hB5 M) Q := by
  unfold layer
  simp only [wp_bind]
  iintro ⟨H, Hk⟩
  iapply (wp_chunk c)
  isplitl [H]; · iexact H
  iintro H
  iapply (wp_chunk c)
  isplitl [H]; · iexact H
  iintro H
  iapply (wp_chunk c)
  isplitl [H]; · iexact H
  iintro H
  iapply (wp_chunk c)
  isplitl [H]; · iexact H
  iexact Hk

theorem wp_at1 {M : Memref sig .tc .vmem S5x256x256 .f32} {i : Nat} {hi : i < 5} {X : V3 F 5}
    {Q : Vec F (T3 1 1 1) .f32 → sProp 𝕄} :
    iprop(owns (c : Thread nD τ) M fullShare X
        ∗ (owns (c : Thread nD τ) M fullShare X -∗ Q (rdR X 1 1 1 i 1 1 (inb3 hi (by omega) (by omega)))))
      ⊢ wp frame (wpE (defs₀ (F := F)) Variants.none c none) Set.univ (at1 M i hi) Q :=
  wp_ld c

end Pieces

/-! ## The body's states -/

/-- The scratch array with the first layer's matrices copied in. -/
def s1F (x0 : V3 F 9) (d : V3 F 5) : V3 F 5 :=
  putM (putM (putM (putM (putM d 0 (sq2 (getM x0 0 (by omega)))) 1 (sq2 (getM x0 1 (by omega)))) 2
    (sq2 (getM x0 2 (by omega)))) 3 (sq2 (getM x0 5 (by omega)))) 4 (sq2 (getM x0 6 (by omega)))
/-- After the first layer. -/
def s2F (s1 : V3 F 5) : V3 F 5 := layerF 5 (maskB 5) (floatB 5) (by omega) (by omega) s1
/-- With the second layer's matrices. -/
def s3F (x0 : V3 F 9) (s2 : V3 F 5) : V3 F 5 :=
  putM (putM s2 0 (subf (sq2 (getM x0 3 (by omega))) (corr3 (getM s2 1 (by omega)) (getM s2 2 (by omega))))) 1
    (subf (sq2 (getM x0 7 (by omega))) (corr7 (getM s2 3 (by omega)) (getM s2 4 (by omega))))
/-- After the second layer. -/
def s4F (s3 : V3 F 5) : V3 F 5 := layerF 2 (maskB 2) (floatB 2) (by omega) (by omega) s3
def at1F (s : V3 F 5) (i : Nat) (hi : i < 5) : Vec F (T3 1 1 1) .f32 :=
  rdR s 1 1 1 i 1 1 (inb3 hi (by omega) (by omega))
/-- With the last layer's matrix. -/
def s5F (x0 : V3 F 9) (s2 s4 : V3 F 5) : V3 F 5 :=
  putM s4 0 (subf (sq2 (getM x0 8 (by omega))) (corr8 (at1F s2 0 (by omega)) (at1F s4 0 (by omega)) (at1F s4 1 (by omega))))
/-- After the last layer. -/
def s6F (s5 : V3 F 5) : V3 F 5 := layerF 1 (fun _ _ x => x) (fun _ _ x => x) (by omega) (by omega) s5
/-- The output. -/
def outF (x0 : V3 F 9) (s2 s4 s6 : V3 F 5) (d : V3 F 9) : V3 F 9 :=
  putM (putM (putM (putM (putM (putM (putM (putM (putM d 0 (sq2 (getM s2 0 (by omega)))) 1 (sq2 (getM s2 1 (by omega)))) 2
    (sq2 (getM s2 2 (by omega)))) 5 (sq2 (getM s2 3 (by omega)))) 6 (sq2 (getM s2 4 (by omega)))) 4
    (sq2 (getM x0 4 (by omega)))) 3 (sq2 (getM s4 0 (by omega)))) 7 (sq2 (getM s4 1 (by omega)))) 8
    (sq2 (getM s6 0 (by omega)))

/-! ### Read at coordinates -/

section Coords

variable {n : Nat}

theorem getM_apply (X : V3 F n) (i : Nat) (hi : i < n) (z : Fin 1) (a b : Fin 256) :
    getM X i hi (ix3 z a b) = X (ix3 ⟨i, hi⟩ a b) := by
  unfold getM rdR
  congr 1
  funext d
  match d with
  | ⟨0, _⟩ => apply Fin.ext; show i + 1 * z.val = i; omega
  | ⟨1, _⟩ => apply Fin.ext; show 0 + 1 * a.val = a.val; omega
  | ⟨2, _⟩ => apply Fin.ext; show 0 + 1 * b.val = b.val; omega

theorem sq2_apply (X : Vec F (T3 1 256 256) .f32) (a b : Fin 256) : sq2 X (ix2 a b) = X (ix3 0 a b) :=
  ValueIdx.shapeCast_1ab_ab_apply X sq a b

theorem putM_apply (X : V3 F n) (j : Nat) (v : FVec F (T2 256 256) .f32) (i : Fin n) (a b : Fin 256) :
    putM X j v (ix3 i a b) = if i.val = j then v (ix2 a b) else X (ix3 i a b) := by
  unfold putM ovw
  by_cases hi : i.val = j
  · subst hi
    rw [if_pos rfl, dif_pos (by
      intro d
      match d with
      | ⟨0, _⟩ => exact ⟨Nat.le_refl _, Nat.lt_succ_self _⟩
      | ⟨1, _⟩ => exact ⟨Nat.zero_le _, by show a.val < 0 + 256; omega⟩
      | ⟨2, _⟩ => exact ⟨Nat.zero_le _, by show b.val < 0 + 256; omega⟩)]
    refine Eq.trans ?_ (ValueIdx.shapeCast_ab_1ab_apply v unsq 0 a b)
    congr 1
    funext d
    match d with
    | ⟨0, _⟩ => apply Fin.ext; show i.val - i.val = 0; omega
    | ⟨1, _⟩ => apply Fin.ext; show a.val - 0 = a.val; omega
    | ⟨2, _⟩ => apply Fin.ext; show b.val - 0 = b.val; omega
  · rw [if_neg hi, dif_neg]
    intro h
    have := h 0
    have h1 : j ≤ i.val := this.1
    have h2 : i.val < j + 1 := this.2
    omega

end Coords

theorem s1F_indep (x0 : V3 F 9) (d d' : V3 F 5) : s1F x0 d = s1F x0 d' := by
  funext y
  obtain ⟨i, a, b, rfl⟩ : ∃ (i : Fin 5) (a b : Fin 256), y = ix3 i a b := ⟨_, _, _, eq_ix3 y⟩
  simp only [s1F, putM_apply]
  fin_cases i <;> rfl

theorem outF_indep (x0 : V3 F 9) (s2 s4 s6 : V3 F 5) (d d' : V3 F 9) : outF x0 s2 s4 s6 d = outF x0 s2 s4 s6 d' := by
  funext y
  obtain ⟨i, a, b, rfl⟩ : ∃ (i : Fin 9) (a b : Fin 256), y = ix3 i a b := ⟨_, _, _, eq_ix3 y⟩
  simp only [outF, putM_apply]
  fin_cases i <;> rfl

/-- The scratch array after the three layers, and the output, from the input alone. -/
def k1 (x0 : V3 F 9) : V3 F 5 := s1F x0 (fun y => x0 (ix3 0 (y 1) (y 2)))
def k2 (x0 : V3 F 9) : V3 F 5 := s2F (k1 x0)
def k4 (x0 : V3 F 9) : V3 F 5 := s4F (s3F x0 (k2 x0))
def k6 (x0 : V3 F 9) : V3 F 5 := s6F (s5F x0 (k2 x0) (k4 x0))
def luOut (x0 : V3 F 9) : V3 F 9 := outF x0 (k2 x0) (k4 x0) (k6 x0) x0

theorem wp_body (c : Dev nD) (M0 : Memref sig .tc .vmem S9x256x256 .f32) (M1 : Memref sig .tc .vmem S9x256x256 .f32)
    (M2 : Memref sig .tc .vmem S5x256x256 .f32) (x0 d1 : V3 F 9) (d2 : V3 F 5) (Q : PUnit → sProp 𝕄) :
    iprop(owns (c : Thread nD τ) M0 fullShare x0 ∗ owns (c : Thread nD τ) M1 fullShare d1
        ∗ owns (c : Thread nD τ) M2 fullShare d2
        ∗ (owns (c : Thread nD τ) M0 fullShare x0 ∗ owns (c : Thread nD τ) M1 fullShare (luOut x0)
          ∗ (∃ d, owns (c : Thread nD τ) M2 fullShare d) -∗ Q ⟨⟩))
      ⊢ wp frame (wpE (defs₀ (F := F)) Variants.none c none) Set.univ (luBody M0 M1 M2) Q := by
  unfold luBody
  simp only [wp_bind]
  iintro ⟨H0, H1, H2, Hk⟩
  iapply (wp_cpMat c); isplitl [H0]; · iexact H0
  isplitl [H2]; · iexact H2
  iintro H0 H2
  iapply (wp_cpMat c); isplitl [H0]; · iexact H0
  isplitl [H2]; · iexact H2
  iintro H0 H2
  iapply (wp_cpMat c); isplitl [H0]; · iexact H0
  isplitl [H2]; · iexact H2
  iintro H0 H2
  iapply (wp_cpMat c); isplitl [H0]; · iexact H0
  isplitl [H2]; · iexact H2
  iintro H0 H2
  iapply (wp_cpMat c); isplitl [H0]; · iexact H0
  isplitl [H2]; · iexact H2
  iintro H0 H2
  rw [show putM _ 4 _ = s1F x0 d2 from rfl, s1F_indep x0 d2 (fun y => x0 (ix3 0 (y 1) (y 2))),
    show s1F x0 (fun y => x0 (ix3 0 (y 1) (y 2))) = k1 x0 from rfl]
  iapply (wp_layer c); isplitl [H2]; · iexact H2
  iintro H2
  rw [show layerF 5 _ _ _ _ (k1 x0) = k2 x0 from rfl]
  iapply (wp_cpMat c); isplitl [H2]; · iexact H2
  isplitl [H1]; · iexact H1
  iintro H2 H1
  iapply (wp_cpMat c); isplitl [H2]; · iexact H2
  isplitl [H1]; · iexact H1
  iintro H2 H1
  iapply (wp_cpMat c); isplitl [H2]; · iexact H2
  isplitl [H1]; · iexact H1
  iintro H2 H1
  iapply (wp_cpMat c); isplitl [H2]; · iexact H2
  isplitl [H1]; · iexact H1
  iintro H2 H1
  iapply (wp_cpMat c); isplitl [H2]; · iexact H2
  isplitl [H1]; · iexact H1
  iintro H2 H1
  iapply (wp_cpMat c); isplitl [H0]; · iexact H0
  isplitl [H1]; · iexact H1
  iintro H0 H1
  iapply (wp_at1 c); isplitl [H2]; · iexact H2
  iintro H2
  iapply (wp_rdMat c); isplitl [H2]; · iexact H2
  iintro H2
  iapply (wp_rdMat c); isplitl [H2]; · iexact H2
  iintro H2
  iapply (wp_rdMat c); isplitl [H2]; · iexact H2
  iintro H2
  iapply (wp_rdMat c); isplitl [H2]; · iexact H2
  iintro H2
  iapply (wp_rdMat c); isplitl [H0]; · iexact H0
  iintro H0
  iapply (wp_wrMat c); isplitl [H2]; · iexact H2
  iintro H2
  iapply (wp_rdMat c); isplitl [H0]; · iexact H0
  iintro H0
  iapply (wp_wrMat c); isplitl [H2]; · iexact H2
  iintro H2
  iapply (wp_layer c); isplitl [H2]; · iexact H2
  iintro H2
  rw [show layerF 2 (maskB 2) (floatB 2) (by omega) (by omega)
    (putM (putM (k2 x0) 0 (subf (sq2 (getM x0 3 (by omega))) (corr3 (getM (k2 x0) 1 (by omega)) (getM (k2 x0) 2 (by omega))))) 1
      (subf (sq2 (getM x0 7 (by omega))) (corr7 (getM (k2 x0) 3 (by omega)) (getM (k2 x0) 4 (by omega))))) = k4 x0 from rfl]
  iapply (wp_cpMat c); isplitl [H2]; · iexact H2
  isplitl [H1]; · iexact H1
  iintro H2 H1
  iapply (wp_cpMat c); isplitl [H2]; · iexact H2
  isplitl [H1]; · iexact H1
  iintro H2 H1
  iapply (wp_at1 c); isplitl [H2]; · iexact H2
  iintro H2
  iapply (wp_at1 c); isplitl [H2]; · iexact H2
  iintro H2
  iapply (wp_rdMat c); isplitl [H0]; · iexact H0
  iintro H0
  iapply (wp_wrMat c); isplitl [H2]; · iexact H2
  iintro H2
  iapply (wp_layer c); isplitl [H2]; · iexact H2
  iintro H2
  rw [show layerF 1 (fun _ _ x => x) (fun _ _ x => x) (by omega) (by omega)
    (putM (k4 x0) 0 (subf (sq2 (getM x0 8 (by omega))) (corr8 (rdR (k2 x0) 1 1 1 0 1 1 (inb3 (by omega) (by omega) (by omega)))
      (rdR (k4 x0) 1 1 1 0 1 1 (inb3 (by omega) (by omega) (by omega)))
      (rdR (k4 x0) 1 1 1 1 1 1 (inb3 (by omega) (by omega) (by omega)))))) = k6 x0 from rfl]
  iapply (wp_cpMat c); isplitl [H2]; · iexact H2
  isplitl [H1]; · iexact H1
  iintro H2 H1
  rw [show putM _ 8 _ = outF x0 (k2 x0) (k4 x0) (k6 x0) d1 from rfl, outF_indep x0 (k2 x0) (k4 x0) (k6 x0) d1 x0,
    show outF x0 (k2 x0) (k4 x0) (k6 x0) x0 = luOut x0 from rfl]
  iapply Hk
  isplitl [H0]; · iexact H0
  isplitl [H1]; · iexact H1
  iexists _
  iexact H2

/-! ## The launch -/

variable (m : (ℓ : Loc nD τ sig) → Buf (Elt F) ℓ) (ρ : Dev nD → PrngReg)

/-- The pipeline's data with the output named. -/
def datsV (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => luOut (iblk m c 0 t)
  Φ _ := Pipeline.ΦA spec0 c
  q _ := fullShare
  owed _ := 0

theorem A_eqV (c : Dev nD) (w : Fin cfg0.W) : (datsV m 0 c).A w = V m c (Pipeline.arrRef spec0 w) := by
  dsimp only [datsV]
theorem afterV_0 (c : Dev nD) (t : Fin cfg0.N) : (datsV m 0 c).after 0 t = iblk m c 0 t := by dsimp only [datsV]
theorem afterV_1 (c : Dev nD) (t : Fin cfg0.N) : (datsV m 0 c).after 1 t = luOut (iblk m c 0 t) := by dsimp only [datsV]
theorem beforeV_0 (c : Dev nD) (t : Fin cfg0.N) (d) : (datsV m 0 c).before 0 t d = iblk m c 0 t :=
  before0_0_of m (datsV m 0 c) (A_eqV m c 0) (afterV_0 m c) t d

def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d)))

def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t))

theorem soundV (c : Dev nD) (t : Fin cfg0.N) :
    preV m c t ⊢ wp frame (wpE (defs₀ (F := F)) Variants.none c none) Set.univ (bodyAt0 t) (fun _ => postV m c t) := by
  unfold preV postV bodyAt0
  simp only [beforeV_0]
  rw [show (datsV m 0 c).Φ t.succ = (datsV m 0 c).Φ t.castSucc from rfl,
    show (datsV m 0 c).owesAt () t.succ = (datsV m 0 c).owesAt () t.castSucc from rfl,
    afterV_0, afterV_1]
  rw [show (datsV m 0 c).Φ t.castSucc = Pipeline.ΦA spec0 c from rfl, PhiA0_eq]
  iintro ⟨⟨⟨%dS, HS0⟩, Hg⟩, Ho, ⟨%d0, H0⟩, ⟨%d1, H1⟩⟩
  rw [body_eq]
  iapply (wp_body c)
  isplitl [H0]; · iexact H0
  isplitl [H1]; · iexact H1
  isplitl [HS0]; · iexact HS0
  iintro ⟨H0, H1, HS0⟩
  isplitl [HS0 Hg]
  · isplitl [HS0]
    · iexact HS0
    iexact Hg
  isplitl [Ho]; · iexact Ho
  isplitl [H0]; · iexact H0
  iexact H1

theorem rowV (t : Fin cfg0.N) :
    defs₀ (F := F) .tc cfg0.body (cfg0.bodyArgs t (cfg0.slots t)) = bodyAt0 t := by
  unfold defs₀; rw [Defs.onTc_tc]

theorem obligationV (c : Dev nD) : BodyObligation (datsV (F := F) m 0 c) (defs₀ (F := F)) Variants.none () Set.univ := fun t => by
  rw [bigSep_W0, bigSep_W0, rowV]
  exact triple_restated (soundV m c t) rfl .rfl fun _ => .rfl

set_option backward.isDefEq.respectTransparency.types false in
/-- The run: every array ends at what the data says. -/
theorem runV0 : θ_run defs (onTc (τ := τ) (main (F := F))) (s₀ m ρ)
    (fun r => (Pipeline.FramePost cfgs (datsV m) 0 (V m)) r ∧ r.2.sem = fun _ => 0) :=
  Pipeline.θ_run_frame (Q' := _) cfgs (datsV m) (0 : Fin 1) launch0 defs₀ Variants.none m ρ main
    (hbody := fun c => (obligationV m c).loose) (hshare := fun c => (datsV m 0 c).share_full fun _ => rfl)
    (howed := fun _ _ => rfl) (V := V m) (hmain := hmain m Variants.none) (hA := A_eqV m) (hΦ := fun _ _ => rfl)

theorem runV : θ_run defs (onTc (τ := τ) (main (F := F))) (s₀ m ρ) (Pipeline.FramePost cfgs (datsV m) 0 (V m)) :=
  (θ_run defs _ _).mono (fun _ h => h.1) (runV0 m ρ)

theorem idxV : ∀ t : Fin cfg0.N, win0_0.index t = ![0, 0, 0] ∧ win0_1.index t = ![0, 0, 0] :=
  (by decide +kernel : ∀ t : Fin grid0.N, _)

theorem iblkV (c : Dev nD) : iblk m c 0 t0_0 = m ((c : Thread nD τ).loc main_arg0) := by
  blk_ext! [iblk, V, idxV t0_0]

theorem finalV (c : Dev nD) : (datsV m 0 c).arrAt 1 cfg0.N = luOut (m ((c : Thread nD τ).loc main_arg0)) := by
  refine (datsV m 0 c).arrAt_eq_of_after_last 1 t0_0 (by decide +kernel) _ fun j => ?_
  blk_simp
  rw [afterV_1, iblkV]

/-- The kernel's result array. -/
theorem kernel_value : θ_run defs (onTc (τ := τ) (main (F := F))) ⟨m, fun _ => 0, ρ⟩ (fun r => ∀ c : Dev nD,
      r.2.mem ((c.tc : Thread nD τ).loc main_v0) = luOut (m ((c.tc : Thread nD τ).loc main_arg0))
      ∧ r.2.mem ((c.tc : Thread nD τ).loc main_arg0) = m ((c.tc : Thread nD τ).loc main_arg0)) := by
  have h1 : θ_run defs (onTc (τ := τ) (main (F := F))) ⟨m, fun _ => 0, ρ⟩ (fun r => ∀ c : Dev nD,
      r.2.mem ((c.tc : Thread nD τ).loc main_v0) = luOut (m ((c.tc : Thread nD τ).loc main_arg0))) :=
    (θ_run defs _ _).mono (fun _ h c => ((h c).1 1).trans (finalV m c)) (runV m ρ)
  exact (θ_run defs _ _).mono (fun _ h c => ⟨h.1 c, h.2 c⟩) (θ_run_and h1 (unchanged m ρ))

end Cert.LU
-- ==== Proof.PreFacts.lean ====
/- The facts the precondition's program states. -/
module

public import proofs.«01_k».proof.Pre_pivots_nonzero

@[expose] public section

set_option maxRecDepth 100000
set_option maxHeartbeats 4000000

namespace Cert.LU

theorem preFacts : Cert.Pre_pivots_nonzero.Facts := by
  constructor <;> decide

end Cert.LU
-- ==== Proof.LuMath.lean ====
/- Elimination without pivoting over the reals, and the blocked form of 64 of its steps. -/
module

public import Mathlib.Data.Matrix.Mul
public import Mathlib.LinearAlgebra.Matrix.NonsingularInverse
public import Mathlib.Data.Real.Basic
public import Mathlib.Algebra.BigOperators.Fin
public import Mathlib.Tactic.Ring
public import Mathlib.Tactic.FieldSimp
public import Mathlib.Tactic.NoncommRing
public import Mathlib.Tactic.Abel

@[expose] public section

noncomputable section

namespace Cert.LU

/-- Elimination's step with pivot row `n` and pivot column `c + n`: the multipliers stay in the pivot column. -/
def el (c n : ℕ) (A : ℕ → ℕ → ℝ) : ℕ → ℕ → ℝ := fun i j =>
  if n < i then
    if c + n < j then A i j - A i (c + n) / A n (c + n) * A n j
    else if j = c + n then A i (c + n) / A n (c + n) else A i j
  else A i j

/-- The first `n` steps. -/
def its (c : ℕ) (A : ℕ → ℕ → ℝ) : ℕ → ℕ → ℕ → ℝ
  | 0 => A
  | n + 1 => el c n (its c A n)

variable {c : ℕ} {A : ℕ → ℕ → ℝ}

theorem el_row {n q : ℕ} (h : q ≤ n) (j : ℕ) : el c n A q j = A q j := by
  unfold el; rw [if_neg (by omega)]

theorem el_col {n j : ℕ} (h : j < c + n) (i : ℕ) : el c n A i j = A i j := by
  unfold el; split_ifs <;> first | rfl | omega

theorem its_row {n m q : ℕ} (h : q ≤ n) (hm : n ≤ m) (j : ℕ) : its c A m q j = its c A n q j := by
  induction m, hm using Nat.le_induction with
  | base => rfl
  | succ m hm ih => exact (el_row (by omega) j).trans ih

theorem its_col {j : ℕ} (h : j < c) (m i : ℕ) : its c A m i j = A i j := by
  induction m with
  | zero => rfl
  | succ m ih => exact (el_col (by omega) i).trans ih

theorem its_inv {N : ℕ} (hp : ∀ n < N, its c A n n (c + n) ≠ 0) (n : ℕ) (hn : n ≤ N) (i j : ℕ) :
    A i (c + j) = ∑ q ∈ Finset.range n, (if q < i ∧ q < j then its c A n i (c + q) * its c A n q (c + j) else 0)
      + if j < n ∧ j < i then its c A n i (c + j) * its c A n j (c + j) else its c A n i (c + j) := by
  induction n with
  | zero => simp [its]
  | succ n ih =>
    have hpn := hp n (by omega)
    rw [ih (by omega), Finset.sum_range_succ]
    rw [Finset.sum_congr rfl (g := fun q => if q < i ∧ q < j then its c A (n + 1) i (c + q) * its c A (n + 1) q (c + j) else 0)
      (fun q hq => by
        have hq := Finset.mem_range.1 hq
        rw [show its c A (n + 1) i (c + q) = its c A n i (c + q) from el_col (by omega) i,
          show its c A (n + 1) q (c + j) = its c A n q (c + j) from el_row (by omega) _])]
    rw [add_assoc]
    congr 1
    have hrow : ∀ j, its c A (n + 1) n j = its c A n n j := fun j => el_row (le_refl _) j
    by_cases hni : n < i
    · rcases lt_trichotomy j n with hj | hj | hj
      · rw [if_neg (show ¬ (n < i ∧ n < j) by omega), zero_add,
          show its c A (n + 1) i (c + j) = its c A n i (c + j) from el_col (by omega) i,
          show its c A (n + 1) j (c + j) = its c A n j (c + j) from el_row (by omega) _]
        by_cases hji : j < i
        · rw [if_pos ⟨hj, hji⟩, if_pos ⟨by omega, hji⟩]
        · omega
      · subst hj
        rw [if_neg (show ¬ (j < j ∧ j < i) by omega), if_neg (show ¬ (j < i ∧ j < j) by omega), zero_add,
          if_pos ⟨by omega, hni⟩, hrow,
          show its c A (j + 1) i (c + j) = its c A j i (c + j) / its c A j j (c + j) by
            show el c j _ i (c + j) = _
            unfold el; rw [if_pos hni, if_neg (by omega), if_pos rfl]]
        field_simp
      · rw [if_pos (show n < i ∧ n < j by omega), hrow, if_neg (show ¬ (j < n ∧ j < i) by omega),
          if_neg (show ¬ (j < n + 1 ∧ j < i) by omega),
          show its c A (n + 1) i (c + n) = its c A n i (c + n) / its c A n n (c + n) by
            show el c n _ i (c + n) = _
            unfold el; rw [if_pos hni, if_neg (by omega), if_pos rfl],
          show its c A (n + 1) i (c + j) = its c A n i (c + j) - its c A n i (c + n) / its c A n n (c + n) * its c A n n (c + j) by
            show el c n _ i (c + j) = _
            unfold el; rw [if_pos hni, if_pos (by omega)]]
        ring
    · have hr : ∀ j, its c A (n + 1) i j = its c A n i j := fun j => el_row (by omega) j
      rw [if_neg (show ¬ (n < i ∧ n < j) by omega), zero_add, hr]
      by_cases hji : j < i
      · rw [if_pos ⟨by omega, hji⟩, if_pos ⟨by omega, hji⟩,
          show its c A (n + 1) j (c + j) = its c A n j (c + j) from el_row (by omega) _]
      · rw [if_neg (by omega), if_neg (by omega)]

/-- The steps of a rectangle of `A` are steps of `A`. -/
theorem its_shift {o r : ℕ} (hr : r = o + c) (i j : ℕ) (n : ℕ) (X : ℕ → ℕ → ℝ) (hX : ∀ i j, X i j = its 0 A r (r + i) (o + j)) :
    its c X n i j = its 0 A (r + n) (r + i) (o + j) := by
  induction n generalizing i j with
  | zero => exact hX i j
  | succ n ih =>
    show el c n _ i j = el 0 (r + n) (its 0 A (r + n)) (r + i) (o + j)
    unfold el
    simp only [ih, Nat.zero_add, show o + (c + n) = r + n by omega,
      show (r + n < r + i) = (n < i) by simp, show (r + n < o + j) = (c + n < j) by apply propext; omega,
      show (o + j = r + n) = (j = c + n) by apply propext; omega]

/-- A corner's steps. -/
theorem its_corner (n i j : ℕ) : its 0 (fun i j => A i (c + j)) n i j = its c A n i (c + j) := by
  induction n generalizing i j with
  | zero => rfl
  | succ n ih =>
    show el 0 n _ i j = el c n _ i (c + j)
    unfold el
    simp only [ih, Nat.zero_add, show (c + n < c + j) = (n < j) by simp, show (c + j = c + n) = (j = n) by simp]

/-- Steps with the same entries among the first rows, up to a size. -/
theorem its_congr {A' : ℕ → ℕ → ℝ} {M N : ℕ} (n : ℕ) (hM : n ≤ M) (hN : c + n ≤ N)
    (h : ∀ i < M, ∀ j < N, A i j = A' i j) : ∀ i < M, ∀ j < N, its c A n i j = its c A' n i j := by
  induction n with
  | zero => exact h
  | succ n ih =>
    intro i hi j hj
    have ih := ih (by omega) (by omega)
    show el c n _ i j = el c n _ i j
    unfold el
    rw [ih i hi j hj, ih i hi (c + n) (by omega), ih n (by omega) (c + n) (by omega), ih n (by omega) j hj]

/-! ## The inverses -/

section Neumann

open Matrix

variable {n : ℕ} (P : Matrix (Fin n) (Fin n) ℝ)

def ns (P : Matrix (Fin n) (Fin n) ℝ) : ℕ → Matrix (Fin n) (Fin n) ℝ
  | 0 => 1 + P
  | k + 1 => ns P k * (1 + P ^ 2 ^ (k + 1))

theorem ns_mul (k : ℕ) : (1 - P) * ns P k = 1 - P ^ 2 ^ (k + 1) := by
  induction k with
  | zero => simp only [ns, zero_add, pow_one]; noncomm_ring
  | succ k ih =>
    have hQ : ∀ Q : Matrix (Fin n) (Fin n) ℝ, (1 - Q) * (1 + Q) = 1 - Q * Q := fun Q => by noncomm_ring
    rw [ns, ← mul_assoc, ih, show (2 : ℕ) ^ (k + 1 + 1) = 2 ^ (k + 1) + 2 ^ (k + 1) by ring, pow_add P]
    exact hQ _

variable {P}

theorem lower_pow (h : ∀ i j, i ≤ j → P i j = 0) (k : ℕ) (i j : Fin n) (hk : i.val < j.val + k) : (P ^ k) i j = 0 := by
  induction k generalizing i j with
  | zero => rw [pow_zero, Matrix.one_apply_ne]; intro e; subst e; omega
  | succ k ih =>
    rw [pow_succ', Matrix.mul_apply]
    refine Finset.sum_eq_zero fun q _ => ?_
    by_cases hq : i ≤ q
    · rw [h i q hq, zero_mul]
    · rw [ih q j (by have : q.val < i.val := by simpa using hq
                     omega), mul_zero]

theorem lower_nil (h : ∀ i j, i ≤ j → P i j = 0) : P ^ n = 0 := by
  ext i j; exact lower_pow h n i j (by omega)

theorem upper_nil (h : ∀ i j, j ≤ i → P i j = 0) : P ^ n = 0 := by
  have := lower_nil (P := Pᵀ) (fun i j hij => h j i hij)
  rw [← Matrix.transpose_pow] at this
  exact Matrix.transpose_eq_zero.1 this

end Neumann

theorem ns64 {P : Matrix (Fin 64) (Fin 64) ℝ} (h : P ^ 64 = 0) : (1 - P) * ns P 5 = 1 := by
  rw [ns_mul, show (2 : ℕ) ^ (5 + 1) = 64 from rfl, h, sub_zero]

/-! ## The block step -/

section Blk

open Matrix

variable (c A)

def Lm (F : ℕ → ℕ → ℝ) : Matrix (Fin 64) (Fin 64) ℝ := fun i j => if j.val < i.val then F i (c + j) else 0
def Um (F : ℕ → ℕ → ℝ) : Matrix (Fin 64) (Fin 64) ℝ := fun i j => if i.val ≤ j.val then F i (c + j) else 0
def VL (F : ℕ → ℕ → ℝ) : Matrix (Fin 64) (Fin 64) ℝ := ns (-(Lm c F)) 5
def Tm (F : ℕ → ℕ → ℝ) : Matrix (Fin 64) (Fin 64) ℝ := fun i j =>
  Um c F i j * (F i (c + i))⁻¹ - (1 : Matrix (Fin 64) (Fin 64) ℝ) i j
def VU (F : ℕ → ℕ → ℝ) : Matrix (Fin 64) (Fin 64) ℝ := fun i j => ns (-(Tm c F)) 5 i j * (F j (c + j))⁻¹

variable {c A}

theorem VL_spec (F : ℕ → ℕ → ℝ) : (1 + Lm c F) * VL c F = 1 := by
  have h := ns64 (P := -(Lm c F)) (lower_nil fun i j hij => by
    rw [Matrix.neg_apply, Lm, if_neg (by have : i.val ≤ j.val := hij
                                         omega), neg_zero])
  rwa [sub_neg_eq_add] at h

theorem VU_spec (F : ℕ → ℕ → ℝ) (h0 : ∀ i < 64, F i (c + i) ≠ 0) : Um c F * VU c F = 1 := by
  set D : Matrix (Fin 64) (Fin 64) ℝ := Matrix.diagonal fun i => (F i (c + i))⁻¹
  set D' : Matrix (Fin 64) (Fin 64) ℝ := Matrix.diagonal fun i => F i (c + i)
  have hDD : D' * D = 1 := by
    rw [Matrix.diagonal_mul_diagonal, ← Matrix.diagonal_one]
    congr 1; funext i; exact mul_inv_cancel₀ (h0 i i.isLt)
  have hDD' : D * D' = 1 := mul_eq_one_comm.1 hDD
  have hT : Tm c F = D * Um c F - 1 := by
    ext i j; rw [Matrix.sub_apply, Matrix.diagonal_mul, mul_comm]; rfl
  have hV : VU c F = ns (-(D * Um c F - 1)) 5 * D := by
    rw [← hT]
    generalize hN : ns (-(Tm c F)) 5 = N
    ext i j; rw [Matrix.mul_diagonal, ← hN, VU]
  have h := ns64 (P := -(D * Um c F - 1)) (upper_nil fun i j hij => by
    rw [Matrix.neg_apply, Matrix.sub_apply, Matrix.diagonal_mul, Um]
    by_cases e : i = j
    · subst e; rw [if_pos (le_refl _), Matrix.one_apply_eq, inv_mul_cancel₀ (h0 i i.isLt)]; simp
    · rw [Matrix.one_apply_ne e, if_neg, mul_zero]; simp
      intro h; exact e (Fin.ext (by have : j.val ≤ i.val := hij
                                    omega)))
  rw [sub_neg_eq_add, add_sub_cancel] at h
  rw [hV, ← mul_assoc]
  have h1 : Um c F * ns (-(D * Um c F - 1)) 5 = D' := by
    calc Um c F * ns (-(D * Um c F - 1)) 5 = (D' * D) * (Um c F * ns (-(D * Um c F - 1)) 5) := by rw [hDD, one_mul]
      _ = D' * ((D * Um c F) * ns (-(D * Um c F - 1)) 5) := by simp only [mul_assoc]
      _ = D' := by rw [h, mul_one]
  rw [h1, hDD]

/-- The columns and the rows that the block step multiplies. -/
def Cm (c : ℕ) (x F : ℕ → ℕ → ℝ) (i : ℕ) (q : Fin 64) : ℝ :=
  (if h : i < 64 then Lm c F ⟨i, h⟩ q else 0) + if 64 ≤ i then ∑ p : Fin 64, x i (c + p) * VU c F p q else 0
def Rm (c : ℕ) (x F : ℕ → ℕ → ℝ) (q : Fin 64) (j : ℕ) : ℝ :=
  (if c + 64 ≤ j then ∑ p : Fin 64, VL c F q p * x p j else 0)
    + if h : c ≤ j ∧ j < c + 64 then (Um c F - 1) q ⟨j - c, by omega⟩ else 0

theorem block_math (hp : ∀ n < 64, its c A n n (c + n) ≠ 0) (i j : ℕ) :
    A i j - ∑ q : Fin 64, Cm c A (its c A 64) i q * Rm c A (its c A 64) q j = its c A 64 i j := by
  set F := its c A 64 with hF
  have h0 : ∀ i < 64, F i (c + i) ≠ 0 := fun i hi => by
    rw [hF, its_row (le_refl i) (by omega)]; exact hp i hi
  have inv := its_inv hp 64 (le_refl _)
  rw [← hF] at inv
  simp only [Finset.sum_range] at inv
  have hVL := VL_spec (c := c) F
  have hVU := VU_spec F h0
  have hLVL : Lm c F * VL c F = 1 - VL c F := by
    rw [add_mul, one_mul] at hVL; rw [← hVL]; abel
  have hVL' : VL c F * (1 + Lm c F) = 1 := mul_eq_one_comm.1 hVL
  -- the four parts of the factorization
  have f1 : ∀ i j : Fin 64, A i (c + j) = ((1 + Lm c F) * Um c F) i j := fun i j => by
    rw [add_mul, one_mul, Matrix.add_apply, Matrix.mul_apply, inv i j]
    rw [show (if j.val < 64 ∧ j.val < i.val then F i (c + j) * F j (c + j) else F i (c + j))
      = Um c F i j + (if j.val < i.val then F i (c + j) * F j (c + j) else 0) by
        unfold Um; split_ifs <;> first | omega | simp]
    rw [add_comm, add_assoc]
    congr 1
    rw [← Finset.sum_erase_add _ _ (Finset.mem_univ j), ← Finset.sum_erase_add (a := j) Finset.univ
      (fun x => Lm c F i x * Um c F x j) (Finset.mem_univ j)]
    rw [if_neg (show ¬ (j.val < i.val ∧ j.val < j.val) by omega), add_zero, add_comm]
    congr 1
    · refine Finset.sum_congr rfl fun q hq => ?_
      have hq : q ≠ j := (Finset.mem_erase.1 hq).1
      have hq : q.val ≠ j.val := fun h => hq (Fin.ext h)
      unfold Lm Um
      by_cases h1 : q.val < i.val
      · by_cases h2 : q.val < j.val
        · rw [if_pos ⟨h1, h2⟩, if_pos h1, if_pos (by omega)]
        · rw [if_neg (by omega), if_neg (show ¬ q.val ≤ j.val by omega), mul_zero]
      · rw [if_neg (by omega), if_neg h1, zero_mul]
    · unfold Lm Um; rw [if_pos (le_refl j.val)]; split_ifs <;> simp
  have f2 : ∀ (i : ℕ) (j : Fin 64), 64 ≤ i → A i (c + j) = ∑ q : Fin 64, F i (c + q) * Um c F q j := fun i j hi => by
    rw [inv i j, if_pos ⟨j.isLt, by omega⟩, ← Finset.sum_erase_add _ _ (Finset.mem_univ j), ← Finset.sum_erase_add (a := j) Finset.univ
      (fun x : Fin 64 => F i (c + x) * Um c F x j) (Finset.mem_univ j)]
    rw [if_neg (show ¬ (j.val < i ∧ j.val < j.val) by omega), add_zero]
    congr 1
    · refine Finset.sum_congr rfl fun q hq => ?_
      have hq : q ≠ j := (Finset.mem_erase.1 hq).1
      have hq : q.val ≠ j.val := fun h => hq (Fin.ext h)
      unfold Um
      by_cases h2 : q.val < j.val
      · rw [if_pos ⟨by omega, h2⟩, if_pos (by omega)]
      · rw [if_neg (by omega), if_neg (show ¬ q.val ≤ j.val by omega), mul_zero]
    · unfold Um; rw [if_pos (le_refl j.val)]
  have f3 : ∀ (i : Fin 64) (j : ℕ), 64 ≤ j → A i (c + j) = F i (c + j) + ∑ q : Fin 64, Lm c F i q * F q (c + j) := fun i j hj => by
    rw [inv i j, if_neg (by omega), add_comm]
    congr 1
    refine Finset.sum_congr rfl fun q _ => ?_
    unfold Lm
    by_cases h1 : q.val < i.val
    · rw [if_pos ⟨h1, by omega⟩, if_pos h1]
    · rw [if_neg (by omega), if_neg h1, zero_mul]
  have f4 : ∀ i j : ℕ, 64 ≤ i → 64 ≤ j → A i (c + j) = F i (c + j) + ∑ q : Fin 64, F i (c + q) * F q (c + j) := fun i j hi hj => by
    rw [inv i j, if_neg (by omega), add_comm]
    congr 1
    refine Finset.sum_congr rfl fun q _ => ?_
    rw [if_pos ⟨by omega, by omega⟩]
  -- the multipliers below the corner, and the rows right of it
  have g2 : ∀ (i : ℕ) (q : Fin 64), 64 ≤ i → Cm c A F i q = F i (c + q) := fun i q hi => by
    unfold Cm
    rw [dif_neg (by omega), if_pos hi, zero_add]
    have e : (fun p : Fin 64 => A i (c + p)) = Matrix.vecMul (fun q : Fin 64 => F i (c + q)) (Um c F) :=
      funext fun p => f2 i p hi
    have h : Matrix.vecMul (fun p : Fin 64 => A i (c + p)) (VU c F) = fun q : Fin 64 => F i (c + q) := by
      rw [e, Matrix.vecMul_vecMul, hVU, Matrix.vecMul_one]
    exact congrFun h q
  have g1 : ∀ (i q : Fin 64), Cm c A F i q = Lm c F i q := fun i q => by
    unfold Cm
    rw [dif_pos i.isLt, if_neg (by omega), add_zero]
  have r1 : ∀ (q : Fin 64) (j : ℕ), 64 ≤ j → Rm c A F q (c + j) = F q (c + j) := fun q j hj => by
    unfold Rm
    rw [if_pos (by omega), dif_neg (by omega), add_zero]
    have e : (fun p : Fin 64 => A p (c + j)) = Matrix.mulVec (1 + Lm c F) (fun q : Fin 64 => F q (c + j)) := by
      rw [Matrix.add_mulVec, Matrix.one_mulVec]
      exact funext fun p => f3 p j hj
    have h : Matrix.mulVec (VL c F) (fun p : Fin 64 => A p (c + j)) = fun q : Fin 64 => F q (c + j) := by
      rw [e, Matrix.mulVec_mulVec, hVL', Matrix.one_mulVec]
    exact congrFun h q
  have r2 : ∀ (q j : Fin 64), Rm c A F q (c + j) = (Um c F - 1) q j := fun q j => by
    unfold Rm
    rw [if_neg (by omega), dif_pos (by omega), zero_add]
    exact congrArg ((Um c F - 1) q) (Fin.ext (by show c + j.val - c = j.val; omega))
  by_cases hjc : j < c
  · rw [hF, its_col hjc]
    have : ∀ q, Rm c A F q j = 0 := fun q => by
      unfold Rm; rw [if_neg (by omega), dif_neg (by omega), add_zero]
    simp only [← hF, this, mul_zero, Finset.sum_const_zero, sub_zero]
  obtain ⟨j, rfl⟩ : ∃ k, j = c + k := ⟨j - c, by omega⟩
  by_cases hj : j < 64
  · have hjj : ∀ q : Fin 64, Rm c A F q (c + j) = (Um c F - 1) q ⟨j, hj⟩ := fun q => r2 q ⟨j, hj⟩
    simp only [hjj, Matrix.sub_apply, mul_sub, Finset.sum_sub_distrib]
    have h1 : ∀ i, ∑ q : Fin 64, Cm c A F i q * (1 : Matrix (Fin 64) (Fin 64) ℝ) q ⟨j, hj⟩ = Cm c A F i ⟨j, hj⟩ := fun i => by
      rw [Finset.sum_eq_single ⟨j, hj⟩ (fun b _ hb => by rw [Matrix.one_apply_ne hb, mul_zero]) (by simp), Matrix.one_apply_eq, mul_one]
    rw [h1]
    by_cases hi : i < 64
    · have e := f1 ⟨i, hi⟩ ⟨j, hj⟩
      have gg := g1 ⟨i, hi⟩
      simp only at e gg
      rw [e, add_mul, one_mul, Matrix.add_apply, Matrix.mul_apply]
      simp only [gg]
      rw [show F i (c + j) = Lm c F ⟨i, hi⟩ ⟨j, hj⟩ + Um c F ⟨i, hi⟩ ⟨j, hj⟩ by
        unfold Lm Um; simp only; split_ifs <;> first | omega | simp]
      ring
    · have e := f2 i ⟨j, hj⟩ (by omega)
      simp only at e
      simp only [g2 i _ (not_lt.1 hi)]
      rw [e]; ring
  · simp only [r1 _ j (not_lt.1 hj)]
    by_cases hi : i < 64
    · have e := f3 ⟨i, hi⟩ j (by omega)
      have gg := g1 ⟨i, hi⟩
      simp only at e gg
      simp only [gg]
      rw [e]; ring
    · simp only [g2 i _ (not_lt.1 hi)]
      rw [f4 i j (by omega) (by omega)]; ring

end Blk

end Cert.LU
-- ==== Proof.BlockOps.lean ====
/- The operations of the block step at the extended reals, on arrays of real entries: each read at one matrix of the batch
   and an index. -/
module

public import proofs.«01_k».proof.Proof.Body
public import proofs.«01_k».proof.Proof.LuMath
public import Idealize.ShloMosaic.Lib.WordCmp
public import Idealize.ShloMosaic.Lib.ValueLayout
public import Idealize.ShloMosaic.Lib.Pointwise.Contract
public import Idealize.ShloMosaic.Lib.IdealHost
public import Idealize.ShloMosaic.Lib.Pipeline.Value
public import Mathlib.Data.EReal.Operations

@[expose] public section

noncomputable section

namespace Cert.LU

open Idealize.ShloMosaic

/-- Matrix `b` of a batch has the real entries `a`; a matrix has. -/
def Rb {B m n : Nat} (b : Fin B) (V : FVec Ideal (T3 B m n) .f32) (a : Fin m → Fin n → ℝ) : Prop :=
  ∀ i j, V (ix3 b i j) = ((a i j : ℝ) : EReal)
def R2 {m n : Nat} (V : FVec Ideal (T2 m n) .f32) (a : Fin m → Fin n → ℝ) : Prop :=
  ∀ i j, V (ix2 i j) = ((a i j : ℝ) : EReal)

theorem Rb.congr {B m n : Nat} {b : Fin B} {V : FVec Ideal (T3 B m n) .f32} {a a' : Fin m → Fin n → ℝ} (h : Rb b V a)
    (e : ∀ i j, a i j = a' i j) : Rb b V a' := fun i j => (h i j).trans (by rw [e])

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

section Ops

variable {B m n k : Nat} {b : Fin B}

theorem Rb.sub {V W : FVec Ideal (T3 B m n) .f32} {a c : Fin m → Fin n → ℝ} (hV : Rb b V a) (hW : Rb b W c) :
    Rb b (subf V W) fun i j => a i j - c i j := fun i j => by
  show V (ix3 b i j) - W (ix3 b i j) = _
  rw [hV, hW, EReal.coe_sub]
theorem Rb.add {V W : FVec Ideal (T3 B m n) .f32} {a c : Fin m → Fin n → ℝ} (hV : Rb b V a) (hW : Rb b W c) :
    Rb b (addf V W) fun i j => a i j + c i j := fun i j => by
  show V (ix3 b i j) + W (ix3 b i j) = _
  rw [hV, hW, EReal.coe_add]
theorem Rb.mul {V W : FVec Ideal (T3 B m n) .f32} {a c : Fin m → Fin n → ℝ} (hV : Rb b V a) (hW : Rb b W c) :
    Rb b (mulf V W) fun i j => a i j * c i j := fun i j => by
  show V (ix3 b i j) * W (ix3 b i j) = _
  rw [hV, hW, EReal.coe_mul]

theorem Rb.zb : Rb b (zb (T3 B m n)) fun _ _ => 0 := fun i j => by
  show Ideal.ofBits .f32 0x00000000#32 = _
  rw [Ideal.ofBits_zero_f32, EReal.coe_zero]
theorem Rb.one : Rb b (broadcast (T3 B m n) (oneF : Ideal .f32)) fun _ _ => 1 := fun i j => by
  show Ideal.ofBits .f32 0x3F800000#32 = _
  rw [Ideal.ofBits_one_f32, EReal.coe_one]

theorem Rb.recip {V : FVec Ideal (T3 B m n) .f32} {a : Fin m → Fin n → ℝ} (hV : Rb b V a) (h0 : ∀ i j, a i j ≠ 0) :
    Rb b (divf (broadcast (T3 B m n) (oneF : Ideal .f32)) V) fun i j => (a i j)⁻¹ := fun i j => by
  show Ideal.div (Ideal.ofBits .f32 0x3F800000#32) (V (ix3 b i j)) = _
  rw [Ideal.ofBits_one_f32, hV, Ideal.div_coe (h0 i j), one_mul, one_div]

theorem dotB_apply (hB : 0 < B) (x : FVec Ideal (T3 B m k) .f32) (y : FVec Ideal (T3 B k n) .f32) (i : Fin m) (j : Fin n) :
    matmul (dotB B m k n hB) none x y (zc (T3 B m n)) (ix3 b i j) = ∑ q : Fin k, x (ix3 b i q) * y (ix3 b q j) := by
  show Ideal.matmul (dotB B m k n hB) x y (zc (F := Ideal) (T3 B m n)) (ix3 b i j) = _
  rw [Ideal.matmul_apply₁_of (dotB B m k n hB) (a := 2) rfl (K := k) rfl x y _ _ (fun q => ix3 b i q) (fun q => ix3 b q j)
    (fun q => funext fun d => match d with | ⟨0, _⟩ => rfl | ⟨1, _⟩ => rfl | ⟨2, _⟩ => rfl)
    (fun q => funext fun d => match d with | ⟨0, _⟩ => rfl | ⟨1, _⟩ => rfl | ⟨2, _⟩ => rfl)]
  show Ideal.ofBits .f32 0x00000000#32 + _ = _
  rw [Ideal.ofBits_zero_f32, zero_add]

theorem dotR_apply (x : FVec Ideal (T3 B m k) .f32) (y : FVec Ideal (T2 k n) .f32) (i : Fin m) (j : Fin n) :
    matmul (dotR B m k n) none x y (zc (T3 B m n)) (ix3 b i j) = ∑ q : Fin k, x (ix3 b i q) * y (ix2 q j) := by
  show Ideal.matmul (dotR B m k n) x y (zc (F := Ideal) (T3 B m n)) (ix3 b i j) = _
  rw [Ideal.matmul_apply₁_of (dotR B m k n) (a := 2) rfl (K := k) rfl x y _ _ (fun q => ix3 b i q) (fun q => ix2 q j)
    (fun q => funext fun d => match d with | ⟨0, _⟩ => rfl | ⟨1, _⟩ => rfl | ⟨2, _⟩ => rfl)
    (fun q => funext fun d => match d with | ⟨0, _⟩ => rfl | ⟨1, _⟩ => rfl)]
  show Ideal.ofBits .f32 0x00000000#32 + _ = _
  rw [Ideal.ofBits_zero_f32, zero_add]

theorem Rb.dotB (hB : 0 < B) {x : FVec Ideal (T3 B m k) .f32} {y : FVec Ideal (T3 B k n) .f32} {a : Fin m → Fin k → ℝ}
    {c : Fin k → Fin n → ℝ} (hx : Rb b x a) (hy : Rb b y c) :
    Rb b (matmul (LU.dotB B m k n hB) none x y (zc (T3 B m n))) fun i j => ∑ q, a i q * c q j := fun i j => by
  rw [dotB_apply, coe_sum]
  exact Finset.sum_congr rfl fun q _ => by rw [hx, hy, EReal.coe_mul]
theorem Rb.dotR {x : FVec Ideal (T3 B m k) .f32} {y : FVec Ideal (T2 k n) .f32} {a : Fin m → Fin k → ℝ}
    {c : Fin k → Fin n → ℝ} (hx : Rb b x a) (hy : R2 y c) :
    Rb b (matmul (LU.dotR B m k n) none x y (zc (T3 B m n))) fun i j => ∑ q, a i q * c q j := fun i j => by
  rw [dotR_apply, coe_sum]
  exact Finset.sum_congr rfl fun q _ => by rw [hx, hy, EReal.coe_mul]

theorem bcast_col (x : (T3 B m 1).Idx → EReal) (h : (T3 B m 1).Broadcasts (T3 B m n)) (i : Fin m) (j : Fin n) :
    broadcastTo (T3 B m n) x h (ix3 b i j) = x (ix3 b i 0) :=
  broadcastTo_apply x h _ _ fun a => by
    match a with
    | ⟨0, _⟩ => show b.val = if B = 1 then 0 else b.val; split_ifs <;> omega
    | ⟨1, _⟩ => show i.val = if m = 1 then 0 else i.val; split_ifs <;> omega
    | ⟨2, _⟩ => rfl
theorem bcast_row (x : (T3 B 1 n).Idx → EReal) (h : (T3 B 1 n).Broadcasts (T3 B m n)) (i : Fin m) (j : Fin n) :
    broadcastTo (T3 B m n) x h (ix3 b i j) = x (ix3 b 0 j) :=
  broadcastTo_apply x h _ _ fun a => by
    match a with
    | ⟨0, _⟩ => show b.val = if B = 1 then 0 else b.val; split_ifs <;> omega
    | ⟨1, _⟩ => rfl
    | ⟨2, _⟩ => show j.val = if n = 1 then 0 else j.val; split_ifs <;> omega
theorem bcast_one (x : (T3 B 1 1).Idx → EReal) (h : (T3 B 1 1).Broadcasts (T3 B m n)) (i : Fin m) (j : Fin n) :
    broadcastTo (T3 B m n) x h (ix3 b i j) = x (ix3 b 0 0) :=
  broadcastTo_apply x h _ _ fun a => by
    match a with
    | ⟨0, _⟩ => show b.val = if B = 1 then 0 else b.val; split_ifs <;> omega
    | ⟨1, _⟩ => rfl
    | ⟨2, _⟩ => rfl

theorem Rb.bcol {x : FVec Ideal (T3 B m 1) .f32} {a : Fin m → Fin 1 → ℝ} (hx : Rb b x a) (h : (T3 B m 1).Broadcasts (T3 B m n)) :
    Rb b (broadcastTo (T3 B m n) x h) fun i _ => a i 0 := fun i j => (bcast_col x h i j).trans (hx _ _)
theorem Rb.brow {x : FVec Ideal (T3 B 1 n) .f32} {a : Fin 1 → Fin n → ℝ} (hx : Rb b x a) (h : (T3 B 1 n).Broadcasts (T3 B m n)) :
    Rb b (broadcastTo (T3 B m n) x h) fun _ j => a 0 j := fun i j => (bcast_row x h i j).trans (hx _ _)
theorem Rb.bone {x : FVec Ideal (T3 B 1 1) .f32} {a : Fin 1 → Fin 1 → ℝ} (hx : Rb b x a) (h : (T3 B 1 1).Broadcasts (T3 B m n)) :
    Rb b (broadcastTo (T3 B m n) x h) fun _ _ => a 0 0 := fun i j => (bcast_one x h i j).trans (hx _ _)

theorem Rb.slice {m' n' r c : Nat} {V : FVec Ideal (T3 B m n) .f32} {a : ℕ → ℕ → ℝ} (hV : Rb b V fun i j => a i j)
    (h : (T3 B m n).Slices ![0, r, c] (T3 B m' n')) :
    Rb b (extractStridedSlice (T3 B m' n') ![0, r, c] V h) fun i j => a (r + i) (c + j) := fun i j => by
  have h1 : r + m' ≤ m := h.2 1
  have h2 : c + n' ≤ n := h.2 2
  refine Eq.trans (congrArg V (funext fun d => ?_)) (hV ⟨r + i, by omega⟩ ⟨c + j, by omega⟩)
  match d with
  | ⟨0, _⟩ => apply Fin.ext; show 0 + b.val = b.val; omega
  | ⟨1, _⟩ => rfl
  | ⟨2, _⟩ => rfl

/-- A selection by a bit known at the index. -/
theorem Rb.sel {c : IVec (T3 B m n) 1} {V W : FVec Ideal (T3 B m n) .f32} {a d : Fin m → Fin n → ℝ} (p : Fin m → Fin n → Prop)
    [∀ i j, Decidable (p i j)] (hc : ∀ i j, c (ix3 b i j) = BitVec.ofBool (decide (p i j))) (hV : Rb b V a) (hW : Rb b W d) :
    Rb b (select c V W) fun i j => if p i j then a i j else d i j := fun i j => by
  show Scalar.select (c (ix3 b i j)) (V (ix3 b i j)) (W (ix3 b i j)) = _
  rw [hc, hV, hW]
  by_cases h : p i j <;> simp [h, Scalar.select]

end Ops

theorem ind_apply {s : Shape} (x : IVec s 1) (i : s.Idx) (p : Prop) [Decidable p] (h : x i = BitVec.ofBool (decide p)) :
    (ind x : FVec Ideal s .f32) i = (((if p then 1 else 0 : ℝ)) : EReal) := by
  show ((((x i).setWidth 32).toInt : ℝ) : EReal) = _
  rw [h]
  by_cases hp : p <;> simp [hp]

/-! ## Words compared -/

theorem iota3 {B m n : Nat} (d : Fin 3) (h : (T3 B m n).Iotas .tc 32 [d]) (i : (T3 B m n).Idx) :
    iota .tc (T3 B m n) 32 [d] h i = BitVec.ofNat 32 (i d).val := iota_single_apply .tc _ 32 d h i
theorem iota2 {m n : Nat} (d : Fin 2) (h : (T2 m n).Iotas .tc 32 [d]) (i : (T2 m n).Idx) :
    iota .tc (T2 m n) 32 [d] h i = BitVec.ofNat 32 (i d).val := iota_single_apply .tc _ 32 d h i

end Cert.LU
-- ==== Proof.ElimOps.lean ====
/- One step of elimination on arrays of matrices at the extended reals. -/
module

public import proofs.«01_k».proof.Proof.LuMath
public import proofs.«01_k».proof.Proof.BlockOps

@[expose] public section

noncomputable section

namespace Cert.LU

open Idealize.ShloMosaic

theorem bi_apply {p q r B m n : Nat} {α : Type} (h : (T3 p q r).BroadcastsInDim (T3 B m n) (![0, 1, 2] : Fin 3 → Fin 3)) (x : (T3 p q r).Idx → α)
    (b : Fin B) (i : Fin m) (j : Fin n) (k0 : Fin p) (k1 : Fin q) (k2 : Fin r) (h0 : k0.val = if p = 1 then 0 else b.val)
    (h1 : k1.val = if q = 1 then 0 else i.val) (h2 : k2.val = if r = 1 then 0 else j.val) :
    broadcastInDim (T3 B m n) ![0, 1, 2] h x (ix3 b i j) = x (ix3 k0 k1 k2) :=
  broadcastInDim_apply _ h x _ _ fun a => by
    match a with
    | ⟨0, _⟩ => exact h0
    | ⟨1, _⟩ => exact h1
    | ⟨2, _⟩ => exact h2

theorem sl_apply {B m n B' m' n' o r c : Nat} {α : Type} (x : (T3 B m n).Idx → α) (h : (T3 B m n).Slices ![o, r, c] (T3 B' m' n'))
    (b : Fin B') (i : Fin m') (j : Fin n') (b' : Fin B) (i' : Fin m) (j' : Fin n) (hb : b'.val = o + b.val) (hi : i'.val = r + i.val)
    (hj : j'.val = c + j.val) : extractStridedSlice (T3 B' m' n') ![o, r, c] x h (ix3 b i j) = x (ix3 b' i' j') :=
  congrArg x (funext fun d => by
    match d with
    | ⟨0, _⟩ => exact Fin.ext hb.symm
    | ⟨1, _⟩ => exact Fin.ext hi.symm
    | ⟨2, _⟩ => exact Fin.ext hj.symm)

theorem div_val {x y : EReal} {a c : ℝ} (hx : x = (a : EReal)) (hy : y = (c : EReal)) (h : c ≠ 0) : Ideal.div x y = ((a / c : ℝ) : EReal) := by
  rw [hx, hy, Ideal.div_coe h, ← EReal.coe_mul, mul_one_div]

variable {B : Nat}

/-- A step of elimination, selected by bits: on the matrices with the property `p` it is the step, on the others nothing. -/
theorem elim_val {b : Fin B} {Y M R : FVec Ideal (T3 B 256 256) .f32} {m1 m2 : IVec (T3 B 256 256) 1} {y : ℕ → ℕ → ℝ} {k : Fin 256}
    (p : Prop) [Decidable p] (hY : Rb b Y fun i j => y i j) (hM : ∀ i j, M (ix3 b i j) = Ideal.div (Y (ix3 b i k)) (Y (ix3 b k k)))
    (hR : ∀ i j, R (ix3 b i j) = Y (ix3 b k j))
    (h1 : ∀ i j, m1 (ix3 b i j) = BitVec.ofBool (decide ((p ∧ k.val < i.val) ∧ k.val < j.val)))
    (h2 : ∀ i j, m2 (ix3 b i j) = BitVec.ofBool (decide ((p ∧ k.val < i.val) ∧ j.val = k.val)))
    (hp : p → y k k ≠ 0) :
    Rb b (select m2 M (select m1 (subf Y (mulf M R)) Y)) fun i j => if p then el 0 k y i j else y i j := fun i j => by
  show Scalar.select (m2 (ix3 b i j)) (M (ix3 b i j)) (Scalar.select (m1 (ix3 b i j)) (Y (ix3 b i j) - M (ix3 b i j) * R (ix3 b i j)) (Y (ix3 b i j))) = _
  rw [h1, h2, hM, hR, WordCmp.select_decide, WordCmp.select_decide]
  show _ = ((if p then el 0 k y i j else y i j : ℝ) : EReal)
  by_cases h : p
  · have hd := div_val (hY i k) (hY k k) (hp h)
    rw [hd, if_pos h]
    unfold el
    rw [Nat.zero_add]
    by_cases hi : k.val < i.val
    · rw [if_pos hi]
      rcases lt_trichotomy j.val k.val with hj | hj | hj
      · rw [if_neg (by omega), if_neg (by omega), if_neg (by omega), if_neg (by omega)]; exact hY i j
      · rw [if_pos ⟨⟨h, hi⟩, hj⟩, if_neg (by omega), if_pos hj]
      · rw [if_neg (by omega), if_pos ⟨⟨h, hi⟩, hj⟩, if_pos hj, hY, hY, ← EReal.coe_mul, ← EReal.coe_sub]
    · rw [if_neg (fun e => hi e.1.2), if_neg (fun e => hi e.1.2), if_neg hi]; exact hY i j
  · rw [if_neg (fun e => h e.1.1), if_neg (fun e => h e.1.1), if_neg h]; exact hY i j

end Cert.LU
-- ==== Proof.BlockVal.lean ====
/- The block step at the extended reals: on a matrix of reals whose pivots are not zero it is 64 steps of elimination. -/
module

public import proofs.«01_k».proof.Proof.BlockOps

@[expose] public section

noncomputable section

namespace Cert.LU

open Idealize.ShloMosaic Idealize.ShloMosaic.WordCmp

variable {B : Nat} {b : Fin B} {bm : MaskB B} {bf : FloatB Ideal B}

/-- A batch's masks and floats of batch size one are the same for each matrix. -/
def BmOk (b : Fin B) (bm : MaskB B) : Prop := ∀ m n x i j, bm m n x (ix3 b i j) = x (ix3 0 i j)
def BfOk (b : Fin B) (bf : FloatB Ideal B) : Prop := ∀ m n x i j, bf m n x (ix3 b i j) = x (ix3 0 i j)

variable (hbm : BmOk b bm) (hbf : BfOk b bf)

section Corner

variable {S : FVec Ideal (T3 B 64 64) .f32} {a : ℕ → ℕ → ℝ}

theorem rinv_val (hS : Rb b S fun i j => a i j) (j : Nat) (hj : j < 64) (h0 : a j j ≠ 0) :
    Rb b (rinv B S j hj) fun _ _ => (a j j)⁻¹ := by
  unfold rinv
  refine ((hS.slice (m' := 1) (n' := 1) (r := j) (c := j) (sl3 (by omega) hj hj)).recip fun p q => ?_).congr fun p q => ?_
  · have hp : p.val = 0 := by omega
    have hq : q.val = 0 := by omega
    rw [hp, hq]; exact h0
  · have hp : p.val = 0 := by omega
    have hq : q.val = 0 := by omega
    rw [hp, hq, Nat.add_zero]

include hbm hbf in
theorem facStep_val (hS : Rb b S fun i j => a i j) (j : Nat) (hj : j < 64) (h0 : a j j ≠ 0) :
    Rb b (facStep B bm bf S j hj) fun i q => el 0 j a i q := by
  have hr := rinv_val hS j hj h0
  have m1 : ∀ (i : Fin 64) (q : Fin 1), bm 64 1 (cmpi .sgt (iota .tc (T3 1 64 1) 32 [1] (io 1 (Nat.le_add_left 2 1)))
      (broadcast (T3 1 64 1) (BitVec.ofNat 32 j))) (ix3 b i q) = BitVec.ofBool (decide (j < i.val)) := fun i q => by
    rw [hbm]
    exact (congrArg (IntOp.cmpi .sgt · (BitVec.ofNat 32 j)) (iota3 1 _ _)).trans
      (cmpi_sgt_ofNat (w := 32) (by have := i.isLt; show i.val < _; omega) (by omega))
  have m2 : ∀ (i : Fin 1) (q : Fin 64), bm 1 64 (cmpi .sgt (iota .tc (T3 1 1 64) 32 [2] (io 2 (Nat.le_add_left 2 1)))
      (broadcast (T3 1 1 64) (BitVec.ofNat 32 j))) (ix3 b i q) = BitVec.ofBool (decide (j < q.val)) := fun i q => by
    rw [hbm]
    exact (congrArg (IntOp.cmpi .sgt · (BitVec.ofNat 32 j)) (iota3 2 _ _)).trans
      (cmpi_sgt_ofNat (w := 32) (by have := q.isLt; show q.val < _; omega) (by omega))
  have m3 : Rb b (bf 1 64 (ind (cmpi .eq (iota .tc (T3 1 1 64) 32 [2] (io 2 (Nat.le_add_left 2 1)))
      (broadcast (T3 1 1 64) (BitVec.ofNat 32 j))))) fun _ q => if q.val = j then 1 else 0 := fun i q => by
    rw [hbf]
    exact ind_apply _ _ _ ((congrArg (IntOp.cmpi .eq · (BitVec.ofNat 32 j)) (iota3 2 _ _)).trans
      (cmpi_eq_ofNat (w := 32) (by have := q.isLt; show q.val < _; omega) (by omega)))
  unfold facStep
  refine (hS.sub ((Rb.bcol (Rb.sel (fun i _ => j < i.val) m1 ((hS.slice _).mul (hr.bone _)) Rb.zb) _).mul
    (Rb.brow ((Rb.sel (fun _ q => j < q.val) m2 (hS.slice _) Rb.zb).add ((((hS.slice _).sub Rb.one).bone _).mul m3)) _))).congr
    fun i q => ?_
  simp only [Fin.val_zero, Nat.zero_add, Nat.add_zero]
  unfold el
  rw [Nat.zero_add]
  by_cases hi : j < i.val
  · rw [if_pos hi, if_pos hi]
    rcases lt_trichotomy q.val j with hq | hq | hq
    · rw [if_neg (by omega), if_neg (by omega), if_neg (by omega), if_neg (by omega)]; ring
    · rw [if_neg (by omega), if_pos hq, if_neg (by omega), if_pos hq, hq]; field_simp; ring
    · rw [if_pos hq, if_neg (by omega), if_pos hq]; ring
  · rw [if_neg hi, if_neg hi]; ring

include hbm hbf in
theorem facIter_val (hS : Rb b S fun i j => a i j) (n : Nat) (hn : n ≤ 64) (h0 : ∀ k < n, its 0 a k k k ≠ 0) :
    Rb b (facIter B bm bf S n hn) fun i j => its 0 a n i j := by
  induction n with
  | zero => exact hS
  | succ n ih => exact facStep_val hbm hbf (ih (by omega) fun k hk => h0 k (by omega)) n hn (h0 n (by omega))

theorem rdList_length (m : Nat) (hm : m ≤ 64) : (rdList B bm bf S m hm).length = m := by
  have := congrArg List.length (rdList_shapes B bm bf S m hm)
  simpa using this

theorem rdList_get (m : Nat) (hm : m ≤ 64) (k : Nat) (hk : k < (rdList B bm bf S m hm).length) (n : Nat) (hn : n < 64)
    (e : n = 64 - m + k) :
    (rdList B bm bf S m hm)[k] = ⟨T3 B 1 1, rinv B (facIter B bm bf S n (Nat.le_of_lt hn)) n hn⟩ := by
  induction m generalizing k with
  | zero => exact absurd hk (by simp [rdList])
  | succ m ih =>
    cases k with
    | zero => subst e; rfl
    | succ k => exact ih (by omega) k (by simpa [rdList] using hk) (by omega)

include hbm hbf in
theorem rdCol_val (hS : Rb b S fun i j => a i j) (h0 : ∀ k < 64, its 0 a k k k ≠ 0) :
    Rb b (rdCol B bm bf S) fun i _ => (its 0 a i i i)⁻¹ := fun i z => by
  have hl : i.val < (rdList B bm bf S 64 (Nat.le_refl 64)).length := by rw [rdList_length]; exact i.isLt
  refine Eq.trans (concatenate_apply_piece (t := T3 B 64 1) 1 (rdList B bm bf S 64 (Nat.le_refl 64)) (rd_concatenates B bm bf S)
    (ix3 b i z) i.val hl (T3 B 1 1) _ (rdList_get 64 (Nat.le_refl 64) i.val hl i.val i.isLt (by omega)) rfl i.val ?_
    (ix3 b 0 0) ?_ ?_) (rinv_val (facIter_val hbm hbf hS i.val (by omega) fun k hk => h0 k (by omega)) i.val i.isLt (h0 i.val i.isLt) 0 0)
  · rw [List.map_take, rdList_shapes, List.take_replicate]
    simp
  · intro d hd
    match d with
    | ⟨0, _⟩ => rfl
    | ⟨1, _⟩ => exact absurd rfl hd
    | ⟨2, _⟩ => show 0 = z.val; omega
  · show i.val + 0 = i.val; rfl

end Corner

/-! ## The inverses -/

section Inverses

variable (hB : 0 < B)

abbrev M64 := Matrix (Fin 64) (Fin 64) ℝ

theorem mm_val {x y : FVec Ideal (T3 B 64 64) .f32} {p q : M64} (hx : Rb b x p) (hy : Rb b y q) :
    Rb b (mm B hB x y) (p * q) := (Rb.dotB hB hx hy).congr fun _ _ => (Matrix.mul_apply).symm

theorem neuPow_val {x : FVec Ideal (T3 B 64 64) .f32} {p : M64} (hx : Rb b x p) (n : Nat) :
    Rb b (neuPow B hB x n) (p ^ 2 ^ n : M64) := by
  induction n with
  | zero => rw [pow_zero, pow_one]; exact hx
  | succ n ih =>
    rw [show (2 : ℕ) ^ (n + 1) = 2 ^ n + 2 ^ n by ring, pow_add p]
    exact mm_val hB ih ih

theorem neuSum_val {x e : FVec Ideal (T3 B 64 64) .f32} {p : M64} (he : Rb b e (1 : M64)) (hx : Rb b x p) (n : Nat) :
    Rb b (neuSum B hB e x n) (ns p n) := by
  induction n with
  | zero => exact he.add hx
  | succ n ih => exact mm_val hB ih (he.add (neuPow_val hB hx (n + 1)))

theorem neumann_val {t e : FVec Ideal (T3 B 64 64) .f32} {p : M64} (he : Rb b e (1 : M64)) (ht : Rb b t p) :
    Rb b (neumann B hB e t) (ns (-p) 5) :=
  neuSum_val hB he ((Rb.zb.sub ht).congr fun i j => by rw [Matrix.neg_apply]; ring) 5

variable {S low upp eye : FVec Ideal (T3 B 64 64) .f32} {F : ℕ → ℕ → ℝ} {c : ℕ}

theorem low_val (hS : Rb b S fun i j => F i (c + j)) (hl : Rb b low fun i j => if j.val < i.val then 1 else 0) :
    Rb b (mulf S low) (Lm c F) := (hS.mul hl).congr fun i j => by unfold Lm; split_ifs <;> simp
theorem upp_val (hS : Rb b S fun i j => F i (c + j)) (hu : Rb b upp fun i j => if i.val ≤ j.val then 1 else 0) :
    Rb b (mulf S upp) (Um c F) := (hS.mul hu).congr fun i j => by unfold Um; split_ifs <;> simp

theorem invL_val (he : Rb b eye (1 : M64)) (hS : Rb b S fun i j => F i (c + j))
    (hl : Rb b low fun i j => if j.val < i.val then 1 else 0) : Rb b (invL B hB low eye S) (VL c F) :=
  neumann_val hB he (low_val hS hl)

theorem invU_val (he : Rb b eye (1 : M64)) (hS : Rb b S fun i j => F i (c + j))
    (hu : Rb b upp fun i j => if i.val ≤ j.val then 1 else 0) {rd : FVec Ideal (T3 B 64 1) .f32}
    (hr : Rb b rd fun i _ => (F i (c + i))⁻¹) : Rb b (invU B hB upp eye S rd) (VU c F) := by
  unfold invU
  have ht : Rb b (transpose (T3 B 1 64) [0, 2, 1] rd ⟨perm021, rfl, fun b => match b with | ⟨0, _⟩ => rfl | ⟨1, _⟩ => rfl | ⟨2, _⟩ => rfl⟩)
      fun _ j => (F j (c + j))⁻¹ := fun i j => (ValueIdx.transpose_ix3_021_apply rd _ b i j).trans (hr j i)
  have hT : Rb b (subf (mulf (mulf S upp) (broadcastTo (T3 B 64 64) rd (bc3 (.inr rfl) (.inr rfl) (.inl rfl)))) eye) (Tm c F) :=
    ((upp_val hS hu).mul (hr.bcol _)).sub he
  exact (neumann_val hB he hT).mul (ht.brow _)

end Inverses

/-! ## The block -/

section Block

variable (hB : 0 < B) {MR MC : Nat} {cw : BitVec 32} {c : ℕ} {low upp eye : FVec Ideal (T3 B 64 64) .f32}
  {A : FVec Ideal (T3 B MR MC) .f32} {Rw : FVec Ideal (T3 B 64 MC) .f32} {x : ℕ → ℕ → ℝ}

theorem selC_val (hc : kcol cw = BitVec.ofNat 32 c) (hc' : c ≤ 64) (hM : MC ≤ 256) :
    R2 (selC (F := Ideal) MC cw) fun j q => if j.val = c + q.val then 1 else 0 := fun j q => by
  refine ind_apply _ _ _ ?_
  show IntOp.cmpi .eq (iota .tc (T2 MC 64) 32 [0] _ (ix2 j q)) (iota .tc (T2 MC 64) 32 [1] _ (ix2 j q) + kcol cw) = _
  rw [iota2, iota2, hc, ← BitVec.ofNat_add, cmpi_eq_ofNat (w := 32) (by have := j.isLt; show j.val < _; omega)
    (by have := q.isLt; show q.val + c < _; omega)]
  congr 1
  exact decide_eq_decide.2 (by show j.val = q.val + c ↔ _; omega)

theorem selCt_val (hc : kcol cw = BitVec.ofNat 32 c) (hc' : c ≤ 64) (hM : MC ≤ 256) :
    R2 (selCt (F := Ideal) MC cw) fun q j => if j.val = c + q.val then 1 else 0 := fun q j => by
  refine ind_apply _ _ _ ?_
  show IntOp.cmpi .eq (iota .tc (T2 64 MC) 32 [1] _ (ix2 q j)) (iota .tc (T2 64 MC) 32 [0] _ (ix2 q j) + kcol cw) = _
  rw [iota2, iota2, hc, ← BitVec.ofNat_add, cmpi_eq_ofNat (w := 32) (by have := j.isLt; show j.val < _; omega)
    (by have := q.isLt; show q.val + c < _; omega)]
  congr 1
  exact decide_eq_decide.2 (by show j.val = q.val + c ↔ _; omega)

theorem selR_val (hM : MR ≤ 256) : R2 (selR (F := Ideal) MR) fun j q => if j.val = q.val then 1 else 0 := fun j q => by
  refine ind_apply _ _ _ ?_
  show IntOp.cmpi .eq (iota .tc (T2 MR 64) 32 [0] _ (ix2 j q)) (iota .tc (T2 MR 64) 32 [1] _ (ix2 j q) + krow) = _
  rw [iota2, iota2, show krow = BitVec.ofNat 32 0 from by decide, ← BitVec.ofNat_add, cmpi_eq_ofNat (w := 32) (by have := j.isLt; show j.val < _; omega)
    (by have := q.isLt; show q.val + 0 < _; omega)]
  rfl

/-- A product with the column selector takes columns. -/
theorem take_val {m : Nat} {V : FVec Ideal (T3 B m MC) .f32} (hV : Rb b V fun i j => x i j) (hc : kcol cw = BitVec.ofNat 32 c)
    (hc' : c ≤ 64) (hM : MC ≤ 256) (hM' : c + 64 ≤ MC) :
    Rb b (matmul (dotR B m MC 64) none V (selC MC cw) (zc _)) fun i j => x i (c + j) :=
  (Rb.dotR hV (selC_val hc hc' hM)).congr fun i j => by
    rw [Finset.sum_eq_single ⟨c + j.val, by omega⟩ (fun q _ hq => by
      rw [if_neg (fun h => hq (Fin.ext h)), mul_zero]) (by simp)]
    simp

variable (hc : kcol cw = BitVec.ofNat 32 c) (hc' : c ≤ 64) (hMC : MC ≤ 256) (hMR : MR ≤ 256) (hMC' : c + 64 ≤ MC)
  (hA : Rb b A fun i j => x i j) (hR : Rb b Rw fun i j => x i j) (h0 : ∀ k < 64, its c x k k (c + k) ≠ 0)

include hbm hbf hc hc' hMC hMC' hR h0 in
theorem corner_val : Rb b (corner B bm bf MC cw Rw) fun i j => its c x 64 i (c + j) := by
  have := facIter_val hbm hbf (a := fun i j => x i (c + j)) (take_val hR hc hc' hMC hMC') 64 (Nat.le_refl 64)
    (fun k hk => by rw [its_corner]; exact h0 k hk)
  exact this.congr fun i j => its_corner 64 i j

include hbm hbf hc hc' hMC hMC' hR h0 in
theorem rd_val : Rb b (rdCol B bm bf (matmul (dotR B 64 MC 64) none Rw (selC MC cw) (zc _))) fun i _ => (its c x 64 i (c + i))⁻¹ := by
  have := rdCol_val hbm hbf (a := fun i j => x i (c + j)) (take_val hR hc hc' hMC hMC')
    (fun k hk => by rw [its_corner]; exact h0 k hk)
  exact this.congr fun i j => by rw [its_corner, its_row (le_refl i.val) (Nat.le_of_lt i.isLt)]

theorem bcast_1m1 {m n : Nat} {α : Type} (x : (T3 1 m 1).Idx → α) (h : (T3 1 m 1).Broadcasts (T3 B m n)) (i : Fin m) (j : Fin n) :
    broadcastTo (T3 B m n) x h (ix3 b i j) = x (ix3 0 i 0) :=
  broadcastTo_apply x h _ _ fun a => by
    match a with
    | ⟨0, _⟩ => rfl
    | ⟨1, _⟩ => show i.val = if m = 1 then 0 else i.val; split_ifs <;> omega
    | ⟨2, _⟩ => rfl
theorem bcast_11n {m n : Nat} {α : Type} (x : (T3 1 1 n).Idx → α) (h : (T3 1 1 n).Broadcasts (T3 B m n)) (i : Fin m) (j : Fin n) :
    broadcastTo (T3 B m n) x h (ix3 b i j) = x (ix3 0 0 j) :=
  broadcastTo_apply x h _ _ fun a => by
    match a with
    | ⟨0, _⟩ => rfl
    | ⟨1, _⟩ => rfl
    | ⟨2, _⟩ => show j.val = if n = 1 then 0 else j.val; split_ifs <;> omega

variable (he : Rb b eye (1 : M64)) (hl : Rb b low fun i j => if j.val < i.val then 1 else 0)
  (hu : Rb b upp fun i j => if i.val ≤ j.val then 1 else 0)

include hbf hc hc' hMC hMR hMC' hA he hl hu in
theorem colsC_val {F : ℕ → ℕ → ℝ} {S : FVec Ideal (T3 B 64 64) .f32} {rd : FVec Ideal (T3 B 64 1) .f32}
    (hS : Rb b S fun i j => F i (c + j)) (hr : Rb b rd fun i _ => (F i (c + i))⁻¹) :
    Rb b (colsC B bf hB MR MC cw low upp eye A S rd) fun i q => Cm c x F i q := by
  unfold colsC
  have s1 : Rb b (bf MR 64 (shapeCast (T3 1 MR 64) (selR (F := Ideal) MR) (selR_cast MR))) fun j q => if j.val = q.val then 1 else 0 :=
    fun j q => by
      rw [hbf]
      exact (ValueIdx.shapeCast_ab_1ab_apply (selR (F := Ideal) MR) (selR_cast MR) 0 j q).trans (selR_val hMR j q)
  refine ((Rb.dotB hB s1 (low_val hS hl)).add (Rb.sel (fun i _ => 64 ≤ i.val) (fun i q => ?_)
    (Rb.dotB hB (take_val hA hc hc' hMC hMC') (invU_val hB he hS hu hr)) Rb.zb)).congr fun i q => ?_
  · rw [bcast_1m1, shapeCast_self]
    show IntOp.cmpi .sge (iota .tc (T3 1 MR 1) 32 [1] _ (ix3 0 i 0)) (Scalar.addi krow 64#32) = _
    rw [iota3, show Scalar.addi krow 64#32 = BitVec.ofNat 32 64 from by decide]
    exact cmpi_sge_ofNat (w := 32) (by have := i.isLt; show i.val < _; omega) (by omega)
  · unfold Cm
    congr 1
    by_cases hi : i.val < 64
    · rw [dif_pos hi, Finset.sum_eq_single ⟨i.val, hi⟩ (fun p _ hp => by
        rw [if_neg (fun h => hp (Fin.ext h.symm)), zero_mul]) (by simp), if_pos rfl, one_mul]
    · rw [dif_neg hi]
      exact Finset.sum_eq_zero fun p _ => by rw [if_neg (by omega), zero_mul]

include hc hc' hMC hMC' hR he hl hu in
theorem rowsR_val {F : ℕ → ℕ → ℝ} {S : FVec Ideal (T3 B 64 64) .f32}
    (hS : Rb b S fun i j => F i (c + j)) :
    Rb b (rowsR B hB MC cw low upp eye Rw S) fun q j => Rm c x F q j := by
  unfold rowsR
  have hU : Rb b (subf (mulf S upp) eye) (Um c F - 1 : M64) := (upp_val hS hu).sub he
  refine ((Rb.sel (fun _ j => c + 64 ≤ j.val) (fun q j => ?_) (Rb.dotB hB (invL_val hB he hS hl) hR) Rb.zb).add
    (Rb.dotR hU (selCt_val hc hc' hMC))).congr fun q j => ?_
  · rw [bcast_11n, shapeCast_self]
    show IntOp.cmpi .sge (iota .tc (T3 1 1 MC) 32 [2] _ (ix3 0 0 j)) (Scalar.addi (kcol cw) 64#32) = _
    rw [iota3, hc, show Scalar.addi (BitVec.ofNat 32 c) 64#32 = BitVec.ofNat 32 (c + 64) from (BitVec.ofNat_add ..).symm]
    exact cmpi_sge_ofNat (w := 32) (by have := j.isLt; show j.val < _; omega) (by omega)
  · unfold Rm
    congr 1
    by_cases hj : c ≤ j.val ∧ j.val < c + 64
    · rw [dif_pos hj, Finset.sum_eq_single ⟨j.val - c, by omega⟩ (fun p _ hp => by
        rw [if_neg (fun h => hp (Fin.ext (by show p.val = j.val - c; omega))), mul_zero]) (by simp),
        if_pos (by show j.val = c + (j.val - c); omega), mul_one]
    · rw [dif_neg hj]
      exact Finset.sum_eq_zero fun p _ => by rw [if_neg (by omega), mul_zero]

include hbm hbf hc hc' hMC hMR hMC' hA hR h0 he hl hu in
/-- The block step is 64 steps of elimination. -/
theorem blockVal_val : Rb b (blockVal B bm bf hB MR MC cw low upp eye A Rw) fun i j => its c x 64 i j := by
  unfold blockVal
  have hS := corner_val hbm hbf hc hc' hMC hMC' hR h0
  have hr := rd_val hbm hbf hc hc' hMC hMC' hR h0
  refine (hA.sub (Rb.dotB hB (colsC_val hbf hB hc hc' hMC hMR hMC' hA he hl hu hS hr)
    (rowsR_val hB hc hc' hMC hMC' hR he hl hu hS))).congr fun i j => ?_
  exact block_math h0 i j

end Block

/-! ## The masks -/

include hbf in
theorem eye_ok : Rb b (bf 64 64 eyeM) (1 : M64) := fun i j => by
  rw [hbf]
  refine (ind_apply _ _ (i.val = j.val) ?_).trans ?_
  · show IntOp.cmpi .eq (iota .tc (T3 1 64 64) 32 [1] _ (ix3 0 i j)) (iota .tc (T3 1 64 64) 32 [2] _ (ix3 0 i j)) = _
    rw [iota3, iota3]
    exact cmpi_eq_ofNat (w := 32) (by have := i.isLt; show i.val < _; omega) (by have := j.isLt; show j.val < _; omega)
  · rw [Matrix.one_apply]; simp only [Fin.ext_iff]
include hbf in
theorem low_ok : Rb b (bf 64 64 lowM) fun i j => if j.val < i.val then 1 else 0 := fun i j => by
  rw [hbf]
  refine ind_apply _ _ _ ?_
  show IntOp.cmpi .sgt (iota .tc (T3 1 64 64) 32 [1] _ (ix3 0 i j)) (iota .tc (T3 1 64 64) 32 [2] _ (ix3 0 i j)) = _
  rw [iota3, iota3]
  exact cmpi_sgt_ofNat (w := 32) (by have := i.isLt; show i.val < _; omega) (by have := j.isLt; show j.val < _; omega)
include hbf in
theorem upp_ok : Rb b (bf 64 64 uppM) fun i j => if i.val ≤ j.val then 1 else 0 := fun i j => by
  rw [hbf]
  refine ind_apply _ _ _ ?_
  show IntOp.cmpi .sle (iota .tc (T3 1 64 64) 32 [1] _ (ix3 0 i j)) (iota .tc (T3 1 64 64) 32 [2] _ (ix3 0 i j)) = _
  rw [iota3, iota3]
  exact cmpi_sle_ofNat (w := 32) (by have := i.isLt; show i.val < _; omega) (by have := j.isLt; show j.val < _; omega)

theorem maskB_ok (b : Fin B) : BmOk b (maskB B) := fun m n x i j => by
  unfold maskB
  rw [shapeCast_self]
  exact broadcastTo_apply x _ _ _ fun a => by
    match a with
    | ⟨0, _⟩ => rfl
    | ⟨1, _⟩ => show i.val = if m = 1 then 0 else i.val; split_ifs <;> omega
    | ⟨2, _⟩ => show j.val = if n = 1 then 0 else j.val; split_ifs <;> omega
theorem floatB_ok (b : Fin B) : BfOk b (floatB B) := fun m n x i j => by
  unfold floatB
  exact broadcastTo_apply x _ _ _ fun a => by
    match a with
    | ⟨0, _⟩ => rfl
    | ⟨1, _⟩ => show i.val = if m = 1 then 0 else i.val; split_ifs <;> omega
    | ⟨2, _⟩ => show j.val = if n = 1 then 0 else j.val; split_ifs <;> omega
theorem mask1_ok (b : Fin 1) : BmOk b (fun _ _ x => x) := fun m n x i j => by rw [Subsingleton.elim b 0]
theorem float1_ok (b : Fin 1) : BfOk b (fun _ _ x => x) := fun m n x i j => by rw [Subsingleton.elim b 0]

end Cert.LU
-- ==== Proof.LayerVal.lean ====
/- The layers at the extended reals: a layer carries each of its matrices through all 256 steps of elimination. -/
module

public import proofs.«01_k».proof.Proof.BlockVal
public import proofs.«01_k».proof.Proof.KernelRun

@[expose] public section

noncomputable section

namespace Cert.LU

open Idealize.ShloMosaic

variable {B : Nat} {bm : MaskB B} {bf : FloatB Ideal B}

/-- Contents overwritten from row `r` and column `o` on. -/
theorem ovw_apply {X : V3 Ideal 5} {MR MC r o : Nat} (hr : r + MR = 256) (ho : o + MC = 256)
    (w : FVec Ideal (T3 B MR MC) .f32) (b : Fin B) (b5 : Fin 5) (hb : b5.val = b.val) (i j : Fin 256) :
    ovw (s := T3 5 256 256) X ![0, r, o] (T3 B MR MC).size w (ix3 b5 i j)
      = if h : r ≤ i.val ∧ o ≤ j.val then w (ix3 b ⟨i.val - r, by omega⟩ ⟨j.val - o, by omega⟩) else X (ix3 b5 i j) := by
  unfold ovw
  by_cases h : r ≤ i.val ∧ o ≤ j.val
  · rw [dif_pos h, dif_pos (by
      intro d
      match d with
      | ⟨0, _⟩ => exact ⟨Nat.zero_le _, by show b5.val < 0 + B; omega⟩
      | ⟨1, _⟩ => exact ⟨h.1, by show i.val < r + MR; omega⟩
      | ⟨2, _⟩ => exact ⟨h.2, by show j.val < o + MC; omega⟩)]
    congr 1
    funext d
    match d with
    | ⟨0, _⟩ => apply Fin.ext; show b5.val - 0 = b.val; omega
    | ⟨1, _⟩ => rfl
    | ⟨2, _⟩ => rfl
  · rw [dif_neg h, dif_neg]
    intro h'
    exact h ⟨(h' 1).1, (h' 2).1⟩

theorem rdR_apply {X : V3 Ideal 5} {MR MC r o : Nat} {inb} (b : Fin B) (b5 : Fin 5) (hb : b5.val = b.val) (i : Fin MR) (j : Fin MC)
    (hi : r + i.val < 256) (hj : o + j.val < 256) :
    rdR X B MR MC 0 r o inb (ix3 b i j) = X (ix3 b5 ⟨r + i.val, hi⟩ ⟨o + j.val, hj⟩) := by
  unfold rdR
  congr 1
  funext d
  match d with
  | ⟨0, _⟩ => apply Fin.ext; show 0 + 1 * b.val = b5.val; omega
  | ⟨1, _⟩ => apply Fin.ext; show r + 1 * i.val = r + i.val; omega
  | ⟨2, _⟩ => apply Fin.ext; show o + 1 * j.val = o + j.val; omega

section Layer

variable {b : Fin B} (hbm : BmOk b bm) (hbf : BfOk b bf) {hB : 0 < B} {hB5 : B ≤ 5} {b5 : Fin 5} (hb : b5.val = b.val)
  {A : ℕ → ℕ → ℝ} (h0 : ∀ k < 256, its 0 A k k k ≠ 0)

include hbm hbf hb h0 in
theorem chunk_val {X : V3 Ideal 5} {MR MC r o c : Nat} {cw : BitVec 32} {hR : r + MR ≤ 256} {hR0 : r + 64 ≤ 256} {hC : o + MC ≤ 256}
    {rw : FVec Ideal (T3 B 64 256) .f32 → FVec Ideal (T3 B 64 MC) .f32} (hr : r + MR = 256) (ho : o + MC = 256)
    (e : r = o + c) (hc : kcol cw = BitVec.ofNat 32 c) (hc' : c ≤ 64) (hM : c + 64 ≤ MC)
    (hrw : ∀ V (a : ℕ → ℕ → ℝ), Rb b V (fun i j => a i j) → Rb b (rw V) fun i j => a i (o + j))
    (hX : Rb b5 X fun i j => its 0 A r i j) :
    Rb b5 (chunkF B bm bf hB hB5 MR MC r o cw hR hR0 hC rw X) fun i j => its 0 A (r + 64) i j := by
  have hx : ∀ i j, (fun i j => its 0 A r (r + i) (o + j)) i j = its 0 A r (r + i) (o + j) := fun _ _ => rfl
  have hsh := fun i j n => its_shift e i j n _ hx
  intro i j
  unfold chunkF
  rw [ovw_apply hr ho _ b b5 hb]
  by_cases h : r ≤ i.val ∧ o ≤ j.val
  · rw [dif_pos h, shapeCast_self]
    refine (blockVal_val (x := fun i j => its 0 A r (r + i) (o + j)) hbm hbf hB hc hc' (by omega) (by omega) hM ?_ ?_ ?_
      (eye_ok hbf) (low_ok hbf) (upp_ok hbf) _ _).trans ?_
    · intro p q
      rw [rdR_apply b b5 hb p q (by omega) (by omega)]
      exact hX _ _
    · refine hrw _ (fun i j => its 0 A r (r + i) j) fun p q => ?_
      rw [rdR_apply b b5 hb p q (by omega) (by omega)]
      refine (hX _ _).trans ?_
      show ((its 0 A r (r + p.val) (0 + q.val) : ℝ) : EReal) = _
      rw [Nat.zero_add]
    · intro k hk
      rw [hsh, ← Nat.add_assoc, ← e]
      exact h0 _ (by omega)
    · show ((its c _ 64 (i.val - r) (j.val - o) : ℝ) : EReal) = _
      rw [hsh, Nat.add_sub_cancel' h.1, Nat.add_sub_cancel' h.2]
  · rw [dif_neg h, hX i j]
    show ((its 0 A r i j : ℝ) : EReal) = ((its 0 A (r + 64) i j : ℝ) : EReal)
    rcases Nat.lt_or_ge i.val r with hi | hi
    · rw [its_row (Nat.le_of_lt hi) (Nat.le_add_right r 64)]
    · have hj : j.val < o := by by_contra hj; exact h ⟨hi, by omega⟩
      have : ∀ n, its 0 A (r + n) i.val j.val = its 0 A r i.val j.val := fun n => by
        induction n with
        | zero => rfl
        | succ n ih => exact (el_col (c := 0) (n := r + n) (by omega) _).trans ih
      rw [this]

include hbm hbf hb h0 in
theorem layer_val {X : V3 Ideal 5} (hX : Rb b5 X fun i j => A i j) :
    Rb b5 (layerF B bm bf hB hB5 X) fun i j => its 0 A 256 i j := by
  unfold layerF
  have hid : ∀ (V : FVec Ideal (T3 B 64 256) .f32) (a : ℕ → ℕ → ℝ), Rb b V (fun i j => a i j) → Rb b V fun i j => a i (0 + j) :=
    fun V a h => h.congr fun i j => by rw [Nat.zero_add]
  have hsl : ∀ (V : FVec Ideal (T3 B 64 256) .f32) (a : ℕ → ℕ → ℝ), Rb b V (fun i j => a i j) →
      Rb b (extractStridedSlice (T3 B 64 128) ![0, 0, 128] V (sl3 (by omega) (by omega) (by omega))) fun i j => a i (128 + j) :=
    fun V a h => (h.slice (sl3 (by omega) (by omega) (by omega))).congr fun i j => by rw [Nat.zero_add]
  have k0 : kcol 0#32 = BitVec.ofNat 32 0 := by decide
  have k64 : kcol 64#32 = BitVec.ofNat 32 64 := by decide
  have s1 := chunk_val (hB := hB) (hB5 := hB5) (MR := 256) (MC := 256) (r := 0) (o := 0) (c := 0) hbm hbf hb h0 (hR := by omega) (hR0 := by omega) (hC := by omega)
    rfl rfl rfl k0 (by omega) (by omega) hid hX
  have s2 := chunk_val (hB := hB) (hB5 := hB5) (MR := 192) (MC := 256) (r := 64) (o := 0) (c := 64) hbm hbf hb h0 (hR := by omega) (hR0 := by omega) (hC := by omega)
    rfl rfl rfl k64 (by omega) (by omega) hid s1
  have s3 := chunk_val (hB := hB) (hB5 := hB5) (MR := 128) (MC := 128) (r := 128) (o := 128) (c := 0) hbm hbf hb h0 (hR := by omega) (hR0 := by omega) (hC := by omega)
    rfl rfl rfl k0 (by omega) (by omega) hsl s2
  exact chunk_val (hB := hB) (hB5 := hB5) (MR := 64) (MC := 128) (r := 192) (o := 128) (c := 64) hbm hbf hb h0 (hR := by omega) (hR0 := by omega) (hC := by omega)
    rfl rfl rfl k64 (by omega) (by omega) hsl s3

end Layer

/-! ## The corrections -/

/-- A matrix's two leading rows and columns less four values. -/
def less4 (A : ℕ → ℕ → ℝ) (p q r s : ℝ) : ℕ → ℕ → ℝ := fun i j =>
  A i j - (if i = 0 ∧ j = 0 then p else if i = 0 ∧ j = 1 then q else if i = 1 ∧ j = 0 then r else if i = 1 ∧ j = 1 then s else 0)

theorem corrAt_val {x : FVec Ideal (T2 1 1) .f32} {v : ℝ} (hx : x (ix2 0 0) = (v : EReal)) {r s : Nat} (hr : r < 2) (hs : s < 2) :
    R2 (corrAt x (BitVec.ofNat 32 r) (BitVec.ofNat 32 s)) fun i j => v * if i.val = r ∧ j.val = s then 1 else 0 := fun i j => by
  unfold corrAt
  have h1 : broadcastTo (T2 256 256) x ⟨Nat.le_refl 2, fun i => match i with | ⟨0, _⟩ => .inl rfl | ⟨1, _⟩ => .inl rfl⟩ (ix2 i j) = (v : EReal) :=
    (broadcastTo_apply x _ _ (ix2 0 0) fun a => by
      match a with
      | ⟨0, _⟩ => rfl
      | ⟨1, _⟩ => rfl).trans hx
  have h2 := ind_apply (andi (cmpi .eq (iota .tc (T2 256 256) 32 [0] (io 0 (Nat.le_refl 2))) (broadcast (T2 256 256) (BitVec.ofNat 32 r)))
      (cmpi .eq (iota .tc (T2 256 256) 32 [1] (io 1 (Nat.le_refl 2))) (broadcast (T2 256 256) (BitVec.ofNat 32 s)))) (ix2 i j)
      (i.val = r ∧ j.val = s) (by
    show IntOp.andi (IntOp.cmpi .eq (iota .tc (T2 256 256) 32 [0] _ (ix2 i j)) (BitVec.ofNat 32 r))
      (IntOp.cmpi .eq (iota .tc (T2 256 256) 32 [1] _ (ix2 i j)) (BitVec.ofNat 32 s)) = _
    rw [iota2, iota2, WordCmp.cmpi_eq_ofNat (w := 32) (by have := i.isLt; show i.val < _; omega) (by omega),
      WordCmp.cmpi_eq_ofNat (w := 32) (by have := j.isLt; show j.val < _; omega) (by omega), WordCmp.andi_ofBool, ← Bool.decide_and]
    rfl)
  show _ * _ = _
  rw [h1, h2, ← EReal.coe_mul]

theorem R2.add {m n : Nat} {V W : FVec Ideal (T2 m n) .f32} {a c : Fin m → Fin n → ℝ} (hV : R2 V a) (hW : R2 W c) :
    R2 (addf V W) fun i j => a i j + c i j := fun i j => by
  show V _ + W _ = _; rw [hV, hW, ← EReal.coe_add]
theorem R2.sub {m n : Nat} {V W : FVec Ideal (T2 m n) .f32} {a c : Fin m → Fin n → ℝ} (hV : R2 V a) (hW : R2 W c) :
    R2 (subf V W) fun i j => a i j - c i j := fun i j => by
  show V _ - W _ = _; rw [hV, hW, ← EReal.coe_sub]
theorem R2.congr {m n : Nat} {V : FVec Ideal (T2 m n) .f32} {a c : Fin m → Fin n → ℝ} (hV : R2 V a) (h : ∀ i j, a i j = c i j) : R2 V c :=
  fun i j => by rw [hV, h]

/-- A matrix of an array of matrices. -/
theorem mat_val {n : Nat} {X : V3 Ideal n} {k : Nat} {hk : k < n} {a : ℕ → ℕ → ℝ} (h : Rb ⟨k, hk⟩ X fun i j => a i j) :
    R2 (sq2 (getM X k hk)) fun i j => a i j := fun i j => by
  rw [sq2_apply, getM_apply]; exact h i j

theorem at2_val {V : FVec Ideal (T2 256 256) .f32} {a : ℕ → ℕ → ℝ} (h : R2 V fun i j => a i j) (i j : Nat) (hi : i < 256) (hj : j < 256) :
    at2 V i j hi hj (ix2 0 0) = ((a i j : ℝ) : EReal) := by
  refine Eq.trans (congrArg V (funext fun d => ?_)) (h ⟨i, hi⟩ ⟨j, hj⟩)
  match d with
  | ⟨0, _⟩ => rfl
  | ⟨1, _⟩ => rfl

theorem at1_val {X : V3 Ideal 5} {k : Nat} {hk : k < 5} {a : ℕ → ℕ → ℝ} (h : Rb ⟨k, hk⟩ X fun i j => a i j) :
    shapeCast (T2 1 1) (at1F X k hk) sq1 (ix2 0 0) = ((a 1 1 : ℝ) : EReal) := by
  refine (ValueIdx.shapeCast_1ab_ab_apply (at1F X k hk) sq1 0 0).trans ?_
  refine Eq.trans (congrArg X (funext fun d => ?_)) (h 1 1)
  match d with
  | ⟨0, _⟩ => apply Fin.ext; show k + 1 * 0 = k; omega
  | ⟨1, _⟩ => rfl
  | ⟨2, _⟩ => rfl

theorem add11 {x y : FVec Ideal (T2 1 1) .f32} {a c : ℝ} (hx : x (ix2 0 0) = (a : EReal)) (hy : y (ix2 0 0) = (c : EReal)) :
    addf x y (ix2 0 0) = ((a + c : ℝ) : EReal) := by
  show x _ + y _ = _; rw [hx, hy, ← EReal.coe_add]

theorem four_val {V : FVec Ideal (T2 256 256) .f32} {A : ℕ → ℕ → ℝ} (hV : R2 V fun i j => A i j) {x y z w : FVec Ideal (T2 1 1) .f32} {p q r s : ℝ}
    (hx : x (ix2 0 0) = (p : EReal)) (hy : y (ix2 0 0) = (q : EReal)) (hz : z (ix2 0 0) = (r : EReal)) (hw : w (ix2 0 0) = (s : EReal)) :
    R2 (subf V (addf (addf (addf (corrAt x 0#32 0#32) (corrAt y 0#32 1#32)) (corrAt z 1#32 0#32)) (corrAt w 1#32 1#32)))
      fun i j => less4 A p q r s i j :=
  (hV.sub ((((corrAt_val hx (by omega) (by omega)).add (corrAt_val hy (by omega) (by omega))).add
    (corrAt_val hz (by omega) (by omega))).add (corrAt_val hw (by omega) (by omega)))).congr fun i j => by
    unfold less4
    congr 1
    by_cases h0 : i.val = 0
    · by_cases h1 : j.val = 0 <;> by_cases h2 : j.val = 1 <;> simp [h0, h1, h2] <;> omega
    · by_cases h3 : i.val = 1
      · by_cases h1 : j.val = 0 <;> by_cases h2 : j.val = 1 <;> simp [h3, h1, h2] <;> omega
      · simp [h0, h3]

theorem one_val {V : FVec Ideal (T2 256 256) .f32} {A : ℕ → ℕ → ℝ} (hV : R2 V fun i j => A i j) {x : FVec Ideal (T2 1 1) .f32} {p : ℝ}
    (hx : x (ix2 0 0) = (p : EReal)) : R2 (subf V (corrAt x 0#32 0#32)) fun i j => less4 A p 0 0 0 i j :=
  (hV.sub (corrAt_val hx (by omega) (by omega))).congr fun i j => by
    unfold less4
    congr 1
    by_cases h : i.val = 0 ∧ j.val = 0 <;> simp [h]

/-! ## The kernel's result -/

section Result

variable {x0 : V3 Ideal 9} {a : Fin 9 → ℕ → ℕ → ℝ} (hx : ∀ b, Rb b x0 fun i j => a b i j)

/-- The real matrices, layer by layer: a matrix factored, and those of the next layers with their corrections. -/
def fac (A : ℕ → ℕ → ℝ) : ℕ → ℕ → ℝ := its 0 A 256
def c3 (a : Fin 9 → ℕ → ℕ → ℝ) : ℕ → ℕ → ℝ :=
  less4 (a 3) (fac (a 1) 1 1 + fac (a 2) 2 2) (fac (a 2) 2 3) (fac (a 2) 3 2) (fac (a 2) 3 3)
def c7 (a : Fin 9 → ℕ → ℕ → ℝ) : ℕ → ℕ → ℝ :=
  less4 (a 7) (fac (a 5) 1 1 + fac (a 6) 3 3) (fac (a 6) 3 4) (fac (a 6) 4 3) (fac (a 6) 4 4)
def c8 (a : Fin 9 → ℕ → ℕ → ℝ) : ℕ → ℕ → ℝ :=
  less4 (a 8) (fac (a 0) 1 1 + fac (c3 a) 1 1 + fac (c7 a) 1 1) 0 0 0

/-- The matrices of all layers before their elimination. -/
def pre (a : Fin 9 → ℕ → ℕ → ℝ) (b : Fin 9) : ℕ → ℕ → ℝ := if b = 3 then c3 a else if b = 7 then c7 a else if b = 8 then c8 a else a b
/-- Every pivot is not zero. -/
def Piv (a : Fin 9 → ℕ → ℕ → ℝ) : Prop := ∀ b : Fin 9, b ≠ 4 → ∀ k < 256, its 0 (pre a b) k k k ≠ 0
/-- The result. -/
def res (a : Fin 9 → ℕ → ℕ → ℝ) (b : Fin 9) : ℕ → ℕ → ℝ := if b = 4 then a 4 else fac (pre a b)

variable (hp : Piv a)

include hx in
theorem k1_val (b5 : Fin 5) : Rb b5 (k1 x0) fun i j => a (![0, 1, 2, 5, 6] b5) i j := fun i j => by
  unfold k1 s1F
  simp only [putM_apply]
  fin_cases b5
  · exact mat_val (hx 0) i j
  · exact mat_val (hx 1) i j
  · exact mat_val (hx 2) i j
  · exact mat_val (hx 5) i j
  · exact mat_val (hx 6) i j

include hx hp in
theorem k2_val (b5 : Fin 5) : Rb b5 (k2 x0) fun i j => fac (a (![0, 1, 2, 5, 6] b5)) i j := by
  refine layer_val (b := b5) (maskB_ok b5) (floatB_ok b5) rfl (fun k hk => ?_) (k1_val hx b5)
  have h := hp (![0, 1, 2, 5, 6] b5) (by revert b5; decide) k hk
  have e : pre a (![0, 1, 2, 5, 6] b5) = a (![0, 1, 2, 5, 6] b5) := by fin_cases b5 <;> rfl
  rwa [e] at h

theorem putM_val {X : V3 Ideal 5} {v : FVec Ideal (T2 256 256) .f32} {A : ℕ → ℕ → ℝ} (h : R2 v fun i j => A i j) (k : Fin 5) :
    Rb k (putM X k.val v) fun i j => A i j := fun i j => by
  rw [putM_apply, if_pos rfl]; exact h i j
theorem putM_ne {X : V3 Ideal 5} {v : FVec Ideal (T2 256 256) .f32} {A : ℕ → ℕ → ℝ} {k : Fin 5} (h : Rb k X fun i j => A i j) (n : Nat) (hn : k.val ≠ n) :
    Rb k (putM X n v) fun i j => A i j := fun i j => by
  rw [putM_apply, if_neg hn]; exact h i j

include hx hp in
theorem k4_val (b : Fin 2) : Rb (⟨b.val, by omega⟩ : Fin 5) (k4 x0) fun i j => fac (![c3 a, c7 a] b) i j := by
  have g := k2_val hx hp
  have e3 : R2 (subf (sq2 (getM x0 3 (by omega))) (corr3 (getM (k2 x0) 1 (by omega)) (getM (k2 x0) 2 (by omega)))) fun i j => c3 a i j :=
    four_val (mat_val (hx 3)) (add11 (at2_val (mat_val (g 1)) 1 1 _ _) (at2_val (mat_val (g 2)) 2 2 _ _)) (at2_val (mat_val (g 2)) 2 3 _ _)
      (at2_val (mat_val (g 2)) 3 2 _ _) (at2_val (mat_val (g 2)) 3 3 _ _)
  have e7 : R2 (subf (sq2 (getM x0 7 (by omega))) (corr7 (getM (k2 x0) 3 (by omega)) (getM (k2 x0) 4 (by omega)))) fun i j => c7 a i j :=
    four_val (mat_val (hx 7)) (add11 (at2_val (mat_val (g 3)) 1 1 _ _) (at2_val (mat_val (g 4)) 3 3 _ _)) (at2_val (mat_val (g 4)) 3 4 _ _)
      (at2_val (mat_val (g 4)) 4 3 _ _) (at2_val (mat_val (g 4)) 4 4 _ _)
  have s : Rb (⟨b.val, by omega⟩ : Fin 5) (s3F x0 (k2 x0)) fun i j => (![c3 a, c7 a] b) i j := by
    unfold s3F
    fin_cases b
    · exact putM_ne (putM_val e3 0) 1 (by decide)
    · exact putM_val e7 1
  refine layer_val (b := b) (maskB_ok b) (floatB_ok b) rfl (fun k hk => ?_) s
  fin_cases b
  · exact hp 3 (by decide) k hk
  · exact hp 7 (by decide) k hk

include hx hp in
theorem k6_val : Rb (0 : Fin 5) (k6 x0) fun i j => fac (c8 a) i j := by
  refine layer_val (b := 0) (mask1_ok 0) (float1_ok 0) rfl (fun k hk => hp 8 (by decide) k hk) ?_
  exact putM_val (one_val (mat_val (hx 8)) (add11 (add11 (at1_val (k2_val hx hp 0)) (at1_val (k4_val hx hp 0))) (at1_val (k4_val hx hp 1)))) 0

include hx hp in
/-- The kernel's result: each matrix factored after its corrections, matrix 4 as it came. -/
theorem luOut_val (b : Fin 9) : Rb b (luOut x0) fun i j => res a b i j := fun i j => by
  unfold luOut outF
  simp only [putM_apply]
  have g := k2_val hx hp
  have g4 := k4_val hx hp
  fin_cases b
  · exact mat_val (g 0) i j
  · exact mat_val (g 1) i j
  · exact mat_val (g 2) i j
  · exact mat_val (g4 0) i j
  · exact mat_val (hx 4) i j
  · exact mat_val (g 3) i j
  · exact mat_val (g 4) i j
  · exact mat_val (g4 1) i j
  · exact mat_val (k6_val hx hp) i j

end Result

end Cert.LU
-- ==== Proof.PreEq.lean ====
/- The precondition's function is the elimination written step by step. -/
module

public import proofs.«01_k».proof.Proof.Body
public import proofs.«01_k».proof.Pre_pivots_nonzero

@[expose] public section

namespace Cert.LU

open Idealize.ShloMosaic Cert.Pre_pivots_nonzero

/-! ## The side conditions -/

theorem bi3 {a b c a' b' c' : Nat} (ha : a = 1 ∨ a = a') (hb : b = 1 ∨ b = b') (hc : c = 1 ∨ c = c') :
    (T3 a b c).BroadcastsInDim (T3 a' b' c') (![0, 1, 2] : Fin 3 → Fin 3) :=
  ⟨(by decide : Function.Injective (![0, 1, 2] : Fin 3 → Fin 3)), fun i => match i with | ⟨0, _⟩ => ha | ⟨1, _⟩ => hb | ⟨2, _⟩ => hc⟩
theorem bi0 {a' b' c' : Nat} : S_.BroadcastsInDim (T3 a' b' c') (![] : Fin 0 → Fin 3) := ⟨fun i => i.elim0, fun i => i.elim0⟩
theorem sl3' {a b c i j k a' b' c' : Nat} (ha : i + a' ≤ a) (hb : j + b' ≤ b) (hc : k + c' ≤ c) :
    (T3 a b c).Slices ![i, j, k] (T3 a' b' c') := ⟨rfl, fun x => match x with | ⟨0, _⟩ => ha | ⟨1, _⟩ => hb | ⟨2, _⟩ => hc⟩

/-! ## The elimination -/

variable {F : FTy → Type} [FloatOps F]

abbrev rowsI (B : Nat) : IVec (T3 B 256 256) 32 := iotaInDim (T3 B 256 256) 32 1
abbrev colsI (B : Nat) : IVec (T3 B 256 256) 32 := iotaInDim (T3 B 256 256) 32 2
abbrev num (B k : Nat) : IVec (T3 B 256 256) 32 := broadcastInDim (T3 B 256 256) ![] bi0 (constantI S_ 32 (BitVec.ofNat 32 k))

/-- The row of step `k`, the multipliers and the step. -/
def pRow {B : Nat} (A : FVec F (T3 B 256 256) .f32) (k : Nat) (hk : k < 256) : FVec F (T3 B 1 256) .f32 :=
  extractStridedSlice (T3 B 1 256) ![0, k, 0] A (sl3' (by omega) hk (by omega))
def pMult {B : Nat} (A : FVec F (T3 B 256 256) .f32) (k : Nat) (hk : k < 256) : FVec F (T3 B 256 256) .f32 :=
  broadcastInDim (T3 B 256 256) ![0, 1, 2] (bi3 (.inr rfl) (.inr rfl) (.inl rfl))
    (Host.divf (extractStridedSlice (T3 B 256 1) ![0, 0, k] A (sl3' (by omega) (by omega) hk))
      (broadcastInDim (T3 B 256 1) ![0, 1, 2] (bi3 (.inr rfl) (.inl rfl) (.inr rfl))
        (extractStridedSlice (T3 B 1 1) ![0, 0, k] (pRow A k hk) (sl3' (by omega) (by omega) hk))))
def pStep {B : Nat} (A : FVec F (T3 B 256 256) .f32) (k : Nat) (hk : k < 256) : FVec F (T3 B 256 256) .f32 :=
  select (andi (cmpi .sgt (rowsI B) (num B k)) (cmpi .eq (colsI B) (num B k))) (pMult A k hk)
    (select (andi (cmpi .sgt (rowsI B) (num B k)) (cmpi .sgt (colsI B) (num B k)))
      (subf A (mulf (pMult A k hk) (broadcastInDim (T3 B 256 256) ![0, 1, 2] (bi3 (.inr rfl) (.inl rfl) (.inr rfl)) (pRow A k hk)))) A)
def pFac {B : Nat} (A : FVec F (T3 B 256 256) .f32) : (n : Nat) → n ≤ 256 → FVec F (T3 B 256 256) .f32
  | 0, _ => A
  | n + 1, h => pStep (pFac A n (Nat.le_of_succ_le h)) n h

/-- An entry less a value; an entry of a matrix; a matrix of an array. -/
def pMinus (A : FVec F (T3 1 256 256) .f32) (r c : Nat) (v : FVec F (T3 1 1 1) .f32) : FVec F (T3 1 256 256) .f32 :=
  select (andi (cmpi .eq (rowsI 1) (num 1 r)) (cmpi .eq (colsI 1) (num 1 c)))
    (subf A (broadcastInDim (T3 1 256 256) ![0, 1, 2] (bi3 (.inl rfl) (.inl rfl) (.inl rfl)) v)) A
def pAt {B : Nat} (A : FVec F (T3 B 256 256) .f32) (b r c : Nat) (hb : b < B) (hr : r < 256) (hc : c < 256) : FVec F (T3 1 1 1) .f32 :=
  extractStridedSlice (T3 1 1 1) ![b, r, c] A (sl3' hb hr hc)
def pMat (x : FVec F (T3 9 256 256) .f32) (b : Nat) (hb : b < 9) : FVec F (T3 1 256 256) .f32 :=
  extractStridedSlice (T3 1 256 256) ![b, 0, 0] x (sl3' hb (by omega) (by omega))

variable [Facts]

open Facts

def p0 (x : FVec F (T3 9 256 256) .f32) : FVec F (T3 5 256 256) .f32 :=
  pFac (concatenate (T3 5 256 256) 0 [⟨T3 1 256 256, pMat x 0 (by omega)⟩, ⟨T3 1 256 256, pMat x 1 (by omega)⟩, ⟨T3 1 256 256, pMat x 2 (by omega)⟩,
    ⟨T3 1 256 256, pMat x 5 (by omega)⟩, ⟨T3 1 256 256, pMat x 6 (by omega)⟩]
    concatenates_S1x256x256_S1x256x256_S1x256x256_S1x256x256_S1x256x256_S5x256x256_d0) 256 (Nat.le_refl _)
def px3 (x : FVec F (T3 9 256 256) .f32) (f0 : FVec F (T3 5 256 256) .f32) : FVec F (T3 1 256 256) .f32 :=
  pMinus (pMinus (pMinus (pMinus (pMinus (pMat x 3 (by omega)) 0 0 (pAt f0 1 1 1 (by omega) (by omega) (by omega)))
    0 0 (pAt f0 2 2 2 (by omega) (by omega) (by omega))) 0 1 (pAt f0 2 2 3 (by omega) (by omega) (by omega)))
    1 0 (pAt f0 2 3 2 (by omega) (by omega) (by omega))) 1 1 (pAt f0 2 3 3 (by omega) (by omega) (by omega))
def px7 (x : FVec F (T3 9 256 256) .f32) (f0 : FVec F (T3 5 256 256) .f32) : FVec F (T3 1 256 256) .f32 :=
  pMinus (pMinus (pMinus (pMinus (pMinus (pMat x 7 (by omega)) 0 0 (pAt f0 3 1 1 (by omega) (by omega) (by omega)))
    0 0 (pAt f0 4 3 3 (by omega) (by omega) (by omega))) 0 1 (pAt f0 4 3 4 (by omega) (by omega) (by omega)))
    1 0 (pAt f0 4 4 3 (by omega) (by omega) (by omega))) 1 1 (pAt f0 4 4 4 (by omega) (by omega) (by omega))
def p1 (x : FVec F (T3 9 256 256) .f32) (f0 : FVec F (T3 5 256 256) .f32) : FVec F (T3 2 256 256) .f32 :=
  pFac (concatenate (T3 2 256 256) 0 [⟨T3 1 256 256, px3 x f0⟩, ⟨T3 1 256 256, px7 x f0⟩]
    concatenates_S1x256x256_S1x256x256_S2x256x256_d0) 256 (Nat.le_refl _)
def px8 (x : FVec F (T3 9 256 256) .f32) (f0 : FVec F (T3 5 256 256) .f32) (f1 : FVec F (T3 2 256 256) .f32) : FVec F (T3 1 256 256) .f32 :=
  pMinus (pMinus (pMinus (pMat x 8 (by omega)) 0 0 (pAt f0 0 1 1 (by omega) (by omega) (by omega)))
    0 0 (pAt f1 0 1 1 (by omega) (by omega) (by omega))) 0 0 (pAt f1 1 1 1 (by omega) (by omega) (by omega))
def p2 (x : FVec F (T3 9 256 256) .f32) (f0 : FVec F (T3 5 256 256) .f32) (f1 : FVec F (T3 2 256 256) .f32) : FVec F (T3 1 256 256) .f32 :=
  pFac (px8 x f0 f1) 256 (Nat.le_refl _)
def pFin (x : FVec F (T3 9 256 256) .f32) : IVec (T3 9 256 256) 1 :=
  andi (cmpf .olt x (broadcastInDim (T3 9 256 256) ![] bi0 (constant S_ .f32 0x7F800000#32)))
    (cmpf .ogt x (broadcastInDim (T3 9 256 256) ![] bi0 (constant S_ .f32 0xFF800000#32)))
def pNz (f0 : FVec F (T3 5 256 256) .f32) (f1 : FVec F (T3 2 256 256) .f32) (f2 : FVec F (T3 1 256 256) .f32) : IVec (T3 8 256 256) 1 :=
  ori (cmpf .une (concatenate (T3 8 256 256) 0 [⟨T3 5 256 256, f0⟩, ⟨T3 2 256 256, f1⟩, ⟨T3 1 256 256, f2⟩]
    concatenates_S5x256x256_S2x256x256_S1x256x256_S8x256x256_d0) (broadcastInDim (T3 8 256 256) ![] bi0 (constant S_ .f32 0x00000000#32)))
    (cmpi .ne (rowsI 8) (colsI 8))

set_option maxRecDepth 100000 in
theorem pre_eq (x : FVec F (T3 9 256 256) .f32) :
    fn x = (pFin x, pNz (p0 x) (p1 x (p0 x)) (p2 x (p0 x) (p1 x (p0 x)))) := by
  sl_kernel_rfl

end Cert.LU
-- ==== Proof.PreVal.lean ====
/- The precondition at the extended reals: it says that the entries are reals and that no pivot is zero. -/
module

public import proofs.«01_k».proof.Proof.ElimOps
public import proofs.«01_k».proof.Proof.LayerVal
public import proofs.«01_k».proof.Proof.PreEq

@[expose] public section

noncomputable section

namespace Cert.LU

open Idealize.ShloMosaic Idealize.ShloMosaic.WordCmp

variable {B : Nat} {b : Fin B}

theorem gtRow (k : Nat) (hk : k < 256) (i j : Fin 256) : cmpi .sgt (rowsI B) (num B k) (ix3 b i j) = BitVec.ofBool (decide (k < i.val)) :=
  cmpi_sgt_ofNat (w := 32) (by have := i.isLt; show i.val < _; omega) (by omega)
theorem gtCol (k : Nat) (hk : k < 256) (i j : Fin 256) : cmpi .sgt (colsI B) (num B k) (ix3 b i j) = BitVec.ofBool (decide (k < j.val)) :=
  cmpi_sgt_ofNat (w := 32) (by have := j.isLt; show j.val < _; omega) (by omega)
theorem eqRow (k : Nat) (hk : k < 256) (i j : Fin 256) : cmpi .eq (rowsI B) (num B k) (ix3 b i j) = BitVec.ofBool (decide (i.val = k)) :=
  cmpi_eq_ofNat (w := 32) (by have := i.isLt; show i.val < _; omega) (by omega)
theorem eqCol (k : Nat) (hk : k < 256) (i j : Fin 256) : cmpi .eq (colsI B) (num B k) (ix3 b i j) = BitVec.ofBool (decide (j.val = k)) :=
  cmpi_eq_ofNat (w := 32) (by have := j.isLt; show j.val < _; omega) (by omega)

theorem and_bit {s : Shape} {x y : IVec s 1} {i : s.Idx} {p q : Prop} [Decidable p] [Decidable q] (hx : x i = BitVec.ofBool (decide p))
    (hy : y i = BitVec.ofBool (decide q)) : andi x y i = BitVec.ofBool (decide (p ∧ q)) := by
  show IntOp.andi (x i) (y i) = _
  rw [hx, hy, andi_ofBool, Bool.decide_and]

section Fac

variable {A : FVec Ideal (T3 B 256 256) .f32}

theorem pRow_apply (k : Nat) (hk : k < 256) (z : Fin 1) (j : Fin 256) : pRow A k hk (ix3 b z j) = A (ix3 b ⟨k, hk⟩ j) :=
  sl_apply _ _ _ _ _ _ _ _ (Nat.zero_add _).symm (by show k = k + z.val; omega) (Nat.zero_add _).symm

theorem pMult_apply (k : Nat) (hk : k < 256) (i j : Fin 256) :
    pMult A k hk (ix3 b i j) = Ideal.div (A (ix3 b i ⟨k, hk⟩)) (A (ix3 b ⟨k, hk⟩ ⟨k, hk⟩)) := by
  have hB : b.val = if B = 1 then 0 else b.val := by split_ifs <;> omega
  unfold pMult
  refine (bi_apply _ _ b i j b i 0 hB rfl rfl).trans ?_
  show Ideal.div _ _ = _
  congr 1
  · exact sl_apply _ _ _ _ _ _ _ _ (Nat.zero_add _).symm (Nat.zero_add _).symm rfl
  · refine (bi_apply _ _ b i 0 b 0 0 hB rfl rfl).trans ?_
    exact (sl_apply _ _ b 0 0 b 0 ⟨k, hk⟩ (Nat.zero_add _).symm rfl rfl).trans (pRow_apply k hk 0 _)

theorem pStep_val {a : ℕ → ℕ → ℝ} (k : Nat) (hk : k < 256) (hA : Rb b A fun i j => a i j) (h0 : a k k ≠ 0) :
    Rb b (pStep A k hk) fun i j => el 0 k a i j := by
  unfold pStep
  refine (elim_val (k := ⟨k, hk⟩) True hA (pMult_apply k hk) (fun i j => ?_) (fun i j => ?_) (fun i j => ?_) fun _ => h0).congr fun i j => if_pos trivial
  · have hB : b.val = if B = 1 then 0 else b.val := by split_ifs <;> omega
    exact (bi_apply _ _ b i j b 0 j hB rfl rfl).trans (pRow_apply k hk 0 j)
  · rw [and_bit (gtRow k hk i j) (gtCol k hk i j)]; simp only [true_and]
  · rw [and_bit (gtRow k hk i j) (eqCol k hk i j)]; simp only [true_and]

/-- A step changes nothing in the rows down to its own. -/
theorem pStep_row (k : Nat) (hk : k < 256) (i j : Fin 256) (hi : i.val ≤ k) : pStep A k hk (ix3 b i j) = A (ix3 b i j) := by
  unfold pStep
  show Scalar.select (andi _ _ (ix3 b i j)) _ (Scalar.select (andi _ _ (ix3 b i j)) _ (A (ix3 b i j))) = _
  rw [and_bit (gtRow k hk i j) (gtCol k hk i j), and_bit (gtRow k hk i j) (eqCol k hk i j), select_decide, select_decide,
    if_neg (by omega), if_neg (by omega)]

theorem pFac_val {a : ℕ → ℕ → ℝ} (hA : Rb b A fun i j => a i j) (n : Nat) (hn : n ≤ 256) (h0 : ∀ k < n, its 0 a k k k ≠ 0) :
    Rb b (pFac A n hn) fun i j => its 0 a n i j := by
  induction n with
  | zero => exact hA
  | succ n ih => exact pStep_val n hn (ih (by omega) fun k hk => h0 k (by omega)) (h0 n (by omega))

theorem pFac_row (i j : Fin 256) (n : Nat) (hn : n ≤ 256) (hi : i.val ≤ n) :
    pFac A n hn (ix3 b i j) = pFac A i.val (by omega) (ix3 b i j) := by
  induction n with
  | zero =>
    have h : i.val = 0 := by omega
    congr 1
    simp only [h]
  | succ n ih =>
    rcases Nat.lt_or_ge n i.val with h | h
    · have h : i.val = n + 1 := by omega
      simp only [h]
    · exact (pStep_row n hn i j h).trans (ih (by omega) h)

/-- A diagonal without zeros at the end is one whose every pivot was not zero. -/
theorem pFac_piv {a : ℕ → ℕ → ℝ} (hA : Rb b A fun i j => a i j) (hd : ∀ k : Fin 256, pFac A 256 (Nat.le_refl _) (ix3 b k k) ≠ 0) :
    ∀ k < 256, its 0 a k k k ≠ 0 := by
  intro k hk
  induction k using Nat.strong_induction_on with
  | _ k ih =>
    have h := hd ⟨k, hk⟩
    rw [pFac_row ⟨k, hk⟩ ⟨k, hk⟩ 256 (Nat.le_refl _) (by show k ≤ 256; omega),
      pFac_val hA k (by omega) (fun q hq => ih q hq (by omega)) ⟨k, hk⟩ ⟨k, hk⟩] at h
    exact fun e => h (by rw [← EReal.coe_zero]; exact congrArg _ e)

end Fac

/-! ## The corrections -/

/-- A matrix less a value at an entry. -/
def sub1 (a : ℕ → ℕ → ℝ) (r c : ℕ) (w : ℝ) : ℕ → ℕ → ℝ := fun i j => if i = r ∧ j = c then a i j - w else a i j

theorem pMinus_val {A : FVec Ideal (T3 1 256 256) .f32} {a : ℕ → ℕ → ℝ} {v : FVec Ideal (T3 1 1 1) .f32} {w : ℝ} (hA : Rb 0 A fun i j => a i j)
    (hv : v (ix3 0 0 0) = (w : EReal)) (r c : Nat) (hr : r < 256) (hc : c < 256) :
    Rb 0 (pMinus A r c v) fun i j => sub1 a r c w i j := by
  unfold pMinus
  refine Rb.sel (fun i j => i.val = r ∧ j.val = c) (fun i j => and_bit (eqRow r hr i j) (eqCol c hc i j)) (hA.sub (c := fun _ _ => w) fun i j => ?_) hA
  exact (bi_apply _ _ 0 i j 0 0 0 rfl rfl rfl).trans hv

theorem pAt_val {A : FVec Ideal (T3 B 256 256) .f32} {a : ℕ → ℕ → ℝ} {k r c : Nat} {hk : k < B} (h : Rb ⟨k, hk⟩ A fun i j => a i j) (hr : r < 256)
    (hc : c < 256) : pAt A k r c hk hr hc (ix3 0 0 0) = ((a r c : ℝ) : EReal) :=
  (sl_apply _ _ 0 0 0 ⟨k, hk⟩ ⟨r, hr⟩ ⟨c, hc⟩ rfl rfl rfl).trans (h _ _)

theorem pMat_val {x : FVec Ideal (T3 9 256 256) .f32} {a : ℕ → ℕ → ℝ} {k : Nat} {hk : k < 9} (h : Rb ⟨k, hk⟩ x fun i j => a i j) :
    Rb 0 (pMat x k hk) fun i j => a i j := fun i j =>
  (sl_apply _ _ 0 i j ⟨k, hk⟩ i j rfl (Nat.zero_add _).symm (Nat.zero_add _).symm).trans (h _ _)

theorem less_val {x : FVec Ideal (T3 1 256 256) .f32} {A : ℕ → ℕ → ℝ} (hA : Rb 0 x fun i j => A i j) {o p q r s : FVec Ideal (T3 1 1 1) .f32}
    {o' p' q' r' s' : ℝ} (ho : o (ix3 0 0 0) = (o' : EReal)) (hp : p (ix3 0 0 0) = (p' : EReal)) (hq : q (ix3 0 0 0) = (q' : EReal))
    (hr : r (ix3 0 0 0) = (r' : EReal)) (hs : s (ix3 0 0 0) = (s' : EReal)) :
    Rb 0 (pMinus (pMinus (pMinus (pMinus (pMinus x 0 0 o) 0 0 p) 0 1 q) 1 0 r) 1 1 s) fun i j => less4 A (o' + p') q' r' s' i j := by
  have s1 := pMinus_val hA ho 0 0 (by omega) (by omega)
  have s2 := pMinus_val s1 hp 0 0 (by omega) (by omega)
  have s3 := pMinus_val s2 hq 0 1 (by omega) (by omega)
  have s4 := pMinus_val s3 hr 1 0 (by omega) (by omega)
  have s5 := pMinus_val s4 hs 1 1 (by omega) (by omega)
  exact s5.congr fun i j => by
    unfold less4 sub1
    by_cases h0 : i.val = 0
    · by_cases h1 : j.val = 0
      · simp [h0, h1]; ring
      · by_cases h2 : j.val = 1 <;> simp [h0, h1, h2]
    · by_cases h3 : i.val = 1
      · by_cases h1 : j.val = 0
        · simp [h3, h1]
        · by_cases h2 : j.val = 1 <;> simp [h3, h1, h2]
      · simp [h0, h3]

/-! ## The arrays of matrices -/

theorem cat_apply {N n : Nat} (xs : List ((s : Shape) × (s.Idx → EReal))) (h : Shape.Concatenates (xs.map (·.1)) (T3 N 256 256) 0) (q k : Nat)
    (hq : q < xs.length) (x : (T3 n 256 256).Idx → EReal) (hx : xs[q] = ⟨T3 n 256 256, x⟩)
    (hk : (((xs.take q).map (·.1)).map fun s => if h : s.rank = 3 then s.size ((0 : Fin 3).cast h.symm) else 0).sum = k)
    (b : Fin N) (b' : Fin n) (i j : Fin 256) (hb : k + b'.val = b.val) :
    concatenate (T3 N 256 256) 0 xs h (ix3 b i j) = x (ix3 b' i j) :=
  concatenate_apply_piece (t := T3 N 256 256) 0 xs h (ix3 b i j) q hq (T3 n 256 256) x hx rfl k hk (ix3 b' i j)
    (fun d hd => by
      match d with
      | ⟨0, _⟩ => exact absurd rfl hd
      | ⟨1, _⟩ => rfl
      | ⟨2, _⟩ => rfl) hb

section Decode

variable [Cert.Pre_pivots_nonzero.Facts] {x : FVec Ideal (T3 9 256 256) .f32}

/-- Entries below and above the infinities are reals. -/
theorem pFin_val (h : pFin x = fun _ => 1#1) (y : (T3 9 256 256).Idx) : x y = ((x y).toReal : EReal) := by
  have e := congrFun h y
  have e' : IntOp.andi (Ideal.cmp .olt (x y) (Ideal.ofBits .f32 0x7F800000#32)) (Ideal.cmp .ogt (x y) (Ideal.ofBits .f32 0xFF800000#32)) = 1#1 := e
  have t1 : Ideal.ofBits .f32 0x7F800000#32 = (⊤ : EReal) := by simp [Ideal.ofBits, Ideal.ieee]
  have t2 : Ideal.ofBits .f32 0xFF800000#32 = (⊥ : EReal) := by simp [Ideal.ofBits, Ideal.ieee]
  rw [t1, t2] at e'
  have e2 : IntOp.andi (BitVec.ofBool (decide (x y < (⊤ : EReal)))) (BitVec.ofBool (decide ((⊥ : EReal) < x y))) = 1#1 := e'
  rw [andi_ofBool, ← Bool.decide_and, ofBool_decide_eq_one_iff] at e2
  exact (EReal.coe_toReal e2.1.ne e2.2.ne').symm

/-- The real entries. -/
def ent (x : FVec Ideal (T3 9 256 256) .f32) (b : Fin 9) (i j : ℕ) : ℝ :=
  if h : i < 256 ∧ j < 256 then (x (ix3 b ⟨i, h.1⟩ ⟨j, h.2⟩)).toReal else 0

theorem ent_val (h : pFin x = fun _ => 1#1) (b : Fin 9) : Rb b x fun i j => ent x b i j := fun i j => by
  show _ = ((ent x b i j : ℝ) : EReal)
  unfold ent
  rw [dif_pos ⟨i.isLt, j.isLt⟩]
  exact pFin_val h _

theorem pNz_val {f0 : FVec Ideal (T3 5 256 256) .f32} {f1 : FVec Ideal (T3 2 256 256) .f32} {f2 : FVec Ideal (T3 1 256 256) .f32}
    (h : pNz f0 f1 f2 = fun _ => 1#1) (b : Fin 8) (k : Fin 256) :
    concatenate (T3 8 256 256) 0 [⟨T3 5 256 256, f0⟩, ⟨T3 2 256 256, f1⟩, ⟨T3 1 256 256, f2⟩]
      Cert.Pre_pivots_nonzero.Facts.concatenates_S5x256x256_S2x256x256_S1x256x256_S8x256x256_d0 (ix3 b k k) ≠ 0 := by
  have e := congrFun h (ix3 b k k)
  have e' : IntOp.ori (BitVec.ofBool (decide (concatenate (T3 8 256 256) 0 [⟨T3 5 256 256, f0⟩, ⟨T3 2 256 256, f1⟩, ⟨T3 1 256 256, f2⟩]
      Cert.Pre_pivots_nonzero.Facts.concatenates_S5x256x256_S2x256x256_S1x256x256_S8x256x256_d0 (ix3 b k k) ≠ Ideal.ofBits .f32 0x00000000#32)))
      (IntOp.cmpi .ne (BitVec.ofNat 32 k.val) (BitVec.ofNat 32 k.val)) = 1#1 := e
  rw [Ideal.ofBits_zero_f32, cmpi_ne_eq, ori_ofBool, ← Bool.decide_or, ofBool_decide_eq_one_iff] at e'
  exact e'.resolve_right fun h => h rfl

theorem p0_base (hx : ∀ b, Rb b x fun i j => ent x b i j) (b5 : Fin 5) :
    Rb b5 (concatenate (T3 5 256 256) 0 [⟨T3 1 256 256, pMat x 0 (by omega)⟩, ⟨T3 1 256 256, pMat x 1 (by omega)⟩, ⟨T3 1 256 256, pMat x 2 (by omega)⟩,
      ⟨T3 1 256 256, pMat x 5 (by omega)⟩, ⟨T3 1 256 256, pMat x 6 (by omega)⟩]
      Cert.Pre_pivots_nonzero.Facts.concatenates_S1x256x256_S1x256x256_S1x256x256_S1x256x256_S1x256x256_S5x256x256_d0)
      fun i j => ent x (![0, 1, 2, 5, 6] b5) i j := fun i j => by
  fin_cases b5
  · exact (cat_apply _ _ 0 0 (by simp) _ rfl rfl 0 0 i j rfl).trans (pMat_val (hx 0) i j)
  · exact (cat_apply _ _ 1 1 (by simp) _ rfl rfl 1 0 i j rfl).trans (pMat_val (hx 1) i j)
  · exact (cat_apply _ _ 2 2 (by simp) _ rfl rfl 2 0 i j rfl).trans (pMat_val (hx 2) i j)
  · exact (cat_apply _ _ 3 3 (by simp) _ rfl rfl 3 0 i j rfl).trans (pMat_val (hx 5) i j)
  · exact (cat_apply _ _ 4 4 (by simp) _ rfl rfl 4 0 i j rfl).trans (pMat_val (hx 6) i j)

/-- What the precondition says. -/
theorem pre_piv (hf : pFin x = fun _ => 1#1) (hz : pNz (p0 x) (p1 x (p0 x)) (p2 x (p0 x) (p1 x (p0 x))) = fun _ => 1#1) : Piv (ent x) := by
  have hx := ent_val hf
  have z := pNz_val hz
  have q0 : ∀ b5 : Fin 5, ∀ k < 256, its 0 (ent x (![0, 1, 2, 5, 6] b5)) k k k ≠ 0 := fun b5 => pFac_piv (p0_base hx b5) fun k => by
    have h := z ⟨b5.val, by omega⟩ k
    exact fun e => h ((cat_apply (N := 8) _ _ 0 0 (by simp) (p0 x) rfl rfl ⟨b5.val, by omega⟩ b5 k k (Nat.zero_add _)).trans e)
  have g0 : ∀ b5 : Fin 5, Rb b5 (p0 x) fun i j => fac (ent x (![0, 1, 2, 5, 6] b5)) i j := fun b5 => pFac_val (p0_base hx b5) 256 _ (q0 b5)
  have b3 : Rb 0 (px3 x (p0 x)) fun i j => c3 (ent x) i j :=
    less_val (pMat_val (hx 3)) (pAt_val (g0 1) _ _) (pAt_val (g0 2) _ _) (pAt_val (g0 2) _ _) (pAt_val (g0 2) _ _) (pAt_val (g0 2) _ _)
  have b7 : Rb 0 (px7 x (p0 x)) fun i j => c7 (ent x) i j :=
    less_val (pMat_val (hx 7)) (pAt_val (g0 3) _ _) (pAt_val (g0 4) _ _) (pAt_val (g0 4) _ _) (pAt_val (g0 4) _ _) (pAt_val (g0 4) _ _)
  have base1 : ∀ b2 : Fin 2, Rb b2 (concatenate (T3 2 256 256) 0 [⟨T3 1 256 256, px3 x (p0 x)⟩, ⟨T3 1 256 256, px7 x (p0 x)⟩]
      Cert.Pre_pivots_nonzero.Facts.concatenates_S1x256x256_S1x256x256_S2x256x256_d0) fun i j => (![c3 (ent x), c7 (ent x)] b2) i j := fun b2 i j => by
    fin_cases b2
    · exact (cat_apply _ _ 0 0 (by simp) _ rfl rfl 0 0 i j rfl).trans (b3 i j)
    · exact (cat_apply _ _ 1 1 (by simp) _ rfl rfl 1 0 i j rfl).trans (b7 i j)
  have q1 : ∀ b2 : Fin 2, ∀ k < 256, its 0 (![c3 (ent x), c7 (ent x)] b2) k k k ≠ 0 := fun b2 => pFac_piv (base1 b2) fun k => by
    have h := z ⟨5 + b2.val, by omega⟩ k
    exact fun e => h ((cat_apply _ _ 1 5 (by simp) (p1 x (p0 x)) rfl rfl ⟨5 + b2.val, by omega⟩ b2 k k rfl).trans e)
  have g1 : ∀ b2 : Fin 2, Rb b2 (p1 x (p0 x)) fun i j => fac (![c3 (ent x), c7 (ent x)] b2) i j := fun b2 => pFac_val (base1 b2) 256 _ (q1 b2)
  have b8 : Rb 0 (px8 x (p0 x) (p1 x (p0 x))) fun i j => c8 (ent x) i j := by
    have e0 : Rb 0 (p0 x) fun i j => fac (ent x 0) i j := g0 0
    have e1 : Rb 0 (p1 x (p0 x)) fun i j => fac (c3 (ent x)) i j := g1 0
    have e2 : Rb 1 (p1 x (p0 x)) fun i j => fac (c7 (ent x)) i j := g1 1
    have s1 := pMinus_val (pMat_val (hx 8)) (pAt_val (r := 1) (c := 1) e0 (by omega) (by omega)) 0 0 (by omega) (by omega)
    have s2 := pMinus_val s1 (pAt_val (r := 1) (c := 1) e1 (by omega) (by omega)) 0 0 (by omega) (by omega)
    have s3 := pMinus_val s2 (pAt_val (r := 1) (c := 1) e2 (by omega) (by omega)) 0 0 (by omega) (by omega)
    refine s3.congr fun i j => ?_
    unfold c8 less4 sub1
    by_cases h : i.val = 0 ∧ j.val = 0
    · simp only [if_pos h]; ring
    · simp only [if_neg h]; split_ifs <;> ring
  have q2 := pFac_piv b8 fun k => by
    have h := z 7 k
    exact fun e => h ((cat_apply _ _ 2 7 (by simp) (p2 x (p0 x) (p1 x (p0 x))) rfl rfl 7 0 k k rfl).trans e)
  intro b hb
  fin_cases b
  · exact q0 0
  · exact q0 1
  · exact q0 2
  · exact q1 0
  · exact absurd rfl hb
  · exact q0 3
  · exact q0 4
  · exact q1 1
  · exact q2

end Decode

end Cert.LU
-- ==== Proof.RefVal.lean ====
/- The reference's loop at the extended reals: after its 768 steps the matrices are the factored ones. -/
module

public import proofs.«01_k».proof.Proof.PreVal
public import proofs.«01_k».proof.Proof.Gen.ReferenceIdeal.Step
public import Idealize.ShloMosaic.Lib.DynamicIndex
public import Idealize.ShloMosaic.Lib.Routing.Words
public import Mathlib.Tactic.FinCases

@[expose] public section

noncomputable section

namespace Cert.LU

open Idealize.ShloMosaic Idealize.ShloMosaic.WordCmp Idealize.ShloMosaic.Routing
open Cert.ReferenceIdeal.Step

/-! The corrections at the head. -/

/-- One line of a correction: the matrix `mb` less `v` at the entry `mr`, `mc`. -/
def ln (mb mr mc : ℕ) (v : ℝ) (d : Fin 9 → ℕ → ℕ → ℝ) : Fin 9 → ℕ → ℕ → ℝ := fun b i c => if (b.val = mb ∧ i = mr) ∧ c = mc then d b i c - v else d b i c

theorem ln_out {mb mr mc : ℕ} {v : ℝ} {d e : Fin 9 → ℕ → ℕ → ℝ} {b : Fin 9} {i c : ℕ} (h : ¬ (i < 2 ∧ c < 2)) (hr : mr < 2) (hc : mc < 2)
    (hd : d b i c = e b i c) : ln mb mr mc v d b i c = e b i c := by
  unfold ln
  rw [if_neg (by rintro ⟨⟨-, rfl⟩, rfl⟩; exact h ⟨hr, hc⟩), hd]

/-- The text of a line. -/
def lnV (x : FVec Ideal (T3 9 256 256) .f32) (sb sr sc mb mr mc : ℕ) (h : (T3 9 256 256).Slices ![sb, sr, sc] (T3 1 1 1))
    (D : FVec Ideal (T3 9 2 2) .f32) : FVec Ideal (T3 9 2 2) .f32 :=
  select (andi (andi (cmpi .eq (iotaInDim (T3 9 2 2) 32 0) (constantI (T3 9 2 2) 32 (BitVec.ofNat 32 mb)))
      (cmpi .eq (iotaInDim (T3 9 2 2) 32 1) (constantI (T3 9 2 2) 32 (BitVec.ofNat 32 mr))))
      (cmpi .eq (iotaInDim (T3 9 2 2) 32 2) (constantI (T3 9 2 2) 32 (BitVec.ofNat 32 mc))))
    (subf D (broadcastInDim (T3 9 2 2) ![0, 1, 2] (bi3 (.inl rfl) (.inl rfl) (.inl rfl)) (extractStridedSlice (T3 1 1 1) ![sb, sr, sc] x h))) D

variable {x : FVec Ideal (T3 9 256 256) .f32} {e : Fin 9 → ℕ → ℕ → ℝ}

theorem lnV_val (hx : ∀ b, Rb b x fun i j => e b i j) {sb sr sc mb mr mc : ℕ} {h : (T3 9 256 256).Slices ![sb, sr, sc] (T3 1 1 1)}
    {D : FVec Ideal (T3 9 2 2) .f32} {d : Fin 9 → ℕ → ℕ → ℝ} (hD : ∀ b, Rb b D fun i j => d b i j) (h0 : sb < 9) (h1 : sr < 256) (h2 : sc < 256)
    (m0 : mb < 9) (m1 : mr < 2) (m2 : mc < 2) (b : Fin 9) : Rb b (lnV x sb sr sc mb mr mc h D) fun i j => ln mb mr mc (e ⟨sb, h0⟩ sr sc) d b i j := by
  unfold lnV
  refine Rb.sel (fun i j => (b.val = mb ∧ i.val = mr) ∧ j.val = mc) (fun i j => ?_) ((hD b).sub (c := fun _ _ => e ⟨sb, h0⟩ sr sc) fun i j => ?_) (hD b)
  · exact and_bit (and_bit (cmpi_eq_ofNat (w := 32) (by show b.val < _; omega) (by omega))
      (cmpi_eq_ofNat (w := 32) (by show i.val < _; omega) (by omega))) (cmpi_eq_ofNat (w := 32) (by show j.val < _; omega) (by omega))
  · exact (bi_apply _ _ b i j 0 0 0 rfl rfl rfl).trans ((sl_apply _ _ 0 0 0 ⟨sb, h0⟩ ⟨sr, h1⟩ ⟨sc, h2⟩ rfl rfl rfl).trans (hx _ _ _))

/-- The corrections of the second layer and of the third. -/
def cor1 (e : Fin 9 → ℕ → ℕ → ℝ) : Fin 9 → ℕ → ℕ → ℝ :=
  ln 7 1 1 (e 6 4 4) (ln 7 1 0 (e 6 4 3) (ln 7 0 1 (e 6 3 4) (ln 7 0 0 (e 6 3 3) (ln 7 0 0 (e 5 1 1)
    (ln 3 1 1 (e 2 3 3) (ln 3 1 0 (e 2 3 2) (ln 3 0 1 (e 2 2 3) (ln 3 0 0 (e 2 2 2) (ln 3 0 0 (e 1 1 1) e)))))))))
def cor2 (e d : Fin 9 → ℕ → ℕ → ℝ) : Fin 9 → ℕ → ℕ → ℝ := ln 8 0 0 (e 7 1 1) (ln 8 0 0 (e 3 1 1) (ln 8 0 0 (e 0 1 1) d))

variable (n : ℕ) (s : State Ideal) (hs : s.main_v0_2 = x)

include hs in
theorem head1_val (hx : ∀ b, Rb b x fun i j => e b i j) (b : Fin 9) : Rb b (b158 n s) fun i j => cor1 e b i j := by
  subst hs
  have d0 : ∀ b, Rb b (b2 n s) fun i j => e b i j := fun b i j =>
    (sl_apply s.main_v0_2 (sl3' (by omega) (by omega) (by omega)) b i j b ⟨i.val, by omega⟩ ⟨j.val, by omega⟩ (Nat.zero_add _).symm (Nat.zero_add _).symm (Nat.zero_add _).symm).trans (hx b _ _)
  have d1 : ∀ b, Rb b (b23 n s) _ := lnV_val (h := sl3' (by omega) (by omega) (by omega)) (sb := 1) (sr := 1) (sc := 1) (mb := 3) (mr := 0) (mc := 0) hx d0 (by omega) (by omega) (by omega) (by omega) (by omega) (by omega)
  have d2 : ∀ b, Rb b (b38 n s) _ := lnV_val (h := sl3' (by omega) (by omega) (by omega)) (sb := 2) (sr := 2) (sc := 2) (mb := 3) (mr := 0) (mc := 0) hx d1 (by omega) (by omega) (by omega) (by omega) (by omega) (by omega)
  have d3 : ∀ b, Rb b (b53 n s) _ := lnV_val (h := sl3' (by omega) (by omega) (by omega)) (sb := 2) (sr := 2) (sc := 3) (mb := 3) (mr := 0) (mc := 1) hx d2 (by omega) (by omega) (by omega) (by omega) (by omega) (by omega)
  have d4 : ∀ b, Rb b (b68 n s) _ := lnV_val (h := sl3' (by omega) (by omega) (by omega)) (sb := 2) (sr := 3) (sc := 2) (mb := 3) (mr := 1) (mc := 0) hx d3 (by omega) (by omega) (by omega) (by omega) (by omega) (by omega)
  have d5 : ∀ b, Rb b (b83 n s) _ := lnV_val (h := sl3' (by omega) (by omega) (by omega)) (sb := 2) (sr := 3) (sc := 3) (mb := 3) (mr := 1) (mc := 1) hx d4 (by omega) (by omega) (by omega) (by omega) (by omega) (by omega)
  have d6 : ∀ b, Rb b (b98 n s) _ := lnV_val (h := sl3' (by omega) (by omega) (by omega)) (sb := 5) (sr := 1) (sc := 1) (mb := 7) (mr := 0) (mc := 0) hx d5 (by omega) (by omega) (by omega) (by omega) (by omega) (by omega)
  have d7 : ∀ b, Rb b (b113 n s) _ := lnV_val (h := sl3' (by omega) (by omega) (by omega)) (sb := 6) (sr := 3) (sc := 3) (mb := 7) (mr := 0) (mc := 0) hx d6 (by omega) (by omega) (by omega) (by omega) (by omega) (by omega)
  have d8 : ∀ b, Rb b (b128 n s) _ := lnV_val (h := sl3' (by omega) (by omega) (by omega)) (sb := 6) (sr := 3) (sc := 4) (mb := 7) (mr := 0) (mc := 1) hx d7 (by omega) (by omega) (by omega) (by omega) (by omega) (by omega)
  have d9 : ∀ b, Rb b (b143 n s) _ := lnV_val (h := sl3' (by omega) (by omega) (by omega)) (sb := 6) (sr := 4) (sc := 3) (mb := 7) (mr := 1) (mc := 0) hx d8 (by omega) (by omega) (by omega) (by omega) (by omega) (by omega)
  exact lnV_val (h := sl3' (by omega) (by omega) (by omega)) (sb := 6) (sr := 4) (sc := 4) (mb := 7) (mr := 1) (mc := 1) hx d9 (by omega) (by omega) (by omega) (by omega) (by omega) (by omega) b

include hs in
theorem head2_val (hx : ∀ b, Rb b x fun i j => e b i j) {d : Fin 9 → ℕ → ℕ → ℝ} (hd : ∀ b, Rb b (b159 n s) fun i j => d b i j) (b : Fin 9) :
    Rb b (b210 n s) fun i j => cor2 e d b i j := by
  subst hs
  have d1 : ∀ b, Rb b (b180 n s) _ := lnV_val (h := sl3' (by omega) (by omega) (by omega)) (sb := 0) (sr := 1) (sc := 1) (mb := 8) (mr := 0) (mc := 0) hx hd (by omega) (by omega) (by omega) (by omega) (by omega) (by omega)
  have d2 : ∀ b, Rb b (b195 n s) _ := lnV_val (h := sl3' (by omega) (by omega) (by omega)) (sb := 3) (sr := 1) (sc := 1) (mb := 8) (mr := 0) (mc := 0) hx d1 (by omega) (by omega) (by omega) (by omega) (by omega) (by omega)
  exact lnV_val (h := sl3' (by omega) (by omega) (by omega)) (sb := 7) (sr := 1) (sc := 1) (mb := 8) (mr := 0) (mc := 0) hx d2 (by omega) (by omega) (by omega) (by omega) (by omega) (by omega) b

/-- The matrices at the start of step `n`. -/
def corr (n : ℕ) (e : Fin 9 → ℕ → ℕ → ℝ) : Fin 9 → ℕ → ℕ → ℝ := if n = 512 then cor2 e e else if n = 256 then cor1 e else e

theorem corr_out {b : Fin 9} {i c : ℕ} (h : ¬ (i < 2 ∧ c < 2)) : corr n e b i c = e b i c := by
  unfold corr cor2 cor1
  split_ifs
  · iterate 3 refine ln_out h (by omega) (by omega) ?_
    rfl
  · iterate 10 refine ln_out h (by omega) (by omega) ?_
    rfl
  · rfl

include hs in
theorem head_val (hn : n < 768) (hx : ∀ b, Rb b x fun i j => e b i j) (b : Fin 9) : Rb b (b211 n s) fun i j => corr n e b i j := by
  have d0 : ∀ b, Rb b (b2 n s) fun i j => e b i j := by
    subst hs
    exact fun b i j => (sl_apply s.main_v0_2 (sl3' (by omega) (by omega) (by omega)) b i j b ⟨i.val, by omega⟩ ⟨j.val, by omega⟩
      (Nat.zero_add _).symm (Nat.zero_add _).symm (Nat.zero_add _).symm).trans (hx b _ _)
  have d1 : ∀ b, Rb b (b159 n s) fun i j => if n = 256 then cor1 e b i j else e b i j := fun b =>
    Rb.sel (m := 2) (n := 2) (fun _ _ => n = 256) (fun i j => cmpi_eq_ofNat (w := 32) (by omega) (by omega)) (head1_val n s hs hx b) (d0 b)
  have d2 := head2_val n s hs hx (d := fun b i j => if n = 256 then cor1 e b i j else e b i j) d1
  refine (Rb.sel (m := 2) (n := 2) (fun _ _ => n = 512) (fun i j => cmpi_eq_ofNat (w := 32) (by omega) (by omega)) (d2 b) (d1 b)).congr fun i j => ?_
  unfold corr
  by_cases h : n = 512
  · subst h; simp only [if_true]; rfl
  · rw [if_neg h, if_neg h]; split_ifs <;> rfl

include hs in
theorem base_val (hn : n < 768) (hx : ∀ b, Rb b x fun i j => e b i j) (b : Fin 9) : Rb b (b215 n s) fun i j => corr n e b i j := fun i j => by
  show _ = ((corr n e b i j : ℝ) : EReal)
  unfold b215
  rw [dynamicUpdateSlice_eq_update _ _ _ _ (fun _ => 0) (⟨rfl, by decide⟩ : (T3 9 256 256).Slices (fun _ => 0) (T3 9 2 2)) (fun a => by fin_cases a <;> rfl)]
  unfold updateSlice
  by_cases h : i.val < 2 ∧ j.val < 2
  · rw [dif_pos (fun a => by fin_cases a; exacts [⟨Nat.zero_le _, b.isLt⟩, ⟨Nat.zero_le _, h.1⟩, ⟨Nat.zero_le _, h.2⟩])]
    refine Eq.trans (congrArg (b211 n s) (funext fun a => ?_)) (head_val n s hs hn hx b ⟨i.val, h.1⟩ ⟨j.val, h.2⟩)
    fin_cases a <;> rfl
  · rw [dif_neg (fun hh => h ⟨(hh 1).2, (hh 2).2⟩), hs, corr_out n h]
    exact hx b i j

/-! The step's words. -/

theorem k_val (hn : n < 768) : b217 n s (Shape.Idx.first Cert.ReferenceIdeal.Gen.h_S_) = BitVec.ofNat 32 (n % 256) :=
  remsi_word _ (by omega) (by omega) (by omega)

theorem k_int (hn : n < 768) (i : Cert.ReferenceIdeal.S_.Idx) : (b222 n s i).toInt = ((n % 256 : ℕ) : Int) := by
  have e : b217 n s i = BitVec.ofNat 32 (n % 256) := remsi_word _ (by omega) (by omega) (by omega)
  have e' : (b217 n s i).toInt = ((n % 256 : ℕ) : Int) := by rw [e]; exact WordCmp.toInt_ofNat_of_lt (by omega)
  refine Eq.trans (congrArg BitVec.toInt (select_slt_zero_of_nonneg (b217 n s) (b221 n s) (b217 n s) i ?_)) e'
  rw [e']; omega

/-- The layer of each matrix, the matrix 4 behind them all. -/
def lay (b : Fin 9) : ℕ := ![0, 0, 0, 1, 3, 0, 0, 1, 2] b

/-- The layer of a matrix, as the word of its number gives it. -/
def layW (w : BitVec 32) : BitVec 32 :=
  Scalar.select (IntOp.cmpi .eq w 4#32) 4294967295#32 (Scalar.select (IntOp.cmpi .eq w 8#32) 2#32
    (Scalar.select (IntOp.ori (IntOp.cmpi .eq w 3#32) (IntOp.cmpi .eq w 7#32)) 1#32 0#32))

theorem lay_bit (hn : n < 768) (b : Fin 9) : b273 n s (ix3 b 0 0) = BitVec.ofBool (decide (lay b = n / 256)) := by
  have e : b271 n s (Shape.Idx.first Cert.ReferenceIdeal.Gen.h_S_) = BitVec.ofNat 32 (n / 256) := divsi_word _ (by omega) (by omega) (by omega)
  have e' : b273 n s (ix3 b 0 0) = IntOp.cmpi .eq (b269 n s (ix3 b 0 0)) (BitVec.ofNat 32 (n / 256)) := congrArg (IntOp.cmpi .eq (b269 n s (ix3 b 0 0))) e
  have w : b269 n s (ix3 b 0 0) = layW (BitVec.ofNat 32 b.val) := rfl
  rw [e', w]
  have h3 : n / 256 < 3 := by omega
  generalize n / 256 = q at h3
  clear e e' w
  interval_cases q <;> revert b <;> decide +kernel

variable {b : Fin 9} (i j : Fin 256)

theorem below_bit (hn : n < 768) : b279 n s (ix3 b i 0) = BitVec.ofBool (decide (lay b = n / 256 ∧ n % 256 < i.val)) := by
  refine and_bit ?_ ?_
  · exact (bi_apply _ _ b i 0 b 0 0 rfl rfl rfl).trans (lay_bit n s hn b)
  · refine (bi_apply _ _ b i 0 0 i 0 rfl rfl rfl).trans ?_
    refine (congrArg (IntOp.cmpi .sgt (BitVec.ofNat 32 i.val)) (k_val n s hn)).trans ?_
    exact cmpi_sgt_ofNat (w := 32) (by omega) (by omega)

theorem m1_bit (hn : n < 768) : b285 n s (ix3 b i j) = BitVec.ofBool (decide ((lay b = n / 256 ∧ n % 256 < i.val) ∧ n % 256 < j.val)) := by
  refine and_bit ?_ ?_
  · exact (bi_apply _ _ b i j b i 0 rfl rfl rfl).trans (below_bit n s i hn)
  · refine (bi_apply _ _ b i j 0 0 j rfl rfl rfl).trans ?_
    refine (congrArg (IntOp.cmpi .sgt (BitVec.ofNat 32 j.val)) (k_val n s hn)).trans ?_
    exact cmpi_sgt_ofNat (w := 32) (by omega) (by omega)

theorem m2_bit (hn : n < 768) : b294 n s (ix3 b i j) = BitVec.ofBool (decide ((lay b = n / 256 ∧ n % 256 < i.val) ∧ j.val = n % 256)) := by
  refine and_bit ?_ ?_
  · exact (bi_apply _ _ b i j b i 0 rfl rfl rfl).trans (below_bit n s i hn)
  · refine (bi_apply _ _ b i j 0 0 j rfl rfl rfl).trans ?_
    refine (congrArg (IntOp.cmpi .eq (BitVec.ofNat 32 j.val)) (k_val n s hn)).trans ?_
    exact cmpi_eq_ofNat (w := 32) (by omega) (by omega)

theorem row_val (hn : n < 768) : b225 n s (ix3 b 0 j) = b215 n s (ix3 b ⟨n % 256, by omega⟩ j) := by
  unfold b225
  rw [dynamicSlice_eq_extract _ _ _ _ ![0, n % 256, 0] (sl3' (by omega) (by omega) (by omega)) (fun a => by
    fin_cases a; exacts [rfl, k_int n s hn (Shape.Idx.first Cert.ReferenceIdeal.Gen.h_S_), rfl])]
  exact sl_apply _ _ b 0 j b ⟨n % 256, by omega⟩ j (Nat.zero_add _).symm rfl (Nat.zero_add _).symm

theorem col_val (hn : n < 768) : b233 n s (ix3 b i 0) = b215 n s (ix3 b i ⟨n % 256, by omega⟩) := by
  unfold b233
  rw [dynamicSlice_eq_extract _ _ _ _ ![0, 0, n % 256] (sl3' (by omega) (by omega) (by omega)) (fun a => by
    fin_cases a; exacts [rfl, rfl, k_int n s hn (Shape.Idx.first Cert.ReferenceIdeal.Gen.h_S_)])]
  exact sl_apply _ _ b i 0 b i ⟨n % 256, by omega⟩ (Nat.zero_add _).symm (Nat.zero_add _).symm rfl

theorem piv_val (hn : n < 768) : b241 n s (ix3 b 0 0) = b215 n s (ix3 b ⟨n % 256, by omega⟩ ⟨n % 256, by omega⟩) := by
  unfold b241
  rw [dynamicSlice_eq_extract _ _ _ _ ![0, 0, n % 256] (sl3' (by omega) (by omega) (by omega)) (fun a => by
    fin_cases a; exacts [rfl, rfl, k_int n s hn (Shape.Idx.first Cert.ReferenceIdeal.Gen.h_S_)])]
  exact (sl_apply _ _ b 0 0 b 0 ⟨n % 256, by omega⟩ (Nat.zero_add _).symm rfl rfl).trans (row_val n s _ hn)

include hs in
/-- One step. -/
theorem step_val (hn : n < 768) (hx : ∀ b, Rb b x fun i j => e b i j) (b : Fin 9)
    (h0 : lay b = n / 256 → corr n e b (n % 256) (n % 256) ≠ 0) :
    Rb b (step n s).main_v0_2 fun i j => if lay b = n / 256 then el 0 (n % 256) (corr n e b) i j else corr n e b i j := by
  refine elim_val (k := ⟨n % 256, by omega⟩) (lay b = n / 256) (base_val n s hs hn hx b) (M := b244 n s) (R := b286 n s) (m1 := b285 n s) (m2 := b294 n s)
    (fun i j => ?_) (fun i j => ?_) (fun i j => m1_bit n s i j hn) (fun i j => m2_bit n s i j hn) h0
  · refine (bi_apply _ _ b i j b i 0 rfl rfl rfl).trans ?_
    show Ideal.div _ _ = _
    congr 1
    · exact col_val n s i hn
    · exact (bi_apply _ _ b i 0 b 0 0 rfl rfl rfl).trans (piv_val n s hn)
  · exact (bi_apply _ _ b i j b 0 j rfl rfl rfl).trans (row_val n s j hn)

/-! All steps. -/

/-- The matrices before step `n`. -/
def st (a : Fin 9 → ℕ → ℕ → ℝ) (n : ℕ) (b : Fin 9) : ℕ → ℕ → ℝ :=
  if n ≤ 256 * lay b then a b else its 0 (pre a b) (min (n - 256 * lay b) 256)

variable (a : Fin 9 → ℕ → ℕ → ℝ)

theorem corr_st (hn : n < 768) (b : Fin 9) (i j : ℕ) : corr n (st a n) b i j = if n = 256 * lay b then pre a b i j else st a n b i j := by
  unfold corr
  by_cases h2 : n = 512
  · subst h2
    fin_cases b <;> simp [st, lay, cor2, ln, pre, c8, less4, fac]
    split_ifs <;> ring1
  by_cases h1 : n = 256
  · subst h1
    fin_cases b <;> simp [st, lay, cor1, ln, pre, c3, c7, less4, fac]
    all_goals split_ifs <;> first | omega | ring1
  rw [if_neg h2, if_neg h1]
  by_cases h0 : n = 0
  · subst h0
    fin_cases b <;> simp [st, lay, pre]
  · rw [if_neg]
    fin_cases b <;> simp [lay] <;> omega

theorem st_piv (hp : Piv a) (hn : n < 768) (b : Fin 9) (h : lay b = n / 256) : corr n (st a n) b (n % 256) (n % 256) ≠ 0 := by
  have hb : b ≠ 4 := by rintro rfl; have : lay 4 = 3 := rfl; omega
  rw [corr_st n a hn]
  by_cases hk : n = 256 * lay b
  · rw [if_pos hk]
    have := hp b hb 0 (by omega)
    rwa [show n % 256 = 0 by omega]
  · rw [if_neg hk, st, if_neg (by omega), show min (n - 256 * lay b) 256 = n % 256 by omega]
    exact hp b hb _ (by omega)

theorem st_succ (hn : n < 768) (b : Fin 9) (i j : ℕ) :
    (if lay b = n / 256 then el 0 (n % 256) (corr n (st a n) b) i j else corr n (st a n) b i j) = st a (n + 1) b i j := by
  have e : corr n (st a n) b = if n = 256 * lay b then pre a b else st a n b := funext fun i => funext fun j => by
    rw [corr_st n a hn]; split_ifs <;> rfl
  rw [e]
  by_cases h : lay b = n / 256
  · rw [if_pos h]
    by_cases hk : n = 256 * lay b
    · rw [if_pos hk, st, if_neg (by omega), show min (n + 1 - 256 * lay b) 256 = 0 + 1 by omega, show n % 256 = 0 by omega]
      rfl
    · rw [if_neg hk, st, st, if_neg (by omega), if_neg (by omega), show min (n + 1 - 256 * lay b) 256 = n % 256 + 1 by omega,
        show min (n - 256 * lay b) 256 = n % 256 by omega]
      rfl
  · rw [if_neg h, if_neg (by omega), st, st]
    by_cases hl : n ≤ 256 * lay b
    · rw [if_pos hl, if_pos (by omega)]
    · rw [if_neg hl, if_neg (by omega), show min (n + 1 - 256 * lay b) 256 = 256 by omega, show min (n - 256 * lay b) 256 = 256 by omega]

/-- The state after `n` trips. -/
def trips (x : FVec Ideal (T3 9 256 256) .f32) : ℕ → State Ideal
  | 0 => init x
  | n + 1 => step n (trips x n)

theorem trips_val (hp : Piv a) (hx : ∀ b, Rb b x fun i j => a b i j) : ∀ n ≤ 768, ∀ b, Rb b (trips x n).main_v0_2 fun i j => st a n b i j
  | 0, _, b => (hx b).congr fun i j => by rw [st, if_pos (Nat.zero_le _)]
  | n + 1, hn, b => (step_val n (trips x n) rfl (by omega) (trips_val hp hx n (by omega)) b (st_piv n a hp (by omega) b)).congr fun i j =>
      st_succ n a (by omega) b i j

theorem ref_val (hp : Piv a) (hx : ∀ b, Rb b x fun i j => a b i j) (b : Fin 9) : Rb b (trips x 768).main_v0_2 fun i j => res a b i j :=
  (trips_val a hp hx 768 (Nat.le_refl _) b).congr fun i j => by
    fin_cases b <;> rfl

end Cert.LU
-- ==== Proof.lean ====
/- The claims about the kernel and its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.KernelRun
public import proofs.«01_k».proof.Proof.PreFacts
public import proofs.«01_k».proof.Proof.RefVal
public import Idealize.ShloMosaic.Adequacy
public import Idealize.ShloMosaic.Init

@[expose] public section

noncomputable section

namespace Cert.Proof

open Idealize.ShloMosaic Idealize.SL.Sem Cert.Kernel Cert.LU

/-- The reference ends with its argument unchanged; it declares no semaphore. -/
theorem frameRef (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Where the precondition holds, the loop's matrices after its last trip are the kernel's result. -/
theorem same_result [Cert.Pre_pivots_nonzero.Facts] (x : FVec Ideal (T3 9 256 256) .f32)
    (h : (Cert.Pre_pivots_nonzero.fn (F := Ideal) x).1 = (fun _ => 1#1) ∧ (Cert.Pre_pivots_nonzero.fn (F := Ideal) x).2 = (fun _ => 1#1)) :
    (trips x 768).main_v0_2 = luOut x := by
  rw [pre_eq] at h
  have hp := pre_piv h.1 h.2
  have hx := ent_val h.1
  funext y
  obtain ⟨b, i, j, rfl⟩ : ∃ (b : Fin 9) (i j : Fin 256), y = ix3 b i j := ⟨_, _, _, eq_ix3 y⟩
  exact (ref_val _ hp hx b i j).trans (luOut_val hx hp b i j).symm

theorem algebraic [Cert.Pre_pivots_nonzero.Facts] : Cert.algebraic_KernelIdeal_ReferenceIdeal_pre_pivots_nonzero := fun m g m' g' hp hm =>
  ⟨fun c => luOut (m (c.tc.loc Cert.KernelIdeal.main_arg0)), kernel_value m g,
    (θ_run Cert.ReferenceIdeal.defs _ _).mono (fun r h c => ⟨(h c).1.trans ((congrArg (fun x => (trips x 768).main_v0_2) (hm c)).trans (same_result _ (hp c))), (h c).2⟩)
      (Cert.ReferenceIdeal.StepRun.run_iter m' g' (fun c => trips (m' (c.tc.loc Cert.ReferenceIdeal.main_arg0))) (fun _ => rfl) (fun _ _ => rfl))⟩

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => frameRef m ρ, fun m ρ _ => frameRef m ρ, trivial, @algebraic preFacts⟩

end Cert.Proof

end
